-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_states [hPre_finite_states : Cert.Pre_finite_states.Facts] (m : (ℓ : Loc Cert.KernelIdeal.nD Cert.KernelIdeal.τ Cert.KernelIdeal.sig) → Buf (Elt Ideal) ℓ) : Prop :=
  ∀ c : Dev Cert.KernelIdeal.nD,
    (Cert.Pre_finite_states.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_states [hPre_finite_states : Cert.Pre_finite_states.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_states.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_scores [hPre_finite_scores : Cert.Pre_finite_scores.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_scores.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_scores [hPre_finite_scores : Cert.Pre_finite_scores.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_scores.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_values [hPre_finite_values : Cert.Pre_finite_values.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_values.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_values [hPre_finite_values : Cert.Pre_finite_values.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_values.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_KernelIdeal_pre_finite_states [hKernelIdeal : Cert.KernelIdeal.Facts] [hPre_finite_states : Cert.Pre_finite_states.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_states m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_ReferenceIdeal_pre_finite_states [hReferenceIdeal : Cert.ReferenceIdeal.Facts] [hPre_finite_states : Cert.Pre_finite_states.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_states m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Kernel2Ideal_pre_finite_scores [hKernel2Ideal : Cert.Kernel2Ideal.Facts] [hPre_finite_scores : Cert.Pre_finite_scores.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_scores m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Reference2Ideal_pre_finite_scores [hReference2Ideal : Cert.Reference2Ideal.Facts] [hPre_finite_scores : Cert.Pre_finite_scores.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_scores m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Kernel3Ideal_pre_finite_values [hKernel3Ideal : Cert.Kernel3Ideal.Facts] [hPre_finite_values : Cert.Pre_finite_values.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_values m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Reference3Ideal_pre_finite_values [hReference3Ideal : Cert.Reference3Ideal.Facts] [hPre_finite_values : Cert.Pre_finite_values.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_values m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def preserves_Kernel_KernelIdeal : Prop :=
  True

def algebraic_KernelIdeal_ReferenceIdeal_pre_finite_states [hKernelIdeal : Cert.KernelIdeal.Facts] [hReferenceIdeal : Cert.ReferenceIdeal.Facts] [hPre_finite_states : Cert.Pre_finite_states.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_states m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v121) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def preserves_Kernel2_Kernel2Ideal : Prop :=
  True

def algebraic_Kernel2Ideal_Reference2Ideal_pre_finite_scores [hKernel2Ideal : Cert.Kernel2Ideal.Facts] [hReference2Ideal : Cert.Reference2Ideal.Facts] [hPre_finite_scores : Cert.Pre_finite_scores.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_scores m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v20)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v20) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v44) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal_pre_finite_values [hKernel3Ideal : Cert.Kernel3Ideal.Facts] [hReference3Ideal : Cert.Reference3Ideal.Facts] [hPre_finite_values : Cert.Pre_finite_values.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_values m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v33)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v33) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v121) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_states : Cert.Pre_finite_states.Facts) (hPre_finite_scores : Cert.Pre_finite_scores.Facts) (hPre_finite_values : Cert.Pre_finite_values.Facts),
    quiescent_Kernel (hKernel := hKernel)
    ∧ quiescent_KernelIdeal (hKernelIdeal := hKernelIdeal)
    ∧ quiescent_KernelIdeal_pre_finite_states (hKernelIdeal := hKernelIdeal) (hPre_finite_states := hPre_finite_states)
    ∧ quiescent_ReferenceIdeal (hReferenceIdeal := hReferenceIdeal)
    ∧ quiescent_ReferenceIdeal_pre_finite_states (hReferenceIdeal := hReferenceIdeal) (hPre_finite_states := hPre_finite_states)
    ∧ quiescent_Kernel2 (hKernel2 := hKernel2)
    ∧ quiescent_Kernel2Ideal (hKernel2Ideal := hKernel2Ideal)
    ∧ quiescent_Kernel2Ideal_pre_finite_scores (hKernel2Ideal := hKernel2Ideal) (hPre_finite_scores := hPre_finite_scores)
    ∧ quiescent_Reference2Ideal (hReference2Ideal := hReference2Ideal)
    ∧ quiescent_Reference2Ideal_pre_finite_scores (hReference2Ideal := hReference2Ideal) (hPre_finite_scores := hPre_finite_scores)
    ∧ quiescent_Kernel3 (hKernel3 := hKernel3)
    ∧ quiescent_Kernel3Ideal (hKernel3Ideal := hKernel3Ideal)
    ∧ quiescent_Kernel3Ideal_pre_finite_values (hKernel3Ideal := hKernel3Ideal) (hPre_finite_values := hPre_finite_values)
    ∧ quiescent_Reference3Ideal (hReference3Ideal := hReference3Ideal)
    ∧ quiescent_Reference3Ideal_pre_finite_values (hReference3Ideal := hReference3Ideal) (hPre_finite_values := hPre_finite_values)
    ∧ preserves_Kernel_KernelIdeal
    ∧ algebraic_KernelIdeal_ReferenceIdeal_pre_finite_states (hKernelIdeal := hKernelIdeal) (hReferenceIdeal := hReferenceIdeal) (hPre_finite_states := hPre_finite_states)
    ∧ preserves_Kernel2_Kernel2Ideal
    ∧ algebraic_Kernel2Ideal_Reference2Ideal_pre_finite_scores (hKernel2Ideal := hKernel2Ideal) (hReference2Ideal := hReference2Ideal) (hPre_finite_scores := hPre_finite_scores)
    ∧ preserves_Kernel3_Kernel3Ideal
    ∧ algebraic_Kernel3Ideal_Reference3Ideal_pre_finite_values (hKernel3Ideal := hKernel3Ideal) (hReference3Ideal := hReference3Ideal) (hPre_finite_values := hPre_finite_values)
-- ==== Pre_finite_scores.lean ====
abbrev S8x8448x4x96 : Shape := ⟨4, ![8, 8448, 4, 96]⟩
abbrev S8x8448x4x64 : Shape := ⟨4, ![8, 8448, 4, 64]⟩
abbrev S_ : Shape := ⟨0, ![]⟩

class Facts : Prop where
  bcast_S_S8x8448x4x96 : S_.BroadcastsInDim S8x8448x4x96 (![] : Fin 0 → Fin S8x8448x4x96.rank)
  reducesTo_S8x8448x4x96_S_d0_1_2_3 : S8x8448x4x96.ReducesTo [0, 1, 2, 3] S_
  h_S_ : 0 < S_.numel

variable [Facts]

def fn {F : FTy → Type} [FloatOps F] (main_arg0 : FVec F S8x8448x4x96 .f32) (main_arg1 : FVec F S8x8448x4x96 .f32) (main_arg2 : FVec F S8x8448x4x64 .f32) : IVec S_ 1 :=
  let main_v0 : FVec F S8x8448x4x96 .f32 := Host.absf main_arg0
  let main_cst : FVec F S_ .f32 := constant S_ .f32 0x7F800000#32
  let main_v1 : FVec F S8x8448x4x96 .f32 := broadcastInDim S8x8448x4x96 ![] bcast_S_S8x8448x4x96 main_cst
  let main_v2 : IVec S8x8448x4x96 1 := cmpf .olt main_v0 main_v1
  let main_c : IVec S_ 1 := constantI S_ 1 1#1
  let main_v3 : IVec S_ 1 := (fun x v => Host.reduce IntOp.andi x v reducesTo_S8x8448x4x96_S_d0_1_2_3 h_S_) main_v2 main_c
  let main_v4 : FVec F S8x8448x4x96 .f32 := Host.absf main_arg1
  let main_cst_0 : FVec F S_ .f32 := constant S_ .f32 0x7F800000#32
  let main_v5 : FVec F S8x8448x4x96 .f32 := broadcastInDim S8x8448x4x96 ![] bcast_S_S8x8448x4x96 main_cst_0
  let main_v6 : IVec S8x8448x4x96 1 := cmpf .olt main_v4 main_v5
  let main_c_1 : IVec S_ 1 := constantI S_ 1 1#1
  let main_v7 : IVec S_ 1 := (fun x v => Host.reduce IntOp.andi x v reducesTo_S8x8448x4x96_S_d0_1_2_3 h_S_) main_v6 main_c_1
  let main_v8 : IVec S_ 1 := andi main_v3 main_v7
  main_v8
-- ==== Pre_finite_states.lean ====
abbrev S8x8448x1024 : Shape := ⟨3, ![8, 8448, 1024]⟩
abbrev S8x3072 : Shape := ⟨2, ![8, 3072]⟩
abbrev S3072 : Shape := ⟨1, ![3072]⟩
abbrev S8x8448x256 : Shape := ⟨3, ![8, 8448, 256]⟩
abbrev S64 : Shape := ⟨1, ![64]⟩
abbrev S4x1024x1024 : Shape := ⟨3, ![4, 1024, 1024]⟩
abbrev S4x256x1024 : Shape := ⟨3, ![4, 256, 1024]⟩
abbrev S1024x1024 : Shape := ⟨2, ![1024, 1024]⟩
abbrev S1024 : Shape := ⟨1, ![1024]⟩
abbrev S_ : Shape := ⟨0, ![]⟩

class Facts : Prop where
  bcast_S_S8x8448x256 : S_.BroadcastsInDim S8x8448x256 (![] : Fin 0 → Fin S8x8448x256.rank)
  reducesTo_S8x8448x256_S_d0_1_2 : S8x8448x256.ReducesTo [0, 1, 2] S_
  h_S_ : 0 < S_.numel

variable [Facts]

def fn {F : FTy → Type} [FloatOps F] (main_arg0 : FVec F S8x8448x1024 .f32) (main_arg1 : FVec F S8x3072 .f32) (main_arg2 : FVec F S3072 .f32) (main_arg3 : FVec F S8x8448x1024 .f32) (main_arg4 : FVec F S8x8448x1024 .f32) (main_arg5 : FVec F S8x8448x256 .f32) (main_arg6 : FVec F S8x8448x256 .f32) (main_arg7 : FVec F S8x8448x256 .f32) (main_arg8 : FVec F S8x8448x256 .f32) (main_arg9 : FVec F S8x8448x256 .f32) (main_arg10 : FVec F S64 .f32) (main_arg11 : FVec F S4x1024x1024 .f32) (main_arg12 : FVec F S4x256x1024 .f32) (main_arg13 : FVec F S1024x1024 .f32) (main_arg14 : FVec F S1024 .f32) (main_arg15 : FVec F S1024 .f32) : IVec S_ 1 :=
  let main_v0 : FVec F S8x8448x256 .f32 := Host.absf main_arg8
  let main_cst : FVec F S_ .f32 := constant S_ .f32 0x7F800000#32
  let main_v1 : FVec F S8x8448x256 .f32 := broadcastInDim S8x8448x256 ![] bcast_S_S8x8448x256 main_cst
  let main_v2 : IVec S8x8448x256 1 := cmpf .olt main_v0 main_v1
  let main_c : IVec S_ 1 := constantI S_ 1 1#1
  let main_v3 : IVec S_ 1 := (fun x v => Host.reduce IntOp.andi x v reducesTo_S8x8448x256_S_d0_1_2 h_S_) main_v2 main_c
  let main_v4 : FVec F S8x8448x256 .f32 := Host.absf main_arg9
  let main_cst_0 : FVec F S_ .f32 := constant S_ .f32 0x7F800000#32
  let main_v5 : FVec F S8x8448x256 .f32 := broadcastInDim S8x8448x256 ![] bcast_S_S8x8448x256 main_cst_0
  let main_v6 : IVec S8x8448x256 1 := cmpf .olt main_v4 main_v5
  let main_c_1 : IVec S_ 1 := constantI S_ 1 1#1
  let main_v7 : IVec S_ 1 := (fun x v => Host.reduce IntOp.andi x v reducesTo_S8x8448x256_S_d0_1_2 h_S_) main_v6 main_c_1
  let main_v8 : IVec S_ 1 := andi main_v3 main_v7
  main_v8
-- ==== Pre_finite_values.lean ====
abbrev S8x8448x4x32 : Shape := ⟨4, ![8, 8448, 4, 32]⟩
abbrev S8x8448x4x64 : Shape := ⟨4, ![8, 8448, 4, 64]⟩
abbrev S32 : Shape := ⟨1, ![32]⟩
abbrev S64 : Shape := ⟨1, ![64]⟩
abbrev S_ : Shape := ⟨0, ![]⟩

class Facts : Prop where
  bcast_S_S8x8448x4x64 : S_.BroadcastsInDim S8x8448x4x64 (![] : Fin 0 → Fin S8x8448x4x64.rank)
  reducesTo_S8x8448x4x64_S_d0_1_2_3 : S8x8448x4x64.ReducesTo [0, 1, 2, 3] S_
  h_S_ : 0 < S_.numel
  bcast_S_S32 : S_.BroadcastsInDim S32 (![] : Fin 0 → Fin S32.rank)
  reducesTo_S32_S_d0 : S32.ReducesTo [0] S_

variable [Facts]

def fn_part1 {F : FTy → Type} [FloatOps F] (main_arg8 : FVec F S32 .f32) (main_v3 : IVec S_ 1) (main_v7 : IVec S_ 1) (main_v11 : IVec S_ 1) (main_v15 : IVec S_ 1) : IVec S_ 1 :=
  let main_v16 : FVec F S32 .f32 := Host.absf main_arg8
  let main_cst_6 : FVec F S_ .f32 := constant S_ .f32 0x7F800000#32
  let main_v17 : FVec F S32 .f32 := broadcastInDim S32 ![] bcast_S_S32 main_cst_6
  let main_v18 : IVec S32 1 := cmpf .olt main_v16 main_v17
  let main_c_7 : IVec S_ 1 := constantI S_ 1 1#1
  let main_v19 : IVec S_ 1 := (fun x v => Host.reduce IntOp.andi x v reducesTo_S32_S_d0 h_S_) main_v18 main_c_7
  let main_v20 : IVec S_ 1 := andi main_v3 main_v7
  let main_v21 : IVec S_ 1 := andi main_v20 main_v11
  let main_v22 : IVec S_ 1 := andi main_v21 main_v15
  let main_v23 : IVec S_ 1 := andi main_v22 main_v19
  main_v23

def fn {F : FTy → Type} [FloatOps F] (main_arg0 : FVec F S8x8448x4x32 .f32) (main_arg1 : FVec F S8x8448x4x32 .f32) (main_arg2 : FVec F S8x8448x4x32 .f32) (main_arg3 : FVec F S8x8448x4x32 .f32) (main_arg4 : FVec F S8x8448x4x64 .f32) (main_arg5 : FVec F S32 .f32) (main_arg6 : FVec F S32 .f32) (main_arg7 : FVec F S32 .f32) (main_arg8 : FVec F S32 .f32) (main_arg9 : FVec F S64 .f32) : IVec S_ 1 :=
  let main_v0 : FVec F S8x8448x4x64 .f32 := Host.absf main_arg4
  let main_cst : FVec F S_ .f32 := constant S_ .f32 0x7F800000#32
  let main_v1 : FVec F S8x8448x4x64 .f32 := broadcastInDim S8x8448x4x64 ![] bcast_S_S8x8448x4x64 main_cst
  let main_v2 : IVec S8x8448x4x64 1 := cmpf .olt main_v0 main_v1
  let main_c : IVec S_ 1 := constantI S_ 1 1#1
  let main_v3 : IVec S_ 1 := (fun x v => Host.reduce IntOp.andi x v reducesTo_S8x8448x4x64_S_d0_1_2_3 h_S_) main_v2 main_c
  let main_v4 : FVec F S32 .f32 := Host.absf main_arg5
  let main_cst_0 : FVec F S_ .f32 := constant S_ .f32 0x7F800000#32
  let main_v5 : FVec F S32 .f32 := broadcastInDim S32 ![] bcast_S_S32 main_cst_0
  let main_v6 : IVec S32 1 := cmpf .olt main_v4 main_v5
  let main_c_1 : IVec S_ 1 := constantI S_ 1 1#1
  let main_v7 : IVec S_ 1 := (fun x v => Host.reduce IntOp.andi x v reducesTo_S32_S_d0 h_S_) main_v6 main_c_1
  let main_v8 : FVec F S32 .f32 := Host.absf main_arg6
  let main_cst_2 : FVec F S_ .f32 := constant S_ .f32 0x7F800000#32
  let main_v9 : FVec F S32 .f32 := broadcastInDim S32 ![] bcast_S_S32 main_cst_2
  let main_v10 : IVec S32 1 := cmpf .olt main_v8 main_v9
  let main_c_3 : IVec S_ 1 := constantI S_ 1 1#1
  let main_v11 : IVec S_ 1 := (fun x v => Host.reduce IntOp.andi x v reducesTo_S32_S_d0 h_S_) main_v10 main_c_3
  let main_v12 : FVec F S32 .f32 := Host.absf main_arg7
  let main_cst_4 : FVec F S_ .f32 := constant S_ .f32 0x7F800000#32
  let main_v13 : FVec F S32 .f32 := broadcastInDim S32 ![] bcast_S_S32 main_cst_4
  let main_v14 : IVec S32 1 := cmpf .olt main_v12 main_v13
  let main_c_5 : IVec S_ 1 := constantI S_ 1 1#1
  let main_v15 : IVec S_ 1 := (fun x v => Host.reduce IntOp.andi x v reducesTo_S32_S_d0 h_S_) main_v14 main_c_5
  fn_part1 (F := F) main_arg8 main_v3 main_v7 main_v11 main_v15
-- ==== Kernel.lean ====
abbrev S8x8448x1024 : Shape := ⟨3, ![8, 8448, 1024]⟩
abbrev S8x3072 : Shape := ⟨2, ![8, 3072]⟩
abbrev S3072 : Shape := ⟨1, ![3072]⟩
abbrev S8x8448x256 : Shape := ⟨3, ![8, 8448, 256]⟩
abbrev S64 : Shape := ⟨1, ![64]⟩
abbrev S4x1024x1024 : Shape := ⟨3, ![4, 1024, 1024]⟩
abbrev S4x256x1024 : Shape := ⟨3, ![4, 256, 1024]⟩
abbrev S1024x1024 : Shape := ⟨2, ![1024, 1024]⟩
abbrev S1024 : Shape := ⟨1, ![1024]⟩
abbrev S1x3072 : Shape := ⟨2, ![1, 3072]⟩
abbrev S_ : Shape := ⟨0, ![]⟩
abbrev S7x3072 : Shape := ⟨2, ![7, 3072]⟩
abbrev S16x3072 : Shape := ⟨2, ![16, 3072]⟩
abbrev S16x3x1024 : Shape := ⟨3, ![16, 3, 1024]⟩
abbrev S1x3x1024 : Shape := ⟨3, ![1, 3, 1024]⟩
abbrev S3x1024 : Shape := ⟨2, ![3, 1024]⟩
abbrev S8x3x1024 : Shape := ⟨3, ![8, 3, 1024]⟩
abbrev S8x1x3x1024 : Shape := ⟨4, ![8, 1, 3, 1024]⟩
abbrev S8x2x3x1024 : Shape := ⟨4, ![8, 2, 3, 1024]⟩
abbrev S1x64 : Shape := ⟨2, ![1, 64]⟩
abbrev S4x64 : Shape := ⟨2, ![4, 64]⟩
abbrev S256 : Shape := ⟨1, ![256]⟩
abbrev S1x256 : Shape := ⟨2, ![1, 256]⟩
abbrev S1x1024 : Shape := ⟨2, ![1, 1024]⟩
abbrev S8x8192x1024 : Shape := ⟨3, ![8, 8192, 1024]⟩
abbrev S1x256x1024 : Shape := ⟨3, ![1, 256, 1024]⟩
abbrev S1x1x3x1024 : Shape := ⟨4, ![1, 1, 3, 1024]⟩
abbrev S1x256x256 : Shape := ⟨3, ![1, 256, 256]⟩
abbrev S256x1024 : Shape := ⟨2, ![256, 1024]⟩
abbrev S256x256 : Shape := ⟨2, ![256, 256]⟩
abbrev S1x1024x1024 : Shape := ⟨3, ![1, 1024, 1024]⟩
abbrev S1x1x1x1024 : Shape := ⟨4, ![1, 1, 1, 1024]⟩
abbrev S256x1 : Shape := ⟨2, ![256, 1]⟩

abbrev nBuf : Space → Nat
  | .hbm => 40
  | .vmem => 26
  | .smem => 0
  | _ => 0

abbrev bufTy : (tb : Table) → Fin (tcTables nBuf tb) → BufTy
  | .hbm, ⟨0, _⟩ => ⟨S8x8448x1024, .f32⟩
  | .hbm, ⟨1, _⟩ => ⟨S8x3072, .f32⟩
  | .hbm, ⟨2, _⟩ => ⟨S3072, .f32⟩
  | .hbm, ⟨3, _⟩ => ⟨S8x8448x1024, .f32⟩
  | .hbm, ⟨4, _⟩ => ⟨S8x8448x1024, .f32⟩
  | .hbm, ⟨5, _⟩ => ⟨S8x8448x256, .f32⟩
  | .hbm, ⟨6, _⟩ => ⟨S8x8448x256, .f32⟩
  | .hbm, ⟨7, _⟩ => ⟨S8x8448x256, .f32⟩
  | .hbm, ⟨8, _⟩ => ⟨S8x8448x256, .f32⟩
  | .hbm, ⟨9, _⟩ => ⟨S8x8448x256, .f32⟩
  | .hbm, ⟨10, _⟩ => ⟨S64, .f32⟩
  | .hbm, ⟨11, _⟩ => ⟨S4x1024x1024, .f32⟩
  | .hbm, ⟨12, _⟩ => ⟨S4x256x1024, .f32⟩
  | .hbm, ⟨13, _⟩ => ⟨S1024x1024, .f32⟩
  | .hbm, ⟨14, _⟩ => ⟨S1024, .f32⟩
  | .hbm, ⟨15, _⟩ => ⟨S1024, .f32⟩
  | .hbm, ⟨16, _⟩ => ⟨S1x3072, .f32⟩
  | .hbm, ⟨17, _⟩ => ⟨S_, .f32⟩
  | .hbm, ⟨18, _⟩ => ⟨S7x3072, .f32⟩
  | .hbm, ⟨19, _⟩ => ⟨S16x3072, .f32⟩
  | .hbm, ⟨20, _⟩ => ⟨S16x3x1024, .f32⟩
  | .hbm, ⟨21, _⟩ => ⟨S1x3x1024, .f32⟩
  | .hbm, ⟨22, _⟩ => ⟨S3x1024, .f32⟩
  | .hbm, ⟨23, _⟩ => ⟨S1x3x1024, .f32⟩
  | .hbm, ⟨24, _⟩ => ⟨S8x3x1024, .f32⟩
  | .hbm, ⟨25, _⟩ => ⟨S8x3x1024, .f32⟩
  | .hbm, ⟨26, _⟩ => ⟨S8x1x3x1024, .f32⟩
  | .hbm, ⟨27, _⟩ => ⟨S8x1x3x1024, .f32⟩
  | .hbm, ⟨28, _⟩ => ⟨S8x2x3x1024, .f32⟩
  | .hbm, ⟨29, _⟩ => ⟨S1x64, .f32⟩
  | .hbm, ⟨30, _⟩ => ⟨S4x64, .f32⟩
  | .hbm, ⟨31, _⟩ => ⟨S256, .f32⟩
  | .hbm, ⟨32, _⟩ => ⟨S1x256, .f32⟩
  | .hbm, ⟨33, _⟩ => ⟨S8x8448x1024, .bf16⟩
  | .hbm, ⟨34, _⟩ => ⟨S4x1024x1024, .bf16⟩
  | .hbm, ⟨35, _⟩ => ⟨S4x256x1024, .bf16⟩
  | .hbm, ⟨36, _⟩ => ⟨S1024x1024, .bf16⟩
  | .hbm, ⟨37, _⟩ => ⟨S1x1024, .f32⟩
  | .hbm, ⟨38, _⟩ => ⟨S1x1024, .f32⟩
  | .hbm, ⟨39, _⟩ => ⟨S8x8192x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1x3x1024, .f32⟩
  | .local _ .vmem, ⟨3, _⟩ => ⟨S1x1x3x1024, .f32⟩
  | .local _ .vmem, ⟨4, _⟩ => ⟨S1x256x1024, .bf16⟩
  | .local _ .vmem, ⟨5, _⟩ => ⟨S1x256x1024, .bf16⟩
  | .local _ .vmem, ⟨6, _⟩ => ⟨S1x256x1024, .f32⟩
  | .local _ .vmem, ⟨7, _⟩ => ⟨S1x256x1024, .f32⟩
  | .local _ .vmem, ⟨8, _⟩ => ⟨S1x256x256, .f32⟩
  | .local _ .vmem, ⟨9, _⟩ => ⟨S1x256x256, .f32⟩
  | .local _ .vmem, ⟨10, _⟩ => ⟨S1x256x256, .f32⟩
  | .local _ .vmem, ⟨11, _⟩ => ⟨S1x256x256, .f32⟩
  | .local _ .vmem, ⟨12, _⟩ => ⟨S1x256x256, .f32⟩
  | .local _ .vmem, ⟨13, _⟩ => ⟨S1x256x256, .f32⟩
  | .local _ .vmem, ⟨14, _⟩ => ⟨S1x256x256, .f32⟩
  | .local _ .vmem, ⟨15, _⟩ => ⟨S1x256x256, .f32⟩
  | .local _ .vmem, ⟨16, _⟩ => ⟨S1x256x256, .f32⟩
  | .local _ .vmem, ⟨17, _⟩ => ⟨S1x256x256, .f32⟩
  | .local _ .vmem, ⟨18, _⟩ => ⟨S1x256, .f32⟩
  | .local _ .vmem, ⟨19, _⟩ => ⟨S4x1024x1024, .bf16⟩
  | .local _ .vmem, ⟨20, _⟩ => ⟨S4x256x1024, .bf16⟩
  | .local _ .vmem, ⟨21, _⟩ => ⟨S1024x1024, .bf16⟩
  | .local _ .vmem, ⟨22, _⟩ => ⟨S1x1024, .f32⟩
  | .local _ .vmem, ⟨23, _⟩ => ⟨S1x1024, .f32⟩
  | .local _ .vmem, ⟨24, _⟩ => ⟨S1x256x1024, .f32⟩
  | .local _ .vmem, ⟨25, _⟩ => ⟨S1x256x1024, .f32⟩
  | _, _ => ⟨S8x8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_cst : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg15_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem15_1 : DmaSem sig := 25

abbrev nD : Nat := 1
abbrev τ : Topo := Topo.v7x

variable {F : FTy → Type} [FloatOps F]

abbrev grid0 : Pipeline.Grid := ⟨2, ![8, 32], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c1_i32_0 : BitVec 32 := 1#32
  let v1 : BitVec 1 := Scalar.cmpi .sge v0 c1_i32_0
  let c1_i32_1 : BitVec 32 := 1#32
  let c0_i32 : BitVec 32 := 0#32
  let v2 : BitVec 32 := Scalar.select v1 c1_i32_1 c0_i32
  let c0_i32_2 : BitVec 32 := 0#32
  let c0_i32_3 : BitVec 32 := 0#32
  let c0_i32_4 : BitVec 32 := 0#32
  ![arg0.toNat, v2.toNat, c0_i32_2.toNat, c0_i32_3.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S4x1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S4x256x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== ReferenceIdeal.lean ====
abbrev S8x8448x1024 : Shape := ⟨3, ![8, 8448, 1024]⟩
abbrev S8x3072 : Shape := ⟨2, ![8, 3072]⟩
abbrev S3072 : Shape := ⟨1, ![3072]⟩
abbrev S8x8448x256 : Shape := ⟨3, ![8, 8448, 256]⟩
abbrev S64 : Shape := ⟨1, ![64]⟩
abbrev S4x1024x1024 : Shape := ⟨3, ![4, 1024, 1024]⟩
abbrev S4x256x1024 : Shape := ⟨3, ![4, 256, 1024]⟩
abbrev S1024x1024 : Shape := ⟨2, ![1024, 1024]⟩
abbrev S1024 : Shape := ⟨1, ![1024]⟩
abbrev S8x8192x1024 : Shape := ⟨3, ![8, 8192, 1024]⟩
abbrev S8x8192x256 : Shape := ⟨3, ![8, 8192, 256]⟩
abbrev S8x1x3072 : Shape := ⟨3, ![8, 1, 3072]⟩
abbrev S8x1x1024 : Shape := ⟨3, ![8, 1, 1024]⟩
abbrev S8x8192x4x64 : Shape := ⟨4, ![8, 8192, 4, 64]⟩
abbrev S_ : Shape := ⟨0, ![]⟩
abbrev S8x8192x4 : Shape := ⟨3, ![8, 8192, 4]⟩
abbrev S8x8192x4x1 : Shape := ⟨4, ![8, 8192, 4, 1]⟩
abbrev S1x1x1x64 : Shape := ⟨4, ![1, 1, 1, 64]⟩
abbrev S1x1024x1024 : Shape := ⟨3, ![1, 1024, 1024]⟩
abbrev S1x256x1024 : Shape := ⟨3, ![1, 256, 1024]⟩
abbrev S256x1024 : Shape := ⟨2, ![256, 1024]⟩
abbrev S8x8192 : Shape := ⟨2, ![8, 8192]⟩
abbrev S8x8192x1 : Shape := ⟨3, ![8, 8192, 1]⟩
abbrev S1x1x1024 : Shape := ⟨3, ![1, 1, 1024]⟩

abbrev nBuf : Space → Nat
  | .hbm => 163
  | .vmem => 0
  | .smem => 0
  | _ => 0

abbrev hbmTy0_0 (i : Nat) : BufTy := match i % 128 with
  | 0 => ⟨S8x8448x1024, .f32⟩
  | 1 => ⟨S8x3072, .f32⟩
  | 2 => ⟨S3072, .f32⟩
  | 3 => ⟨S8x8448x1024, .f32⟩
  | 4 => ⟨S8x8448x1024, .f32⟩
  | 5 => ⟨S8x8448x256, .f32⟩
  | 6 => ⟨S8x8448x256, .f32⟩
  | 7 => ⟨S8x8448x256, .f32⟩
  | 8 => ⟨S8x8448x256, .f32⟩
  | 9 => ⟨S8x8448x256, .f32⟩
  | 10 => ⟨S64, .f32⟩
  | 11 => ⟨S4x1024x1024, .f32⟩
  | 12 => ⟨S4x256x1024, .f32⟩
  | 13 => ⟨S1024x1024, .f32⟩
  | 14 => ⟨S1024, .f32⟩
  | 15 => ⟨S1024, .f32⟩
  | 16 => ⟨S8x8192x1024, .f32⟩
  | 17 => ⟨S8x8192x1024, .f32⟩
  | 18 => ⟨S8x8192x1024, .f32⟩
  | 19 => ⟨S8x8192x256, .f32⟩
  | 20 => ⟨S8x8192x256, .f32⟩
  | 21 => ⟨S8x8192x256, .f32⟩
  | 22 => ⟨S8x8192x256, .f32⟩
  | 23 => ⟨S8x8192x256, .f32⟩
  | 24 => ⟨S8x1x3072, .f32⟩
  | 25 => ⟨S8x1x1024, .f32⟩
  | 26 => ⟨S8x1x1024, .f32⟩
  | 27 => ⟨S8x1x1024, .f32⟩
  | 28 => ⟨S8x8192x256, .f32⟩
  | 29 => ⟨S8x8192x4x64, .f32⟩
  | 30 => ⟨S8x8192x4x64, .f32⟩
  | 31 => ⟨S_, .f32⟩
  | 32 => ⟨S8x8192x4, .f32⟩
  | 33 => ⟨S8x8192x4x1, .f32⟩
  | 34 => ⟨S_, .f32⟩
  | 35 => ⟨S8x8192x4x1, .f32⟩
  | 36 => ⟨S8x8192x4x1, .f32⟩
  | 37 => ⟨S_, .f32⟩
  | 38 => ⟨S8x8192x4x1, .f32⟩
  | 39 => ⟨S8x8192x4x1, .f32⟩
  | 40 => ⟨S8x8192x4x1, .f32⟩
  | 41 => ⟨S8x8192x4x64, .f32⟩
  | 42 => ⟨S8x8192x4x64, .f32⟩
  | 43 => ⟨S1x1x1x64, .f32⟩
  | 44 => ⟨S8x8192x4x64, .f32⟩
  | 45 => ⟨S8x8192x4x64, .f32⟩
  | 46 => ⟨S8x8192x256, .f32⟩
  | 47 => ⟨S8x8192x1024, .f32⟩
  | 48 => ⟨S8x8192x1024, .f32⟩
  | 49 => ⟨S_, .f32⟩
  | 50 => ⟨S8x8192x1024, .f32⟩
  | 51 => ⟨S8x8192x1024, .f32⟩
  | 52 => ⟨S_, .f32⟩
  | 53 => ⟨S8x8192x1024, .f32⟩
  | 54 => ⟨S8x8192x1024, .f32⟩
  | 55 => ⟨S8x8192x1024, .f32⟩
  | 56 => ⟨S8x8192x256, .f32⟩
  | 57 => ⟨S8x8192x256, .f32⟩
  | 58 => ⟨S8x8192x256, .f32⟩
  | 59 => ⟨S8x8192x256, .f32⟩
  | 60 => ⟨S1x1024x1024, .f32⟩
  | 61 => ⟨S1024x1024, .f32⟩
  | 62 => ⟨S8x8192x1024, .f32⟩
  | 63 => ⟨S8x8192x1024, .f32⟩
  | 64 => ⟨S8x8192x1024, .f32⟩
  | 65 => ⟨S_, .f32⟩
  | 66 => ⟨S8x8192x1024, .f32⟩
  | 67 => ⟨S8x8192x1024, .f32⟩
  | 68 => ⟨S_, .f32⟩
  | 69 => ⟨S8x8192x1024, .f32⟩
  | 70 => ⟨S8x8192x1024, .f32⟩
  | 71 => ⟨S8x8192x256, .f32⟩
  | 72 => ⟨S1x256x1024, .f32⟩
  | 73 => ⟨S256x1024, .f32⟩
  | 74 => ⟨S8x8192x1024, .f32⟩
  | 75 => ⟨S8x8192x1024, .f32⟩
  | 76 => ⟨S1x1024x1024, .f32⟩
  | 77 => ⟨S1024x1024, .f32⟩
  | 78 => ⟨S8x8192x1024, .f32⟩
  | 79 => ⟨S8x8192x1024, .f32⟩
  | 80 => ⟨S8x8192x1024, .f32⟩
  | 81 => ⟨S_, .f32⟩
  | 82 => ⟨S8x8192x1024, .f32⟩
  | 83 => ⟨S8x8192x1024, .f32⟩
  | 84 => ⟨S_, .f32⟩
  | 85 => ⟨S8x8192x1024, .f32⟩
  | 86 => ⟨S8x8192x1024, .f32⟩
  | 87 => ⟨S8x8192x256, .f32⟩
  | 88 => ⟨S1x256x1024, .f32⟩
  | 89 => ⟨S256x1024, .f32⟩
  | 90 => ⟨S8x8192x1024, .f32⟩
  | 91 => ⟨S8x8192x1024, .f32⟩
  | 92 => ⟨S8x8192x1024, .f32⟩
  | 93 => ⟨S1x1024x1024, .f32⟩
  | 94 => ⟨S1024x1024, .f32⟩
  | 95 => ⟨S8x8192x1024, .f32⟩
  | 96 => ⟨S8x8192x1024, .f32⟩
  | 97 => ⟨S8x8192x1024, .f32⟩
  | 98 => ⟨S_, .f32⟩
  | 99 => ⟨S8x8192x1024, .f32⟩
  | 100 => ⟨S8x8192x1024, .f32⟩
  | 101 => ⟨S_, .f32⟩
  | 102 => ⟨S8x8192x1024, .f32⟩
  | 103 => ⟨S8x8192x1024, .f32⟩
  | 104 => ⟨S8x8192x256, .f32⟩
  | 105 => ⟨S1x256x1024, .f32⟩
  | 106 => ⟨S256x1024, .f32⟩
  | 107 => ⟨S8x8192x1024, .f32⟩
  | 108 => ⟨S8x8192x1024, .f32⟩
  | 109 => ⟨S8x8192x1024, .f32⟩
  | 110 => ⟨S1x1024x1024, .f32⟩
  | 111 => ⟨S1024x1024, .f32⟩
  | 112 => ⟨S8x8192x1024, .f32⟩
  | 113 => ⟨S8x8192x1024, .f32⟩
  | 114 => ⟨S8x8192x1024, .f32⟩
  | 115 => ⟨S_, .f32⟩
  | 116 => ⟨S8x8192x1024, .f32⟩
  | 117 => ⟨S8x8192x1024, .f32⟩
  | 118 => ⟨S_, .f32⟩
  | 119 => ⟨S8x8192x1024, .f32⟩
  | 120 => ⟨S8x8192x1024, .f32⟩
  | 121 => ⟨S8x8192x256, .f32⟩
  | 122 => ⟨S1x256x1024, .f32⟩
  | 123 => ⟨S256x1024, .f32⟩
  | 124 => ⟨S8x8192x1024, .f32⟩
  | 125 => ⟨S8x8192x1024, .f32⟩
  | 126 => ⟨S8x8192x1024, .f32⟩
  | 127 => ⟨S8x8192x1024, .f32⟩
  | _ => ⟨S8x8448x1024, .f32⟩

abbrev hbmTy0_1 (i : Nat) : BufTy := match i % 128 with
  | 0 => ⟨S_, .f32⟩
  | 1 => ⟨S8x8192x1024, .f32⟩
  | 2 => ⟨S8x8192x1024, .f32⟩
  | 3 => ⟨S8x8192x1024, .f32⟩
  | 4 => ⟨S8x8192x1024, .f32⟩
  | 5 => ⟨S8x8192x1024, .f32⟩
  | 6 => ⟨S_, .f32⟩
  | 7 => ⟨S8x8192, .f32⟩
  | 8 => ⟨S8x8192x1, .f32⟩
  | 9 => ⟨S_, .f32⟩
  | 10 => ⟨S8x8192x1, .f32⟩
  | 11 => ⟨S8x8192x1, .f32⟩
  | 12 => ⟨S8x8192x1024, .f32⟩
  | 13 => ⟨S8x8192x1024, .f32⟩
  | 14 => ⟨S8x8192x1024, .f32⟩
  | 15 => ⟨S_, .f32⟩
  | 16 => ⟨S8x8192, .f32⟩
  | 17 => ⟨S8x8192x1, .f32⟩
  | 18 => ⟨S_, .f32⟩
  | 19 => ⟨S8x8192x1, .f32⟩
  | 20 => ⟨S8x8192x1, .f32⟩
  | 21 => ⟨S8x8192x1024, .f32⟩
  | 22 => ⟨S8x8192x1024, .f32⟩
  | 23 => ⟨S_, .f32⟩
  | 24 => ⟨S8x8192x1, .f32⟩
  | 25 => ⟨S8x8192x1, .f32⟩
  | 26 => ⟨S8x8192x1, .f32⟩
  | 27 => ⟨S8x8192x1024, .f32⟩
  | 28 => ⟨S8x8192x1024, .f32⟩
  | 29 => ⟨S1x1x1024, .f32⟩
  | 30 => ⟨S8x8192x1024, .f32⟩
  | 31 => ⟨S8x8192x1024, .f32⟩
  | 32 => ⟨S1x1x1024, .f32⟩
  | 33 => ⟨S8x8192x1024, .f32⟩
  | 34 => ⟨S8x8192x1024, .f32⟩
  | _ => ⟨S8x8448x1024, .f32⟩

abbrev hbmTy (i : Nat) : BufTy := match i / 128 with
  | 0 => hbmTy0_0 i
  | 1 => hbmTy0_1 i
  | _ => ⟨S8x8448x1024, .f32⟩

abbrev bufTy : (tb : Table) → Fin (tcTables nBuf tb) → BufTy
  | .hbm, ⟨i, _⟩ => hbmTy i
  | _, _ => ⟨S8x8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst : Ref sig .tc := ⟨.hbm, 31, rfl⟩
abbrev main_v15 : Ref sig .tc := ⟨.hbm, 32, rfl⟩
abbrev main_v16 : Ref sig .tc := ⟨.hbm, 33, rfl⟩
abbrev main_cst_0 : Ref sig .tc := ⟨.hbm, 34, rfl⟩
abbrev main_v17 : Ref sig .tc := ⟨.hbm, 35, rfl⟩
abbrev main_v18 : Ref sig .tc := ⟨.hbm, 36, rfl⟩
abbrev main_cst_1 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_call0_v0 : Ref sig .tc := ⟨.hbm, 47, rfl⟩
abbrev main_call0_v1 : Ref sig .tc := ⟨.hbm, 48, rfl⟩
abbrev main_call0_cst : Ref sig .tc := ⟨.hbm, 49, rfl⟩
abbrev main_call0_v2 : Ref sig .tc := ⟨.hbm, 50, rfl⟩
abbrev main_call0_v3 : Ref sig .tc := ⟨.hbm, 51, rfl⟩
abbrev main_call0_cst_0 : Ref sig .tc := ⟨.hbm, 52, rfl⟩
abbrev main_call0_v4 : Ref sig .tc := ⟨.hbm, 53, rfl⟩
abbrev main_call0_v5 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_cst_2 : Ref sig .tc := ⟨.hbm, 65, rfl⟩
abbrev main_v38 : Ref sig .tc := ⟨.hbm, 66, rfl⟩
abbrev main_v39 : Ref sig .tc := ⟨.hbm, 67, rfl⟩
abbrev main_cst_3 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_cst_4 : Ref sig .tc := ⟨.hbm, 81, rfl⟩
abbrev main_v52 : Ref sig .tc := ⟨.hbm, 82, rfl⟩
abbrev main_v53 : Ref sig .tc := ⟨.hbm, 83, rfl⟩
abbrev main_cst_5 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_cst_6 : Ref sig .tc := ⟨.hbm, 98, rfl⟩
abbrev main_v67 : Ref sig .tc := ⟨.hbm, 99, rfl⟩
abbrev main_v68 : Ref sig .tc := ⟨.hbm, 100, rfl⟩
abbrev main_cst_7 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_8 : Ref sig .tc := ⟨.hbm, 115, rfl⟩
abbrev main_v82 : Ref sig .tc := ⟨.hbm, 116, rfl⟩
abbrev main_v83 : Ref sig .tc := ⟨.hbm, 117, rfl⟩
abbrev main_cst_9 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_cst_10 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_cst_11 : Ref sig .tc := ⟨.hbm, 134, rfl⟩
abbrev main_v98 : Ref sig .tc := ⟨.hbm, 135, rfl⟩
abbrev main_v99 : Ref sig .tc := ⟨.hbm, 136, rfl⟩
abbrev main_cst_12 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_cst_13 : Ref sig .tc := ⟨.hbm, 143, rfl⟩
abbrev main_v105 : Ref sig .tc := ⟨.hbm, 144, rfl⟩
abbrev main_v106 : Ref sig .tc := ⟨.hbm, 145, rfl⟩
abbrev main_cst_14 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_cst_15 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩

abbrev nD : Nat := 1
abbrev τ : Topo := Topo.v7x

variable {F : FTy → Type} [FloatOps F]
-- ==== Kernel2.lean ====
abbrev S8x8448x4x96 : Shape := ⟨4, ![8, 8448, 4, 96]⟩
abbrev S8x8448x4x64 : Shape := ⟨4, ![8, 8448, 4, 64]⟩
abbrev S_ : Shape := ⟨0, ![]⟩
abbrev S8x8448x4x32 : Shape := ⟨4, ![8, 8448, 4, 32]⟩
abbrev S8x33x256x4x64 : Shape := ⟨5, ![8, 33, 256, 4, 64]⟩
abbrev S8x33x4x64x256 : Shape := ⟨5, ![8, 33, 4, 64, 256]⟩
abbrev S8x33x4x1x256 : Shape := ⟨5, ![8, 33, 4, 1, 256]⟩
abbrev S8x33x4x15x256 : Shape := ⟨5, ![8, 33, 4, 15, 256]⟩
abbrev S8x33x4x80x256 : Shape := ⟨5, ![8, 33, 4, 80, 256]⟩
abbrev S8x33x320x256 : Shape := ⟨4, ![8, 33, 320, 256]⟩
abbrev S8x8448x4x128 : Shape := ⟨4, ![8, 8448, 4, 128]⟩
abbrev S8x8448x512 : Shape := ⟨3, ![8, 8448, 512]⟩
abbrev S8x8448x256 : Shape := ⟨3, ![8, 8448, 256]⟩
abbrev S1x256x512 : Shape := ⟨3, ![1, 256, 512]⟩
abbrev S1x8448x512 : Shape := ⟨3, ![1, 8448, 512]⟩
abbrev S1x33x320x256 : Shape := ⟨4, ![1, 33, 320, 256]⟩
abbrev S1x256x256 : Shape := ⟨3, ![1, 256, 256]⟩
abbrev S4x128x256 : Shape := ⟨3, ![4, 128, 256]⟩
abbrev S4x1x256 : Shape := ⟨3, ![4, 1, 256]⟩
abbrev S4x80x256 : Shape := ⟨3, ![4, 80, 256]⟩
abbrev S1x256x128 : Shape := ⟨3, ![1, 256, 128]⟩
abbrev S256x128 : Shape := ⟨2, ![256, 128]⟩
abbrev S128x256 : Shape := ⟨2, ![128, 256]⟩
abbrev S1x128x256 : Shape := ⟨3, ![1, 128, 256]⟩
abbrev S256x256 : Shape := ⟨2, ![256, 256]⟩
abbrev S1x1x256 : Shape := ⟨3, ![1, 1, 256]⟩
abbrev S1x256 : Shape := ⟨2, ![1, 256]⟩
abbrev S256 : Shape := ⟨1, ![256]⟩
abbrev S1x1x80x256 : Shape := ⟨4, ![1, 1, 80, 256]⟩
abbrev S80x256 : Shape := ⟨2, ![80, 256]⟩
abbrev S1x80x256 : Shape := ⟨3, ![1, 80, 256]⟩
abbrev S64x256 : Shape := ⟨2, ![64, 256]⟩

abbrev nBuf : Space → Nat
  | .hbm => 30
  | .vmem => 11
  | .smem => 0
  | _ => 0

abbrev bufTy : (tb : Table) → Fin (tcTables nBuf tb) → BufTy
  | .hbm, ⟨0, _⟩ => ⟨S8x8448x4x96, .f32⟩
  | .hbm, ⟨1, _⟩ => ⟨S8x8448x4x96, .f32⟩
  | .hbm, ⟨2, _⟩ => ⟨S8x8448x4x64, .f32⟩
  | .hbm, ⟨3, _⟩ => ⟨S_, .f32⟩
  | .hbm, ⟨4, _⟩ => ⟨S8x8448x4x32, .f32⟩
  | .hbm, ⟨5, _⟩ => ⟨S8x33x256x4x64, .f32⟩
  | .hbm, ⟨6, _⟩ => ⟨S8x33x4x64x256, .f32⟩
  | .hbm, ⟨7, _⟩ => ⟨S_, .f32⟩
  | .hbm, ⟨8, _⟩ => ⟨S8x33x4x1x256, .f32⟩
  | .hbm, ⟨9, _⟩ => ⟨S_, .f32⟩
  | .hbm, ⟨10, _⟩ => ⟨S8x33x4x15x256, .f32⟩
  | .hbm, ⟨11, _⟩ => ⟨S8x33x4x80x256, .f32⟩
  | .hbm, ⟨12, _⟩ => ⟨S8x33x320x256, .f32⟩
  | .hbm, ⟨13, _⟩ => ⟨S8x33x320x256, .bf16⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S8x8448x4x96, .f32⟩
  | .hbm, ⟨22, _⟩ => ⟨S8x8448x4x96, .f32⟩
  | .hbm, ⟨23, _⟩ => ⟨S8x8448x4x128, .f32⟩
  | .hbm, ⟨24, _⟩ => ⟨S8x8448x512, .f32⟩
  | .hbm, ⟨25, _⟩ => ⟨S8x8448x512, .bf16⟩
  | .hbm, ⟨26, _⟩ => ⟨S8x8448x4x128, .f32⟩
  | .hbm, ⟨27, _⟩ => ⟨S8x8448x512, .f32⟩
  | .hbm, ⟨28, _⟩ => ⟨S8x8448x512, .bf16⟩
  | .hbm, ⟨29, _⟩ => ⟨S8x8448x256, .f32⟩
  | .local _ .vmem, ⟨0, _⟩ => ⟨S1x256x512, .bf16⟩
  | .local _ .vmem, ⟨1, _⟩ => ⟨S1x256x512, .bf16⟩
  | .local _ .vmem, ⟨2, _⟩ => ⟨S1x8448x512, .bf16⟩
  | .local _ .vmem, ⟨3, _⟩ => ⟨S1x8448x512, .bf16⟩
  | .local _ .vmem, ⟨4, _⟩ => ⟨S1x33x320x256, .bf16⟩
  | .local _ .vmem, ⟨5, _⟩ => ⟨S1x33x320x256, .bf16⟩
  | .local _ .vmem, ⟨6, _⟩ => ⟨S1x256x256, .f32⟩
  | .local _ .vmem, ⟨7, _⟩ => ⟨S1x256x256, .f32⟩
  | .local _ .vmem, ⟨8, _⟩ => ⟨S4x128x256, .bf16⟩
  | .local _ .vmem, ⟨9, _⟩ => ⟨S4x1x256, .f32⟩
  | .local _ .vmem, ⟨10, _⟩ => ⟨S4x80x256, .f32⟩
  | _, _ => ⟨S8x8448x4x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_cst_3 : Ref sig .tc := ⟨.hbm, 16, rfl⟩
abbrev main_v9 : Ref sig .tc := ⟨.hbm, 17, rfl⟩
abbrev main_v10 : Ref sig .tc := ⟨.hbm, 18, rfl⟩
abbrev main_cst_4 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 33], ![false, false]⟩

def k0_mult1 (i : grid0.Coords) : BitVec 32 :=
  let c0_i32 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_25 : BitVec 32 := 1#32
  let v42 : BitVec 32 := Scalar.subi v1 c1_i32_25
  let v43 : BitVec 32 := Scalar.minsi c0_i32 v42
  let c256_i32 : BitVec 32 := 256#32
  let v44 : BitVec 32 := Scalar.muli v43 c256_i32
  v44
def k0_off1 (i : grid0.Coords) (c0_i32 : BitVec 32) : Fin 3 → Nat :=
  let c0_26 : Index := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_25 : BitVec 32 := 1#32
  let v42 : BitVec 32 := Scalar.subi v1 c1_i32_25
  let v43 : BitVec 32 := Scalar.minsi c0_i32 v42
  let c256_i32 : BitVec 32 := 256#32
  let v44 : BitVec 32 := Scalar.muli v43 c256_i32
  let v45 : BitVec 32 := v44
  let v46 : Index := Scalar.indexCast v45
  let c0_27 : Index := 0#32
  ![0, v46.toNat, 0]
def k0_mult2 (i : grid0.Coords) : BitVec 32 :=
  let c0_i32_33 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_32 : BitVec 32 := 1#32
  let v52 : BitVec 32 := Scalar.subi v1 c1_i32_32
  let v53 : BitVec 32 := Scalar.minsi c0_i32_33 v52
  let c256_i32_34 : BitVec 32 := 256#32
  let v54 : BitVec 32 := Scalar.muli v53 c256_i32_34
  v54
def k0_off2 (i : grid0.Coords) (c0_i32_33 : BitVec 32) : Fin 3 → Nat :=
  let c0_35 : Index := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_32 : BitVec 32 := 1#32
  let v52 : BitVec 32 := Scalar.subi v1 c1_i32_32
  let v53 : BitVec 32 := Scalar.minsi c0_i32_33 v52
  let c256_i32_34 : BitVec 32 := 256#32
  let v54 : BitVec 32 := Scalar.muli v53 c256_i32_34
  let v55 : BitVec 32 := v54
  let v56 : Index := Scalar.indexCast v55
  let c128_36 : Index := 128#32
  ![0, v56.toNat, 128]
def k0_mult3 (i : grid0.Coords) : BitVec 32 :=
  let c0_i32_42 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_41 : BitVec 32 := 1#32
  let v62 : BitVec 32 := Scalar.subi v1 c1_i32_41
  let v63 : BitVec 32 := Scalar.minsi c0_i32_42 v62
  let c256_i32_43 : BitVec 32 := 256#32
  let v64 : BitVec 32 := Scalar.muli v63 c256_i32_43
  v64
def k0_off3 (i : grid0.Coords) (c0_i32_42 : BitVec 32) : Fin 3 → Nat :=
  let c0_44 : Index := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_41 : BitVec 32 := 1#32
  let v62 : BitVec 32 := Scalar.subi v1 c1_i32_41
  let v63 : BitVec 32 := Scalar.minsi c0_i32_42 v62
  let c256_i32_43 : BitVec 32 := 256#32
  let v64 : BitVec 32 := Scalar.muli v63 c256_i32_43
  let v65 : BitVec 32 := v64
  let v66 : Index := Scalar.indexCast v65
  let c256_45 : Index := 256#32
  ![0, v66.toNat, 256]
def k0_mult4 (i : grid0.Coords) : BitVec 32 :=
  let c0_i32_51 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_50 : BitVec 32 := 1#32
  let v72 : BitVec 32 := Scalar.subi v1 c1_i32_50
  let v73 : BitVec 32 := Scalar.minsi c0_i32_51 v72
  let c256_i32_52 : BitVec 32 := 256#32
  let v74 : BitVec 32 := Scalar.muli v73 c256_i32_52
  v74
def k0_off4 (i : grid0.Coords) (c0_i32_51 : BitVec 32) : Fin 3 → Nat :=
  let c0_53 : Index := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_50 : BitVec 32 := 1#32
  let v72 : BitVec 32 := Scalar.subi v1 c1_i32_50
  let v73 : BitVec 32 := Scalar.minsi c0_i32_51 v72
  let c256_i32_52 : BitVec 32 := 256#32
  let v74 : BitVec 32 := Scalar.muli v73 c256_i32_52
  let v75 : BitVec 32 := v74
  let v76 : Index := Scalar.indexCast v75
  let c384_54 : Index := 384#32
  ![0, v76.toNat, 384]
def k0_mult5 (i : grid0.Coords) : BitVec 32 :=
  let c1_i32_60 : BitVec 32 := 1#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_59 : BitVec 32 := 1#32
  let v82 : BitVec 32 := Scalar.subi v1 c1_i32_59
  let v83 : BitVec 32 := Scalar.minsi c1_i32_60 v82
  let c256_i32_61 : BitVec 32 := 256#32
  let v84 : BitVec 32 := Scalar.muli v83 c256_i32_61
  v84
def k0_mult6 (i : grid0.Coords) : BitVec 32 :=
  let c0_i32_70 : BitVec 32 := 0#32
  let c0_i32_68 : BitVec 32 := 0#32
  let c1_i32_69 : BitVec 32 := 1#32
  let v92 : BitVec 32 := Scalar.muli c0_i32_68 c1_i32_69
  let v93 : BitVec 32 := Scalar.addi c0_i32_70 v92
  let c1_i32_72 : BitVec 32 := 1#32
  let v95 : BitVec 32 := Scalar.addi v93 c1_i32_72
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_73 : BitVec 32 := 1#32
  let v96 : BitVec 32 := Scalar.subi v1 c1_i32_73
  let v97 : BitVec 32 := Scalar.minsi v95 v96
  let c256_i32_74 : BitVec 32 := 256#32
  let v98 : BitVec 32 := Scalar.muli v97 c256_i32_74
  v98
def k0_off5 (i : grid0.Coords) : Fin 3 → Nat :=
  let c0_75 : Index := 0#32
  let c0_i32_70 : BitVec 32 := 0#32
  let c0_i32_68 : BitVec 32 := 0#32
  let c1_i32_69 : BitVec 32 := 1#32
  let v92 : BitVec 32 := Scalar.muli c0_i32_68 c1_i32_69
  let v93 : BitVec 32 := Scalar.addi c0_i32_70 v92
  let c1_i32_72 : BitVec 32 := 1#32
  let v95 : BitVec 32 := Scalar.addi v93 c1_i32_72
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_73 : BitVec 32 := 1#32
  let v96 : BitVec 32 := Scalar.subi v1 c1_i32_73
  let v97 : BitVec 32 := Scalar.minsi v95 v96
  let c256_i32_74 : BitVec 32 := 256#32
  let v98 : BitVec 32 := Scalar.muli v97 c256_i32_74
  let v99 : BitVec 32 := v98
  let v100 : Index := Scalar.indexCast v99
  let c128_76 : Index := 128#32
  ![0, v100.toNat, 128]
def k0_off6 : Fin 4 → Nat :=
  let c0_85 : Index := 0#32
  let c0_i32_70 : BitVec 32 := 0#32
  let c0_i32_68 : BitVec 32 := 0#32
  let c1_i32_69 : BitVec 32 := 1#32
  let v92 : BitVec 32 := Scalar.muli c0_i32_68 c1_i32_69
  let v93 : BitVec 32 := Scalar.addi c0_i32_70 v92
  let c0_i32_71 : BitVec 32 := 0#32
  let v94 : BitVec 32 := Scalar.addi v93 c0_i32_71
  let v115 : Index := Scalar.indexCast v94
  let c0_86 : Index := 0#32
  let c0_87 : Index := 0#32
  ![0, v115.toNat, 0, 0]
def k0_mult7 (i : grid0.Coords) : BitVec 32 :=
  let c0_i32_70 : BitVec 32 := 0#32
  let c0_i32_68 : BitVec 32 := 0#32
  let c1_i32_69 : BitVec 32 := 1#32
  let v92 : BitVec 32 := Scalar.muli c0_i32_68 c1_i32_69
  let v93 : BitVec 32 := Scalar.addi c0_i32_70 v92
  let c1_i32_99 : BitVec 32 := 1#32
  let v133 : BitVec 32 := Scalar.addi v93 c1_i32_99
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_100 : BitVec 32 := 1#32
  let v134 : BitVec 32 := Scalar.subi v1 c1_i32_100
  let v135 : BitVec 32 := Scalar.minsi v133 v134
  let c256_i32_101 : BitVec 32 := 256#32
  let v136 : BitVec 32 := Scalar.muli v135 c256_i32_101
  v136
def k0_off7 (i : grid0.Coords) : Fin 3 → Nat :=
  let c0_102 : Index := 0#32
  let c0_i32_70 : BitVec 32 := 0#32
  let c0_i32_68 : BitVec 32 := 0#32
  let c1_i32_69 : BitVec 32 := 1#32
  let v92 : BitVec 32 := Scalar.muli c0_i32_68 c1_i32_69
  let v93 : BitVec 32 := Scalar.addi c0_i32_70 v92
  let c1_i32_99 : BitVec 32 := 1#32
  let v133 : BitVec 32 := Scalar.addi v93 c1_i32_99
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_100 : BitVec 32 := 1#32
  let v134 : BitVec 32 := Scalar.subi v1 c1_i32_100
  let v135 : BitVec 32 := Scalar.minsi v133 v134
  let c256_i32_101 : BitVec 32 := 256#32
  let v136 : BitVec 32 := Scalar.muli v135 c256_i32_101
  let v137 : BitVec 32 := v136
  let v138 : Index := Scalar.indexCast v137
  let c256_103 : Index := 256#32
  ![0, v138.toNat, 256]
def k0_off8 : Fin 4 → Nat :=
  let c0_112 : Index := 0#32
  let c0_i32_70 : BitVec 32 := 0#32
  let c0_i32_68 : BitVec 32 := 0#32
  let c1_i32_69 : BitVec 32 := 1#32
  let v92 : BitVec 32 := Scalar.muli c0_i32_68 c1_i32_69
  let v93 : BitVec 32 := Scalar.addi c0_i32_70 v92
  let c0_i32_98 : BitVec 32 := 0#32
  let v132 : BitVec 32 := Scalar.addi v93 c0_i32_98
  let v153 : Index := Scalar.indexCast v132
  let c80 : Index := 80#32
  let c0_113 : Index := 0#32
  ![0, v153.toNat, 80, 0]
def k0_mult8 (i : grid0.Coords) : BitVec 32 :=
  let c0_i32_70 : BitVec 32 := 0#32
  let c0_i32_68 : BitVec 32 := 0#32
  let c1_i32_69 : BitVec 32 := 1#32
  let v92 : BitVec 32 := Scalar.muli c0_i32_68 c1_i32_69
  let v93 : BitVec 32 := Scalar.addi c0_i32_70 v92
  let c1_i32_125 : BitVec 32 := 1#32
  let v171 : BitVec 32 := Scalar.addi v93 c1_i32_125
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_126 : BitVec 32 := 1#32
  let v172 : BitVec 32 := Scalar.subi v1 c1_i32_126
  let v173 : BitVec 32 := Scalar.minsi v171 v172
  let c256_i32_127 : BitVec 32 := 256#32
  let v174 : BitVec 32 := Scalar.muli v173 c256_i32_127
  v174
def k0_off9 (i : grid0.Coords) : Fin 3 → Nat :=
  let c0_128 : Index := 0#32
  let c0_i32_70 : BitVec 32 := 0#32
  let c0_i32_68 : BitVec 32 := 0#32
  let c1_i32_69 : BitVec 32 := 1#32
  let v92 : BitVec 32 := Scalar.muli c0_i32_68 c1_i32_69
  let v93 : BitVec 32 := Scalar.addi c0_i32_70 v92
  let c1_i32_125 : BitVec 32 := 1#32
  let v171 : BitVec 32 := Scalar.addi v93 c1_i32_125
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_126 : BitVec 32 := 1#32
  let v172 : BitVec 32 := Scalar.subi v1 c1_i32_126
  let v173 : BitVec 32 := Scalar.minsi v171 v172
  let c256_i32_127 : BitVec 32 := 256#32
  let v174 : BitVec 32 := Scalar.muli v173 c256_i32_127
  let v175 : BitVec 32 := v174
  let v176 : Index := Scalar.indexCast v175
  let c384_129 : Index := 384#32
  ![0, v176.toNat, 384]
def k0_off10 : Fin 4 → Nat :=
  let c0_138 : Index := 0#32
  let c0_i32_70 : BitVec 32 := 0#32
  let c0_i32_68 : BitVec 32 := 0#32
  let c1_i32_69 : BitVec 32 := 1#32
  let v92 : BitVec 32 := Scalar.muli c0_i32_68 c1_i32_69
  let v93 : BitVec 32 := Scalar.addi c0_i32_70 v92
  let c0_i32_124 : BitVec 32 := 0#32
  let v170 : BitVec 32 := Scalar.addi v93 c0_i32_124
  let v191 : Index := Scalar.indexCast v170
  let c160 : Index := 160#32
  let c0_139 : Index := 0#32
  ![0, v191.toNat, 160, 0]
def k0_mult9 (i : grid0.Coords) : BitVec 32 :=
  let c0_i32_70 : BitVec 32 := 0#32
  let c0_i32_68 : BitVec 32 := 0#32
  let c1_i32_69 : BitVec 32 := 1#32
  let v92 : BitVec 32 := Scalar.muli c0_i32_68 c1_i32_69
  let v93 : BitVec 32 := Scalar.addi c0_i32_70 v92
  let c2_i32 : BitVec 32 := 2#32
  let v209 : BitVec 32 := Scalar.addi v93 c2_i32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_151 : BitVec 32 := 1#32
  let v210 : BitVec 32 := Scalar.subi v1 c1_i32_151
  let v211 : BitVec 32 := Scalar.minsi v209 v210
  let c256_i32_152 : BitVec 32 := 256#32
  let v212 : BitVec 32 := Scalar.muli v211 c256_i32_152
  v212
def k0_off11 (i : grid0.Coords) : Fin 3 → Nat :=
  let c0_153 : Index := 0#32
  let c0_i32_70 : BitVec 32 := 0#32
  let c0_i32_68 : BitVec 32 := 0#32
  let c1_i32_69 : BitVec 32 := 1#32
  let v92 : BitVec 32 := Scalar.muli c0_i32_68 c1_i32_69
  let v93 : BitVec 32 := Scalar.addi c0_i32_70 v92
  let c2_i32 : BitVec 32 := 2#32
  let v209 : BitVec 32 := Scalar.addi v93 c2_i32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_151 : BitVec 32 := 1#32
  let v210 : BitVec 32 := Scalar.subi v1 c1_i32_151
  let v211 : BitVec 32 := Scalar.minsi v209 v210
  let c256_i32_152 : BitVec 32 := 256#32
  let v212 : BitVec 32 := Scalar.muli v211 c256_i32_152
  let v213 : BitVec 32 := v212
  let v214 : Index := Scalar.indexCast v213
  let c0_154 : Index := 0#32
  ![0, v214.toNat, 0]
def k0_off12 : Fin 4 → Nat :=
  let c0_163 : Index := 0#32
  let c0_i32_70 : BitVec 32 := 0#32
  let c0_i32_68 : BitVec 32 := 0#32
  let c1_i32_69 : BitVec 32 := 1#32
  let v92 : BitVec 32 := Scalar.muli c0_i32_68 c1_i32_69
  let v93 : BitVec 32 := Scalar.addi c0_i32_70 v92
  let c0_i32_150 : BitVec 32 := 0#32
  let v208 : BitVec 32 := Scalar.addi v93 c0_i32_150
  let v229 : Index := Scalar.indexCast v208
  let c240 : Index := 240#32
  let c0_164 : Index := 0#32
  ![0, v229.toNat, 240, 0]
def k0_mult10 (i : grid0.Coords) : BitVec 32 :=
  let c1_i32_184 : BitVec 32 := 1#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_183 : BitVec 32 := 1#32
  let v264 : BitVec 32 := Scalar.subi v1 c1_i32_183
  let v265 : BitVec 32 := Scalar.minsi c1_i32_184 v264
  let c256_i32_185 : BitVec 32 := 256#32
  let v266 : BitVec 32 := Scalar.muli v265 c256_i32_185
  v266
def k0_mult11 (i : grid0.Coords) : BitVec 32 :=
  let c1_i32_193 : BitVec 32 := 1#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_192 : BitVec 32 := 1#32
  let v274 : BitVec 32 := Scalar.subi v1 c1_i32_192
  let v275 : BitVec 32 := Scalar.minsi c1_i32_193 v274
  let c256_i32_194 : BitVec 32 := 256#32
  let v276 : BitVec 32 := Scalar.muli v275 c256_i32_194
  v276
def k0_mult12 (i : grid0.Coords) : BitVec 32 :=
  let c1_i32_202 : BitVec 32 := 1#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_201 : BitVec 32 := 1#32
  let v284 : BitVec 32 := Scalar.subi v1 c1_i32_201
  let v285 : BitVec 32 := Scalar.minsi c1_i32_202 v284
  let c256_i32_203 : BitVec 32 := 256#32
  let v286 : BitVec 32 := Scalar.muli v285 c256_i32_203
  v286
def k0_mult13 (i : grid0.Coords) : BitVec 32 :=
  let c1_i32_211 : BitVec 32 := 1#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_210 : BitVec 32 := 1#32
  let v294 : BitVec 32 := Scalar.subi v1 c1_i32_210
  let v295 : BitVec 32 := Scalar.minsi c1_i32_211 v294
  let c256_i32_212 : BitVec 32 := 256#32
  let v296 : BitVec 32 := Scalar.muli v295 c256_i32_212
  v296
def k0_mult14 (i : grid0.Coords) : BitVec 32 :=
  let c2_i32_220 : BitVec 32 := 2#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_219 : BitVec 32 := 1#32
  let v304 : BitVec 32 := Scalar.subi v1 c1_i32_219
  let v305 : BitVec 32 := Scalar.minsi c2_i32_220 v304
  let c256_i32_221 : BitVec 32 := 256#32
  let v306 : BitVec 32 := Scalar.muli v305 c256_i32_221
  v306
@[reducible] def k0_t1_loop (i : grid0.Coords) : Scf.Loop 32 :=
  let c0_i32_228 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_176 : BitVec 32 := 1#32
  let v246 : BitVec 32 := Scalar.subi v1 c1_i32_176
  let c0_i32_177 : BitVec 32 := 0#32
  let v248 : BitVec 1 := Scalar.cmpi .sgt v246 c0_i32_177
  let v249 : BitVec 32 := Scalar.extui v248
  let c0_i32_178 : BitVec 32 := 0#32
  let v250 : BitVec 1 := Scalar.cmpi .slt v246 c0_i32_178
  let v251 : BitVec 32 := Scalar.extui v250
  let v252 : BitVec 32 := Scalar.subi v249 v251
  let c32_i32 : BitVec 32 := 32#32
  let c0_i32_179 : BitVec 32 := 0#32
  let v253 : BitVec 1 := Scalar.cmpi .sgt c32_i32 c0_i32_179
  let v254 : BitVec 32 := Scalar.extui v253
  let c0_i32_180 : BitVec 32 := 0#32
  let v255 : BitVec 1 := Scalar.cmpi .slt c32_i32 c0_i32_180
  let v256 : BitVec 32 := Scalar.extui v255
  let v257 : BitVec 32 := Scalar.subi v254 v256
  let v258 : BitVec 1 := Scalar.cmpi .ne v252 v257
  let v259 : BitVec 32 := Scalar.remsi v246 c32_i32
  let c0_i32_181 : BitVec 32 := 0#32
  let v260 : BitVec 1 := Scalar.cmpi .ne v259 c0_i32_181
  let v261 : BitVec 1 := Scalar.andi v258 v260
  let v247 : BitVec 32 := Scalar.divsi v246 c32_i32
  let c1_i32_182 : BitVec 32 := 1#32
  let v262 : BitVec 32 := Scalar.subi v247 c1_i32_182
  let v263 : BitVec 32 := Scalar.select v261 v262 v247
  let v314 : BitVec 32 := Scalar.subi v263 c0_i32_228
  let c1_i32_229 : BitVec 32 := 1#32
  let v316 : BitVec 32 := Scalar.divsi v314 c1_i32_229
  let v317 : BitVec 32 := Scalar.muli v316 c1_i32_229
  let v318 : BitVec 32 := Scalar.addi c0_i32_228 v317
  let c1_i32_230 : BitVec 32 := 1#32
  ⟨c0_i32_228, v318, c1_i32_230⟩
def k0_mult15 (i : grid0.Coords) (k0_t1 : Fin (k0_t1_loop i).trips) : BitVec 32 :=
  let c1_i32_248 : BitVec 32 := 1#32
  let c0_i32_228 : BitVec 32 := 0#32
  let c1_i32_230 : BitVec 32 := 1#32
  let arg9 : BitVec 32 := Scf.iv c0_i32_228 c1_i32_230 k0_t1
  let c32_i32_247 : BitVec 32 := 32#32
  let v350 : BitVec 32 := Scalar.muli arg9 c32_i32_247
  let v351 : BitVec 32 := Scalar.addi c1_i32_248 v350
  let c1_i32_250 : BitVec 32 := 1#32
  let v353 : BitVec 32 := Scalar.addi v351 c1_i32_250
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_251 : BitVec 32 := 1#32
  let v354 : BitVec 32 := Scalar.subi v1 c1_i32_251
  let v355 : BitVec 32 := Scalar.minsi v353 v354
  let c256_i32_252 : BitVec 32 := 256#32
  let v356 : BitVec 32 := Scalar.muli v355 c256_i32_252
  v356
def k0_off13 (i : grid0.Coords) (k0_t1 : Fin (k0_t1_loop i).trips) (c1_i32_250 : BitVec 32) : Fin 3 → Nat :=
  let c0_253 : Index := 0#32
  let c1_i32_248 : BitVec 32 := 1#32
  let c0_i32_228 : BitVec 32 := 0#32
  let c1_i32_230 : BitVec 32 := 1#32
  let arg9 : BitVec 32 := Scf.iv c0_i32_228 c1_i32_230 k0_t1
  let c32_i32_247 : BitVec 32 := 32#32
  let v350 : BitVec 32 := Scalar.muli arg9 c32_i32_247
  let v351 : BitVec 32 := Scalar.addi c1_i32_248 v350
  let v353 : BitVec 32 := Scalar.addi v351 c1_i32_250
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_251 : BitVec 32 := 1#32
  let v354 : BitVec 32 := Scalar.subi v1 c1_i32_251
  let v355 : BitVec 32 := Scalar.minsi v353 v354
  let c256_i32_252 : BitVec 32 := 256#32
  let v356 : BitVec 32 := Scalar.muli v355 c256_i32_252
  let v357 : BitVec 32 := v356
  let v358 : Index := Scalar.indexCast v357
  let c128_254 : Index := 128#32
  ![0, v358.toNat, 128]
def k0_off14 (i : grid0.Coords) (k0_t1 : Fin (k0_t1_loop i).trips) (c0_i32_249 : BitVec 32) : Fin 4 → Nat :=
  let c0_263 : Index := 0#32
  let c1_i32_248 : BitVec 32 := 1#32
  let c0_i32_228 : BitVec 32 := 0#32
  let c1_i32_230 : BitVec 32 := 1#32
  let arg9 : BitVec 32 := Scf.iv c0_i32_228 c1_i32_230 k0_t1
  let c32_i32_247 : BitVec 32 := 32#32
  let v350 : BitVec 32 := Scalar.muli arg9 c32_i32_247
  let v351 : BitVec 32 := Scalar.addi c1_i32_248 v350
  let v352 : BitVec 32 := Scalar.addi v351 c0_i32_249
  let v373 : Index := Scalar.indexCast v352
  let c0_264 : Index := 0#32
  let c0_265 : Index := 0#32
  ![0, v373.toNat, 0, 0]
def k0_mult16 (i : grid0.Coords) (k0_t1 : Fin (k0_t1_loop i).trips) : BitVec 32 :=
  let c1_i32_248 : BitVec 32 := 1#32
  let c0_i32_228 : BitVec 32 := 0#32
  let c1_i32_230 : BitVec 32 := 1#32
  let arg9 : BitVec 32 := Scf.iv c0_i32_228 c1_i32_230 k0_t1
  let c32_i32_247 : BitVec 32 := 32#32
  let v350 : BitVec 32 := Scalar.muli arg9 c32_i32_247
  let v351 : BitVec 32 := Scalar.addi c1_i32_248 v350
  let c1_i32_277 : BitVec 32 := 1#32
  let v391 : BitVec 32 := Scalar.addi v351 c1_i32_277
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_278 : BitVec 32 := 1#32
  let v392 : BitVec 32 := Scalar.subi v1 c1_i32_278
  let v393 : BitVec 32 := Scalar.minsi v391 v392
  let c256_i32_279 : BitVec 32 := 256#32
  let v394 : BitVec 32 := Scalar.muli v393 c256_i32_279
  v394
def k0_off15 (i : grid0.Coords) (k0_t1 : Fin (k0_t1_loop i).trips) (c1_i32_277 : BitVec 32) : Fin 3 → Nat :=
  let c0_280 : Index := 0#32
  let c1_i32_248 : BitVec 32 := 1#32
  let c0_i32_228 : BitVec 32 := 0#32
  let c1_i32_230 : BitVec 32 := 1#32
  let arg9 : BitVec 32 := Scf.iv c0_i32_228 c1_i32_230 k0_t1
  let c32_i32_247 : BitVec 32 := 32#32
  let v350 : BitVec 32 := Scalar.muli arg9 c32_i32_247
  let v351 : BitVec 32 := Scalar.addi c1_i32_248 v350
  let v391 : BitVec 32 := Scalar.addi v351 c1_i32_277
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_278 : BitVec 32 := 1#32
  let v392 : BitVec 32 := Scalar.subi v1 c1_i32_278
  let v393 : BitVec 32 := Scalar.minsi v391 v392
  let c256_i32_279 : BitVec 32 := 256#32
  let v394 : BitVec 32 := Scalar.muli v393 c256_i32_279
  let v395 : BitVec 32 := v394
  let v396 : Index := Scalar.indexCast v395
  let c256_281 : Index := 256#32
  ![0, v396.toNat, 256]
def k0_off16 (i : grid0.Coords) (k0_t1 : Fin (k0_t1_loop i).trips) (c0_i32_276 : BitVec 32) : Fin 4 → Nat :=
  let c0_290 : Index := 0#32
  let c1_i32_248 : BitVec 32 := 1#32
  let c0_i32_228 : BitVec 32 := 0#32
  let c1_i32_230 : BitVec 32 := 1#32
  let arg9 : BitVec 32 := Scf.iv c0_i32_228 c1_i32_230 k0_t1
  let c32_i32_247 : BitVec 32 := 32#32
  let v350 : BitVec 32 := Scalar.muli arg9 c32_i32_247
  let v351 : BitVec 32 := Scalar.addi c1_i32_248 v350
  let v390 : BitVec 32 := Scalar.addi v351 c0_i32_276
  let v411 : Index := Scalar.indexCast v390
  let c80_291 : Index := 80#32
  let c0_292 : Index := 0#32
  ![0, v411.toNat, 80, 0]
def k0_mult17 (i : grid0.Coords) (k0_t1 : Fin (k0_t1_loop i).trips) : BitVec 32 :=
  let c1_i32_248 : BitVec 32 := 1#32
  let c0_i32_228 : BitVec 32 := 0#32
  let c1_i32_230 : BitVec 32 := 1#32
  let arg9 : BitVec 32 := Scf.iv c0_i32_228 c1_i32_230 k0_t1
  let c32_i32_247 : BitVec 32 := 32#32
  let v350 : BitVec 32 := Scalar.muli arg9 c32_i32_247
  let v351 : BitVec 32 := Scalar.addi c1_i32_248 v350
  let c1_i32_304 : BitVec 32 := 1#32
  let v429 : BitVec 32 := Scalar.addi v351 c1_i32_304
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_305 : BitVec 32 := 1#32
  let v430 : BitVec 32 := Scalar.subi v1 c1_i32_305
  let v431 : BitVec 32 := Scalar.minsi v429 v430
  let c256_i32_306 : BitVec 32 := 256#32
  let v432 : BitVec 32 := Scalar.muli v431 c256_i32_306
  v432
def k0_off17 (i : grid0.Coords) (k0_t1 : Fin (k0_t1_loop i).trips) (c1_i32_304 : BitVec 32) : Fin 3 → Nat :=
  let c0_307 : Index := 0#32
  let c1_i32_248 : BitVec 32 := 1#32
  let c0_i32_228 : BitVec 32 := 0#32
  let c1_i32_230 : BitVec 32 := 1#32
  let arg9 : BitVec 32 := Scf.iv c0_i32_228 c1_i32_230 k0_t1
  let c32_i32_247 : BitVec 32 := 32#32
  let v350 : BitVec 32 := Scalar.muli arg9 c32_i32_247
  let v351 : BitVec 32 := Scalar.addi c1_i32_248 v350
  let v429 : BitVec 32 := Scalar.addi v351 c1_i32_304
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_305 : BitVec 32 := 1#32
  let v430 : BitVec 32 := Scalar.subi v1 c1_i32_305
  let v431 : BitVec 32 := Scalar.minsi v429 v430
  let c256_i32_306 : BitVec 32 := 256#32
  let v432 : BitVec 32 := Scalar.muli v431 c256_i32_306
  let v433 : BitVec 32 := v432
  let v434 : Index := Scalar.indexCast v433
  let c384_308 : Index := 384#32
  ![0, v434.toNat, 384]
def k0_off18 (i : grid0.Coords) (k0_t1 : Fin (k0_t1_loop i).trips) (c0_i32_303 : BitVec 32) : Fin 4 → Nat :=
  let c0_317 : Index := 0#32
  let c1_i32_248 : BitVec 32 := 1#32
  let c0_i32_228 : BitVec 32 := 0#32
  let c1_i32_230 : BitVec 32 := 1#32
  let arg9 : BitVec 32 := Scf.iv c0_i32_228 c1_i32_230 k0_t1
  let c32_i32_247 : BitVec 32 := 32#32
  let v350 : BitVec 32 := Scalar.muli arg9 c32_i32_247
  let v351 : BitVec 32 := Scalar.addi c1_i32_248 v350
  let v428 : BitVec 32 := Scalar.addi v351 c0_i32_303
  let v449 : Index := Scalar.indexCast v428
  let c160_318 : Index := 160#32
  let c0_319 : Index := 0#32
  ![0, v449.toNat, 160, 0]
def k0_mult18 (i : grid0.Coords) (k0_t1 : Fin (k0_t1_loop i).trips) : BitVec 32 :=
  let c1_i32_248 : BitVec 32 := 1#32
  let c0_i32_228 : BitVec 32 := 0#32
  let c1_i32_230 : BitVec 32 := 1#32
  let arg9 : BitVec 32 := Scf.iv c0_i32_228 c1_i32_230 k0_t1
  let c32_i32_247 : BitVec 32 := 32#32
  let v350 : BitVec 32 := Scalar.muli arg9 c32_i32_247
  let v351 : BitVec 32 := Scalar.addi c1_i32_248 v350
  let c2_i32_331 : BitVec 32 := 2#32
  let v467 : BitVec 32 := Scalar.addi v351 c2_i32_331
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_332 : BitVec 32 := 1#32
  let v468 : BitVec 32 := Scalar.subi v1 c1_i32_332
  let v469 : BitVec 32 := Scalar.minsi v467 v468
  let c256_i32_333 : BitVec 32 := 256#32
  let v470 : BitVec 32 := Scalar.muli v469 c256_i32_333
  v470
def k0_off19 (i : grid0.Coords) (k0_t1 : Fin (k0_t1_loop i).trips) (c2_i32_331 : BitVec 32) : Fin 3 → Nat :=
  let c0_334 : Index := 0#32
  let c1_i32_248 : BitVec 32 := 1#32
  let c0_i32_228 : BitVec 32 := 0#32
  let c1_i32_230 : BitVec 32 := 1#32
  let arg9 : BitVec 32 := Scf.iv c0_i32_228 c1_i32_230 k0_t1
  let c32_i32_247 : BitVec 32 := 32#32
  let v350 : BitVec 32 := Scalar.muli arg9 c32_i32_247
  let v351 : BitVec 32 := Scalar.addi c1_i32_248 v350
  let v467 : BitVec 32 := Scalar.addi v351 c2_i32_331
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_332 : BitVec 32 := 1#32
  let v468 : BitVec 32 := Scalar.subi v1 c1_i32_332
  let v469 : BitVec 32 := Scalar.minsi v467 v468
  let c256_i32_333 : BitVec 32 := 256#32
  let v470 : BitVec 32 := Scalar.muli v469 c256_i32_333
  let v471 : BitVec 32 := v470
  let v472 : Index := Scalar.indexCast v471
  let c0_335 : Index := 0#32
  ![0, v472.toNat, 0]
def k0_off20 (i : grid0.Coords) (k0_t1 : Fin (k0_t1_loop i).trips) (c0_i32_330 : BitVec 32) : Fin 4 → Nat :=
  let c0_344 : Index := 0#32
  let c1_i32_248 : BitVec 32 := 1#32
  let c0_i32_228 : BitVec 32 := 0#32
  let c1_i32_230 : BitVec 32 := 1#32
  let arg9 : BitVec 32 := Scf.iv c0_i32_228 c1_i32_230 k0_t1
  let c32_i32_247 : BitVec 32 := 32#32
  let v350 : BitVec 32 := Scalar.muli arg9 c32_i32_247
  let v351 : BitVec 32 := Scalar.addi c1_i32_248 v350
  let v466 : BitVec 32 := Scalar.addi v351 c0_i32_330
  let v487 : Index := Scalar.indexCast v466
  let c240_345 : Index := 240#32
  let c0_346 : Index := 0#32
  ![0, v487.toNat, 240, 0]
def k0_mult19 (i : grid0.Coords) (k0_t1 : Fin (k0_t1_loop i).trips) : BitVec 32 :=
  let c1_i32_248 : BitVec 32 := 1#32
  let c0_i32_228 : BitVec 32 := 0#32
  let c1_i32_230 : BitVec 32 := 1#32
  let arg9 : BitVec 32 := Scf.iv c0_i32_228 c1_i32_230 k0_t1
  let c32_i32_247 : BitVec 32 := 32#32
  let v350 : BitVec 32 := Scalar.muli arg9 c32_i32_247
  let v351 : BitVec 32 := Scalar.addi c1_i32_248 v350
  let c2_i32_358 : BitVec 32 := 2#32
  let v505 : BitVec 32 := Scalar.addi v351 c2_i32_358
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_359 : BitVec 32 := 1#32
  let v506 : BitVec 32 := Scalar.subi v1 c1_i32_359
  let v507 : BitVec 32 := Scalar.minsi v505 v506
  let c256_i32_360 : BitVec 32 := 256#32
  let v508 : BitVec 32 := Scalar.muli v507 c256_i32_360
  v508
def k0_mult20 (i : grid0.Coords) (k0_t1 : Fin (k0_t1_loop i).trips) : BitVec 32 :=
  let c1_i32_248 : BitVec 32 := 1#32
  let c0_i32_228 : BitVec 32 := 0#32
  let c1_i32_230 : BitVec 32 := 1#32
  let arg9 : BitVec 32 := Scf.iv c0_i32_228 c1_i32_230 k0_t1
  let c32_i32_247 : BitVec 32 := 32#32
  let v350 : BitVec 32 := Scalar.muli arg9 c32_i32_247
  let v351 : BitVec 32 := Scalar.addi c1_i32_248 v350
  let c2_i32_385 : BitVec 32 := 2#32
  let v543 : BitVec 32 := Scalar.addi v351 c2_i32_385
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_386 : BitVec 32 := 1#32
  let v544 : BitVec 32 := Scalar.subi v1 c1_i32_386
  let v545 : BitVec 32 := Scalar.minsi v543 v544
  let c256_i32_387 : BitVec 32 := 256#32
  let v546 : BitVec 32 := Scalar.muli v545 c256_i32_387
  v546
def k0_mult21 (i : grid0.Coords) (k0_t1 : Fin (k0_t1_loop i).trips) : BitVec 32 :=
  let c1_i32_248 : BitVec 32 := 1#32
  let c0_i32_228 : BitVec 32 := 0#32
  let c1_i32_230 : BitVec 32 := 1#32
  let arg9 : BitVec 32 := Scf.iv c0_i32_228 c1_i32_230 k0_t1
  let c32_i32_247 : BitVec 32 := 32#32
  let v350 : BitVec 32 := Scalar.muli arg9 c32_i32_247
  let v351 : BitVec 32 := Scalar.addi c1_i32_248 v350
  let c2_i32_412 : BitVec 32 := 2#32
  let v581 : BitVec 32 := Scalar.addi v351 c2_i32_412
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_413 : BitVec 32 := 1#32
  let v582 : BitVec 32 := Scalar.subi v1 c1_i32_413
  let v583 : BitVec 32 := Scalar.minsi v581 v582
  let c256_i32_414 : BitVec 32 := 256#32
  let v584 : BitVec 32 := Scalar.muli v583 c256_i32_414
  v584
def k0_mult22 (i : grid0.Coords) (k0_t1 : Fin (k0_t1_loop i).trips) : BitVec 32 :=
  let c1_i32_248 : BitVec 32 := 1#32
  let c0_i32_228 : BitVec 32 := 0#32
  let c1_i32_230 : BitVec 32 := 1#32
  let arg9 : BitVec 32 := Scf.iv c0_i32_228 c1_i32_230 k0_t1
  let c32_i32_247 : BitVec 32 := 32#32
  let v350 : BitVec 32 := Scalar.muli arg9 c32_i32_247
  let v351 : BitVec 32 := Scalar.addi c1_i32_248 v350
  let c3_i32 : BitVec 32 := 3#32
  let v619 : BitVec 32 := Scalar.addi v351 c3_i32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_439 : BitVec 32 := 1#32
  let v620 : BitVec 32 := Scalar.subi v1 c1_i32_439
  let v621 : BitVec 32 := Scalar.minsi v619 v620
  let c256_i32_440 : BitVec 32 := 256#32
  let v622 : BitVec 32 := Scalar.muli v621 c256_i32_440
  v622
def k0_mult23 (i : grid0.Coords) (k0_t1 : Fin (k0_t1_loop i).trips) : BitVec 32 :=
  let c1_i32_248 : BitVec 32 := 1#32
  let c0_i32_228 : BitVec 32 := 0#32
  let c1_i32_230 : BitVec 32 := 1#32
  let arg9 : BitVec 32 := Scf.iv c0_i32_228 c1_i32_230 k0_t1
  let c32_i32_247 : BitVec 32 := 32#32
  let v350 : BitVec 32 := Scalar.muli arg9 c32_i32_247
  let v351 : BitVec 32 := Scalar.addi c1_i32_248 v350
  let c3_i32_465 : BitVec 32 := 3#32
  let v657 : BitVec 32 := Scalar.addi v351 c3_i32_465
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_466 : BitVec 32 := 1#32
  let v658 : BitVec 32 := Scalar.subi v1 c1_i32_466
  let v659 : BitVec 32 := Scalar.minsi v657 v658
  let c256_i32_467 : BitVec 32 := 256#32
  let v660 : BitVec 32 := Scalar.muli v659 c256_i32_467
  v660
def k0_mult24 (i : grid0.Coords) (k0_t1 : Fin (k0_t1_loop i).trips) : BitVec 32 :=
  let c1_i32_248 : BitVec 32 := 1#32
  let c0_i32_228 : BitVec 32 := 0#32
  let c1_i32_230 : BitVec 32 := 1#32
  let arg9 : BitVec 32 := Scf.iv c0_i32_228 c1_i32_230 k0_t1
  let c32_i32_247 : BitVec 32 := 32#32
  let v350 : BitVec 32 := Scalar.muli arg9 c32_i32_247
  let v351 : BitVec 32 := Scalar.addi c1_i32_248 v350
  let c3_i32_492 : BitVec 32 := 3#32
  let v695 : BitVec 32 := Scalar.addi v351 c3_i32_492
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_493 : BitVec 32 := 1#32
  let v696 : BitVec 32 := Scalar.subi v1 c1_i32_493
  let v697 : BitVec 32 := Scalar.minsi v695 v696
  let c256_i32_494 : BitVec 32 := 256#32
  let v698 : BitVec 32 := Scalar.muli v697 c256_i32_494
  v698
def k0_mult25 (i : grid0.Coords) (k0_t1 : Fin (k0_t1_loop i).trips) : BitVec 32 :=
  let c1_i32_248 : BitVec 32 := 1#32
  let c0_i32_228 : BitVec 32 := 0#32
  let c1_i32_230 : BitVec 32 := 1#32
  let arg9 : BitVec 32 := Scf.iv c0_i32_228 c1_i32_230 k0_t1
  let c32_i32_247 : BitVec 32 := 32#32
  let v350 : BitVec 32 := Scalar.muli arg9 c32_i32_247
  let v351 : BitVec 32 := Scalar.addi c1_i32_248 v350
  let c3_i32_519 : BitVec 32 := 3#32
  let v733 : BitVec 32 := Scalar.addi v351 c3_i32_519
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_520 : BitVec 32 := 1#32
  let v734 : BitVec 32 := Scalar.subi v1 c1_i32_520
  let v735 : BitVec 32 := Scalar.minsi v733 v734
  let c256_i32_521 : BitVec 32 := 256#32
  let v736 : BitVec 32 := Scalar.muli v735 c256_i32_521
  v736
def k0_mult26 (i : grid0.Coords) (k0_t1 : Fin (k0_t1_loop i).trips) : BitVec 32 :=
  let c1_i32_248 : BitVec 32 := 1#32
  let c0_i32_228 : BitVec 32 := 0#32
  let c1_i32_230 : BitVec 32 := 1#32
  let arg9 : BitVec 32 := Scf.iv c0_i32_228 c1_i32_230 k0_t1
  let c32_i32_247 : BitVec 32 := 32#32
  let v350 : BitVec 32 := Scalar.muli arg9 c32_i32_247
  let v351 : BitVec 32 := Scalar.addi c1_i32_248 v350
  let c4_i32 : BitVec 32 := 4#32
  let v771 : BitVec 32 := Scalar.addi v351 c4_i32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_546 : BitVec 32 := 1#32
  let v772 : BitVec 32 := Scalar.subi v1 c1_i32_546
  let v773 : BitVec 32 := Scalar.minsi v771 v772
  let c256_i32_547 : BitVec 32 := 256#32
  let v774 : BitVec 32 := Scalar.muli v773 c256_i32_547
  v774
def k0_mult27 (i : grid0.Coords) (k0_t1 : Fin (k0_t1_loop i).trips) : BitVec 32 :=
  let c1_i32_248 : BitVec 32 := 1#32
  let c0_i32_228 : BitVec 32 := 0#32
  let c1_i32_230 : BitVec 32 := 1#32
  let arg9 : BitVec 32 := Scf.iv c0_i32_228 c1_i32_230 k0_t1
  let c32_i32_247 : BitVec 32 := 32#32
  let v350 : BitVec 32 := Scalar.muli arg9 c32_i32_247
  let v351 : BitVec 32 := Scalar.addi c1_i32_248 v350
  let c4_i32_572 : BitVec 32 := 4#32
  let v809 : BitVec 32 := Scalar.addi v351 c4_i32_572
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_573 : BitVec 32 := 1#32
  let v810 : BitVec 32 := Scalar.subi v1 c1_i32_573
  let v811 : BitVec 32 := Scalar.minsi v809 v810
  let c256_i32_574 : BitVec 32 := 256#32
  let v812 : BitVec 32 := Scalar.muli v811 c256_i32_574
  v812
def k0_mult28 (i : grid0.Coords) (k0_t1 : Fin (k0_t1_loop i).trips) : BitVec 32 :=
  let c1_i32_248 : BitVec 32 := 1#32
  let c0_i32_228 : BitVec 32 := 0#32
  let c1_i32_230 : BitVec 32 := 1#32
  let arg9 : BitVec 32 := Scf.iv c0_i32_228 c1_i32_230 k0_t1
  let c32_i32_247 : BitVec 32 := 32#32
  let v350 : BitVec 32 := Scalar.muli arg9 c32_i32_247
  let v351 : BitVec 32 := Scalar.addi c1_i32_248 v350
  let c4_i32_599 : BitVec 32 := 4#32
  let v847 : BitVec 32 := Scalar.addi v351 c4_i32_599
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_600 : BitVec 32 := 1#32
  let v848 : BitVec 32 := Scalar.subi v1 c1_i32_600
  let v849 : BitVec 32 := Scalar.minsi v847 v848
  let c256_i32_601 : BitVec 32 := 256#32
  let v850 : BitVec 32 := Scalar.muli v849 c256_i32_601
  v850
def k0_mult29 (i : grid0.Coords) (k0_t1 : Fin (k0_t1_loop i).trips) : BitVec 32 :=
  let c1_i32_248 : BitVec 32 := 1#32
  let c0_i32_228 : BitVec 32 := 0#32
  let c1_i32_230 : BitVec 32 := 1#32
  let arg9 : BitVec 32 := Scf.iv c0_i32_228 c1_i32_230 k0_t1
  let c32_i32_247 : BitVec 32 := 32#32
  let v350 : BitVec 32 := Scalar.muli arg9 c32_i32_247
  let v351 : BitVec 32 := Scalar.addi c1_i32_248 v350
  let c4_i32_626 : BitVec 32 := 4#32
  let v885 : BitVec 32 := Scalar.addi v351 c4_i32_626
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_627 : BitVec 32 := 1#32
  let v886 : BitVec 32 := Scalar.subi v1 c1_i32_627
  let v887 : BitVec 32 := Scalar.minsi v885 v886
  let c256_i32_628 : BitVec 32 := 256#32
  let v888 : BitVec 32 := Scalar.muli v887 c256_i32_628
  v888
def k0_mult30 (i : grid0.Coords) (k0_t1 : Fin (k0_t1_loop i).trips) : BitVec 32 :=
  let c1_i32_248 : BitVec 32 := 1#32
  let c0_i32_228 : BitVec 32 := 0#32
  let c1_i32_230 : BitVec 32 := 1#32
  let arg9 : BitVec 32 := Scf.iv c0_i32_228 c1_i32_230 k0_t1
  let c32_i32_247 : BitVec 32 := 32#32
  let v350 : BitVec 32 := Scalar.muli arg9 c32_i32_247
  let v351 : BitVec 32 := Scalar.addi c1_i32_248 v350
  let c5_i32 : BitVec 32 := 5#32
  let v923 : BitVec 32 := Scalar.addi v351 c5_i32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_653 : BitVec 32 := 1#32
  let v924 : BitVec 32 := Scalar.subi v1 c1_i32_653
  let v925 : BitVec 32 := Scalar.minsi v923 v924
  let c256_i32_654 : BitVec 32 := 256#32
  let v926 : BitVec 32 := Scalar.muli v925 c256_i32_654
  v926
def k0_mult31 (i : grid0.Coords) (k0_t1 : Fin (k0_t1_loop i).trips) : BitVec 32 :=
  let c1_i32_248 : BitVec 32 := 1#32
  let c0_i32_228 : BitVec 32 := 0#32
  let c1_i32_230 : BitVec 32 := 1#32
  let arg9 : BitVec 32 := Scf.iv c0_i32_228 c1_i32_230 k0_t1
  let c32_i32_247 : BitVec 32 := 32#32
  let v350 : BitVec 32 := Scalar.muli arg9 c32_i32_247
  let v351 : BitVec 32 := Scalar.addi c1_i32_248 v350
  let c5_i32_679 : BitVec 32 := 5#32
  let v961 : BitVec 32 := Scalar.addi v351 c5_i32_679
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_680 : BitVec 32 := 1#32
  let v962 : BitVec 32 := Scalar.subi v1 c1_i32_680
  let v963 : BitVec 32 := Scalar.minsi v961 v962
  let c256_i32_681 : BitVec 32 := 256#32
  let v964 : BitVec 32 := Scalar.muli v963 c256_i32_681
  v964
def k0_mult32 (i : grid0.Coords) (k0_t1 : Fin (k0_t1_loop i).trips) : BitVec 32 :=
  let c1_i32_248 : BitVec 32 := 1#32
  let c0_i32_228 : BitVec 32 := 0#32
  let c1_i32_230 : BitVec 32 := 1#32
  let arg9 : BitVec 32 := Scf.iv c0_i32_228 c1_i32_230 k0_t1
  let c32_i32_247 : BitVec 32 := 32#32
  let v350 : BitVec 32 := Scalar.muli arg9 c32_i32_247
  let v351 : BitVec 32 := Scalar.addi c1_i32_248 v350
  let c5_i32_706 : BitVec 32 := 5#32
  let v999 : BitVec 32 := Scalar.addi v351 c5_i32_706
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_707 : BitVec 32 := 1#32
  let v1000 : BitVec 32 := Scalar.subi v1 c1_i32_707
  let v1001 : BitVec 32 := Scalar.minsi v999 v1000
  let c256_i32_708 : BitVec 32 := 256#32
  let v1002 : BitVec 32 := Scalar.muli v1001 c256_i32_708
  v1002
def k0_mult33 (i : grid0.Coords) (k0_t1 : Fin (k0_t1_loop i).trips) : BitVec 32 :=
  let c1_i32_248 : BitVec 32 := 1#32
  let c0_i32_228 : BitVec 32 := 0#32
  let c1_i32_230 : BitVec 32 := 1#32
  let arg9 : BitVec 32 := Scf.iv c0_i32_228 c1_i32_230 k0_t1
  let c32_i32_247 : BitVec 32 := 32#32
  let v350 : BitVec 32 := Scalar.muli arg9 c32_i32_247
  let v351 : BitVec 32 := Scalar.addi c1_i32_248 v350
  let c5_i32_733 : BitVec 32 := 5#32
  let v1037 : BitVec 32 := Scalar.addi v351 c5_i32_733
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_734 : BitVec 32 := 1#32
  let v1038 : BitVec 32 := Scalar.subi v1 c1_i32_734
  let v1039 : BitVec 32 := Scalar.minsi v1037 v1038
  let c256_i32_735 : BitVec 32 := 256#32
  let v1040 : BitVec 32 := Scalar.muli v1039 c256_i32_735
  v1040
def k0_mult34 (i : grid0.Coords) (k0_t1 : Fin (k0_t1_loop i).trips) : BitVec 32 :=
  let c1_i32_248 : BitVec 32 := 1#32
  let c0_i32_228 : BitVec 32 := 0#32
  let c1_i32_230 : BitVec 32 := 1#32
  let arg9 : BitVec 32 := Scf.iv c0_i32_228 c1_i32_230 k0_t1
  let c32_i32_247 : BitVec 32 := 32#32
  let v350 : BitVec 32 := Scalar.muli arg9 c32_i32_247
  let v351 : BitVec 32 := Scalar.addi c1_i32_248 v350
  let c6_i32 : BitVec 32 := 6#32
  let v1075 : BitVec 32 := Scalar.addi v351 c6_i32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_760 : BitVec 32 := 1#32
  let v1076 : BitVec 32 := Scalar.subi v1 c1_i32_760
  let v1077 : BitVec 32 := Scalar.minsi v1075 v1076
  let c256_i32_761 : BitVec 32 := 256#32
  let v1078 : BitVec 32 := Scalar.muli v1077 c256_i32_761
  v1078
def k0_mult35 (i : grid0.Coords) (k0_t1 : Fin (k0_t1_loop i).trips) : BitVec 32 :=
  let c1_i32_248 : BitVec 32 := 1#32
  let c0_i32_228 : BitVec 32 := 0#32
  let c1_i32_230 : BitVec 32 := 1#32
  let arg9 : BitVec 32 := Scf.iv c0_i32_228 c1_i32_230 k0_t1
  let c32_i32_247 : BitVec 32 := 32#32
  let v350 : BitVec 32 := Scalar.muli arg9 c32_i32_247
  let v351 : BitVec 32 := Scalar.addi c1_i32_248 v350
  let c6_i32_786 : BitVec 32 := 6#32
  let v1113 : BitVec 32 := Scalar.addi v351 c6_i32_786
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_787 : BitVec 32 := 1#32
  let v1114 : BitVec 32 := Scalar.subi v1 c1_i32_787
  let v1115 : BitVec 32 := Scalar.minsi v1113 v1114
  let c256_i32_788 : BitVec 32 := 256#32
  let v1116 : BitVec 32 := Scalar.muli v1115 c256_i32_788
  v1116
def k0_mult36 (i : grid0.Coords) (k0_t1 : Fin (k0_t1_loop i).trips) : BitVec 32 :=
  let c1_i32_248 : BitVec 32 := 1#32
  let c0_i32_228 : BitVec 32 := 0#32
  let c1_i32_230 : BitVec 32 := 1#32
  let arg9 : BitVec 32 := Scf.iv c0_i32_228 c1_i32_230 k0_t1
  let c32_i32_247 : BitVec 32 := 32#32
  let v350 : BitVec 32 := Scalar.muli arg9 c32_i32_247
  let v351 : BitVec 32 := Scalar.addi c1_i32_248 v350
  let c6_i32_813 : BitVec 32 := 6#32
  let v1151 : BitVec 32 := Scalar.addi v351 c6_i32_813
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_814 : BitVec 32 := 1#32
  let v1152 : BitVec 32 := Scalar.subi v1 c1_i32_814
  let v1153 : BitVec 32 := Scalar.minsi v1151 v1152
  let c256_i32_815 : BitVec 32 := 256#32
  let v1154 : BitVec 32 := Scalar.muli v1153 c256_i32_815
  v1154
def k0_mult37 (i : grid0.Coords) (k0_t1 : Fin (k0_t1_loop i).trips) : BitVec 32 :=
  let c1_i32_248 : BitVec 32 := 1#32
  let c0_i32_228 : BitVec 32 := 0#32
  let c1_i32_230 : BitVec 32 := 1#32
  let arg9 : BitVec 32 := Scf.iv c0_i32_228 c1_i32_230 k0_t1
  let c32_i32_247 : BitVec 32 := 32#32
  let v350 : BitVec 32 := Scalar.muli arg9 c32_i32_247
  let v351 : BitVec 32 := Scalar.addi c1_i32_248 v350
  let c6_i32_840 : BitVec 32 := 6#32
  let v1189 : BitVec 32 := Scalar.addi v351 c6_i32_840
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_841 : BitVec 32 := 1#32
  let v1190 : BitVec 32 := Scalar.subi v1 c1_i32_841
  let v1191 : BitVec 32 := Scalar.minsi v1189 v1190
  let c256_i32_842 : BitVec 32 := 256#32
  let v1192 : BitVec 32 := Scalar.muli v1191 c256_i32_842
  v1192
def k0_mult38 (i : grid0.Coords) (k0_t1 : Fin (k0_t1_loop i).trips) : BitVec 32 :=
  let c1_i32_248 : BitVec 32 := 1#32
  let c0_i32_228 : BitVec 32 := 0#32
  let c1_i32_230 : BitVec 32 := 1#32
  let arg9 : BitVec 32 := Scf.iv c0_i32_228 c1_i32_230 k0_t1
  let c32_i32_247 : BitVec 32 := 32#32
  let v350 : BitVec 32 := Scalar.muli arg9 c32_i32_247
  let v351 : BitVec 32 := Scalar.addi c1_i32_248 v350
  let c7_i32 : BitVec 32 := 7#32
  let v1227 : BitVec 32 := Scalar.addi v351 c7_i32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_867 : BitVec 32 := 1#32
  let v1228 : BitVec 32 := Scalar.subi v1 c1_i32_867
  let v1229 : BitVec 32 := Scalar.minsi v1227 v1228
  let c256_i32_868 : BitVec 32 := 256#32
  let v1230 : BitVec 32 := Scalar.muli v1229 c256_i32_868
  v1230
def k0_mult39 (i : grid0.Coords) (k0_t1 : Fin (k0_t1_loop i).trips) : BitVec 32 :=
  let c1_i32_248 : BitVec 32 := 1#32
  let c0_i32_228 : BitVec 32 := 0#32
  let c1_i32_230 : BitVec 32 := 1#32
  let arg9 : BitVec 32 := Scf.iv c0_i32_228 c1_i32_230 k0_t1
  let c32_i32_247 : BitVec 32 := 32#32
  let v350 : BitVec 32 := Scalar.muli arg9 c32_i32_247
  let v351 : BitVec 32 := Scalar.addi c1_i32_248 v350
  let c7_i32_893 : BitVec 32 := 7#32
  let v1265 : BitVec 32 := Scalar.addi v351 c7_i32_893
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_894 : BitVec 32 := 1#32
  let v1266 : BitVec 32 := Scalar.subi v1 c1_i32_894
  let v1267 : BitVec 32 := Scalar.minsi v1265 v1266
  let c256_i32_895 : BitVec 32 := 256#32
  let v1268 : BitVec 32 := Scalar.muli v1267 c256_i32_895
  v1268
def k0_mult40 (i : grid0.Coords) (k0_t1 : Fin (k0_t1_loop i).trips) : BitVec 32 :=
  let c1_i32_248 : BitVec 32 := 1#32
  let c0_i32_228 : BitVec 32 := 0#32
  let c1_i32_230 : BitVec 32 := 1#32
  let arg9 : BitVec 32 := Scf.iv c0_i32_228 c1_i32_230 k0_t1
  let c32_i32_247 : BitVec 32 := 32#32
  let v350 : BitVec 32 := Scalar.muli arg9 c32_i32_247
  let v351 : BitVec 32 := Scalar.addi c1_i32_248 v350
  let c7_i32_920 : BitVec 32 := 7#32
  let v1303 : BitVec 32 := Scalar.addi v351 c7_i32_920
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_921 : BitVec 32 := 1#32
  let v1304 : BitVec 32 := Scalar.subi v1 c1_i32_921
  let v1305 : BitVec 32 := Scalar.minsi v1303 v1304
  let c256_i32_922 : BitVec 32 := 256#32
  let v1306 : BitVec 32 := Scalar.muli v1305 c256_i32_922
  v1306
def k0_mult41 (i : grid0.Coords) (k0_t1 : Fin (k0_t1_loop i).trips) : BitVec 32 :=
  let c1_i32_248 : BitVec 32 := 1#32
  let c0_i32_228 : BitVec 32 := 0#32
  let c1_i32_230 : BitVec 32 := 1#32
  let arg9 : BitVec 32 := Scf.iv c0_i32_228 c1_i32_230 k0_t1
  let c32_i32_247 : BitVec 32 := 32#32
  let v350 : BitVec 32 := Scalar.muli arg9 c32_i32_247
  let v351 : BitVec 32 := Scalar.addi c1_i32_248 v350
  let c7_i32_947 : BitVec 32 := 7#32
  let v1341 : BitVec 32 := Scalar.addi v351 c7_i32_947
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_948 : BitVec 32 := 1#32
  let v1342 : BitVec 32 := Scalar.subi v1 c1_i32_948
  let v1343 : BitVec 32 := Scalar.minsi v1341 v1342
  let c256_i32_949 : BitVec 32 := 256#32
  let v1344 : BitVec 32 := Scalar.muli v1343 c256_i32_949
  v1344
def k0_mult42 (i : grid0.Coords) (k0_t1 : Fin (k0_t1_loop i).trips) : BitVec 32 :=
  let c1_i32_248 : BitVec 32 := 1#32
  let c0_i32_228 : BitVec 32 := 0#32
  let c1_i32_230 : BitVec 32 := 1#32
  let arg9 : BitVec 32 := Scf.iv c0_i32_228 c1_i32_230 k0_t1
  let c32_i32_247 : BitVec 32 := 32#32
  let v350 : BitVec 32 := Scalar.muli arg9 c32_i32_247
  let v351 : BitVec 32 := Scalar.addi c1_i32_248 v350
  let c8_i32 : BitVec 32 := 8#32
  let v1379 : BitVec 32 := Scalar.addi v351 c8_i32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_974 : BitVec 32 := 1#32
  let v1380 : BitVec 32 := Scalar.subi v1 c1_i32_974
  let v1381 : BitVec 32 := Scalar.minsi v1379 v1380
  let c256_i32_975 : BitVec 32 := 256#32
  let v1382 : BitVec 32 := Scalar.muli v1381 c256_i32_975
  v1382
def k0_mult43 (i : grid0.Coords) (k0_t1 : Fin (k0_t1_loop i).trips) : BitVec 32 :=
  let c1_i32_248 : BitVec 32 := 1#32
  let c0_i32_228 : BitVec 32 := 0#32
  let c1_i32_230 : BitVec 32 := 1#32
  let arg9 : BitVec 32 := Scf.iv c0_i32_228 c1_i32_230 k0_t1
  let c32_i32_247 : BitVec 32 := 32#32
  let v350 : BitVec 32 := Scalar.muli arg9 c32_i32_247
  let v351 : BitVec 32 := Scalar.addi c1_i32_248 v350
  let c8_i32_1000 : BitVec 32 := 8#32
  let v1417 : BitVec 32 := Scalar.addi v351 c8_i32_1000
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_1001 : BitVec 32 := 1#32
  let v1418 : BitVec 32 := Scalar.subi v1 c1_i32_1001
  let v1419 : BitVec 32 := Scalar.minsi v1417 v1418
  let c256_i32_1002 : BitVec 32 := 256#32
  let v1420 : BitVec 32 := Scalar.muli v1419 c256_i32_1002
  v1420
def k0_mult44 (i : grid0.Coords) (k0_t1 : Fin (k0_t1_loop i).trips) : BitVec 32 :=
  let c1_i32_248 : BitVec 32 := 1#32
  let c0_i32_228 : BitVec 32 := 0#32
  let c1_i32_230 : BitVec 32 := 1#32
  let arg9 : BitVec 32 := Scf.iv c0_i32_228 c1_i32_230 k0_t1
  let c32_i32_247 : BitVec 32 := 32#32
  let v350 : BitVec 32 := Scalar.muli arg9 c32_i32_247
  let v351 : BitVec 32 := Scalar.addi c1_i32_248 v350
  let c8_i32_1027 : BitVec 32 := 8#32
  let v1455 : BitVec 32 := Scalar.addi v351 c8_i32_1027
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_1028 : BitVec 32 := 1#32
  let v1456 : BitVec 32 := Scalar.subi v1 c1_i32_1028
  let v1457 : BitVec 32 := Scalar.minsi v1455 v1456
  let c256_i32_1029 : BitVec 32 := 256#32
  let v1458 : BitVec 32 := Scalar.muli v1457 c256_i32_1029
  v1458
def k0_mult45 (i : grid0.Coords) (k0_t1 : Fin (k0_t1_loop i).trips) : BitVec 32 :=
  let c1_i32_248 : BitVec 32 := 1#32
  let c0_i32_228 : BitVec 32 := 0#32
  let c1_i32_230 : BitVec 32 := 1#32
  let arg9 : BitVec 32 := Scf.iv c0_i32_228 c1_i32_230 k0_t1
  let c32_i32_247 : BitVec 32 := 32#32
  let v350 : BitVec 32 := Scalar.muli arg9 c32_i32_247
  let v351 : BitVec 32 := Scalar.addi c1_i32_248 v350
  let c8_i32_1054 : BitVec 32 := 8#32
  let v1493 : BitVec 32 := Scalar.addi v351 c8_i32_1054
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_1055 : BitVec 32 := 1#32
  let v1494 : BitVec 32 := Scalar.subi v1 c1_i32_1055
  let v1495 : BitVec 32 := Scalar.minsi v1493 v1494
  let c256_i32_1056 : BitVec 32 := 256#32
  let v1496 : BitVec 32 := Scalar.muli v1495 c256_i32_1056
  v1496
def k0_mult46 (i : grid0.Coords) (k0_t1 : Fin (k0_t1_loop i).trips) : BitVec 32 :=
  let c1_i32_248 : BitVec 32 := 1#32
  let c0_i32_228 : BitVec 32 := 0#32
  let c1_i32_230 : BitVec 32 := 1#32
  let arg9 : BitVec 32 := Scf.iv c0_i32_228 c1_i32_230 k0_t1
  let c32_i32_247 : BitVec 32 := 32#32
  let v350 : BitVec 32 := Scalar.muli arg9 c32_i32_247
  let v351 : BitVec 32 := Scalar.addi c1_i32_248 v350
  let c9_i32 : BitVec 32 := 9#32
  let v1531 : BitVec 32 := Scalar.addi v351 c9_i32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_1081 : BitVec 32 := 1#32
  let v1532 : BitVec 32 := Scalar.subi v1 c1_i32_1081
  let v1533 : BitVec 32 := Scalar.minsi v1531 v1532
  let c256_i32_1082 : BitVec 32 := 256#32
  let v1534 : BitVec 32 := Scalar.muli v1533 c256_i32_1082
  v1534
def k0_mult47 (i : grid0.Coords) (k0_t1 : Fin (k0_t1_loop i).trips) : BitVec 32 :=
  let c1_i32_248 : BitVec 32 := 1#32
  let c0_i32_228 : BitVec 32 := 0#32
  let c1_i32_230 : BitVec 32 := 1#32
  let arg9 : BitVec 32 := Scf.iv c0_i32_228 c1_i32_230 k0_t1
  let c32_i32_247 : BitVec 32 := 32#32
  let v350 : BitVec 32 := Scalar.muli arg9 c32_i32_247
  let v351 : BitVec 32 := Scalar.addi c1_i32_248 v350
  let c9_i32_1107 : BitVec 32 := 9#32
  let v1569 : BitVec 32 := Scalar.addi v351 c9_i32_1107
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_1108 : BitVec 32 := 1#32
  let v1570 : BitVec 32 := Scalar.subi v1 c1_i32_1108
  let v1571 : BitVec 32 := Scalar.minsi v1569 v1570
  let c256_i32_1109 : BitVec 32 := 256#32
  let v1572 : BitVec 32 := Scalar.muli v1571 c256_i32_1109
  v1572
def k0_mult48 (i : grid0.Coords) (k0_t1 : Fin (k0_t1_loop i).trips) : BitVec 32 :=
  let c1_i32_248 : BitVec 32 := 1#32
  let c0_i32_228 : BitVec 32 := 0#32
  let c1_i32_230 : BitVec 32 := 1#32
  let arg9 : BitVec 32 := Scf.iv c0_i32_228 c1_i32_230 k0_t1
  let c32_i32_247 : BitVec 32 := 32#32
  let v350 : BitVec 32 := Scalar.muli arg9 c32_i32_247
  let v351 : BitVec 32 := Scalar.addi c1_i32_248 v350
  let c9_i32_1134 : BitVec 32 := 9#32
  let v1607 : BitVec 32 := Scalar.addi v351 c9_i32_1134
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_1135 : BitVec 32 := 1#32
  let v1608 : BitVec 32 := Scalar.subi v1 c1_i32_1135
  let v1609 : BitVec 32 := Scalar.minsi v1607 v1608
  let c256_i32_1136 : BitVec 32 := 256#32
  let v1610 : BitVec 32 := Scalar.muli v1609 c256_i32_1136
  v1610
def k0_mult49 (i : grid0.Coords) (k0_t1 : Fin (k0_t1_loop i).trips) : BitVec 32 :=
  let c1_i32_248 : BitVec 32 := 1#32
  let c0_i32_228 : BitVec 32 := 0#32
  let c1_i32_230 : BitVec 32 := 1#32
  let arg9 : BitVec 32 := Scf.iv c0_i32_228 c1_i32_230 k0_t1
  let c32_i32_247 : BitVec 32 := 32#32
  let v350 : BitVec 32 := Scalar.muli arg9 c32_i32_247
  let v351 : BitVec 32 := Scalar.addi c1_i32_248 v350
  let c9_i32_1161 : BitVec 32 := 9#32
  let v1645 : BitVec 32 := Scalar.addi v351 c9_i32_1161
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_1162 : BitVec 32 := 1#32
  let v1646 : BitVec 32 := Scalar.subi v1 c1_i32_1162
  let v1647 : BitVec 32 := Scalar.minsi v1645 v1646
  let c256_i32_1163 : BitVec 32 := 256#32
  let v1648 : BitVec 32 := Scalar.muli v1647 c256_i32_1163
  v1648
def k0_mult50 (i : grid0.Coords) (k0_t1 : Fin (k0_t1_loop i).trips) : BitVec 32 :=
  let c1_i32_248 : BitVec 32 := 1#32
  let c0_i32_228 : BitVec 32 := 0#32
  let c1_i32_230 : BitVec 32 := 1#32
  let arg9 : BitVec 32 := Scf.iv c0_i32_228 c1_i32_230 k0_t1
  let c32_i32_247 : BitVec 32 := 32#32
  let v350 : BitVec 32 := Scalar.muli arg9 c32_i32_247
  let v351 : BitVec 32 := Scalar.addi c1_i32_248 v350
  let c10_i32 : BitVec 32 := 10#32
  let v1683 : BitVec 32 := Scalar.addi v351 c10_i32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_1188 : BitVec 32 := 1#32
  let v1684 : BitVec 32 := Scalar.subi v1 c1_i32_1188
  let v1685 : BitVec 32 := Scalar.minsi v1683 v1684
  let c256_i32_1189 : BitVec 32 := 256#32
  let v1686 : BitVec 32 := Scalar.muli v1685 c256_i32_1189
  v1686
def k0_mult51 (i : grid0.Coords) (k0_t1 : Fin (k0_t1_loop i).trips) : BitVec 32 :=
  let c1_i32_248 : BitVec 32 := 1#32
  let c0_i32_228 : BitVec 32 := 0#32
  let c1_i32_230 : BitVec 32 := 1#32
  let arg9 : BitVec 32 := Scf.iv c0_i32_228 c1_i32_230 k0_t1
  let c32_i32_247 : BitVec 32 := 32#32
  let v350 : BitVec 32 := Scalar.muli arg9 c32_i32_247
  let v351 : BitVec 32 := Scalar.addi c1_i32_248 v350
  let c10_i32_1214 : BitVec 32 := 10#32
  let v1721 : BitVec 32 := Scalar.addi v351 c10_i32_1214
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_1215 : BitVec 32 := 1#32
  let v1722 : BitVec 32 := Scalar.subi v1 c1_i32_1215
  let v1723 : BitVec 32 := Scalar.minsi v1721 v1722
  let c256_i32_1216 : BitVec 32 := 256#32
  let v1724 : BitVec 32 := Scalar.muli v1723 c256_i32_1216
  v1724
def k0_mult52 (i : grid0.Coords) (k0_t1 : Fin (k0_t1_loop i).trips) : BitVec 32 :=
  let c1_i32_248 : BitVec 32 := 1#32
  let c0_i32_228 : BitVec 32 := 0#32
  let c1_i32_230 : BitVec 32 := 1#32
  let arg9 : BitVec 32 := Scf.iv c0_i32_228 c1_i32_230 k0_t1
  let c32_i32_247 : BitVec 32 := 32#32
  let v350 : BitVec 32 := Scalar.muli arg9 c32_i32_247
  let v351 : BitVec 32 := Scalar.addi c1_i32_248 v350
  let c10_i32_1241 : BitVec 32 := 10#32
  let v1759 : BitVec 32 := Scalar.addi v351 c10_i32_1241
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_1242 : BitVec 32 := 1#32
  let v1760 : BitVec 32 := Scalar.subi v1 c1_i32_1242
  let v1761 : BitVec 32 := Scalar.minsi v1759 v1760
  let c256_i32_1243 : BitVec 32 := 256#32
  let v1762 : BitVec 32 := Scalar.muli v1761 c256_i32_1243
  v1762
def k0_mult53 (i : grid0.Coords) (k0_t1 : Fin (k0_t1_loop i).trips) : BitVec 32 :=
  let c1_i32_248 : BitVec 32 := 1#32
  let c0_i32_228 : BitVec 32 := 0#32
  let c1_i32_230 : BitVec 32 := 1#32
  let arg9 : BitVec 32 := Scf.iv c0_i32_228 c1_i32_230 k0_t1
  let c32_i32_247 : BitVec 32 := 32#32
  let v350 : BitVec 32 := Scalar.muli arg9 c32_i32_247
  let v351 : BitVec 32 := Scalar.addi c1_i32_248 v350
  let c10_i32_1268 : BitVec 32 := 10#32
  let v1797 : BitVec 32 := Scalar.addi v351 c10_i32_1268
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_1269 : BitVec 32 := 1#32
  let v1798 : BitVec 32 := Scalar.subi v1 c1_i32_1269
  let v1799 : BitVec 32 := Scalar.minsi v1797 v1798
  let c256_i32_1270 : BitVec 32 := 256#32
  let v1800 : BitVec 32 := Scalar.muli v1799 c256_i32_1270
  v1800
def k0_mult54 (i : grid0.Coords) (k0_t1 : Fin (k0_t1_loop i).trips) : BitVec 32 :=
  let c1_i32_248 : BitVec 32 := 1#32
  let c0_i32_228 : BitVec 32 := 0#32
  let c1_i32_230 : BitVec 32 := 1#32
  let arg9 : BitVec 32 := Scf.iv c0_i32_228 c1_i32_230 k0_t1
  let c32_i32_247 : BitVec 32 := 32#32
  let v350 : BitVec 32 := Scalar.muli arg9 c32_i32_247
  let v351 : BitVec 32 := Scalar.addi c1_i32_248 v350
  let c11_i32 : BitVec 32 := 11#32
  let v1835 : BitVec 32 := Scalar.addi v351 c11_i32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_1295 : BitVec 32 := 1#32
  let v1836 : BitVec 32 := Scalar.subi v1 c1_i32_1295
  let v1837 : BitVec 32 := Scalar.minsi v1835 v1836
  let c256_i32_1296 : BitVec 32 := 256#32
  let v1838 : BitVec 32 := Scalar.muli v1837 c256_i32_1296
  v1838
def k0_mult55 (i : grid0.Coords) (k0_t1 : Fin (k0_t1_loop i).trips) : BitVec 32 :=
  let c1_i32_248 : BitVec 32 := 1#32
  let c0_i32_228 : BitVec 32 := 0#32
  let c1_i32_230 : BitVec 32 := 1#32
  let arg9 : BitVec 32 := Scf.iv c0_i32_228 c1_i32_230 k0_t1
  let c32_i32_247 : BitVec 32 := 32#32
  let v350 : BitVec 32 := Scalar.muli arg9 c32_i32_247
  let v351 : BitVec 32 := Scalar.addi c1_i32_248 v350
  let c11_i32_1321 : BitVec 32 := 11#32
  let v1873 : BitVec 32 := Scalar.addi v351 c11_i32_1321
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_1322 : BitVec 32 := 1#32
  let v1874 : BitVec 32 := Scalar.subi v1 c1_i32_1322
  let v1875 : BitVec 32 := Scalar.minsi v1873 v1874
  let c256_i32_1323 : BitVec 32 := 256#32
  let v1876 : BitVec 32 := Scalar.muli v1875 c256_i32_1323
  v1876
def k0_mult56 (i : grid0.Coords) (k0_t1 : Fin (k0_t1_loop i).trips) : BitVec 32 :=
  let c1_i32_248 : BitVec 32 := 1#32
  let c0_i32_228 : BitVec 32 := 0#32
  let c1_i32_230 : BitVec 32 := 1#32
  let arg9 : BitVec 32 := Scf.iv c0_i32_228 c1_i32_230 k0_t1
  let c32_i32_247 : BitVec 32 := 32#32
  let v350 : BitVec 32 := Scalar.muli arg9 c32_i32_247
  let v351 : BitVec 32 := Scalar.addi c1_i32_248 v350
  let c11_i32_1348 : BitVec 32 := 11#32
  let v1911 : BitVec 32 := Scalar.addi v351 c11_i32_1348
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_1349 : BitVec 32 := 1#32
  let v1912 : BitVec 32 := Scalar.subi v1 c1_i32_1349
  let v1913 : BitVec 32 := Scalar.minsi v1911 v1912
  let c256_i32_1350 : BitVec 32 := 256#32
  let v1914 : BitVec 32 := Scalar.muli v1913 c256_i32_1350
  v1914
def k0_mult57 (i : grid0.Coords) (k0_t1 : Fin (k0_t1_loop i).trips) : BitVec 32 :=
  let c1_i32_248 : BitVec 32 := 1#32
  let c0_i32_228 : BitVec 32 := 0#32
  let c1_i32_230 : BitVec 32 := 1#32
  let arg9 : BitVec 32 := Scf.iv c0_i32_228 c1_i32_230 k0_t1
  let c32_i32_247 : BitVec 32 := 32#32
  let v350 : BitVec 32 := Scalar.muli arg9 c32_i32_247
  let v351 : BitVec 32 := Scalar.addi c1_i32_248 v350
  let c11_i32_1375 : BitVec 32 := 11#32
  let v1949 : BitVec 32 := Scalar.addi v351 c11_i32_1375
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_1376 : BitVec 32 := 1#32
  let v1950 : BitVec 32 := Scalar.subi v1 c1_i32_1376
  let v1951 : BitVec 32 := Scalar.minsi v1949 v1950
  let c256_i32_1377 : BitVec 32 := 256#32
  let v1952 : BitVec 32 := Scalar.muli v1951 c256_i32_1377
  v1952
def k0_mult58 (i : grid0.Coords) (k0_t1 : Fin (k0_t1_loop i).trips) : BitVec 32 :=
  let c1_i32_248 : BitVec 32 := 1#32
  let c0_i32_228 : BitVec 32 := 0#32
  let c1_i32_230 : BitVec 32 := 1#32
  let arg9 : BitVec 32 := Scf.iv c0_i32_228 c1_i32_230 k0_t1
  let c32_i32_247 : BitVec 32 := 32#32
  let v350 : BitVec 32 := Scalar.muli arg9 c32_i32_247
  let v351 : BitVec 32 := Scalar.addi c1_i32_248 v350
  let c12_i32 : BitVec 32 := 12#32
  let v1987 : BitVec 32 := Scalar.addi v351 c12_i32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_1402 : BitVec 32 := 1#32
  let v1988 : BitVec 32 := Scalar.subi v1 c1_i32_1402
  let v1989 : BitVec 32 := Scalar.minsi v1987 v1988
  let c256_i32_1403 : BitVec 32 := 256#32
  let v1990 : BitVec 32 := Scalar.muli v1989 c256_i32_1403
  v1990
def k0_mult59 (i : grid0.Coords) (k0_t1 : Fin (k0_t1_loop i).trips) : BitVec 32 :=
  let c1_i32_248 : BitVec 32 := 1#32
  let c0_i32_228 : BitVec 32 := 0#32
  let c1_i32_230 : BitVec 32 := 1#32
  let arg9 : BitVec 32 := Scf.iv c0_i32_228 c1_i32_230 k0_t1
  let c32_i32_247 : BitVec 32 := 32#32
  let v350 : BitVec 32 := Scalar.muli arg9 c32_i32_247
  let v351 : BitVec 32 := Scalar.addi c1_i32_248 v350
  let c12_i32_1428 : BitVec 32 := 12#32
  let v2025 : BitVec 32 := Scalar.addi v351 c12_i32_1428
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_1429 : BitVec 32 := 1#32
  let v2026 : BitVec 32 := Scalar.subi v1 c1_i32_1429
  let v2027 : BitVec 32 := Scalar.minsi v2025 v2026
  let c256_i32_1430 : BitVec 32 := 256#32
  let v2028 : BitVec 32 := Scalar.muli v2027 c256_i32_1430
  v2028
def k0_mult60 (i : grid0.Coords) (k0_t1 : Fin (k0_t1_loop i).trips) : BitVec 32 :=
  let c1_i32_248 : BitVec 32 := 1#32
  let c0_i32_228 : BitVec 32 := 0#32
  let c1_i32_230 : BitVec 32 := 1#32
  let arg9 : BitVec 32 := Scf.iv c0_i32_228 c1_i32_230 k0_t1
  let c32_i32_247 : BitVec 32 := 32#32
  let v350 : BitVec 32 := Scalar.muli arg9 c32_i32_247
  let v351 : BitVec 32 := Scalar.addi c1_i32_248 v350
  let c12_i32_1455 : BitVec 32 := 12#32
  let v2063 : BitVec 32 := Scalar.addi v351 c12_i32_1455
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_1456 : BitVec 32 := 1#32
  let v2064 : BitVec 32 := Scalar.subi v1 c1_i32_1456
  let v2065 : BitVec 32 := Scalar.minsi v2063 v2064
  let c256_i32_1457 : BitVec 32 := 256#32
  let v2066 : BitVec 32 := Scalar.muli v2065 c256_i32_1457
  v2066
def k0_mult61 (i : grid0.Coords) (k0_t1 : Fin (k0_t1_loop i).trips) : BitVec 32 :=
  let c1_i32_248 : BitVec 32 := 1#32
  let c0_i32_228 : BitVec 32 := 0#32
  let c1_i32_230 : BitVec 32 := 1#32
  let arg9 : BitVec 32 := Scf.iv c0_i32_228 c1_i32_230 k0_t1
  let c32_i32_247 : BitVec 32 := 32#32
  let v350 : BitVec 32 := Scalar.muli arg9 c32_i32_247
  let v351 : BitVec 32 := Scalar.addi c1_i32_248 v350
  let c12_i32_1482 : BitVec 32 := 12#32
  let v2101 : BitVec 32 := Scalar.addi v351 c12_i32_1482
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_1483 : BitVec 32 := 1#32
  let v2102 : BitVec 32 := Scalar.subi v1 c1_i32_1483
  let v2103 : BitVec 32 := Scalar.minsi v2101 v2102
  let c256_i32_1484 : BitVec 32 := 256#32
  let v2104 : BitVec 32 := Scalar.muli v2103 c256_i32_1484
  v2104
def k0_mult62 (i : grid0.Coords) (k0_t1 : Fin (k0_t1_loop i).trips) : BitVec 32 :=
  let c1_i32_248 : BitVec 32 := 1#32
  let c0_i32_228 : BitVec 32 := 0#32
  let c1_i32_230 : BitVec 32 := 1#32
  let arg9 : BitVec 32 := Scf.iv c0_i32_228 c1_i32_230 k0_t1
  let c32_i32_247 : BitVec 32 := 32#32
  let v350 : BitVec 32 := Scalar.muli arg9 c32_i32_247
  let v351 : BitVec 32 := Scalar.addi c1_i32_248 v350
  let c13_i32 : BitVec 32 := 13#32
  let v2139 : BitVec 32 := Scalar.addi v351 c13_i32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_1509 : BitVec 32 := 1#32
  let v2140 : BitVec 32 := Scalar.subi v1 c1_i32_1509
  let v2141 : BitVec 32 := Scalar.minsi v2139 v2140
  let c256_i32_1510 : BitVec 32 := 256#32
  let v2142 : BitVec 32 := Scalar.muli v2141 c256_i32_1510
  v2142
def k0_mult63 (i : grid0.Coords) (k0_t1 : Fin (k0_t1_loop i).trips) : BitVec 32 :=
  let c1_i32_248 : BitVec 32 := 1#32
  let c0_i32_228 : BitVec 32 := 0#32
  let c1_i32_230 : BitVec 32 := 1#32
  let arg9 : BitVec 32 := Scf.iv c0_i32_228 c1_i32_230 k0_t1
  let c32_i32_247 : BitVec 32 := 32#32
  let v350 : BitVec 32 := Scalar.muli arg9 c32_i32_247
  let v351 : BitVec 32 := Scalar.addi c1_i32_248 v350
  let c13_i32_1535 : BitVec 32 := 13#32
  let v2177 : BitVec 32 := Scalar.addi v351 c13_i32_1535
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_1536 : BitVec 32 := 1#32
  let v2178 : BitVec 32 := Scalar.subi v1 c1_i32_1536
  let v2179 : BitVec 32 := Scalar.minsi v2177 v2178
  let c256_i32_1537 : BitVec 32 := 256#32
  let v2180 : BitVec 32 := Scalar.muli v2179 c256_i32_1537
  v2180
def k0_mult64 (i : grid0.Coords) (k0_t1 : Fin (k0_t1_loop i).trips) : BitVec 32 :=
  let c1_i32_248 : BitVec 32 := 1#32
  let c0_i32_228 : BitVec 32 := 0#32
  let c1_i32_230 : BitVec 32 := 1#32
  let arg9 : BitVec 32 := Scf.iv c0_i32_228 c1_i32_230 k0_t1
  let c32_i32_247 : BitVec 32 := 32#32
  let v350 : BitVec 32 := Scalar.muli arg9 c32_i32_247
  let v351 : BitVec 32 := Scalar.addi c1_i32_248 v350
  let c13_i32_1562 : BitVec 32 := 13#32
  let v2215 : BitVec 32 := Scalar.addi v351 c13_i32_1562
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_1563 : BitVec 32 := 1#32
  let v2216 : BitVec 32 := Scalar.subi v1 c1_i32_1563
  let v2217 : BitVec 32 := Scalar.minsi v2215 v2216
  let c256_i32_1564 : BitVec 32 := 256#32
  let v2218 : BitVec 32 := Scalar.muli v2217 c256_i32_1564
  v2218
def k0_mult65 (i : grid0.Coords) (k0_t1 : Fin (k0_t1_loop i).trips) : BitVec 32 :=
  let c1_i32_248 : BitVec 32 := 1#32
  let c0_i32_228 : BitVec 32 := 0#32
  let c1_i32_230 : BitVec 32 := 1#32
  let arg9 : BitVec 32 := Scf.iv c0_i32_228 c1_i32_230 k0_t1
  let c32_i32_247 : BitVec 32 := 32#32
  let v350 : BitVec 32 := Scalar.muli arg9 c32_i32_247
  let v351 : BitVec 32 := Scalar.addi c1_i32_248 v350
  let c13_i32_1589 : BitVec 32 := 13#32
  let v2253 : BitVec 32 := Scalar.addi v351 c13_i32_1589
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_1590 : BitVec 32 := 1#32
  let v2254 : BitVec 32 := Scalar.subi v1 c1_i32_1590
  let v2255 : BitVec 32 := Scalar.minsi v2253 v2254
  let c256_i32_1591 : BitVec 32 := 256#32
  let v2256 : BitVec 32 := Scalar.muli v2255 c256_i32_1591
  v2256
def k0_mult66 (i : grid0.Coords) (k0_t1 : Fin (k0_t1_loop i).trips) : BitVec 32 :=
  let c1_i32_248 : BitVec 32 := 1#32
  let c0_i32_228 : BitVec 32 := 0#32
  let c1_i32_230 : BitVec 32 := 1#32
  let arg9 : BitVec 32 := Scf.iv c0_i32_228 c1_i32_230 k0_t1
  let c32_i32_247 : BitVec 32 := 32#32
  let v350 : BitVec 32 := Scalar.muli arg9 c32_i32_247
  let v351 : BitVec 32 := Scalar.addi c1_i32_248 v350
  let c14_i32 : BitVec 32 := 14#32
  let v2291 : BitVec 32 := Scalar.addi v351 c14_i32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_1616 : BitVec 32 := 1#32
  let v2292 : BitVec 32 := Scalar.subi v1 c1_i32_1616
  let v2293 : BitVec 32 := Scalar.minsi v2291 v2292
  let c256_i32_1617 : BitVec 32 := 256#32
  let v2294 : BitVec 32 := Scalar.muli v2293 c256_i32_1617
  v2294
def k0_mult67 (i : grid0.Coords) (k0_t1 : Fin (k0_t1_loop i).trips) : BitVec 32 :=
  let c1_i32_248 : BitVec 32 := 1#32
  let c0_i32_228 : BitVec 32 := 0#32
  let c1_i32_230 : BitVec 32 := 1#32
  let arg9 : BitVec 32 := Scf.iv c0_i32_228 c1_i32_230 k0_t1
  let c32_i32_247 : BitVec 32 := 32#32
  let v350 : BitVec 32 := Scalar.muli arg9 c32_i32_247
  let v351 : BitVec 32 := Scalar.addi c1_i32_248 v350
  let c14_i32_1642 : BitVec 32 := 14#32
  let v2329 : BitVec 32 := Scalar.addi v351 c14_i32_1642
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_1643 : BitVec 32 := 1#32
  let v2330 : BitVec 32 := Scalar.subi v1 c1_i32_1643
  let v2331 : BitVec 32 := Scalar.minsi v2329 v2330
  let c256_i32_1644 : BitVec 32 := 256#32
  let v2332 : BitVec 32 := Scalar.muli v2331 c256_i32_1644
  v2332
def k0_mult68 (i : grid0.Coords) (k0_t1 : Fin (k0_t1_loop i).trips) : BitVec 32 :=
  let c1_i32_248 : BitVec 32 := 1#32
  let c0_i32_228 : BitVec 32 := 0#32
  let c1_i32_230 : BitVec 32 := 1#32
  let arg9 : BitVec 32 := Scf.iv c0_i32_228 c1_i32_230 k0_t1
  let c32_i32_247 : BitVec 32 := 32#32
  let v350 : BitVec 32 := Scalar.muli arg9 c32_i32_247
  let v351 : BitVec 32 := Scalar.addi c1_i32_248 v350
  let c14_i32_1669 : BitVec 32 := 14#32
  let v2367 : BitVec 32 := Scalar.addi v351 c14_i32_1669
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_1670 : BitVec 32 := 1#32
  let v2368 : BitVec 32 := Scalar.subi v1 c1_i32_1670
  let v2369 : BitVec 32 := Scalar.minsi v2367 v2368
  let c256_i32_1671 : BitVec 32 := 256#32
  let v2370 : BitVec 32 := Scalar.muli v2369 c256_i32_1671
  v2370
def k0_mult69 (i : grid0.Coords) (k0_t1 : Fin (k0_t1_loop i).trips) : BitVec 32 :=
  let c1_i32_248 : BitVec 32 := 1#32
  let c0_i32_228 : BitVec 32 := 0#32
  let c1_i32_230 : BitVec 32 := 1#32
  let arg9 : BitVec 32 := Scf.iv c0_i32_228 c1_i32_230 k0_t1
  let c32_i32_247 : BitVec 32 := 32#32
  let v350 : BitVec 32 := Scalar.muli arg9 c32_i32_247
  let v351 : BitVec 32 := Scalar.addi c1_i32_248 v350
  let c14_i32_1696 : BitVec 32 := 14#32
  let v2405 : BitVec 32 := Scalar.addi v351 c14_i32_1696
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_1697 : BitVec 32 := 1#32
  let v2406 : BitVec 32 := Scalar.subi v1 c1_i32_1697
  let v2407 : BitVec 32 := Scalar.minsi v2405 v2406
  let c256_i32_1698 : BitVec 32 := 256#32
  let v2408 : BitVec 32 := Scalar.muli v2407 c256_i32_1698
  v2408
def k0_mult70 (i : grid0.Coords) (k0_t1 : Fin (k0_t1_loop i).trips) : BitVec 32 :=
  let c1_i32_248 : BitVec 32 := 1#32
  let c0_i32_228 : BitVec 32 := 0#32
  let c1_i32_230 : BitVec 32 := 1#32
  let arg9 : BitVec 32 := Scf.iv c0_i32_228 c1_i32_230 k0_t1
  let c32_i32_247 : BitVec 32 := 32#32
  let v350 : BitVec 32 := Scalar.muli arg9 c32_i32_247
  let v351 : BitVec 32 := Scalar.addi c1_i32_248 v350
  let c15_i32 : BitVec 32 := 15#32
  let v2443 : BitVec 32 := Scalar.addi v351 c15_i32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_1723 : BitVec 32 := 1#32
  let v2444 : BitVec 32 := Scalar.subi v1 c1_i32_1723
  let v2445 : BitVec 32 := Scalar.minsi v2443 v2444
  let c256_i32_1724 : BitVec 32 := 256#32
  let v2446 : BitVec 32 := Scalar.muli v2445 c256_i32_1724
  v2446
def k0_mult71 (i : grid0.Coords) (k0_t1 : Fin (k0_t1_loop i).trips) : BitVec 32 :=
  let c1_i32_248 : BitVec 32 := 1#32
  let c0_i32_228 : BitVec 32 := 0#32
  let c1_i32_230 : BitVec 32 := 1#32
  let arg9 : BitVec 32 := Scf.iv c0_i32_228 c1_i32_230 k0_t1
  let c32_i32_247 : BitVec 32 := 32#32
  let v350 : BitVec 32 := Scalar.muli arg9 c32_i32_247
  let v351 : BitVec 32 := Scalar.addi c1_i32_248 v350
  let c15_i32_1749 : BitVec 32 := 15#32
  let v2481 : BitVec 32 := Scalar.addi v351 c15_i32_1749
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_1750 : BitVec 32 := 1#32
  let v2482 : BitVec 32 := Scalar.subi v1 c1_i32_1750
  let v2483 : BitVec 32 := Scalar.minsi v2481 v2482
  let c256_i32_1751 : BitVec 32 := 256#32
  let v2484 : BitVec 32 := Scalar.muli v2483 c256_i32_1751
  v2484
def k0_mult72 (i : grid0.Coords) (k0_t1 : Fin (k0_t1_loop i).trips) : BitVec 32 :=
  let c1_i32_248 : BitVec 32 := 1#32
  let c0_i32_228 : BitVec 32 := 0#32
  let c1_i32_230 : BitVec 32 := 1#32
  let arg9 : BitVec 32 := Scf.iv c0_i32_228 c1_i32_230 k0_t1
  let c32_i32_247 : BitVec 32 := 32#32
  let v350 : BitVec 32 := Scalar.muli arg9 c32_i32_247
  let v351 : BitVec 32 := Scalar.addi c1_i32_248 v350
  let c15_i32_1776 : BitVec 32 := 15#32
  let v2519 : BitVec 32 := Scalar.addi v351 c15_i32_1776
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_1777 : BitVec 32 := 1#32
  let v2520 : BitVec 32 := Scalar.subi v1 c1_i32_1777
  let v2521 : BitVec 32 := Scalar.minsi v2519 v2520
  let c256_i32_1778 : BitVec 32 := 256#32
  let v2522 : BitVec 32 := Scalar.muli v2521 c256_i32_1778
  v2522
def k0_mult73 (i : grid0.Coords) (k0_t1 : Fin (k0_t1_loop i).trips) : BitVec 32 :=
  let c1_i32_248 : BitVec 32 := 1#32
  let c0_i32_228 : BitVec 32 := 0#32
  let c1_i32_230 : BitVec 32 := 1#32
  let arg9 : BitVec 32 := Scf.iv c0_i32_228 c1_i32_230 k0_t1
  let c32_i32_247 : BitVec 32 := 32#32
  let v350 : BitVec 32 := Scalar.muli arg9 c32_i32_247
  let v351 : BitVec 32 := Scalar.addi c1_i32_248 v350
  let c15_i32_1803 : BitVec 32 := 15#32
  let v2557 : BitVec 32 := Scalar.addi v351 c15_i32_1803
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_1804 : BitVec 32 := 1#32
  let v2558 : BitVec 32 := Scalar.subi v1 c1_i32_1804
  let v2559 : BitVec 32 := Scalar.minsi v2557 v2558
  let c256_i32_1805 : BitVec 32 := 256#32
  let v2560 : BitVec 32 := Scalar.muli v2559 c256_i32_1805
  v2560
def k0_mult74 (i : grid0.Coords) (k0_t1 : Fin (k0_t1_loop i).trips) : BitVec 32 :=
  let c1_i32_248 : BitVec 32 := 1#32
  let c0_i32_228 : BitVec 32 := 0#32
  let c1_i32_230 : BitVec 32 := 1#32
  let arg9 : BitVec 32 := Scf.iv c0_i32_228 c1_i32_230 k0_t1
  let c32_i32_247 : BitVec 32 := 32#32
  let v350 : BitVec 32 := Scalar.muli arg9 c32_i32_247
  let v351 : BitVec 32 := Scalar.addi c1_i32_248 v350
  let c16_i32 : BitVec 32 := 16#32
  let v2595 : BitVec 32 := Scalar.addi v351 c16_i32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_1830 : BitVec 32 := 1#32
  let v2596 : BitVec 32 := Scalar.subi v1 c1_i32_1830
  let v2597 : BitVec 32 := Scalar.minsi v2595 v2596
  let c256_i32_1831 : BitVec 32 := 256#32
  let v2598 : BitVec 32 := Scalar.muli v2597 c256_i32_1831
  v2598
def k0_mult75 (i : grid0.Coords) (k0_t1 : Fin (k0_t1_loop i).trips) : BitVec 32 :=
  let c1_i32_248 : BitVec 32 := 1#32
  let c0_i32_228 : BitVec 32 := 0#32
  let c1_i32_230 : BitVec 32 := 1#32
  let arg9 : BitVec 32 := Scf.iv c0_i32_228 c1_i32_230 k0_t1
  let c32_i32_247 : BitVec 32 := 32#32
  let v350 : BitVec 32 := Scalar.muli arg9 c32_i32_247
  let v351 : BitVec 32 := Scalar.addi c1_i32_248 v350
  let c16_i32_1856 : BitVec 32 := 16#32
  let v2633 : BitVec 32 := Scalar.addi v351 c16_i32_1856
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_1857 : BitVec 32 := 1#32
  let v2634 : BitVec 32 := Scalar.subi v1 c1_i32_1857
  let v2635 : BitVec 32 := Scalar.minsi v2633 v2634
  let c256_i32_1858 : BitVec 32 := 256#32
  let v2636 : BitVec 32 := Scalar.muli v2635 c256_i32_1858
  v2636
def k0_mult76 (i : grid0.Coords) (k0_t1 : Fin (k0_t1_loop i).trips) : BitVec 32 :=
  let c1_i32_248 : BitVec 32 := 1#32
  let c0_i32_228 : BitVec 32 := 0#32
  let c1_i32_230 : BitVec 32 := 1#32
  let arg9 : BitVec 32 := Scf.iv c0_i32_228 c1_i32_230 k0_t1
  let c32_i32_247 : BitVec 32 := 32#32
  let v350 : BitVec 32 := Scalar.muli arg9 c32_i32_247
  let v351 : BitVec 32 := Scalar.addi c1_i32_248 v350
  let c16_i32_1883 : BitVec 32 := 16#32
  let v2671 : BitVec 32 := Scalar.addi v351 c16_i32_1883
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_1884 : BitVec 32 := 1#32
  let v2672 : BitVec 32 := Scalar.subi v1 c1_i32_1884
  let v2673 : BitVec 32 := Scalar.minsi v2671 v2672
  let c256_i32_1885 : BitVec 32 := 256#32
  let v2674 : BitVec 32 := Scalar.muli v2673 c256_i32_1885
  v2674
def k0_mult77 (i : grid0.Coords) (k0_t1 : Fin (k0_t1_loop i).trips) : BitVec 32 :=
  let c1_i32_248 : BitVec 32 := 1#32
  let c0_i32_228 : BitVec 32 := 0#32
  let c1_i32_230 : BitVec 32 := 1#32
  let arg9 : BitVec 32 := Scf.iv c0_i32_228 c1_i32_230 k0_t1
  let c32_i32_247 : BitVec 32 := 32#32
  let v350 : BitVec 32 := Scalar.muli arg9 c32_i32_247
  let v351 : BitVec 32 := Scalar.addi c1_i32_248 v350
  let c16_i32_1910 : BitVec 32 := 16#32
  let v2709 : BitVec 32 := Scalar.addi v351 c16_i32_1910
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_1911 : BitVec 32 := 1#32
  let v2710 : BitVec 32 := Scalar.subi v1 c1_i32_1911
  let v2711 : BitVec 32 := Scalar.minsi v2709 v2710
  let c256_i32_1912 : BitVec 32 := 256#32
  let v2712 : BitVec 32 := Scalar.muli v2711 c256_i32_1912
  v2712
def k0_mult78 (i : grid0.Coords) (k0_t1 : Fin (k0_t1_loop i).trips) : BitVec 32 :=
  let c1_i32_248 : BitVec 32 := 1#32
  let c0_i32_228 : BitVec 32 := 0#32
  let c1_i32_230 : BitVec 32 := 1#32
  let arg9 : BitVec 32 := Scf.iv c0_i32_228 c1_i32_230 k0_t1
  let c32_i32_247 : BitVec 32 := 32#32
  let v350 : BitVec 32 := Scalar.muli arg9 c32_i32_247
  let v351 : BitVec 32 := Scalar.addi c1_i32_248 v350
  let c17_i32 : BitVec 32 := 17#32
  let v2747 : BitVec 32 := Scalar.addi v351 c17_i32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_1937 : BitVec 32 := 1#32
  let v2748 : BitVec 32 := Scalar.subi v1 c1_i32_1937
  let v2749 : BitVec 32 := Scalar.minsi v2747 v2748
  let c256_i32_1938 : BitVec 32 := 256#32
  let v2750 : BitVec 32 := Scalar.muli v2749 c256_i32_1938
  v2750
def k0_mult79 (i : grid0.Coords) (k0_t1 : Fin (k0_t1_loop i).trips) : BitVec 32 :=
  let c1_i32_248 : BitVec 32 := 1#32
  let c0_i32_228 : BitVec 32 := 0#32
  let c1_i32_230 : BitVec 32 := 1#32
  let arg9 : BitVec 32 := Scf.iv c0_i32_228 c1_i32_230 k0_t1
  let c32_i32_247 : BitVec 32 := 32#32
  let v350 : BitVec 32 := Scalar.muli arg9 c32_i32_247
  let v351 : BitVec 32 := Scalar.addi c1_i32_248 v350
  let c17_i32_1963 : BitVec 32 := 17#32
  let v2785 : BitVec 32 := Scalar.addi v351 c17_i32_1963
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_1964 : BitVec 32 := 1#32
  let v2786 : BitVec 32 := Scalar.subi v1 c1_i32_1964
  let v2787 : BitVec 32 := Scalar.minsi v2785 v2786
  let c256_i32_1965 : BitVec 32 := 256#32
  let v2788 : BitVec 32 := Scalar.muli v2787 c256_i32_1965
  v2788
def k0_mult80 (i : grid0.Coords) (k0_t1 : Fin (k0_t1_loop i).trips) : BitVec 32 :=
  let c1_i32_248 : BitVec 32 := 1#32
  let c0_i32_228 : BitVec 32 := 0#32
  let c1_i32_230 : BitVec 32 := 1#32
  let arg9 : BitVec 32 := Scf.iv c0_i32_228 c1_i32_230 k0_t1
  let c32_i32_247 : BitVec 32 := 32#32
  let v350 : BitVec 32 := Scalar.muli arg9 c32_i32_247
  let v351 : BitVec 32 := Scalar.addi c1_i32_248 v350
  let c17_i32_1990 : BitVec 32 := 17#32
  let v2823 : BitVec 32 := Scalar.addi v351 c17_i32_1990
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_1991 : BitVec 32 := 1#32
  let v2824 : BitVec 32 := Scalar.subi v1 c1_i32_1991
  let v2825 : BitVec 32 := Scalar.minsi v2823 v2824
  let c256_i32_1992 : BitVec 32 := 256#32
  let v2826 : BitVec 32 := Scalar.muli v2825 c256_i32_1992
  v2826
def k0_mult81 (i : grid0.Coords) (k0_t1 : Fin (k0_t1_loop i).trips) : BitVec 32 :=
  let c1_i32_248 : BitVec 32 := 1#32
  let c0_i32_228 : BitVec 32 := 0#32
  let c1_i32_230 : BitVec 32 := 1#32
  let arg9 : BitVec 32 := Scf.iv c0_i32_228 c1_i32_230 k0_t1
  let c32_i32_247 : BitVec 32 := 32#32
  let v350 : BitVec 32 := Scalar.muli arg9 c32_i32_247
  let v351 : BitVec 32 := Scalar.addi c1_i32_248 v350
  let c17_i32_2017 : BitVec 32 := 17#32
  let v2861 : BitVec 32 := Scalar.addi v351 c17_i32_2017
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_2018 : BitVec 32 := 1#32
  let v2862 : BitVec 32 := Scalar.subi v1 c1_i32_2018
  let v2863 : BitVec 32 := Scalar.minsi v2861 v2862
  let c256_i32_2019 : BitVec 32 := 256#32
  let v2864 : BitVec 32 := Scalar.muli v2863 c256_i32_2019
  v2864
def k0_mult82 (i : grid0.Coords) (k0_t1 : Fin (k0_t1_loop i).trips) : BitVec 32 :=
  let c1_i32_248 : BitVec 32 := 1#32
  let c0_i32_228 : BitVec 32 := 0#32
  let c1_i32_230 : BitVec 32 := 1#32
  let arg9 : BitVec 32 := Scf.iv c0_i32_228 c1_i32_230 k0_t1
  let c32_i32_247 : BitVec 32 := 32#32
  let v350 : BitVec 32 := Scalar.muli arg9 c32_i32_247
  let v351 : BitVec 32 := Scalar.addi c1_i32_248 v350
  let c18_i32 : BitVec 32 := 18#32
  let v2899 : BitVec 32 := Scalar.addi v351 c18_i32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_2044 : BitVec 32 := 1#32
  let v2900 : BitVec 32 := Scalar.subi v1 c1_i32_2044
  let v2901 : BitVec 32 := Scalar.minsi v2899 v2900
  let c256_i32_2045 : BitVec 32 := 256#32
  let v2902 : BitVec 32 := Scalar.muli v2901 c256_i32_2045
  v2902
def k0_mult83 (i : grid0.Coords) (k0_t1 : Fin (k0_t1_loop i).trips) : BitVec 32 :=
  let c1_i32_248 : BitVec 32 := 1#32
  let c0_i32_228 : BitVec 32 := 0#32
  let c1_i32_230 : BitVec 32 := 1#32
  let arg9 : BitVec 32 := Scf.iv c0_i32_228 c1_i32_230 k0_t1
  let c32_i32_247 : BitVec 32 := 32#32
  let v350 : BitVec 32 := Scalar.muli arg9 c32_i32_247
  let v351 : BitVec 32 := Scalar.addi c1_i32_248 v350
  let c18_i32_2070 : BitVec 32 := 18#32
  let v2937 : BitVec 32 := Scalar.addi v351 c18_i32_2070
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_2071 : BitVec 32 := 1#32
  let v2938 : BitVec 32 := Scalar.subi v1 c1_i32_2071
  let v2939 : BitVec 32 := Scalar.minsi v2937 v2938
  let c256_i32_2072 : BitVec 32 := 256#32
  let v2940 : BitVec 32 := Scalar.muli v2939 c256_i32_2072
  v2940
def k0_mult84 (i : grid0.Coords) (k0_t1 : Fin (k0_t1_loop i).trips) : BitVec 32 :=
  let c1_i32_248 : BitVec 32 := 1#32
  let c0_i32_228 : BitVec 32 := 0#32
  let c1_i32_230 : BitVec 32 := 1#32
  let arg9 : BitVec 32 := Scf.iv c0_i32_228 c1_i32_230 k0_t1
  let c32_i32_247 : BitVec 32 := 32#32
  let v350 : BitVec 32 := Scalar.muli arg9 c32_i32_247
  let v351 : BitVec 32 := Scalar.addi c1_i32_248 v350
  let c18_i32_2097 : BitVec 32 := 18#32
  let v2975 : BitVec 32 := Scalar.addi v351 c18_i32_2097
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_2098 : BitVec 32 := 1#32
  let v2976 : BitVec 32 := Scalar.subi v1 c1_i32_2098
  let v2977 : BitVec 32 := Scalar.minsi v2975 v2976
  let c256_i32_2099 : BitVec 32 := 256#32
  let v2978 : BitVec 32 := Scalar.muli v2977 c256_i32_2099
  v2978
def k0_mult85 (i : grid0.Coords) (k0_t1 : Fin (k0_t1_loop i).trips) : BitVec 32 :=
  let c1_i32_248 : BitVec 32 := 1#32
  let c0_i32_228 : BitVec 32 := 0#32
  let c1_i32_230 : BitVec 32 := 1#32
  let arg9 : BitVec 32 := Scf.iv c0_i32_228 c1_i32_230 k0_t1
  let c32_i32_247 : BitVec 32 := 32#32
  let v350 : BitVec 32 := Scalar.muli arg9 c32_i32_247
  let v351 : BitVec 32 := Scalar.addi c1_i32_248 v350
  let c18_i32_2124 : BitVec 32 := 18#32
  let v3013 : BitVec 32 := Scalar.addi v351 c18_i32_2124
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_2125 : BitVec 32 := 1#32
  let v3014 : BitVec 32 := Scalar.subi v1 c1_i32_2125
  let v3015 : BitVec 32 := Scalar.minsi v3013 v3014
  let c256_i32_2126 : BitVec 32 := 256#32
  let v3016 : BitVec 32 := Scalar.muli v3015 c256_i32_2126
  v3016
def k0_mult86 (i : grid0.Coords) (k0_t1 : Fin (k0_t1_loop i).trips) : BitVec 32 :=
  let c1_i32_248 : BitVec 32 := 1#32
  let c0_i32_228 : BitVec 32 := 0#32
  let c1_i32_230 : BitVec 32 := 1#32
  let arg9 : BitVec 32 := Scf.iv c0_i32_228 c1_i32_230 k0_t1
  let c32_i32_247 : BitVec 32 := 32#32
  let v350 : BitVec 32 := Scalar.muli arg9 c32_i32_247
  let v351 : BitVec 32 := Scalar.addi c1_i32_248 v350
  let c19_i32 : BitVec 32 := 19#32
  let v3051 : BitVec 32 := Scalar.addi v351 c19_i32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_2151 : BitVec 32 := 1#32
  let v3052 : BitVec 32 := Scalar.subi v1 c1_i32_2151
  let v3053 : BitVec 32 := Scalar.minsi v3051 v3052
  let c256_i32_2152 : BitVec 32 := 256#32
  let v3054 : BitVec 32 := Scalar.muli v3053 c256_i32_2152
  v3054
def k0_mult87 (i : grid0.Coords) (k0_t1 : Fin (k0_t1_loop i).trips) : BitVec 32 :=
  let c1_i32_248 : BitVec 32 := 1#32
  let c0_i32_228 : BitVec 32 := 0#32
  let c1_i32_230 : BitVec 32 := 1#32
  let arg9 : BitVec 32 := Scf.iv c0_i32_228 c1_i32_230 k0_t1
  let c32_i32_247 : BitVec 32 := 32#32
  let v350 : BitVec 32 := Scalar.muli arg9 c32_i32_247
  let v351 : BitVec 32 := Scalar.addi c1_i32_248 v350
  let c19_i32_2177 : BitVec 32 := 19#32
  let v3089 : BitVec 32 := Scalar.addi v351 c19_i32_2177
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_2178 : BitVec 32 := 1#32
  let v3090 : BitVec 32 := Scalar.subi v1 c1_i32_2178
  let v3091 : BitVec 32 := Scalar.minsi v3089 v3090
  let c256_i32_2179 : BitVec 32 := 256#32
  let v3092 : BitVec 32 := Scalar.muli v3091 c256_i32_2179
  v3092
def k0_mult88 (i : grid0.Coords) (k0_t1 : Fin (k0_t1_loop i).trips) : BitVec 32 :=
  let c1_i32_248 : BitVec 32 := 1#32
  let c0_i32_228 : BitVec 32 := 0#32
  let c1_i32_230 : BitVec 32 := 1#32
  let arg9 : BitVec 32 := Scf.iv c0_i32_228 c1_i32_230 k0_t1
  let c32_i32_247 : BitVec 32 := 32#32
  let v350 : BitVec 32 := Scalar.muli arg9 c32_i32_247
  let v351 : BitVec 32 := Scalar.addi c1_i32_248 v350
  let c19_i32_2204 : BitVec 32 := 19#32
  let v3127 : BitVec 32 := Scalar.addi v351 c19_i32_2204
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_2205 : BitVec 32 := 1#32
  let v3128 : BitVec 32 := Scalar.subi v1 c1_i32_2205
  let v3129 : BitVec 32 := Scalar.minsi v3127 v3128
  let c256_i32_2206 : BitVec 32 := 256#32
  let v3130 : BitVec 32 := Scalar.muli v3129 c256_i32_2206
  v3130
def k0_mult89 (i : grid0.Coords) (k0_t1 : Fin (k0_t1_loop i).trips) : BitVec 32 :=
  let c1_i32_248 : BitVec 32 := 1#32
  let c0_i32_228 : BitVec 32 := 0#32
  let c1_i32_230 : BitVec 32 := 1#32
  let arg9 : BitVec 32 := Scf.iv c0_i32_228 c1_i32_230 k0_t1
  let c32_i32_247 : BitVec 32 := 32#32
  let v350 : BitVec 32 := Scalar.muli arg9 c32_i32_247
  let v351 : BitVec 32 := Scalar.addi c1_i32_248 v350
  let c19_i32_2231 : BitVec 32 := 19#32
  let v3165 : BitVec 32 := Scalar.addi v351 c19_i32_2231
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_2232 : BitVec 32 := 1#32
  let v3166 : BitVec 32 := Scalar.subi v1 c1_i32_2232
  let v3167 : BitVec 32 := Scalar.minsi v3165 v3166
  let c256_i32_2233 : BitVec 32 := 256#32
  let v3168 : BitVec 32 := Scalar.muli v3167 c256_i32_2233
  v3168
def k0_mult90 (i : grid0.Coords) (k0_t1 : Fin (k0_t1_loop i).trips) : BitVec 32 :=
  let c1_i32_248 : BitVec 32 := 1#32
  let c0_i32_228 : BitVec 32 := 0#32
  let c1_i32_230 : BitVec 32 := 1#32
  let arg9 : BitVec 32 := Scf.iv c0_i32_228 c1_i32_230 k0_t1
  let c32_i32_247 : BitVec 32 := 32#32
  let v350 : BitVec 32 := Scalar.muli arg9 c32_i32_247
  let v351 : BitVec 32 := Scalar.addi c1_i32_248 v350
  let c20_i32 : BitVec 32 := 20#32
  let v3203 : BitVec 32 := Scalar.addi v351 c20_i32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_2258 : BitVec 32 := 1#32
  let v3204 : BitVec 32 := Scalar.subi v1 c1_i32_2258
  let v3205 : BitVec 32 := Scalar.minsi v3203 v3204
  let c256_i32_2259 : BitVec 32 := 256#32
  let v3206 : BitVec 32 := Scalar.muli v3205 c256_i32_2259
  v3206
def k0_mult91 (i : grid0.Coords) (k0_t1 : Fin (k0_t1_loop i).trips) : BitVec 32 :=
  let c1_i32_248 : BitVec 32 := 1#32
  let c0_i32_228 : BitVec 32 := 0#32
  let c1_i32_230 : BitVec 32 := 1#32
  let arg9 : BitVec 32 := Scf.iv c0_i32_228 c1_i32_230 k0_t1
  let c32_i32_247 : BitVec 32 := 32#32
  let v350 : BitVec 32 := Scalar.muli arg9 c32_i32_247
  let v351 : BitVec 32 := Scalar.addi c1_i32_248 v350
  let c20_i32_2284 : BitVec 32 := 20#32
  let v3241 : BitVec 32 := Scalar.addi v351 c20_i32_2284
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_2285 : BitVec 32 := 1#32
  let v3242 : BitVec 32 := Scalar.subi v1 c1_i32_2285
  let v3243 : BitVec 32 := Scalar.minsi v3241 v3242
  let c256_i32_2286 : BitVec 32 := 256#32
  let v3244 : BitVec 32 := Scalar.muli v3243 c256_i32_2286
  v3244
def k0_mult92 (i : grid0.Coords) (k0_t1 : Fin (k0_t1_loop i).trips) : BitVec 32 :=
  let c1_i32_248 : BitVec 32 := 1#32
  let c0_i32_228 : BitVec 32 := 0#32
  let c1_i32_230 : BitVec 32 := 1#32
  let arg9 : BitVec 32 := Scf.iv c0_i32_228 c1_i32_230 k0_t1
  let c32_i32_247 : BitVec 32 := 32#32
  let v350 : BitVec 32 := Scalar.muli arg9 c32_i32_247
  let v351 : BitVec 32 := Scalar.addi c1_i32_248 v350
  let c20_i32_2311 : BitVec 32 := 20#32
  let v3279 : BitVec 32 := Scalar.addi v351 c20_i32_2311
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_2312 : BitVec 32 := 1#32
  let v3280 : BitVec 32 := Scalar.subi v1 c1_i32_2312
  let v3281 : BitVec 32 := Scalar.minsi v3279 v3280
  let c256_i32_2313 : BitVec 32 := 256#32
  let v3282 : BitVec 32 := Scalar.muli v3281 c256_i32_2313
  v3282
def k0_mult93 (i : grid0.Coords) (k0_t1 : Fin (k0_t1_loop i).trips) : BitVec 32 :=
  let c1_i32_248 : BitVec 32 := 1#32
  let c0_i32_228 : BitVec 32 := 0#32
  let c1_i32_230 : BitVec 32 := 1#32
  let arg9 : BitVec 32 := Scf.iv c0_i32_228 c1_i32_230 k0_t1
  let c32_i32_247 : BitVec 32 := 32#32
  let v350 : BitVec 32 := Scalar.muli arg9 c32_i32_247
  let v351 : BitVec 32 := Scalar.addi c1_i32_248 v350
  let c20_i32_2338 : BitVec 32 := 20#32
  let v3317 : BitVec 32 := Scalar.addi v351 c20_i32_2338
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_2339 : BitVec 32 := 1#32
  let v3318 : BitVec 32 := Scalar.subi v1 c1_i32_2339
  let v3319 : BitVec 32 := Scalar.minsi v3317 v3318
  let c256_i32_2340 : BitVec 32 := 256#32
  let v3320 : BitVec 32 := Scalar.muli v3319 c256_i32_2340
  v3320
def k0_mult94 (i : grid0.Coords) (k0_t1 : Fin (k0_t1_loop i).trips) : BitVec 32 :=
  let c1_i32_248 : BitVec 32 := 1#32
  let c0_i32_228 : BitVec 32 := 0#32
  let c1_i32_230 : BitVec 32 := 1#32
  let arg9 : BitVec 32 := Scf.iv c0_i32_228 c1_i32_230 k0_t1
  let c32_i32_247 : BitVec 32 := 32#32
  let v350 : BitVec 32 := Scalar.muli arg9 c32_i32_247
  let v351 : BitVec 32 := Scalar.addi c1_i32_248 v350
  let c21_i32 : BitVec 32 := 21#32
  let v3355 : BitVec 32 := Scalar.addi v351 c21_i32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_2365 : BitVec 32 := 1#32
  let v3356 : BitVec 32 := Scalar.subi v1 c1_i32_2365
  let v3357 : BitVec 32 := Scalar.minsi v3355 v3356
  let c256_i32_2366 : BitVec 32 := 256#32
  let v3358 : BitVec 32 := Scalar.muli v3357 c256_i32_2366
  v3358
def k0_mult95 (i : grid0.Coords) (k0_t1 : Fin (k0_t1_loop i).trips) : BitVec 32 :=
  let c1_i32_248 : BitVec 32 := 1#32
  let c0_i32_228 : BitVec 32 := 0#32
  let c1_i32_230 : BitVec 32 := 1#32
  let arg9 : BitVec 32 := Scf.iv c0_i32_228 c1_i32_230 k0_t1
  let c32_i32_247 : BitVec 32 := 32#32
  let v350 : BitVec 32 := Scalar.muli arg9 c32_i32_247
  let v351 : BitVec 32 := Scalar.addi c1_i32_248 v350
  let c21_i32_2391 : BitVec 32 := 21#32
  let v3393 : BitVec 32 := Scalar.addi v351 c21_i32_2391
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_2392 : BitVec 32 := 1#32
  let v3394 : BitVec 32 := Scalar.subi v1 c1_i32_2392
  let v3395 : BitVec 32 := Scalar.minsi v3393 v3394
  let c256_i32_2393 : BitVec 32 := 256#32
  let v3396 : BitVec 32 := Scalar.muli v3395 c256_i32_2393
  v3396
def k0_mult96 (i : grid0.Coords) (k0_t1 : Fin (k0_t1_loop i).trips) : BitVec 32 :=
  let c1_i32_248 : BitVec 32 := 1#32
  let c0_i32_228 : BitVec 32 := 0#32
  let c1_i32_230 : BitVec 32 := 1#32
  let arg9 : BitVec 32 := Scf.iv c0_i32_228 c1_i32_230 k0_t1
  let c32_i32_247 : BitVec 32 := 32#32
  let v350 : BitVec 32 := Scalar.muli arg9 c32_i32_247
  let v351 : BitVec 32 := Scalar.addi c1_i32_248 v350
  let c21_i32_2418 : BitVec 32 := 21#32
  let v3431 : BitVec 32 := Scalar.addi v351 c21_i32_2418
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_2419 : BitVec 32 := 1#32
  let v3432 : BitVec 32 := Scalar.subi v1 c1_i32_2419
  let v3433 : BitVec 32 := Scalar.minsi v3431 v3432
  let c256_i32_2420 : BitVec 32 := 256#32
  let v3434 : BitVec 32 := Scalar.muli v3433 c256_i32_2420
  v3434
def k0_mult97 (i : grid0.Coords) (k0_t1 : Fin (k0_t1_loop i).trips) : BitVec 32 :=
  let c1_i32_248 : BitVec 32 := 1#32
  let c0_i32_228 : BitVec 32 := 0#32
  let c1_i32_230 : BitVec 32 := 1#32
  let arg9 : BitVec 32 := Scf.iv c0_i32_228 c1_i32_230 k0_t1
  let c32_i32_247 : BitVec 32 := 32#32
  let v350 : BitVec 32 := Scalar.muli arg9 c32_i32_247
  let v351 : BitVec 32 := Scalar.addi c1_i32_248 v350
  let c21_i32_2445 : BitVec 32 := 21#32
  let v3469 : BitVec 32 := Scalar.addi v351 c21_i32_2445
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_2446 : BitVec 32 := 1#32
  let v3470 : BitVec 32 := Scalar.subi v1 c1_i32_2446
  let v3471 : BitVec 32 := Scalar.minsi v3469 v3470
  let c256_i32_2447 : BitVec 32 := 256#32
  let v3472 : BitVec 32 := Scalar.muli v3471 c256_i32_2447
  v3472
def k0_mult98 (i : grid0.Coords) (k0_t1 : Fin (k0_t1_loop i).trips) : BitVec 32 :=
  let c1_i32_248 : BitVec 32 := 1#32
  let c0_i32_228 : BitVec 32 := 0#32
  let c1_i32_230 : BitVec 32 := 1#32
  let arg9 : BitVec 32 := Scf.iv c0_i32_228 c1_i32_230 k0_t1
  let c32_i32_247 : BitVec 32 := 32#32
  let v350 : BitVec 32 := Scalar.muli arg9 c32_i32_247
  let v351 : BitVec 32 := Scalar.addi c1_i32_248 v350
  let c22_i32 : BitVec 32 := 22#32
  let v3507 : BitVec 32 := Scalar.addi v351 c22_i32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_2472 : BitVec 32 := 1#32
  let v3508 : BitVec 32 := Scalar.subi v1 c1_i32_2472
  let v3509 : BitVec 32 := Scalar.minsi v3507 v3508
  let c256_i32_2473 : BitVec 32 := 256#32
  let v3510 : BitVec 32 := Scalar.muli v3509 c256_i32_2473
  v3510
def k0_mult99 (i : grid0.Coords) (k0_t1 : Fin (k0_t1_loop i).trips) : BitVec 32 :=
  let c1_i32_248 : BitVec 32 := 1#32
  let c0_i32_228 : BitVec 32 := 0#32
  let c1_i32_230 : BitVec 32 := 1#32
  let arg9 : BitVec 32 := Scf.iv c0_i32_228 c1_i32_230 k0_t1
  let c32_i32_247 : BitVec 32 := 32#32
  let v350 : BitVec 32 := Scalar.muli arg9 c32_i32_247
  let v351 : BitVec 32 := Scalar.addi c1_i32_248 v350
  let c22_i32_2498 : BitVec 32 := 22#32
  let v3545 : BitVec 32 := Scalar.addi v351 c22_i32_2498
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_2499 : BitVec 32 := 1#32
  let v3546 : BitVec 32 := Scalar.subi v1 c1_i32_2499
  let v3547 : BitVec 32 := Scalar.minsi v3545 v3546
  let c256_i32_2500 : BitVec 32 := 256#32
  let v3548 : BitVec 32 := Scalar.muli v3547 c256_i32_2500
  v3548
def k0_mult100 (i : grid0.Coords) (k0_t1 : Fin (k0_t1_loop i).trips) : BitVec 32 :=
  let c1_i32_248 : BitVec 32 := 1#32
  let c0_i32_228 : BitVec 32 := 0#32
  let c1_i32_230 : BitVec 32 := 1#32
  let arg9 : BitVec 32 := Scf.iv c0_i32_228 c1_i32_230 k0_t1
  let c32_i32_247 : BitVec 32 := 32#32
  let v350 : BitVec 32 := Scalar.muli arg9 c32_i32_247
  let v351 : BitVec 32 := Scalar.addi c1_i32_248 v350
  let c22_i32_2525 : BitVec 32 := 22#32
  let v3583 : BitVec 32 := Scalar.addi v351 c22_i32_2525
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_2526 : BitVec 32 := 1#32
  let v3584 : BitVec 32 := Scalar.subi v1 c1_i32_2526
  let v3585 : BitVec 32 := Scalar.minsi v3583 v3584
  let c256_i32_2527 : BitVec 32 := 256#32
  let v3586 : BitVec 32 := Scalar.muli v3585 c256_i32_2527
  v3586
def k0_mult101 (i : grid0.Coords) (k0_t1 : Fin (k0_t1_loop i).trips) : BitVec 32 :=
  let c1_i32_248 : BitVec 32 := 1#32
  let c0_i32_228 : BitVec 32 := 0#32
  let c1_i32_230 : BitVec 32 := 1#32
  let arg9 : BitVec 32 := Scf.iv c0_i32_228 c1_i32_230 k0_t1
  let c32_i32_247 : BitVec 32 := 32#32
  let v350 : BitVec 32 := Scalar.muli arg9 c32_i32_247
  let v351 : BitVec 32 := Scalar.addi c1_i32_248 v350
  let c22_i32_2552 : BitVec 32 := 22#32
  let v3621 : BitVec 32 := Scalar.addi v351 c22_i32_2552
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_2553 : BitVec 32 := 1#32
  let v3622 : BitVec 32 := Scalar.subi v1 c1_i32_2553
  let v3623 : BitVec 32 := Scalar.minsi v3621 v3622
  let c256_i32_2554 : BitVec 32 := 256#32
  let v3624 : BitVec 32 := Scalar.muli v3623 c256_i32_2554
  v3624
def k0_mult102 (i : grid0.Coords) (k0_t1 : Fin (k0_t1_loop i).trips) : BitVec 32 :=
  let c1_i32_248 : BitVec 32 := 1#32
  let c0_i32_228 : BitVec 32 := 0#32
  let c1_i32_230 : BitVec 32 := 1#32
  let arg9 : BitVec 32 := Scf.iv c0_i32_228 c1_i32_230 k0_t1
  let c32_i32_247 : BitVec 32 := 32#32
  let v350 : BitVec 32 := Scalar.muli arg9 c32_i32_247
  let v351 : BitVec 32 := Scalar.addi c1_i32_248 v350
  let c23_i32 : BitVec 32 := 23#32
  let v3659 : BitVec 32 := Scalar.addi v351 c23_i32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_2579 : BitVec 32 := 1#32
  let v3660 : BitVec 32 := Scalar.subi v1 c1_i32_2579
  let v3661 : BitVec 32 := Scalar.minsi v3659 v3660
  let c256_i32_2580 : BitVec 32 := 256#32
  let v3662 : BitVec 32 := Scalar.muli v3661 c256_i32_2580
  v3662
def k0_mult103 (i : grid0.Coords) (k0_t1 : Fin (k0_t1_loop i).trips) : BitVec 32 :=
  let c1_i32_248 : BitVec 32 := 1#32
  let c0_i32_228 : BitVec 32 := 0#32
  let c1_i32_230 : BitVec 32 := 1#32
  let arg9 : BitVec 32 := Scf.iv c0_i32_228 c1_i32_230 k0_t1
  let c32_i32_247 : BitVec 32 := 32#32
  let v350 : BitVec 32 := Scalar.muli arg9 c32_i32_247
  let v351 : BitVec 32 := Scalar.addi c1_i32_248 v350
  let c23_i32_2605 : BitVec 32 := 23#32
  let v3697 : BitVec 32 := Scalar.addi v351 c23_i32_2605
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_2606 : BitVec 32 := 1#32
  let v3698 : BitVec 32 := Scalar.subi v1 c1_i32_2606
  let v3699 : BitVec 32 := Scalar.minsi v3697 v3698
  let c256_i32_2607 : BitVec 32 := 256#32
  let v3700 : BitVec 32 := Scalar.muli v3699 c256_i32_2607
  v3700
def k0_mult104 (i : grid0.Coords) (k0_t1 : Fin (k0_t1_loop i).trips) : BitVec 32 :=
  let c1_i32_248 : BitVec 32 := 1#32
  let c0_i32_228 : BitVec 32 := 0#32
  let c1_i32_230 : BitVec 32 := 1#32
  let arg9 : BitVec 32 := Scf.iv c0_i32_228 c1_i32_230 k0_t1
  let c32_i32_247 : BitVec 32 := 32#32
  let v350 : BitVec 32 := Scalar.muli arg9 c32_i32_247
  let v351 : BitVec 32 := Scalar.addi c1_i32_248 v350
  let c23_i32_2632 : BitVec 32 := 23#32
  let v3735 : BitVec 32 := Scalar.addi v351 c23_i32_2632
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_2633 : BitVec 32 := 1#32
  let v3736 : BitVec 32 := Scalar.subi v1 c1_i32_2633
  let v3737 : BitVec 32 := Scalar.minsi v3735 v3736
  let c256_i32_2634 : BitVec 32 := 256#32
  let v3738 : BitVec 32 := Scalar.muli v3737 c256_i32_2634
  v3738
def k0_mult105 (i : grid0.Coords) (k0_t1 : Fin (k0_t1_loop i).trips) : BitVec 32 :=
  let c1_i32_248 : BitVec 32 := 1#32
  let c0_i32_228 : BitVec 32 := 0#32
  let c1_i32_230 : BitVec 32 := 1#32
  let arg9 : BitVec 32 := Scf.iv c0_i32_228 c1_i32_230 k0_t1
  let c32_i32_247 : BitVec 32 := 32#32
  let v350 : BitVec 32 := Scalar.muli arg9 c32_i32_247
  let v351 : BitVec 32 := Scalar.addi c1_i32_248 v350
  let c23_i32_2659 : BitVec 32 := 23#32
  let v3773 : BitVec 32 := Scalar.addi v351 c23_i32_2659
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_2660 : BitVec 32 := 1#32
  let v3774 : BitVec 32 := Scalar.subi v1 c1_i32_2660
  let v3775 : BitVec 32 := Scalar.minsi v3773 v3774
  let c256_i32_2661 : BitVec 32 := 256#32
  let v3776 : BitVec 32 := Scalar.muli v3775 c256_i32_2661
  v3776
def k0_mult106 (i : grid0.Coords) (k0_t1 : Fin (k0_t1_loop i).trips) : BitVec 32 :=
  let c1_i32_248 : BitVec 32 := 1#32
  let c0_i32_228 : BitVec 32 := 0#32
  let c1_i32_230 : BitVec 32 := 1#32
  let arg9 : BitVec 32 := Scf.iv c0_i32_228 c1_i32_230 k0_t1
  let c32_i32_247 : BitVec 32 := 32#32
  let v350 : BitVec 32 := Scalar.muli arg9 c32_i32_247
  let v351 : BitVec 32 := Scalar.addi c1_i32_248 v350
  let c24_i32 : BitVec 32 := 24#32
  let v3811 : BitVec 32 := Scalar.addi v351 c24_i32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_2686 : BitVec 32 := 1#32
  let v3812 : BitVec 32 := Scalar.subi v1 c1_i32_2686
  let v3813 : BitVec 32 := Scalar.minsi v3811 v3812
  let c256_i32_2687 : BitVec 32 := 256#32
  let v3814 : BitVec 32 := Scalar.muli v3813 c256_i32_2687
  v3814
def k0_mult107 (i : grid0.Coords) (k0_t1 : Fin (k0_t1_loop i).trips) : BitVec 32 :=
  let c1_i32_248 : BitVec 32 := 1#32
  let c0_i32_228 : BitVec 32 := 0#32
  let c1_i32_230 : BitVec 32 := 1#32
  let arg9 : BitVec 32 := Scf.iv c0_i32_228 c1_i32_230 k0_t1
  let c32_i32_247 : BitVec 32 := 32#32
  let v350 : BitVec 32 := Scalar.muli arg9 c32_i32_247
  let v351 : BitVec 32 := Scalar.addi c1_i32_248 v350
  let c24_i32_2712 : BitVec 32 := 24#32
  let v3849 : BitVec 32 := Scalar.addi v351 c24_i32_2712
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_2713 : BitVec 32 := 1#32
  let v3850 : BitVec 32 := Scalar.subi v1 c1_i32_2713
  let v3851 : BitVec 32 := Scalar.minsi v3849 v3850
  let c256_i32_2714 : BitVec 32 := 256#32
  let v3852 : BitVec 32 := Scalar.muli v3851 c256_i32_2714
  v3852
def k0_mult108 (i : grid0.Coords) (k0_t1 : Fin (k0_t1_loop i).trips) : BitVec 32 :=
  let c1_i32_248 : BitVec 32 := 1#32
  let c0_i32_228 : BitVec 32 := 0#32
  let c1_i32_230 : BitVec 32 := 1#32
  let arg9 : BitVec 32 := Scf.iv c0_i32_228 c1_i32_230 k0_t1
  let c32_i32_247 : BitVec 32 := 32#32
  let v350 : BitVec 32 := Scalar.muli arg9 c32_i32_247
  let v351 : BitVec 32 := Scalar.addi c1_i32_248 v350
  let c24_i32_2739 : BitVec 32 := 24#32
  let v3887 : BitVec 32 := Scalar.addi v351 c24_i32_2739
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_2740 : BitVec 32 := 1#32
  let v3888 : BitVec 32 := Scalar.subi v1 c1_i32_2740
  let v3889 : BitVec 32 := Scalar.minsi v3887 v3888
  let c256_i32_2741 : BitVec 32 := 256#32
  let v3890 : BitVec 32 := Scalar.muli v3889 c256_i32_2741
  v3890
def k0_mult109 (i : grid0.Coords) (k0_t1 : Fin (k0_t1_loop i).trips) : BitVec 32 :=
  let c1_i32_248 : BitVec 32 := 1#32
  let c0_i32_228 : BitVec 32 := 0#32
  let c1_i32_230 : BitVec 32 := 1#32
  let arg9 : BitVec 32 := Scf.iv c0_i32_228 c1_i32_230 k0_t1
  let c32_i32_247 : BitVec 32 := 32#32
  let v350 : BitVec 32 := Scalar.muli arg9 c32_i32_247
  let v351 : BitVec 32 := Scalar.addi c1_i32_248 v350
  let c24_i32_2766 : BitVec 32 := 24#32
  let v3925 : BitVec 32 := Scalar.addi v351 c24_i32_2766
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_2767 : BitVec 32 := 1#32
  let v3926 : BitVec 32 := Scalar.subi v1 c1_i32_2767
  let v3927 : BitVec 32 := Scalar.minsi v3925 v3926
  let c256_i32_2768 : BitVec 32 := 256#32
  let v3928 : BitVec 32 := Scalar.muli v3927 c256_i32_2768
  v3928
def k0_mult110 (i : grid0.Coords) (k0_t1 : Fin (k0_t1_loop i).trips) : BitVec 32 :=
  let c1_i32_248 : BitVec 32 := 1#32
  let c0_i32_228 : BitVec 32 := 0#32
  let c1_i32_230 : BitVec 32 := 1#32
  let arg9 : BitVec 32 := Scf.iv c0_i32_228 c1_i32_230 k0_t1
  let c32_i32_247 : BitVec 32 := 32#32
  let v350 : BitVec 32 := Scalar.muli arg9 c32_i32_247
  let v351 : BitVec 32 := Scalar.addi c1_i32_248 v350
  let c25_i32 : BitVec 32 := 25#32
  let v3963 : BitVec 32 := Scalar.addi v351 c25_i32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_2793 : BitVec 32 := 1#32
  let v3964 : BitVec 32 := Scalar.subi v1 c1_i32_2793
  let v3965 : BitVec 32 := Scalar.minsi v3963 v3964
  let c256_i32_2794 : BitVec 32 := 256#32
  let v3966 : BitVec 32 := Scalar.muli v3965 c256_i32_2794
  v3966
def k0_mult111 (i : grid0.Coords) (k0_t1 : Fin (k0_t1_loop i).trips) : BitVec 32 :=
  let c1_i32_248 : BitVec 32 := 1#32
  let c0_i32_228 : BitVec 32 := 0#32
  let c1_i32_230 : BitVec 32 := 1#32
  let arg9 : BitVec 32 := Scf.iv c0_i32_228 c1_i32_230 k0_t1
  let c32_i32_247 : BitVec 32 := 32#32
  let v350 : BitVec 32 := Scalar.muli arg9 c32_i32_247
  let v351 : BitVec 32 := Scalar.addi c1_i32_248 v350
  let c25_i32_2819 : BitVec 32 := 25#32
  let v4001 : BitVec 32 := Scalar.addi v351 c25_i32_2819
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_2820 : BitVec 32 := 1#32
  let v4002 : BitVec 32 := Scalar.subi v1 c1_i32_2820
  let v4003 : BitVec 32 := Scalar.minsi v4001 v4002
  let c256_i32_2821 : BitVec 32 := 256#32
  let v4004 : BitVec 32 := Scalar.muli v4003 c256_i32_2821
  v4004
def k0_mult112 (i : grid0.Coords) (k0_t1 : Fin (k0_t1_loop i).trips) : BitVec 32 :=
  let c1_i32_248 : BitVec 32 := 1#32
  let c0_i32_228 : BitVec 32 := 0#32
  let c1_i32_230 : BitVec 32 := 1#32
  let arg9 : BitVec 32 := Scf.iv c0_i32_228 c1_i32_230 k0_t1
  let c32_i32_247 : BitVec 32 := 32#32
  let v350 : BitVec 32 := Scalar.muli arg9 c32_i32_247
  let v351 : BitVec 32 := Scalar.addi c1_i32_248 v350
  let c25_i32_2846 : BitVec 32 := 25#32
  let v4039 : BitVec 32 := Scalar.addi v351 c25_i32_2846
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_2847 : BitVec 32 := 1#32
  let v4040 : BitVec 32 := Scalar.subi v1 c1_i32_2847
  let v4041 : BitVec 32 := Scalar.minsi v4039 v4040
  let c256_i32_2848 : BitVec 32 := 256#32
  let v4042 : BitVec 32 := Scalar.muli v4041 c256_i32_2848
  v4042
def k0_mult113 (i : grid0.Coords) (k0_t1 : Fin (k0_t1_loop i).trips) : BitVec 32 :=
  let c1_i32_248 : BitVec 32 := 1#32
  let c0_i32_228 : BitVec 32 := 0#32
  let c1_i32_230 : BitVec 32 := 1#32
  let arg9 : BitVec 32 := Scf.iv c0_i32_228 c1_i32_230 k0_t1
  let c32_i32_247 : BitVec 32 := 32#32
  let v350 : BitVec 32 := Scalar.muli arg9 c32_i32_247
  let v351 : BitVec 32 := Scalar.addi c1_i32_248 v350
  let c25_i32_2873 : BitVec 32 := 25#32
  let v4077 : BitVec 32 := Scalar.addi v351 c25_i32_2873
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_2874 : BitVec 32 := 1#32
  let v4078 : BitVec 32 := Scalar.subi v1 c1_i32_2874
  let v4079 : BitVec 32 := Scalar.minsi v4077 v4078
  let c256_i32_2875 : BitVec 32 := 256#32
  let v4080 : BitVec 32 := Scalar.muli v4079 c256_i32_2875
  v4080
def k0_mult114 (i : grid0.Coords) (k0_t1 : Fin (k0_t1_loop i).trips) : BitVec 32 :=
  let c1_i32_248 : BitVec 32 := 1#32
  let c0_i32_228 : BitVec 32 := 0#32
  let c1_i32_230 : BitVec 32 := 1#32
  let arg9 : BitVec 32 := Scf.iv c0_i32_228 c1_i32_230 k0_t1
  let c32_i32_247 : BitVec 32 := 32#32
  let v350 : BitVec 32 := Scalar.muli arg9 c32_i32_247
  let v351 : BitVec 32 := Scalar.addi c1_i32_248 v350
  let c26_i32 : BitVec 32 := 26#32
  let v4115 : BitVec 32 := Scalar.addi v351 c26_i32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_2900 : BitVec 32 := 1#32
  let v4116 : BitVec 32 := Scalar.subi v1 c1_i32_2900
  let v4117 : BitVec 32 := Scalar.minsi v4115 v4116
  let c256_i32_2901 : BitVec 32 := 256#32
  let v4118 : BitVec 32 := Scalar.muli v4117 c256_i32_2901
  v4118
def k0_mult115 (i : grid0.Coords) (k0_t1 : Fin (k0_t1_loop i).trips) : BitVec 32 :=
  let c1_i32_248 : BitVec 32 := 1#32
  let c0_i32_228 : BitVec 32 := 0#32
  let c1_i32_230 : BitVec 32 := 1#32
  let arg9 : BitVec 32 := Scf.iv c0_i32_228 c1_i32_230 k0_t1
  let c32_i32_247 : BitVec 32 := 32#32
  let v350 : BitVec 32 := Scalar.muli arg9 c32_i32_247
  let v351 : BitVec 32 := Scalar.addi c1_i32_248 v350
  let c26_i32_2926 : BitVec 32 := 26#32
  let v4153 : BitVec 32 := Scalar.addi v351 c26_i32_2926
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_2927 : BitVec 32 := 1#32
  let v4154 : BitVec 32 := Scalar.subi v1 c1_i32_2927
  let v4155 : BitVec 32 := Scalar.minsi v4153 v4154
  let c256_i32_2928 : BitVec 32 := 256#32
  let v4156 : BitVec 32 := Scalar.muli v4155 c256_i32_2928
  v4156
def k0_mult116 (i : grid0.Coords) (k0_t1 : Fin (k0_t1_loop i).trips) : BitVec 32 :=
  let c1_i32_248 : BitVec 32 := 1#32
  let c0_i32_228 : BitVec 32 := 0#32
  let c1_i32_230 : BitVec 32 := 1#32
  let arg9 : BitVec 32 := Scf.iv c0_i32_228 c1_i32_230 k0_t1
  let c32_i32_247 : BitVec 32 := 32#32
  let v350 : BitVec 32 := Scalar.muli arg9 c32_i32_247
  let v351 : BitVec 32 := Scalar.addi c1_i32_248 v350
  let c26_i32_2953 : BitVec 32 := 26#32
  let v4191 : BitVec 32 := Scalar.addi v351 c26_i32_2953
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_2954 : BitVec 32 := 1#32
  let v4192 : BitVec 32 := Scalar.subi v1 c1_i32_2954
  let v4193 : BitVec 32 := Scalar.minsi v4191 v4192
  let c256_i32_2955 : BitVec 32 := 256#32
  let v4194 : BitVec 32 := Scalar.muli v4193 c256_i32_2955
  v4194
def k0_mult117 (i : grid0.Coords) (k0_t1 : Fin (k0_t1_loop i).trips) : BitVec 32 :=
  let c1_i32_248 : BitVec 32 := 1#32
  let c0_i32_228 : BitVec 32 := 0#32
  let c1_i32_230 : BitVec 32 := 1#32
  let arg9 : BitVec 32 := Scf.iv c0_i32_228 c1_i32_230 k0_t1
  let c32_i32_247 : BitVec 32 := 32#32
  let v350 : BitVec 32 := Scalar.muli arg9 c32_i32_247
  let v351 : BitVec 32 := Scalar.addi c1_i32_248 v350
  let c26_i32_2980 : BitVec 32 := 26#32
  let v4229 : BitVec 32 := Scalar.addi v351 c26_i32_2980
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_2981 : BitVec 32 := 1#32
  let v4230 : BitVec 32 := Scalar.subi v1 c1_i32_2981
  let v4231 : BitVec 32 := Scalar.minsi v4229 v4230
  let c256_i32_2982 : BitVec 32 := 256#32
  let v4232 : BitVec 32 := Scalar.muli v4231 c256_i32_2982
  v4232
def k0_mult118 (i : grid0.Coords) (k0_t1 : Fin (k0_t1_loop i).trips) : BitVec 32 :=
  let c1_i32_248 : BitVec 32 := 1#32
  let c0_i32_228 : BitVec 32 := 0#32
  let c1_i32_230 : BitVec 32 := 1#32
  let arg9 : BitVec 32 := Scf.iv c0_i32_228 c1_i32_230 k0_t1
  let c32_i32_247 : BitVec 32 := 32#32
  let v350 : BitVec 32 := Scalar.muli arg9 c32_i32_247
  let v351 : BitVec 32 := Scalar.addi c1_i32_248 v350
  let c27_i32 : BitVec 32 := 27#32
  let v4267 : BitVec 32 := Scalar.addi v351 c27_i32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_3007 : BitVec 32 := 1#32
  let v4268 : BitVec 32 := Scalar.subi v1 c1_i32_3007
  let v4269 : BitVec 32 := Scalar.minsi v4267 v4268
  let c256_i32_3008 : BitVec 32 := 256#32
  let v4270 : BitVec 32 := Scalar.muli v4269 c256_i32_3008
  v4270
def k0_mult119 (i : grid0.Coords) (k0_t1 : Fin (k0_t1_loop i).trips) : BitVec 32 :=
  let c1_i32_248 : BitVec 32 := 1#32
  let c0_i32_228 : BitVec 32 := 0#32
  let c1_i32_230 : BitVec 32 := 1#32
  let arg9 : BitVec 32 := Scf.iv c0_i32_228 c1_i32_230 k0_t1
  let c32_i32_247 : BitVec 32 := 32#32
  let v350 : BitVec 32 := Scalar.muli arg9 c32_i32_247
  let v351 : BitVec 32 := Scalar.addi c1_i32_248 v350
  let c27_i32_3033 : BitVec 32 := 27#32
  let v4305 : BitVec 32 := Scalar.addi v351 c27_i32_3033
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_3034 : BitVec 32 := 1#32
  let v4306 : BitVec 32 := Scalar.subi v1 c1_i32_3034
  let v4307 : BitVec 32 := Scalar.minsi v4305 v4306
  let c256_i32_3035 : BitVec 32 := 256#32
  let v4308 : BitVec 32 := Scalar.muli v4307 c256_i32_3035
  v4308
def k0_mult120 (i : grid0.Coords) (k0_t1 : Fin (k0_t1_loop i).trips) : BitVec 32 :=
  let c1_i32_248 : BitVec 32 := 1#32
  let c0_i32_228 : BitVec 32 := 0#32
  let c1_i32_230 : BitVec 32 := 1#32
  let arg9 : BitVec 32 := Scf.iv c0_i32_228 c1_i32_230 k0_t1
  let c32_i32_247 : BitVec 32 := 32#32
  let v350 : BitVec 32 := Scalar.muli arg9 c32_i32_247
  let v351 : BitVec 32 := Scalar.addi c1_i32_248 v350
  let c27_i32_3060 : BitVec 32 := 27#32
  let v4343 : BitVec 32 := Scalar.addi v351 c27_i32_3060
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_3061 : BitVec 32 := 1#32
  let v4344 : BitVec 32 := Scalar.subi v1 c1_i32_3061
  let v4345 : BitVec 32 := Scalar.minsi v4343 v4344
  let c256_i32_3062 : BitVec 32 := 256#32
  let v4346 : BitVec 32 := Scalar.muli v4345 c256_i32_3062
  v4346
def k0_mult121 (i : grid0.Coords) (k0_t1 : Fin (k0_t1_loop i).trips) : BitVec 32 :=
  let c1_i32_248 : BitVec 32 := 1#32
  let c0_i32_228 : BitVec 32 := 0#32
  let c1_i32_230 : BitVec 32 := 1#32
  let arg9 : BitVec 32 := Scf.iv c0_i32_228 c1_i32_230 k0_t1
  let c32_i32_247 : BitVec 32 := 32#32
  let v350 : BitVec 32 := Scalar.muli arg9 c32_i32_247
  let v351 : BitVec 32 := Scalar.addi c1_i32_248 v350
  let c27_i32_3087 : BitVec 32 := 27#32
  let v4381 : BitVec 32 := Scalar.addi v351 c27_i32_3087
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_3088 : BitVec 32 := 1#32
  let v4382 : BitVec 32 := Scalar.subi v1 c1_i32_3088
  let v4383 : BitVec 32 := Scalar.minsi v4381 v4382
  let c256_i32_3089 : BitVec 32 := 256#32
  let v4384 : BitVec 32 := Scalar.muli v4383 c256_i32_3089
  v4384
def k0_mult122 (i : grid0.Coords) (k0_t1 : Fin (k0_t1_loop i).trips) : BitVec 32 :=
  let c1_i32_248 : BitVec 32 := 1#32
  let c0_i32_228 : BitVec 32 := 0#32
  let c1_i32_230 : BitVec 32 := 1#32
  let arg9 : BitVec 32 := Scf.iv c0_i32_228 c1_i32_230 k0_t1
  let c32_i32_247 : BitVec 32 := 32#32
  let v350 : BitVec 32 := Scalar.muli arg9 c32_i32_247
  let v351 : BitVec 32 := Scalar.addi c1_i32_248 v350
  let c28_i32 : BitVec 32 := 28#32
  let v4419 : BitVec 32 := Scalar.addi v351 c28_i32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_3114 : BitVec 32 := 1#32
  let v4420 : BitVec 32 := Scalar.subi v1 c1_i32_3114
  let v4421 : BitVec 32 := Scalar.minsi v4419 v4420
  let c256_i32_3115 : BitVec 32 := 256#32
  let v4422 : BitVec 32 := Scalar.muli v4421 c256_i32_3115
  v4422
def k0_mult123 (i : grid0.Coords) (k0_t1 : Fin (k0_t1_loop i).trips) : BitVec 32 :=
  let c1_i32_248 : BitVec 32 := 1#32
  let c0_i32_228 : BitVec 32 := 0#32
  let c1_i32_230 : BitVec 32 := 1#32
  let arg9 : BitVec 32 := Scf.iv c0_i32_228 c1_i32_230 k0_t1
  let c32_i32_247 : BitVec 32 := 32#32
  let v350 : BitVec 32 := Scalar.muli arg9 c32_i32_247
  let v351 : BitVec 32 := Scalar.addi c1_i32_248 v350
  let c28_i32_3140 : BitVec 32 := 28#32
  let v4457 : BitVec 32 := Scalar.addi v351 c28_i32_3140
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_3141 : BitVec 32 := 1#32
  let v4458 : BitVec 32 := Scalar.subi v1 c1_i32_3141
  let v4459 : BitVec 32 := Scalar.minsi v4457 v4458
  let c256_i32_3142 : BitVec 32 := 256#32
  let v4460 : BitVec 32 := Scalar.muli v4459 c256_i32_3142
  v4460
def k0_mult124 (i : grid0.Coords) (k0_t1 : Fin (k0_t1_loop i).trips) : BitVec 32 :=
  let c1_i32_248 : BitVec 32 := 1#32
  let c0_i32_228 : BitVec 32 := 0#32
  let c1_i32_230 : BitVec 32 := 1#32
  let arg9 : BitVec 32 := Scf.iv c0_i32_228 c1_i32_230 k0_t1
  let c32_i32_247 : BitVec 32 := 32#32
  let v350 : BitVec 32 := Scalar.muli arg9 c32_i32_247
  let v351 : BitVec 32 := Scalar.addi c1_i32_248 v350
  let c28_i32_3167 : BitVec 32 := 28#32
  let v4495 : BitVec 32 := Scalar.addi v351 c28_i32_3167
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_3168 : BitVec 32 := 1#32
  let v4496 : BitVec 32 := Scalar.subi v1 c1_i32_3168
  let v4497 : BitVec 32 := Scalar.minsi v4495 v4496
  let c256_i32_3169 : BitVec 32 := 256#32
  let v4498 : BitVec 32 := Scalar.muli v4497 c256_i32_3169
  v4498
def k0_mult125 (i : grid0.Coords) (k0_t1 : Fin (k0_t1_loop i).trips) : BitVec 32 :=
  let c1_i32_248 : BitVec 32 := 1#32
  let c0_i32_228 : BitVec 32 := 0#32
  let c1_i32_230 : BitVec 32 := 1#32
  let arg9 : BitVec 32 := Scf.iv c0_i32_228 c1_i32_230 k0_t1
  let c32_i32_247 : BitVec 32 := 32#32
  let v350 : BitVec 32 := Scalar.muli arg9 c32_i32_247
  let v351 : BitVec 32 := Scalar.addi c1_i32_248 v350
  let c28_i32_3194 : BitVec 32 := 28#32
  let v4533 : BitVec 32 := Scalar.addi v351 c28_i32_3194
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_3195 : BitVec 32 := 1#32
  let v4534 : BitVec 32 := Scalar.subi v1 c1_i32_3195
  let v4535 : BitVec 32 := Scalar.minsi v4533 v4534
  let c256_i32_3196 : BitVec 32 := 256#32
  let v4536 : BitVec 32 := Scalar.muli v4535 c256_i32_3196
  v4536
def k0_mult126 (i : grid0.Coords) (k0_t1 : Fin (k0_t1_loop i).trips) : BitVec 32 :=
  let c1_i32_248 : BitVec 32 := 1#32
  let c0_i32_228 : BitVec 32 := 0#32
  let c1_i32_230 : BitVec 32 := 1#32
  let arg9 : BitVec 32 := Scf.iv c0_i32_228 c1_i32_230 k0_t1
  let c32_i32_247 : BitVec 32 := 32#32
  let v350 : BitVec 32 := Scalar.muli arg9 c32_i32_247
  let v351 : BitVec 32 := Scalar.addi c1_i32_248 v350
  let c29_i32 : BitVec 32 := 29#32
  let v4571 : BitVec 32 := Scalar.addi v351 c29_i32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_3221 : BitVec 32 := 1#32
  let v4572 : BitVec 32 := Scalar.subi v1 c1_i32_3221
  let v4573 : BitVec 32 := Scalar.minsi v4571 v4572
  let c256_i32_3222 : BitVec 32 := 256#32
  let v4574 : BitVec 32 := Scalar.muli v4573 c256_i32_3222
  v4574
def k0_mult127 (i : grid0.Coords) (k0_t1 : Fin (k0_t1_loop i).trips) : BitVec 32 :=
  let c1_i32_248 : BitVec 32 := 1#32
  let c0_i32_228 : BitVec 32 := 0#32
  let c1_i32_230 : BitVec 32 := 1#32
  let arg9 : BitVec 32 := Scf.iv c0_i32_228 c1_i32_230 k0_t1
  let c32_i32_247 : BitVec 32 := 32#32
  let v350 : BitVec 32 := Scalar.muli arg9 c32_i32_247
  let v351 : BitVec 32 := Scalar.addi c1_i32_248 v350
  let c29_i32_3247 : BitVec 32 := 29#32
  let v4609 : BitVec 32 := Scalar.addi v351 c29_i32_3247
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_3248 : BitVec 32 := 1#32
  let v4610 : BitVec 32 := Scalar.subi v1 c1_i32_3248
  let v4611 : BitVec 32 := Scalar.minsi v4609 v4610
  let c256_i32_3249 : BitVec 32 := 256#32
  let v4612 : BitVec 32 := Scalar.muli v4611 c256_i32_3249
  v4612
def k0_mult128 (i : grid0.Coords) (k0_t1 : Fin (k0_t1_loop i).trips) : BitVec 32 :=
  let c1_i32_248 : BitVec 32 := 1#32
  let c0_i32_228 : BitVec 32 := 0#32
  let c1_i32_230 : BitVec 32 := 1#32
  let arg9 : BitVec 32 := Scf.iv c0_i32_228 c1_i32_230 k0_t1
  let c32_i32_247 : BitVec 32 := 32#32
  let v350 : BitVec 32 := Scalar.muli arg9 c32_i32_247
  let v351 : BitVec 32 := Scalar.addi c1_i32_248 v350
  let c29_i32_3274 : BitVec 32 := 29#32
  let v4647 : BitVec 32 := Scalar.addi v351 c29_i32_3274
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_3275 : BitVec 32 := 1#32
  let v4648 : BitVec 32 := Scalar.subi v1 c1_i32_3275
  let v4649 : BitVec 32 := Scalar.minsi v4647 v4648
  let c256_i32_3276 : BitVec 32 := 256#32
  let v4650 : BitVec 32 := Scalar.muli v4649 c256_i32_3276
  v4650
def k0_mult129 (i : grid0.Coords) (k0_t1 : Fin (k0_t1_loop i).trips) : BitVec 32 :=
  let c1_i32_248 : BitVec 32 := 1#32
  let c0_i32_228 : BitVec 32 := 0#32
  let c1_i32_230 : BitVec 32 := 1#32
  let arg9 : BitVec 32 := Scf.iv c0_i32_228 c1_i32_230 k0_t1
  let c32_i32_247 : BitVec 32 := 32#32
  let v350 : BitVec 32 := Scalar.muli arg9 c32_i32_247
  let v351 : BitVec 32 := Scalar.addi c1_i32_248 v350
  let c29_i32_3301 : BitVec 32 := 29#32
  let v4685 : BitVec 32 := Scalar.addi v351 c29_i32_3301
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_3302 : BitVec 32 := 1#32
  let v4686 : BitVec 32 := Scalar.subi v1 c1_i32_3302
  let v4687 : BitVec 32 := Scalar.minsi v4685 v4686
  let c256_i32_3303 : BitVec 32 := 256#32
  let v4688 : BitVec 32 := Scalar.muli v4687 c256_i32_3303
  v4688
def k0_mult130 (i : grid0.Coords) (k0_t1 : Fin (k0_t1_loop i).trips) : BitVec 32 :=
  let c1_i32_248 : BitVec 32 := 1#32
  let c0_i32_228 : BitVec 32 := 0#32
  let c1_i32_230 : BitVec 32 := 1#32
  let arg9 : BitVec 32 := Scf.iv c0_i32_228 c1_i32_230 k0_t1
  let c32_i32_247 : BitVec 32 := 32#32
  let v350 : BitVec 32 := Scalar.muli arg9 c32_i32_247
  let v351 : BitVec 32 := Scalar.addi c1_i32_248 v350
  let c30_i32 : BitVec 32 := 30#32
  let v4723 : BitVec 32 := Scalar.addi v351 c30_i32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_3328 : BitVec 32 := 1#32
  let v4724 : BitVec 32 := Scalar.subi v1 c1_i32_3328
  let v4725 : BitVec 32 := Scalar.minsi v4723 v4724
  let c256_i32_3329 : BitVec 32 := 256#32
  let v4726 : BitVec 32 := Scalar.muli v4725 c256_i32_3329
  v4726
def k0_mult131 (i : grid0.Coords) (k0_t1 : Fin (k0_t1_loop i).trips) : BitVec 32 :=
  let c1_i32_248 : BitVec 32 := 1#32
  let c0_i32_228 : BitVec 32 := 0#32
  let c1_i32_230 : BitVec 32 := 1#32
  let arg9 : BitVec 32 := Scf.iv c0_i32_228 c1_i32_230 k0_t1
  let c32_i32_247 : BitVec 32 := 32#32
  let v350 : BitVec 32 := Scalar.muli arg9 c32_i32_247
  let v351 : BitVec 32 := Scalar.addi c1_i32_248 v350
  let c30_i32_3354 : BitVec 32 := 30#32
  let v4761 : BitVec 32 := Scalar.addi v351 c30_i32_3354
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_3355 : BitVec 32 := 1#32
  let v4762 : BitVec 32 := Scalar.subi v1 c1_i32_3355
  let v4763 : BitVec 32 := Scalar.minsi v4761 v4762
  let c256_i32_3356 : BitVec 32 := 256#32
  let v4764 : BitVec 32 := Scalar.muli v4763 c256_i32_3356
  v4764
def k0_mult132 (i : grid0.Coords) (k0_t1 : Fin (k0_t1_loop i).trips) : BitVec 32 :=
  let c1_i32_248 : BitVec 32 := 1#32
  let c0_i32_228 : BitVec 32 := 0#32
  let c1_i32_230 : BitVec 32 := 1#32
  let arg9 : BitVec 32 := Scf.iv c0_i32_228 c1_i32_230 k0_t1
  let c32_i32_247 : BitVec 32 := 32#32
  let v350 : BitVec 32 := Scalar.muli arg9 c32_i32_247
  let v351 : BitVec 32 := Scalar.addi c1_i32_248 v350
  let c30_i32_3381 : BitVec 32 := 30#32
  let v4799 : BitVec 32 := Scalar.addi v351 c30_i32_3381
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_3382 : BitVec 32 := 1#32
  let v4800 : BitVec 32 := Scalar.subi v1 c1_i32_3382
  let v4801 : BitVec 32 := Scalar.minsi v4799 v4800
  let c256_i32_3383 : BitVec 32 := 256#32
  let v4802 : BitVec 32 := Scalar.muli v4801 c256_i32_3383
  v4802
def k0_mult133 (i : grid0.Coords) (k0_t1 : Fin (k0_t1_loop i).trips) : BitVec 32 :=
  let c1_i32_248 : BitVec 32 := 1#32
  let c0_i32_228 : BitVec 32 := 0#32
  let c1_i32_230 : BitVec 32 := 1#32
  let arg9 : BitVec 32 := Scf.iv c0_i32_228 c1_i32_230 k0_t1
  let c32_i32_247 : BitVec 32 := 32#32
  let v350 : BitVec 32 := Scalar.muli arg9 c32_i32_247
  let v351 : BitVec 32 := Scalar.addi c1_i32_248 v350
  let c30_i32_3408 : BitVec 32 := 30#32
  let v4837 : BitVec 32 := Scalar.addi v351 c30_i32_3408
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_3409 : BitVec 32 := 1#32
  let v4838 : BitVec 32 := Scalar.subi v1 c1_i32_3409
  let v4839 : BitVec 32 := Scalar.minsi v4837 v4838
  let c256_i32_3410 : BitVec 32 := 256#32
  let v4840 : BitVec 32 := Scalar.muli v4839 c256_i32_3410
  v4840
def k0_mult134 (i : grid0.Coords) (k0_t1 : Fin (k0_t1_loop i).trips) : BitVec 32 :=
  let c1_i32_248 : BitVec 32 := 1#32
  let c0_i32_228 : BitVec 32 := 0#32
  let c1_i32_230 : BitVec 32 := 1#32
  let arg9 : BitVec 32 := Scf.iv c0_i32_228 c1_i32_230 k0_t1
  let c32_i32_247 : BitVec 32 := 32#32
  let v350 : BitVec 32 := Scalar.muli arg9 c32_i32_247
  let v351 : BitVec 32 := Scalar.addi c1_i32_248 v350
  let c31_i32 : BitVec 32 := 31#32
  let v4875 : BitVec 32 := Scalar.addi v351 c31_i32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_3435 : BitVec 32 := 1#32
  let v4876 : BitVec 32 := Scalar.subi v1 c1_i32_3435
  let v4877 : BitVec 32 := Scalar.minsi v4875 v4876
  let c256_i32_3436 : BitVec 32 := 256#32
  let v4878 : BitVec 32 := Scalar.muli v4877 c256_i32_3436
  v4878
def k0_mult135 (i : grid0.Coords) (k0_t1 : Fin (k0_t1_loop i).trips) : BitVec 32 :=
  let c1_i32_248 : BitVec 32 := 1#32
  let c0_i32_228 : BitVec 32 := 0#32
  let c1_i32_230 : BitVec 32 := 1#32
  let arg9 : BitVec 32 := Scf.iv c0_i32_228 c1_i32_230 k0_t1
  let c32_i32_247 : BitVec 32 := 32#32
  let v350 : BitVec 32 := Scalar.muli arg9 c32_i32_247
  let v351 : BitVec 32 := Scalar.addi c1_i32_248 v350
  let c31_i32_3461 : BitVec 32 := 31#32
  let v4913 : BitVec 32 := Scalar.addi v351 c31_i32_3461
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_3462 : BitVec 32 := 1#32
  let v4914 : BitVec 32 := Scalar.subi v1 c1_i32_3462
  let v4915 : BitVec 32 := Scalar.minsi v4913 v4914
  let c256_i32_3463 : BitVec 32 := 256#32
  let v4916 : BitVec 32 := Scalar.muli v4915 c256_i32_3463
  v4916
def k0_mult136 (i : grid0.Coords) (k0_t1 : Fin (k0_t1_loop i).trips) : BitVec 32 :=
  let c1_i32_248 : BitVec 32 := 1#32
  let c0_i32_228 : BitVec 32 := 0#32
  let c1_i32_230 : BitVec 32 := 1#32
  let arg9 : BitVec 32 := Scf.iv c0_i32_228 c1_i32_230 k0_t1
  let c32_i32_247 : BitVec 32 := 32#32
  let v350 : BitVec 32 := Scalar.muli arg9 c32_i32_247
  let v351 : BitVec 32 := Scalar.addi c1_i32_248 v350
  let c31_i32_3488 : BitVec 32 := 31#32
  let v4951 : BitVec 32 := Scalar.addi v351 c31_i32_3488
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_3489 : BitVec 32 := 1#32
  let v4952 : BitVec 32 := Scalar.subi v1 c1_i32_3489
  let v4953 : BitVec 32 := Scalar.minsi v4951 v4952
  let c256_i32_3490 : BitVec 32 := 256#32
  let v4954 : BitVec 32 := Scalar.muli v4953 c256_i32_3490
  v4954
def k0_mult137 (i : grid0.Coords) (k0_t1 : Fin (k0_t1_loop i).trips) : BitVec 32 :=
  let c1_i32_248 : BitVec 32 := 1#32
  let c0_i32_228 : BitVec 32 := 0#32
  let c1_i32_230 : BitVec 32 := 1#32
  let arg9 : BitVec 32 := Scf.iv c0_i32_228 c1_i32_230 k0_t1
  let c32_i32_247 : BitVec 32 := 32#32
  let v350 : BitVec 32 := Scalar.muli arg9 c32_i32_247
  let v351 : BitVec 32 := Scalar.addi c1_i32_248 v350
  let c31_i32_3515 : BitVec 32 := 31#32
  let v4989 : BitVec 32 := Scalar.addi v351 c31_i32_3515
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_3516 : BitVec 32 := 1#32
  let v4990 : BitVec 32 := Scalar.subi v1 c1_i32_3516
  let v4991 : BitVec 32 := Scalar.minsi v4989 v4990
  let c256_i32_3517 : BitVec 32 := 256#32
  let v4992 : BitVec 32 := Scalar.muli v4991 c256_i32_3517
  v4992
def k0_mult138 (i : grid0.Coords) (k0_t1 : Fin (k0_t1_loop i).trips) : BitVec 32 :=
  let c1_i32_248 : BitVec 32 := 1#32
  let c0_i32_228 : BitVec 32 := 0#32
  let c1_i32_230 : BitVec 32 := 1#32
  let arg9 : BitVec 32 := Scf.iv c0_i32_228 c1_i32_230 k0_t1
  let c32_i32_247 : BitVec 32 := 32#32
  let v350 : BitVec 32 := Scalar.muli arg9 c32_i32_247
  let v351 : BitVec 32 := Scalar.addi c1_i32_248 v350
  let c32_i32_3542 : BitVec 32 := 32#32
  let v5027 : BitVec 32 := Scalar.addi v351 c32_i32_3542
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_3543 : BitVec 32 := 1#32
  let v5028 : BitVec 32 := Scalar.subi v1 c1_i32_3543
  let v5029 : BitVec 32 := Scalar.minsi v5027 v5028
  let c256_i32_3544 : BitVec 32 := 256#32
  let v5030 : BitVec 32 := Scalar.muli v5029 c256_i32_3544
  v5030
def k0_mult139 (i : grid0.Coords) (k0_t1 : Fin (k0_t1_loop i).trips) : BitVec 32 :=
  let c1_i32_248 : BitVec 32 := 1#32
  let c0_i32_228 : BitVec 32 := 0#32
  let c1_i32_230 : BitVec 32 := 1#32
  let arg9 : BitVec 32 := Scf.iv c0_i32_228 c1_i32_230 k0_t1
  let c32_i32_247 : BitVec 32 := 32#32
  let v350 : BitVec 32 := Scalar.muli arg9 c32_i32_247
  let v351 : BitVec 32 := Scalar.addi c1_i32_248 v350
  let c32_i32_3569 : BitVec 32 := 32#32
  let v5065 : BitVec 32 := Scalar.addi v351 c32_i32_3569
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_3570 : BitVec 32 := 1#32
  let v5066 : BitVec 32 := Scalar.subi v1 c1_i32_3570
  let v5067 : BitVec 32 := Scalar.minsi v5065 v5066
  let c256_i32_3571 : BitVec 32 := 256#32
  let v5068 : BitVec 32 := Scalar.muli v5067 c256_i32_3571
  v5068
def k0_mult140 (i : grid0.Coords) (k0_t1 : Fin (k0_t1_loop i).trips) : BitVec 32 :=
  let c1_i32_248 : BitVec 32 := 1#32
  let c0_i32_228 : BitVec 32 := 0#32
  let c1_i32_230 : BitVec 32 := 1#32
  let arg9 : BitVec 32 := Scf.iv c0_i32_228 c1_i32_230 k0_t1
  let c32_i32_247 : BitVec 32 := 32#32
  let v350 : BitVec 32 := Scalar.muli arg9 c32_i32_247
  let v351 : BitVec 32 := Scalar.addi c1_i32_248 v350
  let c32_i32_3596 : BitVec 32 := 32#32
  let v5103 : BitVec 32 := Scalar.addi v351 c32_i32_3596
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_3597 : BitVec 32 := 1#32
  let v5104 : BitVec 32 := Scalar.subi v1 c1_i32_3597
  let v5105 : BitVec 32 := Scalar.minsi v5103 v5104
  let c256_i32_3598 : BitVec 32 := 256#32
  let v5106 : BitVec 32 := Scalar.muli v5105 c256_i32_3598
  v5106
def k0_mult141 (i : grid0.Coords) (k0_t1 : Fin (k0_t1_loop i).trips) : BitVec 32 :=
  let c1_i32_248 : BitVec 32 := 1#32
  let c0_i32_228 : BitVec 32 := 0#32
  let c1_i32_230 : BitVec 32 := 1#32
  let arg9 : BitVec 32 := Scf.iv c0_i32_228 c1_i32_230 k0_t1
  let c32_i32_247 : BitVec 32 := 32#32
  let v350 : BitVec 32 := Scalar.muli arg9 c32_i32_247
  let v351 : BitVec 32 := Scalar.addi c1_i32_248 v350
  let c32_i32_3623 : BitVec 32 := 32#32
  let v5141 : BitVec 32 := Scalar.addi v351 c32_i32_3623
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_3624 : BitVec 32 := 1#32
  let v5142 : BitVec 32 := Scalar.subi v1 c1_i32_3624
  let v5143 : BitVec 32 := Scalar.minsi v5141 v5142
  let c256_i32_3625 : BitVec 32 := 256#32
  let v5144 : BitVec 32 := Scalar.muli v5143 c256_i32_3625
  v5144
def k0_mult142 (i : grid0.Coords) (k0_t1 : Fin (k0_t1_loop i).trips) : BitVec 32 :=
  let c1_i32_248 : BitVec 32 := 1#32
  let c0_i32_228 : BitVec 32 := 0#32
  let c1_i32_230 : BitVec 32 := 1#32
  let arg9 : BitVec 32 := Scf.iv c0_i32_228 c1_i32_230 k0_t1
  let c32_i32_247 : BitVec 32 := 32#32
  let v350 : BitVec 32 := Scalar.muli arg9 c32_i32_247
  let v351 : BitVec 32 := Scalar.addi c1_i32_248 v350
  let c33_i32_3650 : BitVec 32 := 33#32
  let v5179 : BitVec 32 := Scalar.addi v351 c33_i32_3650
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_3651 : BitVec 32 := 1#32
  let v5180 : BitVec 32 := Scalar.subi v1 c1_i32_3651
  let v5181 : BitVec 32 := Scalar.minsi v5179 v5180
  let c256_i32_3652 : BitVec 32 := 256#32
  let v5182 : BitVec 32 := Scalar.muli v5181 c256_i32_3652
  v5182
@[reducible] def k0_t2_loop (i : grid0.Coords) : Scf.Loop 32 :=
  let c0_i32_228 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_176 : BitVec 32 := 1#32
  let v246 : BitVec 32 := Scalar.subi v1 c1_i32_176
  let c0_i32_177 : BitVec 32 := 0#32
  let v248 : BitVec 1 := Scalar.cmpi .sgt v246 c0_i32_177
  let v249 : BitVec 32 := Scalar.extui v248
  let c0_i32_178 : BitVec 32 := 0#32
  let v250 : BitVec 1 := Scalar.cmpi .slt v246 c0_i32_178
  let v251 : BitVec 32 := Scalar.extui v250
  let v252 : BitVec 32 := Scalar.subi v249 v251
  let c32_i32 : BitVec 32 := 32#32
  let c0_i32_179 : BitVec 32 := 0#32
  let v253 : BitVec 1 := Scalar.cmpi .sgt c32_i32 c0_i32_179
  let v254 : BitVec 32 := Scalar.extui v253
  let c0_i32_180 : BitVec 32 := 0#32
  let v255 : BitVec 1 := Scalar.cmpi .slt c32_i32 c0_i32_180
  let v256 : BitVec 32 := Scalar.extui v255
  let v257 : BitVec 32 := Scalar.subi v254 v256
  let v258 : BitVec 1 := Scalar.cmpi .ne v252 v257
  let v259 : BitVec 32 := Scalar.remsi v246 c32_i32
  let c0_i32_181 : BitVec 32 := 0#32
  let v260 : BitVec 1 := Scalar.cmpi .ne v259 c0_i32_181
  let v261 : BitVec 1 := Scalar.andi v258 v260
  let v247 : BitVec 32 := Scalar.divsi v246 c32_i32
  let c1_i32_182 : BitVec 32 := 1#32
  let v262 : BitVec 32 := Scalar.subi v247 c1_i32_182
  let v263 : BitVec 32 := Scalar.select v261 v262 v247
  let v314 : BitVec 32 := Scalar.subi v263 c0_i32_228
  let c1_i32_229 : BitVec 32 := 1#32
  let v316 : BitVec 32 := Scalar.divsi v314 c1_i32_229
  let v317 : BitVec 32 := Scalar.muli v316 c1_i32_229
  let v318 : BitVec 32 := Scalar.addi c0_i32_228 v317
  let v315 : BitVec 32 := Scalar.addi c0_i32_228 v314
  let c1_i32_231 : BitVec 32 := 1#32
  ⟨v318, v315, c1_i32_231⟩
def k0_mult143 (i : grid0.Coords) (k0_t2 : Fin (k0_t2_loop i).trips) : BitVec 32 :=
  let c1_i32_248 : BitVec 32 := 1#32
  let c0_i32_228 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_176 : BitVec 32 := 1#32
  let v246 : BitVec 32 := Scalar.subi v1 c1_i32_176
  let c0_i32_177 : BitVec 32 := 0#32
  let v248 : BitVec 1 := Scalar.cmpi .sgt v246 c0_i32_177
  let v249 : BitVec 32 := Scalar.extui v248
  let c0_i32_178 : BitVec 32 := 0#32
  let v250 : BitVec 1 := Scalar.cmpi .slt v246 c0_i32_178
  let v251 : BitVec 32 := Scalar.extui v250
  let v252 : BitVec 32 := Scalar.subi v249 v251
  let c32_i32 : BitVec 32 := 32#32
  let c0_i32_179 : BitVec 32 := 0#32
  let v253 : BitVec 1 := Scalar.cmpi .sgt c32_i32 c0_i32_179
  let v254 : BitVec 32 := Scalar.extui v253
  let c0_i32_180 : BitVec 32 := 0#32
  let v255 : BitVec 1 := Scalar.cmpi .slt c32_i32 c0_i32_180
  let v256 : BitVec 32 := Scalar.extui v255
  let v257 : BitVec 32 := Scalar.subi v254 v256
  let v258 : BitVec 1 := Scalar.cmpi .ne v252 v257
  let v259 : BitVec 32 := Scalar.remsi v246 c32_i32
  let c0_i32_181 : BitVec 32 := 0#32
  let v260 : BitVec 1 := Scalar.cmpi .ne v259 c0_i32_181
  let v261 : BitVec 1 := Scalar.andi v258 v260
  let v247 : BitVec 32 := Scalar.divsi v246 c32_i32
  let c1_i32_182 : BitVec 32 := 1#32
  let v262 : BitVec 32 := Scalar.subi v247 c1_i32_182
  let v263 : BitVec 32 := Scalar.select v261 v262 v247
  let v314 : BitVec 32 := Scalar.subi v263 c0_i32_228
  let c1_i32_229 : BitVec 32 := 1#32
  let v316 : BitVec 32 := Scalar.divsi v314 c1_i32_229
  let v317 : BitVec 32 := Scalar.muli v316 c1_i32_229
  let v318 : BitVec 32 := Scalar.addi c0_i32_228 v317
  let c1_i32_231 : BitVec 32 := 1#32
  let arg9 : BitVec 32 := Scf.iv v318 c1_i32_231 k0_t2
  let c32_i32_247 : BitVec 32 := 32#32
  let v350 : BitVec 32 := Scalar.muli arg9 c32_i32_247
  let v351 : BitVec 32 := Scalar.addi c1_i32_248 v350
  let c1_i32_250 : BitVec 32 := 1#32
  let v353 : BitVec 32 := Scalar.addi v351 c1_i32_250
  let c1_i32_251 : BitVec 32 := 1#32
  let v354 : BitVec 32 := Scalar.subi v1 c1_i32_251
  let v355 : BitVec 32 := Scalar.minsi v353 v354
  let c256_i32_252 : BitVec 32 := 256#32
  let v356 : BitVec 32 := Scalar.muli v355 c256_i32_252
  v356
def k0_off21 (i : grid0.Coords) (k0_t2 : Fin (k0_t2_loop i).trips) (c1_i32_250 : BitVec 32) : Fin 3 → Nat :=
  let c0_253 : Index := 0#32
  let c1_i32_248 : BitVec 32 := 1#32
  let c0_i32_228 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_176 : BitVec 32 := 1#32
  let v246 : BitVec 32 := Scalar.subi v1 c1_i32_176
  let c0_i32_177 : BitVec 32 := 0#32
  let v248 : BitVec 1 := Scalar.cmpi .sgt v246 c0_i32_177
  let v249 : BitVec 32 := Scalar.extui v248
  let c0_i32_178 : BitVec 32 := 0#32
  let v250 : BitVec 1 := Scalar.cmpi .slt v246 c0_i32_178
  let v251 : BitVec 32 := Scalar.extui v250
  let v252 : BitVec 32 := Scalar.subi v249 v251
  let c32_i32 : BitVec 32 := 32#32
  let c0_i32_179 : BitVec 32 := 0#32
  let v253 : BitVec 1 := Scalar.cmpi .sgt c32_i32 c0_i32_179
  let v254 : BitVec 32 := Scalar.extui v253
  let c0_i32_180 : BitVec 32 := 0#32
  let v255 : BitVec 1 := Scalar.cmpi .slt c32_i32 c0_i32_180
  let v256 : BitVec 32 := Scalar.extui v255
  let v257 : BitVec 32 := Scalar.subi v254 v256
  let v258 : BitVec 1 := Scalar.cmpi .ne v252 v257
  let v259 : BitVec 32 := Scalar.remsi v246 c32_i32
  let c0_i32_181 : BitVec 32 := 0#32
  let v260 : BitVec 1 := Scalar.cmpi .ne v259 c0_i32_181
  let v261 : BitVec 1 := Scalar.andi v258 v260
  let v247 : BitVec 32 := Scalar.divsi v246 c32_i32
  let c1_i32_182 : BitVec 32 := 1#32
  let v262 : BitVec 32 := Scalar.subi v247 c1_i32_182
  let v263 : BitVec 32 := Scalar.select v261 v262 v247
  let v314 : BitVec 32 := Scalar.subi v263 c0_i32_228
  let c1_i32_229 : BitVec 32 := 1#32
  let v316 : BitVec 32 := Scalar.divsi v314 c1_i32_229
  let v317 : BitVec 32 := Scalar.muli v316 c1_i32_229
  let v318 : BitVec 32 := Scalar.addi c0_i32_228 v317
  let c1_i32_231 : BitVec 32 := 1#32
  let arg9 : BitVec 32 := Scf.iv v318 c1_i32_231 k0_t2
  let c32_i32_247 : BitVec 32 := 32#32
  let v350 : BitVec 32 := Scalar.muli arg9 c32_i32_247
  let v351 : BitVec 32 := Scalar.addi c1_i32_248 v350
  let v353 : BitVec 32 := Scalar.addi v351 c1_i32_250
  let c1_i32_251 : BitVec 32 := 1#32
  let v354 : BitVec 32 := Scalar.subi v1 c1_i32_251
  let v355 : BitVec 32 := Scalar.minsi v353 v354
  let c256_i32_252 : BitVec 32 := 256#32
  let v356 : BitVec 32 := Scalar.muli v355 c256_i32_252
  let v357 : BitVec 32 := v356
  let v358 : Index := Scalar.indexCast v357
  let c128_254 : Index := 128#32
  ![0, v358.toNat, 128]
def k0_off22 (i : grid0.Coords) (k0_t2 : Fin (k0_t2_loop i).trips) (c0_i32_249 : BitVec 32) : Fin 4 → Nat :=
  let c0_263 : Index := 0#32
  let c1_i32_248 : BitVec 32 := 1#32
  let c0_i32_228 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_176 : BitVec 32 := 1#32
  let v246 : BitVec 32 := Scalar.subi v1 c1_i32_176
  let c0_i32_177 : BitVec 32 := 0#32
  let v248 : BitVec 1 := Scalar.cmpi .sgt v246 c0_i32_177
  let v249 : BitVec 32 := Scalar.extui v248
  let c0_i32_178 : BitVec 32 := 0#32
  let v250 : BitVec 1 := Scalar.cmpi .slt v246 c0_i32_178
  let v251 : BitVec 32 := Scalar.extui v250
  let v252 : BitVec 32 := Scalar.subi v249 v251
  let c32_i32 : BitVec 32 := 32#32
  let c0_i32_179 : BitVec 32 := 0#32
  let v253 : BitVec 1 := Scalar.cmpi .sgt c32_i32 c0_i32_179
  let v254 : BitVec 32 := Scalar.extui v253
  let c0_i32_180 : BitVec 32 := 0#32
  let v255 : BitVec 1 := Scalar.cmpi .slt c32_i32 c0_i32_180
  let v256 : BitVec 32 := Scalar.extui v255
  let v257 : BitVec 32 := Scalar.subi v254 v256
  let v258 : BitVec 1 := Scalar.cmpi .ne v252 v257
  let v259 : BitVec 32 := Scalar.remsi v246 c32_i32
  let c0_i32_181 : BitVec 32 := 0#32
  let v260 : BitVec 1 := Scalar.cmpi .ne v259 c0_i32_181
  let v261 : BitVec 1 := Scalar.andi v258 v260
  let v247 : BitVec 32 := Scalar.divsi v246 c32_i32
  let c1_i32_182 : BitVec 32 := 1#32
  let v262 : BitVec 32 := Scalar.subi v247 c1_i32_182
  let v263 : BitVec 32 := Scalar.select v261 v262 v247
  let v314 : BitVec 32 := Scalar.subi v263 c0_i32_228
  let c1_i32_229 : BitVec 32 := 1#32
  let v316 : BitVec 32 := Scalar.divsi v314 c1_i32_229
  let v317 : BitVec 32 := Scalar.muli v316 c1_i32_229
  let v318 : BitVec 32 := Scalar.addi c0_i32_228 v317
  let c1_i32_231 : BitVec 32 := 1#32
  let arg9 : BitVec 32 := Scf.iv v318 c1_i32_231 k0_t2
  let c32_i32_247 : BitVec 32 := 32#32
  let v350 : BitVec 32 := Scalar.muli arg9 c32_i32_247
  let v351 : BitVec 32 := Scalar.addi c1_i32_248 v350
  let v352 : BitVec 32 := Scalar.addi v351 c0_i32_249
  let v373 : Index := Scalar.indexCast v352
  let c0_264 : Index := 0#32
  let c0_265 : Index := 0#32
  ![0, v373.toNat, 0, 0]
def k0_mult144 (i : grid0.Coords) (k0_t2 : Fin (k0_t2_loop i).trips) : BitVec 32 :=
  let c1_i32_248 : BitVec 32 := 1#32
  let c0_i32_228 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_176 : BitVec 32 := 1#32
  let v246 : BitVec 32 := Scalar.subi v1 c1_i32_176
  let c0_i32_177 : BitVec 32 := 0#32
  let v248 : BitVec 1 := Scalar.cmpi .sgt v246 c0_i32_177
  let v249 : BitVec 32 := Scalar.extui v248
  let c0_i32_178 : BitVec 32 := 0#32
  let v250 : BitVec 1 := Scalar.cmpi .slt v246 c0_i32_178
  let v251 : BitVec 32 := Scalar.extui v250
  let v252 : BitVec 32 := Scalar.subi v249 v251
  let c32_i32 : BitVec 32 := 32#32
  let c0_i32_179 : BitVec 32 := 0#32
  let v253 : BitVec 1 := Scalar.cmpi .sgt c32_i32 c0_i32_179
  let v254 : BitVec 32 := Scalar.extui v253
  let c0_i32_180 : BitVec 32 := 0#32
  let v255 : BitVec 1 := Scalar.cmpi .slt c32_i32 c0_i32_180
  let v256 : BitVec 32 := Scalar.extui v255
  let v257 : BitVec 32 := Scalar.subi v254 v256
  let v258 : BitVec 1 := Scalar.cmpi .ne v252 v257
  let v259 : BitVec 32 := Scalar.remsi v246 c32_i32
  let c0_i32_181 : BitVec 32 := 0#32
  let v260 : BitVec 1 := Scalar.cmpi .ne v259 c0_i32_181
  let v261 : BitVec 1 := Scalar.andi v258 v260
  let v247 : BitVec 32 := Scalar.divsi v246 c32_i32
  let c1_i32_182 : BitVec 32 := 1#32
  let v262 : BitVec 32 := Scalar.subi v247 c1_i32_182
  let v263 : BitVec 32 := Scalar.select v261 v262 v247
  let v314 : BitVec 32 := Scalar.subi v263 c0_i32_228
  let c1_i32_229 : BitVec 32 := 1#32
  let v316 : BitVec 32 := Scalar.divsi v314 c1_i32_229
  let v317 : BitVec 32 := Scalar.muli v316 c1_i32_229
  let v318 : BitVec 32 := Scalar.addi c0_i32_228 v317
  let c1_i32_231 : BitVec 32 := 1#32
  let arg9 : BitVec 32 := Scf.iv v318 c1_i32_231 k0_t2
  let c32_i32_247 : BitVec 32 := 32#32
  let v350 : BitVec 32 := Scalar.muli arg9 c32_i32_247
  let v351 : BitVec 32 := Scalar.addi c1_i32_248 v350
  let c1_i32_277 : BitVec 32 := 1#32
  let v391 : BitVec 32 := Scalar.addi v351 c1_i32_277
  let c1_i32_278 : BitVec 32 := 1#32
  let v392 : BitVec 32 := Scalar.subi v1 c1_i32_278
  let v393 : BitVec 32 := Scalar.minsi v391 v392
  let c256_i32_279 : BitVec 32 := 256#32
  let v394 : BitVec 32 := Scalar.muli v393 c256_i32_279
  v394
def k0_off23 (i : grid0.Coords) (k0_t2 : Fin (k0_t2_loop i).trips) (c1_i32_277 : BitVec 32) : Fin 3 → Nat :=
  let c0_280 : Index := 0#32
  let c1_i32_248 : BitVec 32 := 1#32
  let c0_i32_228 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_176 : BitVec 32 := 1#32
  let v246 : BitVec 32 := Scalar.subi v1 c1_i32_176
  let c0_i32_177 : BitVec 32 := 0#32
  let v248 : BitVec 1 := Scalar.cmpi .sgt v246 c0_i32_177
  let v249 : BitVec 32 := Scalar.extui v248
  let c0_i32_178 : BitVec 32 := 0#32
  let v250 : BitVec 1 := Scalar.cmpi .slt v246 c0_i32_178
  let v251 : BitVec 32 := Scalar.extui v250
  let v252 : BitVec 32 := Scalar.subi v249 v251
  let c32_i32 : BitVec 32 := 32#32
  let c0_i32_179 : BitVec 32 := 0#32
  let v253 : BitVec 1 := Scalar.cmpi .sgt c32_i32 c0_i32_179
  let v254 : BitVec 32 := Scalar.extui v253
  let c0_i32_180 : BitVec 32 := 0#32
  let v255 : BitVec 1 := Scalar.cmpi .slt c32_i32 c0_i32_180
  let v256 : BitVec 32 := Scalar.extui v255
  let v257 : BitVec 32 := Scalar.subi v254 v256
  let v258 : BitVec 1 := Scalar.cmpi .ne v252 v257
  let v259 : BitVec 32 := Scalar.remsi v246 c32_i32
  let c0_i32_181 : BitVec 32 := 0#32
  let v260 : BitVec 1 := Scalar.cmpi .ne v259 c0_i32_181
  let v261 : BitVec 1 := Scalar.andi v258 v260
  let v247 : BitVec 32 := Scalar.divsi v246 c32_i32
  let c1_i32_182 : BitVec 32 := 1#32
  let v262 : BitVec 32 := Scalar.subi v247 c1_i32_182
  let v263 : BitVec 32 := Scalar.select v261 v262 v247
  let v314 : BitVec 32 := Scalar.subi v263 c0_i32_228
  let c1_i32_229 : BitVec 32 := 1#32
  let v316 : BitVec 32 := Scalar.divsi v314 c1_i32_229
  let v317 : BitVec 32 := Scalar.muli v316 c1_i32_229
  let v318 : BitVec 32 := Scalar.addi c0_i32_228 v317
  let c1_i32_231 : BitVec 32 := 1#32
  let arg9 : BitVec 32 := Scf.iv v318 c1_i32_231 k0_t2
  let c32_i32_247 : BitVec 32 := 32#32
  let v350 : BitVec 32 := Scalar.muli arg9 c32_i32_247
  let v351 : BitVec 32 := Scalar.addi c1_i32_248 v350
  let v391 : BitVec 32 := Scalar.addi v351 c1_i32_277
  let c1_i32_278 : BitVec 32 := 1#32
  let v392 : BitVec 32 := Scalar.subi v1 c1_i32_278
  let v393 : BitVec 32 := Scalar.minsi v391 v392
  let c256_i32_279 : BitVec 32 := 256#32
  let v394 : BitVec 32 := Scalar.muli v393 c256_i32_279
  let v395 : BitVec 32 := v394
  let v396 : Index := Scalar.indexCast v395
  let c256_281 : Index := 256#32
  ![0, v396.toNat, 256]
def k0_off24 (i : grid0.Coords) (k0_t2 : Fin (k0_t2_loop i).trips) (c0_i32_276 : BitVec 32) : Fin 4 → Nat :=
  let c0_290 : Index := 0#32
  let c1_i32_248 : BitVec 32 := 1#32
  let c0_i32_228 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_176 : BitVec 32 := 1#32
  let v246 : BitVec 32 := Scalar.subi v1 c1_i32_176
  let c0_i32_177 : BitVec 32 := 0#32
  let v248 : BitVec 1 := Scalar.cmpi .sgt v246 c0_i32_177
  let v249 : BitVec 32 := Scalar.extui v248
  let c0_i32_178 : BitVec 32 := 0#32
  let v250 : BitVec 1 := Scalar.cmpi .slt v246 c0_i32_178
  let v251 : BitVec 32 := Scalar.extui v250
  let v252 : BitVec 32 := Scalar.subi v249 v251
  let c32_i32 : BitVec 32 := 32#32
  let c0_i32_179 : BitVec 32 := 0#32
  let v253 : BitVec 1 := Scalar.cmpi .sgt c32_i32 c0_i32_179
  let v254 : BitVec 32 := Scalar.extui v253
  let c0_i32_180 : BitVec 32 := 0#32
  let v255 : BitVec 1 := Scalar.cmpi .slt c32_i32 c0_i32_180
  let v256 : BitVec 32 := Scalar.extui v255
  let v257 : BitVec 32 := Scalar.subi v254 v256
  let v258 : BitVec 1 := Scalar.cmpi .ne v252 v257
  let v259 : BitVec 32 := Scalar.remsi v246 c32_i32
  let c0_i32_181 : BitVec 32 := 0#32
  let v260 : BitVec 1 := Scalar.cmpi .ne v259 c0_i32_181
  let v261 : BitVec 1 := Scalar.andi v258 v260
  let v247 : BitVec 32 := Scalar.divsi v246 c32_i32
  let c1_i32_182 : BitVec 32 := 1#32
  let v262 : BitVec 32 := Scalar.subi v247 c1_i32_182
  let v263 : BitVec 32 := Scalar.select v261 v262 v247
  let v314 : BitVec 32 := Scalar.subi v263 c0_i32_228
  let c1_i32_229 : BitVec 32 := 1#32
  let v316 : BitVec 32 := Scalar.divsi v314 c1_i32_229
  let v317 : BitVec 32 := Scalar.muli v316 c1_i32_229
  let v318 : BitVec 32 := Scalar.addi c0_i32_228 v317
  let c1_i32_231 : BitVec 32 := 1#32
  let arg9 : BitVec 32 := Scf.iv v318 c1_i32_231 k0_t2
  let c32_i32_247 : BitVec 32 := 32#32
  let v350 : BitVec 32 := Scalar.muli arg9 c32_i32_247
  let v351 : BitVec 32 := Scalar.addi c1_i32_248 v350
  let v390 : BitVec 32 := Scalar.addi v351 c0_i32_276
  let v411 : Index := Scalar.indexCast v390
  let c80_291 : Index := 80#32
  let c0_292 : Index := 0#32
  ![0, v411.toNat, 80, 0]
def k0_mult145 (i : grid0.Coords) (k0_t2 : Fin (k0_t2_loop i).trips) : BitVec 32 :=
  let c1_i32_248 : BitVec 32 := 1#32
  let c0_i32_228 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_176 : BitVec 32 := 1#32
  let v246 : BitVec 32 := Scalar.subi v1 c1_i32_176
  let c0_i32_177 : BitVec 32 := 0#32
  let v248 : BitVec 1 := Scalar.cmpi .sgt v246 c0_i32_177
  let v249 : BitVec 32 := Scalar.extui v248
  let c0_i32_178 : BitVec 32 := 0#32
  let v250 : BitVec 1 := Scalar.cmpi .slt v246 c0_i32_178
  let v251 : BitVec 32 := Scalar.extui v250
  let v252 : BitVec 32 := Scalar.subi v249 v251
  let c32_i32 : BitVec 32 := 32#32
  let c0_i32_179 : BitVec 32 := 0#32
  let v253 : BitVec 1 := Scalar.cmpi .sgt c32_i32 c0_i32_179
  let v254 : BitVec 32 := Scalar.extui v253
  let c0_i32_180 : BitVec 32 := 0#32
  let v255 : BitVec 1 := Scalar.cmpi .slt c32_i32 c0_i32_180
  let v256 : BitVec 32 := Scalar.extui v255
  let v257 : BitVec 32 := Scalar.subi v254 v256
  let v258 : BitVec 1 := Scalar.cmpi .ne v252 v257
  let v259 : BitVec 32 := Scalar.remsi v246 c32_i32
  let c0_i32_181 : BitVec 32 := 0#32
  let v260 : BitVec 1 := Scalar.cmpi .ne v259 c0_i32_181
  let v261 : BitVec 1 := Scalar.andi v258 v260
  let v247 : BitVec 32 := Scalar.divsi v246 c32_i32
  let c1_i32_182 : BitVec 32 := 1#32
  let v262 : BitVec 32 := Scalar.subi v247 c1_i32_182
  let v263 : BitVec 32 := Scalar.select v261 v262 v247
  let v314 : BitVec 32 := Scalar.subi v263 c0_i32_228
  let c1_i32_229 : BitVec 32 := 1#32
  let v316 : BitVec 32 := Scalar.divsi v314 c1_i32_229
  let v317 : BitVec 32 := Scalar.muli v316 c1_i32_229
  let v318 : BitVec 32 := Scalar.addi c0_i32_228 v317
  let c1_i32_231 : BitVec 32 := 1#32
  let arg9 : BitVec 32 := Scf.iv v318 c1_i32_231 k0_t2
  let c32_i32_247 : BitVec 32 := 32#32
  let v350 : BitVec 32 := Scalar.muli arg9 c32_i32_247
  let v351 : BitVec 32 := Scalar.addi c1_i32_248 v350
  let c1_i32_304 : BitVec 32 := 1#32
  let v429 : BitVec 32 := Scalar.addi v351 c1_i32_304
  let c1_i32_305 : BitVec 32 := 1#32
  let v430 : BitVec 32 := Scalar.subi v1 c1_i32_305
  let v431 : BitVec 32 := Scalar.minsi v429 v430
  let c256_i32_306 : BitVec 32 := 256#32
  let v432 : BitVec 32 := Scalar.muli v431 c256_i32_306
  v432
def k0_off25 (i : grid0.Coords) (k0_t2 : Fin (k0_t2_loop i).trips) (c1_i32_304 : BitVec 32) : Fin 3 → Nat :=
  let c0_307 : Index := 0#32
  let c1_i32_248 : BitVec 32 := 1#32
  let c0_i32_228 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_176 : BitVec 32 := 1#32
  let v246 : BitVec 32 := Scalar.subi v1 c1_i32_176
  let c0_i32_177 : BitVec 32 := 0#32
  let v248 : BitVec 1 := Scalar.cmpi .sgt v246 c0_i32_177
  let v249 : BitVec 32 := Scalar.extui v248
  let c0_i32_178 : BitVec 32 := 0#32
  let v250 : BitVec 1 := Scalar.cmpi .slt v246 c0_i32_178
  let v251 : BitVec 32 := Scalar.extui v250
  let v252 : BitVec 32 := Scalar.subi v249 v251
  let c32_i32 : BitVec 32 := 32#32
  let c0_i32_179 : BitVec 32 := 0#32
  let v253 : BitVec 1 := Scalar.cmpi .sgt c32_i32 c0_i32_179
  let v254 : BitVec 32 := Scalar.extui v253
  let c0_i32_180 : BitVec 32 := 0#32
  let v255 : BitVec 1 := Scalar.cmpi .slt c32_i32 c0_i32_180
  let v256 : BitVec 32 := Scalar.extui v255
  let v257 : BitVec 32 := Scalar.subi v254 v256
  let v258 : BitVec 1 := Scalar.cmpi .ne v252 v257
  let v259 : BitVec 32 := Scalar.remsi v246 c32_i32
  let c0_i32_181 : BitVec 32 := 0#32
  let v260 : BitVec 1 := Scalar.cmpi .ne v259 c0_i32_181
  let v261 : BitVec 1 := Scalar.andi v258 v260
  let v247 : BitVec 32 := Scalar.divsi v246 c32_i32
  let c1_i32_182 : BitVec 32 := 1#32
  let v262 : BitVec 32 := Scalar.subi v247 c1_i32_182
  let v263 : BitVec 32 := Scalar.select v261 v262 v247
  let v314 : BitVec 32 := Scalar.subi v263 c0_i32_228
  let c1_i32_229 : BitVec 32 := 1#32
  let v316 : BitVec 32 := Scalar.divsi v314 c1_i32_229
  let v317 : BitVec 32 := Scalar.muli v316 c1_i32_229
  let v318 : BitVec 32 := Scalar.addi c0_i32_228 v317
  let c1_i32_231 : BitVec 32 := 1#32
  let arg9 : BitVec 32 := Scf.iv v318 c1_i32_231 k0_t2
  let c32_i32_247 : BitVec 32 := 32#32
  let v350 : BitVec 32 := Scalar.muli arg9 c32_i32_247
  let v351 : BitVec 32 := Scalar.addi c1_i32_248 v350
  let v429 : BitVec 32 := Scalar.addi v351 c1_i32_304
  let c1_i32_305 : BitVec 32 := 1#32
  let v430 : BitVec 32 := Scalar.subi v1 c1_i32_305
  let v431 : BitVec 32 := Scalar.minsi v429 v430
  let c256_i32_306 : BitVec 32 := 256#32
  let v432 : BitVec 32 := Scalar.muli v431 c256_i32_306
  let v433 : BitVec 32 := v432
  let v434 : Index := Scalar.indexCast v433
  let c384_308 : Index := 384#32
  ![0, v434.toNat, 384]
def k0_off26 (i : grid0.Coords) (k0_t2 : Fin (k0_t2_loop i).trips) (c0_i32_303 : BitVec 32) : Fin 4 → Nat :=
  let c0_317 : Index := 0#32
  let c1_i32_248 : BitVec 32 := 1#32
  let c0_i32_228 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_176 : BitVec 32 := 1#32
  let v246 : BitVec 32 := Scalar.subi v1 c1_i32_176
  let c0_i32_177 : BitVec 32 := 0#32
  let v248 : BitVec 1 := Scalar.cmpi .sgt v246 c0_i32_177
  let v249 : BitVec 32 := Scalar.extui v248
  let c0_i32_178 : BitVec 32 := 0#32
  let v250 : BitVec 1 := Scalar.cmpi .slt v246 c0_i32_178
  let v251 : BitVec 32 := Scalar.extui v250
  let v252 : BitVec 32 := Scalar.subi v249 v251
  let c32_i32 : BitVec 32 := 32#32
  let c0_i32_179 : BitVec 32 := 0#32
  let v253 : BitVec 1 := Scalar.cmpi .sgt c32_i32 c0_i32_179
  let v254 : BitVec 32 := Scalar.extui v253
  let c0_i32_180 : BitVec 32 := 0#32
  let v255 : BitVec 1 := Scalar.cmpi .slt c32_i32 c0_i32_180
  let v256 : BitVec 32 := Scalar.extui v255
  let v257 : BitVec 32 := Scalar.subi v254 v256
  let v258 : BitVec 1 := Scalar.cmpi .ne v252 v257
  let v259 : BitVec 32 := Scalar.remsi v246 c32_i32
  let c0_i32_181 : BitVec 32 := 0#32
  let v260 : BitVec 1 := Scalar.cmpi .ne v259 c0_i32_181
  let v261 : BitVec 1 := Scalar.andi v258 v260
  let v247 : BitVec 32 := Scalar.divsi v246 c32_i32
  let c1_i32_182 : BitVec 32 := 1#32
  let v262 : BitVec 32 := Scalar.subi v247 c1_i32_182
  let v263 : BitVec 32 := Scalar.select v261 v262 v247
  let v314 : BitVec 32 := Scalar.subi v263 c0_i32_228
  let c1_i32_229 : BitVec 32 := 1#32
  let v316 : BitVec 32 := Scalar.divsi v314 c1_i32_229
  let v317 : BitVec 32 := Scalar.muli v316 c1_i32_229
  let v318 : BitVec 32 := Scalar.addi c0_i32_228 v317
  let c1_i32_231 : BitVec 32 := 1#32
  let arg9 : BitVec 32 := Scf.iv v318 c1_i32_231 k0_t2
  let c32_i32_247 : BitVec 32 := 32#32
  let v350 : BitVec 32 := Scalar.muli arg9 c32_i32_247
  let v351 : BitVec 32 := Scalar.addi c1_i32_248 v350
  let v428 : BitVec 32 := Scalar.addi v351 c0_i32_303
  let v449 : Index := Scalar.indexCast v428
  let c160_318 : Index := 160#32
  let c0_319 : Index := 0#32
  ![0, v449.toNat, 160, 0]
def k0_mult146 (i : grid0.Coords) (k0_t2 : Fin (k0_t2_loop i).trips) : BitVec 32 :=
  let c1_i32_248 : BitVec 32 := 1#32
  let c0_i32_228 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_176 : BitVec 32 := 1#32
  let v246 : BitVec 32 := Scalar.subi v1 c1_i32_176
  let c0_i32_177 : BitVec 32 := 0#32
  let v248 : BitVec 1 := Scalar.cmpi .sgt v246 c0_i32_177
  let v249 : BitVec 32 := Scalar.extui v248
  let c0_i32_178 : BitVec 32 := 0#32
  let v250 : BitVec 1 := Scalar.cmpi .slt v246 c0_i32_178
  let v251 : BitVec 32 := Scalar.extui v250
  let v252 : BitVec 32 := Scalar.subi v249 v251
  let c32_i32 : BitVec 32 := 32#32
  let c0_i32_179 : BitVec 32 := 0#32
  let v253 : BitVec 1 := Scalar.cmpi .sgt c32_i32 c0_i32_179
  let v254 : BitVec 32 := Scalar.extui v253
  let c0_i32_180 : BitVec 32 := 0#32
  let v255 : BitVec 1 := Scalar.cmpi .slt c32_i32 c0_i32_180
  let v256 : BitVec 32 := Scalar.extui v255
  let v257 : BitVec 32 := Scalar.subi v254 v256
  let v258 : BitVec 1 := Scalar.cmpi .ne v252 v257
  let v259 : BitVec 32 := Scalar.remsi v246 c32_i32
  let c0_i32_181 : BitVec 32 := 0#32
  let v260 : BitVec 1 := Scalar.cmpi .ne v259 c0_i32_181
  let v261 : BitVec 1 := Scalar.andi v258 v260
  let v247 : BitVec 32 := Scalar.divsi v246 c32_i32
  let c1_i32_182 : BitVec 32 := 1#32
  let v262 : BitVec 32 := Scalar.subi v247 c1_i32_182
  let v263 : BitVec 32 := Scalar.select v261 v262 v247
  let v314 : BitVec 32 := Scalar.subi v263 c0_i32_228
  let c1_i32_229 : BitVec 32 := 1#32
  let v316 : BitVec 32 := Scalar.divsi v314 c1_i32_229
  let v317 : BitVec 32 := Scalar.muli v316 c1_i32_229
  let v318 : BitVec 32 := Scalar.addi c0_i32_228 v317
  let c1_i32_231 : BitVec 32 := 1#32
  let arg9 : BitVec 32 := Scf.iv v318 c1_i32_231 k0_t2
  let c32_i32_247 : BitVec 32 := 32#32
  let v350 : BitVec 32 := Scalar.muli arg9 c32_i32_247
  let v351 : BitVec 32 := Scalar.addi c1_i32_248 v350
  let c2_i32_331 : BitVec 32 := 2#32
  let v467 : BitVec 32 := Scalar.addi v351 c2_i32_331
  let c1_i32_332 : BitVec 32 := 1#32
  let v468 : BitVec 32 := Scalar.subi v1 c1_i32_332
  let v469 : BitVec 32 := Scalar.minsi v467 v468
  let c256_i32_333 : BitVec 32 := 256#32
  let v470 : BitVec 32 := Scalar.muli v469 c256_i32_333
  v470
def k0_off27 (i : grid0.Coords) (k0_t2 : Fin (k0_t2_loop i).trips) (c2_i32_331 : BitVec 32) : Fin 3 → Nat :=
  let c0_334 : Index := 0#32
  let c1_i32_248 : BitVec 32 := 1#32
  let c0_i32_228 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_176 : BitVec 32 := 1#32
  let v246 : BitVec 32 := Scalar.subi v1 c1_i32_176
  let c0_i32_177 : BitVec 32 := 0#32
  let v248 : BitVec 1 := Scalar.cmpi .sgt v246 c0_i32_177
  let v249 : BitVec 32 := Scalar.extui v248
  let c0_i32_178 : BitVec 32 := 0#32
  let v250 : BitVec 1 := Scalar.cmpi .slt v246 c0_i32_178
  let v251 : BitVec 32 := Scalar.extui v250
  let v252 : BitVec 32 := Scalar.subi v249 v251
  let c32_i32 : BitVec 32 := 32#32
  let c0_i32_179 : BitVec 32 := 0#32
  let v253 : BitVec 1 := Scalar.cmpi .sgt c32_i32 c0_i32_179
  let v254 : BitVec 32 := Scalar.extui v253
  let c0_i32_180 : BitVec 32 := 0#32
  let v255 : BitVec 1 := Scalar.cmpi .slt c32_i32 c0_i32_180
  let v256 : BitVec 32 := Scalar.extui v255
  let v257 : BitVec 32 := Scalar.subi v254 v256
  let v258 : BitVec 1 := Scalar.cmpi .ne v252 v257
  let v259 : BitVec 32 := Scalar.remsi v246 c32_i32
  let c0_i32_181 : BitVec 32 := 0#32
  let v260 : BitVec 1 := Scalar.cmpi .ne v259 c0_i32_181
  let v261 : BitVec 1 := Scalar.andi v258 v260
  let v247 : BitVec 32 := Scalar.divsi v246 c32_i32
  let c1_i32_182 : BitVec 32 := 1#32
  let v262 : BitVec 32 := Scalar.subi v247 c1_i32_182
  let v263 : BitVec 32 := Scalar.select v261 v262 v247
  let v314 : BitVec 32 := Scalar.subi v263 c0_i32_228
  let c1_i32_229 : BitVec 32 := 1#32
  let v316 : BitVec 32 := Scalar.divsi v314 c1_i32_229
  let v317 : BitVec 32 := Scalar.muli v316 c1_i32_229
  let v318 : BitVec 32 := Scalar.addi c0_i32_228 v317
  let c1_i32_231 : BitVec 32 := 1#32
  let arg9 : BitVec 32 := Scf.iv v318 c1_i32_231 k0_t2
  let c32_i32_247 : BitVec 32 := 32#32
  let v350 : BitVec 32 := Scalar.muli arg9 c32_i32_247
  let v351 : BitVec 32 := Scalar.addi c1_i32_248 v350
  let v467 : BitVec 32 := Scalar.addi v351 c2_i32_331
  let c1_i32_332 : BitVec 32 := 1#32
  let v468 : BitVec 32 := Scalar.subi v1 c1_i32_332
  let v469 : BitVec 32 := Scalar.minsi v467 v468
  let c256_i32_333 : BitVec 32 := 256#32
  let v470 : BitVec 32 := Scalar.muli v469 c256_i32_333
  let v471 : BitVec 32 := v470
  let v472 : Index := Scalar.indexCast v471
  let c0_335 : Index := 0#32
  ![0, v472.toNat, 0]
def k0_off28 (i : grid0.Coords) (k0_t2 : Fin (k0_t2_loop i).trips) (c0_i32_330 : BitVec 32) : Fin 4 → Nat :=
  let c0_344 : Index := 0#32
  let c1_i32_248 : BitVec 32 := 1#32
  let c0_i32_228 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_176 : BitVec 32 := 1#32
  let v246 : BitVec 32 := Scalar.subi v1 c1_i32_176
  let c0_i32_177 : BitVec 32 := 0#32
  let v248 : BitVec 1 := Scalar.cmpi .sgt v246 c0_i32_177
  let v249 : BitVec 32 := Scalar.extui v248
  let c0_i32_178 : BitVec 32 := 0#32
  let v250 : BitVec 1 := Scalar.cmpi .slt v246 c0_i32_178
  let v251 : BitVec 32 := Scalar.extui v250
  let v252 : BitVec 32 := Scalar.subi v249 v251
  let c32_i32 : BitVec 32 := 32#32
  let c0_i32_179 : BitVec 32 := 0#32
  let v253 : BitVec 1 := Scalar.cmpi .sgt c32_i32 c0_i32_179
  let v254 : BitVec 32 := Scalar.extui v253
  let c0_i32_180 : BitVec 32 := 0#32
  let v255 : BitVec 1 := Scalar.cmpi .slt c32_i32 c0_i32_180
  let v256 : BitVec 32 := Scalar.extui v255
  let v257 : BitVec 32 := Scalar.subi v254 v256
  let v258 : BitVec 1 := Scalar.cmpi .ne v252 v257
  let v259 : BitVec 32 := Scalar.remsi v246 c32_i32
  let c0_i32_181 : BitVec 32 := 0#32
  let v260 : BitVec 1 := Scalar.cmpi .ne v259 c0_i32_181
  let v261 : BitVec 1 := Scalar.andi v258 v260
  let v247 : BitVec 32 := Scalar.divsi v246 c32_i32
  let c1_i32_182 : BitVec 32 := 1#32
  let v262 : BitVec 32 := Scalar.subi v247 c1_i32_182
  let v263 : BitVec 32 := Scalar.select v261 v262 v247
  let v314 : BitVec 32 := Scalar.subi v263 c0_i32_228
  let c1_i32_229 : BitVec 32 := 1#32
  let v316 : BitVec 32 := Scalar.divsi v314 c1_i32_229
  let v317 : BitVec 32 := Scalar.muli v316 c1_i32_229
  let v318 : BitVec 32 := Scalar.addi c0_i32_228 v317
  let c1_i32_231 : BitVec 32 := 1#32
  let arg9 : BitVec 32 := Scf.iv v318 c1_i32_231 k0_t2
  let c32_i32_247 : BitVec 32 := 32#32
  let v350 : BitVec 32 := Scalar.muli arg9 c32_i32_247
  let v351 : BitVec 32 := Scalar.addi c1_i32_248 v350
  let v466 : BitVec 32 := Scalar.addi v351 c0_i32_330
  let v487 : Index := Scalar.indexCast v466
  let c240_345 : Index := 240#32
  let c0_346 : Index := 0#32
  ![0, v487.toNat, 240, 0]
def k0_mult147 (i : grid0.Coords) (k0_t2 : Fin (k0_t2_loop i).trips) : BitVec 32 :=
  let c1_i32_248 : BitVec 32 := 1#32
  let c0_i32_228 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_176 : BitVec 32 := 1#32
  let v246 : BitVec 32 := Scalar.subi v1 c1_i32_176
  let c0_i32_177 : BitVec 32 := 0#32
  let v248 : BitVec 1 := Scalar.cmpi .sgt v246 c0_i32_177
  let v249 : BitVec 32 := Scalar.extui v248
  let c0_i32_178 : BitVec 32 := 0#32
  let v250 : BitVec 1 := Scalar.cmpi .slt v246 c0_i32_178
  let v251 : BitVec 32 := Scalar.extui v250
  let v252 : BitVec 32 := Scalar.subi v249 v251
  let c32_i32 : BitVec 32 := 32#32
  let c0_i32_179 : BitVec 32 := 0#32
  let v253 : BitVec 1 := Scalar.cmpi .sgt c32_i32 c0_i32_179
  let v254 : BitVec 32 := Scalar.extui v253
  let c0_i32_180 : BitVec 32 := 0#32
  let v255 : BitVec 1 := Scalar.cmpi .slt c32_i32 c0_i32_180
  let v256 : BitVec 32 := Scalar.extui v255
  let v257 : BitVec 32 := Scalar.subi v254 v256
  let v258 : BitVec 1 := Scalar.cmpi .ne v252 v257
  let v259 : BitVec 32 := Scalar.remsi v246 c32_i32
  let c0_i32_181 : BitVec 32 := 0#32
  let v260 : BitVec 1 := Scalar.cmpi .ne v259 c0_i32_181
  let v261 : BitVec 1 := Scalar.andi v258 v260
  let v247 : BitVec 32 := Scalar.divsi v246 c32_i32
  let c1_i32_182 : BitVec 32 := 1#32
  let v262 : BitVec 32 := Scalar.subi v247 c1_i32_182
  let v263 : BitVec 32 := Scalar.select v261 v262 v247
  let v314 : BitVec 32 := Scalar.subi v263 c0_i32_228
  let c1_i32_229 : BitVec 32 := 1#32
  let v316 : BitVec 32 := Scalar.divsi v314 c1_i32_229
  let v317 : BitVec 32 := Scalar.muli v316 c1_i32_229
  let v318 : BitVec 32 := Scalar.addi c0_i32_228 v317
  let c1_i32_231 : BitVec 32 := 1#32
  let arg9 : BitVec 32 := Scf.iv v318 c1_i32_231 k0_t2
  let c32_i32_247 : BitVec 32 := 32#32
  let v350 : BitVec 32 := Scalar.muli arg9 c32_i32_247
  let v351 : BitVec 32 := Scalar.addi c1_i32_248 v350
  let c2_i32_358 : BitVec 32 := 2#32
  let v505 : BitVec 32 := Scalar.addi v351 c2_i32_358
  let c1_i32_359 : BitVec 32 := 1#32
  let v506 : BitVec 32 := Scalar.subi v1 c1_i32_359
  let v507 : BitVec 32 := Scalar.minsi v505 v506
  let c256_i32_360 : BitVec 32 := 256#32
  let v508 : BitVec 32 := Scalar.muli v507 c256_i32_360
  v508
def k0_mult148 (i : grid0.Coords) (k0_t2 : Fin (k0_t2_loop i).trips) : BitVec 32 :=
  let c1_i32_248 : BitVec 32 := 1#32
  let c0_i32_228 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_176 : BitVec 32 := 1#32
  let v246 : BitVec 32 := Scalar.subi v1 c1_i32_176
  let c0_i32_177 : BitVec 32 := 0#32
  let v248 : BitVec 1 := Scalar.cmpi .sgt v246 c0_i32_177
  let v249 : BitVec 32 := Scalar.extui v248
  let c0_i32_178 : BitVec 32 := 0#32
  let v250 : BitVec 1 := Scalar.cmpi .slt v246 c0_i32_178
  let v251 : BitVec 32 := Scalar.extui v250
  let v252 : BitVec 32 := Scalar.subi v249 v251
  let c32_i32 : BitVec 32 := 32#32
  let c0_i32_179 : BitVec 32 := 0#32
  let v253 : BitVec 1 := Scalar.cmpi .sgt c32_i32 c0_i32_179
  let v254 : BitVec 32 := Scalar.extui v253
  let c0_i32_180 : BitVec 32 := 0#32
  let v255 : BitVec 1 := Scalar.cmpi .slt c32_i32 c0_i32_180
  let v256 : BitVec 32 := Scalar.extui v255
  let v257 : BitVec 32 := Scalar.subi v254 v256
  let v258 : BitVec 1 := Scalar.cmpi .ne v252 v257
  let v259 : BitVec 32 := Scalar.remsi v246 c32_i32
  let c0_i32_181 : BitVec 32 := 0#32
  let v260 : BitVec 1 := Scalar.cmpi .ne v259 c0_i32_181
  let v261 : BitVec 1 := Scalar.andi v258 v260
  let v247 : BitVec 32 := Scalar.divsi v246 c32_i32
  let c1_i32_182 : BitVec 32 := 1#32
  let v262 : BitVec 32 := Scalar.subi v247 c1_i32_182
  let v263 : BitVec 32 := Scalar.select v261 v262 v247
  let v314 : BitVec 32 := Scalar.subi v263 c0_i32_228
  let c1_i32_229 : BitVec 32 := 1#32
  let v316 : BitVec 32 := Scalar.divsi v314 c1_i32_229
  let v317 : BitVec 32 := Scalar.muli v316 c1_i32_229
  let v318 : BitVec 32 := Scalar.addi c0_i32_228 v317
  let c1_i32_231 : BitVec 32 := 1#32
  let arg9 : BitVec 32 := Scf.iv v318 c1_i32_231 k0_t2
  let c32_i32_247 : BitVec 32 := 32#32
  let v350 : BitVec 32 := Scalar.muli arg9 c32_i32_247
  let v351 : BitVec 32 := Scalar.addi c1_i32_248 v350
  let c2_i32_385 : BitVec 32 := 2#32
  let v543 : BitVec 32 := Scalar.addi v351 c2_i32_385
  let c1_i32_386 : BitVec 32 := 1#32
  let v544 : BitVec 32 := Scalar.subi v1 c1_i32_386
  let v545 : BitVec 32 := Scalar.minsi v543 v544
  let c256_i32_387 : BitVec 32 := 256#32
  let v546 : BitVec 32 := Scalar.muli v545 c256_i32_387
  v546
def k0_mult149 (i : grid0.Coords) (k0_t2 : Fin (k0_t2_loop i).trips) : BitVec 32 :=
  let c1_i32_248 : BitVec 32 := 1#32
  let c0_i32_228 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_176 : BitVec 32 := 1#32
  let v246 : BitVec 32 := Scalar.subi v1 c1_i32_176
  let c0_i32_177 : BitVec 32 := 0#32
  let v248 : BitVec 1 := Scalar.cmpi .sgt v246 c0_i32_177
  let v249 : BitVec 32 := Scalar.extui v248
  let c0_i32_178 : BitVec 32 := 0#32
  let v250 : BitVec 1 := Scalar.cmpi .slt v246 c0_i32_178
  let v251 : BitVec 32 := Scalar.extui v250
  let v252 : BitVec 32 := Scalar.subi v249 v251
  let c32_i32 : BitVec 32 := 32#32
  let c0_i32_179 : BitVec 32 := 0#32
  let v253 : BitVec 1 := Scalar.cmpi .sgt c32_i32 c0_i32_179
  let v254 : BitVec 32 := Scalar.extui v253
  let c0_i32_180 : BitVec 32 := 0#32
  let v255 : BitVec 1 := Scalar.cmpi .slt c32_i32 c0_i32_180
  let v256 : BitVec 32 := Scalar.extui v255
  let v257 : BitVec 32 := Scalar.subi v254 v256
  let v258 : BitVec 1 := Scalar.cmpi .ne v252 v257
  let v259 : BitVec 32 := Scalar.remsi v246 c32_i32
  let c0_i32_181 : BitVec 32 := 0#32
  let v260 : BitVec 1 := Scalar.cmpi .ne v259 c0_i32_181
  let v261 : BitVec 1 := Scalar.andi v258 v260
  let v247 : BitVec 32 := Scalar.divsi v246 c32_i32
  let c1_i32_182 : BitVec 32 := 1#32
  let v262 : BitVec 32 := Scalar.subi v247 c1_i32_182
  let v263 : BitVec 32 := Scalar.select v261 v262 v247
  let v314 : BitVec 32 := Scalar.subi v263 c0_i32_228
  let c1_i32_229 : BitVec 32 := 1#32
  let v316 : BitVec 32 := Scalar.divsi v314 c1_i32_229
  let v317 : BitVec 32 := Scalar.muli v316 c1_i32_229
  let v318 : BitVec 32 := Scalar.addi c0_i32_228 v317
  let c1_i32_231 : BitVec 32 := 1#32
  let arg9 : BitVec 32 := Scf.iv v318 c1_i32_231 k0_t2
  let c32_i32_247 : BitVec 32 := 32#32
  let v350 : BitVec 32 := Scalar.muli arg9 c32_i32_247
  let v351 : BitVec 32 := Scalar.addi c1_i32_248 v350
  let c2_i32_412 : BitVec 32 := 2#32
  let v581 : BitVec 32 := Scalar.addi v351 c2_i32_412
  let c1_i32_413 : BitVec 32 := 1#32
  let v582 : BitVec 32 := Scalar.subi v1 c1_i32_413
  let v583 : BitVec 32 := Scalar.minsi v581 v582
  let c256_i32_414 : BitVec 32 := 256#32
  let v584 : BitVec 32 := Scalar.muli v583 c256_i32_414
  v584
def k0_mult150 (i : grid0.Coords) (k0_t2 : Fin (k0_t2_loop i).trips) : BitVec 32 :=
  let c1_i32_248 : BitVec 32 := 1#32
  let c0_i32_228 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_176 : BitVec 32 := 1#32
  let v246 : BitVec 32 := Scalar.subi v1 c1_i32_176
  let c0_i32_177 : BitVec 32 := 0#32
  let v248 : BitVec 1 := Scalar.cmpi .sgt v246 c0_i32_177
  let v249 : BitVec 32 := Scalar.extui v248
  let c0_i32_178 : BitVec 32 := 0#32
  let v250 : BitVec 1 := Scalar.cmpi .slt v246 c0_i32_178
  let v251 : BitVec 32 := Scalar.extui v250
  let v252 : BitVec 32 := Scalar.subi v249 v251
  let c32_i32 : BitVec 32 := 32#32
  let c0_i32_179 : BitVec 32 := 0#32
  let v253 : BitVec 1 := Scalar.cmpi .sgt c32_i32 c0_i32_179
  let v254 : BitVec 32 := Scalar.extui v253
  let c0_i32_180 : BitVec 32 := 0#32
  let v255 : BitVec 1 := Scalar.cmpi .slt c32_i32 c0_i32_180
  let v256 : BitVec 32 := Scalar.extui v255
  let v257 : BitVec 32 := Scalar.subi v254 v256
  let v258 : BitVec 1 := Scalar.cmpi .ne v252 v257
  let v259 : BitVec 32 := Scalar.remsi v246 c32_i32
  let c0_i32_181 : BitVec 32 := 0#32
  let v260 : BitVec 1 := Scalar.cmpi .ne v259 c0_i32_181
  let v261 : BitVec 1 := Scalar.andi v258 v260
  let v247 : BitVec 32 := Scalar.divsi v246 c32_i32
  let c1_i32_182 : BitVec 32 := 1#32
  let v262 : BitVec 32 := Scalar.subi v247 c1_i32_182
  let v263 : BitVec 32 := Scalar.select v261 v262 v247
  let v314 : BitVec 32 := Scalar.subi v263 c0_i32_228
  let c1_i32_229 : BitVec 32 := 1#32
  let v316 : BitVec 32 := Scalar.divsi v314 c1_i32_229
  let v317 : BitVec 32 := Scalar.muli v316 c1_i32_229
  let v318 : BitVec 32 := Scalar.addi c0_i32_228 v317
  let c1_i32_231 : BitVec 32 := 1#32
  let arg9 : BitVec 32 := Scf.iv v318 c1_i32_231 k0_t2
  let c32_i32_247 : BitVec 32 := 32#32
  let v350 : BitVec 32 := Scalar.muli arg9 c32_i32_247
  let v351 : BitVec 32 := Scalar.addi c1_i32_248 v350
  let c3_i32 : BitVec 32 := 3#32
  let v619 : BitVec 32 := Scalar.addi v351 c3_i32
  let c1_i32_439 : BitVec 32 := 1#32
  let v620 : BitVec 32 := Scalar.subi v1 c1_i32_439
  let v621 : BitVec 32 := Scalar.minsi v619 v620
  let c256_i32_440 : BitVec 32 := 256#32
  let v622 : BitVec 32 := Scalar.muli v621 c256_i32_440
  v622
def k0_mult151 (i : grid0.Coords) (k0_t2 : Fin (k0_t2_loop i).trips) : BitVec 32 :=
  let c1_i32_248 : BitVec 32 := 1#32
  let c0_i32_228 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_176 : BitVec 32 := 1#32
  let v246 : BitVec 32 := Scalar.subi v1 c1_i32_176
  let c0_i32_177 : BitVec 32 := 0#32
  let v248 : BitVec 1 := Scalar.cmpi .sgt v246 c0_i32_177
  let v249 : BitVec 32 := Scalar.extui v248
  let c0_i32_178 : BitVec 32 := 0#32
  let v250 : BitVec 1 := Scalar.cmpi .slt v246 c0_i32_178
  let v251 : BitVec 32 := Scalar.extui v250
  let v252 : BitVec 32 := Scalar.subi v249 v251
  let c32_i32 : BitVec 32 := 32#32
  let c0_i32_179 : BitVec 32 := 0#32
  let v253 : BitVec 1 := Scalar.cmpi .sgt c32_i32 c0_i32_179
  let v254 : BitVec 32 := Scalar.extui v253
  let c0_i32_180 : BitVec 32 := 0#32
  let v255 : BitVec 1 := Scalar.cmpi .slt c32_i32 c0_i32_180
  let v256 : BitVec 32 := Scalar.extui v255
  let v257 : BitVec 32 := Scalar.subi v254 v256
  let v258 : BitVec 1 := Scalar.cmpi .ne v252 v257
  let v259 : BitVec 32 := Scalar.remsi v246 c32_i32
  let c0_i32_181 : BitVec 32 := 0#32
  let v260 : BitVec 1 := Scalar.cmpi .ne v259 c0_i32_181
  let v261 : BitVec 1 := Scalar.andi v258 v260
  let v247 : BitVec 32 := Scalar.divsi v246 c32_i32
  let c1_i32_182 : BitVec 32 := 1#32
  let v262 : BitVec 32 := Scalar.subi v247 c1_i32_182
  let v263 : BitVec 32 := Scalar.select v261 v262 v247
  let v314 : BitVec 32 := Scalar.subi v263 c0_i32_228
  let c1_i32_229 : BitVec 32 := 1#32
  let v316 : BitVec 32 := Scalar.divsi v314 c1_i32_229
  let v317 : BitVec 32 := Scalar.muli v316 c1_i32_229
  let v318 : BitVec 32 := Scalar.addi c0_i32_228 v317
  let c1_i32_231 : BitVec 32 := 1#32
  let arg9 : BitVec 32 := Scf.iv v318 c1_i32_231 k0_t2
  let c32_i32_247 : BitVec 32 := 32#32
  let v350 : BitVec 32 := Scalar.muli arg9 c32_i32_247
  let v351 : BitVec 32 := Scalar.addi c1_i32_248 v350
  let c3_i32_465 : BitVec 32 := 3#32
  let v657 : BitVec 32 := Scalar.addi v351 c3_i32_465
  let c1_i32_466 : BitVec 32 := 1#32
  let v658 : BitVec 32 := Scalar.subi v1 c1_i32_466
  let v659 : BitVec 32 := Scalar.minsi v657 v658
  let c256_i32_467 : BitVec 32 := 256#32
  let v660 : BitVec 32 := Scalar.muli v659 c256_i32_467
  v660
def k0_mult152 (i : grid0.Coords) (k0_t2 : Fin (k0_t2_loop i).trips) : BitVec 32 :=
  let c1_i32_248 : BitVec 32 := 1#32
  let c0_i32_228 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_176 : BitVec 32 := 1#32
  let v246 : BitVec 32 := Scalar.subi v1 c1_i32_176
  let c0_i32_177 : BitVec 32 := 0#32
  let v248 : BitVec 1 := Scalar.cmpi .sgt v246 c0_i32_177
  let v249 : BitVec 32 := Scalar.extui v248
  let c0_i32_178 : BitVec 32 := 0#32
  let v250 : BitVec 1 := Scalar.cmpi .slt v246 c0_i32_178
  let v251 : BitVec 32 := Scalar.extui v250
  let v252 : BitVec 32 := Scalar.subi v249 v251
  let c32_i32 : BitVec 32 := 32#32
  let c0_i32_179 : BitVec 32 := 0#32
  let v253 : BitVec 1 := Scalar.cmpi .sgt c32_i32 c0_i32_179
  let v254 : BitVec 32 := Scalar.extui v253
  let c0_i32_180 : BitVec 32 := 0#32
  let v255 : BitVec 1 := Scalar.cmpi .slt c32_i32 c0_i32_180
  let v256 : BitVec 32 := Scalar.extui v255
  let v257 : BitVec 32 := Scalar.subi v254 v256
  let v258 : BitVec 1 := Scalar.cmpi .ne v252 v257
  let v259 : BitVec 32 := Scalar.remsi v246 c32_i32
  let c0_i32_181 : BitVec 32 := 0#32
  let v260 : BitVec 1 := Scalar.cmpi .ne v259 c0_i32_181
  let v261 : BitVec 1 := Scalar.andi v258 v260
  let v247 : BitVec 32 := Scalar.divsi v246 c32_i32
  let c1_i32_182 : BitVec 32 := 1#32
  let v262 : BitVec 32 := Scalar.subi v247 c1_i32_182
  let v263 : BitVec 32 := Scalar.select v261 v262 v247
  let v314 : BitVec 32 := Scalar.subi v263 c0_i32_228
  let c1_i32_229 : BitVec 32 := 1#32
  let v316 : BitVec 32 := Scalar.divsi v314 c1_i32_229
  let v317 : BitVec 32 := Scalar.muli v316 c1_i32_229
  let v318 : BitVec 32 := Scalar.addi c0_i32_228 v317
  let c1_i32_231 : BitVec 32 := 1#32
  let arg9 : BitVec 32 := Scf.iv v318 c1_i32_231 k0_t2
  let c32_i32_247 : BitVec 32 := 32#32
  let v350 : BitVec 32 := Scalar.muli arg9 c32_i32_247
  let v351 : BitVec 32 := Scalar.addi c1_i32_248 v350
  let c3_i32_492 : BitVec 32 := 3#32
  let v695 : BitVec 32 := Scalar.addi v351 c3_i32_492
  let c1_i32_493 : BitVec 32 := 1#32
  let v696 : BitVec 32 := Scalar.subi v1 c1_i32_493
  let v697 : BitVec 32 := Scalar.minsi v695 v696
  let c256_i32_494 : BitVec 32 := 256#32
  let v698 : BitVec 32 := Scalar.muli v697 c256_i32_494
  v698
def k0_mult153 (i : grid0.Coords) (k0_t2 : Fin (k0_t2_loop i).trips) : BitVec 32 :=
  let c1_i32_248 : BitVec 32 := 1#32
  let c0_i32_228 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_176 : BitVec 32 := 1#32
  let v246 : BitVec 32 := Scalar.subi v1 c1_i32_176
  let c0_i32_177 : BitVec 32 := 0#32
  let v248 : BitVec 1 := Scalar.cmpi .sgt v246 c0_i32_177
  let v249 : BitVec 32 := Scalar.extui v248
  let c0_i32_178 : BitVec 32 := 0#32
  let v250 : BitVec 1 := Scalar.cmpi .slt v246 c0_i32_178
  let v251 : BitVec 32 := Scalar.extui v250
  let v252 : BitVec 32 := Scalar.subi v249 v251
  let c32_i32 : BitVec 32 := 32#32
  let c0_i32_179 : BitVec 32 := 0#32
  let v253 : BitVec 1 := Scalar.cmpi .sgt c32_i32 c0_i32_179
  let v254 : BitVec 32 := Scalar.extui v253
  let c0_i32_180 : BitVec 32 := 0#32
  let v255 : BitVec 1 := Scalar.cmpi .slt c32_i32 c0_i32_180
  let v256 : BitVec 32 := Scalar.extui v255
  let v257 : BitVec 32 := Scalar.subi v254 v256
  let v258 : BitVec 1 := Scalar.cmpi .ne v252 v257
  let v259 : BitVec 32 := Scalar.remsi v246 c32_i32
  let c0_i32_181 : BitVec 32 := 0#32
  let v260 : BitVec 1 := Scalar.cmpi .ne v259 c0_i32_181
  let v261 : BitVec 1 := Scalar.andi v258 v260
  let v247 : BitVec 32 := Scalar.divsi v246 c32_i32
  let c1_i32_182 : BitVec 32 := 1#32
  let v262 : BitVec 32 := Scalar.subi v247 c1_i32_182
  let v263 : BitVec 32 := Scalar.select v261 v262 v247
  let v314 : BitVec 32 := Scalar.subi v263 c0_i32_228
  let c1_i32_229 : BitVec 32 := 1#32
  let v316 : BitVec 32 := Scalar.divsi v314 c1_i32_229
  let v317 : BitVec 32 := Scalar.muli v316 c1_i32_229
  let v318 : BitVec 32 := Scalar.addi c0_i32_228 v317
  let c1_i32_231 : BitVec 32 := 1#32
  let arg9 : BitVec 32 := Scf.iv v318 c1_i32_231 k0_t2
  let c32_i32_247 : BitVec 32 := 32#32
  let v350 : BitVec 32 := Scalar.muli arg9 c32_i32_247
  let v351 : BitVec 32 := Scalar.addi c1_i32_248 v350
  let c3_i32_519 : BitVec 32 := 3#32
  let v733 : BitVec 32 := Scalar.addi v351 c3_i32_519
  let c1_i32_520 : BitVec 32 := 1#32
  let v734 : BitVec 32 := Scalar.subi v1 c1_i32_520
  let v735 : BitVec 32 := Scalar.minsi v733 v734
  let c256_i32_521 : BitVec 32 := 256#32
  let v736 : BitVec 32 := Scalar.muli v735 c256_i32_521
  v736
def k0_mult154 (i : grid0.Coords) (k0_t2 : Fin (k0_t2_loop i).trips) : BitVec 32 :=
  let c1_i32_248 : BitVec 32 := 1#32
  let c0_i32_228 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_176 : BitVec 32 := 1#32
  let v246 : BitVec 32 := Scalar.subi v1 c1_i32_176
  let c0_i32_177 : BitVec 32 := 0#32
  let v248 : BitVec 1 := Scalar.cmpi .sgt v246 c0_i32_177
  let v249 : BitVec 32 := Scalar.extui v248
  let c0_i32_178 : BitVec 32 := 0#32
  let v250 : BitVec 1 := Scalar.cmpi .slt v246 c0_i32_178
  let v251 : BitVec 32 := Scalar.extui v250
  let v252 : BitVec 32 := Scalar.subi v249 v251
  let c32_i32 : BitVec 32 := 32#32
  let c0_i32_179 : BitVec 32 := 0#32
  let v253 : BitVec 1 := Scalar.cmpi .sgt c32_i32 c0_i32_179
  let v254 : BitVec 32 := Scalar.extui v253
  let c0_i32_180 : BitVec 32 := 0#32
  let v255 : BitVec 1 := Scalar.cmpi .slt c32_i32 c0_i32_180
  let v256 : BitVec 32 := Scalar.extui v255
  let v257 : BitVec 32 := Scalar.subi v254 v256
  let v258 : BitVec 1 := Scalar.cmpi .ne v252 v257
  let v259 : BitVec 32 := Scalar.remsi v246 c32_i32
  let c0_i32_181 : BitVec 32 := 0#32
  let v260 : BitVec 1 := Scalar.cmpi .ne v259 c0_i32_181
  let v261 : BitVec 1 := Scalar.andi v258 v260
  let v247 : BitVec 32 := Scalar.divsi v246 c32_i32
  let c1_i32_182 : BitVec 32 := 1#32
  let v262 : BitVec 32 := Scalar.subi v247 c1_i32_182
  let v263 : BitVec 32 := Scalar.select v261 v262 v247
  let v314 : BitVec 32 := Scalar.subi v263 c0_i32_228
  let c1_i32_229 : BitVec 32 := 1#32
  let v316 : BitVec 32 := Scalar.divsi v314 c1_i32_229
  let v317 : BitVec 32 := Scalar.muli v316 c1_i32_229
  let v318 : BitVec 32 := Scalar.addi c0_i32_228 v317
  let c1_i32_231 : BitVec 32 := 1#32
  let arg9 : BitVec 32 := Scf.iv v318 c1_i32_231 k0_t2
  let c32_i32_247 : BitVec 32 := 32#32
  let v350 : BitVec 32 := Scalar.muli arg9 c32_i32_247
  let v351 : BitVec 32 := Scalar.addi c1_i32_248 v350
  let c4_i32 : BitVec 32 := 4#32
  let v771 : BitVec 32 := Scalar.addi v351 c4_i32
  let c1_i32_546 : BitVec 32 := 1#32
  let v772 : BitVec 32 := Scalar.subi v1 c1_i32_546
  let v773 : BitVec 32 := Scalar.minsi v771 v772
  let c256_i32_547 : BitVec 32 := 256#32
  let v774 : BitVec 32 := Scalar.muli v773 c256_i32_547
  v774
def k0_mult155 (i : grid0.Coords) (k0_t2 : Fin (k0_t2_loop i).trips) : BitVec 32 :=
  let c1_i32_248 : BitVec 32 := 1#32
  let c0_i32_228 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_176 : BitVec 32 := 1#32
  let v246 : BitVec 32 := Scalar.subi v1 c1_i32_176
  let c0_i32_177 : BitVec 32 := 0#32
  let v248 : BitVec 1 := Scalar.cmpi .sgt v246 c0_i32_177
  let v249 : BitVec 32 := Scalar.extui v248
  let c0_i32_178 : BitVec 32 := 0#32
  let v250 : BitVec 1 := Scalar.cmpi .slt v246 c0_i32_178
  let v251 : BitVec 32 := Scalar.extui v250
  let v252 : BitVec 32 := Scalar.subi v249 v251
  let c32_i32 : BitVec 32 := 32#32
  let c0_i32_179 : BitVec 32 := 0#32
  let v253 : BitVec 1 := Scalar.cmpi .sgt c32_i32 c0_i32_179
  let v254 : BitVec 32 := Scalar.extui v253
  let c0_i32_180 : BitVec 32 := 0#32
  let v255 : BitVec 1 := Scalar.cmpi .slt c32_i32 c0_i32_180
  let v256 : BitVec 32 := Scalar.extui v255
  let v257 : BitVec 32 := Scalar.subi v254 v256
  let v258 : BitVec 1 := Scalar.cmpi .ne v252 v257
  let v259 : BitVec 32 := Scalar.remsi v246 c32_i32
  let c0_i32_181 : BitVec 32 := 0#32
  let v260 : BitVec 1 := Scalar.cmpi .ne v259 c0_i32_181
  let v261 : BitVec 1 := Scalar.andi v258 v260
  let v247 : BitVec 32 := Scalar.divsi v246 c32_i32
  let c1_i32_182 : BitVec 32 := 1#32
  let v262 : BitVec 32 := Scalar.subi v247 c1_i32_182
  let v263 : BitVec 32 := Scalar.select v261 v262 v247
  let v314 : BitVec 32 := Scalar.subi v263 c0_i32_228
  let c1_i32_229 : BitVec 32 := 1#32
  let v316 : BitVec 32 := Scalar.divsi v314 c1_i32_229
  let v317 : BitVec 32 := Scalar.muli v316 c1_i32_229
  let v318 : BitVec 32 := Scalar.addi c0_i32_228 v317
  let c1_i32_231 : BitVec 32 := 1#32
  let arg9 : BitVec 32 := Scf.iv v318 c1_i32_231 k0_t2
  let c32_i32_247 : BitVec 32 := 32#32
  let v350 : BitVec 32 := Scalar.muli arg9 c32_i32_247
  let v351 : BitVec 32 := Scalar.addi c1_i32_248 v350
  let c4_i32_572 : BitVec 32 := 4#32
  let v809 : BitVec 32 := Scalar.addi v351 c4_i32_572
  let c1_i32_573 : BitVec 32 := 1#32
  let v810 : BitVec 32 := Scalar.subi v1 c1_i32_573
  let v811 : BitVec 32 := Scalar.minsi v809 v810
  let c256_i32_574 : BitVec 32 := 256#32
  let v812 : BitVec 32 := Scalar.muli v811 c256_i32_574
  v812
def k0_mult156 (i : grid0.Coords) (k0_t2 : Fin (k0_t2_loop i).trips) : BitVec 32 :=
  let c1_i32_248 : BitVec 32 := 1#32
  let c0_i32_228 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_176 : BitVec 32 := 1#32
  let v246 : BitVec 32 := Scalar.subi v1 c1_i32_176
  let c0_i32_177 : BitVec 32 := 0#32
  let v248 : BitVec 1 := Scalar.cmpi .sgt v246 c0_i32_177
  let v249 : BitVec 32 := Scalar.extui v248
  let c0_i32_178 : BitVec 32 := 0#32
  let v250 : BitVec 1 := Scalar.cmpi .slt v246 c0_i32_178
  let v251 : BitVec 32 := Scalar.extui v250
  let v252 : BitVec 32 := Scalar.subi v249 v251
  let c32_i32 : BitVec 32 := 32#32
  let c0_i32_179 : BitVec 32 := 0#32
  let v253 : BitVec 1 := Scalar.cmpi .sgt c32_i32 c0_i32_179
  let v254 : BitVec 32 := Scalar.extui v253
  let c0_i32_180 : BitVec 32 := 0#32
  let v255 : BitVec 1 := Scalar.cmpi .slt c32_i32 c0_i32_180
  let v256 : BitVec 32 := Scalar.extui v255
  let v257 : BitVec 32 := Scalar.subi v254 v256
  let v258 : BitVec 1 := Scalar.cmpi .ne v252 v257
  let v259 : BitVec 32 := Scalar.remsi v246 c32_i32
  let c0_i32_181 : BitVec 32 := 0#32
  let v260 : BitVec 1 := Scalar.cmpi .ne v259 c0_i32_181
  let v261 : BitVec 1 := Scalar.andi v258 v260
  let v247 : BitVec 32 := Scalar.divsi v246 c32_i32
  let c1_i32_182 : BitVec 32 := 1#32
  let v262 : BitVec 32 := Scalar.subi v247 c1_i32_182
  let v263 : BitVec 32 := Scalar.select v261 v262 v247
  let v314 : BitVec 32 := Scalar.subi v263 c0_i32_228
  let c1_i32_229 : BitVec 32 := 1#32
  let v316 : BitVec 32 := Scalar.divsi v314 c1_i32_229
  let v317 : BitVec 32 := Scalar.muli v316 c1_i32_229
  let v318 : BitVec 32 := Scalar.addi c0_i32_228 v317
  let c1_i32_231 : BitVec 32 := 1#32
  let arg9 : BitVec 32 := Scf.iv v318 c1_i32_231 k0_t2
  let c32_i32_247 : BitVec 32 := 32#32
  let v350 : BitVec 32 := Scalar.muli arg9 c32_i32_247
  let v351 : BitVec 32 := Scalar.addi c1_i32_248 v350
  let c4_i32_599 : BitVec 32 := 4#32
  let v847 : BitVec 32 := Scalar.addi v351 c4_i32_599
  let c1_i32_600 : BitVec 32 := 1#32
  let v848 : BitVec 32 := Scalar.subi v1 c1_i32_600
  let v849 : BitVec 32 := Scalar.minsi v847 v848
  let c256_i32_601 : BitVec 32 := 256#32
  let v850 : BitVec 32 := Scalar.muli v849 c256_i32_601
  v850
def k0_mult157 (i : grid0.Coords) (k0_t2 : Fin (k0_t2_loop i).trips) : BitVec 32 :=
  let c1_i32_248 : BitVec 32 := 1#32
  let c0_i32_228 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_176 : BitVec 32 := 1#32
  let v246 : BitVec 32 := Scalar.subi v1 c1_i32_176
  let c0_i32_177 : BitVec 32 := 0#32
  let v248 : BitVec 1 := Scalar.cmpi .sgt v246 c0_i32_177
  let v249 : BitVec 32 := Scalar.extui v248
  let c0_i32_178 : BitVec 32 := 0#32
  let v250 : BitVec 1 := Scalar.cmpi .slt v246 c0_i32_178
  let v251 : BitVec 32 := Scalar.extui v250
  let v252 : BitVec 32 := Scalar.subi v249 v251
  let c32_i32 : BitVec 32 := 32#32
  let c0_i32_179 : BitVec 32 := 0#32
  let v253 : BitVec 1 := Scalar.cmpi .sgt c32_i32 c0_i32_179
  let v254 : BitVec 32 := Scalar.extui v253
  let c0_i32_180 : BitVec 32 := 0#32
  let v255 : BitVec 1 := Scalar.cmpi .slt c32_i32 c0_i32_180
  let v256 : BitVec 32 := Scalar.extui v255
  let v257 : BitVec 32 := Scalar.subi v254 v256
  let v258 : BitVec 1 := Scalar.cmpi .ne v252 v257
  let v259 : BitVec 32 := Scalar.remsi v246 c32_i32
  let c0_i32_181 : BitVec 32 := 0#32
  let v260 : BitVec 1 := Scalar.cmpi .ne v259 c0_i32_181
  let v261 : BitVec 1 := Scalar.andi v258 v260
  let v247 : BitVec 32 := Scalar.divsi v246 c32_i32
  let c1_i32_182 : BitVec 32 := 1#32
  let v262 : BitVec 32 := Scalar.subi v247 c1_i32_182
  let v263 : BitVec 32 := Scalar.select v261 v262 v247
  let v314 : BitVec 32 := Scalar.subi v263 c0_i32_228
  let c1_i32_229 : BitVec 32 := 1#32
  let v316 : BitVec 32 := Scalar.divsi v314 c1_i32_229
  let v317 : BitVec 32 := Scalar.muli v316 c1_i32_229
  let v318 : BitVec 32 := Scalar.addi c0_i32_228 v317
  let c1_i32_231 : BitVec 32 := 1#32
  let arg9 : BitVec 32 := Scf.iv v318 c1_i32_231 k0_t2
  let c32_i32_247 : BitVec 32 := 32#32
  let v350 : BitVec 32 := Scalar.muli arg9 c32_i32_247
  let v351 : BitVec 32 := Scalar.addi c1_i32_248 v350
  let c4_i32_626 : BitVec 32 := 4#32
  let v885 : BitVec 32 := Scalar.addi v351 c4_i32_626
  let c1_i32_627 : BitVec 32 := 1#32
  let v886 : BitVec 32 := Scalar.subi v1 c1_i32_627
  let v887 : BitVec 32 := Scalar.minsi v885 v886
  let c256_i32_628 : BitVec 32 := 256#32
  let v888 : BitVec 32 := Scalar.muli v887 c256_i32_628
  v888
def k0_mult158 (i : grid0.Coords) (k0_t2 : Fin (k0_t2_loop i).trips) : BitVec 32 :=
  let c1_i32_248 : BitVec 32 := 1#32
  let c0_i32_228 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_176 : BitVec 32 := 1#32
  let v246 : BitVec 32 := Scalar.subi v1 c1_i32_176
  let c0_i32_177 : BitVec 32 := 0#32
  let v248 : BitVec 1 := Scalar.cmpi .sgt v246 c0_i32_177
  let v249 : BitVec 32 := Scalar.extui v248
  let c0_i32_178 : BitVec 32 := 0#32
  let v250 : BitVec 1 := Scalar.cmpi .slt v246 c0_i32_178
  let v251 : BitVec 32 := Scalar.extui v250
  let v252 : BitVec 32 := Scalar.subi v249 v251
  let c32_i32 : BitVec 32 := 32#32
  let c0_i32_179 : BitVec 32 := 0#32
  let v253 : BitVec 1 := Scalar.cmpi .sgt c32_i32 c0_i32_179
  let v254 : BitVec 32 := Scalar.extui v253
  let c0_i32_180 : BitVec 32 := 0#32
  let v255 : BitVec 1 := Scalar.cmpi .slt c32_i32 c0_i32_180
  let v256 : BitVec 32 := Scalar.extui v255
  let v257 : BitVec 32 := Scalar.subi v254 v256
  let v258 : BitVec 1 := Scalar.cmpi .ne v252 v257
  let v259 : BitVec 32 := Scalar.remsi v246 c32_i32
  let c0_i32_181 : BitVec 32 := 0#32
  let v260 : BitVec 1 := Scalar.cmpi .ne v259 c0_i32_181
  let v261 : BitVec 1 := Scalar.andi v258 v260
  let v247 : BitVec 32 := Scalar.divsi v246 c32_i32
  let c1_i32_182 : BitVec 32 := 1#32
  let v262 : BitVec 32 := Scalar.subi v247 c1_i32_182
  let v263 : BitVec 32 := Scalar.select v261 v262 v247
  let v314 : BitVec 32 := Scalar.subi v263 c0_i32_228
  let c1_i32_229 : BitVec 32 := 1#32
  let v316 : BitVec 32 := Scalar.divsi v314 c1_i32_229
  let v317 : BitVec 32 := Scalar.muli v316 c1_i32_229
  let v318 : BitVec 32 := Scalar.addi c0_i32_228 v317
  let c1_i32_231 : BitVec 32 := 1#32
  let arg9 : BitVec 32 := Scf.iv v318 c1_i32_231 k0_t2
  let c32_i32_247 : BitVec 32 := 32#32
  let v350 : BitVec 32 := Scalar.muli arg9 c32_i32_247
  let v351 : BitVec 32 := Scalar.addi c1_i32_248 v350
  let c5_i32 : BitVec 32 := 5#32
  let v923 : BitVec 32 := Scalar.addi v351 c5_i32
  let c1_i32_653 : BitVec 32 := 1#32
  let v924 : BitVec 32 := Scalar.subi v1 c1_i32_653
  let v925 : BitVec 32 := Scalar.minsi v923 v924
  let c256_i32_654 : BitVec 32 := 256#32
  let v926 : BitVec 32 := Scalar.muli v925 c256_i32_654
  v926
def k0_mult159 (i : grid0.Coords) (k0_t2 : Fin (k0_t2_loop i).trips) : BitVec 32 :=
  let c1_i32_248 : BitVec 32 := 1#32
  let c0_i32_228 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_176 : BitVec 32 := 1#32
  let v246 : BitVec 32 := Scalar.subi v1 c1_i32_176
  let c0_i32_177 : BitVec 32 := 0#32
  let v248 : BitVec 1 := Scalar.cmpi .sgt v246 c0_i32_177
  let v249 : BitVec 32 := Scalar.extui v248
  let c0_i32_178 : BitVec 32 := 0#32
  let v250 : BitVec 1 := Scalar.cmpi .slt v246 c0_i32_178
  let v251 : BitVec 32 := Scalar.extui v250
  let v252 : BitVec 32 := Scalar.subi v249 v251
  let c32_i32 : BitVec 32 := 32#32
  let c0_i32_179 : BitVec 32 := 0#32
  let v253 : BitVec 1 := Scalar.cmpi .sgt c32_i32 c0_i32_179
  let v254 : BitVec 32 := Scalar.extui v253
  let c0_i32_180 : BitVec 32 := 0#32
  let v255 : BitVec 1 := Scalar.cmpi .slt c32_i32 c0_i32_180
  let v256 : BitVec 32 := Scalar.extui v255
  let v257 : BitVec 32 := Scalar.subi v254 v256
  let v258 : BitVec 1 := Scalar.cmpi .ne v252 v257
  let v259 : BitVec 32 := Scalar.remsi v246 c32_i32
  let c0_i32_181 : BitVec 32 := 0#32
  let v260 : BitVec 1 := Scalar.cmpi .ne v259 c0_i32_181
  let v261 : BitVec 1 := Scalar.andi v258 v260
  let v247 : BitVec 32 := Scalar.divsi v246 c32_i32
  let c1_i32_182 : BitVec 32 := 1#32
  let v262 : BitVec 32 := Scalar.subi v247 c1_i32_182
  let v263 : BitVec 32 := Scalar.select v261 v262 v247
  let v314 : BitVec 32 := Scalar.subi v263 c0_i32_228
  let c1_i32_229 : BitVec 32 := 1#32
  let v316 : BitVec 32 := Scalar.divsi v314 c1_i32_229
  let v317 : BitVec 32 := Scalar.muli v316 c1_i32_229
  let v318 : BitVec 32 := Scalar.addi c0_i32_228 v317
  let c1_i32_231 : BitVec 32 := 1#32
  let arg9 : BitVec 32 := Scf.iv v318 c1_i32_231 k0_t2
  let c32_i32_247 : BitVec 32 := 32#32
  let v350 : BitVec 32 := Scalar.muli arg9 c32_i32_247
  let v351 : BitVec 32 := Scalar.addi c1_i32_248 v350
  let c5_i32_679 : BitVec 32 := 5#32
  let v961 : BitVec 32 := Scalar.addi v351 c5_i32_679
  let c1_i32_680 : BitVec 32 := 1#32
  let v962 : BitVec 32 := Scalar.subi v1 c1_i32_680
  let v963 : BitVec 32 := Scalar.minsi v961 v962
  let c256_i32_681 : BitVec 32 := 256#32
  let v964 : BitVec 32 := Scalar.muli v963 c256_i32_681
  v964
def k0_mult160 (i : grid0.Coords) (k0_t2 : Fin (k0_t2_loop i).trips) : BitVec 32 :=
  let c1_i32_248 : BitVec 32 := 1#32
  let c0_i32_228 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_176 : BitVec 32 := 1#32
  let v246 : BitVec 32 := Scalar.subi v1 c1_i32_176
  let c0_i32_177 : BitVec 32 := 0#32
  let v248 : BitVec 1 := Scalar.cmpi .sgt v246 c0_i32_177
  let v249 : BitVec 32 := Scalar.extui v248
  let c0_i32_178 : BitVec 32 := 0#32
  let v250 : BitVec 1 := Scalar.cmpi .slt v246 c0_i32_178
  let v251 : BitVec 32 := Scalar.extui v250
  let v252 : BitVec 32 := Scalar.subi v249 v251
  let c32_i32 : BitVec 32 := 32#32
  let c0_i32_179 : BitVec 32 := 0#32
  let v253 : BitVec 1 := Scalar.cmpi .sgt c32_i32 c0_i32_179
  let v254 : BitVec 32 := Scalar.extui v253
  let c0_i32_180 : BitVec 32 := 0#32
  let v255 : BitVec 1 := Scalar.cmpi .slt c32_i32 c0_i32_180
  let v256 : BitVec 32 := Scalar.extui v255
  let v257 : BitVec 32 := Scalar.subi v254 v256
  let v258 : BitVec 1 := Scalar.cmpi .ne v252 v257
  let v259 : BitVec 32 := Scalar.remsi v246 c32_i32
  let c0_i32_181 : BitVec 32 := 0#32
  let v260 : BitVec 1 := Scalar.cmpi .ne v259 c0_i32_181
  let v261 : BitVec 1 := Scalar.andi v258 v260
  let v247 : BitVec 32 := Scalar.divsi v246 c32_i32
  let c1_i32_182 : BitVec 32 := 1#32
  let v262 : BitVec 32 := Scalar.subi v247 c1_i32_182
  let v263 : BitVec 32 := Scalar.select v261 v262 v247
  let v314 : BitVec 32 := Scalar.subi v263 c0_i32_228
  let c1_i32_229 : BitVec 32 := 1#32
  let v316 : BitVec 32 := Scalar.divsi v314 c1_i32_229
  let v317 : BitVec 32 := Scalar.muli v316 c1_i32_229
  let v318 : BitVec 32 := Scalar.addi c0_i32_228 v317
  let c1_i32_231 : BitVec 32 := 1#32
  let arg9 : BitVec 32 := Scf.iv v318 c1_i32_231 k0_t2
  let c32_i32_247 : BitVec 32 := 32#32
  let v350 : BitVec 32 := Scalar.muli arg9 c32_i32_247
  let v351 : BitVec 32 := Scalar.addi c1_i32_248 v350
  let c5_i32_706 : BitVec 32 := 5#32
  let v999 : BitVec 32 := Scalar.addi v351 c5_i32_706
  let c1_i32_707 : BitVec 32 := 1#32
  let v1000 : BitVec 32 := Scalar.subi v1 c1_i32_707
  let v1001 : BitVec 32 := Scalar.minsi v999 v1000
  let c256_i32_708 : BitVec 32 := 256#32
  let v1002 : BitVec 32 := Scalar.muli v1001 c256_i32_708
  v1002
def k0_mult161 (i : grid0.Coords) (k0_t2 : Fin (k0_t2_loop i).trips) : BitVec 32 :=
  let c1_i32_248 : BitVec 32 := 1#32
  let c0_i32_228 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_176 : BitVec 32 := 1#32
  let v246 : BitVec 32 := Scalar.subi v1 c1_i32_176
  let c0_i32_177 : BitVec 32 := 0#32
  let v248 : BitVec 1 := Scalar.cmpi .sgt v246 c0_i32_177
  let v249 : BitVec 32 := Scalar.extui v248
  let c0_i32_178 : BitVec 32 := 0#32
  let v250 : BitVec 1 := Scalar.cmpi .slt v246 c0_i32_178
  let v251 : BitVec 32 := Scalar.extui v250
  let v252 : BitVec 32 := Scalar.subi v249 v251
  let c32_i32 : BitVec 32 := 32#32
  let c0_i32_179 : BitVec 32 := 0#32
  let v253 : BitVec 1 := Scalar.cmpi .sgt c32_i32 c0_i32_179
  let v254 : BitVec 32 := Scalar.extui v253
  let c0_i32_180 : BitVec 32 := 0#32
  let v255 : BitVec 1 := Scalar.cmpi .slt c32_i32 c0_i32_180
  let v256 : BitVec 32 := Scalar.extui v255
  let v257 : BitVec 32 := Scalar.subi v254 v256
  let v258 : BitVec 1 := Scalar.cmpi .ne v252 v257
  let v259 : BitVec 32 := Scalar.remsi v246 c32_i32
  let c0_i32_181 : BitVec 32 := 0#32
  let v260 : BitVec 1 := Scalar.cmpi .ne v259 c0_i32_181
  let v261 : BitVec 1 := Scalar.andi v258 v260
  let v247 : BitVec 32 := Scalar.divsi v246 c32_i32
  let c1_i32_182 : BitVec 32 := 1#32
  let v262 : BitVec 32 := Scalar.subi v247 c1_i32_182
  let v263 : BitVec 32 := Scalar.select v261 v262 v247
  let v314 : BitVec 32 := Scalar.subi v263 c0_i32_228
  let c1_i32_229 : BitVec 32 := 1#32
  let v316 : BitVec 32 := Scalar.divsi v314 c1_i32_229
  let v317 : BitVec 32 := Scalar.muli v316 c1_i32_229
  let v318 : BitVec 32 := Scalar.addi c0_i32_228 v317
  let c1_i32_231 : BitVec 32 := 1#32
  let arg9 : BitVec 32 := Scf.iv v318 c1_i32_231 k0_t2
  let c32_i32_247 : BitVec 32 := 32#32
  let v350 : BitVec 32 := Scalar.muli arg9 c32_i32_247
  let v351 : BitVec 32 := Scalar.addi c1_i32_248 v350
  let c5_i32_733 : BitVec 32 := 5#32
  let v1037 : BitVec 32 := Scalar.addi v351 c5_i32_733
  let c1_i32_734 : BitVec 32 := 1#32
  let v1038 : BitVec 32 := Scalar.subi v1 c1_i32_734
  let v1039 : BitVec 32 := Scalar.minsi v1037 v1038
  let c256_i32_735 : BitVec 32 := 256#32
  let v1040 : BitVec 32 := Scalar.muli v1039 c256_i32_735
  v1040
def k0_mult162 (i : grid0.Coords) (k0_t2 : Fin (k0_t2_loop i).trips) : BitVec 32 :=
  let c1_i32_248 : BitVec 32 := 1#32
  let c0_i32_228 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_176 : BitVec 32 := 1#32
  let v246 : BitVec 32 := Scalar.subi v1 c1_i32_176
  let c0_i32_177 : BitVec 32 := 0#32
  let v248 : BitVec 1 := Scalar.cmpi .sgt v246 c0_i32_177
  let v249 : BitVec 32 := Scalar.extui v248
  let c0_i32_178 : BitVec 32 := 0#32
  let v250 : BitVec 1 := Scalar.cmpi .slt v246 c0_i32_178
  let v251 : BitVec 32 := Scalar.extui v250
  let v252 : BitVec 32 := Scalar.subi v249 v251
  let c32_i32 : BitVec 32 := 32#32
  let c0_i32_179 : BitVec 32 := 0#32
  let v253 : BitVec 1 := Scalar.cmpi .sgt c32_i32 c0_i32_179
  let v254 : BitVec 32 := Scalar.extui v253
  let c0_i32_180 : BitVec 32 := 0#32
  let v255 : BitVec 1 := Scalar.cmpi .slt c32_i32 c0_i32_180
  let v256 : BitVec 32 := Scalar.extui v255
  let v257 : BitVec 32 := Scalar.subi v254 v256
  let v258 : BitVec 1 := Scalar.cmpi .ne v252 v257
  let v259 : BitVec 32 := Scalar.remsi v246 c32_i32
  let c0_i32_181 : BitVec 32 := 0#32
  let v260 : BitVec 1 := Scalar.cmpi .ne v259 c0_i32_181
  let v261 : BitVec 1 := Scalar.andi v258 v260
  let v247 : BitVec 32 := Scalar.divsi v246 c32_i32
  let c1_i32_182 : BitVec 32 := 1#32
  let v262 : BitVec 32 := Scalar.subi v247 c1_i32_182
  let v263 : BitVec 32 := Scalar.select v261 v262 v247
  let v314 : BitVec 32 := Scalar.subi v263 c0_i32_228
  let c1_i32_229 : BitVec 32 := 1#32
  let v316 : BitVec 32 := Scalar.divsi v314 c1_i32_229
  let v317 : BitVec 32 := Scalar.muli v316 c1_i32_229
  let v318 : BitVec 32 := Scalar.addi c0_i32_228 v317
  let c1_i32_231 : BitVec 32 := 1#32
  let arg9 : BitVec 32 := Scf.iv v318 c1_i32_231 k0_t2
  let c32_i32_247 : BitVec 32 := 32#32
  let v350 : BitVec 32 := Scalar.muli arg9 c32_i32_247
  let v351 : BitVec 32 := Scalar.addi c1_i32_248 v350
  let c6_i32 : BitVec 32 := 6#32
  let v1075 : BitVec 32 := Scalar.addi v351 c6_i32
  let c1_i32_760 : BitVec 32 := 1#32
  let v1076 : BitVec 32 := Scalar.subi v1 c1_i32_760
  let v1077 : BitVec 32 := Scalar.minsi v1075 v1076
  let c256_i32_761 : BitVec 32 := 256#32
  let v1078 : BitVec 32 := Scalar.muli v1077 c256_i32_761
  v1078
def k0_mult163 (i : grid0.Coords) (k0_t2 : Fin (k0_t2_loop i).trips) : BitVec 32 :=
  let c1_i32_248 : BitVec 32 := 1#32
  let c0_i32_228 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_176 : BitVec 32 := 1#32
  let v246 : BitVec 32 := Scalar.subi v1 c1_i32_176
  let c0_i32_177 : BitVec 32 := 0#32
  let v248 : BitVec 1 := Scalar.cmpi .sgt v246 c0_i32_177
  let v249 : BitVec 32 := Scalar.extui v248
  let c0_i32_178 : BitVec 32 := 0#32
  let v250 : BitVec 1 := Scalar.cmpi .slt v246 c0_i32_178
  let v251 : BitVec 32 := Scalar.extui v250
  let v252 : BitVec 32 := Scalar.subi v249 v251
  let c32_i32 : BitVec 32 := 32#32
  let c0_i32_179 : BitVec 32 := 0#32
  let v253 : BitVec 1 := Scalar.cmpi .sgt c32_i32 c0_i32_179
  let v254 : BitVec 32 := Scalar.extui v253
  let c0_i32_180 : BitVec 32 := 0#32
  let v255 : BitVec 1 := Scalar.cmpi .slt c32_i32 c0_i32_180
  let v256 : BitVec 32 := Scalar.extui v255
  let v257 : BitVec 32 := Scalar.subi v254 v256
  let v258 : BitVec 1 := Scalar.cmpi .ne v252 v257
  let v259 : BitVec 32 := Scalar.remsi v246 c32_i32
  let c0_i32_181 : BitVec 32 := 0#32
  let v260 : BitVec 1 := Scalar.cmpi .ne v259 c0_i32_181
  let v261 : BitVec 1 := Scalar.andi v258 v260
  let v247 : BitVec 32 := Scalar.divsi v246 c32_i32
  let c1_i32_182 : BitVec 32 := 1#32
  let v262 : BitVec 32 := Scalar.subi v247 c1_i32_182
  let v263 : BitVec 32 := Scalar.select v261 v262 v247
  let v314 : BitVec 32 := Scalar.subi v263 c0_i32_228
  let c1_i32_229 : BitVec 32 := 1#32
  let v316 : BitVec 32 := Scalar.divsi v314 c1_i32_229
  let v317 : BitVec 32 := Scalar.muli v316 c1_i32_229
  let v318 : BitVec 32 := Scalar.addi c0_i32_228 v317
  let c1_i32_231 : BitVec 32 := 1#32
  let arg9 : BitVec 32 := Scf.iv v318 c1_i32_231 k0_t2
  let c32_i32_247 : BitVec 32 := 32#32
  let v350 : BitVec 32 := Scalar.muli arg9 c32_i32_247
  let v351 : BitVec 32 := Scalar.addi c1_i32_248 v350
  let c6_i32_786 : BitVec 32 := 6#32
  let v1113 : BitVec 32 := Scalar.addi v351 c6_i32_786
  let c1_i32_787 : BitVec 32 := 1#32
  let v1114 : BitVec 32 := Scalar.subi v1 c1_i32_787
  let v1115 : BitVec 32 := Scalar.minsi v1113 v1114
  let c256_i32_788 : BitVec 32 := 256#32
  let v1116 : BitVec 32 := Scalar.muli v1115 c256_i32_788
  v1116
def k0_mult164 (i : grid0.Coords) (k0_t2 : Fin (k0_t2_loop i).trips) : BitVec 32 :=
  let c1_i32_248 : BitVec 32 := 1#32
  let c0_i32_228 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_176 : BitVec 32 := 1#32
  let v246 : BitVec 32 := Scalar.subi v1 c1_i32_176
  let c0_i32_177 : BitVec 32 := 0#32
  let v248 : BitVec 1 := Scalar.cmpi .sgt v246 c0_i32_177
  let v249 : BitVec 32 := Scalar.extui v248
  let c0_i32_178 : BitVec 32 := 0#32
  let v250 : BitVec 1 := Scalar.cmpi .slt v246 c0_i32_178
  let v251 : BitVec 32 := Scalar.extui v250
  let v252 : BitVec 32 := Scalar.subi v249 v251
  let c32_i32 : BitVec 32 := 32#32
  let c0_i32_179 : BitVec 32 := 0#32
  let v253 : BitVec 1 := Scalar.cmpi .sgt c32_i32 c0_i32_179
  let v254 : BitVec 32 := Scalar.extui v253
  let c0_i32_180 : BitVec 32 := 0#32
  let v255 : BitVec 1 := Scalar.cmpi .slt c32_i32 c0_i32_180
  let v256 : BitVec 32 := Scalar.extui v255
  let v257 : BitVec 32 := Scalar.subi v254 v256
  let v258 : BitVec 1 := Scalar.cmpi .ne v252 v257
  let v259 : BitVec 32 := Scalar.remsi v246 c32_i32
  let c0_i32_181 : BitVec 32 := 0#32
  let v260 : BitVec 1 := Scalar.cmpi .ne v259 c0_i32_181
  let v261 : BitVec 1 := Scalar.andi v258 v260
  let v247 : BitVec 32 := Scalar.divsi v246 c32_i32
  let c1_i32_182 : BitVec 32 := 1#32
  let v262 : BitVec 32 := Scalar.subi v247 c1_i32_182
  let v263 : BitVec 32 := Scalar.select v261 v262 v247
  let v314 : BitVec 32 := Scalar.subi v263 c0_i32_228
  let c1_i32_229 : BitVec 32 := 1#32
  let v316 : BitVec 32 := Scalar.divsi v314 c1_i32_229
  let v317 : BitVec 32 := Scalar.muli v316 c1_i32_229
  let v318 : BitVec 32 := Scalar.addi c0_i32_228 v317
  let c1_i32_231 : BitVec 32 := 1#32
  let arg9 : BitVec 32 := Scf.iv v318 c1_i32_231 k0_t2
  let c32_i32_247 : BitVec 32 := 32#32
  let v350 : BitVec 32 := Scalar.muli arg9 c32_i32_247
  let v351 : BitVec 32 := Scalar.addi c1_i32_248 v350
  let c6_i32_813 : BitVec 32 := 6#32
  let v1151 : BitVec 32 := Scalar.addi v351 c6_i32_813
  let c1_i32_814 : BitVec 32 := 1#32
  let v1152 : BitVec 32 := Scalar.subi v1 c1_i32_814
  let v1153 : BitVec 32 := Scalar.minsi v1151 v1152
  let c256_i32_815 : BitVec 32 := 256#32
  let v1154 : BitVec 32 := Scalar.muli v1153 c256_i32_815
  v1154
def k0_mult165 (i : grid0.Coords) (k0_t2 : Fin (k0_t2_loop i).trips) : BitVec 32 :=
  let c1_i32_248 : BitVec 32 := 1#32
  let c0_i32_228 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_176 : BitVec 32 := 1#32
  let v246 : BitVec 32 := Scalar.subi v1 c1_i32_176
  let c0_i32_177 : BitVec 32 := 0#32
  let v248 : BitVec 1 := Scalar.cmpi .sgt v246 c0_i32_177
  let v249 : BitVec 32 := Scalar.extui v248
  let c0_i32_178 : BitVec 32 := 0#32
  let v250 : BitVec 1 := Scalar.cmpi .slt v246 c0_i32_178
  let v251 : BitVec 32 := Scalar.extui v250
  let v252 : BitVec 32 := Scalar.subi v249 v251
  let c32_i32 : BitVec 32 := 32#32
  let c0_i32_179 : BitVec 32 := 0#32
  let v253 : BitVec 1 := Scalar.cmpi .sgt c32_i32 c0_i32_179
  let v254 : BitVec 32 := Scalar.extui v253
  let c0_i32_180 : BitVec 32 := 0#32
  let v255 : BitVec 1 := Scalar.cmpi .slt c32_i32 c0_i32_180
  let v256 : BitVec 32 := Scalar.extui v255
  let v257 : BitVec 32 := Scalar.subi v254 v256
  let v258 : BitVec 1 := Scalar.cmpi .ne v252 v257
  let v259 : BitVec 32 := Scalar.remsi v246 c32_i32
  let c0_i32_181 : BitVec 32 := 0#32
  let v260 : BitVec 1 := Scalar.cmpi .ne v259 c0_i32_181
  let v261 : BitVec 1 := Scalar.andi v258 v260
  let v247 : BitVec 32 := Scalar.divsi v246 c32_i32
  let c1_i32_182 : BitVec 32 := 1#32
  let v262 : BitVec 32 := Scalar.subi v247 c1_i32_182
  let v263 : BitVec 32 := Scalar.select v261 v262 v247
  let v314 : BitVec 32 := Scalar.subi v263 c0_i32_228
  let c1_i32_229 : BitVec 32 := 1#32
  let v316 : BitVec 32 := Scalar.divsi v314 c1_i32_229
  let v317 : BitVec 32 := Scalar.muli v316 c1_i32_229
  let v318 : BitVec 32 := Scalar.addi c0_i32_228 v317
  let c1_i32_231 : BitVec 32 := 1#32
  let arg9 : BitVec 32 := Scf.iv v318 c1_i32_231 k0_t2
  let c32_i32_247 : BitVec 32 := 32#32
  let v350 : BitVec 32 := Scalar.muli arg9 c32_i32_247
  let v351 : BitVec 32 := Scalar.addi c1_i32_248 v350
  let c6_i32_840 : BitVec 32 := 6#32
  let v1189 : BitVec 32 := Scalar.addi v351 c6_i32_840
  let c1_i32_841 : BitVec 32 := 1#32
  let v1190 : BitVec 32 := Scalar.subi v1 c1_i32_841
  let v1191 : BitVec 32 := Scalar.minsi v1189 v1190
  let c256_i32_842 : BitVec 32 := 256#32
  let v1192 : BitVec 32 := Scalar.muli v1191 c256_i32_842
  v1192
def k0_mult166 (i : grid0.Coords) (k0_t2 : Fin (k0_t2_loop i).trips) : BitVec 32 :=
  let c1_i32_248 : BitVec 32 := 1#32
  let c0_i32_228 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_176 : BitVec 32 := 1#32
  let v246 : BitVec 32 := Scalar.subi v1 c1_i32_176
  let c0_i32_177 : BitVec 32 := 0#32
  let v248 : BitVec 1 := Scalar.cmpi .sgt v246 c0_i32_177
  let v249 : BitVec 32 := Scalar.extui v248
  let c0_i32_178 : BitVec 32 := 0#32
  let v250 : BitVec 1 := Scalar.cmpi .slt v246 c0_i32_178
  let v251 : BitVec 32 := Scalar.extui v250
  let v252 : BitVec 32 := Scalar.subi v249 v251
  let c32_i32 : BitVec 32 := 32#32
  let c0_i32_179 : BitVec 32 := 0#32
  let v253 : BitVec 1 := Scalar.cmpi .sgt c32_i32 c0_i32_179
  let v254 : BitVec 32 := Scalar.extui v253
  let c0_i32_180 : BitVec 32 := 0#32
  let v255 : BitVec 1 := Scalar.cmpi .slt c32_i32 c0_i32_180
  let v256 : BitVec 32 := Scalar.extui v255
  let v257 : BitVec 32 := Scalar.subi v254 v256
  let v258 : BitVec 1 := Scalar.cmpi .ne v252 v257
  let v259 : BitVec 32 := Scalar.remsi v246 c32_i32
  let c0_i32_181 : BitVec 32 := 0#32
  let v260 : BitVec 1 := Scalar.cmpi .ne v259 c0_i32_181
  let v261 : BitVec 1 := Scalar.andi v258 v260
  let v247 : BitVec 32 := Scalar.divsi v246 c32_i32
  let c1_i32_182 : BitVec 32 := 1#32
  let v262 : BitVec 32 := Scalar.subi v247 c1_i32_182
  let v263 : BitVec 32 := Scalar.select v261 v262 v247
  let v314 : BitVec 32 := Scalar.subi v263 c0_i32_228
  let c1_i32_229 : BitVec 32 := 1#32
  let v316 : BitVec 32 := Scalar.divsi v314 c1_i32_229
  let v317 : BitVec 32 := Scalar.muli v316 c1_i32_229
  let v318 : BitVec 32 := Scalar.addi c0_i32_228 v317
  let c1_i32_231 : BitVec 32 := 1#32
  let arg9 : BitVec 32 := Scf.iv v318 c1_i32_231 k0_t2
  let c32_i32_247 : BitVec 32 := 32#32
  let v350 : BitVec 32 := Scalar.muli arg9 c32_i32_247
  let v351 : BitVec 32 := Scalar.addi c1_i32_248 v350
  let c7_i32 : BitVec 32 := 7#32
  let v1227 : BitVec 32 := Scalar.addi v351 c7_i32
  let c1_i32_867 : BitVec 32 := 1#32
  let v1228 : BitVec 32 := Scalar.subi v1 c1_i32_867
  let v1229 : BitVec 32 := Scalar.minsi v1227 v1228
  let c256_i32_868 : BitVec 32 := 256#32
  let v1230 : BitVec 32 := Scalar.muli v1229 c256_i32_868
  v1230
def k0_mult167 (i : grid0.Coords) (k0_t2 : Fin (k0_t2_loop i).trips) : BitVec 32 :=
  let c1_i32_248 : BitVec 32 := 1#32
  let c0_i32_228 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_176 : BitVec 32 := 1#32
  let v246 : BitVec 32 := Scalar.subi v1 c1_i32_176
  let c0_i32_177 : BitVec 32 := 0#32
  let v248 : BitVec 1 := Scalar.cmpi .sgt v246 c0_i32_177
  let v249 : BitVec 32 := Scalar.extui v248
  let c0_i32_178 : BitVec 32 := 0#32
  let v250 : BitVec 1 := Scalar.cmpi .slt v246 c0_i32_178
  let v251 : BitVec 32 := Scalar.extui v250
  let v252 : BitVec 32 := Scalar.subi v249 v251
  let c32_i32 : BitVec 32 := 32#32
  let c0_i32_179 : BitVec 32 := 0#32
  let v253 : BitVec 1 := Scalar.cmpi .sgt c32_i32 c0_i32_179
  let v254 : BitVec 32 := Scalar.extui v253
  let c0_i32_180 : BitVec 32 := 0#32
  let v255 : BitVec 1 := Scalar.cmpi .slt c32_i32 c0_i32_180
  let v256 : BitVec 32 := Scalar.extui v255
  let v257 : BitVec 32 := Scalar.subi v254 v256
  let v258 : BitVec 1 := Scalar.cmpi .ne v252 v257
  let v259 : BitVec 32 := Scalar.remsi v246 c32_i32
  let c0_i32_181 : BitVec 32 := 0#32
  let v260 : BitVec 1 := Scalar.cmpi .ne v259 c0_i32_181
  let v261 : BitVec 1 := Scalar.andi v258 v260
  let v247 : BitVec 32 := Scalar.divsi v246 c32_i32
  let c1_i32_182 : BitVec 32 := 1#32
  let v262 : BitVec 32 := Scalar.subi v247 c1_i32_182
  let v263 : BitVec 32 := Scalar.select v261 v262 v247
  let v314 : BitVec 32 := Scalar.subi v263 c0_i32_228
  let c1_i32_229 : BitVec 32 := 1#32
  let v316 : BitVec 32 := Scalar.divsi v314 c1_i32_229
  let v317 : BitVec 32 := Scalar.muli v316 c1_i32_229
  let v318 : BitVec 32 := Scalar.addi c0_i32_228 v317
  let c1_i32_231 : BitVec 32 := 1#32
  let arg9 : BitVec 32 := Scf.iv v318 c1_i32_231 k0_t2
  let c32_i32_247 : BitVec 32 := 32#32
  let v350 : BitVec 32 := Scalar.muli arg9 c32_i32_247
  let v351 : BitVec 32 := Scalar.addi c1_i32_248 v350
  let c7_i32_893 : BitVec 32 := 7#32
  let v1265 : BitVec 32 := Scalar.addi v351 c7_i32_893
  let c1_i32_894 : BitVec 32 := 1#32
  let v1266 : BitVec 32 := Scalar.subi v1 c1_i32_894
  let v1267 : BitVec 32 := Scalar.minsi v1265 v1266
  let c256_i32_895 : BitVec 32 := 256#32
  let v1268 : BitVec 32 := Scalar.muli v1267 c256_i32_895
  v1268
def k0_mult168 (i : grid0.Coords) (k0_t2 : Fin (k0_t2_loop i).trips) : BitVec 32 :=
  let c1_i32_248 : BitVec 32 := 1#32
  let c0_i32_228 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_176 : BitVec 32 := 1#32
  let v246 : BitVec 32 := Scalar.subi v1 c1_i32_176
  let c0_i32_177 : BitVec 32 := 0#32
  let v248 : BitVec 1 := Scalar.cmpi .sgt v246 c0_i32_177
  let v249 : BitVec 32 := Scalar.extui v248
  let c0_i32_178 : BitVec 32 := 0#32
  let v250 : BitVec 1 := Scalar.cmpi .slt v246 c0_i32_178
  let v251 : BitVec 32 := Scalar.extui v250
  let v252 : BitVec 32 := Scalar.subi v249 v251
  let c32_i32 : BitVec 32 := 32#32
  let c0_i32_179 : BitVec 32 := 0#32
  let v253 : BitVec 1 := Scalar.cmpi .sgt c32_i32 c0_i32_179
  let v254 : BitVec 32 := Scalar.extui v253
  let c0_i32_180 : BitVec 32 := 0#32
  let v255 : BitVec 1 := Scalar.cmpi .slt c32_i32 c0_i32_180
  let v256 : BitVec 32 := Scalar.extui v255
  let v257 : BitVec 32 := Scalar.subi v254 v256
  let v258 : BitVec 1 := Scalar.cmpi .ne v252 v257
  let v259 : BitVec 32 := Scalar.remsi v246 c32_i32
  let c0_i32_181 : BitVec 32 := 0#32
  let v260 : BitVec 1 := Scalar.cmpi .ne v259 c0_i32_181
  let v261 : BitVec 1 := Scalar.andi v258 v260
  let v247 : BitVec 32 := Scalar.divsi v246 c32_i32
  let c1_i32_182 : BitVec 32 := 1#32
  let v262 : BitVec 32 := Scalar.subi v247 c1_i32_182
  let v263 : BitVec 32 := Scalar.select v261 v262 v247
  let v314 : BitVec 32 := Scalar.subi v263 c0_i32_228
  let c1_i32_229 : BitVec 32 := 1#32
  let v316 : BitVec 32 := Scalar.divsi v314 c1_i32_229
  let v317 : BitVec 32 := Scalar.muli v316 c1_i32_229
  let v318 : BitVec 32 := Scalar.addi c0_i32_228 v317
  let c1_i32_231 : BitVec 32 := 1#32
  let arg9 : BitVec 32 := Scf.iv v318 c1_i32_231 k0_t2
  let c32_i32_247 : BitVec 32 := 32#32
  let v350 : BitVec 32 := Scalar.muli arg9 c32_i32_247
  let v351 : BitVec 32 := Scalar.addi c1_i32_248 v350
  let c7_i32_920 : BitVec 32 := 7#32
  let v1303 : BitVec 32 := Scalar.addi v351 c7_i32_920
  let c1_i32_921 : BitVec 32 := 1#32
  let v1304 : BitVec 32 := Scalar.subi v1 c1_i32_921
  let v1305 : BitVec 32 := Scalar.minsi v1303 v1304
  let c256_i32_922 : BitVec 32 := 256#32
  let v1306 : BitVec 32 := Scalar.muli v1305 c256_i32_922
  v1306
def k0_mult169 (i : grid0.Coords) (k0_t2 : Fin (k0_t2_loop i).trips) : BitVec 32 :=
  let c1_i32_248 : BitVec 32 := 1#32
  let c0_i32_228 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_176 : BitVec 32 := 1#32
  let v246 : BitVec 32 := Scalar.subi v1 c1_i32_176
  let c0_i32_177 : BitVec 32 := 0#32
  let v248 : BitVec 1 := Scalar.cmpi .sgt v246 c0_i32_177
  let v249 : BitVec 32 := Scalar.extui v248
  let c0_i32_178 : BitVec 32 := 0#32
  let v250 : BitVec 1 := Scalar.cmpi .slt v246 c0_i32_178
  let v251 : BitVec 32 := Scalar.extui v250
  let v252 : BitVec 32 := Scalar.subi v249 v251
  let c32_i32 : BitVec 32 := 32#32
  let c0_i32_179 : BitVec 32 := 0#32
  let v253 : BitVec 1 := Scalar.cmpi .sgt c32_i32 c0_i32_179
  let v254 : BitVec 32 := Scalar.extui v253
  let c0_i32_180 : BitVec 32 := 0#32
  let v255 : BitVec 1 := Scalar.cmpi .slt c32_i32 c0_i32_180
  let v256 : BitVec 32 := Scalar.extui v255
  let v257 : BitVec 32 := Scalar.subi v254 v256
  let v258 : BitVec 1 := Scalar.cmpi .ne v252 v257
  let v259 : BitVec 32 := Scalar.remsi v246 c32_i32
  let c0_i32_181 : BitVec 32 := 0#32
  let v260 : BitVec 1 := Scalar.cmpi .ne v259 c0_i32_181
  let v261 : BitVec 1 := Scalar.andi v258 v260
  let v247 : BitVec 32 := Scalar.divsi v246 c32_i32
  let c1_i32_182 : BitVec 32 := 1#32
  let v262 : BitVec 32 := Scalar.subi v247 c1_i32_182
  let v263 : BitVec 32 := Scalar.select v261 v262 v247
  let v314 : BitVec 32 := Scalar.subi v263 c0_i32_228
  let c1_i32_229 : BitVec 32 := 1#32
  let v316 : BitVec 32 := Scalar.divsi v314 c1_i32_229
  let v317 : BitVec 32 := Scalar.muli v316 c1_i32_229
  let v318 : BitVec 32 := Scalar.addi c0_i32_228 v317
  let c1_i32_231 : BitVec 32 := 1#32
  let arg9 : BitVec 32 := Scf.iv v318 c1_i32_231 k0_t2
  let c32_i32_247 : BitVec 32 := 32#32
  let v350 : BitVec 32 := Scalar.muli arg9 c32_i32_247
  let v351 : BitVec 32 := Scalar.addi c1_i32_248 v350
  let c7_i32_947 : BitVec 32 := 7#32
  let v1341 : BitVec 32 := Scalar.addi v351 c7_i32_947
  let c1_i32_948 : BitVec 32 := 1#32
  let v1342 : BitVec 32 := Scalar.subi v1 c1_i32_948
  let v1343 : BitVec 32 := Scalar.minsi v1341 v1342
  let c256_i32_949 : BitVec 32 := 256#32
  let v1344 : BitVec 32 := Scalar.muli v1343 c256_i32_949
  v1344
def k0_mult170 (i : grid0.Coords) (k0_t2 : Fin (k0_t2_loop i).trips) : BitVec 32 :=
  let c1_i32_248 : BitVec 32 := 1#32
  let c0_i32_228 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_176 : BitVec 32 := 1#32
  let v246 : BitVec 32 := Scalar.subi v1 c1_i32_176
  let c0_i32_177 : BitVec 32 := 0#32
  let v248 : BitVec 1 := Scalar.cmpi .sgt v246 c0_i32_177
  let v249 : BitVec 32 := Scalar.extui v248
  let c0_i32_178 : BitVec 32 := 0#32
  let v250 : BitVec 1 := Scalar.cmpi .slt v246 c0_i32_178
  let v251 : BitVec 32 := Scalar.extui v250
  let v252 : BitVec 32 := Scalar.subi v249 v251
  let c32_i32 : BitVec 32 := 32#32
  let c0_i32_179 : BitVec 32 := 0#32
  let v253 : BitVec 1 := Scalar.cmpi .sgt c32_i32 c0_i32_179
  let v254 : BitVec 32 := Scalar.extui v253
  let c0_i32_180 : BitVec 32 := 0#32
  let v255 : BitVec 1 := Scalar.cmpi .slt c32_i32 c0_i32_180
  let v256 : BitVec 32 := Scalar.extui v255
  let v257 : BitVec 32 := Scalar.subi v254 v256
  let v258 : BitVec 1 := Scalar.cmpi .ne v252 v257
  let v259 : BitVec 32 := Scalar.remsi v246 c32_i32
  let c0_i32_181 : BitVec 32 := 0#32
  let v260 : BitVec 1 := Scalar.cmpi .ne v259 c0_i32_181
  let v261 : BitVec 1 := Scalar.andi v258 v260
  let v247 : BitVec 32 := Scalar.divsi v246 c32_i32
  let c1_i32_182 : BitVec 32 := 1#32
  let v262 : BitVec 32 := Scalar.subi v247 c1_i32_182
  let v263 : BitVec 32 := Scalar.select v261 v262 v247
  let v314 : BitVec 32 := Scalar.subi v263 c0_i32_228
  let c1_i32_229 : BitVec 32 := 1#32
  let v316 : BitVec 32 := Scalar.divsi v314 c1_i32_229
  let v317 : BitVec 32 := Scalar.muli v316 c1_i32_229
  let v318 : BitVec 32 := Scalar.addi c0_i32_228 v317
  let c1_i32_231 : BitVec 32 := 1#32
  let arg9 : BitVec 32 := Scf.iv v318 c1_i32_231 k0_t2
  let c32_i32_247 : BitVec 32 := 32#32
  let v350 : BitVec 32 := Scalar.muli arg9 c32_i32_247
  let v351 : BitVec 32 := Scalar.addi c1_i32_248 v350
  let c8_i32 : BitVec 32 := 8#32
  let v1379 : BitVec 32 := Scalar.addi v351 c8_i32
  let c1_i32_974 : BitVec 32 := 1#32
  let v1380 : BitVec 32 := Scalar.subi v1 c1_i32_974
  let v1381 : BitVec 32 := Scalar.minsi v1379 v1380
  let c256_i32_975 : BitVec 32 := 256#32
  let v1382 : BitVec 32 := Scalar.muli v1381 c256_i32_975
  v1382
def k0_mult171 (i : grid0.Coords) (k0_t2 : Fin (k0_t2_loop i).trips) : BitVec 32 :=
  let c1_i32_248 : BitVec 32 := 1#32
  let c0_i32_228 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_176 : BitVec 32 := 1#32
  let v246 : BitVec 32 := Scalar.subi v1 c1_i32_176
  let c0_i32_177 : BitVec 32 := 0#32
  let v248 : BitVec 1 := Scalar.cmpi .sgt v246 c0_i32_177
  let v249 : BitVec 32 := Scalar.extui v248
  let c0_i32_178 : BitVec 32 := 0#32
  let v250 : BitVec 1 := Scalar.cmpi .slt v246 c0_i32_178
  let v251 : BitVec 32 := Scalar.extui v250
  let v252 : BitVec 32 := Scalar.subi v249 v251
  let c32_i32 : BitVec 32 := 32#32
  let c0_i32_179 : BitVec 32 := 0#32
  let v253 : BitVec 1 := Scalar.cmpi .sgt c32_i32 c0_i32_179
  let v254 : BitVec 32 := Scalar.extui v253
  let c0_i32_180 : BitVec 32 := 0#32
  let v255 : BitVec 1 := Scalar.cmpi .slt c32_i32 c0_i32_180
  let v256 : BitVec 32 := Scalar.extui v255
  let v257 : BitVec 32 := Scalar.subi v254 v256
  let v258 : BitVec 1 := Scalar.cmpi .ne v252 v257
  let v259 : BitVec 32 := Scalar.remsi v246 c32_i32
  let c0_i32_181 : BitVec 32 := 0#32
  let v260 : BitVec 1 := Scalar.cmpi .ne v259 c0_i32_181
  let v261 : BitVec 1 := Scalar.andi v258 v260
  let v247 : BitVec 32 := Scalar.divsi v246 c32_i32
  let c1_i32_182 : BitVec 32 := 1#32
  let v262 : BitVec 32 := Scalar.subi v247 c1_i32_182
  let v263 : BitVec 32 := Scalar.select v261 v262 v247
  let v314 : BitVec 32 := Scalar.subi v263 c0_i32_228
  let c1_i32_229 : BitVec 32 := 1#32
  let v316 : BitVec 32 := Scalar.divsi v314 c1_i32_229
  let v317 : BitVec 32 := Scalar.muli v316 c1_i32_229
  let v318 : BitVec 32 := Scalar.addi c0_i32_228 v317
  let c1_i32_231 : BitVec 32 := 1#32
  let arg9 : BitVec 32 := Scf.iv v318 c1_i32_231 k0_t2
  let c32_i32_247 : BitVec 32 := 32#32
  let v350 : BitVec 32 := Scalar.muli arg9 c32_i32_247
  let v351 : BitVec 32 := Scalar.addi c1_i32_248 v350
  let c8_i32_1000 : BitVec 32 := 8#32
  let v1417 : BitVec 32 := Scalar.addi v351 c8_i32_1000
  let c1_i32_1001 : BitVec 32 := 1#32
  let v1418 : BitVec 32 := Scalar.subi v1 c1_i32_1001
  let v1419 : BitVec 32 := Scalar.minsi v1417 v1418
  let c256_i32_1002 : BitVec 32 := 256#32
  let v1420 : BitVec 32 := Scalar.muli v1419 c256_i32_1002
  v1420
def k0_mult172 (i : grid0.Coords) (k0_t2 : Fin (k0_t2_loop i).trips) : BitVec 32 :=
  let c1_i32_248 : BitVec 32 := 1#32
  let c0_i32_228 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_176 : BitVec 32 := 1#32
  let v246 : BitVec 32 := Scalar.subi v1 c1_i32_176
  let c0_i32_177 : BitVec 32 := 0#32
  let v248 : BitVec 1 := Scalar.cmpi .sgt v246 c0_i32_177
  let v249 : BitVec 32 := Scalar.extui v248
  let c0_i32_178 : BitVec 32 := 0#32
  let v250 : BitVec 1 := Scalar.cmpi .slt v246 c0_i32_178
  let v251 : BitVec 32 := Scalar.extui v250
  let v252 : BitVec 32 := Scalar.subi v249 v251
  let c32_i32 : BitVec 32 := 32#32
  let c0_i32_179 : BitVec 32 := 0#32
  let v253 : BitVec 1 := Scalar.cmpi .sgt c32_i32 c0_i32_179
  let v254 : BitVec 32 := Scalar.extui v253
  let c0_i32_180 : BitVec 32 := 0#32
  let v255 : BitVec 1 := Scalar.cmpi .slt c32_i32 c0_i32_180
  let v256 : BitVec 32 := Scalar.extui v255
  let v257 : BitVec 32 := Scalar.subi v254 v256
  let v258 : BitVec 1 := Scalar.cmpi .ne v252 v257
  let v259 : BitVec 32 := Scalar.remsi v246 c32_i32
  let c0_i32_181 : BitVec 32 := 0#32
  let v260 : BitVec 1 := Scalar.cmpi .ne v259 c0_i32_181
  let v261 : BitVec 1 := Scalar.andi v258 v260
  let v247 : BitVec 32 := Scalar.divsi v246 c32_i32
  let c1_i32_182 : BitVec 32 := 1#32
  let v262 : BitVec 32 := Scalar.subi v247 c1_i32_182
  let v263 : BitVec 32 := Scalar.select v261 v262 v247
  let v314 : BitVec 32 := Scalar.subi v263 c0_i32_228
  let c1_i32_229 : BitVec 32 := 1#32
  let v316 : BitVec 32 := Scalar.divsi v314 c1_i32_229
  let v317 : BitVec 32 := Scalar.muli v316 c1_i32_229
  let v318 : BitVec 32 := Scalar.addi c0_i32_228 v317
  let c1_i32_231 : BitVec 32 := 1#32
  let arg9 : BitVec 32 := Scf.iv v318 c1_i32_231 k0_t2
  let c32_i32_247 : BitVec 32 := 32#32
  let v350 : BitVec 32 := Scalar.muli arg9 c32_i32_247
  let v351 : BitVec 32 := Scalar.addi c1_i32_248 v350
  let c8_i32_1027 : BitVec 32 := 8#32
  let v1455 : BitVec 32 := Scalar.addi v351 c8_i32_1027
  let c1_i32_1028 : BitVec 32 := 1#32
  let v1456 : BitVec 32 := Scalar.subi v1 c1_i32_1028
  let v1457 : BitVec 32 := Scalar.minsi v1455 v1456
  let c256_i32_1029 : BitVec 32 := 256#32
  let v1458 : BitVec 32 := Scalar.muli v1457 c256_i32_1029
  v1458
def k0_mult173 (i : grid0.Coords) (k0_t2 : Fin (k0_t2_loop i).trips) : BitVec 32 :=
  let c1_i32_248 : BitVec 32 := 1#32
  let c0_i32_228 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_176 : BitVec 32 := 1#32
  let v246 : BitVec 32 := Scalar.subi v1 c1_i32_176
  let c0_i32_177 : BitVec 32 := 0#32
  let v248 : BitVec 1 := Scalar.cmpi .sgt v246 c0_i32_177
  let v249 : BitVec 32 := Scalar.extui v248
  let c0_i32_178 : BitVec 32 := 0#32
  let v250 : BitVec 1 := Scalar.cmpi .slt v246 c0_i32_178
  let v251 : BitVec 32 := Scalar.extui v250
  let v252 : BitVec 32 := Scalar.subi v249 v251
  let c32_i32 : BitVec 32 := 32#32
  let c0_i32_179 : BitVec 32 := 0#32
  let v253 : BitVec 1 := Scalar.cmpi .sgt c32_i32 c0_i32_179
  let v254 : BitVec 32 := Scalar.extui v253
  let c0_i32_180 : BitVec 32 := 0#32
  let v255 : BitVec 1 := Scalar.cmpi .slt c32_i32 c0_i32_180
  let v256 : BitVec 32 := Scalar.extui v255
  let v257 : BitVec 32 := Scalar.subi v254 v256
  let v258 : BitVec 1 := Scalar.cmpi .ne v252 v257
  let v259 : BitVec 32 := Scalar.remsi v246 c32_i32
  let c0_i32_181 : BitVec 32 := 0#32
  let v260 : BitVec 1 := Scalar.cmpi .ne v259 c0_i32_181
  let v261 : BitVec 1 := Scalar.andi v258 v260
  let v247 : BitVec 32 := Scalar.divsi v246 c32_i32
  let c1_i32_182 : BitVec 32 := 1#32
  let v262 : BitVec 32 := Scalar.subi v247 c1_i32_182
  let v263 : BitVec 32 := Scalar.select v261 v262 v247
  let v314 : BitVec 32 := Scalar.subi v263 c0_i32_228
  let c1_i32_229 : BitVec 32 := 1#32
  let v316 : BitVec 32 := Scalar.divsi v314 c1_i32_229
  let v317 : BitVec 32 := Scalar.muli v316 c1_i32_229
  let v318 : BitVec 32 := Scalar.addi c0_i32_228 v317
  let c1_i32_231 : BitVec 32 := 1#32
  let arg9 : BitVec 32 := Scf.iv v318 c1_i32_231 k0_t2
  let c32_i32_247 : BitVec 32 := 32#32
  let v350 : BitVec 32 := Scalar.muli arg9 c32_i32_247
  let v351 : BitVec 32 := Scalar.addi c1_i32_248 v350
  let c8_i32_1054 : BitVec 32 := 8#32
  let v1493 : BitVec 32 := Scalar.addi v351 c8_i32_1054
  let c1_i32_1055 : BitVec 32 := 1#32
  let v1494 : BitVec 32 := Scalar.subi v1 c1_i32_1055
  let v1495 : BitVec 32 := Scalar.minsi v1493 v1494
  let c256_i32_1056 : BitVec 32 := 256#32
  let v1496 : BitVec 32 := Scalar.muli v1495 c256_i32_1056
  v1496
def k0_mult174 (i : grid0.Coords) (k0_t2 : Fin (k0_t2_loop i).trips) : BitVec 32 :=
  let c1_i32_248 : BitVec 32 := 1#32
  let c0_i32_228 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_176 : BitVec 32 := 1#32
  let v246 : BitVec 32 := Scalar.subi v1 c1_i32_176
  let c0_i32_177 : BitVec 32 := 0#32
  let v248 : BitVec 1 := Scalar.cmpi .sgt v246 c0_i32_177
  let v249 : BitVec 32 := Scalar.extui v248
  let c0_i32_178 : BitVec 32 := 0#32
  let v250 : BitVec 1 := Scalar.cmpi .slt v246 c0_i32_178
  let v251 : BitVec 32 := Scalar.extui v250
  let v252 : BitVec 32 := Scalar.subi v249 v251
  let c32_i32 : BitVec 32 := 32#32
  let c0_i32_179 : BitVec 32 := 0#32
  let v253 : BitVec 1 := Scalar.cmpi .sgt c32_i32 c0_i32_179
  let v254 : BitVec 32 := Scalar.extui v253
  let c0_i32_180 : BitVec 32 := 0#32
  let v255 : BitVec 1 := Scalar.cmpi .slt c32_i32 c0_i32_180
  let v256 : BitVec 32 := Scalar.extui v255
  let v257 : BitVec 32 := Scalar.subi v254 v256
  let v258 : BitVec 1 := Scalar.cmpi .ne v252 v257
  let v259 : BitVec 32 := Scalar.remsi v246 c32_i32
  let c0_i32_181 : BitVec 32 := 0#32
  let v260 : BitVec 1 := Scalar.cmpi .ne v259 c0_i32_181
  let v261 : BitVec 1 := Scalar.andi v258 v260
  let v247 : BitVec 32 := Scalar.divsi v246 c32_i32
  let c1_i32_182 : BitVec 32 := 1#32
  let v262 : BitVec 32 := Scalar.subi v247 c1_i32_182
  let v263 : BitVec 32 := Scalar.select v261 v262 v247
  let v314 : BitVec 32 := Scalar.subi v263 c0_i32_228
  let c1_i32_229 : BitVec 32 := 1#32
  let v316 : BitVec 32 := Scalar.divsi v314 c1_i32_229
  let v317 : BitVec 32 := Scalar.muli v316 c1_i32_229
  let v318 : BitVec 32 := Scalar.addi c0_i32_228 v317
  let c1_i32_231 : BitVec 32 := 1#32
  let arg9 : BitVec 32 := Scf.iv v318 c1_i32_231 k0_t2
  let c32_i32_247 : BitVec 32 := 32#32
  let v350 : BitVec 32 := Scalar.muli arg9 c32_i32_247
  let v351 : BitVec 32 := Scalar.addi c1_i32_248 v350
  let c9_i32 : BitVec 32 := 9#32
  let v1531 : BitVec 32 := Scalar.addi v351 c9_i32
  let c1_i32_1081 : BitVec 32 := 1#32
  let v1532 : BitVec 32 := Scalar.subi v1 c1_i32_1081
  let v1533 : BitVec 32 := Scalar.minsi v1531 v1532
  let c256_i32_1082 : BitVec 32 := 256#32
  let v1534 : BitVec 32 := Scalar.muli v1533 c256_i32_1082
  v1534
def k0_mult175 (i : grid0.Coords) (k0_t2 : Fin (k0_t2_loop i).trips) : BitVec 32 :=
  let c1_i32_248 : BitVec 32 := 1#32
  let c0_i32_228 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_176 : BitVec 32 := 1#32
  let v246 : BitVec 32 := Scalar.subi v1 c1_i32_176
  let c0_i32_177 : BitVec 32 := 0#32
  let v248 : BitVec 1 := Scalar.cmpi .sgt v246 c0_i32_177
  let v249 : BitVec 32 := Scalar.extui v248
  let c0_i32_178 : BitVec 32 := 0#32
  let v250 : BitVec 1 := Scalar.cmpi .slt v246 c0_i32_178
  let v251 : BitVec 32 := Scalar.extui v250
  let v252 : BitVec 32 := Scalar.subi v249 v251
  let c32_i32 : BitVec 32 := 32#32
  let c0_i32_179 : BitVec 32 := 0#32
  let v253 : BitVec 1 := Scalar.cmpi .sgt c32_i32 c0_i32_179
  let v254 : BitVec 32 := Scalar.extui v253
  let c0_i32_180 : BitVec 32 := 0#32
  let v255 : BitVec 1 := Scalar.cmpi .slt c32_i32 c0_i32_180
  let v256 : BitVec 32 := Scalar.extui v255
  let v257 : BitVec 32 := Scalar.subi v254 v256
  let v258 : BitVec 1 := Scalar.cmpi .ne v252 v257
  let v259 : BitVec 32 := Scalar.remsi v246 c32_i32
  let c0_i32_181 : BitVec 32 := 0#32
  let v260 : BitVec 1 := Scalar.cmpi .ne v259 c0_i32_181
  let v261 : BitVec 1 := Scalar.andi v258 v260
  let v247 : BitVec 32 := Scalar.divsi v246 c32_i32
  let c1_i32_182 : BitVec 32 := 1#32
  let v262 : BitVec 32 := Scalar.subi v247 c1_i32_182
  let v263 : BitVec 32 := Scalar.select v261 v262 v247
  let v314 : BitVec 32 := Scalar.subi v263 c0_i32_228
  let c1_i32_229 : BitVec 32 := 1#32
  let v316 : BitVec 32 := Scalar.divsi v314 c1_i32_229
  let v317 : BitVec 32 := Scalar.muli v316 c1_i32_229
  let v318 : BitVec 32 := Scalar.addi c0_i32_228 v317
  let c1_i32_231 : BitVec 32 := 1#32
  let arg9 : BitVec 32 := Scf.iv v318 c1_i32_231 k0_t2
  let c32_i32_247 : BitVec 32 := 32#32
  let v350 : BitVec 32 := Scalar.muli arg9 c32_i32_247
  let v351 : BitVec 32 := Scalar.addi c1_i32_248 v350
  let c9_i32_1107 : BitVec 32 := 9#32
  let v1569 : BitVec 32 := Scalar.addi v351 c9_i32_1107
  let c1_i32_1108 : BitVec 32 := 1#32
  let v1570 : BitVec 32 := Scalar.subi v1 c1_i32_1108
  let v1571 : BitVec 32 := Scalar.minsi v1569 v1570
  let c256_i32_1109 : BitVec 32 := 256#32
  let v1572 : BitVec 32 := Scalar.muli v1571 c256_i32_1109
  v1572
def k0_mult176 (i : grid0.Coords) (k0_t2 : Fin (k0_t2_loop i).trips) : BitVec 32 :=
  let c1_i32_248 : BitVec 32 := 1#32
  let c0_i32_228 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_176 : BitVec 32 := 1#32
  let v246 : BitVec 32 := Scalar.subi v1 c1_i32_176
  let c0_i32_177 : BitVec 32 := 0#32
  let v248 : BitVec 1 := Scalar.cmpi .sgt v246 c0_i32_177
  let v249 : BitVec 32 := Scalar.extui v248
  let c0_i32_178 : BitVec 32 := 0#32
  let v250 : BitVec 1 := Scalar.cmpi .slt v246 c0_i32_178
  let v251 : BitVec 32 := Scalar.extui v250
  let v252 : BitVec 32 := Scalar.subi v249 v251
  let c32_i32 : BitVec 32 := 32#32
  let c0_i32_179 : BitVec 32 := 0#32
  let v253 : BitVec 1 := Scalar.cmpi .sgt c32_i32 c0_i32_179
  let v254 : BitVec 32 := Scalar.extui v253
  let c0_i32_180 : BitVec 32 := 0#32
  let v255 : BitVec 1 := Scalar.cmpi .slt c32_i32 c0_i32_180
  let v256 : BitVec 32 := Scalar.extui v255
  let v257 : BitVec 32 := Scalar.subi v254 v256
  let v258 : BitVec 1 := Scalar.cmpi .ne v252 v257
  let v259 : BitVec 32 := Scalar.remsi v246 c32_i32
  let c0_i32_181 : BitVec 32 := 0#32
  let v260 : BitVec 1 := Scalar.cmpi .ne v259 c0_i32_181
  let v261 : BitVec 1 := Scalar.andi v258 v260
  let v247 : BitVec 32 := Scalar.divsi v246 c32_i32
  let c1_i32_182 : BitVec 32 := 1#32
  let v262 : BitVec 32 := Scalar.subi v247 c1_i32_182
  let v263 : BitVec 32 := Scalar.select v261 v262 v247
  let v314 : BitVec 32 := Scalar.subi v263 c0_i32_228
  let c1_i32_229 : BitVec 32 := 1#32
  let v316 : BitVec 32 := Scalar.divsi v314 c1_i32_229
  let v317 : BitVec 32 := Scalar.muli v316 c1_i32_229
  let v318 : BitVec 32 := Scalar.addi c0_i32_228 v317
  let c1_i32_231 : BitVec 32 := 1#32
  let arg9 : BitVec 32 := Scf.iv v318 c1_i32_231 k0_t2
  let c32_i32_247 : BitVec 32 := 32#32
  let v350 : BitVec 32 := Scalar.muli arg9 c32_i32_247
  let v351 : BitVec 32 := Scalar.addi c1_i32_248 v350
  let c9_i32_1134 : BitVec 32 := 9#32
  let v1607 : BitVec 32 := Scalar.addi v351 c9_i32_1134
  let c1_i32_1135 : BitVec 32 := 1#32
  let v1608 : BitVec 32 := Scalar.subi v1 c1_i32_1135
  let v1609 : BitVec 32 := Scalar.minsi v1607 v1608
  let c256_i32_1136 : BitVec 32 := 256#32
  let v1610 : BitVec 32 := Scalar.muli v1609 c256_i32_1136
  v1610
def k0_mult177 (i : grid0.Coords) (k0_t2 : Fin (k0_t2_loop i).trips) : BitVec 32 :=
  let c1_i32_248 : BitVec 32 := 1#32
  let c0_i32_228 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_176 : BitVec 32 := 1#32
  let v246 : BitVec 32 := Scalar.subi v1 c1_i32_176
  let c0_i32_177 : BitVec 32 := 0#32
  let v248 : BitVec 1 := Scalar.cmpi .sgt v246 c0_i32_177
  let v249 : BitVec 32 := Scalar.extui v248
  let c0_i32_178 : BitVec 32 := 0#32
  let v250 : BitVec 1 := Scalar.cmpi .slt v246 c0_i32_178
  let v251 : BitVec 32 := Scalar.extui v250
  let v252 : BitVec 32 := Scalar.subi v249 v251
  let c32_i32 : BitVec 32 := 32#32
  let c0_i32_179 : BitVec 32 := 0#32
  let v253 : BitVec 1 := Scalar.cmpi .sgt c32_i32 c0_i32_179
  let v254 : BitVec 32 := Scalar.extui v253
  let c0_i32_180 : BitVec 32 := 0#32
  let v255 : BitVec 1 := Scalar.cmpi .slt c32_i32 c0_i32_180
  let v256 : BitVec 32 := Scalar.extui v255
  let v257 : BitVec 32 := Scalar.subi v254 v256
  let v258 : BitVec 1 := Scalar.cmpi .ne v252 v257
  let v259 : BitVec 32 := Scalar.remsi v246 c32_i32
  let c0_i32_181 : BitVec 32 := 0#32
  let v260 : BitVec 1 := Scalar.cmpi .ne v259 c0_i32_181
  let v261 : BitVec 1 := Scalar.andi v258 v260
  let v247 : BitVec 32 := Scalar.divsi v246 c32_i32
  let c1_i32_182 : BitVec 32 := 1#32
  let v262 : BitVec 32 := Scalar.subi v247 c1_i32_182
  let v263 : BitVec 32 := Scalar.select v261 v262 v247
  let v314 : BitVec 32 := Scalar.subi v263 c0_i32_228
  let c1_i32_229 : BitVec 32 := 1#32
  let v316 : BitVec 32 := Scalar.divsi v314 c1_i32_229
  let v317 : BitVec 32 := Scalar.muli v316 c1_i32_229
  let v318 : BitVec 32 := Scalar.addi c0_i32_228 v317
  let c1_i32_231 : BitVec 32 := 1#32
  let arg9 : BitVec 32 := Scf.iv v318 c1_i32_231 k0_t2
  let c32_i32_247 : BitVec 32 := 32#32
  let v350 : BitVec 32 := Scalar.muli arg9 c32_i32_247
  let v351 : BitVec 32 := Scalar.addi c1_i32_248 v350
  let c9_i32_1161 : BitVec 32 := 9#32
  let v1645 : BitVec 32 := Scalar.addi v351 c9_i32_1161
  let c1_i32_1162 : BitVec 32 := 1#32
  let v1646 : BitVec 32 := Scalar.subi v1 c1_i32_1162
  let v1647 : BitVec 32 := Scalar.minsi v1645 v1646
  let c256_i32_1163 : BitVec 32 := 256#32
  let v1648 : BitVec 32 := Scalar.muli v1647 c256_i32_1163
  v1648
def k0_mult178 (i : grid0.Coords) (k0_t2 : Fin (k0_t2_loop i).trips) : BitVec 32 :=
  let c1_i32_248 : BitVec 32 := 1#32
  let c0_i32_228 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_176 : BitVec 32 := 1#32
  let v246 : BitVec 32 := Scalar.subi v1 c1_i32_176
  let c0_i32_177 : BitVec 32 := 0#32
  let v248 : BitVec 1 := Scalar.cmpi .sgt v246 c0_i32_177
  let v249 : BitVec 32 := Scalar.extui v248
  let c0_i32_178 : BitVec 32 := 0#32
  let v250 : BitVec 1 := Scalar.cmpi .slt v246 c0_i32_178
  let v251 : BitVec 32 := Scalar.extui v250
  let v252 : BitVec 32 := Scalar.subi v249 v251
  let c32_i32 : BitVec 32 := 32#32
  let c0_i32_179 : BitVec 32 := 0#32
  let v253 : BitVec 1 := Scalar.cmpi .sgt c32_i32 c0_i32_179
  let v254 : BitVec 32 := Scalar.extui v253
  let c0_i32_180 : BitVec 32 := 0#32
  let v255 : BitVec 1 := Scalar.cmpi .slt c32_i32 c0_i32_180
  let v256 : BitVec 32 := Scalar.extui v255
  let v257 : BitVec 32 := Scalar.subi v254 v256
  let v258 : BitVec 1 := Scalar.cmpi .ne v252 v257
  let v259 : BitVec 32 := Scalar.remsi v246 c32_i32
  let c0_i32_181 : BitVec 32 := 0#32
  let v260 : BitVec 1 := Scalar.cmpi .ne v259 c0_i32_181
  let v261 : BitVec 1 := Scalar.andi v258 v260
  let v247 : BitVec 32 := Scalar.divsi v246 c32_i32
  let c1_i32_182 : BitVec 32 := 1#32
  let v262 : BitVec 32 := Scalar.subi v247 c1_i32_182
  let v263 : BitVec 32 := Scalar.select v261 v262 v247
  let v314 : BitVec 32 := Scalar.subi v263 c0_i32_228
  let c1_i32_229 : BitVec 32 := 1#32
  let v316 : BitVec 32 := Scalar.divsi v314 c1_i32_229
  let v317 : BitVec 32 := Scalar.muli v316 c1_i32_229
  let v318 : BitVec 32 := Scalar.addi c0_i32_228 v317
  let c1_i32_231 : BitVec 32 := 1#32
  let arg9 : BitVec 32 := Scf.iv v318 c1_i32_231 k0_t2
  let c32_i32_247 : BitVec 32 := 32#32
  let v350 : BitVec 32 := Scalar.muli arg9 c32_i32_247
  let v351 : BitVec 32 := Scalar.addi c1_i32_248 v350
  let c10_i32 : BitVec 32 := 10#32
  let v1683 : BitVec 32 := Scalar.addi v351 c10_i32
  let c1_i32_1188 : BitVec 32 := 1#32
  let v1684 : BitVec 32 := Scalar.subi v1 c1_i32_1188
  let v1685 : BitVec 32 := Scalar.minsi v1683 v1684
  let c256_i32_1189 : BitVec 32 := 256#32
  let v1686 : BitVec 32 := Scalar.muli v1685 c256_i32_1189
  v1686
def k0_mult179 (i : grid0.Coords) (k0_t2 : Fin (k0_t2_loop i).trips) : BitVec 32 :=
  let c1_i32_248 : BitVec 32 := 1#32
  let c0_i32_228 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_176 : BitVec 32 := 1#32
  let v246 : BitVec 32 := Scalar.subi v1 c1_i32_176
  let c0_i32_177 : BitVec 32 := 0#32
  let v248 : BitVec 1 := Scalar.cmpi .sgt v246 c0_i32_177
  let v249 : BitVec 32 := Scalar.extui v248
  let c0_i32_178 : BitVec 32 := 0#32
  let v250 : BitVec 1 := Scalar.cmpi .slt v246 c0_i32_178
  let v251 : BitVec 32 := Scalar.extui v250
  let v252 : BitVec 32 := Scalar.subi v249 v251
  let c32_i32 : BitVec 32 := 32#32
  let c0_i32_179 : BitVec 32 := 0#32
  let v253 : BitVec 1 := Scalar.cmpi .sgt c32_i32 c0_i32_179
  let v254 : BitVec 32 := Scalar.extui v253
  let c0_i32_180 : BitVec 32 := 0#32
  let v255 : BitVec 1 := Scalar.cmpi .slt c32_i32 c0_i32_180
  let v256 : BitVec 32 := Scalar.extui v255
  let v257 : BitVec 32 := Scalar.subi v254 v256
  let v258 : BitVec 1 := Scalar.cmpi .ne v252 v257
  let v259 : BitVec 32 := Scalar.remsi v246 c32_i32
  let c0_i32_181 : BitVec 32 := 0#32
  let v260 : BitVec 1 := Scalar.cmpi .ne v259 c0_i32_181
  let v261 : BitVec 1 := Scalar.andi v258 v260
  let v247 : BitVec 32 := Scalar.divsi v246 c32_i32
  let c1_i32_182 : BitVec 32 := 1#32
  let v262 : BitVec 32 := Scalar.subi v247 c1_i32_182
  let v263 : BitVec 32 := Scalar.select v261 v262 v247
  let v314 : BitVec 32 := Scalar.subi v263 c0_i32_228
  let c1_i32_229 : BitVec 32 := 1#32
  let v316 : BitVec 32 := Scalar.divsi v314 c1_i32_229
  let v317 : BitVec 32 := Scalar.muli v316 c1_i32_229
  let v318 : BitVec 32 := Scalar.addi c0_i32_228 v317
  let c1_i32_231 : BitVec 32 := 1#32
  let arg9 : BitVec 32 := Scf.iv v318 c1_i32_231 k0_t2
  let c32_i32_247 : BitVec 32 := 32#32
  let v350 : BitVec 32 := Scalar.muli arg9 c32_i32_247
  let v351 : BitVec 32 := Scalar.addi c1_i32_248 v350
  let c10_i32_1214 : BitVec 32 := 10#32
  let v1721 : BitVec 32 := Scalar.addi v351 c10_i32_1214
  let c1_i32_1215 : BitVec 32 := 1#32
  let v1722 : BitVec 32 := Scalar.subi v1 c1_i32_1215
  let v1723 : BitVec 32 := Scalar.minsi v1721 v1722
  let c256_i32_1216 : BitVec 32 := 256#32
  let v1724 : BitVec 32 := Scalar.muli v1723 c256_i32_1216
  v1724
def k0_mult180 (i : grid0.Coords) (k0_t2 : Fin (k0_t2_loop i).trips) : BitVec 32 :=
  let c1_i32_248 : BitVec 32 := 1#32
  let c0_i32_228 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_176 : BitVec 32 := 1#32
  let v246 : BitVec 32 := Scalar.subi v1 c1_i32_176
  let c0_i32_177 : BitVec 32 := 0#32
  let v248 : BitVec 1 := Scalar.cmpi .sgt v246 c0_i32_177
  let v249 : BitVec 32 := Scalar.extui v248
  let c0_i32_178 : BitVec 32 := 0#32
  let v250 : BitVec 1 := Scalar.cmpi .slt v246 c0_i32_178
  let v251 : BitVec 32 := Scalar.extui v250
  let v252 : BitVec 32 := Scalar.subi v249 v251
  let c32_i32 : BitVec 32 := 32#32
  let c0_i32_179 : BitVec 32 := 0#32
  let v253 : BitVec 1 := Scalar.cmpi .sgt c32_i32 c0_i32_179
  let v254 : BitVec 32 := Scalar.extui v253
  let c0_i32_180 : BitVec 32 := 0#32
  let v255 : BitVec 1 := Scalar.cmpi .slt c32_i32 c0_i32_180
  let v256 : BitVec 32 := Scalar.extui v255
  let v257 : BitVec 32 := Scalar.subi v254 v256
  let v258 : BitVec 1 := Scalar.cmpi .ne v252 v257
  let v259 : BitVec 32 := Scalar.remsi v246 c32_i32
  let c0_i32_181 : BitVec 32 := 0#32
  let v260 : BitVec 1 := Scalar.cmpi .ne v259 c0_i32_181
  let v261 : BitVec 1 := Scalar.andi v258 v260
  let v247 : BitVec 32 := Scalar.divsi v246 c32_i32
  let c1_i32_182 : BitVec 32 := 1#32
  let v262 : BitVec 32 := Scalar.subi v247 c1_i32_182
  let v263 : BitVec 32 := Scalar.select v261 v262 v247
  let v314 : BitVec 32 := Scalar.subi v263 c0_i32_228
  let c1_i32_229 : BitVec 32 := 1#32
  let v316 : BitVec 32 := Scalar.divsi v314 c1_i32_229
  let v317 : BitVec 32 := Scalar.muli v316 c1_i32_229
  let v318 : BitVec 32 := Scalar.addi c0_i32_228 v317
  let c1_i32_231 : BitVec 32 := 1#32
  let arg9 : BitVec 32 := Scf.iv v318 c1_i32_231 k0_t2
  let c32_i32_247 : BitVec 32 := 32#32
  let v350 : BitVec 32 := Scalar.muli arg9 c32_i32_247
  let v351 : BitVec 32 := Scalar.addi c1_i32_248 v350
  let c10_i32_1241 : BitVec 32 := 10#32
  let v1759 : BitVec 32 := Scalar.addi v351 c10_i32_1241
  let c1_i32_1242 : BitVec 32 := 1#32
  let v1760 : BitVec 32 := Scalar.subi v1 c1_i32_1242
  let v1761 : BitVec 32 := Scalar.minsi v1759 v1760
  let c256_i32_1243 : BitVec 32 := 256#32
  let v1762 : BitVec 32 := Scalar.muli v1761 c256_i32_1243
  v1762
def k0_mult181 (i : grid0.Coords) (k0_t2 : Fin (k0_t2_loop i).trips) : BitVec 32 :=
  let c1_i32_248 : BitVec 32 := 1#32
  let c0_i32_228 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_176 : BitVec 32 := 1#32
  let v246 : BitVec 32 := Scalar.subi v1 c1_i32_176
  let c0_i32_177 : BitVec 32 := 0#32
  let v248 : BitVec 1 := Scalar.cmpi .sgt v246 c0_i32_177
  let v249 : BitVec 32 := Scalar.extui v248
  let c0_i32_178 : BitVec 32 := 0#32
  let v250 : BitVec 1 := Scalar.cmpi .slt v246 c0_i32_178
  let v251 : BitVec 32 := Scalar.extui v250
  let v252 : BitVec 32 := Scalar.subi v249 v251
  let c32_i32 : BitVec 32 := 32#32
  let c0_i32_179 : BitVec 32 := 0#32
  let v253 : BitVec 1 := Scalar.cmpi .sgt c32_i32 c0_i32_179
  let v254 : BitVec 32 := Scalar.extui v253
  let c0_i32_180 : BitVec 32 := 0#32
  let v255 : BitVec 1 := Scalar.cmpi .slt c32_i32 c0_i32_180
  let v256 : BitVec 32 := Scalar.extui v255
  let v257 : BitVec 32 := Scalar.subi v254 v256
  let v258 : BitVec 1 := Scalar.cmpi .ne v252 v257
  let v259 : BitVec 32 := Scalar.remsi v246 c32_i32
  let c0_i32_181 : BitVec 32 := 0#32
  let v260 : BitVec 1 := Scalar.cmpi .ne v259 c0_i32_181
  let v261 : BitVec 1 := Scalar.andi v258 v260
  let v247 : BitVec 32 := Scalar.divsi v246 c32_i32
  let c1_i32_182 : BitVec 32 := 1#32
  let v262 : BitVec 32 := Scalar.subi v247 c1_i32_182
  let v263 : BitVec 32 := Scalar.select v261 v262 v247
  let v314 : BitVec 32 := Scalar.subi v263 c0_i32_228
  let c1_i32_229 : BitVec 32 := 1#32
  let v316 : BitVec 32 := Scalar.divsi v314 c1_i32_229
  let v317 : BitVec 32 := Scalar.muli v316 c1_i32_229
  let v318 : BitVec 32 := Scalar.addi c0_i32_228 v317
  let c1_i32_231 : BitVec 32 := 1#32
  let arg9 : BitVec 32 := Scf.iv v318 c1_i32_231 k0_t2
  let c32_i32_247 : BitVec 32 := 32#32
  let v350 : BitVec 32 := Scalar.muli arg9 c32_i32_247
  let v351 : BitVec 32 := Scalar.addi c1_i32_248 v350
  let c10_i32_1268 : BitVec 32 := 10#32
  let v1797 : BitVec 32 := Scalar.addi v351 c10_i32_1268
  let c1_i32_1269 : BitVec 32 := 1#32
  let v1798 : BitVec 32 := Scalar.subi v1 c1_i32_1269
  let v1799 : BitVec 32 := Scalar.minsi v1797 v1798
  let c256_i32_1270 : BitVec 32 := 256#32
  let v1800 : BitVec 32 := Scalar.muli v1799 c256_i32_1270
  v1800
def k0_mult182 (i : grid0.Coords) (k0_t2 : Fin (k0_t2_loop i).trips) : BitVec 32 :=
  let c1_i32_248 : BitVec 32 := 1#32
  let c0_i32_228 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_176 : BitVec 32 := 1#32
  let v246 : BitVec 32 := Scalar.subi v1 c1_i32_176
  let c0_i32_177 : BitVec 32 := 0#32
  let v248 : BitVec 1 := Scalar.cmpi .sgt v246 c0_i32_177
  let v249 : BitVec 32 := Scalar.extui v248
  let c0_i32_178 : BitVec 32 := 0#32
  let v250 : BitVec 1 := Scalar.cmpi .slt v246 c0_i32_178
  let v251 : BitVec 32 := Scalar.extui v250
  let v252 : BitVec 32 := Scalar.subi v249 v251
  let c32_i32 : BitVec 32 := 32#32
  let c0_i32_179 : BitVec 32 := 0#32
  let v253 : BitVec 1 := Scalar.cmpi .sgt c32_i32 c0_i32_179
  let v254 : BitVec 32 := Scalar.extui v253
  let c0_i32_180 : BitVec 32 := 0#32
  let v255 : BitVec 1 := Scalar.cmpi .slt c32_i32 c0_i32_180
  let v256 : BitVec 32 := Scalar.extui v255
  let v257 : BitVec 32 := Scalar.subi v254 v256
  let v258 : BitVec 1 := Scalar.cmpi .ne v252 v257
  let v259 : BitVec 32 := Scalar.remsi v246 c32_i32
  let c0_i32_181 : BitVec 32 := 0#32
  let v260 : BitVec 1 := Scalar.cmpi .ne v259 c0_i32_181
  let v261 : BitVec 1 := Scalar.andi v258 v260
  let v247 : BitVec 32 := Scalar.divsi v246 c32_i32
  let c1_i32_182 : BitVec 32 := 1#32
  let v262 : BitVec 32 := Scalar.subi v247 c1_i32_182
  let v263 : BitVec 32 := Scalar.select v261 v262 v247
  let v314 : BitVec 32 := Scalar.subi v263 c0_i32_228
  let c1_i32_229 : BitVec 32 := 1#32
  let v316 : BitVec 32 := Scalar.divsi v314 c1_i32_229
  let v317 : BitVec 32 := Scalar.muli v316 c1_i32_229
  let v318 : BitVec 32 := Scalar.addi c0_i32_228 v317
  let c1_i32_231 : BitVec 32 := 1#32
  let arg9 : BitVec 32 := Scf.iv v318 c1_i32_231 k0_t2
  let c32_i32_247 : BitVec 32 := 32#32
  let v350 : BitVec 32 := Scalar.muli arg9 c32_i32_247
  let v351 : BitVec 32 := Scalar.addi c1_i32_248 v350
  let c11_i32 : BitVec 32 := 11#32
  let v1835 : BitVec 32 := Scalar.addi v351 c11_i32
  let c1_i32_1295 : BitVec 32 := 1#32
  let v1836 : BitVec 32 := Scalar.subi v1 c1_i32_1295
  let v1837 : BitVec 32 := Scalar.minsi v1835 v1836
  let c256_i32_1296 : BitVec 32 := 256#32
  let v1838 : BitVec 32 := Scalar.muli v1837 c256_i32_1296
  v1838
def k0_mult183 (i : grid0.Coords) (k0_t2 : Fin (k0_t2_loop i).trips) : BitVec 32 :=
  let c1_i32_248 : BitVec 32 := 1#32
  let c0_i32_228 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_176 : BitVec 32 := 1#32
  let v246 : BitVec 32 := Scalar.subi v1 c1_i32_176
  let c0_i32_177 : BitVec 32 := 0#32
  let v248 : BitVec 1 := Scalar.cmpi .sgt v246 c0_i32_177
  let v249 : BitVec 32 := Scalar.extui v248
  let c0_i32_178 : BitVec 32 := 0#32
  let v250 : BitVec 1 := Scalar.cmpi .slt v246 c0_i32_178
  let v251 : BitVec 32 := Scalar.extui v250
  let v252 : BitVec 32 := Scalar.subi v249 v251
  let c32_i32 : BitVec 32 := 32#32
  let c0_i32_179 : BitVec 32 := 0#32
  let v253 : BitVec 1 := Scalar.cmpi .sgt c32_i32 c0_i32_179
  let v254 : BitVec 32 := Scalar.extui v253
  let c0_i32_180 : BitVec 32 := 0#32
  let v255 : BitVec 1 := Scalar.cmpi .slt c32_i32 c0_i32_180
  let v256 : BitVec 32 := Scalar.extui v255
  let v257 : BitVec 32 := Scalar.subi v254 v256
  let v258 : BitVec 1 := Scalar.cmpi .ne v252 v257
  let v259 : BitVec 32 := Scalar.remsi v246 c32_i32
  let c0_i32_181 : BitVec 32 := 0#32
  let v260 : BitVec 1 := Scalar.cmpi .ne v259 c0_i32_181
  let v261 : BitVec 1 := Scalar.andi v258 v260
  let v247 : BitVec 32 := Scalar.divsi v246 c32_i32
  let c1_i32_182 : BitVec 32 := 1#32
  let v262 : BitVec 32 := Scalar.subi v247 c1_i32_182
  let v263 : BitVec 32 := Scalar.select v261 v262 v247
  let v314 : BitVec 32 := Scalar.subi v263 c0_i32_228
  let c1_i32_229 : BitVec 32 := 1#32
  let v316 : BitVec 32 := Scalar.divsi v314 c1_i32_229
  let v317 : BitVec 32 := Scalar.muli v316 c1_i32_229
  let v318 : BitVec 32 := Scalar.addi c0_i32_228 v317
  let c1_i32_231 : BitVec 32 := 1#32
  let arg9 : BitVec 32 := Scf.iv v318 c1_i32_231 k0_t2
  let c32_i32_247 : BitVec 32 := 32#32
  let v350 : BitVec 32 := Scalar.muli arg9 c32_i32_247
  let v351 : BitVec 32 := Scalar.addi c1_i32_248 v350
  let c11_i32_1321 : BitVec 32 := 11#32
  let v1873 : BitVec 32 := Scalar.addi v351 c11_i32_1321
  let c1_i32_1322 : BitVec 32 := 1#32
  let v1874 : BitVec 32 := Scalar.subi v1 c1_i32_1322
  let v1875 : BitVec 32 := Scalar.minsi v1873 v1874
  let c256_i32_1323 : BitVec 32 := 256#32
  let v1876 : BitVec 32 := Scalar.muli v1875 c256_i32_1323
  v1876
def k0_mult184 (i : grid0.Coords) (k0_t2 : Fin (k0_t2_loop i).trips) : BitVec 32 :=
  let c1_i32_248 : BitVec 32 := 1#32
  let c0_i32_228 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_176 : BitVec 32 := 1#32
  let v246 : BitVec 32 := Scalar.subi v1 c1_i32_176
  let c0_i32_177 : BitVec 32 := 0#32
  let v248 : BitVec 1 := Scalar.cmpi .sgt v246 c0_i32_177
  let v249 : BitVec 32 := Scalar.extui v248
  let c0_i32_178 : BitVec 32 := 0#32
  let v250 : BitVec 1 := Scalar.cmpi .slt v246 c0_i32_178
  let v251 : BitVec 32 := Scalar.extui v250
  let v252 : BitVec 32 := Scalar.subi v249 v251
  let c32_i32 : BitVec 32 := 32#32
  let c0_i32_179 : BitVec 32 := 0#32
  let v253 : BitVec 1 := Scalar.cmpi .sgt c32_i32 c0_i32_179
  let v254 : BitVec 32 := Scalar.extui v253
  let c0_i32_180 : BitVec 32 := 0#32
  let v255 : BitVec 1 := Scalar.cmpi .slt c32_i32 c0_i32_180
  let v256 : BitVec 32 := Scalar.extui v255
  let v257 : BitVec 32 := Scalar.subi v254 v256
  let v258 : BitVec 1 := Scalar.cmpi .ne v252 v257
  let v259 : BitVec 32 := Scalar.remsi v246 c32_i32
  let c0_i32_181 : BitVec 32 := 0#32
  let v260 : BitVec 1 := Scalar.cmpi .ne v259 c0_i32_181
  let v261 : BitVec 1 := Scalar.andi v258 v260
  let v247 : BitVec 32 := Scalar.divsi v246 c32_i32
  let c1_i32_182 : BitVec 32 := 1#32
  let v262 : BitVec 32 := Scalar.subi v247 c1_i32_182
  let v263 : BitVec 32 := Scalar.select v261 v262 v247
  let v314 : BitVec 32 := Scalar.subi v263 c0_i32_228
  let c1_i32_229 : BitVec 32 := 1#32
  let v316 : BitVec 32 := Scalar.divsi v314 c1_i32_229
  let v317 : BitVec 32 := Scalar.muli v316 c1_i32_229
  let v318 : BitVec 32 := Scalar.addi c0_i32_228 v317
  let c1_i32_231 : BitVec 32 := 1#32
  let arg9 : BitVec 32 := Scf.iv v318 c1_i32_231 k0_t2
  let c32_i32_247 : BitVec 32 := 32#32
  let v350 : BitVec 32 := Scalar.muli arg9 c32_i32_247
  let v351 : BitVec 32 := Scalar.addi c1_i32_248 v350
  let c11_i32_1348 : BitVec 32 := 11#32
  let v1911 : BitVec 32 := Scalar.addi v351 c11_i32_1348
  let c1_i32_1349 : BitVec 32 := 1#32
  let v1912 : BitVec 32 := Scalar.subi v1 c1_i32_1349
  let v1913 : BitVec 32 := Scalar.minsi v1911 v1912
  let c256_i32_1350 : BitVec 32 := 256#32
  let v1914 : BitVec 32 := Scalar.muli v1913 c256_i32_1350
  v1914
def k0_mult185 (i : grid0.Coords) (k0_t2 : Fin (k0_t2_loop i).trips) : BitVec 32 :=
  let c1_i32_248 : BitVec 32 := 1#32
  let c0_i32_228 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_176 : BitVec 32 := 1#32
  let v246 : BitVec 32 := Scalar.subi v1 c1_i32_176
  let c0_i32_177 : BitVec 32 := 0#32
  let v248 : BitVec 1 := Scalar.cmpi .sgt v246 c0_i32_177
  let v249 : BitVec 32 := Scalar.extui v248
  let c0_i32_178 : BitVec 32 := 0#32
  let v250 : BitVec 1 := Scalar.cmpi .slt v246 c0_i32_178
  let v251 : BitVec 32 := Scalar.extui v250
  let v252 : BitVec 32 := Scalar.subi v249 v251
  let c32_i32 : BitVec 32 := 32#32
  let c0_i32_179 : BitVec 32 := 0#32
  let v253 : BitVec 1 := Scalar.cmpi .sgt c32_i32 c0_i32_179
  let v254 : BitVec 32 := Scalar.extui v253
  let c0_i32_180 : BitVec 32 := 0#32
  let v255 : BitVec 1 := Scalar.cmpi .slt c32_i32 c0_i32_180
  let v256 : BitVec 32 := Scalar.extui v255
  let v257 : BitVec 32 := Scalar.subi v254 v256
  let v258 : BitVec 1 := Scalar.cmpi .ne v252 v257
  let v259 : BitVec 32 := Scalar.remsi v246 c32_i32
  let c0_i32_181 : BitVec 32 := 0#32
  let v260 : BitVec 1 := Scalar.cmpi .ne v259 c0_i32_181
  let v261 : BitVec 1 := Scalar.andi v258 v260
  let v247 : BitVec 32 := Scalar.divsi v246 c32_i32
  let c1_i32_182 : BitVec 32 := 1#32
  let v262 : BitVec 32 := Scalar.subi v247 c1_i32_182
  let v263 : BitVec 32 := Scalar.select v261 v262 v247
  let v314 : BitVec 32 := Scalar.subi v263 c0_i32_228
  let c1_i32_229 : BitVec 32 := 1#32
  let v316 : BitVec 32 := Scalar.divsi v314 c1_i32_229
  let v317 : BitVec 32 := Scalar.muli v316 c1_i32_229
  let v318 : BitVec 32 := Scalar.addi c0_i32_228 v317
  let c1_i32_231 : BitVec 32 := 1#32
  let arg9 : BitVec 32 := Scf.iv v318 c1_i32_231 k0_t2
  let c32_i32_247 : BitVec 32 := 32#32
  let v350 : BitVec 32 := Scalar.muli arg9 c32_i32_247
  let v351 : BitVec 32 := Scalar.addi c1_i32_248 v350
  let c11_i32_1375 : BitVec 32 := 11#32
  let v1949 : BitVec 32 := Scalar.addi v351 c11_i32_1375
  let c1_i32_1376 : BitVec 32 := 1#32
  let v1950 : BitVec 32 := Scalar.subi v1 c1_i32_1376
  let v1951 : BitVec 32 := Scalar.minsi v1949 v1950
  let c256_i32_1377 : BitVec 32 := 256#32
  let v1952 : BitVec 32 := Scalar.muli v1951 c256_i32_1377
  v1952
def k0_mult186 (i : grid0.Coords) (k0_t2 : Fin (k0_t2_loop i).trips) : BitVec 32 :=
  let c1_i32_248 : BitVec 32 := 1#32
  let c0_i32_228 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_176 : BitVec 32 := 1#32
  let v246 : BitVec 32 := Scalar.subi v1 c1_i32_176
  let c0_i32_177 : BitVec 32 := 0#32
  let v248 : BitVec 1 := Scalar.cmpi .sgt v246 c0_i32_177
  let v249 : BitVec 32 := Scalar.extui v248
  let c0_i32_178 : BitVec 32 := 0#32
  let v250 : BitVec 1 := Scalar.cmpi .slt v246 c0_i32_178
  let v251 : BitVec 32 := Scalar.extui v250
  let v252 : BitVec 32 := Scalar.subi v249 v251
  let c32_i32 : BitVec 32 := 32#32
  let c0_i32_179 : BitVec 32 := 0#32
  let v253 : BitVec 1 := Scalar.cmpi .sgt c32_i32 c0_i32_179
  let v254 : BitVec 32 := Scalar.extui v253
  let c0_i32_180 : BitVec 32 := 0#32
  let v255 : BitVec 1 := Scalar.cmpi .slt c32_i32 c0_i32_180
  let v256 : BitVec 32 := Scalar.extui v255
  let v257 : BitVec 32 := Scalar.subi v254 v256
  let v258 : BitVec 1 := Scalar.cmpi .ne v252 v257
  let v259 : BitVec 32 := Scalar.remsi v246 c32_i32
  let c0_i32_181 : BitVec 32 := 0#32
  let v260 : BitVec 1 := Scalar.cmpi .ne v259 c0_i32_181
  let v261 : BitVec 1 := Scalar.andi v258 v260
  let v247 : BitVec 32 := Scalar.divsi v246 c32_i32
  let c1_i32_182 : BitVec 32 := 1#32
  let v262 : BitVec 32 := Scalar.subi v247 c1_i32_182
  let v263 : BitVec 32 := Scalar.select v261 v262 v247
  let v314 : BitVec 32 := Scalar.subi v263 c0_i32_228
  let c1_i32_229 : BitVec 32 := 1#32
  let v316 : BitVec 32 := Scalar.divsi v314 c1_i32_229
  let v317 : BitVec 32 := Scalar.muli v316 c1_i32_229
  let v318 : BitVec 32 := Scalar.addi c0_i32_228 v317
  let c1_i32_231 : BitVec 32 := 1#32
  let arg9 : BitVec 32 := Scf.iv v318 c1_i32_231 k0_t2
  let c32_i32_247 : BitVec 32 := 32#32
  let v350 : BitVec 32 := Scalar.muli arg9 c32_i32_247
  let v351 : BitVec 32 := Scalar.addi c1_i32_248 v350
  let c12_i32 : BitVec 32 := 12#32
  let v1987 : BitVec 32 := Scalar.addi v351 c12_i32
  let c1_i32_1402 : BitVec 32 := 1#32
  let v1988 : BitVec 32 := Scalar.subi v1 c1_i32_1402
  let v1989 : BitVec 32 := Scalar.minsi v1987 v1988
  let c256_i32_1403 : BitVec 32 := 256#32
  let v1990 : BitVec 32 := Scalar.muli v1989 c256_i32_1403
  v1990
def k0_mult187 (i : grid0.Coords) (k0_t2 : Fin (k0_t2_loop i).trips) : BitVec 32 :=
  let c1_i32_248 : BitVec 32 := 1#32
  let c0_i32_228 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_176 : BitVec 32 := 1#32
  let v246 : BitVec 32 := Scalar.subi v1 c1_i32_176
  let c0_i32_177 : BitVec 32 := 0#32
  let v248 : BitVec 1 := Scalar.cmpi .sgt v246 c0_i32_177
  let v249 : BitVec 32 := Scalar.extui v248
  let c0_i32_178 : BitVec 32 := 0#32
  let v250 : BitVec 1 := Scalar.cmpi .slt v246 c0_i32_178
  let v251 : BitVec 32 := Scalar.extui v250
  let v252 : BitVec 32 := Scalar.subi v249 v251
  let c32_i32 : BitVec 32 := 32#32
  let c0_i32_179 : BitVec 32 := 0#32
  let v253 : BitVec 1 := Scalar.cmpi .sgt c32_i32 c0_i32_179
  let v254 : BitVec 32 := Scalar.extui v253
  let c0_i32_180 : BitVec 32 := 0#32
  let v255 : BitVec 1 := Scalar.cmpi .slt c32_i32 c0_i32_180
  let v256 : BitVec 32 := Scalar.extui v255
  let v257 : BitVec 32 := Scalar.subi v254 v256
  let v258 : BitVec 1 := Scalar.cmpi .ne v252 v257
  let v259 : BitVec 32 := Scalar.remsi v246 c32_i32
  let c0_i32_181 : BitVec 32 := 0#32
  let v260 : BitVec 1 := Scalar.cmpi .ne v259 c0_i32_181
  let v261 : BitVec 1 := Scalar.andi v258 v260
  let v247 : BitVec 32 := Scalar.divsi v246 c32_i32
  let c1_i32_182 : BitVec 32 := 1#32
  let v262 : BitVec 32 := Scalar.subi v247 c1_i32_182
  let v263 : BitVec 32 := Scalar.select v261 v262 v247
  let v314 : BitVec 32 := Scalar.subi v263 c0_i32_228
  let c1_i32_229 : BitVec 32 := 1#32
  let v316 : BitVec 32 := Scalar.divsi v314 c1_i32_229
  let v317 : BitVec 32 := Scalar.muli v316 c1_i32_229
  let v318 : BitVec 32 := Scalar.addi c0_i32_228 v317
  let c1_i32_231 : BitVec 32 := 1#32
  let arg9 : BitVec 32 := Scf.iv v318 c1_i32_231 k0_t2
  let c32_i32_247 : BitVec 32 := 32#32
  let v350 : BitVec 32 := Scalar.muli arg9 c32_i32_247
  let v351 : BitVec 32 := Scalar.addi c1_i32_248 v350
  let c12_i32_1428 : BitVec 32 := 12#32
  let v2025 : BitVec 32 := Scalar.addi v351 c12_i32_1428
  let c1_i32_1429 : BitVec 32 := 1#32
  let v2026 : BitVec 32 := Scalar.subi v1 c1_i32_1429
  let v2027 : BitVec 32 := Scalar.minsi v2025 v2026
  let c256_i32_1430 : BitVec 32 := 256#32
  let v2028 : BitVec 32 := Scalar.muli v2027 c256_i32_1430
  v2028
def k0_mult188 (i : grid0.Coords) (k0_t2 : Fin (k0_t2_loop i).trips) : BitVec 32 :=
  let c1_i32_248 : BitVec 32 := 1#32
  let c0_i32_228 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_176 : BitVec 32 := 1#32
  let v246 : BitVec 32 := Scalar.subi v1 c1_i32_176
  let c0_i32_177 : BitVec 32 := 0#32
  let v248 : BitVec 1 := Scalar.cmpi .sgt v246 c0_i32_177
  let v249 : BitVec 32 := Scalar.extui v248
  let c0_i32_178 : BitVec 32 := 0#32
  let v250 : BitVec 1 := Scalar.cmpi .slt v246 c0_i32_178
  let v251 : BitVec 32 := Scalar.extui v250
  let v252 : BitVec 32 := Scalar.subi v249 v251
  let c32_i32 : BitVec 32 := 32#32
  let c0_i32_179 : BitVec 32 := 0#32
  let v253 : BitVec 1 := Scalar.cmpi .sgt c32_i32 c0_i32_179
  let v254 : BitVec 32 := Scalar.extui v253
  let c0_i32_180 : BitVec 32 := 0#32
  let v255 : BitVec 1 := Scalar.cmpi .slt c32_i32 c0_i32_180
  let v256 : BitVec 32 := Scalar.extui v255
  let v257 : BitVec 32 := Scalar.subi v254 v256
  let v258 : BitVec 1 := Scalar.cmpi .ne v252 v257
  let v259 : BitVec 32 := Scalar.remsi v246 c32_i32
  let c0_i32_181 : BitVec 32 := 0#32
  let v260 : BitVec 1 := Scalar.cmpi .ne v259 c0_i32_181
  let v261 : BitVec 1 := Scalar.andi v258 v260
  let v247 : BitVec 32 := Scalar.divsi v246 c32_i32
  let c1_i32_182 : BitVec 32 := 1#32
  let v262 : BitVec 32 := Scalar.subi v247 c1_i32_182
  let v263 : BitVec 32 := Scalar.select v261 v262 v247
  let v314 : BitVec 32 := Scalar.subi v263 c0_i32_228
  let c1_i32_229 : BitVec 32 := 1#32
  let v316 : BitVec 32 := Scalar.divsi v314 c1_i32_229
  let v317 : BitVec 32 := Scalar.muli v316 c1_i32_229
  let v318 : BitVec 32 := Scalar.addi c0_i32_228 v317
  let c1_i32_231 : BitVec 32 := 1#32
  let arg9 : BitVec 32 := Scf.iv v318 c1_i32_231 k0_t2
  let c32_i32_247 : BitVec 32 := 32#32
  let v350 : BitVec 32 := Scalar.muli arg9 c32_i32_247
  let v351 : BitVec 32 := Scalar.addi c1_i32_248 v350
  let c12_i32_1455 : BitVec 32 := 12#32
  let v2063 : BitVec 32 := Scalar.addi v351 c12_i32_1455
  let c1_i32_1456 : BitVec 32 := 1#32
  let v2064 : BitVec 32 := Scalar.subi v1 c1_i32_1456
  let v2065 : BitVec 32 := Scalar.minsi v2063 v2064
  let c256_i32_1457 : BitVec 32 := 256#32
  let v2066 : BitVec 32 := Scalar.muli v2065 c256_i32_1457
  v2066
def k0_mult189 (i : grid0.Coords) (k0_t2 : Fin (k0_t2_loop i).trips) : BitVec 32 :=
  let c1_i32_248 : BitVec 32 := 1#32
  let c0_i32_228 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_176 : BitVec 32 := 1#32
  let v246 : BitVec 32 := Scalar.subi v1 c1_i32_176
  let c0_i32_177 : BitVec 32 := 0#32
  let v248 : BitVec 1 := Scalar.cmpi .sgt v246 c0_i32_177
  let v249 : BitVec 32 := Scalar.extui v248
  let c0_i32_178 : BitVec 32 := 0#32
  let v250 : BitVec 1 := Scalar.cmpi .slt v246 c0_i32_178
  let v251 : BitVec 32 := Scalar.extui v250
  let v252 : BitVec 32 := Scalar.subi v249 v251
  let c32_i32 : BitVec 32 := 32#32
  let c0_i32_179 : BitVec 32 := 0#32
  let v253 : BitVec 1 := Scalar.cmpi .sgt c32_i32 c0_i32_179
  let v254 : BitVec 32 := Scalar.extui v253
  let c0_i32_180 : BitVec 32 := 0#32
  let v255 : BitVec 1 := Scalar.cmpi .slt c32_i32 c0_i32_180
  let v256 : BitVec 32 := Scalar.extui v255
  let v257 : BitVec 32 := Scalar.subi v254 v256
  let v258 : BitVec 1 := Scalar.cmpi .ne v252 v257
  let v259 : BitVec 32 := Scalar.remsi v246 c32_i32
  let c0_i32_181 : BitVec 32 := 0#32
  let v260 : BitVec 1 := Scalar.cmpi .ne v259 c0_i32_181
  let v261 : BitVec 1 := Scalar.andi v258 v260
  let v247 : BitVec 32 := Scalar.divsi v246 c32_i32
  let c1_i32_182 : BitVec 32 := 1#32
  let v262 : BitVec 32 := Scalar.subi v247 c1_i32_182
  let v263 : BitVec 32 := Scalar.select v261 v262 v247
  let v314 : BitVec 32 := Scalar.subi v263 c0_i32_228
  let c1_i32_229 : BitVec 32 := 1#32
  let v316 : BitVec 32 := Scalar.divsi v314 c1_i32_229
  let v317 : BitVec 32 := Scalar.muli v316 c1_i32_229
  let v318 : BitVec 32 := Scalar.addi c0_i32_228 v317
  let c1_i32_231 : BitVec 32 := 1#32
  let arg9 : BitVec 32 := Scf.iv v318 c1_i32_231 k0_t2
  let c32_i32_247 : BitVec 32 := 32#32
  let v350 : BitVec 32 := Scalar.muli arg9 c32_i32_247
  let v351 : BitVec 32 := Scalar.addi c1_i32_248 v350
  let c12_i32_1482 : BitVec 32 := 12#32
  let v2101 : BitVec 32 := Scalar.addi v351 c12_i32_1482
  let c1_i32_1483 : BitVec 32 := 1#32
  let v2102 : BitVec 32 := Scalar.subi v1 c1_i32_1483
  let v2103 : BitVec 32 := Scalar.minsi v2101 v2102
  let c256_i32_1484 : BitVec 32 := 256#32
  let v2104 : BitVec 32 := Scalar.muli v2103 c256_i32_1484
  v2104
def k0_mult190 (i : grid0.Coords) (k0_t2 : Fin (k0_t2_loop i).trips) : BitVec 32 :=
  let c1_i32_248 : BitVec 32 := 1#32
  let c0_i32_228 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_176 : BitVec 32 := 1#32
  let v246 : BitVec 32 := Scalar.subi v1 c1_i32_176
  let c0_i32_177 : BitVec 32 := 0#32
  let v248 : BitVec 1 := Scalar.cmpi .sgt v246 c0_i32_177
  let v249 : BitVec 32 := Scalar.extui v248
  let c0_i32_178 : BitVec 32 := 0#32
  let v250 : BitVec 1 := Scalar.cmpi .slt v246 c0_i32_178
  let v251 : BitVec 32 := Scalar.extui v250
  let v252 : BitVec 32 := Scalar.subi v249 v251
  let c32_i32 : BitVec 32 := 32#32
  let c0_i32_179 : BitVec 32 := 0#32
  let v253 : BitVec 1 := Scalar.cmpi .sgt c32_i32 c0_i32_179
  let v254 : BitVec 32 := Scalar.extui v253
  let c0_i32_180 : BitVec 32 := 0#32
  let v255 : BitVec 1 := Scalar.cmpi .slt c32_i32 c0_i32_180
  let v256 : BitVec 32 := Scalar.extui v255
  let v257 : BitVec 32 := Scalar.subi v254 v256
  let v258 : BitVec 1 := Scalar.cmpi .ne v252 v257
  let v259 : BitVec 32 := Scalar.remsi v246 c32_i32
  let c0_i32_181 : BitVec 32 := 0#32
  let v260 : BitVec 1 := Scalar.cmpi .ne v259 c0_i32_181
  let v261 : BitVec 1 := Scalar.andi v258 v260
  let v247 : BitVec 32 := Scalar.divsi v246 c32_i32
  let c1_i32_182 : BitVec 32 := 1#32
  let v262 : BitVec 32 := Scalar.subi v247 c1_i32_182
  let v263 : BitVec 32 := Scalar.select v261 v262 v247
  let v314 : BitVec 32 := Scalar.subi v263 c0_i32_228
  let c1_i32_229 : BitVec 32 := 1#32
  let v316 : BitVec 32 := Scalar.divsi v314 c1_i32_229
  let v317 : BitVec 32 := Scalar.muli v316 c1_i32_229
  let v318 : BitVec 32 := Scalar.addi c0_i32_228 v317
  let c1_i32_231 : BitVec 32 := 1#32
  let arg9 : BitVec 32 := Scf.iv v318 c1_i32_231 k0_t2
  let c32_i32_247 : BitVec 32 := 32#32
  let v350 : BitVec 32 := Scalar.muli arg9 c32_i32_247
  let v351 : BitVec 32 := Scalar.addi c1_i32_248 v350
  let c13_i32 : BitVec 32 := 13#32
  let v2139 : BitVec 32 := Scalar.addi v351 c13_i32
  let c1_i32_1509 : BitVec 32 := 1#32
  let v2140 : BitVec 32 := Scalar.subi v1 c1_i32_1509
  let v2141 : BitVec 32 := Scalar.minsi v2139 v2140
  let c256_i32_1510 : BitVec 32 := 256#32
  let v2142 : BitVec 32 := Scalar.muli v2141 c256_i32_1510
  v2142
def k0_mult191 (i : grid0.Coords) (k0_t2 : Fin (k0_t2_loop i).trips) : BitVec 32 :=
  let c1_i32_248 : BitVec 32 := 1#32
  let c0_i32_228 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_176 : BitVec 32 := 1#32
  let v246 : BitVec 32 := Scalar.subi v1 c1_i32_176
  let c0_i32_177 : BitVec 32 := 0#32
  let v248 : BitVec 1 := Scalar.cmpi .sgt v246 c0_i32_177
  let v249 : BitVec 32 := Scalar.extui v248
  let c0_i32_178 : BitVec 32 := 0#32
  let v250 : BitVec 1 := Scalar.cmpi .slt v246 c0_i32_178
  let v251 : BitVec 32 := Scalar.extui v250
  let v252 : BitVec 32 := Scalar.subi v249 v251
  let c32_i32 : BitVec 32 := 32#32
  let c0_i32_179 : BitVec 32 := 0#32
  let v253 : BitVec 1 := Scalar.cmpi .sgt c32_i32 c0_i32_179
  let v254 : BitVec 32 := Scalar.extui v253
  let c0_i32_180 : BitVec 32 := 0#32
  let v255 : BitVec 1 := Scalar.cmpi .slt c32_i32 c0_i32_180
  let v256 : BitVec 32 := Scalar.extui v255
  let v257 : BitVec 32 := Scalar.subi v254 v256
  let v258 : BitVec 1 := Scalar.cmpi .ne v252 v257
  let v259 : BitVec 32 := Scalar.remsi v246 c32_i32
  let c0_i32_181 : BitVec 32 := 0#32
  let v260 : BitVec 1 := Scalar.cmpi .ne v259 c0_i32_181
  let v261 : BitVec 1 := Scalar.andi v258 v260
  let v247 : BitVec 32 := Scalar.divsi v246 c32_i32
  let c1_i32_182 : BitVec 32 := 1#32
  let v262 : BitVec 32 := Scalar.subi v247 c1_i32_182
  let v263 : BitVec 32 := Scalar.select v261 v262 v247
  let v314 : BitVec 32 := Scalar.subi v263 c0_i32_228
  let c1_i32_229 : BitVec 32 := 1#32
  let v316 : BitVec 32 := Scalar.divsi v314 c1_i32_229
  let v317 : BitVec 32 := Scalar.muli v316 c1_i32_229
  let v318 : BitVec 32 := Scalar.addi c0_i32_228 v317
  let c1_i32_231 : BitVec 32 := 1#32
  let arg9 : BitVec 32 := Scf.iv v318 c1_i32_231 k0_t2
  let c32_i32_247 : BitVec 32 := 32#32
  let v350 : BitVec 32 := Scalar.muli arg9 c32_i32_247
  let v351 : BitVec 32 := Scalar.addi c1_i32_248 v350
  let c13_i32_1535 : BitVec 32 := 13#32
  let v2177 : BitVec 32 := Scalar.addi v351 c13_i32_1535
  let c1_i32_1536 : BitVec 32 := 1#32
  let v2178 : BitVec 32 := Scalar.subi v1 c1_i32_1536
  let v2179 : BitVec 32 := Scalar.minsi v2177 v2178
  let c256_i32_1537 : BitVec 32 := 256#32
  let v2180 : BitVec 32 := Scalar.muli v2179 c256_i32_1537
  v2180
def k0_mult192 (i : grid0.Coords) (k0_t2 : Fin (k0_t2_loop i).trips) : BitVec 32 :=
  let c1_i32_248 : BitVec 32 := 1#32
  let c0_i32_228 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_176 : BitVec 32 := 1#32
  let v246 : BitVec 32 := Scalar.subi v1 c1_i32_176
  let c0_i32_177 : BitVec 32 := 0#32
  let v248 : BitVec 1 := Scalar.cmpi .sgt v246 c0_i32_177
  let v249 : BitVec 32 := Scalar.extui v248
  let c0_i32_178 : BitVec 32 := 0#32
  let v250 : BitVec 1 := Scalar.cmpi .slt v246 c0_i32_178
  let v251 : BitVec 32 := Scalar.extui v250
  let v252 : BitVec 32 := Scalar.subi v249 v251
  let c32_i32 : BitVec 32 := 32#32
  let c0_i32_179 : BitVec 32 := 0#32
  let v253 : BitVec 1 := Scalar.cmpi .sgt c32_i32 c0_i32_179
  let v254 : BitVec 32 := Scalar.extui v253
  let c0_i32_180 : BitVec 32 := 0#32
  let v255 : BitVec 1 := Scalar.cmpi .slt c32_i32 c0_i32_180
  let v256 : BitVec 32 := Scalar.extui v255
  let v257 : BitVec 32 := Scalar.subi v254 v256
  let v258 : BitVec 1 := Scalar.cmpi .ne v252 v257
  let v259 : BitVec 32 := Scalar.remsi v246 c32_i32
  let c0_i32_181 : BitVec 32 := 0#32
  let v260 : BitVec 1 := Scalar.cmpi .ne v259 c0_i32_181
  let v261 : BitVec 1 := Scalar.andi v258 v260
  let v247 : BitVec 32 := Scalar.divsi v246 c32_i32
  let c1_i32_182 : BitVec 32 := 1#32
  let v262 : BitVec 32 := Scalar.subi v247 c1_i32_182
  let v263 : BitVec 32 := Scalar.select v261 v262 v247
  let v314 : BitVec 32 := Scalar.subi v263 c0_i32_228
  let c1_i32_229 : BitVec 32 := 1#32
  let v316 : BitVec 32 := Scalar.divsi v314 c1_i32_229
  let v317 : BitVec 32 := Scalar.muli v316 c1_i32_229
  let v318 : BitVec 32 := Scalar.addi c0_i32_228 v317
  let c1_i32_231 : BitVec 32 := 1#32
  let arg9 : BitVec 32 := Scf.iv v318 c1_i32_231 k0_t2
  let c32_i32_247 : BitVec 32 := 32#32
  let v350 : BitVec 32 := Scalar.muli arg9 c32_i32_247
  let v351 : BitVec 32 := Scalar.addi c1_i32_248 v350
  let c13_i32_1562 : BitVec 32 := 13#32
  let v2215 : BitVec 32 := Scalar.addi v351 c13_i32_1562
  let c1_i32_1563 : BitVec 32 := 1#32
  let v2216 : BitVec 32 := Scalar.subi v1 c1_i32_1563
  let v2217 : BitVec 32 := Scalar.minsi v2215 v2216
  let c256_i32_1564 : BitVec 32 := 256#32
  let v2218 : BitVec 32 := Scalar.muli v2217 c256_i32_1564
  v2218
def k0_mult193 (i : grid0.Coords) (k0_t2 : Fin (k0_t2_loop i).trips) : BitVec 32 :=
  let c1_i32_248 : BitVec 32 := 1#32
  let c0_i32_228 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_176 : BitVec 32 := 1#32
  let v246 : BitVec 32 := Scalar.subi v1 c1_i32_176
  let c0_i32_177 : BitVec 32 := 0#32
  let v248 : BitVec 1 := Scalar.cmpi .sgt v246 c0_i32_177
  let v249 : BitVec 32 := Scalar.extui v248
  let c0_i32_178 : BitVec 32 := 0#32
  let v250 : BitVec 1 := Scalar.cmpi .slt v246 c0_i32_178
  let v251 : BitVec 32 := Scalar.extui v250
  let v252 : BitVec 32 := Scalar.subi v249 v251
  let c32_i32 : BitVec 32 := 32#32
  let c0_i32_179 : BitVec 32 := 0#32
  let v253 : BitVec 1 := Scalar.cmpi .sgt c32_i32 c0_i32_179
  let v254 : BitVec 32 := Scalar.extui v253
  let c0_i32_180 : BitVec 32 := 0#32
  let v255 : BitVec 1 := Scalar.cmpi .slt c32_i32 c0_i32_180
  let v256 : BitVec 32 := Scalar.extui v255
  let v257 : BitVec 32 := Scalar.subi v254 v256
  let v258 : BitVec 1 := Scalar.cmpi .ne v252 v257
  let v259 : BitVec 32 := Scalar.remsi v246 c32_i32
  let c0_i32_181 : BitVec 32 := 0#32
  let v260 : BitVec 1 := Scalar.cmpi .ne v259 c0_i32_181
  let v261 : BitVec 1 := Scalar.andi v258 v260
  let v247 : BitVec 32 := Scalar.divsi v246 c32_i32
  let c1_i32_182 : BitVec 32 := 1#32
  let v262 : BitVec 32 := Scalar.subi v247 c1_i32_182
  let v263 : BitVec 32 := Scalar.select v261 v262 v247
  let v314 : BitVec 32 := Scalar.subi v263 c0_i32_228
  let c1_i32_229 : BitVec 32 := 1#32
  let v316 : BitVec 32 := Scalar.divsi v314 c1_i32_229
  let v317 : BitVec 32 := Scalar.muli v316 c1_i32_229
  let v318 : BitVec 32 := Scalar.addi c0_i32_228 v317
  let c1_i32_231 : BitVec 32 := 1#32
  let arg9 : BitVec 32 := Scf.iv v318 c1_i32_231 k0_t2
  let c32_i32_247 : BitVec 32 := 32#32
  let v350 : BitVec 32 := Scalar.muli arg9 c32_i32_247
  let v351 : BitVec 32 := Scalar.addi c1_i32_248 v350
  let c13_i32_1589 : BitVec 32 := 13#32
  let v2253 : BitVec 32 := Scalar.addi v351 c13_i32_1589
  let c1_i32_1590 : BitVec 32 := 1#32
  let v2254 : BitVec 32 := Scalar.subi v1 c1_i32_1590
  let v2255 : BitVec 32 := Scalar.minsi v2253 v2254
  let c256_i32_1591 : BitVec 32 := 256#32
  let v2256 : BitVec 32 := Scalar.muli v2255 c256_i32_1591
  v2256
def k0_mult194 (i : grid0.Coords) (k0_t2 : Fin (k0_t2_loop i).trips) : BitVec 32 :=
  let c1_i32_248 : BitVec 32 := 1#32
  let c0_i32_228 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_176 : BitVec 32 := 1#32
  let v246 : BitVec 32 := Scalar.subi v1 c1_i32_176
  let c0_i32_177 : BitVec 32 := 0#32
  let v248 : BitVec 1 := Scalar.cmpi .sgt v246 c0_i32_177
  let v249 : BitVec 32 := Scalar.extui v248
  let c0_i32_178 : BitVec 32 := 0#32
  let v250 : BitVec 1 := Scalar.cmpi .slt v246 c0_i32_178
  let v251 : BitVec 32 := Scalar.extui v250
  let v252 : BitVec 32 := Scalar.subi v249 v251
  let c32_i32 : BitVec 32 := 32#32
  let c0_i32_179 : BitVec 32 := 0#32
  let v253 : BitVec 1 := Scalar.cmpi .sgt c32_i32 c0_i32_179
  let v254 : BitVec 32 := Scalar.extui v253
  let c0_i32_180 : BitVec 32 := 0#32
  let v255 : BitVec 1 := Scalar.cmpi .slt c32_i32 c0_i32_180
  let v256 : BitVec 32 := Scalar.extui v255
  let v257 : BitVec 32 := Scalar.subi v254 v256
  let v258 : BitVec 1 := Scalar.cmpi .ne v252 v257
  let v259 : BitVec 32 := Scalar.remsi v246 c32_i32
  let c0_i32_181 : BitVec 32 := 0#32
  let v260 : BitVec 1 := Scalar.cmpi .ne v259 c0_i32_181
  let v261 : BitVec 1 := Scalar.andi v258 v260
  let v247 : BitVec 32 := Scalar.divsi v246 c32_i32
  let c1_i32_182 : BitVec 32 := 1#32
  let v262 : BitVec 32 := Scalar.subi v247 c1_i32_182
  let v263 : BitVec 32 := Scalar.select v261 v262 v247
  let v314 : BitVec 32 := Scalar.subi v263 c0_i32_228
  let c1_i32_229 : BitVec 32 := 1#32
  let v316 : BitVec 32 := Scalar.divsi v314 c1_i32_229
  let v317 : BitVec 32 := Scalar.muli v316 c1_i32_229
  let v318 : BitVec 32 := Scalar.addi c0_i32_228 v317
  let c1_i32_231 : BitVec 32 := 1#32
  let arg9 : BitVec 32 := Scf.iv v318 c1_i32_231 k0_t2
  let c32_i32_247 : BitVec 32 := 32#32
  let v350 : BitVec 32 := Scalar.muli arg9 c32_i32_247
  let v351 : BitVec 32 := Scalar.addi c1_i32_248 v350
  let c14_i32 : BitVec 32 := 14#32
  let v2291 : BitVec 32 := Scalar.addi v351 c14_i32
  let c1_i32_1616 : BitVec 32 := 1#32
  let v2292 : BitVec 32 := Scalar.subi v1 c1_i32_1616
  let v2293 : BitVec 32 := Scalar.minsi v2291 v2292
  let c256_i32_1617 : BitVec 32 := 256#32
  let v2294 : BitVec 32 := Scalar.muli v2293 c256_i32_1617
  v2294
def k0_mult195 (i : grid0.Coords) (k0_t2 : Fin (k0_t2_loop i).trips) : BitVec 32 :=
  let c1_i32_248 : BitVec 32 := 1#32
  let c0_i32_228 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_176 : BitVec 32 := 1#32
  let v246 : BitVec 32 := Scalar.subi v1 c1_i32_176
  let c0_i32_177 : BitVec 32 := 0#32
  let v248 : BitVec 1 := Scalar.cmpi .sgt v246 c0_i32_177
  let v249 : BitVec 32 := Scalar.extui v248
  let c0_i32_178 : BitVec 32 := 0#32
  let v250 : BitVec 1 := Scalar.cmpi .slt v246 c0_i32_178
  let v251 : BitVec 32 := Scalar.extui v250
  let v252 : BitVec 32 := Scalar.subi v249 v251
  let c32_i32 : BitVec 32 := 32#32
  let c0_i32_179 : BitVec 32 := 0#32
  let v253 : BitVec 1 := Scalar.cmpi .sgt c32_i32 c0_i32_179
  let v254 : BitVec 32 := Scalar.extui v253
  let c0_i32_180 : BitVec 32 := 0#32
  let v255 : BitVec 1 := Scalar.cmpi .slt c32_i32 c0_i32_180
  let v256 : BitVec 32 := Scalar.extui v255
  let v257 : BitVec 32 := Scalar.subi v254 v256
  let v258 : BitVec 1 := Scalar.cmpi .ne v252 v257
  let v259 : BitVec 32 := Scalar.remsi v246 c32_i32
  let c0_i32_181 : BitVec 32 := 0#32
  let v260 : BitVec 1 := Scalar.cmpi .ne v259 c0_i32_181
  let v261 : BitVec 1 := Scalar.andi v258 v260
  let v247 : BitVec 32 := Scalar.divsi v246 c32_i32
  let c1_i32_182 : BitVec 32 := 1#32
  let v262 : BitVec 32 := Scalar.subi v247 c1_i32_182
  let v263 : BitVec 32 := Scalar.select v261 v262 v247
  let v314 : BitVec 32 := Scalar.subi v263 c0_i32_228
  let c1_i32_229 : BitVec 32 := 1#32
  let v316 : BitVec 32 := Scalar.divsi v314 c1_i32_229
  let v317 : BitVec 32 := Scalar.muli v316 c1_i32_229
  let v318 : BitVec 32 := Scalar.addi c0_i32_228 v317
  let c1_i32_231 : BitVec 32 := 1#32
  let arg9 : BitVec 32 := Scf.iv v318 c1_i32_231 k0_t2
  let c32_i32_247 : BitVec 32 := 32#32
  let v350 : BitVec 32 := Scalar.muli arg9 c32_i32_247
  let v351 : BitVec 32 := Scalar.addi c1_i32_248 v350
  let c14_i32_1642 : BitVec 32 := 14#32
  let v2329 : BitVec 32 := Scalar.addi v351 c14_i32_1642
  let c1_i32_1643 : BitVec 32 := 1#32
  let v2330 : BitVec 32 := Scalar.subi v1 c1_i32_1643
  let v2331 : BitVec 32 := Scalar.minsi v2329 v2330
  let c256_i32_1644 : BitVec 32 := 256#32
  let v2332 : BitVec 32 := Scalar.muli v2331 c256_i32_1644
  v2332
def k0_mult196 (i : grid0.Coords) (k0_t2 : Fin (k0_t2_loop i).trips) : BitVec 32 :=
  let c1_i32_248 : BitVec 32 := 1#32
  let c0_i32_228 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_176 : BitVec 32 := 1#32
  let v246 : BitVec 32 := Scalar.subi v1 c1_i32_176
  let c0_i32_177 : BitVec 32 := 0#32
  let v248 : BitVec 1 := Scalar.cmpi .sgt v246 c0_i32_177
  let v249 : BitVec 32 := Scalar.extui v248
  let c0_i32_178 : BitVec 32 := 0#32
  let v250 : BitVec 1 := Scalar.cmpi .slt v246 c0_i32_178
  let v251 : BitVec 32 := Scalar.extui v250
  let v252 : BitVec 32 := Scalar.subi v249 v251
  let c32_i32 : BitVec 32 := 32#32
  let c0_i32_179 : BitVec 32 := 0#32
  let v253 : BitVec 1 := Scalar.cmpi .sgt c32_i32 c0_i32_179
  let v254 : BitVec 32 := Scalar.extui v253
  let c0_i32_180 : BitVec 32 := 0#32
  let v255 : BitVec 1 := Scalar.cmpi .slt c32_i32 c0_i32_180
  let v256 : BitVec 32 := Scalar.extui v255
  let v257 : BitVec 32 := Scalar.subi v254 v256
  let v258 : BitVec 1 := Scalar.cmpi .ne v252 v257
  let v259 : BitVec 32 := Scalar.remsi v246 c32_i32
  let c0_i32_181 : BitVec 32 := 0#32
  let v260 : BitVec 1 := Scalar.cmpi .ne v259 c0_i32_181
  let v261 : BitVec 1 := Scalar.andi v258 v260
  let v247 : BitVec 32 := Scalar.divsi v246 c32_i32
  let c1_i32_182 : BitVec 32 := 1#32
  let v262 : BitVec 32 := Scalar.subi v247 c1_i32_182
  let v263 : BitVec 32 := Scalar.select v261 v262 v247
  let v314 : BitVec 32 := Scalar.subi v263 c0_i32_228
  let c1_i32_229 : BitVec 32 := 1#32
  let v316 : BitVec 32 := Scalar.divsi v314 c1_i32_229
  let v317 : BitVec 32 := Scalar.muli v316 c1_i32_229
  let v318 : BitVec 32 := Scalar.addi c0_i32_228 v317
  let c1_i32_231 : BitVec 32 := 1#32
  let arg9 : BitVec 32 := Scf.iv v318 c1_i32_231 k0_t2
  let c32_i32_247 : BitVec 32 := 32#32
  let v350 : BitVec 32 := Scalar.muli arg9 c32_i32_247
  let v351 : BitVec 32 := Scalar.addi c1_i32_248 v350
  let c14_i32_1669 : BitVec 32 := 14#32
  let v2367 : BitVec 32 := Scalar.addi v351 c14_i32_1669
  let c1_i32_1670 : BitVec 32 := 1#32
  let v2368 : BitVec 32 := Scalar.subi v1 c1_i32_1670
  let v2369 : BitVec 32 := Scalar.minsi v2367 v2368
  let c256_i32_1671 : BitVec 32 := 256#32
  let v2370 : BitVec 32 := Scalar.muli v2369 c256_i32_1671
  v2370
def k0_mult197 (i : grid0.Coords) (k0_t2 : Fin (k0_t2_loop i).trips) : BitVec 32 :=
  let c1_i32_248 : BitVec 32 := 1#32
  let c0_i32_228 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_176 : BitVec 32 := 1#32
  let v246 : BitVec 32 := Scalar.subi v1 c1_i32_176
  let c0_i32_177 : BitVec 32 := 0#32
  let v248 : BitVec 1 := Scalar.cmpi .sgt v246 c0_i32_177
  let v249 : BitVec 32 := Scalar.extui v248
  let c0_i32_178 : BitVec 32 := 0#32
  let v250 : BitVec 1 := Scalar.cmpi .slt v246 c0_i32_178
  let v251 : BitVec 32 := Scalar.extui v250
  let v252 : BitVec 32 := Scalar.subi v249 v251
  let c32_i32 : BitVec 32 := 32#32
  let c0_i32_179 : BitVec 32 := 0#32
  let v253 : BitVec 1 := Scalar.cmpi .sgt c32_i32 c0_i32_179
  let v254 : BitVec 32 := Scalar.extui v253
  let c0_i32_180 : BitVec 32 := 0#32
  let v255 : BitVec 1 := Scalar.cmpi .slt c32_i32 c0_i32_180
  let v256 : BitVec 32 := Scalar.extui v255
  let v257 : BitVec 32 := Scalar.subi v254 v256
  let v258 : BitVec 1 := Scalar.cmpi .ne v252 v257
  let v259 : BitVec 32 := Scalar.remsi v246 c32_i32
  let c0_i32_181 : BitVec 32 := 0#32
  let v260 : BitVec 1 := Scalar.cmpi .ne v259 c0_i32_181
  let v261 : BitVec 1 := Scalar.andi v258 v260
  let v247 : BitVec 32 := Scalar.divsi v246 c32_i32
  let c1_i32_182 : BitVec 32 := 1#32
  let v262 : BitVec 32 := Scalar.subi v247 c1_i32_182
  let v263 : BitVec 32 := Scalar.select v261 v262 v247
  let v314 : BitVec 32 := Scalar.subi v263 c0_i32_228
  let c1_i32_229 : BitVec 32 := 1#32
  let v316 : BitVec 32 := Scalar.divsi v314 c1_i32_229
  let v317 : BitVec 32 := Scalar.muli v316 c1_i32_229
  let v318 : BitVec 32 := Scalar.addi c0_i32_228 v317
  let c1_i32_231 : BitVec 32 := 1#32
  let arg9 : BitVec 32 := Scf.iv v318 c1_i32_231 k0_t2
  let c32_i32_247 : BitVec 32 := 32#32
  let v350 : BitVec 32 := Scalar.muli arg9 c32_i32_247
  let v351 : BitVec 32 := Scalar.addi c1_i32_248 v350
  let c14_i32_1696 : BitVec 32 := 14#32
  let v2405 : BitVec 32 := Scalar.addi v351 c14_i32_1696
  let c1_i32_1697 : BitVec 32 := 1#32
  let v2406 : BitVec 32 := Scalar.subi v1 c1_i32_1697
  let v2407 : BitVec 32 := Scalar.minsi v2405 v2406
  let c256_i32_1698 : BitVec 32 := 256#32
  let v2408 : BitVec 32 := Scalar.muli v2407 c256_i32_1698
  v2408
def k0_mult198 (i : grid0.Coords) (k0_t2 : Fin (k0_t2_loop i).trips) : BitVec 32 :=
  let c1_i32_248 : BitVec 32 := 1#32
  let c0_i32_228 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_176 : BitVec 32 := 1#32
  let v246 : BitVec 32 := Scalar.subi v1 c1_i32_176
  let c0_i32_177 : BitVec 32 := 0#32
  let v248 : BitVec 1 := Scalar.cmpi .sgt v246 c0_i32_177
  let v249 : BitVec 32 := Scalar.extui v248
  let c0_i32_178 : BitVec 32 := 0#32
  let v250 : BitVec 1 := Scalar.cmpi .slt v246 c0_i32_178
  let v251 : BitVec 32 := Scalar.extui v250
  let v252 : BitVec 32 := Scalar.subi v249 v251
  let c32_i32 : BitVec 32 := 32#32
  let c0_i32_179 : BitVec 32 := 0#32
  let v253 : BitVec 1 := Scalar.cmpi .sgt c32_i32 c0_i32_179
  let v254 : BitVec 32 := Scalar.extui v253
  let c0_i32_180 : BitVec 32 := 0#32
  let v255 : BitVec 1 := Scalar.cmpi .slt c32_i32 c0_i32_180
  let v256 : BitVec 32 := Scalar.extui v255
  let v257 : BitVec 32 := Scalar.subi v254 v256
  let v258 : BitVec 1 := Scalar.cmpi .ne v252 v257
  let v259 : BitVec 32 := Scalar.remsi v246 c32_i32
  let c0_i32_181 : BitVec 32 := 0#32
  let v260 : BitVec 1 := Scalar.cmpi .ne v259 c0_i32_181
  let v261 : BitVec 1 := Scalar.andi v258 v260
  let v247 : BitVec 32 := Scalar.divsi v246 c32_i32
  let c1_i32_182 : BitVec 32 := 1#32
  let v262 : BitVec 32 := Scalar.subi v247 c1_i32_182
  let v263 : BitVec 32 := Scalar.select v261 v262 v247
  let v314 : BitVec 32 := Scalar.subi v263 c0_i32_228
  let c1_i32_229 : BitVec 32 := 1#32
  let v316 : BitVec 32 := Scalar.divsi v314 c1_i32_229
  let v317 : BitVec 32 := Scalar.muli v316 c1_i32_229
  let v318 : BitVec 32 := Scalar.addi c0_i32_228 v317
  let c1_i32_231 : BitVec 32 := 1#32
  let arg9 : BitVec 32 := Scf.iv v318 c1_i32_231 k0_t2
  let c32_i32_247 : BitVec 32 := 32#32
  let v350 : BitVec 32 := Scalar.muli arg9 c32_i32_247
  let v351 : BitVec 32 := Scalar.addi c1_i32_248 v350
  let c15_i32 : BitVec 32 := 15#32
  let v2443 : BitVec 32 := Scalar.addi v351 c15_i32
  let c1_i32_1723 : BitVec 32 := 1#32
  let v2444 : BitVec 32 := Scalar.subi v1 c1_i32_1723
  let v2445 : BitVec 32 := Scalar.minsi v2443 v2444
  let c256_i32_1724 : BitVec 32 := 256#32
  let v2446 : BitVec 32 := Scalar.muli v2445 c256_i32_1724
  v2446
def k0_mult199 (i : grid0.Coords) (k0_t2 : Fin (k0_t2_loop i).trips) : BitVec 32 :=
  let c1_i32_248 : BitVec 32 := 1#32
  let c0_i32_228 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_176 : BitVec 32 := 1#32
  let v246 : BitVec 32 := Scalar.subi v1 c1_i32_176
  let c0_i32_177 : BitVec 32 := 0#32
  let v248 : BitVec 1 := Scalar.cmpi .sgt v246 c0_i32_177
  let v249 : BitVec 32 := Scalar.extui v248
  let c0_i32_178 : BitVec 32 := 0#32
  let v250 : BitVec 1 := Scalar.cmpi .slt v246 c0_i32_178
  let v251 : BitVec 32 := Scalar.extui v250
  let v252 : BitVec 32 := Scalar.subi v249 v251
  let c32_i32 : BitVec 32 := 32#32
  let c0_i32_179 : BitVec 32 := 0#32
  let v253 : BitVec 1 := Scalar.cmpi .sgt c32_i32 c0_i32_179
  let v254 : BitVec 32 := Scalar.extui v253
  let c0_i32_180 : BitVec 32 := 0#32
  let v255 : BitVec 1 := Scalar.cmpi .slt c32_i32 c0_i32_180
  let v256 : BitVec 32 := Scalar.extui v255
  let v257 : BitVec 32 := Scalar.subi v254 v256
  let v258 : BitVec 1 := Scalar.cmpi .ne v252 v257
  let v259 : BitVec 32 := Scalar.remsi v246 c32_i32
  let c0_i32_181 : BitVec 32 := 0#32
  let v260 : BitVec 1 := Scalar.cmpi .ne v259 c0_i32_181
  let v261 : BitVec 1 := Scalar.andi v258 v260
  let v247 : BitVec 32 := Scalar.divsi v246 c32_i32
  let c1_i32_182 : BitVec 32 := 1#32
  let v262 : BitVec 32 := Scalar.subi v247 c1_i32_182
  let v263 : BitVec 32 := Scalar.select v261 v262 v247
  let v314 : BitVec 32 := Scalar.subi v263 c0_i32_228
  let c1_i32_229 : BitVec 32 := 1#32
  let v316 : BitVec 32 := Scalar.divsi v314 c1_i32_229
  let v317 : BitVec 32 := Scalar.muli v316 c1_i32_229
  let v318 : BitVec 32 := Scalar.addi c0_i32_228 v317
  let c1_i32_231 : BitVec 32 := 1#32
  let arg9 : BitVec 32 := Scf.iv v318 c1_i32_231 k0_t2
  let c32_i32_247 : BitVec 32 := 32#32
  let v350 : BitVec 32 := Scalar.muli arg9 c32_i32_247
  let v351 : BitVec 32 := Scalar.addi c1_i32_248 v350
  let c15_i32_1749 : BitVec 32 := 15#32
  let v2481 : BitVec 32 := Scalar.addi v351 c15_i32_1749
  let c1_i32_1750 : BitVec 32 := 1#32
  let v2482 : BitVec 32 := Scalar.subi v1 c1_i32_1750
  let v2483 : BitVec 32 := Scalar.minsi v2481 v2482
  let c256_i32_1751 : BitVec 32 := 256#32
  let v2484 : BitVec 32 := Scalar.muli v2483 c256_i32_1751
  v2484
def k0_mult200 (i : grid0.Coords) (k0_t2 : Fin (k0_t2_loop i).trips) : BitVec 32 :=
  let c1_i32_248 : BitVec 32 := 1#32
  let c0_i32_228 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_176 : BitVec 32 := 1#32
  let v246 : BitVec 32 := Scalar.subi v1 c1_i32_176
  let c0_i32_177 : BitVec 32 := 0#32
  let v248 : BitVec 1 := Scalar.cmpi .sgt v246 c0_i32_177
  let v249 : BitVec 32 := Scalar.extui v248
  let c0_i32_178 : BitVec 32 := 0#32
  let v250 : BitVec 1 := Scalar.cmpi .slt v246 c0_i32_178
  let v251 : BitVec 32 := Scalar.extui v250
  let v252 : BitVec 32 := Scalar.subi v249 v251
  let c32_i32 : BitVec 32 := 32#32
  let c0_i32_179 : BitVec 32 := 0#32
  let v253 : BitVec 1 := Scalar.cmpi .sgt c32_i32 c0_i32_179
  let v254 : BitVec 32 := Scalar.extui v253
  let c0_i32_180 : BitVec 32 := 0#32
  let v255 : BitVec 1 := Scalar.cmpi .slt c32_i32 c0_i32_180
  let v256 : BitVec 32 := Scalar.extui v255
  let v257 : BitVec 32 := Scalar.subi v254 v256
  let v258 : BitVec 1 := Scalar.cmpi .ne v252 v257
  let v259 : BitVec 32 := Scalar.remsi v246 c32_i32
  let c0_i32_181 : BitVec 32 := 0#32
  let v260 : BitVec 1 := Scalar.cmpi .ne v259 c0_i32_181
  let v261 : BitVec 1 := Scalar.andi v258 v260
  let v247 : BitVec 32 := Scalar.divsi v246 c32_i32
  let c1_i32_182 : BitVec 32 := 1#32
  let v262 : BitVec 32 := Scalar.subi v247 c1_i32_182
  let v263 : BitVec 32 := Scalar.select v261 v262 v247
  let v314 : BitVec 32 := Scalar.subi v263 c0_i32_228
  let c1_i32_229 : BitVec 32 := 1#32
  let v316 : BitVec 32 := Scalar.divsi v314 c1_i32_229
  let v317 : BitVec 32 := Scalar.muli v316 c1_i32_229
  let v318 : BitVec 32 := Scalar.addi c0_i32_228 v317
  let c1_i32_231 : BitVec 32 := 1#32
  let arg9 : BitVec 32 := Scf.iv v318 c1_i32_231 k0_t2
  let c32_i32_247 : BitVec 32 := 32#32
  let v350 : BitVec 32 := Scalar.muli arg9 c32_i32_247
  let v351 : BitVec 32 := Scalar.addi c1_i32_248 v350
  let c15_i32_1776 : BitVec 32 := 15#32
  let v2519 : BitVec 32 := Scalar.addi v351 c15_i32_1776
  let c1_i32_1777 : BitVec 32 := 1#32
  let v2520 : BitVec 32 := Scalar.subi v1 c1_i32_1777
  let v2521 : BitVec 32 := Scalar.minsi v2519 v2520
  let c256_i32_1778 : BitVec 32 := 256#32
  let v2522 : BitVec 32 := Scalar.muli v2521 c256_i32_1778
  v2522
def k0_mult201 (i : grid0.Coords) (k0_t2 : Fin (k0_t2_loop i).trips) : BitVec 32 :=
  let c1_i32_248 : BitVec 32 := 1#32
  let c0_i32_228 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_176 : BitVec 32 := 1#32
  let v246 : BitVec 32 := Scalar.subi v1 c1_i32_176
  let c0_i32_177 : BitVec 32 := 0#32
  let v248 : BitVec 1 := Scalar.cmpi .sgt v246 c0_i32_177
  let v249 : BitVec 32 := Scalar.extui v248
  let c0_i32_178 : BitVec 32 := 0#32
  let v250 : BitVec 1 := Scalar.cmpi .slt v246 c0_i32_178
  let v251 : BitVec 32 := Scalar.extui v250
  let v252 : BitVec 32 := Scalar.subi v249 v251
  let c32_i32 : BitVec 32 := 32#32
  let c0_i32_179 : BitVec 32 := 0#32
  let v253 : BitVec 1 := Scalar.cmpi .sgt c32_i32 c0_i32_179
  let v254 : BitVec 32 := Scalar.extui v253
  let c0_i32_180 : BitVec 32 := 0#32
  let v255 : BitVec 1 := Scalar.cmpi .slt c32_i32 c0_i32_180
  let v256 : BitVec 32 := Scalar.extui v255
  let v257 : BitVec 32 := Scalar.subi v254 v256
  let v258 : BitVec 1 := Scalar.cmpi .ne v252 v257
  let v259 : BitVec 32 := Scalar.remsi v246 c32_i32
  let c0_i32_181 : BitVec 32 := 0#32
  let v260 : BitVec 1 := Scalar.cmpi .ne v259 c0_i32_181
  let v261 : BitVec 1 := Scalar.andi v258 v260
  let v247 : BitVec 32 := Scalar.divsi v246 c32_i32
  let c1_i32_182 : BitVec 32 := 1#32
  let v262 : BitVec 32 := Scalar.subi v247 c1_i32_182
  let v263 : BitVec 32 := Scalar.select v261 v262 v247
  let v314 : BitVec 32 := Scalar.subi v263 c0_i32_228
  let c1_i32_229 : BitVec 32 := 1#32
  let v316 : BitVec 32 := Scalar.divsi v314 c1_i32_229
  let v317 : BitVec 32 := Scalar.muli v316 c1_i32_229
  let v318 : BitVec 32 := Scalar.addi c0_i32_228 v317
  let c1_i32_231 : BitVec 32 := 1#32
  let arg9 : BitVec 32 := Scf.iv v318 c1_i32_231 k0_t2
  let c32_i32_247 : BitVec 32 := 32#32
  let v350 : BitVec 32 := Scalar.muli arg9 c32_i32_247
  let v351 : BitVec 32 := Scalar.addi c1_i32_248 v350
  let c15_i32_1803 : BitVec 32 := 15#32
  let v2557 : BitVec 32 := Scalar.addi v351 c15_i32_1803
  let c1_i32_1804 : BitVec 32 := 1#32
  let v2558 : BitVec 32 := Scalar.subi v1 c1_i32_1804
  let v2559 : BitVec 32 := Scalar.minsi v2557 v2558
  let c256_i32_1805 : BitVec 32 := 256#32
  let v2560 : BitVec 32 := Scalar.muli v2559 c256_i32_1805
  v2560
def k0_mult202 (i : grid0.Coords) (k0_t2 : Fin (k0_t2_loop i).trips) : BitVec 32 :=
  let c1_i32_248 : BitVec 32 := 1#32
  let c0_i32_228 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_176 : BitVec 32 := 1#32
  let v246 : BitVec 32 := Scalar.subi v1 c1_i32_176
  let c0_i32_177 : BitVec 32 := 0#32
  let v248 : BitVec 1 := Scalar.cmpi .sgt v246 c0_i32_177
  let v249 : BitVec 32 := Scalar.extui v248
  let c0_i32_178 : BitVec 32 := 0#32
  let v250 : BitVec 1 := Scalar.cmpi .slt v246 c0_i32_178
  let v251 : BitVec 32 := Scalar.extui v250
  let v252 : BitVec 32 := Scalar.subi v249 v251
  let c32_i32 : BitVec 32 := 32#32
  let c0_i32_179 : BitVec 32 := 0#32
  let v253 : BitVec 1 := Scalar.cmpi .sgt c32_i32 c0_i32_179
  let v254 : BitVec 32 := Scalar.extui v253
  let c0_i32_180 : BitVec 32 := 0#32
  let v255 : BitVec 1 := Scalar.cmpi .slt c32_i32 c0_i32_180
  let v256 : BitVec 32 := Scalar.extui v255
  let v257 : BitVec 32 := Scalar.subi v254 v256
  let v258 : BitVec 1 := Scalar.cmpi .ne v252 v257
  let v259 : BitVec 32 := Scalar.remsi v246 c32_i32
  let c0_i32_181 : BitVec 32 := 0#32
  let v260 : BitVec 1 := Scalar.cmpi .ne v259 c0_i32_181
  let v261 : BitVec 1 := Scalar.andi v258 v260
  let v247 : BitVec 32 := Scalar.divsi v246 c32_i32
  let c1_i32_182 : BitVec 32 := 1#32
  let v262 : BitVec 32 := Scalar.subi v247 c1_i32_182
  let v263 : BitVec 32 := Scalar.select v261 v262 v247
  let v314 : BitVec 32 := Scalar.subi v263 c0_i32_228
  let c1_i32_229 : BitVec 32 := 1#32
  let v316 : BitVec 32 := Scalar.divsi v314 c1_i32_229
  let v317 : BitVec 32 := Scalar.muli v316 c1_i32_229
  let v318 : BitVec 32 := Scalar.addi c0_i32_228 v317
  let c1_i32_231 : BitVec 32 := 1#32
  let arg9 : BitVec 32 := Scf.iv v318 c1_i32_231 k0_t2
  let c32_i32_247 : BitVec 32 := 32#32
  let v350 : BitVec 32 := Scalar.muli arg9 c32_i32_247
  let v351 : BitVec 32 := Scalar.addi c1_i32_248 v350
  let c16_i32 : BitVec 32 := 16#32
  let v2595 : BitVec 32 := Scalar.addi v351 c16_i32
  let c1_i32_1830 : BitVec 32 := 1#32
  let v2596 : BitVec 32 := Scalar.subi v1 c1_i32_1830
  let v2597 : BitVec 32 := Scalar.minsi v2595 v2596
  let c256_i32_1831 : BitVec 32 := 256#32
  let v2598 : BitVec 32 := Scalar.muli v2597 c256_i32_1831
  v2598
def k0_mult203 (i : grid0.Coords) (k0_t2 : Fin (k0_t2_loop i).trips) : BitVec 32 :=
  let c1_i32_248 : BitVec 32 := 1#32
  let c0_i32_228 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_176 : BitVec 32 := 1#32
  let v246 : BitVec 32 := Scalar.subi v1 c1_i32_176
  let c0_i32_177 : BitVec 32 := 0#32
  let v248 : BitVec 1 := Scalar.cmpi .sgt v246 c0_i32_177
  let v249 : BitVec 32 := Scalar.extui v248
  let c0_i32_178 : BitVec 32 := 0#32
  let v250 : BitVec 1 := Scalar.cmpi .slt v246 c0_i32_178
  let v251 : BitVec 32 := Scalar.extui v250
  let v252 : BitVec 32 := Scalar.subi v249 v251
  let c32_i32 : BitVec 32 := 32#32
  let c0_i32_179 : BitVec 32 := 0#32
  let v253 : BitVec 1 := Scalar.cmpi .sgt c32_i32 c0_i32_179
  let v254 : BitVec 32 := Scalar.extui v253
  let c0_i32_180 : BitVec 32 := 0#32
  let v255 : BitVec 1 := Scalar.cmpi .slt c32_i32 c0_i32_180
  let v256 : BitVec 32 := Scalar.extui v255
  let v257 : BitVec 32 := Scalar.subi v254 v256
  let v258 : BitVec 1 := Scalar.cmpi .ne v252 v257
  let v259 : BitVec 32 := Scalar.remsi v246 c32_i32
  let c0_i32_181 : BitVec 32 := 0#32
  let v260 : BitVec 1 := Scalar.cmpi .ne v259 c0_i32_181
  let v261 : BitVec 1 := Scalar.andi v258 v260
  let v247 : BitVec 32 := Scalar.divsi v246 c32_i32
  let c1_i32_182 : BitVec 32 := 1#32
  let v262 : BitVec 32 := Scalar.subi v247 c1_i32_182
  let v263 : BitVec 32 := Scalar.select v261 v262 v247
  let v314 : BitVec 32 := Scalar.subi v263 c0_i32_228
  let c1_i32_229 : BitVec 32 := 1#32
  let v316 : BitVec 32 := Scalar.divsi v314 c1_i32_229
  let v317 : BitVec 32 := Scalar.muli v316 c1_i32_229
  let v318 : BitVec 32 := Scalar.addi c0_i32_228 v317
  let c1_i32_231 : BitVec 32 := 1#32
  let arg9 : BitVec 32 := Scf.iv v318 c1_i32_231 k0_t2
  let c32_i32_247 : BitVec 32 := 32#32
  let v350 : BitVec 32 := Scalar.muli arg9 c32_i32_247
  let v351 : BitVec 32 := Scalar.addi c1_i32_248 v350
  let c16_i32_1856 : BitVec 32 := 16#32
  let v2633 : BitVec 32 := Scalar.addi v351 c16_i32_1856
  let c1_i32_1857 : BitVec 32 := 1#32
  let v2634 : BitVec 32 := Scalar.subi v1 c1_i32_1857
  let v2635 : BitVec 32 := Scalar.minsi v2633 v2634
  let c256_i32_1858 : BitVec 32 := 256#32
  let v2636 : BitVec 32 := Scalar.muli v2635 c256_i32_1858
  v2636
def k0_mult204 (i : grid0.Coords) (k0_t2 : Fin (k0_t2_loop i).trips) : BitVec 32 :=
  let c1_i32_248 : BitVec 32 := 1#32
  let c0_i32_228 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_176 : BitVec 32 := 1#32
  let v246 : BitVec 32 := Scalar.subi v1 c1_i32_176
  let c0_i32_177 : BitVec 32 := 0#32
  let v248 : BitVec 1 := Scalar.cmpi .sgt v246 c0_i32_177
  let v249 : BitVec 32 := Scalar.extui v248
  let c0_i32_178 : BitVec 32 := 0#32
  let v250 : BitVec 1 := Scalar.cmpi .slt v246 c0_i32_178
  let v251 : BitVec 32 := Scalar.extui v250
  let v252 : BitVec 32 := Scalar.subi v249 v251
  let c32_i32 : BitVec 32 := 32#32
  let c0_i32_179 : BitVec 32 := 0#32
  let v253 : BitVec 1 := Scalar.cmpi .sgt c32_i32 c0_i32_179
  let v254 : BitVec 32 := Scalar.extui v253
  let c0_i32_180 : BitVec 32 := 0#32
  let v255 : BitVec 1 := Scalar.cmpi .slt c32_i32 c0_i32_180
  let v256 : BitVec 32 := Scalar.extui v255
  let v257 : BitVec 32 := Scalar.subi v254 v256
  let v258 : BitVec 1 := Scalar.cmpi .ne v252 v257
  let v259 : BitVec 32 := Scalar.remsi v246 c32_i32
  let c0_i32_181 : BitVec 32 := 0#32
  let v260 : BitVec 1 := Scalar.cmpi .ne v259 c0_i32_181
  let v261 : BitVec 1 := Scalar.andi v258 v260
  let v247 : BitVec 32 := Scalar.divsi v246 c32_i32
  let c1_i32_182 : BitVec 32 := 1#32
  let v262 : BitVec 32 := Scalar.subi v247 c1_i32_182
  let v263 : BitVec 32 := Scalar.select v261 v262 v247
  let v314 : BitVec 32 := Scalar.subi v263 c0_i32_228
  let c1_i32_229 : BitVec 32 := 1#32
  let v316 : BitVec 32 := Scalar.divsi v314 c1_i32_229
  let v317 : BitVec 32 := Scalar.muli v316 c1_i32_229
  let v318 : BitVec 32 := Scalar.addi c0_i32_228 v317
  let c1_i32_231 : BitVec 32 := 1#32
  let arg9 : BitVec 32 := Scf.iv v318 c1_i32_231 k0_t2
  let c32_i32_247 : BitVec 32 := 32#32
  let v350 : BitVec 32 := Scalar.muli arg9 c32_i32_247
  let v351 : BitVec 32 := Scalar.addi c1_i32_248 v350
  let c16_i32_1883 : BitVec 32 := 16#32
  let v2671 : BitVec 32 := Scalar.addi v351 c16_i32_1883
  let c1_i32_1884 : BitVec 32 := 1#32
  let v2672 : BitVec 32 := Scalar.subi v1 c1_i32_1884
  let v2673 : BitVec 32 := Scalar.minsi v2671 v2672
  let c256_i32_1885 : BitVec 32 := 256#32
  let v2674 : BitVec 32 := Scalar.muli v2673 c256_i32_1885
  v2674
def k0_mult205 (i : grid0.Coords) (k0_t2 : Fin (k0_t2_loop i).trips) : BitVec 32 :=
  let c1_i32_248 : BitVec 32 := 1#32
  let c0_i32_228 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_176 : BitVec 32 := 1#32
  let v246 : BitVec 32 := Scalar.subi v1 c1_i32_176
  let c0_i32_177 : BitVec 32 := 0#32
  let v248 : BitVec 1 := Scalar.cmpi .sgt v246 c0_i32_177
  let v249 : BitVec 32 := Scalar.extui v248
  let c0_i32_178 : BitVec 32 := 0#32
  let v250 : BitVec 1 := Scalar.cmpi .slt v246 c0_i32_178
  let v251 : BitVec 32 := Scalar.extui v250
  let v252 : BitVec 32 := Scalar.subi v249 v251
  let c32_i32 : BitVec 32 := 32#32
  let c0_i32_179 : BitVec 32 := 0#32
  let v253 : BitVec 1 := Scalar.cmpi .sgt c32_i32 c0_i32_179
  let v254 : BitVec 32 := Scalar.extui v253
  let c0_i32_180 : BitVec 32 := 0#32
  let v255 : BitVec 1 := Scalar.cmpi .slt c32_i32 c0_i32_180
  let v256 : BitVec 32 := Scalar.extui v255
  let v257 : BitVec 32 := Scalar.subi v254 v256
  let v258 : BitVec 1 := Scalar.cmpi .ne v252 v257
  let v259 : BitVec 32 := Scalar.remsi v246 c32_i32
  let c0_i32_181 : BitVec 32 := 0#32
  let v260 : BitVec 1 := Scalar.cmpi .ne v259 c0_i32_181
  let v261 : BitVec 1 := Scalar.andi v258 v260
  let v247 : BitVec 32 := Scalar.divsi v246 c32_i32
  let c1_i32_182 : BitVec 32 := 1#32
  let v262 : BitVec 32 := Scalar.subi v247 c1_i32_182
  let v263 : BitVec 32 := Scalar.select v261 v262 v247
  let v314 : BitVec 32 := Scalar.subi v263 c0_i32_228
  let c1_i32_229 : BitVec 32 := 1#32
  let v316 : BitVec 32 := Scalar.divsi v314 c1_i32_229
  let v317 : BitVec 32 := Scalar.muli v316 c1_i32_229
  let v318 : BitVec 32 := Scalar.addi c0_i32_228 v317
  let c1_i32_231 : BitVec 32 := 1#32
  let arg9 : BitVec 32 := Scf.iv v318 c1_i32_231 k0_t2
  let c32_i32_247 : BitVec 32 := 32#32
  let v350 : BitVec 32 := Scalar.muli arg9 c32_i32_247
  let v351 : BitVec 32 := Scalar.addi c1_i32_248 v350
  let c16_i32_1910 : BitVec 32 := 16#32
  let v2709 : BitVec 32 := Scalar.addi v351 c16_i32_1910
  let c1_i32_1911 : BitVec 32 := 1#32
  let v2710 : BitVec 32 := Scalar.subi v1 c1_i32_1911
  let v2711 : BitVec 32 := Scalar.minsi v2709 v2710
  let c256_i32_1912 : BitVec 32 := 256#32
  let v2712 : BitVec 32 := Scalar.muli v2711 c256_i32_1912
  v2712
def k0_mult206 (i : grid0.Coords) (k0_t2 : Fin (k0_t2_loop i).trips) : BitVec 32 :=
  let c1_i32_248 : BitVec 32 := 1#32
  let c0_i32_228 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_176 : BitVec 32 := 1#32
  let v246 : BitVec 32 := Scalar.subi v1 c1_i32_176
  let c0_i32_177 : BitVec 32 := 0#32
  let v248 : BitVec 1 := Scalar.cmpi .sgt v246 c0_i32_177
  let v249 : BitVec 32 := Scalar.extui v248
  let c0_i32_178 : BitVec 32 := 0#32
  let v250 : BitVec 1 := Scalar.cmpi .slt v246 c0_i32_178
  let v251 : BitVec 32 := Scalar.extui v250
  let v252 : BitVec 32 := Scalar.subi v249 v251
  let c32_i32 : BitVec 32 := 32#32
  let c0_i32_179 : BitVec 32 := 0#32
  let v253 : BitVec 1 := Scalar.cmpi .sgt c32_i32 c0_i32_179
  let v254 : BitVec 32 := Scalar.extui v253
  let c0_i32_180 : BitVec 32 := 0#32
  let v255 : BitVec 1 := Scalar.cmpi .slt c32_i32 c0_i32_180
  let v256 : BitVec 32 := Scalar.extui v255
  let v257 : BitVec 32 := Scalar.subi v254 v256
  let v258 : BitVec 1 := Scalar.cmpi .ne v252 v257
  let v259 : BitVec 32 := Scalar.remsi v246 c32_i32
  let c0_i32_181 : BitVec 32 := 0#32
  let v260 : BitVec 1 := Scalar.cmpi .ne v259 c0_i32_181
  let v261 : BitVec 1 := Scalar.andi v258 v260
  let v247 : BitVec 32 := Scalar.divsi v246 c32_i32
  let c1_i32_182 : BitVec 32 := 1#32
  let v262 : BitVec 32 := Scalar.subi v247 c1_i32_182
  let v263 : BitVec 32 := Scalar.select v261 v262 v247
  let v314 : BitVec 32 := Scalar.subi v263 c0_i32_228
  let c1_i32_229 : BitVec 32 := 1#32
  let v316 : BitVec 32 := Scalar.divsi v314 c1_i32_229
  let v317 : BitVec 32 := Scalar.muli v316 c1_i32_229
  let v318 : BitVec 32 := Scalar.addi c0_i32_228 v317
  let c1_i32_231 : BitVec 32 := 1#32
  let arg9 : BitVec 32 := Scf.iv v318 c1_i32_231 k0_t2
  let c32_i32_247 : BitVec 32 := 32#32
  let v350 : BitVec 32 := Scalar.muli arg9 c32_i32_247
  let v351 : BitVec 32 := Scalar.addi c1_i32_248 v350
  let c17_i32 : BitVec 32 := 17#32
  let v2747 : BitVec 32 := Scalar.addi v351 c17_i32
  let c1_i32_1937 : BitVec 32 := 1#32
  let v2748 : BitVec 32 := Scalar.subi v1 c1_i32_1937
  let v2749 : BitVec 32 := Scalar.minsi v2747 v2748
  let c256_i32_1938 : BitVec 32 := 256#32
  let v2750 : BitVec 32 := Scalar.muli v2749 c256_i32_1938
  v2750
def k0_mult207 (i : grid0.Coords) (k0_t2 : Fin (k0_t2_loop i).trips) : BitVec 32 :=
  let c1_i32_248 : BitVec 32 := 1#32
  let c0_i32_228 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_176 : BitVec 32 := 1#32
  let v246 : BitVec 32 := Scalar.subi v1 c1_i32_176
  let c0_i32_177 : BitVec 32 := 0#32
  let v248 : BitVec 1 := Scalar.cmpi .sgt v246 c0_i32_177
  let v249 : BitVec 32 := Scalar.extui v248
  let c0_i32_178 : BitVec 32 := 0#32
  let v250 : BitVec 1 := Scalar.cmpi .slt v246 c0_i32_178
  let v251 : BitVec 32 := Scalar.extui v250
  let v252 : BitVec 32 := Scalar.subi v249 v251
  let c32_i32 : BitVec 32 := 32#32
  let c0_i32_179 : BitVec 32 := 0#32
  let v253 : BitVec 1 := Scalar.cmpi .sgt c32_i32 c0_i32_179
  let v254 : BitVec 32 := Scalar.extui v253
  let c0_i32_180 : BitVec 32 := 0#32
  let v255 : BitVec 1 := Scalar.cmpi .slt c32_i32 c0_i32_180
  let v256 : BitVec 32 := Scalar.extui v255
  let v257 : BitVec 32 := Scalar.subi v254 v256
  let v258 : BitVec 1 := Scalar.cmpi .ne v252 v257
  let v259 : BitVec 32 := Scalar.remsi v246 c32_i32
  let c0_i32_181 : BitVec 32 := 0#32
  let v260 : BitVec 1 := Scalar.cmpi .ne v259 c0_i32_181
  let v261 : BitVec 1 := Scalar.andi v258 v260
  let v247 : BitVec 32 := Scalar.divsi v246 c32_i32
  let c1_i32_182 : BitVec 32 := 1#32
  let v262 : BitVec 32 := Scalar.subi v247 c1_i32_182
  let v263 : BitVec 32 := Scalar.select v261 v262 v247
  let v314 : BitVec 32 := Scalar.subi v263 c0_i32_228
  let c1_i32_229 : BitVec 32 := 1#32
  let v316 : BitVec 32 := Scalar.divsi v314 c1_i32_229
  let v317 : BitVec 32 := Scalar.muli v316 c1_i32_229
  let v318 : BitVec 32 := Scalar.addi c0_i32_228 v317
  let c1_i32_231 : BitVec 32 := 1#32
  let arg9 : BitVec 32 := Scf.iv v318 c1_i32_231 k0_t2
  let c32_i32_247 : BitVec 32 := 32#32
  let v350 : BitVec 32 := Scalar.muli arg9 c32_i32_247
  let v351 : BitVec 32 := Scalar.addi c1_i32_248 v350
  let c17_i32_1963 : BitVec 32 := 17#32
  let v2785 : BitVec 32 := Scalar.addi v351 c17_i32_1963
  let c1_i32_1964 : BitVec 32 := 1#32
  let v2786 : BitVec 32 := Scalar.subi v1 c1_i32_1964
  let v2787 : BitVec 32 := Scalar.minsi v2785 v2786
  let c256_i32_1965 : BitVec 32 := 256#32
  let v2788 : BitVec 32 := Scalar.muli v2787 c256_i32_1965
  v2788
def k0_mult208 (i : grid0.Coords) (k0_t2 : Fin (k0_t2_loop i).trips) : BitVec 32 :=
  let c1_i32_248 : BitVec 32 := 1#32
  let c0_i32_228 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_176 : BitVec 32 := 1#32
  let v246 : BitVec 32 := Scalar.subi v1 c1_i32_176
  let c0_i32_177 : BitVec 32 := 0#32
  let v248 : BitVec 1 := Scalar.cmpi .sgt v246 c0_i32_177
  let v249 : BitVec 32 := Scalar.extui v248
  let c0_i32_178 : BitVec 32 := 0#32
  let v250 : BitVec 1 := Scalar.cmpi .slt v246 c0_i32_178
  let v251 : BitVec 32 := Scalar.extui v250
  let v252 : BitVec 32 := Scalar.subi v249 v251
  let c32_i32 : BitVec 32 := 32#32
  let c0_i32_179 : BitVec 32 := 0#32
  let v253 : BitVec 1 := Scalar.cmpi .sgt c32_i32 c0_i32_179
  let v254 : BitVec 32 := Scalar.extui v253
  let c0_i32_180 : BitVec 32 := 0#32
  let v255 : BitVec 1 := Scalar.cmpi .slt c32_i32 c0_i32_180
  let v256 : BitVec 32 := Scalar.extui v255
  let v257 : BitVec 32 := Scalar.subi v254 v256
  let v258 : BitVec 1 := Scalar.cmpi .ne v252 v257
  let v259 : BitVec 32 := Scalar.remsi v246 c32_i32
  let c0_i32_181 : BitVec 32 := 0#32
  let v260 : BitVec 1 := Scalar.cmpi .ne v259 c0_i32_181
  let v261 : BitVec 1 := Scalar.andi v258 v260
  let v247 : BitVec 32 := Scalar.divsi v246 c32_i32
  let c1_i32_182 : BitVec 32 := 1#32
  let v262 : BitVec 32 := Scalar.subi v247 c1_i32_182
  let v263 : BitVec 32 := Scalar.select v261 v262 v247
  let v314 : BitVec 32 := Scalar.subi v263 c0_i32_228
  let c1_i32_229 : BitVec 32 := 1#32
  let v316 : BitVec 32 := Scalar.divsi v314 c1_i32_229
  let v317 : BitVec 32 := Scalar.muli v316 c1_i32_229
  let v318 : BitVec 32 := Scalar.addi c0_i32_228 v317
  let c1_i32_231 : BitVec 32 := 1#32
  let arg9 : BitVec 32 := Scf.iv v318 c1_i32_231 k0_t2
  let c32_i32_247 : BitVec 32 := 32#32
  let v350 : BitVec 32 := Scalar.muli arg9 c32_i32_247
  let v351 : BitVec 32 := Scalar.addi c1_i32_248 v350
  let c17_i32_1990 : BitVec 32 := 17#32
  let v2823 : BitVec 32 := Scalar.addi v351 c17_i32_1990
  let c1_i32_1991 : BitVec 32 := 1#32
  let v2824 : BitVec 32 := Scalar.subi v1 c1_i32_1991
  let v2825 : BitVec 32 := Scalar.minsi v2823 v2824
  let c256_i32_1992 : BitVec 32 := 256#32
  let v2826 : BitVec 32 := Scalar.muli v2825 c256_i32_1992
  v2826
def k0_mult209 (i : grid0.Coords) (k0_t2 : Fin (k0_t2_loop i).trips) : BitVec 32 :=
  let c1_i32_248 : BitVec 32 := 1#32
  let c0_i32_228 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_176 : BitVec 32 := 1#32
  let v246 : BitVec 32 := Scalar.subi v1 c1_i32_176
  let c0_i32_177 : BitVec 32 := 0#32
  let v248 : BitVec 1 := Scalar.cmpi .sgt v246 c0_i32_177
  let v249 : BitVec 32 := Scalar.extui v248
  let c0_i32_178 : BitVec 32 := 0#32
  let v250 : BitVec 1 := Scalar.cmpi .slt v246 c0_i32_178
  let v251 : BitVec 32 := Scalar.extui v250
  let v252 : BitVec 32 := Scalar.subi v249 v251
  let c32_i32 : BitVec 32 := 32#32
  let c0_i32_179 : BitVec 32 := 0#32
  let v253 : BitVec 1 := Scalar.cmpi .sgt c32_i32 c0_i32_179
  let v254 : BitVec 32 := Scalar.extui v253
  let c0_i32_180 : BitVec 32 := 0#32
  let v255 : BitVec 1 := Scalar.cmpi .slt c32_i32 c0_i32_180
  let v256 : BitVec 32 := Scalar.extui v255
  let v257 : BitVec 32 := Scalar.subi v254 v256
  let v258 : BitVec 1 := Scalar.cmpi .ne v252 v257
  let v259 : BitVec 32 := Scalar.remsi v246 c32_i32
  let c0_i32_181 : BitVec 32 := 0#32
  let v260 : BitVec 1 := Scalar.cmpi .ne v259 c0_i32_181
  let v261 : BitVec 1 := Scalar.andi v258 v260
  let v247 : BitVec 32 := Scalar.divsi v246 c32_i32
  let c1_i32_182 : BitVec 32 := 1#32
  let v262 : BitVec 32 := Scalar.subi v247 c1_i32_182
  let v263 : BitVec 32 := Scalar.select v261 v262 v247
  let v314 : BitVec 32 := Scalar.subi v263 c0_i32_228
  let c1_i32_229 : BitVec 32 := 1#32
  let v316 : BitVec 32 := Scalar.divsi v314 c1_i32_229
  let v317 : BitVec 32 := Scalar.muli v316 c1_i32_229
  let v318 : BitVec 32 := Scalar.addi c0_i32_228 v317
  let c1_i32_231 : BitVec 32 := 1#32
  let arg9 : BitVec 32 := Scf.iv v318 c1_i32_231 k0_t2
  let c32_i32_247 : BitVec 32 := 32#32
  let v350 : BitVec 32 := Scalar.muli arg9 c32_i32_247
  let v351 : BitVec 32 := Scalar.addi c1_i32_248 v350
  let c17_i32_2017 : BitVec 32 := 17#32
  let v2861 : BitVec 32 := Scalar.addi v351 c17_i32_2017
  let c1_i32_2018 : BitVec 32 := 1#32
  let v2862 : BitVec 32 := Scalar.subi v1 c1_i32_2018
  let v2863 : BitVec 32 := Scalar.minsi v2861 v2862
  let c256_i32_2019 : BitVec 32 := 256#32
  let v2864 : BitVec 32 := Scalar.muli v2863 c256_i32_2019
  v2864
def k0_mult210 (i : grid0.Coords) (k0_t2 : Fin (k0_t2_loop i).trips) : BitVec 32 :=
  let c1_i32_248 : BitVec 32 := 1#32
  let c0_i32_228 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_176 : BitVec 32 := 1#32
  let v246 : BitVec 32 := Scalar.subi v1 c1_i32_176
  let c0_i32_177 : BitVec 32 := 0#32
  let v248 : BitVec 1 := Scalar.cmpi .sgt v246 c0_i32_177
  let v249 : BitVec 32 := Scalar.extui v248
  let c0_i32_178 : BitVec 32 := 0#32
  let v250 : BitVec 1 := Scalar.cmpi .slt v246 c0_i32_178
  let v251 : BitVec 32 := Scalar.extui v250
  let v252 : BitVec 32 := Scalar.subi v249 v251
  let c32_i32 : BitVec 32 := 32#32
  let c0_i32_179 : BitVec 32 := 0#32
  let v253 : BitVec 1 := Scalar.cmpi .sgt c32_i32 c0_i32_179
  let v254 : BitVec 32 := Scalar.extui v253
  let c0_i32_180 : BitVec 32 := 0#32
  let v255 : BitVec 1 := Scalar.cmpi .slt c32_i32 c0_i32_180
  let v256 : BitVec 32 := Scalar.extui v255
  let v257 : BitVec 32 := Scalar.subi v254 v256
  let v258 : BitVec 1 := Scalar.cmpi .ne v252 v257
  let v259 : BitVec 32 := Scalar.remsi v246 c32_i32
  let c0_i32_181 : BitVec 32 := 0#32
  let v260 : BitVec 1 := Scalar.cmpi .ne v259 c0_i32_181
  let v261 : BitVec 1 := Scalar.andi v258 v260
  let v247 : BitVec 32 := Scalar.divsi v246 c32_i32
  let c1_i32_182 : BitVec 32 := 1#32
  let v262 : BitVec 32 := Scalar.subi v247 c1_i32_182
  let v263 : BitVec 32 := Scalar.select v261 v262 v247
  let v314 : BitVec 32 := Scalar.subi v263 c0_i32_228
  let c1_i32_229 : BitVec 32 := 1#32
  let v316 : BitVec 32 := Scalar.divsi v314 c1_i32_229
  let v317 : BitVec 32 := Scalar.muli v316 c1_i32_229
  let v318 : BitVec 32 := Scalar.addi c0_i32_228 v317
  let c1_i32_231 : BitVec 32 := 1#32
  let arg9 : BitVec 32 := Scf.iv v318 c1_i32_231 k0_t2
  let c32_i32_247 : BitVec 32 := 32#32
  let v350 : BitVec 32 := Scalar.muli arg9 c32_i32_247
  let v351 : BitVec 32 := Scalar.addi c1_i32_248 v350
  let c18_i32 : BitVec 32 := 18#32
  let v2899 : BitVec 32 := Scalar.addi v351 c18_i32
  let c1_i32_2044 : BitVec 32 := 1#32
  let v2900 : BitVec 32 := Scalar.subi v1 c1_i32_2044
  let v2901 : BitVec 32 := Scalar.minsi v2899 v2900
  let c256_i32_2045 : BitVec 32 := 256#32
  let v2902 : BitVec 32 := Scalar.muli v2901 c256_i32_2045
  v2902
def k0_mult211 (i : grid0.Coords) (k0_t2 : Fin (k0_t2_loop i).trips) : BitVec 32 :=
  let c1_i32_248 : BitVec 32 := 1#32
  let c0_i32_228 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_176 : BitVec 32 := 1#32
  let v246 : BitVec 32 := Scalar.subi v1 c1_i32_176
  let c0_i32_177 : BitVec 32 := 0#32
  let v248 : BitVec 1 := Scalar.cmpi .sgt v246 c0_i32_177
  let v249 : BitVec 32 := Scalar.extui v248
  let c0_i32_178 : BitVec 32 := 0#32
  let v250 : BitVec 1 := Scalar.cmpi .slt v246 c0_i32_178
  let v251 : BitVec 32 := Scalar.extui v250
  let v252 : BitVec 32 := Scalar.subi v249 v251
  let c32_i32 : BitVec 32 := 32#32
  let c0_i32_179 : BitVec 32 := 0#32
  let v253 : BitVec 1 := Scalar.cmpi .sgt c32_i32 c0_i32_179
  let v254 : BitVec 32 := Scalar.extui v253
  let c0_i32_180 : BitVec 32 := 0#32
  let v255 : BitVec 1 := Scalar.cmpi .slt c32_i32 c0_i32_180
  let v256 : BitVec 32 := Scalar.extui v255
  let v257 : BitVec 32 := Scalar.subi v254 v256
  let v258 : BitVec 1 := Scalar.cmpi .ne v252 v257
  let v259 : BitVec 32 := Scalar.remsi v246 c32_i32
  let c0_i32_181 : BitVec 32 := 0#32
  let v260 : BitVec 1 := Scalar.cmpi .ne v259 c0_i32_181
  let v261 : BitVec 1 := Scalar.andi v258 v260
  let v247 : BitVec 32 := Scalar.divsi v246 c32_i32
  let c1_i32_182 : BitVec 32 := 1#32
  let v262 : BitVec 32 := Scalar.subi v247 c1_i32_182
  let v263 : BitVec 32 := Scalar.select v261 v262 v247
  let v314 : BitVec 32 := Scalar.subi v263 c0_i32_228
  let c1_i32_229 : BitVec 32 := 1#32
  let v316 : BitVec 32 := Scalar.divsi v314 c1_i32_229
  let v317 : BitVec 32 := Scalar.muli v316 c1_i32_229
  let v318 : BitVec 32 := Scalar.addi c0_i32_228 v317
  let c1_i32_231 : BitVec 32 := 1#32
  let arg9 : BitVec 32 := Scf.iv v318 c1_i32_231 k0_t2
  let c32_i32_247 : BitVec 32 := 32#32
  let v350 : BitVec 32 := Scalar.muli arg9 c32_i32_247
  let v351 : BitVec 32 := Scalar.addi c1_i32_248 v350
  let c18_i32_2070 : BitVec 32 := 18#32
  let v2937 : BitVec 32 := Scalar.addi v351 c18_i32_2070
  let c1_i32_2071 : BitVec 32 := 1#32
  let v2938 : BitVec 32 := Scalar.subi v1 c1_i32_2071
  let v2939 : BitVec 32 := Scalar.minsi v2937 v2938
  let c256_i32_2072 : BitVec 32 := 256#32
  let v2940 : BitVec 32 := Scalar.muli v2939 c256_i32_2072
  v2940
def k0_mult212 (i : grid0.Coords) (k0_t2 : Fin (k0_t2_loop i).trips) : BitVec 32 :=
  let c1_i32_248 : BitVec 32 := 1#32
  let c0_i32_228 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_176 : BitVec 32 := 1#32
  let v246 : BitVec 32 := Scalar.subi v1 c1_i32_176
  let c0_i32_177 : BitVec 32 := 0#32
  let v248 : BitVec 1 := Scalar.cmpi .sgt v246 c0_i32_177
  let v249 : BitVec 32 := Scalar.extui v248
  let c0_i32_178 : BitVec 32 := 0#32
  let v250 : BitVec 1 := Scalar.cmpi .slt v246 c0_i32_178
  let v251 : BitVec 32 := Scalar.extui v250
  let v252 : BitVec 32 := Scalar.subi v249 v251
  let c32_i32 : BitVec 32 := 32#32
  let c0_i32_179 : BitVec 32 := 0#32
  let v253 : BitVec 1 := Scalar.cmpi .sgt c32_i32 c0_i32_179
  let v254 : BitVec 32 := Scalar.extui v253
  let c0_i32_180 : BitVec 32 := 0#32
  let v255 : BitVec 1 := Scalar.cmpi .slt c32_i32 c0_i32_180
  let v256 : BitVec 32 := Scalar.extui v255
  let v257 : BitVec 32 := Scalar.subi v254 v256
  let v258 : BitVec 1 := Scalar.cmpi .ne v252 v257
  let v259 : BitVec 32 := Scalar.remsi v246 c32_i32
  let c0_i32_181 : BitVec 32 := 0#32
  let v260 : BitVec 1 := Scalar.cmpi .ne v259 c0_i32_181
  let v261 : BitVec 1 := Scalar.andi v258 v260
  let v247 : BitVec 32 := Scalar.divsi v246 c32_i32
  let c1_i32_182 : BitVec 32 := 1#32
  let v262 : BitVec 32 := Scalar.subi v247 c1_i32_182
  let v263 : BitVec 32 := Scalar.select v261 v262 v247
  let v314 : BitVec 32 := Scalar.subi v263 c0_i32_228
  let c1_i32_229 : BitVec 32 := 1#32
  let v316 : BitVec 32 := Scalar.divsi v314 c1_i32_229
  let v317 : BitVec 32 := Scalar.muli v316 c1_i32_229
  let v318 : BitVec 32 := Scalar.addi c0_i32_228 v317
  let c1_i32_231 : BitVec 32 := 1#32
  let arg9 : BitVec 32 := Scf.iv v318 c1_i32_231 k0_t2
  let c32_i32_247 : BitVec 32 := 32#32
  let v350 : BitVec 32 := Scalar.muli arg9 c32_i32_247
  let v351 : BitVec 32 := Scalar.addi c1_i32_248 v350
  let c18_i32_2097 : BitVec 32 := 18#32
  let v2975 : BitVec 32 := Scalar.addi v351 c18_i32_2097
  let c1_i32_2098 : BitVec 32 := 1#32
  let v2976 : BitVec 32 := Scalar.subi v1 c1_i32_2098
  let v2977 : BitVec 32 := Scalar.minsi v2975 v2976
  let c256_i32_2099 : BitVec 32 := 256#32
  let v2978 : BitVec 32 := Scalar.muli v2977 c256_i32_2099
  v2978
def k0_mult213 (i : grid0.Coords) (k0_t2 : Fin (k0_t2_loop i).trips) : BitVec 32 :=
  let c1_i32_248 : BitVec 32 := 1#32
  let c0_i32_228 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_176 : BitVec 32 := 1#32
  let v246 : BitVec 32 := Scalar.subi v1 c1_i32_176
  let c0_i32_177 : BitVec 32 := 0#32
  let v248 : BitVec 1 := Scalar.cmpi .sgt v246 c0_i32_177
  let v249 : BitVec 32 := Scalar.extui v248
  let c0_i32_178 : BitVec 32 := 0#32
  let v250 : BitVec 1 := Scalar.cmpi .slt v246 c0_i32_178
  let v251 : BitVec 32 := Scalar.extui v250
  let v252 : BitVec 32 := Scalar.subi v249 v251
  let c32_i32 : BitVec 32 := 32#32
  let c0_i32_179 : BitVec 32 := 0#32
  let v253 : BitVec 1 := Scalar.cmpi .sgt c32_i32 c0_i32_179
  let v254 : BitVec 32 := Scalar.extui v253
  let c0_i32_180 : BitVec 32 := 0#32
  let v255 : BitVec 1 := Scalar.cmpi .slt c32_i32 c0_i32_180
  let v256 : BitVec 32 := Scalar.extui v255
  let v257 : BitVec 32 := Scalar.subi v254 v256
  let v258 : BitVec 1 := Scalar.cmpi .ne v252 v257
  let v259 : BitVec 32 := Scalar.remsi v246 c32_i32
  let c0_i32_181 : BitVec 32 := 0#32
  let v260 : BitVec 1 := Scalar.cmpi .ne v259 c0_i32_181
  let v261 : BitVec 1 := Scalar.andi v258 v260
  let v247 : BitVec 32 := Scalar.divsi v246 c32_i32
  let c1_i32_182 : BitVec 32 := 1#32
  let v262 : BitVec 32 := Scalar.subi v247 c1_i32_182
  let v263 : BitVec 32 := Scalar.select v261 v262 v247
  let v314 : BitVec 32 := Scalar.subi v263 c0_i32_228
  let c1_i32_229 : BitVec 32 := 1#32
  let v316 : BitVec 32 := Scalar.divsi v314 c1_i32_229
  let v317 : BitVec 32 := Scalar.muli v316 c1_i32_229
  let v318 : BitVec 32 := Scalar.addi c0_i32_228 v317
  let c1_i32_231 : BitVec 32 := 1#32
  let arg9 : BitVec 32 := Scf.iv v318 c1_i32_231 k0_t2
  let c32_i32_247 : BitVec 32 := 32#32
  let v350 : BitVec 32 := Scalar.muli arg9 c32_i32_247
  let v351 : BitVec 32 := Scalar.addi c1_i32_248 v350
  let c18_i32_2124 : BitVec 32 := 18#32
  let v3013 : BitVec 32 := Scalar.addi v351 c18_i32_2124
  let c1_i32_2125 : BitVec 32 := 1#32
  let v3014 : BitVec 32 := Scalar.subi v1 c1_i32_2125
  let v3015 : BitVec 32 := Scalar.minsi v3013 v3014
  let c256_i32_2126 : BitVec 32 := 256#32
  let v3016 : BitVec 32 := Scalar.muli v3015 c256_i32_2126
  v3016
def k0_mult214 (i : grid0.Coords) (k0_t2 : Fin (k0_t2_loop i).trips) : BitVec 32 :=
  let c1_i32_248 : BitVec 32 := 1#32
  let c0_i32_228 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_176 : BitVec 32 := 1#32
  let v246 : BitVec 32 := Scalar.subi v1 c1_i32_176
  let c0_i32_177 : BitVec 32 := 0#32
  let v248 : BitVec 1 := Scalar.cmpi .sgt v246 c0_i32_177
  let v249 : BitVec 32 := Scalar.extui v248
  let c0_i32_178 : BitVec 32 := 0#32
  let v250 : BitVec 1 := Scalar.cmpi .slt v246 c0_i32_178
  let v251 : BitVec 32 := Scalar.extui v250
  let v252 : BitVec 32 := Scalar.subi v249 v251
  let c32_i32 : BitVec 32 := 32#32
  let c0_i32_179 : BitVec 32 := 0#32
  let v253 : BitVec 1 := Scalar.cmpi .sgt c32_i32 c0_i32_179
  let v254 : BitVec 32 := Scalar.extui v253
  let c0_i32_180 : BitVec 32 := 0#32
  let v255 : BitVec 1 := Scalar.cmpi .slt c32_i32 c0_i32_180
  let v256 : BitVec 32 := Scalar.extui v255
  let v257 : BitVec 32 := Scalar.subi v254 v256
  let v258 : BitVec 1 := Scalar.cmpi .ne v252 v257
  let v259 : BitVec 32 := Scalar.remsi v246 c32_i32
  let c0_i32_181 : BitVec 32 := 0#32
  let v260 : BitVec 1 := Scalar.cmpi .ne v259 c0_i32_181
  let v261 : BitVec 1 := Scalar.andi v258 v260
  let v247 : BitVec 32 := Scalar.divsi v246 c32_i32
  let c1_i32_182 : BitVec 32 := 1#32
  let v262 : BitVec 32 := Scalar.subi v247 c1_i32_182
  let v263 : BitVec 32 := Scalar.select v261 v262 v247
  let v314 : BitVec 32 := Scalar.subi v263 c0_i32_228
  let c1_i32_229 : BitVec 32 := 1#32
  let v316 : BitVec 32 := Scalar.divsi v314 c1_i32_229
  let v317 : BitVec 32 := Scalar.muli v316 c1_i32_229
  let v318 : BitVec 32 := Scalar.addi c0_i32_228 v317
  let c1_i32_231 : BitVec 32 := 1#32
  let arg9 : BitVec 32 := Scf.iv v318 c1_i32_231 k0_t2
  let c32_i32_247 : BitVec 32 := 32#32
  let v350 : BitVec 32 := Scalar.muli arg9 c32_i32_247
  let v351 : BitVec 32 := Scalar.addi c1_i32_248 v350
  let c19_i32 : BitVec 32 := 19#32
  let v3051 : BitVec 32 := Scalar.addi v351 c19_i32
  let c1_i32_2151 : BitVec 32 := 1#32
  let v3052 : BitVec 32 := Scalar.subi v1 c1_i32_2151
  let v3053 : BitVec 32 := Scalar.minsi v3051 v3052
  let c256_i32_2152 : BitVec 32 := 256#32
  let v3054 : BitVec 32 := Scalar.muli v3053 c256_i32_2152
  v3054
def k0_mult215 (i : grid0.Coords) (k0_t2 : Fin (k0_t2_loop i).trips) : BitVec 32 :=
  let c1_i32_248 : BitVec 32 := 1#32
  let c0_i32_228 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_176 : BitVec 32 := 1#32
  let v246 : BitVec 32 := Scalar.subi v1 c1_i32_176
  let c0_i32_177 : BitVec 32 := 0#32
  let v248 : BitVec 1 := Scalar.cmpi .sgt v246 c0_i32_177
  let v249 : BitVec 32 := Scalar.extui v248
  let c0_i32_178 : BitVec 32 := 0#32
  let v250 : BitVec 1 := Scalar.cmpi .slt v246 c0_i32_178
  let v251 : BitVec 32 := Scalar.extui v250
  let v252 : BitVec 32 := Scalar.subi v249 v251
  let c32_i32 : BitVec 32 := 32#32
  let c0_i32_179 : BitVec 32 := 0#32
  let v253 : BitVec 1 := Scalar.cmpi .sgt c32_i32 c0_i32_179
  let v254 : BitVec 32 := Scalar.extui v253
  let c0_i32_180 : BitVec 32 := 0#32
  let v255 : BitVec 1 := Scalar.cmpi .slt c32_i32 c0_i32_180
  let v256 : BitVec 32 := Scalar.extui v255
  let v257 : BitVec 32 := Scalar.subi v254 v256
  let v258 : BitVec 1 := Scalar.cmpi .ne v252 v257
  let v259 : BitVec 32 := Scalar.remsi v246 c32_i32
  let c0_i32_181 : BitVec 32 := 0#32
  let v260 : BitVec 1 := Scalar.cmpi .ne v259 c0_i32_181
  let v261 : BitVec 1 := Scalar.andi v258 v260
  let v247 : BitVec 32 := Scalar.divsi v246 c32_i32
  let c1_i32_182 : BitVec 32 := 1#32
  let v262 : BitVec 32 := Scalar.subi v247 c1_i32_182
  let v263 : BitVec 32 := Scalar.select v261 v262 v247
  let v314 : BitVec 32 := Scalar.subi v263 c0_i32_228
  let c1_i32_229 : BitVec 32 := 1#32
  let v316 : BitVec 32 := Scalar.divsi v314 c1_i32_229
  let v317 : BitVec 32 := Scalar.muli v316 c1_i32_229
  let v318 : BitVec 32 := Scalar.addi c0_i32_228 v317
  let c1_i32_231 : BitVec 32 := 1#32
  let arg9 : BitVec 32 := Scf.iv v318 c1_i32_231 k0_t2
  let c32_i32_247 : BitVec 32 := 32#32
  let v350 : BitVec 32 := Scalar.muli arg9 c32_i32_247
  let v351 : BitVec 32 := Scalar.addi c1_i32_248 v350
  let c19_i32_2177 : BitVec 32 := 19#32
  let v3089 : BitVec 32 := Scalar.addi v351 c19_i32_2177
  let c1_i32_2178 : BitVec 32 := 1#32
  let v3090 : BitVec 32 := Scalar.subi v1 c1_i32_2178
  let v3091 : BitVec 32 := Scalar.minsi v3089 v3090
  let c256_i32_2179 : BitVec 32 := 256#32
  let v3092 : BitVec 32 := Scalar.muli v3091 c256_i32_2179
  v3092
def k0_mult216 (i : grid0.Coords) (k0_t2 : Fin (k0_t2_loop i).trips) : BitVec 32 :=
  let c1_i32_248 : BitVec 32 := 1#32
  let c0_i32_228 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_176 : BitVec 32 := 1#32
  let v246 : BitVec 32 := Scalar.subi v1 c1_i32_176
  let c0_i32_177 : BitVec 32 := 0#32
  let v248 : BitVec 1 := Scalar.cmpi .sgt v246 c0_i32_177
  let v249 : BitVec 32 := Scalar.extui v248
  let c0_i32_178 : BitVec 32 := 0#32
  let v250 : BitVec 1 := Scalar.cmpi .slt v246 c0_i32_178
  let v251 : BitVec 32 := Scalar.extui v250
  let v252 : BitVec 32 := Scalar.subi v249 v251
  let c32_i32 : BitVec 32 := 32#32
  let c0_i32_179 : BitVec 32 := 0#32
  let v253 : BitVec 1 := Scalar.cmpi .sgt c32_i32 c0_i32_179
  let v254 : BitVec 32 := Scalar.extui v253
  let c0_i32_180 : BitVec 32 := 0#32
  let v255 : BitVec 1 := Scalar.cmpi .slt c32_i32 c0_i32_180
  let v256 : BitVec 32 := Scalar.extui v255
  let v257 : BitVec 32 := Scalar.subi v254 v256
  let v258 : BitVec 1 := Scalar.cmpi .ne v252 v257
  let v259 : BitVec 32 := Scalar.remsi v246 c32_i32
  let c0_i32_181 : BitVec 32 := 0#32
  let v260 : BitVec 1 := Scalar.cmpi .ne v259 c0_i32_181
  let v261 : BitVec 1 := Scalar.andi v258 v260
  let v247 : BitVec 32 := Scalar.divsi v246 c32_i32
  let c1_i32_182 : BitVec 32 := 1#32
  let v262 : BitVec 32 := Scalar.subi v247 c1_i32_182
  let v263 : BitVec 32 := Scalar.select v261 v262 v247
  let v314 : BitVec 32 := Scalar.subi v263 c0_i32_228
  let c1_i32_229 : BitVec 32 := 1#32
  let v316 : BitVec 32 := Scalar.divsi v314 c1_i32_229
  let v317 : BitVec 32 := Scalar.muli v316 c1_i32_229
  let v318 : BitVec 32 := Scalar.addi c0_i32_228 v317
  let c1_i32_231 : BitVec 32 := 1#32
  let arg9 : BitVec 32 := Scf.iv v318 c1_i32_231 k0_t2
  let c32_i32_247 : BitVec 32 := 32#32
  let v350 : BitVec 32 := Scalar.muli arg9 c32_i32_247
  let v351 : BitVec 32 := Scalar.addi c1_i32_248 v350
  let c19_i32_2204 : BitVec 32 := 19#32
  let v3127 : BitVec 32 := Scalar.addi v351 c19_i32_2204
  let c1_i32_2205 : BitVec 32 := 1#32
  let v3128 : BitVec 32 := Scalar.subi v1 c1_i32_2205
  let v3129 : BitVec 32 := Scalar.minsi v3127 v3128
  let c256_i32_2206 : BitVec 32 := 256#32
  let v3130 : BitVec 32 := Scalar.muli v3129 c256_i32_2206
  v3130
def k0_mult217 (i : grid0.Coords) (k0_t2 : Fin (k0_t2_loop i).trips) : BitVec 32 :=
  let c1_i32_248 : BitVec 32 := 1#32
  let c0_i32_228 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_176 : BitVec 32 := 1#32
  let v246 : BitVec 32 := Scalar.subi v1 c1_i32_176
  let c0_i32_177 : BitVec 32 := 0#32
  let v248 : BitVec 1 := Scalar.cmpi .sgt v246 c0_i32_177
  let v249 : BitVec 32 := Scalar.extui v248
  let c0_i32_178 : BitVec 32 := 0#32
  let v250 : BitVec 1 := Scalar.cmpi .slt v246 c0_i32_178
  let v251 : BitVec 32 := Scalar.extui v250
  let v252 : BitVec 32 := Scalar.subi v249 v251
  let c32_i32 : BitVec 32 := 32#32
  let c0_i32_179 : BitVec 32 := 0#32
  let v253 : BitVec 1 := Scalar.cmpi .sgt c32_i32 c0_i32_179
  let v254 : BitVec 32 := Scalar.extui v253
  let c0_i32_180 : BitVec 32 := 0#32
  let v255 : BitVec 1 := Scalar.cmpi .slt c32_i32 c0_i32_180
  let v256 : BitVec 32 := Scalar.extui v255
  let v257 : BitVec 32 := Scalar.subi v254 v256
  let v258 : BitVec 1 := Scalar.cmpi .ne v252 v257
  let v259 : BitVec 32 := Scalar.remsi v246 c32_i32
  let c0_i32_181 : BitVec 32 := 0#32
  let v260 : BitVec 1 := Scalar.cmpi .ne v259 c0_i32_181
  let v261 : BitVec 1 := Scalar.andi v258 v260
  let v247 : BitVec 32 := Scalar.divsi v246 c32_i32
  let c1_i32_182 : BitVec 32 := 1#32
  let v262 : BitVec 32 := Scalar.subi v247 c1_i32_182
  let v263 : BitVec 32 := Scalar.select v261 v262 v247
  let v314 : BitVec 32 := Scalar.subi v263 c0_i32_228
  let c1_i32_229 : BitVec 32 := 1#32
  let v316 : BitVec 32 := Scalar.divsi v314 c1_i32_229
  let v317 : BitVec 32 := Scalar.muli v316 c1_i32_229
  let v318 : BitVec 32 := Scalar.addi c0_i32_228 v317
  let c1_i32_231 : BitVec 32 := 1#32
  let arg9 : BitVec 32 := Scf.iv v318 c1_i32_231 k0_t2
  let c32_i32_247 : BitVec 32 := 32#32
  let v350 : BitVec 32 := Scalar.muli arg9 c32_i32_247
  let v351 : BitVec 32 := Scalar.addi c1_i32_248 v350
  let c19_i32_2231 : BitVec 32 := 19#32
  let v3165 : BitVec 32 := Scalar.addi v351 c19_i32_2231
  let c1_i32_2232 : BitVec 32 := 1#32
  let v3166 : BitVec 32 := Scalar.subi v1 c1_i32_2232
  let v3167 : BitVec 32 := Scalar.minsi v3165 v3166
  let c256_i32_2233 : BitVec 32 := 256#32
  let v3168 : BitVec 32 := Scalar.muli v3167 c256_i32_2233
  v3168
def k0_mult218 (i : grid0.Coords) (k0_t2 : Fin (k0_t2_loop i).trips) : BitVec 32 :=
  let c1_i32_248 : BitVec 32 := 1#32
  let c0_i32_228 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_176 : BitVec 32 := 1#32
  let v246 : BitVec 32 := Scalar.subi v1 c1_i32_176
  let c0_i32_177 : BitVec 32 := 0#32
  let v248 : BitVec 1 := Scalar.cmpi .sgt v246 c0_i32_177
  let v249 : BitVec 32 := Scalar.extui v248
  let c0_i32_178 : BitVec 32 := 0#32
  let v250 : BitVec 1 := Scalar.cmpi .slt v246 c0_i32_178
  let v251 : BitVec 32 := Scalar.extui v250
  let v252 : BitVec 32 := Scalar.subi v249 v251
  let c32_i32 : BitVec 32 := 32#32
  let c0_i32_179 : BitVec 32 := 0#32
  let v253 : BitVec 1 := Scalar.cmpi .sgt c32_i32 c0_i32_179
  let v254 : BitVec 32 := Scalar.extui v253
  let c0_i32_180 : BitVec 32 := 0#32
  let v255 : BitVec 1 := Scalar.cmpi .slt c32_i32 c0_i32_180
  let v256 : BitVec 32 := Scalar.extui v255
  let v257 : BitVec 32 := Scalar.subi v254 v256
  let v258 : BitVec 1 := Scalar.cmpi .ne v252 v257
  let v259 : BitVec 32 := Scalar.remsi v246 c32_i32
  let c0_i32_181 : BitVec 32 := 0#32
  let v260 : BitVec 1 := Scalar.cmpi .ne v259 c0_i32_181
  let v261 : BitVec 1 := Scalar.andi v258 v260
  let v247 : BitVec 32 := Scalar.divsi v246 c32_i32
  let c1_i32_182 : BitVec 32 := 1#32
  let v262 : BitVec 32 := Scalar.subi v247 c1_i32_182
  let v263 : BitVec 32 := Scalar.select v261 v262 v247
  let v314 : BitVec 32 := Scalar.subi v263 c0_i32_228
  let c1_i32_229 : BitVec 32 := 1#32
  let v316 : BitVec 32 := Scalar.divsi v314 c1_i32_229
  let v317 : BitVec 32 := Scalar.muli v316 c1_i32_229
  let v318 : BitVec 32 := Scalar.addi c0_i32_228 v317
  let c1_i32_231 : BitVec 32 := 1#32
  let arg9 : BitVec 32 := Scf.iv v318 c1_i32_231 k0_t2
  let c32_i32_247 : BitVec 32 := 32#32
  let v350 : BitVec 32 := Scalar.muli arg9 c32_i32_247
  let v351 : BitVec 32 := Scalar.addi c1_i32_248 v350
  let c20_i32 : BitVec 32 := 20#32
  let v3203 : BitVec 32 := Scalar.addi v351 c20_i32
  let c1_i32_2258 : BitVec 32 := 1#32
  let v3204 : BitVec 32 := Scalar.subi v1 c1_i32_2258
  let v3205 : BitVec 32 := Scalar.minsi v3203 v3204
  let c256_i32_2259 : BitVec 32 := 256#32
  let v3206 : BitVec 32 := Scalar.muli v3205 c256_i32_2259
  v3206
def k0_mult219 (i : grid0.Coords) (k0_t2 : Fin (k0_t2_loop i).trips) : BitVec 32 :=
  let c1_i32_248 : BitVec 32 := 1#32
  let c0_i32_228 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_176 : BitVec 32 := 1#32
  let v246 : BitVec 32 := Scalar.subi v1 c1_i32_176
  let c0_i32_177 : BitVec 32 := 0#32
  let v248 : BitVec 1 := Scalar.cmpi .sgt v246 c0_i32_177
  let v249 : BitVec 32 := Scalar.extui v248
  let c0_i32_178 : BitVec 32 := 0#32
  let v250 : BitVec 1 := Scalar.cmpi .slt v246 c0_i32_178
  let v251 : BitVec 32 := Scalar.extui v250
  let v252 : BitVec 32 := Scalar.subi v249 v251
  let c32_i32 : BitVec 32 := 32#32
  let c0_i32_179 : BitVec 32 := 0#32
  let v253 : BitVec 1 := Scalar.cmpi .sgt c32_i32 c0_i32_179
  let v254 : BitVec 32 := Scalar.extui v253
  let c0_i32_180 : BitVec 32 := 0#32
  let v255 : BitVec 1 := Scalar.cmpi .slt c32_i32 c0_i32_180
  let v256 : BitVec 32 := Scalar.extui v255
  let v257 : BitVec 32 := Scalar.subi v254 v256
  let v258 : BitVec 1 := Scalar.cmpi .ne v252 v257
  let v259 : BitVec 32 := Scalar.remsi v246 c32_i32
  let c0_i32_181 : BitVec 32 := 0#32
  let v260 : BitVec 1 := Scalar.cmpi .ne v259 c0_i32_181
  let v261 : BitVec 1 := Scalar.andi v258 v260
  let v247 : BitVec 32 := Scalar.divsi v246 c32_i32
  let c1_i32_182 : BitVec 32 := 1#32
  let v262 : BitVec 32 := Scalar.subi v247 c1_i32_182
  let v263 : BitVec 32 := Scalar.select v261 v262 v247
  let v314 : BitVec 32 := Scalar.subi v263 c0_i32_228
  let c1_i32_229 : BitVec 32 := 1#32
  let v316 : BitVec 32 := Scalar.divsi v314 c1_i32_229
  let v317 : BitVec 32 := Scalar.muli v316 c1_i32_229
  let v318 : BitVec 32 := Scalar.addi c0_i32_228 v317
  let c1_i32_231 : BitVec 32 := 1#32
  let arg9 : BitVec 32 := Scf.iv v318 c1_i32_231 k0_t2
  let c32_i32_247 : BitVec 32 := 32#32
  let v350 : BitVec 32 := Scalar.muli arg9 c32_i32_247
  let v351 : BitVec 32 := Scalar.addi c1_i32_248 v350
  let c20_i32_2284 : BitVec 32 := 20#32
  let v3241 : BitVec 32 := Scalar.addi v351 c20_i32_2284
  let c1_i32_2285 : BitVec 32 := 1#32
  let v3242 : BitVec 32 := Scalar.subi v1 c1_i32_2285
  let v3243 : BitVec 32 := Scalar.minsi v3241 v3242
  let c256_i32_2286 : BitVec 32 := 256#32
  let v3244 : BitVec 32 := Scalar.muli v3243 c256_i32_2286
  v3244
def k0_mult220 (i : grid0.Coords) (k0_t2 : Fin (k0_t2_loop i).trips) : BitVec 32 :=
  let c1_i32_248 : BitVec 32 := 1#32
  let c0_i32_228 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_176 : BitVec 32 := 1#32
  let v246 : BitVec 32 := Scalar.subi v1 c1_i32_176
  let c0_i32_177 : BitVec 32 := 0#32
  let v248 : BitVec 1 := Scalar.cmpi .sgt v246 c0_i32_177
  let v249 : BitVec 32 := Scalar.extui v248
  let c0_i32_178 : BitVec 32 := 0#32
  let v250 : BitVec 1 := Scalar.cmpi .slt v246 c0_i32_178
  let v251 : BitVec 32 := Scalar.extui v250
  let v252 : BitVec 32 := Scalar.subi v249 v251
  let c32_i32 : BitVec 32 := 32#32
  let c0_i32_179 : BitVec 32 := 0#32
  let v253 : BitVec 1 := Scalar.cmpi .sgt c32_i32 c0_i32_179
  let v254 : BitVec 32 := Scalar.extui v253
  let c0_i32_180 : BitVec 32 := 0#32
  let v255 : BitVec 1 := Scalar.cmpi .slt c32_i32 c0_i32_180
  let v256 : BitVec 32 := Scalar.extui v255
  let v257 : BitVec 32 := Scalar.subi v254 v256
  let v258 : BitVec 1 := Scalar.cmpi .ne v252 v257
  let v259 : BitVec 32 := Scalar.remsi v246 c32_i32
  let c0_i32_181 : BitVec 32 := 0#32
  let v260 : BitVec 1 := Scalar.cmpi .ne v259 c0_i32_181
  let v261 : BitVec 1 := Scalar.andi v258 v260
  let v247 : BitVec 32 := Scalar.divsi v246 c32_i32
  let c1_i32_182 : BitVec 32 := 1#32
  let v262 : BitVec 32 := Scalar.subi v247 c1_i32_182
  let v263 : BitVec 32 := Scalar.select v261 v262 v247
  let v314 : BitVec 32 := Scalar.subi v263 c0_i32_228
  let c1_i32_229 : BitVec 32 := 1#32
  let v316 : BitVec 32 := Scalar.divsi v314 c1_i32_229
  let v317 : BitVec 32 := Scalar.muli v316 c1_i32_229
  let v318 : BitVec 32 := Scalar.addi c0_i32_228 v317
  let c1_i32_231 : BitVec 32 := 1#32
  let arg9 : BitVec 32 := Scf.iv v318 c1_i32_231 k0_t2
  let c32_i32_247 : BitVec 32 := 32#32
  let v350 : BitVec 32 := Scalar.muli arg9 c32_i32_247
  let v351 : BitVec 32 := Scalar.addi c1_i32_248 v350
  let c20_i32_2311 : BitVec 32 := 20#32
  let v3279 : BitVec 32 := Scalar.addi v351 c20_i32_2311
  let c1_i32_2312 : BitVec 32 := 1#32
  let v3280 : BitVec 32 := Scalar.subi v1 c1_i32_2312
  let v3281 : BitVec 32 := Scalar.minsi v3279 v3280
  let c256_i32_2313 : BitVec 32 := 256#32
  let v3282 : BitVec 32 := Scalar.muli v3281 c256_i32_2313
  v3282
def k0_mult221 (i : grid0.Coords) (k0_t2 : Fin (k0_t2_loop i).trips) : BitVec 32 :=
  let c1_i32_248 : BitVec 32 := 1#32
  let c0_i32_228 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_176 : BitVec 32 := 1#32
  let v246 : BitVec 32 := Scalar.subi v1 c1_i32_176
  let c0_i32_177 : BitVec 32 := 0#32
  let v248 : BitVec 1 := Scalar.cmpi .sgt v246 c0_i32_177
  let v249 : BitVec 32 := Scalar.extui v248
  let c0_i32_178 : BitVec 32 := 0#32
  let v250 : BitVec 1 := Scalar.cmpi .slt v246 c0_i32_178
  let v251 : BitVec 32 := Scalar.extui v250
  let v252 : BitVec 32 := Scalar.subi v249 v251
  let c32_i32 : BitVec 32 := 32#32
  let c0_i32_179 : BitVec 32 := 0#32
  let v253 : BitVec 1 := Scalar.cmpi .sgt c32_i32 c0_i32_179
  let v254 : BitVec 32 := Scalar.extui v253
  let c0_i32_180 : BitVec 32 := 0#32
  let v255 : BitVec 1 := Scalar.cmpi .slt c32_i32 c0_i32_180
  let v256 : BitVec 32 := Scalar.extui v255
  let v257 : BitVec 32 := Scalar.subi v254 v256
  let v258 : BitVec 1 := Scalar.cmpi .ne v252 v257
  let v259 : BitVec 32 := Scalar.remsi v246 c32_i32
  let c0_i32_181 : BitVec 32 := 0#32
  let v260 : BitVec 1 := Scalar.cmpi .ne v259 c0_i32_181
  let v261 : BitVec 1 := Scalar.andi v258 v260
  let v247 : BitVec 32 := Scalar.divsi v246 c32_i32
  let c1_i32_182 : BitVec 32 := 1#32
  let v262 : BitVec 32 := Scalar.subi v247 c1_i32_182
  let v263 : BitVec 32 := Scalar.select v261 v262 v247
  let v314 : BitVec 32 := Scalar.subi v263 c0_i32_228
  let c1_i32_229 : BitVec 32 := 1#32
  let v316 : BitVec 32 := Scalar.divsi v314 c1_i32_229
  let v317 : BitVec 32 := Scalar.muli v316 c1_i32_229
  let v318 : BitVec 32 := Scalar.addi c0_i32_228 v317
  let c1_i32_231 : BitVec 32 := 1#32
  let arg9 : BitVec 32 := Scf.iv v318 c1_i32_231 k0_t2
  let c32_i32_247 : BitVec 32 := 32#32
  let v350 : BitVec 32 := Scalar.muli arg9 c32_i32_247
  let v351 : BitVec 32 := Scalar.addi c1_i32_248 v350
  let c20_i32_2338 : BitVec 32 := 20#32
  let v3317 : BitVec 32 := Scalar.addi v351 c20_i32_2338
  let c1_i32_2339 : BitVec 32 := 1#32
  let v3318 : BitVec 32 := Scalar.subi v1 c1_i32_2339
  let v3319 : BitVec 32 := Scalar.minsi v3317 v3318
  let c256_i32_2340 : BitVec 32 := 256#32
  let v3320 : BitVec 32 := Scalar.muli v3319 c256_i32_2340
  v3320
def k0_mult222 (i : grid0.Coords) (k0_t2 : Fin (k0_t2_loop i).trips) : BitVec 32 :=
  let c1_i32_248 : BitVec 32 := 1#32
  let c0_i32_228 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_176 : BitVec 32 := 1#32
  let v246 : BitVec 32 := Scalar.subi v1 c1_i32_176
  let c0_i32_177 : BitVec 32 := 0#32
  let v248 : BitVec 1 := Scalar.cmpi .sgt v246 c0_i32_177
  let v249 : BitVec 32 := Scalar.extui v248
  let c0_i32_178 : BitVec 32 := 0#32
  let v250 : BitVec 1 := Scalar.cmpi .slt v246 c0_i32_178
  let v251 : BitVec 32 := Scalar.extui v250
  let v252 : BitVec 32 := Scalar.subi v249 v251
  let c32_i32 : BitVec 32 := 32#32
  let c0_i32_179 : BitVec 32 := 0#32
  let v253 : BitVec 1 := Scalar.cmpi .sgt c32_i32 c0_i32_179
  let v254 : BitVec 32 := Scalar.extui v253
  let c0_i32_180 : BitVec 32 := 0#32
  let v255 : BitVec 1 := Scalar.cmpi .slt c32_i32 c0_i32_180
  let v256 : BitVec 32 := Scalar.extui v255
  let v257 : BitVec 32 := Scalar.subi v254 v256
  let v258 : BitVec 1 := Scalar.cmpi .ne v252 v257
  let v259 : BitVec 32 := Scalar.remsi v246 c32_i32
  let c0_i32_181 : BitVec 32 := 0#32
  let v260 : BitVec 1 := Scalar.cmpi .ne v259 c0_i32_181
  let v261 : BitVec 1 := Scalar.andi v258 v260
  let v247 : BitVec 32 := Scalar.divsi v246 c32_i32
  let c1_i32_182 : BitVec 32 := 1#32
  let v262 : BitVec 32 := Scalar.subi v247 c1_i32_182
  let v263 : BitVec 32 := Scalar.select v261 v262 v247
  let v314 : BitVec 32 := Scalar.subi v263 c0_i32_228
  let c1_i32_229 : BitVec 32 := 1#32
  let v316 : BitVec 32 := Scalar.divsi v314 c1_i32_229
  let v317 : BitVec 32 := Scalar.muli v316 c1_i32_229
  let v318 : BitVec 32 := Scalar.addi c0_i32_228 v317
  let c1_i32_231 : BitVec 32 := 1#32
  let arg9 : BitVec 32 := Scf.iv v318 c1_i32_231 k0_t2
  let c32_i32_247 : BitVec 32 := 32#32
  let v350 : BitVec 32 := Scalar.muli arg9 c32_i32_247
  let v351 : BitVec 32 := Scalar.addi c1_i32_248 v350
  let c21_i32 : BitVec 32 := 21#32
  let v3355 : BitVec 32 := Scalar.addi v351 c21_i32
  let c1_i32_2365 : BitVec 32 := 1#32
  let v3356 : BitVec 32 := Scalar.subi v1 c1_i32_2365
  let v3357 : BitVec 32 := Scalar.minsi v3355 v3356
  let c256_i32_2366 : BitVec 32 := 256#32
  let v3358 : BitVec 32 := Scalar.muli v3357 c256_i32_2366
  v3358
def k0_mult223 (i : grid0.Coords) (k0_t2 : Fin (k0_t2_loop i).trips) : BitVec 32 :=
  let c1_i32_248 : BitVec 32 := 1#32
  let c0_i32_228 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_176 : BitVec 32 := 1#32
  let v246 : BitVec 32 := Scalar.subi v1 c1_i32_176
  let c0_i32_177 : BitVec 32 := 0#32
  let v248 : BitVec 1 := Scalar.cmpi .sgt v246 c0_i32_177
  let v249 : BitVec 32 := Scalar.extui v248
  let c0_i32_178 : BitVec 32 := 0#32
  let v250 : BitVec 1 := Scalar.cmpi .slt v246 c0_i32_178
  let v251 : BitVec 32 := Scalar.extui v250
  let v252 : BitVec 32 := Scalar.subi v249 v251
  let c32_i32 : BitVec 32 := 32#32
  let c0_i32_179 : BitVec 32 := 0#32
  let v253 : BitVec 1 := Scalar.cmpi .sgt c32_i32 c0_i32_179
  let v254 : BitVec 32 := Scalar.extui v253
  let c0_i32_180 : BitVec 32 := 0#32
  let v255 : BitVec 1 := Scalar.cmpi .slt c32_i32 c0_i32_180
  let v256 : BitVec 32 := Scalar.extui v255
  let v257 : BitVec 32 := Scalar.subi v254 v256
  let v258 : BitVec 1 := Scalar.cmpi .ne v252 v257
  let v259 : BitVec 32 := Scalar.remsi v246 c32_i32
  let c0_i32_181 : BitVec 32 := 0#32
  let v260 : BitVec 1 := Scalar.cmpi .ne v259 c0_i32_181
  let v261 : BitVec 1 := Scalar.andi v258 v260
  let v247 : BitVec 32 := Scalar.divsi v246 c32_i32
  let c1_i32_182 : BitVec 32 := 1#32
  let v262 : BitVec 32 := Scalar.subi v247 c1_i32_182
  let v263 : BitVec 32 := Scalar.select v261 v262 v247
  let v314 : BitVec 32 := Scalar.subi v263 c0_i32_228
  let c1_i32_229 : BitVec 32 := 1#32
  let v316 : BitVec 32 := Scalar.divsi v314 c1_i32_229
  let v317 : BitVec 32 := Scalar.muli v316 c1_i32_229
  let v318 : BitVec 32 := Scalar.addi c0_i32_228 v317
  let c1_i32_231 : BitVec 32 := 1#32
  let arg9 : BitVec 32 := Scf.iv v318 c1_i32_231 k0_t2
  let c32_i32_247 : BitVec 32 := 32#32
  let v350 : BitVec 32 := Scalar.muli arg9 c32_i32_247
  let v351 : BitVec 32 := Scalar.addi c1_i32_248 v350
  let c21_i32_2391 : BitVec 32 := 21#32
  let v3393 : BitVec 32 := Scalar.addi v351 c21_i32_2391
  let c1_i32_2392 : BitVec 32 := 1#32
  let v3394 : BitVec 32 := Scalar.subi v1 c1_i32_2392
  let v3395 : BitVec 32 := Scalar.minsi v3393 v3394
  let c256_i32_2393 : BitVec 32 := 256#32
  let v3396 : BitVec 32 := Scalar.muli v3395 c256_i32_2393
  v3396
def k0_mult224 (i : grid0.Coords) (k0_t2 : Fin (k0_t2_loop i).trips) : BitVec 32 :=
  let c1_i32_248 : BitVec 32 := 1#32
  let c0_i32_228 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_176 : BitVec 32 := 1#32
  let v246 : BitVec 32 := Scalar.subi v1 c1_i32_176
  let c0_i32_177 : BitVec 32 := 0#32
  let v248 : BitVec 1 := Scalar.cmpi .sgt v246 c0_i32_177
  let v249 : BitVec 32 := Scalar.extui v248
  let c0_i32_178 : BitVec 32 := 0#32
  let v250 : BitVec 1 := Scalar.cmpi .slt v246 c0_i32_178
  let v251 : BitVec 32 := Scalar.extui v250
  let v252 : BitVec 32 := Scalar.subi v249 v251
  let c32_i32 : BitVec 32 := 32#32
  let c0_i32_179 : BitVec 32 := 0#32
  let v253 : BitVec 1 := Scalar.cmpi .sgt c32_i32 c0_i32_179
  let v254 : BitVec 32 := Scalar.extui v253
  let c0_i32_180 : BitVec 32 := 0#32
  let v255 : BitVec 1 := Scalar.cmpi .slt c32_i32 c0_i32_180
  let v256 : BitVec 32 := Scalar.extui v255
  let v257 : BitVec 32 := Scalar.subi v254 v256
  let v258 : BitVec 1 := Scalar.cmpi .ne v252 v257
  let v259 : BitVec 32 := Scalar.remsi v246 c32_i32
  let c0_i32_181 : BitVec 32 := 0#32
  let v260 : BitVec 1 := Scalar.cmpi .ne v259 c0_i32_181
  let v261 : BitVec 1 := Scalar.andi v258 v260
  let v247 : BitVec 32 := Scalar.divsi v246 c32_i32
  let c1_i32_182 : BitVec 32 := 1#32
  let v262 : BitVec 32 := Scalar.subi v247 c1_i32_182
  let v263 : BitVec 32 := Scalar.select v261 v262 v247
  let v314 : BitVec 32 := Scalar.subi v263 c0_i32_228
  let c1_i32_229 : BitVec 32 := 1#32
  let v316 : BitVec 32 := Scalar.divsi v314 c1_i32_229
  let v317 : BitVec 32 := Scalar.muli v316 c1_i32_229
  let v318 : BitVec 32 := Scalar.addi c0_i32_228 v317
  let c1_i32_231 : BitVec 32 := 1#32
  let arg9 : BitVec 32 := Scf.iv v318 c1_i32_231 k0_t2
  let c32_i32_247 : BitVec 32 := 32#32
  let v350 : BitVec 32 := Scalar.muli arg9 c32_i32_247
  let v351 : BitVec 32 := Scalar.addi c1_i32_248 v350
  let c21_i32_2418 : BitVec 32 := 21#32
  let v3431 : BitVec 32 := Scalar.addi v351 c21_i32_2418
  let c1_i32_2419 : BitVec 32 := 1#32
  let v3432 : BitVec 32 := Scalar.subi v1 c1_i32_2419
  let v3433 : BitVec 32 := Scalar.minsi v3431 v3432
  let c256_i32_2420 : BitVec 32 := 256#32
  let v3434 : BitVec 32 := Scalar.muli v3433 c256_i32_2420
  v3434
def k0_mult225 (i : grid0.Coords) (k0_t2 : Fin (k0_t2_loop i).trips) : BitVec 32 :=
  let c1_i32_248 : BitVec 32 := 1#32
  let c0_i32_228 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_176 : BitVec 32 := 1#32
  let v246 : BitVec 32 := Scalar.subi v1 c1_i32_176
  let c0_i32_177 : BitVec 32 := 0#32
  let v248 : BitVec 1 := Scalar.cmpi .sgt v246 c0_i32_177
  let v249 : BitVec 32 := Scalar.extui v248
  let c0_i32_178 : BitVec 32 := 0#32
  let v250 : BitVec 1 := Scalar.cmpi .slt v246 c0_i32_178
  let v251 : BitVec 32 := Scalar.extui v250
  let v252 : BitVec 32 := Scalar.subi v249 v251
  let c32_i32 : BitVec 32 := 32#32
  let c0_i32_179 : BitVec 32 := 0#32
  let v253 : BitVec 1 := Scalar.cmpi .sgt c32_i32 c0_i32_179
  let v254 : BitVec 32 := Scalar.extui v253
  let c0_i32_180 : BitVec 32 := 0#32
  let v255 : BitVec 1 := Scalar.cmpi .slt c32_i32 c0_i32_180
  let v256 : BitVec 32 := Scalar.extui v255
  let v257 : BitVec 32 := Scalar.subi v254 v256
  let v258 : BitVec 1 := Scalar.cmpi .ne v252 v257
  let v259 : BitVec 32 := Scalar.remsi v246 c32_i32
  let c0_i32_181 : BitVec 32 := 0#32
  let v260 : BitVec 1 := Scalar.cmpi .ne v259 c0_i32_181
  let v261 : BitVec 1 := Scalar.andi v258 v260
  let v247 : BitVec 32 := Scalar.divsi v246 c32_i32
  let c1_i32_182 : BitVec 32 := 1#32
  let v262 : BitVec 32 := Scalar.subi v247 c1_i32_182
  let v263 : BitVec 32 := Scalar.select v261 v262 v247
  let v314 : BitVec 32 := Scalar.subi v263 c0_i32_228
  let c1_i32_229 : BitVec 32 := 1#32
  let v316 : BitVec 32 := Scalar.divsi v314 c1_i32_229
  let v317 : BitVec 32 := Scalar.muli v316 c1_i32_229
  let v318 : BitVec 32 := Scalar.addi c0_i32_228 v317
  let c1_i32_231 : BitVec 32 := 1#32
  let arg9 : BitVec 32 := Scf.iv v318 c1_i32_231 k0_t2
  let c32_i32_247 : BitVec 32 := 32#32
  let v350 : BitVec 32 := Scalar.muli arg9 c32_i32_247
  let v351 : BitVec 32 := Scalar.addi c1_i32_248 v350
  let c21_i32_2445 : BitVec 32 := 21#32
  let v3469 : BitVec 32 := Scalar.addi v351 c21_i32_2445
  let c1_i32_2446 : BitVec 32 := 1#32
  let v3470 : BitVec 32 := Scalar.subi v1 c1_i32_2446
  let v3471 : BitVec 32 := Scalar.minsi v3469 v3470
  let c256_i32_2447 : BitVec 32 := 256#32
  let v3472 : BitVec 32 := Scalar.muli v3471 c256_i32_2447
  v3472
def k0_mult226 (i : grid0.Coords) (k0_t2 : Fin (k0_t2_loop i).trips) : BitVec 32 :=
  let c1_i32_248 : BitVec 32 := 1#32
  let c0_i32_228 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_176 : BitVec 32 := 1#32
  let v246 : BitVec 32 := Scalar.subi v1 c1_i32_176
  let c0_i32_177 : BitVec 32 := 0#32
  let v248 : BitVec 1 := Scalar.cmpi .sgt v246 c0_i32_177
  let v249 : BitVec 32 := Scalar.extui v248
  let c0_i32_178 : BitVec 32 := 0#32
  let v250 : BitVec 1 := Scalar.cmpi .slt v246 c0_i32_178
  let v251 : BitVec 32 := Scalar.extui v250
  let v252 : BitVec 32 := Scalar.subi v249 v251
  let c32_i32 : BitVec 32 := 32#32
  let c0_i32_179 : BitVec 32 := 0#32
  let v253 : BitVec 1 := Scalar.cmpi .sgt c32_i32 c0_i32_179
  let v254 : BitVec 32 := Scalar.extui v253
  let c0_i32_180 : BitVec 32 := 0#32
  let v255 : BitVec 1 := Scalar.cmpi .slt c32_i32 c0_i32_180
  let v256 : BitVec 32 := Scalar.extui v255
  let v257 : BitVec 32 := Scalar.subi v254 v256
  let v258 : BitVec 1 := Scalar.cmpi .ne v252 v257
  let v259 : BitVec 32 := Scalar.remsi v246 c32_i32
  let c0_i32_181 : BitVec 32 := 0#32
  let v260 : BitVec 1 := Scalar.cmpi .ne v259 c0_i32_181
  let v261 : BitVec 1 := Scalar.andi v258 v260
  let v247 : BitVec 32 := Scalar.divsi v246 c32_i32
  let c1_i32_182 : BitVec 32 := 1#32
  let v262 : BitVec 32 := Scalar.subi v247 c1_i32_182
  let v263 : BitVec 32 := Scalar.select v261 v262 v247
  let v314 : BitVec 32 := Scalar.subi v263 c0_i32_228
  let c1_i32_229 : BitVec 32 := 1#32
  let v316 : BitVec 32 := Scalar.divsi v314 c1_i32_229
  let v317 : BitVec 32 := Scalar.muli v316 c1_i32_229
  let v318 : BitVec 32 := Scalar.addi c0_i32_228 v317
  let c1_i32_231 : BitVec 32 := 1#32
  let arg9 : BitVec 32 := Scf.iv v318 c1_i32_231 k0_t2
  let c32_i32_247 : BitVec 32 := 32#32
  let v350 : BitVec 32 := Scalar.muli arg9 c32_i32_247
  let v351 : BitVec 32 := Scalar.addi c1_i32_248 v350
  let c22_i32 : BitVec 32 := 22#32
  let v3507 : BitVec 32 := Scalar.addi v351 c22_i32
  let c1_i32_2472 : BitVec 32 := 1#32
  let v3508 : BitVec 32 := Scalar.subi v1 c1_i32_2472
  let v3509 : BitVec 32 := Scalar.minsi v3507 v3508
  let c256_i32_2473 : BitVec 32 := 256#32
  let v3510 : BitVec 32 := Scalar.muli v3509 c256_i32_2473
  v3510
def k0_mult227 (i : grid0.Coords) (k0_t2 : Fin (k0_t2_loop i).trips) : BitVec 32 :=
  let c1_i32_248 : BitVec 32 := 1#32
  let c0_i32_228 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_176 : BitVec 32 := 1#32
  let v246 : BitVec 32 := Scalar.subi v1 c1_i32_176
  let c0_i32_177 : BitVec 32 := 0#32
  let v248 : BitVec 1 := Scalar.cmpi .sgt v246 c0_i32_177
  let v249 : BitVec 32 := Scalar.extui v248
  let c0_i32_178 : BitVec 32 := 0#32
  let v250 : BitVec 1 := Scalar.cmpi .slt v246 c0_i32_178
  let v251 : BitVec 32 := Scalar.extui v250
  let v252 : BitVec 32 := Scalar.subi v249 v251
  let c32_i32 : BitVec 32 := 32#32
  let c0_i32_179 : BitVec 32 := 0#32
  let v253 : BitVec 1 := Scalar.cmpi .sgt c32_i32 c0_i32_179
  let v254 : BitVec 32 := Scalar.extui v253
  let c0_i32_180 : BitVec 32 := 0#32
  let v255 : BitVec 1 := Scalar.cmpi .slt c32_i32 c0_i32_180
  let v256 : BitVec 32 := Scalar.extui v255
  let v257 : BitVec 32 := Scalar.subi v254 v256
  let v258 : BitVec 1 := Scalar.cmpi .ne v252 v257
  let v259 : BitVec 32 := Scalar.remsi v246 c32_i32
  let c0_i32_181 : BitVec 32 := 0#32
  let v260 : BitVec 1 := Scalar.cmpi .ne v259 c0_i32_181
  let v261 : BitVec 1 := Scalar.andi v258 v260
  let v247 : BitVec 32 := Scalar.divsi v246 c32_i32
  let c1_i32_182 : BitVec 32 := 1#32
  let v262 : BitVec 32 := Scalar.subi v247 c1_i32_182
  let v263 : BitVec 32 := Scalar.select v261 v262 v247
  let v314 : BitVec 32 := Scalar.subi v263 c0_i32_228
  let c1_i32_229 : BitVec 32 := 1#32
  let v316 : BitVec 32 := Scalar.divsi v314 c1_i32_229
  let v317 : BitVec 32 := Scalar.muli v316 c1_i32_229
  let v318 : BitVec 32 := Scalar.addi c0_i32_228 v317
  let c1_i32_231 : BitVec 32 := 1#32
  let arg9 : BitVec 32 := Scf.iv v318 c1_i32_231 k0_t2
  let c32_i32_247 : BitVec 32 := 32#32
  let v350 : BitVec 32 := Scalar.muli arg9 c32_i32_247
  let v351 : BitVec 32 := Scalar.addi c1_i32_248 v350
  let c22_i32_2498 : BitVec 32 := 22#32
  let v3545 : BitVec 32 := Scalar.addi v351 c22_i32_2498
  let c1_i32_2499 : BitVec 32 := 1#32
  let v3546 : BitVec 32 := Scalar.subi v1 c1_i32_2499
  let v3547 : BitVec 32 := Scalar.minsi v3545 v3546
  let c256_i32_2500 : BitVec 32 := 256#32
  let v3548 : BitVec 32 := Scalar.muli v3547 c256_i32_2500
  v3548
def k0_mult228 (i : grid0.Coords) (k0_t2 : Fin (k0_t2_loop i).trips) : BitVec 32 :=
  let c1_i32_248 : BitVec 32 := 1#32
  let c0_i32_228 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_176 : BitVec 32 := 1#32
  let v246 : BitVec 32 := Scalar.subi v1 c1_i32_176
  let c0_i32_177 : BitVec 32 := 0#32
  let v248 : BitVec 1 := Scalar.cmpi .sgt v246 c0_i32_177
  let v249 : BitVec 32 := Scalar.extui v248
  let c0_i32_178 : BitVec 32 := 0#32
  let v250 : BitVec 1 := Scalar.cmpi .slt v246 c0_i32_178
  let v251 : BitVec 32 := Scalar.extui v250
  let v252 : BitVec 32 := Scalar.subi v249 v251
  let c32_i32 : BitVec 32 := 32#32
  let c0_i32_179 : BitVec 32 := 0#32
  let v253 : BitVec 1 := Scalar.cmpi .sgt c32_i32 c0_i32_179
  let v254 : BitVec 32 := Scalar.extui v253
  let c0_i32_180 : BitVec 32 := 0#32
  let v255 : BitVec 1 := Scalar.cmpi .slt c32_i32 c0_i32_180
  let v256 : BitVec 32 := Scalar.extui v255
  let v257 : BitVec 32 := Scalar.subi v254 v256
  let v258 : BitVec 1 := Scalar.cmpi .ne v252 v257
  let v259 : BitVec 32 := Scalar.remsi v246 c32_i32
  let c0_i32_181 : BitVec 32 := 0#32
  let v260 : BitVec 1 := Scalar.cmpi .ne v259 c0_i32_181
  let v261 : BitVec 1 := Scalar.andi v258 v260
  let v247 : BitVec 32 := Scalar.divsi v246 c32_i32
  let c1_i32_182 : BitVec 32 := 1#32
  let v262 : BitVec 32 := Scalar.subi v247 c1_i32_182
  let v263 : BitVec 32 := Scalar.select v261 v262 v247
  let v314 : BitVec 32 := Scalar.subi v263 c0_i32_228
  let c1_i32_229 : BitVec 32 := 1#32
  let v316 : BitVec 32 := Scalar.divsi v314 c1_i32_229
  let v317 : BitVec 32 := Scalar.muli v316 c1_i32_229
  let v318 : BitVec 32 := Scalar.addi c0_i32_228 v317
  let c1_i32_231 : BitVec 32 := 1#32
  let arg9 : BitVec 32 := Scf.iv v318 c1_i32_231 k0_t2
  let c32_i32_247 : BitVec 32 := 32#32
  let v350 : BitVec 32 := Scalar.muli arg9 c32_i32_247
  let v351 : BitVec 32 := Scalar.addi c1_i32_248 v350
  let c22_i32_2525 : BitVec 32 := 22#32
  let v3583 : BitVec 32 := Scalar.addi v351 c22_i32_2525
  let c1_i32_2526 : BitVec 32 := 1#32
  let v3584 : BitVec 32 := Scalar.subi v1 c1_i32_2526
  let v3585 : BitVec 32 := Scalar.minsi v3583 v3584
  let c256_i32_2527 : BitVec 32 := 256#32
  let v3586 : BitVec 32 := Scalar.muli v3585 c256_i32_2527
  v3586
def k0_mult229 (i : grid0.Coords) (k0_t2 : Fin (k0_t2_loop i).trips) : BitVec 32 :=
  let c1_i32_248 : BitVec 32 := 1#32
  let c0_i32_228 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_176 : BitVec 32 := 1#32
  let v246 : BitVec 32 := Scalar.subi v1 c1_i32_176
  let c0_i32_177 : BitVec 32 := 0#32
  let v248 : BitVec 1 := Scalar.cmpi .sgt v246 c0_i32_177
  let v249 : BitVec 32 := Scalar.extui v248
  let c0_i32_178 : BitVec 32 := 0#32
  let v250 : BitVec 1 := Scalar.cmpi .slt v246 c0_i32_178
  let v251 : BitVec 32 := Scalar.extui v250
  let v252 : BitVec 32 := Scalar.subi v249 v251
  let c32_i32 : BitVec 32 := 32#32
  let c0_i32_179 : BitVec 32 := 0#32
  let v253 : BitVec 1 := Scalar.cmpi .sgt c32_i32 c0_i32_179
  let v254 : BitVec 32 := Scalar.extui v253
  let c0_i32_180 : BitVec 32 := 0#32
  let v255 : BitVec 1 := Scalar.cmpi .slt c32_i32 c0_i32_180
  let v256 : BitVec 32 := Scalar.extui v255
  let v257 : BitVec 32 := Scalar.subi v254 v256
  let v258 : BitVec 1 := Scalar.cmpi .ne v252 v257
  let v259 : BitVec 32 := Scalar.remsi v246 c32_i32
  let c0_i32_181 : BitVec 32 := 0#32
  let v260 : BitVec 1 := Scalar.cmpi .ne v259 c0_i32_181
  let v261 : BitVec 1 := Scalar.andi v258 v260
  let v247 : BitVec 32 := Scalar.divsi v246 c32_i32
  let c1_i32_182 : BitVec 32 := 1#32
  let v262 : BitVec 32 := Scalar.subi v247 c1_i32_182
  let v263 : BitVec 32 := Scalar.select v261 v262 v247
  let v314 : BitVec 32 := Scalar.subi v263 c0_i32_228
  let c1_i32_229 : BitVec 32 := 1#32
  let v316 : BitVec 32 := Scalar.divsi v314 c1_i32_229
  let v317 : BitVec 32 := Scalar.muli v316 c1_i32_229
  let v318 : BitVec 32 := Scalar.addi c0_i32_228 v317
  let c1_i32_231 : BitVec 32 := 1#32
  let arg9 : BitVec 32 := Scf.iv v318 c1_i32_231 k0_t2
  let c32_i32_247 : BitVec 32 := 32#32
  let v350 : BitVec 32 := Scalar.muli arg9 c32_i32_247
  let v351 : BitVec 32 := Scalar.addi c1_i32_248 v350
  let c22_i32_2552 : BitVec 32 := 22#32
  let v3621 : BitVec 32 := Scalar.addi v351 c22_i32_2552
  let c1_i32_2553 : BitVec 32 := 1#32
  let v3622 : BitVec 32 := Scalar.subi v1 c1_i32_2553
  let v3623 : BitVec 32 := Scalar.minsi v3621 v3622
  let c256_i32_2554 : BitVec 32 := 256#32
  let v3624 : BitVec 32 := Scalar.muli v3623 c256_i32_2554
  v3624
def k0_mult230 (i : grid0.Coords) (k0_t2 : Fin (k0_t2_loop i).trips) : BitVec 32 :=
  let c1_i32_248 : BitVec 32 := 1#32
  let c0_i32_228 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_176 : BitVec 32 := 1#32
  let v246 : BitVec 32 := Scalar.subi v1 c1_i32_176
  let c0_i32_177 : BitVec 32 := 0#32
  let v248 : BitVec 1 := Scalar.cmpi .sgt v246 c0_i32_177
  let v249 : BitVec 32 := Scalar.extui v248
  let c0_i32_178 : BitVec 32 := 0#32
  let v250 : BitVec 1 := Scalar.cmpi .slt v246 c0_i32_178
  let v251 : BitVec 32 := Scalar.extui v250
  let v252 : BitVec 32 := Scalar.subi v249 v251
  let c32_i32 : BitVec 32 := 32#32
  let c0_i32_179 : BitVec 32 := 0#32
  let v253 : BitVec 1 := Scalar.cmpi .sgt c32_i32 c0_i32_179
  let v254 : BitVec 32 := Scalar.extui v253
  let c0_i32_180 : BitVec 32 := 0#32
  let v255 : BitVec 1 := Scalar.cmpi .slt c32_i32 c0_i32_180
  let v256 : BitVec 32 := Scalar.extui v255
  let v257 : BitVec 32 := Scalar.subi v254 v256
  let v258 : BitVec 1 := Scalar.cmpi .ne v252 v257
  let v259 : BitVec 32 := Scalar.remsi v246 c32_i32
  let c0_i32_181 : BitVec 32 := 0#32
  let v260 : BitVec 1 := Scalar.cmpi .ne v259 c0_i32_181
  let v261 : BitVec 1 := Scalar.andi v258 v260
  let v247 : BitVec 32 := Scalar.divsi v246 c32_i32
  let c1_i32_182 : BitVec 32 := 1#32
  let v262 : BitVec 32 := Scalar.subi v247 c1_i32_182
  let v263 : BitVec 32 := Scalar.select v261 v262 v247
  let v314 : BitVec 32 := Scalar.subi v263 c0_i32_228
  let c1_i32_229 : BitVec 32 := 1#32
  let v316 : BitVec 32 := Scalar.divsi v314 c1_i32_229
  let v317 : BitVec 32 := Scalar.muli v316 c1_i32_229
  let v318 : BitVec 32 := Scalar.addi c0_i32_228 v317
  let c1_i32_231 : BitVec 32 := 1#32
  let arg9 : BitVec 32 := Scf.iv v318 c1_i32_231 k0_t2
  let c32_i32_247 : BitVec 32 := 32#32
  let v350 : BitVec 32 := Scalar.muli arg9 c32_i32_247
  let v351 : BitVec 32 := Scalar.addi c1_i32_248 v350
  let c23_i32 : BitVec 32 := 23#32
  let v3659 : BitVec 32 := Scalar.addi v351 c23_i32
  let c1_i32_2579 : BitVec 32 := 1#32
  let v3660 : BitVec 32 := Scalar.subi v1 c1_i32_2579
  let v3661 : BitVec 32 := Scalar.minsi v3659 v3660
  let c256_i32_2580 : BitVec 32 := 256#32
  let v3662 : BitVec 32 := Scalar.muli v3661 c256_i32_2580
  v3662
def k0_mult231 (i : grid0.Coords) (k0_t2 : Fin (k0_t2_loop i).trips) : BitVec 32 :=
  let c1_i32_248 : BitVec 32 := 1#32
  let c0_i32_228 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_176 : BitVec 32 := 1#32
  let v246 : BitVec 32 := Scalar.subi v1 c1_i32_176
  let c0_i32_177 : BitVec 32 := 0#32
  let v248 : BitVec 1 := Scalar.cmpi .sgt v246 c0_i32_177
  let v249 : BitVec 32 := Scalar.extui v248
  let c0_i32_178 : BitVec 32 := 0#32
  let v250 : BitVec 1 := Scalar.cmpi .slt v246 c0_i32_178
  let v251 : BitVec 32 := Scalar.extui v250
  let v252 : BitVec 32 := Scalar.subi v249 v251
  let c32_i32 : BitVec 32 := 32#32
  let c0_i32_179 : BitVec 32 := 0#32
  let v253 : BitVec 1 := Scalar.cmpi .sgt c32_i32 c0_i32_179
  let v254 : BitVec 32 := Scalar.extui v253
  let c0_i32_180 : BitVec 32 := 0#32
  let v255 : BitVec 1 := Scalar.cmpi .slt c32_i32 c0_i32_180
  let v256 : BitVec 32 := Scalar.extui v255
  let v257 : BitVec 32 := Scalar.subi v254 v256
  let v258 : BitVec 1 := Scalar.cmpi .ne v252 v257
  let v259 : BitVec 32 := Scalar.remsi v246 c32_i32
  let c0_i32_181 : BitVec 32 := 0#32
  let v260 : BitVec 1 := Scalar.cmpi .ne v259 c0_i32_181
  let v261 : BitVec 1 := Scalar.andi v258 v260
  let v247 : BitVec 32 := Scalar.divsi v246 c32_i32
  let c1_i32_182 : BitVec 32 := 1#32
  let v262 : BitVec 32 := Scalar.subi v247 c1_i32_182
  let v263 : BitVec 32 := Scalar.select v261 v262 v247
  let v314 : BitVec 32 := Scalar.subi v263 c0_i32_228
  let c1_i32_229 : BitVec 32 := 1#32
  let v316 : BitVec 32 := Scalar.divsi v314 c1_i32_229
  let v317 : BitVec 32 := Scalar.muli v316 c1_i32_229
  let v318 : BitVec 32 := Scalar.addi c0_i32_228 v317
  let c1_i32_231 : BitVec 32 := 1#32
  let arg9 : BitVec 32 := Scf.iv v318 c1_i32_231 k0_t2
  let c32_i32_247 : BitVec 32 := 32#32
  let v350 : BitVec 32 := Scalar.muli arg9 c32_i32_247
  let v351 : BitVec 32 := Scalar.addi c1_i32_248 v350
  let c23_i32_2605 : BitVec 32 := 23#32
  let v3697 : BitVec 32 := Scalar.addi v351 c23_i32_2605
  let c1_i32_2606 : BitVec 32 := 1#32
  let v3698 : BitVec 32 := Scalar.subi v1 c1_i32_2606
  let v3699 : BitVec 32 := Scalar.minsi v3697 v3698
  let c256_i32_2607 : BitVec 32 := 256#32
  let v3700 : BitVec 32 := Scalar.muli v3699 c256_i32_2607
  v3700
def k0_mult232 (i : grid0.Coords) (k0_t2 : Fin (k0_t2_loop i).trips) : BitVec 32 :=
  let c1_i32_248 : BitVec 32 := 1#32
  let c0_i32_228 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_176 : BitVec 32 := 1#32
  let v246 : BitVec 32 := Scalar.subi v1 c1_i32_176
  let c0_i32_177 : BitVec 32 := 0#32
  let v248 : BitVec 1 := Scalar.cmpi .sgt v246 c0_i32_177
  let v249 : BitVec 32 := Scalar.extui v248
  let c0_i32_178 : BitVec 32 := 0#32
  let v250 : BitVec 1 := Scalar.cmpi .slt v246 c0_i32_178
  let v251 : BitVec 32 := Scalar.extui v250
  let v252 : BitVec 32 := Scalar.subi v249 v251
  let c32_i32 : BitVec 32 := 32#32
  let c0_i32_179 : BitVec 32 := 0#32
  let v253 : BitVec 1 := Scalar.cmpi .sgt c32_i32 c0_i32_179
  let v254 : BitVec 32 := Scalar.extui v253
  let c0_i32_180 : BitVec 32 := 0#32
  let v255 : BitVec 1 := Scalar.cmpi .slt c32_i32 c0_i32_180
  let v256 : BitVec 32 := Scalar.extui v255
  let v257 : BitVec 32 := Scalar.subi v254 v256
  let v258 : BitVec 1 := Scalar.cmpi .ne v252 v257
  let v259 : BitVec 32 := Scalar.remsi v246 c32_i32
  let c0_i32_181 : BitVec 32 := 0#32
  let v260 : BitVec 1 := Scalar.cmpi .ne v259 c0_i32_181
  let v261 : BitVec 1 := Scalar.andi v258 v260
  let v247 : BitVec 32 := Scalar.divsi v246 c32_i32
  let c1_i32_182 : BitVec 32 := 1#32
  let v262 : BitVec 32 := Scalar.subi v247 c1_i32_182
  let v263 : BitVec 32 := Scalar.select v261 v262 v247
  let v314 : BitVec 32 := Scalar.subi v263 c0_i32_228
  let c1_i32_229 : BitVec 32 := 1#32
  let v316 : BitVec 32 := Scalar.divsi v314 c1_i32_229
  let v317 : BitVec 32 := Scalar.muli v316 c1_i32_229
  let v318 : BitVec 32 := Scalar.addi c0_i32_228 v317
  let c1_i32_231 : BitVec 32 := 1#32
  let arg9 : BitVec 32 := Scf.iv v318 c1_i32_231 k0_t2
  let c32_i32_247 : BitVec 32 := 32#32
  let v350 : BitVec 32 := Scalar.muli arg9 c32_i32_247
  let v351 : BitVec 32 := Scalar.addi c1_i32_248 v350
  let c23_i32_2632 : BitVec 32 := 23#32
  let v3735 : BitVec 32 := Scalar.addi v351 c23_i32_2632
  let c1_i32_2633 : BitVec 32 := 1#32
  let v3736 : BitVec 32 := Scalar.subi v1 c1_i32_2633
  let v3737 : BitVec 32 := Scalar.minsi v3735 v3736
  let c256_i32_2634 : BitVec 32 := 256#32
  let v3738 : BitVec 32 := Scalar.muli v3737 c256_i32_2634
  v3738
def k0_mult233 (i : grid0.Coords) (k0_t2 : Fin (k0_t2_loop i).trips) : BitVec 32 :=
  let c1_i32_248 : BitVec 32 := 1#32
  let c0_i32_228 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_176 : BitVec 32 := 1#32
  let v246 : BitVec 32 := Scalar.subi v1 c1_i32_176
  let c0_i32_177 : BitVec 32 := 0#32
  let v248 : BitVec 1 := Scalar.cmpi .sgt v246 c0_i32_177
  let v249 : BitVec 32 := Scalar.extui v248
  let c0_i32_178 : BitVec 32 := 0#32
  let v250 : BitVec 1 := Scalar.cmpi .slt v246 c0_i32_178
  let v251 : BitVec 32 := Scalar.extui v250
  let v252 : BitVec 32 := Scalar.subi v249 v251
  let c32_i32 : BitVec 32 := 32#32
  let c0_i32_179 : BitVec 32 := 0#32
  let v253 : BitVec 1 := Scalar.cmpi .sgt c32_i32 c0_i32_179
  let v254 : BitVec 32 := Scalar.extui v253
  let c0_i32_180 : BitVec 32 := 0#32
  let v255 : BitVec 1 := Scalar.cmpi .slt c32_i32 c0_i32_180
  let v256 : BitVec 32 := Scalar.extui v255
  let v257 : BitVec 32 := Scalar.subi v254 v256
  let v258 : BitVec 1 := Scalar.cmpi .ne v252 v257
  let v259 : BitVec 32 := Scalar.remsi v246 c32_i32
  let c0_i32_181 : BitVec 32 := 0#32
  let v260 : BitVec 1 := Scalar.cmpi .ne v259 c0_i32_181
  let v261 : BitVec 1 := Scalar.andi v258 v260
  let v247 : BitVec 32 := Scalar.divsi v246 c32_i32
  let c1_i32_182 : BitVec 32 := 1#32
  let v262 : BitVec 32 := Scalar.subi v247 c1_i32_182
  let v263 : BitVec 32 := Scalar.select v261 v262 v247
  let v314 : BitVec 32 := Scalar.subi v263 c0_i32_228
  let c1_i32_229 : BitVec 32 := 1#32
  let v316 : BitVec 32 := Scalar.divsi v314 c1_i32_229
  let v317 : BitVec 32 := Scalar.muli v316 c1_i32_229
  let v318 : BitVec 32 := Scalar.addi c0_i32_228 v317
  let c1_i32_231 : BitVec 32 := 1#32
  let arg9 : BitVec 32 := Scf.iv v318 c1_i32_231 k0_t2
  let c32_i32_247 : BitVec 32 := 32#32
  let v350 : BitVec 32 := Scalar.muli arg9 c32_i32_247
  let v351 : BitVec 32 := Scalar.addi c1_i32_248 v350
  let c23_i32_2659 : BitVec 32 := 23#32
  let v3773 : BitVec 32 := Scalar.addi v351 c23_i32_2659
  let c1_i32_2660 : BitVec 32 := 1#32
  let v3774 : BitVec 32 := Scalar.subi v1 c1_i32_2660
  let v3775 : BitVec 32 := Scalar.minsi v3773 v3774
  let c256_i32_2661 : BitVec 32 := 256#32
  let v3776 : BitVec 32 := Scalar.muli v3775 c256_i32_2661
  v3776
def k0_mult234 (i : grid0.Coords) (k0_t2 : Fin (k0_t2_loop i).trips) : BitVec 32 :=
  let c1_i32_248 : BitVec 32 := 1#32
  let c0_i32_228 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_176 : BitVec 32 := 1#32
  let v246 : BitVec 32 := Scalar.subi v1 c1_i32_176
  let c0_i32_177 : BitVec 32 := 0#32
  let v248 : BitVec 1 := Scalar.cmpi .sgt v246 c0_i32_177
  let v249 : BitVec 32 := Scalar.extui v248
  let c0_i32_178 : BitVec 32 := 0#32
  let v250 : BitVec 1 := Scalar.cmpi .slt v246 c0_i32_178
  let v251 : BitVec 32 := Scalar.extui v250
  let v252 : BitVec 32 := Scalar.subi v249 v251
  let c32_i32 : BitVec 32 := 32#32
  let c0_i32_179 : BitVec 32 := 0#32
  let v253 : BitVec 1 := Scalar.cmpi .sgt c32_i32 c0_i32_179
  let v254 : BitVec 32 := Scalar.extui v253
  let c0_i32_180 : BitVec 32 := 0#32
  let v255 : BitVec 1 := Scalar.cmpi .slt c32_i32 c0_i32_180
  let v256 : BitVec 32 := Scalar.extui v255
  let v257 : BitVec 32 := Scalar.subi v254 v256
  let v258 : BitVec 1 := Scalar.cmpi .ne v252 v257
  let v259 : BitVec 32 := Scalar.remsi v246 c32_i32
  let c0_i32_181 : BitVec 32 := 0#32
  let v260 : BitVec 1 := Scalar.cmpi .ne v259 c0_i32_181
  let v261 : BitVec 1 := Scalar.andi v258 v260
  let v247 : BitVec 32 := Scalar.divsi v246 c32_i32
  let c1_i32_182 : BitVec 32 := 1#32
  let v262 : BitVec 32 := Scalar.subi v247 c1_i32_182
  let v263 : BitVec 32 := Scalar.select v261 v262 v247
  let v314 : BitVec 32 := Scalar.subi v263 c0_i32_228
  let c1_i32_229 : BitVec 32 := 1#32
  let v316 : BitVec 32 := Scalar.divsi v314 c1_i32_229
  let v317 : BitVec 32 := Scalar.muli v316 c1_i32_229
  let v318 : BitVec 32 := Scalar.addi c0_i32_228 v317
  let c1_i32_231 : BitVec 32 := 1#32
  let arg9 : BitVec 32 := Scf.iv v318 c1_i32_231 k0_t2
  let c32_i32_247 : BitVec 32 := 32#32
  let v350 : BitVec 32 := Scalar.muli arg9 c32_i32_247
  let v351 : BitVec 32 := Scalar.addi c1_i32_248 v350
  let c24_i32 : BitVec 32 := 24#32
  let v3811 : BitVec 32 := Scalar.addi v351 c24_i32
  let c1_i32_2686 : BitVec 32 := 1#32
  let v3812 : BitVec 32 := Scalar.subi v1 c1_i32_2686
  let v3813 : BitVec 32 := Scalar.minsi v3811 v3812
  let c256_i32_2687 : BitVec 32 := 256#32
  let v3814 : BitVec 32 := Scalar.muli v3813 c256_i32_2687
  v3814
def k0_mult235 (i : grid0.Coords) (k0_t2 : Fin (k0_t2_loop i).trips) : BitVec 32 :=
  let c1_i32_248 : BitVec 32 := 1#32
  let c0_i32_228 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_176 : BitVec 32 := 1#32
  let v246 : BitVec 32 := Scalar.subi v1 c1_i32_176
  let c0_i32_177 : BitVec 32 := 0#32
  let v248 : BitVec 1 := Scalar.cmpi .sgt v246 c0_i32_177
  let v249 : BitVec 32 := Scalar.extui v248
  let c0_i32_178 : BitVec 32 := 0#32
  let v250 : BitVec 1 := Scalar.cmpi .slt v246 c0_i32_178
  let v251 : BitVec 32 := Scalar.extui v250
  let v252 : BitVec 32 := Scalar.subi v249 v251
  let c32_i32 : BitVec 32 := 32#32
  let c0_i32_179 : BitVec 32 := 0#32
  let v253 : BitVec 1 := Scalar.cmpi .sgt c32_i32 c0_i32_179
  let v254 : BitVec 32 := Scalar.extui v253
  let c0_i32_180 : BitVec 32 := 0#32
  let v255 : BitVec 1 := Scalar.cmpi .slt c32_i32 c0_i32_180
  let v256 : BitVec 32 := Scalar.extui v255
  let v257 : BitVec 32 := Scalar.subi v254 v256
  let v258 : BitVec 1 := Scalar.cmpi .ne v252 v257
  let v259 : BitVec 32 := Scalar.remsi v246 c32_i32
  let c0_i32_181 : BitVec 32 := 0#32
  let v260 : BitVec 1 := Scalar.cmpi .ne v259 c0_i32_181
  let v261 : BitVec 1 := Scalar.andi v258 v260
  let v247 : BitVec 32 := Scalar.divsi v246 c32_i32
  let c1_i32_182 : BitVec 32 := 1#32
  let v262 : BitVec 32 := Scalar.subi v247 c1_i32_182
  let v263 : BitVec 32 := Scalar.select v261 v262 v247
  let v314 : BitVec 32 := Scalar.subi v263 c0_i32_228
  let c1_i32_229 : BitVec 32 := 1#32
  let v316 : BitVec 32 := Scalar.divsi v314 c1_i32_229
  let v317 : BitVec 32 := Scalar.muli v316 c1_i32_229
  let v318 : BitVec 32 := Scalar.addi c0_i32_228 v317
  let c1_i32_231 : BitVec 32 := 1#32
  let arg9 : BitVec 32 := Scf.iv v318 c1_i32_231 k0_t2
  let c32_i32_247 : BitVec 32 := 32#32
  let v350 : BitVec 32 := Scalar.muli arg9 c32_i32_247
  let v351 : BitVec 32 := Scalar.addi c1_i32_248 v350
  let c24_i32_2712 : BitVec 32 := 24#32
  let v3849 : BitVec 32 := Scalar.addi v351 c24_i32_2712
  let c1_i32_2713 : BitVec 32 := 1#32
  let v3850 : BitVec 32 := Scalar.subi v1 c1_i32_2713
  let v3851 : BitVec 32 := Scalar.minsi v3849 v3850
  let c256_i32_2714 : BitVec 32 := 256#32
  let v3852 : BitVec 32 := Scalar.muli v3851 c256_i32_2714
  v3852
def k0_mult236 (i : grid0.Coords) (k0_t2 : Fin (k0_t2_loop i).trips) : BitVec 32 :=
  let c1_i32_248 : BitVec 32 := 1#32
  let c0_i32_228 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_176 : BitVec 32 := 1#32
  let v246 : BitVec 32 := Scalar.subi v1 c1_i32_176
  let c0_i32_177 : BitVec 32 := 0#32
  let v248 : BitVec 1 := Scalar.cmpi .sgt v246 c0_i32_177
  let v249 : BitVec 32 := Scalar.extui v248
  let c0_i32_178 : BitVec 32 := 0#32
  let v250 : BitVec 1 := Scalar.cmpi .slt v246 c0_i32_178
  let v251 : BitVec 32 := Scalar.extui v250
  let v252 : BitVec 32 := Scalar.subi v249 v251
  let c32_i32 : BitVec 32 := 32#32
  let c0_i32_179 : BitVec 32 := 0#32
  let v253 : BitVec 1 := Scalar.cmpi .sgt c32_i32 c0_i32_179
  let v254 : BitVec 32 := Scalar.extui v253
  let c0_i32_180 : BitVec 32 := 0#32
  let v255 : BitVec 1 := Scalar.cmpi .slt c32_i32 c0_i32_180
  let v256 : BitVec 32 := Scalar.extui v255
  let v257 : BitVec 32 := Scalar.subi v254 v256
  let v258 : BitVec 1 := Scalar.cmpi .ne v252 v257
  let v259 : BitVec 32 := Scalar.remsi v246 c32_i32
  let c0_i32_181 : BitVec 32 := 0#32
  let v260 : BitVec 1 := Scalar.cmpi .ne v259 c0_i32_181
  let v261 : BitVec 1 := Scalar.andi v258 v260
  let v247 : BitVec 32 := Scalar.divsi v246 c32_i32
  let c1_i32_182 : BitVec 32 := 1#32
  let v262 : BitVec 32 := Scalar.subi v247 c1_i32_182
  let v263 : BitVec 32 := Scalar.select v261 v262 v247
  let v314 : BitVec 32 := Scalar.subi v263 c0_i32_228
  let c1_i32_229 : BitVec 32 := 1#32
  let v316 : BitVec 32 := Scalar.divsi v314 c1_i32_229
  let v317 : BitVec 32 := Scalar.muli v316 c1_i32_229
  let v318 : BitVec 32 := Scalar.addi c0_i32_228 v317
  let c1_i32_231 : BitVec 32 := 1#32
  let arg9 : BitVec 32 := Scf.iv v318 c1_i32_231 k0_t2
  let c32_i32_247 : BitVec 32 := 32#32
  let v350 : BitVec 32 := Scalar.muli arg9 c32_i32_247
  let v351 : BitVec 32 := Scalar.addi c1_i32_248 v350
  let c24_i32_2739 : BitVec 32 := 24#32
  let v3887 : BitVec 32 := Scalar.addi v351 c24_i32_2739
  let c1_i32_2740 : BitVec 32 := 1#32
  let v3888 : BitVec 32 := Scalar.subi v1 c1_i32_2740
  let v3889 : BitVec 32 := Scalar.minsi v3887 v3888
  let c256_i32_2741 : BitVec 32 := 256#32
  let v3890 : BitVec 32 := Scalar.muli v3889 c256_i32_2741
  v3890
def k0_mult237 (i : grid0.Coords) (k0_t2 : Fin (k0_t2_loop i).trips) : BitVec 32 :=
  let c1_i32_248 : BitVec 32 := 1#32
  let c0_i32_228 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_176 : BitVec 32 := 1#32
  let v246 : BitVec 32 := Scalar.subi v1 c1_i32_176
  let c0_i32_177 : BitVec 32 := 0#32
  let v248 : BitVec 1 := Scalar.cmpi .sgt v246 c0_i32_177
  let v249 : BitVec 32 := Scalar.extui v248
  let c0_i32_178 : BitVec 32 := 0#32
  let v250 : BitVec 1 := Scalar.cmpi .slt v246 c0_i32_178
  let v251 : BitVec 32 := Scalar.extui v250
  let v252 : BitVec 32 := Scalar.subi v249 v251
  let c32_i32 : BitVec 32 := 32#32
  let c0_i32_179 : BitVec 32 := 0#32
  let v253 : BitVec 1 := Scalar.cmpi .sgt c32_i32 c0_i32_179
  let v254 : BitVec 32 := Scalar.extui v253
  let c0_i32_180 : BitVec 32 := 0#32
  let v255 : BitVec 1 := Scalar.cmpi .slt c32_i32 c0_i32_180
  let v256 : BitVec 32 := Scalar.extui v255
  let v257 : BitVec 32 := Scalar.subi v254 v256
  let v258 : BitVec 1 := Scalar.cmpi .ne v252 v257
  let v259 : BitVec 32 := Scalar.remsi v246 c32_i32
  let c0_i32_181 : BitVec 32 := 0#32
  let v260 : BitVec 1 := Scalar.cmpi .ne v259 c0_i32_181
  let v261 : BitVec 1 := Scalar.andi v258 v260
  let v247 : BitVec 32 := Scalar.divsi v246 c32_i32
  let c1_i32_182 : BitVec 32 := 1#32
  let v262 : BitVec 32 := Scalar.subi v247 c1_i32_182
  let v263 : BitVec 32 := Scalar.select v261 v262 v247
  let v314 : BitVec 32 := Scalar.subi v263 c0_i32_228
  let c1_i32_229 : BitVec 32 := 1#32
  let v316 : BitVec 32 := Scalar.divsi v314 c1_i32_229
  let v317 : BitVec 32 := Scalar.muli v316 c1_i32_229
  let v318 : BitVec 32 := Scalar.addi c0_i32_228 v317
  let c1_i32_231 : BitVec 32 := 1#32
  let arg9 : BitVec 32 := Scf.iv v318 c1_i32_231 k0_t2
  let c32_i32_247 : BitVec 32 := 32#32
  let v350 : BitVec 32 := Scalar.muli arg9 c32_i32_247
  let v351 : BitVec 32 := Scalar.addi c1_i32_248 v350
  let c24_i32_2766 : BitVec 32 := 24#32
  let v3925 : BitVec 32 := Scalar.addi v351 c24_i32_2766
  let c1_i32_2767 : BitVec 32 := 1#32
  let v3926 : BitVec 32 := Scalar.subi v1 c1_i32_2767
  let v3927 : BitVec 32 := Scalar.minsi v3925 v3926
  let c256_i32_2768 : BitVec 32 := 256#32
  let v3928 : BitVec 32 := Scalar.muli v3927 c256_i32_2768
  v3928
def k0_mult238 (i : grid0.Coords) (k0_t2 : Fin (k0_t2_loop i).trips) : BitVec 32 :=
  let c1_i32_248 : BitVec 32 := 1#32
  let c0_i32_228 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_176 : BitVec 32 := 1#32
  let v246 : BitVec 32 := Scalar.subi v1 c1_i32_176
  let c0_i32_177 : BitVec 32 := 0#32
  let v248 : BitVec 1 := Scalar.cmpi .sgt v246 c0_i32_177
  let v249 : BitVec 32 := Scalar.extui v248
  let c0_i32_178 : BitVec 32 := 0#32
  let v250 : BitVec 1 := Scalar.cmpi .slt v246 c0_i32_178
  let v251 : BitVec 32 := Scalar.extui v250
  let v252 : BitVec 32 := Scalar.subi v249 v251
  let c32_i32 : BitVec 32 := 32#32
  let c0_i32_179 : BitVec 32 := 0#32
  let v253 : BitVec 1 := Scalar.cmpi .sgt c32_i32 c0_i32_179
  let v254 : BitVec 32 := Scalar.extui v253
  let c0_i32_180 : BitVec 32 := 0#32
  let v255 : BitVec 1 := Scalar.cmpi .slt c32_i32 c0_i32_180
  let v256 : BitVec 32 := Scalar.extui v255
  let v257 : BitVec 32 := Scalar.subi v254 v256
  let v258 : BitVec 1 := Scalar.cmpi .ne v252 v257
  let v259 : BitVec 32 := Scalar.remsi v246 c32_i32
  let c0_i32_181 : BitVec 32 := 0#32
  let v260 : BitVec 1 := Scalar.cmpi .ne v259 c0_i32_181
  let v261 : BitVec 1 := Scalar.andi v258 v260
  let v247 : BitVec 32 := Scalar.divsi v246 c32_i32
  let c1_i32_182 : BitVec 32 := 1#32
  let v262 : BitVec 32 := Scalar.subi v247 c1_i32_182
  let v263 : BitVec 32 := Scalar.select v261 v262 v247
  let v314 : BitVec 32 := Scalar.subi v263 c0_i32_228
  let c1_i32_229 : BitVec 32 := 1#32
  let v316 : BitVec 32 := Scalar.divsi v314 c1_i32_229
  let v317 : BitVec 32 := Scalar.muli v316 c1_i32_229
  let v318 : BitVec 32 := Scalar.addi c0_i32_228 v317
  let c1_i32_231 : BitVec 32 := 1#32
  let arg9 : BitVec 32 := Scf.iv v318 c1_i32_231 k0_t2
  let c32_i32_247 : BitVec 32 := 32#32
  let v350 : BitVec 32 := Scalar.muli arg9 c32_i32_247
  let v351 : BitVec 32 := Scalar.addi c1_i32_248 v350
  let c25_i32 : BitVec 32 := 25#32
  let v3963 : BitVec 32 := Scalar.addi v351 c25_i32
  let c1_i32_2793 : BitVec 32 := 1#32
  let v3964 : BitVec 32 := Scalar.subi v1 c1_i32_2793
  let v3965 : BitVec 32 := Scalar.minsi v3963 v3964
  let c256_i32_2794 : BitVec 32 := 256#32
  let v3966 : BitVec 32 := Scalar.muli v3965 c256_i32_2794
  v3966
def k0_mult239 (i : grid0.Coords) (k0_t2 : Fin (k0_t2_loop i).trips) : BitVec 32 :=
  let c1_i32_248 : BitVec 32 := 1#32
  let c0_i32_228 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_176 : BitVec 32 := 1#32
  let v246 : BitVec 32 := Scalar.subi v1 c1_i32_176
  let c0_i32_177 : BitVec 32 := 0#32
  let v248 : BitVec 1 := Scalar.cmpi .sgt v246 c0_i32_177
  let v249 : BitVec 32 := Scalar.extui v248
  let c0_i32_178 : BitVec 32 := 0#32
  let v250 : BitVec 1 := Scalar.cmpi .slt v246 c0_i32_178
  let v251 : BitVec 32 := Scalar.extui v250
  let v252 : BitVec 32 := Scalar.subi v249 v251
  let c32_i32 : BitVec 32 := 32#32
  let c0_i32_179 : BitVec 32 := 0#32
  let v253 : BitVec 1 := Scalar.cmpi .sgt c32_i32 c0_i32_179
  let v254 : BitVec 32 := Scalar.extui v253
  let c0_i32_180 : BitVec 32 := 0#32
  let v255 : BitVec 1 := Scalar.cmpi .slt c32_i32 c0_i32_180
  let v256 : BitVec 32 := Scalar.extui v255
  let v257 : BitVec 32 := Scalar.subi v254 v256
  let v258 : BitVec 1 := Scalar.cmpi .ne v252 v257
  let v259 : BitVec 32 := Scalar.remsi v246 c32_i32
  let c0_i32_181 : BitVec 32 := 0#32
  let v260 : BitVec 1 := Scalar.cmpi .ne v259 c0_i32_181
  let v261 : BitVec 1 := Scalar.andi v258 v260
  let v247 : BitVec 32 := Scalar.divsi v246 c32_i32
  let c1_i32_182 : BitVec 32 := 1#32
  let v262 : BitVec 32 := Scalar.subi v247 c1_i32_182
  let v263 : BitVec 32 := Scalar.select v261 v262 v247
  let v314 : BitVec 32 := Scalar.subi v263 c0_i32_228
  let c1_i32_229 : BitVec 32 := 1#32
  let v316 : BitVec 32 := Scalar.divsi v314 c1_i32_229
  let v317 : BitVec 32 := Scalar.muli v316 c1_i32_229
  let v318 : BitVec 32 := Scalar.addi c0_i32_228 v317
  let c1_i32_231 : BitVec 32 := 1#32
  let arg9 : BitVec 32 := Scf.iv v318 c1_i32_231 k0_t2
  let c32_i32_247 : BitVec 32 := 32#32
  let v350 : BitVec 32 := Scalar.muli arg9 c32_i32_247
  let v351 : BitVec 32 := Scalar.addi c1_i32_248 v350
  let c25_i32_2819 : BitVec 32 := 25#32
  let v4001 : BitVec 32 := Scalar.addi v351 c25_i32_2819
  let c1_i32_2820 : BitVec 32 := 1#32
  let v4002 : BitVec 32 := Scalar.subi v1 c1_i32_2820
  let v4003 : BitVec 32 := Scalar.minsi v4001 v4002
  let c256_i32_2821 : BitVec 32 := 256#32
  let v4004 : BitVec 32 := Scalar.muli v4003 c256_i32_2821
  v4004
def k0_mult240 (i : grid0.Coords) (k0_t2 : Fin (k0_t2_loop i).trips) : BitVec 32 :=
  let c1_i32_248 : BitVec 32 := 1#32
  let c0_i32_228 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_176 : BitVec 32 := 1#32
  let v246 : BitVec 32 := Scalar.subi v1 c1_i32_176
  let c0_i32_177 : BitVec 32 := 0#32
  let v248 : BitVec 1 := Scalar.cmpi .sgt v246 c0_i32_177
  let v249 : BitVec 32 := Scalar.extui v248
  let c0_i32_178 : BitVec 32 := 0#32
  let v250 : BitVec 1 := Scalar.cmpi .slt v246 c0_i32_178
  let v251 : BitVec 32 := Scalar.extui v250
  let v252 : BitVec 32 := Scalar.subi v249 v251
  let c32_i32 : BitVec 32 := 32#32
  let c0_i32_179 : BitVec 32 := 0#32
  let v253 : BitVec 1 := Scalar.cmpi .sgt c32_i32 c0_i32_179
  let v254 : BitVec 32 := Scalar.extui v253
  let c0_i32_180 : BitVec 32 := 0#32
  let v255 : BitVec 1 := Scalar.cmpi .slt c32_i32 c0_i32_180
  let v256 : BitVec 32 := Scalar.extui v255
  let v257 : BitVec 32 := Scalar.subi v254 v256
  let v258 : BitVec 1 := Scalar.cmpi .ne v252 v257
  let v259 : BitVec 32 := Scalar.remsi v246 c32_i32
  let c0_i32_181 : BitVec 32 := 0#32
  let v260 : BitVec 1 := Scalar.cmpi .ne v259 c0_i32_181
  let v261 : BitVec 1 := Scalar.andi v258 v260
  let v247 : BitVec 32 := Scalar.divsi v246 c32_i32
  let c1_i32_182 : BitVec 32 := 1#32
  let v262 : BitVec 32 := Scalar.subi v247 c1_i32_182
  let v263 : BitVec 32 := Scalar.select v261 v262 v247
  let v314 : BitVec 32 := Scalar.subi v263 c0_i32_228
  let c1_i32_229 : BitVec 32 := 1#32
  let v316 : BitVec 32 := Scalar.divsi v314 c1_i32_229
  let v317 : BitVec 32 := Scalar.muli v316 c1_i32_229
  let v318 : BitVec 32 := Scalar.addi c0_i32_228 v317
  let c1_i32_231 : BitVec 32 := 1#32
  let arg9 : BitVec 32 := Scf.iv v318 c1_i32_231 k0_t2
  let c32_i32_247 : BitVec 32 := 32#32
  let v350 : BitVec 32 := Scalar.muli arg9 c32_i32_247
  let v351 : BitVec 32 := Scalar.addi c1_i32_248 v350
  let c25_i32_2846 : BitVec 32 := 25#32
  let v4039 : BitVec 32 := Scalar.addi v351 c25_i32_2846
  let c1_i32_2847 : BitVec 32 := 1#32
  let v4040 : BitVec 32 := Scalar.subi v1 c1_i32_2847
  let v4041 : BitVec 32 := Scalar.minsi v4039 v4040
  let c256_i32_2848 : BitVec 32 := 256#32
  let v4042 : BitVec 32 := Scalar.muli v4041 c256_i32_2848
  v4042
def k0_mult241 (i : grid0.Coords) (k0_t2 : Fin (k0_t2_loop i).trips) : BitVec 32 :=
  let c1_i32_248 : BitVec 32 := 1#32
  let c0_i32_228 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_176 : BitVec 32 := 1#32
  let v246 : BitVec 32 := Scalar.subi v1 c1_i32_176
  let c0_i32_177 : BitVec 32 := 0#32
  let v248 : BitVec 1 := Scalar.cmpi .sgt v246 c0_i32_177
  let v249 : BitVec 32 := Scalar.extui v248
  let c0_i32_178 : BitVec 32 := 0#32
  let v250 : BitVec 1 := Scalar.cmpi .slt v246 c0_i32_178
  let v251 : BitVec 32 := Scalar.extui v250
  let v252 : BitVec 32 := Scalar.subi v249 v251
  let c32_i32 : BitVec 32 := 32#32
  let c0_i32_179 : BitVec 32 := 0#32
  let v253 : BitVec 1 := Scalar.cmpi .sgt c32_i32 c0_i32_179
  let v254 : BitVec 32 := Scalar.extui v253
  let c0_i32_180 : BitVec 32 := 0#32
  let v255 : BitVec 1 := Scalar.cmpi .slt c32_i32 c0_i32_180
  let v256 : BitVec 32 := Scalar.extui v255
  let v257 : BitVec 32 := Scalar.subi v254 v256
  let v258 : BitVec 1 := Scalar.cmpi .ne v252 v257
  let v259 : BitVec 32 := Scalar.remsi v246 c32_i32
  let c0_i32_181 : BitVec 32 := 0#32
  let v260 : BitVec 1 := Scalar.cmpi .ne v259 c0_i32_181
  let v261 : BitVec 1 := Scalar.andi v258 v260
  let v247 : BitVec 32 := Scalar.divsi v246 c32_i32
  let c1_i32_182 : BitVec 32 := 1#32
  let v262 : BitVec 32 := Scalar.subi v247 c1_i32_182
  let v263 : BitVec 32 := Scalar.select v261 v262 v247
  let v314 : BitVec 32 := Scalar.subi v263 c0_i32_228
  let c1_i32_229 : BitVec 32 := 1#32
  let v316 : BitVec 32 := Scalar.divsi v314 c1_i32_229
  let v317 : BitVec 32 := Scalar.muli v316 c1_i32_229
  let v318 : BitVec 32 := Scalar.addi c0_i32_228 v317
  let c1_i32_231 : BitVec 32 := 1#32
  let arg9 : BitVec 32 := Scf.iv v318 c1_i32_231 k0_t2
  let c32_i32_247 : BitVec 32 := 32#32
  let v350 : BitVec 32 := Scalar.muli arg9 c32_i32_247
  let v351 : BitVec 32 := Scalar.addi c1_i32_248 v350
  let c25_i32_2873 : BitVec 32 := 25#32
  let v4077 : BitVec 32 := Scalar.addi v351 c25_i32_2873
  let c1_i32_2874 : BitVec 32 := 1#32
  let v4078 : BitVec 32 := Scalar.subi v1 c1_i32_2874
  let v4079 : BitVec 32 := Scalar.minsi v4077 v4078
  let c256_i32_2875 : BitVec 32 := 256#32
  let v4080 : BitVec 32 := Scalar.muli v4079 c256_i32_2875
  v4080
def k0_mult242 (i : grid0.Coords) (k0_t2 : Fin (k0_t2_loop i).trips) : BitVec 32 :=
  let c1_i32_248 : BitVec 32 := 1#32
  let c0_i32_228 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_176 : BitVec 32 := 1#32
  let v246 : BitVec 32 := Scalar.subi v1 c1_i32_176
  let c0_i32_177 : BitVec 32 := 0#32
  let v248 : BitVec 1 := Scalar.cmpi .sgt v246 c0_i32_177
  let v249 : BitVec 32 := Scalar.extui v248
  let c0_i32_178 : BitVec 32 := 0#32
  let v250 : BitVec 1 := Scalar.cmpi .slt v246 c0_i32_178
  let v251 : BitVec 32 := Scalar.extui v250
  let v252 : BitVec 32 := Scalar.subi v249 v251
  let c32_i32 : BitVec 32 := 32#32
  let c0_i32_179 : BitVec 32 := 0#32
  let v253 : BitVec 1 := Scalar.cmpi .sgt c32_i32 c0_i32_179
  let v254 : BitVec 32 := Scalar.extui v253
  let c0_i32_180 : BitVec 32 := 0#32
  let v255 : BitVec 1 := Scalar.cmpi .slt c32_i32 c0_i32_180
  let v256 : BitVec 32 := Scalar.extui v255
  let v257 : BitVec 32 := Scalar.subi v254 v256
  let v258 : BitVec 1 := Scalar.cmpi .ne v252 v257
  let v259 : BitVec 32 := Scalar.remsi v246 c32_i32
  let c0_i32_181 : BitVec 32 := 0#32
  let v260 : BitVec 1 := Scalar.cmpi .ne v259 c0_i32_181
  let v261 : BitVec 1 := Scalar.andi v258 v260
  let v247 : BitVec 32 := Scalar.divsi v246 c32_i32
  let c1_i32_182 : BitVec 32 := 1#32
  let v262 : BitVec 32 := Scalar.subi v247 c1_i32_182
  let v263 : BitVec 32 := Scalar.select v261 v262 v247
  let v314 : BitVec 32 := Scalar.subi v263 c0_i32_228
  let c1_i32_229 : BitVec 32 := 1#32
  let v316 : BitVec 32 := Scalar.divsi v314 c1_i32_229
  let v317 : BitVec 32 := Scalar.muli v316 c1_i32_229
  let v318 : BitVec 32 := Scalar.addi c0_i32_228 v317
  let c1_i32_231 : BitVec 32 := 1#32
  let arg9 : BitVec 32 := Scf.iv v318 c1_i32_231 k0_t2
  let c32_i32_247 : BitVec 32 := 32#32
  let v350 : BitVec 32 := Scalar.muli arg9 c32_i32_247
  let v351 : BitVec 32 := Scalar.addi c1_i32_248 v350
  let c26_i32 : BitVec 32 := 26#32
  let v4115 : BitVec 32 := Scalar.addi v351 c26_i32
  let c1_i32_2900 : BitVec 32 := 1#32
  let v4116 : BitVec 32 := Scalar.subi v1 c1_i32_2900
  let v4117 : BitVec 32 := Scalar.minsi v4115 v4116
  let c256_i32_2901 : BitVec 32 := 256#32
  let v4118 : BitVec 32 := Scalar.muli v4117 c256_i32_2901
  v4118
def k0_mult243 (i : grid0.Coords) (k0_t2 : Fin (k0_t2_loop i).trips) : BitVec 32 :=
  let c1_i32_248 : BitVec 32 := 1#32
  let c0_i32_228 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_176 : BitVec 32 := 1#32
  let v246 : BitVec 32 := Scalar.subi v1 c1_i32_176
  let c0_i32_177 : BitVec 32 := 0#32
  let v248 : BitVec 1 := Scalar.cmpi .sgt v246 c0_i32_177
  let v249 : BitVec 32 := Scalar.extui v248
  let c0_i32_178 : BitVec 32 := 0#32
  let v250 : BitVec 1 := Scalar.cmpi .slt v246 c0_i32_178
  let v251 : BitVec 32 := Scalar.extui v250
  let v252 : BitVec 32 := Scalar.subi v249 v251
  let c32_i32 : BitVec 32 := 32#32
  let c0_i32_179 : BitVec 32 := 0#32
  let v253 : BitVec 1 := Scalar.cmpi .sgt c32_i32 c0_i32_179
  let v254 : BitVec 32 := Scalar.extui v253
  let c0_i32_180 : BitVec 32 := 0#32
  let v255 : BitVec 1 := Scalar.cmpi .slt c32_i32 c0_i32_180
  let v256 : BitVec 32 := Scalar.extui v255
  let v257 : BitVec 32 := Scalar.subi v254 v256
  let v258 : BitVec 1 := Scalar.cmpi .ne v252 v257
  let v259 : BitVec 32 := Scalar.remsi v246 c32_i32
  let c0_i32_181 : BitVec 32 := 0#32
  let v260 : BitVec 1 := Scalar.cmpi .ne v259 c0_i32_181
  let v261 : BitVec 1 := Scalar.andi v258 v260
  let v247 : BitVec 32 := Scalar.divsi v246 c32_i32
  let c1_i32_182 : BitVec 32 := 1#32
  let v262 : BitVec 32 := Scalar.subi v247 c1_i32_182
  let v263 : BitVec 32 := Scalar.select v261 v262 v247
  let v314 : BitVec 32 := Scalar.subi v263 c0_i32_228
  let c1_i32_229 : BitVec 32 := 1#32
  let v316 : BitVec 32 := Scalar.divsi v314 c1_i32_229
  let v317 : BitVec 32 := Scalar.muli v316 c1_i32_229
  let v318 : BitVec 32 := Scalar.addi c0_i32_228 v317
  let c1_i32_231 : BitVec 32 := 1#32
  let arg9 : BitVec 32 := Scf.iv v318 c1_i32_231 k0_t2
  let c32_i32_247 : BitVec 32 := 32#32
  let v350 : BitVec 32 := Scalar.muli arg9 c32_i32_247
  let v351 : BitVec 32 := Scalar.addi c1_i32_248 v350
  let c26_i32_2926 : BitVec 32 := 26#32
  let v4153 : BitVec 32 := Scalar.addi v351 c26_i32_2926
  let c1_i32_2927 : BitVec 32 := 1#32
  let v4154 : BitVec 32 := Scalar.subi v1 c1_i32_2927
  let v4155 : BitVec 32 := Scalar.minsi v4153 v4154
  let c256_i32_2928 : BitVec 32 := 256#32
  let v4156 : BitVec 32 := Scalar.muli v4155 c256_i32_2928
  v4156
def k0_mult244 (i : grid0.Coords) (k0_t2 : Fin (k0_t2_loop i).trips) : BitVec 32 :=
  let c1_i32_248 : BitVec 32 := 1#32
  let c0_i32_228 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_176 : BitVec 32 := 1#32
  let v246 : BitVec 32 := Scalar.subi v1 c1_i32_176
  let c0_i32_177 : BitVec 32 := 0#32
  let v248 : BitVec 1 := Scalar.cmpi .sgt v246 c0_i32_177
  let v249 : BitVec 32 := Scalar.extui v248
  let c0_i32_178 : BitVec 32 := 0#32
  let v250 : BitVec 1 := Scalar.cmpi .slt v246 c0_i32_178
  let v251 : BitVec 32 := Scalar.extui v250
  let v252 : BitVec 32 := Scalar.subi v249 v251
  let c32_i32 : BitVec 32 := 32#32
  let c0_i32_179 : BitVec 32 := 0#32
  let v253 : BitVec 1 := Scalar.cmpi .sgt c32_i32 c0_i32_179
  let v254 : BitVec 32 := Scalar.extui v253
  let c0_i32_180 : BitVec 32 := 0#32
  let v255 : BitVec 1 := Scalar.cmpi .slt c32_i32 c0_i32_180
  let v256 : BitVec 32 := Scalar.extui v255
  let v257 : BitVec 32 := Scalar.subi v254 v256
  let v258 : BitVec 1 := Scalar.cmpi .ne v252 v257
  let v259 : BitVec 32 := Scalar.remsi v246 c32_i32
  let c0_i32_181 : BitVec 32 := 0#32
  let v260 : BitVec 1 := Scalar.cmpi .ne v259 c0_i32_181
  let v261 : BitVec 1 := Scalar.andi v258 v260
  let v247 : BitVec 32 := Scalar.divsi v246 c32_i32
  let c1_i32_182 : BitVec 32 := 1#32
  let v262 : BitVec 32 := Scalar.subi v247 c1_i32_182
  let v263 : BitVec 32 := Scalar.select v261 v262 v247
  let v314 : BitVec 32 := Scalar.subi v263 c0_i32_228
  let c1_i32_229 : BitVec 32 := 1#32
  let v316 : BitVec 32 := Scalar.divsi v314 c1_i32_229
  let v317 : BitVec 32 := Scalar.muli v316 c1_i32_229
  let v318 : BitVec 32 := Scalar.addi c0_i32_228 v317
  let c1_i32_231 : BitVec 32 := 1#32
  let arg9 : BitVec 32 := Scf.iv v318 c1_i32_231 k0_t2
  let c32_i32_247 : BitVec 32 := 32#32
  let v350 : BitVec 32 := Scalar.muli arg9 c32_i32_247
  let v351 : BitVec 32 := Scalar.addi c1_i32_248 v350
  let c26_i32_2953 : BitVec 32 := 26#32
  let v4191 : BitVec 32 := Scalar.addi v351 c26_i32_2953
  let c1_i32_2954 : BitVec 32 := 1#32
  let v4192 : BitVec 32 := Scalar.subi v1 c1_i32_2954
  let v4193 : BitVec 32 := Scalar.minsi v4191 v4192
  let c256_i32_2955 : BitVec 32 := 256#32
  let v4194 : BitVec 32 := Scalar.muli v4193 c256_i32_2955
  v4194
def k0_mult245 (i : grid0.Coords) (k0_t2 : Fin (k0_t2_loop i).trips) : BitVec 32 :=
  let c1_i32_248 : BitVec 32 := 1#32
  let c0_i32_228 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_176 : BitVec 32 := 1#32
  let v246 : BitVec 32 := Scalar.subi v1 c1_i32_176
  let c0_i32_177 : BitVec 32 := 0#32
  let v248 : BitVec 1 := Scalar.cmpi .sgt v246 c0_i32_177
  let v249 : BitVec 32 := Scalar.extui v248
  let c0_i32_178 : BitVec 32 := 0#32
  let v250 : BitVec 1 := Scalar.cmpi .slt v246 c0_i32_178
  let v251 : BitVec 32 := Scalar.extui v250
  let v252 : BitVec 32 := Scalar.subi v249 v251
  let c32_i32 : BitVec 32 := 32#32
  let c0_i32_179 : BitVec 32 := 0#32
  let v253 : BitVec 1 := Scalar.cmpi .sgt c32_i32 c0_i32_179
  let v254 : BitVec 32 := Scalar.extui v253
  let c0_i32_180 : BitVec 32 := 0#32
  let v255 : BitVec 1 := Scalar.cmpi .slt c32_i32 c0_i32_180
  let v256 : BitVec 32 := Scalar.extui v255
  let v257 : BitVec 32 := Scalar.subi v254 v256
  let v258 : BitVec 1 := Scalar.cmpi .ne v252 v257
  let v259 : BitVec 32 := Scalar.remsi v246 c32_i32
  let c0_i32_181 : BitVec 32 := 0#32
  let v260 : BitVec 1 := Scalar.cmpi .ne v259 c0_i32_181
  let v261 : BitVec 1 := Scalar.andi v258 v260
  let v247 : BitVec 32 := Scalar.divsi v246 c32_i32
  let c1_i32_182 : BitVec 32 := 1#32
  let v262 : BitVec 32 := Scalar.subi v247 c1_i32_182
  let v263 : BitVec 32 := Scalar.select v261 v262 v247
  let v314 : BitVec 32 := Scalar.subi v263 c0_i32_228
  let c1_i32_229 : BitVec 32 := 1#32
  let v316 : BitVec 32 := Scalar.divsi v314 c1_i32_229
  let v317 : BitVec 32 := Scalar.muli v316 c1_i32_229
  let v318 : BitVec 32 := Scalar.addi c0_i32_228 v317
  let c1_i32_231 : BitVec 32 := 1#32
  let arg9 : BitVec 32 := Scf.iv v318 c1_i32_231 k0_t2
  let c32_i32_247 : BitVec 32 := 32#32
  let v350 : BitVec 32 := Scalar.muli arg9 c32_i32_247
  let v351 : BitVec 32 := Scalar.addi c1_i32_248 v350
  let c26_i32_2980 : BitVec 32 := 26#32
  let v4229 : BitVec 32 := Scalar.addi v351 c26_i32_2980
  let c1_i32_2981 : BitVec 32 := 1#32
  let v4230 : BitVec 32 := Scalar.subi v1 c1_i32_2981
  let v4231 : BitVec 32 := Scalar.minsi v4229 v4230
  let c256_i32_2982 : BitVec 32 := 256#32
  let v4232 : BitVec 32 := Scalar.muli v4231 c256_i32_2982
  v4232
def k0_mult246 (i : grid0.Coords) (k0_t2 : Fin (k0_t2_loop i).trips) : BitVec 32 :=
  let c1_i32_248 : BitVec 32 := 1#32
  let c0_i32_228 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_176 : BitVec 32 := 1#32
  let v246 : BitVec 32 := Scalar.subi v1 c1_i32_176
  let c0_i32_177 : BitVec 32 := 0#32
  let v248 : BitVec 1 := Scalar.cmpi .sgt v246 c0_i32_177
  let v249 : BitVec 32 := Scalar.extui v248
  let c0_i32_178 : BitVec 32 := 0#32
  let v250 : BitVec 1 := Scalar.cmpi .slt v246 c0_i32_178
  let v251 : BitVec 32 := Scalar.extui v250
  let v252 : BitVec 32 := Scalar.subi v249 v251
  let c32_i32 : BitVec 32 := 32#32
  let c0_i32_179 : BitVec 32 := 0#32
  let v253 : BitVec 1 := Scalar.cmpi .sgt c32_i32 c0_i32_179
  let v254 : BitVec 32 := Scalar.extui v253
  let c0_i32_180 : BitVec 32 := 0#32
  let v255 : BitVec 1 := Scalar.cmpi .slt c32_i32 c0_i32_180
  let v256 : BitVec 32 := Scalar.extui v255
  let v257 : BitVec 32 := Scalar.subi v254 v256
  let v258 : BitVec 1 := Scalar.cmpi .ne v252 v257
  let v259 : BitVec 32 := Scalar.remsi v246 c32_i32
  let c0_i32_181 : BitVec 32 := 0#32
  let v260 : BitVec 1 := Scalar.cmpi .ne v259 c0_i32_181
  let v261 : BitVec 1 := Scalar.andi v258 v260
  let v247 : BitVec 32 := Scalar.divsi v246 c32_i32
  let c1_i32_182 : BitVec 32 := 1#32
  let v262 : BitVec 32 := Scalar.subi v247 c1_i32_182
  let v263 : BitVec 32 := Scalar.select v261 v262 v247
  let v314 : BitVec 32 := Scalar.subi v263 c0_i32_228
  let c1_i32_229 : BitVec 32 := 1#32
  let v316 : BitVec 32 := Scalar.divsi v314 c1_i32_229
  let v317 : BitVec 32 := Scalar.muli v316 c1_i32_229
  let v318 : BitVec 32 := Scalar.addi c0_i32_228 v317
  let c1_i32_231 : BitVec 32 := 1#32
  let arg9 : BitVec 32 := Scf.iv v318 c1_i32_231 k0_t2
  let c32_i32_247 : BitVec 32 := 32#32
  let v350 : BitVec 32 := Scalar.muli arg9 c32_i32_247
  let v351 : BitVec 32 := Scalar.addi c1_i32_248 v350
  let c27_i32 : BitVec 32 := 27#32
  let v4267 : BitVec 32 := Scalar.addi v351 c27_i32
  let c1_i32_3007 : BitVec 32 := 1#32
  let v4268 : BitVec 32 := Scalar.subi v1 c1_i32_3007
  let v4269 : BitVec 32 := Scalar.minsi v4267 v4268
  let c256_i32_3008 : BitVec 32 := 256#32
  let v4270 : BitVec 32 := Scalar.muli v4269 c256_i32_3008
  v4270
def k0_mult247 (i : grid0.Coords) (k0_t2 : Fin (k0_t2_loop i).trips) : BitVec 32 :=
  let c1_i32_248 : BitVec 32 := 1#32
  let c0_i32_228 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_176 : BitVec 32 := 1#32
  let v246 : BitVec 32 := Scalar.subi v1 c1_i32_176
  let c0_i32_177 : BitVec 32 := 0#32
  let v248 : BitVec 1 := Scalar.cmpi .sgt v246 c0_i32_177
  let v249 : BitVec 32 := Scalar.extui v248
  let c0_i32_178 : BitVec 32 := 0#32
  let v250 : BitVec 1 := Scalar.cmpi .slt v246 c0_i32_178
  let v251 : BitVec 32 := Scalar.extui v250
  let v252 : BitVec 32 := Scalar.subi v249 v251
  let c32_i32 : BitVec 32 := 32#32
  let c0_i32_179 : BitVec 32 := 0#32
  let v253 : BitVec 1 := Scalar.cmpi .sgt c32_i32 c0_i32_179
  let v254 : BitVec 32 := Scalar.extui v253
  let c0_i32_180 : BitVec 32 := 0#32
  let v255 : BitVec 1 := Scalar.cmpi .slt c32_i32 c0_i32_180
  let v256 : BitVec 32 := Scalar.extui v255
  let v257 : BitVec 32 := Scalar.subi v254 v256
  let v258 : BitVec 1 := Scalar.cmpi .ne v252 v257
  let v259 : BitVec 32 := Scalar.remsi v246 c32_i32
  let c0_i32_181 : BitVec 32 := 0#32
  let v260 : BitVec 1 := Scalar.cmpi .ne v259 c0_i32_181
  let v261 : BitVec 1 := Scalar.andi v258 v260
  let v247 : BitVec 32 := Scalar.divsi v246 c32_i32
  let c1_i32_182 : BitVec 32 := 1#32
  let v262 : BitVec 32 := Scalar.subi v247 c1_i32_182
  let v263 : BitVec 32 := Scalar.select v261 v262 v247
  let v314 : BitVec 32 := Scalar.subi v263 c0_i32_228
  let c1_i32_229 : BitVec 32 := 1#32
  let v316 : BitVec 32 := Scalar.divsi v314 c1_i32_229
  let v317 : BitVec 32 := Scalar.muli v316 c1_i32_229
  let v318 : BitVec 32 := Scalar.addi c0_i32_228 v317
  let c1_i32_231 : BitVec 32 := 1#32
  let arg9 : BitVec 32 := Scf.iv v318 c1_i32_231 k0_t2
  let c32_i32_247 : BitVec 32 := 32#32
  let v350 : BitVec 32 := Scalar.muli arg9 c32_i32_247
  let v351 : BitVec 32 := Scalar.addi c1_i32_248 v350
  let c27_i32_3033 : BitVec 32 := 27#32
  let v4305 : BitVec 32 := Scalar.addi v351 c27_i32_3033
  let c1_i32_3034 : BitVec 32 := 1#32
  let v4306 : BitVec 32 := Scalar.subi v1 c1_i32_3034
  let v4307 : BitVec 32 := Scalar.minsi v4305 v4306
  let c256_i32_3035 : BitVec 32 := 256#32
  let v4308 : BitVec 32 := Scalar.muli v4307 c256_i32_3035
  v4308
def k0_mult248 (i : grid0.Coords) (k0_t2 : Fin (k0_t2_loop i).trips) : BitVec 32 :=
  let c1_i32_248 : BitVec 32 := 1#32
  let c0_i32_228 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_176 : BitVec 32 := 1#32
  let v246 : BitVec 32 := Scalar.subi v1 c1_i32_176
  let c0_i32_177 : BitVec 32 := 0#32
  let v248 : BitVec 1 := Scalar.cmpi .sgt v246 c0_i32_177
  let v249 : BitVec 32 := Scalar.extui v248
  let c0_i32_178 : BitVec 32 := 0#32
  let v250 : BitVec 1 := Scalar.cmpi .slt v246 c0_i32_178
  let v251 : BitVec 32 := Scalar.extui v250
  let v252 : BitVec 32 := Scalar.subi v249 v251
  let c32_i32 : BitVec 32 := 32#32
  let c0_i32_179 : BitVec 32 := 0#32
  let v253 : BitVec 1 := Scalar.cmpi .sgt c32_i32 c0_i32_179
  let v254 : BitVec 32 := Scalar.extui v253
  let c0_i32_180 : BitVec 32 := 0#32
  let v255 : BitVec 1 := Scalar.cmpi .slt c32_i32 c0_i32_180
  let v256 : BitVec 32 := Scalar.extui v255
  let v257 : BitVec 32 := Scalar.subi v254 v256
  let v258 : BitVec 1 := Scalar.cmpi .ne v252 v257
  let v259 : BitVec 32 := Scalar.remsi v246 c32_i32
  let c0_i32_181 : BitVec 32 := 0#32
  let v260 : BitVec 1 := Scalar.cmpi .ne v259 c0_i32_181
  let v261 : BitVec 1 := Scalar.andi v258 v260
  let v247 : BitVec 32 := Scalar.divsi v246 c32_i32
  let c1_i32_182 : BitVec 32 := 1#32
  let v262 : BitVec 32 := Scalar.subi v247 c1_i32_182
  let v263 : BitVec 32 := Scalar.select v261 v262 v247
  let v314 : BitVec 32 := Scalar.subi v263 c0_i32_228
  let c1_i32_229 : BitVec 32 := 1#32
  let v316 : BitVec 32 := Scalar.divsi v314 c1_i32_229
  let v317 : BitVec 32 := Scalar.muli v316 c1_i32_229
  let v318 : BitVec 32 := Scalar.addi c0_i32_228 v317
  let c1_i32_231 : BitVec 32 := 1#32
  let arg9 : BitVec 32 := Scf.iv v318 c1_i32_231 k0_t2
  let c32_i32_247 : BitVec 32 := 32#32
  let v350 : BitVec 32 := Scalar.muli arg9 c32_i32_247
  let v351 : BitVec 32 := Scalar.addi c1_i32_248 v350
  let c27_i32_3060 : BitVec 32 := 27#32
  let v4343 : BitVec 32 := Scalar.addi v351 c27_i32_3060
  let c1_i32_3061 : BitVec 32 := 1#32
  let v4344 : BitVec 32 := Scalar.subi v1 c1_i32_3061
  let v4345 : BitVec 32 := Scalar.minsi v4343 v4344
  let c256_i32_3062 : BitVec 32 := 256#32
  let v4346 : BitVec 32 := Scalar.muli v4345 c256_i32_3062
  v4346
def k0_mult249 (i : grid0.Coords) (k0_t2 : Fin (k0_t2_loop i).trips) : BitVec 32 :=
  let c1_i32_248 : BitVec 32 := 1#32
  let c0_i32_228 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_176 : BitVec 32 := 1#32
  let v246 : BitVec 32 := Scalar.subi v1 c1_i32_176
  let c0_i32_177 : BitVec 32 := 0#32
  let v248 : BitVec 1 := Scalar.cmpi .sgt v246 c0_i32_177
  let v249 : BitVec 32 := Scalar.extui v248
  let c0_i32_178 : BitVec 32 := 0#32
  let v250 : BitVec 1 := Scalar.cmpi .slt v246 c0_i32_178
  let v251 : BitVec 32 := Scalar.extui v250
  let v252 : BitVec 32 := Scalar.subi v249 v251
  let c32_i32 : BitVec 32 := 32#32
  let c0_i32_179 : BitVec 32 := 0#32
  let v253 : BitVec 1 := Scalar.cmpi .sgt c32_i32 c0_i32_179
  let v254 : BitVec 32 := Scalar.extui v253
  let c0_i32_180 : BitVec 32 := 0#32
  let v255 : BitVec 1 := Scalar.cmpi .slt c32_i32 c0_i32_180
  let v256 : BitVec 32 := Scalar.extui v255
  let v257 : BitVec 32 := Scalar.subi v254 v256
  let v258 : BitVec 1 := Scalar.cmpi .ne v252 v257
  let v259 : BitVec 32 := Scalar.remsi v246 c32_i32
  let c0_i32_181 : BitVec 32 := 0#32
  let v260 : BitVec 1 := Scalar.cmpi .ne v259 c0_i32_181
  let v261 : BitVec 1 := Scalar.andi v258 v260
  let v247 : BitVec 32 := Scalar.divsi v246 c32_i32
  let c1_i32_182 : BitVec 32 := 1#32
  let v262 : BitVec 32 := Scalar.subi v247 c1_i32_182
  let v263 : BitVec 32 := Scalar.select v261 v262 v247
  let v314 : BitVec 32 := Scalar.subi v263 c0_i32_228
  let c1_i32_229 : BitVec 32 := 1#32
  let v316 : BitVec 32 := Scalar.divsi v314 c1_i32_229
  let v317 : BitVec 32 := Scalar.muli v316 c1_i32_229
  let v318 : BitVec 32 := Scalar.addi c0_i32_228 v317
  let c1_i32_231 : BitVec 32 := 1#32
  let arg9 : BitVec 32 := Scf.iv v318 c1_i32_231 k0_t2
  let c32_i32_247 : BitVec 32 := 32#32
  let v350 : BitVec 32 := Scalar.muli arg9 c32_i32_247
  let v351 : BitVec 32 := Scalar.addi c1_i32_248 v350
  let c27_i32_3087 : BitVec 32 := 27#32
  let v4381 : BitVec 32 := Scalar.addi v351 c27_i32_3087
  let c1_i32_3088 : BitVec 32 := 1#32
  let v4382 : BitVec 32 := Scalar.subi v1 c1_i32_3088
  let v4383 : BitVec 32 := Scalar.minsi v4381 v4382
  let c256_i32_3089 : BitVec 32 := 256#32
  let v4384 : BitVec 32 := Scalar.muli v4383 c256_i32_3089
  v4384
def k0_mult250 (i : grid0.Coords) (k0_t2 : Fin (k0_t2_loop i).trips) : BitVec 32 :=
  let c1_i32_248 : BitVec 32 := 1#32
  let c0_i32_228 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_176 : BitVec 32 := 1#32
  let v246 : BitVec 32 := Scalar.subi v1 c1_i32_176
  let c0_i32_177 : BitVec 32 := 0#32
  let v248 : BitVec 1 := Scalar.cmpi .sgt v246 c0_i32_177
  let v249 : BitVec 32 := Scalar.extui v248
  let c0_i32_178 : BitVec 32 := 0#32
  let v250 : BitVec 1 := Scalar.cmpi .slt v246 c0_i32_178
  let v251 : BitVec 32 := Scalar.extui v250
  let v252 : BitVec 32 := Scalar.subi v249 v251
  let c32_i32 : BitVec 32 := 32#32
  let c0_i32_179 : BitVec 32 := 0#32
  let v253 : BitVec 1 := Scalar.cmpi .sgt c32_i32 c0_i32_179
  let v254 : BitVec 32 := Scalar.extui v253
  let c0_i32_180 : BitVec 32 := 0#32
  let v255 : BitVec 1 := Scalar.cmpi .slt c32_i32 c0_i32_180
  let v256 : BitVec 32 := Scalar.extui v255
  let v257 : BitVec 32 := Scalar.subi v254 v256
  let v258 : BitVec 1 := Scalar.cmpi .ne v252 v257
  let v259 : BitVec 32 := Scalar.remsi v246 c32_i32
  let c0_i32_181 : BitVec 32 := 0#32
  let v260 : BitVec 1 := Scalar.cmpi .ne v259 c0_i32_181
  let v261 : BitVec 1 := Scalar.andi v258 v260
  let v247 : BitVec 32 := Scalar.divsi v246 c32_i32
  let c1_i32_182 : BitVec 32 := 1#32
  let v262 : BitVec 32 := Scalar.subi v247 c1_i32_182
  let v263 : BitVec 32 := Scalar.select v261 v262 v247
  let v314 : BitVec 32 := Scalar.subi v263 c0_i32_228
  let c1_i32_229 : BitVec 32 := 1#32
  let v316 : BitVec 32 := Scalar.divsi v314 c1_i32_229
  let v317 : BitVec 32 := Scalar.muli v316 c1_i32_229
  let v318 : BitVec 32 := Scalar.addi c0_i32_228 v317
  let c1_i32_231 : BitVec 32 := 1#32
  let arg9 : BitVec 32 := Scf.iv v318 c1_i32_231 k0_t2
  let c32_i32_247 : BitVec 32 := 32#32
  let v350 : BitVec 32 := Scalar.muli arg9 c32_i32_247
  let v351 : BitVec 32 := Scalar.addi c1_i32_248 v350
  let c28_i32 : BitVec 32 := 28#32
  let v4419 : BitVec 32 := Scalar.addi v351 c28_i32
  let c1_i32_3114 : BitVec 32 := 1#32
  let v4420 : BitVec 32 := Scalar.subi v1 c1_i32_3114
  let v4421 : BitVec 32 := Scalar.minsi v4419 v4420
  let c256_i32_3115 : BitVec 32 := 256#32
  let v4422 : BitVec 32 := Scalar.muli v4421 c256_i32_3115
  v4422
def k0_mult251 (i : grid0.Coords) (k0_t2 : Fin (k0_t2_loop i).trips) : BitVec 32 :=
  let c1_i32_248 : BitVec 32 := 1#32
  let c0_i32_228 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_176 : BitVec 32 := 1#32
  let v246 : BitVec 32 := Scalar.subi v1 c1_i32_176
  let c0_i32_177 : BitVec 32 := 0#32
  let v248 : BitVec 1 := Scalar.cmpi .sgt v246 c0_i32_177
  let v249 : BitVec 32 := Scalar.extui v248
  let c0_i32_178 : BitVec 32 := 0#32
  let v250 : BitVec 1 := Scalar.cmpi .slt v246 c0_i32_178
  let v251 : BitVec 32 := Scalar.extui v250
  let v252 : BitVec 32 := Scalar.subi v249 v251
  let c32_i32 : BitVec 32 := 32#32
  let c0_i32_179 : BitVec 32 := 0#32
  let v253 : BitVec 1 := Scalar.cmpi .sgt c32_i32 c0_i32_179
  let v254 : BitVec 32 := Scalar.extui v253
  let c0_i32_180 : BitVec 32 := 0#32
  let v255 : BitVec 1 := Scalar.cmpi .slt c32_i32 c0_i32_180
  let v256 : BitVec 32 := Scalar.extui v255
  let v257 : BitVec 32 := Scalar.subi v254 v256
  let v258 : BitVec 1 := Scalar.cmpi .ne v252 v257
  let v259 : BitVec 32 := Scalar.remsi v246 c32_i32
  let c0_i32_181 : BitVec 32 := 0#32
  let v260 : BitVec 1 := Scalar.cmpi .ne v259 c0_i32_181
  let v261 : BitVec 1 := Scalar.andi v258 v260
  let v247 : BitVec 32 := Scalar.divsi v246 c32_i32
  let c1_i32_182 : BitVec 32 := 1#32
  let v262 : BitVec 32 := Scalar.subi v247 c1_i32_182
  let v263 : BitVec 32 := Scalar.select v261 v262 v247
  let v314 : BitVec 32 := Scalar.subi v263 c0_i32_228
  let c1_i32_229 : BitVec 32 := 1#32
  let v316 : BitVec 32 := Scalar.divsi v314 c1_i32_229
  let v317 : BitVec 32 := Scalar.muli v316 c1_i32_229
  let v318 : BitVec 32 := Scalar.addi c0_i32_228 v317
  let c1_i32_231 : BitVec 32 := 1#32
  let arg9 : BitVec 32 := Scf.iv v318 c1_i32_231 k0_t2
  let c32_i32_247 : BitVec 32 := 32#32
  let v350 : BitVec 32 := Scalar.muli arg9 c32_i32_247
  let v351 : BitVec 32 := Scalar.addi c1_i32_248 v350
  let c28_i32_3140 : BitVec 32 := 28#32
  let v4457 : BitVec 32 := Scalar.addi v351 c28_i32_3140
  let c1_i32_3141 : BitVec 32 := 1#32
  let v4458 : BitVec 32 := Scalar.subi v1 c1_i32_3141
  let v4459 : BitVec 32 := Scalar.minsi v4457 v4458
  let c256_i32_3142 : BitVec 32 := 256#32
  let v4460 : BitVec 32 := Scalar.muli v4459 c256_i32_3142
  v4460
def k0_mult252 (i : grid0.Coords) (k0_t2 : Fin (k0_t2_loop i).trips) : BitVec 32 :=
  let c1_i32_248 : BitVec 32 := 1#32
  let c0_i32_228 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_176 : BitVec 32 := 1#32
  let v246 : BitVec 32 := Scalar.subi v1 c1_i32_176
  let c0_i32_177 : BitVec 32 := 0#32
  let v248 : BitVec 1 := Scalar.cmpi .sgt v246 c0_i32_177
  let v249 : BitVec 32 := Scalar.extui v248
  let c0_i32_178 : BitVec 32 := 0#32
  let v250 : BitVec 1 := Scalar.cmpi .slt v246 c0_i32_178
  let v251 : BitVec 32 := Scalar.extui v250
  let v252 : BitVec 32 := Scalar.subi v249 v251
  let c32_i32 : BitVec 32 := 32#32
  let c0_i32_179 : BitVec 32 := 0#32
  let v253 : BitVec 1 := Scalar.cmpi .sgt c32_i32 c0_i32_179
  let v254 : BitVec 32 := Scalar.extui v253
  let c0_i32_180 : BitVec 32 := 0#32
  let v255 : BitVec 1 := Scalar.cmpi .slt c32_i32 c0_i32_180
  let v256 : BitVec 32 := Scalar.extui v255
  let v257 : BitVec 32 := Scalar.subi v254 v256
  let v258 : BitVec 1 := Scalar.cmpi .ne v252 v257
  let v259 : BitVec 32 := Scalar.remsi v246 c32_i32
  let c0_i32_181 : BitVec 32 := 0#32
  let v260 : BitVec 1 := Scalar.cmpi .ne v259 c0_i32_181
  let v261 : BitVec 1 := Scalar.andi v258 v260
  let v247 : BitVec 32 := Scalar.divsi v246 c32_i32
  let c1_i32_182 : BitVec 32 := 1#32
  let v262 : BitVec 32 := Scalar.subi v247 c1_i32_182
  let v263 : BitVec 32 := Scalar.select v261 v262 v247
  let v314 : BitVec 32 := Scalar.subi v263 c0_i32_228
  let c1_i32_229 : BitVec 32 := 1#32
  let v316 : BitVec 32 := Scalar.divsi v314 c1_i32_229
  let v317 : BitVec 32 := Scalar.muli v316 c1_i32_229
  let v318 : BitVec 32 := Scalar.addi c0_i32_228 v317
  let c1_i32_231 : BitVec 32 := 1#32
  let arg9 : BitVec 32 := Scf.iv v318 c1_i32_231 k0_t2
  let c32_i32_247 : BitVec 32 := 32#32
  let v350 : BitVec 32 := Scalar.muli arg9 c32_i32_247
  let v351 : BitVec 32 := Scalar.addi c1_i32_248 v350
  let c28_i32_3167 : BitVec 32 := 28#32
  let v4495 : BitVec 32 := Scalar.addi v351 c28_i32_3167
  let c1_i32_3168 : BitVec 32 := 1#32
  let v4496 : BitVec 32 := Scalar.subi v1 c1_i32_3168
  let v4497 : BitVec 32 := Scalar.minsi v4495 v4496
  let c256_i32_3169 : BitVec 32 := 256#32
  let v4498 : BitVec 32 := Scalar.muli v4497 c256_i32_3169
  v4498
def k0_mult253 (i : grid0.Coords) (k0_t2 : Fin (k0_t2_loop i).trips) : BitVec 32 :=
  let c1_i32_248 : BitVec 32 := 1#32
  let c0_i32_228 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_176 : BitVec 32 := 1#32
  let v246 : BitVec 32 := Scalar.subi v1 c1_i32_176
  let c0_i32_177 : BitVec 32 := 0#32
  let v248 : BitVec 1 := Scalar.cmpi .sgt v246 c0_i32_177
  let v249 : BitVec 32 := Scalar.extui v248
  let c0_i32_178 : BitVec 32 := 0#32
  let v250 : BitVec 1 := Scalar.cmpi .slt v246 c0_i32_178
  let v251 : BitVec 32 := Scalar.extui v250
  let v252 : BitVec 32 := Scalar.subi v249 v251
  let c32_i32 : BitVec 32 := 32#32
  let c0_i32_179 : BitVec 32 := 0#32
  let v253 : BitVec 1 := Scalar.cmpi .sgt c32_i32 c0_i32_179
  let v254 : BitVec 32 := Scalar.extui v253
  let c0_i32_180 : BitVec 32 := 0#32
  let v255 : BitVec 1 := Scalar.cmpi .slt c32_i32 c0_i32_180
  let v256 : BitVec 32 := Scalar.extui v255
  let v257 : BitVec 32 := Scalar.subi v254 v256
  let v258 : BitVec 1 := Scalar.cmpi .ne v252 v257
  let v259 : BitVec 32 := Scalar.remsi v246 c32_i32
  let c0_i32_181 : BitVec 32 := 0#32
  let v260 : BitVec 1 := Scalar.cmpi .ne v259 c0_i32_181
  let v261 : BitVec 1 := Scalar.andi v258 v260
  let v247 : BitVec 32 := Scalar.divsi v246 c32_i32
  let c1_i32_182 : BitVec 32 := 1#32
  let v262 : BitVec 32 := Scalar.subi v247 c1_i32_182
  let v263 : BitVec 32 := Scalar.select v261 v262 v247
  let v314 : BitVec 32 := Scalar.subi v263 c0_i32_228
  let c1_i32_229 : BitVec 32 := 1#32
  let v316 : BitVec 32 := Scalar.divsi v314 c1_i32_229
  let v317 : BitVec 32 := Scalar.muli v316 c1_i32_229
  let v318 : BitVec 32 := Scalar.addi c0_i32_228 v317
  let c1_i32_231 : BitVec 32 := 1#32
  let arg9 : BitVec 32 := Scf.iv v318 c1_i32_231 k0_t2
  let c32_i32_247 : BitVec 32 := 32#32
  let v350 : BitVec 32 := Scalar.muli arg9 c32_i32_247
  let v351 : BitVec 32 := Scalar.addi c1_i32_248 v350
  let c28_i32_3194 : BitVec 32 := 28#32
  let v4533 : BitVec 32 := Scalar.addi v351 c28_i32_3194
  let c1_i32_3195 : BitVec 32 := 1#32
  let v4534 : BitVec 32 := Scalar.subi v1 c1_i32_3195
  let v4535 : BitVec 32 := Scalar.minsi v4533 v4534
  let c256_i32_3196 : BitVec 32 := 256#32
  let v4536 : BitVec 32 := Scalar.muli v4535 c256_i32_3196
  v4536
def k0_mult254 (i : grid0.Coords) (k0_t2 : Fin (k0_t2_loop i).trips) : BitVec 32 :=
  let c1_i32_248 : BitVec 32 := 1#32
  let c0_i32_228 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_176 : BitVec 32 := 1#32
  let v246 : BitVec 32 := Scalar.subi v1 c1_i32_176
  let c0_i32_177 : BitVec 32 := 0#32
  let v248 : BitVec 1 := Scalar.cmpi .sgt v246 c0_i32_177
  let v249 : BitVec 32 := Scalar.extui v248
  let c0_i32_178 : BitVec 32 := 0#32
  let v250 : BitVec 1 := Scalar.cmpi .slt v246 c0_i32_178
  let v251 : BitVec 32 := Scalar.extui v250
  let v252 : BitVec 32 := Scalar.subi v249 v251
  let c32_i32 : BitVec 32 := 32#32
  let c0_i32_179 : BitVec 32 := 0#32
  let v253 : BitVec 1 := Scalar.cmpi .sgt c32_i32 c0_i32_179
  let v254 : BitVec 32 := Scalar.extui v253
  let c0_i32_180 : BitVec 32 := 0#32
  let v255 : BitVec 1 := Scalar.cmpi .slt c32_i32 c0_i32_180
  let v256 : BitVec 32 := Scalar.extui v255
  let v257 : BitVec 32 := Scalar.subi v254 v256
  let v258 : BitVec 1 := Scalar.cmpi .ne v252 v257
  let v259 : BitVec 32 := Scalar.remsi v246 c32_i32
  let c0_i32_181 : BitVec 32 := 0#32
  let v260 : BitVec 1 := Scalar.cmpi .ne v259 c0_i32_181
  let v261 : BitVec 1 := Scalar.andi v258 v260
  let v247 : BitVec 32 := Scalar.divsi v246 c32_i32
  let c1_i32_182 : BitVec 32 := 1#32
  let v262 : BitVec 32 := Scalar.subi v247 c1_i32_182
  let v263 : BitVec 32 := Scalar.select v261 v262 v247
  let v314 : BitVec 32 := Scalar.subi v263 c0_i32_228
  let c1_i32_229 : BitVec 32 := 1#32
  let v316 : BitVec 32 := Scalar.divsi v314 c1_i32_229
  let v317 : BitVec 32 := Scalar.muli v316 c1_i32_229
  let v318 : BitVec 32 := Scalar.addi c0_i32_228 v317
  let c1_i32_231 : BitVec 32 := 1#32
  let arg9 : BitVec 32 := Scf.iv v318 c1_i32_231 k0_t2
  let c32_i32_247 : BitVec 32 := 32#32
  let v350 : BitVec 32 := Scalar.muli arg9 c32_i32_247
  let v351 : BitVec 32 := Scalar.addi c1_i32_248 v350
  let c29_i32 : BitVec 32 := 29#32
  let v4571 : BitVec 32 := Scalar.addi v351 c29_i32
  let c1_i32_3221 : BitVec 32 := 1#32
  let v4572 : BitVec 32 := Scalar.subi v1 c1_i32_3221
  let v4573 : BitVec 32 := Scalar.minsi v4571 v4572
  let c256_i32_3222 : BitVec 32 := 256#32
  let v4574 : BitVec 32 := Scalar.muli v4573 c256_i32_3222
  v4574
def k0_mult255 (i : grid0.Coords) (k0_t2 : Fin (k0_t2_loop i).trips) : BitVec 32 :=
  let c1_i32_248 : BitVec 32 := 1#32
  let c0_i32_228 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_176 : BitVec 32 := 1#32
  let v246 : BitVec 32 := Scalar.subi v1 c1_i32_176
  let c0_i32_177 : BitVec 32 := 0#32
  let v248 : BitVec 1 := Scalar.cmpi .sgt v246 c0_i32_177
  let v249 : BitVec 32 := Scalar.extui v248
  let c0_i32_178 : BitVec 32 := 0#32
  let v250 : BitVec 1 := Scalar.cmpi .slt v246 c0_i32_178
  let v251 : BitVec 32 := Scalar.extui v250
  let v252 : BitVec 32 := Scalar.subi v249 v251
  let c32_i32 : BitVec 32 := 32#32
  let c0_i32_179 : BitVec 32 := 0#32
  let v253 : BitVec 1 := Scalar.cmpi .sgt c32_i32 c0_i32_179
  let v254 : BitVec 32 := Scalar.extui v253
  let c0_i32_180 : BitVec 32 := 0#32
  let v255 : BitVec 1 := Scalar.cmpi .slt c32_i32 c0_i32_180
  let v256 : BitVec 32 := Scalar.extui v255
  let v257 : BitVec 32 := Scalar.subi v254 v256
  let v258 : BitVec 1 := Scalar.cmpi .ne v252 v257
  let v259 : BitVec 32 := Scalar.remsi v246 c32_i32
  let c0_i32_181 : BitVec 32 := 0#32
  let v260 : BitVec 1 := Scalar.cmpi .ne v259 c0_i32_181
  let v261 : BitVec 1 := Scalar.andi v258 v260
  let v247 : BitVec 32 := Scalar.divsi v246 c32_i32
  let c1_i32_182 : BitVec 32 := 1#32
  let v262 : BitVec 32 := Scalar.subi v247 c1_i32_182
  let v263 : BitVec 32 := Scalar.select v261 v262 v247
  let v314 : BitVec 32 := Scalar.subi v263 c0_i32_228
  let c1_i32_229 : BitVec 32 := 1#32
  let v316 : BitVec 32 := Scalar.divsi v314 c1_i32_229
  let v317 : BitVec 32 := Scalar.muli v316 c1_i32_229
  let v318 : BitVec 32 := Scalar.addi c0_i32_228 v317
  let c1_i32_231 : BitVec 32 := 1#32
  let arg9 : BitVec 32 := Scf.iv v318 c1_i32_231 k0_t2
  let c32_i32_247 : BitVec 32 := 32#32
  let v350 : BitVec 32 := Scalar.muli arg9 c32_i32_247
  let v351 : BitVec 32 := Scalar.addi c1_i32_248 v350
  let c29_i32_3247 : BitVec 32 := 29#32
  let v4609 : BitVec 32 := Scalar.addi v351 c29_i32_3247
  let c1_i32_3248 : BitVec 32 := 1#32
  let v4610 : BitVec 32 := Scalar.subi v1 c1_i32_3248
  let v4611 : BitVec 32 := Scalar.minsi v4609 v4610
  let c256_i32_3249 : BitVec 32 := 256#32
  let v4612 : BitVec 32 := Scalar.muli v4611 c256_i32_3249
  v4612
def k0_mult256 (i : grid0.Coords) (k0_t2 : Fin (k0_t2_loop i).trips) : BitVec 32 :=
  let c1_i32_248 : BitVec 32 := 1#32
  let c0_i32_228 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_176 : BitVec 32 := 1#32
  let v246 : BitVec 32 := Scalar.subi v1 c1_i32_176
  let c0_i32_177 : BitVec 32 := 0#32
  let v248 : BitVec 1 := Scalar.cmpi .sgt v246 c0_i32_177
  let v249 : BitVec 32 := Scalar.extui v248
  let c0_i32_178 : BitVec 32 := 0#32
  let v250 : BitVec 1 := Scalar.cmpi .slt v246 c0_i32_178
  let v251 : BitVec 32 := Scalar.extui v250
  let v252 : BitVec 32 := Scalar.subi v249 v251
  let c32_i32 : BitVec 32 := 32#32
  let c0_i32_179 : BitVec 32 := 0#32
  let v253 : BitVec 1 := Scalar.cmpi .sgt c32_i32 c0_i32_179
  let v254 : BitVec 32 := Scalar.extui v253
  let c0_i32_180 : BitVec 32 := 0#32
  let v255 : BitVec 1 := Scalar.cmpi .slt c32_i32 c0_i32_180
  let v256 : BitVec 32 := Scalar.extui v255
  let v257 : BitVec 32 := Scalar.subi v254 v256
  let v258 : BitVec 1 := Scalar.cmpi .ne v252 v257
  let v259 : BitVec 32 := Scalar.remsi v246 c32_i32
  let c0_i32_181 : BitVec 32 := 0#32
  let v260 : BitVec 1 := Scalar.cmpi .ne v259 c0_i32_181
  let v261 : BitVec 1 := Scalar.andi v258 v260
  let v247 : BitVec 32 := Scalar.divsi v246 c32_i32
  let c1_i32_182 : BitVec 32 := 1#32
  let v262 : BitVec 32 := Scalar.subi v247 c1_i32_182
  let v263 : BitVec 32 := Scalar.select v261 v262 v247
  let v314 : BitVec 32 := Scalar.subi v263 c0_i32_228
  let c1_i32_229 : BitVec 32 := 1#32
  let v316 : BitVec 32 := Scalar.divsi v314 c1_i32_229
  let v317 : BitVec 32 := Scalar.muli v316 c1_i32_229
  let v318 : BitVec 32 := Scalar.addi c0_i32_228 v317
  let c1_i32_231 : BitVec 32 := 1#32
  let arg9 : BitVec 32 := Scf.iv v318 c1_i32_231 k0_t2
  let c32_i32_247 : BitVec 32 := 32#32
  let v350 : BitVec 32 := Scalar.muli arg9 c32_i32_247
  let v351 : BitVec 32 := Scalar.addi c1_i32_248 v350
  let c29_i32_3274 : BitVec 32 := 29#32
  let v4647 : BitVec 32 := Scalar.addi v351 c29_i32_3274
  let c1_i32_3275 : BitVec 32 := 1#32
  let v4648 : BitVec 32 := Scalar.subi v1 c1_i32_3275
  let v4649 : BitVec 32 := Scalar.minsi v4647 v4648
  let c256_i32_3276 : BitVec 32 := 256#32
  let v4650 : BitVec 32 := Scalar.muli v4649 c256_i32_3276
  v4650
def k0_mult257 (i : grid0.Coords) (k0_t2 : Fin (k0_t2_loop i).trips) : BitVec 32 :=
  let c1_i32_248 : BitVec 32 := 1#32
  let c0_i32_228 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_176 : BitVec 32 := 1#32
  let v246 : BitVec 32 := Scalar.subi v1 c1_i32_176
  let c0_i32_177 : BitVec 32 := 0#32
  let v248 : BitVec 1 := Scalar.cmpi .sgt v246 c0_i32_177
  let v249 : BitVec 32 := Scalar.extui v248
  let c0_i32_178 : BitVec 32 := 0#32
  let v250 : BitVec 1 := Scalar.cmpi .slt v246 c0_i32_178
  let v251 : BitVec 32 := Scalar.extui v250
  let v252 : BitVec 32 := Scalar.subi v249 v251
  let c32_i32 : BitVec 32 := 32#32
  let c0_i32_179 : BitVec 32 := 0#32
  let v253 : BitVec 1 := Scalar.cmpi .sgt c32_i32 c0_i32_179
  let v254 : BitVec 32 := Scalar.extui v253
  let c0_i32_180 : BitVec 32 := 0#32
  let v255 : BitVec 1 := Scalar.cmpi .slt c32_i32 c0_i32_180
  let v256 : BitVec 32 := Scalar.extui v255
  let v257 : BitVec 32 := Scalar.subi v254 v256
  let v258 : BitVec 1 := Scalar.cmpi .ne v252 v257
  let v259 : BitVec 32 := Scalar.remsi v246 c32_i32
  let c0_i32_181 : BitVec 32 := 0#32
  let v260 : BitVec 1 := Scalar.cmpi .ne v259 c0_i32_181
  let v261 : BitVec 1 := Scalar.andi v258 v260
  let v247 : BitVec 32 := Scalar.divsi v246 c32_i32
  let c1_i32_182 : BitVec 32 := 1#32
  let v262 : BitVec 32 := Scalar.subi v247 c1_i32_182
  let v263 : BitVec 32 := Scalar.select v261 v262 v247
  let v314 : BitVec 32 := Scalar.subi v263 c0_i32_228
  let c1_i32_229 : BitVec 32 := 1#32
  let v316 : BitVec 32 := Scalar.divsi v314 c1_i32_229
  let v317 : BitVec 32 := Scalar.muli v316 c1_i32_229
  let v318 : BitVec 32 := Scalar.addi c0_i32_228 v317
  let c1_i32_231 : BitVec 32 := 1#32
  let arg9 : BitVec 32 := Scf.iv v318 c1_i32_231 k0_t2
  let c32_i32_247 : BitVec 32 := 32#32
  let v350 : BitVec 32 := Scalar.muli arg9 c32_i32_247
  let v351 : BitVec 32 := Scalar.addi c1_i32_248 v350
  let c29_i32_3301 : BitVec 32 := 29#32
  let v4685 : BitVec 32 := Scalar.addi v351 c29_i32_3301
  let c1_i32_3302 : BitVec 32 := 1#32
  let v4686 : BitVec 32 := Scalar.subi v1 c1_i32_3302
  let v4687 : BitVec 32 := Scalar.minsi v4685 v4686
  let c256_i32_3303 : BitVec 32 := 256#32
  let v4688 : BitVec 32 := Scalar.muli v4687 c256_i32_3303
  v4688
def k0_mult258 (i : grid0.Coords) (k0_t2 : Fin (k0_t2_loop i).trips) : BitVec 32 :=
  let c1_i32_248 : BitVec 32 := 1#32
  let c0_i32_228 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_176 : BitVec 32 := 1#32
  let v246 : BitVec 32 := Scalar.subi v1 c1_i32_176
  let c0_i32_177 : BitVec 32 := 0#32
  let v248 : BitVec 1 := Scalar.cmpi .sgt v246 c0_i32_177
  let v249 : BitVec 32 := Scalar.extui v248
  let c0_i32_178 : BitVec 32 := 0#32
  let v250 : BitVec 1 := Scalar.cmpi .slt v246 c0_i32_178
  let v251 : BitVec 32 := Scalar.extui v250
  let v252 : BitVec 32 := Scalar.subi v249 v251
  let c32_i32 : BitVec 32 := 32#32
  let c0_i32_179 : BitVec 32 := 0#32
  let v253 : BitVec 1 := Scalar.cmpi .sgt c32_i32 c0_i32_179
  let v254 : BitVec 32 := Scalar.extui v253
  let c0_i32_180 : BitVec 32 := 0#32
  let v255 : BitVec 1 := Scalar.cmpi .slt c32_i32 c0_i32_180
  let v256 : BitVec 32 := Scalar.extui v255
  let v257 : BitVec 32 := Scalar.subi v254 v256
  let v258 : BitVec 1 := Scalar.cmpi .ne v252 v257
  let v259 : BitVec 32 := Scalar.remsi v246 c32_i32
  let c0_i32_181 : BitVec 32 := 0#32
  let v260 : BitVec 1 := Scalar.cmpi .ne v259 c0_i32_181
  let v261 : BitVec 1 := Scalar.andi v258 v260
  let v247 : BitVec 32 := Scalar.divsi v246 c32_i32
  let c1_i32_182 : BitVec 32 := 1#32
  let v262 : BitVec 32 := Scalar.subi v247 c1_i32_182
  let v263 : BitVec 32 := Scalar.select v261 v262 v247
  let v314 : BitVec 32 := Scalar.subi v263 c0_i32_228
  let c1_i32_229 : BitVec 32 := 1#32
  let v316 : BitVec 32 := Scalar.divsi v314 c1_i32_229
  let v317 : BitVec 32 := Scalar.muli v316 c1_i32_229
  let v318 : BitVec 32 := Scalar.addi c0_i32_228 v317
  let c1_i32_231 : BitVec 32 := 1#32
  let arg9 : BitVec 32 := Scf.iv v318 c1_i32_231 k0_t2
  let c32_i32_247 : BitVec 32 := 32#32
  let v350 : BitVec 32 := Scalar.muli arg9 c32_i32_247
  let v351 : BitVec 32 := Scalar.addi c1_i32_248 v350
  let c30_i32 : BitVec 32 := 30#32
  let v4723 : BitVec 32 := Scalar.addi v351 c30_i32
  let c1_i32_3328 : BitVec 32 := 1#32
  let v4724 : BitVec 32 := Scalar.subi v1 c1_i32_3328
  let v4725 : BitVec 32 := Scalar.minsi v4723 v4724
  let c256_i32_3329 : BitVec 32 := 256#32
  let v4726 : BitVec 32 := Scalar.muli v4725 c256_i32_3329
  v4726
def k0_mult259 (i : grid0.Coords) (k0_t2 : Fin (k0_t2_loop i).trips) : BitVec 32 :=
  let c1_i32_248 : BitVec 32 := 1#32
  let c0_i32_228 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_176 : BitVec 32 := 1#32
  let v246 : BitVec 32 := Scalar.subi v1 c1_i32_176
  let c0_i32_177 : BitVec 32 := 0#32
  let v248 : BitVec 1 := Scalar.cmpi .sgt v246 c0_i32_177
  let v249 : BitVec 32 := Scalar.extui v248
  let c0_i32_178 : BitVec 32 := 0#32
  let v250 : BitVec 1 := Scalar.cmpi .slt v246 c0_i32_178
  let v251 : BitVec 32 := Scalar.extui v250
  let v252 : BitVec 32 := Scalar.subi v249 v251
  let c32_i32 : BitVec 32 := 32#32
  let c0_i32_179 : BitVec 32 := 0#32
  let v253 : BitVec 1 := Scalar.cmpi .sgt c32_i32 c0_i32_179
  let v254 : BitVec 32 := Scalar.extui v253
  let c0_i32_180 : BitVec 32 := 0#32
  let v255 : BitVec 1 := Scalar.cmpi .slt c32_i32 c0_i32_180
  let v256 : BitVec 32 := Scalar.extui v255
  let v257 : BitVec 32 := Scalar.subi v254 v256
  let v258 : BitVec 1 := Scalar.cmpi .ne v252 v257
  let v259 : BitVec 32 := Scalar.remsi v246 c32_i32
  let c0_i32_181 : BitVec 32 := 0#32
  let v260 : BitVec 1 := Scalar.cmpi .ne v259 c0_i32_181
  let v261 : BitVec 1 := Scalar.andi v258 v260
  let v247 : BitVec 32 := Scalar.divsi v246 c32_i32
  let c1_i32_182 : BitVec 32 := 1#32
  let v262 : BitVec 32 := Scalar.subi v247 c1_i32_182
  let v263 : BitVec 32 := Scalar.select v261 v262 v247
  let v314 : BitVec 32 := Scalar.subi v263 c0_i32_228
  let c1_i32_229 : BitVec 32 := 1#32
  let v316 : BitVec 32 := Scalar.divsi v314 c1_i32_229
  let v317 : BitVec 32 := Scalar.muli v316 c1_i32_229
  let v318 : BitVec 32 := Scalar.addi c0_i32_228 v317
  let c1_i32_231 : BitVec 32 := 1#32
  let arg9 : BitVec 32 := Scf.iv v318 c1_i32_231 k0_t2
  let c32_i32_247 : BitVec 32 := 32#32
  let v350 : BitVec 32 := Scalar.muli arg9 c32_i32_247
  let v351 : BitVec 32 := Scalar.addi c1_i32_248 v350
  let c30_i32_3354 : BitVec 32 := 30#32
  let v4761 : BitVec 32 := Scalar.addi v351 c30_i32_3354
  let c1_i32_3355 : BitVec 32 := 1#32
  let v4762 : BitVec 32 := Scalar.subi v1 c1_i32_3355
  let v4763 : BitVec 32 := Scalar.minsi v4761 v4762
  let c256_i32_3356 : BitVec 32 := 256#32
  let v4764 : BitVec 32 := Scalar.muli v4763 c256_i32_3356
  v4764
def k0_mult260 (i : grid0.Coords) (k0_t2 : Fin (k0_t2_loop i).trips) : BitVec 32 :=
  let c1_i32_248 : BitVec 32 := 1#32
  let c0_i32_228 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_176 : BitVec 32 := 1#32
  let v246 : BitVec 32 := Scalar.subi v1 c1_i32_176
  let c0_i32_177 : BitVec 32 := 0#32
  let v248 : BitVec 1 := Scalar.cmpi .sgt v246 c0_i32_177
  let v249 : BitVec 32 := Scalar.extui v248
  let c0_i32_178 : BitVec 32 := 0#32
  let v250 : BitVec 1 := Scalar.cmpi .slt v246 c0_i32_178
  let v251 : BitVec 32 := Scalar.extui v250
  let v252 : BitVec 32 := Scalar.subi v249 v251
  let c32_i32 : BitVec 32 := 32#32
  let c0_i32_179 : BitVec 32 := 0#32
  let v253 : BitVec 1 := Scalar.cmpi .sgt c32_i32 c0_i32_179
  let v254 : BitVec 32 := Scalar.extui v253
  let c0_i32_180 : BitVec 32 := 0#32
  let v255 : BitVec 1 := Scalar.cmpi .slt c32_i32 c0_i32_180
  let v256 : BitVec 32 := Scalar.extui v255
  let v257 : BitVec 32 := Scalar.subi v254 v256
  let v258 : BitVec 1 := Scalar.cmpi .ne v252 v257
  let v259 : BitVec 32 := Scalar.remsi v246 c32_i32
  let c0_i32_181 : BitVec 32 := 0#32
  let v260 : BitVec 1 := Scalar.cmpi .ne v259 c0_i32_181
  let v261 : BitVec 1 := Scalar.andi v258 v260
  let v247 : BitVec 32 := Scalar.divsi v246 c32_i32
  let c1_i32_182 : BitVec 32 := 1#32
  let v262 : BitVec 32 := Scalar.subi v247 c1_i32_182
  let v263 : BitVec 32 := Scalar.select v261 v262 v247
  let v314 : BitVec 32 := Scalar.subi v263 c0_i32_228
  let c1_i32_229 : BitVec 32 := 1#32
  let v316 : BitVec 32 := Scalar.divsi v314 c1_i32_229
  let v317 : BitVec 32 := Scalar.muli v316 c1_i32_229
  let v318 : BitVec 32 := Scalar.addi c0_i32_228 v317
  let c1_i32_231 : BitVec 32 := 1#32
  let arg9 : BitVec 32 := Scf.iv v318 c1_i32_231 k0_t2
  let c32_i32_247 : BitVec 32 := 32#32
  let v350 : BitVec 32 := Scalar.muli arg9 c32_i32_247
  let v351 : BitVec 32 := Scalar.addi c1_i32_248 v350
  let c30_i32_3381 : BitVec 32 := 30#32
  let v4799 : BitVec 32 := Scalar.addi v351 c30_i32_3381
  let c1_i32_3382 : BitVec 32 := 1#32
  let v4800 : BitVec 32 := Scalar.subi v1 c1_i32_3382
  let v4801 : BitVec 32 := Scalar.minsi v4799 v4800
  let c256_i32_3383 : BitVec 32 := 256#32
  let v4802 : BitVec 32 := Scalar.muli v4801 c256_i32_3383
  v4802
def k0_mult261 (i : grid0.Coords) (k0_t2 : Fin (k0_t2_loop i).trips) : BitVec 32 :=
  let c1_i32_248 : BitVec 32 := 1#32
  let c0_i32_228 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_176 : BitVec 32 := 1#32
  let v246 : BitVec 32 := Scalar.subi v1 c1_i32_176
  let c0_i32_177 : BitVec 32 := 0#32
  let v248 : BitVec 1 := Scalar.cmpi .sgt v246 c0_i32_177
  let v249 : BitVec 32 := Scalar.extui v248
  let c0_i32_178 : BitVec 32 := 0#32
  let v250 : BitVec 1 := Scalar.cmpi .slt v246 c0_i32_178
  let v251 : BitVec 32 := Scalar.extui v250
  let v252 : BitVec 32 := Scalar.subi v249 v251
  let c32_i32 : BitVec 32 := 32#32
  let c0_i32_179 : BitVec 32 := 0#32
  let v253 : BitVec 1 := Scalar.cmpi .sgt c32_i32 c0_i32_179
  let v254 : BitVec 32 := Scalar.extui v253
  let c0_i32_180 : BitVec 32 := 0#32
  let v255 : BitVec 1 := Scalar.cmpi .slt c32_i32 c0_i32_180
  let v256 : BitVec 32 := Scalar.extui v255
  let v257 : BitVec 32 := Scalar.subi v254 v256
  let v258 : BitVec 1 := Scalar.cmpi .ne v252 v257
  let v259 : BitVec 32 := Scalar.remsi v246 c32_i32
  let c0_i32_181 : BitVec 32 := 0#32
  let v260 : BitVec 1 := Scalar.cmpi .ne v259 c0_i32_181
  let v261 : BitVec 1 := Scalar.andi v258 v260
  let v247 : BitVec 32 := Scalar.divsi v246 c32_i32
  let c1_i32_182 : BitVec 32 := 1#32
  let v262 : BitVec 32 := Scalar.subi v247 c1_i32_182
  let v263 : BitVec 32 := Scalar.select v261 v262 v247
  let v314 : BitVec 32 := Scalar.subi v263 c0_i32_228
  let c1_i32_229 : BitVec 32 := 1#32
  let v316 : BitVec 32 := Scalar.divsi v314 c1_i32_229
  let v317 : BitVec 32 := Scalar.muli v316 c1_i32_229
  let v318 : BitVec 32 := Scalar.addi c0_i32_228 v317
  let c1_i32_231 : BitVec 32 := 1#32
  let arg9 : BitVec 32 := Scf.iv v318 c1_i32_231 k0_t2
  let c32_i32_247 : BitVec 32 := 32#32
  let v350 : BitVec 32 := Scalar.muli arg9 c32_i32_247
  let v351 : BitVec 32 := Scalar.addi c1_i32_248 v350
  let c30_i32_3408 : BitVec 32 := 30#32
  let v4837 : BitVec 32 := Scalar.addi v351 c30_i32_3408
  let c1_i32_3409 : BitVec 32 := 1#32
  let v4838 : BitVec 32 := Scalar.subi v1 c1_i32_3409
  let v4839 : BitVec 32 := Scalar.minsi v4837 v4838
  let c256_i32_3410 : BitVec 32 := 256#32
  let v4840 : BitVec 32 := Scalar.muli v4839 c256_i32_3410
  v4840
def k0_mult262 (i : grid0.Coords) (k0_t2 : Fin (k0_t2_loop i).trips) : BitVec 32 :=
  let c1_i32_248 : BitVec 32 := 1#32
  let c0_i32_228 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_176 : BitVec 32 := 1#32
  let v246 : BitVec 32 := Scalar.subi v1 c1_i32_176
  let c0_i32_177 : BitVec 32 := 0#32
  let v248 : BitVec 1 := Scalar.cmpi .sgt v246 c0_i32_177
  let v249 : BitVec 32 := Scalar.extui v248
  let c0_i32_178 : BitVec 32 := 0#32
  let v250 : BitVec 1 := Scalar.cmpi .slt v246 c0_i32_178
  let v251 : BitVec 32 := Scalar.extui v250
  let v252 : BitVec 32 := Scalar.subi v249 v251
  let c32_i32 : BitVec 32 := 32#32
  let c0_i32_179 : BitVec 32 := 0#32
  let v253 : BitVec 1 := Scalar.cmpi .sgt c32_i32 c0_i32_179
  let v254 : BitVec 32 := Scalar.extui v253
  let c0_i32_180 : BitVec 32 := 0#32
  let v255 : BitVec 1 := Scalar.cmpi .slt c32_i32 c0_i32_180
  let v256 : BitVec 32 := Scalar.extui v255
  let v257 : BitVec 32 := Scalar.subi v254 v256
  let v258 : BitVec 1 := Scalar.cmpi .ne v252 v257
  let v259 : BitVec 32 := Scalar.remsi v246 c32_i32
  let c0_i32_181 : BitVec 32 := 0#32
  let v260 : BitVec 1 := Scalar.cmpi .ne v259 c0_i32_181
  let v261 : BitVec 1 := Scalar.andi v258 v260
  let v247 : BitVec 32 := Scalar.divsi v246 c32_i32
  let c1_i32_182 : BitVec 32 := 1#32
  let v262 : BitVec 32 := Scalar.subi v247 c1_i32_182
  let v263 : BitVec 32 := Scalar.select v261 v262 v247
  let v314 : BitVec 32 := Scalar.subi v263 c0_i32_228
  let c1_i32_229 : BitVec 32 := 1#32
  let v316 : BitVec 32 := Scalar.divsi v314 c1_i32_229
  let v317 : BitVec 32 := Scalar.muli v316 c1_i32_229
  let v318 : BitVec 32 := Scalar.addi c0_i32_228 v317
  let c1_i32_231 : BitVec 32 := 1#32
  let arg9 : BitVec 32 := Scf.iv v318 c1_i32_231 k0_t2
  let c32_i32_247 : BitVec 32 := 32#32
  let v350 : BitVec 32 := Scalar.muli arg9 c32_i32_247
  let v351 : BitVec 32 := Scalar.addi c1_i32_248 v350
  let c31_i32 : BitVec 32 := 31#32
  let v4875 : BitVec 32 := Scalar.addi v351 c31_i32
  let c1_i32_3435 : BitVec 32 := 1#32
  let v4876 : BitVec 32 := Scalar.subi v1 c1_i32_3435
  let v4877 : BitVec 32 := Scalar.minsi v4875 v4876
  let c256_i32_3436 : BitVec 32 := 256#32
  let v4878 : BitVec 32 := Scalar.muli v4877 c256_i32_3436
  v4878
def k0_mult263 (i : grid0.Coords) (k0_t2 : Fin (k0_t2_loop i).trips) : BitVec 32 :=
  let c1_i32_248 : BitVec 32 := 1#32
  let c0_i32_228 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_176 : BitVec 32 := 1#32
  let v246 : BitVec 32 := Scalar.subi v1 c1_i32_176
  let c0_i32_177 : BitVec 32 := 0#32
  let v248 : BitVec 1 := Scalar.cmpi .sgt v246 c0_i32_177
  let v249 : BitVec 32 := Scalar.extui v248
  let c0_i32_178 : BitVec 32 := 0#32
  let v250 : BitVec 1 := Scalar.cmpi .slt v246 c0_i32_178
  let v251 : BitVec 32 := Scalar.extui v250
  let v252 : BitVec 32 := Scalar.subi v249 v251
  let c32_i32 : BitVec 32 := 32#32
  let c0_i32_179 : BitVec 32 := 0#32
  let v253 : BitVec 1 := Scalar.cmpi .sgt c32_i32 c0_i32_179
  let v254 : BitVec 32 := Scalar.extui v253
  let c0_i32_180 : BitVec 32 := 0#32
  let v255 : BitVec 1 := Scalar.cmpi .slt c32_i32 c0_i32_180
  let v256 : BitVec 32 := Scalar.extui v255
  let v257 : BitVec 32 := Scalar.subi v254 v256
  let v258 : BitVec 1 := Scalar.cmpi .ne v252 v257
  let v259 : BitVec 32 := Scalar.remsi v246 c32_i32
  let c0_i32_181 : BitVec 32 := 0#32
  let v260 : BitVec 1 := Scalar.cmpi .ne v259 c0_i32_181
  let v261 : BitVec 1 := Scalar.andi v258 v260
  let v247 : BitVec 32 := Scalar.divsi v246 c32_i32
  let c1_i32_182 : BitVec 32 := 1#32
  let v262 : BitVec 32 := Scalar.subi v247 c1_i32_182
  let v263 : BitVec 32 := Scalar.select v261 v262 v247
  let v314 : BitVec 32 := Scalar.subi v263 c0_i32_228
  let c1_i32_229 : BitVec 32 := 1#32
  let v316 : BitVec 32 := Scalar.divsi v314 c1_i32_229
  let v317 : BitVec 32 := Scalar.muli v316 c1_i32_229
  let v318 : BitVec 32 := Scalar.addi c0_i32_228 v317
  let c1_i32_231 : BitVec 32 := 1#32
  let arg9 : BitVec 32 := Scf.iv v318 c1_i32_231 k0_t2
  let c32_i32_247 : BitVec 32 := 32#32
  let v350 : BitVec 32 := Scalar.muli arg9 c32_i32_247
  let v351 : BitVec 32 := Scalar.addi c1_i32_248 v350
  let c31_i32_3461 : BitVec 32 := 31#32
  let v4913 : BitVec 32 := Scalar.addi v351 c31_i32_3461
  let c1_i32_3462 : BitVec 32 := 1#32
  let v4914 : BitVec 32 := Scalar.subi v1 c1_i32_3462
  let v4915 : BitVec 32 := Scalar.minsi v4913 v4914
  let c256_i32_3463 : BitVec 32 := 256#32
  let v4916 : BitVec 32 := Scalar.muli v4915 c256_i32_3463
  v4916
def k0_mult264 (i : grid0.Coords) (k0_t2 : Fin (k0_t2_loop i).trips) : BitVec 32 :=
  let c1_i32_248 : BitVec 32 := 1#32
  let c0_i32_228 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_176 : BitVec 32 := 1#32
  let v246 : BitVec 32 := Scalar.subi v1 c1_i32_176
  let c0_i32_177 : BitVec 32 := 0#32
  let v248 : BitVec 1 := Scalar.cmpi .sgt v246 c0_i32_177
  let v249 : BitVec 32 := Scalar.extui v248
  let c0_i32_178 : BitVec 32 := 0#32
  let v250 : BitVec 1 := Scalar.cmpi .slt v246 c0_i32_178
  let v251 : BitVec 32 := Scalar.extui v250
  let v252 : BitVec 32 := Scalar.subi v249 v251
  let c32_i32 : BitVec 32 := 32#32
  let c0_i32_179 : BitVec 32 := 0#32
  let v253 : BitVec 1 := Scalar.cmpi .sgt c32_i32 c0_i32_179
  let v254 : BitVec 32 := Scalar.extui v253
  let c0_i32_180 : BitVec 32 := 0#32
  let v255 : BitVec 1 := Scalar.cmpi .slt c32_i32 c0_i32_180
  let v256 : BitVec 32 := Scalar.extui v255
  let v257 : BitVec 32 := Scalar.subi v254 v256
  let v258 : BitVec 1 := Scalar.cmpi .ne v252 v257
  let v259 : BitVec 32 := Scalar.remsi v246 c32_i32
  let c0_i32_181 : BitVec 32 := 0#32
  let v260 : BitVec 1 := Scalar.cmpi .ne v259 c0_i32_181
  let v261 : BitVec 1 := Scalar.andi v258 v260
  let v247 : BitVec 32 := Scalar.divsi v246 c32_i32
  let c1_i32_182 : BitVec 32 := 1#32
  let v262 : BitVec 32 := Scalar.subi v247 c1_i32_182
  let v263 : BitVec 32 := Scalar.select v261 v262 v247
  let v314 : BitVec 32 := Scalar.subi v263 c0_i32_228
  let c1_i32_229 : BitVec 32 := 1#32
  let v316 : BitVec 32 := Scalar.divsi v314 c1_i32_229
  let v317 : BitVec 32 := Scalar.muli v316 c1_i32_229
  let v318 : BitVec 32 := Scalar.addi c0_i32_228 v317
  let c1_i32_231 : BitVec 32 := 1#32
  let arg9 : BitVec 32 := Scf.iv v318 c1_i32_231 k0_t2
  let c32_i32_247 : BitVec 32 := 32#32
  let v350 : BitVec 32 := Scalar.muli arg9 c32_i32_247
  let v351 : BitVec 32 := Scalar.addi c1_i32_248 v350
  let c31_i32_3488 : BitVec 32 := 31#32
  let v4951 : BitVec 32 := Scalar.addi v351 c31_i32_3488
  let c1_i32_3489 : BitVec 32 := 1#32
  let v4952 : BitVec 32 := Scalar.subi v1 c1_i32_3489
  let v4953 : BitVec 32 := Scalar.minsi v4951 v4952
  let c256_i32_3490 : BitVec 32 := 256#32
  let v4954 : BitVec 32 := Scalar.muli v4953 c256_i32_3490
  v4954
def k0_mult265 (i : grid0.Coords) (k0_t2 : Fin (k0_t2_loop i).trips) : BitVec 32 :=
  let c1_i32_248 : BitVec 32 := 1#32
  let c0_i32_228 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_176 : BitVec 32 := 1#32
  let v246 : BitVec 32 := Scalar.subi v1 c1_i32_176
  let c0_i32_177 : BitVec 32 := 0#32
  let v248 : BitVec 1 := Scalar.cmpi .sgt v246 c0_i32_177
  let v249 : BitVec 32 := Scalar.extui v248
  let c0_i32_178 : BitVec 32 := 0#32
  let v250 : BitVec 1 := Scalar.cmpi .slt v246 c0_i32_178
  let v251 : BitVec 32 := Scalar.extui v250
  let v252 : BitVec 32 := Scalar.subi v249 v251
  let c32_i32 : BitVec 32 := 32#32
  let c0_i32_179 : BitVec 32 := 0#32
  let v253 : BitVec 1 := Scalar.cmpi .sgt c32_i32 c0_i32_179
  let v254 : BitVec 32 := Scalar.extui v253
  let c0_i32_180 : BitVec 32 := 0#32
  let v255 : BitVec 1 := Scalar.cmpi .slt c32_i32 c0_i32_180
  let v256 : BitVec 32 := Scalar.extui v255
  let v257 : BitVec 32 := Scalar.subi v254 v256
  let v258 : BitVec 1 := Scalar.cmpi .ne v252 v257
  let v259 : BitVec 32 := Scalar.remsi v246 c32_i32
  let c0_i32_181 : BitVec 32 := 0#32
  let v260 : BitVec 1 := Scalar.cmpi .ne v259 c0_i32_181
  let v261 : BitVec 1 := Scalar.andi v258 v260
  let v247 : BitVec 32 := Scalar.divsi v246 c32_i32
  let c1_i32_182 : BitVec 32 := 1#32
  let v262 : BitVec 32 := Scalar.subi v247 c1_i32_182
  let v263 : BitVec 32 := Scalar.select v261 v262 v247
  let v314 : BitVec 32 := Scalar.subi v263 c0_i32_228
  let c1_i32_229 : BitVec 32 := 1#32
  let v316 : BitVec 32 := Scalar.divsi v314 c1_i32_229
  let v317 : BitVec 32 := Scalar.muli v316 c1_i32_229
  let v318 : BitVec 32 := Scalar.addi c0_i32_228 v317
  let c1_i32_231 : BitVec 32 := 1#32
  let arg9 : BitVec 32 := Scf.iv v318 c1_i32_231 k0_t2
  let c32_i32_247 : BitVec 32 := 32#32
  let v350 : BitVec 32 := Scalar.muli arg9 c32_i32_247
  let v351 : BitVec 32 := Scalar.addi c1_i32_248 v350
  let c31_i32_3515 : BitVec 32 := 31#32
  let v4989 : BitVec 32 := Scalar.addi v351 c31_i32_3515
  let c1_i32_3516 : BitVec 32 := 1#32
  let v4990 : BitVec 32 := Scalar.subi v1 c1_i32_3516
  let v4991 : BitVec 32 := Scalar.minsi v4989 v4990
  let c256_i32_3517 : BitVec 32 := 256#32
  let v4992 : BitVec 32 := Scalar.muli v4991 c256_i32_3517
  v4992
def k0_mult266 (i : grid0.Coords) (k0_t2 : Fin (k0_t2_loop i).trips) : BitVec 32 :=
  let c1_i32_248 : BitVec 32 := 1#32
  let c0_i32_228 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_176 : BitVec 32 := 1#32
  let v246 : BitVec 32 := Scalar.subi v1 c1_i32_176
  let c0_i32_177 : BitVec 32 := 0#32
  let v248 : BitVec 1 := Scalar.cmpi .sgt v246 c0_i32_177
  let v249 : BitVec 32 := Scalar.extui v248
  let c0_i32_178 : BitVec 32 := 0#32
  let v250 : BitVec 1 := Scalar.cmpi .slt v246 c0_i32_178
  let v251 : BitVec 32 := Scalar.extui v250
  let v252 : BitVec 32 := Scalar.subi v249 v251
  let c32_i32 : BitVec 32 := 32#32
  let c0_i32_179 : BitVec 32 := 0#32
  let v253 : BitVec 1 := Scalar.cmpi .sgt c32_i32 c0_i32_179
  let v254 : BitVec 32 := Scalar.extui v253
  let c0_i32_180 : BitVec 32 := 0#32
  let v255 : BitVec 1 := Scalar.cmpi .slt c32_i32 c0_i32_180
  let v256 : BitVec 32 := Scalar.extui v255
  let v257 : BitVec 32 := Scalar.subi v254 v256
  let v258 : BitVec 1 := Scalar.cmpi .ne v252 v257
  let v259 : BitVec 32 := Scalar.remsi v246 c32_i32
  let c0_i32_181 : BitVec 32 := 0#32
  let v260 : BitVec 1 := Scalar.cmpi .ne v259 c0_i32_181
  let v261 : BitVec 1 := Scalar.andi v258 v260
  let v247 : BitVec 32 := Scalar.divsi v246 c32_i32
  let c1_i32_182 : BitVec 32 := 1#32
  let v262 : BitVec 32 := Scalar.subi v247 c1_i32_182
  let v263 : BitVec 32 := Scalar.select v261 v262 v247
  let v314 : BitVec 32 := Scalar.subi v263 c0_i32_228
  let c1_i32_229 : BitVec 32 := 1#32
  let v316 : BitVec 32 := Scalar.divsi v314 c1_i32_229
  let v317 : BitVec 32 := Scalar.muli v316 c1_i32_229
  let v318 : BitVec 32 := Scalar.addi c0_i32_228 v317
  let c1_i32_231 : BitVec 32 := 1#32
  let arg9 : BitVec 32 := Scf.iv v318 c1_i32_231 k0_t2
  let c32_i32_247 : BitVec 32 := 32#32
  let v350 : BitVec 32 := Scalar.muli arg9 c32_i32_247
  let v351 : BitVec 32 := Scalar.addi c1_i32_248 v350
  let c32_i32_3542 : BitVec 32 := 32#32
  let v5027 : BitVec 32 := Scalar.addi v351 c32_i32_3542
  let c1_i32_3543 : BitVec 32 := 1#32
  let v5028 : BitVec 32 := Scalar.subi v1 c1_i32_3543
  let v5029 : BitVec 32 := Scalar.minsi v5027 v5028
  let c256_i32_3544 : BitVec 32 := 256#32
  let v5030 : BitVec 32 := Scalar.muli v5029 c256_i32_3544
  v5030
def k0_mult267 (i : grid0.Coords) (k0_t2 : Fin (k0_t2_loop i).trips) : BitVec 32 :=
  let c1_i32_248 : BitVec 32 := 1#32
  let c0_i32_228 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_176 : BitVec 32 := 1#32
  let v246 : BitVec 32 := Scalar.subi v1 c1_i32_176
  let c0_i32_177 : BitVec 32 := 0#32
  let v248 : BitVec 1 := Scalar.cmpi .sgt v246 c0_i32_177
  let v249 : BitVec 32 := Scalar.extui v248
  let c0_i32_178 : BitVec 32 := 0#32
  let v250 : BitVec 1 := Scalar.cmpi .slt v246 c0_i32_178
  let v251 : BitVec 32 := Scalar.extui v250
  let v252 : BitVec 32 := Scalar.subi v249 v251
  let c32_i32 : BitVec 32 := 32#32
  let c0_i32_179 : BitVec 32 := 0#32
  let v253 : BitVec 1 := Scalar.cmpi .sgt c32_i32 c0_i32_179
  let v254 : BitVec 32 := Scalar.extui v253
  let c0_i32_180 : BitVec 32 := 0#32
  let v255 : BitVec 1 := Scalar.cmpi .slt c32_i32 c0_i32_180
  let v256 : BitVec 32 := Scalar.extui v255
  let v257 : BitVec 32 := Scalar.subi v254 v256
  let v258 : BitVec 1 := Scalar.cmpi .ne v252 v257
  let v259 : BitVec 32 := Scalar.remsi v246 c32_i32
  let c0_i32_181 : BitVec 32 := 0#32
  let v260 : BitVec 1 := Scalar.cmpi .ne v259 c0_i32_181
  let v261 : BitVec 1 := Scalar.andi v258 v260
  let v247 : BitVec 32 := Scalar.divsi v246 c32_i32
  let c1_i32_182 : BitVec 32 := 1#32
  let v262 : BitVec 32 := Scalar.subi v247 c1_i32_182
  let v263 : BitVec 32 := Scalar.select v261 v262 v247
  let v314 : BitVec 32 := Scalar.subi v263 c0_i32_228
  let c1_i32_229 : BitVec 32 := 1#32
  let v316 : BitVec 32 := Scalar.divsi v314 c1_i32_229
  let v317 : BitVec 32 := Scalar.muli v316 c1_i32_229
  let v318 : BitVec 32 := Scalar.addi c0_i32_228 v317
  let c1_i32_231 : BitVec 32 := 1#32
  let arg9 : BitVec 32 := Scf.iv v318 c1_i32_231 k0_t2
  let c32_i32_247 : BitVec 32 := 32#32
  let v350 : BitVec 32 := Scalar.muli arg9 c32_i32_247
  let v351 : BitVec 32 := Scalar.addi c1_i32_248 v350
  let c32_i32_3569 : BitVec 32 := 32#32
  let v5065 : BitVec 32 := Scalar.addi v351 c32_i32_3569
  let c1_i32_3570 : BitVec 32 := 1#32
  let v5066 : BitVec 32 := Scalar.subi v1 c1_i32_3570
  let v5067 : BitVec 32 := Scalar.minsi v5065 v5066
  let c256_i32_3571 : BitVec 32 := 256#32
  let v5068 : BitVec 32 := Scalar.muli v5067 c256_i32_3571
  v5068
def k0_mult268 (i : grid0.Coords) (k0_t2 : Fin (k0_t2_loop i).trips) : BitVec 32 :=
  let c1_i32_248 : BitVec 32 := 1#32
  let c0_i32_228 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_176 : BitVec 32 := 1#32
  let v246 : BitVec 32 := Scalar.subi v1 c1_i32_176
  let c0_i32_177 : BitVec 32 := 0#32
  let v248 : BitVec 1 := Scalar.cmpi .sgt v246 c0_i32_177
  let v249 : BitVec 32 := Scalar.extui v248
  let c0_i32_178 : BitVec 32 := 0#32
  let v250 : BitVec 1 := Scalar.cmpi .slt v246 c0_i32_178
  let v251 : BitVec 32 := Scalar.extui v250
  let v252 : BitVec 32 := Scalar.subi v249 v251
  let c32_i32 : BitVec 32 := 32#32
  let c0_i32_179 : BitVec 32 := 0#32
  let v253 : BitVec 1 := Scalar.cmpi .sgt c32_i32 c0_i32_179
  let v254 : BitVec 32 := Scalar.extui v253
  let c0_i32_180 : BitVec 32 := 0#32
  let v255 : BitVec 1 := Scalar.cmpi .slt c32_i32 c0_i32_180
  let v256 : BitVec 32 := Scalar.extui v255
  let v257 : BitVec 32 := Scalar.subi v254 v256
  let v258 : BitVec 1 := Scalar.cmpi .ne v252 v257
  let v259 : BitVec 32 := Scalar.remsi v246 c32_i32
  let c0_i32_181 : BitVec 32 := 0#32
  let v260 : BitVec 1 := Scalar.cmpi .ne v259 c0_i32_181
  let v261 : BitVec 1 := Scalar.andi v258 v260
  let v247 : BitVec 32 := Scalar.divsi v246 c32_i32
  let c1_i32_182 : BitVec 32 := 1#32
  let v262 : BitVec 32 := Scalar.subi v247 c1_i32_182
  let v263 : BitVec 32 := Scalar.select v261 v262 v247
  let v314 : BitVec 32 := Scalar.subi v263 c0_i32_228
  let c1_i32_229 : BitVec 32 := 1#32
  let v316 : BitVec 32 := Scalar.divsi v314 c1_i32_229
  let v317 : BitVec 32 := Scalar.muli v316 c1_i32_229
  let v318 : BitVec 32 := Scalar.addi c0_i32_228 v317
  let c1_i32_231 : BitVec 32 := 1#32
  let arg9 : BitVec 32 := Scf.iv v318 c1_i32_231 k0_t2
  let c32_i32_247 : BitVec 32 := 32#32
  let v350 : BitVec 32 := Scalar.muli arg9 c32_i32_247
  let v351 : BitVec 32 := Scalar.addi c1_i32_248 v350
  let c32_i32_3596 : BitVec 32 := 32#32
  let v5103 : BitVec 32 := Scalar.addi v351 c32_i32_3596
  let c1_i32_3597 : BitVec 32 := 1#32
  let v5104 : BitVec 32 := Scalar.subi v1 c1_i32_3597
  let v5105 : BitVec 32 := Scalar.minsi v5103 v5104
  let c256_i32_3598 : BitVec 32 := 256#32
  let v5106 : BitVec 32 := Scalar.muli v5105 c256_i32_3598
  v5106
def k0_mult269 (i : grid0.Coords) (k0_t2 : Fin (k0_t2_loop i).trips) : BitVec 32 :=
  let c1_i32_248 : BitVec 32 := 1#32
  let c0_i32_228 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_176 : BitVec 32 := 1#32
  let v246 : BitVec 32 := Scalar.subi v1 c1_i32_176
  let c0_i32_177 : BitVec 32 := 0#32
  let v248 : BitVec 1 := Scalar.cmpi .sgt v246 c0_i32_177
  let v249 : BitVec 32 := Scalar.extui v248
  let c0_i32_178 : BitVec 32 := 0#32
  let v250 : BitVec 1 := Scalar.cmpi .slt v246 c0_i32_178
  let v251 : BitVec 32 := Scalar.extui v250
  let v252 : BitVec 32 := Scalar.subi v249 v251
  let c32_i32 : BitVec 32 := 32#32
  let c0_i32_179 : BitVec 32 := 0#32
  let v253 : BitVec 1 := Scalar.cmpi .sgt c32_i32 c0_i32_179
  let v254 : BitVec 32 := Scalar.extui v253
  let c0_i32_180 : BitVec 32 := 0#32
  let v255 : BitVec 1 := Scalar.cmpi .slt c32_i32 c0_i32_180
  let v256 : BitVec 32 := Scalar.extui v255
  let v257 : BitVec 32 := Scalar.subi v254 v256
  let v258 : BitVec 1 := Scalar.cmpi .ne v252 v257
  let v259 : BitVec 32 := Scalar.remsi v246 c32_i32
  let c0_i32_181 : BitVec 32 := 0#32
  let v260 : BitVec 1 := Scalar.cmpi .ne v259 c0_i32_181
  let v261 : BitVec 1 := Scalar.andi v258 v260
  let v247 : BitVec 32 := Scalar.divsi v246 c32_i32
  let c1_i32_182 : BitVec 32 := 1#32
  let v262 : BitVec 32 := Scalar.subi v247 c1_i32_182
  let v263 : BitVec 32 := Scalar.select v261 v262 v247
  let v314 : BitVec 32 := Scalar.subi v263 c0_i32_228
  let c1_i32_229 : BitVec 32 := 1#32
  let v316 : BitVec 32 := Scalar.divsi v314 c1_i32_229
  let v317 : BitVec 32 := Scalar.muli v316 c1_i32_229
  let v318 : BitVec 32 := Scalar.addi c0_i32_228 v317
  let c1_i32_231 : BitVec 32 := 1#32
  let arg9 : BitVec 32 := Scf.iv v318 c1_i32_231 k0_t2
  let c32_i32_247 : BitVec 32 := 32#32
  let v350 : BitVec 32 := Scalar.muli arg9 c32_i32_247
  let v351 : BitVec 32 := Scalar.addi c1_i32_248 v350
  let c32_i32_3623 : BitVec 32 := 32#32
  let v5141 : BitVec 32 := Scalar.addi v351 c32_i32_3623
  let c1_i32_3624 : BitVec 32 := 1#32
  let v5142 : BitVec 32 := Scalar.subi v1 c1_i32_3624
  let v5143 : BitVec 32 := Scalar.minsi v5141 v5142
  let c256_i32_3625 : BitVec 32 := 256#32
  let v5144 : BitVec 32 := Scalar.muli v5143 c256_i32_3625
  v5144
def k0_mult270 (i : grid0.Coords) (k0_t2 : Fin (k0_t2_loop i).trips) : BitVec 32 :=
  let c1_i32_248 : BitVec 32 := 1#32
  let c0_i32_228 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_176 : BitVec 32 := 1#32
  let v246 : BitVec 32 := Scalar.subi v1 c1_i32_176
  let c0_i32_177 : BitVec 32 := 0#32
  let v248 : BitVec 1 := Scalar.cmpi .sgt v246 c0_i32_177
  let v249 : BitVec 32 := Scalar.extui v248
  let c0_i32_178 : BitVec 32 := 0#32
  let v250 : BitVec 1 := Scalar.cmpi .slt v246 c0_i32_178
  let v251 : BitVec 32 := Scalar.extui v250
  let v252 : BitVec 32 := Scalar.subi v249 v251
  let c32_i32 : BitVec 32 := 32#32
  let c0_i32_179 : BitVec 32 := 0#32
  let v253 : BitVec 1 := Scalar.cmpi .sgt c32_i32 c0_i32_179
  let v254 : BitVec 32 := Scalar.extui v253
  let c0_i32_180 : BitVec 32 := 0#32
  let v255 : BitVec 1 := Scalar.cmpi .slt c32_i32 c0_i32_180
  let v256 : BitVec 32 := Scalar.extui v255
  let v257 : BitVec 32 := Scalar.subi v254 v256
  let v258 : BitVec 1 := Scalar.cmpi .ne v252 v257
  let v259 : BitVec 32 := Scalar.remsi v246 c32_i32
  let c0_i32_181 : BitVec 32 := 0#32
  let v260 : BitVec 1 := Scalar.cmpi .ne v259 c0_i32_181
  let v261 : BitVec 1 := Scalar.andi v258 v260
  let v247 : BitVec 32 := Scalar.divsi v246 c32_i32
  let c1_i32_182 : BitVec 32 := 1#32
  let v262 : BitVec 32 := Scalar.subi v247 c1_i32_182
  let v263 : BitVec 32 := Scalar.select v261 v262 v247
  let v314 : BitVec 32 := Scalar.subi v263 c0_i32_228
  let c1_i32_229 : BitVec 32 := 1#32
  let v316 : BitVec 32 := Scalar.divsi v314 c1_i32_229
  let v317 : BitVec 32 := Scalar.muli v316 c1_i32_229
  let v318 : BitVec 32 := Scalar.addi c0_i32_228 v317
  let c1_i32_231 : BitVec 32 := 1#32
  let arg9 : BitVec 32 := Scf.iv v318 c1_i32_231 k0_t2
  let c32_i32_247 : BitVec 32 := 32#32
  let v350 : BitVec 32 := Scalar.muli arg9 c32_i32_247
  let v351 : BitVec 32 := Scalar.addi c1_i32_248 v350
  let c33_i32_3650 : BitVec 32 := 33#32
  let v5179 : BitVec 32 := Scalar.addi v351 c33_i32_3650
  let c1_i32_3651 : BitVec 32 := 1#32
  let v5180 : BitVec 32 := Scalar.subi v1 c1_i32_3651
  let v5181 : BitVec 32 := Scalar.minsi v5179 v5180
  let c256_i32_3652 : BitVec 32 := 256#32
  let v5182 : BitVec 32 := Scalar.muli v5181 c256_i32_3652
  v5182
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8448x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x33x320x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S8x8448x4x96 : Shape := ⟨4, ![8, 8448, 4, 96]⟩
abbrev S8x8448x4x64 : Shape := ⟨4, ![8, 8448, 4, 64]⟩
abbrev S8x256x4x96 : Shape := ⟨4, ![8, 256, 4, 96]⟩
abbrev S8x8192x4x96 : Shape := ⟨4, ![8, 8192, 4, 96]⟩
abbrev S8x256x4x64 : Shape := ⟨4, ![8, 256, 4, 64]⟩
abbrev S8x8192x4x64 : Shape := ⟨4, ![8, 8192, 4, 64]⟩
abbrev S_ : Shape := ⟨0, ![]⟩
abbrev S8x4x8192x8448 : Shape := ⟨4, ![8, 4, 8192, 8448]⟩
abbrev S8x4x8192 : Shape := ⟨3, ![8, 4, 8192]⟩
abbrev S8x4x8192x1 : Shape := ⟨4, ![8, 4, 8192, 1]⟩
abbrev S8x4x64x8192 : Shape := ⟨4, ![8, 4, 64, 8192]⟩
abbrev S8x8192x256 : Shape := ⟨3, ![8, 8192, 256]⟩
abbrev S8x4x256x256 : Shape := ⟨4, ![8, 4, 256, 256]⟩
abbrev S8x4x256 : Shape := ⟨3, ![8, 4, 256]⟩
abbrev S8x4x256x1 : Shape := ⟨4, ![8, 4, 256, 1]⟩
abbrev S8x4x64x256 : Shape := ⟨4, ![8, 4, 64, 256]⟩
abbrev S8x256x256 : Shape := ⟨3, ![8, 256, 256]⟩
abbrev S8x8448x256 : Shape := ⟨3, ![8, 8448, 256]⟩

abbrev nBuf : Space → Nat
  | .hbm => 56
  | .vmem => 0
  | .smem => 0
  | _ => 0

abbrev bufTy : (tb : Table) → Fin (tcTables nBuf tb) → BufTy
  | .hbm, ⟨0, _⟩ => ⟨S8x8448x4x96, .f32⟩
  | .hbm, ⟨1, _⟩ => ⟨S8x8448x4x96, .f32⟩
  | .hbm, ⟨2, _⟩ => ⟨S8x8448x4x64, .f32⟩
  | .hbm, ⟨3, _⟩ => ⟨S8x256x4x96, .f32⟩
  | .hbm, ⟨4, _⟩ => ⟨S8x8192x4x96, .f32⟩
  | .hbm, ⟨5, _⟩ => ⟨S8x256x4x96, .f32⟩
  | .hbm, ⟨6, _⟩ => ⟨S8x8192x4x96, .f32⟩
  | .hbm, ⟨7, _⟩ => ⟨S8x256x4x64, .f32⟩
  | .hbm, ⟨8, _⟩ => ⟨S8x8192x4x64, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S8x8448x4x96, .f32⟩
  | .hbm, ⟨14, _⟩ => ⟨S8x8448x4x64, .f32⟩
  | .hbm, ⟨15, _⟩ => ⟨S8x4x8192x8448, .f32⟩
  | .hbm, ⟨16, _⟩ => ⟨S8x4x8192x8448, .f32⟩
  | .hbm, ⟨17, _⟩ => ⟨S8x4x8192x8448, .f32⟩
  | .hbm, ⟨18, _⟩ => ⟨S_, .f32⟩
  | .hbm, ⟨19, _⟩ => ⟨S8x4x8192, .f32⟩
  | .hbm, ⟨20, _⟩ => ⟨S_, .f32⟩
  | .hbm, ⟨21, _⟩ => ⟨S8x4x8192, .f32⟩
  | .hbm, ⟨22, _⟩ => ⟨S8x4x8192, .f32⟩
  | .hbm, ⟨23, _⟩ => ⟨S8x4x8192x1, .f32⟩
  | .hbm, ⟨24, _⟩ => ⟨S8x4x8192x8448, .f32⟩
  | .hbm, ⟨25, _⟩ => ⟨S8x4x8192x8448, .f32⟩
  | .hbm, ⟨26, _⟩ => ⟨S8x4x8192x8448, .f32⟩
  | .hbm, ⟨27, _⟩ => ⟨S_, .f32⟩
  | .hbm, ⟨28, _⟩ => ⟨S8x4x8192, .f32⟩
  | .hbm, ⟨29, _⟩ => ⟨S8x4x8192x1, .f32⟩
  | .hbm, ⟨30, _⟩ => ⟨S8x4x8192x8448, .f32⟩
  | .hbm, ⟨31, _⟩ => ⟨S8x4x8192x8448, .f32⟩
  | .hbm, ⟨32, _⟩ => ⟨S8x4x64x8192, .f32⟩
  | .hbm, ⟨33, _⟩ => ⟨S8x8192x4x64, .f32⟩
  | .hbm, ⟨34, _⟩ => ⟨S8x8192x256, .f32⟩
  | .hbm, ⟨35, _⟩ => ⟨S8x4x256x256, .f32⟩
  | .hbm, ⟨36, _⟩ => ⟨S8x4x256x256, .f32⟩
  | .hbm, ⟨37, _⟩ => ⟨S8x4x256x256, .f32⟩
  | .hbm, ⟨38, _⟩ => ⟨S_, .f32⟩
  | .hbm, ⟨39, _⟩ => ⟨S8x4x256, .f32⟩
  | .hbm, ⟨40, _⟩ => ⟨S_, .f32⟩
  | .hbm, ⟨41, _⟩ => ⟨S8x4x256, .f32⟩
  | .hbm, ⟨42, _⟩ => ⟨S8x4x256, .f32⟩
  | .hbm, ⟨43, _⟩ => ⟨S8x4x256x1, .f32⟩
  | .hbm, ⟨44, _⟩ => ⟨S8x4x256x256, .f32⟩
  | .hbm, ⟨45, _⟩ => ⟨S8x4x256x256, .f32⟩
  | .hbm, ⟨46, _⟩ => ⟨S8x4x256x256, .f32⟩
  | .hbm, ⟨47, _⟩ => ⟨S_, .f32⟩
  | .hbm, ⟨48, _⟩ => ⟨S8x4x256, .f32⟩
  | .hbm, ⟨49, _⟩ => ⟨S8x4x256x1, .f32⟩
  | .hbm, ⟨50, _⟩ => ⟨S8x4x256x256, .f32⟩
  | .hbm, ⟨51, _⟩ => ⟨S8x4x256x256, .f32⟩
  | .hbm, ⟨52, _⟩ => ⟨S8x4x64x256, .f32⟩
  | .hbm, ⟨53, _⟩ => ⟨S8x256x4x64, .f32⟩
  | .hbm, ⟨54, _⟩ => ⟨S8x256x256, .f32⟩
  | .hbm, ⟨55, _⟩ => ⟨S8x8448x256, .f32⟩
  | _, _ => ⟨S8x8448x4x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_4 : Ref sig .tc := ⟨.hbm, 38, rfl⟩
abbrev main_v30 : Ref sig .tc := ⟨.hbm, 39, rfl⟩
abbrev main_cst_5 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_6 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩

abbrev nD : Nat := 1
abbrev τ : Topo := Topo.v7x

variable {F : FTy → Type} [FloatOps F]
-- ==== Kernel3.lean ====
abbrev S8x8448x4x32 : Shape := ⟨4, ![8, 8448, 4, 32]⟩
abbrev S8x8448x4x64 : Shape := ⟨4, ![8, 8448, 4, 64]⟩
abbrev S32 : Shape := ⟨1, ![32]⟩
abbrev S64 : Shape := ⟨1, ![64]⟩
abbrev S8x33x256x4x64 : Shape := ⟨5, ![8, 33, 256, 4, 64]⟩
abbrev S8x33x4x64x256 : Shape := ⟨5, ![8, 33, 4, 64, 256]⟩
abbrev S_ : Shape := ⟨0, ![]⟩
abbrev S8x33x4x1x256 : Shape := ⟨5, ![8, 33, 4, 1, 256]⟩
abbrev S8x33x4x15x256 : Shape := ⟨5, ![8, 33, 4, 15, 256]⟩
abbrev S8x33x4x80x256 : Shape := ⟨5, ![8, 33, 4, 80, 256]⟩
abbrev S8x33x320x256 : Shape := ⟨4, ![8, 33, 320, 256]⟩
abbrev S1x32 : Shape := ⟨2, ![1, 32]⟩
abbrev S4x32 : Shape := ⟨2, ![4, 32]⟩
abbrev S4x96 : Shape := ⟨2, ![4, 96]⟩
abbrev S4x128 : Shape := ⟨2, ![4, 128]⟩
abbrev S8x8448x4x1x32 : Shape := ⟨5, ![8, 8448, 4, 1, 32]⟩
abbrev S8x8448x4x2x32 : Shape := ⟨5, ![8, 8448, 4, 2, 32]⟩
abbrev S8x8448x256 : Shape := ⟨3, ![8, 8448, 256]⟩
abbrev S64x1 : Shape := ⟨2, ![64, 1]⟩
abbrev S1x256x256 : Shape := ⟨3, ![1, 256, 256]⟩
abbrev S1x8448x256 : Shape := ⟨3, ![1, 8448, 256]⟩
abbrev S1x33x320x256 : Shape := ⟨4, ![1, 33, 320, 256]⟩
abbrev S8x128x256 : Shape := ⟨3, ![8, 128, 256]⟩
abbrev S8x1x256 : Shape := ⟨3, ![8, 1, 256]⟩
abbrev S8x80x256 : Shape := ⟨3, ![8, 80, 256]⟩
abbrev S1x128 : Shape := ⟨2, ![1, 128]⟩
abbrev S1 : Shape := ⟨1, ![1]⟩
abbrev S1x1 : Shape := ⟨2, ![1, 1]⟩
abbrev S128x256 : Shape := ⟨2, ![128, 256]⟩
abbrev S1x256x128 : Shape := ⟨3, ![1, 256, 128]⟩
abbrev S256x128 : Shape := ⟨2, ![256, 128]⟩
abbrev S1x128x256 : Shape := ⟨3, ![1, 128, 256]⟩
abbrev S256x256 : Shape := ⟨2, ![256, 256]⟩
abbrev S1x1x256 : Shape := ⟨3, ![1, 1, 256]⟩
abbrev S1x256 : Shape := ⟨2, ![1, 256]⟩
abbrev S256 : Shape := ⟨1, ![256]⟩
abbrev S1x1x80x256 : Shape := ⟨4, ![1, 1, 80, 256]⟩
abbrev S80x256 : Shape := ⟨2, ![80, 256]⟩
abbrev S1x80x256 : Shape := ⟨3, ![1, 80, 256]⟩
abbrev S64x256 : Shape := ⟨2, ![64, 256]⟩

abbrev nBuf : Space → Nat
  | .hbm => 50
  | .vmem => 13
  | .smem => 0
  | _ => 0

abbrev bufTy : (tb : Table) → Fin (tcTables nBuf tb) → BufTy
  | .hbm, ⟨0, _⟩ => ⟨S8x8448x4x32, .f32⟩
  | .hbm, ⟨1, _⟩ => ⟨S8x8448x4x32, .f32⟩
  | .hbm, ⟨2, _⟩ => ⟨S8x8448x4x32, .f32⟩
  | .hbm, ⟨3, _⟩ => ⟨S8x8448x4x32, .f32⟩
  | .hbm, ⟨4, _⟩ => ⟨S8x8448x4x64, .f32⟩
  | .hbm, ⟨5, _⟩ => ⟨S32, .f32⟩
  | .hbm, ⟨6, _⟩ => ⟨S32, .f32⟩
  | .hbm, ⟨7, _⟩ => ⟨S32, .f32⟩
  | .hbm, ⟨8, _⟩ => ⟨S32, .f32⟩
  | .hbm, ⟨9, _⟩ => ⟨S64, .f32⟩
  | .hbm, ⟨10, _⟩ => ⟨S8x33x256x4x64, .f32⟩
  | .hbm, ⟨11, _⟩ => ⟨S8x33x4x64x256, .f32⟩
  | .hbm, ⟨12, _⟩ => ⟨S_, .f32⟩
  | .hbm, ⟨13, _⟩ => ⟨S8x33x4x1x256, .f32⟩
  | .hbm, ⟨14, _⟩ => ⟨S_, .f32⟩
  | .hbm, ⟨15, _⟩ => ⟨S8x33x4x15x256, .f32⟩
  | .hbm, ⟨16, _⟩ => ⟨S8x33x4x80x256, .f32⟩
  | .hbm, ⟨17, _⟩ => ⟨S8x33x320x256, .f32⟩
  | .hbm, ⟨18, _⟩ => ⟨S8x33x320x256, .bf16⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S1x32, .f32⟩
  | .hbm, ⟨27, _⟩ => ⟨S1x32, .f32⟩
  | .hbm, ⟨28, _⟩ => ⟨S1x32, .f32⟩
  | .hbm, ⟨29, _⟩ => ⟨S1x32, .f32⟩
  | .hbm, ⟨30, _⟩ => ⟨S4x32, .f32⟩
  | .hbm, ⟨31, _⟩ => ⟨S_, .f32⟩
  | .hbm, ⟨32, _⟩ => ⟨S4x96, .f32⟩
  | .hbm, ⟨33, _⟩ => ⟨S4x128, .f32⟩
  | .hbm, ⟨34, _⟩ => ⟨S8x8448x4x32, .f32⟩
  | .hbm, ⟨35, _⟩ => ⟨S8x8448x4x32, .f32⟩
  | .hbm, ⟨36, _⟩ => ⟨S8x8448x4x32, .f32⟩
  | .hbm, ⟨37, _⟩ => ⟨S8x8448x4x32, .f32⟩
  | .hbm, ⟨38, _⟩ => ⟨S8x8448x4x1x32, .f32⟩
  | .hbm, ⟨39, _⟩ => ⟨S8x8448x4x1x32, .f32⟩
  | .hbm, ⟨40, _⟩ => ⟨S8x8448x4x2x32, .f32⟩
  | .hbm, ⟨41, _⟩ => ⟨S8x8448x256, .f32⟩
  | .hbm, ⟨42, _⟩ => ⟨S8x8448x256, .bf16⟩
  | .hbm, ⟨43, _⟩ => ⟨S8x8448x4x1x32, .f32⟩
  | .hbm, ⟨44, _⟩ => ⟨S8x8448x4x1x32, .f32⟩
  | .hbm, ⟨45, _⟩ => ⟨S8x8448x4x2x32, .f32⟩
  | .hbm, ⟨46, _⟩ => ⟨S8x8448x256, .f32⟩
  | .hbm, ⟨47, _⟩ => ⟨S8x8448x256, .bf16⟩
  | .hbm, ⟨48, _⟩ => ⟨S64x1, .f32⟩
  | .hbm, ⟨49, _⟩ => ⟨S8x8448x256, .f32⟩
  | .local _ .vmem, ⟨0, _⟩ => ⟨S1x256x256, .bf16⟩
  | .local _ .vmem, ⟨1, _⟩ => ⟨S1x256x256, .bf16⟩
  | .local _ .vmem, ⟨2, _⟩ => ⟨S1x8448x256, .bf16⟩
  | .local _ .vmem, ⟨3, _⟩ => ⟨S1x8448x256, .bf16⟩
  | .local _ .vmem, ⟨4, _⟩ => ⟨S1x33x320x256, .bf16⟩
  | .local _ .vmem, ⟨5, _⟩ => ⟨S1x33x320x256, .bf16⟩
  | .local _ .vmem, ⟨6, _⟩ => ⟨S4x128, .f32⟩
  | .local _ .vmem, ⟨7, _⟩ => ⟨S64x1, .f32⟩
  | .local _ .vmem, ⟨8, _⟩ => ⟨S1x256x256, .f32⟩
  | .local _ .vmem, ⟨9, _⟩ => ⟨S1x256x256, .f32⟩
  | .local _ .vmem, ⟨10, _⟩ => ⟨S8x128x256, .bf16⟩
  | .local _ .vmem, ⟨11, _⟩ => ⟨S8x1x256, .f32⟩
  | .local _ .vmem, ⟨12, _⟩ => ⟨S8x80x256, .f32⟩
  | _, _ => ⟨S8x8448x4x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_cst_2 : Ref sig .tc := ⟨.hbm, 21, rfl⟩
abbrev main_v8 : Ref sig .tc := ⟨.hbm, 22, rfl⟩
abbrev main_v9 : Ref sig .tc := ⟨.hbm, 23, rfl⟩
abbrev main_cst_3 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_4 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 33], ![false, false]⟩

def k0_mult1 (i : grid0.Coords) : BitVec 32 :=
  let c0_i32_54 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_53 : BitVec 32 := 1#32
  let v124 : BitVec 32 := Scalar.subi v1 c1_i32_53
  let v125 : BitVec 32 := Scalar.minsi c0_i32_54 v124
  let c256_i32 : BitVec 32 := 256#32
  let v126 : BitVec 32 := Scalar.muli v125 c256_i32
  v126
def k0_off1 (i : grid0.Coords) (c0_i32_54 : BitVec 32) : Fin 3 → Nat :=
  let c0_55 : Index := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_53 : BitVec 32 := 1#32
  let v124 : BitVec 32 := Scalar.subi v1 c1_i32_53
  let v125 : BitVec 32 := Scalar.minsi c0_i32_54 v124
  let c256_i32 : BitVec 32 := 256#32
  let v126 : BitVec 32 := Scalar.muli v125 c256_i32
  let v127 : BitVec 32 := v126
  let v128 : Index := Scalar.indexCast v127
  let c0_56 : Index := 0#32
  ![0, v128.toNat, 0]
def k0_mult2 (i : grid0.Coords) : BitVec 32 :=
  let c0_i32_62 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_61 : BitVec 32 := 1#32
  let v134 : BitVec 32 := Scalar.subi v1 c1_i32_61
  let v135 : BitVec 32 := Scalar.minsi c0_i32_62 v134
  let c256_i32_63 : BitVec 32 := 256#32
  let v136 : BitVec 32 := Scalar.muli v135 c256_i32_63
  v136
def k0_mult3 (i : grid0.Coords) : BitVec 32 :=
  let c0_i32_71 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_70 : BitVec 32 := 1#32
  let v144 : BitVec 32 := Scalar.subi v1 c1_i32_70
  let v145 : BitVec 32 := Scalar.minsi c0_i32_71 v144
  let c256_i32_72 : BitVec 32 := 256#32
  let v146 : BitVec 32 := Scalar.muli v145 c256_i32_72
  v146
def k0_mult4 (i : grid0.Coords) : BitVec 32 :=
  let c0_i32_80 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_79 : BitVec 32 := 1#32
  let v154 : BitVec 32 := Scalar.subi v1 c1_i32_79
  let v155 : BitVec 32 := Scalar.minsi c0_i32_80 v154
  let c256_i32_81 : BitVec 32 := 256#32
  let v156 : BitVec 32 := Scalar.muli v155 c256_i32_81
  v156
def k0_mult5 (i : grid0.Coords) : BitVec 32 :=
  let c0_i32_89 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_88 : BitVec 32 := 1#32
  let v164 : BitVec 32 := Scalar.subi v1 c1_i32_88
  let v165 : BitVec 32 := Scalar.minsi c0_i32_89 v164
  let c256_i32_90 : BitVec 32 := 256#32
  let v166 : BitVec 32 := Scalar.muli v165 c256_i32_90
  v166
def k0_off2 (i : grid0.Coords) (c0_i32_89 : BitVec 32) : Fin 3 → Nat :=
  let c0_91 : Index := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_88 : BitVec 32 := 1#32
  let v164 : BitVec 32 := Scalar.subi v1 c1_i32_88
  let v165 : BitVec 32 := Scalar.minsi c0_i32_89 v164
  let c256_i32_90 : BitVec 32 := 256#32
  let v166 : BitVec 32 := Scalar.muli v165 c256_i32_90
  let v167 : BitVec 32 := v166
  let v168 : Index := Scalar.indexCast v167
  let c128_92 : Index := 128#32
  ![0, v168.toNat, 128]
def k0_mult6 (i : grid0.Coords) : BitVec 32 :=
  let c0_i32_99 : BitVec 32 := 0#32
  let c0_i32_97 : BitVec 32 := 0#32
  let c1_i32_98 : BitVec 32 := 1#32
  let v174 : BitVec 32 := Scalar.muli c0_i32_97 c1_i32_98
  let v175 : BitVec 32 := Scalar.addi c0_i32_99 v174
  let c0_i32_101 : BitVec 32 := 0#32
  let v177 : BitVec 32 := Scalar.addi v175 c0_i32_101
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_102 : BitVec 32 := 1#32
  let v178 : BitVec 32 := Scalar.subi v1 c1_i32_102
  let v179 : BitVec 32 := Scalar.minsi v177 v178
  let c256_i32_103 : BitVec 32 := 256#32
  let v180 : BitVec 32 := Scalar.muli v179 c256_i32_103
  v180
def k0_off3 (i : grid0.Coords) (c0_i32_101 : BitVec 32) : Fin 3 → Nat :=
  let c0_104 : Index := 0#32
  let c0_i32_99 : BitVec 32 := 0#32
  let c0_i32_97 : BitVec 32 := 0#32
  let c1_i32_98 : BitVec 32 := 1#32
  let v174 : BitVec 32 := Scalar.muli c0_i32_97 c1_i32_98
  let v175 : BitVec 32 := Scalar.addi c0_i32_99 v174
  let v177 : BitVec 32 := Scalar.addi v175 c0_i32_101
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_102 : BitVec 32 := 1#32
  let v178 : BitVec 32 := Scalar.subi v1 c1_i32_102
  let v179 : BitVec 32 := Scalar.minsi v177 v178
  let c256_i32_103 : BitVec 32 := 256#32
  let v180 : BitVec 32 := Scalar.muli v179 c256_i32_103
  let v181 : BitVec 32 := v180
  let v182 : Index := Scalar.indexCast v181
  let c128_105 : Index := 128#32
  ![0, v182.toNat, 128]
def k0_off4 : Fin 4 → Nat :=
  let c0_114 : Index := 0#32
  let c0_i32_99 : BitVec 32 := 0#32
  let c0_i32_97 : BitVec 32 := 0#32
  let c1_i32_98 : BitVec 32 := 1#32
  let v174 : BitVec 32 := Scalar.muli c0_i32_97 c1_i32_98
  let v175 : BitVec 32 := Scalar.addi c0_i32_99 v174
  let c0_i32_100 : BitVec 32 := 0#32
  let v176 : BitVec 32 := Scalar.addi v175 c0_i32_100
  let v197 : Index := Scalar.indexCast v176
  let c0_115 : Index := 0#32
  let c0_116 : Index := 0#32
  ![0, v197.toNat, 0, 0]
def k0_mult7 (i : grid0.Coords) : BitVec 32 :=
  let c0_i32_99 : BitVec 32 := 0#32
  let c0_i32_97 : BitVec 32 := 0#32
  let c1_i32_98 : BitVec 32 := 1#32
  let v174 : BitVec 32 := Scalar.muli c0_i32_97 c1_i32_98
  let v175 : BitVec 32 := Scalar.addi c0_i32_99 v174
  let c0_i32_128 : BitVec 32 := 0#32
  let v215 : BitVec 32 := Scalar.addi v175 c0_i32_128
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_129 : BitVec 32 := 1#32
  let v216 : BitVec 32 := Scalar.subi v1 c1_i32_129
  let v217 : BitVec 32 := Scalar.minsi v215 v216
  let c256_i32_130 : BitVec 32 := 256#32
  let v218 : BitVec 32 := Scalar.muli v217 c256_i32_130
  v218
def k0_mult8 (i : grid0.Coords) : BitVec 32 :=
  let c0_i32_99 : BitVec 32 := 0#32
  let c0_i32_97 : BitVec 32 := 0#32
  let c1_i32_98 : BitVec 32 := 1#32
  let v174 : BitVec 32 := Scalar.muli c0_i32_97 c1_i32_98
  let v175 : BitVec 32 := Scalar.addi c0_i32_99 v174
  let c0_i32_155 : BitVec 32 := 0#32
  let v253 : BitVec 32 := Scalar.addi v175 c0_i32_155
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_156 : BitVec 32 := 1#32
  let v254 : BitVec 32 := Scalar.subi v1 c1_i32_156
  let v255 : BitVec 32 := Scalar.minsi v253 v254
  let c256_i32_157 : BitVec 32 := 256#32
  let v256 : BitVec 32 := Scalar.muli v255 c256_i32_157
  v256
def k0_off5 : Fin 4 → Nat :=
  let c0_168 : Index := 0#32
  let c0_i32_99 : BitVec 32 := 0#32
  let c0_i32_97 : BitVec 32 := 0#32
  let c1_i32_98 : BitVec 32 := 1#32
  let v174 : BitVec 32 := Scalar.muli c0_i32_97 c1_i32_98
  let v175 : BitVec 32 := Scalar.addi c0_i32_99 v174
  let c0_i32_154 : BitVec 32 := 0#32
  let v252 : BitVec 32 := Scalar.addi v175 c0_i32_154
  let v273 : Index := Scalar.indexCast v252
  let c80 : Index := 80#32
  let c0_169 : Index := 0#32
  ![0, v273.toNat, 80, 0]
def k0_mult9 (i : grid0.Coords) : BitVec 32 :=
  let c0_i32_99 : BitVec 32 := 0#32
  let c0_i32_97 : BitVec 32 := 0#32
  let c1_i32_98 : BitVec 32 := 1#32
  let v174 : BitVec 32 := Scalar.muli c0_i32_97 c1_i32_98
  let v175 : BitVec 32 := Scalar.addi c0_i32_99 v174
  let c1_i32_181 : BitVec 32 := 1#32
  let v291 : BitVec 32 := Scalar.addi v175 c1_i32_181
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_182 : BitVec 32 := 1#32
  let v292 : BitVec 32 := Scalar.subi v1 c1_i32_182
  let v293 : BitVec 32 := Scalar.minsi v291 v292
  let c256_i32_183 : BitVec 32 := 256#32
  let v294 : BitVec 32 := Scalar.muli v293 c256_i32_183
  v294
def k0_off6 (i : grid0.Coords) : Fin 3 → Nat :=
  let c0_184 : Index := 0#32
  let c0_i32_99 : BitVec 32 := 0#32
  let c0_i32_97 : BitVec 32 := 0#32
  let c1_i32_98 : BitVec 32 := 1#32
  let v174 : BitVec 32 := Scalar.muli c0_i32_97 c1_i32_98
  let v175 : BitVec 32 := Scalar.addi c0_i32_99 v174
  let c1_i32_181 : BitVec 32 := 1#32
  let v291 : BitVec 32 := Scalar.addi v175 c1_i32_181
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_182 : BitVec 32 := 1#32
  let v292 : BitVec 32 := Scalar.subi v1 c1_i32_182
  let v293 : BitVec 32 := Scalar.minsi v291 v292
  let c256_i32_183 : BitVec 32 := 256#32
  let v294 : BitVec 32 := Scalar.muli v293 c256_i32_183
  let v295 : BitVec 32 := v294
  let v296 : Index := Scalar.indexCast v295
  let c0_185 : Index := 0#32
  ![0, v296.toNat, 0]
def k0_mult10 (i : grid0.Coords) : BitVec 32 :=
  let c0_i32_99 : BitVec 32 := 0#32
  let c0_i32_97 : BitVec 32 := 0#32
  let c1_i32_98 : BitVec 32 := 1#32
  let v174 : BitVec 32 := Scalar.muli c0_i32_97 c1_i32_98
  let v175 : BitVec 32 := Scalar.addi c0_i32_99 v174
  let c1_i32_208 : BitVec 32 := 1#32
  let v329 : BitVec 32 := Scalar.addi v175 c1_i32_208
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_209 : BitVec 32 := 1#32
  let v330 : BitVec 32 := Scalar.subi v1 c1_i32_209
  let v331 : BitVec 32 := Scalar.minsi v329 v330
  let c256_i32_210 : BitVec 32 := 256#32
  let v332 : BitVec 32 := Scalar.muli v331 c256_i32_210
  v332
def k0_off7 : Fin 4 → Nat :=
  let c0_221 : Index := 0#32
  let c0_i32_99 : BitVec 32 := 0#32
  let c0_i32_97 : BitVec 32 := 0#32
  let c1_i32_98 : BitVec 32 := 1#32
  let v174 : BitVec 32 := Scalar.muli c0_i32_97 c1_i32_98
  let v175 : BitVec 32 := Scalar.addi c0_i32_99 v174
  let c0_i32_207 : BitVec 32 := 0#32
  let v328 : BitVec 32 := Scalar.addi v175 c0_i32_207
  let v349 : Index := Scalar.indexCast v328
  let c160 : Index := 160#32
  let c0_222 : Index := 0#32
  ![0, v349.toNat, 160, 0]
def k0_mult11 (i : grid0.Coords) : BitVec 32 :=
  let c0_i32_99 : BitVec 32 := 0#32
  let c0_i32_97 : BitVec 32 := 0#32
  let c1_i32_98 : BitVec 32 := 1#32
  let v174 : BitVec 32 := Scalar.muli c0_i32_97 c1_i32_98
  let v175 : BitVec 32 := Scalar.addi c0_i32_99 v174
  let c1_i32_234 : BitVec 32 := 1#32
  let v367 : BitVec 32 := Scalar.addi v175 c1_i32_234
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_235 : BitVec 32 := 1#32
  let v368 : BitVec 32 := Scalar.subi v1 c1_i32_235
  let v369 : BitVec 32 := Scalar.minsi v367 v368
  let c256_i32_236 : BitVec 32 := 256#32
  let v370 : BitVec 32 := Scalar.muli v369 c256_i32_236
  v370
def k0_mult12 (i : grid0.Coords) : BitVec 32 :=
  let c0_i32_99 : BitVec 32 := 0#32
  let c0_i32_97 : BitVec 32 := 0#32
  let c1_i32_98 : BitVec 32 := 1#32
  let v174 : BitVec 32 := Scalar.muli c0_i32_97 c1_i32_98
  let v175 : BitVec 32 := Scalar.addi c0_i32_99 v174
  let c1_i32_261 : BitVec 32 := 1#32
  let v405 : BitVec 32 := Scalar.addi v175 c1_i32_261
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_262 : BitVec 32 := 1#32
  let v406 : BitVec 32 := Scalar.subi v1 c1_i32_262
  let v407 : BitVec 32 := Scalar.minsi v405 v406
  let c256_i32_263 : BitVec 32 := 256#32
  let v408 : BitVec 32 := Scalar.muli v407 c256_i32_263
  v408
def k0_off8 : Fin 4 → Nat :=
  let c0_274 : Index := 0#32
  let c0_i32_99 : BitVec 32 := 0#32
  let c0_i32_97 : BitVec 32 := 0#32
  let c1_i32_98 : BitVec 32 := 1#32
  let v174 : BitVec 32 := Scalar.muli c0_i32_97 c1_i32_98
  let v175 : BitVec 32 := Scalar.addi c0_i32_99 v174
  let c0_i32_260 : BitVec 32 := 0#32
  let v404 : BitVec 32 := Scalar.addi v175 c0_i32_260
  let v425 : Index := Scalar.indexCast v404
  let c240 : Index := 240#32
  let c0_275 : Index := 0#32
  ![0, v425.toNat, 240, 0]
def k0_mult13 (i : grid0.Coords) : BitVec 32 :=
  let c0_i32_99 : BitVec 32 := 0#32
  let c0_i32_97 : BitVec 32 := 0#32
  let c1_i32_98 : BitVec 32 := 1#32
  let v174 : BitVec 32 := Scalar.muli c0_i32_97 c1_i32_98
  let v175 : BitVec 32 := Scalar.addi c0_i32_99 v174
  let c1_i32_287 : BitVec 32 := 1#32
  let v443 : BitVec 32 := Scalar.addi v175 c1_i32_287
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_288 : BitVec 32 := 1#32
  let v444 : BitVec 32 := Scalar.subi v1 c1_i32_288
  let v445 : BitVec 32 := Scalar.minsi v443 v444
  let c256_i32_289 : BitVec 32 := 256#32
  let v446 : BitVec 32 := Scalar.muli v445 c256_i32_289
  v446
def k0_mult14 (i : grid0.Coords) : BitVec 32 :=
  let c1_i32_322 : BitVec 32 := 1#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_321 : BitVec 32 := 1#32
  let v498 : BitVec 32 := Scalar.subi v1 c1_i32_321
  let v499 : BitVec 32 := Scalar.minsi c1_i32_322 v498
  let c256_i32_323 : BitVec 32 := 256#32
  let v500 : BitVec 32 := Scalar.muli v499 c256_i32_323
  v500
def k0_mult15 (i : grid0.Coords) : BitVec 32 :=
  let c1_i32_331 : BitVec 32 := 1#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_330 : BitVec 32 := 1#32
  let v508 : BitVec 32 := Scalar.subi v1 c1_i32_330
  let v509 : BitVec 32 := Scalar.minsi c1_i32_331 v508
  let c256_i32_332 : BitVec 32 := 256#32
  let v510 : BitVec 32 := Scalar.muli v509 c256_i32_332
  v510
def k0_mult16 (i : grid0.Coords) : BitVec 32 :=
  let c1_i32_340 : BitVec 32 := 1#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_339 : BitVec 32 := 1#32
  let v518 : BitVec 32 := Scalar.subi v1 c1_i32_339
  let v519 : BitVec 32 := Scalar.minsi c1_i32_340 v518
  let c256_i32_341 : BitVec 32 := 256#32
  let v520 : BitVec 32 := Scalar.muli v519 c256_i32_341
  v520
def k0_mult17 (i : grid0.Coords) : BitVec 32 :=
  let c1_i32_349 : BitVec 32 := 1#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_348 : BitVec 32 := 1#32
  let v528 : BitVec 32 := Scalar.subi v1 c1_i32_348
  let v529 : BitVec 32 := Scalar.minsi c1_i32_349 v528
  let c256_i32_350 : BitVec 32 := 256#32
  let v530 : BitVec 32 := Scalar.muli v529 c256_i32_350
  v530
def k0_mult18 (i : grid0.Coords) : BitVec 32 :=
  let c1_i32_358 : BitVec 32 := 1#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_357 : BitVec 32 := 1#32
  let v538 : BitVec 32 := Scalar.subi v1 c1_i32_357
  let v539 : BitVec 32 := Scalar.minsi c1_i32_358 v538
  let c256_i32_359 : BitVec 32 := 256#32
  let v540 : BitVec 32 := Scalar.muli v539 c256_i32_359
  v540
@[reducible] def k0_t1_loop (i : grid0.Coords) : Scf.Loop 32 :=
  let c0_i32_366 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_314 : BitVec 32 := 1#32
  let v480 : BitVec 32 := Scalar.subi v1 c1_i32_314
  let c0_i32_315 : BitVec 32 := 0#32
  let v482 : BitVec 1 := Scalar.cmpi .sgt v480 c0_i32_315
  let v483 : BitVec 32 := Scalar.extui v482
  let c0_i32_316 : BitVec 32 := 0#32
  let v484 : BitVec 1 := Scalar.cmpi .slt v480 c0_i32_316
  let v485 : BitVec 32 := Scalar.extui v484
  let v486 : BitVec 32 := Scalar.subi v483 v485
  let c16_i32 : BitVec 32 := 16#32
  let c0_i32_317 : BitVec 32 := 0#32
  let v487 : BitVec 1 := Scalar.cmpi .sgt c16_i32 c0_i32_317
  let v488 : BitVec 32 := Scalar.extui v487
  let c0_i32_318 : BitVec 32 := 0#32
  let v489 : BitVec 1 := Scalar.cmpi .slt c16_i32 c0_i32_318
  let v490 : BitVec 32 := Scalar.extui v489
  let v491 : BitVec 32 := Scalar.subi v488 v490
  let v492 : BitVec 1 := Scalar.cmpi .ne v486 v491
  let v493 : BitVec 32 := Scalar.remsi v480 c16_i32
  let c0_i32_319 : BitVec 32 := 0#32
  let v494 : BitVec 1 := Scalar.cmpi .ne v493 c0_i32_319
  let v495 : BitVec 1 := Scalar.andi v492 v494
  let v481 : BitVec 32 := Scalar.divsi v480 c16_i32
  let c1_i32_320 : BitVec 32 := 1#32
  let v496 : BitVec 32 := Scalar.subi v481 c1_i32_320
  let v497 : BitVec 32 := Scalar.select v495 v496 v481
  let v548 : BitVec 32 := Scalar.subi v497 c0_i32_366
  let c1_i32_367 : BitVec 32 := 1#32
  let v550 : BitVec 32 := Scalar.divsi v548 c1_i32_367
  let v551 : BitVec 32 := Scalar.muli v550 c1_i32_367
  let v552 : BitVec 32 := Scalar.addi c0_i32_366 v551
  let c1_i32_368 : BitVec 32 := 1#32
  ⟨c0_i32_366, v552, c1_i32_368⟩
def k0_mult19 (i : grid0.Coords) (k0_t1 : Fin (k0_t1_loop i).trips) : BitVec 32 :=
  let c1_i32_422 : BitVec 32 := 1#32
  let c0_i32_366 : BitVec 32 := 0#32
  let c1_i32_368 : BitVec 32 := 1#32
  let arg11 : BitVec 32 := Scf.iv c0_i32_366 c1_i32_368 k0_t1
  let c16_i32_421 : BitVec 32 := 16#32
  let v684 : BitVec 32 := Scalar.muli arg11 c16_i32_421
  let v685 : BitVec 32 := Scalar.addi c1_i32_422 v684
  let c0_i32_424 : BitVec 32 := 0#32
  let v687 : BitVec 32 := Scalar.addi v685 c0_i32_424
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_425 : BitVec 32 := 1#32
  let v688 : BitVec 32 := Scalar.subi v1 c1_i32_425
  let v689 : BitVec 32 := Scalar.minsi v687 v688
  let c256_i32_426 : BitVec 32 := 256#32
  let v690 : BitVec 32 := Scalar.muli v689 c256_i32_426
  v690
def k0_off9 (i : grid0.Coords) (k0_t1 : Fin (k0_t1_loop i).trips) (c0_i32_424 : BitVec 32) : Fin 3 → Nat :=
  let c0_427 : Index := 0#32
  let c1_i32_422 : BitVec 32 := 1#32
  let c0_i32_366 : BitVec 32 := 0#32
  let c1_i32_368 : BitVec 32 := 1#32
  let arg11 : BitVec 32 := Scf.iv c0_i32_366 c1_i32_368 k0_t1
  let c16_i32_421 : BitVec 32 := 16#32
  let v684 : BitVec 32 := Scalar.muli arg11 c16_i32_421
  let v685 : BitVec 32 := Scalar.addi c1_i32_422 v684
  let v687 : BitVec 32 := Scalar.addi v685 c0_i32_424
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_425 : BitVec 32 := 1#32
  let v688 : BitVec 32 := Scalar.subi v1 c1_i32_425
  let v689 : BitVec 32 := Scalar.minsi v687 v688
  let c256_i32_426 : BitVec 32 := 256#32
  let v690 : BitVec 32 := Scalar.muli v689 c256_i32_426
  let v691 : BitVec 32 := v690
  let v692 : Index := Scalar.indexCast v691
  let c128_428 : Index := 128#32
  ![0, v692.toNat, 128]
def k0_off10 (i : grid0.Coords) (k0_t1 : Fin (k0_t1_loop i).trips) (c0_i32_423 : BitVec 32) : Fin 4 → Nat :=
  let c0_437 : Index := 0#32
  let c1_i32_422 : BitVec 32 := 1#32
  let c0_i32_366 : BitVec 32 := 0#32
  let c1_i32_368 : BitVec 32 := 1#32
  let arg11 : BitVec 32 := Scf.iv c0_i32_366 c1_i32_368 k0_t1
  let c16_i32_421 : BitVec 32 := 16#32
  let v684 : BitVec 32 := Scalar.muli arg11 c16_i32_421
  let v685 : BitVec 32 := Scalar.addi c1_i32_422 v684
  let v686 : BitVec 32 := Scalar.addi v685 c0_i32_423
  let v707 : Index := Scalar.indexCast v686
  let c0_438 : Index := 0#32
  let c0_439 : Index := 0#32
  ![0, v707.toNat, 0, 0]
def k0_mult20 (i : grid0.Coords) (k0_t1 : Fin (k0_t1_loop i).trips) : BitVec 32 :=
  let c1_i32_422 : BitVec 32 := 1#32
  let c0_i32_366 : BitVec 32 := 0#32
  let c1_i32_368 : BitVec 32 := 1#32
  let arg11 : BitVec 32 := Scf.iv c0_i32_366 c1_i32_368 k0_t1
  let c16_i32_421 : BitVec 32 := 16#32
  let v684 : BitVec 32 := Scalar.muli arg11 c16_i32_421
  let v685 : BitVec 32 := Scalar.addi c1_i32_422 v684
  let c0_i32_451 : BitVec 32 := 0#32
  let v725 : BitVec 32 := Scalar.addi v685 c0_i32_451
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_452 : BitVec 32 := 1#32
  let v726 : BitVec 32 := Scalar.subi v1 c1_i32_452
  let v727 : BitVec 32 := Scalar.minsi v725 v726
  let c256_i32_453 : BitVec 32 := 256#32
  let v728 : BitVec 32 := Scalar.muli v727 c256_i32_453
  v728
def k0_mult21 (i : grid0.Coords) (k0_t1 : Fin (k0_t1_loop i).trips) : BitVec 32 :=
  let c1_i32_422 : BitVec 32 := 1#32
  let c0_i32_366 : BitVec 32 := 0#32
  let c1_i32_368 : BitVec 32 := 1#32
  let arg11 : BitVec 32 := Scf.iv c0_i32_366 c1_i32_368 k0_t1
  let c16_i32_421 : BitVec 32 := 16#32
  let v684 : BitVec 32 := Scalar.muli arg11 c16_i32_421
  let v685 : BitVec 32 := Scalar.addi c1_i32_422 v684
  let c0_i32_478 : BitVec 32 := 0#32
  let v763 : BitVec 32 := Scalar.addi v685 c0_i32_478
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_479 : BitVec 32 := 1#32
  let v764 : BitVec 32 := Scalar.subi v1 c1_i32_479
  let v765 : BitVec 32 := Scalar.minsi v763 v764
  let c256_i32_480 : BitVec 32 := 256#32
  let v766 : BitVec 32 := Scalar.muli v765 c256_i32_480
  v766
def k0_off11 (i : grid0.Coords) (k0_t1 : Fin (k0_t1_loop i).trips) (c0_i32_477 : BitVec 32) : Fin 4 → Nat :=
  let c0_491 : Index := 0#32
  let c1_i32_422 : BitVec 32 := 1#32
  let c0_i32_366 : BitVec 32 := 0#32
  let c1_i32_368 : BitVec 32 := 1#32
  let arg11 : BitVec 32 := Scf.iv c0_i32_366 c1_i32_368 k0_t1
  let c16_i32_421 : BitVec 32 := 16#32
  let v684 : BitVec 32 := Scalar.muli arg11 c16_i32_421
  let v685 : BitVec 32 := Scalar.addi c1_i32_422 v684
  let v762 : BitVec 32 := Scalar.addi v685 c0_i32_477
  let v783 : Index := Scalar.indexCast v762
  let c80_492 : Index := 80#32
  let c0_493 : Index := 0#32
  ![0, v783.toNat, 80, 0]
def k0_mult22 (i : grid0.Coords) (k0_t1 : Fin (k0_t1_loop i).trips) : BitVec 32 :=
  let c1_i32_422 : BitVec 32 := 1#32
  let c0_i32_366 : BitVec 32 := 0#32
  let c1_i32_368 : BitVec 32 := 1#32
  let arg11 : BitVec 32 := Scf.iv c0_i32_366 c1_i32_368 k0_t1
  let c16_i32_421 : BitVec 32 := 16#32
  let v684 : BitVec 32 := Scalar.muli arg11 c16_i32_421
  let v685 : BitVec 32 := Scalar.addi c1_i32_422 v684
  let c1_i32_505 : BitVec 32 := 1#32
  let v801 : BitVec 32 := Scalar.addi v685 c1_i32_505
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_506 : BitVec 32 := 1#32
  let v802 : BitVec 32 := Scalar.subi v1 c1_i32_506
  let v803 : BitVec 32 := Scalar.minsi v801 v802
  let c256_i32_507 : BitVec 32 := 256#32
  let v804 : BitVec 32 := Scalar.muli v803 c256_i32_507
  v804
def k0_off12 (i : grid0.Coords) (k0_t1 : Fin (k0_t1_loop i).trips) (c1_i32_505 : BitVec 32) : Fin 3 → Nat :=
  let c0_508 : Index := 0#32
  let c1_i32_422 : BitVec 32 := 1#32
  let c0_i32_366 : BitVec 32 := 0#32
  let c1_i32_368 : BitVec 32 := 1#32
  let arg11 : BitVec 32 := Scf.iv c0_i32_366 c1_i32_368 k0_t1
  let c16_i32_421 : BitVec 32 := 16#32
  let v684 : BitVec 32 := Scalar.muli arg11 c16_i32_421
  let v685 : BitVec 32 := Scalar.addi c1_i32_422 v684
  let v801 : BitVec 32 := Scalar.addi v685 c1_i32_505
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_506 : BitVec 32 := 1#32
  let v802 : BitVec 32 := Scalar.subi v1 c1_i32_506
  let v803 : BitVec 32 := Scalar.minsi v801 v802
  let c256_i32_507 : BitVec 32 := 256#32
  let v804 : BitVec 32 := Scalar.muli v803 c256_i32_507
  let v805 : BitVec 32 := v804
  let v806 : Index := Scalar.indexCast v805
  let c0_509 : Index := 0#32
  ![0, v806.toNat, 0]
def k0_mult23 (i : grid0.Coords) (k0_t1 : Fin (k0_t1_loop i).trips) : BitVec 32 :=
  let c1_i32_422 : BitVec 32 := 1#32
  let c0_i32_366 : BitVec 32 := 0#32
  let c1_i32_368 : BitVec 32 := 1#32
  let arg11 : BitVec 32 := Scf.iv c0_i32_366 c1_i32_368 k0_t1
  let c16_i32_421 : BitVec 32 := 16#32
  let v684 : BitVec 32 := Scalar.muli arg11 c16_i32_421
  let v685 : BitVec 32 := Scalar.addi c1_i32_422 v684
  let c1_i32_532 : BitVec 32 := 1#32
  let v839 : BitVec 32 := Scalar.addi v685 c1_i32_532
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_533 : BitVec 32 := 1#32
  let v840 : BitVec 32 := Scalar.subi v1 c1_i32_533
  let v841 : BitVec 32 := Scalar.minsi v839 v840
  let c256_i32_534 : BitVec 32 := 256#32
  let v842 : BitVec 32 := Scalar.muli v841 c256_i32_534
  v842
def k0_off13 (i : grid0.Coords) (k0_t1 : Fin (k0_t1_loop i).trips) (c0_i32_531 : BitVec 32) : Fin 4 → Nat :=
  let c0_545 : Index := 0#32
  let c1_i32_422 : BitVec 32 := 1#32
  let c0_i32_366 : BitVec 32 := 0#32
  let c1_i32_368 : BitVec 32 := 1#32
  let arg11 : BitVec 32 := Scf.iv c0_i32_366 c1_i32_368 k0_t1
  let c16_i32_421 : BitVec 32 := 16#32
  let v684 : BitVec 32 := Scalar.muli arg11 c16_i32_421
  let v685 : BitVec 32 := Scalar.addi c1_i32_422 v684
  let v838 : BitVec 32 := Scalar.addi v685 c0_i32_531
  let v859 : Index := Scalar.indexCast v838
  let c160_546 : Index := 160#32
  let c0_547 : Index := 0#32
  ![0, v859.toNat, 160, 0]
def k0_mult24 (i : grid0.Coords) (k0_t1 : Fin (k0_t1_loop i).trips) : BitVec 32 :=
  let c1_i32_422 : BitVec 32 := 1#32
  let c0_i32_366 : BitVec 32 := 0#32
  let c1_i32_368 : BitVec 32 := 1#32
  let arg11 : BitVec 32 := Scf.iv c0_i32_366 c1_i32_368 k0_t1
  let c16_i32_421 : BitVec 32 := 16#32
  let v684 : BitVec 32 := Scalar.muli arg11 c16_i32_421
  let v685 : BitVec 32 := Scalar.addi c1_i32_422 v684
  let c1_i32_559 : BitVec 32 := 1#32
  let v877 : BitVec 32 := Scalar.addi v685 c1_i32_559
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_560 : BitVec 32 := 1#32
  let v878 : BitVec 32 := Scalar.subi v1 c1_i32_560
  let v879 : BitVec 32 := Scalar.minsi v877 v878
  let c256_i32_561 : BitVec 32 := 256#32
  let v880 : BitVec 32 := Scalar.muli v879 c256_i32_561
  v880
def k0_mult25 (i : grid0.Coords) (k0_t1 : Fin (k0_t1_loop i).trips) : BitVec 32 :=
  let c1_i32_422 : BitVec 32 := 1#32
  let c0_i32_366 : BitVec 32 := 0#32
  let c1_i32_368 : BitVec 32 := 1#32
  let arg11 : BitVec 32 := Scf.iv c0_i32_366 c1_i32_368 k0_t1
  let c16_i32_421 : BitVec 32 := 16#32
  let v684 : BitVec 32 := Scalar.muli arg11 c16_i32_421
  let v685 : BitVec 32 := Scalar.addi c1_i32_422 v684
  let c1_i32_586 : BitVec 32 := 1#32
  let v915 : BitVec 32 := Scalar.addi v685 c1_i32_586
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_587 : BitVec 32 := 1#32
  let v916 : BitVec 32 := Scalar.subi v1 c1_i32_587
  let v917 : BitVec 32 := Scalar.minsi v915 v916
  let c256_i32_588 : BitVec 32 := 256#32
  let v918 : BitVec 32 := Scalar.muli v917 c256_i32_588
  v918
def k0_off14 (i : grid0.Coords) (k0_t1 : Fin (k0_t1_loop i).trips) (c0_i32_585 : BitVec 32) : Fin 4 → Nat :=
  let c0_599 : Index := 0#32
  let c1_i32_422 : BitVec 32 := 1#32
  let c0_i32_366 : BitVec 32 := 0#32
  let c1_i32_368 : BitVec 32 := 1#32
  let arg11 : BitVec 32 := Scf.iv c0_i32_366 c1_i32_368 k0_t1
  let c16_i32_421 : BitVec 32 := 16#32
  let v684 : BitVec 32 := Scalar.muli arg11 c16_i32_421
  let v685 : BitVec 32 := Scalar.addi c1_i32_422 v684
  let v914 : BitVec 32 := Scalar.addi v685 c0_i32_585
  let v935 : Index := Scalar.indexCast v914
  let c240_600 : Index := 240#32
  let c0_601 : Index := 0#32
  ![0, v935.toNat, 240, 0]
def k0_mult26 (i : grid0.Coords) (k0_t1 : Fin (k0_t1_loop i).trips) : BitVec 32 :=
  let c1_i32_422 : BitVec 32 := 1#32
  let c0_i32_366 : BitVec 32 := 0#32
  let c1_i32_368 : BitVec 32 := 1#32
  let arg11 : BitVec 32 := Scf.iv c0_i32_366 c1_i32_368 k0_t1
  let c16_i32_421 : BitVec 32 := 16#32
  let v684 : BitVec 32 := Scalar.muli arg11 c16_i32_421
  let v685 : BitVec 32 := Scalar.addi c1_i32_422 v684
  let c1_i32_613 : BitVec 32 := 1#32
  let v953 : BitVec 32 := Scalar.addi v685 c1_i32_613
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_614 : BitVec 32 := 1#32
  let v954 : BitVec 32 := Scalar.subi v1 c1_i32_614
  let v955 : BitVec 32 := Scalar.minsi v953 v954
  let c256_i32_615 : BitVec 32 := 256#32
  let v956 : BitVec 32 := Scalar.muli v955 c256_i32_615
  v956
def k0_mult27 (i : grid0.Coords) (k0_t1 : Fin (k0_t1_loop i).trips) : BitVec 32 :=
  let c1_i32_422 : BitVec 32 := 1#32
  let c0_i32_366 : BitVec 32 := 0#32
  let c1_i32_368 : BitVec 32 := 1#32
  let arg11 : BitVec 32 := Scf.iv c0_i32_366 c1_i32_368 k0_t1
  let c16_i32_421 : BitVec 32 := 16#32
  let v684 : BitVec 32 := Scalar.muli arg11 c16_i32_421
  let v685 : BitVec 32 := Scalar.addi c1_i32_422 v684
  let c1_i32_640 : BitVec 32 := 1#32
  let v991 : BitVec 32 := Scalar.addi v685 c1_i32_640
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_641 : BitVec 32 := 1#32
  let v992 : BitVec 32 := Scalar.subi v1 c1_i32_641
  let v993 : BitVec 32 := Scalar.minsi v991 v992
  let c256_i32_642 : BitVec 32 := 256#32
  let v994 : BitVec 32 := Scalar.muli v993 c256_i32_642
  v994
def k0_mult28 (i : grid0.Coords) (k0_t1 : Fin (k0_t1_loop i).trips) : BitVec 32 :=
  let c1_i32_422 : BitVec 32 := 1#32
  let c0_i32_366 : BitVec 32 := 0#32
  let c1_i32_368 : BitVec 32 := 1#32
  let arg11 : BitVec 32 := Scf.iv c0_i32_366 c1_i32_368 k0_t1
  let c16_i32_421 : BitVec 32 := 16#32
  let v684 : BitVec 32 := Scalar.muli arg11 c16_i32_421
  let v685 : BitVec 32 := Scalar.addi c1_i32_422 v684
  let c1_i32_667 : BitVec 32 := 1#32
  let v1029 : BitVec 32 := Scalar.addi v685 c1_i32_667
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_668 : BitVec 32 := 1#32
  let v1030 : BitVec 32 := Scalar.subi v1 c1_i32_668
  let v1031 : BitVec 32 := Scalar.minsi v1029 v1030
  let c256_i32_669 : BitVec 32 := 256#32
  let v1032 : BitVec 32 := Scalar.muli v1031 c256_i32_669
  v1032
def k0_mult29 (i : grid0.Coords) (k0_t1 : Fin (k0_t1_loop i).trips) : BitVec 32 :=
  let c1_i32_422 : BitVec 32 := 1#32
  let c0_i32_366 : BitVec 32 := 0#32
  let c1_i32_368 : BitVec 32 := 1#32
  let arg11 : BitVec 32 := Scf.iv c0_i32_366 c1_i32_368 k0_t1
  let c16_i32_421 : BitVec 32 := 16#32
  let v684 : BitVec 32 := Scalar.muli arg11 c16_i32_421
  let v685 : BitVec 32 := Scalar.addi c1_i32_422 v684
  let c1_i32_694 : BitVec 32 := 1#32
  let v1067 : BitVec 32 := Scalar.addi v685 c1_i32_694
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_695 : BitVec 32 := 1#32
  let v1068 : BitVec 32 := Scalar.subi v1 c1_i32_695
  let v1069 : BitVec 32 := Scalar.minsi v1067 v1068
  let c256_i32_696 : BitVec 32 := 256#32
  let v1070 : BitVec 32 := Scalar.muli v1069 c256_i32_696
  v1070
def k0_mult30 (i : grid0.Coords) (k0_t1 : Fin (k0_t1_loop i).trips) : BitVec 32 :=
  let c1_i32_422 : BitVec 32 := 1#32
  let c0_i32_366 : BitVec 32 := 0#32
  let c1_i32_368 : BitVec 32 := 1#32
  let arg11 : BitVec 32 := Scf.iv c0_i32_366 c1_i32_368 k0_t1
  let c16_i32_421 : BitVec 32 := 16#32
  let v684 : BitVec 32 := Scalar.muli arg11 c16_i32_421
  let v685 : BitVec 32 := Scalar.addi c1_i32_422 v684
  let c2_i32 : BitVec 32 := 2#32
  let v1105 : BitVec 32 := Scalar.addi v685 c2_i32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_721 : BitVec 32 := 1#32
  let v1106 : BitVec 32 := Scalar.subi v1 c1_i32_721
  let v1107 : BitVec 32 := Scalar.minsi v1105 v1106
  let c256_i32_722 : BitVec 32 := 256#32
  let v1108 : BitVec 32 := Scalar.muli v1107 c256_i32_722
  v1108
def k0_mult31 (i : grid0.Coords) (k0_t1 : Fin (k0_t1_loop i).trips) : BitVec 32 :=
  let c1_i32_422 : BitVec 32 := 1#32
  let c0_i32_366 : BitVec 32 := 0#32
  let c1_i32_368 : BitVec 32 := 1#32
  let arg11 : BitVec 32 := Scf.iv c0_i32_366 c1_i32_368 k0_t1
  let c16_i32_421 : BitVec 32 := 16#32
  let v684 : BitVec 32 := Scalar.muli arg11 c16_i32_421
  let v685 : BitVec 32 := Scalar.addi c1_i32_422 v684
  let c2_i32_747 : BitVec 32 := 2#32
  let v1143 : BitVec 32 := Scalar.addi v685 c2_i32_747
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_748 : BitVec 32 := 1#32
  let v1144 : BitVec 32 := Scalar.subi v1 c1_i32_748
  let v1145 : BitVec 32 := Scalar.minsi v1143 v1144
  let c256_i32_749 : BitVec 32 := 256#32
  let v1146 : BitVec 32 := Scalar.muli v1145 c256_i32_749
  v1146
def k0_mult32 (i : grid0.Coords) (k0_t1 : Fin (k0_t1_loop i).trips) : BitVec 32 :=
  let c1_i32_422 : BitVec 32 := 1#32
  let c0_i32_366 : BitVec 32 := 0#32
  let c1_i32_368 : BitVec 32 := 1#32
  let arg11 : BitVec 32 := Scf.iv c0_i32_366 c1_i32_368 k0_t1
  let c16_i32_421 : BitVec 32 := 16#32
  let v684 : BitVec 32 := Scalar.muli arg11 c16_i32_421
  let v685 : BitVec 32 := Scalar.addi c1_i32_422 v684
  let c2_i32_774 : BitVec 32 := 2#32
  let v1181 : BitVec 32 := Scalar.addi v685 c2_i32_774
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_775 : BitVec 32 := 1#32
  let v1182 : BitVec 32 := Scalar.subi v1 c1_i32_775
  let v1183 : BitVec 32 := Scalar.minsi v1181 v1182
  let c256_i32_776 : BitVec 32 := 256#32
  let v1184 : BitVec 32 := Scalar.muli v1183 c256_i32_776
  v1184
def k0_mult33 (i : grid0.Coords) (k0_t1 : Fin (k0_t1_loop i).trips) : BitVec 32 :=
  let c1_i32_422 : BitVec 32 := 1#32
  let c0_i32_366 : BitVec 32 := 0#32
  let c1_i32_368 : BitVec 32 := 1#32
  let arg11 : BitVec 32 := Scf.iv c0_i32_366 c1_i32_368 k0_t1
  let c16_i32_421 : BitVec 32 := 16#32
  let v684 : BitVec 32 := Scalar.muli arg11 c16_i32_421
  let v685 : BitVec 32 := Scalar.addi c1_i32_422 v684
  let c2_i32_801 : BitVec 32 := 2#32
  let v1219 : BitVec 32 := Scalar.addi v685 c2_i32_801
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_802 : BitVec 32 := 1#32
  let v1220 : BitVec 32 := Scalar.subi v1 c1_i32_802
  let v1221 : BitVec 32 := Scalar.minsi v1219 v1220
  let c256_i32_803 : BitVec 32 := 256#32
  let v1222 : BitVec 32 := Scalar.muli v1221 c256_i32_803
  v1222
def k0_mult34 (i : grid0.Coords) (k0_t1 : Fin (k0_t1_loop i).trips) : BitVec 32 :=
  let c1_i32_422 : BitVec 32 := 1#32
  let c0_i32_366 : BitVec 32 := 0#32
  let c1_i32_368 : BitVec 32 := 1#32
  let arg11 : BitVec 32 := Scf.iv c0_i32_366 c1_i32_368 k0_t1
  let c16_i32_421 : BitVec 32 := 16#32
  let v684 : BitVec 32 := Scalar.muli arg11 c16_i32_421
  let v685 : BitVec 32 := Scalar.addi c1_i32_422 v684
  let c2_i32_828 : BitVec 32 := 2#32
  let v1257 : BitVec 32 := Scalar.addi v685 c2_i32_828
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_829 : BitVec 32 := 1#32
  let v1258 : BitVec 32 := Scalar.subi v1 c1_i32_829
  let v1259 : BitVec 32 := Scalar.minsi v1257 v1258
  let c256_i32_830 : BitVec 32 := 256#32
  let v1260 : BitVec 32 := Scalar.muli v1259 c256_i32_830
  v1260
def k0_mult35 (i : grid0.Coords) (k0_t1 : Fin (k0_t1_loop i).trips) : BitVec 32 :=
  let c1_i32_422 : BitVec 32 := 1#32
  let c0_i32_366 : BitVec 32 := 0#32
  let c1_i32_368 : BitVec 32 := 1#32
  let arg11 : BitVec 32 := Scf.iv c0_i32_366 c1_i32_368 k0_t1
  let c16_i32_421 : BitVec 32 := 16#32
  let v684 : BitVec 32 := Scalar.muli arg11 c16_i32_421
  let v685 : BitVec 32 := Scalar.addi c1_i32_422 v684
  let c2_i32_855 : BitVec 32 := 2#32
  let v1295 : BitVec 32 := Scalar.addi v685 c2_i32_855
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_856 : BitVec 32 := 1#32
  let v1296 : BitVec 32 := Scalar.subi v1 c1_i32_856
  let v1297 : BitVec 32 := Scalar.minsi v1295 v1296
  let c256_i32_857 : BitVec 32 := 256#32
  let v1298 : BitVec 32 := Scalar.muli v1297 c256_i32_857
  v1298
def k0_mult36 (i : grid0.Coords) (k0_t1 : Fin (k0_t1_loop i).trips) : BitVec 32 :=
  let c1_i32_422 : BitVec 32 := 1#32
  let c0_i32_366 : BitVec 32 := 0#32
  let c1_i32_368 : BitVec 32 := 1#32
  let arg11 : BitVec 32 := Scf.iv c0_i32_366 c1_i32_368 k0_t1
  let c16_i32_421 : BitVec 32 := 16#32
  let v684 : BitVec 32 := Scalar.muli arg11 c16_i32_421
  let v685 : BitVec 32 := Scalar.addi c1_i32_422 v684
  let c2_i32_882 : BitVec 32 := 2#32
  let v1333 : BitVec 32 := Scalar.addi v685 c2_i32_882
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_883 : BitVec 32 := 1#32
  let v1334 : BitVec 32 := Scalar.subi v1 c1_i32_883
  let v1335 : BitVec 32 := Scalar.minsi v1333 v1334
  let c256_i32_884 : BitVec 32 := 256#32
  let v1336 : BitVec 32 := Scalar.muli v1335 c256_i32_884
  v1336
def k0_mult37 (i : grid0.Coords) (k0_t1 : Fin (k0_t1_loop i).trips) : BitVec 32 :=
  let c1_i32_422 : BitVec 32 := 1#32
  let c0_i32_366 : BitVec 32 := 0#32
  let c1_i32_368 : BitVec 32 := 1#32
  let arg11 : BitVec 32 := Scf.iv c0_i32_366 c1_i32_368 k0_t1
  let c16_i32_421 : BitVec 32 := 16#32
  let v684 : BitVec 32 := Scalar.muli arg11 c16_i32_421
  let v685 : BitVec 32 := Scalar.addi c1_i32_422 v684
  let c2_i32_909 : BitVec 32 := 2#32
  let v1371 : BitVec 32 := Scalar.addi v685 c2_i32_909
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_910 : BitVec 32 := 1#32
  let v1372 : BitVec 32 := Scalar.subi v1 c1_i32_910
  let v1373 : BitVec 32 := Scalar.minsi v1371 v1372
  let c256_i32_911 : BitVec 32 := 256#32
  let v1374 : BitVec 32 := Scalar.muli v1373 c256_i32_911
  v1374
def k0_mult38 (i : grid0.Coords) (k0_t1 : Fin (k0_t1_loop i).trips) : BitVec 32 :=
  let c1_i32_422 : BitVec 32 := 1#32
  let c0_i32_366 : BitVec 32 := 0#32
  let c1_i32_368 : BitVec 32 := 1#32
  let arg11 : BitVec 32 := Scf.iv c0_i32_366 c1_i32_368 k0_t1
  let c16_i32_421 : BitVec 32 := 16#32
  let v684 : BitVec 32 := Scalar.muli arg11 c16_i32_421
  let v685 : BitVec 32 := Scalar.addi c1_i32_422 v684
  let c3_i32 : BitVec 32 := 3#32
  let v1409 : BitVec 32 := Scalar.addi v685 c3_i32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_936 : BitVec 32 := 1#32
  let v1410 : BitVec 32 := Scalar.subi v1 c1_i32_936
  let v1411 : BitVec 32 := Scalar.minsi v1409 v1410
  let c256_i32_937 : BitVec 32 := 256#32
  let v1412 : BitVec 32 := Scalar.muli v1411 c256_i32_937
  v1412
def k0_mult39 (i : grid0.Coords) (k0_t1 : Fin (k0_t1_loop i).trips) : BitVec 32 :=
  let c1_i32_422 : BitVec 32 := 1#32
  let c0_i32_366 : BitVec 32 := 0#32
  let c1_i32_368 : BitVec 32 := 1#32
  let arg11 : BitVec 32 := Scf.iv c0_i32_366 c1_i32_368 k0_t1
  let c16_i32_421 : BitVec 32 := 16#32
  let v684 : BitVec 32 := Scalar.muli arg11 c16_i32_421
  let v685 : BitVec 32 := Scalar.addi c1_i32_422 v684
  let c3_i32_962 : BitVec 32 := 3#32
  let v1447 : BitVec 32 := Scalar.addi v685 c3_i32_962
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_963 : BitVec 32 := 1#32
  let v1448 : BitVec 32 := Scalar.subi v1 c1_i32_963
  let v1449 : BitVec 32 := Scalar.minsi v1447 v1448
  let c256_i32_964 : BitVec 32 := 256#32
  let v1450 : BitVec 32 := Scalar.muli v1449 c256_i32_964
  v1450
def k0_mult40 (i : grid0.Coords) (k0_t1 : Fin (k0_t1_loop i).trips) : BitVec 32 :=
  let c1_i32_422 : BitVec 32 := 1#32
  let c0_i32_366 : BitVec 32 := 0#32
  let c1_i32_368 : BitVec 32 := 1#32
  let arg11 : BitVec 32 := Scf.iv c0_i32_366 c1_i32_368 k0_t1
  let c16_i32_421 : BitVec 32 := 16#32
  let v684 : BitVec 32 := Scalar.muli arg11 c16_i32_421
  let v685 : BitVec 32 := Scalar.addi c1_i32_422 v684
  let c3_i32_989 : BitVec 32 := 3#32
  let v1485 : BitVec 32 := Scalar.addi v685 c3_i32_989
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_990 : BitVec 32 := 1#32
  let v1486 : BitVec 32 := Scalar.subi v1 c1_i32_990
  let v1487 : BitVec 32 := Scalar.minsi v1485 v1486
  let c256_i32_991 : BitVec 32 := 256#32
  let v1488 : BitVec 32 := Scalar.muli v1487 c256_i32_991
  v1488
def k0_mult41 (i : grid0.Coords) (k0_t1 : Fin (k0_t1_loop i).trips) : BitVec 32 :=
  let c1_i32_422 : BitVec 32 := 1#32
  let c0_i32_366 : BitVec 32 := 0#32
  let c1_i32_368 : BitVec 32 := 1#32
  let arg11 : BitVec 32 := Scf.iv c0_i32_366 c1_i32_368 k0_t1
  let c16_i32_421 : BitVec 32 := 16#32
  let v684 : BitVec 32 := Scalar.muli arg11 c16_i32_421
  let v685 : BitVec 32 := Scalar.addi c1_i32_422 v684
  let c3_i32_1016 : BitVec 32 := 3#32
  let v1523 : BitVec 32 := Scalar.addi v685 c3_i32_1016
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_1017 : BitVec 32 := 1#32
  let v1524 : BitVec 32 := Scalar.subi v1 c1_i32_1017
  let v1525 : BitVec 32 := Scalar.minsi v1523 v1524
  let c256_i32_1018 : BitVec 32 := 256#32
  let v1526 : BitVec 32 := Scalar.muli v1525 c256_i32_1018
  v1526
def k0_mult42 (i : grid0.Coords) (k0_t1 : Fin (k0_t1_loop i).trips) : BitVec 32 :=
  let c1_i32_422 : BitVec 32 := 1#32
  let c0_i32_366 : BitVec 32 := 0#32
  let c1_i32_368 : BitVec 32 := 1#32
  let arg11 : BitVec 32 := Scf.iv c0_i32_366 c1_i32_368 k0_t1
  let c16_i32_421 : BitVec 32 := 16#32
  let v684 : BitVec 32 := Scalar.muli arg11 c16_i32_421
  let v685 : BitVec 32 := Scalar.addi c1_i32_422 v684
  let c3_i32_1043 : BitVec 32 := 3#32
  let v1561 : BitVec 32 := Scalar.addi v685 c3_i32_1043
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_1044 : BitVec 32 := 1#32
  let v1562 : BitVec 32 := Scalar.subi v1 c1_i32_1044
  let v1563 : BitVec 32 := Scalar.minsi v1561 v1562
  let c256_i32_1045 : BitVec 32 := 256#32
  let v1564 : BitVec 32 := Scalar.muli v1563 c256_i32_1045
  v1564
def k0_mult43 (i : grid0.Coords) (k0_t1 : Fin (k0_t1_loop i).trips) : BitVec 32 :=
  let c1_i32_422 : BitVec 32 := 1#32
  let c0_i32_366 : BitVec 32 := 0#32
  let c1_i32_368 : BitVec 32 := 1#32
  let arg11 : BitVec 32 := Scf.iv c0_i32_366 c1_i32_368 k0_t1
  let c16_i32_421 : BitVec 32 := 16#32
  let v684 : BitVec 32 := Scalar.muli arg11 c16_i32_421
  let v685 : BitVec 32 := Scalar.addi c1_i32_422 v684
  let c3_i32_1070 : BitVec 32 := 3#32
  let v1599 : BitVec 32 := Scalar.addi v685 c3_i32_1070
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_1071 : BitVec 32 := 1#32
  let v1600 : BitVec 32 := Scalar.subi v1 c1_i32_1071
  let v1601 : BitVec 32 := Scalar.minsi v1599 v1600
  let c256_i32_1072 : BitVec 32 := 256#32
  let v1602 : BitVec 32 := Scalar.muli v1601 c256_i32_1072
  v1602
def k0_mult44 (i : grid0.Coords) (k0_t1 : Fin (k0_t1_loop i).trips) : BitVec 32 :=
  let c1_i32_422 : BitVec 32 := 1#32
  let c0_i32_366 : BitVec 32 := 0#32
  let c1_i32_368 : BitVec 32 := 1#32
  let arg11 : BitVec 32 := Scf.iv c0_i32_366 c1_i32_368 k0_t1
  let c16_i32_421 : BitVec 32 := 16#32
  let v684 : BitVec 32 := Scalar.muli arg11 c16_i32_421
  let v685 : BitVec 32 := Scalar.addi c1_i32_422 v684
  let c3_i32_1097 : BitVec 32 := 3#32
  let v1637 : BitVec 32 := Scalar.addi v685 c3_i32_1097
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_1098 : BitVec 32 := 1#32
  let v1638 : BitVec 32 := Scalar.subi v1 c1_i32_1098
  let v1639 : BitVec 32 := Scalar.minsi v1637 v1638
  let c256_i32_1099 : BitVec 32 := 256#32
  let v1640 : BitVec 32 := Scalar.muli v1639 c256_i32_1099
  v1640
def k0_mult45 (i : grid0.Coords) (k0_t1 : Fin (k0_t1_loop i).trips) : BitVec 32 :=
  let c1_i32_422 : BitVec 32 := 1#32
  let c0_i32_366 : BitVec 32 := 0#32
  let c1_i32_368 : BitVec 32 := 1#32
  let arg11 : BitVec 32 := Scf.iv c0_i32_366 c1_i32_368 k0_t1
  let c16_i32_421 : BitVec 32 := 16#32
  let v684 : BitVec 32 := Scalar.muli arg11 c16_i32_421
  let v685 : BitVec 32 := Scalar.addi c1_i32_422 v684
  let c3_i32_1124 : BitVec 32 := 3#32
  let v1675 : BitVec 32 := Scalar.addi v685 c3_i32_1124
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_1125 : BitVec 32 := 1#32
  let v1676 : BitVec 32 := Scalar.subi v1 c1_i32_1125
  let v1677 : BitVec 32 := Scalar.minsi v1675 v1676
  let c256_i32_1126 : BitVec 32 := 256#32
  let v1678 : BitVec 32 := Scalar.muli v1677 c256_i32_1126
  v1678
def k0_mult46 (i : grid0.Coords) (k0_t1 : Fin (k0_t1_loop i).trips) : BitVec 32 :=
  let c1_i32_422 : BitVec 32 := 1#32
  let c0_i32_366 : BitVec 32 := 0#32
  let c1_i32_368 : BitVec 32 := 1#32
  let arg11 : BitVec 32 := Scf.iv c0_i32_366 c1_i32_368 k0_t1
  let c16_i32_421 : BitVec 32 := 16#32
  let v684 : BitVec 32 := Scalar.muli arg11 c16_i32_421
  let v685 : BitVec 32 := Scalar.addi c1_i32_422 v684
  let c4_i32 : BitVec 32 := 4#32
  let v1713 : BitVec 32 := Scalar.addi v685 c4_i32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_1151 : BitVec 32 := 1#32
  let v1714 : BitVec 32 := Scalar.subi v1 c1_i32_1151
  let v1715 : BitVec 32 := Scalar.minsi v1713 v1714
  let c256_i32_1152 : BitVec 32 := 256#32
  let v1716 : BitVec 32 := Scalar.muli v1715 c256_i32_1152
  v1716
def k0_mult47 (i : grid0.Coords) (k0_t1 : Fin (k0_t1_loop i).trips) : BitVec 32 :=
  let c1_i32_422 : BitVec 32 := 1#32
  let c0_i32_366 : BitVec 32 := 0#32
  let c1_i32_368 : BitVec 32 := 1#32
  let arg11 : BitVec 32 := Scf.iv c0_i32_366 c1_i32_368 k0_t1
  let c16_i32_421 : BitVec 32 := 16#32
  let v684 : BitVec 32 := Scalar.muli arg11 c16_i32_421
  let v685 : BitVec 32 := Scalar.addi c1_i32_422 v684
  let c4_i32_1177 : BitVec 32 := 4#32
  let v1751 : BitVec 32 := Scalar.addi v685 c4_i32_1177
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_1178 : BitVec 32 := 1#32
  let v1752 : BitVec 32 := Scalar.subi v1 c1_i32_1178
  let v1753 : BitVec 32 := Scalar.minsi v1751 v1752
  let c256_i32_1179 : BitVec 32 := 256#32
  let v1754 : BitVec 32 := Scalar.muli v1753 c256_i32_1179
  v1754
def k0_mult48 (i : grid0.Coords) (k0_t1 : Fin (k0_t1_loop i).trips) : BitVec 32 :=
  let c1_i32_422 : BitVec 32 := 1#32
  let c0_i32_366 : BitVec 32 := 0#32
  let c1_i32_368 : BitVec 32 := 1#32
  let arg11 : BitVec 32 := Scf.iv c0_i32_366 c1_i32_368 k0_t1
  let c16_i32_421 : BitVec 32 := 16#32
  let v684 : BitVec 32 := Scalar.muli arg11 c16_i32_421
  let v685 : BitVec 32 := Scalar.addi c1_i32_422 v684
  let c4_i32_1204 : BitVec 32 := 4#32
  let v1789 : BitVec 32 := Scalar.addi v685 c4_i32_1204
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_1205 : BitVec 32 := 1#32
  let v1790 : BitVec 32 := Scalar.subi v1 c1_i32_1205
  let v1791 : BitVec 32 := Scalar.minsi v1789 v1790
  let c256_i32_1206 : BitVec 32 := 256#32
  let v1792 : BitVec 32 := Scalar.muli v1791 c256_i32_1206
  v1792
def k0_mult49 (i : grid0.Coords) (k0_t1 : Fin (k0_t1_loop i).trips) : BitVec 32 :=
  let c1_i32_422 : BitVec 32 := 1#32
  let c0_i32_366 : BitVec 32 := 0#32
  let c1_i32_368 : BitVec 32 := 1#32
  let arg11 : BitVec 32 := Scf.iv c0_i32_366 c1_i32_368 k0_t1
  let c16_i32_421 : BitVec 32 := 16#32
  let v684 : BitVec 32 := Scalar.muli arg11 c16_i32_421
  let v685 : BitVec 32 := Scalar.addi c1_i32_422 v684
  let c4_i32_1231 : BitVec 32 := 4#32
  let v1827 : BitVec 32 := Scalar.addi v685 c4_i32_1231
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_1232 : BitVec 32 := 1#32
  let v1828 : BitVec 32 := Scalar.subi v1 c1_i32_1232
  let v1829 : BitVec 32 := Scalar.minsi v1827 v1828
  let c256_i32_1233 : BitVec 32 := 256#32
  let v1830 : BitVec 32 := Scalar.muli v1829 c256_i32_1233
  v1830
def k0_mult50 (i : grid0.Coords) (k0_t1 : Fin (k0_t1_loop i).trips) : BitVec 32 :=
  let c1_i32_422 : BitVec 32 := 1#32
  let c0_i32_366 : BitVec 32 := 0#32
  let c1_i32_368 : BitVec 32 := 1#32
  let arg11 : BitVec 32 := Scf.iv c0_i32_366 c1_i32_368 k0_t1
  let c16_i32_421 : BitVec 32 := 16#32
  let v684 : BitVec 32 := Scalar.muli arg11 c16_i32_421
  let v685 : BitVec 32 := Scalar.addi c1_i32_422 v684
  let c4_i32_1258 : BitVec 32 := 4#32
  let v1865 : BitVec 32 := Scalar.addi v685 c4_i32_1258
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_1259 : BitVec 32 := 1#32
  let v1866 : BitVec 32 := Scalar.subi v1 c1_i32_1259
  let v1867 : BitVec 32 := Scalar.minsi v1865 v1866
  let c256_i32_1260 : BitVec 32 := 256#32
  let v1868 : BitVec 32 := Scalar.muli v1867 c256_i32_1260
  v1868
def k0_mult51 (i : grid0.Coords) (k0_t1 : Fin (k0_t1_loop i).trips) : BitVec 32 :=
  let c1_i32_422 : BitVec 32 := 1#32
  let c0_i32_366 : BitVec 32 := 0#32
  let c1_i32_368 : BitVec 32 := 1#32
  let arg11 : BitVec 32 := Scf.iv c0_i32_366 c1_i32_368 k0_t1
  let c16_i32_421 : BitVec 32 := 16#32
  let v684 : BitVec 32 := Scalar.muli arg11 c16_i32_421
  let v685 : BitVec 32 := Scalar.addi c1_i32_422 v684
  let c4_i32_1285 : BitVec 32 := 4#32
  let v1903 : BitVec 32 := Scalar.addi v685 c4_i32_1285
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_1286 : BitVec 32 := 1#32
  let v1904 : BitVec 32 := Scalar.subi v1 c1_i32_1286
  let v1905 : BitVec 32 := Scalar.minsi v1903 v1904
  let c256_i32_1287 : BitVec 32 := 256#32
  let v1906 : BitVec 32 := Scalar.muli v1905 c256_i32_1287
  v1906
def k0_mult52 (i : grid0.Coords) (k0_t1 : Fin (k0_t1_loop i).trips) : BitVec 32 :=
  let c1_i32_422 : BitVec 32 := 1#32
  let c0_i32_366 : BitVec 32 := 0#32
  let c1_i32_368 : BitVec 32 := 1#32
  let arg11 : BitVec 32 := Scf.iv c0_i32_366 c1_i32_368 k0_t1
  let c16_i32_421 : BitVec 32 := 16#32
  let v684 : BitVec 32 := Scalar.muli arg11 c16_i32_421
  let v685 : BitVec 32 := Scalar.addi c1_i32_422 v684
  let c4_i32_1312 : BitVec 32 := 4#32
  let v1941 : BitVec 32 := Scalar.addi v685 c4_i32_1312
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_1313 : BitVec 32 := 1#32
  let v1942 : BitVec 32 := Scalar.subi v1 c1_i32_1313
  let v1943 : BitVec 32 := Scalar.minsi v1941 v1942
  let c256_i32_1314 : BitVec 32 := 256#32
  let v1944 : BitVec 32 := Scalar.muli v1943 c256_i32_1314
  v1944
def k0_mult53 (i : grid0.Coords) (k0_t1 : Fin (k0_t1_loop i).trips) : BitVec 32 :=
  let c1_i32_422 : BitVec 32 := 1#32
  let c0_i32_366 : BitVec 32 := 0#32
  let c1_i32_368 : BitVec 32 := 1#32
  let arg11 : BitVec 32 := Scf.iv c0_i32_366 c1_i32_368 k0_t1
  let c16_i32_421 : BitVec 32 := 16#32
  let v684 : BitVec 32 := Scalar.muli arg11 c16_i32_421
  let v685 : BitVec 32 := Scalar.addi c1_i32_422 v684
  let c4_i32_1339 : BitVec 32 := 4#32
  let v1979 : BitVec 32 := Scalar.addi v685 c4_i32_1339
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_1340 : BitVec 32 := 1#32
  let v1980 : BitVec 32 := Scalar.subi v1 c1_i32_1340
  let v1981 : BitVec 32 := Scalar.minsi v1979 v1980
  let c256_i32_1341 : BitVec 32 := 256#32
  let v1982 : BitVec 32 := Scalar.muli v1981 c256_i32_1341
  v1982
def k0_mult54 (i : grid0.Coords) (k0_t1 : Fin (k0_t1_loop i).trips) : BitVec 32 :=
  let c1_i32_422 : BitVec 32 := 1#32
  let c0_i32_366 : BitVec 32 := 0#32
  let c1_i32_368 : BitVec 32 := 1#32
  let arg11 : BitVec 32 := Scf.iv c0_i32_366 c1_i32_368 k0_t1
  let c16_i32_421 : BitVec 32 := 16#32
  let v684 : BitVec 32 := Scalar.muli arg11 c16_i32_421
  let v685 : BitVec 32 := Scalar.addi c1_i32_422 v684
  let c5_i32 : BitVec 32 := 5#32
  let v2017 : BitVec 32 := Scalar.addi v685 c5_i32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_1366 : BitVec 32 := 1#32
  let v2018 : BitVec 32 := Scalar.subi v1 c1_i32_1366
  let v2019 : BitVec 32 := Scalar.minsi v2017 v2018
  let c256_i32_1367 : BitVec 32 := 256#32
  let v2020 : BitVec 32 := Scalar.muli v2019 c256_i32_1367
  v2020
def k0_mult55 (i : grid0.Coords) (k0_t1 : Fin (k0_t1_loop i).trips) : BitVec 32 :=
  let c1_i32_422 : BitVec 32 := 1#32
  let c0_i32_366 : BitVec 32 := 0#32
  let c1_i32_368 : BitVec 32 := 1#32
  let arg11 : BitVec 32 := Scf.iv c0_i32_366 c1_i32_368 k0_t1
  let c16_i32_421 : BitVec 32 := 16#32
  let v684 : BitVec 32 := Scalar.muli arg11 c16_i32_421
  let v685 : BitVec 32 := Scalar.addi c1_i32_422 v684
  let c5_i32_1392 : BitVec 32 := 5#32
  let v2055 : BitVec 32 := Scalar.addi v685 c5_i32_1392
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_1393 : BitVec 32 := 1#32
  let v2056 : BitVec 32 := Scalar.subi v1 c1_i32_1393
  let v2057 : BitVec 32 := Scalar.minsi v2055 v2056
  let c256_i32_1394 : BitVec 32 := 256#32
  let v2058 : BitVec 32 := Scalar.muli v2057 c256_i32_1394
  v2058
def k0_mult56 (i : grid0.Coords) (k0_t1 : Fin (k0_t1_loop i).trips) : BitVec 32 :=
  let c1_i32_422 : BitVec 32 := 1#32
  let c0_i32_366 : BitVec 32 := 0#32
  let c1_i32_368 : BitVec 32 := 1#32
  let arg11 : BitVec 32 := Scf.iv c0_i32_366 c1_i32_368 k0_t1
  let c16_i32_421 : BitVec 32 := 16#32
  let v684 : BitVec 32 := Scalar.muli arg11 c16_i32_421
  let v685 : BitVec 32 := Scalar.addi c1_i32_422 v684
  let c5_i32_1419 : BitVec 32 := 5#32
  let v2093 : BitVec 32 := Scalar.addi v685 c5_i32_1419
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_1420 : BitVec 32 := 1#32
  let v2094 : BitVec 32 := Scalar.subi v1 c1_i32_1420
  let v2095 : BitVec 32 := Scalar.minsi v2093 v2094
  let c256_i32_1421 : BitVec 32 := 256#32
  let v2096 : BitVec 32 := Scalar.muli v2095 c256_i32_1421
  v2096
def k0_mult57 (i : grid0.Coords) (k0_t1 : Fin (k0_t1_loop i).trips) : BitVec 32 :=
  let c1_i32_422 : BitVec 32 := 1#32
  let c0_i32_366 : BitVec 32 := 0#32
  let c1_i32_368 : BitVec 32 := 1#32
  let arg11 : BitVec 32 := Scf.iv c0_i32_366 c1_i32_368 k0_t1
  let c16_i32_421 : BitVec 32 := 16#32
  let v684 : BitVec 32 := Scalar.muli arg11 c16_i32_421
  let v685 : BitVec 32 := Scalar.addi c1_i32_422 v684
  let c5_i32_1446 : BitVec 32 := 5#32
  let v2131 : BitVec 32 := Scalar.addi v685 c5_i32_1446
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_1447 : BitVec 32 := 1#32
  let v2132 : BitVec 32 := Scalar.subi v1 c1_i32_1447
  let v2133 : BitVec 32 := Scalar.minsi v2131 v2132
  let c256_i32_1448 : BitVec 32 := 256#32
  let v2134 : BitVec 32 := Scalar.muli v2133 c256_i32_1448
  v2134
def k0_mult58 (i : grid0.Coords) (k0_t1 : Fin (k0_t1_loop i).trips) : BitVec 32 :=
  let c1_i32_422 : BitVec 32 := 1#32
  let c0_i32_366 : BitVec 32 := 0#32
  let c1_i32_368 : BitVec 32 := 1#32
  let arg11 : BitVec 32 := Scf.iv c0_i32_366 c1_i32_368 k0_t1
  let c16_i32_421 : BitVec 32 := 16#32
  let v684 : BitVec 32 := Scalar.muli arg11 c16_i32_421
  let v685 : BitVec 32 := Scalar.addi c1_i32_422 v684
  let c5_i32_1473 : BitVec 32 := 5#32
  let v2169 : BitVec 32 := Scalar.addi v685 c5_i32_1473
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_1474 : BitVec 32 := 1#32
  let v2170 : BitVec 32 := Scalar.subi v1 c1_i32_1474
  let v2171 : BitVec 32 := Scalar.minsi v2169 v2170
  let c256_i32_1475 : BitVec 32 := 256#32
  let v2172 : BitVec 32 := Scalar.muli v2171 c256_i32_1475
  v2172
def k0_mult59 (i : grid0.Coords) (k0_t1 : Fin (k0_t1_loop i).trips) : BitVec 32 :=
  let c1_i32_422 : BitVec 32 := 1#32
  let c0_i32_366 : BitVec 32 := 0#32
  let c1_i32_368 : BitVec 32 := 1#32
  let arg11 : BitVec 32 := Scf.iv c0_i32_366 c1_i32_368 k0_t1
  let c16_i32_421 : BitVec 32 := 16#32
  let v684 : BitVec 32 := Scalar.muli arg11 c16_i32_421
  let v685 : BitVec 32 := Scalar.addi c1_i32_422 v684
  let c5_i32_1500 : BitVec 32 := 5#32
  let v2207 : BitVec 32 := Scalar.addi v685 c5_i32_1500
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_1501 : BitVec 32 := 1#32
  let v2208 : BitVec 32 := Scalar.subi v1 c1_i32_1501
  let v2209 : BitVec 32 := Scalar.minsi v2207 v2208
  let c256_i32_1502 : BitVec 32 := 256#32
  let v2210 : BitVec 32 := Scalar.muli v2209 c256_i32_1502
  v2210
def k0_mult60 (i : grid0.Coords) (k0_t1 : Fin (k0_t1_loop i).trips) : BitVec 32 :=
  let c1_i32_422 : BitVec 32 := 1#32
  let c0_i32_366 : BitVec 32 := 0#32
  let c1_i32_368 : BitVec 32 := 1#32
  let arg11 : BitVec 32 := Scf.iv c0_i32_366 c1_i32_368 k0_t1
  let c16_i32_421 : BitVec 32 := 16#32
  let v684 : BitVec 32 := Scalar.muli arg11 c16_i32_421
  let v685 : BitVec 32 := Scalar.addi c1_i32_422 v684
  let c5_i32_1527 : BitVec 32 := 5#32
  let v2245 : BitVec 32 := Scalar.addi v685 c5_i32_1527
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_1528 : BitVec 32 := 1#32
  let v2246 : BitVec 32 := Scalar.subi v1 c1_i32_1528
  let v2247 : BitVec 32 := Scalar.minsi v2245 v2246
  let c256_i32_1529 : BitVec 32 := 256#32
  let v2248 : BitVec 32 := Scalar.muli v2247 c256_i32_1529
  v2248
def k0_mult61 (i : grid0.Coords) (k0_t1 : Fin (k0_t1_loop i).trips) : BitVec 32 :=
  let c1_i32_422 : BitVec 32 := 1#32
  let c0_i32_366 : BitVec 32 := 0#32
  let c1_i32_368 : BitVec 32 := 1#32
  let arg11 : BitVec 32 := Scf.iv c0_i32_366 c1_i32_368 k0_t1
  let c16_i32_421 : BitVec 32 := 16#32
  let v684 : BitVec 32 := Scalar.muli arg11 c16_i32_421
  let v685 : BitVec 32 := Scalar.addi c1_i32_422 v684
  let c5_i32_1554 : BitVec 32 := 5#32
  let v2283 : BitVec 32 := Scalar.addi v685 c5_i32_1554
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_1555 : BitVec 32 := 1#32
  let v2284 : BitVec 32 := Scalar.subi v1 c1_i32_1555
  let v2285 : BitVec 32 := Scalar.minsi v2283 v2284
  let c256_i32_1556 : BitVec 32 := 256#32
  let v2286 : BitVec 32 := Scalar.muli v2285 c256_i32_1556
  v2286
def k0_mult62 (i : grid0.Coords) (k0_t1 : Fin (k0_t1_loop i).trips) : BitVec 32 :=
  let c1_i32_422 : BitVec 32 := 1#32
  let c0_i32_366 : BitVec 32 := 0#32
  let c1_i32_368 : BitVec 32 := 1#32
  let arg11 : BitVec 32 := Scf.iv c0_i32_366 c1_i32_368 k0_t1
  let c16_i32_421 : BitVec 32 := 16#32
  let v684 : BitVec 32 := Scalar.muli arg11 c16_i32_421
  let v685 : BitVec 32 := Scalar.addi c1_i32_422 v684
  let c6_i32 : BitVec 32 := 6#32
  let v2321 : BitVec 32 := Scalar.addi v685 c6_i32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_1581 : BitVec 32 := 1#32
  let v2322 : BitVec 32 := Scalar.subi v1 c1_i32_1581
  let v2323 : BitVec 32 := Scalar.minsi v2321 v2322
  let c256_i32_1582 : BitVec 32 := 256#32
  let v2324 : BitVec 32 := Scalar.muli v2323 c256_i32_1582
  v2324
def k0_mult63 (i : grid0.Coords) (k0_t1 : Fin (k0_t1_loop i).trips) : BitVec 32 :=
  let c1_i32_422 : BitVec 32 := 1#32
  let c0_i32_366 : BitVec 32 := 0#32
  let c1_i32_368 : BitVec 32 := 1#32
  let arg11 : BitVec 32 := Scf.iv c0_i32_366 c1_i32_368 k0_t1
  let c16_i32_421 : BitVec 32 := 16#32
  let v684 : BitVec 32 := Scalar.muli arg11 c16_i32_421
  let v685 : BitVec 32 := Scalar.addi c1_i32_422 v684
  let c6_i32_1607 : BitVec 32 := 6#32
  let v2359 : BitVec 32 := Scalar.addi v685 c6_i32_1607
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_1608 : BitVec 32 := 1#32
  let v2360 : BitVec 32 := Scalar.subi v1 c1_i32_1608
  let v2361 : BitVec 32 := Scalar.minsi v2359 v2360
  let c256_i32_1609 : BitVec 32 := 256#32
  let v2362 : BitVec 32 := Scalar.muli v2361 c256_i32_1609
  v2362
def k0_mult64 (i : grid0.Coords) (k0_t1 : Fin (k0_t1_loop i).trips) : BitVec 32 :=
  let c1_i32_422 : BitVec 32 := 1#32
  let c0_i32_366 : BitVec 32 := 0#32
  let c1_i32_368 : BitVec 32 := 1#32
  let arg11 : BitVec 32 := Scf.iv c0_i32_366 c1_i32_368 k0_t1
  let c16_i32_421 : BitVec 32 := 16#32
  let v684 : BitVec 32 := Scalar.muli arg11 c16_i32_421
  let v685 : BitVec 32 := Scalar.addi c1_i32_422 v684
  let c6_i32_1634 : BitVec 32 := 6#32
  let v2397 : BitVec 32 := Scalar.addi v685 c6_i32_1634
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_1635 : BitVec 32 := 1#32
  let v2398 : BitVec 32 := Scalar.subi v1 c1_i32_1635
  let v2399 : BitVec 32 := Scalar.minsi v2397 v2398
  let c256_i32_1636 : BitVec 32 := 256#32
  let v2400 : BitVec 32 := Scalar.muli v2399 c256_i32_1636
  v2400
def k0_mult65 (i : grid0.Coords) (k0_t1 : Fin (k0_t1_loop i).trips) : BitVec 32 :=
  let c1_i32_422 : BitVec 32 := 1#32
  let c0_i32_366 : BitVec 32 := 0#32
  let c1_i32_368 : BitVec 32 := 1#32
  let arg11 : BitVec 32 := Scf.iv c0_i32_366 c1_i32_368 k0_t1
  let c16_i32_421 : BitVec 32 := 16#32
  let v684 : BitVec 32 := Scalar.muli arg11 c16_i32_421
  let v685 : BitVec 32 := Scalar.addi c1_i32_422 v684
  let c6_i32_1661 : BitVec 32 := 6#32
  let v2435 : BitVec 32 := Scalar.addi v685 c6_i32_1661
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_1662 : BitVec 32 := 1#32
  let v2436 : BitVec 32 := Scalar.subi v1 c1_i32_1662
  let v2437 : BitVec 32 := Scalar.minsi v2435 v2436
  let c256_i32_1663 : BitVec 32 := 256#32
  let v2438 : BitVec 32 := Scalar.muli v2437 c256_i32_1663
  v2438
def k0_mult66 (i : grid0.Coords) (k0_t1 : Fin (k0_t1_loop i).trips) : BitVec 32 :=
  let c1_i32_422 : BitVec 32 := 1#32
  let c0_i32_366 : BitVec 32 := 0#32
  let c1_i32_368 : BitVec 32 := 1#32
  let arg11 : BitVec 32 := Scf.iv c0_i32_366 c1_i32_368 k0_t1
  let c16_i32_421 : BitVec 32 := 16#32
  let v684 : BitVec 32 := Scalar.muli arg11 c16_i32_421
  let v685 : BitVec 32 := Scalar.addi c1_i32_422 v684
  let c6_i32_1688 : BitVec 32 := 6#32
  let v2473 : BitVec 32 := Scalar.addi v685 c6_i32_1688
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_1689 : BitVec 32 := 1#32
  let v2474 : BitVec 32 := Scalar.subi v1 c1_i32_1689
  let v2475 : BitVec 32 := Scalar.minsi v2473 v2474
  let c256_i32_1690 : BitVec 32 := 256#32
  let v2476 : BitVec 32 := Scalar.muli v2475 c256_i32_1690
  v2476
def k0_mult67 (i : grid0.Coords) (k0_t1 : Fin (k0_t1_loop i).trips) : BitVec 32 :=
  let c1_i32_422 : BitVec 32 := 1#32
  let c0_i32_366 : BitVec 32 := 0#32
  let c1_i32_368 : BitVec 32 := 1#32
  let arg11 : BitVec 32 := Scf.iv c0_i32_366 c1_i32_368 k0_t1
  let c16_i32_421 : BitVec 32 := 16#32
  let v684 : BitVec 32 := Scalar.muli arg11 c16_i32_421
  let v685 : BitVec 32 := Scalar.addi c1_i32_422 v684
  let c6_i32_1715 : BitVec 32 := 6#32
  let v2511 : BitVec 32 := Scalar.addi v685 c6_i32_1715
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_1716 : BitVec 32 := 1#32
  let v2512 : BitVec 32 := Scalar.subi v1 c1_i32_1716
  let v2513 : BitVec 32 := Scalar.minsi v2511 v2512
  let c256_i32_1717 : BitVec 32 := 256#32
  let v2514 : BitVec 32 := Scalar.muli v2513 c256_i32_1717
  v2514
def k0_mult68 (i : grid0.Coords) (k0_t1 : Fin (k0_t1_loop i).trips) : BitVec 32 :=
  let c1_i32_422 : BitVec 32 := 1#32
  let c0_i32_366 : BitVec 32 := 0#32
  let c1_i32_368 : BitVec 32 := 1#32
  let arg11 : BitVec 32 := Scf.iv c0_i32_366 c1_i32_368 k0_t1
  let c16_i32_421 : BitVec 32 := 16#32
  let v684 : BitVec 32 := Scalar.muli arg11 c16_i32_421
  let v685 : BitVec 32 := Scalar.addi c1_i32_422 v684
  let c6_i32_1742 : BitVec 32 := 6#32
  let v2549 : BitVec 32 := Scalar.addi v685 c6_i32_1742
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_1743 : BitVec 32 := 1#32
  let v2550 : BitVec 32 := Scalar.subi v1 c1_i32_1743
  let v2551 : BitVec 32 := Scalar.minsi v2549 v2550
  let c256_i32_1744 : BitVec 32 := 256#32
  let v2552 : BitVec 32 := Scalar.muli v2551 c256_i32_1744
  v2552
def k0_mult69 (i : grid0.Coords) (k0_t1 : Fin (k0_t1_loop i).trips) : BitVec 32 :=
  let c1_i32_422 : BitVec 32 := 1#32
  let c0_i32_366 : BitVec 32 := 0#32
  let c1_i32_368 : BitVec 32 := 1#32
  let arg11 : BitVec 32 := Scf.iv c0_i32_366 c1_i32_368 k0_t1
  let c16_i32_421 : BitVec 32 := 16#32
  let v684 : BitVec 32 := Scalar.muli arg11 c16_i32_421
  let v685 : BitVec 32 := Scalar.addi c1_i32_422 v684
  let c6_i32_1769 : BitVec 32 := 6#32
  let v2587 : BitVec 32 := Scalar.addi v685 c6_i32_1769
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_1770 : BitVec 32 := 1#32
  let v2588 : BitVec 32 := Scalar.subi v1 c1_i32_1770
  let v2589 : BitVec 32 := Scalar.minsi v2587 v2588
  let c256_i32_1771 : BitVec 32 := 256#32
  let v2590 : BitVec 32 := Scalar.muli v2589 c256_i32_1771
  v2590
def k0_mult70 (i : grid0.Coords) (k0_t1 : Fin (k0_t1_loop i).trips) : BitVec 32 :=
  let c1_i32_422 : BitVec 32 := 1#32
  let c0_i32_366 : BitVec 32 := 0#32
  let c1_i32_368 : BitVec 32 := 1#32
  let arg11 : BitVec 32 := Scf.iv c0_i32_366 c1_i32_368 k0_t1
  let c16_i32_421 : BitVec 32 := 16#32
  let v684 : BitVec 32 := Scalar.muli arg11 c16_i32_421
  let v685 : BitVec 32 := Scalar.addi c1_i32_422 v684
  let c7_i32 : BitVec 32 := 7#32
  let v2625 : BitVec 32 := Scalar.addi v685 c7_i32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_1796 : BitVec 32 := 1#32
  let v2626 : BitVec 32 := Scalar.subi v1 c1_i32_1796
  let v2627 : BitVec 32 := Scalar.minsi v2625 v2626
  let c256_i32_1797 : BitVec 32 := 256#32
  let v2628 : BitVec 32 := Scalar.muli v2627 c256_i32_1797
  v2628
def k0_mult71 (i : grid0.Coords) (k0_t1 : Fin (k0_t1_loop i).trips) : BitVec 32 :=
  let c1_i32_422 : BitVec 32 := 1#32
  let c0_i32_366 : BitVec 32 := 0#32
  let c1_i32_368 : BitVec 32 := 1#32
  let arg11 : BitVec 32 := Scf.iv c0_i32_366 c1_i32_368 k0_t1
  let c16_i32_421 : BitVec 32 := 16#32
  let v684 : BitVec 32 := Scalar.muli arg11 c16_i32_421
  let v685 : BitVec 32 := Scalar.addi c1_i32_422 v684
  let c7_i32_1822 : BitVec 32 := 7#32
  let v2663 : BitVec 32 := Scalar.addi v685 c7_i32_1822
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_1823 : BitVec 32 := 1#32
  let v2664 : BitVec 32 := Scalar.subi v1 c1_i32_1823
  let v2665 : BitVec 32 := Scalar.minsi v2663 v2664
  let c256_i32_1824 : BitVec 32 := 256#32
  let v2666 : BitVec 32 := Scalar.muli v2665 c256_i32_1824
  v2666
def k0_mult72 (i : grid0.Coords) (k0_t1 : Fin (k0_t1_loop i).trips) : BitVec 32 :=
  let c1_i32_422 : BitVec 32 := 1#32
  let c0_i32_366 : BitVec 32 := 0#32
  let c1_i32_368 : BitVec 32 := 1#32
  let arg11 : BitVec 32 := Scf.iv c0_i32_366 c1_i32_368 k0_t1
  let c16_i32_421 : BitVec 32 := 16#32
  let v684 : BitVec 32 := Scalar.muli arg11 c16_i32_421
  let v685 : BitVec 32 := Scalar.addi c1_i32_422 v684
  let c7_i32_1849 : BitVec 32 := 7#32
  let v2701 : BitVec 32 := Scalar.addi v685 c7_i32_1849
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_1850 : BitVec 32 := 1#32
  let v2702 : BitVec 32 := Scalar.subi v1 c1_i32_1850
  let v2703 : BitVec 32 := Scalar.minsi v2701 v2702
  let c256_i32_1851 : BitVec 32 := 256#32
  let v2704 : BitVec 32 := Scalar.muli v2703 c256_i32_1851
  v2704
def k0_mult73 (i : grid0.Coords) (k0_t1 : Fin (k0_t1_loop i).trips) : BitVec 32 :=
  let c1_i32_422 : BitVec 32 := 1#32
  let c0_i32_366 : BitVec 32 := 0#32
  let c1_i32_368 : BitVec 32 := 1#32
  let arg11 : BitVec 32 := Scf.iv c0_i32_366 c1_i32_368 k0_t1
  let c16_i32_421 : BitVec 32 := 16#32
  let v684 : BitVec 32 := Scalar.muli arg11 c16_i32_421
  let v685 : BitVec 32 := Scalar.addi c1_i32_422 v684
  let c7_i32_1876 : BitVec 32 := 7#32
  let v2739 : BitVec 32 := Scalar.addi v685 c7_i32_1876
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_1877 : BitVec 32 := 1#32
  let v2740 : BitVec 32 := Scalar.subi v1 c1_i32_1877
  let v2741 : BitVec 32 := Scalar.minsi v2739 v2740
  let c256_i32_1878 : BitVec 32 := 256#32
  let v2742 : BitVec 32 := Scalar.muli v2741 c256_i32_1878
  v2742
def k0_mult74 (i : grid0.Coords) (k0_t1 : Fin (k0_t1_loop i).trips) : BitVec 32 :=
  let c1_i32_422 : BitVec 32 := 1#32
  let c0_i32_366 : BitVec 32 := 0#32
  let c1_i32_368 : BitVec 32 := 1#32
  let arg11 : BitVec 32 := Scf.iv c0_i32_366 c1_i32_368 k0_t1
  let c16_i32_421 : BitVec 32 := 16#32
  let v684 : BitVec 32 := Scalar.muli arg11 c16_i32_421
  let v685 : BitVec 32 := Scalar.addi c1_i32_422 v684
  let c7_i32_1903 : BitVec 32 := 7#32
  let v2777 : BitVec 32 := Scalar.addi v685 c7_i32_1903
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_1904 : BitVec 32 := 1#32
  let v2778 : BitVec 32 := Scalar.subi v1 c1_i32_1904
  let v2779 : BitVec 32 := Scalar.minsi v2777 v2778
  let c256_i32_1905 : BitVec 32 := 256#32
  let v2780 : BitVec 32 := Scalar.muli v2779 c256_i32_1905
  v2780
def k0_mult75 (i : grid0.Coords) (k0_t1 : Fin (k0_t1_loop i).trips) : BitVec 32 :=
  let c1_i32_422 : BitVec 32 := 1#32
  let c0_i32_366 : BitVec 32 := 0#32
  let c1_i32_368 : BitVec 32 := 1#32
  let arg11 : BitVec 32 := Scf.iv c0_i32_366 c1_i32_368 k0_t1
  let c16_i32_421 : BitVec 32 := 16#32
  let v684 : BitVec 32 := Scalar.muli arg11 c16_i32_421
  let v685 : BitVec 32 := Scalar.addi c1_i32_422 v684
  let c7_i32_1930 : BitVec 32 := 7#32
  let v2815 : BitVec 32 := Scalar.addi v685 c7_i32_1930
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_1931 : BitVec 32 := 1#32
  let v2816 : BitVec 32 := Scalar.subi v1 c1_i32_1931
  let v2817 : BitVec 32 := Scalar.minsi v2815 v2816
  let c256_i32_1932 : BitVec 32 := 256#32
  let v2818 : BitVec 32 := Scalar.muli v2817 c256_i32_1932
  v2818
def k0_mult76 (i : grid0.Coords) (k0_t1 : Fin (k0_t1_loop i).trips) : BitVec 32 :=
  let c1_i32_422 : BitVec 32 := 1#32
  let c0_i32_366 : BitVec 32 := 0#32
  let c1_i32_368 : BitVec 32 := 1#32
  let arg11 : BitVec 32 := Scf.iv c0_i32_366 c1_i32_368 k0_t1
  let c16_i32_421 : BitVec 32 := 16#32
  let v684 : BitVec 32 := Scalar.muli arg11 c16_i32_421
  let v685 : BitVec 32 := Scalar.addi c1_i32_422 v684
  let c7_i32_1957 : BitVec 32 := 7#32
  let v2853 : BitVec 32 := Scalar.addi v685 c7_i32_1957
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_1958 : BitVec 32 := 1#32
  let v2854 : BitVec 32 := Scalar.subi v1 c1_i32_1958
  let v2855 : BitVec 32 := Scalar.minsi v2853 v2854
  let c256_i32_1959 : BitVec 32 := 256#32
  let v2856 : BitVec 32 := Scalar.muli v2855 c256_i32_1959
  v2856
def k0_mult77 (i : grid0.Coords) (k0_t1 : Fin (k0_t1_loop i).trips) : BitVec 32 :=
  let c1_i32_422 : BitVec 32 := 1#32
  let c0_i32_366 : BitVec 32 := 0#32
  let c1_i32_368 : BitVec 32 := 1#32
  let arg11 : BitVec 32 := Scf.iv c0_i32_366 c1_i32_368 k0_t1
  let c16_i32_421 : BitVec 32 := 16#32
  let v684 : BitVec 32 := Scalar.muli arg11 c16_i32_421
  let v685 : BitVec 32 := Scalar.addi c1_i32_422 v684
  let c7_i32_1984 : BitVec 32 := 7#32
  let v2891 : BitVec 32 := Scalar.addi v685 c7_i32_1984
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_1985 : BitVec 32 := 1#32
  let v2892 : BitVec 32 := Scalar.subi v1 c1_i32_1985
  let v2893 : BitVec 32 := Scalar.minsi v2891 v2892
  let c256_i32_1986 : BitVec 32 := 256#32
  let v2894 : BitVec 32 := Scalar.muli v2893 c256_i32_1986
  v2894
def k0_mult78 (i : grid0.Coords) (k0_t1 : Fin (k0_t1_loop i).trips) : BitVec 32 :=
  let c1_i32_422 : BitVec 32 := 1#32
  let c0_i32_366 : BitVec 32 := 0#32
  let c1_i32_368 : BitVec 32 := 1#32
  let arg11 : BitVec 32 := Scf.iv c0_i32_366 c1_i32_368 k0_t1
  let c16_i32_421 : BitVec 32 := 16#32
  let v684 : BitVec 32 := Scalar.muli arg11 c16_i32_421
  let v685 : BitVec 32 := Scalar.addi c1_i32_422 v684
  let c8_i32 : BitVec 32 := 8#32
  let v2929 : BitVec 32 := Scalar.addi v685 c8_i32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_2011 : BitVec 32 := 1#32
  let v2930 : BitVec 32 := Scalar.subi v1 c1_i32_2011
  let v2931 : BitVec 32 := Scalar.minsi v2929 v2930
  let c256_i32_2012 : BitVec 32 := 256#32
  let v2932 : BitVec 32 := Scalar.muli v2931 c256_i32_2012
  v2932
def k0_mult79 (i : grid0.Coords) (k0_t1 : Fin (k0_t1_loop i).trips) : BitVec 32 :=
  let c1_i32_422 : BitVec 32 := 1#32
  let c0_i32_366 : BitVec 32 := 0#32
  let c1_i32_368 : BitVec 32 := 1#32
  let arg11 : BitVec 32 := Scf.iv c0_i32_366 c1_i32_368 k0_t1
  let c16_i32_421 : BitVec 32 := 16#32
  let v684 : BitVec 32 := Scalar.muli arg11 c16_i32_421
  let v685 : BitVec 32 := Scalar.addi c1_i32_422 v684
  let c8_i32_2037 : BitVec 32 := 8#32
  let v2967 : BitVec 32 := Scalar.addi v685 c8_i32_2037
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_2038 : BitVec 32 := 1#32
  let v2968 : BitVec 32 := Scalar.subi v1 c1_i32_2038
  let v2969 : BitVec 32 := Scalar.minsi v2967 v2968
  let c256_i32_2039 : BitVec 32 := 256#32
  let v2970 : BitVec 32 := Scalar.muli v2969 c256_i32_2039
  v2970
def k0_mult80 (i : grid0.Coords) (k0_t1 : Fin (k0_t1_loop i).trips) : BitVec 32 :=
  let c1_i32_422 : BitVec 32 := 1#32
  let c0_i32_366 : BitVec 32 := 0#32
  let c1_i32_368 : BitVec 32 := 1#32
  let arg11 : BitVec 32 := Scf.iv c0_i32_366 c1_i32_368 k0_t1
  let c16_i32_421 : BitVec 32 := 16#32
  let v684 : BitVec 32 := Scalar.muli arg11 c16_i32_421
  let v685 : BitVec 32 := Scalar.addi c1_i32_422 v684
  let c8_i32_2064 : BitVec 32 := 8#32
  let v3005 : BitVec 32 := Scalar.addi v685 c8_i32_2064
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_2065 : BitVec 32 := 1#32
  let v3006 : BitVec 32 := Scalar.subi v1 c1_i32_2065
  let v3007 : BitVec 32 := Scalar.minsi v3005 v3006
  let c256_i32_2066 : BitVec 32 := 256#32
  let v3008 : BitVec 32 := Scalar.muli v3007 c256_i32_2066
  v3008
def k0_mult81 (i : grid0.Coords) (k0_t1 : Fin (k0_t1_loop i).trips) : BitVec 32 :=
  let c1_i32_422 : BitVec 32 := 1#32
  let c0_i32_366 : BitVec 32 := 0#32
  let c1_i32_368 : BitVec 32 := 1#32
  let arg11 : BitVec 32 := Scf.iv c0_i32_366 c1_i32_368 k0_t1
  let c16_i32_421 : BitVec 32 := 16#32
  let v684 : BitVec 32 := Scalar.muli arg11 c16_i32_421
  let v685 : BitVec 32 := Scalar.addi c1_i32_422 v684
  let c8_i32_2091 : BitVec 32 := 8#32
  let v3043 : BitVec 32 := Scalar.addi v685 c8_i32_2091
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_2092 : BitVec 32 := 1#32
  let v3044 : BitVec 32 := Scalar.subi v1 c1_i32_2092
  let v3045 : BitVec 32 := Scalar.minsi v3043 v3044
  let c256_i32_2093 : BitVec 32 := 256#32
  let v3046 : BitVec 32 := Scalar.muli v3045 c256_i32_2093
  v3046
def k0_mult82 (i : grid0.Coords) (k0_t1 : Fin (k0_t1_loop i).trips) : BitVec 32 :=
  let c1_i32_422 : BitVec 32 := 1#32
  let c0_i32_366 : BitVec 32 := 0#32
  let c1_i32_368 : BitVec 32 := 1#32
  let arg11 : BitVec 32 := Scf.iv c0_i32_366 c1_i32_368 k0_t1
  let c16_i32_421 : BitVec 32 := 16#32
  let v684 : BitVec 32 := Scalar.muli arg11 c16_i32_421
  let v685 : BitVec 32 := Scalar.addi c1_i32_422 v684
  let c8_i32_2118 : BitVec 32 := 8#32
  let v3081 : BitVec 32 := Scalar.addi v685 c8_i32_2118
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_2119 : BitVec 32 := 1#32
  let v3082 : BitVec 32 := Scalar.subi v1 c1_i32_2119
  let v3083 : BitVec 32 := Scalar.minsi v3081 v3082
  let c256_i32_2120 : BitVec 32 := 256#32
  let v3084 : BitVec 32 := Scalar.muli v3083 c256_i32_2120
  v3084
def k0_mult83 (i : grid0.Coords) (k0_t1 : Fin (k0_t1_loop i).trips) : BitVec 32 :=
  let c1_i32_422 : BitVec 32 := 1#32
  let c0_i32_366 : BitVec 32 := 0#32
  let c1_i32_368 : BitVec 32 := 1#32
  let arg11 : BitVec 32 := Scf.iv c0_i32_366 c1_i32_368 k0_t1
  let c16_i32_421 : BitVec 32 := 16#32
  let v684 : BitVec 32 := Scalar.muli arg11 c16_i32_421
  let v685 : BitVec 32 := Scalar.addi c1_i32_422 v684
  let c8_i32_2145 : BitVec 32 := 8#32
  let v3119 : BitVec 32 := Scalar.addi v685 c8_i32_2145
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_2146 : BitVec 32 := 1#32
  let v3120 : BitVec 32 := Scalar.subi v1 c1_i32_2146
  let v3121 : BitVec 32 := Scalar.minsi v3119 v3120
  let c256_i32_2147 : BitVec 32 := 256#32
  let v3122 : BitVec 32 := Scalar.muli v3121 c256_i32_2147
  v3122
def k0_mult84 (i : grid0.Coords) (k0_t1 : Fin (k0_t1_loop i).trips) : BitVec 32 :=
  let c1_i32_422 : BitVec 32 := 1#32
  let c0_i32_366 : BitVec 32 := 0#32
  let c1_i32_368 : BitVec 32 := 1#32
  let arg11 : BitVec 32 := Scf.iv c0_i32_366 c1_i32_368 k0_t1
  let c16_i32_421 : BitVec 32 := 16#32
  let v684 : BitVec 32 := Scalar.muli arg11 c16_i32_421
  let v685 : BitVec 32 := Scalar.addi c1_i32_422 v684
  let c8_i32_2172 : BitVec 32 := 8#32
  let v3157 : BitVec 32 := Scalar.addi v685 c8_i32_2172
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_2173 : BitVec 32 := 1#32
  let v3158 : BitVec 32 := Scalar.subi v1 c1_i32_2173
  let v3159 : BitVec 32 := Scalar.minsi v3157 v3158
  let c256_i32_2174 : BitVec 32 := 256#32
  let v3160 : BitVec 32 := Scalar.muli v3159 c256_i32_2174
  v3160
def k0_mult85 (i : grid0.Coords) (k0_t1 : Fin (k0_t1_loop i).trips) : BitVec 32 :=
  let c1_i32_422 : BitVec 32 := 1#32
  let c0_i32_366 : BitVec 32 := 0#32
  let c1_i32_368 : BitVec 32 := 1#32
  let arg11 : BitVec 32 := Scf.iv c0_i32_366 c1_i32_368 k0_t1
  let c16_i32_421 : BitVec 32 := 16#32
  let v684 : BitVec 32 := Scalar.muli arg11 c16_i32_421
  let v685 : BitVec 32 := Scalar.addi c1_i32_422 v684
  let c8_i32_2199 : BitVec 32 := 8#32
  let v3195 : BitVec 32 := Scalar.addi v685 c8_i32_2199
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_2200 : BitVec 32 := 1#32
  let v3196 : BitVec 32 := Scalar.subi v1 c1_i32_2200
  let v3197 : BitVec 32 := Scalar.minsi v3195 v3196
  let c256_i32_2201 : BitVec 32 := 256#32
  let v3198 : BitVec 32 := Scalar.muli v3197 c256_i32_2201
  v3198
def k0_mult86 (i : grid0.Coords) (k0_t1 : Fin (k0_t1_loop i).trips) : BitVec 32 :=
  let c1_i32_422 : BitVec 32 := 1#32
  let c0_i32_366 : BitVec 32 := 0#32
  let c1_i32_368 : BitVec 32 := 1#32
  let arg11 : BitVec 32 := Scf.iv c0_i32_366 c1_i32_368 k0_t1
  let c16_i32_421 : BitVec 32 := 16#32
  let v684 : BitVec 32 := Scalar.muli arg11 c16_i32_421
  let v685 : BitVec 32 := Scalar.addi c1_i32_422 v684
  let c9_i32 : BitVec 32 := 9#32
  let v3233 : BitVec 32 := Scalar.addi v685 c9_i32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_2226 : BitVec 32 := 1#32
  let v3234 : BitVec 32 := Scalar.subi v1 c1_i32_2226
  let v3235 : BitVec 32 := Scalar.minsi v3233 v3234
  let c256_i32_2227 : BitVec 32 := 256#32
  let v3236 : BitVec 32 := Scalar.muli v3235 c256_i32_2227
  v3236
def k0_mult87 (i : grid0.Coords) (k0_t1 : Fin (k0_t1_loop i).trips) : BitVec 32 :=
  let c1_i32_422 : BitVec 32 := 1#32
  let c0_i32_366 : BitVec 32 := 0#32
  let c1_i32_368 : BitVec 32 := 1#32
  let arg11 : BitVec 32 := Scf.iv c0_i32_366 c1_i32_368 k0_t1
  let c16_i32_421 : BitVec 32 := 16#32
  let v684 : BitVec 32 := Scalar.muli arg11 c16_i32_421
  let v685 : BitVec 32 := Scalar.addi c1_i32_422 v684
  let c9_i32_2252 : BitVec 32 := 9#32
  let v3271 : BitVec 32 := Scalar.addi v685 c9_i32_2252
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_2253 : BitVec 32 := 1#32
  let v3272 : BitVec 32 := Scalar.subi v1 c1_i32_2253
  let v3273 : BitVec 32 := Scalar.minsi v3271 v3272
  let c256_i32_2254 : BitVec 32 := 256#32
  let v3274 : BitVec 32 := Scalar.muli v3273 c256_i32_2254
  v3274
def k0_mult88 (i : grid0.Coords) (k0_t1 : Fin (k0_t1_loop i).trips) : BitVec 32 :=
  let c1_i32_422 : BitVec 32 := 1#32
  let c0_i32_366 : BitVec 32 := 0#32
  let c1_i32_368 : BitVec 32 := 1#32
  let arg11 : BitVec 32 := Scf.iv c0_i32_366 c1_i32_368 k0_t1
  let c16_i32_421 : BitVec 32 := 16#32
  let v684 : BitVec 32 := Scalar.muli arg11 c16_i32_421
  let v685 : BitVec 32 := Scalar.addi c1_i32_422 v684
  let c9_i32_2279 : BitVec 32 := 9#32
  let v3309 : BitVec 32 := Scalar.addi v685 c9_i32_2279
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_2280 : BitVec 32 := 1#32
  let v3310 : BitVec 32 := Scalar.subi v1 c1_i32_2280
  let v3311 : BitVec 32 := Scalar.minsi v3309 v3310
  let c256_i32_2281 : BitVec 32 := 256#32
  let v3312 : BitVec 32 := Scalar.muli v3311 c256_i32_2281
  v3312
def k0_mult89 (i : grid0.Coords) (k0_t1 : Fin (k0_t1_loop i).trips) : BitVec 32 :=
  let c1_i32_422 : BitVec 32 := 1#32
  let c0_i32_366 : BitVec 32 := 0#32
  let c1_i32_368 : BitVec 32 := 1#32
  let arg11 : BitVec 32 := Scf.iv c0_i32_366 c1_i32_368 k0_t1
  let c16_i32_421 : BitVec 32 := 16#32
  let v684 : BitVec 32 := Scalar.muli arg11 c16_i32_421
  let v685 : BitVec 32 := Scalar.addi c1_i32_422 v684
  let c9_i32_2306 : BitVec 32 := 9#32
  let v3347 : BitVec 32 := Scalar.addi v685 c9_i32_2306
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_2307 : BitVec 32 := 1#32
  let v3348 : BitVec 32 := Scalar.subi v1 c1_i32_2307
  let v3349 : BitVec 32 := Scalar.minsi v3347 v3348
  let c256_i32_2308 : BitVec 32 := 256#32
  let v3350 : BitVec 32 := Scalar.muli v3349 c256_i32_2308
  v3350
def k0_mult90 (i : grid0.Coords) (k0_t1 : Fin (k0_t1_loop i).trips) : BitVec 32 :=
  let c1_i32_422 : BitVec 32 := 1#32
  let c0_i32_366 : BitVec 32 := 0#32
  let c1_i32_368 : BitVec 32 := 1#32
  let arg11 : BitVec 32 := Scf.iv c0_i32_366 c1_i32_368 k0_t1
  let c16_i32_421 : BitVec 32 := 16#32
  let v684 : BitVec 32 := Scalar.muli arg11 c16_i32_421
  let v685 : BitVec 32 := Scalar.addi c1_i32_422 v684
  let c9_i32_2333 : BitVec 32 := 9#32
  let v3385 : BitVec 32 := Scalar.addi v685 c9_i32_2333
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_2334 : BitVec 32 := 1#32
  let v3386 : BitVec 32 := Scalar.subi v1 c1_i32_2334
  let v3387 : BitVec 32 := Scalar.minsi v3385 v3386
  let c256_i32_2335 : BitVec 32 := 256#32
  let v3388 : BitVec 32 := Scalar.muli v3387 c256_i32_2335
  v3388
def k0_mult91 (i : grid0.Coords) (k0_t1 : Fin (k0_t1_loop i).trips) : BitVec 32 :=
  let c1_i32_422 : BitVec 32 := 1#32
  let c0_i32_366 : BitVec 32 := 0#32
  let c1_i32_368 : BitVec 32 := 1#32
  let arg11 : BitVec 32 := Scf.iv c0_i32_366 c1_i32_368 k0_t1
  let c16_i32_421 : BitVec 32 := 16#32
  let v684 : BitVec 32 := Scalar.muli arg11 c16_i32_421
  let v685 : BitVec 32 := Scalar.addi c1_i32_422 v684
  let c9_i32_2360 : BitVec 32 := 9#32
  let v3423 : BitVec 32 := Scalar.addi v685 c9_i32_2360
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_2361 : BitVec 32 := 1#32
  let v3424 : BitVec 32 := Scalar.subi v1 c1_i32_2361
  let v3425 : BitVec 32 := Scalar.minsi v3423 v3424
  let c256_i32_2362 : BitVec 32 := 256#32
  let v3426 : BitVec 32 := Scalar.muli v3425 c256_i32_2362
  v3426
def k0_mult92 (i : grid0.Coords) (k0_t1 : Fin (k0_t1_loop i).trips) : BitVec 32 :=
  let c1_i32_422 : BitVec 32 := 1#32
  let c0_i32_366 : BitVec 32 := 0#32
  let c1_i32_368 : BitVec 32 := 1#32
  let arg11 : BitVec 32 := Scf.iv c0_i32_366 c1_i32_368 k0_t1
  let c16_i32_421 : BitVec 32 := 16#32
  let v684 : BitVec 32 := Scalar.muli arg11 c16_i32_421
  let v685 : BitVec 32 := Scalar.addi c1_i32_422 v684
  let c9_i32_2387 : BitVec 32 := 9#32
  let v3461 : BitVec 32 := Scalar.addi v685 c9_i32_2387
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_2388 : BitVec 32 := 1#32
  let v3462 : BitVec 32 := Scalar.subi v1 c1_i32_2388
  let v3463 : BitVec 32 := Scalar.minsi v3461 v3462
  let c256_i32_2389 : BitVec 32 := 256#32
  let v3464 : BitVec 32 := Scalar.muli v3463 c256_i32_2389
  v3464
def k0_mult93 (i : grid0.Coords) (k0_t1 : Fin (k0_t1_loop i).trips) : BitVec 32 :=
  let c1_i32_422 : BitVec 32 := 1#32
  let c0_i32_366 : BitVec 32 := 0#32
  let c1_i32_368 : BitVec 32 := 1#32
  let arg11 : BitVec 32 := Scf.iv c0_i32_366 c1_i32_368 k0_t1
  let c16_i32_421 : BitVec 32 := 16#32
  let v684 : BitVec 32 := Scalar.muli arg11 c16_i32_421
  let v685 : BitVec 32 := Scalar.addi c1_i32_422 v684
  let c9_i32_2414 : BitVec 32 := 9#32
  let v3499 : BitVec 32 := Scalar.addi v685 c9_i32_2414
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_2415 : BitVec 32 := 1#32
  let v3500 : BitVec 32 := Scalar.subi v1 c1_i32_2415
  let v3501 : BitVec 32 := Scalar.minsi v3499 v3500
  let c256_i32_2416 : BitVec 32 := 256#32
  let v3502 : BitVec 32 := Scalar.muli v3501 c256_i32_2416
  v3502
def k0_mult94 (i : grid0.Coords) (k0_t1 : Fin (k0_t1_loop i).trips) : BitVec 32 :=
  let c1_i32_422 : BitVec 32 := 1#32
  let c0_i32_366 : BitVec 32 := 0#32
  let c1_i32_368 : BitVec 32 := 1#32
  let arg11 : BitVec 32 := Scf.iv c0_i32_366 c1_i32_368 k0_t1
  let c16_i32_421 : BitVec 32 := 16#32
  let v684 : BitVec 32 := Scalar.muli arg11 c16_i32_421
  let v685 : BitVec 32 := Scalar.addi c1_i32_422 v684
  let c10_i32 : BitVec 32 := 10#32
  let v3537 : BitVec 32 := Scalar.addi v685 c10_i32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_2441 : BitVec 32 := 1#32
  let v3538 : BitVec 32 := Scalar.subi v1 c1_i32_2441
  let v3539 : BitVec 32 := Scalar.minsi v3537 v3538
  let c256_i32_2442 : BitVec 32 := 256#32
  let v3540 : BitVec 32 := Scalar.muli v3539 c256_i32_2442
  v3540
def k0_mult95 (i : grid0.Coords) (k0_t1 : Fin (k0_t1_loop i).trips) : BitVec 32 :=
  let c1_i32_422 : BitVec 32 := 1#32
  let c0_i32_366 : BitVec 32 := 0#32
  let c1_i32_368 : BitVec 32 := 1#32
  let arg11 : BitVec 32 := Scf.iv c0_i32_366 c1_i32_368 k0_t1
  let c16_i32_421 : BitVec 32 := 16#32
  let v684 : BitVec 32 := Scalar.muli arg11 c16_i32_421
  let v685 : BitVec 32 := Scalar.addi c1_i32_422 v684
  let c10_i32_2467 : BitVec 32 := 10#32
  let v3575 : BitVec 32 := Scalar.addi v685 c10_i32_2467
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_2468 : BitVec 32 := 1#32
  let v3576 : BitVec 32 := Scalar.subi v1 c1_i32_2468
  let v3577 : BitVec 32 := Scalar.minsi v3575 v3576
  let c256_i32_2469 : BitVec 32 := 256#32
  let v3578 : BitVec 32 := Scalar.muli v3577 c256_i32_2469
  v3578
def k0_mult96 (i : grid0.Coords) (k0_t1 : Fin (k0_t1_loop i).trips) : BitVec 32 :=
  let c1_i32_422 : BitVec 32 := 1#32
  let c0_i32_366 : BitVec 32 := 0#32
  let c1_i32_368 : BitVec 32 := 1#32
  let arg11 : BitVec 32 := Scf.iv c0_i32_366 c1_i32_368 k0_t1
  let c16_i32_421 : BitVec 32 := 16#32
  let v684 : BitVec 32 := Scalar.muli arg11 c16_i32_421
  let v685 : BitVec 32 := Scalar.addi c1_i32_422 v684
  let c10_i32_2494 : BitVec 32 := 10#32
  let v3613 : BitVec 32 := Scalar.addi v685 c10_i32_2494
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_2495 : BitVec 32 := 1#32
  let v3614 : BitVec 32 := Scalar.subi v1 c1_i32_2495
  let v3615 : BitVec 32 := Scalar.minsi v3613 v3614
  let c256_i32_2496 : BitVec 32 := 256#32
  let v3616 : BitVec 32 := Scalar.muli v3615 c256_i32_2496
  v3616
def k0_mult97 (i : grid0.Coords) (k0_t1 : Fin (k0_t1_loop i).trips) : BitVec 32 :=
  let c1_i32_422 : BitVec 32 := 1#32
  let c0_i32_366 : BitVec 32 := 0#32
  let c1_i32_368 : BitVec 32 := 1#32
  let arg11 : BitVec 32 := Scf.iv c0_i32_366 c1_i32_368 k0_t1
  let c16_i32_421 : BitVec 32 := 16#32
  let v684 : BitVec 32 := Scalar.muli arg11 c16_i32_421
  let v685 : BitVec 32 := Scalar.addi c1_i32_422 v684
  let c10_i32_2521 : BitVec 32 := 10#32
  let v3651 : BitVec 32 := Scalar.addi v685 c10_i32_2521
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_2522 : BitVec 32 := 1#32
  let v3652 : BitVec 32 := Scalar.subi v1 c1_i32_2522
  let v3653 : BitVec 32 := Scalar.minsi v3651 v3652
  let c256_i32_2523 : BitVec 32 := 256#32
  let v3654 : BitVec 32 := Scalar.muli v3653 c256_i32_2523
  v3654
def k0_mult98 (i : grid0.Coords) (k0_t1 : Fin (k0_t1_loop i).trips) : BitVec 32 :=
  let c1_i32_422 : BitVec 32 := 1#32
  let c0_i32_366 : BitVec 32 := 0#32
  let c1_i32_368 : BitVec 32 := 1#32
  let arg11 : BitVec 32 := Scf.iv c0_i32_366 c1_i32_368 k0_t1
  let c16_i32_421 : BitVec 32 := 16#32
  let v684 : BitVec 32 := Scalar.muli arg11 c16_i32_421
  let v685 : BitVec 32 := Scalar.addi c1_i32_422 v684
  let c10_i32_2548 : BitVec 32 := 10#32
  let v3689 : BitVec 32 := Scalar.addi v685 c10_i32_2548
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_2549 : BitVec 32 := 1#32
  let v3690 : BitVec 32 := Scalar.subi v1 c1_i32_2549
  let v3691 : BitVec 32 := Scalar.minsi v3689 v3690
  let c256_i32_2550 : BitVec 32 := 256#32
  let v3692 : BitVec 32 := Scalar.muli v3691 c256_i32_2550
  v3692
def k0_mult99 (i : grid0.Coords) (k0_t1 : Fin (k0_t1_loop i).trips) : BitVec 32 :=
  let c1_i32_422 : BitVec 32 := 1#32
  let c0_i32_366 : BitVec 32 := 0#32
  let c1_i32_368 : BitVec 32 := 1#32
  let arg11 : BitVec 32 := Scf.iv c0_i32_366 c1_i32_368 k0_t1
  let c16_i32_421 : BitVec 32 := 16#32
  let v684 : BitVec 32 := Scalar.muli arg11 c16_i32_421
  let v685 : BitVec 32 := Scalar.addi c1_i32_422 v684
  let c10_i32_2575 : BitVec 32 := 10#32
  let v3727 : BitVec 32 := Scalar.addi v685 c10_i32_2575
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_2576 : BitVec 32 := 1#32
  let v3728 : BitVec 32 := Scalar.subi v1 c1_i32_2576
  let v3729 : BitVec 32 := Scalar.minsi v3727 v3728
  let c256_i32_2577 : BitVec 32 := 256#32
  let v3730 : BitVec 32 := Scalar.muli v3729 c256_i32_2577
  v3730
def k0_mult100 (i : grid0.Coords) (k0_t1 : Fin (k0_t1_loop i).trips) : BitVec 32 :=
  let c1_i32_422 : BitVec 32 := 1#32
  let c0_i32_366 : BitVec 32 := 0#32
  let c1_i32_368 : BitVec 32 := 1#32
  let arg11 : BitVec 32 := Scf.iv c0_i32_366 c1_i32_368 k0_t1
  let c16_i32_421 : BitVec 32 := 16#32
  let v684 : BitVec 32 := Scalar.muli arg11 c16_i32_421
  let v685 : BitVec 32 := Scalar.addi c1_i32_422 v684
  let c10_i32_2602 : BitVec 32 := 10#32
  let v3765 : BitVec 32 := Scalar.addi v685 c10_i32_2602
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_2603 : BitVec 32 := 1#32
  let v3766 : BitVec 32 := Scalar.subi v1 c1_i32_2603
  let v3767 : BitVec 32 := Scalar.minsi v3765 v3766
  let c256_i32_2604 : BitVec 32 := 256#32
  let v3768 : BitVec 32 := Scalar.muli v3767 c256_i32_2604
  v3768
def k0_mult101 (i : grid0.Coords) (k0_t1 : Fin (k0_t1_loop i).trips) : BitVec 32 :=
  let c1_i32_422 : BitVec 32 := 1#32
  let c0_i32_366 : BitVec 32 := 0#32
  let c1_i32_368 : BitVec 32 := 1#32
  let arg11 : BitVec 32 := Scf.iv c0_i32_366 c1_i32_368 k0_t1
  let c16_i32_421 : BitVec 32 := 16#32
  let v684 : BitVec 32 := Scalar.muli arg11 c16_i32_421
  let v685 : BitVec 32 := Scalar.addi c1_i32_422 v684
  let c10_i32_2629 : BitVec 32 := 10#32
  let v3803 : BitVec 32 := Scalar.addi v685 c10_i32_2629
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_2630 : BitVec 32 := 1#32
  let v3804 : BitVec 32 := Scalar.subi v1 c1_i32_2630
  let v3805 : BitVec 32 := Scalar.minsi v3803 v3804
  let c256_i32_2631 : BitVec 32 := 256#32
  let v3806 : BitVec 32 := Scalar.muli v3805 c256_i32_2631
  v3806
def k0_mult102 (i : grid0.Coords) (k0_t1 : Fin (k0_t1_loop i).trips) : BitVec 32 :=
  let c1_i32_422 : BitVec 32 := 1#32
  let c0_i32_366 : BitVec 32 := 0#32
  let c1_i32_368 : BitVec 32 := 1#32
  let arg11 : BitVec 32 := Scf.iv c0_i32_366 c1_i32_368 k0_t1
  let c16_i32_421 : BitVec 32 := 16#32
  let v684 : BitVec 32 := Scalar.muli arg11 c16_i32_421
  let v685 : BitVec 32 := Scalar.addi c1_i32_422 v684
  let c11_i32 : BitVec 32 := 11#32
  let v3841 : BitVec 32 := Scalar.addi v685 c11_i32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_2656 : BitVec 32 := 1#32
  let v3842 : BitVec 32 := Scalar.subi v1 c1_i32_2656
  let v3843 : BitVec 32 := Scalar.minsi v3841 v3842
  let c256_i32_2657 : BitVec 32 := 256#32
  let v3844 : BitVec 32 := Scalar.muli v3843 c256_i32_2657
  v3844
def k0_mult103 (i : grid0.Coords) (k0_t1 : Fin (k0_t1_loop i).trips) : BitVec 32 :=
  let c1_i32_422 : BitVec 32 := 1#32
  let c0_i32_366 : BitVec 32 := 0#32
  let c1_i32_368 : BitVec 32 := 1#32
  let arg11 : BitVec 32 := Scf.iv c0_i32_366 c1_i32_368 k0_t1
  let c16_i32_421 : BitVec 32 := 16#32
  let v684 : BitVec 32 := Scalar.muli arg11 c16_i32_421
  let v685 : BitVec 32 := Scalar.addi c1_i32_422 v684
  let c11_i32_2682 : BitVec 32 := 11#32
  let v3879 : BitVec 32 := Scalar.addi v685 c11_i32_2682
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_2683 : BitVec 32 := 1#32
  let v3880 : BitVec 32 := Scalar.subi v1 c1_i32_2683
  let v3881 : BitVec 32 := Scalar.minsi v3879 v3880
  let c256_i32_2684 : BitVec 32 := 256#32
  let v3882 : BitVec 32 := Scalar.muli v3881 c256_i32_2684
  v3882
def k0_mult104 (i : grid0.Coords) (k0_t1 : Fin (k0_t1_loop i).trips) : BitVec 32 :=
  let c1_i32_422 : BitVec 32 := 1#32
  let c0_i32_366 : BitVec 32 := 0#32
  let c1_i32_368 : BitVec 32 := 1#32
  let arg11 : BitVec 32 := Scf.iv c0_i32_366 c1_i32_368 k0_t1
  let c16_i32_421 : BitVec 32 := 16#32
  let v684 : BitVec 32 := Scalar.muli arg11 c16_i32_421
  let v685 : BitVec 32 := Scalar.addi c1_i32_422 v684
  let c11_i32_2709 : BitVec 32 := 11#32
  let v3917 : BitVec 32 := Scalar.addi v685 c11_i32_2709
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_2710 : BitVec 32 := 1#32
  let v3918 : BitVec 32 := Scalar.subi v1 c1_i32_2710
  let v3919 : BitVec 32 := Scalar.minsi v3917 v3918
  let c256_i32_2711 : BitVec 32 := 256#32
  let v3920 : BitVec 32 := Scalar.muli v3919 c256_i32_2711
  v3920
def k0_mult105 (i : grid0.Coords) (k0_t1 : Fin (k0_t1_loop i).trips) : BitVec 32 :=
  let c1_i32_422 : BitVec 32 := 1#32
  let c0_i32_366 : BitVec 32 := 0#32
  let c1_i32_368 : BitVec 32 := 1#32
  let arg11 : BitVec 32 := Scf.iv c0_i32_366 c1_i32_368 k0_t1
  let c16_i32_421 : BitVec 32 := 16#32
  let v684 : BitVec 32 := Scalar.muli arg11 c16_i32_421
  let v685 : BitVec 32 := Scalar.addi c1_i32_422 v684
  let c11_i32_2736 : BitVec 32 := 11#32
  let v3955 : BitVec 32 := Scalar.addi v685 c11_i32_2736
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_2737 : BitVec 32 := 1#32
  let v3956 : BitVec 32 := Scalar.subi v1 c1_i32_2737
  let v3957 : BitVec 32 := Scalar.minsi v3955 v3956
  let c256_i32_2738 : BitVec 32 := 256#32
  let v3958 : BitVec 32 := Scalar.muli v3957 c256_i32_2738
  v3958
def k0_mult106 (i : grid0.Coords) (k0_t1 : Fin (k0_t1_loop i).trips) : BitVec 32 :=
  let c1_i32_422 : BitVec 32 := 1#32
  let c0_i32_366 : BitVec 32 := 0#32
  let c1_i32_368 : BitVec 32 := 1#32
  let arg11 : BitVec 32 := Scf.iv c0_i32_366 c1_i32_368 k0_t1
  let c16_i32_421 : BitVec 32 := 16#32
  let v684 : BitVec 32 := Scalar.muli arg11 c16_i32_421
  let v685 : BitVec 32 := Scalar.addi c1_i32_422 v684
  let c11_i32_2763 : BitVec 32 := 11#32
  let v3993 : BitVec 32 := Scalar.addi v685 c11_i32_2763
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_2764 : BitVec 32 := 1#32
  let v3994 : BitVec 32 := Scalar.subi v1 c1_i32_2764
  let v3995 : BitVec 32 := Scalar.minsi v3993 v3994
  let c256_i32_2765 : BitVec 32 := 256#32
  let v3996 : BitVec 32 := Scalar.muli v3995 c256_i32_2765
  v3996
def k0_mult107 (i : grid0.Coords) (k0_t1 : Fin (k0_t1_loop i).trips) : BitVec 32 :=
  let c1_i32_422 : BitVec 32 := 1#32
  let c0_i32_366 : BitVec 32 := 0#32
  let c1_i32_368 : BitVec 32 := 1#32
  let arg11 : BitVec 32 := Scf.iv c0_i32_366 c1_i32_368 k0_t1
  let c16_i32_421 : BitVec 32 := 16#32
  let v684 : BitVec 32 := Scalar.muli arg11 c16_i32_421
  let v685 : BitVec 32 := Scalar.addi c1_i32_422 v684
  let c11_i32_2790 : BitVec 32 := 11#32
  let v4031 : BitVec 32 := Scalar.addi v685 c11_i32_2790
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_2791 : BitVec 32 := 1#32
  let v4032 : BitVec 32 := Scalar.subi v1 c1_i32_2791
  let v4033 : BitVec 32 := Scalar.minsi v4031 v4032
  let c256_i32_2792 : BitVec 32 := 256#32
  let v4034 : BitVec 32 := Scalar.muli v4033 c256_i32_2792
  v4034
def k0_mult108 (i : grid0.Coords) (k0_t1 : Fin (k0_t1_loop i).trips) : BitVec 32 :=
  let c1_i32_422 : BitVec 32 := 1#32
  let c0_i32_366 : BitVec 32 := 0#32
  let c1_i32_368 : BitVec 32 := 1#32
  let arg11 : BitVec 32 := Scf.iv c0_i32_366 c1_i32_368 k0_t1
  let c16_i32_421 : BitVec 32 := 16#32
  let v684 : BitVec 32 := Scalar.muli arg11 c16_i32_421
  let v685 : BitVec 32 := Scalar.addi c1_i32_422 v684
  let c11_i32_2817 : BitVec 32 := 11#32
  let v4069 : BitVec 32 := Scalar.addi v685 c11_i32_2817
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_2818 : BitVec 32 := 1#32
  let v4070 : BitVec 32 := Scalar.subi v1 c1_i32_2818
  let v4071 : BitVec 32 := Scalar.minsi v4069 v4070
  let c256_i32_2819 : BitVec 32 := 256#32
  let v4072 : BitVec 32 := Scalar.muli v4071 c256_i32_2819
  v4072
def k0_mult109 (i : grid0.Coords) (k0_t1 : Fin (k0_t1_loop i).trips) : BitVec 32 :=
  let c1_i32_422 : BitVec 32 := 1#32
  let c0_i32_366 : BitVec 32 := 0#32
  let c1_i32_368 : BitVec 32 := 1#32
  let arg11 : BitVec 32 := Scf.iv c0_i32_366 c1_i32_368 k0_t1
  let c16_i32_421 : BitVec 32 := 16#32
  let v684 : BitVec 32 := Scalar.muli arg11 c16_i32_421
  let v685 : BitVec 32 := Scalar.addi c1_i32_422 v684
  let c11_i32_2844 : BitVec 32 := 11#32
  let v4107 : BitVec 32 := Scalar.addi v685 c11_i32_2844
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_2845 : BitVec 32 := 1#32
  let v4108 : BitVec 32 := Scalar.subi v1 c1_i32_2845
  let v4109 : BitVec 32 := Scalar.minsi v4107 v4108
  let c256_i32_2846 : BitVec 32 := 256#32
  let v4110 : BitVec 32 := Scalar.muli v4109 c256_i32_2846
  v4110
def k0_mult110 (i : grid0.Coords) (k0_t1 : Fin (k0_t1_loop i).trips) : BitVec 32 :=
  let c1_i32_422 : BitVec 32 := 1#32
  let c0_i32_366 : BitVec 32 := 0#32
  let c1_i32_368 : BitVec 32 := 1#32
  let arg11 : BitVec 32 := Scf.iv c0_i32_366 c1_i32_368 k0_t1
  let c16_i32_421 : BitVec 32 := 16#32
  let v684 : BitVec 32 := Scalar.muli arg11 c16_i32_421
  let v685 : BitVec 32 := Scalar.addi c1_i32_422 v684
  let c12_i32 : BitVec 32 := 12#32
  let v4145 : BitVec 32 := Scalar.addi v685 c12_i32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_2871 : BitVec 32 := 1#32
  let v4146 : BitVec 32 := Scalar.subi v1 c1_i32_2871
  let v4147 : BitVec 32 := Scalar.minsi v4145 v4146
  let c256_i32_2872 : BitVec 32 := 256#32
  let v4148 : BitVec 32 := Scalar.muli v4147 c256_i32_2872
  v4148
def k0_mult111 (i : grid0.Coords) (k0_t1 : Fin (k0_t1_loop i).trips) : BitVec 32 :=
  let c1_i32_422 : BitVec 32 := 1#32
  let c0_i32_366 : BitVec 32 := 0#32
  let c1_i32_368 : BitVec 32 := 1#32
  let arg11 : BitVec 32 := Scf.iv c0_i32_366 c1_i32_368 k0_t1
  let c16_i32_421 : BitVec 32 := 16#32
  let v684 : BitVec 32 := Scalar.muli arg11 c16_i32_421
  let v685 : BitVec 32 := Scalar.addi c1_i32_422 v684
  let c12_i32_2897 : BitVec 32 := 12#32
  let v4183 : BitVec 32 := Scalar.addi v685 c12_i32_2897
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_2898 : BitVec 32 := 1#32
  let v4184 : BitVec 32 := Scalar.subi v1 c1_i32_2898
  let v4185 : BitVec 32 := Scalar.minsi v4183 v4184
  let c256_i32_2899 : BitVec 32 := 256#32
  let v4186 : BitVec 32 := Scalar.muli v4185 c256_i32_2899
  v4186
def k0_mult112 (i : grid0.Coords) (k0_t1 : Fin (k0_t1_loop i).trips) : BitVec 32 :=
  let c1_i32_422 : BitVec 32 := 1#32
  let c0_i32_366 : BitVec 32 := 0#32
  let c1_i32_368 : BitVec 32 := 1#32
  let arg11 : BitVec 32 := Scf.iv c0_i32_366 c1_i32_368 k0_t1
  let c16_i32_421 : BitVec 32 := 16#32
  let v684 : BitVec 32 := Scalar.muli arg11 c16_i32_421
  let v685 : BitVec 32 := Scalar.addi c1_i32_422 v684
  let c12_i32_2924 : BitVec 32 := 12#32
  let v4221 : BitVec 32 := Scalar.addi v685 c12_i32_2924
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_2925 : BitVec 32 := 1#32
  let v4222 : BitVec 32 := Scalar.subi v1 c1_i32_2925
  let v4223 : BitVec 32 := Scalar.minsi v4221 v4222
  let c256_i32_2926 : BitVec 32 := 256#32
  let v4224 : BitVec 32 := Scalar.muli v4223 c256_i32_2926
  v4224
def k0_mult113 (i : grid0.Coords) (k0_t1 : Fin (k0_t1_loop i).trips) : BitVec 32 :=
  let c1_i32_422 : BitVec 32 := 1#32
  let c0_i32_366 : BitVec 32 := 0#32
  let c1_i32_368 : BitVec 32 := 1#32
  let arg11 : BitVec 32 := Scf.iv c0_i32_366 c1_i32_368 k0_t1
  let c16_i32_421 : BitVec 32 := 16#32
  let v684 : BitVec 32 := Scalar.muli arg11 c16_i32_421
  let v685 : BitVec 32 := Scalar.addi c1_i32_422 v684
  let c12_i32_2951 : BitVec 32 := 12#32
  let v4259 : BitVec 32 := Scalar.addi v685 c12_i32_2951
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_2952 : BitVec 32 := 1#32
  let v4260 : BitVec 32 := Scalar.subi v1 c1_i32_2952
  let v4261 : BitVec 32 := Scalar.minsi v4259 v4260
  let c256_i32_2953 : BitVec 32 := 256#32
  let v4262 : BitVec 32 := Scalar.muli v4261 c256_i32_2953
  v4262
def k0_mult114 (i : grid0.Coords) (k0_t1 : Fin (k0_t1_loop i).trips) : BitVec 32 :=
  let c1_i32_422 : BitVec 32 := 1#32
  let c0_i32_366 : BitVec 32 := 0#32
  let c1_i32_368 : BitVec 32 := 1#32
  let arg11 : BitVec 32 := Scf.iv c0_i32_366 c1_i32_368 k0_t1
  let c16_i32_421 : BitVec 32 := 16#32
  let v684 : BitVec 32 := Scalar.muli arg11 c16_i32_421
  let v685 : BitVec 32 := Scalar.addi c1_i32_422 v684
  let c12_i32_2978 : BitVec 32 := 12#32
  let v4297 : BitVec 32 := Scalar.addi v685 c12_i32_2978
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_2979 : BitVec 32 := 1#32
  let v4298 : BitVec 32 := Scalar.subi v1 c1_i32_2979
  let v4299 : BitVec 32 := Scalar.minsi v4297 v4298
  let c256_i32_2980 : BitVec 32 := 256#32
  let v4300 : BitVec 32 := Scalar.muli v4299 c256_i32_2980
  v4300
def k0_mult115 (i : grid0.Coords) (k0_t1 : Fin (k0_t1_loop i).trips) : BitVec 32 :=
  let c1_i32_422 : BitVec 32 := 1#32
  let c0_i32_366 : BitVec 32 := 0#32
  let c1_i32_368 : BitVec 32 := 1#32
  let arg11 : BitVec 32 := Scf.iv c0_i32_366 c1_i32_368 k0_t1
  let c16_i32_421 : BitVec 32 := 16#32
  let v684 : BitVec 32 := Scalar.muli arg11 c16_i32_421
  let v685 : BitVec 32 := Scalar.addi c1_i32_422 v684
  let c12_i32_3005 : BitVec 32 := 12#32
  let v4335 : BitVec 32 := Scalar.addi v685 c12_i32_3005
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_3006 : BitVec 32 := 1#32
  let v4336 : BitVec 32 := Scalar.subi v1 c1_i32_3006
  let v4337 : BitVec 32 := Scalar.minsi v4335 v4336
  let c256_i32_3007 : BitVec 32 := 256#32
  let v4338 : BitVec 32 := Scalar.muli v4337 c256_i32_3007
  v4338
def k0_mult116 (i : grid0.Coords) (k0_t1 : Fin (k0_t1_loop i).trips) : BitVec 32 :=
  let c1_i32_422 : BitVec 32 := 1#32
  let c0_i32_366 : BitVec 32 := 0#32
  let c1_i32_368 : BitVec 32 := 1#32
  let arg11 : BitVec 32 := Scf.iv c0_i32_366 c1_i32_368 k0_t1
  let c16_i32_421 : BitVec 32 := 16#32
  let v684 : BitVec 32 := Scalar.muli arg11 c16_i32_421
  let v685 : BitVec 32 := Scalar.addi c1_i32_422 v684
  let c12_i32_3032 : BitVec 32 := 12#32
  let v4373 : BitVec 32 := Scalar.addi v685 c12_i32_3032
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_3033 : BitVec 32 := 1#32
  let v4374 : BitVec 32 := Scalar.subi v1 c1_i32_3033
  let v4375 : BitVec 32 := Scalar.minsi v4373 v4374
  let c256_i32_3034 : BitVec 32 := 256#32
  let v4376 : BitVec 32 := Scalar.muli v4375 c256_i32_3034
  v4376
def k0_mult117 (i : grid0.Coords) (k0_t1 : Fin (k0_t1_loop i).trips) : BitVec 32 :=
  let c1_i32_422 : BitVec 32 := 1#32
  let c0_i32_366 : BitVec 32 := 0#32
  let c1_i32_368 : BitVec 32 := 1#32
  let arg11 : BitVec 32 := Scf.iv c0_i32_366 c1_i32_368 k0_t1
  let c16_i32_421 : BitVec 32 := 16#32
  let v684 : BitVec 32 := Scalar.muli arg11 c16_i32_421
  let v685 : BitVec 32 := Scalar.addi c1_i32_422 v684
  let c12_i32_3059 : BitVec 32 := 12#32
  let v4411 : BitVec 32 := Scalar.addi v685 c12_i32_3059
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_3060 : BitVec 32 := 1#32
  let v4412 : BitVec 32 := Scalar.subi v1 c1_i32_3060
  let v4413 : BitVec 32 := Scalar.minsi v4411 v4412
  let c256_i32_3061 : BitVec 32 := 256#32
  let v4414 : BitVec 32 := Scalar.muli v4413 c256_i32_3061
  v4414
def k0_mult118 (i : grid0.Coords) (k0_t1 : Fin (k0_t1_loop i).trips) : BitVec 32 :=
  let c1_i32_422 : BitVec 32 := 1#32
  let c0_i32_366 : BitVec 32 := 0#32
  let c1_i32_368 : BitVec 32 := 1#32
  let arg11 : BitVec 32 := Scf.iv c0_i32_366 c1_i32_368 k0_t1
  let c16_i32_421 : BitVec 32 := 16#32
  let v684 : BitVec 32 := Scalar.muli arg11 c16_i32_421
  let v685 : BitVec 32 := Scalar.addi c1_i32_422 v684
  let c13_i32 : BitVec 32 := 13#32
  let v4449 : BitVec 32 := Scalar.addi v685 c13_i32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_3086 : BitVec 32 := 1#32
  let v4450 : BitVec 32 := Scalar.subi v1 c1_i32_3086
  let v4451 : BitVec 32 := Scalar.minsi v4449 v4450
  let c256_i32_3087 : BitVec 32 := 256#32
  let v4452 : BitVec 32 := Scalar.muli v4451 c256_i32_3087
  v4452
def k0_mult119 (i : grid0.Coords) (k0_t1 : Fin (k0_t1_loop i).trips) : BitVec 32 :=
  let c1_i32_422 : BitVec 32 := 1#32
  let c0_i32_366 : BitVec 32 := 0#32
  let c1_i32_368 : BitVec 32 := 1#32
  let arg11 : BitVec 32 := Scf.iv c0_i32_366 c1_i32_368 k0_t1
  let c16_i32_421 : BitVec 32 := 16#32
  let v684 : BitVec 32 := Scalar.muli arg11 c16_i32_421
  let v685 : BitVec 32 := Scalar.addi c1_i32_422 v684
  let c13_i32_3112 : BitVec 32 := 13#32
  let v4487 : BitVec 32 := Scalar.addi v685 c13_i32_3112
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_3113 : BitVec 32 := 1#32
  let v4488 : BitVec 32 := Scalar.subi v1 c1_i32_3113
  let v4489 : BitVec 32 := Scalar.minsi v4487 v4488
  let c256_i32_3114 : BitVec 32 := 256#32
  let v4490 : BitVec 32 := Scalar.muli v4489 c256_i32_3114
  v4490
def k0_mult120 (i : grid0.Coords) (k0_t1 : Fin (k0_t1_loop i).trips) : BitVec 32 :=
  let c1_i32_422 : BitVec 32 := 1#32
  let c0_i32_366 : BitVec 32 := 0#32
  let c1_i32_368 : BitVec 32 := 1#32
  let arg11 : BitVec 32 := Scf.iv c0_i32_366 c1_i32_368 k0_t1
  let c16_i32_421 : BitVec 32 := 16#32
  let v684 : BitVec 32 := Scalar.muli arg11 c16_i32_421
  let v685 : BitVec 32 := Scalar.addi c1_i32_422 v684
  let c13_i32_3139 : BitVec 32 := 13#32
  let v4525 : BitVec 32 := Scalar.addi v685 c13_i32_3139
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_3140 : BitVec 32 := 1#32
  let v4526 : BitVec 32 := Scalar.subi v1 c1_i32_3140
  let v4527 : BitVec 32 := Scalar.minsi v4525 v4526
  let c256_i32_3141 : BitVec 32 := 256#32
  let v4528 : BitVec 32 := Scalar.muli v4527 c256_i32_3141
  v4528
def k0_mult121 (i : grid0.Coords) (k0_t1 : Fin (k0_t1_loop i).trips) : BitVec 32 :=
  let c1_i32_422 : BitVec 32 := 1#32
  let c0_i32_366 : BitVec 32 := 0#32
  let c1_i32_368 : BitVec 32 := 1#32
  let arg11 : BitVec 32 := Scf.iv c0_i32_366 c1_i32_368 k0_t1
  let c16_i32_421 : BitVec 32 := 16#32
  let v684 : BitVec 32 := Scalar.muli arg11 c16_i32_421
  let v685 : BitVec 32 := Scalar.addi c1_i32_422 v684
  let c13_i32_3166 : BitVec 32 := 13#32
  let v4563 : BitVec 32 := Scalar.addi v685 c13_i32_3166
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_3167 : BitVec 32 := 1#32
  let v4564 : BitVec 32 := Scalar.subi v1 c1_i32_3167
  let v4565 : BitVec 32 := Scalar.minsi v4563 v4564
  let c256_i32_3168 : BitVec 32 := 256#32
  let v4566 : BitVec 32 := Scalar.muli v4565 c256_i32_3168
  v4566
def k0_mult122 (i : grid0.Coords) (k0_t1 : Fin (k0_t1_loop i).trips) : BitVec 32 :=
  let c1_i32_422 : BitVec 32 := 1#32
  let c0_i32_366 : BitVec 32 := 0#32
  let c1_i32_368 : BitVec 32 := 1#32
  let arg11 : BitVec 32 := Scf.iv c0_i32_366 c1_i32_368 k0_t1
  let c16_i32_421 : BitVec 32 := 16#32
  let v684 : BitVec 32 := Scalar.muli arg11 c16_i32_421
  let v685 : BitVec 32 := Scalar.addi c1_i32_422 v684
  let c13_i32_3193 : BitVec 32 := 13#32
  let v4601 : BitVec 32 := Scalar.addi v685 c13_i32_3193
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_3194 : BitVec 32 := 1#32
  let v4602 : BitVec 32 := Scalar.subi v1 c1_i32_3194
  let v4603 : BitVec 32 := Scalar.minsi v4601 v4602
  let c256_i32_3195 : BitVec 32 := 256#32
  let v4604 : BitVec 32 := Scalar.muli v4603 c256_i32_3195
  v4604
def k0_mult123 (i : grid0.Coords) (k0_t1 : Fin (k0_t1_loop i).trips) : BitVec 32 :=
  let c1_i32_422 : BitVec 32 := 1#32
  let c0_i32_366 : BitVec 32 := 0#32
  let c1_i32_368 : BitVec 32 := 1#32
  let arg11 : BitVec 32 := Scf.iv c0_i32_366 c1_i32_368 k0_t1
  let c16_i32_421 : BitVec 32 := 16#32
  let v684 : BitVec 32 := Scalar.muli arg11 c16_i32_421
  let v685 : BitVec 32 := Scalar.addi c1_i32_422 v684
  let c13_i32_3220 : BitVec 32 := 13#32
  let v4639 : BitVec 32 := Scalar.addi v685 c13_i32_3220
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_3221 : BitVec 32 := 1#32
  let v4640 : BitVec 32 := Scalar.subi v1 c1_i32_3221
  let v4641 : BitVec 32 := Scalar.minsi v4639 v4640
  let c256_i32_3222 : BitVec 32 := 256#32
  let v4642 : BitVec 32 := Scalar.muli v4641 c256_i32_3222
  v4642
def k0_mult124 (i : grid0.Coords) (k0_t1 : Fin (k0_t1_loop i).trips) : BitVec 32 :=
  let c1_i32_422 : BitVec 32 := 1#32
  let c0_i32_366 : BitVec 32 := 0#32
  let c1_i32_368 : BitVec 32 := 1#32
  let arg11 : BitVec 32 := Scf.iv c0_i32_366 c1_i32_368 k0_t1
  let c16_i32_421 : BitVec 32 := 16#32
  let v684 : BitVec 32 := Scalar.muli arg11 c16_i32_421
  let v685 : BitVec 32 := Scalar.addi c1_i32_422 v684
  let c13_i32_3247 : BitVec 32 := 13#32
  let v4677 : BitVec 32 := Scalar.addi v685 c13_i32_3247
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_3248 : BitVec 32 := 1#32
  let v4678 : BitVec 32 := Scalar.subi v1 c1_i32_3248
  let v4679 : BitVec 32 := Scalar.minsi v4677 v4678
  let c256_i32_3249 : BitVec 32 := 256#32
  let v4680 : BitVec 32 := Scalar.muli v4679 c256_i32_3249
  v4680
def k0_mult125 (i : grid0.Coords) (k0_t1 : Fin (k0_t1_loop i).trips) : BitVec 32 :=
  let c1_i32_422 : BitVec 32 := 1#32
  let c0_i32_366 : BitVec 32 := 0#32
  let c1_i32_368 : BitVec 32 := 1#32
  let arg11 : BitVec 32 := Scf.iv c0_i32_366 c1_i32_368 k0_t1
  let c16_i32_421 : BitVec 32 := 16#32
  let v684 : BitVec 32 := Scalar.muli arg11 c16_i32_421
  let v685 : BitVec 32 := Scalar.addi c1_i32_422 v684
  let c13_i32_3274 : BitVec 32 := 13#32
  let v4715 : BitVec 32 := Scalar.addi v685 c13_i32_3274
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_3275 : BitVec 32 := 1#32
  let v4716 : BitVec 32 := Scalar.subi v1 c1_i32_3275
  let v4717 : BitVec 32 := Scalar.minsi v4715 v4716
  let c256_i32_3276 : BitVec 32 := 256#32
  let v4718 : BitVec 32 := Scalar.muli v4717 c256_i32_3276
  v4718
def k0_mult126 (i : grid0.Coords) (k0_t1 : Fin (k0_t1_loop i).trips) : BitVec 32 :=
  let c1_i32_422 : BitVec 32 := 1#32
  let c0_i32_366 : BitVec 32 := 0#32
  let c1_i32_368 : BitVec 32 := 1#32
  let arg11 : BitVec 32 := Scf.iv c0_i32_366 c1_i32_368 k0_t1
  let c16_i32_421 : BitVec 32 := 16#32
  let v684 : BitVec 32 := Scalar.muli arg11 c16_i32_421
  let v685 : BitVec 32 := Scalar.addi c1_i32_422 v684
  let c14_i32 : BitVec 32 := 14#32
  let v4753 : BitVec 32 := Scalar.addi v685 c14_i32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_3301 : BitVec 32 := 1#32
  let v4754 : BitVec 32 := Scalar.subi v1 c1_i32_3301
  let v4755 : BitVec 32 := Scalar.minsi v4753 v4754
  let c256_i32_3302 : BitVec 32 := 256#32
  let v4756 : BitVec 32 := Scalar.muli v4755 c256_i32_3302
  v4756
def k0_mult127 (i : grid0.Coords) (k0_t1 : Fin (k0_t1_loop i).trips) : BitVec 32 :=
  let c1_i32_422 : BitVec 32 := 1#32
  let c0_i32_366 : BitVec 32 := 0#32
  let c1_i32_368 : BitVec 32 := 1#32
  let arg11 : BitVec 32 := Scf.iv c0_i32_366 c1_i32_368 k0_t1
  let c16_i32_421 : BitVec 32 := 16#32
  let v684 : BitVec 32 := Scalar.muli arg11 c16_i32_421
  let v685 : BitVec 32 := Scalar.addi c1_i32_422 v684
  let c14_i32_3327 : BitVec 32 := 14#32
  let v4791 : BitVec 32 := Scalar.addi v685 c14_i32_3327
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_3328 : BitVec 32 := 1#32
  let v4792 : BitVec 32 := Scalar.subi v1 c1_i32_3328
  let v4793 : BitVec 32 := Scalar.minsi v4791 v4792
  let c256_i32_3329 : BitVec 32 := 256#32
  let v4794 : BitVec 32 := Scalar.muli v4793 c256_i32_3329
  v4794
def k0_mult128 (i : grid0.Coords) (k0_t1 : Fin (k0_t1_loop i).trips) : BitVec 32 :=
  let c1_i32_422 : BitVec 32 := 1#32
  let c0_i32_366 : BitVec 32 := 0#32
  let c1_i32_368 : BitVec 32 := 1#32
  let arg11 : BitVec 32 := Scf.iv c0_i32_366 c1_i32_368 k0_t1
  let c16_i32_421 : BitVec 32 := 16#32
  let v684 : BitVec 32 := Scalar.muli arg11 c16_i32_421
  let v685 : BitVec 32 := Scalar.addi c1_i32_422 v684
  let c14_i32_3354 : BitVec 32 := 14#32
  let v4829 : BitVec 32 := Scalar.addi v685 c14_i32_3354
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_3355 : BitVec 32 := 1#32
  let v4830 : BitVec 32 := Scalar.subi v1 c1_i32_3355
  let v4831 : BitVec 32 := Scalar.minsi v4829 v4830
  let c256_i32_3356 : BitVec 32 := 256#32
  let v4832 : BitVec 32 := Scalar.muli v4831 c256_i32_3356
  v4832
def k0_mult129 (i : grid0.Coords) (k0_t1 : Fin (k0_t1_loop i).trips) : BitVec 32 :=
  let c1_i32_422 : BitVec 32 := 1#32
  let c0_i32_366 : BitVec 32 := 0#32
  let c1_i32_368 : BitVec 32 := 1#32
  let arg11 : BitVec 32 := Scf.iv c0_i32_366 c1_i32_368 k0_t1
  let c16_i32_421 : BitVec 32 := 16#32
  let v684 : BitVec 32 := Scalar.muli arg11 c16_i32_421
  let v685 : BitVec 32 := Scalar.addi c1_i32_422 v684
  let c14_i32_3381 : BitVec 32 := 14#32
  let v4867 : BitVec 32 := Scalar.addi v685 c14_i32_3381
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_3382 : BitVec 32 := 1#32
  let v4868 : BitVec 32 := Scalar.subi v1 c1_i32_3382
  let v4869 : BitVec 32 := Scalar.minsi v4867 v4868
  let c256_i32_3383 : BitVec 32 := 256#32
  let v4870 : BitVec 32 := Scalar.muli v4869 c256_i32_3383
  v4870
def k0_mult130 (i : grid0.Coords) (k0_t1 : Fin (k0_t1_loop i).trips) : BitVec 32 :=
  let c1_i32_422 : BitVec 32 := 1#32
  let c0_i32_366 : BitVec 32 := 0#32
  let c1_i32_368 : BitVec 32 := 1#32
  let arg11 : BitVec 32 := Scf.iv c0_i32_366 c1_i32_368 k0_t1
  let c16_i32_421 : BitVec 32 := 16#32
  let v684 : BitVec 32 := Scalar.muli arg11 c16_i32_421
  let v685 : BitVec 32 := Scalar.addi c1_i32_422 v684
  let c14_i32_3408 : BitVec 32 := 14#32
  let v4905 : BitVec 32 := Scalar.addi v685 c14_i32_3408
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_3409 : BitVec 32 := 1#32
  let v4906 : BitVec 32 := Scalar.subi v1 c1_i32_3409
  let v4907 : BitVec 32 := Scalar.minsi v4905 v4906
  let c256_i32_3410 : BitVec 32 := 256#32
  let v4908 : BitVec 32 := Scalar.muli v4907 c256_i32_3410
  v4908
def k0_mult131 (i : grid0.Coords) (k0_t1 : Fin (k0_t1_loop i).trips) : BitVec 32 :=
  let c1_i32_422 : BitVec 32 := 1#32
  let c0_i32_366 : BitVec 32 := 0#32
  let c1_i32_368 : BitVec 32 := 1#32
  let arg11 : BitVec 32 := Scf.iv c0_i32_366 c1_i32_368 k0_t1
  let c16_i32_421 : BitVec 32 := 16#32
  let v684 : BitVec 32 := Scalar.muli arg11 c16_i32_421
  let v685 : BitVec 32 := Scalar.addi c1_i32_422 v684
  let c14_i32_3435 : BitVec 32 := 14#32
  let v4943 : BitVec 32 := Scalar.addi v685 c14_i32_3435
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_3436 : BitVec 32 := 1#32
  let v4944 : BitVec 32 := Scalar.subi v1 c1_i32_3436
  let v4945 : BitVec 32 := Scalar.minsi v4943 v4944
  let c256_i32_3437 : BitVec 32 := 256#32
  let v4946 : BitVec 32 := Scalar.muli v4945 c256_i32_3437
  v4946
def k0_mult132 (i : grid0.Coords) (k0_t1 : Fin (k0_t1_loop i).trips) : BitVec 32 :=
  let c1_i32_422 : BitVec 32 := 1#32
  let c0_i32_366 : BitVec 32 := 0#32
  let c1_i32_368 : BitVec 32 := 1#32
  let arg11 : BitVec 32 := Scf.iv c0_i32_366 c1_i32_368 k0_t1
  let c16_i32_421 : BitVec 32 := 16#32
  let v684 : BitVec 32 := Scalar.muli arg11 c16_i32_421
  let v685 : BitVec 32 := Scalar.addi c1_i32_422 v684
  let c14_i32_3462 : BitVec 32 := 14#32
  let v4981 : BitVec 32 := Scalar.addi v685 c14_i32_3462
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_3463 : BitVec 32 := 1#32
  let v4982 : BitVec 32 := Scalar.subi v1 c1_i32_3463
  let v4983 : BitVec 32 := Scalar.minsi v4981 v4982
  let c256_i32_3464 : BitVec 32 := 256#32
  let v4984 : BitVec 32 := Scalar.muli v4983 c256_i32_3464
  v4984
def k0_mult133 (i : grid0.Coords) (k0_t1 : Fin (k0_t1_loop i).trips) : BitVec 32 :=
  let c1_i32_422 : BitVec 32 := 1#32
  let c0_i32_366 : BitVec 32 := 0#32
  let c1_i32_368 : BitVec 32 := 1#32
  let arg11 : BitVec 32 := Scf.iv c0_i32_366 c1_i32_368 k0_t1
  let c16_i32_421 : BitVec 32 := 16#32
  let v684 : BitVec 32 := Scalar.muli arg11 c16_i32_421
  let v685 : BitVec 32 := Scalar.addi c1_i32_422 v684
  let c14_i32_3489 : BitVec 32 := 14#32
  let v5019 : BitVec 32 := Scalar.addi v685 c14_i32_3489
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_3490 : BitVec 32 := 1#32
  let v5020 : BitVec 32 := Scalar.subi v1 c1_i32_3490
  let v5021 : BitVec 32 := Scalar.minsi v5019 v5020
  let c256_i32_3491 : BitVec 32 := 256#32
  let v5022 : BitVec 32 := Scalar.muli v5021 c256_i32_3491
  v5022
def k0_mult134 (i : grid0.Coords) (k0_t1 : Fin (k0_t1_loop i).trips) : BitVec 32 :=
  let c1_i32_422 : BitVec 32 := 1#32
  let c0_i32_366 : BitVec 32 := 0#32
  let c1_i32_368 : BitVec 32 := 1#32
  let arg11 : BitVec 32 := Scf.iv c0_i32_366 c1_i32_368 k0_t1
  let c16_i32_421 : BitVec 32 := 16#32
  let v684 : BitVec 32 := Scalar.muli arg11 c16_i32_421
  let v685 : BitVec 32 := Scalar.addi c1_i32_422 v684
  let c15_i32 : BitVec 32 := 15#32
  let v5057 : BitVec 32 := Scalar.addi v685 c15_i32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_3516 : BitVec 32 := 1#32
  let v5058 : BitVec 32 := Scalar.subi v1 c1_i32_3516
  let v5059 : BitVec 32 := Scalar.minsi v5057 v5058
  let c256_i32_3517 : BitVec 32 := 256#32
  let v5060 : BitVec 32 := Scalar.muli v5059 c256_i32_3517
  v5060
def k0_mult135 (i : grid0.Coords) (k0_t1 : Fin (k0_t1_loop i).trips) : BitVec 32 :=
  let c1_i32_422 : BitVec 32 := 1#32
  let c0_i32_366 : BitVec 32 := 0#32
  let c1_i32_368 : BitVec 32 := 1#32
  let arg11 : BitVec 32 := Scf.iv c0_i32_366 c1_i32_368 k0_t1
  let c16_i32_421 : BitVec 32 := 16#32
  let v684 : BitVec 32 := Scalar.muli arg11 c16_i32_421
  let v685 : BitVec 32 := Scalar.addi c1_i32_422 v684
  let c15_i32_3542 : BitVec 32 := 15#32
  let v5095 : BitVec 32 := Scalar.addi v685 c15_i32_3542
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_3543 : BitVec 32 := 1#32
  let v5096 : BitVec 32 := Scalar.subi v1 c1_i32_3543
  let v5097 : BitVec 32 := Scalar.minsi v5095 v5096
  let c256_i32_3544 : BitVec 32 := 256#32
  let v5098 : BitVec 32 := Scalar.muli v5097 c256_i32_3544
  v5098
def k0_mult136 (i : grid0.Coords) (k0_t1 : Fin (k0_t1_loop i).trips) : BitVec 32 :=
  let c1_i32_422 : BitVec 32 := 1#32
  let c0_i32_366 : BitVec 32 := 0#32
  let c1_i32_368 : BitVec 32 := 1#32
  let arg11 : BitVec 32 := Scf.iv c0_i32_366 c1_i32_368 k0_t1
  let c16_i32_421 : BitVec 32 := 16#32
  let v684 : BitVec 32 := Scalar.muli arg11 c16_i32_421
  let v685 : BitVec 32 := Scalar.addi c1_i32_422 v684
  let c15_i32_3569 : BitVec 32 := 15#32
  let v5133 : BitVec 32 := Scalar.addi v685 c15_i32_3569
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_3570 : BitVec 32 := 1#32
  let v5134 : BitVec 32 := Scalar.subi v1 c1_i32_3570
  let v5135 : BitVec 32 := Scalar.minsi v5133 v5134
  let c256_i32_3571 : BitVec 32 := 256#32
  let v5136 : BitVec 32 := Scalar.muli v5135 c256_i32_3571
  v5136
def k0_mult137 (i : grid0.Coords) (k0_t1 : Fin (k0_t1_loop i).trips) : BitVec 32 :=
  let c1_i32_422 : BitVec 32 := 1#32
  let c0_i32_366 : BitVec 32 := 0#32
  let c1_i32_368 : BitVec 32 := 1#32
  let arg11 : BitVec 32 := Scf.iv c0_i32_366 c1_i32_368 k0_t1
  let c16_i32_421 : BitVec 32 := 16#32
  let v684 : BitVec 32 := Scalar.muli arg11 c16_i32_421
  let v685 : BitVec 32 := Scalar.addi c1_i32_422 v684
  let c15_i32_3596 : BitVec 32 := 15#32
  let v5171 : BitVec 32 := Scalar.addi v685 c15_i32_3596
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_3597 : BitVec 32 := 1#32
  let v5172 : BitVec 32 := Scalar.subi v1 c1_i32_3597
  let v5173 : BitVec 32 := Scalar.minsi v5171 v5172
  let c256_i32_3598 : BitVec 32 := 256#32
  let v5174 : BitVec 32 := Scalar.muli v5173 c256_i32_3598
  v5174
def k0_mult138 (i : grid0.Coords) (k0_t1 : Fin (k0_t1_loop i).trips) : BitVec 32 :=
  let c1_i32_422 : BitVec 32 := 1#32
  let c0_i32_366 : BitVec 32 := 0#32
  let c1_i32_368 : BitVec 32 := 1#32
  let arg11 : BitVec 32 := Scf.iv c0_i32_366 c1_i32_368 k0_t1
  let c16_i32_421 : BitVec 32 := 16#32
  let v684 : BitVec 32 := Scalar.muli arg11 c16_i32_421
  let v685 : BitVec 32 := Scalar.addi c1_i32_422 v684
  let c15_i32_3623 : BitVec 32 := 15#32
  let v5209 : BitVec 32 := Scalar.addi v685 c15_i32_3623
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_3624 : BitVec 32 := 1#32
  let v5210 : BitVec 32 := Scalar.subi v1 c1_i32_3624
  let v5211 : BitVec 32 := Scalar.minsi v5209 v5210
  let c256_i32_3625 : BitVec 32 := 256#32
  let v5212 : BitVec 32 := Scalar.muli v5211 c256_i32_3625
  v5212
def k0_mult139 (i : grid0.Coords) (k0_t1 : Fin (k0_t1_loop i).trips) : BitVec 32 :=
  let c1_i32_422 : BitVec 32 := 1#32
  let c0_i32_366 : BitVec 32 := 0#32
  let c1_i32_368 : BitVec 32 := 1#32
  let arg11 : BitVec 32 := Scf.iv c0_i32_366 c1_i32_368 k0_t1
  let c16_i32_421 : BitVec 32 := 16#32
  let v684 : BitVec 32 := Scalar.muli arg11 c16_i32_421
  let v685 : BitVec 32 := Scalar.addi c1_i32_422 v684
  let c15_i32_3650 : BitVec 32 := 15#32
  let v5247 : BitVec 32 := Scalar.addi v685 c15_i32_3650
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_3651 : BitVec 32 := 1#32
  let v5248 : BitVec 32 := Scalar.subi v1 c1_i32_3651
  let v5249 : BitVec 32 := Scalar.minsi v5247 v5248
  let c256_i32_3652 : BitVec 32 := 256#32
  let v5250 : BitVec 32 := Scalar.muli v5249 c256_i32_3652
  v5250
def k0_mult140 (i : grid0.Coords) (k0_t1 : Fin (k0_t1_loop i).trips) : BitVec 32 :=
  let c1_i32_422 : BitVec 32 := 1#32
  let c0_i32_366 : BitVec 32 := 0#32
  let c1_i32_368 : BitVec 32 := 1#32
  let arg11 : BitVec 32 := Scf.iv c0_i32_366 c1_i32_368 k0_t1
  let c16_i32_421 : BitVec 32 := 16#32
  let v684 : BitVec 32 := Scalar.muli arg11 c16_i32_421
  let v685 : BitVec 32 := Scalar.addi c1_i32_422 v684
  let c15_i32_3677 : BitVec 32 := 15#32
  let v5285 : BitVec 32 := Scalar.addi v685 c15_i32_3677
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_3678 : BitVec 32 := 1#32
  let v5286 : BitVec 32 := Scalar.subi v1 c1_i32_3678
  let v5287 : BitVec 32 := Scalar.minsi v5285 v5286
  let c256_i32_3679 : BitVec 32 := 256#32
  let v5288 : BitVec 32 := Scalar.muli v5287 c256_i32_3679
  v5288
def k0_mult141 (i : grid0.Coords) (k0_t1 : Fin (k0_t1_loop i).trips) : BitVec 32 :=
  let c1_i32_422 : BitVec 32 := 1#32
  let c0_i32_366 : BitVec 32 := 0#32
  let c1_i32_368 : BitVec 32 := 1#32
  let arg11 : BitVec 32 := Scf.iv c0_i32_366 c1_i32_368 k0_t1
  let c16_i32_421 : BitVec 32 := 16#32
  let v684 : BitVec 32 := Scalar.muli arg11 c16_i32_421
  let v685 : BitVec 32 := Scalar.addi c1_i32_422 v684
  let c15_i32_3704 : BitVec 32 := 15#32
  let v5323 : BitVec 32 := Scalar.addi v685 c15_i32_3704
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_3705 : BitVec 32 := 1#32
  let v5324 : BitVec 32 := Scalar.subi v1 c1_i32_3705
  let v5325 : BitVec 32 := Scalar.minsi v5323 v5324
  let c256_i32_3706 : BitVec 32 := 256#32
  let v5326 : BitVec 32 := Scalar.muli v5325 c256_i32_3706
  v5326
def k0_mult142 (i : grid0.Coords) (k0_t1 : Fin (k0_t1_loop i).trips) : BitVec 32 :=
  let c1_i32_422 : BitVec 32 := 1#32
  let c0_i32_366 : BitVec 32 := 0#32
  let c1_i32_368 : BitVec 32 := 1#32
  let arg11 : BitVec 32 := Scf.iv c0_i32_366 c1_i32_368 k0_t1
  let c16_i32_421 : BitVec 32 := 16#32
  let v684 : BitVec 32 := Scalar.muli arg11 c16_i32_421
  let v685 : BitVec 32 := Scalar.addi c1_i32_422 v684
  let c16_i32_3731 : BitVec 32 := 16#32
  let v5361 : BitVec 32 := Scalar.addi v685 c16_i32_3731
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_3732 : BitVec 32 := 1#32
  let v5362 : BitVec 32 := Scalar.subi v1 c1_i32_3732
  let v5363 : BitVec 32 := Scalar.minsi v5361 v5362
  let c256_i32_3733 : BitVec 32 := 256#32
  let v5364 : BitVec 32 := Scalar.muli v5363 c256_i32_3733
  v5364
def k0_mult143 (i : grid0.Coords) (k0_t1 : Fin (k0_t1_loop i).trips) : BitVec 32 :=
  let c1_i32_422 : BitVec 32 := 1#32
  let c0_i32_366 : BitVec 32 := 0#32
  let c1_i32_368 : BitVec 32 := 1#32
  let arg11 : BitVec 32 := Scf.iv c0_i32_366 c1_i32_368 k0_t1
  let c16_i32_421 : BitVec 32 := 16#32
  let v684 : BitVec 32 := Scalar.muli arg11 c16_i32_421
  let v685 : BitVec 32 := Scalar.addi c1_i32_422 v684
  let c16_i32_3758 : BitVec 32 := 16#32
  let v5399 : BitVec 32 := Scalar.addi v685 c16_i32_3758
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_3759 : BitVec 32 := 1#32
  let v5400 : BitVec 32 := Scalar.subi v1 c1_i32_3759
  let v5401 : BitVec 32 := Scalar.minsi v5399 v5400
  let c256_i32_3760 : BitVec 32 := 256#32
  let v5402 : BitVec 32 := Scalar.muli v5401 c256_i32_3760
  v5402
def k0_mult144 (i : grid0.Coords) (k0_t1 : Fin (k0_t1_loop i).trips) : BitVec 32 :=
  let c1_i32_422 : BitVec 32 := 1#32
  let c0_i32_366 : BitVec 32 := 0#32
  let c1_i32_368 : BitVec 32 := 1#32
  let arg11 : BitVec 32 := Scf.iv c0_i32_366 c1_i32_368 k0_t1
  let c16_i32_421 : BitVec 32 := 16#32
  let v684 : BitVec 32 := Scalar.muli arg11 c16_i32_421
  let v685 : BitVec 32 := Scalar.addi c1_i32_422 v684
  let c16_i32_3785 : BitVec 32 := 16#32
  let v5437 : BitVec 32 := Scalar.addi v685 c16_i32_3785
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_3786 : BitVec 32 := 1#32
  let v5438 : BitVec 32 := Scalar.subi v1 c1_i32_3786
  let v5439 : BitVec 32 := Scalar.minsi v5437 v5438
  let c256_i32_3787 : BitVec 32 := 256#32
  let v5440 : BitVec 32 := Scalar.muli v5439 c256_i32_3787
  v5440
def k0_mult145 (i : grid0.Coords) (k0_t1 : Fin (k0_t1_loop i).trips) : BitVec 32 :=
  let c1_i32_422 : BitVec 32 := 1#32
  let c0_i32_366 : BitVec 32 := 0#32
  let c1_i32_368 : BitVec 32 := 1#32
  let arg11 : BitVec 32 := Scf.iv c0_i32_366 c1_i32_368 k0_t1
  let c16_i32_421 : BitVec 32 := 16#32
  let v684 : BitVec 32 := Scalar.muli arg11 c16_i32_421
  let v685 : BitVec 32 := Scalar.addi c1_i32_422 v684
  let c16_i32_3812 : BitVec 32 := 16#32
  let v5475 : BitVec 32 := Scalar.addi v685 c16_i32_3812
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_3813 : BitVec 32 := 1#32
  let v5476 : BitVec 32 := Scalar.subi v1 c1_i32_3813
  let v5477 : BitVec 32 := Scalar.minsi v5475 v5476
  let c256_i32_3814 : BitVec 32 := 256#32
  let v5478 : BitVec 32 := Scalar.muli v5477 c256_i32_3814
  v5478
def k0_mult146 (i : grid0.Coords) (k0_t1 : Fin (k0_t1_loop i).trips) : BitVec 32 :=
  let c1_i32_422 : BitVec 32 := 1#32
  let c0_i32_366 : BitVec 32 := 0#32
  let c1_i32_368 : BitVec 32 := 1#32
  let arg11 : BitVec 32 := Scf.iv c0_i32_366 c1_i32_368 k0_t1
  let c16_i32_421 : BitVec 32 := 16#32
  let v684 : BitVec 32 := Scalar.muli arg11 c16_i32_421
  let v685 : BitVec 32 := Scalar.addi c1_i32_422 v684
  let c16_i32_3839 : BitVec 32 := 16#32
  let v5513 : BitVec 32 := Scalar.addi v685 c16_i32_3839
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_3840 : BitVec 32 := 1#32
  let v5514 : BitVec 32 := Scalar.subi v1 c1_i32_3840
  let v5515 : BitVec 32 := Scalar.minsi v5513 v5514
  let c256_i32_3841 : BitVec 32 := 256#32
  let v5516 : BitVec 32 := Scalar.muli v5515 c256_i32_3841
  v5516
@[reducible] def k0_t2_loop (i : grid0.Coords) : Scf.Loop 32 :=
  let c0_i32_366 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_314 : BitVec 32 := 1#32
  let v480 : BitVec 32 := Scalar.subi v1 c1_i32_314
  let c0_i32_315 : BitVec 32 := 0#32
  let v482 : BitVec 1 := Scalar.cmpi .sgt v480 c0_i32_315
  let v483 : BitVec 32 := Scalar.extui v482
  let c0_i32_316 : BitVec 32 := 0#32
  let v484 : BitVec 1 := Scalar.cmpi .slt v480 c0_i32_316
  let v485 : BitVec 32 := Scalar.extui v484
  let v486 : BitVec 32 := Scalar.subi v483 v485
  let c16_i32 : BitVec 32 := 16#32
  let c0_i32_317 : BitVec 32 := 0#32
  let v487 : BitVec 1 := Scalar.cmpi .sgt c16_i32 c0_i32_317
  let v488 : BitVec 32 := Scalar.extui v487
  let c0_i32_318 : BitVec 32 := 0#32
  let v489 : BitVec 1 := Scalar.cmpi .slt c16_i32 c0_i32_318
  let v490 : BitVec 32 := Scalar.extui v489
  let v491 : BitVec 32 := Scalar.subi v488 v490
  let v492 : BitVec 1 := Scalar.cmpi .ne v486 v491
  let v493 : BitVec 32 := Scalar.remsi v480 c16_i32
  let c0_i32_319 : BitVec 32 := 0#32
  let v494 : BitVec 1 := Scalar.cmpi .ne v493 c0_i32_319
  let v495 : BitVec 1 := Scalar.andi v492 v494
  let v481 : BitVec 32 := Scalar.divsi v480 c16_i32
  let c1_i32_320 : BitVec 32 := 1#32
  let v496 : BitVec 32 := Scalar.subi v481 c1_i32_320
  let v497 : BitVec 32 := Scalar.select v495 v496 v481
  let v548 : BitVec 32 := Scalar.subi v497 c0_i32_366
  let c1_i32_367 : BitVec 32 := 1#32
  let v550 : BitVec 32 := Scalar.divsi v548 c1_i32_367
  let v551 : BitVec 32 := Scalar.muli v550 c1_i32_367
  let v552 : BitVec 32 := Scalar.addi c0_i32_366 v551
  let v549 : BitVec 32 := Scalar.addi c0_i32_366 v548
  let c1_i32_369 : BitVec 32 := 1#32
  ⟨v552, v549, c1_i32_369⟩
def k0_mult147 (i : grid0.Coords) (k0_t2 : Fin (k0_t2_loop i).trips) : BitVec 32 :=
  let c1_i32_422 : BitVec 32 := 1#32
  let c0_i32_366 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_314 : BitVec 32 := 1#32
  let v480 : BitVec 32 := Scalar.subi v1 c1_i32_314
  let c0_i32_315 : BitVec 32 := 0#32
  let v482 : BitVec 1 := Scalar.cmpi .sgt v480 c0_i32_315
  let v483 : BitVec 32 := Scalar.extui v482
  let c0_i32_316 : BitVec 32 := 0#32
  let v484 : BitVec 1 := Scalar.cmpi .slt v480 c0_i32_316
  let v485 : BitVec 32 := Scalar.extui v484
  let v486 : BitVec 32 := Scalar.subi v483 v485
  let c16_i32 : BitVec 32 := 16#32
  let c0_i32_317 : BitVec 32 := 0#32
  let v487 : BitVec 1 := Scalar.cmpi .sgt c16_i32 c0_i32_317
  let v488 : BitVec 32 := Scalar.extui v487
  let c0_i32_318 : BitVec 32 := 0#32
  let v489 : BitVec 1 := Scalar.cmpi .slt c16_i32 c0_i32_318
  let v490 : BitVec 32 := Scalar.extui v489
  let v491 : BitVec 32 := Scalar.subi v488 v490
  let v492 : BitVec 1 := Scalar.cmpi .ne v486 v491
  let v493 : BitVec 32 := Scalar.remsi v480 c16_i32
  let c0_i32_319 : BitVec 32 := 0#32
  let v494 : BitVec 1 := Scalar.cmpi .ne v493 c0_i32_319
  let v495 : BitVec 1 := Scalar.andi v492 v494
  let v481 : BitVec 32 := Scalar.divsi v480 c16_i32
  let c1_i32_320 : BitVec 32 := 1#32
  let v496 : BitVec 32 := Scalar.subi v481 c1_i32_320
  let v497 : BitVec 32 := Scalar.select v495 v496 v481
  let v548 : BitVec 32 := Scalar.subi v497 c0_i32_366
  let c1_i32_367 : BitVec 32 := 1#32
  let v550 : BitVec 32 := Scalar.divsi v548 c1_i32_367
  let v551 : BitVec 32 := Scalar.muli v550 c1_i32_367
  let v552 : BitVec 32 := Scalar.addi c0_i32_366 v551
  let c1_i32_369 : BitVec 32 := 1#32
  let arg11 : BitVec 32 := Scf.iv v552 c1_i32_369 k0_t2
  let c16_i32_421 : BitVec 32 := 16#32
  let v684 : BitVec 32 := Scalar.muli arg11 c16_i32_421
  let v685 : BitVec 32 := Scalar.addi c1_i32_422 v684
  let c0_i32_424 : BitVec 32 := 0#32
  let v687 : BitVec 32 := Scalar.addi v685 c0_i32_424
  let c1_i32_425 : BitVec 32 := 1#32
  let v688 : BitVec 32 := Scalar.subi v1 c1_i32_425
  let v689 : BitVec 32 := Scalar.minsi v687 v688
  let c256_i32_426 : BitVec 32 := 256#32
  let v690 : BitVec 32 := Scalar.muli v689 c256_i32_426
  v690
def k0_off15 (i : grid0.Coords) (k0_t2 : Fin (k0_t2_loop i).trips) (c0_i32_424 : BitVec 32) : Fin 3 → Nat :=
  let c0_427 : Index := 0#32
  let c1_i32_422 : BitVec 32 := 1#32
  let c0_i32_366 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_314 : BitVec 32 := 1#32
  let v480 : BitVec 32 := Scalar.subi v1 c1_i32_314
  let c0_i32_315 : BitVec 32 := 0#32
  let v482 : BitVec 1 := Scalar.cmpi .sgt v480 c0_i32_315
  let v483 : BitVec 32 := Scalar.extui v482
  let c0_i32_316 : BitVec 32 := 0#32
  let v484 : BitVec 1 := Scalar.cmpi .slt v480 c0_i32_316
  let v485 : BitVec 32 := Scalar.extui v484
  let v486 : BitVec 32 := Scalar.subi v483 v485
  let c16_i32 : BitVec 32 := 16#32
  let c0_i32_317 : BitVec 32 := 0#32
  let v487 : BitVec 1 := Scalar.cmpi .sgt c16_i32 c0_i32_317
  let v488 : BitVec 32 := Scalar.extui v487
  let c0_i32_318 : BitVec 32 := 0#32
  let v489 : BitVec 1 := Scalar.cmpi .slt c16_i32 c0_i32_318
  let v490 : BitVec 32 := Scalar.extui v489
  let v491 : BitVec 32 := Scalar.subi v488 v490
  let v492 : BitVec 1 := Scalar.cmpi .ne v486 v491
  let v493 : BitVec 32 := Scalar.remsi v480 c16_i32
  let c0_i32_319 : BitVec 32 := 0#32
  let v494 : BitVec 1 := Scalar.cmpi .ne v493 c0_i32_319
  let v495 : BitVec 1 := Scalar.andi v492 v494
  let v481 : BitVec 32 := Scalar.divsi v480 c16_i32
  let c1_i32_320 : BitVec 32 := 1#32
  let v496 : BitVec 32 := Scalar.subi v481 c1_i32_320
  let v497 : BitVec 32 := Scalar.select v495 v496 v481
  let v548 : BitVec 32 := Scalar.subi v497 c0_i32_366
  let c1_i32_367 : BitVec 32 := 1#32
  let v550 : BitVec 32 := Scalar.divsi v548 c1_i32_367
  let v551 : BitVec 32 := Scalar.muli v550 c1_i32_367
  let v552 : BitVec 32 := Scalar.addi c0_i32_366 v551
  let c1_i32_369 : BitVec 32 := 1#32
  let arg11 : BitVec 32 := Scf.iv v552 c1_i32_369 k0_t2
  let c16_i32_421 : BitVec 32 := 16#32
  let v684 : BitVec 32 := Scalar.muli arg11 c16_i32_421
  let v685 : BitVec 32 := Scalar.addi c1_i32_422 v684
  let v687 : BitVec 32 := Scalar.addi v685 c0_i32_424
  let c1_i32_425 : BitVec 32 := 1#32
  let v688 : BitVec 32 := Scalar.subi v1 c1_i32_425
  let v689 : BitVec 32 := Scalar.minsi v687 v688
  let c256_i32_426 : BitVec 32 := 256#32
  let v690 : BitVec 32 := Scalar.muli v689 c256_i32_426
  let v691 : BitVec 32 := v690
  let v692 : Index := Scalar.indexCast v691
  let c128_428 : Index := 128#32
  ![0, v692.toNat, 128]
def k0_off16 (i : grid0.Coords) (k0_t2 : Fin (k0_t2_loop i).trips) (c0_i32_423 : BitVec 32) : Fin 4 → Nat :=
  let c0_437 : Index := 0#32
  let c1_i32_422 : BitVec 32 := 1#32
  let c0_i32_366 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_314 : BitVec 32 := 1#32
  let v480 : BitVec 32 := Scalar.subi v1 c1_i32_314
  let c0_i32_315 : BitVec 32 := 0#32
  let v482 : BitVec 1 := Scalar.cmpi .sgt v480 c0_i32_315
  let v483 : BitVec 32 := Scalar.extui v482
  let c0_i32_316 : BitVec 32 := 0#32
  let v484 : BitVec 1 := Scalar.cmpi .slt v480 c0_i32_316
  let v485 : BitVec 32 := Scalar.extui v484
  let v486 : BitVec 32 := Scalar.subi v483 v485
  let c16_i32 : BitVec 32 := 16#32
  let c0_i32_317 : BitVec 32 := 0#32
  let v487 : BitVec 1 := Scalar.cmpi .sgt c16_i32 c0_i32_317
  let v488 : BitVec 32 := Scalar.extui v487
  let c0_i32_318 : BitVec 32 := 0#32
  let v489 : BitVec 1 := Scalar.cmpi .slt c16_i32 c0_i32_318
  let v490 : BitVec 32 := Scalar.extui v489
  let v491 : BitVec 32 := Scalar.subi v488 v490
  let v492 : BitVec 1 := Scalar.cmpi .ne v486 v491
  let v493 : BitVec 32 := Scalar.remsi v480 c16_i32
  let c0_i32_319 : BitVec 32 := 0#32
  let v494 : BitVec 1 := Scalar.cmpi .ne v493 c0_i32_319
  let v495 : BitVec 1 := Scalar.andi v492 v494
  let v481 : BitVec 32 := Scalar.divsi v480 c16_i32
  let c1_i32_320 : BitVec 32 := 1#32
  let v496 : BitVec 32 := Scalar.subi v481 c1_i32_320
  let v497 : BitVec 32 := Scalar.select v495 v496 v481
  let v548 : BitVec 32 := Scalar.subi v497 c0_i32_366
  let c1_i32_367 : BitVec 32 := 1#32
  let v550 : BitVec 32 := Scalar.divsi v548 c1_i32_367
  let v551 : BitVec 32 := Scalar.muli v550 c1_i32_367
  let v552 : BitVec 32 := Scalar.addi c0_i32_366 v551
  let c1_i32_369 : BitVec 32 := 1#32
  let arg11 : BitVec 32 := Scf.iv v552 c1_i32_369 k0_t2
  let c16_i32_421 : BitVec 32 := 16#32
  let v684 : BitVec 32 := Scalar.muli arg11 c16_i32_421
  let v685 : BitVec 32 := Scalar.addi c1_i32_422 v684
  let v686 : BitVec 32 := Scalar.addi v685 c0_i32_423
  let v707 : Index := Scalar.indexCast v686
  let c0_438 : Index := 0#32
  let c0_439 : Index := 0#32
  ![0, v707.toNat, 0, 0]
def k0_mult148 (i : grid0.Coords) (k0_t2 : Fin (k0_t2_loop i).trips) : BitVec 32 :=
  let c1_i32_422 : BitVec 32 := 1#32
  let c0_i32_366 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_314 : BitVec 32 := 1#32
  let v480 : BitVec 32 := Scalar.subi v1 c1_i32_314
  let c0_i32_315 : BitVec 32 := 0#32
  let v482 : BitVec 1 := Scalar.cmpi .sgt v480 c0_i32_315
  let v483 : BitVec 32 := Scalar.extui v482
  let c0_i32_316 : BitVec 32 := 0#32
  let v484 : BitVec 1 := Scalar.cmpi .slt v480 c0_i32_316
  let v485 : BitVec 32 := Scalar.extui v484
  let v486 : BitVec 32 := Scalar.subi v483 v485
  let c16_i32 : BitVec 32 := 16#32
  let c0_i32_317 : BitVec 32 := 0#32
  let v487 : BitVec 1 := Scalar.cmpi .sgt c16_i32 c0_i32_317
  let v488 : BitVec 32 := Scalar.extui v487
  let c0_i32_318 : BitVec 32 := 0#32
  let v489 : BitVec 1 := Scalar.cmpi .slt c16_i32 c0_i32_318
  let v490 : BitVec 32 := Scalar.extui v489
  let v491 : BitVec 32 := Scalar.subi v488 v490
  let v492 : BitVec 1 := Scalar.cmpi .ne v486 v491
  let v493 : BitVec 32 := Scalar.remsi v480 c16_i32
  let c0_i32_319 : BitVec 32 := 0#32
  let v494 : BitVec 1 := Scalar.cmpi .ne v493 c0_i32_319
  let v495 : BitVec 1 := Scalar.andi v492 v494
  let v481 : BitVec 32 := Scalar.divsi v480 c16_i32
  let c1_i32_320 : BitVec 32 := 1#32
  let v496 : BitVec 32 := Scalar.subi v481 c1_i32_320
  let v497 : BitVec 32 := Scalar.select v495 v496 v481
  let v548 : BitVec 32 := Scalar.subi v497 c0_i32_366
  let c1_i32_367 : BitVec 32 := 1#32
  let v550 : BitVec 32 := Scalar.divsi v548 c1_i32_367
  let v551 : BitVec 32 := Scalar.muli v550 c1_i32_367
  let v552 : BitVec 32 := Scalar.addi c0_i32_366 v551
  let c1_i32_369 : BitVec 32 := 1#32
  let arg11 : BitVec 32 := Scf.iv v552 c1_i32_369 k0_t2
  let c16_i32_421 : BitVec 32 := 16#32
  let v684 : BitVec 32 := Scalar.muli arg11 c16_i32_421
  let v685 : BitVec 32 := Scalar.addi c1_i32_422 v684
  let c0_i32_451 : BitVec 32 := 0#32
  let v725 : BitVec 32 := Scalar.addi v685 c0_i32_451
  let c1_i32_452 : BitVec 32 := 1#32
  let v726 : BitVec 32 := Scalar.subi v1 c1_i32_452
  let v727 : BitVec 32 := Scalar.minsi v725 v726
  let c256_i32_453 : BitVec 32 := 256#32
  let v728 : BitVec 32 := Scalar.muli v727 c256_i32_453
  v728
def k0_mult149 (i : grid0.Coords) (k0_t2 : Fin (k0_t2_loop i).trips) : BitVec 32 :=
  let c1_i32_422 : BitVec 32 := 1#32
  let c0_i32_366 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_314 : BitVec 32 := 1#32
  let v480 : BitVec 32 := Scalar.subi v1 c1_i32_314
  let c0_i32_315 : BitVec 32 := 0#32
  let v482 : BitVec 1 := Scalar.cmpi .sgt v480 c0_i32_315
  let v483 : BitVec 32 := Scalar.extui v482
  let c0_i32_316 : BitVec 32 := 0#32
  let v484 : BitVec 1 := Scalar.cmpi .slt v480 c0_i32_316
  let v485 : BitVec 32 := Scalar.extui v484
  let v486 : BitVec 32 := Scalar.subi v483 v485
  let c16_i32 : BitVec 32 := 16#32
  let c0_i32_317 : BitVec 32 := 0#32
  let v487 : BitVec 1 := Scalar.cmpi .sgt c16_i32 c0_i32_317
  let v488 : BitVec 32 := Scalar.extui v487
  let c0_i32_318 : BitVec 32 := 0#32
  let v489 : BitVec 1 := Scalar.cmpi .slt c16_i32 c0_i32_318
  let v490 : BitVec 32 := Scalar.extui v489
  let v491 : BitVec 32 := Scalar.subi v488 v490
  let v492 : BitVec 1 := Scalar.cmpi .ne v486 v491
  let v493 : BitVec 32 := Scalar.remsi v480 c16_i32
  let c0_i32_319 : BitVec 32 := 0#32
  let v494 : BitVec 1 := Scalar.cmpi .ne v493 c0_i32_319
  let v495 : BitVec 1 := Scalar.andi v492 v494
  let v481 : BitVec 32 := Scalar.divsi v480 c16_i32
  let c1_i32_320 : BitVec 32 := 1#32
  let v496 : BitVec 32 := Scalar.subi v481 c1_i32_320
  let v497 : BitVec 32 := Scalar.select v495 v496 v481
  let v548 : BitVec 32 := Scalar.subi v497 c0_i32_366
  let c1_i32_367 : BitVec 32 := 1#32
  let v550 : BitVec 32 := Scalar.divsi v548 c1_i32_367
  let v551 : BitVec 32 := Scalar.muli v550 c1_i32_367
  let v552 : BitVec 32 := Scalar.addi c0_i32_366 v551
  let c1_i32_369 : BitVec 32 := 1#32
  let arg11 : BitVec 32 := Scf.iv v552 c1_i32_369 k0_t2
  let c16_i32_421 : BitVec 32 := 16#32
  let v684 : BitVec 32 := Scalar.muli arg11 c16_i32_421
  let v685 : BitVec 32 := Scalar.addi c1_i32_422 v684
  let c0_i32_478 : BitVec 32 := 0#32
  let v763 : BitVec 32 := Scalar.addi v685 c0_i32_478
  let c1_i32_479 : BitVec 32 := 1#32
  let v764 : BitVec 32 := Scalar.subi v1 c1_i32_479
  let v765 : BitVec 32 := Scalar.minsi v763 v764
  let c256_i32_480 : BitVec 32 := 256#32
  let v766 : BitVec 32 := Scalar.muli v765 c256_i32_480
  v766
def k0_off17 (i : grid0.Coords) (k0_t2 : Fin (k0_t2_loop i).trips) (c0_i32_477 : BitVec 32) : Fin 4 → Nat :=
  let c0_491 : Index := 0#32
  let c1_i32_422 : BitVec 32 := 1#32
  let c0_i32_366 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_314 : BitVec 32 := 1#32
  let v480 : BitVec 32 := Scalar.subi v1 c1_i32_314
  let c0_i32_315 : BitVec 32 := 0#32
  let v482 : BitVec 1 := Scalar.cmpi .sgt v480 c0_i32_315
  let v483 : BitVec 32 := Scalar.extui v482
  let c0_i32_316 : BitVec 32 := 0#32
  let v484 : BitVec 1 := Scalar.cmpi .slt v480 c0_i32_316
  let v485 : BitVec 32 := Scalar.extui v484
  let v486 : BitVec 32 := Scalar.subi v483 v485
  let c16_i32 : BitVec 32 := 16#32
  let c0_i32_317 : BitVec 32 := 0#32
  let v487 : BitVec 1 := Scalar.cmpi .sgt c16_i32 c0_i32_317
  let v488 : BitVec 32 := Scalar.extui v487
  let c0_i32_318 : BitVec 32 := 0#32
  let v489 : BitVec 1 := Scalar.cmpi .slt c16_i32 c0_i32_318
  let v490 : BitVec 32 := Scalar.extui v489
  let v491 : BitVec 32 := Scalar.subi v488 v490
  let v492 : BitVec 1 := Scalar.cmpi .ne v486 v491
  let v493 : BitVec 32 := Scalar.remsi v480 c16_i32
  let c0_i32_319 : BitVec 32 := 0#32
  let v494 : BitVec 1 := Scalar.cmpi .ne v493 c0_i32_319
  let v495 : BitVec 1 := Scalar.andi v492 v494
  let v481 : BitVec 32 := Scalar.divsi v480 c16_i32
  let c1_i32_320 : BitVec 32 := 1#32
  let v496 : BitVec 32 := Scalar.subi v481 c1_i32_320
  let v497 : BitVec 32 := Scalar.select v495 v496 v481
  let v548 : BitVec 32 := Scalar.subi v497 c0_i32_366
  let c1_i32_367 : BitVec 32 := 1#32
  let v550 : BitVec 32 := Scalar.divsi v548 c1_i32_367
  let v551 : BitVec 32 := Scalar.muli v550 c1_i32_367
  let v552 : BitVec 32 := Scalar.addi c0_i32_366 v551
  let c1_i32_369 : BitVec 32 := 1#32
  let arg11 : BitVec 32 := Scf.iv v552 c1_i32_369 k0_t2
  let c16_i32_421 : BitVec 32 := 16#32
  let v684 : BitVec 32 := Scalar.muli arg11 c16_i32_421
  let v685 : BitVec 32 := Scalar.addi c1_i32_422 v684
  let v762 : BitVec 32 := Scalar.addi v685 c0_i32_477
  let v783 : Index := Scalar.indexCast v762
  let c80_492 : Index := 80#32
  let c0_493 : Index := 0#32
  ![0, v783.toNat, 80, 0]
def k0_mult150 (i : grid0.Coords) (k0_t2 : Fin (k0_t2_loop i).trips) : BitVec 32 :=
  let c1_i32_422 : BitVec 32 := 1#32
  let c0_i32_366 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_314 : BitVec 32 := 1#32
  let v480 : BitVec 32 := Scalar.subi v1 c1_i32_314
  let c0_i32_315 : BitVec 32 := 0#32
  let v482 : BitVec 1 := Scalar.cmpi .sgt v480 c0_i32_315
  let v483 : BitVec 32 := Scalar.extui v482
  let c0_i32_316 : BitVec 32 := 0#32
  let v484 : BitVec 1 := Scalar.cmpi .slt v480 c0_i32_316
  let v485 : BitVec 32 := Scalar.extui v484
  let v486 : BitVec 32 := Scalar.subi v483 v485
  let c16_i32 : BitVec 32 := 16#32
  let c0_i32_317 : BitVec 32 := 0#32
  let v487 : BitVec 1 := Scalar.cmpi .sgt c16_i32 c0_i32_317
  let v488 : BitVec 32 := Scalar.extui v487
  let c0_i32_318 : BitVec 32 := 0#32
  let v489 : BitVec 1 := Scalar.cmpi .slt c16_i32 c0_i32_318
  let v490 : BitVec 32 := Scalar.extui v489
  let v491 : BitVec 32 := Scalar.subi v488 v490
  let v492 : BitVec 1 := Scalar.cmpi .ne v486 v491
  let v493 : BitVec 32 := Scalar.remsi v480 c16_i32
  let c0_i32_319 : BitVec 32 := 0#32
  let v494 : BitVec 1 := Scalar.cmpi .ne v493 c0_i32_319
  let v495 : BitVec 1 := Scalar.andi v492 v494
  let v481 : BitVec 32 := Scalar.divsi v480 c16_i32
  let c1_i32_320 : BitVec 32 := 1#32
  let v496 : BitVec 32 := Scalar.subi v481 c1_i32_320
  let v497 : BitVec 32 := Scalar.select v495 v496 v481
  let v548 : BitVec 32 := Scalar.subi v497 c0_i32_366
  let c1_i32_367 : BitVec 32 := 1#32
  let v550 : BitVec 32 := Scalar.divsi v548 c1_i32_367
  let v551 : BitVec 32 := Scalar.muli v550 c1_i32_367
  let v552 : BitVec 32 := Scalar.addi c0_i32_366 v551
  let c1_i32_369 : BitVec 32 := 1#32
  let arg11 : BitVec 32 := Scf.iv v552 c1_i32_369 k0_t2
  let c16_i32_421 : BitVec 32 := 16#32
  let v684 : BitVec 32 := Scalar.muli arg11 c16_i32_421
  let v685 : BitVec 32 := Scalar.addi c1_i32_422 v684
  let c1_i32_505 : BitVec 32 := 1#32
  let v801 : BitVec 32 := Scalar.addi v685 c1_i32_505
  let c1_i32_506 : BitVec 32 := 1#32
  let v802 : BitVec 32 := Scalar.subi v1 c1_i32_506
  let v803 : BitVec 32 := Scalar.minsi v801 v802
  let c256_i32_507 : BitVec 32 := 256#32
  let v804 : BitVec 32 := Scalar.muli v803 c256_i32_507
  v804
def k0_off18 (i : grid0.Coords) (k0_t2 : Fin (k0_t2_loop i).trips) (c1_i32_505 : BitVec 32) : Fin 3 → Nat :=
  let c0_508 : Index := 0#32
  let c1_i32_422 : BitVec 32 := 1#32
  let c0_i32_366 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_314 : BitVec 32 := 1#32
  let v480 : BitVec 32 := Scalar.subi v1 c1_i32_314
  let c0_i32_315 : BitVec 32 := 0#32
  let v482 : BitVec 1 := Scalar.cmpi .sgt v480 c0_i32_315
  let v483 : BitVec 32 := Scalar.extui v482
  let c0_i32_316 : BitVec 32 := 0#32
  let v484 : BitVec 1 := Scalar.cmpi .slt v480 c0_i32_316
  let v485 : BitVec 32 := Scalar.extui v484
  let v486 : BitVec 32 := Scalar.subi v483 v485
  let c16_i32 : BitVec 32 := 16#32
  let c0_i32_317 : BitVec 32 := 0#32
  let v487 : BitVec 1 := Scalar.cmpi .sgt c16_i32 c0_i32_317
  let v488 : BitVec 32 := Scalar.extui v487
  let c0_i32_318 : BitVec 32 := 0#32
  let v489 : BitVec 1 := Scalar.cmpi .slt c16_i32 c0_i32_318
  let v490 : BitVec 32 := Scalar.extui v489
  let v491 : BitVec 32 := Scalar.subi v488 v490
  let v492 : BitVec 1 := Scalar.cmpi .ne v486 v491
  let v493 : BitVec 32 := Scalar.remsi v480 c16_i32
  let c0_i32_319 : BitVec 32 := 0#32
  let v494 : BitVec 1 := Scalar.cmpi .ne v493 c0_i32_319
  let v495 : BitVec 1 := Scalar.andi v492 v494
  let v481 : BitVec 32 := Scalar.divsi v480 c16_i32
  let c1_i32_320 : BitVec 32 := 1#32
  let v496 : BitVec 32 := Scalar.subi v481 c1_i32_320
  let v497 : BitVec 32 := Scalar.select v495 v496 v481
  let v548 : BitVec 32 := Scalar.subi v497 c0_i32_366
  let c1_i32_367 : BitVec 32 := 1#32
  let v550 : BitVec 32 := Scalar.divsi v548 c1_i32_367
  let v551 : BitVec 32 := Scalar.muli v550 c1_i32_367
  let v552 : BitVec 32 := Scalar.addi c0_i32_366 v551
  let c1_i32_369 : BitVec 32 := 1#32
  let arg11 : BitVec 32 := Scf.iv v552 c1_i32_369 k0_t2
  let c16_i32_421 : BitVec 32 := 16#32
  let v684 : BitVec 32 := Scalar.muli arg11 c16_i32_421
  let v685 : BitVec 32 := Scalar.addi c1_i32_422 v684
  let v801 : BitVec 32 := Scalar.addi v685 c1_i32_505
  let c1_i32_506 : BitVec 32 := 1#32
  let v802 : BitVec 32 := Scalar.subi v1 c1_i32_506
  let v803 : BitVec 32 := Scalar.minsi v801 v802
  let c256_i32_507 : BitVec 32 := 256#32
  let v804 : BitVec 32 := Scalar.muli v803 c256_i32_507
  let v805 : BitVec 32 := v804
  let v806 : Index := Scalar.indexCast v805
  let c0_509 : Index := 0#32
  ![0, v806.toNat, 0]
def k0_mult151 (i : grid0.Coords) (k0_t2 : Fin (k0_t2_loop i).trips) : BitVec 32 :=
  let c1_i32_422 : BitVec 32 := 1#32
  let c0_i32_366 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_314 : BitVec 32 := 1#32
  let v480 : BitVec 32 := Scalar.subi v1 c1_i32_314
  let c0_i32_315 : BitVec 32 := 0#32
  let v482 : BitVec 1 := Scalar.cmpi .sgt v480 c0_i32_315
  let v483 : BitVec 32 := Scalar.extui v482
  let c0_i32_316 : BitVec 32 := 0#32
  let v484 : BitVec 1 := Scalar.cmpi .slt v480 c0_i32_316
  let v485 : BitVec 32 := Scalar.extui v484
  let v486 : BitVec 32 := Scalar.subi v483 v485
  let c16_i32 : BitVec 32 := 16#32
  let c0_i32_317 : BitVec 32 := 0#32
  let v487 : BitVec 1 := Scalar.cmpi .sgt c16_i32 c0_i32_317
  let v488 : BitVec 32 := Scalar.extui v487
  let c0_i32_318 : BitVec 32 := 0#32
  let v489 : BitVec 1 := Scalar.cmpi .slt c16_i32 c0_i32_318
  let v490 : BitVec 32 := Scalar.extui v489
  let v491 : BitVec 32 := Scalar.subi v488 v490
  let v492 : BitVec 1 := Scalar.cmpi .ne v486 v491
  let v493 : BitVec 32 := Scalar.remsi v480 c16_i32
  let c0_i32_319 : BitVec 32 := 0#32
  let v494 : BitVec 1 := Scalar.cmpi .ne v493 c0_i32_319
  let v495 : BitVec 1 := Scalar.andi v492 v494
  let v481 : BitVec 32 := Scalar.divsi v480 c16_i32
  let c1_i32_320 : BitVec 32 := 1#32
  let v496 : BitVec 32 := Scalar.subi v481 c1_i32_320
  let v497 : BitVec 32 := Scalar.select v495 v496 v481
  let v548 : BitVec 32 := Scalar.subi v497 c0_i32_366
  let c1_i32_367 : BitVec 32 := 1#32
  let v550 : BitVec 32 := Scalar.divsi v548 c1_i32_367
  let v551 : BitVec 32 := Scalar.muli v550 c1_i32_367
  let v552 : BitVec 32 := Scalar.addi c0_i32_366 v551
  let c1_i32_369 : BitVec 32 := 1#32
  let arg11 : BitVec 32 := Scf.iv v552 c1_i32_369 k0_t2
  let c16_i32_421 : BitVec 32 := 16#32
  let v684 : BitVec 32 := Scalar.muli arg11 c16_i32_421
  let v685 : BitVec 32 := Scalar.addi c1_i32_422 v684
  let c1_i32_532 : BitVec 32 := 1#32
  let v839 : BitVec 32 := Scalar.addi v685 c1_i32_532
  let c1_i32_533 : BitVec 32 := 1#32
  let v840 : BitVec 32 := Scalar.subi v1 c1_i32_533
  let v841 : BitVec 32 := Scalar.minsi v839 v840
  let c256_i32_534 : BitVec 32 := 256#32
  let v842 : BitVec 32 := Scalar.muli v841 c256_i32_534
  v842
def k0_off19 (i : grid0.Coords) (k0_t2 : Fin (k0_t2_loop i).trips) (c0_i32_531 : BitVec 32) : Fin 4 → Nat :=
  let c0_545 : Index := 0#32
  let c1_i32_422 : BitVec 32 := 1#32
  let c0_i32_366 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_314 : BitVec 32 := 1#32
  let v480 : BitVec 32 := Scalar.subi v1 c1_i32_314
  let c0_i32_315 : BitVec 32 := 0#32
  let v482 : BitVec 1 := Scalar.cmpi .sgt v480 c0_i32_315
  let v483 : BitVec 32 := Scalar.extui v482
  let c0_i32_316 : BitVec 32 := 0#32
  let v484 : BitVec 1 := Scalar.cmpi .slt v480 c0_i32_316
  let v485 : BitVec 32 := Scalar.extui v484
  let v486 : BitVec 32 := Scalar.subi v483 v485
  let c16_i32 : BitVec 32 := 16#32
  let c0_i32_317 : BitVec 32 := 0#32
  let v487 : BitVec 1 := Scalar.cmpi .sgt c16_i32 c0_i32_317
  let v488 : BitVec 32 := Scalar.extui v487
  let c0_i32_318 : BitVec 32 := 0#32
  let v489 : BitVec 1 := Scalar.cmpi .slt c16_i32 c0_i32_318
  let v490 : BitVec 32 := Scalar.extui v489
  let v491 : BitVec 32 := Scalar.subi v488 v490
  let v492 : BitVec 1 := Scalar.cmpi .ne v486 v491
  let v493 : BitVec 32 := Scalar.remsi v480 c16_i32
  let c0_i32_319 : BitVec 32 := 0#32
  let v494 : BitVec 1 := Scalar.cmpi .ne v493 c0_i32_319
  let v495 : BitVec 1 := Scalar.andi v492 v494
  let v481 : BitVec 32 := Scalar.divsi v480 c16_i32
  let c1_i32_320 : BitVec 32 := 1#32
  let v496 : BitVec 32 := Scalar.subi v481 c1_i32_320
  let v497 : BitVec 32 := Scalar.select v495 v496 v481
  let v548 : BitVec 32 := Scalar.subi v497 c0_i32_366
  let c1_i32_367 : BitVec 32 := 1#32
  let v550 : BitVec 32 := Scalar.divsi v548 c1_i32_367
  let v551 : BitVec 32 := Scalar.muli v550 c1_i32_367
  let v552 : BitVec 32 := Scalar.addi c0_i32_366 v551
  let c1_i32_369 : BitVec 32 := 1#32
  let arg11 : BitVec 32 := Scf.iv v552 c1_i32_369 k0_t2
  let c16_i32_421 : BitVec 32 := 16#32
  let v684 : BitVec 32 := Scalar.muli arg11 c16_i32_421
  let v685 : BitVec 32 := Scalar.addi c1_i32_422 v684
  let v838 : BitVec 32 := Scalar.addi v685 c0_i32_531
  let v859 : Index := Scalar.indexCast v838
  let c160_546 : Index := 160#32
  let c0_547 : Index := 0#32
  ![0, v859.toNat, 160, 0]
def k0_mult152 (i : grid0.Coords) (k0_t2 : Fin (k0_t2_loop i).trips) : BitVec 32 :=
  let c1_i32_422 : BitVec 32 := 1#32
  let c0_i32_366 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_314 : BitVec 32 := 1#32
  let v480 : BitVec 32 := Scalar.subi v1 c1_i32_314
  let c0_i32_315 : BitVec 32 := 0#32
  let v482 : BitVec 1 := Scalar.cmpi .sgt v480 c0_i32_315
  let v483 : BitVec 32 := Scalar.extui v482
  let c0_i32_316 : BitVec 32 := 0#32
  let v484 : BitVec 1 := Scalar.cmpi .slt v480 c0_i32_316
  let v485 : BitVec 32 := Scalar.extui v484
  let v486 : BitVec 32 := Scalar.subi v483 v485
  let c16_i32 : BitVec 32 := 16#32
  let c0_i32_317 : BitVec 32 := 0#32
  let v487 : BitVec 1 := Scalar.cmpi .sgt c16_i32 c0_i32_317
  let v488 : BitVec 32 := Scalar.extui v487
  let c0_i32_318 : BitVec 32 := 0#32
  let v489 : BitVec 1 := Scalar.cmpi .slt c16_i32 c0_i32_318
  let v490 : BitVec 32 := Scalar.extui v489
  let v491 : BitVec 32 := Scalar.subi v488 v490
  let v492 : BitVec 1 := Scalar.cmpi .ne v486 v491
  let v493 : BitVec 32 := Scalar.remsi v480 c16_i32
  let c0_i32_319 : BitVec 32 := 0#32
  let v494 : BitVec 1 := Scalar.cmpi .ne v493 c0_i32_319
  let v495 : BitVec 1 := Scalar.andi v492 v494
  let v481 : BitVec 32 := Scalar.divsi v480 c16_i32
  let c1_i32_320 : BitVec 32 := 1#32
  let v496 : BitVec 32 := Scalar.subi v481 c1_i32_320
  let v497 : BitVec 32 := Scalar.select v495 v496 v481
  let v548 : BitVec 32 := Scalar.subi v497 c0_i32_366
  let c1_i32_367 : BitVec 32 := 1#32
  let v550 : BitVec 32 := Scalar.divsi v548 c1_i32_367
  let v551 : BitVec 32 := Scalar.muli v550 c1_i32_367
  let v552 : BitVec 32 := Scalar.addi c0_i32_366 v551
  let c1_i32_369 : BitVec 32 := 1#32
  let arg11 : BitVec 32 := Scf.iv v552 c1_i32_369 k0_t2
  let c16_i32_421 : BitVec 32 := 16#32
  let v684 : BitVec 32 := Scalar.muli arg11 c16_i32_421
  let v685 : BitVec 32 := Scalar.addi c1_i32_422 v684
  let c1_i32_559 : BitVec 32 := 1#32
  let v877 : BitVec 32 := Scalar.addi v685 c1_i32_559
  let c1_i32_560 : BitVec 32 := 1#32
  let v878 : BitVec 32 := Scalar.subi v1 c1_i32_560
  let v879 : BitVec 32 := Scalar.minsi v877 v878
  let c256_i32_561 : BitVec 32 := 256#32
  let v880 : BitVec 32 := Scalar.muli v879 c256_i32_561
  v880
def k0_mult153 (i : grid0.Coords) (k0_t2 : Fin (k0_t2_loop i).trips) : BitVec 32 :=
  let c1_i32_422 : BitVec 32 := 1#32
  let c0_i32_366 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_314 : BitVec 32 := 1#32
  let v480 : BitVec 32 := Scalar.subi v1 c1_i32_314
  let c0_i32_315 : BitVec 32 := 0#32
  let v482 : BitVec 1 := Scalar.cmpi .sgt v480 c0_i32_315
  let v483 : BitVec 32 := Scalar.extui v482
  let c0_i32_316 : BitVec 32 := 0#32
  let v484 : BitVec 1 := Scalar.cmpi .slt v480 c0_i32_316
  let v485 : BitVec 32 := Scalar.extui v484
  let v486 : BitVec 32 := Scalar.subi v483 v485
  let c16_i32 : BitVec 32 := 16#32
  let c0_i32_317 : BitVec 32 := 0#32
  let v487 : BitVec 1 := Scalar.cmpi .sgt c16_i32 c0_i32_317
  let v488 : BitVec 32 := Scalar.extui v487
  let c0_i32_318 : BitVec 32 := 0#32
  let v489 : BitVec 1 := Scalar.cmpi .slt c16_i32 c0_i32_318
  let v490 : BitVec 32 := Scalar.extui v489
  let v491 : BitVec 32 := Scalar.subi v488 v490
  let v492 : BitVec 1 := Scalar.cmpi .ne v486 v491
  let v493 : BitVec 32 := Scalar.remsi v480 c16_i32
  let c0_i32_319 : BitVec 32 := 0#32
  let v494 : BitVec 1 := Scalar.cmpi .ne v493 c0_i32_319
  let v495 : BitVec 1 := Scalar.andi v492 v494
  let v481 : BitVec 32 := Scalar.divsi v480 c16_i32
  let c1_i32_320 : BitVec 32 := 1#32
  let v496 : BitVec 32 := Scalar.subi v481 c1_i32_320
  let v497 : BitVec 32 := Scalar.select v495 v496 v481
  let v548 : BitVec 32 := Scalar.subi v497 c0_i32_366
  let c1_i32_367 : BitVec 32 := 1#32
  let v550 : BitVec 32 := Scalar.divsi v548 c1_i32_367
  let v551 : BitVec 32 := Scalar.muli v550 c1_i32_367
  let v552 : BitVec 32 := Scalar.addi c0_i32_366 v551
  let c1_i32_369 : BitVec 32 := 1#32
  let arg11 : BitVec 32 := Scf.iv v552 c1_i32_369 k0_t2
  let c16_i32_421 : BitVec 32 := 16#32
  let v684 : BitVec 32 := Scalar.muli arg11 c16_i32_421
  let v685 : BitVec 32 := Scalar.addi c1_i32_422 v684
  let c1_i32_586 : BitVec 32 := 1#32
  let v915 : BitVec 32 := Scalar.addi v685 c1_i32_586
  let c1_i32_587 : BitVec 32 := 1#32
  let v916 : BitVec 32 := Scalar.subi v1 c1_i32_587
  let v917 : BitVec 32 := Scalar.minsi v915 v916
  let c256_i32_588 : BitVec 32 := 256#32
  let v918 : BitVec 32 := Scalar.muli v917 c256_i32_588
  v918
def k0_off20 (i : grid0.Coords) (k0_t2 : Fin (k0_t2_loop i).trips) (c0_i32_585 : BitVec 32) : Fin 4 → Nat :=
  let c0_599 : Index := 0#32
  let c1_i32_422 : BitVec 32 := 1#32
  let c0_i32_366 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_314 : BitVec 32 := 1#32
  let v480 : BitVec 32 := Scalar.subi v1 c1_i32_314
  let c0_i32_315 : BitVec 32 := 0#32
  let v482 : BitVec 1 := Scalar.cmpi .sgt v480 c0_i32_315
  let v483 : BitVec 32 := Scalar.extui v482
  let c0_i32_316 : BitVec 32 := 0#32
  let v484 : BitVec 1 := Scalar.cmpi .slt v480 c0_i32_316
  let v485 : BitVec 32 := Scalar.extui v484
  let v486 : BitVec 32 := Scalar.subi v483 v485
  let c16_i32 : BitVec 32 := 16#32
  let c0_i32_317 : BitVec 32 := 0#32
  let v487 : BitVec 1 := Scalar.cmpi .sgt c16_i32 c0_i32_317
  let v488 : BitVec 32 := Scalar.extui v487
  let c0_i32_318 : BitVec 32 := 0#32
  let v489 : BitVec 1 := Scalar.cmpi .slt c16_i32 c0_i32_318
  let v490 : BitVec 32 := Scalar.extui v489
  let v491 : BitVec 32 := Scalar.subi v488 v490
  let v492 : BitVec 1 := Scalar.cmpi .ne v486 v491
  let v493 : BitVec 32 := Scalar.remsi v480 c16_i32
  let c0_i32_319 : BitVec 32 := 0#32
  let v494 : BitVec 1 := Scalar.cmpi .ne v493 c0_i32_319
  let v495 : BitVec 1 := Scalar.andi v492 v494
  let v481 : BitVec 32 := Scalar.divsi v480 c16_i32
  let c1_i32_320 : BitVec 32 := 1#32
  let v496 : BitVec 32 := Scalar.subi v481 c1_i32_320
  let v497 : BitVec 32 := Scalar.select v495 v496 v481
  let v548 : BitVec 32 := Scalar.subi v497 c0_i32_366
  let c1_i32_367 : BitVec 32 := 1#32
  let v550 : BitVec 32 := Scalar.divsi v548 c1_i32_367
  let v551 : BitVec 32 := Scalar.muli v550 c1_i32_367
  let v552 : BitVec 32 := Scalar.addi c0_i32_366 v551
  let c1_i32_369 : BitVec 32 := 1#32
  let arg11 : BitVec 32 := Scf.iv v552 c1_i32_369 k0_t2
  let c16_i32_421 : BitVec 32 := 16#32
  let v684 : BitVec 32 := Scalar.muli arg11 c16_i32_421
  let v685 : BitVec 32 := Scalar.addi c1_i32_422 v684
  let v914 : BitVec 32 := Scalar.addi v685 c0_i32_585
  let v935 : Index := Scalar.indexCast v914
  let c240_600 : Index := 240#32
  let c0_601 : Index := 0#32
  ![0, v935.toNat, 240, 0]
def k0_mult154 (i : grid0.Coords) (k0_t2 : Fin (k0_t2_loop i).trips) : BitVec 32 :=
  let c1_i32_422 : BitVec 32 := 1#32
  let c0_i32_366 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_314 : BitVec 32 := 1#32
  let v480 : BitVec 32 := Scalar.subi v1 c1_i32_314
  let c0_i32_315 : BitVec 32 := 0#32
  let v482 : BitVec 1 := Scalar.cmpi .sgt v480 c0_i32_315
  let v483 : BitVec 32 := Scalar.extui v482
  let c0_i32_316 : BitVec 32 := 0#32
  let v484 : BitVec 1 := Scalar.cmpi .slt v480 c0_i32_316
  let v485 : BitVec 32 := Scalar.extui v484
  let v486 : BitVec 32 := Scalar.subi v483 v485
  let c16_i32 : BitVec 32 := 16#32
  let c0_i32_317 : BitVec 32 := 0#32
  let v487 : BitVec 1 := Scalar.cmpi .sgt c16_i32 c0_i32_317
  let v488 : BitVec 32 := Scalar.extui v487
  let c0_i32_318 : BitVec 32 := 0#32
  let v489 : BitVec 1 := Scalar.cmpi .slt c16_i32 c0_i32_318
  let v490 : BitVec 32 := Scalar.extui v489
  let v491 : BitVec 32 := Scalar.subi v488 v490
  let v492 : BitVec 1 := Scalar.cmpi .ne v486 v491
  let v493 : BitVec 32 := Scalar.remsi v480 c16_i32
  let c0_i32_319 : BitVec 32 := 0#32
  let v494 : BitVec 1 := Scalar.cmpi .ne v493 c0_i32_319
  let v495 : BitVec 1 := Scalar.andi v492 v494
  let v481 : BitVec 32 := Scalar.divsi v480 c16_i32
  let c1_i32_320 : BitVec 32 := 1#32
  let v496 : BitVec 32 := Scalar.subi v481 c1_i32_320
  let v497 : BitVec 32 := Scalar.select v495 v496 v481
  let v548 : BitVec 32 := Scalar.subi v497 c0_i32_366
  let c1_i32_367 : BitVec 32 := 1#32
  let v550 : BitVec 32 := Scalar.divsi v548 c1_i32_367
  let v551 : BitVec 32 := Scalar.muli v550 c1_i32_367
  let v552 : BitVec 32 := Scalar.addi c0_i32_366 v551
  let c1_i32_369 : BitVec 32 := 1#32
  let arg11 : BitVec 32 := Scf.iv v552 c1_i32_369 k0_t2
  let c16_i32_421 : BitVec 32 := 16#32
  let v684 : BitVec 32 := Scalar.muli arg11 c16_i32_421
  let v685 : BitVec 32 := Scalar.addi c1_i32_422 v684
  let c1_i32_613 : BitVec 32 := 1#32
  let v953 : BitVec 32 := Scalar.addi v685 c1_i32_613
  let c1_i32_614 : BitVec 32 := 1#32
  let v954 : BitVec 32 := Scalar.subi v1 c1_i32_614
  let v955 : BitVec 32 := Scalar.minsi v953 v954
  let c256_i32_615 : BitVec 32 := 256#32
  let v956 : BitVec 32 := Scalar.muli v955 c256_i32_615
  v956
def k0_mult155 (i : grid0.Coords) (k0_t2 : Fin (k0_t2_loop i).trips) : BitVec 32 :=
  let c1_i32_422 : BitVec 32 := 1#32
  let c0_i32_366 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_314 : BitVec 32 := 1#32
  let v480 : BitVec 32 := Scalar.subi v1 c1_i32_314
  let c0_i32_315 : BitVec 32 := 0#32
  let v482 : BitVec 1 := Scalar.cmpi .sgt v480 c0_i32_315
  let v483 : BitVec 32 := Scalar.extui v482
  let c0_i32_316 : BitVec 32 := 0#32
  let v484 : BitVec 1 := Scalar.cmpi .slt v480 c0_i32_316
  let v485 : BitVec 32 := Scalar.extui v484
  let v486 : BitVec 32 := Scalar.subi v483 v485
  let c16_i32 : BitVec 32 := 16#32
  let c0_i32_317 : BitVec 32 := 0#32
  let v487 : BitVec 1 := Scalar.cmpi .sgt c16_i32 c0_i32_317
  let v488 : BitVec 32 := Scalar.extui v487
  let c0_i32_318 : BitVec 32 := 0#32
  let v489 : BitVec 1 := Scalar.cmpi .slt c16_i32 c0_i32_318
  let v490 : BitVec 32 := Scalar.extui v489
  let v491 : BitVec 32 := Scalar.subi v488 v490
  let v492 : BitVec 1 := Scalar.cmpi .ne v486 v491
  let v493 : BitVec 32 := Scalar.remsi v480 c16_i32
  let c0_i32_319 : BitVec 32 := 0#32
  let v494 : BitVec 1 := Scalar.cmpi .ne v493 c0_i32_319
  let v495 : BitVec 1 := Scalar.andi v492 v494
  let v481 : BitVec 32 := Scalar.divsi v480 c16_i32
  let c1_i32_320 : BitVec 32 := 1#32
  let v496 : BitVec 32 := Scalar.subi v481 c1_i32_320
  let v497 : BitVec 32 := Scalar.select v495 v496 v481
  let v548 : BitVec 32 := Scalar.subi v497 c0_i32_366
  let c1_i32_367 : BitVec 32 := 1#32
  let v550 : BitVec 32 := Scalar.divsi v548 c1_i32_367
  let v551 : BitVec 32 := Scalar.muli v550 c1_i32_367
  let v552 : BitVec 32 := Scalar.addi c0_i32_366 v551
  let c1_i32_369 : BitVec 32 := 1#32
  let arg11 : BitVec 32 := Scf.iv v552 c1_i32_369 k0_t2
  let c16_i32_421 : BitVec 32 := 16#32
  let v684 : BitVec 32 := Scalar.muli arg11 c16_i32_421
  let v685 : BitVec 32 := Scalar.addi c1_i32_422 v684
  let c1_i32_640 : BitVec 32 := 1#32
  let v991 : BitVec 32 := Scalar.addi v685 c1_i32_640
  let c1_i32_641 : BitVec 32 := 1#32
  let v992 : BitVec 32 := Scalar.subi v1 c1_i32_641
  let v993 : BitVec 32 := Scalar.minsi v991 v992
  let c256_i32_642 : BitVec 32 := 256#32
  let v994 : BitVec 32 := Scalar.muli v993 c256_i32_642
  v994
def k0_mult156 (i : grid0.Coords) (k0_t2 : Fin (k0_t2_loop i).trips) : BitVec 32 :=
  let c1_i32_422 : BitVec 32 := 1#32
  let c0_i32_366 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_314 : BitVec 32 := 1#32
  let v480 : BitVec 32 := Scalar.subi v1 c1_i32_314
  let c0_i32_315 : BitVec 32 := 0#32
  let v482 : BitVec 1 := Scalar.cmpi .sgt v480 c0_i32_315
  let v483 : BitVec 32 := Scalar.extui v482
  let c0_i32_316 : BitVec 32 := 0#32
  let v484 : BitVec 1 := Scalar.cmpi .slt v480 c0_i32_316
  let v485 : BitVec 32 := Scalar.extui v484
  let v486 : BitVec 32 := Scalar.subi v483 v485
  let c16_i32 : BitVec 32 := 16#32
  let c0_i32_317 : BitVec 32 := 0#32
  let v487 : BitVec 1 := Scalar.cmpi .sgt c16_i32 c0_i32_317
  let v488 : BitVec 32 := Scalar.extui v487
  let c0_i32_318 : BitVec 32 := 0#32
  let v489 : BitVec 1 := Scalar.cmpi .slt c16_i32 c0_i32_318
  let v490 : BitVec 32 := Scalar.extui v489
  let v491 : BitVec 32 := Scalar.subi v488 v490
  let v492 : BitVec 1 := Scalar.cmpi .ne v486 v491
  let v493 : BitVec 32 := Scalar.remsi v480 c16_i32
  let c0_i32_319 : BitVec 32 := 0#32
  let v494 : BitVec 1 := Scalar.cmpi .ne v493 c0_i32_319
  let v495 : BitVec 1 := Scalar.andi v492 v494
  let v481 : BitVec 32 := Scalar.divsi v480 c16_i32
  let c1_i32_320 : BitVec 32 := 1#32
  let v496 : BitVec 32 := Scalar.subi v481 c1_i32_320
  let v497 : BitVec 32 := Scalar.select v495 v496 v481
  let v548 : BitVec 32 := Scalar.subi v497 c0_i32_366
  let c1_i32_367 : BitVec 32 := 1#32
  let v550 : BitVec 32 := Scalar.divsi v548 c1_i32_367
  let v551 : BitVec 32 := Scalar.muli v550 c1_i32_367
  let v552 : BitVec 32 := Scalar.addi c0_i32_366 v551
  let c1_i32_369 : BitVec 32 := 1#32
  let arg11 : BitVec 32 := Scf.iv v552 c1_i32_369 k0_t2
  let c16_i32_421 : BitVec 32 := 16#32
  let v684 : BitVec 32 := Scalar.muli arg11 c16_i32_421
  let v685 : BitVec 32 := Scalar.addi c1_i32_422 v684
  let c1_i32_667 : BitVec 32 := 1#32
  let v1029 : BitVec 32 := Scalar.addi v685 c1_i32_667
  let c1_i32_668 : BitVec 32 := 1#32
  let v1030 : BitVec 32 := Scalar.subi v1 c1_i32_668
  let v1031 : BitVec 32 := Scalar.minsi v1029 v1030
  let c256_i32_669 : BitVec 32 := 256#32
  let v1032 : BitVec 32 := Scalar.muli v1031 c256_i32_669
  v1032
def k0_mult157 (i : grid0.Coords) (k0_t2 : Fin (k0_t2_loop i).trips) : BitVec 32 :=
  let c1_i32_422 : BitVec 32 := 1#32
  let c0_i32_366 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_314 : BitVec 32 := 1#32
  let v480 : BitVec 32 := Scalar.subi v1 c1_i32_314
  let c0_i32_315 : BitVec 32 := 0#32
  let v482 : BitVec 1 := Scalar.cmpi .sgt v480 c0_i32_315
  let v483 : BitVec 32 := Scalar.extui v482
  let c0_i32_316 : BitVec 32 := 0#32
  let v484 : BitVec 1 := Scalar.cmpi .slt v480 c0_i32_316
  let v485 : BitVec 32 := Scalar.extui v484
  let v486 : BitVec 32 := Scalar.subi v483 v485
  let c16_i32 : BitVec 32 := 16#32
  let c0_i32_317 : BitVec 32 := 0#32
  let v487 : BitVec 1 := Scalar.cmpi .sgt c16_i32 c0_i32_317
  let v488 : BitVec 32 := Scalar.extui v487
  let c0_i32_318 : BitVec 32 := 0#32
  let v489 : BitVec 1 := Scalar.cmpi .slt c16_i32 c0_i32_318
  let v490 : BitVec 32 := Scalar.extui v489
  let v491 : BitVec 32 := Scalar.subi v488 v490
  let v492 : BitVec 1 := Scalar.cmpi .ne v486 v491
  let v493 : BitVec 32 := Scalar.remsi v480 c16_i32
  let c0_i32_319 : BitVec 32 := 0#32
  let v494 : BitVec 1 := Scalar.cmpi .ne v493 c0_i32_319
  let v495 : BitVec 1 := Scalar.andi v492 v494
  let v481 : BitVec 32 := Scalar.divsi v480 c16_i32
  let c1_i32_320 : BitVec 32 := 1#32
  let v496 : BitVec 32 := Scalar.subi v481 c1_i32_320
  let v497 : BitVec 32 := Scalar.select v495 v496 v481
  let v548 : BitVec 32 := Scalar.subi v497 c0_i32_366
  let c1_i32_367 : BitVec 32 := 1#32
  let v550 : BitVec 32 := Scalar.divsi v548 c1_i32_367
  let v551 : BitVec 32 := Scalar.muli v550 c1_i32_367
  let v552 : BitVec 32 := Scalar.addi c0_i32_366 v551
  let c1_i32_369 : BitVec 32 := 1#32
  let arg11 : BitVec 32 := Scf.iv v552 c1_i32_369 k0_t2
  let c16_i32_421 : BitVec 32 := 16#32
  let v684 : BitVec 32 := Scalar.muli arg11 c16_i32_421
  let v685 : BitVec 32 := Scalar.addi c1_i32_422 v684
  let c1_i32_694 : BitVec 32 := 1#32
  let v1067 : BitVec 32 := Scalar.addi v685 c1_i32_694
  let c1_i32_695 : BitVec 32 := 1#32
  let v1068 : BitVec 32 := Scalar.subi v1 c1_i32_695
  let v1069 : BitVec 32 := Scalar.minsi v1067 v1068
  let c256_i32_696 : BitVec 32 := 256#32
  let v1070 : BitVec 32 := Scalar.muli v1069 c256_i32_696
  v1070
def k0_mult158 (i : grid0.Coords) (k0_t2 : Fin (k0_t2_loop i).trips) : BitVec 32 :=
  let c1_i32_422 : BitVec 32 := 1#32
  let c0_i32_366 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_314 : BitVec 32 := 1#32
  let v480 : BitVec 32 := Scalar.subi v1 c1_i32_314
  let c0_i32_315 : BitVec 32 := 0#32
  let v482 : BitVec 1 := Scalar.cmpi .sgt v480 c0_i32_315
  let v483 : BitVec 32 := Scalar.extui v482
  let c0_i32_316 : BitVec 32 := 0#32
  let v484 : BitVec 1 := Scalar.cmpi .slt v480 c0_i32_316
  let v485 : BitVec 32 := Scalar.extui v484
  let v486 : BitVec 32 := Scalar.subi v483 v485
  let c16_i32 : BitVec 32 := 16#32
  let c0_i32_317 : BitVec 32 := 0#32
  let v487 : BitVec 1 := Scalar.cmpi .sgt c16_i32 c0_i32_317
  let v488 : BitVec 32 := Scalar.extui v487
  let c0_i32_318 : BitVec 32 := 0#32
  let v489 : BitVec 1 := Scalar.cmpi .slt c16_i32 c0_i32_318
  let v490 : BitVec 32 := Scalar.extui v489
  let v491 : BitVec 32 := Scalar.subi v488 v490
  let v492 : BitVec 1 := Scalar.cmpi .ne v486 v491
  let v493 : BitVec 32 := Scalar.remsi v480 c16_i32
  let c0_i32_319 : BitVec 32 := 0#32
  let v494 : BitVec 1 := Scalar.cmpi .ne v493 c0_i32_319
  let v495 : BitVec 1 := Scalar.andi v492 v494
  let v481 : BitVec 32 := Scalar.divsi v480 c16_i32
  let c1_i32_320 : BitVec 32 := 1#32
  let v496 : BitVec 32 := Scalar.subi v481 c1_i32_320
  let v497 : BitVec 32 := Scalar.select v495 v496 v481
  let v548 : BitVec 32 := Scalar.subi v497 c0_i32_366
  let c1_i32_367 : BitVec 32 := 1#32
  let v550 : BitVec 32 := Scalar.divsi v548 c1_i32_367
  let v551 : BitVec 32 := Scalar.muli v550 c1_i32_367
  let v552 : BitVec 32 := Scalar.addi c0_i32_366 v551
  let c1_i32_369 : BitVec 32 := 1#32
  let arg11 : BitVec 32 := Scf.iv v552 c1_i32_369 k0_t2
  let c16_i32_421 : BitVec 32 := 16#32
  let v684 : BitVec 32 := Scalar.muli arg11 c16_i32_421
  let v685 : BitVec 32 := Scalar.addi c1_i32_422 v684
  let c2_i32 : BitVec 32 := 2#32
  let v1105 : BitVec 32 := Scalar.addi v685 c2_i32
  let c1_i32_721 : BitVec 32 := 1#32
  let v1106 : BitVec 32 := Scalar.subi v1 c1_i32_721
  let v1107 : BitVec 32 := Scalar.minsi v1105 v1106
  let c256_i32_722 : BitVec 32 := 256#32
  let v1108 : BitVec 32 := Scalar.muli v1107 c256_i32_722
  v1108
def k0_mult159 (i : grid0.Coords) (k0_t2 : Fin (k0_t2_loop i).trips) : BitVec 32 :=
  let c1_i32_422 : BitVec 32 := 1#32
  let c0_i32_366 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_314 : BitVec 32 := 1#32
  let v480 : BitVec 32 := Scalar.subi v1 c1_i32_314
  let c0_i32_315 : BitVec 32 := 0#32
  let v482 : BitVec 1 := Scalar.cmpi .sgt v480 c0_i32_315
  let v483 : BitVec 32 := Scalar.extui v482
  let c0_i32_316 : BitVec 32 := 0#32
  let v484 : BitVec 1 := Scalar.cmpi .slt v480 c0_i32_316
  let v485 : BitVec 32 := Scalar.extui v484
  let v486 : BitVec 32 := Scalar.subi v483 v485
  let c16_i32 : BitVec 32 := 16#32
  let c0_i32_317 : BitVec 32 := 0#32
  let v487 : BitVec 1 := Scalar.cmpi .sgt c16_i32 c0_i32_317
  let v488 : BitVec 32 := Scalar.extui v487
  let c0_i32_318 : BitVec 32 := 0#32
  let v489 : BitVec 1 := Scalar.cmpi .slt c16_i32 c0_i32_318
  let v490 : BitVec 32 := Scalar.extui v489
  let v491 : BitVec 32 := Scalar.subi v488 v490
  let v492 : BitVec 1 := Scalar.cmpi .ne v486 v491
  let v493 : BitVec 32 := Scalar.remsi v480 c16_i32
  let c0_i32_319 : BitVec 32 := 0#32
  let v494 : BitVec 1 := Scalar.cmpi .ne v493 c0_i32_319
  let v495 : BitVec 1 := Scalar.andi v492 v494
  let v481 : BitVec 32 := Scalar.divsi v480 c16_i32
  let c1_i32_320 : BitVec 32 := 1#32
  let v496 : BitVec 32 := Scalar.subi v481 c1_i32_320
  let v497 : BitVec 32 := Scalar.select v495 v496 v481
  let v548 : BitVec 32 := Scalar.subi v497 c0_i32_366
  let c1_i32_367 : BitVec 32 := 1#32
  let v550 : BitVec 32 := Scalar.divsi v548 c1_i32_367
  let v551 : BitVec 32 := Scalar.muli v550 c1_i32_367
  let v552 : BitVec 32 := Scalar.addi c0_i32_366 v551
  let c1_i32_369 : BitVec 32 := 1#32
  let arg11 : BitVec 32 := Scf.iv v552 c1_i32_369 k0_t2
  let c16_i32_421 : BitVec 32 := 16#32
  let v684 : BitVec 32 := Scalar.muli arg11 c16_i32_421
  let v685 : BitVec 32 := Scalar.addi c1_i32_422 v684
  let c2_i32_747 : BitVec 32 := 2#32
  let v1143 : BitVec 32 := Scalar.addi v685 c2_i32_747
  let c1_i32_748 : BitVec 32 := 1#32
  let v1144 : BitVec 32 := Scalar.subi v1 c1_i32_748
  let v1145 : BitVec 32 := Scalar.minsi v1143 v1144
  let c256_i32_749 : BitVec 32 := 256#32
  let v1146 : BitVec 32 := Scalar.muli v1145 c256_i32_749
  v1146
def k0_mult160 (i : grid0.Coords) (k0_t2 : Fin (k0_t2_loop i).trips) : BitVec 32 :=
  let c1_i32_422 : BitVec 32 := 1#32
  let c0_i32_366 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_314 : BitVec 32 := 1#32
  let v480 : BitVec 32 := Scalar.subi v1 c1_i32_314
  let c0_i32_315 : BitVec 32 := 0#32
  let v482 : BitVec 1 := Scalar.cmpi .sgt v480 c0_i32_315
  let v483 : BitVec 32 := Scalar.extui v482
  let c0_i32_316 : BitVec 32 := 0#32
  let v484 : BitVec 1 := Scalar.cmpi .slt v480 c0_i32_316
  let v485 : BitVec 32 := Scalar.extui v484
  let v486 : BitVec 32 := Scalar.subi v483 v485
  let c16_i32 : BitVec 32 := 16#32
  let c0_i32_317 : BitVec 32 := 0#32
  let v487 : BitVec 1 := Scalar.cmpi .sgt c16_i32 c0_i32_317
  let v488 : BitVec 32 := Scalar.extui v487
  let c0_i32_318 : BitVec 32 := 0#32
  let v489 : BitVec 1 := Scalar.cmpi .slt c16_i32 c0_i32_318
  let v490 : BitVec 32 := Scalar.extui v489
  let v491 : BitVec 32 := Scalar.subi v488 v490
  let v492 : BitVec 1 := Scalar.cmpi .ne v486 v491
  let v493 : BitVec 32 := Scalar.remsi v480 c16_i32
  let c0_i32_319 : BitVec 32 := 0#32
  let v494 : BitVec 1 := Scalar.cmpi .ne v493 c0_i32_319
  let v495 : BitVec 1 := Scalar.andi v492 v494
  let v481 : BitVec 32 := Scalar.divsi v480 c16_i32
  let c1_i32_320 : BitVec 32 := 1#32
  let v496 : BitVec 32 := Scalar.subi v481 c1_i32_320
  let v497 : BitVec 32 := Scalar.select v495 v496 v481
  let v548 : BitVec 32 := Scalar.subi v497 c0_i32_366
  let c1_i32_367 : BitVec 32 := 1#32
  let v550 : BitVec 32 := Scalar.divsi v548 c1_i32_367
  let v551 : BitVec 32 := Scalar.muli v550 c1_i32_367
  let v552 : BitVec 32 := Scalar.addi c0_i32_366 v551
  let c1_i32_369 : BitVec 32 := 1#32
  let arg11 : BitVec 32 := Scf.iv v552 c1_i32_369 k0_t2
  let c16_i32_421 : BitVec 32 := 16#32
  let v684 : BitVec 32 := Scalar.muli arg11 c16_i32_421
  let v685 : BitVec 32 := Scalar.addi c1_i32_422 v684
  let c2_i32_774 : BitVec 32 := 2#32
  let v1181 : BitVec 32 := Scalar.addi v685 c2_i32_774
  let c1_i32_775 : BitVec 32 := 1#32
  let v1182 : BitVec 32 := Scalar.subi v1 c1_i32_775
  let v1183 : BitVec 32 := Scalar.minsi v1181 v1182
  let c256_i32_776 : BitVec 32 := 256#32
  let v1184 : BitVec 32 := Scalar.muli v1183 c256_i32_776
  v1184
def k0_mult161 (i : grid0.Coords) (k0_t2 : Fin (k0_t2_loop i).trips) : BitVec 32 :=
  let c1_i32_422 : BitVec 32 := 1#32
  let c0_i32_366 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_314 : BitVec 32 := 1#32
  let v480 : BitVec 32 := Scalar.subi v1 c1_i32_314
  let c0_i32_315 : BitVec 32 := 0#32
  let v482 : BitVec 1 := Scalar.cmpi .sgt v480 c0_i32_315
  let v483 : BitVec 32 := Scalar.extui v482
  let c0_i32_316 : BitVec 32 := 0#32
  let v484 : BitVec 1 := Scalar.cmpi .slt v480 c0_i32_316
  let v485 : BitVec 32 := Scalar.extui v484
  let v486 : BitVec 32 := Scalar.subi v483 v485
  let c16_i32 : BitVec 32 := 16#32
  let c0_i32_317 : BitVec 32 := 0#32
  let v487 : BitVec 1 := Scalar.cmpi .sgt c16_i32 c0_i32_317
  let v488 : BitVec 32 := Scalar.extui v487
  let c0_i32_318 : BitVec 32 := 0#32
  let v489 : BitVec 1 := Scalar.cmpi .slt c16_i32 c0_i32_318
  let v490 : BitVec 32 := Scalar.extui v489
  let v491 : BitVec 32 := Scalar.subi v488 v490
  let v492 : BitVec 1 := Scalar.cmpi .ne v486 v491
  let v493 : BitVec 32 := Scalar.remsi v480 c16_i32
  let c0_i32_319 : BitVec 32 := 0#32
  let v494 : BitVec 1 := Scalar.cmpi .ne v493 c0_i32_319
  let v495 : BitVec 1 := Scalar.andi v492 v494
  let v481 : BitVec 32 := Scalar.divsi v480 c16_i32
  let c1_i32_320 : BitVec 32 := 1#32
  let v496 : BitVec 32 := Scalar.subi v481 c1_i32_320
  let v497 : BitVec 32 := Scalar.select v495 v496 v481
  let v548 : BitVec 32 := Scalar.subi v497 c0_i32_366
  let c1_i32_367 : BitVec 32 := 1#32
  let v550 : BitVec 32 := Scalar.divsi v548 c1_i32_367
  let v551 : BitVec 32 := Scalar.muli v550 c1_i32_367
  let v552 : BitVec 32 := Scalar.addi c0_i32_366 v551
  let c1_i32_369 : BitVec 32 := 1#32
  let arg11 : BitVec 32 := Scf.iv v552 c1_i32_369 k0_t2
  let c16_i32_421 : BitVec 32 := 16#32
  let v684 : BitVec 32 := Scalar.muli arg11 c16_i32_421
  let v685 : BitVec 32 := Scalar.addi c1_i32_422 v684
  let c2_i32_801 : BitVec 32 := 2#32
  let v1219 : BitVec 32 := Scalar.addi v685 c2_i32_801
  let c1_i32_802 : BitVec 32 := 1#32
  let v1220 : BitVec 32 := Scalar.subi v1 c1_i32_802
  let v1221 : BitVec 32 := Scalar.minsi v1219 v1220
  let c256_i32_803 : BitVec 32 := 256#32
  let v1222 : BitVec 32 := Scalar.muli v1221 c256_i32_803
  v1222
def k0_mult162 (i : grid0.Coords) (k0_t2 : Fin (k0_t2_loop i).trips) : BitVec 32 :=
  let c1_i32_422 : BitVec 32 := 1#32
  let c0_i32_366 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_314 : BitVec 32 := 1#32
  let v480 : BitVec 32 := Scalar.subi v1 c1_i32_314
  let c0_i32_315 : BitVec 32 := 0#32
  let v482 : BitVec 1 := Scalar.cmpi .sgt v480 c0_i32_315
  let v483 : BitVec 32 := Scalar.extui v482
  let c0_i32_316 : BitVec 32 := 0#32
  let v484 : BitVec 1 := Scalar.cmpi .slt v480 c0_i32_316
  let v485 : BitVec 32 := Scalar.extui v484
  let v486 : BitVec 32 := Scalar.subi v483 v485
  let c16_i32 : BitVec 32 := 16#32
  let c0_i32_317 : BitVec 32 := 0#32
  let v487 : BitVec 1 := Scalar.cmpi .sgt c16_i32 c0_i32_317
  let v488 : BitVec 32 := Scalar.extui v487
  let c0_i32_318 : BitVec 32 := 0#32
  let v489 : BitVec 1 := Scalar.cmpi .slt c16_i32 c0_i32_318
  let v490 : BitVec 32 := Scalar.extui v489
  let v491 : BitVec 32 := Scalar.subi v488 v490
  let v492 : BitVec 1 := Scalar.cmpi .ne v486 v491
  let v493 : BitVec 32 := Scalar.remsi v480 c16_i32
  let c0_i32_319 : BitVec 32 := 0#32
  let v494 : BitVec 1 := Scalar.cmpi .ne v493 c0_i32_319
  let v495 : BitVec 1 := Scalar.andi v492 v494
  let v481 : BitVec 32 := Scalar.divsi v480 c16_i32
  let c1_i32_320 : BitVec 32 := 1#32
  let v496 : BitVec 32 := Scalar.subi v481 c1_i32_320
  let v497 : BitVec 32 := Scalar.select v495 v496 v481
  let v548 : BitVec 32 := Scalar.subi v497 c0_i32_366
  let c1_i32_367 : BitVec 32 := 1#32
  let v550 : BitVec 32 := Scalar.divsi v548 c1_i32_367
  let v551 : BitVec 32 := Scalar.muli v550 c1_i32_367
  let v552 : BitVec 32 := Scalar.addi c0_i32_366 v551
  let c1_i32_369 : BitVec 32 := 1#32
  let arg11 : BitVec 32 := Scf.iv v552 c1_i32_369 k0_t2
  let c16_i32_421 : BitVec 32 := 16#32
  let v684 : BitVec 32 := Scalar.muli arg11 c16_i32_421
  let v685 : BitVec 32 := Scalar.addi c1_i32_422 v684
  let c2_i32_828 : BitVec 32 := 2#32
  let v1257 : BitVec 32 := Scalar.addi v685 c2_i32_828
  let c1_i32_829 : BitVec 32 := 1#32
  let v1258 : BitVec 32 := Scalar.subi v1 c1_i32_829
  let v1259 : BitVec 32 := Scalar.minsi v1257 v1258
  let c256_i32_830 : BitVec 32 := 256#32
  let v1260 : BitVec 32 := Scalar.muli v1259 c256_i32_830
  v1260
def k0_mult163 (i : grid0.Coords) (k0_t2 : Fin (k0_t2_loop i).trips) : BitVec 32 :=
  let c1_i32_422 : BitVec 32 := 1#32
  let c0_i32_366 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_314 : BitVec 32 := 1#32
  let v480 : BitVec 32 := Scalar.subi v1 c1_i32_314
  let c0_i32_315 : BitVec 32 := 0#32
  let v482 : BitVec 1 := Scalar.cmpi .sgt v480 c0_i32_315
  let v483 : BitVec 32 := Scalar.extui v482
  let c0_i32_316 : BitVec 32 := 0#32
  let v484 : BitVec 1 := Scalar.cmpi .slt v480 c0_i32_316
  let v485 : BitVec 32 := Scalar.extui v484
  let v486 : BitVec 32 := Scalar.subi v483 v485
  let c16_i32 : BitVec 32 := 16#32
  let c0_i32_317 : BitVec 32 := 0#32
  let v487 : BitVec 1 := Scalar.cmpi .sgt c16_i32 c0_i32_317
  let v488 : BitVec 32 := Scalar.extui v487
  let c0_i32_318 : BitVec 32 := 0#32
  let v489 : BitVec 1 := Scalar.cmpi .slt c16_i32 c0_i32_318
  let v490 : BitVec 32 := Scalar.extui v489
  let v491 : BitVec 32 := Scalar.subi v488 v490
  let v492 : BitVec 1 := Scalar.cmpi .ne v486 v491
  let v493 : BitVec 32 := Scalar.remsi v480 c16_i32
  let c0_i32_319 : BitVec 32 := 0#32
  let v494 : BitVec 1 := Scalar.cmpi .ne v493 c0_i32_319
  let v495 : BitVec 1 := Scalar.andi v492 v494
  let v481 : BitVec 32 := Scalar.divsi v480 c16_i32
  let c1_i32_320 : BitVec 32 := 1#32
  let v496 : BitVec 32 := Scalar.subi v481 c1_i32_320
  let v497 : BitVec 32 := Scalar.select v495 v496 v481
  let v548 : BitVec 32 := Scalar.subi v497 c0_i32_366
  let c1_i32_367 : BitVec 32 := 1#32
  let v550 : BitVec 32 := Scalar.divsi v548 c1_i32_367
  let v551 : BitVec 32 := Scalar.muli v550 c1_i32_367
  let v552 : BitVec 32 := Scalar.addi c0_i32_366 v551
  let c1_i32_369 : BitVec 32 := 1#32
  let arg11 : BitVec 32 := Scf.iv v552 c1_i32_369 k0_t2
  let c16_i32_421 : BitVec 32 := 16#32
  let v684 : BitVec 32 := Scalar.muli arg11 c16_i32_421
  let v685 : BitVec 32 := Scalar.addi c1_i32_422 v684
  let c2_i32_855 : BitVec 32 := 2#32
  let v1295 : BitVec 32 := Scalar.addi v685 c2_i32_855
  let c1_i32_856 : BitVec 32 := 1#32
  let v1296 : BitVec 32 := Scalar.subi v1 c1_i32_856
  let v1297 : BitVec 32 := Scalar.minsi v1295 v1296
  let c256_i32_857 : BitVec 32 := 256#32
  let v1298 : BitVec 32 := Scalar.muli v1297 c256_i32_857
  v1298
def k0_mult164 (i : grid0.Coords) (k0_t2 : Fin (k0_t2_loop i).trips) : BitVec 32 :=
  let c1_i32_422 : BitVec 32 := 1#32
  let c0_i32_366 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_314 : BitVec 32 := 1#32
  let v480 : BitVec 32 := Scalar.subi v1 c1_i32_314
  let c0_i32_315 : BitVec 32 := 0#32
  let v482 : BitVec 1 := Scalar.cmpi .sgt v480 c0_i32_315
  let v483 : BitVec 32 := Scalar.extui v482
  let c0_i32_316 : BitVec 32 := 0#32
  let v484 : BitVec 1 := Scalar.cmpi .slt v480 c0_i32_316
  let v485 : BitVec 32 := Scalar.extui v484
  let v486 : BitVec 32 := Scalar.subi v483 v485
  let c16_i32 : BitVec 32 := 16#32
  let c0_i32_317 : BitVec 32 := 0#32
  let v487 : BitVec 1 := Scalar.cmpi .sgt c16_i32 c0_i32_317
  let v488 : BitVec 32 := Scalar.extui v487
  let c0_i32_318 : BitVec 32 := 0#32
  let v489 : BitVec 1 := Scalar.cmpi .slt c16_i32 c0_i32_318
  let v490 : BitVec 32 := Scalar.extui v489
  let v491 : BitVec 32 := Scalar.subi v488 v490
  let v492 : BitVec 1 := Scalar.cmpi .ne v486 v491
  let v493 : BitVec 32 := Scalar.remsi v480 c16_i32
  let c0_i32_319 : BitVec 32 := 0#32
  let v494 : BitVec 1 := Scalar.cmpi .ne v493 c0_i32_319
  let v495 : BitVec 1 := Scalar.andi v492 v494
  let v481 : BitVec 32 := Scalar.divsi v480 c16_i32
  let c1_i32_320 : BitVec 32 := 1#32
  let v496 : BitVec 32 := Scalar.subi v481 c1_i32_320
  let v497 : BitVec 32 := Scalar.select v495 v496 v481
  let v548 : BitVec 32 := Scalar.subi v497 c0_i32_366
  let c1_i32_367 : BitVec 32 := 1#32
  let v550 : BitVec 32 := Scalar.divsi v548 c1_i32_367
  let v551 : BitVec 32 := Scalar.muli v550 c1_i32_367
  let v552 : BitVec 32 := Scalar.addi c0_i32_366 v551
  let c1_i32_369 : BitVec 32 := 1#32
  let arg11 : BitVec 32 := Scf.iv v552 c1_i32_369 k0_t2
  let c16_i32_421 : BitVec 32 := 16#32
  let v684 : BitVec 32 := Scalar.muli arg11 c16_i32_421
  let v685 : BitVec 32 := Scalar.addi c1_i32_422 v684
  let c2_i32_882 : BitVec 32 := 2#32
  let v1333 : BitVec 32 := Scalar.addi v685 c2_i32_882
  let c1_i32_883 : BitVec 32 := 1#32
  let v1334 : BitVec 32 := Scalar.subi v1 c1_i32_883
  let v1335 : BitVec 32 := Scalar.minsi v1333 v1334
  let c256_i32_884 : BitVec 32 := 256#32
  let v1336 : BitVec 32 := Scalar.muli v1335 c256_i32_884
  v1336
def k0_mult165 (i : grid0.Coords) (k0_t2 : Fin (k0_t2_loop i).trips) : BitVec 32 :=
  let c1_i32_422 : BitVec 32 := 1#32
  let c0_i32_366 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_314 : BitVec 32 := 1#32
  let v480 : BitVec 32 := Scalar.subi v1 c1_i32_314
  let c0_i32_315 : BitVec 32 := 0#32
  let v482 : BitVec 1 := Scalar.cmpi .sgt v480 c0_i32_315
  let v483 : BitVec 32 := Scalar.extui v482
  let c0_i32_316 : BitVec 32 := 0#32
  let v484 : BitVec 1 := Scalar.cmpi .slt v480 c0_i32_316
  let v485 : BitVec 32 := Scalar.extui v484
  let v486 : BitVec 32 := Scalar.subi v483 v485
  let c16_i32 : BitVec 32 := 16#32
  let c0_i32_317 : BitVec 32 := 0#32
  let v487 : BitVec 1 := Scalar.cmpi .sgt c16_i32 c0_i32_317
  let v488 : BitVec 32 := Scalar.extui v487
  let c0_i32_318 : BitVec 32 := 0#32
  let v489 : BitVec 1 := Scalar.cmpi .slt c16_i32 c0_i32_318
  let v490 : BitVec 32 := Scalar.extui v489
  let v491 : BitVec 32 := Scalar.subi v488 v490
  let v492 : BitVec 1 := Scalar.cmpi .ne v486 v491
  let v493 : BitVec 32 := Scalar.remsi v480 c16_i32
  let c0_i32_319 : BitVec 32 := 0#32
  let v494 : BitVec 1 := Scalar.cmpi .ne v493 c0_i32_319
  let v495 : BitVec 1 := Scalar.andi v492 v494
  let v481 : BitVec 32 := Scalar.divsi v480 c16_i32
  let c1_i32_320 : BitVec 32 := 1#32
  let v496 : BitVec 32 := Scalar.subi v481 c1_i32_320
  let v497 : BitVec 32 := Scalar.select v495 v496 v481
  let v548 : BitVec 32 := Scalar.subi v497 c0_i32_366
  let c1_i32_367 : BitVec 32 := 1#32
  let v550 : BitVec 32 := Scalar.divsi v548 c1_i32_367
  let v551 : BitVec 32 := Scalar.muli v550 c1_i32_367
  let v552 : BitVec 32 := Scalar.addi c0_i32_366 v551
  let c1_i32_369 : BitVec 32 := 1#32
  let arg11 : BitVec 32 := Scf.iv v552 c1_i32_369 k0_t2
  let c16_i32_421 : BitVec 32 := 16#32
  let v684 : BitVec 32 := Scalar.muli arg11 c16_i32_421
  let v685 : BitVec 32 := Scalar.addi c1_i32_422 v684
  let c2_i32_909 : BitVec 32 := 2#32
  let v1371 : BitVec 32 := Scalar.addi v685 c2_i32_909
  let c1_i32_910 : BitVec 32 := 1#32
  let v1372 : BitVec 32 := Scalar.subi v1 c1_i32_910
  let v1373 : BitVec 32 := Scalar.minsi v1371 v1372
  let c256_i32_911 : BitVec 32 := 256#32
  let v1374 : BitVec 32 := Scalar.muli v1373 c256_i32_911
  v1374
def k0_mult166 (i : grid0.Coords) (k0_t2 : Fin (k0_t2_loop i).trips) : BitVec 32 :=
  let c1_i32_422 : BitVec 32 := 1#32
  let c0_i32_366 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_314 : BitVec 32 := 1#32
  let v480 : BitVec 32 := Scalar.subi v1 c1_i32_314
  let c0_i32_315 : BitVec 32 := 0#32
  let v482 : BitVec 1 := Scalar.cmpi .sgt v480 c0_i32_315
  let v483 : BitVec 32 := Scalar.extui v482
  let c0_i32_316 : BitVec 32 := 0#32
  let v484 : BitVec 1 := Scalar.cmpi .slt v480 c0_i32_316
  let v485 : BitVec 32 := Scalar.extui v484
  let v486 : BitVec 32 := Scalar.subi v483 v485
  let c16_i32 : BitVec 32 := 16#32
  let c0_i32_317 : BitVec 32 := 0#32
  let v487 : BitVec 1 := Scalar.cmpi .sgt c16_i32 c0_i32_317
  let v488 : BitVec 32 := Scalar.extui v487
  let c0_i32_318 : BitVec 32 := 0#32
  let v489 : BitVec 1 := Scalar.cmpi .slt c16_i32 c0_i32_318
  let v490 : BitVec 32 := Scalar.extui v489
  let v491 : BitVec 32 := Scalar.subi v488 v490
  let v492 : BitVec 1 := Scalar.cmpi .ne v486 v491
  let v493 : BitVec 32 := Scalar.remsi v480 c16_i32
  let c0_i32_319 : BitVec 32 := 0#32
  let v494 : BitVec 1 := Scalar.cmpi .ne v493 c0_i32_319
  let v495 : BitVec 1 := Scalar.andi v492 v494
  let v481 : BitVec 32 := Scalar.divsi v480 c16_i32
  let c1_i32_320 : BitVec 32 := 1#32
  let v496 : BitVec 32 := Scalar.subi v481 c1_i32_320
  let v497 : BitVec 32 := Scalar.select v495 v496 v481
  let v548 : BitVec 32 := Scalar.subi v497 c0_i32_366
  let c1_i32_367 : BitVec 32 := 1#32
  let v550 : BitVec 32 := Scalar.divsi v548 c1_i32_367
  let v551 : BitVec 32 := Scalar.muli v550 c1_i32_367
  let v552 : BitVec 32 := Scalar.addi c0_i32_366 v551
  let c1_i32_369 : BitVec 32 := 1#32
  let arg11 : BitVec 32 := Scf.iv v552 c1_i32_369 k0_t2
  let c16_i32_421 : BitVec 32 := 16#32
  let v684 : BitVec 32 := Scalar.muli arg11 c16_i32_421
  let v685 : BitVec 32 := Scalar.addi c1_i32_422 v684
  let c3_i32 : BitVec 32 := 3#32
  let v1409 : BitVec 32 := Scalar.addi v685 c3_i32
  let c1_i32_936 : BitVec 32 := 1#32
  let v1410 : BitVec 32 := Scalar.subi v1 c1_i32_936
  let v1411 : BitVec 32 := Scalar.minsi v1409 v1410
  let c256_i32_937 : BitVec 32 := 256#32
  let v1412 : BitVec 32 := Scalar.muli v1411 c256_i32_937
  v1412
def k0_mult167 (i : grid0.Coords) (k0_t2 : Fin (k0_t2_loop i).trips) : BitVec 32 :=
  let c1_i32_422 : BitVec 32 := 1#32
  let c0_i32_366 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_314 : BitVec 32 := 1#32
  let v480 : BitVec 32 := Scalar.subi v1 c1_i32_314
  let c0_i32_315 : BitVec 32 := 0#32
  let v482 : BitVec 1 := Scalar.cmpi .sgt v480 c0_i32_315
  let v483 : BitVec 32 := Scalar.extui v482
  let c0_i32_316 : BitVec 32 := 0#32
  let v484 : BitVec 1 := Scalar.cmpi .slt v480 c0_i32_316
  let v485 : BitVec 32 := Scalar.extui v484
  let v486 : BitVec 32 := Scalar.subi v483 v485
  let c16_i32 : BitVec 32 := 16#32
  let c0_i32_317 : BitVec 32 := 0#32
  let v487 : BitVec 1 := Scalar.cmpi .sgt c16_i32 c0_i32_317
  let v488 : BitVec 32 := Scalar.extui v487
  let c0_i32_318 : BitVec 32 := 0#32
  let v489 : BitVec 1 := Scalar.cmpi .slt c16_i32 c0_i32_318
  let v490 : BitVec 32 := Scalar.extui v489
  let v491 : BitVec 32 := Scalar.subi v488 v490
  let v492 : BitVec 1 := Scalar.cmpi .ne v486 v491
  let v493 : BitVec 32 := Scalar.remsi v480 c16_i32
  let c0_i32_319 : BitVec 32 := 0#32
  let v494 : BitVec 1 := Scalar.cmpi .ne v493 c0_i32_319
  let v495 : BitVec 1 := Scalar.andi v492 v494
  let v481 : BitVec 32 := Scalar.divsi v480 c16_i32
  let c1_i32_320 : BitVec 32 := 1#32
  let v496 : BitVec 32 := Scalar.subi v481 c1_i32_320
  let v497 : BitVec 32 := Scalar.select v495 v496 v481
  let v548 : BitVec 32 := Scalar.subi v497 c0_i32_366
  let c1_i32_367 : BitVec 32 := 1#32
  let v550 : BitVec 32 := Scalar.divsi v548 c1_i32_367
  let v551 : BitVec 32 := Scalar.muli v550 c1_i32_367
  let v552 : BitVec 32 := Scalar.addi c0_i32_366 v551
  let c1_i32_369 : BitVec 32 := 1#32
  let arg11 : BitVec 32 := Scf.iv v552 c1_i32_369 k0_t2
  let c16_i32_421 : BitVec 32 := 16#32
  let v684 : BitVec 32 := Scalar.muli arg11 c16_i32_421
  let v685 : BitVec 32 := Scalar.addi c1_i32_422 v684
  let c3_i32_962 : BitVec 32 := 3#32
  let v1447 : BitVec 32 := Scalar.addi v685 c3_i32_962
  let c1_i32_963 : BitVec 32 := 1#32
  let v1448 : BitVec 32 := Scalar.subi v1 c1_i32_963
  let v1449 : BitVec 32 := Scalar.minsi v1447 v1448
  let c256_i32_964 : BitVec 32 := 256#32
  let v1450 : BitVec 32 := Scalar.muli v1449 c256_i32_964
  v1450
def k0_mult168 (i : grid0.Coords) (k0_t2 : Fin (k0_t2_loop i).trips) : BitVec 32 :=
  let c1_i32_422 : BitVec 32 := 1#32
  let c0_i32_366 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_314 : BitVec 32 := 1#32
  let v480 : BitVec 32 := Scalar.subi v1 c1_i32_314
  let c0_i32_315 : BitVec 32 := 0#32
  let v482 : BitVec 1 := Scalar.cmpi .sgt v480 c0_i32_315
  let v483 : BitVec 32 := Scalar.extui v482
  let c0_i32_316 : BitVec 32 := 0#32
  let v484 : BitVec 1 := Scalar.cmpi .slt v480 c0_i32_316
  let v485 : BitVec 32 := Scalar.extui v484
  let v486 : BitVec 32 := Scalar.subi v483 v485
  let c16_i32 : BitVec 32 := 16#32
  let c0_i32_317 : BitVec 32 := 0#32
  let v487 : BitVec 1 := Scalar.cmpi .sgt c16_i32 c0_i32_317
  let v488 : BitVec 32 := Scalar.extui v487
  let c0_i32_318 : BitVec 32 := 0#32
  let v489 : BitVec 1 := Scalar.cmpi .slt c16_i32 c0_i32_318
  let v490 : BitVec 32 := Scalar.extui v489
  let v491 : BitVec 32 := Scalar.subi v488 v490
  let v492 : BitVec 1 := Scalar.cmpi .ne v486 v491
  let v493 : BitVec 32 := Scalar.remsi v480 c16_i32
  let c0_i32_319 : BitVec 32 := 0#32
  let v494 : BitVec 1 := Scalar.cmpi .ne v493 c0_i32_319
  let v495 : BitVec 1 := Scalar.andi v492 v494
  let v481 : BitVec 32 := Scalar.divsi v480 c16_i32
  let c1_i32_320 : BitVec 32 := 1#32
  let v496 : BitVec 32 := Scalar.subi v481 c1_i32_320
  let v497 : BitVec 32 := Scalar.select v495 v496 v481
  let v548 : BitVec 32 := Scalar.subi v497 c0_i32_366
  let c1_i32_367 : BitVec 32 := 1#32
  let v550 : BitVec 32 := Scalar.divsi v548 c1_i32_367
  let v551 : BitVec 32 := Scalar.muli v550 c1_i32_367
  let v552 : BitVec 32 := Scalar.addi c0_i32_366 v551
  let c1_i32_369 : BitVec 32 := 1#32
  let arg11 : BitVec 32 := Scf.iv v552 c1_i32_369 k0_t2
  let c16_i32_421 : BitVec 32 := 16#32
  let v684 : BitVec 32 := Scalar.muli arg11 c16_i32_421
  let v685 : BitVec 32 := Scalar.addi c1_i32_422 v684
  let c3_i32_989 : BitVec 32 := 3#32
  let v1485 : BitVec 32 := Scalar.addi v685 c3_i32_989
  let c1_i32_990 : BitVec 32 := 1#32
  let v1486 : BitVec 32 := Scalar.subi v1 c1_i32_990
  let v1487 : BitVec 32 := Scalar.minsi v1485 v1486
  let c256_i32_991 : BitVec 32 := 256#32
  let v1488 : BitVec 32 := Scalar.muli v1487 c256_i32_991
  v1488
def k0_mult169 (i : grid0.Coords) (k0_t2 : Fin (k0_t2_loop i).trips) : BitVec 32 :=
  let c1_i32_422 : BitVec 32 := 1#32
  let c0_i32_366 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_314 : BitVec 32 := 1#32
  let v480 : BitVec 32 := Scalar.subi v1 c1_i32_314
  let c0_i32_315 : BitVec 32 := 0#32
  let v482 : BitVec 1 := Scalar.cmpi .sgt v480 c0_i32_315
  let v483 : BitVec 32 := Scalar.extui v482
  let c0_i32_316 : BitVec 32 := 0#32
  let v484 : BitVec 1 := Scalar.cmpi .slt v480 c0_i32_316
  let v485 : BitVec 32 := Scalar.extui v484
  let v486 : BitVec 32 := Scalar.subi v483 v485
  let c16_i32 : BitVec 32 := 16#32
  let c0_i32_317 : BitVec 32 := 0#32
  let v487 : BitVec 1 := Scalar.cmpi .sgt c16_i32 c0_i32_317
  let v488 : BitVec 32 := Scalar.extui v487
  let c0_i32_318 : BitVec 32 := 0#32
  let v489 : BitVec 1 := Scalar.cmpi .slt c16_i32 c0_i32_318
  let v490 : BitVec 32 := Scalar.extui v489
  let v491 : BitVec 32 := Scalar.subi v488 v490
  let v492 : BitVec 1 := Scalar.cmpi .ne v486 v491
  let v493 : BitVec 32 := Scalar.remsi v480 c16_i32
  let c0_i32_319 : BitVec 32 := 0#32
  let v494 : BitVec 1 := Scalar.cmpi .ne v493 c0_i32_319
  let v495 : BitVec 1 := Scalar.andi v492 v494
  let v481 : BitVec 32 := Scalar.divsi v480 c16_i32
  let c1_i32_320 : BitVec 32 := 1#32
  let v496 : BitVec 32 := Scalar.subi v481 c1_i32_320
  let v497 : BitVec 32 := Scalar.select v495 v496 v481
  let v548 : BitVec 32 := Scalar.subi v497 c0_i32_366
  let c1_i32_367 : BitVec 32 := 1#32
  let v550 : BitVec 32 := Scalar.divsi v548 c1_i32_367
  let v551 : BitVec 32 := Scalar.muli v550 c1_i32_367
  let v552 : BitVec 32 := Scalar.addi c0_i32_366 v551
  let c1_i32_369 : BitVec 32 := 1#32
  let arg11 : BitVec 32 := Scf.iv v552 c1_i32_369 k0_t2
  let c16_i32_421 : BitVec 32 := 16#32
  let v684 : BitVec 32 := Scalar.muli arg11 c16_i32_421
  let v685 : BitVec 32 := Scalar.addi c1_i32_422 v684
  let c3_i32_1016 : BitVec 32 := 3#32
  let v1523 : BitVec 32 := Scalar.addi v685 c3_i32_1016
  let c1_i32_1017 : BitVec 32 := 1#32
  let v1524 : BitVec 32 := Scalar.subi v1 c1_i32_1017
  let v1525 : BitVec 32 := Scalar.minsi v1523 v1524
  let c256_i32_1018 : BitVec 32 := 256#32
  let v1526 : BitVec 32 := Scalar.muli v1525 c256_i32_1018
  v1526
def k0_mult170 (i : grid0.Coords) (k0_t2 : Fin (k0_t2_loop i).trips) : BitVec 32 :=
  let c1_i32_422 : BitVec 32 := 1#32
  let c0_i32_366 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_314 : BitVec 32 := 1#32
  let v480 : BitVec 32 := Scalar.subi v1 c1_i32_314
  let c0_i32_315 : BitVec 32 := 0#32
  let v482 : BitVec 1 := Scalar.cmpi .sgt v480 c0_i32_315
  let v483 : BitVec 32 := Scalar.extui v482
  let c0_i32_316 : BitVec 32 := 0#32
  let v484 : BitVec 1 := Scalar.cmpi .slt v480 c0_i32_316
  let v485 : BitVec 32 := Scalar.extui v484
  let v486 : BitVec 32 := Scalar.subi v483 v485
  let c16_i32 : BitVec 32 := 16#32
  let c0_i32_317 : BitVec 32 := 0#32
  let v487 : BitVec 1 := Scalar.cmpi .sgt c16_i32 c0_i32_317
  let v488 : BitVec 32 := Scalar.extui v487
  let c0_i32_318 : BitVec 32 := 0#32
  let v489 : BitVec 1 := Scalar.cmpi .slt c16_i32 c0_i32_318
  let v490 : BitVec 32 := Scalar.extui v489
  let v491 : BitVec 32 := Scalar.subi v488 v490
  let v492 : BitVec 1 := Scalar.cmpi .ne v486 v491
  let v493 : BitVec 32 := Scalar.remsi v480 c16_i32
  let c0_i32_319 : BitVec 32 := 0#32
  let v494 : BitVec 1 := Scalar.cmpi .ne v493 c0_i32_319
  let v495 : BitVec 1 := Scalar.andi v492 v494
  let v481 : BitVec 32 := Scalar.divsi v480 c16_i32
  let c1_i32_320 : BitVec 32 := 1#32
  let v496 : BitVec 32 := Scalar.subi v481 c1_i32_320
  let v497 : BitVec 32 := Scalar.select v495 v496 v481
  let v548 : BitVec 32 := Scalar.subi v497 c0_i32_366
  let c1_i32_367 : BitVec 32 := 1#32
  let v550 : BitVec 32 := Scalar.divsi v548 c1_i32_367
  let v551 : BitVec 32 := Scalar.muli v550 c1_i32_367
  let v552 : BitVec 32 := Scalar.addi c0_i32_366 v551
  let c1_i32_369 : BitVec 32 := 1#32
  let arg11 : BitVec 32 := Scf.iv v552 c1_i32_369 k0_t2
  let c16_i32_421 : BitVec 32 := 16#32
  let v684 : BitVec 32 := Scalar.muli arg11 c16_i32_421
  let v685 : BitVec 32 := Scalar.addi c1_i32_422 v684
  let c3_i32_1043 : BitVec 32 := 3#32
  let v1561 : BitVec 32 := Scalar.addi v685 c3_i32_1043
  let c1_i32_1044 : BitVec 32 := 1#32
  let v1562 : BitVec 32 := Scalar.subi v1 c1_i32_1044
  let v1563 : BitVec 32 := Scalar.minsi v1561 v1562
  let c256_i32_1045 : BitVec 32 := 256#32
  let v1564 : BitVec 32 := Scalar.muli v1563 c256_i32_1045
  v1564
def k0_mult171 (i : grid0.Coords) (k0_t2 : Fin (k0_t2_loop i).trips) : BitVec 32 :=
  let c1_i32_422 : BitVec 32 := 1#32
  let c0_i32_366 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_314 : BitVec 32 := 1#32
  let v480 : BitVec 32 := Scalar.subi v1 c1_i32_314
  let c0_i32_315 : BitVec 32 := 0#32
  let v482 : BitVec 1 := Scalar.cmpi .sgt v480 c0_i32_315
  let v483 : BitVec 32 := Scalar.extui v482
  let c0_i32_316 : BitVec 32 := 0#32
  let v484 : BitVec 1 := Scalar.cmpi .slt v480 c0_i32_316
  let v485 : BitVec 32 := Scalar.extui v484
  let v486 : BitVec 32 := Scalar.subi v483 v485
  let c16_i32 : BitVec 32 := 16#32
  let c0_i32_317 : BitVec 32 := 0#32
  let v487 : BitVec 1 := Scalar.cmpi .sgt c16_i32 c0_i32_317
  let v488 : BitVec 32 := Scalar.extui v487
  let c0_i32_318 : BitVec 32 := 0#32
  let v489 : BitVec 1 := Scalar.cmpi .slt c16_i32 c0_i32_318
  let v490 : BitVec 32 := Scalar.extui v489
  let v491 : BitVec 32 := Scalar.subi v488 v490
  let v492 : BitVec 1 := Scalar.cmpi .ne v486 v491
  let v493 : BitVec 32 := Scalar.remsi v480 c16_i32
  let c0_i32_319 : BitVec 32 := 0#32
  let v494 : BitVec 1 := Scalar.cmpi .ne v493 c0_i32_319
  let v495 : BitVec 1 := Scalar.andi v492 v494
  let v481 : BitVec 32 := Scalar.divsi v480 c16_i32
  let c1_i32_320 : BitVec 32 := 1#32
  let v496 : BitVec 32 := Scalar.subi v481 c1_i32_320
  let v497 : BitVec 32 := Scalar.select v495 v496 v481
  let v548 : BitVec 32 := Scalar.subi v497 c0_i32_366
  let c1_i32_367 : BitVec 32 := 1#32
  let v550 : BitVec 32 := Scalar.divsi v548 c1_i32_367
  let v551 : BitVec 32 := Scalar.muli v550 c1_i32_367
  let v552 : BitVec 32 := Scalar.addi c0_i32_366 v551
  let c1_i32_369 : BitVec 32 := 1#32
  let arg11 : BitVec 32 := Scf.iv v552 c1_i32_369 k0_t2
  let c16_i32_421 : BitVec 32 := 16#32
  let v684 : BitVec 32 := Scalar.muli arg11 c16_i32_421
  let v685 : BitVec 32 := Scalar.addi c1_i32_422 v684
  let c3_i32_1070 : BitVec 32 := 3#32
  let v1599 : BitVec 32 := Scalar.addi v685 c3_i32_1070
  let c1_i32_1071 : BitVec 32 := 1#32
  let v1600 : BitVec 32 := Scalar.subi v1 c1_i32_1071
  let v1601 : BitVec 32 := Scalar.minsi v1599 v1600
  let c256_i32_1072 : BitVec 32 := 256#32
  let v1602 : BitVec 32 := Scalar.muli v1601 c256_i32_1072
  v1602
def k0_mult172 (i : grid0.Coords) (k0_t2 : Fin (k0_t2_loop i).trips) : BitVec 32 :=
  let c1_i32_422 : BitVec 32 := 1#32
  let c0_i32_366 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_314 : BitVec 32 := 1#32
  let v480 : BitVec 32 := Scalar.subi v1 c1_i32_314
  let c0_i32_315 : BitVec 32 := 0#32
  let v482 : BitVec 1 := Scalar.cmpi .sgt v480 c0_i32_315
  let v483 : BitVec 32 := Scalar.extui v482
  let c0_i32_316 : BitVec 32 := 0#32
  let v484 : BitVec 1 := Scalar.cmpi .slt v480 c0_i32_316
  let v485 : BitVec 32 := Scalar.extui v484
  let v486 : BitVec 32 := Scalar.subi v483 v485
  let c16_i32 : BitVec 32 := 16#32
  let c0_i32_317 : BitVec 32 := 0#32
  let v487 : BitVec 1 := Scalar.cmpi .sgt c16_i32 c0_i32_317
  let v488 : BitVec 32 := Scalar.extui v487
  let c0_i32_318 : BitVec 32 := 0#32
  let v489 : BitVec 1 := Scalar.cmpi .slt c16_i32 c0_i32_318
  let v490 : BitVec 32 := Scalar.extui v489
  let v491 : BitVec 32 := Scalar.subi v488 v490
  let v492 : BitVec 1 := Scalar.cmpi .ne v486 v491
  let v493 : BitVec 32 := Scalar.remsi v480 c16_i32
  let c0_i32_319 : BitVec 32 := 0#32
  let v494 : BitVec 1 := Scalar.cmpi .ne v493 c0_i32_319
  let v495 : BitVec 1 := Scalar.andi v492 v494
  let v481 : BitVec 32 := Scalar.divsi v480 c16_i32
  let c1_i32_320 : BitVec 32 := 1#32
  let v496 : BitVec 32 := Scalar.subi v481 c1_i32_320
  let v497 : BitVec 32 := Scalar.select v495 v496 v481
  let v548 : BitVec 32 := Scalar.subi v497 c0_i32_366
  let c1_i32_367 : BitVec 32 := 1#32
  let v550 : BitVec 32 := Scalar.divsi v548 c1_i32_367
  let v551 : BitVec 32 := Scalar.muli v550 c1_i32_367
  let v552 : BitVec 32 := Scalar.addi c0_i32_366 v551
  let c1_i32_369 : BitVec 32 := 1#32
  let arg11 : BitVec 32 := Scf.iv v552 c1_i32_369 k0_t2
  let c16_i32_421 : BitVec 32 := 16#32
  let v684 : BitVec 32 := Scalar.muli arg11 c16_i32_421
  let v685 : BitVec 32 := Scalar.addi c1_i32_422 v684
  let c3_i32_1097 : BitVec 32 := 3#32
  let v1637 : BitVec 32 := Scalar.addi v685 c3_i32_1097
  let c1_i32_1098 : BitVec 32 := 1#32
  let v1638 : BitVec 32 := Scalar.subi v1 c1_i32_1098
  let v1639 : BitVec 32 := Scalar.minsi v1637 v1638
  let c256_i32_1099 : BitVec 32 := 256#32
  let v1640 : BitVec 32 := Scalar.muli v1639 c256_i32_1099
  v1640
def k0_mult173 (i : grid0.Coords) (k0_t2 : Fin (k0_t2_loop i).trips) : BitVec 32 :=
  let c1_i32_422 : BitVec 32 := 1#32
  let c0_i32_366 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_314 : BitVec 32 := 1#32
  let v480 : BitVec 32 := Scalar.subi v1 c1_i32_314
  let c0_i32_315 : BitVec 32 := 0#32
  let v482 : BitVec 1 := Scalar.cmpi .sgt v480 c0_i32_315
  let v483 : BitVec 32 := Scalar.extui v482
  let c0_i32_316 : BitVec 32 := 0#32
  let v484 : BitVec 1 := Scalar.cmpi .slt v480 c0_i32_316
  let v485 : BitVec 32 := Scalar.extui v484
  let v486 : BitVec 32 := Scalar.subi v483 v485
  let c16_i32 : BitVec 32 := 16#32
  let c0_i32_317 : BitVec 32 := 0#32
  let v487 : BitVec 1 := Scalar.cmpi .sgt c16_i32 c0_i32_317
  let v488 : BitVec 32 := Scalar.extui v487
  let c0_i32_318 : BitVec 32 := 0#32
  let v489 : BitVec 1 := Scalar.cmpi .slt c16_i32 c0_i32_318
  let v490 : BitVec 32 := Scalar.extui v489
  let v491 : BitVec 32 := Scalar.subi v488 v490
  let v492 : BitVec 1 := Scalar.cmpi .ne v486 v491
  let v493 : BitVec 32 := Scalar.remsi v480 c16_i32
  let c0_i32_319 : BitVec 32 := 0#32
  let v494 : BitVec 1 := Scalar.cmpi .ne v493 c0_i32_319
  let v495 : BitVec 1 := Scalar.andi v492 v494
  let v481 : BitVec 32 := Scalar.divsi v480 c16_i32
  let c1_i32_320 : BitVec 32 := 1#32
  let v496 : BitVec 32 := Scalar.subi v481 c1_i32_320
  let v497 : BitVec 32 := Scalar.select v495 v496 v481
  let v548 : BitVec 32 := Scalar.subi v497 c0_i32_366
  let c1_i32_367 : BitVec 32 := 1#32
  let v550 : BitVec 32 := Scalar.divsi v548 c1_i32_367
  let v551 : BitVec 32 := Scalar.muli v550 c1_i32_367
  let v552 : BitVec 32 := Scalar.addi c0_i32_366 v551
  let c1_i32_369 : BitVec 32 := 1#32
  let arg11 : BitVec 32 := Scf.iv v552 c1_i32_369 k0_t2
  let c16_i32_421 : BitVec 32 := 16#32
  let v684 : BitVec 32 := Scalar.muli arg11 c16_i32_421
  let v685 : BitVec 32 := Scalar.addi c1_i32_422 v684
  let c3_i32_1124 : BitVec 32 := 3#32
  let v1675 : BitVec 32 := Scalar.addi v685 c3_i32_1124
  let c1_i32_1125 : BitVec 32 := 1#32
  let v1676 : BitVec 32 := Scalar.subi v1 c1_i32_1125
  let v1677 : BitVec 32 := Scalar.minsi v1675 v1676
  let c256_i32_1126 : BitVec 32 := 256#32
  let v1678 : BitVec 32 := Scalar.muli v1677 c256_i32_1126
  v1678
def k0_mult174 (i : grid0.Coords) (k0_t2 : Fin (k0_t2_loop i).trips) : BitVec 32 :=
  let c1_i32_422 : BitVec 32 := 1#32
  let c0_i32_366 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_314 : BitVec 32 := 1#32
  let v480 : BitVec 32 := Scalar.subi v1 c1_i32_314
  let c0_i32_315 : BitVec 32 := 0#32
  let v482 : BitVec 1 := Scalar.cmpi .sgt v480 c0_i32_315
  let v483 : BitVec 32 := Scalar.extui v482
  let c0_i32_316 : BitVec 32 := 0#32
  let v484 : BitVec 1 := Scalar.cmpi .slt v480 c0_i32_316
  let v485 : BitVec 32 := Scalar.extui v484
  let v486 : BitVec 32 := Scalar.subi v483 v485
  let c16_i32 : BitVec 32 := 16#32
  let c0_i32_317 : BitVec 32 := 0#32
  let v487 : BitVec 1 := Scalar.cmpi .sgt c16_i32 c0_i32_317
  let v488 : BitVec 32 := Scalar.extui v487
  let c0_i32_318 : BitVec 32 := 0#32
  let v489 : BitVec 1 := Scalar.cmpi .slt c16_i32 c0_i32_318
  let v490 : BitVec 32 := Scalar.extui v489
  let v491 : BitVec 32 := Scalar.subi v488 v490
  let v492 : BitVec 1 := Scalar.cmpi .ne v486 v491
  let v493 : BitVec 32 := Scalar.remsi v480 c16_i32
  let c0_i32_319 : BitVec 32 := 0#32
  let v494 : BitVec 1 := Scalar.cmpi .ne v493 c0_i32_319
  let v495 : BitVec 1 := Scalar.andi v492 v494
  let v481 : BitVec 32 := Scalar.divsi v480 c16_i32
  let c1_i32_320 : BitVec 32 := 1#32
  let v496 : BitVec 32 := Scalar.subi v481 c1_i32_320
  let v497 : BitVec 32 := Scalar.select v495 v496 v481
  let v548 : BitVec 32 := Scalar.subi v497 c0_i32_366
  let c1_i32_367 : BitVec 32 := 1#32
  let v550 : BitVec 32 := Scalar.divsi v548 c1_i32_367
  let v551 : BitVec 32 := Scalar.muli v550 c1_i32_367
  let v552 : BitVec 32 := Scalar.addi c0_i32_366 v551
  let c1_i32_369 : BitVec 32 := 1#32
  let arg11 : BitVec 32 := Scf.iv v552 c1_i32_369 k0_t2
  let c16_i32_421 : BitVec 32 := 16#32
  let v684 : BitVec 32 := Scalar.muli arg11 c16_i32_421
  let v685 : BitVec 32 := Scalar.addi c1_i32_422 v684
  let c4_i32 : BitVec 32 := 4#32
  let v1713 : BitVec 32 := Scalar.addi v685 c4_i32
  let c1_i32_1151 : BitVec 32 := 1#32
  let v1714 : BitVec 32 := Scalar.subi v1 c1_i32_1151
  let v1715 : BitVec 32 := Scalar.minsi v1713 v1714
  let c256_i32_1152 : BitVec 32 := 256#32
  let v1716 : BitVec 32 := Scalar.muli v1715 c256_i32_1152
  v1716
def k0_mult175 (i : grid0.Coords) (k0_t2 : Fin (k0_t2_loop i).trips) : BitVec 32 :=
  let c1_i32_422 : BitVec 32 := 1#32
  let c0_i32_366 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_314 : BitVec 32 := 1#32
  let v480 : BitVec 32 := Scalar.subi v1 c1_i32_314
  let c0_i32_315 : BitVec 32 := 0#32
  let v482 : BitVec 1 := Scalar.cmpi .sgt v480 c0_i32_315
  let v483 : BitVec 32 := Scalar.extui v482
  let c0_i32_316 : BitVec 32 := 0#32
  let v484 : BitVec 1 := Scalar.cmpi .slt v480 c0_i32_316
  let v485 : BitVec 32 := Scalar.extui v484
  let v486 : BitVec 32 := Scalar.subi v483 v485
  let c16_i32 : BitVec 32 := 16#32
  let c0_i32_317 : BitVec 32 := 0#32
  let v487 : BitVec 1 := Scalar.cmpi .sgt c16_i32 c0_i32_317
  let v488 : BitVec 32 := Scalar.extui v487
  let c0_i32_318 : BitVec 32 := 0#32
  let v489 : BitVec 1 := Scalar.cmpi .slt c16_i32 c0_i32_318
  let v490 : BitVec 32 := Scalar.extui v489
  let v491 : BitVec 32 := Scalar.subi v488 v490
  let v492 : BitVec 1 := Scalar.cmpi .ne v486 v491
  let v493 : BitVec 32 := Scalar.remsi v480 c16_i32
  let c0_i32_319 : BitVec 32 := 0#32
  let v494 : BitVec 1 := Scalar.cmpi .ne v493 c0_i32_319
  let v495 : BitVec 1 := Scalar.andi v492 v494
  let v481 : BitVec 32 := Scalar.divsi v480 c16_i32
  let c1_i32_320 : BitVec 32 := 1#32
  let v496 : BitVec 32 := Scalar.subi v481 c1_i32_320
  let v497 : BitVec 32 := Scalar.select v495 v496 v481
  let v548 : BitVec 32 := Scalar.subi v497 c0_i32_366
  let c1_i32_367 : BitVec 32 := 1#32
  let v550 : BitVec 32 := Scalar.divsi v548 c1_i32_367
  let v551 : BitVec 32 := Scalar.muli v550 c1_i32_367
  let v552 : BitVec 32 := Scalar.addi c0_i32_366 v551
  let c1_i32_369 : BitVec 32 := 1#32
  let arg11 : BitVec 32 := Scf.iv v552 c1_i32_369 k0_t2
  let c16_i32_421 : BitVec 32 := 16#32
  let v684 : BitVec 32 := Scalar.muli arg11 c16_i32_421
  let v685 : BitVec 32 := Scalar.addi c1_i32_422 v684
  let c4_i32_1177 : BitVec 32 := 4#32
  let v1751 : BitVec 32 := Scalar.addi v685 c4_i32_1177
  let c1_i32_1178 : BitVec 32 := 1#32
  let v1752 : BitVec 32 := Scalar.subi v1 c1_i32_1178
  let v1753 : BitVec 32 := Scalar.minsi v1751 v1752
  let c256_i32_1179 : BitVec 32 := 256#32
  let v1754 : BitVec 32 := Scalar.muli v1753 c256_i32_1179
  v1754
def k0_mult176 (i : grid0.Coords) (k0_t2 : Fin (k0_t2_loop i).trips) : BitVec 32 :=
  let c1_i32_422 : BitVec 32 := 1#32
  let c0_i32_366 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_314 : BitVec 32 := 1#32
  let v480 : BitVec 32 := Scalar.subi v1 c1_i32_314
  let c0_i32_315 : BitVec 32 := 0#32
  let v482 : BitVec 1 := Scalar.cmpi .sgt v480 c0_i32_315
  let v483 : BitVec 32 := Scalar.extui v482
  let c0_i32_316 : BitVec 32 := 0#32
  let v484 : BitVec 1 := Scalar.cmpi .slt v480 c0_i32_316
  let v485 : BitVec 32 := Scalar.extui v484
  let v486 : BitVec 32 := Scalar.subi v483 v485
  let c16_i32 : BitVec 32 := 16#32
  let c0_i32_317 : BitVec 32 := 0#32
  let v487 : BitVec 1 := Scalar.cmpi .sgt c16_i32 c0_i32_317
  let v488 : BitVec 32 := Scalar.extui v487
  let c0_i32_318 : BitVec 32 := 0#32
  let v489 : BitVec 1 := Scalar.cmpi .slt c16_i32 c0_i32_318
  let v490 : BitVec 32 := Scalar.extui v489
  let v491 : BitVec 32 := Scalar.subi v488 v490
  let v492 : BitVec 1 := Scalar.cmpi .ne v486 v491
  let v493 : BitVec 32 := Scalar.remsi v480 c16_i32
  let c0_i32_319 : BitVec 32 := 0#32
  let v494 : BitVec 1 := Scalar.cmpi .ne v493 c0_i32_319
  let v495 : BitVec 1 := Scalar.andi v492 v494
  let v481 : BitVec 32 := Scalar.divsi v480 c16_i32
  let c1_i32_320 : BitVec 32 := 1#32
  let v496 : BitVec 32 := Scalar.subi v481 c1_i32_320
  let v497 : BitVec 32 := Scalar.select v495 v496 v481
  let v548 : BitVec 32 := Scalar.subi v497 c0_i32_366
  let c1_i32_367 : BitVec 32 := 1#32
  let v550 : BitVec 32 := Scalar.divsi v548 c1_i32_367
  let v551 : BitVec 32 := Scalar.muli v550 c1_i32_367
  let v552 : BitVec 32 := Scalar.addi c0_i32_366 v551
  let c1_i32_369 : BitVec 32 := 1#32
  let arg11 : BitVec 32 := Scf.iv v552 c1_i32_369 k0_t2
  let c16_i32_421 : BitVec 32 := 16#32
  let v684 : BitVec 32 := Scalar.muli arg11 c16_i32_421
  let v685 : BitVec 32 := Scalar.addi c1_i32_422 v684
  let c4_i32_1204 : BitVec 32 := 4#32
  let v1789 : BitVec 32 := Scalar.addi v685 c4_i32_1204
  let c1_i32_1205 : BitVec 32 := 1#32
  let v1790 : BitVec 32 := Scalar.subi v1 c1_i32_1205
  let v1791 : BitVec 32 := Scalar.minsi v1789 v1790
  let c256_i32_1206 : BitVec 32 := 256#32
  let v1792 : BitVec 32 := Scalar.muli v1791 c256_i32_1206
  v1792
def k0_mult177 (i : grid0.Coords) (k0_t2 : Fin (k0_t2_loop i).trips) : BitVec 32 :=
  let c1_i32_422 : BitVec 32 := 1#32
  let c0_i32_366 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_314 : BitVec 32 := 1#32
  let v480 : BitVec 32 := Scalar.subi v1 c1_i32_314
  let c0_i32_315 : BitVec 32 := 0#32
  let v482 : BitVec 1 := Scalar.cmpi .sgt v480 c0_i32_315
  let v483 : BitVec 32 := Scalar.extui v482
  let c0_i32_316 : BitVec 32 := 0#32
  let v484 : BitVec 1 := Scalar.cmpi .slt v480 c0_i32_316
  let v485 : BitVec 32 := Scalar.extui v484
  let v486 : BitVec 32 := Scalar.subi v483 v485
  let c16_i32 : BitVec 32 := 16#32
  let c0_i32_317 : BitVec 32 := 0#32
  let v487 : BitVec 1 := Scalar.cmpi .sgt c16_i32 c0_i32_317
  let v488 : BitVec 32 := Scalar.extui v487
  let c0_i32_318 : BitVec 32 := 0#32
  let v489 : BitVec 1 := Scalar.cmpi .slt c16_i32 c0_i32_318
  let v490 : BitVec 32 := Scalar.extui v489
  let v491 : BitVec 32 := Scalar.subi v488 v490
  let v492 : BitVec 1 := Scalar.cmpi .ne v486 v491
  let v493 : BitVec 32 := Scalar.remsi v480 c16_i32
  let c0_i32_319 : BitVec 32 := 0#32
  let v494 : BitVec 1 := Scalar.cmpi .ne v493 c0_i32_319
  let v495 : BitVec 1 := Scalar.andi v492 v494
  let v481 : BitVec 32 := Scalar.divsi v480 c16_i32
  let c1_i32_320 : BitVec 32 := 1#32
  let v496 : BitVec 32 := Scalar.subi v481 c1_i32_320
  let v497 : BitVec 32 := Scalar.select v495 v496 v481
  let v548 : BitVec 32 := Scalar.subi v497 c0_i32_366
  let c1_i32_367 : BitVec 32 := 1#32
  let v550 : BitVec 32 := Scalar.divsi v548 c1_i32_367
  let v551 : BitVec 32 := Scalar.muli v550 c1_i32_367
  let v552 : BitVec 32 := Scalar.addi c0_i32_366 v551
  let c1_i32_369 : BitVec 32 := 1#32
  let arg11 : BitVec 32 := Scf.iv v552 c1_i32_369 k0_t2
  let c16_i32_421 : BitVec 32 := 16#32
  let v684 : BitVec 32 := Scalar.muli arg11 c16_i32_421
  let v685 : BitVec 32 := Scalar.addi c1_i32_422 v684
  let c4_i32_1231 : BitVec 32 := 4#32
  let v1827 : BitVec 32 := Scalar.addi v685 c4_i32_1231
  let c1_i32_1232 : BitVec 32 := 1#32
  let v1828 : BitVec 32 := Scalar.subi v1 c1_i32_1232
  let v1829 : BitVec 32 := Scalar.minsi v1827 v1828
  let c256_i32_1233 : BitVec 32 := 256#32
  let v1830 : BitVec 32 := Scalar.muli v1829 c256_i32_1233
  v1830
def k0_mult178 (i : grid0.Coords) (k0_t2 : Fin (k0_t2_loop i).trips) : BitVec 32 :=
  let c1_i32_422 : BitVec 32 := 1#32
  let c0_i32_366 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_314 : BitVec 32 := 1#32
  let v480 : BitVec 32 := Scalar.subi v1 c1_i32_314
  let c0_i32_315 : BitVec 32 := 0#32
  let v482 : BitVec 1 := Scalar.cmpi .sgt v480 c0_i32_315
  let v483 : BitVec 32 := Scalar.extui v482
  let c0_i32_316 : BitVec 32 := 0#32
  let v484 : BitVec 1 := Scalar.cmpi .slt v480 c0_i32_316
  let v485 : BitVec 32 := Scalar.extui v484
  let v486 : BitVec 32 := Scalar.subi v483 v485
  let c16_i32 : BitVec 32 := 16#32
  let c0_i32_317 : BitVec 32 := 0#32
  let v487 : BitVec 1 := Scalar.cmpi .sgt c16_i32 c0_i32_317
  let v488 : BitVec 32 := Scalar.extui v487
  let c0_i32_318 : BitVec 32 := 0#32
  let v489 : BitVec 1 := Scalar.cmpi .slt c16_i32 c0_i32_318
  let v490 : BitVec 32 := Scalar.extui v489
  let v491 : BitVec 32 := Scalar.subi v488 v490
  let v492 : BitVec 1 := Scalar.cmpi .ne v486 v491
  let v493 : BitVec 32 := Scalar.remsi v480 c16_i32
  let c0_i32_319 : BitVec 32 := 0#32
  let v494 : BitVec 1 := Scalar.cmpi .ne v493 c0_i32_319
  let v495 : BitVec 1 := Scalar.andi v492 v494
  let v481 : BitVec 32 := Scalar.divsi v480 c16_i32
  let c1_i32_320 : BitVec 32 := 1#32
  let v496 : BitVec 32 := Scalar.subi v481 c1_i32_320
  let v497 : BitVec 32 := Scalar.select v495 v496 v481
  let v548 : BitVec 32 := Scalar.subi v497 c0_i32_366
  let c1_i32_367 : BitVec 32 := 1#32
  let v550 : BitVec 32 := Scalar.divsi v548 c1_i32_367
  let v551 : BitVec 32 := Scalar.muli v550 c1_i32_367
  let v552 : BitVec 32 := Scalar.addi c0_i32_366 v551
  let c1_i32_369 : BitVec 32 := 1#32
  let arg11 : BitVec 32 := Scf.iv v552 c1_i32_369 k0_t2
  let c16_i32_421 : BitVec 32 := 16#32
  let v684 : BitVec 32 := Scalar.muli arg11 c16_i32_421
  let v685 : BitVec 32 := Scalar.addi c1_i32_422 v684
  let c4_i32_1258 : BitVec 32 := 4#32
  let v1865 : BitVec 32 := Scalar.addi v685 c4_i32_1258
  let c1_i32_1259 : BitVec 32 := 1#32
  let v1866 : BitVec 32 := Scalar.subi v1 c1_i32_1259
  let v1867 : BitVec 32 := Scalar.minsi v1865 v1866
  let c256_i32_1260 : BitVec 32 := 256#32
  let v1868 : BitVec 32 := Scalar.muli v1867 c256_i32_1260
  v1868
def k0_mult179 (i : grid0.Coords) (k0_t2 : Fin (k0_t2_loop i).trips) : BitVec 32 :=
  let c1_i32_422 : BitVec 32 := 1#32
  let c0_i32_366 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_314 : BitVec 32 := 1#32
  let v480 : BitVec 32 := Scalar.subi v1 c1_i32_314
  let c0_i32_315 : BitVec 32 := 0#32
  let v482 : BitVec 1 := Scalar.cmpi .sgt v480 c0_i32_315
  let v483 : BitVec 32 := Scalar.extui v482
  let c0_i32_316 : BitVec 32 := 0#32
  let v484 : BitVec 1 := Scalar.cmpi .slt v480 c0_i32_316
  let v485 : BitVec 32 := Scalar.extui v484
  let v486 : BitVec 32 := Scalar.subi v483 v485
  let c16_i32 : BitVec 32 := 16#32
  let c0_i32_317 : BitVec 32 := 0#32
  let v487 : BitVec 1 := Scalar.cmpi .sgt c16_i32 c0_i32_317
  let v488 : BitVec 32 := Scalar.extui v487
  let c0_i32_318 : BitVec 32 := 0#32
  let v489 : BitVec 1 := Scalar.cmpi .slt c16_i32 c0_i32_318
  let v490 : BitVec 32 := Scalar.extui v489
  let v491 : BitVec 32 := Scalar.subi v488 v490
  let v492 : BitVec 1 := Scalar.cmpi .ne v486 v491
  let v493 : BitVec 32 := Scalar.remsi v480 c16_i32
  let c0_i32_319 : BitVec 32 := 0#32
  let v494 : BitVec 1 := Scalar.cmpi .ne v493 c0_i32_319
  let v495 : BitVec 1 := Scalar.andi v492 v494
  let v481 : BitVec 32 := Scalar.divsi v480 c16_i32
  let c1_i32_320 : BitVec 32 := 1#32
  let v496 : BitVec 32 := Scalar.subi v481 c1_i32_320
  let v497 : BitVec 32 := Scalar.select v495 v496 v481
  let v548 : BitVec 32 := Scalar.subi v497 c0_i32_366
  let c1_i32_367 : BitVec 32 := 1#32
  let v550 : BitVec 32 := Scalar.divsi v548 c1_i32_367
  let v551 : BitVec 32 := Scalar.muli v550 c1_i32_367
  let v552 : BitVec 32 := Scalar.addi c0_i32_366 v551
  let c1_i32_369 : BitVec 32 := 1#32
  let arg11 : BitVec 32 := Scf.iv v552 c1_i32_369 k0_t2
  let c16_i32_421 : BitVec 32 := 16#32
  let v684 : BitVec 32 := Scalar.muli arg11 c16_i32_421
  let v685 : BitVec 32 := Scalar.addi c1_i32_422 v684
  let c4_i32_1285 : BitVec 32 := 4#32
  let v1903 : BitVec 32 := Scalar.addi v685 c4_i32_1285
  let c1_i32_1286 : BitVec 32 := 1#32
  let v1904 : BitVec 32 := Scalar.subi v1 c1_i32_1286
  let v1905 : BitVec 32 := Scalar.minsi v1903 v1904
  let c256_i32_1287 : BitVec 32 := 256#32
  let v1906 : BitVec 32 := Scalar.muli v1905 c256_i32_1287
  v1906
def k0_mult180 (i : grid0.Coords) (k0_t2 : Fin (k0_t2_loop i).trips) : BitVec 32 :=
  let c1_i32_422 : BitVec 32 := 1#32
  let c0_i32_366 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_314 : BitVec 32 := 1#32
  let v480 : BitVec 32 := Scalar.subi v1 c1_i32_314
  let c0_i32_315 : BitVec 32 := 0#32
  let v482 : BitVec 1 := Scalar.cmpi .sgt v480 c0_i32_315
  let v483 : BitVec 32 := Scalar.extui v482
  let c0_i32_316 : BitVec 32 := 0#32
  let v484 : BitVec 1 := Scalar.cmpi .slt v480 c0_i32_316
  let v485 : BitVec 32 := Scalar.extui v484
  let v486 : BitVec 32 := Scalar.subi v483 v485
  let c16_i32 : BitVec 32 := 16#32
  let c0_i32_317 : BitVec 32 := 0#32
  let v487 : BitVec 1 := Scalar.cmpi .sgt c16_i32 c0_i32_317
  let v488 : BitVec 32 := Scalar.extui v487
  let c0_i32_318 : BitVec 32 := 0#32
  let v489 : BitVec 1 := Scalar.cmpi .slt c16_i32 c0_i32_318
  let v490 : BitVec 32 := Scalar.extui v489
  let v491 : BitVec 32 := Scalar.subi v488 v490
  let v492 : BitVec 1 := Scalar.cmpi .ne v486 v491
  let v493 : BitVec 32 := Scalar.remsi v480 c16_i32
  let c0_i32_319 : BitVec 32 := 0#32
  let v494 : BitVec 1 := Scalar.cmpi .ne v493 c0_i32_319
  let v495 : BitVec 1 := Scalar.andi v492 v494
  let v481 : BitVec 32 := Scalar.divsi v480 c16_i32
  let c1_i32_320 : BitVec 32 := 1#32
  let v496 : BitVec 32 := Scalar.subi v481 c1_i32_320
  let v497 : BitVec 32 := Scalar.select v495 v496 v481
  let v548 : BitVec 32 := Scalar.subi v497 c0_i32_366
  let c1_i32_367 : BitVec 32 := 1#32
  let v550 : BitVec 32 := Scalar.divsi v548 c1_i32_367
  let v551 : BitVec 32 := Scalar.muli v550 c1_i32_367
  let v552 : BitVec 32 := Scalar.addi c0_i32_366 v551
  let c1_i32_369 : BitVec 32 := 1#32
  let arg11 : BitVec 32 := Scf.iv v552 c1_i32_369 k0_t2
  let c16_i32_421 : BitVec 32 := 16#32
  let v684 : BitVec 32 := Scalar.muli arg11 c16_i32_421
  let v685 : BitVec 32 := Scalar.addi c1_i32_422 v684
  let c4_i32_1312 : BitVec 32 := 4#32
  let v1941 : BitVec 32 := Scalar.addi v685 c4_i32_1312
  let c1_i32_1313 : BitVec 32 := 1#32
  let v1942 : BitVec 32 := Scalar.subi v1 c1_i32_1313
  let v1943 : BitVec 32 := Scalar.minsi v1941 v1942
  let c256_i32_1314 : BitVec 32 := 256#32
  let v1944 : BitVec 32 := Scalar.muli v1943 c256_i32_1314
  v1944
def k0_mult181 (i : grid0.Coords) (k0_t2 : Fin (k0_t2_loop i).trips) : BitVec 32 :=
  let c1_i32_422 : BitVec 32 := 1#32
  let c0_i32_366 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_314 : BitVec 32 := 1#32
  let v480 : BitVec 32 := Scalar.subi v1 c1_i32_314
  let c0_i32_315 : BitVec 32 := 0#32
  let v482 : BitVec 1 := Scalar.cmpi .sgt v480 c0_i32_315
  let v483 : BitVec 32 := Scalar.extui v482
  let c0_i32_316 : BitVec 32 := 0#32
  let v484 : BitVec 1 := Scalar.cmpi .slt v480 c0_i32_316
  let v485 : BitVec 32 := Scalar.extui v484
  let v486 : BitVec 32 := Scalar.subi v483 v485
  let c16_i32 : BitVec 32 := 16#32
  let c0_i32_317 : BitVec 32 := 0#32
  let v487 : BitVec 1 := Scalar.cmpi .sgt c16_i32 c0_i32_317
  let v488 : BitVec 32 := Scalar.extui v487
  let c0_i32_318 : BitVec 32 := 0#32
  let v489 : BitVec 1 := Scalar.cmpi .slt c16_i32 c0_i32_318
  let v490 : BitVec 32 := Scalar.extui v489
  let v491 : BitVec 32 := Scalar.subi v488 v490
  let v492 : BitVec 1 := Scalar.cmpi .ne v486 v491
  let v493 : BitVec 32 := Scalar.remsi v480 c16_i32
  let c0_i32_319 : BitVec 32 := 0#32
  let v494 : BitVec 1 := Scalar.cmpi .ne v493 c0_i32_319
  let v495 : BitVec 1 := Scalar.andi v492 v494
  let v481 : BitVec 32 := Scalar.divsi v480 c16_i32
  let c1_i32_320 : BitVec 32 := 1#32
  let v496 : BitVec 32 := Scalar.subi v481 c1_i32_320
  let v497 : BitVec 32 := Scalar.select v495 v496 v481
  let v548 : BitVec 32 := Scalar.subi v497 c0_i32_366
  let c1_i32_367 : BitVec 32 := 1#32
  let v550 : BitVec 32 := Scalar.divsi v548 c1_i32_367
  let v551 : BitVec 32 := Scalar.muli v550 c1_i32_367
  let v552 : BitVec 32 := Scalar.addi c0_i32_366 v551
  let c1_i32_369 : BitVec 32 := 1#32
  let arg11 : BitVec 32 := Scf.iv v552 c1_i32_369 k0_t2
  let c16_i32_421 : BitVec 32 := 16#32
  let v684 : BitVec 32 := Scalar.muli arg11 c16_i32_421
  let v685 : BitVec 32 := Scalar.addi c1_i32_422 v684
  let c4_i32_1339 : BitVec 32 := 4#32
  let v1979 : BitVec 32 := Scalar.addi v685 c4_i32_1339
  let c1_i32_1340 : BitVec 32 := 1#32
  let v1980 : BitVec 32 := Scalar.subi v1 c1_i32_1340
  let v1981 : BitVec 32 := Scalar.minsi v1979 v1980
  let c256_i32_1341 : BitVec 32 := 256#32
  let v1982 : BitVec 32 := Scalar.muli v1981 c256_i32_1341
  v1982
def k0_mult182 (i : grid0.Coords) (k0_t2 : Fin (k0_t2_loop i).trips) : BitVec 32 :=
  let c1_i32_422 : BitVec 32 := 1#32
  let c0_i32_366 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_314 : BitVec 32 := 1#32
  let v480 : BitVec 32 := Scalar.subi v1 c1_i32_314
  let c0_i32_315 : BitVec 32 := 0#32
  let v482 : BitVec 1 := Scalar.cmpi .sgt v480 c0_i32_315
  let v483 : BitVec 32 := Scalar.extui v482
  let c0_i32_316 : BitVec 32 := 0#32
  let v484 : BitVec 1 := Scalar.cmpi .slt v480 c0_i32_316
  let v485 : BitVec 32 := Scalar.extui v484
  let v486 : BitVec 32 := Scalar.subi v483 v485
  let c16_i32 : BitVec 32 := 16#32
  let c0_i32_317 : BitVec 32 := 0#32
  let v487 : BitVec 1 := Scalar.cmpi .sgt c16_i32 c0_i32_317
  let v488 : BitVec 32 := Scalar.extui v487
  let c0_i32_318 : BitVec 32 := 0#32
  let v489 : BitVec 1 := Scalar.cmpi .slt c16_i32 c0_i32_318
  let v490 : BitVec 32 := Scalar.extui v489
  let v491 : BitVec 32 := Scalar.subi v488 v490
  let v492 : BitVec 1 := Scalar.cmpi .ne v486 v491
  let v493 : BitVec 32 := Scalar.remsi v480 c16_i32
  let c0_i32_319 : BitVec 32 := 0#32
  let v494 : BitVec 1 := Scalar.cmpi .ne v493 c0_i32_319
  let v495 : BitVec 1 := Scalar.andi v492 v494
  let v481 : BitVec 32 := Scalar.divsi v480 c16_i32
  let c1_i32_320 : BitVec 32 := 1#32
  let v496 : BitVec 32 := Scalar.subi v481 c1_i32_320
  let v497 : BitVec 32 := Scalar.select v495 v496 v481
  let v548 : BitVec 32 := Scalar.subi v497 c0_i32_366
  let c1_i32_367 : BitVec 32 := 1#32
  let v550 : BitVec 32 := Scalar.divsi v548 c1_i32_367
  let v551 : BitVec 32 := Scalar.muli v550 c1_i32_367
  let v552 : BitVec 32 := Scalar.addi c0_i32_366 v551
  let c1_i32_369 : BitVec 32 := 1#32
  let arg11 : BitVec 32 := Scf.iv v552 c1_i32_369 k0_t2
  let c16_i32_421 : BitVec 32 := 16#32
  let v684 : BitVec 32 := Scalar.muli arg11 c16_i32_421
  let v685 : BitVec 32 := Scalar.addi c1_i32_422 v684
  let c5_i32 : BitVec 32 := 5#32
  let v2017 : BitVec 32 := Scalar.addi v685 c5_i32
  let c1_i32_1366 : BitVec 32 := 1#32
  let v2018 : BitVec 32 := Scalar.subi v1 c1_i32_1366
  let v2019 : BitVec 32 := Scalar.minsi v2017 v2018
  let c256_i32_1367 : BitVec 32 := 256#32
  let v2020 : BitVec 32 := Scalar.muli v2019 c256_i32_1367
  v2020
def k0_mult183 (i : grid0.Coords) (k0_t2 : Fin (k0_t2_loop i).trips) : BitVec 32 :=
  let c1_i32_422 : BitVec 32 := 1#32
  let c0_i32_366 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_314 : BitVec 32 := 1#32
  let v480 : BitVec 32 := Scalar.subi v1 c1_i32_314
  let c0_i32_315 : BitVec 32 := 0#32
  let v482 : BitVec 1 := Scalar.cmpi .sgt v480 c0_i32_315
  let v483 : BitVec 32 := Scalar.extui v482
  let c0_i32_316 : BitVec 32 := 0#32
  let v484 : BitVec 1 := Scalar.cmpi .slt v480 c0_i32_316
  let v485 : BitVec 32 := Scalar.extui v484
  let v486 : BitVec 32 := Scalar.subi v483 v485
  let c16_i32 : BitVec 32 := 16#32
  let c0_i32_317 : BitVec 32 := 0#32
  let v487 : BitVec 1 := Scalar.cmpi .sgt c16_i32 c0_i32_317
  let v488 : BitVec 32 := Scalar.extui v487
  let c0_i32_318 : BitVec 32 := 0#32
  let v489 : BitVec 1 := Scalar.cmpi .slt c16_i32 c0_i32_318
  let v490 : BitVec 32 := Scalar.extui v489
  let v491 : BitVec 32 := Scalar.subi v488 v490
  let v492 : BitVec 1 := Scalar.cmpi .ne v486 v491
  let v493 : BitVec 32 := Scalar.remsi v480 c16_i32
  let c0_i32_319 : BitVec 32 := 0#32
  let v494 : BitVec 1 := Scalar.cmpi .ne v493 c0_i32_319
  let v495 : BitVec 1 := Scalar.andi v492 v494
  let v481 : BitVec 32 := Scalar.divsi v480 c16_i32
  let c1_i32_320 : BitVec 32 := 1#32
  let v496 : BitVec 32 := Scalar.subi v481 c1_i32_320
  let v497 : BitVec 32 := Scalar.select v495 v496 v481
  let v548 : BitVec 32 := Scalar.subi v497 c0_i32_366
  let c1_i32_367 : BitVec 32 := 1#32
  let v550 : BitVec 32 := Scalar.divsi v548 c1_i32_367
  let v551 : BitVec 32 := Scalar.muli v550 c1_i32_367
  let v552 : BitVec 32 := Scalar.addi c0_i32_366 v551
  let c1_i32_369 : BitVec 32 := 1#32
  let arg11 : BitVec 32 := Scf.iv v552 c1_i32_369 k0_t2
  let c16_i32_421 : BitVec 32 := 16#32
  let v684 : BitVec 32 := Scalar.muli arg11 c16_i32_421
  let v685 : BitVec 32 := Scalar.addi c1_i32_422 v684
  let c5_i32_1392 : BitVec 32 := 5#32
  let v2055 : BitVec 32 := Scalar.addi v685 c5_i32_1392
  let c1_i32_1393 : BitVec 32 := 1#32
  let v2056 : BitVec 32 := Scalar.subi v1 c1_i32_1393
  let v2057 : BitVec 32 := Scalar.minsi v2055 v2056
  let c256_i32_1394 : BitVec 32 := 256#32
  let v2058 : BitVec 32 := Scalar.muli v2057 c256_i32_1394
  v2058
def k0_mult184 (i : grid0.Coords) (k0_t2 : Fin (k0_t2_loop i).trips) : BitVec 32 :=
  let c1_i32_422 : BitVec 32 := 1#32
  let c0_i32_366 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_314 : BitVec 32 := 1#32
  let v480 : BitVec 32 := Scalar.subi v1 c1_i32_314
  let c0_i32_315 : BitVec 32 := 0#32
  let v482 : BitVec 1 := Scalar.cmpi .sgt v480 c0_i32_315
  let v483 : BitVec 32 := Scalar.extui v482
  let c0_i32_316 : BitVec 32 := 0#32
  let v484 : BitVec 1 := Scalar.cmpi .slt v480 c0_i32_316
  let v485 : BitVec 32 := Scalar.extui v484
  let v486 : BitVec 32 := Scalar.subi v483 v485
  let c16_i32 : BitVec 32 := 16#32
  let c0_i32_317 : BitVec 32 := 0#32
  let v487 : BitVec 1 := Scalar.cmpi .sgt c16_i32 c0_i32_317
  let v488 : BitVec 32 := Scalar.extui v487
  let c0_i32_318 : BitVec 32 := 0#32
  let v489 : BitVec 1 := Scalar.cmpi .slt c16_i32 c0_i32_318
  let v490 : BitVec 32 := Scalar.extui v489
  let v491 : BitVec 32 := Scalar.subi v488 v490
  let v492 : BitVec 1 := Scalar.cmpi .ne v486 v491
  let v493 : BitVec 32 := Scalar.remsi v480 c16_i32
  let c0_i32_319 : BitVec 32 := 0#32
  let v494 : BitVec 1 := Scalar.cmpi .ne v493 c0_i32_319
  let v495 : BitVec 1 := Scalar.andi v492 v494
  let v481 : BitVec 32 := Scalar.divsi v480 c16_i32
  let c1_i32_320 : BitVec 32 := 1#32
  let v496 : BitVec 32 := Scalar.subi v481 c1_i32_320
  let v497 : BitVec 32 := Scalar.select v495 v496 v481
  let v548 : BitVec 32 := Scalar.subi v497 c0_i32_366
  let c1_i32_367 : BitVec 32 := 1#32
  let v550 : BitVec 32 := Scalar.divsi v548 c1_i32_367
  let v551 : BitVec 32 := Scalar.muli v550 c1_i32_367
  let v552 : BitVec 32 := Scalar.addi c0_i32_366 v551
  let c1_i32_369 : BitVec 32 := 1#32
  let arg11 : BitVec 32 := Scf.iv v552 c1_i32_369 k0_t2
  let c16_i32_421 : BitVec 32 := 16#32
  let v684 : BitVec 32 := Scalar.muli arg11 c16_i32_421
  let v685 : BitVec 32 := Scalar.addi c1_i32_422 v684
  let c5_i32_1419 : BitVec 32 := 5#32
  let v2093 : BitVec 32 := Scalar.addi v685 c5_i32_1419
  let c1_i32_1420 : BitVec 32 := 1#32
  let v2094 : BitVec 32 := Scalar.subi v1 c1_i32_1420
  let v2095 : BitVec 32 := Scalar.minsi v2093 v2094
  let c256_i32_1421 : BitVec 32 := 256#32
  let v2096 : BitVec 32 := Scalar.muli v2095 c256_i32_1421
  v2096
def k0_mult185 (i : grid0.Coords) (k0_t2 : Fin (k0_t2_loop i).trips) : BitVec 32 :=
  let c1_i32_422 : BitVec 32 := 1#32
  let c0_i32_366 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_314 : BitVec 32 := 1#32
  let v480 : BitVec 32 := Scalar.subi v1 c1_i32_314
  let c0_i32_315 : BitVec 32 := 0#32
  let v482 : BitVec 1 := Scalar.cmpi .sgt v480 c0_i32_315
  let v483 : BitVec 32 := Scalar.extui v482
  let c0_i32_316 : BitVec 32 := 0#32
  let v484 : BitVec 1 := Scalar.cmpi .slt v480 c0_i32_316
  let v485 : BitVec 32 := Scalar.extui v484
  let v486 : BitVec 32 := Scalar.subi v483 v485
  let c16_i32 : BitVec 32 := 16#32
  let c0_i32_317 : BitVec 32 := 0#32
  let v487 : BitVec 1 := Scalar.cmpi .sgt c16_i32 c0_i32_317
  let v488 : BitVec 32 := Scalar.extui v487
  let c0_i32_318 : BitVec 32 := 0#32
  let v489 : BitVec 1 := Scalar.cmpi .slt c16_i32 c0_i32_318
  let v490 : BitVec 32 := Scalar.extui v489
  let v491 : BitVec 32 := Scalar.subi v488 v490
  let v492 : BitVec 1 := Scalar.cmpi .ne v486 v491
  let v493 : BitVec 32 := Scalar.remsi v480 c16_i32
  let c0_i32_319 : BitVec 32 := 0#32
  let v494 : BitVec 1 := Scalar.cmpi .ne v493 c0_i32_319
  let v495 : BitVec 1 := Scalar.andi v492 v494
  let v481 : BitVec 32 := Scalar.divsi v480 c16_i32
  let c1_i32_320 : BitVec 32 := 1#32
  let v496 : BitVec 32 := Scalar.subi v481 c1_i32_320
  let v497 : BitVec 32 := Scalar.select v495 v496 v481
  let v548 : BitVec 32 := Scalar.subi v497 c0_i32_366
  let c1_i32_367 : BitVec 32 := 1#32
  let v550 : BitVec 32 := Scalar.divsi v548 c1_i32_367
  let v551 : BitVec 32 := Scalar.muli v550 c1_i32_367
  let v552 : BitVec 32 := Scalar.addi c0_i32_366 v551
  let c1_i32_369 : BitVec 32 := 1#32
  let arg11 : BitVec 32 := Scf.iv v552 c1_i32_369 k0_t2
  let c16_i32_421 : BitVec 32 := 16#32
  let v684 : BitVec 32 := Scalar.muli arg11 c16_i32_421
  let v685 : BitVec 32 := Scalar.addi c1_i32_422 v684
  let c5_i32_1446 : BitVec 32 := 5#32
  let v2131 : BitVec 32 := Scalar.addi v685 c5_i32_1446
  let c1_i32_1447 : BitVec 32 := 1#32
  let v2132 : BitVec 32 := Scalar.subi v1 c1_i32_1447
  let v2133 : BitVec 32 := Scalar.minsi v2131 v2132
  let c256_i32_1448 : BitVec 32 := 256#32
  let v2134 : BitVec 32 := Scalar.muli v2133 c256_i32_1448
  v2134
def k0_mult186 (i : grid0.Coords) (k0_t2 : Fin (k0_t2_loop i).trips) : BitVec 32 :=
  let c1_i32_422 : BitVec 32 := 1#32
  let c0_i32_366 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_314 : BitVec 32 := 1#32
  let v480 : BitVec 32 := Scalar.subi v1 c1_i32_314
  let c0_i32_315 : BitVec 32 := 0#32
  let v482 : BitVec 1 := Scalar.cmpi .sgt v480 c0_i32_315
  let v483 : BitVec 32 := Scalar.extui v482
  let c0_i32_316 : BitVec 32 := 0#32
  let v484 : BitVec 1 := Scalar.cmpi .slt v480 c0_i32_316
  let v485 : BitVec 32 := Scalar.extui v484
  let v486 : BitVec 32 := Scalar.subi v483 v485
  let c16_i32 : BitVec 32 := 16#32
  let c0_i32_317 : BitVec 32 := 0#32
  let v487 : BitVec 1 := Scalar.cmpi .sgt c16_i32 c0_i32_317
  let v488 : BitVec 32 := Scalar.extui v487
  let c0_i32_318 : BitVec 32 := 0#32
  let v489 : BitVec 1 := Scalar.cmpi .slt c16_i32 c0_i32_318
  let v490 : BitVec 32 := Scalar.extui v489
  let v491 : BitVec 32 := Scalar.subi v488 v490
  let v492 : BitVec 1 := Scalar.cmpi .ne v486 v491
  let v493 : BitVec 32 := Scalar.remsi v480 c16_i32
  let c0_i32_319 : BitVec 32 := 0#32
  let v494 : BitVec 1 := Scalar.cmpi .ne v493 c0_i32_319
  let v495 : BitVec 1 := Scalar.andi v492 v494
  let v481 : BitVec 32 := Scalar.divsi v480 c16_i32
  let c1_i32_320 : BitVec 32 := 1#32
  let v496 : BitVec 32 := Scalar.subi v481 c1_i32_320
  let v497 : BitVec 32 := Scalar.select v495 v496 v481
  let v548 : BitVec 32 := Scalar.subi v497 c0_i32_366
  let c1_i32_367 : BitVec 32 := 1#32
  let v550 : BitVec 32 := Scalar.divsi v548 c1_i32_367
  let v551 : BitVec 32 := Scalar.muli v550 c1_i32_367
  let v552 : BitVec 32 := Scalar.addi c0_i32_366 v551
  let c1_i32_369 : BitVec 32 := 1#32
  let arg11 : BitVec 32 := Scf.iv v552 c1_i32_369 k0_t2
  let c16_i32_421 : BitVec 32 := 16#32
  let v684 : BitVec 32 := Scalar.muli arg11 c16_i32_421
  let v685 : BitVec 32 := Scalar.addi c1_i32_422 v684
  let c5_i32_1473 : BitVec 32 := 5#32
  let v2169 : BitVec 32 := Scalar.addi v685 c5_i32_1473
  let c1_i32_1474 : BitVec 32 := 1#32
  let v2170 : BitVec 32 := Scalar.subi v1 c1_i32_1474
  let v2171 : BitVec 32 := Scalar.minsi v2169 v2170
  let c256_i32_1475 : BitVec 32 := 256#32
  let v2172 : BitVec 32 := Scalar.muli v2171 c256_i32_1475
  v2172
def k0_mult187 (i : grid0.Coords) (k0_t2 : Fin (k0_t2_loop i).trips) : BitVec 32 :=
  let c1_i32_422 : BitVec 32 := 1#32
  let c0_i32_366 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_314 : BitVec 32 := 1#32
  let v480 : BitVec 32 := Scalar.subi v1 c1_i32_314
  let c0_i32_315 : BitVec 32 := 0#32
  let v482 : BitVec 1 := Scalar.cmpi .sgt v480 c0_i32_315
  let v483 : BitVec 32 := Scalar.extui v482
  let c0_i32_316 : BitVec 32 := 0#32
  let v484 : BitVec 1 := Scalar.cmpi .slt v480 c0_i32_316
  let v485 : BitVec 32 := Scalar.extui v484
  let v486 : BitVec 32 := Scalar.subi v483 v485
  let c16_i32 : BitVec 32 := 16#32
  let c0_i32_317 : BitVec 32 := 0#32
  let v487 : BitVec 1 := Scalar.cmpi .sgt c16_i32 c0_i32_317
  let v488 : BitVec 32 := Scalar.extui v487
  let c0_i32_318 : BitVec 32 := 0#32
  let v489 : BitVec 1 := Scalar.cmpi .slt c16_i32 c0_i32_318
  let v490 : BitVec 32 := Scalar.extui v489
  let v491 : BitVec 32 := Scalar.subi v488 v490
  let v492 : BitVec 1 := Scalar.cmpi .ne v486 v491
  let v493 : BitVec 32 := Scalar.remsi v480 c16_i32
  let c0_i32_319 : BitVec 32 := 0#32
  let v494 : BitVec 1 := Scalar.cmpi .ne v493 c0_i32_319
  let v495 : BitVec 1 := Scalar.andi v492 v494
  let v481 : BitVec 32 := Scalar.divsi v480 c16_i32
  let c1_i32_320 : BitVec 32 := 1#32
  let v496 : BitVec 32 := Scalar.subi v481 c1_i32_320
  let v497 : BitVec 32 := Scalar.select v495 v496 v481
  let v548 : BitVec 32 := Scalar.subi v497 c0_i32_366
  let c1_i32_367 : BitVec 32 := 1#32
  let v550 : BitVec 32 := Scalar.divsi v548 c1_i32_367
  let v551 : BitVec 32 := Scalar.muli v550 c1_i32_367
  let v552 : BitVec 32 := Scalar.addi c0_i32_366 v551
  let c1_i32_369 : BitVec 32 := 1#32
  let arg11 : BitVec 32 := Scf.iv v552 c1_i32_369 k0_t2
  let c16_i32_421 : BitVec 32 := 16#32
  let v684 : BitVec 32 := Scalar.muli arg11 c16_i32_421
  let v685 : BitVec 32 := Scalar.addi c1_i32_422 v684
  let c5_i32_1500 : BitVec 32 := 5#32
  let v2207 : BitVec 32 := Scalar.addi v685 c5_i32_1500
  let c1_i32_1501 : BitVec 32 := 1#32
  let v2208 : BitVec 32 := Scalar.subi v1 c1_i32_1501
  let v2209 : BitVec 32 := Scalar.minsi v2207 v2208
  let c256_i32_1502 : BitVec 32 := 256#32
  let v2210 : BitVec 32 := Scalar.muli v2209 c256_i32_1502
  v2210
def k0_mult188 (i : grid0.Coords) (k0_t2 : Fin (k0_t2_loop i).trips) : BitVec 32 :=
  let c1_i32_422 : BitVec 32 := 1#32
  let c0_i32_366 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_314 : BitVec 32 := 1#32
  let v480 : BitVec 32 := Scalar.subi v1 c1_i32_314
  let c0_i32_315 : BitVec 32 := 0#32
  let v482 : BitVec 1 := Scalar.cmpi .sgt v480 c0_i32_315
  let v483 : BitVec 32 := Scalar.extui v482
  let c0_i32_316 : BitVec 32 := 0#32
  let v484 : BitVec 1 := Scalar.cmpi .slt v480 c0_i32_316
  let v485 : BitVec 32 := Scalar.extui v484
  let v486 : BitVec 32 := Scalar.subi v483 v485
  let c16_i32 : BitVec 32 := 16#32
  let c0_i32_317 : BitVec 32 := 0#32
  let v487 : BitVec 1 := Scalar.cmpi .sgt c16_i32 c0_i32_317
  let v488 : BitVec 32 := Scalar.extui v487
  let c0_i32_318 : BitVec 32 := 0#32
  let v489 : BitVec 1 := Scalar.cmpi .slt c16_i32 c0_i32_318
  let v490 : BitVec 32 := Scalar.extui v489
  let v491 : BitVec 32 := Scalar.subi v488 v490
  let v492 : BitVec 1 := Scalar.cmpi .ne v486 v491
  let v493 : BitVec 32 := Scalar.remsi v480 c16_i32
  let c0_i32_319 : BitVec 32 := 0#32
  let v494 : BitVec 1 := Scalar.cmpi .ne v493 c0_i32_319
  let v495 : BitVec 1 := Scalar.andi v492 v494
  let v481 : BitVec 32 := Scalar.divsi v480 c16_i32
  let c1_i32_320 : BitVec 32 := 1#32
  let v496 : BitVec 32 := Scalar.subi v481 c1_i32_320
  let v497 : BitVec 32 := Scalar.select v495 v496 v481
  let v548 : BitVec 32 := Scalar.subi v497 c0_i32_366
  let c1_i32_367 : BitVec 32 := 1#32
  let v550 : BitVec 32 := Scalar.divsi v548 c1_i32_367
  let v551 : BitVec 32 := Scalar.muli v550 c1_i32_367
  let v552 : BitVec 32 := Scalar.addi c0_i32_366 v551
  let c1_i32_369 : BitVec 32 := 1#32
  let arg11 : BitVec 32 := Scf.iv v552 c1_i32_369 k0_t2
  let c16_i32_421 : BitVec 32 := 16#32
  let v684 : BitVec 32 := Scalar.muli arg11 c16_i32_421
  let v685 : BitVec 32 := Scalar.addi c1_i32_422 v684
  let c5_i32_1527 : BitVec 32 := 5#32
  let v2245 : BitVec 32 := Scalar.addi v685 c5_i32_1527
  let c1_i32_1528 : BitVec 32 := 1#32
  let v2246 : BitVec 32 := Scalar.subi v1 c1_i32_1528
  let v2247 : BitVec 32 := Scalar.minsi v2245 v2246
  let c256_i32_1529 : BitVec 32 := 256#32
  let v2248 : BitVec 32 := Scalar.muli v2247 c256_i32_1529
  v2248
def k0_mult189 (i : grid0.Coords) (k0_t2 : Fin (k0_t2_loop i).trips) : BitVec 32 :=
  let c1_i32_422 : BitVec 32 := 1#32
  let c0_i32_366 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_314 : BitVec 32 := 1#32
  let v480 : BitVec 32 := Scalar.subi v1 c1_i32_314
  let c0_i32_315 : BitVec 32 := 0#32
  let v482 : BitVec 1 := Scalar.cmpi .sgt v480 c0_i32_315
  let v483 : BitVec 32 := Scalar.extui v482
  let c0_i32_316 : BitVec 32 := 0#32
  let v484 : BitVec 1 := Scalar.cmpi .slt v480 c0_i32_316
  let v485 : BitVec 32 := Scalar.extui v484
  let v486 : BitVec 32 := Scalar.subi v483 v485
  let c16_i32 : BitVec 32 := 16#32
  let c0_i32_317 : BitVec 32 := 0#32
  let v487 : BitVec 1 := Scalar.cmpi .sgt c16_i32 c0_i32_317
  let v488 : BitVec 32 := Scalar.extui v487
  let c0_i32_318 : BitVec 32 := 0#32
  let v489 : BitVec 1 := Scalar.cmpi .slt c16_i32 c0_i32_318
  let v490 : BitVec 32 := Scalar.extui v489
  let v491 : BitVec 32 := Scalar.subi v488 v490
  let v492 : BitVec 1 := Scalar.cmpi .ne v486 v491
  let v493 : BitVec 32 := Scalar.remsi v480 c16_i32
  let c0_i32_319 : BitVec 32 := 0#32
  let v494 : BitVec 1 := Scalar.cmpi .ne v493 c0_i32_319
  let v495 : BitVec 1 := Scalar.andi v492 v494
  let v481 : BitVec 32 := Scalar.divsi v480 c16_i32
  let c1_i32_320 : BitVec 32 := 1#32
  let v496 : BitVec 32 := Scalar.subi v481 c1_i32_320
  let v497 : BitVec 32 := Scalar.select v495 v496 v481
  let v548 : BitVec 32 := Scalar.subi v497 c0_i32_366
  let c1_i32_367 : BitVec 32 := 1#32
  let v550 : BitVec 32 := Scalar.divsi v548 c1_i32_367
  let v551 : BitVec 32 := Scalar.muli v550 c1_i32_367
  let v552 : BitVec 32 := Scalar.addi c0_i32_366 v551
  let c1_i32_369 : BitVec 32 := 1#32
  let arg11 : BitVec 32 := Scf.iv v552 c1_i32_369 k0_t2
  let c16_i32_421 : BitVec 32 := 16#32
  let v684 : BitVec 32 := Scalar.muli arg11 c16_i32_421
  let v685 : BitVec 32 := Scalar.addi c1_i32_422 v684
  let c5_i32_1554 : BitVec 32 := 5#32
  let v2283 : BitVec 32 := Scalar.addi v685 c5_i32_1554
  let c1_i32_1555 : BitVec 32 := 1#32
  let v2284 : BitVec 32 := Scalar.subi v1 c1_i32_1555
  let v2285 : BitVec 32 := Scalar.minsi v2283 v2284
  let c256_i32_1556 : BitVec 32 := 256#32
  let v2286 : BitVec 32 := Scalar.muli v2285 c256_i32_1556
  v2286
def k0_mult190 (i : grid0.Coords) (k0_t2 : Fin (k0_t2_loop i).trips) : BitVec 32 :=
  let c1_i32_422 : BitVec 32 := 1#32
  let c0_i32_366 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_314 : BitVec 32 := 1#32
  let v480 : BitVec 32 := Scalar.subi v1 c1_i32_314
  let c0_i32_315 : BitVec 32 := 0#32
  let v482 : BitVec 1 := Scalar.cmpi .sgt v480 c0_i32_315
  let v483 : BitVec 32 := Scalar.extui v482
  let c0_i32_316 : BitVec 32 := 0#32
  let v484 : BitVec 1 := Scalar.cmpi .slt v480 c0_i32_316
  let v485 : BitVec 32 := Scalar.extui v484
  let v486 : BitVec 32 := Scalar.subi v483 v485
  let c16_i32 : BitVec 32 := 16#32
  let c0_i32_317 : BitVec 32 := 0#32
  let v487 : BitVec 1 := Scalar.cmpi .sgt c16_i32 c0_i32_317
  let v488 : BitVec 32 := Scalar.extui v487
  let c0_i32_318 : BitVec 32 := 0#32
  let v489 : BitVec 1 := Scalar.cmpi .slt c16_i32 c0_i32_318
  let v490 : BitVec 32 := Scalar.extui v489
  let v491 : BitVec 32 := Scalar.subi v488 v490
  let v492 : BitVec 1 := Scalar.cmpi .ne v486 v491
  let v493 : BitVec 32 := Scalar.remsi v480 c16_i32
  let c0_i32_319 : BitVec 32 := 0#32
  let v494 : BitVec 1 := Scalar.cmpi .ne v493 c0_i32_319
  let v495 : BitVec 1 := Scalar.andi v492 v494
  let v481 : BitVec 32 := Scalar.divsi v480 c16_i32
  let c1_i32_320 : BitVec 32 := 1#32
  let v496 : BitVec 32 := Scalar.subi v481 c1_i32_320
  let v497 : BitVec 32 := Scalar.select v495 v496 v481
  let v548 : BitVec 32 := Scalar.subi v497 c0_i32_366
  let c1_i32_367 : BitVec 32 := 1#32
  let v550 : BitVec 32 := Scalar.divsi v548 c1_i32_367
  let v551 : BitVec 32 := Scalar.muli v550 c1_i32_367
  let v552 : BitVec 32 := Scalar.addi c0_i32_366 v551
  let c1_i32_369 : BitVec 32 := 1#32
  let arg11 : BitVec 32 := Scf.iv v552 c1_i32_369 k0_t2
  let c16_i32_421 : BitVec 32 := 16#32
  let v684 : BitVec 32 := Scalar.muli arg11 c16_i32_421
  let v685 : BitVec 32 := Scalar.addi c1_i32_422 v684
  let c6_i32 : BitVec 32 := 6#32
  let v2321 : BitVec 32 := Scalar.addi v685 c6_i32
  let c1_i32_1581 : BitVec 32 := 1#32
  let v2322 : BitVec 32 := Scalar.subi v1 c1_i32_1581
  let v2323 : BitVec 32 := Scalar.minsi v2321 v2322
  let c256_i32_1582 : BitVec 32 := 256#32
  let v2324 : BitVec 32 := Scalar.muli v2323 c256_i32_1582
  v2324
def k0_mult191 (i : grid0.Coords) (k0_t2 : Fin (k0_t2_loop i).trips) : BitVec 32 :=
  let c1_i32_422 : BitVec 32 := 1#32
  let c0_i32_366 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_314 : BitVec 32 := 1#32
  let v480 : BitVec 32 := Scalar.subi v1 c1_i32_314
  let c0_i32_315 : BitVec 32 := 0#32
  let v482 : BitVec 1 := Scalar.cmpi .sgt v480 c0_i32_315
  let v483 : BitVec 32 := Scalar.extui v482
  let c0_i32_316 : BitVec 32 := 0#32
  let v484 : BitVec 1 := Scalar.cmpi .slt v480 c0_i32_316
  let v485 : BitVec 32 := Scalar.extui v484
  let v486 : BitVec 32 := Scalar.subi v483 v485
  let c16_i32 : BitVec 32 := 16#32
  let c0_i32_317 : BitVec 32 := 0#32
  let v487 : BitVec 1 := Scalar.cmpi .sgt c16_i32 c0_i32_317
  let v488 : BitVec 32 := Scalar.extui v487
  let c0_i32_318 : BitVec 32 := 0#32
  let v489 : BitVec 1 := Scalar.cmpi .slt c16_i32 c0_i32_318
  let v490 : BitVec 32 := Scalar.extui v489
  let v491 : BitVec 32 := Scalar.subi v488 v490
  let v492 : BitVec 1 := Scalar.cmpi .ne v486 v491
  let v493 : BitVec 32 := Scalar.remsi v480 c16_i32
  let c0_i32_319 : BitVec 32 := 0#32
  let v494 : BitVec 1 := Scalar.cmpi .ne v493 c0_i32_319
  let v495 : BitVec 1 := Scalar.andi v492 v494
  let v481 : BitVec 32 := Scalar.divsi v480 c16_i32
  let c1_i32_320 : BitVec 32 := 1#32
  let v496 : BitVec 32 := Scalar.subi v481 c1_i32_320
  let v497 : BitVec 32 := Scalar.select v495 v496 v481
  let v548 : BitVec 32 := Scalar.subi v497 c0_i32_366
  let c1_i32_367 : BitVec 32 := 1#32
  let v550 : BitVec 32 := Scalar.divsi v548 c1_i32_367
  let v551 : BitVec 32 := Scalar.muli v550 c1_i32_367
  let v552 : BitVec 32 := Scalar.addi c0_i32_366 v551
  let c1_i32_369 : BitVec 32 := 1#32
  let arg11 : BitVec 32 := Scf.iv v552 c1_i32_369 k0_t2
  let c16_i32_421 : BitVec 32 := 16#32
  let v684 : BitVec 32 := Scalar.muli arg11 c16_i32_421
  let v685 : BitVec 32 := Scalar.addi c1_i32_422 v684
  let c6_i32_1607 : BitVec 32 := 6#32
  let v2359 : BitVec 32 := Scalar.addi v685 c6_i32_1607
  let c1_i32_1608 : BitVec 32 := 1#32
  let v2360 : BitVec 32 := Scalar.subi v1 c1_i32_1608
  let v2361 : BitVec 32 := Scalar.minsi v2359 v2360
  let c256_i32_1609 : BitVec 32 := 256#32
  let v2362 : BitVec 32 := Scalar.muli v2361 c256_i32_1609
  v2362
def k0_mult192 (i : grid0.Coords) (k0_t2 : Fin (k0_t2_loop i).trips) : BitVec 32 :=
  let c1_i32_422 : BitVec 32 := 1#32
  let c0_i32_366 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_314 : BitVec 32 := 1#32
  let v480 : BitVec 32 := Scalar.subi v1 c1_i32_314
  let c0_i32_315 : BitVec 32 := 0#32
  let v482 : BitVec 1 := Scalar.cmpi .sgt v480 c0_i32_315
  let v483 : BitVec 32 := Scalar.extui v482
  let c0_i32_316 : BitVec 32 := 0#32
  let v484 : BitVec 1 := Scalar.cmpi .slt v480 c0_i32_316
  let v485 : BitVec 32 := Scalar.extui v484
  let v486 : BitVec 32 := Scalar.subi v483 v485
  let c16_i32 : BitVec 32 := 16#32
  let c0_i32_317 : BitVec 32 := 0#32
  let v487 : BitVec 1 := Scalar.cmpi .sgt c16_i32 c0_i32_317
  let v488 : BitVec 32 := Scalar.extui v487
  let c0_i32_318 : BitVec 32 := 0#32
  let v489 : BitVec 1 := Scalar.cmpi .slt c16_i32 c0_i32_318
  let v490 : BitVec 32 := Scalar.extui v489
  let v491 : BitVec 32 := Scalar.subi v488 v490
  let v492 : BitVec 1 := Scalar.cmpi .ne v486 v491
  let v493 : BitVec 32 := Scalar.remsi v480 c16_i32
  let c0_i32_319 : BitVec 32 := 0#32
  let v494 : BitVec 1 := Scalar.cmpi .ne v493 c0_i32_319
  let v495 : BitVec 1 := Scalar.andi v492 v494
  let v481 : BitVec 32 := Scalar.divsi v480 c16_i32
  let c1_i32_320 : BitVec 32 := 1#32
  let v496 : BitVec 32 := Scalar.subi v481 c1_i32_320
  let v497 : BitVec 32 := Scalar.select v495 v496 v481
  let v548 : BitVec 32 := Scalar.subi v497 c0_i32_366
  let c1_i32_367 : BitVec 32 := 1#32
  let v550 : BitVec 32 := Scalar.divsi v548 c1_i32_367
  let v551 : BitVec 32 := Scalar.muli v550 c1_i32_367
  let v552 : BitVec 32 := Scalar.addi c0_i32_366 v551
  let c1_i32_369 : BitVec 32 := 1#32
  let arg11 : BitVec 32 := Scf.iv v552 c1_i32_369 k0_t2
  let c16_i32_421 : BitVec 32 := 16#32
  let v684 : BitVec 32 := Scalar.muli arg11 c16_i32_421
  let v685 : BitVec 32 := Scalar.addi c1_i32_422 v684
  let c6_i32_1634 : BitVec 32 := 6#32
  let v2397 : BitVec 32 := Scalar.addi v685 c6_i32_1634
  let c1_i32_1635 : BitVec 32 := 1#32
  let v2398 : BitVec 32 := Scalar.subi v1 c1_i32_1635
  let v2399 : BitVec 32 := Scalar.minsi v2397 v2398
  let c256_i32_1636 : BitVec 32 := 256#32
  let v2400 : BitVec 32 := Scalar.muli v2399 c256_i32_1636
  v2400
def k0_mult193 (i : grid0.Coords) (k0_t2 : Fin (k0_t2_loop i).trips) : BitVec 32 :=
  let c1_i32_422 : BitVec 32 := 1#32
  let c0_i32_366 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_314 : BitVec 32 := 1#32
  let v480 : BitVec 32 := Scalar.subi v1 c1_i32_314
  let c0_i32_315 : BitVec 32 := 0#32
  let v482 : BitVec 1 := Scalar.cmpi .sgt v480 c0_i32_315
  let v483 : BitVec 32 := Scalar.extui v482
  let c0_i32_316 : BitVec 32 := 0#32
  let v484 : BitVec 1 := Scalar.cmpi .slt v480 c0_i32_316
  let v485 : BitVec 32 := Scalar.extui v484
  let v486 : BitVec 32 := Scalar.subi v483 v485
  let c16_i32 : BitVec 32 := 16#32
  let c0_i32_317 : BitVec 32 := 0#32
  let v487 : BitVec 1 := Scalar.cmpi .sgt c16_i32 c0_i32_317
  let v488 : BitVec 32 := Scalar.extui v487
  let c0_i32_318 : BitVec 32 := 0#32
  let v489 : BitVec 1 := Scalar.cmpi .slt c16_i32 c0_i32_318
  let v490 : BitVec 32 := Scalar.extui v489
  let v491 : BitVec 32 := Scalar.subi v488 v490
  let v492 : BitVec 1 := Scalar.cmpi .ne v486 v491
  let v493 : BitVec 32 := Scalar.remsi v480 c16_i32
  let c0_i32_319 : BitVec 32 := 0#32
  let v494 : BitVec 1 := Scalar.cmpi .ne v493 c0_i32_319
  let v495 : BitVec 1 := Scalar.andi v492 v494
  let v481 : BitVec 32 := Scalar.divsi v480 c16_i32
  let c1_i32_320 : BitVec 32 := 1#32
  let v496 : BitVec 32 := Scalar.subi v481 c1_i32_320
  let v497 : BitVec 32 := Scalar.select v495 v496 v481
  let v548 : BitVec 32 := Scalar.subi v497 c0_i32_366
  let c1_i32_367 : BitVec 32 := 1#32
  let v550 : BitVec 32 := Scalar.divsi v548 c1_i32_367
  let v551 : BitVec 32 := Scalar.muli v550 c1_i32_367
  let v552 : BitVec 32 := Scalar.addi c0_i32_366 v551
  let c1_i32_369 : BitVec 32 := 1#32
  let arg11 : BitVec 32 := Scf.iv v552 c1_i32_369 k0_t2
  let c16_i32_421 : BitVec 32 := 16#32
  let v684 : BitVec 32 := Scalar.muli arg11 c16_i32_421
  let v685 : BitVec 32 := Scalar.addi c1_i32_422 v684
  let c6_i32_1661 : BitVec 32 := 6#32
  let v2435 : BitVec 32 := Scalar.addi v685 c6_i32_1661
  let c1_i32_1662 : BitVec 32 := 1#32
  let v2436 : BitVec 32 := Scalar.subi v1 c1_i32_1662
  let v2437 : BitVec 32 := Scalar.minsi v2435 v2436
  let c256_i32_1663 : BitVec 32 := 256#32
  let v2438 : BitVec 32 := Scalar.muli v2437 c256_i32_1663
  v2438
def k0_mult194 (i : grid0.Coords) (k0_t2 : Fin (k0_t2_loop i).trips) : BitVec 32 :=
  let c1_i32_422 : BitVec 32 := 1#32
  let c0_i32_366 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_314 : BitVec 32 := 1#32
  let v480 : BitVec 32 := Scalar.subi v1 c1_i32_314
  let c0_i32_315 : BitVec 32 := 0#32
  let v482 : BitVec 1 := Scalar.cmpi .sgt v480 c0_i32_315
  let v483 : BitVec 32 := Scalar.extui v482
  let c0_i32_316 : BitVec 32 := 0#32
  let v484 : BitVec 1 := Scalar.cmpi .slt v480 c0_i32_316
  let v485 : BitVec 32 := Scalar.extui v484
  let v486 : BitVec 32 := Scalar.subi v483 v485
  let c16_i32 : BitVec 32 := 16#32
  let c0_i32_317 : BitVec 32 := 0#32
  let v487 : BitVec 1 := Scalar.cmpi .sgt c16_i32 c0_i32_317
  let v488 : BitVec 32 := Scalar.extui v487
  let c0_i32_318 : BitVec 32 := 0#32
  let v489 : BitVec 1 := Scalar.cmpi .slt c16_i32 c0_i32_318
  let v490 : BitVec 32 := Scalar.extui v489
  let v491 : BitVec 32 := Scalar.subi v488 v490
  let v492 : BitVec 1 := Scalar.cmpi .ne v486 v491
  let v493 : BitVec 32 := Scalar.remsi v480 c16_i32
  let c0_i32_319 : BitVec 32 := 0#32
  let v494 : BitVec 1 := Scalar.cmpi .ne v493 c0_i32_319
  let v495 : BitVec 1 := Scalar.andi v492 v494
  let v481 : BitVec 32 := Scalar.divsi v480 c16_i32
  let c1_i32_320 : BitVec 32 := 1#32
  let v496 : BitVec 32 := Scalar.subi v481 c1_i32_320
  let v497 : BitVec 32 := Scalar.select v495 v496 v481
  let v548 : BitVec 32 := Scalar.subi v497 c0_i32_366
  let c1_i32_367 : BitVec 32 := 1#32
  let v550 : BitVec 32 := Scalar.divsi v548 c1_i32_367
  let v551 : BitVec 32 := Scalar.muli v550 c1_i32_367
  let v552 : BitVec 32 := Scalar.addi c0_i32_366 v551
  let c1_i32_369 : BitVec 32 := 1#32
  let arg11 : BitVec 32 := Scf.iv v552 c1_i32_369 k0_t2
  let c16_i32_421 : BitVec 32 := 16#32
  let v684 : BitVec 32 := Scalar.muli arg11 c16_i32_421
  let v685 : BitVec 32 := Scalar.addi c1_i32_422 v684
  let c6_i32_1688 : BitVec 32 := 6#32
  let v2473 : BitVec 32 := Scalar.addi v685 c6_i32_1688
  let c1_i32_1689 : BitVec 32 := 1#32
  let v2474 : BitVec 32 := Scalar.subi v1 c1_i32_1689
  let v2475 : BitVec 32 := Scalar.minsi v2473 v2474
  let c256_i32_1690 : BitVec 32 := 256#32
  let v2476 : BitVec 32 := Scalar.muli v2475 c256_i32_1690
  v2476
def k0_mult195 (i : grid0.Coords) (k0_t2 : Fin (k0_t2_loop i).trips) : BitVec 32 :=
  let c1_i32_422 : BitVec 32 := 1#32
  let c0_i32_366 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_314 : BitVec 32 := 1#32
  let v480 : BitVec 32 := Scalar.subi v1 c1_i32_314
  let c0_i32_315 : BitVec 32 := 0#32
  let v482 : BitVec 1 := Scalar.cmpi .sgt v480 c0_i32_315
  let v483 : BitVec 32 := Scalar.extui v482
  let c0_i32_316 : BitVec 32 := 0#32
  let v484 : BitVec 1 := Scalar.cmpi .slt v480 c0_i32_316
  let v485 : BitVec 32 := Scalar.extui v484
  let v486 : BitVec 32 := Scalar.subi v483 v485
  let c16_i32 : BitVec 32 := 16#32
  let c0_i32_317 : BitVec 32 := 0#32
  let v487 : BitVec 1 := Scalar.cmpi .sgt c16_i32 c0_i32_317
  let v488 : BitVec 32 := Scalar.extui v487
  let c0_i32_318 : BitVec 32 := 0#32
  let v489 : BitVec 1 := Scalar.cmpi .slt c16_i32 c0_i32_318
  let v490 : BitVec 32 := Scalar.extui v489
  let v491 : BitVec 32 := Scalar.subi v488 v490
  let v492 : BitVec 1 := Scalar.cmpi .ne v486 v491
  let v493 : BitVec 32 := Scalar.remsi v480 c16_i32
  let c0_i32_319 : BitVec 32 := 0#32
  let v494 : BitVec 1 := Scalar.cmpi .ne v493 c0_i32_319
  let v495 : BitVec 1 := Scalar.andi v492 v494
  let v481 : BitVec 32 := Scalar.divsi v480 c16_i32
  let c1_i32_320 : BitVec 32 := 1#32
  let v496 : BitVec 32 := Scalar.subi v481 c1_i32_320
  let v497 : BitVec 32 := Scalar.select v495 v496 v481
  let v548 : BitVec 32 := Scalar.subi v497 c0_i32_366
  let c1_i32_367 : BitVec 32 := 1#32
  let v550 : BitVec 32 := Scalar.divsi v548 c1_i32_367
  let v551 : BitVec 32 := Scalar.muli v550 c1_i32_367
  let v552 : BitVec 32 := Scalar.addi c0_i32_366 v551
  let c1_i32_369 : BitVec 32 := 1#32
  let arg11 : BitVec 32 := Scf.iv v552 c1_i32_369 k0_t2
  let c16_i32_421 : BitVec 32 := 16#32
  let v684 : BitVec 32 := Scalar.muli arg11 c16_i32_421
  let v685 : BitVec 32 := Scalar.addi c1_i32_422 v684
  let c6_i32_1715 : BitVec 32 := 6#32
  let v2511 : BitVec 32 := Scalar.addi v685 c6_i32_1715
  let c1_i32_1716 : BitVec 32 := 1#32
  let v2512 : BitVec 32 := Scalar.subi v1 c1_i32_1716
  let v2513 : BitVec 32 := Scalar.minsi v2511 v2512
  let c256_i32_1717 : BitVec 32 := 256#32
  let v2514 : BitVec 32 := Scalar.muli v2513 c256_i32_1717
  v2514
def k0_mult196 (i : grid0.Coords) (k0_t2 : Fin (k0_t2_loop i).trips) : BitVec 32 :=
  let c1_i32_422 : BitVec 32 := 1#32
  let c0_i32_366 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_314 : BitVec 32 := 1#32
  let v480 : BitVec 32 := Scalar.subi v1 c1_i32_314
  let c0_i32_315 : BitVec 32 := 0#32
  let v482 : BitVec 1 := Scalar.cmpi .sgt v480 c0_i32_315
  let v483 : BitVec 32 := Scalar.extui v482
  let c0_i32_316 : BitVec 32 := 0#32
  let v484 : BitVec 1 := Scalar.cmpi .slt v480 c0_i32_316
  let v485 : BitVec 32 := Scalar.extui v484
  let v486 : BitVec 32 := Scalar.subi v483 v485
  let c16_i32 : BitVec 32 := 16#32
  let c0_i32_317 : BitVec 32 := 0#32
  let v487 : BitVec 1 := Scalar.cmpi .sgt c16_i32 c0_i32_317
  let v488 : BitVec 32 := Scalar.extui v487
  let c0_i32_318 : BitVec 32 := 0#32
  let v489 : BitVec 1 := Scalar.cmpi .slt c16_i32 c0_i32_318
  let v490 : BitVec 32 := Scalar.extui v489
  let v491 : BitVec 32 := Scalar.subi v488 v490
  let v492 : BitVec 1 := Scalar.cmpi .ne v486 v491
  let v493 : BitVec 32 := Scalar.remsi v480 c16_i32
  let c0_i32_319 : BitVec 32 := 0#32
  let v494 : BitVec 1 := Scalar.cmpi .ne v493 c0_i32_319
  let v495 : BitVec 1 := Scalar.andi v492 v494
  let v481 : BitVec 32 := Scalar.divsi v480 c16_i32
  let c1_i32_320 : BitVec 32 := 1#32
  let v496 : BitVec 32 := Scalar.subi v481 c1_i32_320
  let v497 : BitVec 32 := Scalar.select v495 v496 v481
  let v548 : BitVec 32 := Scalar.subi v497 c0_i32_366
  let c1_i32_367 : BitVec 32 := 1#32
  let v550 : BitVec 32 := Scalar.divsi v548 c1_i32_367
  let v551 : BitVec 32 := Scalar.muli v550 c1_i32_367
  let v552 : BitVec 32 := Scalar.addi c0_i32_366 v551
  let c1_i32_369 : BitVec 32 := 1#32
  let arg11 : BitVec 32 := Scf.iv v552 c1_i32_369 k0_t2
  let c16_i32_421 : BitVec 32 := 16#32
  let v684 : BitVec 32 := Scalar.muli arg11 c16_i32_421
  let v685 : BitVec 32 := Scalar.addi c1_i32_422 v684
  let c6_i32_1742 : BitVec 32 := 6#32
  let v2549 : BitVec 32 := Scalar.addi v685 c6_i32_1742
  let c1_i32_1743 : BitVec 32 := 1#32
  let v2550 : BitVec 32 := Scalar.subi v1 c1_i32_1743
  let v2551 : BitVec 32 := Scalar.minsi v2549 v2550
  let c256_i32_1744 : BitVec 32 := 256#32
  let v2552 : BitVec 32 := Scalar.muli v2551 c256_i32_1744
  v2552
def k0_mult197 (i : grid0.Coords) (k0_t2 : Fin (k0_t2_loop i).trips) : BitVec 32 :=
  let c1_i32_422 : BitVec 32 := 1#32
  let c0_i32_366 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_314 : BitVec 32 := 1#32
  let v480 : BitVec 32 := Scalar.subi v1 c1_i32_314
  let c0_i32_315 : BitVec 32 := 0#32
  let v482 : BitVec 1 := Scalar.cmpi .sgt v480 c0_i32_315
  let v483 : BitVec 32 := Scalar.extui v482
  let c0_i32_316 : BitVec 32 := 0#32
  let v484 : BitVec 1 := Scalar.cmpi .slt v480 c0_i32_316
  let v485 : BitVec 32 := Scalar.extui v484
  let v486 : BitVec 32 := Scalar.subi v483 v485
  let c16_i32 : BitVec 32 := 16#32
  let c0_i32_317 : BitVec 32 := 0#32
  let v487 : BitVec 1 := Scalar.cmpi .sgt c16_i32 c0_i32_317
  let v488 : BitVec 32 := Scalar.extui v487
  let c0_i32_318 : BitVec 32 := 0#32
  let v489 : BitVec 1 := Scalar.cmpi .slt c16_i32 c0_i32_318
  let v490 : BitVec 32 := Scalar.extui v489
  let v491 : BitVec 32 := Scalar.subi v488 v490
  let v492 : BitVec 1 := Scalar.cmpi .ne v486 v491
  let v493 : BitVec 32 := Scalar.remsi v480 c16_i32
  let c0_i32_319 : BitVec 32 := 0#32
  let v494 : BitVec 1 := Scalar.cmpi .ne v493 c0_i32_319
  let v495 : BitVec 1 := Scalar.andi v492 v494
  let v481 : BitVec 32 := Scalar.divsi v480 c16_i32
  let c1_i32_320 : BitVec 32 := 1#32
  let v496 : BitVec 32 := Scalar.subi v481 c1_i32_320
  let v497 : BitVec 32 := Scalar.select v495 v496 v481
  let v548 : BitVec 32 := Scalar.subi v497 c0_i32_366
  let c1_i32_367 : BitVec 32 := 1#32
  let v550 : BitVec 32 := Scalar.divsi v548 c1_i32_367
  let v551 : BitVec 32 := Scalar.muli v550 c1_i32_367
  let v552 : BitVec 32 := Scalar.addi c0_i32_366 v551
  let c1_i32_369 : BitVec 32 := 1#32
  let arg11 : BitVec 32 := Scf.iv v552 c1_i32_369 k0_t2
  let c16_i32_421 : BitVec 32 := 16#32
  let v684 : BitVec 32 := Scalar.muli arg11 c16_i32_421
  let v685 : BitVec 32 := Scalar.addi c1_i32_422 v684
  let c6_i32_1769 : BitVec 32 := 6#32
  let v2587 : BitVec 32 := Scalar.addi v685 c6_i32_1769
  let c1_i32_1770 : BitVec 32 := 1#32
  let v2588 : BitVec 32 := Scalar.subi v1 c1_i32_1770
  let v2589 : BitVec 32 := Scalar.minsi v2587 v2588
  let c256_i32_1771 : BitVec 32 := 256#32
  let v2590 : BitVec 32 := Scalar.muli v2589 c256_i32_1771
  v2590
def k0_mult198 (i : grid0.Coords) (k0_t2 : Fin (k0_t2_loop i).trips) : BitVec 32 :=
  let c1_i32_422 : BitVec 32 := 1#32
  let c0_i32_366 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_314 : BitVec 32 := 1#32
  let v480 : BitVec 32 := Scalar.subi v1 c1_i32_314
  let c0_i32_315 : BitVec 32 := 0#32
  let v482 : BitVec 1 := Scalar.cmpi .sgt v480 c0_i32_315
  let v483 : BitVec 32 := Scalar.extui v482
  let c0_i32_316 : BitVec 32 := 0#32
  let v484 : BitVec 1 := Scalar.cmpi .slt v480 c0_i32_316
  let v485 : BitVec 32 := Scalar.extui v484
  let v486 : BitVec 32 := Scalar.subi v483 v485
  let c16_i32 : BitVec 32 := 16#32
  let c0_i32_317 : BitVec 32 := 0#32
  let v487 : BitVec 1 := Scalar.cmpi .sgt c16_i32 c0_i32_317
  let v488 : BitVec 32 := Scalar.extui v487
  let c0_i32_318 : BitVec 32 := 0#32
  let v489 : BitVec 1 := Scalar.cmpi .slt c16_i32 c0_i32_318
  let v490 : BitVec 32 := Scalar.extui v489
  let v491 : BitVec 32 := Scalar.subi v488 v490
  let v492 : BitVec 1 := Scalar.cmpi .ne v486 v491
  let v493 : BitVec 32 := Scalar.remsi v480 c16_i32
  let c0_i32_319 : BitVec 32 := 0#32
  let v494 : BitVec 1 := Scalar.cmpi .ne v493 c0_i32_319
  let v495 : BitVec 1 := Scalar.andi v492 v494
  let v481 : BitVec 32 := Scalar.divsi v480 c16_i32
  let c1_i32_320 : BitVec 32 := 1#32
  let v496 : BitVec 32 := Scalar.subi v481 c1_i32_320
  let v497 : BitVec 32 := Scalar.select v495 v496 v481
  let v548 : BitVec 32 := Scalar.subi v497 c0_i32_366
  let c1_i32_367 : BitVec 32 := 1#32
  let v550 : BitVec 32 := Scalar.divsi v548 c1_i32_367
  let v551 : BitVec 32 := Scalar.muli v550 c1_i32_367
  let v552 : BitVec 32 := Scalar.addi c0_i32_366 v551
  let c1_i32_369 : BitVec 32 := 1#32
  let arg11 : BitVec 32 := Scf.iv v552 c1_i32_369 k0_t2
  let c16_i32_421 : BitVec 32 := 16#32
  let v684 : BitVec 32 := Scalar.muli arg11 c16_i32_421
  let v685 : BitVec 32 := Scalar.addi c1_i32_422 v684
  let c7_i32 : BitVec 32 := 7#32
  let v2625 : BitVec 32 := Scalar.addi v685 c7_i32
  let c1_i32_1796 : BitVec 32 := 1#32
  let v2626 : BitVec 32 := Scalar.subi v1 c1_i32_1796
  let v2627 : BitVec 32 := Scalar.minsi v2625 v2626
  let c256_i32_1797 : BitVec 32 := 256#32
  let v2628 : BitVec 32 := Scalar.muli v2627 c256_i32_1797
  v2628
def k0_mult199 (i : grid0.Coords) (k0_t2 : Fin (k0_t2_loop i).trips) : BitVec 32 :=
  let c1_i32_422 : BitVec 32 := 1#32
  let c0_i32_366 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_314 : BitVec 32 := 1#32
  let v480 : BitVec 32 := Scalar.subi v1 c1_i32_314
  let c0_i32_315 : BitVec 32 := 0#32
  let v482 : BitVec 1 := Scalar.cmpi .sgt v480 c0_i32_315
  let v483 : BitVec 32 := Scalar.extui v482
  let c0_i32_316 : BitVec 32 := 0#32
  let v484 : BitVec 1 := Scalar.cmpi .slt v480 c0_i32_316
  let v485 : BitVec 32 := Scalar.extui v484
  let v486 : BitVec 32 := Scalar.subi v483 v485
  let c16_i32 : BitVec 32 := 16#32
  let c0_i32_317 : BitVec 32 := 0#32
  let v487 : BitVec 1 := Scalar.cmpi .sgt c16_i32 c0_i32_317
  let v488 : BitVec 32 := Scalar.extui v487
  let c0_i32_318 : BitVec 32 := 0#32
  let v489 : BitVec 1 := Scalar.cmpi .slt c16_i32 c0_i32_318
  let v490 : BitVec 32 := Scalar.extui v489
  let v491 : BitVec 32 := Scalar.subi v488 v490
  let v492 : BitVec 1 := Scalar.cmpi .ne v486 v491
  let v493 : BitVec 32 := Scalar.remsi v480 c16_i32
  let c0_i32_319 : BitVec 32 := 0#32
  let v494 : BitVec 1 := Scalar.cmpi .ne v493 c0_i32_319
  let v495 : BitVec 1 := Scalar.andi v492 v494
  let v481 : BitVec 32 := Scalar.divsi v480 c16_i32
  let c1_i32_320 : BitVec 32 := 1#32
  let v496 : BitVec 32 := Scalar.subi v481 c1_i32_320
  let v497 : BitVec 32 := Scalar.select v495 v496 v481
  let v548 : BitVec 32 := Scalar.subi v497 c0_i32_366
  let c1_i32_367 : BitVec 32 := 1#32
  let v550 : BitVec 32 := Scalar.divsi v548 c1_i32_367
  let v551 : BitVec 32 := Scalar.muli v550 c1_i32_367
  let v552 : BitVec 32 := Scalar.addi c0_i32_366 v551
  let c1_i32_369 : BitVec 32 := 1#32
  let arg11 : BitVec 32 := Scf.iv v552 c1_i32_369 k0_t2
  let c16_i32_421 : BitVec 32 := 16#32
  let v684 : BitVec 32 := Scalar.muli arg11 c16_i32_421
  let v685 : BitVec 32 := Scalar.addi c1_i32_422 v684
  let c7_i32_1822 : BitVec 32 := 7#32
  let v2663 : BitVec 32 := Scalar.addi v685 c7_i32_1822
  let c1_i32_1823 : BitVec 32 := 1#32
  let v2664 : BitVec 32 := Scalar.subi v1 c1_i32_1823
  let v2665 : BitVec 32 := Scalar.minsi v2663 v2664
  let c256_i32_1824 : BitVec 32 := 256#32
  let v2666 : BitVec 32 := Scalar.muli v2665 c256_i32_1824
  v2666
def k0_mult200 (i : grid0.Coords) (k0_t2 : Fin (k0_t2_loop i).trips) : BitVec 32 :=
  let c1_i32_422 : BitVec 32 := 1#32
  let c0_i32_366 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_314 : BitVec 32 := 1#32
  let v480 : BitVec 32 := Scalar.subi v1 c1_i32_314
  let c0_i32_315 : BitVec 32 := 0#32
  let v482 : BitVec 1 := Scalar.cmpi .sgt v480 c0_i32_315
  let v483 : BitVec 32 := Scalar.extui v482
  let c0_i32_316 : BitVec 32 := 0#32
  let v484 : BitVec 1 := Scalar.cmpi .slt v480 c0_i32_316
  let v485 : BitVec 32 := Scalar.extui v484
  let v486 : BitVec 32 := Scalar.subi v483 v485
  let c16_i32 : BitVec 32 := 16#32
  let c0_i32_317 : BitVec 32 := 0#32
  let v487 : BitVec 1 := Scalar.cmpi .sgt c16_i32 c0_i32_317
  let v488 : BitVec 32 := Scalar.extui v487
  let c0_i32_318 : BitVec 32 := 0#32
  let v489 : BitVec 1 := Scalar.cmpi .slt c16_i32 c0_i32_318
  let v490 : BitVec 32 := Scalar.extui v489
  let v491 : BitVec 32 := Scalar.subi v488 v490
  let v492 : BitVec 1 := Scalar.cmpi .ne v486 v491
  let v493 : BitVec 32 := Scalar.remsi v480 c16_i32
  let c0_i32_319 : BitVec 32 := 0#32
  let v494 : BitVec 1 := Scalar.cmpi .ne v493 c0_i32_319
  let v495 : BitVec 1 := Scalar.andi v492 v494
  let v481 : BitVec 32 := Scalar.divsi v480 c16_i32
  let c1_i32_320 : BitVec 32 := 1#32
  let v496 : BitVec 32 := Scalar.subi v481 c1_i32_320
  let v497 : BitVec 32 := Scalar.select v495 v496 v481
  let v548 : BitVec 32 := Scalar.subi v497 c0_i32_366
  let c1_i32_367 : BitVec 32 := 1#32
  let v550 : BitVec 32 := Scalar.divsi v548 c1_i32_367
  let v551 : BitVec 32 := Scalar.muli v550 c1_i32_367
  let v552 : BitVec 32 := Scalar.addi c0_i32_366 v551
  let c1_i32_369 : BitVec 32 := 1#32
  let arg11 : BitVec 32 := Scf.iv v552 c1_i32_369 k0_t2
  let c16_i32_421 : BitVec 32 := 16#32
  let v684 : BitVec 32 := Scalar.muli arg11 c16_i32_421
  let v685 : BitVec 32 := Scalar.addi c1_i32_422 v684
  let c7_i32_1849 : BitVec 32 := 7#32
  let v2701 : BitVec 32 := Scalar.addi v685 c7_i32_1849
  let c1_i32_1850 : BitVec 32 := 1#32
  let v2702 : BitVec 32 := Scalar.subi v1 c1_i32_1850
  let v2703 : BitVec 32 := Scalar.minsi v2701 v2702
  let c256_i32_1851 : BitVec 32 := 256#32
  let v2704 : BitVec 32 := Scalar.muli v2703 c256_i32_1851
  v2704
def k0_mult201 (i : grid0.Coords) (k0_t2 : Fin (k0_t2_loop i).trips) : BitVec 32 :=
  let c1_i32_422 : BitVec 32 := 1#32
  let c0_i32_366 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_314 : BitVec 32 := 1#32
  let v480 : BitVec 32 := Scalar.subi v1 c1_i32_314
  let c0_i32_315 : BitVec 32 := 0#32
  let v482 : BitVec 1 := Scalar.cmpi .sgt v480 c0_i32_315
  let v483 : BitVec 32 := Scalar.extui v482
  let c0_i32_316 : BitVec 32 := 0#32
  let v484 : BitVec 1 := Scalar.cmpi .slt v480 c0_i32_316
  let v485 : BitVec 32 := Scalar.extui v484
  let v486 : BitVec 32 := Scalar.subi v483 v485
  let c16_i32 : BitVec 32 := 16#32
  let c0_i32_317 : BitVec 32 := 0#32
  let v487 : BitVec 1 := Scalar.cmpi .sgt c16_i32 c0_i32_317
  let v488 : BitVec 32 := Scalar.extui v487
  let c0_i32_318 : BitVec 32 := 0#32
  let v489 : BitVec 1 := Scalar.cmpi .slt c16_i32 c0_i32_318
  let v490 : BitVec 32 := Scalar.extui v489
  let v491 : BitVec 32 := Scalar.subi v488 v490
  let v492 : BitVec 1 := Scalar.cmpi .ne v486 v491
  let v493 : BitVec 32 := Scalar.remsi v480 c16_i32
  let c0_i32_319 : BitVec 32 := 0#32
  let v494 : BitVec 1 := Scalar.cmpi .ne v493 c0_i32_319
  let v495 : BitVec 1 := Scalar.andi v492 v494
  let v481 : BitVec 32 := Scalar.divsi v480 c16_i32
  let c1_i32_320 : BitVec 32 := 1#32
  let v496 : BitVec 32 := Scalar.subi v481 c1_i32_320
  let v497 : BitVec 32 := Scalar.select v495 v496 v481
  let v548 : BitVec 32 := Scalar.subi v497 c0_i32_366
  let c1_i32_367 : BitVec 32 := 1#32
  let v550 : BitVec 32 := Scalar.divsi v548 c1_i32_367
  let v551 : BitVec 32 := Scalar.muli v550 c1_i32_367
  let v552 : BitVec 32 := Scalar.addi c0_i32_366 v551
  let c1_i32_369 : BitVec 32 := 1#32
  let arg11 : BitVec 32 := Scf.iv v552 c1_i32_369 k0_t2
  let c16_i32_421 : BitVec 32 := 16#32
  let v684 : BitVec 32 := Scalar.muli arg11 c16_i32_421
  let v685 : BitVec 32 := Scalar.addi c1_i32_422 v684
  let c7_i32_1876 : BitVec 32 := 7#32
  let v2739 : BitVec 32 := Scalar.addi v685 c7_i32_1876
  let c1_i32_1877 : BitVec 32 := 1#32
  let v2740 : BitVec 32 := Scalar.subi v1 c1_i32_1877
  let v2741 : BitVec 32 := Scalar.minsi v2739 v2740
  let c256_i32_1878 : BitVec 32 := 256#32
  let v2742 : BitVec 32 := Scalar.muli v2741 c256_i32_1878
  v2742
def k0_mult202 (i : grid0.Coords) (k0_t2 : Fin (k0_t2_loop i).trips) : BitVec 32 :=
  let c1_i32_422 : BitVec 32 := 1#32
  let c0_i32_366 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_314 : BitVec 32 := 1#32
  let v480 : BitVec 32 := Scalar.subi v1 c1_i32_314
  let c0_i32_315 : BitVec 32 := 0#32
  let v482 : BitVec 1 := Scalar.cmpi .sgt v480 c0_i32_315
  let v483 : BitVec 32 := Scalar.extui v482
  let c0_i32_316 : BitVec 32 := 0#32
  let v484 : BitVec 1 := Scalar.cmpi .slt v480 c0_i32_316
  let v485 : BitVec 32 := Scalar.extui v484
  let v486 : BitVec 32 := Scalar.subi v483 v485
  let c16_i32 : BitVec 32 := 16#32
  let c0_i32_317 : BitVec 32 := 0#32
  let v487 : BitVec 1 := Scalar.cmpi .sgt c16_i32 c0_i32_317
  let v488 : BitVec 32 := Scalar.extui v487
  let c0_i32_318 : BitVec 32 := 0#32
  let v489 : BitVec 1 := Scalar.cmpi .slt c16_i32 c0_i32_318
  let v490 : BitVec 32 := Scalar.extui v489
  let v491 : BitVec 32 := Scalar.subi v488 v490
  let v492 : BitVec 1 := Scalar.cmpi .ne v486 v491
  let v493 : BitVec 32 := Scalar.remsi v480 c16_i32
  let c0_i32_319 : BitVec 32 := 0#32
  let v494 : BitVec 1 := Scalar.cmpi .ne v493 c0_i32_319
  let v495 : BitVec 1 := Scalar.andi v492 v494
  let v481 : BitVec 32 := Scalar.divsi v480 c16_i32
  let c1_i32_320 : BitVec 32 := 1#32
  let v496 : BitVec 32 := Scalar.subi v481 c1_i32_320
  let v497 : BitVec 32 := Scalar.select v495 v496 v481
  let v548 : BitVec 32 := Scalar.subi v497 c0_i32_366
  let c1_i32_367 : BitVec 32 := 1#32
  let v550 : BitVec 32 := Scalar.divsi v548 c1_i32_367
  let v551 : BitVec 32 := Scalar.muli v550 c1_i32_367
  let v552 : BitVec 32 := Scalar.addi c0_i32_366 v551
  let c1_i32_369 : BitVec 32 := 1#32
  let arg11 : BitVec 32 := Scf.iv v552 c1_i32_369 k0_t2
  let c16_i32_421 : BitVec 32 := 16#32
  let v684 : BitVec 32 := Scalar.muli arg11 c16_i32_421
  let v685 : BitVec 32 := Scalar.addi c1_i32_422 v684
  let c7_i32_1903 : BitVec 32 := 7#32
  let v2777 : BitVec 32 := Scalar.addi v685 c7_i32_1903
  let c1_i32_1904 : BitVec 32 := 1#32
  let v2778 : BitVec 32 := Scalar.subi v1 c1_i32_1904
  let v2779 : BitVec 32 := Scalar.minsi v2777 v2778
  let c256_i32_1905 : BitVec 32 := 256#32
  let v2780 : BitVec 32 := Scalar.muli v2779 c256_i32_1905
  v2780
def k0_mult203 (i : grid0.Coords) (k0_t2 : Fin (k0_t2_loop i).trips) : BitVec 32 :=
  let c1_i32_422 : BitVec 32 := 1#32
  let c0_i32_366 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_314 : BitVec 32 := 1#32
  let v480 : BitVec 32 := Scalar.subi v1 c1_i32_314
  let c0_i32_315 : BitVec 32 := 0#32
  let v482 : BitVec 1 := Scalar.cmpi .sgt v480 c0_i32_315
  let v483 : BitVec 32 := Scalar.extui v482
  let c0_i32_316 : BitVec 32 := 0#32
  let v484 : BitVec 1 := Scalar.cmpi .slt v480 c0_i32_316
  let v485 : BitVec 32 := Scalar.extui v484
  let v486 : BitVec 32 := Scalar.subi v483 v485
  let c16_i32 : BitVec 32 := 16#32
  let c0_i32_317 : BitVec 32 := 0#32
  let v487 : BitVec 1 := Scalar.cmpi .sgt c16_i32 c0_i32_317
  let v488 : BitVec 32 := Scalar.extui v487
  let c0_i32_318 : BitVec 32 := 0#32
  let v489 : BitVec 1 := Scalar.cmpi .slt c16_i32 c0_i32_318
  let v490 : BitVec 32 := Scalar.extui v489
  let v491 : BitVec 32 := Scalar.subi v488 v490
  let v492 : BitVec 1 := Scalar.cmpi .ne v486 v491
  let v493 : BitVec 32 := Scalar.remsi v480 c16_i32
  let c0_i32_319 : BitVec 32 := 0#32
  let v494 : BitVec 1 := Scalar.cmpi .ne v493 c0_i32_319
  let v495 : BitVec 1 := Scalar.andi v492 v494
  let v481 : BitVec 32 := Scalar.divsi v480 c16_i32
  let c1_i32_320 : BitVec 32 := 1#32
  let v496 : BitVec 32 := Scalar.subi v481 c1_i32_320
  let v497 : BitVec 32 := Scalar.select v495 v496 v481
  let v548 : BitVec 32 := Scalar.subi v497 c0_i32_366
  let c1_i32_367 : BitVec 32 := 1#32
  let v550 : BitVec 32 := Scalar.divsi v548 c1_i32_367
  let v551 : BitVec 32 := Scalar.muli v550 c1_i32_367
  let v552 : BitVec 32 := Scalar.addi c0_i32_366 v551
  let c1_i32_369 : BitVec 32 := 1#32
  let arg11 : BitVec 32 := Scf.iv v552 c1_i32_369 k0_t2
  let c16_i32_421 : BitVec 32 := 16#32
  let v684 : BitVec 32 := Scalar.muli arg11 c16_i32_421
  let v685 : BitVec 32 := Scalar.addi c1_i32_422 v684
  let c7_i32_1930 : BitVec 32 := 7#32
  let v2815 : BitVec 32 := Scalar.addi v685 c7_i32_1930
  let c1_i32_1931 : BitVec 32 := 1#32
  let v2816 : BitVec 32 := Scalar.subi v1 c1_i32_1931
  let v2817 : BitVec 32 := Scalar.minsi v2815 v2816
  let c256_i32_1932 : BitVec 32 := 256#32
  let v2818 : BitVec 32 := Scalar.muli v2817 c256_i32_1932
  v2818
def k0_mult204 (i : grid0.Coords) (k0_t2 : Fin (k0_t2_loop i).trips) : BitVec 32 :=
  let c1_i32_422 : BitVec 32 := 1#32
  let c0_i32_366 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_314 : BitVec 32 := 1#32
  let v480 : BitVec 32 := Scalar.subi v1 c1_i32_314
  let c0_i32_315 : BitVec 32 := 0#32
  let v482 : BitVec 1 := Scalar.cmpi .sgt v480 c0_i32_315
  let v483 : BitVec 32 := Scalar.extui v482
  let c0_i32_316 : BitVec 32 := 0#32
  let v484 : BitVec 1 := Scalar.cmpi .slt v480 c0_i32_316
  let v485 : BitVec 32 := Scalar.extui v484
  let v486 : BitVec 32 := Scalar.subi v483 v485
  let c16_i32 : BitVec 32 := 16#32
  let c0_i32_317 : BitVec 32 := 0#32
  let v487 : BitVec 1 := Scalar.cmpi .sgt c16_i32 c0_i32_317
  let v488 : BitVec 32 := Scalar.extui v487
  let c0_i32_318 : BitVec 32 := 0#32
  let v489 : BitVec 1 := Scalar.cmpi .slt c16_i32 c0_i32_318
  let v490 : BitVec 32 := Scalar.extui v489
  let v491 : BitVec 32 := Scalar.subi v488 v490
  let v492 : BitVec 1 := Scalar.cmpi .ne v486 v491
  let v493 : BitVec 32 := Scalar.remsi v480 c16_i32
  let c0_i32_319 : BitVec 32 := 0#32
  let v494 : BitVec 1 := Scalar.cmpi .ne v493 c0_i32_319
  let v495 : BitVec 1 := Scalar.andi v492 v494
  let v481 : BitVec 32 := Scalar.divsi v480 c16_i32
  let c1_i32_320 : BitVec 32 := 1#32
  let v496 : BitVec 32 := Scalar.subi v481 c1_i32_320
  let v497 : BitVec 32 := Scalar.select v495 v496 v481
  let v548 : BitVec 32 := Scalar.subi v497 c0_i32_366
  let c1_i32_367 : BitVec 32 := 1#32
  let v550 : BitVec 32 := Scalar.divsi v548 c1_i32_367
  let v551 : BitVec 32 := Scalar.muli v550 c1_i32_367
  let v552 : BitVec 32 := Scalar.addi c0_i32_366 v551
  let c1_i32_369 : BitVec 32 := 1#32
  let arg11 : BitVec 32 := Scf.iv v552 c1_i32_369 k0_t2
  let c16_i32_421 : BitVec 32 := 16#32
  let v684 : BitVec 32 := Scalar.muli arg11 c16_i32_421
  let v685 : BitVec 32 := Scalar.addi c1_i32_422 v684
  let c7_i32_1957 : BitVec 32 := 7#32
  let v2853 : BitVec 32 := Scalar.addi v685 c7_i32_1957
  let c1_i32_1958 : BitVec 32 := 1#32
  let v2854 : BitVec 32 := Scalar.subi v1 c1_i32_1958
  let v2855 : BitVec 32 := Scalar.minsi v2853 v2854
  let c256_i32_1959 : BitVec 32 := 256#32
  let v2856 : BitVec 32 := Scalar.muli v2855 c256_i32_1959
  v2856
def k0_mult205 (i : grid0.Coords) (k0_t2 : Fin (k0_t2_loop i).trips) : BitVec 32 :=
  let c1_i32_422 : BitVec 32 := 1#32
  let c0_i32_366 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_314 : BitVec 32 := 1#32
  let v480 : BitVec 32 := Scalar.subi v1 c1_i32_314
  let c0_i32_315 : BitVec 32 := 0#32
  let v482 : BitVec 1 := Scalar.cmpi .sgt v480 c0_i32_315
  let v483 : BitVec 32 := Scalar.extui v482
  let c0_i32_316 : BitVec 32 := 0#32
  let v484 : BitVec 1 := Scalar.cmpi .slt v480 c0_i32_316
  let v485 : BitVec 32 := Scalar.extui v484
  let v486 : BitVec 32 := Scalar.subi v483 v485
  let c16_i32 : BitVec 32 := 16#32
  let c0_i32_317 : BitVec 32 := 0#32
  let v487 : BitVec 1 := Scalar.cmpi .sgt c16_i32 c0_i32_317
  let v488 : BitVec 32 := Scalar.extui v487
  let c0_i32_318 : BitVec 32 := 0#32
  let v489 : BitVec 1 := Scalar.cmpi .slt c16_i32 c0_i32_318
  let v490 : BitVec 32 := Scalar.extui v489
  let v491 : BitVec 32 := Scalar.subi v488 v490
  let v492 : BitVec 1 := Scalar.cmpi .ne v486 v491
  let v493 : BitVec 32 := Scalar.remsi v480 c16_i32
  let c0_i32_319 : BitVec 32 := 0#32
  let v494 : BitVec 1 := Scalar.cmpi .ne v493 c0_i32_319
  let v495 : BitVec 1 := Scalar.andi v492 v494
  let v481 : BitVec 32 := Scalar.divsi v480 c16_i32
  let c1_i32_320 : BitVec 32 := 1#32
  let v496 : BitVec 32 := Scalar.subi v481 c1_i32_320
  let v497 : BitVec 32 := Scalar.select v495 v496 v481
  let v548 : BitVec 32 := Scalar.subi v497 c0_i32_366
  let c1_i32_367 : BitVec 32 := 1#32
  let v550 : BitVec 32 := Scalar.divsi v548 c1_i32_367
  let v551 : BitVec 32 := Scalar.muli v550 c1_i32_367
  let v552 : BitVec 32 := Scalar.addi c0_i32_366 v551
  let c1_i32_369 : BitVec 32 := 1#32
  let arg11 : BitVec 32 := Scf.iv v552 c1_i32_369 k0_t2
  let c16_i32_421 : BitVec 32 := 16#32
  let v684 : BitVec 32 := Scalar.muli arg11 c16_i32_421
  let v685 : BitVec 32 := Scalar.addi c1_i32_422 v684
  let c7_i32_1984 : BitVec 32 := 7#32
  let v2891 : BitVec 32 := Scalar.addi v685 c7_i32_1984
  let c1_i32_1985 : BitVec 32 := 1#32
  let v2892 : BitVec 32 := Scalar.subi v1 c1_i32_1985
  let v2893 : BitVec 32 := Scalar.minsi v2891 v2892
  let c256_i32_1986 : BitVec 32 := 256#32
  let v2894 : BitVec 32 := Scalar.muli v2893 c256_i32_1986
  v2894
def k0_mult206 (i : grid0.Coords) (k0_t2 : Fin (k0_t2_loop i).trips) : BitVec 32 :=
  let c1_i32_422 : BitVec 32 := 1#32
  let c0_i32_366 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_314 : BitVec 32 := 1#32
  let v480 : BitVec 32 := Scalar.subi v1 c1_i32_314
  let c0_i32_315 : BitVec 32 := 0#32
  let v482 : BitVec 1 := Scalar.cmpi .sgt v480 c0_i32_315
  let v483 : BitVec 32 := Scalar.extui v482
  let c0_i32_316 : BitVec 32 := 0#32
  let v484 : BitVec 1 := Scalar.cmpi .slt v480 c0_i32_316
  let v485 : BitVec 32 := Scalar.extui v484
  let v486 : BitVec 32 := Scalar.subi v483 v485
  let c16_i32 : BitVec 32 := 16#32
  let c0_i32_317 : BitVec 32 := 0#32
  let v487 : BitVec 1 := Scalar.cmpi .sgt c16_i32 c0_i32_317
  let v488 : BitVec 32 := Scalar.extui v487
  let c0_i32_318 : BitVec 32 := 0#32
  let v489 : BitVec 1 := Scalar.cmpi .slt c16_i32 c0_i32_318
  let v490 : BitVec 32 := Scalar.extui v489
  let v491 : BitVec 32 := Scalar.subi v488 v490
  let v492 : BitVec 1 := Scalar.cmpi .ne v486 v491
  let v493 : BitVec 32 := Scalar.remsi v480 c16_i32
  let c0_i32_319 : BitVec 32 := 0#32
  let v494 : BitVec 1 := Scalar.cmpi .ne v493 c0_i32_319
  let v495 : BitVec 1 := Scalar.andi v492 v494
  let v481 : BitVec 32 := Scalar.divsi v480 c16_i32
  let c1_i32_320 : BitVec 32 := 1#32
  let v496 : BitVec 32 := Scalar.subi v481 c1_i32_320
  let v497 : BitVec 32 := Scalar.select v495 v496 v481
  let v548 : BitVec 32 := Scalar.subi v497 c0_i32_366
  let c1_i32_367 : BitVec 32 := 1#32
  let v550 : BitVec 32 := Scalar.divsi v548 c1_i32_367
  let v551 : BitVec 32 := Scalar.muli v550 c1_i32_367
  let v552 : BitVec 32 := Scalar.addi c0_i32_366 v551
  let c1_i32_369 : BitVec 32 := 1#32
  let arg11 : BitVec 32 := Scf.iv v552 c1_i32_369 k0_t2
  let c16_i32_421 : BitVec 32 := 16#32
  let v684 : BitVec 32 := Scalar.muli arg11 c16_i32_421
  let v685 : BitVec 32 := Scalar.addi c1_i32_422 v684
  let c8_i32 : BitVec 32 := 8#32
  let v2929 : BitVec 32 := Scalar.addi v685 c8_i32
  let c1_i32_2011 : BitVec 32 := 1#32
  let v2930 : BitVec 32 := Scalar.subi v1 c1_i32_2011
  let v2931 : BitVec 32 := Scalar.minsi v2929 v2930
  let c256_i32_2012 : BitVec 32 := 256#32
  let v2932 : BitVec 32 := Scalar.muli v2931 c256_i32_2012
  v2932
def k0_mult207 (i : grid0.Coords) (k0_t2 : Fin (k0_t2_loop i).trips) : BitVec 32 :=
  let c1_i32_422 : BitVec 32 := 1#32
  let c0_i32_366 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_314 : BitVec 32 := 1#32
  let v480 : BitVec 32 := Scalar.subi v1 c1_i32_314
  let c0_i32_315 : BitVec 32 := 0#32
  let v482 : BitVec 1 := Scalar.cmpi .sgt v480 c0_i32_315
  let v483 : BitVec 32 := Scalar.extui v482
  let c0_i32_316 : BitVec 32 := 0#32
  let v484 : BitVec 1 := Scalar.cmpi .slt v480 c0_i32_316
  let v485 : BitVec 32 := Scalar.extui v484
  let v486 : BitVec 32 := Scalar.subi v483 v485
  let c16_i32 : BitVec 32 := 16#32
  let c0_i32_317 : BitVec 32 := 0#32
  let v487 : BitVec 1 := Scalar.cmpi .sgt c16_i32 c0_i32_317
  let v488 : BitVec 32 := Scalar.extui v487
  let c0_i32_318 : BitVec 32 := 0#32
  let v489 : BitVec 1 := Scalar.cmpi .slt c16_i32 c0_i32_318
  let v490 : BitVec 32 := Scalar.extui v489
  let v491 : BitVec 32 := Scalar.subi v488 v490
  let v492 : BitVec 1 := Scalar.cmpi .ne v486 v491
  let v493 : BitVec 32 := Scalar.remsi v480 c16_i32
  let c0_i32_319 : BitVec 32 := 0#32
  let v494 : BitVec 1 := Scalar.cmpi .ne v493 c0_i32_319
  let v495 : BitVec 1 := Scalar.andi v492 v494
  let v481 : BitVec 32 := Scalar.divsi v480 c16_i32
  let c1_i32_320 : BitVec 32 := 1#32
  let v496 : BitVec 32 := Scalar.subi v481 c1_i32_320
  let v497 : BitVec 32 := Scalar.select v495 v496 v481
  let v548 : BitVec 32 := Scalar.subi v497 c0_i32_366
  let c1_i32_367 : BitVec 32 := 1#32
  let v550 : BitVec 32 := Scalar.divsi v548 c1_i32_367
  let v551 : BitVec 32 := Scalar.muli v550 c1_i32_367
  let v552 : BitVec 32 := Scalar.addi c0_i32_366 v551
  let c1_i32_369 : BitVec 32 := 1#32
  let arg11 : BitVec 32 := Scf.iv v552 c1_i32_369 k0_t2
  let c16_i32_421 : BitVec 32 := 16#32
  let v684 : BitVec 32 := Scalar.muli arg11 c16_i32_421
  let v685 : BitVec 32 := Scalar.addi c1_i32_422 v684
  let c8_i32_2037 : BitVec 32 := 8#32
  let v2967 : BitVec 32 := Scalar.addi v685 c8_i32_2037
  let c1_i32_2038 : BitVec 32 := 1#32
  let v2968 : BitVec 32 := Scalar.subi v1 c1_i32_2038
  let v2969 : BitVec 32 := Scalar.minsi v2967 v2968
  let c256_i32_2039 : BitVec 32 := 256#32
  let v2970 : BitVec 32 := Scalar.muli v2969 c256_i32_2039
  v2970
def k0_mult208 (i : grid0.Coords) (k0_t2 : Fin (k0_t2_loop i).trips) : BitVec 32 :=
  let c1_i32_422 : BitVec 32 := 1#32
  let c0_i32_366 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_314 : BitVec 32 := 1#32
  let v480 : BitVec 32 := Scalar.subi v1 c1_i32_314
  let c0_i32_315 : BitVec 32 := 0#32
  let v482 : BitVec 1 := Scalar.cmpi .sgt v480 c0_i32_315
  let v483 : BitVec 32 := Scalar.extui v482
  let c0_i32_316 : BitVec 32 := 0#32
  let v484 : BitVec 1 := Scalar.cmpi .slt v480 c0_i32_316
  let v485 : BitVec 32 := Scalar.extui v484
  let v486 : BitVec 32 := Scalar.subi v483 v485
  let c16_i32 : BitVec 32 := 16#32
  let c0_i32_317 : BitVec 32 := 0#32
  let v487 : BitVec 1 := Scalar.cmpi .sgt c16_i32 c0_i32_317
  let v488 : BitVec 32 := Scalar.extui v487
  let c0_i32_318 : BitVec 32 := 0#32
  let v489 : BitVec 1 := Scalar.cmpi .slt c16_i32 c0_i32_318
  let v490 : BitVec 32 := Scalar.extui v489
  let v491 : BitVec 32 := Scalar.subi v488 v490
  let v492 : BitVec 1 := Scalar.cmpi .ne v486 v491
  let v493 : BitVec 32 := Scalar.remsi v480 c16_i32
  let c0_i32_319 : BitVec 32 := 0#32
  let v494 : BitVec 1 := Scalar.cmpi .ne v493 c0_i32_319
  let v495 : BitVec 1 := Scalar.andi v492 v494
  let v481 : BitVec 32 := Scalar.divsi v480 c16_i32
  let c1_i32_320 : BitVec 32 := 1#32
  let v496 : BitVec 32 := Scalar.subi v481 c1_i32_320
  let v497 : BitVec 32 := Scalar.select v495 v496 v481
  let v548 : BitVec 32 := Scalar.subi v497 c0_i32_366
  let c1_i32_367 : BitVec 32 := 1#32
  let v550 : BitVec 32 := Scalar.divsi v548 c1_i32_367
  let v551 : BitVec 32 := Scalar.muli v550 c1_i32_367
  let v552 : BitVec 32 := Scalar.addi c0_i32_366 v551
  let c1_i32_369 : BitVec 32 := 1#32
  let arg11 : BitVec 32 := Scf.iv v552 c1_i32_369 k0_t2
  let c16_i32_421 : BitVec 32 := 16#32
  let v684 : BitVec 32 := Scalar.muli arg11 c16_i32_421
  let v685 : BitVec 32 := Scalar.addi c1_i32_422 v684
  let c8_i32_2064 : BitVec 32 := 8#32
  let v3005 : BitVec 32 := Scalar.addi v685 c8_i32_2064
  let c1_i32_2065 : BitVec 32 := 1#32
  let v3006 : BitVec 32 := Scalar.subi v1 c1_i32_2065
  let v3007 : BitVec 32 := Scalar.minsi v3005 v3006
  let c256_i32_2066 : BitVec 32 := 256#32
  let v3008 : BitVec 32 := Scalar.muli v3007 c256_i32_2066
  v3008
def k0_mult209 (i : grid0.Coords) (k0_t2 : Fin (k0_t2_loop i).trips) : BitVec 32 :=
  let c1_i32_422 : BitVec 32 := 1#32
  let c0_i32_366 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_314 : BitVec 32 := 1#32
  let v480 : BitVec 32 := Scalar.subi v1 c1_i32_314
  let c0_i32_315 : BitVec 32 := 0#32
  let v482 : BitVec 1 := Scalar.cmpi .sgt v480 c0_i32_315
  let v483 : BitVec 32 := Scalar.extui v482
  let c0_i32_316 : BitVec 32 := 0#32
  let v484 : BitVec 1 := Scalar.cmpi .slt v480 c0_i32_316
  let v485 : BitVec 32 := Scalar.extui v484
  let v486 : BitVec 32 := Scalar.subi v483 v485
  let c16_i32 : BitVec 32 := 16#32
  let c0_i32_317 : BitVec 32 := 0#32
  let v487 : BitVec 1 := Scalar.cmpi .sgt c16_i32 c0_i32_317
  let v488 : BitVec 32 := Scalar.extui v487
  let c0_i32_318 : BitVec 32 := 0#32
  let v489 : BitVec 1 := Scalar.cmpi .slt c16_i32 c0_i32_318
  let v490 : BitVec 32 := Scalar.extui v489
  let v491 : BitVec 32 := Scalar.subi v488 v490
  let v492 : BitVec 1 := Scalar.cmpi .ne v486 v491
  let v493 : BitVec 32 := Scalar.remsi v480 c16_i32
  let c0_i32_319 : BitVec 32 := 0#32
  let v494 : BitVec 1 := Scalar.cmpi .ne v493 c0_i32_319
  let v495 : BitVec 1 := Scalar.andi v492 v494
  let v481 : BitVec 32 := Scalar.divsi v480 c16_i32
  let c1_i32_320 : BitVec 32 := 1#32
  let v496 : BitVec 32 := Scalar.subi v481 c1_i32_320
  let v497 : BitVec 32 := Scalar.select v495 v496 v481
  let v548 : BitVec 32 := Scalar.subi v497 c0_i32_366
  let c1_i32_367 : BitVec 32 := 1#32
  let v550 : BitVec 32 := Scalar.divsi v548 c1_i32_367
  let v551 : BitVec 32 := Scalar.muli v550 c1_i32_367
  let v552 : BitVec 32 := Scalar.addi c0_i32_366 v551
  let c1_i32_369 : BitVec 32 := 1#32
  let arg11 : BitVec 32 := Scf.iv v552 c1_i32_369 k0_t2
  let c16_i32_421 : BitVec 32 := 16#32
  let v684 : BitVec 32 := Scalar.muli arg11 c16_i32_421
  let v685 : BitVec 32 := Scalar.addi c1_i32_422 v684
  let c8_i32_2091 : BitVec 32 := 8#32
  let v3043 : BitVec 32 := Scalar.addi v685 c8_i32_2091
  let c1_i32_2092 : BitVec 32 := 1#32
  let v3044 : BitVec 32 := Scalar.subi v1 c1_i32_2092
  let v3045 : BitVec 32 := Scalar.minsi v3043 v3044
  let c256_i32_2093 : BitVec 32 := 256#32
  let v3046 : BitVec 32 := Scalar.muli v3045 c256_i32_2093
  v3046
def k0_mult210 (i : grid0.Coords) (k0_t2 : Fin (k0_t2_loop i).trips) : BitVec 32 :=
  let c1_i32_422 : BitVec 32 := 1#32
  let c0_i32_366 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_314 : BitVec 32 := 1#32
  let v480 : BitVec 32 := Scalar.subi v1 c1_i32_314
  let c0_i32_315 : BitVec 32 := 0#32
  let v482 : BitVec 1 := Scalar.cmpi .sgt v480 c0_i32_315
  let v483 : BitVec 32 := Scalar.extui v482
  let c0_i32_316 : BitVec 32 := 0#32
  let v484 : BitVec 1 := Scalar.cmpi .slt v480 c0_i32_316
  let v485 : BitVec 32 := Scalar.extui v484
  let v486 : BitVec 32 := Scalar.subi v483 v485
  let c16_i32 : BitVec 32 := 16#32
  let c0_i32_317 : BitVec 32 := 0#32
  let v487 : BitVec 1 := Scalar.cmpi .sgt c16_i32 c0_i32_317
  let v488 : BitVec 32 := Scalar.extui v487
  let c0_i32_318 : BitVec 32 := 0#32
  let v489 : BitVec 1 := Scalar.cmpi .slt c16_i32 c0_i32_318
  let v490 : BitVec 32 := Scalar.extui v489
  let v491 : BitVec 32 := Scalar.subi v488 v490
  let v492 : BitVec 1 := Scalar.cmpi .ne v486 v491
  let v493 : BitVec 32 := Scalar.remsi v480 c16_i32
  let c0_i32_319 : BitVec 32 := 0#32
  let v494 : BitVec 1 := Scalar.cmpi .ne v493 c0_i32_319
  let v495 : BitVec 1 := Scalar.andi v492 v494
  let v481 : BitVec 32 := Scalar.divsi v480 c16_i32
  let c1_i32_320 : BitVec 32 := 1#32
  let v496 : BitVec 32 := Scalar.subi v481 c1_i32_320
  let v497 : BitVec 32 := Scalar.select v495 v496 v481
  let v548 : BitVec 32 := Scalar.subi v497 c0_i32_366
  let c1_i32_367 : BitVec 32 := 1#32
  let v550 : BitVec 32 := Scalar.divsi v548 c1_i32_367
  let v551 : BitVec 32 := Scalar.muli v550 c1_i32_367
  let v552 : BitVec 32 := Scalar.addi c0_i32_366 v551
  let c1_i32_369 : BitVec 32 := 1#32
  let arg11 : BitVec 32 := Scf.iv v552 c1_i32_369 k0_t2
  let c16_i32_421 : BitVec 32 := 16#32
  let v684 : BitVec 32 := Scalar.muli arg11 c16_i32_421
  let v685 : BitVec 32 := Scalar.addi c1_i32_422 v684
  let c8_i32_2118 : BitVec 32 := 8#32
  let v3081 : BitVec 32 := Scalar.addi v685 c8_i32_2118
  let c1_i32_2119 : BitVec 32 := 1#32
  let v3082 : BitVec 32 := Scalar.subi v1 c1_i32_2119
  let v3083 : BitVec 32 := Scalar.minsi v3081 v3082
  let c256_i32_2120 : BitVec 32 := 256#32
  let v3084 : BitVec 32 := Scalar.muli v3083 c256_i32_2120
  v3084
def k0_mult211 (i : grid0.Coords) (k0_t2 : Fin (k0_t2_loop i).trips) : BitVec 32 :=
  let c1_i32_422 : BitVec 32 := 1#32
  let c0_i32_366 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_314 : BitVec 32 := 1#32
  let v480 : BitVec 32 := Scalar.subi v1 c1_i32_314
  let c0_i32_315 : BitVec 32 := 0#32
  let v482 : BitVec 1 := Scalar.cmpi .sgt v480 c0_i32_315
  let v483 : BitVec 32 := Scalar.extui v482
  let c0_i32_316 : BitVec 32 := 0#32
  let v484 : BitVec 1 := Scalar.cmpi .slt v480 c0_i32_316
  let v485 : BitVec 32 := Scalar.extui v484
  let v486 : BitVec 32 := Scalar.subi v483 v485
  let c16_i32 : BitVec 32 := 16#32
  let c0_i32_317 : BitVec 32 := 0#32
  let v487 : BitVec 1 := Scalar.cmpi .sgt c16_i32 c0_i32_317
  let v488 : BitVec 32 := Scalar.extui v487
  let c0_i32_318 : BitVec 32 := 0#32
  let v489 : BitVec 1 := Scalar.cmpi .slt c16_i32 c0_i32_318
  let v490 : BitVec 32 := Scalar.extui v489
  let v491 : BitVec 32 := Scalar.subi v488 v490
  let v492 : BitVec 1 := Scalar.cmpi .ne v486 v491
  let v493 : BitVec 32 := Scalar.remsi v480 c16_i32
  let c0_i32_319 : BitVec 32 := 0#32
  let v494 : BitVec 1 := Scalar.cmpi .ne v493 c0_i32_319
  let v495 : BitVec 1 := Scalar.andi v492 v494
  let v481 : BitVec 32 := Scalar.divsi v480 c16_i32
  let c1_i32_320 : BitVec 32 := 1#32
  let v496 : BitVec 32 := Scalar.subi v481 c1_i32_320
  let v497 : BitVec 32 := Scalar.select v495 v496 v481
  let v548 : BitVec 32 := Scalar.subi v497 c0_i32_366
  let c1_i32_367 : BitVec 32 := 1#32
  let v550 : BitVec 32 := Scalar.divsi v548 c1_i32_367
  let v551 : BitVec 32 := Scalar.muli v550 c1_i32_367
  let v552 : BitVec 32 := Scalar.addi c0_i32_366 v551
  let c1_i32_369 : BitVec 32 := 1#32
  let arg11 : BitVec 32 := Scf.iv v552 c1_i32_369 k0_t2
  let c16_i32_421 : BitVec 32 := 16#32
  let v684 : BitVec 32 := Scalar.muli arg11 c16_i32_421
  let v685 : BitVec 32 := Scalar.addi c1_i32_422 v684
  let c8_i32_2145 : BitVec 32 := 8#32
  let v3119 : BitVec 32 := Scalar.addi v685 c8_i32_2145
  let c1_i32_2146 : BitVec 32 := 1#32
  let v3120 : BitVec 32 := Scalar.subi v1 c1_i32_2146
  let v3121 : BitVec 32 := Scalar.minsi v3119 v3120
  let c256_i32_2147 : BitVec 32 := 256#32
  let v3122 : BitVec 32 := Scalar.muli v3121 c256_i32_2147
  v3122
def k0_mult212 (i : grid0.Coords) (k0_t2 : Fin (k0_t2_loop i).trips) : BitVec 32 :=
  let c1_i32_422 : BitVec 32 := 1#32
  let c0_i32_366 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_314 : BitVec 32 := 1#32
  let v480 : BitVec 32 := Scalar.subi v1 c1_i32_314
  let c0_i32_315 : BitVec 32 := 0#32
  let v482 : BitVec 1 := Scalar.cmpi .sgt v480 c0_i32_315
  let v483 : BitVec 32 := Scalar.extui v482
  let c0_i32_316 : BitVec 32 := 0#32
  let v484 : BitVec 1 := Scalar.cmpi .slt v480 c0_i32_316
  let v485 : BitVec 32 := Scalar.extui v484
  let v486 : BitVec 32 := Scalar.subi v483 v485
  let c16_i32 : BitVec 32 := 16#32
  let c0_i32_317 : BitVec 32 := 0#32
  let v487 : BitVec 1 := Scalar.cmpi .sgt c16_i32 c0_i32_317
  let v488 : BitVec 32 := Scalar.extui v487
  let c0_i32_318 : BitVec 32 := 0#32
  let v489 : BitVec 1 := Scalar.cmpi .slt c16_i32 c0_i32_318
  let v490 : BitVec 32 := Scalar.extui v489
  let v491 : BitVec 32 := Scalar.subi v488 v490
  let v492 : BitVec 1 := Scalar.cmpi .ne v486 v491
  let v493 : BitVec 32 := Scalar.remsi v480 c16_i32
  let c0_i32_319 : BitVec 32 := 0#32
  let v494 : BitVec 1 := Scalar.cmpi .ne v493 c0_i32_319
  let v495 : BitVec 1 := Scalar.andi v492 v494
  let v481 : BitVec 32 := Scalar.divsi v480 c16_i32
  let c1_i32_320 : BitVec 32 := 1#32
  let v496 : BitVec 32 := Scalar.subi v481 c1_i32_320
  let v497 : BitVec 32 := Scalar.select v495 v496 v481
  let v548 : BitVec 32 := Scalar.subi v497 c0_i32_366
  let c1_i32_367 : BitVec 32 := 1#32
  let v550 : BitVec 32 := Scalar.divsi v548 c1_i32_367
  let v551 : BitVec 32 := Scalar.muli v550 c1_i32_367
  let v552 : BitVec 32 := Scalar.addi c0_i32_366 v551
  let c1_i32_369 : BitVec 32 := 1#32
  let arg11 : BitVec 32 := Scf.iv v552 c1_i32_369 k0_t2
  let c16_i32_421 : BitVec 32 := 16#32
  let v684 : BitVec 32 := Scalar.muli arg11 c16_i32_421
  let v685 : BitVec 32 := Scalar.addi c1_i32_422 v684
  let c8_i32_2172 : BitVec 32 := 8#32
  let v3157 : BitVec 32 := Scalar.addi v685 c8_i32_2172
  let c1_i32_2173 : BitVec 32 := 1#32
  let v3158 : BitVec 32 := Scalar.subi v1 c1_i32_2173
  let v3159 : BitVec 32 := Scalar.minsi v3157 v3158
  let c256_i32_2174 : BitVec 32 := 256#32
  let v3160 : BitVec 32 := Scalar.muli v3159 c256_i32_2174
  v3160
def k0_mult213 (i : grid0.Coords) (k0_t2 : Fin (k0_t2_loop i).trips) : BitVec 32 :=
  let c1_i32_422 : BitVec 32 := 1#32
  let c0_i32_366 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_314 : BitVec 32 := 1#32
  let v480 : BitVec 32 := Scalar.subi v1 c1_i32_314
  let c0_i32_315 : BitVec 32 := 0#32
  let v482 : BitVec 1 := Scalar.cmpi .sgt v480 c0_i32_315
  let v483 : BitVec 32 := Scalar.extui v482
  let c0_i32_316 : BitVec 32 := 0#32
  let v484 : BitVec 1 := Scalar.cmpi .slt v480 c0_i32_316
  let v485 : BitVec 32 := Scalar.extui v484
  let v486 : BitVec 32 := Scalar.subi v483 v485
  let c16_i32 : BitVec 32 := 16#32
  let c0_i32_317 : BitVec 32 := 0#32
  let v487 : BitVec 1 := Scalar.cmpi .sgt c16_i32 c0_i32_317
  let v488 : BitVec 32 := Scalar.extui v487
  let c0_i32_318 : BitVec 32 := 0#32
  let v489 : BitVec 1 := Scalar.cmpi .slt c16_i32 c0_i32_318
  let v490 : BitVec 32 := Scalar.extui v489
  let v491 : BitVec 32 := Scalar.subi v488 v490
  let v492 : BitVec 1 := Scalar.cmpi .ne v486 v491
  let v493 : BitVec 32 := Scalar.remsi v480 c16_i32
  let c0_i32_319 : BitVec 32 := 0#32
  let v494 : BitVec 1 := Scalar.cmpi .ne v493 c0_i32_319
  let v495 : BitVec 1 := Scalar.andi v492 v494
  let v481 : BitVec 32 := Scalar.divsi v480 c16_i32
  let c1_i32_320 : BitVec 32 := 1#32
  let v496 : BitVec 32 := Scalar.subi v481 c1_i32_320
  let v497 : BitVec 32 := Scalar.select v495 v496 v481
  let v548 : BitVec 32 := Scalar.subi v497 c0_i32_366
  let c1_i32_367 : BitVec 32 := 1#32
  let v550 : BitVec 32 := Scalar.divsi v548 c1_i32_367
  let v551 : BitVec 32 := Scalar.muli v550 c1_i32_367
  let v552 : BitVec 32 := Scalar.addi c0_i32_366 v551
  let c1_i32_369 : BitVec 32 := 1#32
  let arg11 : BitVec 32 := Scf.iv v552 c1_i32_369 k0_t2
  let c16_i32_421 : BitVec 32 := 16#32
  let v684 : BitVec 32 := Scalar.muli arg11 c16_i32_421
  let v685 : BitVec 32 := Scalar.addi c1_i32_422 v684
  let c8_i32_2199 : BitVec 32 := 8#32
  let v3195 : BitVec 32 := Scalar.addi v685 c8_i32_2199
  let c1_i32_2200 : BitVec 32 := 1#32
  let v3196 : BitVec 32 := Scalar.subi v1 c1_i32_2200
  let v3197 : BitVec 32 := Scalar.minsi v3195 v3196
  let c256_i32_2201 : BitVec 32 := 256#32
  let v3198 : BitVec 32 := Scalar.muli v3197 c256_i32_2201
  v3198
def k0_mult214 (i : grid0.Coords) (k0_t2 : Fin (k0_t2_loop i).trips) : BitVec 32 :=
  let c1_i32_422 : BitVec 32 := 1#32
  let c0_i32_366 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_314 : BitVec 32 := 1#32
  let v480 : BitVec 32 := Scalar.subi v1 c1_i32_314
  let c0_i32_315 : BitVec 32 := 0#32
  let v482 : BitVec 1 := Scalar.cmpi .sgt v480 c0_i32_315
  let v483 : BitVec 32 := Scalar.extui v482
  let c0_i32_316 : BitVec 32 := 0#32
  let v484 : BitVec 1 := Scalar.cmpi .slt v480 c0_i32_316
  let v485 : BitVec 32 := Scalar.extui v484
  let v486 : BitVec 32 := Scalar.subi v483 v485
  let c16_i32 : BitVec 32 := 16#32
  let c0_i32_317 : BitVec 32 := 0#32
  let v487 : BitVec 1 := Scalar.cmpi .sgt c16_i32 c0_i32_317
  let v488 : BitVec 32 := Scalar.extui v487
  let c0_i32_318 : BitVec 32 := 0#32
  let v489 : BitVec 1 := Scalar.cmpi .slt c16_i32 c0_i32_318
  let v490 : BitVec 32 := Scalar.extui v489
  let v491 : BitVec 32 := Scalar.subi v488 v490
  let v492 : BitVec 1 := Scalar.cmpi .ne v486 v491
  let v493 : BitVec 32 := Scalar.remsi v480 c16_i32
  let c0_i32_319 : BitVec 32 := 0#32
  let v494 : BitVec 1 := Scalar.cmpi .ne v493 c0_i32_319
  let v495 : BitVec 1 := Scalar.andi v492 v494
  let v481 : BitVec 32 := Scalar.divsi v480 c16_i32
  let c1_i32_320 : BitVec 32 := 1#32
  let v496 : BitVec 32 := Scalar.subi v481 c1_i32_320
  let v497 : BitVec 32 := Scalar.select v495 v496 v481
  let v548 : BitVec 32 := Scalar.subi v497 c0_i32_366
  let c1_i32_367 : BitVec 32 := 1#32
  let v550 : BitVec 32 := Scalar.divsi v548 c1_i32_367
  let v551 : BitVec 32 := Scalar.muli v550 c1_i32_367
  let v552 : BitVec 32 := Scalar.addi c0_i32_366 v551
  let c1_i32_369 : BitVec 32 := 1#32
  let arg11 : BitVec 32 := Scf.iv v552 c1_i32_369 k0_t2
  let c16_i32_421 : BitVec 32 := 16#32
  let v684 : BitVec 32 := Scalar.muli arg11 c16_i32_421
  let v685 : BitVec 32 := Scalar.addi c1_i32_422 v684
  let c9_i32 : BitVec 32 := 9#32
  let v3233 : BitVec 32 := Scalar.addi v685 c9_i32
  let c1_i32_2226 : BitVec 32 := 1#32
  let v3234 : BitVec 32 := Scalar.subi v1 c1_i32_2226
  let v3235 : BitVec 32 := Scalar.minsi v3233 v3234
  let c256_i32_2227 : BitVec 32 := 256#32
  let v3236 : BitVec 32 := Scalar.muli v3235 c256_i32_2227
  v3236
def k0_mult215 (i : grid0.Coords) (k0_t2 : Fin (k0_t2_loop i).trips) : BitVec 32 :=
  let c1_i32_422 : BitVec 32 := 1#32
  let c0_i32_366 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_314 : BitVec 32 := 1#32
  let v480 : BitVec 32 := Scalar.subi v1 c1_i32_314
  let c0_i32_315 : BitVec 32 := 0#32
  let v482 : BitVec 1 := Scalar.cmpi .sgt v480 c0_i32_315
  let v483 : BitVec 32 := Scalar.extui v482
  let c0_i32_316 : BitVec 32 := 0#32
  let v484 : BitVec 1 := Scalar.cmpi .slt v480 c0_i32_316
  let v485 : BitVec 32 := Scalar.extui v484
  let v486 : BitVec 32 := Scalar.subi v483 v485
  let c16_i32 : BitVec 32 := 16#32
  let c0_i32_317 : BitVec 32 := 0#32
  let v487 : BitVec 1 := Scalar.cmpi .sgt c16_i32 c0_i32_317
  let v488 : BitVec 32 := Scalar.extui v487
  let c0_i32_318 : BitVec 32 := 0#32
  let v489 : BitVec 1 := Scalar.cmpi .slt c16_i32 c0_i32_318
  let v490 : BitVec 32 := Scalar.extui v489
  let v491 : BitVec 32 := Scalar.subi v488 v490
  let v492 : BitVec 1 := Scalar.cmpi .ne v486 v491
  let v493 : BitVec 32 := Scalar.remsi v480 c16_i32
  let c0_i32_319 : BitVec 32 := 0#32
  let v494 : BitVec 1 := Scalar.cmpi .ne v493 c0_i32_319
  let v495 : BitVec 1 := Scalar.andi v492 v494
  let v481 : BitVec 32 := Scalar.divsi v480 c16_i32
  let c1_i32_320 : BitVec 32 := 1#32
  let v496 : BitVec 32 := Scalar.subi v481 c1_i32_320
  let v497 : BitVec 32 := Scalar.select v495 v496 v481
  let v548 : BitVec 32 := Scalar.subi v497 c0_i32_366
  let c1_i32_367 : BitVec 32 := 1#32
  let v550 : BitVec 32 := Scalar.divsi v548 c1_i32_367
  let v551 : BitVec 32 := Scalar.muli v550 c1_i32_367
  let v552 : BitVec 32 := Scalar.addi c0_i32_366 v551
  let c1_i32_369 : BitVec 32 := 1#32
  let arg11 : BitVec 32 := Scf.iv v552 c1_i32_369 k0_t2
  let c16_i32_421 : BitVec 32 := 16#32
  let v684 : BitVec 32 := Scalar.muli arg11 c16_i32_421
  let v685 : BitVec 32 := Scalar.addi c1_i32_422 v684
  let c9_i32_2252 : BitVec 32 := 9#32
  let v3271 : BitVec 32 := Scalar.addi v685 c9_i32_2252
  let c1_i32_2253 : BitVec 32 := 1#32
  let v3272 : BitVec 32 := Scalar.subi v1 c1_i32_2253
  let v3273 : BitVec 32 := Scalar.minsi v3271 v3272
  let c256_i32_2254 : BitVec 32 := 256#32
  let v3274 : BitVec 32 := Scalar.muli v3273 c256_i32_2254
  v3274
def k0_mult216 (i : grid0.Coords) (k0_t2 : Fin (k0_t2_loop i).trips) : BitVec 32 :=
  let c1_i32_422 : BitVec 32 := 1#32
  let c0_i32_366 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_314 : BitVec 32 := 1#32
  let v480 : BitVec 32 := Scalar.subi v1 c1_i32_314
  let c0_i32_315 : BitVec 32 := 0#32
  let v482 : BitVec 1 := Scalar.cmpi .sgt v480 c0_i32_315
  let v483 : BitVec 32 := Scalar.extui v482
  let c0_i32_316 : BitVec 32 := 0#32
  let v484 : BitVec 1 := Scalar.cmpi .slt v480 c0_i32_316
  let v485 : BitVec 32 := Scalar.extui v484
  let v486 : BitVec 32 := Scalar.subi v483 v485
  let c16_i32 : BitVec 32 := 16#32
  let c0_i32_317 : BitVec 32 := 0#32
  let v487 : BitVec 1 := Scalar.cmpi .sgt c16_i32 c0_i32_317
  let v488 : BitVec 32 := Scalar.extui v487
  let c0_i32_318 : BitVec 32 := 0#32
  let v489 : BitVec 1 := Scalar.cmpi .slt c16_i32 c0_i32_318
  let v490 : BitVec 32 := Scalar.extui v489
  let v491 : BitVec 32 := Scalar.subi v488 v490
  let v492 : BitVec 1 := Scalar.cmpi .ne v486 v491
  let v493 : BitVec 32 := Scalar.remsi v480 c16_i32
  let c0_i32_319 : BitVec 32 := 0#32
  let v494 : BitVec 1 := Scalar.cmpi .ne v493 c0_i32_319
  let v495 : BitVec 1 := Scalar.andi v492 v494
  let v481 : BitVec 32 := Scalar.divsi v480 c16_i32
  let c1_i32_320 : BitVec 32 := 1#32
  let v496 : BitVec 32 := Scalar.subi v481 c1_i32_320
  let v497 : BitVec 32 := Scalar.select v495 v496 v481
  let v548 : BitVec 32 := Scalar.subi v497 c0_i32_366
  let c1_i32_367 : BitVec 32 := 1#32
  let v550 : BitVec 32 := Scalar.divsi v548 c1_i32_367
  let v551 : BitVec 32 := Scalar.muli v550 c1_i32_367
  let v552 : BitVec 32 := Scalar.addi c0_i32_366 v551
  let c1_i32_369 : BitVec 32 := 1#32
  let arg11 : BitVec 32 := Scf.iv v552 c1_i32_369 k0_t2
  let c16_i32_421 : BitVec 32 := 16#32
  let v684 : BitVec 32 := Scalar.muli arg11 c16_i32_421
  let v685 : BitVec 32 := Scalar.addi c1_i32_422 v684
  let c9_i32_2279 : BitVec 32 := 9#32
  let v3309 : BitVec 32 := Scalar.addi v685 c9_i32_2279
  let c1_i32_2280 : BitVec 32 := 1#32
  let v3310 : BitVec 32 := Scalar.subi v1 c1_i32_2280
  let v3311 : BitVec 32 := Scalar.minsi v3309 v3310
  let c256_i32_2281 : BitVec 32 := 256#32
  let v3312 : BitVec 32 := Scalar.muli v3311 c256_i32_2281
  v3312
def k0_mult217 (i : grid0.Coords) (k0_t2 : Fin (k0_t2_loop i).trips) : BitVec 32 :=
  let c1_i32_422 : BitVec 32 := 1#32
  let c0_i32_366 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_314 : BitVec 32 := 1#32
  let v480 : BitVec 32 := Scalar.subi v1 c1_i32_314
  let c0_i32_315 : BitVec 32 := 0#32
  let v482 : BitVec 1 := Scalar.cmpi .sgt v480 c0_i32_315
  let v483 : BitVec 32 := Scalar.extui v482
  let c0_i32_316 : BitVec 32 := 0#32
  let v484 : BitVec 1 := Scalar.cmpi .slt v480 c0_i32_316
  let v485 : BitVec 32 := Scalar.extui v484
  let v486 : BitVec 32 := Scalar.subi v483 v485
  let c16_i32 : BitVec 32 := 16#32
  let c0_i32_317 : BitVec 32 := 0#32
  let v487 : BitVec 1 := Scalar.cmpi .sgt c16_i32 c0_i32_317
  let v488 : BitVec 32 := Scalar.extui v487
  let c0_i32_318 : BitVec 32 := 0#32
  let v489 : BitVec 1 := Scalar.cmpi .slt c16_i32 c0_i32_318
  let v490 : BitVec 32 := Scalar.extui v489
  let v491 : BitVec 32 := Scalar.subi v488 v490
  let v492 : BitVec 1 := Scalar.cmpi .ne v486 v491
  let v493 : BitVec 32 := Scalar.remsi v480 c16_i32
  let c0_i32_319 : BitVec 32 := 0#32
  let v494 : BitVec 1 := Scalar.cmpi .ne v493 c0_i32_319
  let v495 : BitVec 1 := Scalar.andi v492 v494
  let v481 : BitVec 32 := Scalar.divsi v480 c16_i32
  let c1_i32_320 : BitVec 32 := 1#32
  let v496 : BitVec 32 := Scalar.subi v481 c1_i32_320
  let v497 : BitVec 32 := Scalar.select v495 v496 v481
  let v548 : BitVec 32 := Scalar.subi v497 c0_i32_366
  let c1_i32_367 : BitVec 32 := 1#32
  let v550 : BitVec 32 := Scalar.divsi v548 c1_i32_367
  let v551 : BitVec 32 := Scalar.muli v550 c1_i32_367
  let v552 : BitVec 32 := Scalar.addi c0_i32_366 v551
  let c1_i32_369 : BitVec 32 := 1#32
  let arg11 : BitVec 32 := Scf.iv v552 c1_i32_369 k0_t2
  let c16_i32_421 : BitVec 32 := 16#32
  let v684 : BitVec 32 := Scalar.muli arg11 c16_i32_421
  let v685 : BitVec 32 := Scalar.addi c1_i32_422 v684
  let c9_i32_2306 : BitVec 32 := 9#32
  let v3347 : BitVec 32 := Scalar.addi v685 c9_i32_2306
  let c1_i32_2307 : BitVec 32 := 1#32
  let v3348 : BitVec 32 := Scalar.subi v1 c1_i32_2307
  let v3349 : BitVec 32 := Scalar.minsi v3347 v3348
  let c256_i32_2308 : BitVec 32 := 256#32
  let v3350 : BitVec 32 := Scalar.muli v3349 c256_i32_2308
  v3350
def k0_mult218 (i : grid0.Coords) (k0_t2 : Fin (k0_t2_loop i).trips) : BitVec 32 :=
  let c1_i32_422 : BitVec 32 := 1#32
  let c0_i32_366 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_314 : BitVec 32 := 1#32
  let v480 : BitVec 32 := Scalar.subi v1 c1_i32_314
  let c0_i32_315 : BitVec 32 := 0#32
  let v482 : BitVec 1 := Scalar.cmpi .sgt v480 c0_i32_315
  let v483 : BitVec 32 := Scalar.extui v482
  let c0_i32_316 : BitVec 32 := 0#32
  let v484 : BitVec 1 := Scalar.cmpi .slt v480 c0_i32_316
  let v485 : BitVec 32 := Scalar.extui v484
  let v486 : BitVec 32 := Scalar.subi v483 v485
  let c16_i32 : BitVec 32 := 16#32
  let c0_i32_317 : BitVec 32 := 0#32
  let v487 : BitVec 1 := Scalar.cmpi .sgt c16_i32 c0_i32_317
  let v488 : BitVec 32 := Scalar.extui v487
  let c0_i32_318 : BitVec 32 := 0#32
  let v489 : BitVec 1 := Scalar.cmpi .slt c16_i32 c0_i32_318
  let v490 : BitVec 32 := Scalar.extui v489
  let v491 : BitVec 32 := Scalar.subi v488 v490
  let v492 : BitVec 1 := Scalar.cmpi .ne v486 v491
  let v493 : BitVec 32 := Scalar.remsi v480 c16_i32
  let c0_i32_319 : BitVec 32 := 0#32
  let v494 : BitVec 1 := Scalar.cmpi .ne v493 c0_i32_319
  let v495 : BitVec 1 := Scalar.andi v492 v494
  let v481 : BitVec 32 := Scalar.divsi v480 c16_i32
  let c1_i32_320 : BitVec 32 := 1#32
  let v496 : BitVec 32 := Scalar.subi v481 c1_i32_320
  let v497 : BitVec 32 := Scalar.select v495 v496 v481
  let v548 : BitVec 32 := Scalar.subi v497 c0_i32_366
  let c1_i32_367 : BitVec 32 := 1#32
  let v550 : BitVec 32 := Scalar.divsi v548 c1_i32_367
  let v551 : BitVec 32 := Scalar.muli v550 c1_i32_367
  let v552 : BitVec 32 := Scalar.addi c0_i32_366 v551
  let c1_i32_369 : BitVec 32 := 1#32
  let arg11 : BitVec 32 := Scf.iv v552 c1_i32_369 k0_t2
  let c16_i32_421 : BitVec 32 := 16#32
  let v684 : BitVec 32 := Scalar.muli arg11 c16_i32_421
  let v685 : BitVec 32 := Scalar.addi c1_i32_422 v684
  let c9_i32_2333 : BitVec 32 := 9#32
  let v3385 : BitVec 32 := Scalar.addi v685 c9_i32_2333
  let c1_i32_2334 : BitVec 32 := 1#32
  let v3386 : BitVec 32 := Scalar.subi v1 c1_i32_2334
  let v3387 : BitVec 32 := Scalar.minsi v3385 v3386
  let c256_i32_2335 : BitVec 32 := 256#32
  let v3388 : BitVec 32 := Scalar.muli v3387 c256_i32_2335
  v3388
def k0_mult219 (i : grid0.Coords) (k0_t2 : Fin (k0_t2_loop i).trips) : BitVec 32 :=
  let c1_i32_422 : BitVec 32 := 1#32
  let c0_i32_366 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_314 : BitVec 32 := 1#32
  let v480 : BitVec 32 := Scalar.subi v1 c1_i32_314
  let c0_i32_315 : BitVec 32 := 0#32
  let v482 : BitVec 1 := Scalar.cmpi .sgt v480 c0_i32_315
  let v483 : BitVec 32 := Scalar.extui v482
  let c0_i32_316 : BitVec 32 := 0#32
  let v484 : BitVec 1 := Scalar.cmpi .slt v480 c0_i32_316
  let v485 : BitVec 32 := Scalar.extui v484
  let v486 : BitVec 32 := Scalar.subi v483 v485
  let c16_i32 : BitVec 32 := 16#32
  let c0_i32_317 : BitVec 32 := 0#32
  let v487 : BitVec 1 := Scalar.cmpi .sgt c16_i32 c0_i32_317
  let v488 : BitVec 32 := Scalar.extui v487
  let c0_i32_318 : BitVec 32 := 0#32
  let v489 : BitVec 1 := Scalar.cmpi .slt c16_i32 c0_i32_318
  let v490 : BitVec 32 := Scalar.extui v489
  let v491 : BitVec 32 := Scalar.subi v488 v490
  let v492 : BitVec 1 := Scalar.cmpi .ne v486 v491
  let v493 : BitVec 32 := Scalar.remsi v480 c16_i32
  let c0_i32_319 : BitVec 32 := 0#32
  let v494 : BitVec 1 := Scalar.cmpi .ne v493 c0_i32_319
  let v495 : BitVec 1 := Scalar.andi v492 v494
  let v481 : BitVec 32 := Scalar.divsi v480 c16_i32
  let c1_i32_320 : BitVec 32 := 1#32
  let v496 : BitVec 32 := Scalar.subi v481 c1_i32_320
  let v497 : BitVec 32 := Scalar.select v495 v496 v481
  let v548 : BitVec 32 := Scalar.subi v497 c0_i32_366
  let c1_i32_367 : BitVec 32 := 1#32
  let v550 : BitVec 32 := Scalar.divsi v548 c1_i32_367
  let v551 : BitVec 32 := Scalar.muli v550 c1_i32_367
  let v552 : BitVec 32 := Scalar.addi c0_i32_366 v551
  let c1_i32_369 : BitVec 32 := 1#32
  let arg11 : BitVec 32 := Scf.iv v552 c1_i32_369 k0_t2
  let c16_i32_421 : BitVec 32 := 16#32
  let v684 : BitVec 32 := Scalar.muli arg11 c16_i32_421
  let v685 : BitVec 32 := Scalar.addi c1_i32_422 v684
  let c9_i32_2360 : BitVec 32 := 9#32
  let v3423 : BitVec 32 := Scalar.addi v685 c9_i32_2360
  let c1_i32_2361 : BitVec 32 := 1#32
  let v3424 : BitVec 32 := Scalar.subi v1 c1_i32_2361
  let v3425 : BitVec 32 := Scalar.minsi v3423 v3424
  let c256_i32_2362 : BitVec 32 := 256#32
  let v3426 : BitVec 32 := Scalar.muli v3425 c256_i32_2362
  v3426
def k0_mult220 (i : grid0.Coords) (k0_t2 : Fin (k0_t2_loop i).trips) : BitVec 32 :=
  let c1_i32_422 : BitVec 32 := 1#32
  let c0_i32_366 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_314 : BitVec 32 := 1#32
  let v480 : BitVec 32 := Scalar.subi v1 c1_i32_314
  let c0_i32_315 : BitVec 32 := 0#32
  let v482 : BitVec 1 := Scalar.cmpi .sgt v480 c0_i32_315
  let v483 : BitVec 32 := Scalar.extui v482
  let c0_i32_316 : BitVec 32 := 0#32
  let v484 : BitVec 1 := Scalar.cmpi .slt v480 c0_i32_316
  let v485 : BitVec 32 := Scalar.extui v484
  let v486 : BitVec 32 := Scalar.subi v483 v485
  let c16_i32 : BitVec 32 := 16#32
  let c0_i32_317 : BitVec 32 := 0#32
  let v487 : BitVec 1 := Scalar.cmpi .sgt c16_i32 c0_i32_317
  let v488 : BitVec 32 := Scalar.extui v487
  let c0_i32_318 : BitVec 32 := 0#32
  let v489 : BitVec 1 := Scalar.cmpi .slt c16_i32 c0_i32_318
  let v490 : BitVec 32 := Scalar.extui v489
  let v491 : BitVec 32 := Scalar.subi v488 v490
  let v492 : BitVec 1 := Scalar.cmpi .ne v486 v491
  let v493 : BitVec 32 := Scalar.remsi v480 c16_i32
  let c0_i32_319 : BitVec 32 := 0#32
  let v494 : BitVec 1 := Scalar.cmpi .ne v493 c0_i32_319
  let v495 : BitVec 1 := Scalar.andi v492 v494
  let v481 : BitVec 32 := Scalar.divsi v480 c16_i32
  let c1_i32_320 : BitVec 32 := 1#32
  let v496 : BitVec 32 := Scalar.subi v481 c1_i32_320
  let v497 : BitVec 32 := Scalar.select v495 v496 v481
  let v548 : BitVec 32 := Scalar.subi v497 c0_i32_366
  let c1_i32_367 : BitVec 32 := 1#32
  let v550 : BitVec 32 := Scalar.divsi v548 c1_i32_367
  let v551 : BitVec 32 := Scalar.muli v550 c1_i32_367
  let v552 : BitVec 32 := Scalar.addi c0_i32_366 v551
  let c1_i32_369 : BitVec 32 := 1#32
  let arg11 : BitVec 32 := Scf.iv v552 c1_i32_369 k0_t2
  let c16_i32_421 : BitVec 32 := 16#32
  let v684 : BitVec 32 := Scalar.muli arg11 c16_i32_421
  let v685 : BitVec 32 := Scalar.addi c1_i32_422 v684
  let c9_i32_2387 : BitVec 32 := 9#32
  let v3461 : BitVec 32 := Scalar.addi v685 c9_i32_2387
  let c1_i32_2388 : BitVec 32 := 1#32
  let v3462 : BitVec 32 := Scalar.subi v1 c1_i32_2388
  let v3463 : BitVec 32 := Scalar.minsi v3461 v3462
  let c256_i32_2389 : BitVec 32 := 256#32
  let v3464 : BitVec 32 := Scalar.muli v3463 c256_i32_2389
  v3464
def k0_mult221 (i : grid0.Coords) (k0_t2 : Fin (k0_t2_loop i).trips) : BitVec 32 :=
  let c1_i32_422 : BitVec 32 := 1#32
  let c0_i32_366 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_314 : BitVec 32 := 1#32
  let v480 : BitVec 32 := Scalar.subi v1 c1_i32_314
  let c0_i32_315 : BitVec 32 := 0#32
  let v482 : BitVec 1 := Scalar.cmpi .sgt v480 c0_i32_315
  let v483 : BitVec 32 := Scalar.extui v482
  let c0_i32_316 : BitVec 32 := 0#32
  let v484 : BitVec 1 := Scalar.cmpi .slt v480 c0_i32_316
  let v485 : BitVec 32 := Scalar.extui v484
  let v486 : BitVec 32 := Scalar.subi v483 v485
  let c16_i32 : BitVec 32 := 16#32
  let c0_i32_317 : BitVec 32 := 0#32
  let v487 : BitVec 1 := Scalar.cmpi .sgt c16_i32 c0_i32_317
  let v488 : BitVec 32 := Scalar.extui v487
  let c0_i32_318 : BitVec 32 := 0#32
  let v489 : BitVec 1 := Scalar.cmpi .slt c16_i32 c0_i32_318
  let v490 : BitVec 32 := Scalar.extui v489
  let v491 : BitVec 32 := Scalar.subi v488 v490
  let v492 : BitVec 1 := Scalar.cmpi .ne v486 v491
  let v493 : BitVec 32 := Scalar.remsi v480 c16_i32
  let c0_i32_319 : BitVec 32 := 0#32
  let v494 : BitVec 1 := Scalar.cmpi .ne v493 c0_i32_319
  let v495 : BitVec 1 := Scalar.andi v492 v494
  let v481 : BitVec 32 := Scalar.divsi v480 c16_i32
  let c1_i32_320 : BitVec 32 := 1#32
  let v496 : BitVec 32 := Scalar.subi v481 c1_i32_320
  let v497 : BitVec 32 := Scalar.select v495 v496 v481
  let v548 : BitVec 32 := Scalar.subi v497 c0_i32_366
  let c1_i32_367 : BitVec 32 := 1#32
  let v550 : BitVec 32 := Scalar.divsi v548 c1_i32_367
  let v551 : BitVec 32 := Scalar.muli v550 c1_i32_367
  let v552 : BitVec 32 := Scalar.addi c0_i32_366 v551
  let c1_i32_369 : BitVec 32 := 1#32
  let arg11 : BitVec 32 := Scf.iv v552 c1_i32_369 k0_t2
  let c16_i32_421 : BitVec 32 := 16#32
  let v684 : BitVec 32 := Scalar.muli arg11 c16_i32_421
  let v685 : BitVec 32 := Scalar.addi c1_i32_422 v684
  let c9_i32_2414 : BitVec 32 := 9#32
  let v3499 : BitVec 32 := Scalar.addi v685 c9_i32_2414
  let c1_i32_2415 : BitVec 32 := 1#32
  let v3500 : BitVec 32 := Scalar.subi v1 c1_i32_2415
  let v3501 : BitVec 32 := Scalar.minsi v3499 v3500
  let c256_i32_2416 : BitVec 32 := 256#32
  let v3502 : BitVec 32 := Scalar.muli v3501 c256_i32_2416
  v3502
def k0_mult222 (i : grid0.Coords) (k0_t2 : Fin (k0_t2_loop i).trips) : BitVec 32 :=
  let c1_i32_422 : BitVec 32 := 1#32
  let c0_i32_366 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_314 : BitVec 32 := 1#32
  let v480 : BitVec 32 := Scalar.subi v1 c1_i32_314
  let c0_i32_315 : BitVec 32 := 0#32
  let v482 : BitVec 1 := Scalar.cmpi .sgt v480 c0_i32_315
  let v483 : BitVec 32 := Scalar.extui v482
  let c0_i32_316 : BitVec 32 := 0#32
  let v484 : BitVec 1 := Scalar.cmpi .slt v480 c0_i32_316
  let v485 : BitVec 32 := Scalar.extui v484
  let v486 : BitVec 32 := Scalar.subi v483 v485
  let c16_i32 : BitVec 32 := 16#32
  let c0_i32_317 : BitVec 32 := 0#32
  let v487 : BitVec 1 := Scalar.cmpi .sgt c16_i32 c0_i32_317
  let v488 : BitVec 32 := Scalar.extui v487
  let c0_i32_318 : BitVec 32 := 0#32
  let v489 : BitVec 1 := Scalar.cmpi .slt c16_i32 c0_i32_318
  let v490 : BitVec 32 := Scalar.extui v489
  let v491 : BitVec 32 := Scalar.subi v488 v490
  let v492 : BitVec 1 := Scalar.cmpi .ne v486 v491
  let v493 : BitVec 32 := Scalar.remsi v480 c16_i32
  let c0_i32_319 : BitVec 32 := 0#32
  let v494 : BitVec 1 := Scalar.cmpi .ne v493 c0_i32_319
  let v495 : BitVec 1 := Scalar.andi v492 v494
  let v481 : BitVec 32 := Scalar.divsi v480 c16_i32
  let c1_i32_320 : BitVec 32 := 1#32
  let v496 : BitVec 32 := Scalar.subi v481 c1_i32_320
  let v497 : BitVec 32 := Scalar.select v495 v496 v481
  let v548 : BitVec 32 := Scalar.subi v497 c0_i32_366
  let c1_i32_367 : BitVec 32 := 1#32
  let v550 : BitVec 32 := Scalar.divsi v548 c1_i32_367
  let v551 : BitVec 32 := Scalar.muli v550 c1_i32_367
  let v552 : BitVec 32 := Scalar.addi c0_i32_366 v551
  let c1_i32_369 : BitVec 32 := 1#32
  let arg11 : BitVec 32 := Scf.iv v552 c1_i32_369 k0_t2
  let c16_i32_421 : BitVec 32 := 16#32
  let v684 : BitVec 32 := Scalar.muli arg11 c16_i32_421
  let v685 : BitVec 32 := Scalar.addi c1_i32_422 v684
  let c10_i32 : BitVec 32 := 10#32
  let v3537 : BitVec 32 := Scalar.addi v685 c10_i32
  let c1_i32_2441 : BitVec 32 := 1#32
  let v3538 : BitVec 32 := Scalar.subi v1 c1_i32_2441
  let v3539 : BitVec 32 := Scalar.minsi v3537 v3538
  let c256_i32_2442 : BitVec 32 := 256#32
  let v3540 : BitVec 32 := Scalar.muli v3539 c256_i32_2442
  v3540
def k0_mult223 (i : grid0.Coords) (k0_t2 : Fin (k0_t2_loop i).trips) : BitVec 32 :=
  let c1_i32_422 : BitVec 32 := 1#32
  let c0_i32_366 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_314 : BitVec 32 := 1#32
  let v480 : BitVec 32 := Scalar.subi v1 c1_i32_314
  let c0_i32_315 : BitVec 32 := 0#32
  let v482 : BitVec 1 := Scalar.cmpi .sgt v480 c0_i32_315
  let v483 : BitVec 32 := Scalar.extui v482
  let c0_i32_316 : BitVec 32 := 0#32
  let v484 : BitVec 1 := Scalar.cmpi .slt v480 c0_i32_316
  let v485 : BitVec 32 := Scalar.extui v484
  let v486 : BitVec 32 := Scalar.subi v483 v485
  let c16_i32 : BitVec 32 := 16#32
  let c0_i32_317 : BitVec 32 := 0#32
  let v487 : BitVec 1 := Scalar.cmpi .sgt c16_i32 c0_i32_317
  let v488 : BitVec 32 := Scalar.extui v487
  let c0_i32_318 : BitVec 32 := 0#32
  let v489 : BitVec 1 := Scalar.cmpi .slt c16_i32 c0_i32_318
  let v490 : BitVec 32 := Scalar.extui v489
  let v491 : BitVec 32 := Scalar.subi v488 v490
  let v492 : BitVec 1 := Scalar.cmpi .ne v486 v491
  let v493 : BitVec 32 := Scalar.remsi v480 c16_i32
  let c0_i32_319 : BitVec 32 := 0#32
  let v494 : BitVec 1 := Scalar.cmpi .ne v493 c0_i32_319
  let v495 : BitVec 1 := Scalar.andi v492 v494
  let v481 : BitVec 32 := Scalar.divsi v480 c16_i32
  let c1_i32_320 : BitVec 32 := 1#32
  let v496 : BitVec 32 := Scalar.subi v481 c1_i32_320
  let v497 : BitVec 32 := Scalar.select v495 v496 v481
  let v548 : BitVec 32 := Scalar.subi v497 c0_i32_366
  let c1_i32_367 : BitVec 32 := 1#32
  let v550 : BitVec 32 := Scalar.divsi v548 c1_i32_367
  let v551 : BitVec 32 := Scalar.muli v550 c1_i32_367
  let v552 : BitVec 32 := Scalar.addi c0_i32_366 v551
  let c1_i32_369 : BitVec 32 := 1#32
  let arg11 : BitVec 32 := Scf.iv v552 c1_i32_369 k0_t2
  let c16_i32_421 : BitVec 32 := 16#32
  let v684 : BitVec 32 := Scalar.muli arg11 c16_i32_421
  let v685 : BitVec 32 := Scalar.addi c1_i32_422 v684
  let c10_i32_2467 : BitVec 32 := 10#32
  let v3575 : BitVec 32 := Scalar.addi v685 c10_i32_2467
  let c1_i32_2468 : BitVec 32 := 1#32
  let v3576 : BitVec 32 := Scalar.subi v1 c1_i32_2468
  let v3577 : BitVec 32 := Scalar.minsi v3575 v3576
  let c256_i32_2469 : BitVec 32 := 256#32
  let v3578 : BitVec 32 := Scalar.muli v3577 c256_i32_2469
  v3578
def k0_mult224 (i : grid0.Coords) (k0_t2 : Fin (k0_t2_loop i).trips) : BitVec 32 :=
  let c1_i32_422 : BitVec 32 := 1#32
  let c0_i32_366 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_314 : BitVec 32 := 1#32
  let v480 : BitVec 32 := Scalar.subi v1 c1_i32_314
  let c0_i32_315 : BitVec 32 := 0#32
  let v482 : BitVec 1 := Scalar.cmpi .sgt v480 c0_i32_315
  let v483 : BitVec 32 := Scalar.extui v482
  let c0_i32_316 : BitVec 32 := 0#32
  let v484 : BitVec 1 := Scalar.cmpi .slt v480 c0_i32_316
  let v485 : BitVec 32 := Scalar.extui v484
  let v486 : BitVec 32 := Scalar.subi v483 v485
  let c16_i32 : BitVec 32 := 16#32
  let c0_i32_317 : BitVec 32 := 0#32
  let v487 : BitVec 1 := Scalar.cmpi .sgt c16_i32 c0_i32_317
  let v488 : BitVec 32 := Scalar.extui v487
  let c0_i32_318 : BitVec 32 := 0#32
  let v489 : BitVec 1 := Scalar.cmpi .slt c16_i32 c0_i32_318
  let v490 : BitVec 32 := Scalar.extui v489
  let v491 : BitVec 32 := Scalar.subi v488 v490
  let v492 : BitVec 1 := Scalar.cmpi .ne v486 v491
  let v493 : BitVec 32 := Scalar.remsi v480 c16_i32
  let c0_i32_319 : BitVec 32 := 0#32
  let v494 : BitVec 1 := Scalar.cmpi .ne v493 c0_i32_319
  let v495 : BitVec 1 := Scalar.andi v492 v494
  let v481 : BitVec 32 := Scalar.divsi v480 c16_i32
  let c1_i32_320 : BitVec 32 := 1#32
  let v496 : BitVec 32 := Scalar.subi v481 c1_i32_320
  let v497 : BitVec 32 := Scalar.select v495 v496 v481
  let v548 : BitVec 32 := Scalar.subi v497 c0_i32_366
  let c1_i32_367 : BitVec 32 := 1#32
  let v550 : BitVec 32 := Scalar.divsi v548 c1_i32_367
  let v551 : BitVec 32 := Scalar.muli v550 c1_i32_367
  let v552 : BitVec 32 := Scalar.addi c0_i32_366 v551
  let c1_i32_369 : BitVec 32 := 1#32
  let arg11 : BitVec 32 := Scf.iv v552 c1_i32_369 k0_t2
  let c16_i32_421 : BitVec 32 := 16#32
  let v684 : BitVec 32 := Scalar.muli arg11 c16_i32_421
  let v685 : BitVec 32 := Scalar.addi c1_i32_422 v684
  let c10_i32_2494 : BitVec 32 := 10#32
  let v3613 : BitVec 32 := Scalar.addi v685 c10_i32_2494
  let c1_i32_2495 : BitVec 32 := 1#32
  let v3614 : BitVec 32 := Scalar.subi v1 c1_i32_2495
  let v3615 : BitVec 32 := Scalar.minsi v3613 v3614
  let c256_i32_2496 : BitVec 32 := 256#32
  let v3616 : BitVec 32 := Scalar.muli v3615 c256_i32_2496
  v3616
def k0_mult225 (i : grid0.Coords) (k0_t2 : Fin (k0_t2_loop i).trips) : BitVec 32 :=
  let c1_i32_422 : BitVec 32 := 1#32
  let c0_i32_366 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_314 : BitVec 32 := 1#32
  let v480 : BitVec 32 := Scalar.subi v1 c1_i32_314
  let c0_i32_315 : BitVec 32 := 0#32
  let v482 : BitVec 1 := Scalar.cmpi .sgt v480 c0_i32_315
  let v483 : BitVec 32 := Scalar.extui v482
  let c0_i32_316 : BitVec 32 := 0#32
  let v484 : BitVec 1 := Scalar.cmpi .slt v480 c0_i32_316
  let v485 : BitVec 32 := Scalar.extui v484
  let v486 : BitVec 32 := Scalar.subi v483 v485
  let c16_i32 : BitVec 32 := 16#32
  let c0_i32_317 : BitVec 32 := 0#32
  let v487 : BitVec 1 := Scalar.cmpi .sgt c16_i32 c0_i32_317
  let v488 : BitVec 32 := Scalar.extui v487
  let c0_i32_318 : BitVec 32 := 0#32
  let v489 : BitVec 1 := Scalar.cmpi .slt c16_i32 c0_i32_318
  let v490 : BitVec 32 := Scalar.extui v489
  let v491 : BitVec 32 := Scalar.subi v488 v490
  let v492 : BitVec 1 := Scalar.cmpi .ne v486 v491
  let v493 : BitVec 32 := Scalar.remsi v480 c16_i32
  let c0_i32_319 : BitVec 32 := 0#32
  let v494 : BitVec 1 := Scalar.cmpi .ne v493 c0_i32_319
  let v495 : BitVec 1 := Scalar.andi v492 v494
  let v481 : BitVec 32 := Scalar.divsi v480 c16_i32
  let c1_i32_320 : BitVec 32 := 1#32
  let v496 : BitVec 32 := Scalar.subi v481 c1_i32_320
  let v497 : BitVec 32 := Scalar.select v495 v496 v481
  let v548 : BitVec 32 := Scalar.subi v497 c0_i32_366
  let c1_i32_367 : BitVec 32 := 1#32
  let v550 : BitVec 32 := Scalar.divsi v548 c1_i32_367
  let v551 : BitVec 32 := Scalar.muli v550 c1_i32_367
  let v552 : BitVec 32 := Scalar.addi c0_i32_366 v551
  let c1_i32_369 : BitVec 32 := 1#32
  let arg11 : BitVec 32 := Scf.iv v552 c1_i32_369 k0_t2
  let c16_i32_421 : BitVec 32 := 16#32
  let v684 : BitVec 32 := Scalar.muli arg11 c16_i32_421
  let v685 : BitVec 32 := Scalar.addi c1_i32_422 v684
  let c10_i32_2521 : BitVec 32 := 10#32
  let v3651 : BitVec 32 := Scalar.addi v685 c10_i32_2521
  let c1_i32_2522 : BitVec 32 := 1#32
  let v3652 : BitVec 32 := Scalar.subi v1 c1_i32_2522
  let v3653 : BitVec 32 := Scalar.minsi v3651 v3652
  let c256_i32_2523 : BitVec 32 := 256#32
  let v3654 : BitVec 32 := Scalar.muli v3653 c256_i32_2523
  v3654
def k0_mult226 (i : grid0.Coords) (k0_t2 : Fin (k0_t2_loop i).trips) : BitVec 32 :=
  let c1_i32_422 : BitVec 32 := 1#32
  let c0_i32_366 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_314 : BitVec 32 := 1#32
  let v480 : BitVec 32 := Scalar.subi v1 c1_i32_314
  let c0_i32_315 : BitVec 32 := 0#32
  let v482 : BitVec 1 := Scalar.cmpi .sgt v480 c0_i32_315
  let v483 : BitVec 32 := Scalar.extui v482
  let c0_i32_316 : BitVec 32 := 0#32
  let v484 : BitVec 1 := Scalar.cmpi .slt v480 c0_i32_316
  let v485 : BitVec 32 := Scalar.extui v484
  let v486 : BitVec 32 := Scalar.subi v483 v485
  let c16_i32 : BitVec 32 := 16#32
  let c0_i32_317 : BitVec 32 := 0#32
  let v487 : BitVec 1 := Scalar.cmpi .sgt c16_i32 c0_i32_317
  let v488 : BitVec 32 := Scalar.extui v487
  let c0_i32_318 : BitVec 32 := 0#32
  let v489 : BitVec 1 := Scalar.cmpi .slt c16_i32 c0_i32_318
  let v490 : BitVec 32 := Scalar.extui v489
  let v491 : BitVec 32 := Scalar.subi v488 v490
  let v492 : BitVec 1 := Scalar.cmpi .ne v486 v491
  let v493 : BitVec 32 := Scalar.remsi v480 c16_i32
  let c0_i32_319 : BitVec 32 := 0#32
  let v494 : BitVec 1 := Scalar.cmpi .ne v493 c0_i32_319
  let v495 : BitVec 1 := Scalar.andi v492 v494
  let v481 : BitVec 32 := Scalar.divsi v480 c16_i32
  let c1_i32_320 : BitVec 32 := 1#32
  let v496 : BitVec 32 := Scalar.subi v481 c1_i32_320
  let v497 : BitVec 32 := Scalar.select v495 v496 v481
  let v548 : BitVec 32 := Scalar.subi v497 c0_i32_366
  let c1_i32_367 : BitVec 32 := 1#32
  let v550 : BitVec 32 := Scalar.divsi v548 c1_i32_367
  let v551 : BitVec 32 := Scalar.muli v550 c1_i32_367
  let v552 : BitVec 32 := Scalar.addi c0_i32_366 v551
  let c1_i32_369 : BitVec 32 := 1#32
  let arg11 : BitVec 32 := Scf.iv v552 c1_i32_369 k0_t2
  let c16_i32_421 : BitVec 32 := 16#32
  let v684 : BitVec 32 := Scalar.muli arg11 c16_i32_421
  let v685 : BitVec 32 := Scalar.addi c1_i32_422 v684
  let c10_i32_2548 : BitVec 32 := 10#32
  let v3689 : BitVec 32 := Scalar.addi v685 c10_i32_2548
  let c1_i32_2549 : BitVec 32 := 1#32
  let v3690 : BitVec 32 := Scalar.subi v1 c1_i32_2549
  let v3691 : BitVec 32 := Scalar.minsi v3689 v3690
  let c256_i32_2550 : BitVec 32 := 256#32
  let v3692 : BitVec 32 := Scalar.muli v3691 c256_i32_2550
  v3692
def k0_mult227 (i : grid0.Coords) (k0_t2 : Fin (k0_t2_loop i).trips) : BitVec 32 :=
  let c1_i32_422 : BitVec 32 := 1#32
  let c0_i32_366 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_314 : BitVec 32 := 1#32
  let v480 : BitVec 32 := Scalar.subi v1 c1_i32_314
  let c0_i32_315 : BitVec 32 := 0#32
  let v482 : BitVec 1 := Scalar.cmpi .sgt v480 c0_i32_315
  let v483 : BitVec 32 := Scalar.extui v482
  let c0_i32_316 : BitVec 32 := 0#32
  let v484 : BitVec 1 := Scalar.cmpi .slt v480 c0_i32_316
  let v485 : BitVec 32 := Scalar.extui v484
  let v486 : BitVec 32 := Scalar.subi v483 v485
  let c16_i32 : BitVec 32 := 16#32
  let c0_i32_317 : BitVec 32 := 0#32
  let v487 : BitVec 1 := Scalar.cmpi .sgt c16_i32 c0_i32_317
  let v488 : BitVec 32 := Scalar.extui v487
  let c0_i32_318 : BitVec 32 := 0#32
  let v489 : BitVec 1 := Scalar.cmpi .slt c16_i32 c0_i32_318
  let v490 : BitVec 32 := Scalar.extui v489
  let v491 : BitVec 32 := Scalar.subi v488 v490
  let v492 : BitVec 1 := Scalar.cmpi .ne v486 v491
  let v493 : BitVec 32 := Scalar.remsi v480 c16_i32
  let c0_i32_319 : BitVec 32 := 0#32
  let v494 : BitVec 1 := Scalar.cmpi .ne v493 c0_i32_319
  let v495 : BitVec 1 := Scalar.andi v492 v494
  let v481 : BitVec 32 := Scalar.divsi v480 c16_i32
  let c1_i32_320 : BitVec 32 := 1#32
  let v496 : BitVec 32 := Scalar.subi v481 c1_i32_320
  let v497 : BitVec 32 := Scalar.select v495 v496 v481
  let v548 : BitVec 32 := Scalar.subi v497 c0_i32_366
  let c1_i32_367 : BitVec 32 := 1#32
  let v550 : BitVec 32 := Scalar.divsi v548 c1_i32_367
  let v551 : BitVec 32 := Scalar.muli v550 c1_i32_367
  let v552 : BitVec 32 := Scalar.addi c0_i32_366 v551
  let c1_i32_369 : BitVec 32 := 1#32
  let arg11 : BitVec 32 := Scf.iv v552 c1_i32_369 k0_t2
  let c16_i32_421 : BitVec 32 := 16#32
  let v684 : BitVec 32 := Scalar.muli arg11 c16_i32_421
  let v685 : BitVec 32 := Scalar.addi c1_i32_422 v684
  let c10_i32_2575 : BitVec 32 := 10#32
  let v3727 : BitVec 32 := Scalar.addi v685 c10_i32_2575
  let c1_i32_2576 : BitVec 32 := 1#32
  let v3728 : BitVec 32 := Scalar.subi v1 c1_i32_2576
  let v3729 : BitVec 32 := Scalar.minsi v3727 v3728
  let c256_i32_2577 : BitVec 32 := 256#32
  let v3730 : BitVec 32 := Scalar.muli v3729 c256_i32_2577
  v3730
def k0_mult228 (i : grid0.Coords) (k0_t2 : Fin (k0_t2_loop i).trips) : BitVec 32 :=
  let c1_i32_422 : BitVec 32 := 1#32
  let c0_i32_366 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_314 : BitVec 32 := 1#32
  let v480 : BitVec 32 := Scalar.subi v1 c1_i32_314
  let c0_i32_315 : BitVec 32 := 0#32
  let v482 : BitVec 1 := Scalar.cmpi .sgt v480 c0_i32_315
  let v483 : BitVec 32 := Scalar.extui v482
  let c0_i32_316 : BitVec 32 := 0#32
  let v484 : BitVec 1 := Scalar.cmpi .slt v480 c0_i32_316
  let v485 : BitVec 32 := Scalar.extui v484
  let v486 : BitVec 32 := Scalar.subi v483 v485
  let c16_i32 : BitVec 32 := 16#32
  let c0_i32_317 : BitVec 32 := 0#32
  let v487 : BitVec 1 := Scalar.cmpi .sgt c16_i32 c0_i32_317
  let v488 : BitVec 32 := Scalar.extui v487
  let c0_i32_318 : BitVec 32 := 0#32
  let v489 : BitVec 1 := Scalar.cmpi .slt c16_i32 c0_i32_318
  let v490 : BitVec 32 := Scalar.extui v489
  let v491 : BitVec 32 := Scalar.subi v488 v490
  let v492 : BitVec 1 := Scalar.cmpi .ne v486 v491
  let v493 : BitVec 32 := Scalar.remsi v480 c16_i32
  let c0_i32_319 : BitVec 32 := 0#32
  let v494 : BitVec 1 := Scalar.cmpi .ne v493 c0_i32_319
  let v495 : BitVec 1 := Scalar.andi v492 v494
  let v481 : BitVec 32 := Scalar.divsi v480 c16_i32
  let c1_i32_320 : BitVec 32 := 1#32
  let v496 : BitVec 32 := Scalar.subi v481 c1_i32_320
  let v497 : BitVec 32 := Scalar.select v495 v496 v481
  let v548 : BitVec 32 := Scalar.subi v497 c0_i32_366
  let c1_i32_367 : BitVec 32 := 1#32
  let v550 : BitVec 32 := Scalar.divsi v548 c1_i32_367
  let v551 : BitVec 32 := Scalar.muli v550 c1_i32_367
  let v552 : BitVec 32 := Scalar.addi c0_i32_366 v551
  let c1_i32_369 : BitVec 32 := 1#32
  let arg11 : BitVec 32 := Scf.iv v552 c1_i32_369 k0_t2
  let c16_i32_421 : BitVec 32 := 16#32
  let v684 : BitVec 32 := Scalar.muli arg11 c16_i32_421
  let v685 : BitVec 32 := Scalar.addi c1_i32_422 v684
  let c10_i32_2602 : BitVec 32 := 10#32
  let v3765 : BitVec 32 := Scalar.addi v685 c10_i32_2602
  let c1_i32_2603 : BitVec 32 := 1#32
  let v3766 : BitVec 32 := Scalar.subi v1 c1_i32_2603
  let v3767 : BitVec 32 := Scalar.minsi v3765 v3766
  let c256_i32_2604 : BitVec 32 := 256#32
  let v3768 : BitVec 32 := Scalar.muli v3767 c256_i32_2604
  v3768
def k0_mult229 (i : grid0.Coords) (k0_t2 : Fin (k0_t2_loop i).trips) : BitVec 32 :=
  let c1_i32_422 : BitVec 32 := 1#32
  let c0_i32_366 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_314 : BitVec 32 := 1#32
  let v480 : BitVec 32 := Scalar.subi v1 c1_i32_314
  let c0_i32_315 : BitVec 32 := 0#32
  let v482 : BitVec 1 := Scalar.cmpi .sgt v480 c0_i32_315
  let v483 : BitVec 32 := Scalar.extui v482
  let c0_i32_316 : BitVec 32 := 0#32
  let v484 : BitVec 1 := Scalar.cmpi .slt v480 c0_i32_316
  let v485 : BitVec 32 := Scalar.extui v484
  let v486 : BitVec 32 := Scalar.subi v483 v485
  let c16_i32 : BitVec 32 := 16#32
  let c0_i32_317 : BitVec 32 := 0#32
  let v487 : BitVec 1 := Scalar.cmpi .sgt c16_i32 c0_i32_317
  let v488 : BitVec 32 := Scalar.extui v487
  let c0_i32_318 : BitVec 32 := 0#32
  let v489 : BitVec 1 := Scalar.cmpi .slt c16_i32 c0_i32_318
  let v490 : BitVec 32 := Scalar.extui v489
  let v491 : BitVec 32 := Scalar.subi v488 v490
  let v492 : BitVec 1 := Scalar.cmpi .ne v486 v491
  let v493 : BitVec 32 := Scalar.remsi v480 c16_i32
  let c0_i32_319 : BitVec 32 := 0#32
  let v494 : BitVec 1 := Scalar.cmpi .ne v493 c0_i32_319
  let v495 : BitVec 1 := Scalar.andi v492 v494
  let v481 : BitVec 32 := Scalar.divsi v480 c16_i32
  let c1_i32_320 : BitVec 32 := 1#32
  let v496 : BitVec 32 := Scalar.subi v481 c1_i32_320
  let v497 : BitVec 32 := Scalar.select v495 v496 v481
  let v548 : BitVec 32 := Scalar.subi v497 c0_i32_366
  let c1_i32_367 : BitVec 32 := 1#32
  let v550 : BitVec 32 := Scalar.divsi v548 c1_i32_367
  let v551 : BitVec 32 := Scalar.muli v550 c1_i32_367
  let v552 : BitVec 32 := Scalar.addi c0_i32_366 v551
  let c1_i32_369 : BitVec 32 := 1#32
  let arg11 : BitVec 32 := Scf.iv v552 c1_i32_369 k0_t2
  let c16_i32_421 : BitVec 32 := 16#32
  let v684 : BitVec 32 := Scalar.muli arg11 c16_i32_421
  let v685 : BitVec 32 := Scalar.addi c1_i32_422 v684
  let c10_i32_2629 : BitVec 32 := 10#32
  let v3803 : BitVec 32 := Scalar.addi v685 c10_i32_2629
  let c1_i32_2630 : BitVec 32 := 1#32
  let v3804 : BitVec 32 := Scalar.subi v1 c1_i32_2630
  let v3805 : BitVec 32 := Scalar.minsi v3803 v3804
  let c256_i32_2631 : BitVec 32 := 256#32
  let v3806 : BitVec 32 := Scalar.muli v3805 c256_i32_2631
  v3806
def k0_mult230 (i : grid0.Coords) (k0_t2 : Fin (k0_t2_loop i).trips) : BitVec 32 :=
  let c1_i32_422 : BitVec 32 := 1#32
  let c0_i32_366 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_314 : BitVec 32 := 1#32
  let v480 : BitVec 32 := Scalar.subi v1 c1_i32_314
  let c0_i32_315 : BitVec 32 := 0#32
  let v482 : BitVec 1 := Scalar.cmpi .sgt v480 c0_i32_315
  let v483 : BitVec 32 := Scalar.extui v482
  let c0_i32_316 : BitVec 32 := 0#32
  let v484 : BitVec 1 := Scalar.cmpi .slt v480 c0_i32_316
  let v485 : BitVec 32 := Scalar.extui v484
  let v486 : BitVec 32 := Scalar.subi v483 v485
  let c16_i32 : BitVec 32 := 16#32
  let c0_i32_317 : BitVec 32 := 0#32
  let v487 : BitVec 1 := Scalar.cmpi .sgt c16_i32 c0_i32_317
  let v488 : BitVec 32 := Scalar.extui v487
  let c0_i32_318 : BitVec 32 := 0#32
  let v489 : BitVec 1 := Scalar.cmpi .slt c16_i32 c0_i32_318
  let v490 : BitVec 32 := Scalar.extui v489
  let v491 : BitVec 32 := Scalar.subi v488 v490
  let v492 : BitVec 1 := Scalar.cmpi .ne v486 v491
  let v493 : BitVec 32 := Scalar.remsi v480 c16_i32
  let c0_i32_319 : BitVec 32 := 0#32
  let v494 : BitVec 1 := Scalar.cmpi .ne v493 c0_i32_319
  let v495 : BitVec 1 := Scalar.andi v492 v494
  let v481 : BitVec 32 := Scalar.divsi v480 c16_i32
  let c1_i32_320 : BitVec 32 := 1#32
  let v496 : BitVec 32 := Scalar.subi v481 c1_i32_320
  let v497 : BitVec 32 := Scalar.select v495 v496 v481
  let v548 : BitVec 32 := Scalar.subi v497 c0_i32_366
  let c1_i32_367 : BitVec 32 := 1#32
  let v550 : BitVec 32 := Scalar.divsi v548 c1_i32_367
  let v551 : BitVec 32 := Scalar.muli v550 c1_i32_367
  let v552 : BitVec 32 := Scalar.addi c0_i32_366 v551
  let c1_i32_369 : BitVec 32 := 1#32
  let arg11 : BitVec 32 := Scf.iv v552 c1_i32_369 k0_t2
  let c16_i32_421 : BitVec 32 := 16#32
  let v684 : BitVec 32 := Scalar.muli arg11 c16_i32_421
  let v685 : BitVec 32 := Scalar.addi c1_i32_422 v684
  let c11_i32 : BitVec 32 := 11#32
  let v3841 : BitVec 32 := Scalar.addi v685 c11_i32
  let c1_i32_2656 : BitVec 32 := 1#32
  let v3842 : BitVec 32 := Scalar.subi v1 c1_i32_2656
  let v3843 : BitVec 32 := Scalar.minsi v3841 v3842
  let c256_i32_2657 : BitVec 32 := 256#32
  let v3844 : BitVec 32 := Scalar.muli v3843 c256_i32_2657
  v3844
def k0_mult231 (i : grid0.Coords) (k0_t2 : Fin (k0_t2_loop i).trips) : BitVec 32 :=
  let c1_i32_422 : BitVec 32 := 1#32
  let c0_i32_366 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_314 : BitVec 32 := 1#32
  let v480 : BitVec 32 := Scalar.subi v1 c1_i32_314
  let c0_i32_315 : BitVec 32 := 0#32
  let v482 : BitVec 1 := Scalar.cmpi .sgt v480 c0_i32_315
  let v483 : BitVec 32 := Scalar.extui v482
  let c0_i32_316 : BitVec 32 := 0#32
  let v484 : BitVec 1 := Scalar.cmpi .slt v480 c0_i32_316
  let v485 : BitVec 32 := Scalar.extui v484
  let v486 : BitVec 32 := Scalar.subi v483 v485
  let c16_i32 : BitVec 32 := 16#32
  let c0_i32_317 : BitVec 32 := 0#32
  let v487 : BitVec 1 := Scalar.cmpi .sgt c16_i32 c0_i32_317
  let v488 : BitVec 32 := Scalar.extui v487
  let c0_i32_318 : BitVec 32 := 0#32
  let v489 : BitVec 1 := Scalar.cmpi .slt c16_i32 c0_i32_318
  let v490 : BitVec 32 := Scalar.extui v489
  let v491 : BitVec 32 := Scalar.subi v488 v490
  let v492 : BitVec 1 := Scalar.cmpi .ne v486 v491
  let v493 : BitVec 32 := Scalar.remsi v480 c16_i32
  let c0_i32_319 : BitVec 32 := 0#32
  let v494 : BitVec 1 := Scalar.cmpi .ne v493 c0_i32_319
  let v495 : BitVec 1 := Scalar.andi v492 v494
  let v481 : BitVec 32 := Scalar.divsi v480 c16_i32
  let c1_i32_320 : BitVec 32 := 1#32
  let v496 : BitVec 32 := Scalar.subi v481 c1_i32_320
  let v497 : BitVec 32 := Scalar.select v495 v496 v481
  let v548 : BitVec 32 := Scalar.subi v497 c0_i32_366
  let c1_i32_367 : BitVec 32 := 1#32
  let v550 : BitVec 32 := Scalar.divsi v548 c1_i32_367
  let v551 : BitVec 32 := Scalar.muli v550 c1_i32_367
  let v552 : BitVec 32 := Scalar.addi c0_i32_366 v551
  let c1_i32_369 : BitVec 32 := 1#32
  let arg11 : BitVec 32 := Scf.iv v552 c1_i32_369 k0_t2
  let c16_i32_421 : BitVec 32 := 16#32
  let v684 : BitVec 32 := Scalar.muli arg11 c16_i32_421
  let v685 : BitVec 32 := Scalar.addi c1_i32_422 v684
  let c11_i32_2682 : BitVec 32 := 11#32
  let v3879 : BitVec 32 := Scalar.addi v685 c11_i32_2682
  let c1_i32_2683 : BitVec 32 := 1#32
  let v3880 : BitVec 32 := Scalar.subi v1 c1_i32_2683
  let v3881 : BitVec 32 := Scalar.minsi v3879 v3880
  let c256_i32_2684 : BitVec 32 := 256#32
  let v3882 : BitVec 32 := Scalar.muli v3881 c256_i32_2684
  v3882
def k0_mult232 (i : grid0.Coords) (k0_t2 : Fin (k0_t2_loop i).trips) : BitVec 32 :=
  let c1_i32_422 : BitVec 32 := 1#32
  let c0_i32_366 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_314 : BitVec 32 := 1#32
  let v480 : BitVec 32 := Scalar.subi v1 c1_i32_314
  let c0_i32_315 : BitVec 32 := 0#32
  let v482 : BitVec 1 := Scalar.cmpi .sgt v480 c0_i32_315
  let v483 : BitVec 32 := Scalar.extui v482
  let c0_i32_316 : BitVec 32 := 0#32
  let v484 : BitVec 1 := Scalar.cmpi .slt v480 c0_i32_316
  let v485 : BitVec 32 := Scalar.extui v484
  let v486 : BitVec 32 := Scalar.subi v483 v485
  let c16_i32 : BitVec 32 := 16#32
  let c0_i32_317 : BitVec 32 := 0#32
  let v487 : BitVec 1 := Scalar.cmpi .sgt c16_i32 c0_i32_317
  let v488 : BitVec 32 := Scalar.extui v487
  let c0_i32_318 : BitVec 32 := 0#32
  let v489 : BitVec 1 := Scalar.cmpi .slt c16_i32 c0_i32_318
  let v490 : BitVec 32 := Scalar.extui v489
  let v491 : BitVec 32 := Scalar.subi v488 v490
  let v492 : BitVec 1 := Scalar.cmpi .ne v486 v491
  let v493 : BitVec 32 := Scalar.remsi v480 c16_i32
  let c0_i32_319 : BitVec 32 := 0#32
  let v494 : BitVec 1 := Scalar.cmpi .ne v493 c0_i32_319
  let v495 : BitVec 1 := Scalar.andi v492 v494
  let v481 : BitVec 32 := Scalar.divsi v480 c16_i32
  let c1_i32_320 : BitVec 32 := 1#32
  let v496 : BitVec 32 := Scalar.subi v481 c1_i32_320
  let v497 : BitVec 32 := Scalar.select v495 v496 v481
  let v548 : BitVec 32 := Scalar.subi v497 c0_i32_366
  let c1_i32_367 : BitVec 32 := 1#32
  let v550 : BitVec 32 := Scalar.divsi v548 c1_i32_367
  let v551 : BitVec 32 := Scalar.muli v550 c1_i32_367
  let v552 : BitVec 32 := Scalar.addi c0_i32_366 v551
  let c1_i32_369 : BitVec 32 := 1#32
  let arg11 : BitVec 32 := Scf.iv v552 c1_i32_369 k0_t2
  let c16_i32_421 : BitVec 32 := 16#32
  let v684 : BitVec 32 := Scalar.muli arg11 c16_i32_421
  let v685 : BitVec 32 := Scalar.addi c1_i32_422 v684
  let c11_i32_2709 : BitVec 32 := 11#32
  let v3917 : BitVec 32 := Scalar.addi v685 c11_i32_2709
  let c1_i32_2710 : BitVec 32 := 1#32
  let v3918 : BitVec 32 := Scalar.subi v1 c1_i32_2710
  let v3919 : BitVec 32 := Scalar.minsi v3917 v3918
  let c256_i32_2711 : BitVec 32 := 256#32
  let v3920 : BitVec 32 := Scalar.muli v3919 c256_i32_2711
  v3920
def k0_mult233 (i : grid0.Coords) (k0_t2 : Fin (k0_t2_loop i).trips) : BitVec 32 :=
  let c1_i32_422 : BitVec 32 := 1#32
  let c0_i32_366 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_314 : BitVec 32 := 1#32
  let v480 : BitVec 32 := Scalar.subi v1 c1_i32_314
  let c0_i32_315 : BitVec 32 := 0#32
  let v482 : BitVec 1 := Scalar.cmpi .sgt v480 c0_i32_315
  let v483 : BitVec 32 := Scalar.extui v482
  let c0_i32_316 : BitVec 32 := 0#32
  let v484 : BitVec 1 := Scalar.cmpi .slt v480 c0_i32_316
  let v485 : BitVec 32 := Scalar.extui v484
  let v486 : BitVec 32 := Scalar.subi v483 v485
  let c16_i32 : BitVec 32 := 16#32
  let c0_i32_317 : BitVec 32 := 0#32
  let v487 : BitVec 1 := Scalar.cmpi .sgt c16_i32 c0_i32_317
  let v488 : BitVec 32 := Scalar.extui v487
  let c0_i32_318 : BitVec 32 := 0#32
  let v489 : BitVec 1 := Scalar.cmpi .slt c16_i32 c0_i32_318
  let v490 : BitVec 32 := Scalar.extui v489
  let v491 : BitVec 32 := Scalar.subi v488 v490
  let v492 : BitVec 1 := Scalar.cmpi .ne v486 v491
  let v493 : BitVec 32 := Scalar.remsi v480 c16_i32
  let c0_i32_319 : BitVec 32 := 0#32
  let v494 : BitVec 1 := Scalar.cmpi .ne v493 c0_i32_319
  let v495 : BitVec 1 := Scalar.andi v492 v494
  let v481 : BitVec 32 := Scalar.divsi v480 c16_i32
  let c1_i32_320 : BitVec 32 := 1#32
  let v496 : BitVec 32 := Scalar.subi v481 c1_i32_320
  let v497 : BitVec 32 := Scalar.select v495 v496 v481
  let v548 : BitVec 32 := Scalar.subi v497 c0_i32_366
  let c1_i32_367 : BitVec 32 := 1#32
  let v550 : BitVec 32 := Scalar.divsi v548 c1_i32_367
  let v551 : BitVec 32 := Scalar.muli v550 c1_i32_367
  let v552 : BitVec 32 := Scalar.addi c0_i32_366 v551
  let c1_i32_369 : BitVec 32 := 1#32
  let arg11 : BitVec 32 := Scf.iv v552 c1_i32_369 k0_t2
  let c16_i32_421 : BitVec 32 := 16#32
  let v684 : BitVec 32 := Scalar.muli arg11 c16_i32_421
  let v685 : BitVec 32 := Scalar.addi c1_i32_422 v684
  let c11_i32_2736 : BitVec 32 := 11#32
  let v3955 : BitVec 32 := Scalar.addi v685 c11_i32_2736
  let c1_i32_2737 : BitVec 32 := 1#32
  let v3956 : BitVec 32 := Scalar.subi v1 c1_i32_2737
  let v3957 : BitVec 32 := Scalar.minsi v3955 v3956
  let c256_i32_2738 : BitVec 32 := 256#32
  let v3958 : BitVec 32 := Scalar.muli v3957 c256_i32_2738
  v3958
def k0_mult234 (i : grid0.Coords) (k0_t2 : Fin (k0_t2_loop i).trips) : BitVec 32 :=
  let c1_i32_422 : BitVec 32 := 1#32
  let c0_i32_366 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_314 : BitVec 32 := 1#32
  let v480 : BitVec 32 := Scalar.subi v1 c1_i32_314
  let c0_i32_315 : BitVec 32 := 0#32
  let v482 : BitVec 1 := Scalar.cmpi .sgt v480 c0_i32_315
  let v483 : BitVec 32 := Scalar.extui v482
  let c0_i32_316 : BitVec 32 := 0#32
  let v484 : BitVec 1 := Scalar.cmpi .slt v480 c0_i32_316
  let v485 : BitVec 32 := Scalar.extui v484
  let v486 : BitVec 32 := Scalar.subi v483 v485
  let c16_i32 : BitVec 32 := 16#32
  let c0_i32_317 : BitVec 32 := 0#32
  let v487 : BitVec 1 := Scalar.cmpi .sgt c16_i32 c0_i32_317
  let v488 : BitVec 32 := Scalar.extui v487
  let c0_i32_318 : BitVec 32 := 0#32
  let v489 : BitVec 1 := Scalar.cmpi .slt c16_i32 c0_i32_318
  let v490 : BitVec 32 := Scalar.extui v489
  let v491 : BitVec 32 := Scalar.subi v488 v490
  let v492 : BitVec 1 := Scalar.cmpi .ne v486 v491
  let v493 : BitVec 32 := Scalar.remsi v480 c16_i32
  let c0_i32_319 : BitVec 32 := 0#32
  let v494 : BitVec 1 := Scalar.cmpi .ne v493 c0_i32_319
  let v495 : BitVec 1 := Scalar.andi v492 v494
  let v481 : BitVec 32 := Scalar.divsi v480 c16_i32
  let c1_i32_320 : BitVec 32 := 1#32
  let v496 : BitVec 32 := Scalar.subi v481 c1_i32_320
  let v497 : BitVec 32 := Scalar.select v495 v496 v481
  let v548 : BitVec 32 := Scalar.subi v497 c0_i32_366
  let c1_i32_367 : BitVec 32 := 1#32
  let v550 : BitVec 32 := Scalar.divsi v548 c1_i32_367
  let v551 : BitVec 32 := Scalar.muli v550 c1_i32_367
  let v552 : BitVec 32 := Scalar.addi c0_i32_366 v551
  let c1_i32_369 : BitVec 32 := 1#32
  let arg11 : BitVec 32 := Scf.iv v552 c1_i32_369 k0_t2
  let c16_i32_421 : BitVec 32 := 16#32
  let v684 : BitVec 32 := Scalar.muli arg11 c16_i32_421
  let v685 : BitVec 32 := Scalar.addi c1_i32_422 v684
  let c11_i32_2763 : BitVec 32 := 11#32
  let v3993 : BitVec 32 := Scalar.addi v685 c11_i32_2763
  let c1_i32_2764 : BitVec 32 := 1#32
  let v3994 : BitVec 32 := Scalar.subi v1 c1_i32_2764
  let v3995 : BitVec 32 := Scalar.minsi v3993 v3994
  let c256_i32_2765 : BitVec 32 := 256#32
  let v3996 : BitVec 32 := Scalar.muli v3995 c256_i32_2765
  v3996
def k0_mult235 (i : grid0.Coords) (k0_t2 : Fin (k0_t2_loop i).trips) : BitVec 32 :=
  let c1_i32_422 : BitVec 32 := 1#32
  let c0_i32_366 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_314 : BitVec 32 := 1#32
  let v480 : BitVec 32 := Scalar.subi v1 c1_i32_314
  let c0_i32_315 : BitVec 32 := 0#32
  let v482 : BitVec 1 := Scalar.cmpi .sgt v480 c0_i32_315
  let v483 : BitVec 32 := Scalar.extui v482
  let c0_i32_316 : BitVec 32 := 0#32
  let v484 : BitVec 1 := Scalar.cmpi .slt v480 c0_i32_316
  let v485 : BitVec 32 := Scalar.extui v484
  let v486 : BitVec 32 := Scalar.subi v483 v485
  let c16_i32 : BitVec 32 := 16#32
  let c0_i32_317 : BitVec 32 := 0#32
  let v487 : BitVec 1 := Scalar.cmpi .sgt c16_i32 c0_i32_317
  let v488 : BitVec 32 := Scalar.extui v487
  let c0_i32_318 : BitVec 32 := 0#32
  let v489 : BitVec 1 := Scalar.cmpi .slt c16_i32 c0_i32_318
  let v490 : BitVec 32 := Scalar.extui v489
  let v491 : BitVec 32 := Scalar.subi v488 v490
  let v492 : BitVec 1 := Scalar.cmpi .ne v486 v491
  let v493 : BitVec 32 := Scalar.remsi v480 c16_i32
  let c0_i32_319 : BitVec 32 := 0#32
  let v494 : BitVec 1 := Scalar.cmpi .ne v493 c0_i32_319
  let v495 : BitVec 1 := Scalar.andi v492 v494
  let v481 : BitVec 32 := Scalar.divsi v480 c16_i32
  let c1_i32_320 : BitVec 32 := 1#32
  let v496 : BitVec 32 := Scalar.subi v481 c1_i32_320
  let v497 : BitVec 32 := Scalar.select v495 v496 v481
  let v548 : BitVec 32 := Scalar.subi v497 c0_i32_366
  let c1_i32_367 : BitVec 32 := 1#32
  let v550 : BitVec 32 := Scalar.divsi v548 c1_i32_367
  let v551 : BitVec 32 := Scalar.muli v550 c1_i32_367
  let v552 : BitVec 32 := Scalar.addi c0_i32_366 v551
  let c1_i32_369 : BitVec 32 := 1#32
  let arg11 : BitVec 32 := Scf.iv v552 c1_i32_369 k0_t2
  let c16_i32_421 : BitVec 32 := 16#32
  let v684 : BitVec 32 := Scalar.muli arg11 c16_i32_421
  let v685 : BitVec 32 := Scalar.addi c1_i32_422 v684
  let c11_i32_2790 : BitVec 32 := 11#32
  let v4031 : BitVec 32 := Scalar.addi v685 c11_i32_2790
  let c1_i32_2791 : BitVec 32 := 1#32
  let v4032 : BitVec 32 := Scalar.subi v1 c1_i32_2791
  let v4033 : BitVec 32 := Scalar.minsi v4031 v4032
  let c256_i32_2792 : BitVec 32 := 256#32
  let v4034 : BitVec 32 := Scalar.muli v4033 c256_i32_2792
  v4034
def k0_mult236 (i : grid0.Coords) (k0_t2 : Fin (k0_t2_loop i).trips) : BitVec 32 :=
  let c1_i32_422 : BitVec 32 := 1#32
  let c0_i32_366 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_314 : BitVec 32 := 1#32
  let v480 : BitVec 32 := Scalar.subi v1 c1_i32_314
  let c0_i32_315 : BitVec 32 := 0#32
  let v482 : BitVec 1 := Scalar.cmpi .sgt v480 c0_i32_315
  let v483 : BitVec 32 := Scalar.extui v482
  let c0_i32_316 : BitVec 32 := 0#32
  let v484 : BitVec 1 := Scalar.cmpi .slt v480 c0_i32_316
  let v485 : BitVec 32 := Scalar.extui v484
  let v486 : BitVec 32 := Scalar.subi v483 v485
  let c16_i32 : BitVec 32 := 16#32
  let c0_i32_317 : BitVec 32 := 0#32
  let v487 : BitVec 1 := Scalar.cmpi .sgt c16_i32 c0_i32_317
  let v488 : BitVec 32 := Scalar.extui v487
  let c0_i32_318 : BitVec 32 := 0#32
  let v489 : BitVec 1 := Scalar.cmpi .slt c16_i32 c0_i32_318
  let v490 : BitVec 32 := Scalar.extui v489
  let v491 : BitVec 32 := Scalar.subi v488 v490
  let v492 : BitVec 1 := Scalar.cmpi .ne v486 v491
  let v493 : BitVec 32 := Scalar.remsi v480 c16_i32
  let c0_i32_319 : BitVec 32 := 0#32
  let v494 : BitVec 1 := Scalar.cmpi .ne v493 c0_i32_319
  let v495 : BitVec 1 := Scalar.andi v492 v494
  let v481 : BitVec 32 := Scalar.divsi v480 c16_i32
  let c1_i32_320 : BitVec 32 := 1#32
  let v496 : BitVec 32 := Scalar.subi v481 c1_i32_320
  let v497 : BitVec 32 := Scalar.select v495 v496 v481
  let v548 : BitVec 32 := Scalar.subi v497 c0_i32_366
  let c1_i32_367 : BitVec 32 := 1#32
  let v550 : BitVec 32 := Scalar.divsi v548 c1_i32_367
  let v551 : BitVec 32 := Scalar.muli v550 c1_i32_367
  let v552 : BitVec 32 := Scalar.addi c0_i32_366 v551
  let c1_i32_369 : BitVec 32 := 1#32
  let arg11 : BitVec 32 := Scf.iv v552 c1_i32_369 k0_t2
  let c16_i32_421 : BitVec 32 := 16#32
  let v684 : BitVec 32 := Scalar.muli arg11 c16_i32_421
  let v685 : BitVec 32 := Scalar.addi c1_i32_422 v684
  let c11_i32_2817 : BitVec 32 := 11#32
  let v4069 : BitVec 32 := Scalar.addi v685 c11_i32_2817
  let c1_i32_2818 : BitVec 32 := 1#32
  let v4070 : BitVec 32 := Scalar.subi v1 c1_i32_2818
  let v4071 : BitVec 32 := Scalar.minsi v4069 v4070
  let c256_i32_2819 : BitVec 32 := 256#32
  let v4072 : BitVec 32 := Scalar.muli v4071 c256_i32_2819
  v4072
def k0_mult237 (i : grid0.Coords) (k0_t2 : Fin (k0_t2_loop i).trips) : BitVec 32 :=
  let c1_i32_422 : BitVec 32 := 1#32
  let c0_i32_366 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_314 : BitVec 32 := 1#32
  let v480 : BitVec 32 := Scalar.subi v1 c1_i32_314
  let c0_i32_315 : BitVec 32 := 0#32
  let v482 : BitVec 1 := Scalar.cmpi .sgt v480 c0_i32_315
  let v483 : BitVec 32 := Scalar.extui v482
  let c0_i32_316 : BitVec 32 := 0#32
  let v484 : BitVec 1 := Scalar.cmpi .slt v480 c0_i32_316
  let v485 : BitVec 32 := Scalar.extui v484
  let v486 : BitVec 32 := Scalar.subi v483 v485
  let c16_i32 : BitVec 32 := 16#32
  let c0_i32_317 : BitVec 32 := 0#32
  let v487 : BitVec 1 := Scalar.cmpi .sgt c16_i32 c0_i32_317
  let v488 : BitVec 32 := Scalar.extui v487
  let c0_i32_318 : BitVec 32 := 0#32
  let v489 : BitVec 1 := Scalar.cmpi .slt c16_i32 c0_i32_318
  let v490 : BitVec 32 := Scalar.extui v489
  let v491 : BitVec 32 := Scalar.subi v488 v490
  let v492 : BitVec 1 := Scalar.cmpi .ne v486 v491
  let v493 : BitVec 32 := Scalar.remsi v480 c16_i32
  let c0_i32_319 : BitVec 32 := 0#32
  let v494 : BitVec 1 := Scalar.cmpi .ne v493 c0_i32_319
  let v495 : BitVec 1 := Scalar.andi v492 v494
  let v481 : BitVec 32 := Scalar.divsi v480 c16_i32
  let c1_i32_320 : BitVec 32 := 1#32
  let v496 : BitVec 32 := Scalar.subi v481 c1_i32_320
  let v497 : BitVec 32 := Scalar.select v495 v496 v481
  let v548 : BitVec 32 := Scalar.subi v497 c0_i32_366
  let c1_i32_367 : BitVec 32 := 1#32
  let v550 : BitVec 32 := Scalar.divsi v548 c1_i32_367
  let v551 : BitVec 32 := Scalar.muli v550 c1_i32_367
  let v552 : BitVec 32 := Scalar.addi c0_i32_366 v551
  let c1_i32_369 : BitVec 32 := 1#32
  let arg11 : BitVec 32 := Scf.iv v552 c1_i32_369 k0_t2
  let c16_i32_421 : BitVec 32 := 16#32
  let v684 : BitVec 32 := Scalar.muli arg11 c16_i32_421
  let v685 : BitVec 32 := Scalar.addi c1_i32_422 v684
  let c11_i32_2844 : BitVec 32 := 11#32
  let v4107 : BitVec 32 := Scalar.addi v685 c11_i32_2844
  let c1_i32_2845 : BitVec 32 := 1#32
  let v4108 : BitVec 32 := Scalar.subi v1 c1_i32_2845
  let v4109 : BitVec 32 := Scalar.minsi v4107 v4108
  let c256_i32_2846 : BitVec 32 := 256#32
  let v4110 : BitVec 32 := Scalar.muli v4109 c256_i32_2846
  v4110
def k0_mult238 (i : grid0.Coords) (k0_t2 : Fin (k0_t2_loop i).trips) : BitVec 32 :=
  let c1_i32_422 : BitVec 32 := 1#32
  let c0_i32_366 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_314 : BitVec 32 := 1#32
  let v480 : BitVec 32 := Scalar.subi v1 c1_i32_314
  let c0_i32_315 : BitVec 32 := 0#32
  let v482 : BitVec 1 := Scalar.cmpi .sgt v480 c0_i32_315
  let v483 : BitVec 32 := Scalar.extui v482
  let c0_i32_316 : BitVec 32 := 0#32
  let v484 : BitVec 1 := Scalar.cmpi .slt v480 c0_i32_316
  let v485 : BitVec 32 := Scalar.extui v484
  let v486 : BitVec 32 := Scalar.subi v483 v485
  let c16_i32 : BitVec 32 := 16#32
  let c0_i32_317 : BitVec 32 := 0#32
  let v487 : BitVec 1 := Scalar.cmpi .sgt c16_i32 c0_i32_317
  let v488 : BitVec 32 := Scalar.extui v487
  let c0_i32_318 : BitVec 32 := 0#32
  let v489 : BitVec 1 := Scalar.cmpi .slt c16_i32 c0_i32_318
  let v490 : BitVec 32 := Scalar.extui v489
  let v491 : BitVec 32 := Scalar.subi v488 v490
  let v492 : BitVec 1 := Scalar.cmpi .ne v486 v491
  let v493 : BitVec 32 := Scalar.remsi v480 c16_i32
  let c0_i32_319 : BitVec 32 := 0#32
  let v494 : BitVec 1 := Scalar.cmpi .ne v493 c0_i32_319
  let v495 : BitVec 1 := Scalar.andi v492 v494
  let v481 : BitVec 32 := Scalar.divsi v480 c16_i32
  let c1_i32_320 : BitVec 32 := 1#32
  let v496 : BitVec 32 := Scalar.subi v481 c1_i32_320
  let v497 : BitVec 32 := Scalar.select v495 v496 v481
  let v548 : BitVec 32 := Scalar.subi v497 c0_i32_366
  let c1_i32_367 : BitVec 32 := 1#32
  let v550 : BitVec 32 := Scalar.divsi v548 c1_i32_367
  let v551 : BitVec 32 := Scalar.muli v550 c1_i32_367
  let v552 : BitVec 32 := Scalar.addi c0_i32_366 v551
  let c1_i32_369 : BitVec 32 := 1#32
  let arg11 : BitVec 32 := Scf.iv v552 c1_i32_369 k0_t2
  let c16_i32_421 : BitVec 32 := 16#32
  let v684 : BitVec 32 := Scalar.muli arg11 c16_i32_421
  let v685 : BitVec 32 := Scalar.addi c1_i32_422 v684
  let c12_i32 : BitVec 32 := 12#32
  let v4145 : BitVec 32 := Scalar.addi v685 c12_i32
  let c1_i32_2871 : BitVec 32 := 1#32
  let v4146 : BitVec 32 := Scalar.subi v1 c1_i32_2871
  let v4147 : BitVec 32 := Scalar.minsi v4145 v4146
  let c256_i32_2872 : BitVec 32 := 256#32
  let v4148 : BitVec 32 := Scalar.muli v4147 c256_i32_2872
  v4148
def k0_mult239 (i : grid0.Coords) (k0_t2 : Fin (k0_t2_loop i).trips) : BitVec 32 :=
  let c1_i32_422 : BitVec 32 := 1#32
  let c0_i32_366 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_314 : BitVec 32 := 1#32
  let v480 : BitVec 32 := Scalar.subi v1 c1_i32_314
  let c0_i32_315 : BitVec 32 := 0#32
  let v482 : BitVec 1 := Scalar.cmpi .sgt v480 c0_i32_315
  let v483 : BitVec 32 := Scalar.extui v482
  let c0_i32_316 : BitVec 32 := 0#32
  let v484 : BitVec 1 := Scalar.cmpi .slt v480 c0_i32_316
  let v485 : BitVec 32 := Scalar.extui v484
  let v486 : BitVec 32 := Scalar.subi v483 v485
  let c16_i32 : BitVec 32 := 16#32
  let c0_i32_317 : BitVec 32 := 0#32
  let v487 : BitVec 1 := Scalar.cmpi .sgt c16_i32 c0_i32_317
  let v488 : BitVec 32 := Scalar.extui v487
  let c0_i32_318 : BitVec 32 := 0#32
  let v489 : BitVec 1 := Scalar.cmpi .slt c16_i32 c0_i32_318
  let v490 : BitVec 32 := Scalar.extui v489
  let v491 : BitVec 32 := Scalar.subi v488 v490
  let v492 : BitVec 1 := Scalar.cmpi .ne v486 v491
  let v493 : BitVec 32 := Scalar.remsi v480 c16_i32
  let c0_i32_319 : BitVec 32 := 0#32
  let v494 : BitVec 1 := Scalar.cmpi .ne v493 c0_i32_319
  let v495 : BitVec 1 := Scalar.andi v492 v494
  let v481 : BitVec 32 := Scalar.divsi v480 c16_i32
  let c1_i32_320 : BitVec 32 := 1#32
  let v496 : BitVec 32 := Scalar.subi v481 c1_i32_320
  let v497 : BitVec 32 := Scalar.select v495 v496 v481
  let v548 : BitVec 32 := Scalar.subi v497 c0_i32_366
  let c1_i32_367 : BitVec 32 := 1#32
  let v550 : BitVec 32 := Scalar.divsi v548 c1_i32_367
  let v551 : BitVec 32 := Scalar.muli v550 c1_i32_367
  let v552 : BitVec 32 := Scalar.addi c0_i32_366 v551
  let c1_i32_369 : BitVec 32 := 1#32
  let arg11 : BitVec 32 := Scf.iv v552 c1_i32_369 k0_t2
  let c16_i32_421 : BitVec 32 := 16#32
  let v684 : BitVec 32 := Scalar.muli arg11 c16_i32_421
  let v685 : BitVec 32 := Scalar.addi c1_i32_422 v684
  let c12_i32_2897 : BitVec 32 := 12#32
  let v4183 : BitVec 32 := Scalar.addi v685 c12_i32_2897
  let c1_i32_2898 : BitVec 32 := 1#32
  let v4184 : BitVec 32 := Scalar.subi v1 c1_i32_2898
  let v4185 : BitVec 32 := Scalar.minsi v4183 v4184
  let c256_i32_2899 : BitVec 32 := 256#32
  let v4186 : BitVec 32 := Scalar.muli v4185 c256_i32_2899
  v4186
def k0_mult240 (i : grid0.Coords) (k0_t2 : Fin (k0_t2_loop i).trips) : BitVec 32 :=
  let c1_i32_422 : BitVec 32 := 1#32
  let c0_i32_366 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_314 : BitVec 32 := 1#32
  let v480 : BitVec 32 := Scalar.subi v1 c1_i32_314
  let c0_i32_315 : BitVec 32 := 0#32
  let v482 : BitVec 1 := Scalar.cmpi .sgt v480 c0_i32_315
  let v483 : BitVec 32 := Scalar.extui v482
  let c0_i32_316 : BitVec 32 := 0#32
  let v484 : BitVec 1 := Scalar.cmpi .slt v480 c0_i32_316
  let v485 : BitVec 32 := Scalar.extui v484
  let v486 : BitVec 32 := Scalar.subi v483 v485
  let c16_i32 : BitVec 32 := 16#32
  let c0_i32_317 : BitVec 32 := 0#32
  let v487 : BitVec 1 := Scalar.cmpi .sgt c16_i32 c0_i32_317
  let v488 : BitVec 32 := Scalar.extui v487
  let c0_i32_318 : BitVec 32 := 0#32
  let v489 : BitVec 1 := Scalar.cmpi .slt c16_i32 c0_i32_318
  let v490 : BitVec 32 := Scalar.extui v489
  let v491 : BitVec 32 := Scalar.subi v488 v490
  let v492 : BitVec 1 := Scalar.cmpi .ne v486 v491
  let v493 : BitVec 32 := Scalar.remsi v480 c16_i32
  let c0_i32_319 : BitVec 32 := 0#32
  let v494 : BitVec 1 := Scalar.cmpi .ne v493 c0_i32_319
  let v495 : BitVec 1 := Scalar.andi v492 v494
  let v481 : BitVec 32 := Scalar.divsi v480 c16_i32
  let c1_i32_320 : BitVec 32 := 1#32
  let v496 : BitVec 32 := Scalar.subi v481 c1_i32_320
  let v497 : BitVec 32 := Scalar.select v495 v496 v481
  let v548 : BitVec 32 := Scalar.subi v497 c0_i32_366
  let c1_i32_367 : BitVec 32 := 1#32
  let v550 : BitVec 32 := Scalar.divsi v548 c1_i32_367
  let v551 : BitVec 32 := Scalar.muli v550 c1_i32_367
  let v552 : BitVec 32 := Scalar.addi c0_i32_366 v551
  let c1_i32_369 : BitVec 32 := 1#32
  let arg11 : BitVec 32 := Scf.iv v552 c1_i32_369 k0_t2
  let c16_i32_421 : BitVec 32 := 16#32
  let v684 : BitVec 32 := Scalar.muli arg11 c16_i32_421
  let v685 : BitVec 32 := Scalar.addi c1_i32_422 v684
  let c12_i32_2924 : BitVec 32 := 12#32
  let v4221 : BitVec 32 := Scalar.addi v685 c12_i32_2924
  let c1_i32_2925 : BitVec 32 := 1#32
  let v4222 : BitVec 32 := Scalar.subi v1 c1_i32_2925
  let v4223 : BitVec 32 := Scalar.minsi v4221 v4222
  let c256_i32_2926 : BitVec 32 := 256#32
  let v4224 : BitVec 32 := Scalar.muli v4223 c256_i32_2926
  v4224
def k0_mult241 (i : grid0.Coords) (k0_t2 : Fin (k0_t2_loop i).trips) : BitVec 32 :=
  let c1_i32_422 : BitVec 32 := 1#32
  let c0_i32_366 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_314 : BitVec 32 := 1#32
  let v480 : BitVec 32 := Scalar.subi v1 c1_i32_314
  let c0_i32_315 : BitVec 32 := 0#32
  let v482 : BitVec 1 := Scalar.cmpi .sgt v480 c0_i32_315
  let v483 : BitVec 32 := Scalar.extui v482
  let c0_i32_316 : BitVec 32 := 0#32
  let v484 : BitVec 1 := Scalar.cmpi .slt v480 c0_i32_316
  let v485 : BitVec 32 := Scalar.extui v484
  let v486 : BitVec 32 := Scalar.subi v483 v485
  let c16_i32 : BitVec 32 := 16#32
  let c0_i32_317 : BitVec 32 := 0#32
  let v487 : BitVec 1 := Scalar.cmpi .sgt c16_i32 c0_i32_317
  let v488 : BitVec 32 := Scalar.extui v487
  let c0_i32_318 : BitVec 32 := 0#32
  let v489 : BitVec 1 := Scalar.cmpi .slt c16_i32 c0_i32_318
  let v490 : BitVec 32 := Scalar.extui v489
  let v491 : BitVec 32 := Scalar.subi v488 v490
  let v492 : BitVec 1 := Scalar.cmpi .ne v486 v491
  let v493 : BitVec 32 := Scalar.remsi v480 c16_i32
  let c0_i32_319 : BitVec 32 := 0#32
  let v494 : BitVec 1 := Scalar.cmpi .ne v493 c0_i32_319
  let v495 : BitVec 1 := Scalar.andi v492 v494
  let v481 : BitVec 32 := Scalar.divsi v480 c16_i32
  let c1_i32_320 : BitVec 32 := 1#32
  let v496 : BitVec 32 := Scalar.subi v481 c1_i32_320
  let v497 : BitVec 32 := Scalar.select v495 v496 v481
  let v548 : BitVec 32 := Scalar.subi v497 c0_i32_366
  let c1_i32_367 : BitVec 32 := 1#32
  let v550 : BitVec 32 := Scalar.divsi v548 c1_i32_367
  let v551 : BitVec 32 := Scalar.muli v550 c1_i32_367
  let v552 : BitVec 32 := Scalar.addi c0_i32_366 v551
  let c1_i32_369 : BitVec 32 := 1#32
  let arg11 : BitVec 32 := Scf.iv v552 c1_i32_369 k0_t2
  let c16_i32_421 : BitVec 32 := 16#32
  let v684 : BitVec 32 := Scalar.muli arg11 c16_i32_421
  let v685 : BitVec 32 := Scalar.addi c1_i32_422 v684
  let c12_i32_2951 : BitVec 32 := 12#32
  let v4259 : BitVec 32 := Scalar.addi v685 c12_i32_2951
  let c1_i32_2952 : BitVec 32 := 1#32
  let v4260 : BitVec 32 := Scalar.subi v1 c1_i32_2952
  let v4261 : BitVec 32 := Scalar.minsi v4259 v4260
  let c256_i32_2953 : BitVec 32 := 256#32
  let v4262 : BitVec 32 := Scalar.muli v4261 c256_i32_2953
  v4262
def k0_mult242 (i : grid0.Coords) (k0_t2 : Fin (k0_t2_loop i).trips) : BitVec 32 :=
  let c1_i32_422 : BitVec 32 := 1#32
  let c0_i32_366 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_314 : BitVec 32 := 1#32
  let v480 : BitVec 32 := Scalar.subi v1 c1_i32_314
  let c0_i32_315 : BitVec 32 := 0#32
  let v482 : BitVec 1 := Scalar.cmpi .sgt v480 c0_i32_315
  let v483 : BitVec 32 := Scalar.extui v482
  let c0_i32_316 : BitVec 32 := 0#32
  let v484 : BitVec 1 := Scalar.cmpi .slt v480 c0_i32_316
  let v485 : BitVec 32 := Scalar.extui v484
  let v486 : BitVec 32 := Scalar.subi v483 v485
  let c16_i32 : BitVec 32 := 16#32
  let c0_i32_317 : BitVec 32 := 0#32
  let v487 : BitVec 1 := Scalar.cmpi .sgt c16_i32 c0_i32_317
  let v488 : BitVec 32 := Scalar.extui v487
  let c0_i32_318 : BitVec 32 := 0#32
  let v489 : BitVec 1 := Scalar.cmpi .slt c16_i32 c0_i32_318
  let v490 : BitVec 32 := Scalar.extui v489
  let v491 : BitVec 32 := Scalar.subi v488 v490
  let v492 : BitVec 1 := Scalar.cmpi .ne v486 v491
  let v493 : BitVec 32 := Scalar.remsi v480 c16_i32
  let c0_i32_319 : BitVec 32 := 0#32
  let v494 : BitVec 1 := Scalar.cmpi .ne v493 c0_i32_319
  let v495 : BitVec 1 := Scalar.andi v492 v494
  let v481 : BitVec 32 := Scalar.divsi v480 c16_i32
  let c1_i32_320 : BitVec 32 := 1#32
  let v496 : BitVec 32 := Scalar.subi v481 c1_i32_320
  let v497 : BitVec 32 := Scalar.select v495 v496 v481
  let v548 : BitVec 32 := Scalar.subi v497 c0_i32_366
  let c1_i32_367 : BitVec 32 := 1#32
  let v550 : BitVec 32 := Scalar.divsi v548 c1_i32_367
  let v551 : BitVec 32 := Scalar.muli v550 c1_i32_367
  let v552 : BitVec 32 := Scalar.addi c0_i32_366 v551
  let c1_i32_369 : BitVec 32 := 1#32
  let arg11 : BitVec 32 := Scf.iv v552 c1_i32_369 k0_t2
  let c16_i32_421 : BitVec 32 := 16#32
  let v684 : BitVec 32 := Scalar.muli arg11 c16_i32_421
  let v685 : BitVec 32 := Scalar.addi c1_i32_422 v684
  let c12_i32_2978 : BitVec 32 := 12#32
  let v4297 : BitVec 32 := Scalar.addi v685 c12_i32_2978
  let c1_i32_2979 : BitVec 32 := 1#32
  let v4298 : BitVec 32 := Scalar.subi v1 c1_i32_2979
  let v4299 : BitVec 32 := Scalar.minsi v4297 v4298
  let c256_i32_2980 : BitVec 32 := 256#32
  let v4300 : BitVec 32 := Scalar.muli v4299 c256_i32_2980
  v4300
def k0_mult243 (i : grid0.Coords) (k0_t2 : Fin (k0_t2_loop i).trips) : BitVec 32 :=
  let c1_i32_422 : BitVec 32 := 1#32
  let c0_i32_366 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_314 : BitVec 32 := 1#32
  let v480 : BitVec 32 := Scalar.subi v1 c1_i32_314
  let c0_i32_315 : BitVec 32 := 0#32
  let v482 : BitVec 1 := Scalar.cmpi .sgt v480 c0_i32_315
  let v483 : BitVec 32 := Scalar.extui v482
  let c0_i32_316 : BitVec 32 := 0#32
  let v484 : BitVec 1 := Scalar.cmpi .slt v480 c0_i32_316
  let v485 : BitVec 32 := Scalar.extui v484
  let v486 : BitVec 32 := Scalar.subi v483 v485
  let c16_i32 : BitVec 32 := 16#32
  let c0_i32_317 : BitVec 32 := 0#32
  let v487 : BitVec 1 := Scalar.cmpi .sgt c16_i32 c0_i32_317
  let v488 : BitVec 32 := Scalar.extui v487
  let c0_i32_318 : BitVec 32 := 0#32
  let v489 : BitVec 1 := Scalar.cmpi .slt c16_i32 c0_i32_318
  let v490 : BitVec 32 := Scalar.extui v489
  let v491 : BitVec 32 := Scalar.subi v488 v490
  let v492 : BitVec 1 := Scalar.cmpi .ne v486 v491
  let v493 : BitVec 32 := Scalar.remsi v480 c16_i32
  let c0_i32_319 : BitVec 32 := 0#32
  let v494 : BitVec 1 := Scalar.cmpi .ne v493 c0_i32_319
  let v495 : BitVec 1 := Scalar.andi v492 v494
  let v481 : BitVec 32 := Scalar.divsi v480 c16_i32
  let c1_i32_320 : BitVec 32 := 1#32
  let v496 : BitVec 32 := Scalar.subi v481 c1_i32_320
  let v497 : BitVec 32 := Scalar.select v495 v496 v481
  let v548 : BitVec 32 := Scalar.subi v497 c0_i32_366
  let c1_i32_367 : BitVec 32 := 1#32
  let v550 : BitVec 32 := Scalar.divsi v548 c1_i32_367
  let v551 : BitVec 32 := Scalar.muli v550 c1_i32_367
  let v552 : BitVec 32 := Scalar.addi c0_i32_366 v551
  let c1_i32_369 : BitVec 32 := 1#32
  let arg11 : BitVec 32 := Scf.iv v552 c1_i32_369 k0_t2
  let c16_i32_421 : BitVec 32 := 16#32
  let v684 : BitVec 32 := Scalar.muli arg11 c16_i32_421
  let v685 : BitVec 32 := Scalar.addi c1_i32_422 v684
  let c12_i32_3005 : BitVec 32 := 12#32
  let v4335 : BitVec 32 := Scalar.addi v685 c12_i32_3005
  let c1_i32_3006 : BitVec 32 := 1#32
  let v4336 : BitVec 32 := Scalar.subi v1 c1_i32_3006
  let v4337 : BitVec 32 := Scalar.minsi v4335 v4336
  let c256_i32_3007 : BitVec 32 := 256#32
  let v4338 : BitVec 32 := Scalar.muli v4337 c256_i32_3007
  v4338
def k0_mult244 (i : grid0.Coords) (k0_t2 : Fin (k0_t2_loop i).trips) : BitVec 32 :=
  let c1_i32_422 : BitVec 32 := 1#32
  let c0_i32_366 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_314 : BitVec 32 := 1#32
  let v480 : BitVec 32 := Scalar.subi v1 c1_i32_314
  let c0_i32_315 : BitVec 32 := 0#32
  let v482 : BitVec 1 := Scalar.cmpi .sgt v480 c0_i32_315
  let v483 : BitVec 32 := Scalar.extui v482
  let c0_i32_316 : BitVec 32 := 0#32
  let v484 : BitVec 1 := Scalar.cmpi .slt v480 c0_i32_316
  let v485 : BitVec 32 := Scalar.extui v484
  let v486 : BitVec 32 := Scalar.subi v483 v485
  let c16_i32 : BitVec 32 := 16#32
  let c0_i32_317 : BitVec 32 := 0#32
  let v487 : BitVec 1 := Scalar.cmpi .sgt c16_i32 c0_i32_317
  let v488 : BitVec 32 := Scalar.extui v487
  let c0_i32_318 : BitVec 32 := 0#32
  let v489 : BitVec 1 := Scalar.cmpi .slt c16_i32 c0_i32_318
  let v490 : BitVec 32 := Scalar.extui v489
  let v491 : BitVec 32 := Scalar.subi v488 v490
  let v492 : BitVec 1 := Scalar.cmpi .ne v486 v491
  let v493 : BitVec 32 := Scalar.remsi v480 c16_i32
  let c0_i32_319 : BitVec 32 := 0#32
  let v494 : BitVec 1 := Scalar.cmpi .ne v493 c0_i32_319
  let v495 : BitVec 1 := Scalar.andi v492 v494
  let v481 : BitVec 32 := Scalar.divsi v480 c16_i32
  let c1_i32_320 : BitVec 32 := 1#32
  let v496 : BitVec 32 := Scalar.subi v481 c1_i32_320
  let v497 : BitVec 32 := Scalar.select v495 v496 v481
  let v548 : BitVec 32 := Scalar.subi v497 c0_i32_366
  let c1_i32_367 : BitVec 32 := 1#32
  let v550 : BitVec 32 := Scalar.divsi v548 c1_i32_367
  let v551 : BitVec 32 := Scalar.muli v550 c1_i32_367
  let v552 : BitVec 32 := Scalar.addi c0_i32_366 v551
  let c1_i32_369 : BitVec 32 := 1#32
  let arg11 : BitVec 32 := Scf.iv v552 c1_i32_369 k0_t2
  let c16_i32_421 : BitVec 32 := 16#32
  let v684 : BitVec 32 := Scalar.muli arg11 c16_i32_421
  let v685 : BitVec 32 := Scalar.addi c1_i32_422 v684
  let c12_i32_3032 : BitVec 32 := 12#32
  let v4373 : BitVec 32 := Scalar.addi v685 c12_i32_3032
  let c1_i32_3033 : BitVec 32 := 1#32
  let v4374 : BitVec 32 := Scalar.subi v1 c1_i32_3033
  let v4375 : BitVec 32 := Scalar.minsi v4373 v4374
  let c256_i32_3034 : BitVec 32 := 256#32
  let v4376 : BitVec 32 := Scalar.muli v4375 c256_i32_3034
  v4376
def k0_mult245 (i : grid0.Coords) (k0_t2 : Fin (k0_t2_loop i).trips) : BitVec 32 :=
  let c1_i32_422 : BitVec 32 := 1#32
  let c0_i32_366 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_314 : BitVec 32 := 1#32
  let v480 : BitVec 32 := Scalar.subi v1 c1_i32_314
  let c0_i32_315 : BitVec 32 := 0#32
  let v482 : BitVec 1 := Scalar.cmpi .sgt v480 c0_i32_315
  let v483 : BitVec 32 := Scalar.extui v482
  let c0_i32_316 : BitVec 32 := 0#32
  let v484 : BitVec 1 := Scalar.cmpi .slt v480 c0_i32_316
  let v485 : BitVec 32 := Scalar.extui v484
  let v486 : BitVec 32 := Scalar.subi v483 v485
  let c16_i32 : BitVec 32 := 16#32
  let c0_i32_317 : BitVec 32 := 0#32
  let v487 : BitVec 1 := Scalar.cmpi .sgt c16_i32 c0_i32_317
  let v488 : BitVec 32 := Scalar.extui v487
  let c0_i32_318 : BitVec 32 := 0#32
  let v489 : BitVec 1 := Scalar.cmpi .slt c16_i32 c0_i32_318
  let v490 : BitVec 32 := Scalar.extui v489
  let v491 : BitVec 32 := Scalar.subi v488 v490
  let v492 : BitVec 1 := Scalar.cmpi .ne v486 v491
  let v493 : BitVec 32 := Scalar.remsi v480 c16_i32
  let c0_i32_319 : BitVec 32 := 0#32
  let v494 : BitVec 1 := Scalar.cmpi .ne v493 c0_i32_319
  let v495 : BitVec 1 := Scalar.andi v492 v494
  let v481 : BitVec 32 := Scalar.divsi v480 c16_i32
  let c1_i32_320 : BitVec 32 := 1#32
  let v496 : BitVec 32 := Scalar.subi v481 c1_i32_320
  let v497 : BitVec 32 := Scalar.select v495 v496 v481
  let v548 : BitVec 32 := Scalar.subi v497 c0_i32_366
  let c1_i32_367 : BitVec 32 := 1#32
  let v550 : BitVec 32 := Scalar.divsi v548 c1_i32_367
  let v551 : BitVec 32 := Scalar.muli v550 c1_i32_367
  let v552 : BitVec 32 := Scalar.addi c0_i32_366 v551
  let c1_i32_369 : BitVec 32 := 1#32
  let arg11 : BitVec 32 := Scf.iv v552 c1_i32_369 k0_t2
  let c16_i32_421 : BitVec 32 := 16#32
  let v684 : BitVec 32 := Scalar.muli arg11 c16_i32_421
  let v685 : BitVec 32 := Scalar.addi c1_i32_422 v684
  let c12_i32_3059 : BitVec 32 := 12#32
  let v4411 : BitVec 32 := Scalar.addi v685 c12_i32_3059
  let c1_i32_3060 : BitVec 32 := 1#32
  let v4412 : BitVec 32 := Scalar.subi v1 c1_i32_3060
  let v4413 : BitVec 32 := Scalar.minsi v4411 v4412
  let c256_i32_3061 : BitVec 32 := 256#32
  let v4414 : BitVec 32 := Scalar.muli v4413 c256_i32_3061
  v4414
def k0_mult246 (i : grid0.Coords) (k0_t2 : Fin (k0_t2_loop i).trips) : BitVec 32 :=
  let c1_i32_422 : BitVec 32 := 1#32
  let c0_i32_366 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_314 : BitVec 32 := 1#32
  let v480 : BitVec 32 := Scalar.subi v1 c1_i32_314
  let c0_i32_315 : BitVec 32 := 0#32
  let v482 : BitVec 1 := Scalar.cmpi .sgt v480 c0_i32_315
  let v483 : BitVec 32 := Scalar.extui v482
  let c0_i32_316 : BitVec 32 := 0#32
  let v484 : BitVec 1 := Scalar.cmpi .slt v480 c0_i32_316
  let v485 : BitVec 32 := Scalar.extui v484
  let v486 : BitVec 32 := Scalar.subi v483 v485
  let c16_i32 : BitVec 32 := 16#32
  let c0_i32_317 : BitVec 32 := 0#32
  let v487 : BitVec 1 := Scalar.cmpi .sgt c16_i32 c0_i32_317
  let v488 : BitVec 32 := Scalar.extui v487
  let c0_i32_318 : BitVec 32 := 0#32
  let v489 : BitVec 1 := Scalar.cmpi .slt c16_i32 c0_i32_318
  let v490 : BitVec 32 := Scalar.extui v489
  let v491 : BitVec 32 := Scalar.subi v488 v490
  let v492 : BitVec 1 := Scalar.cmpi .ne v486 v491
  let v493 : BitVec 32 := Scalar.remsi v480 c16_i32
  let c0_i32_319 : BitVec 32 := 0#32
  let v494 : BitVec 1 := Scalar.cmpi .ne v493 c0_i32_319
  let v495 : BitVec 1 := Scalar.andi v492 v494
  let v481 : BitVec 32 := Scalar.divsi v480 c16_i32
  let c1_i32_320 : BitVec 32 := 1#32
  let v496 : BitVec 32 := Scalar.subi v481 c1_i32_320
  let v497 : BitVec 32 := Scalar.select v495 v496 v481
  let v548 : BitVec 32 := Scalar.subi v497 c0_i32_366
  let c1_i32_367 : BitVec 32 := 1#32
  let v550 : BitVec 32 := Scalar.divsi v548 c1_i32_367
  let v551 : BitVec 32 := Scalar.muli v550 c1_i32_367
  let v552 : BitVec 32 := Scalar.addi c0_i32_366 v551
  let c1_i32_369 : BitVec 32 := 1#32
  let arg11 : BitVec 32 := Scf.iv v552 c1_i32_369 k0_t2
  let c16_i32_421 : BitVec 32 := 16#32
  let v684 : BitVec 32 := Scalar.muli arg11 c16_i32_421
  let v685 : BitVec 32 := Scalar.addi c1_i32_422 v684
  let c13_i32 : BitVec 32 := 13#32
  let v4449 : BitVec 32 := Scalar.addi v685 c13_i32
  let c1_i32_3086 : BitVec 32 := 1#32
  let v4450 : BitVec 32 := Scalar.subi v1 c1_i32_3086
  let v4451 : BitVec 32 := Scalar.minsi v4449 v4450
  let c256_i32_3087 : BitVec 32 := 256#32
  let v4452 : BitVec 32 := Scalar.muli v4451 c256_i32_3087
  v4452
def k0_mult247 (i : grid0.Coords) (k0_t2 : Fin (k0_t2_loop i).trips) : BitVec 32 :=
  let c1_i32_422 : BitVec 32 := 1#32
  let c0_i32_366 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_314 : BitVec 32 := 1#32
  let v480 : BitVec 32 := Scalar.subi v1 c1_i32_314
  let c0_i32_315 : BitVec 32 := 0#32
  let v482 : BitVec 1 := Scalar.cmpi .sgt v480 c0_i32_315
  let v483 : BitVec 32 := Scalar.extui v482
  let c0_i32_316 : BitVec 32 := 0#32
  let v484 : BitVec 1 := Scalar.cmpi .slt v480 c0_i32_316
  let v485 : BitVec 32 := Scalar.extui v484
  let v486 : BitVec 32 := Scalar.subi v483 v485
  let c16_i32 : BitVec 32 := 16#32
  let c0_i32_317 : BitVec 32 := 0#32
  let v487 : BitVec 1 := Scalar.cmpi .sgt c16_i32 c0_i32_317
  let v488 : BitVec 32 := Scalar.extui v487
  let c0_i32_318 : BitVec 32 := 0#32
  let v489 : BitVec 1 := Scalar.cmpi .slt c16_i32 c0_i32_318
  let v490 : BitVec 32 := Scalar.extui v489
  let v491 : BitVec 32 := Scalar.subi v488 v490
  let v492 : BitVec 1 := Scalar.cmpi .ne v486 v491
  let v493 : BitVec 32 := Scalar.remsi v480 c16_i32
  let c0_i32_319 : BitVec 32 := 0#32
  let v494 : BitVec 1 := Scalar.cmpi .ne v493 c0_i32_319
  let v495 : BitVec 1 := Scalar.andi v492 v494
  let v481 : BitVec 32 := Scalar.divsi v480 c16_i32
  let c1_i32_320 : BitVec 32 := 1#32
  let v496 : BitVec 32 := Scalar.subi v481 c1_i32_320
  let v497 : BitVec 32 := Scalar.select v495 v496 v481
  let v548 : BitVec 32 := Scalar.subi v497 c0_i32_366
  let c1_i32_367 : BitVec 32 := 1#32
  let v550 : BitVec 32 := Scalar.divsi v548 c1_i32_367
  let v551 : BitVec 32 := Scalar.muli v550 c1_i32_367
  let v552 : BitVec 32 := Scalar.addi c0_i32_366 v551
  let c1_i32_369 : BitVec 32 := 1#32
  let arg11 : BitVec 32 := Scf.iv v552 c1_i32_369 k0_t2
  let c16_i32_421 : BitVec 32 := 16#32
  let v684 : BitVec 32 := Scalar.muli arg11 c16_i32_421
  let v685 : BitVec 32 := Scalar.addi c1_i32_422 v684
  let c13_i32_3112 : BitVec 32 := 13#32
  let v4487 : BitVec 32 := Scalar.addi v685 c13_i32_3112
  let c1_i32_3113 : BitVec 32 := 1#32
  let v4488 : BitVec 32 := Scalar.subi v1 c1_i32_3113
  let v4489 : BitVec 32 := Scalar.minsi v4487 v4488
  let c256_i32_3114 : BitVec 32 := 256#32
  let v4490 : BitVec 32 := Scalar.muli v4489 c256_i32_3114
  v4490
def k0_mult248 (i : grid0.Coords) (k0_t2 : Fin (k0_t2_loop i).trips) : BitVec 32 :=
  let c1_i32_422 : BitVec 32 := 1#32
  let c0_i32_366 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_314 : BitVec 32 := 1#32
  let v480 : BitVec 32 := Scalar.subi v1 c1_i32_314
  let c0_i32_315 : BitVec 32 := 0#32
  let v482 : BitVec 1 := Scalar.cmpi .sgt v480 c0_i32_315
  let v483 : BitVec 32 := Scalar.extui v482
  let c0_i32_316 : BitVec 32 := 0#32
  let v484 : BitVec 1 := Scalar.cmpi .slt v480 c0_i32_316
  let v485 : BitVec 32 := Scalar.extui v484
  let v486 : BitVec 32 := Scalar.subi v483 v485
  let c16_i32 : BitVec 32 := 16#32
  let c0_i32_317 : BitVec 32 := 0#32
  let v487 : BitVec 1 := Scalar.cmpi .sgt c16_i32 c0_i32_317
  let v488 : BitVec 32 := Scalar.extui v487
  let c0_i32_318 : BitVec 32 := 0#32
  let v489 : BitVec 1 := Scalar.cmpi .slt c16_i32 c0_i32_318
  let v490 : BitVec 32 := Scalar.extui v489
  let v491 : BitVec 32 := Scalar.subi v488 v490
  let v492 : BitVec 1 := Scalar.cmpi .ne v486 v491
  let v493 : BitVec 32 := Scalar.remsi v480 c16_i32
  let c0_i32_319 : BitVec 32 := 0#32
  let v494 : BitVec 1 := Scalar.cmpi .ne v493 c0_i32_319
  let v495 : BitVec 1 := Scalar.andi v492 v494
  let v481 : BitVec 32 := Scalar.divsi v480 c16_i32
  let c1_i32_320 : BitVec 32 := 1#32
  let v496 : BitVec 32 := Scalar.subi v481 c1_i32_320
  let v497 : BitVec 32 := Scalar.select v495 v496 v481
  let v548 : BitVec 32 := Scalar.subi v497 c0_i32_366
  let c1_i32_367 : BitVec 32 := 1#32
  let v550 : BitVec 32 := Scalar.divsi v548 c1_i32_367
  let v551 : BitVec 32 := Scalar.muli v550 c1_i32_367
  let v552 : BitVec 32 := Scalar.addi c0_i32_366 v551
  let c1_i32_369 : BitVec 32 := 1#32
  let arg11 : BitVec 32 := Scf.iv v552 c1_i32_369 k0_t2
  let c16_i32_421 : BitVec 32 := 16#32
  let v684 : BitVec 32 := Scalar.muli arg11 c16_i32_421
  let v685 : BitVec 32 := Scalar.addi c1_i32_422 v684
  let c13_i32_3139 : BitVec 32 := 13#32
  let v4525 : BitVec 32 := Scalar.addi v685 c13_i32_3139
  let c1_i32_3140 : BitVec 32 := 1#32
  let v4526 : BitVec 32 := Scalar.subi v1 c1_i32_3140
  let v4527 : BitVec 32 := Scalar.minsi v4525 v4526
  let c256_i32_3141 : BitVec 32 := 256#32
  let v4528 : BitVec 32 := Scalar.muli v4527 c256_i32_3141
  v4528
def k0_mult249 (i : grid0.Coords) (k0_t2 : Fin (k0_t2_loop i).trips) : BitVec 32 :=
  let c1_i32_422 : BitVec 32 := 1#32
  let c0_i32_366 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_314 : BitVec 32 := 1#32
  let v480 : BitVec 32 := Scalar.subi v1 c1_i32_314
  let c0_i32_315 : BitVec 32 := 0#32
  let v482 : BitVec 1 := Scalar.cmpi .sgt v480 c0_i32_315
  let v483 : BitVec 32 := Scalar.extui v482
  let c0_i32_316 : BitVec 32 := 0#32
  let v484 : BitVec 1 := Scalar.cmpi .slt v480 c0_i32_316
  let v485 : BitVec 32 := Scalar.extui v484
  let v486 : BitVec 32 := Scalar.subi v483 v485
  let c16_i32 : BitVec 32 := 16#32
  let c0_i32_317 : BitVec 32 := 0#32
  let v487 : BitVec 1 := Scalar.cmpi .sgt c16_i32 c0_i32_317
  let v488 : BitVec 32 := Scalar.extui v487
  let c0_i32_318 : BitVec 32 := 0#32
  let v489 : BitVec 1 := Scalar.cmpi .slt c16_i32 c0_i32_318
  let v490 : BitVec 32 := Scalar.extui v489
  let v491 : BitVec 32 := Scalar.subi v488 v490
  let v492 : BitVec 1 := Scalar.cmpi .ne v486 v491
  let v493 : BitVec 32 := Scalar.remsi v480 c16_i32
  let c0_i32_319 : BitVec 32 := 0#32
  let v494 : BitVec 1 := Scalar.cmpi .ne v493 c0_i32_319
  let v495 : BitVec 1 := Scalar.andi v492 v494
  let v481 : BitVec 32 := Scalar.divsi v480 c16_i32
  let c1_i32_320 : BitVec 32 := 1#32
  let v496 : BitVec 32 := Scalar.subi v481 c1_i32_320
  let v497 : BitVec 32 := Scalar.select v495 v496 v481
  let v548 : BitVec 32 := Scalar.subi v497 c0_i32_366
  let c1_i32_367 : BitVec 32 := 1#32
  let v550 : BitVec 32 := Scalar.divsi v548 c1_i32_367
  let v551 : BitVec 32 := Scalar.muli v550 c1_i32_367
  let v552 : BitVec 32 := Scalar.addi c0_i32_366 v551
  let c1_i32_369 : BitVec 32 := 1#32
  let arg11 : BitVec 32 := Scf.iv v552 c1_i32_369 k0_t2
  let c16_i32_421 : BitVec 32 := 16#32
  let v684 : BitVec 32 := Scalar.muli arg11 c16_i32_421
  let v685 : BitVec 32 := Scalar.addi c1_i32_422 v684
  let c13_i32_3166 : BitVec 32 := 13#32
  let v4563 : BitVec 32 := Scalar.addi v685 c13_i32_3166
  let c1_i32_3167 : BitVec 32 := 1#32
  let v4564 : BitVec 32 := Scalar.subi v1 c1_i32_3167
  let v4565 : BitVec 32 := Scalar.minsi v4563 v4564
  let c256_i32_3168 : BitVec 32 := 256#32
  let v4566 : BitVec 32 := Scalar.muli v4565 c256_i32_3168
  v4566
def k0_mult250 (i : grid0.Coords) (k0_t2 : Fin (k0_t2_loop i).trips) : BitVec 32 :=
  let c1_i32_422 : BitVec 32 := 1#32
  let c0_i32_366 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_314 : BitVec 32 := 1#32
  let v480 : BitVec 32 := Scalar.subi v1 c1_i32_314
  let c0_i32_315 : BitVec 32 := 0#32
  let v482 : BitVec 1 := Scalar.cmpi .sgt v480 c0_i32_315
  let v483 : BitVec 32 := Scalar.extui v482
  let c0_i32_316 : BitVec 32 := 0#32
  let v484 : BitVec 1 := Scalar.cmpi .slt v480 c0_i32_316
  let v485 : BitVec 32 := Scalar.extui v484
  let v486 : BitVec 32 := Scalar.subi v483 v485
  let c16_i32 : BitVec 32 := 16#32
  let c0_i32_317 : BitVec 32 := 0#32
  let v487 : BitVec 1 := Scalar.cmpi .sgt c16_i32 c0_i32_317
  let v488 : BitVec 32 := Scalar.extui v487
  let c0_i32_318 : BitVec 32 := 0#32
  let v489 : BitVec 1 := Scalar.cmpi .slt c16_i32 c0_i32_318
  let v490 : BitVec 32 := Scalar.extui v489
  let v491 : BitVec 32 := Scalar.subi v488 v490
  let v492 : BitVec 1 := Scalar.cmpi .ne v486 v491
  let v493 : BitVec 32 := Scalar.remsi v480 c16_i32
  let c0_i32_319 : BitVec 32 := 0#32
  let v494 : BitVec 1 := Scalar.cmpi .ne v493 c0_i32_319
  let v495 : BitVec 1 := Scalar.andi v492 v494
  let v481 : BitVec 32 := Scalar.divsi v480 c16_i32
  let c1_i32_320 : BitVec 32 := 1#32
  let v496 : BitVec 32 := Scalar.subi v481 c1_i32_320
  let v497 : BitVec 32 := Scalar.select v495 v496 v481
  let v548 : BitVec 32 := Scalar.subi v497 c0_i32_366
  let c1_i32_367 : BitVec 32 := 1#32
  let v550 : BitVec 32 := Scalar.divsi v548 c1_i32_367
  let v551 : BitVec 32 := Scalar.muli v550 c1_i32_367
  let v552 : BitVec 32 := Scalar.addi c0_i32_366 v551
  let c1_i32_369 : BitVec 32 := 1#32
  let arg11 : BitVec 32 := Scf.iv v552 c1_i32_369 k0_t2
  let c16_i32_421 : BitVec 32 := 16#32
  let v684 : BitVec 32 := Scalar.muli arg11 c16_i32_421
  let v685 : BitVec 32 := Scalar.addi c1_i32_422 v684
  let c13_i32_3193 : BitVec 32 := 13#32
  let v4601 : BitVec 32 := Scalar.addi v685 c13_i32_3193
  let c1_i32_3194 : BitVec 32 := 1#32
  let v4602 : BitVec 32 := Scalar.subi v1 c1_i32_3194
  let v4603 : BitVec 32 := Scalar.minsi v4601 v4602
  let c256_i32_3195 : BitVec 32 := 256#32
  let v4604 : BitVec 32 := Scalar.muli v4603 c256_i32_3195
  v4604
def k0_mult251 (i : grid0.Coords) (k0_t2 : Fin (k0_t2_loop i).trips) : BitVec 32 :=
  let c1_i32_422 : BitVec 32 := 1#32
  let c0_i32_366 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_314 : BitVec 32 := 1#32
  let v480 : BitVec 32 := Scalar.subi v1 c1_i32_314
  let c0_i32_315 : BitVec 32 := 0#32
  let v482 : BitVec 1 := Scalar.cmpi .sgt v480 c0_i32_315
  let v483 : BitVec 32 := Scalar.extui v482
  let c0_i32_316 : BitVec 32 := 0#32
  let v484 : BitVec 1 := Scalar.cmpi .slt v480 c0_i32_316
  let v485 : BitVec 32 := Scalar.extui v484
  let v486 : BitVec 32 := Scalar.subi v483 v485
  let c16_i32 : BitVec 32 := 16#32
  let c0_i32_317 : BitVec 32 := 0#32
  let v487 : BitVec 1 := Scalar.cmpi .sgt c16_i32 c0_i32_317
  let v488 : BitVec 32 := Scalar.extui v487
  let c0_i32_318 : BitVec 32 := 0#32
  let v489 : BitVec 1 := Scalar.cmpi .slt c16_i32 c0_i32_318
  let v490 : BitVec 32 := Scalar.extui v489
  let v491 : BitVec 32 := Scalar.subi v488 v490
  let v492 : BitVec 1 := Scalar.cmpi .ne v486 v491
  let v493 : BitVec 32 := Scalar.remsi v480 c16_i32
  let c0_i32_319 : BitVec 32 := 0#32
  let v494 : BitVec 1 := Scalar.cmpi .ne v493 c0_i32_319
  let v495 : BitVec 1 := Scalar.andi v492 v494
  let v481 : BitVec 32 := Scalar.divsi v480 c16_i32
  let c1_i32_320 : BitVec 32 := 1#32
  let v496 : BitVec 32 := Scalar.subi v481 c1_i32_320
  let v497 : BitVec 32 := Scalar.select v495 v496 v481
  let v548 : BitVec 32 := Scalar.subi v497 c0_i32_366
  let c1_i32_367 : BitVec 32 := 1#32
  let v550 : BitVec 32 := Scalar.divsi v548 c1_i32_367
  let v551 : BitVec 32 := Scalar.muli v550 c1_i32_367
  let v552 : BitVec 32 := Scalar.addi c0_i32_366 v551
  let c1_i32_369 : BitVec 32 := 1#32
  let arg11 : BitVec 32 := Scf.iv v552 c1_i32_369 k0_t2
  let c16_i32_421 : BitVec 32 := 16#32
  let v684 : BitVec 32 := Scalar.muli arg11 c16_i32_421
  let v685 : BitVec 32 := Scalar.addi c1_i32_422 v684
  let c13_i32_3220 : BitVec 32 := 13#32
  let v4639 : BitVec 32 := Scalar.addi v685 c13_i32_3220
  let c1_i32_3221 : BitVec 32 := 1#32
  let v4640 : BitVec 32 := Scalar.subi v1 c1_i32_3221
  let v4641 : BitVec 32 := Scalar.minsi v4639 v4640
  let c256_i32_3222 : BitVec 32 := 256#32
  let v4642 : BitVec 32 := Scalar.muli v4641 c256_i32_3222
  v4642
def k0_mult252 (i : grid0.Coords) (k0_t2 : Fin (k0_t2_loop i).trips) : BitVec 32 :=
  let c1_i32_422 : BitVec 32 := 1#32
  let c0_i32_366 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_314 : BitVec 32 := 1#32
  let v480 : BitVec 32 := Scalar.subi v1 c1_i32_314
  let c0_i32_315 : BitVec 32 := 0#32
  let v482 : BitVec 1 := Scalar.cmpi .sgt v480 c0_i32_315
  let v483 : BitVec 32 := Scalar.extui v482
  let c0_i32_316 : BitVec 32 := 0#32
  let v484 : BitVec 1 := Scalar.cmpi .slt v480 c0_i32_316
  let v485 : BitVec 32 := Scalar.extui v484
  let v486 : BitVec 32 := Scalar.subi v483 v485
  let c16_i32 : BitVec 32 := 16#32
  let c0_i32_317 : BitVec 32 := 0#32
  let v487 : BitVec 1 := Scalar.cmpi .sgt c16_i32 c0_i32_317
  let v488 : BitVec 32 := Scalar.extui v487
  let c0_i32_318 : BitVec 32 := 0#32
  let v489 : BitVec 1 := Scalar.cmpi .slt c16_i32 c0_i32_318
  let v490 : BitVec 32 := Scalar.extui v489
  let v491 : BitVec 32 := Scalar.subi v488 v490
  let v492 : BitVec 1 := Scalar.cmpi .ne v486 v491
  let v493 : BitVec 32 := Scalar.remsi v480 c16_i32
  let c0_i32_319 : BitVec 32 := 0#32
  let v494 : BitVec 1 := Scalar.cmpi .ne v493 c0_i32_319
  let v495 : BitVec 1 := Scalar.andi v492 v494
  let v481 : BitVec 32 := Scalar.divsi v480 c16_i32
  let c1_i32_320 : BitVec 32 := 1#32
  let v496 : BitVec 32 := Scalar.subi v481 c1_i32_320
  let v497 : BitVec 32 := Scalar.select v495 v496 v481
  let v548 : BitVec 32 := Scalar.subi v497 c0_i32_366
  let c1_i32_367 : BitVec 32 := 1#32
  let v550 : BitVec 32 := Scalar.divsi v548 c1_i32_367
  let v551 : BitVec 32 := Scalar.muli v550 c1_i32_367
  let v552 : BitVec 32 := Scalar.addi c0_i32_366 v551
  let c1_i32_369 : BitVec 32 := 1#32
  let arg11 : BitVec 32 := Scf.iv v552 c1_i32_369 k0_t2
  let c16_i32_421 : BitVec 32 := 16#32
  let v684 : BitVec 32 := Scalar.muli arg11 c16_i32_421
  let v685 : BitVec 32 := Scalar.addi c1_i32_422 v684
  let c13_i32_3247 : BitVec 32 := 13#32
  let v4677 : BitVec 32 := Scalar.addi v685 c13_i32_3247
  let c1_i32_3248 : BitVec 32 := 1#32
  let v4678 : BitVec 32 := Scalar.subi v1 c1_i32_3248
  let v4679 : BitVec 32 := Scalar.minsi v4677 v4678
  let c256_i32_3249 : BitVec 32 := 256#32
  let v4680 : BitVec 32 := Scalar.muli v4679 c256_i32_3249
  v4680
def k0_mult253 (i : grid0.Coords) (k0_t2 : Fin (k0_t2_loop i).trips) : BitVec 32 :=
  let c1_i32_422 : BitVec 32 := 1#32
  let c0_i32_366 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_314 : BitVec 32 := 1#32
  let v480 : BitVec 32 := Scalar.subi v1 c1_i32_314
  let c0_i32_315 : BitVec 32 := 0#32
  let v482 : BitVec 1 := Scalar.cmpi .sgt v480 c0_i32_315
  let v483 : BitVec 32 := Scalar.extui v482
  let c0_i32_316 : BitVec 32 := 0#32
  let v484 : BitVec 1 := Scalar.cmpi .slt v480 c0_i32_316
  let v485 : BitVec 32 := Scalar.extui v484
  let v486 : BitVec 32 := Scalar.subi v483 v485
  let c16_i32 : BitVec 32 := 16#32
  let c0_i32_317 : BitVec 32 := 0#32
  let v487 : BitVec 1 := Scalar.cmpi .sgt c16_i32 c0_i32_317
  let v488 : BitVec 32 := Scalar.extui v487
  let c0_i32_318 : BitVec 32 := 0#32
  let v489 : BitVec 1 := Scalar.cmpi .slt c16_i32 c0_i32_318
  let v490 : BitVec 32 := Scalar.extui v489
  let v491 : BitVec 32 := Scalar.subi v488 v490
  let v492 : BitVec 1 := Scalar.cmpi .ne v486 v491
  let v493 : BitVec 32 := Scalar.remsi v480 c16_i32
  let c0_i32_319 : BitVec 32 := 0#32
  let v494 : BitVec 1 := Scalar.cmpi .ne v493 c0_i32_319
  let v495 : BitVec 1 := Scalar.andi v492 v494
  let v481 : BitVec 32 := Scalar.divsi v480 c16_i32
  let c1_i32_320 : BitVec 32 := 1#32
  let v496 : BitVec 32 := Scalar.subi v481 c1_i32_320
  let v497 : BitVec 32 := Scalar.select v495 v496 v481
  let v548 : BitVec 32 := Scalar.subi v497 c0_i32_366
  let c1_i32_367 : BitVec 32 := 1#32
  let v550 : BitVec 32 := Scalar.divsi v548 c1_i32_367
  let v551 : BitVec 32 := Scalar.muli v550 c1_i32_367
  let v552 : BitVec 32 := Scalar.addi c0_i32_366 v551
  let c1_i32_369 : BitVec 32 := 1#32
  let arg11 : BitVec 32 := Scf.iv v552 c1_i32_369 k0_t2
  let c16_i32_421 : BitVec 32 := 16#32
  let v684 : BitVec 32 := Scalar.muli arg11 c16_i32_421
  let v685 : BitVec 32 := Scalar.addi c1_i32_422 v684
  let c13_i32_3274 : BitVec 32 := 13#32
  let v4715 : BitVec 32 := Scalar.addi v685 c13_i32_3274
  let c1_i32_3275 : BitVec 32 := 1#32
  let v4716 : BitVec 32 := Scalar.subi v1 c1_i32_3275
  let v4717 : BitVec 32 := Scalar.minsi v4715 v4716
  let c256_i32_3276 : BitVec 32 := 256#32
  let v4718 : BitVec 32 := Scalar.muli v4717 c256_i32_3276
  v4718
def k0_mult254 (i : grid0.Coords) (k0_t2 : Fin (k0_t2_loop i).trips) : BitVec 32 :=
  let c1_i32_422 : BitVec 32 := 1#32
  let c0_i32_366 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_314 : BitVec 32 := 1#32
  let v480 : BitVec 32 := Scalar.subi v1 c1_i32_314
  let c0_i32_315 : BitVec 32 := 0#32
  let v482 : BitVec 1 := Scalar.cmpi .sgt v480 c0_i32_315
  let v483 : BitVec 32 := Scalar.extui v482
  let c0_i32_316 : BitVec 32 := 0#32
  let v484 : BitVec 1 := Scalar.cmpi .slt v480 c0_i32_316
  let v485 : BitVec 32 := Scalar.extui v484
  let v486 : BitVec 32 := Scalar.subi v483 v485
  let c16_i32 : BitVec 32 := 16#32
  let c0_i32_317 : BitVec 32 := 0#32
  let v487 : BitVec 1 := Scalar.cmpi .sgt c16_i32 c0_i32_317
  let v488 : BitVec 32 := Scalar.extui v487
  let c0_i32_318 : BitVec 32 := 0#32
  let v489 : BitVec 1 := Scalar.cmpi .slt c16_i32 c0_i32_318
  let v490 : BitVec 32 := Scalar.extui v489
  let v491 : BitVec 32 := Scalar.subi v488 v490
  let v492 : BitVec 1 := Scalar.cmpi .ne v486 v491
  let v493 : BitVec 32 := Scalar.remsi v480 c16_i32
  let c0_i32_319 : BitVec 32 := 0#32
  let v494 : BitVec 1 := Scalar.cmpi .ne v493 c0_i32_319
  let v495 : BitVec 1 := Scalar.andi v492 v494
  let v481 : BitVec 32 := Scalar.divsi v480 c16_i32
  let c1_i32_320 : BitVec 32 := 1#32
  let v496 : BitVec 32 := Scalar.subi v481 c1_i32_320
  let v497 : BitVec 32 := Scalar.select v495 v496 v481
  let v548 : BitVec 32 := Scalar.subi v497 c0_i32_366
  let c1_i32_367 : BitVec 32 := 1#32
  let v550 : BitVec 32 := Scalar.divsi v548 c1_i32_367
  let v551 : BitVec 32 := Scalar.muli v550 c1_i32_367
  let v552 : BitVec 32 := Scalar.addi c0_i32_366 v551
  let c1_i32_369 : BitVec 32 := 1#32
  let arg11 : BitVec 32 := Scf.iv v552 c1_i32_369 k0_t2
  let c16_i32_421 : BitVec 32 := 16#32
  let v684 : BitVec 32 := Scalar.muli arg11 c16_i32_421
  let v685 : BitVec 32 := Scalar.addi c1_i32_422 v684
  let c14_i32 : BitVec 32 := 14#32
  let v4753 : BitVec 32 := Scalar.addi v685 c14_i32
  let c1_i32_3301 : BitVec 32 := 1#32
  let v4754 : BitVec 32 := Scalar.subi v1 c1_i32_3301
  let v4755 : BitVec 32 := Scalar.minsi v4753 v4754
  let c256_i32_3302 : BitVec 32 := 256#32
  let v4756 : BitVec 32 := Scalar.muli v4755 c256_i32_3302
  v4756
def k0_mult255 (i : grid0.Coords) (k0_t2 : Fin (k0_t2_loop i).trips) : BitVec 32 :=
  let c1_i32_422 : BitVec 32 := 1#32
  let c0_i32_366 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_314 : BitVec 32 := 1#32
  let v480 : BitVec 32 := Scalar.subi v1 c1_i32_314
  let c0_i32_315 : BitVec 32 := 0#32
  let v482 : BitVec 1 := Scalar.cmpi .sgt v480 c0_i32_315
  let v483 : BitVec 32 := Scalar.extui v482
  let c0_i32_316 : BitVec 32 := 0#32
  let v484 : BitVec 1 := Scalar.cmpi .slt v480 c0_i32_316
  let v485 : BitVec 32 := Scalar.extui v484
  let v486 : BitVec 32 := Scalar.subi v483 v485
  let c16_i32 : BitVec 32 := 16#32
  let c0_i32_317 : BitVec 32 := 0#32
  let v487 : BitVec 1 := Scalar.cmpi .sgt c16_i32 c0_i32_317
  let v488 : BitVec 32 := Scalar.extui v487
  let c0_i32_318 : BitVec 32 := 0#32
  let v489 : BitVec 1 := Scalar.cmpi .slt c16_i32 c0_i32_318
  let v490 : BitVec 32 := Scalar.extui v489
  let v491 : BitVec 32 := Scalar.subi v488 v490
  let v492 : BitVec 1 := Scalar.cmpi .ne v486 v491
  let v493 : BitVec 32 := Scalar.remsi v480 c16_i32
  let c0_i32_319 : BitVec 32 := 0#32
  let v494 : BitVec 1 := Scalar.cmpi .ne v493 c0_i32_319
  let v495 : BitVec 1 := Scalar.andi v492 v494
  let v481 : BitVec 32 := Scalar.divsi v480 c16_i32
  let c1_i32_320 : BitVec 32 := 1#32
  let v496 : BitVec 32 := Scalar.subi v481 c1_i32_320
  let v497 : BitVec 32 := Scalar.select v495 v496 v481
  let v548 : BitVec 32 := Scalar.subi v497 c0_i32_366
  let c1_i32_367 : BitVec 32 := 1#32
  let v550 : BitVec 32 := Scalar.divsi v548 c1_i32_367
  let v551 : BitVec 32 := Scalar.muli v550 c1_i32_367
  let v552 : BitVec 32 := Scalar.addi c0_i32_366 v551
  let c1_i32_369 : BitVec 32 := 1#32
  let arg11 : BitVec 32 := Scf.iv v552 c1_i32_369 k0_t2
  let c16_i32_421 : BitVec 32 := 16#32
  let v684 : BitVec 32 := Scalar.muli arg11 c16_i32_421
  let v685 : BitVec 32 := Scalar.addi c1_i32_422 v684
  let c14_i32_3327 : BitVec 32 := 14#32
  let v4791 : BitVec 32 := Scalar.addi v685 c14_i32_3327
  let c1_i32_3328 : BitVec 32 := 1#32
  let v4792 : BitVec 32 := Scalar.subi v1 c1_i32_3328
  let v4793 : BitVec 32 := Scalar.minsi v4791 v4792
  let c256_i32_3329 : BitVec 32 := 256#32
  let v4794 : BitVec 32 := Scalar.muli v4793 c256_i32_3329
  v4794
def k0_mult256 (i : grid0.Coords) (k0_t2 : Fin (k0_t2_loop i).trips) : BitVec 32 :=
  let c1_i32_422 : BitVec 32 := 1#32
  let c0_i32_366 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_314 : BitVec 32 := 1#32
  let v480 : BitVec 32 := Scalar.subi v1 c1_i32_314
  let c0_i32_315 : BitVec 32 := 0#32
  let v482 : BitVec 1 := Scalar.cmpi .sgt v480 c0_i32_315
  let v483 : BitVec 32 := Scalar.extui v482
  let c0_i32_316 : BitVec 32 := 0#32
  let v484 : BitVec 1 := Scalar.cmpi .slt v480 c0_i32_316
  let v485 : BitVec 32 := Scalar.extui v484
  let v486 : BitVec 32 := Scalar.subi v483 v485
  let c16_i32 : BitVec 32 := 16#32
  let c0_i32_317 : BitVec 32 := 0#32
  let v487 : BitVec 1 := Scalar.cmpi .sgt c16_i32 c0_i32_317
  let v488 : BitVec 32 := Scalar.extui v487
  let c0_i32_318 : BitVec 32 := 0#32
  let v489 : BitVec 1 := Scalar.cmpi .slt c16_i32 c0_i32_318
  let v490 : BitVec 32 := Scalar.extui v489
  let v491 : BitVec 32 := Scalar.subi v488 v490
  let v492 : BitVec 1 := Scalar.cmpi .ne v486 v491
  let v493 : BitVec 32 := Scalar.remsi v480 c16_i32
  let c0_i32_319 : BitVec 32 := 0#32
  let v494 : BitVec 1 := Scalar.cmpi .ne v493 c0_i32_319
  let v495 : BitVec 1 := Scalar.andi v492 v494
  let v481 : BitVec 32 := Scalar.divsi v480 c16_i32
  let c1_i32_320 : BitVec 32 := 1#32
  let v496 : BitVec 32 := Scalar.subi v481 c1_i32_320
  let v497 : BitVec 32 := Scalar.select v495 v496 v481
  let v548 : BitVec 32 := Scalar.subi v497 c0_i32_366
  let c1_i32_367 : BitVec 32 := 1#32
  let v550 : BitVec 32 := Scalar.divsi v548 c1_i32_367
  let v551 : BitVec 32 := Scalar.muli v550 c1_i32_367
  let v552 : BitVec 32 := Scalar.addi c0_i32_366 v551
  let c1_i32_369 : BitVec 32 := 1#32
  let arg11 : BitVec 32 := Scf.iv v552 c1_i32_369 k0_t2
  let c16_i32_421 : BitVec 32 := 16#32
  let v684 : BitVec 32 := Scalar.muli arg11 c16_i32_421
  let v685 : BitVec 32 := Scalar.addi c1_i32_422 v684
  let c14_i32_3354 : BitVec 32 := 14#32
  let v4829 : BitVec 32 := Scalar.addi v685 c14_i32_3354
  let c1_i32_3355 : BitVec 32 := 1#32
  let v4830 : BitVec 32 := Scalar.subi v1 c1_i32_3355
  let v4831 : BitVec 32 := Scalar.minsi v4829 v4830
  let c256_i32_3356 : BitVec 32 := 256#32
  let v4832 : BitVec 32 := Scalar.muli v4831 c256_i32_3356
  v4832
def k0_mult257 (i : grid0.Coords) (k0_t2 : Fin (k0_t2_loop i).trips) : BitVec 32 :=
  let c1_i32_422 : BitVec 32 := 1#32
  let c0_i32_366 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_314 : BitVec 32 := 1#32
  let v480 : BitVec 32 := Scalar.subi v1 c1_i32_314
  let c0_i32_315 : BitVec 32 := 0#32
  let v482 : BitVec 1 := Scalar.cmpi .sgt v480 c0_i32_315
  let v483 : BitVec 32 := Scalar.extui v482
  let c0_i32_316 : BitVec 32 := 0#32
  let v484 : BitVec 1 := Scalar.cmpi .slt v480 c0_i32_316
  let v485 : BitVec 32 := Scalar.extui v484
  let v486 : BitVec 32 := Scalar.subi v483 v485
  let c16_i32 : BitVec 32 := 16#32
  let c0_i32_317 : BitVec 32 := 0#32
  let v487 : BitVec 1 := Scalar.cmpi .sgt c16_i32 c0_i32_317
  let v488 : BitVec 32 := Scalar.extui v487
  let c0_i32_318 : BitVec 32 := 0#32
  let v489 : BitVec 1 := Scalar.cmpi .slt c16_i32 c0_i32_318
  let v490 : BitVec 32 := Scalar.extui v489
  let v491 : BitVec 32 := Scalar.subi v488 v490
  let v492 : BitVec 1 := Scalar.cmpi .ne v486 v491
  let v493 : BitVec 32 := Scalar.remsi v480 c16_i32
  let c0_i32_319 : BitVec 32 := 0#32
  let v494 : BitVec 1 := Scalar.cmpi .ne v493 c0_i32_319
  let v495 : BitVec 1 := Scalar.andi v492 v494
  let v481 : BitVec 32 := Scalar.divsi v480 c16_i32
  let c1_i32_320 : BitVec 32 := 1#32
  let v496 : BitVec 32 := Scalar.subi v481 c1_i32_320
  let v497 : BitVec 32 := Scalar.select v495 v496 v481
  let v548 : BitVec 32 := Scalar.subi v497 c0_i32_366
  let c1_i32_367 : BitVec 32 := 1#32
  let v550 : BitVec 32 := Scalar.divsi v548 c1_i32_367
  let v551 : BitVec 32 := Scalar.muli v550 c1_i32_367
  let v552 : BitVec 32 := Scalar.addi c0_i32_366 v551
  let c1_i32_369 : BitVec 32 := 1#32
  let arg11 : BitVec 32 := Scf.iv v552 c1_i32_369 k0_t2
  let c16_i32_421 : BitVec 32 := 16#32
  let v684 : BitVec 32 := Scalar.muli arg11 c16_i32_421
  let v685 : BitVec 32 := Scalar.addi c1_i32_422 v684
  let c14_i32_3381 : BitVec 32 := 14#32
  let v4867 : BitVec 32 := Scalar.addi v685 c14_i32_3381
  let c1_i32_3382 : BitVec 32 := 1#32
  let v4868 : BitVec 32 := Scalar.subi v1 c1_i32_3382
  let v4869 : BitVec 32 := Scalar.minsi v4867 v4868
  let c256_i32_3383 : BitVec 32 := 256#32
  let v4870 : BitVec 32 := Scalar.muli v4869 c256_i32_3383
  v4870
def k0_mult258 (i : grid0.Coords) (k0_t2 : Fin (k0_t2_loop i).trips) : BitVec 32 :=
  let c1_i32_422 : BitVec 32 := 1#32
  let c0_i32_366 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_314 : BitVec 32 := 1#32
  let v480 : BitVec 32 := Scalar.subi v1 c1_i32_314
  let c0_i32_315 : BitVec 32 := 0#32
  let v482 : BitVec 1 := Scalar.cmpi .sgt v480 c0_i32_315
  let v483 : BitVec 32 := Scalar.extui v482
  let c0_i32_316 : BitVec 32 := 0#32
  let v484 : BitVec 1 := Scalar.cmpi .slt v480 c0_i32_316
  let v485 : BitVec 32 := Scalar.extui v484
  let v486 : BitVec 32 := Scalar.subi v483 v485
  let c16_i32 : BitVec 32 := 16#32
  let c0_i32_317 : BitVec 32 := 0#32
  let v487 : BitVec 1 := Scalar.cmpi .sgt c16_i32 c0_i32_317
  let v488 : BitVec 32 := Scalar.extui v487
  let c0_i32_318 : BitVec 32 := 0#32
  let v489 : BitVec 1 := Scalar.cmpi .slt c16_i32 c0_i32_318
  let v490 : BitVec 32 := Scalar.extui v489
  let v491 : BitVec 32 := Scalar.subi v488 v490
  let v492 : BitVec 1 := Scalar.cmpi .ne v486 v491
  let v493 : BitVec 32 := Scalar.remsi v480 c16_i32
  let c0_i32_319 : BitVec 32 := 0#32
  let v494 : BitVec 1 := Scalar.cmpi .ne v493 c0_i32_319
  let v495 : BitVec 1 := Scalar.andi v492 v494
  let v481 : BitVec 32 := Scalar.divsi v480 c16_i32
  let c1_i32_320 : BitVec 32 := 1#32
  let v496 : BitVec 32 := Scalar.subi v481 c1_i32_320
  let v497 : BitVec 32 := Scalar.select v495 v496 v481
  let v548 : BitVec 32 := Scalar.subi v497 c0_i32_366
  let c1_i32_367 : BitVec 32 := 1#32
  let v550 : BitVec 32 := Scalar.divsi v548 c1_i32_367
  let v551 : BitVec 32 := Scalar.muli v550 c1_i32_367
  let v552 : BitVec 32 := Scalar.addi c0_i32_366 v551
  let c1_i32_369 : BitVec 32 := 1#32
  let arg11 : BitVec 32 := Scf.iv v552 c1_i32_369 k0_t2
  let c16_i32_421 : BitVec 32 := 16#32
  let v684 : BitVec 32 := Scalar.muli arg11 c16_i32_421
  let v685 : BitVec 32 := Scalar.addi c1_i32_422 v684
  let c14_i32_3408 : BitVec 32 := 14#32
  let v4905 : BitVec 32 := Scalar.addi v685 c14_i32_3408
  let c1_i32_3409 : BitVec 32 := 1#32
  let v4906 : BitVec 32 := Scalar.subi v1 c1_i32_3409
  let v4907 : BitVec 32 := Scalar.minsi v4905 v4906
  let c256_i32_3410 : BitVec 32 := 256#32
  let v4908 : BitVec 32 := Scalar.muli v4907 c256_i32_3410
  v4908
def k0_mult259 (i : grid0.Coords) (k0_t2 : Fin (k0_t2_loop i).trips) : BitVec 32 :=
  let c1_i32_422 : BitVec 32 := 1#32
  let c0_i32_366 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_314 : BitVec 32 := 1#32
  let v480 : BitVec 32 := Scalar.subi v1 c1_i32_314
  let c0_i32_315 : BitVec 32 := 0#32
  let v482 : BitVec 1 := Scalar.cmpi .sgt v480 c0_i32_315
  let v483 : BitVec 32 := Scalar.extui v482
  let c0_i32_316 : BitVec 32 := 0#32
  let v484 : BitVec 1 := Scalar.cmpi .slt v480 c0_i32_316
  let v485 : BitVec 32 := Scalar.extui v484
  let v486 : BitVec 32 := Scalar.subi v483 v485
  let c16_i32 : BitVec 32 := 16#32
  let c0_i32_317 : BitVec 32 := 0#32
  let v487 : BitVec 1 := Scalar.cmpi .sgt c16_i32 c0_i32_317
  let v488 : BitVec 32 := Scalar.extui v487
  let c0_i32_318 : BitVec 32 := 0#32
  let v489 : BitVec 1 := Scalar.cmpi .slt c16_i32 c0_i32_318
  let v490 : BitVec 32 := Scalar.extui v489
  let v491 : BitVec 32 := Scalar.subi v488 v490
  let v492 : BitVec 1 := Scalar.cmpi .ne v486 v491
  let v493 : BitVec 32 := Scalar.remsi v480 c16_i32
  let c0_i32_319 : BitVec 32 := 0#32
  let v494 : BitVec 1 := Scalar.cmpi .ne v493 c0_i32_319
  let v495 : BitVec 1 := Scalar.andi v492 v494
  let v481 : BitVec 32 := Scalar.divsi v480 c16_i32
  let c1_i32_320 : BitVec 32 := 1#32
  let v496 : BitVec 32 := Scalar.subi v481 c1_i32_320
  let v497 : BitVec 32 := Scalar.select v495 v496 v481
  let v548 : BitVec 32 := Scalar.subi v497 c0_i32_366
  let c1_i32_367 : BitVec 32 := 1#32
  let v550 : BitVec 32 := Scalar.divsi v548 c1_i32_367
  let v551 : BitVec 32 := Scalar.muli v550 c1_i32_367
  let v552 : BitVec 32 := Scalar.addi c0_i32_366 v551
  let c1_i32_369 : BitVec 32 := 1#32
  let arg11 : BitVec 32 := Scf.iv v552 c1_i32_369 k0_t2
  let c16_i32_421 : BitVec 32 := 16#32
  let v684 : BitVec 32 := Scalar.muli arg11 c16_i32_421
  let v685 : BitVec 32 := Scalar.addi c1_i32_422 v684
  let c14_i32_3435 : BitVec 32 := 14#32
  let v4943 : BitVec 32 := Scalar.addi v685 c14_i32_3435
  let c1_i32_3436 : BitVec 32 := 1#32
  let v4944 : BitVec 32 := Scalar.subi v1 c1_i32_3436
  let v4945 : BitVec 32 := Scalar.minsi v4943 v4944
  let c256_i32_3437 : BitVec 32 := 256#32
  let v4946 : BitVec 32 := Scalar.muli v4945 c256_i32_3437
  v4946
def k0_mult260 (i : grid0.Coords) (k0_t2 : Fin (k0_t2_loop i).trips) : BitVec 32 :=
  let c1_i32_422 : BitVec 32 := 1#32
  let c0_i32_366 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_314 : BitVec 32 := 1#32
  let v480 : BitVec 32 := Scalar.subi v1 c1_i32_314
  let c0_i32_315 : BitVec 32 := 0#32
  let v482 : BitVec 1 := Scalar.cmpi .sgt v480 c0_i32_315
  let v483 : BitVec 32 := Scalar.extui v482
  let c0_i32_316 : BitVec 32 := 0#32
  let v484 : BitVec 1 := Scalar.cmpi .slt v480 c0_i32_316
  let v485 : BitVec 32 := Scalar.extui v484
  let v486 : BitVec 32 := Scalar.subi v483 v485
  let c16_i32 : BitVec 32 := 16#32
  let c0_i32_317 : BitVec 32 := 0#32
  let v487 : BitVec 1 := Scalar.cmpi .sgt c16_i32 c0_i32_317
  let v488 : BitVec 32 := Scalar.extui v487
  let c0_i32_318 : BitVec 32 := 0#32
  let v489 : BitVec 1 := Scalar.cmpi .slt c16_i32 c0_i32_318
  let v490 : BitVec 32 := Scalar.extui v489
  let v491 : BitVec 32 := Scalar.subi v488 v490
  let v492 : BitVec 1 := Scalar.cmpi .ne v486 v491
  let v493 : BitVec 32 := Scalar.remsi v480 c16_i32
  let c0_i32_319 : BitVec 32 := 0#32
  let v494 : BitVec 1 := Scalar.cmpi .ne v493 c0_i32_319
  let v495 : BitVec 1 := Scalar.andi v492 v494
  let v481 : BitVec 32 := Scalar.divsi v480 c16_i32
  let c1_i32_320 : BitVec 32 := 1#32
  let v496 : BitVec 32 := Scalar.subi v481 c1_i32_320
  let v497 : BitVec 32 := Scalar.select v495 v496 v481
  let v548 : BitVec 32 := Scalar.subi v497 c0_i32_366
  let c1_i32_367 : BitVec 32 := 1#32
  let v550 : BitVec 32 := Scalar.divsi v548 c1_i32_367
  let v551 : BitVec 32 := Scalar.muli v550 c1_i32_367
  let v552 : BitVec 32 := Scalar.addi c0_i32_366 v551
  let c1_i32_369 : BitVec 32 := 1#32
  let arg11 : BitVec 32 := Scf.iv v552 c1_i32_369 k0_t2
  let c16_i32_421 : BitVec 32 := 16#32
  let v684 : BitVec 32 := Scalar.muli arg11 c16_i32_421
  let v685 : BitVec 32 := Scalar.addi c1_i32_422 v684
  let c14_i32_3462 : BitVec 32 := 14#32
  let v4981 : BitVec 32 := Scalar.addi v685 c14_i32_3462
  let c1_i32_3463 : BitVec 32 := 1#32
  let v4982 : BitVec 32 := Scalar.subi v1 c1_i32_3463
  let v4983 : BitVec 32 := Scalar.minsi v4981 v4982
  let c256_i32_3464 : BitVec 32 := 256#32
  let v4984 : BitVec 32 := Scalar.muli v4983 c256_i32_3464
  v4984
def k0_mult261 (i : grid0.Coords) (k0_t2 : Fin (k0_t2_loop i).trips) : BitVec 32 :=
  let c1_i32_422 : BitVec 32 := 1#32
  let c0_i32_366 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_314 : BitVec 32 := 1#32
  let v480 : BitVec 32 := Scalar.subi v1 c1_i32_314
  let c0_i32_315 : BitVec 32 := 0#32
  let v482 : BitVec 1 := Scalar.cmpi .sgt v480 c0_i32_315
  let v483 : BitVec 32 := Scalar.extui v482
  let c0_i32_316 : BitVec 32 := 0#32
  let v484 : BitVec 1 := Scalar.cmpi .slt v480 c0_i32_316
  let v485 : BitVec 32 := Scalar.extui v484
  let v486 : BitVec 32 := Scalar.subi v483 v485
  let c16_i32 : BitVec 32 := 16#32
  let c0_i32_317 : BitVec 32 := 0#32
  let v487 : BitVec 1 := Scalar.cmpi .sgt c16_i32 c0_i32_317
  let v488 : BitVec 32 := Scalar.extui v487
  let c0_i32_318 : BitVec 32 := 0#32
  let v489 : BitVec 1 := Scalar.cmpi .slt c16_i32 c0_i32_318
  let v490 : BitVec 32 := Scalar.extui v489
  let v491 : BitVec 32 := Scalar.subi v488 v490
  let v492 : BitVec 1 := Scalar.cmpi .ne v486 v491
  let v493 : BitVec 32 := Scalar.remsi v480 c16_i32
  let c0_i32_319 : BitVec 32 := 0#32
  let v494 : BitVec 1 := Scalar.cmpi .ne v493 c0_i32_319
  let v495 : BitVec 1 := Scalar.andi v492 v494
  let v481 : BitVec 32 := Scalar.divsi v480 c16_i32
  let c1_i32_320 : BitVec 32 := 1#32
  let v496 : BitVec 32 := Scalar.subi v481 c1_i32_320
  let v497 : BitVec 32 := Scalar.select v495 v496 v481
  let v548 : BitVec 32 := Scalar.subi v497 c0_i32_366
  let c1_i32_367 : BitVec 32 := 1#32
  let v550 : BitVec 32 := Scalar.divsi v548 c1_i32_367
  let v551 : BitVec 32 := Scalar.muli v550 c1_i32_367
  let v552 : BitVec 32 := Scalar.addi c0_i32_366 v551
  let c1_i32_369 : BitVec 32 := 1#32
  let arg11 : BitVec 32 := Scf.iv v552 c1_i32_369 k0_t2
  let c16_i32_421 : BitVec 32 := 16#32
  let v684 : BitVec 32 := Scalar.muli arg11 c16_i32_421
  let v685 : BitVec 32 := Scalar.addi c1_i32_422 v684
  let c14_i32_3489 : BitVec 32 := 14#32
  let v5019 : BitVec 32 := Scalar.addi v685 c14_i32_3489
  let c1_i32_3490 : BitVec 32 := 1#32
  let v5020 : BitVec 32 := Scalar.subi v1 c1_i32_3490
  let v5021 : BitVec 32 := Scalar.minsi v5019 v5020
  let c256_i32_3491 : BitVec 32 := 256#32
  let v5022 : BitVec 32 := Scalar.muli v5021 c256_i32_3491
  v5022
def k0_mult262 (i : grid0.Coords) (k0_t2 : Fin (k0_t2_loop i).trips) : BitVec 32 :=
  let c1_i32_422 : BitVec 32 := 1#32
  let c0_i32_366 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_314 : BitVec 32 := 1#32
  let v480 : BitVec 32 := Scalar.subi v1 c1_i32_314
  let c0_i32_315 : BitVec 32 := 0#32
  let v482 : BitVec 1 := Scalar.cmpi .sgt v480 c0_i32_315
  let v483 : BitVec 32 := Scalar.extui v482
  let c0_i32_316 : BitVec 32 := 0#32
  let v484 : BitVec 1 := Scalar.cmpi .slt v480 c0_i32_316
  let v485 : BitVec 32 := Scalar.extui v484
  let v486 : BitVec 32 := Scalar.subi v483 v485
  let c16_i32 : BitVec 32 := 16#32
  let c0_i32_317 : BitVec 32 := 0#32
  let v487 : BitVec 1 := Scalar.cmpi .sgt c16_i32 c0_i32_317
  let v488 : BitVec 32 := Scalar.extui v487
  let c0_i32_318 : BitVec 32 := 0#32
  let v489 : BitVec 1 := Scalar.cmpi .slt c16_i32 c0_i32_318
  let v490 : BitVec 32 := Scalar.extui v489
  let v491 : BitVec 32 := Scalar.subi v488 v490
  let v492 : BitVec 1 := Scalar.cmpi .ne v486 v491
  let v493 : BitVec 32 := Scalar.remsi v480 c16_i32
  let c0_i32_319 : BitVec 32 := 0#32
  let v494 : BitVec 1 := Scalar.cmpi .ne v493 c0_i32_319
  let v495 : BitVec 1 := Scalar.andi v492 v494
  let v481 : BitVec 32 := Scalar.divsi v480 c16_i32
  let c1_i32_320 : BitVec 32 := 1#32
  let v496 : BitVec 32 := Scalar.subi v481 c1_i32_320
  let v497 : BitVec 32 := Scalar.select v495 v496 v481
  let v548 : BitVec 32 := Scalar.subi v497 c0_i32_366
  let c1_i32_367 : BitVec 32 := 1#32
  let v550 : BitVec 32 := Scalar.divsi v548 c1_i32_367
  let v551 : BitVec 32 := Scalar.muli v550 c1_i32_367
  let v552 : BitVec 32 := Scalar.addi c0_i32_366 v551
  let c1_i32_369 : BitVec 32 := 1#32
  let arg11 : BitVec 32 := Scf.iv v552 c1_i32_369 k0_t2
  let c16_i32_421 : BitVec 32 := 16#32
  let v684 : BitVec 32 := Scalar.muli arg11 c16_i32_421
  let v685 : BitVec 32 := Scalar.addi c1_i32_422 v684
  let c15_i32 : BitVec 32 := 15#32
  let v5057 : BitVec 32 := Scalar.addi v685 c15_i32
  let c1_i32_3516 : BitVec 32 := 1#32
  let v5058 : BitVec 32 := Scalar.subi v1 c1_i32_3516
  let v5059 : BitVec 32 := Scalar.minsi v5057 v5058
  let c256_i32_3517 : BitVec 32 := 256#32
  let v5060 : BitVec 32 := Scalar.muli v5059 c256_i32_3517
  v5060
def k0_mult263 (i : grid0.Coords) (k0_t2 : Fin (k0_t2_loop i).trips) : BitVec 32 :=
  let c1_i32_422 : BitVec 32 := 1#32
  let c0_i32_366 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_314 : BitVec 32 := 1#32
  let v480 : BitVec 32 := Scalar.subi v1 c1_i32_314
  let c0_i32_315 : BitVec 32 := 0#32
  let v482 : BitVec 1 := Scalar.cmpi .sgt v480 c0_i32_315
  let v483 : BitVec 32 := Scalar.extui v482
  let c0_i32_316 : BitVec 32 := 0#32
  let v484 : BitVec 1 := Scalar.cmpi .slt v480 c0_i32_316
  let v485 : BitVec 32 := Scalar.extui v484
  let v486 : BitVec 32 := Scalar.subi v483 v485
  let c16_i32 : BitVec 32 := 16#32
  let c0_i32_317 : BitVec 32 := 0#32
  let v487 : BitVec 1 := Scalar.cmpi .sgt c16_i32 c0_i32_317
  let v488 : BitVec 32 := Scalar.extui v487
  let c0_i32_318 : BitVec 32 := 0#32
  let v489 : BitVec 1 := Scalar.cmpi .slt c16_i32 c0_i32_318
  let v490 : BitVec 32 := Scalar.extui v489
  let v491 : BitVec 32 := Scalar.subi v488 v490
  let v492 : BitVec 1 := Scalar.cmpi .ne v486 v491
  let v493 : BitVec 32 := Scalar.remsi v480 c16_i32
  let c0_i32_319 : BitVec 32 := 0#32
  let v494 : BitVec 1 := Scalar.cmpi .ne v493 c0_i32_319
  let v495 : BitVec 1 := Scalar.andi v492 v494
  let v481 : BitVec 32 := Scalar.divsi v480 c16_i32
  let c1_i32_320 : BitVec 32 := 1#32
  let v496 : BitVec 32 := Scalar.subi v481 c1_i32_320
  let v497 : BitVec 32 := Scalar.select v495 v496 v481
  let v548 : BitVec 32 := Scalar.subi v497 c0_i32_366
  let c1_i32_367 : BitVec 32 := 1#32
  let v550 : BitVec 32 := Scalar.divsi v548 c1_i32_367
  let v551 : BitVec 32 := Scalar.muli v550 c1_i32_367
  let v552 : BitVec 32 := Scalar.addi c0_i32_366 v551
  let c1_i32_369 : BitVec 32 := 1#32
  let arg11 : BitVec 32 := Scf.iv v552 c1_i32_369 k0_t2
  let c16_i32_421 : BitVec 32 := 16#32
  let v684 : BitVec 32 := Scalar.muli arg11 c16_i32_421
  let v685 : BitVec 32 := Scalar.addi c1_i32_422 v684
  let c15_i32_3542 : BitVec 32 := 15#32
  let v5095 : BitVec 32 := Scalar.addi v685 c15_i32_3542
  let c1_i32_3543 : BitVec 32 := 1#32
  let v5096 : BitVec 32 := Scalar.subi v1 c1_i32_3543
  let v5097 : BitVec 32 := Scalar.minsi v5095 v5096
  let c256_i32_3544 : BitVec 32 := 256#32
  let v5098 : BitVec 32 := Scalar.muli v5097 c256_i32_3544
  v5098
def k0_mult264 (i : grid0.Coords) (k0_t2 : Fin (k0_t2_loop i).trips) : BitVec 32 :=
  let c1_i32_422 : BitVec 32 := 1#32
  let c0_i32_366 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_314 : BitVec 32 := 1#32
  let v480 : BitVec 32 := Scalar.subi v1 c1_i32_314
  let c0_i32_315 : BitVec 32 := 0#32
  let v482 : BitVec 1 := Scalar.cmpi .sgt v480 c0_i32_315
  let v483 : BitVec 32 := Scalar.extui v482
  let c0_i32_316 : BitVec 32 := 0#32
  let v484 : BitVec 1 := Scalar.cmpi .slt v480 c0_i32_316
  let v485 : BitVec 32 := Scalar.extui v484
  let v486 : BitVec 32 := Scalar.subi v483 v485
  let c16_i32 : BitVec 32 := 16#32
  let c0_i32_317 : BitVec 32 := 0#32
  let v487 : BitVec 1 := Scalar.cmpi .sgt c16_i32 c0_i32_317
  let v488 : BitVec 32 := Scalar.extui v487
  let c0_i32_318 : BitVec 32 := 0#32
  let v489 : BitVec 1 := Scalar.cmpi .slt c16_i32 c0_i32_318
  let v490 : BitVec 32 := Scalar.extui v489
  let v491 : BitVec 32 := Scalar.subi v488 v490
  let v492 : BitVec 1 := Scalar.cmpi .ne v486 v491
  let v493 : BitVec 32 := Scalar.remsi v480 c16_i32
  let c0_i32_319 : BitVec 32 := 0#32
  let v494 : BitVec 1 := Scalar.cmpi .ne v493 c0_i32_319
  let v495 : BitVec 1 := Scalar.andi v492 v494
  let v481 : BitVec 32 := Scalar.divsi v480 c16_i32
  let c1_i32_320 : BitVec 32 := 1#32
  let v496 : BitVec 32 := Scalar.subi v481 c1_i32_320
  let v497 : BitVec 32 := Scalar.select v495 v496 v481
  let v548 : BitVec 32 := Scalar.subi v497 c0_i32_366
  let c1_i32_367 : BitVec 32 := 1#32
  let v550 : BitVec 32 := Scalar.divsi v548 c1_i32_367
  let v551 : BitVec 32 := Scalar.muli v550 c1_i32_367
  let v552 : BitVec 32 := Scalar.addi c0_i32_366 v551
  let c1_i32_369 : BitVec 32 := 1#32
  let arg11 : BitVec 32 := Scf.iv v552 c1_i32_369 k0_t2
  let c16_i32_421 : BitVec 32 := 16#32
  let v684 : BitVec 32 := Scalar.muli arg11 c16_i32_421
  let v685 : BitVec 32 := Scalar.addi c1_i32_422 v684
  let c15_i32_3569 : BitVec 32 := 15#32
  let v5133 : BitVec 32 := Scalar.addi v685 c15_i32_3569
  let c1_i32_3570 : BitVec 32 := 1#32
  let v5134 : BitVec 32 := Scalar.subi v1 c1_i32_3570
  let v5135 : BitVec 32 := Scalar.minsi v5133 v5134
  let c256_i32_3571 : BitVec 32 := 256#32
  let v5136 : BitVec 32 := Scalar.muli v5135 c256_i32_3571
  v5136
def k0_mult265 (i : grid0.Coords) (k0_t2 : Fin (k0_t2_loop i).trips) : BitVec 32 :=
  let c1_i32_422 : BitVec 32 := 1#32
  let c0_i32_366 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_314 : BitVec 32 := 1#32
  let v480 : BitVec 32 := Scalar.subi v1 c1_i32_314
  let c0_i32_315 : BitVec 32 := 0#32
  let v482 : BitVec 1 := Scalar.cmpi .sgt v480 c0_i32_315
  let v483 : BitVec 32 := Scalar.extui v482
  let c0_i32_316 : BitVec 32 := 0#32
  let v484 : BitVec 1 := Scalar.cmpi .slt v480 c0_i32_316
  let v485 : BitVec 32 := Scalar.extui v484
  let v486 : BitVec 32 := Scalar.subi v483 v485
  let c16_i32 : BitVec 32 := 16#32
  let c0_i32_317 : BitVec 32 := 0#32
  let v487 : BitVec 1 := Scalar.cmpi .sgt c16_i32 c0_i32_317
  let v488 : BitVec 32 := Scalar.extui v487
  let c0_i32_318 : BitVec 32 := 0#32
  let v489 : BitVec 1 := Scalar.cmpi .slt c16_i32 c0_i32_318
  let v490 : BitVec 32 := Scalar.extui v489
  let v491 : BitVec 32 := Scalar.subi v488 v490
  let v492 : BitVec 1 := Scalar.cmpi .ne v486 v491
  let v493 : BitVec 32 := Scalar.remsi v480 c16_i32
  let c0_i32_319 : BitVec 32 := 0#32
  let v494 : BitVec 1 := Scalar.cmpi .ne v493 c0_i32_319
  let v495 : BitVec 1 := Scalar.andi v492 v494
  let v481 : BitVec 32 := Scalar.divsi v480 c16_i32
  let c1_i32_320 : BitVec 32 := 1#32
  let v496 : BitVec 32 := Scalar.subi v481 c1_i32_320
  let v497 : BitVec 32 := Scalar.select v495 v496 v481
  let v548 : BitVec 32 := Scalar.subi v497 c0_i32_366
  let c1_i32_367 : BitVec 32 := 1#32
  let v550 : BitVec 32 := Scalar.divsi v548 c1_i32_367
  let v551 : BitVec 32 := Scalar.muli v550 c1_i32_367
  let v552 : BitVec 32 := Scalar.addi c0_i32_366 v551
  let c1_i32_369 : BitVec 32 := 1#32
  let arg11 : BitVec 32 := Scf.iv v552 c1_i32_369 k0_t2
  let c16_i32_421 : BitVec 32 := 16#32
  let v684 : BitVec 32 := Scalar.muli arg11 c16_i32_421
  let v685 : BitVec 32 := Scalar.addi c1_i32_422 v684
  let c15_i32_3596 : BitVec 32 := 15#32
  let v5171 : BitVec 32 := Scalar.addi v685 c15_i32_3596
  let c1_i32_3597 : BitVec 32 := 1#32
  let v5172 : BitVec 32 := Scalar.subi v1 c1_i32_3597
  let v5173 : BitVec 32 := Scalar.minsi v5171 v5172
  let c256_i32_3598 : BitVec 32 := 256#32
  let v5174 : BitVec 32 := Scalar.muli v5173 c256_i32_3598
  v5174
def k0_mult266 (i : grid0.Coords) (k0_t2 : Fin (k0_t2_loop i).trips) : BitVec 32 :=
  let c1_i32_422 : BitVec 32 := 1#32
  let c0_i32_366 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_314 : BitVec 32 := 1#32
  let v480 : BitVec 32 := Scalar.subi v1 c1_i32_314
  let c0_i32_315 : BitVec 32 := 0#32
  let v482 : BitVec 1 := Scalar.cmpi .sgt v480 c0_i32_315
  let v483 : BitVec 32 := Scalar.extui v482
  let c0_i32_316 : BitVec 32 := 0#32
  let v484 : BitVec 1 := Scalar.cmpi .slt v480 c0_i32_316
  let v485 : BitVec 32 := Scalar.extui v484
  let v486 : BitVec 32 := Scalar.subi v483 v485
  let c16_i32 : BitVec 32 := 16#32
  let c0_i32_317 : BitVec 32 := 0#32
  let v487 : BitVec 1 := Scalar.cmpi .sgt c16_i32 c0_i32_317
  let v488 : BitVec 32 := Scalar.extui v487
  let c0_i32_318 : BitVec 32 := 0#32
  let v489 : BitVec 1 := Scalar.cmpi .slt c16_i32 c0_i32_318
  let v490 : BitVec 32 := Scalar.extui v489
  let v491 : BitVec 32 := Scalar.subi v488 v490
  let v492 : BitVec 1 := Scalar.cmpi .ne v486 v491
  let v493 : BitVec 32 := Scalar.remsi v480 c16_i32
  let c0_i32_319 : BitVec 32 := 0#32
  let v494 : BitVec 1 := Scalar.cmpi .ne v493 c0_i32_319
  let v495 : BitVec 1 := Scalar.andi v492 v494
  let v481 : BitVec 32 := Scalar.divsi v480 c16_i32
  let c1_i32_320 : BitVec 32 := 1#32
  let v496 : BitVec 32 := Scalar.subi v481 c1_i32_320
  let v497 : BitVec 32 := Scalar.select v495 v496 v481
  let v548 : BitVec 32 := Scalar.subi v497 c0_i32_366
  let c1_i32_367 : BitVec 32 := 1#32
  let v550 : BitVec 32 := Scalar.divsi v548 c1_i32_367
  let v551 : BitVec 32 := Scalar.muli v550 c1_i32_367
  let v552 : BitVec 32 := Scalar.addi c0_i32_366 v551
  let c1_i32_369 : BitVec 32 := 1#32
  let arg11 : BitVec 32 := Scf.iv v552 c1_i32_369 k0_t2
  let c16_i32_421 : BitVec 32 := 16#32
  let v684 : BitVec 32 := Scalar.muli arg11 c16_i32_421
  let v685 : BitVec 32 := Scalar.addi c1_i32_422 v684
  let c15_i32_3623 : BitVec 32 := 15#32
  let v5209 : BitVec 32 := Scalar.addi v685 c15_i32_3623
  let c1_i32_3624 : BitVec 32 := 1#32
  let v5210 : BitVec 32 := Scalar.subi v1 c1_i32_3624
  let v5211 : BitVec 32 := Scalar.minsi v5209 v5210
  let c256_i32_3625 : BitVec 32 := 256#32
  let v5212 : BitVec 32 := Scalar.muli v5211 c256_i32_3625
  v5212
def k0_mult267 (i : grid0.Coords) (k0_t2 : Fin (k0_t2_loop i).trips) : BitVec 32 :=
  let c1_i32_422 : BitVec 32 := 1#32
  let c0_i32_366 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_314 : BitVec 32 := 1#32
  let v480 : BitVec 32 := Scalar.subi v1 c1_i32_314
  let c0_i32_315 : BitVec 32 := 0#32
  let v482 : BitVec 1 := Scalar.cmpi .sgt v480 c0_i32_315
  let v483 : BitVec 32 := Scalar.extui v482
  let c0_i32_316 : BitVec 32 := 0#32
  let v484 : BitVec 1 := Scalar.cmpi .slt v480 c0_i32_316
  let v485 : BitVec 32 := Scalar.extui v484
  let v486 : BitVec 32 := Scalar.subi v483 v485
  let c16_i32 : BitVec 32 := 16#32
  let c0_i32_317 : BitVec 32 := 0#32
  let v487 : BitVec 1 := Scalar.cmpi .sgt c16_i32 c0_i32_317
  let v488 : BitVec 32 := Scalar.extui v487
  let c0_i32_318 : BitVec 32 := 0#32
  let v489 : BitVec 1 := Scalar.cmpi .slt c16_i32 c0_i32_318
  let v490 : BitVec 32 := Scalar.extui v489
  let v491 : BitVec 32 := Scalar.subi v488 v490
  let v492 : BitVec 1 := Scalar.cmpi .ne v486 v491
  let v493 : BitVec 32 := Scalar.remsi v480 c16_i32
  let c0_i32_319 : BitVec 32 := 0#32
  let v494 : BitVec 1 := Scalar.cmpi .ne v493 c0_i32_319
  let v495 : BitVec 1 := Scalar.andi v492 v494
  let v481 : BitVec 32 := Scalar.divsi v480 c16_i32
  let c1_i32_320 : BitVec 32 := 1#32
  let v496 : BitVec 32 := Scalar.subi v481 c1_i32_320
  let v497 : BitVec 32 := Scalar.select v495 v496 v481
  let v548 : BitVec 32 := Scalar.subi v497 c0_i32_366
  let c1_i32_367 : BitVec 32 := 1#32
  let v550 : BitVec 32 := Scalar.divsi v548 c1_i32_367
  let v551 : BitVec 32 := Scalar.muli v550 c1_i32_367
  let v552 : BitVec 32 := Scalar.addi c0_i32_366 v551
  let c1_i32_369 : BitVec 32 := 1#32
  let arg11 : BitVec 32 := Scf.iv v552 c1_i32_369 k0_t2
  let c16_i32_421 : BitVec 32 := 16#32
  let v684 : BitVec 32 := Scalar.muli arg11 c16_i32_421
  let v685 : BitVec 32 := Scalar.addi c1_i32_422 v684
  let c15_i32_3650 : BitVec 32 := 15#32
  let v5247 : BitVec 32 := Scalar.addi v685 c15_i32_3650
  let c1_i32_3651 : BitVec 32 := 1#32
  let v5248 : BitVec 32 := Scalar.subi v1 c1_i32_3651
  let v5249 : BitVec 32 := Scalar.minsi v5247 v5248
  let c256_i32_3652 : BitVec 32 := 256#32
  let v5250 : BitVec 32 := Scalar.muli v5249 c256_i32_3652
  v5250
def k0_mult268 (i : grid0.Coords) (k0_t2 : Fin (k0_t2_loop i).trips) : BitVec 32 :=
  let c1_i32_422 : BitVec 32 := 1#32
  let c0_i32_366 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_314 : BitVec 32 := 1#32
  let v480 : BitVec 32 := Scalar.subi v1 c1_i32_314
  let c0_i32_315 : BitVec 32 := 0#32
  let v482 : BitVec 1 := Scalar.cmpi .sgt v480 c0_i32_315
  let v483 : BitVec 32 := Scalar.extui v482
  let c0_i32_316 : BitVec 32 := 0#32
  let v484 : BitVec 1 := Scalar.cmpi .slt v480 c0_i32_316
  let v485 : BitVec 32 := Scalar.extui v484
  let v486 : BitVec 32 := Scalar.subi v483 v485
  let c16_i32 : BitVec 32 := 16#32
  let c0_i32_317 : BitVec 32 := 0#32
  let v487 : BitVec 1 := Scalar.cmpi .sgt c16_i32 c0_i32_317
  let v488 : BitVec 32 := Scalar.extui v487
  let c0_i32_318 : BitVec 32 := 0#32
  let v489 : BitVec 1 := Scalar.cmpi .slt c16_i32 c0_i32_318
  let v490 : BitVec 32 := Scalar.extui v489
  let v491 : BitVec 32 := Scalar.subi v488 v490
  let v492 : BitVec 1 := Scalar.cmpi .ne v486 v491
  let v493 : BitVec 32 := Scalar.remsi v480 c16_i32
  let c0_i32_319 : BitVec 32 := 0#32
  let v494 : BitVec 1 := Scalar.cmpi .ne v493 c0_i32_319
  let v495 : BitVec 1 := Scalar.andi v492 v494
  let v481 : BitVec 32 := Scalar.divsi v480 c16_i32
  let c1_i32_320 : BitVec 32 := 1#32
  let v496 : BitVec 32 := Scalar.subi v481 c1_i32_320
  let v497 : BitVec 32 := Scalar.select v495 v496 v481
  let v548 : BitVec 32 := Scalar.subi v497 c0_i32_366
  let c1_i32_367 : BitVec 32 := 1#32
  let v550 : BitVec 32 := Scalar.divsi v548 c1_i32_367
  let v551 : BitVec 32 := Scalar.muli v550 c1_i32_367
  let v552 : BitVec 32 := Scalar.addi c0_i32_366 v551
  let c1_i32_369 : BitVec 32 := 1#32
  let arg11 : BitVec 32 := Scf.iv v552 c1_i32_369 k0_t2
  let c16_i32_421 : BitVec 32 := 16#32
  let v684 : BitVec 32 := Scalar.muli arg11 c16_i32_421
  let v685 : BitVec 32 := Scalar.addi c1_i32_422 v684
  let c15_i32_3677 : BitVec 32 := 15#32
  let v5285 : BitVec 32 := Scalar.addi v685 c15_i32_3677
  let c1_i32_3678 : BitVec 32 := 1#32
  let v5286 : BitVec 32 := Scalar.subi v1 c1_i32_3678
  let v5287 : BitVec 32 := Scalar.minsi v5285 v5286
  let c256_i32_3679 : BitVec 32 := 256#32
  let v5288 : BitVec 32 := Scalar.muli v5287 c256_i32_3679
  v5288
def k0_mult269 (i : grid0.Coords) (k0_t2 : Fin (k0_t2_loop i).trips) : BitVec 32 :=
  let c1_i32_422 : BitVec 32 := 1#32
  let c0_i32_366 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_314 : BitVec 32 := 1#32
  let v480 : BitVec 32 := Scalar.subi v1 c1_i32_314
  let c0_i32_315 : BitVec 32 := 0#32
  let v482 : BitVec 1 := Scalar.cmpi .sgt v480 c0_i32_315
  let v483 : BitVec 32 := Scalar.extui v482
  let c0_i32_316 : BitVec 32 := 0#32
  let v484 : BitVec 1 := Scalar.cmpi .slt v480 c0_i32_316
  let v485 : BitVec 32 := Scalar.extui v484
  let v486 : BitVec 32 := Scalar.subi v483 v485
  let c16_i32 : BitVec 32 := 16#32
  let c0_i32_317 : BitVec 32 := 0#32
  let v487 : BitVec 1 := Scalar.cmpi .sgt c16_i32 c0_i32_317
  let v488 : BitVec 32 := Scalar.extui v487
  let c0_i32_318 : BitVec 32 := 0#32
  let v489 : BitVec 1 := Scalar.cmpi .slt c16_i32 c0_i32_318
  let v490 : BitVec 32 := Scalar.extui v489
  let v491 : BitVec 32 := Scalar.subi v488 v490
  let v492 : BitVec 1 := Scalar.cmpi .ne v486 v491
  let v493 : BitVec 32 := Scalar.remsi v480 c16_i32
  let c0_i32_319 : BitVec 32 := 0#32
  let v494 : BitVec 1 := Scalar.cmpi .ne v493 c0_i32_319
  let v495 : BitVec 1 := Scalar.andi v492 v494
  let v481 : BitVec 32 := Scalar.divsi v480 c16_i32
  let c1_i32_320 : BitVec 32 := 1#32
  let v496 : BitVec 32 := Scalar.subi v481 c1_i32_320
  let v497 : BitVec 32 := Scalar.select v495 v496 v481
  let v548 : BitVec 32 := Scalar.subi v497 c0_i32_366
  let c1_i32_367 : BitVec 32 := 1#32
  let v550 : BitVec 32 := Scalar.divsi v548 c1_i32_367
  let v551 : BitVec 32 := Scalar.muli v550 c1_i32_367
  let v552 : BitVec 32 := Scalar.addi c0_i32_366 v551
  let c1_i32_369 : BitVec 32 := 1#32
  let arg11 : BitVec 32 := Scf.iv v552 c1_i32_369 k0_t2
  let c16_i32_421 : BitVec 32 := 16#32
  let v684 : BitVec 32 := Scalar.muli arg11 c16_i32_421
  let v685 : BitVec 32 := Scalar.addi c1_i32_422 v684
  let c15_i32_3704 : BitVec 32 := 15#32
  let v5323 : BitVec 32 := Scalar.addi v685 c15_i32_3704
  let c1_i32_3705 : BitVec 32 := 1#32
  let v5324 : BitVec 32 := Scalar.subi v1 c1_i32_3705
  let v5325 : BitVec 32 := Scalar.minsi v5323 v5324
  let c256_i32_3706 : BitVec 32 := 256#32
  let v5326 : BitVec 32 := Scalar.muli v5325 c256_i32_3706
  v5326
def k0_mult270 (i : grid0.Coords) (k0_t2 : Fin (k0_t2_loop i).trips) : BitVec 32 :=
  let c1_i32_422 : BitVec 32 := 1#32
  let c0_i32_366 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_314 : BitVec 32 := 1#32
  let v480 : BitVec 32 := Scalar.subi v1 c1_i32_314
  let c0_i32_315 : BitVec 32 := 0#32
  let v482 : BitVec 1 := Scalar.cmpi .sgt v480 c0_i32_315
  let v483 : BitVec 32 := Scalar.extui v482
  let c0_i32_316 : BitVec 32 := 0#32
  let v484 : BitVec 1 := Scalar.cmpi .slt v480 c0_i32_316
  let v485 : BitVec 32 := Scalar.extui v484
  let v486 : BitVec 32 := Scalar.subi v483 v485
  let c16_i32 : BitVec 32 := 16#32
  let c0_i32_317 : BitVec 32 := 0#32
  let v487 : BitVec 1 := Scalar.cmpi .sgt c16_i32 c0_i32_317
  let v488 : BitVec 32 := Scalar.extui v487
  let c0_i32_318 : BitVec 32 := 0#32
  let v489 : BitVec 1 := Scalar.cmpi .slt c16_i32 c0_i32_318
  let v490 : BitVec 32 := Scalar.extui v489
  let v491 : BitVec 32 := Scalar.subi v488 v490
  let v492 : BitVec 1 := Scalar.cmpi .ne v486 v491
  let v493 : BitVec 32 := Scalar.remsi v480 c16_i32
  let c0_i32_319 : BitVec 32 := 0#32
  let v494 : BitVec 1 := Scalar.cmpi .ne v493 c0_i32_319
  let v495 : BitVec 1 := Scalar.andi v492 v494
  let v481 : BitVec 32 := Scalar.divsi v480 c16_i32
  let c1_i32_320 : BitVec 32 := 1#32
  let v496 : BitVec 32 := Scalar.subi v481 c1_i32_320
  let v497 : BitVec 32 := Scalar.select v495 v496 v481
  let v548 : BitVec 32 := Scalar.subi v497 c0_i32_366
  let c1_i32_367 : BitVec 32 := 1#32
  let v550 : BitVec 32 := Scalar.divsi v548 c1_i32_367
  let v551 : BitVec 32 := Scalar.muli v550 c1_i32_367
  let v552 : BitVec 32 := Scalar.addi c0_i32_366 v551
  let c1_i32_369 : BitVec 32 := 1#32
  let arg11 : BitVec 32 := Scf.iv v552 c1_i32_369 k0_t2
  let c16_i32_421 : BitVec 32 := 16#32
  let v684 : BitVec 32 := Scalar.muli arg11 c16_i32_421
  let v685 : BitVec 32 := Scalar.addi c1_i32_422 v684
  let c16_i32_3731 : BitVec 32 := 16#32
  let v5361 : BitVec 32 := Scalar.addi v685 c16_i32_3731
  let c1_i32_3732 : BitVec 32 := 1#32
  let v5362 : BitVec 32 := Scalar.subi v1 c1_i32_3732
  let v5363 : BitVec 32 := Scalar.minsi v5361 v5362
  let c256_i32_3733 : BitVec 32 := 256#32
  let v5364 : BitVec 32 := Scalar.muli v5363 c256_i32_3733
  v5364
def k0_mult271 (i : grid0.Coords) (k0_t2 : Fin (k0_t2_loop i).trips) : BitVec 32 :=
  let c1_i32_422 : BitVec 32 := 1#32
  let c0_i32_366 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_314 : BitVec 32 := 1#32
  let v480 : BitVec 32 := Scalar.subi v1 c1_i32_314
  let c0_i32_315 : BitVec 32 := 0#32
  let v482 : BitVec 1 := Scalar.cmpi .sgt v480 c0_i32_315
  let v483 : BitVec 32 := Scalar.extui v482
  let c0_i32_316 : BitVec 32 := 0#32
  let v484 : BitVec 1 := Scalar.cmpi .slt v480 c0_i32_316
  let v485 : BitVec 32 := Scalar.extui v484
  let v486 : BitVec 32 := Scalar.subi v483 v485
  let c16_i32 : BitVec 32 := 16#32
  let c0_i32_317 : BitVec 32 := 0#32
  let v487 : BitVec 1 := Scalar.cmpi .sgt c16_i32 c0_i32_317
  let v488 : BitVec 32 := Scalar.extui v487
  let c0_i32_318 : BitVec 32 := 0#32
  let v489 : BitVec 1 := Scalar.cmpi .slt c16_i32 c0_i32_318
  let v490 : BitVec 32 := Scalar.extui v489
  let v491 : BitVec 32 := Scalar.subi v488 v490
  let v492 : BitVec 1 := Scalar.cmpi .ne v486 v491
  let v493 : BitVec 32 := Scalar.remsi v480 c16_i32
  let c0_i32_319 : BitVec 32 := 0#32
  let v494 : BitVec 1 := Scalar.cmpi .ne v493 c0_i32_319
  let v495 : BitVec 1 := Scalar.andi v492 v494
  let v481 : BitVec 32 := Scalar.divsi v480 c16_i32
  let c1_i32_320 : BitVec 32 := 1#32
  let v496 : BitVec 32 := Scalar.subi v481 c1_i32_320
  let v497 : BitVec 32 := Scalar.select v495 v496 v481
  let v548 : BitVec 32 := Scalar.subi v497 c0_i32_366
  let c1_i32_367 : BitVec 32 := 1#32
  let v550 : BitVec 32 := Scalar.divsi v548 c1_i32_367
  let v551 : BitVec 32 := Scalar.muli v550 c1_i32_367
  let v552 : BitVec 32 := Scalar.addi c0_i32_366 v551
  let c1_i32_369 : BitVec 32 := 1#32
  let arg11 : BitVec 32 := Scf.iv v552 c1_i32_369 k0_t2
  let c16_i32_421 : BitVec 32 := 16#32
  let v684 : BitVec 32 := Scalar.muli arg11 c16_i32_421
  let v685 : BitVec 32 := Scalar.addi c1_i32_422 v684
  let c16_i32_3758 : BitVec 32 := 16#32
  let v5399 : BitVec 32 := Scalar.addi v685 c16_i32_3758
  let c1_i32_3759 : BitVec 32 := 1#32
  let v5400 : BitVec 32 := Scalar.subi v1 c1_i32_3759
  let v5401 : BitVec 32 := Scalar.minsi v5399 v5400
  let c256_i32_3760 : BitVec 32 := 256#32
  let v5402 : BitVec 32 := Scalar.muli v5401 c256_i32_3760
  v5402
def k0_mult272 (i : grid0.Coords) (k0_t2 : Fin (k0_t2_loop i).trips) : BitVec 32 :=
  let c1_i32_422 : BitVec 32 := 1#32
  let c0_i32_366 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_314 : BitVec 32 := 1#32
  let v480 : BitVec 32 := Scalar.subi v1 c1_i32_314
  let c0_i32_315 : BitVec 32 := 0#32
  let v482 : BitVec 1 := Scalar.cmpi .sgt v480 c0_i32_315
  let v483 : BitVec 32 := Scalar.extui v482
  let c0_i32_316 : BitVec 32 := 0#32
  let v484 : BitVec 1 := Scalar.cmpi .slt v480 c0_i32_316
  let v485 : BitVec 32 := Scalar.extui v484
  let v486 : BitVec 32 := Scalar.subi v483 v485
  let c16_i32 : BitVec 32 := 16#32
  let c0_i32_317 : BitVec 32 := 0#32
  let v487 : BitVec 1 := Scalar.cmpi .sgt c16_i32 c0_i32_317
  let v488 : BitVec 32 := Scalar.extui v487
  let c0_i32_318 : BitVec 32 := 0#32
  let v489 : BitVec 1 := Scalar.cmpi .slt c16_i32 c0_i32_318
  let v490 : BitVec 32 := Scalar.extui v489
  let v491 : BitVec 32 := Scalar.subi v488 v490
  let v492 : BitVec 1 := Scalar.cmpi .ne v486 v491
  let v493 : BitVec 32 := Scalar.remsi v480 c16_i32
  let c0_i32_319 : BitVec 32 := 0#32
  let v494 : BitVec 1 := Scalar.cmpi .ne v493 c0_i32_319
  let v495 : BitVec 1 := Scalar.andi v492 v494
  let v481 : BitVec 32 := Scalar.divsi v480 c16_i32
  let c1_i32_320 : BitVec 32 := 1#32
  let v496 : BitVec 32 := Scalar.subi v481 c1_i32_320
  let v497 : BitVec 32 := Scalar.select v495 v496 v481
  let v548 : BitVec 32 := Scalar.subi v497 c0_i32_366
  let c1_i32_367 : BitVec 32 := 1#32
  let v550 : BitVec 32 := Scalar.divsi v548 c1_i32_367
  let v551 : BitVec 32 := Scalar.muli v550 c1_i32_367
  let v552 : BitVec 32 := Scalar.addi c0_i32_366 v551
  let c1_i32_369 : BitVec 32 := 1#32
  let arg11 : BitVec 32 := Scf.iv v552 c1_i32_369 k0_t2
  let c16_i32_421 : BitVec 32 := 16#32
  let v684 : BitVec 32 := Scalar.muli arg11 c16_i32_421
  let v685 : BitVec 32 := Scalar.addi c1_i32_422 v684
  let c16_i32_3785 : BitVec 32 := 16#32
  let v5437 : BitVec 32 := Scalar.addi v685 c16_i32_3785
  let c1_i32_3786 : BitVec 32 := 1#32
  let v5438 : BitVec 32 := Scalar.subi v1 c1_i32_3786
  let v5439 : BitVec 32 := Scalar.minsi v5437 v5438
  let c256_i32_3787 : BitVec 32 := 256#32
  let v5440 : BitVec 32 := Scalar.muli v5439 c256_i32_3787
  v5440
def k0_mult273 (i : grid0.Coords) (k0_t2 : Fin (k0_t2_loop i).trips) : BitVec 32 :=
  let c1_i32_422 : BitVec 32 := 1#32
  let c0_i32_366 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_314 : BitVec 32 := 1#32
  let v480 : BitVec 32 := Scalar.subi v1 c1_i32_314
  let c0_i32_315 : BitVec 32 := 0#32
  let v482 : BitVec 1 := Scalar.cmpi .sgt v480 c0_i32_315
  let v483 : BitVec 32 := Scalar.extui v482
  let c0_i32_316 : BitVec 32 := 0#32
  let v484 : BitVec 1 := Scalar.cmpi .slt v480 c0_i32_316
  let v485 : BitVec 32 := Scalar.extui v484
  let v486 : BitVec 32 := Scalar.subi v483 v485
  let c16_i32 : BitVec 32 := 16#32
  let c0_i32_317 : BitVec 32 := 0#32
  let v487 : BitVec 1 := Scalar.cmpi .sgt c16_i32 c0_i32_317
  let v488 : BitVec 32 := Scalar.extui v487
  let c0_i32_318 : BitVec 32 := 0#32
  let v489 : BitVec 1 := Scalar.cmpi .slt c16_i32 c0_i32_318
  let v490 : BitVec 32 := Scalar.extui v489
  let v491 : BitVec 32 := Scalar.subi v488 v490
  let v492 : BitVec 1 := Scalar.cmpi .ne v486 v491
  let v493 : BitVec 32 := Scalar.remsi v480 c16_i32
  let c0_i32_319 : BitVec 32 := 0#32
  let v494 : BitVec 1 := Scalar.cmpi .ne v493 c0_i32_319
  let v495 : BitVec 1 := Scalar.andi v492 v494
  let v481 : BitVec 32 := Scalar.divsi v480 c16_i32
  let c1_i32_320 : BitVec 32 := 1#32
  let v496 : BitVec 32 := Scalar.subi v481 c1_i32_320
  let v497 : BitVec 32 := Scalar.select v495 v496 v481
  let v548 : BitVec 32 := Scalar.subi v497 c0_i32_366
  let c1_i32_367 : BitVec 32 := 1#32
  let v550 : BitVec 32 := Scalar.divsi v548 c1_i32_367
  let v551 : BitVec 32 := Scalar.muli v550 c1_i32_367
  let v552 : BitVec 32 := Scalar.addi c0_i32_366 v551
  let c1_i32_369 : BitVec 32 := 1#32
  let arg11 : BitVec 32 := Scf.iv v552 c1_i32_369 k0_t2
  let c16_i32_421 : BitVec 32 := 16#32
  let v684 : BitVec 32 := Scalar.muli arg11 c16_i32_421
  let v685 : BitVec 32 := Scalar.addi c1_i32_422 v684
  let c16_i32_3812 : BitVec 32 := 16#32
  let v5475 : BitVec 32 := Scalar.addi v685 c16_i32_3812
  let c1_i32_3813 : BitVec 32 := 1#32
  let v5476 : BitVec 32 := Scalar.subi v1 c1_i32_3813
  let v5477 : BitVec 32 := Scalar.minsi v5475 v5476
  let c256_i32_3814 : BitVec 32 := 256#32
  let v5478 : BitVec 32 := Scalar.muli v5477 c256_i32_3814
  v5478
def k0_mult274 (i : grid0.Coords) (k0_t2 : Fin (k0_t2_loop i).trips) : BitVec 32 :=
  let c1_i32_422 : BitVec 32 := 1#32
  let c0_i32_366 : BitVec 32 := 0#32
  let arg1 : BitVec 32 := BitVec.ofNat 32 (i 1).val
  let c1_i32 : BitVec 32 := 1#32
  let v0 : BitVec 1 := Scalar.cmpi .slt arg1 c1_i32
  let c1_i32_0 : BitVec 32 := 1#32
  let c33_i32 : BitVec 32 := 33#32
  let v1 : BitVec 32 := Scalar.select v0 c1_i32_0 c33_i32
  let c1_i32_314 : BitVec 32 := 1#32
  let v480 : BitVec 32 := Scalar.subi v1 c1_i32_314
  let c0_i32_315 : BitVec 32 := 0#32
  let v482 : BitVec 1 := Scalar.cmpi .sgt v480 c0_i32_315
  let v483 : BitVec 32 := Scalar.extui v482
  let c0_i32_316 : BitVec 32 := 0#32
  let v484 : BitVec 1 := Scalar.cmpi .slt v480 c0_i32_316
  let v485 : BitVec 32 := Scalar.extui v484
  let v486 : BitVec 32 := Scalar.subi v483 v485
  let c16_i32 : BitVec 32 := 16#32
  let c0_i32_317 : BitVec 32 := 0#32
  let v487 : BitVec 1 := Scalar.cmpi .sgt c16_i32 c0_i32_317
  let v488 : BitVec 32 := Scalar.extui v487
  let c0_i32_318 : BitVec 32 := 0#32
  let v489 : BitVec 1 := Scalar.cmpi .slt c16_i32 c0_i32_318
  let v490 : BitVec 32 := Scalar.extui v489
  let v491 : BitVec 32 := Scalar.subi v488 v490
  let v492 : BitVec 1 := Scalar.cmpi .ne v486 v491
  let v493 : BitVec 32 := Scalar.remsi v480 c16_i32
  let c0_i32_319 : BitVec 32 := 0#32
  let v494 : BitVec 1 := Scalar.cmpi .ne v493 c0_i32_319
  let v495 : BitVec 1 := Scalar.andi v492 v494
  let v481 : BitVec 32 := Scalar.divsi v480 c16_i32
  let c1_i32_320 : BitVec 32 := 1#32
  let v496 : BitVec 32 := Scalar.subi v481 c1_i32_320
  let v497 : BitVec 32 := Scalar.select v495 v496 v481
  let v548 : BitVec 32 := Scalar.subi v497 c0_i32_366
  let c1_i32_367 : BitVec 32 := 1#32
  let v550 : BitVec 32 := Scalar.divsi v548 c1_i32_367
  let v551 : BitVec 32 := Scalar.muli v550 c1_i32_367
  let v552 : BitVec 32 := Scalar.addi c0_i32_366 v551
  let c1_i32_369 : BitVec 32 := 1#32
  let arg11 : BitVec 32 := Scf.iv v552 c1_i32_369 k0_t2
  let c16_i32_421 : BitVec 32 := 16#32
  let v684 : BitVec 32 := Scalar.muli arg11 c16_i32_421
  let v685 : BitVec 32 := Scalar.addi c1_i32_422 v684
  let c16_i32_3839 : BitVec 32 := 16#32
  let v5513 : BitVec 32 := Scalar.addi v685 c16_i32_3839
  let c1_i32_3840 : BitVec 32 := 1#32
  let v5514 : BitVec 32 := Scalar.subi v1 c1_i32_3840
  let v5515 : BitVec 32 := Scalar.minsi v5513 v5514
  let c256_i32_3841 : BitVec 32 := 256#32
  let v5516 : BitVec 32 := Scalar.muli v5515 c256_i32_3841
  v5516
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8448x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x33x320x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S4x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference3Ideal.lean ====
abbrev S8x8448x4x32 : Shape := ⟨4, ![8, 8448, 4, 32]⟩
abbrev S8x8448x4x64 : Shape := ⟨4, ![8, 8448, 4, 64]⟩
abbrev S32 : Shape := ⟨1, ![32]⟩
abbrev S64 : Shape := ⟨1, ![64]⟩
abbrev S_ : Shape := ⟨0, ![]⟩
abbrev S8x256x4x32 : Shape := ⟨4, ![8, 256, 4, 32]⟩
abbrev S8x8192x4x32 : Shape := ⟨4, ![8, 8192, 4, 32]⟩
abbrev S8x256x4x64 : Shape := ⟨4, ![8, 256, 4, 64]⟩
abbrev S8x8192x4x64 : Shape := ⟨4, ![8, 8192, 4, 64]⟩
abbrev S8x4x8192x8448 : Shape := ⟨4, ![8, 4, 8192, 8448]⟩
abbrev S8x4x8192 : Shape := ⟨3, ![8, 4, 8192]⟩
abbrev S8x4x8192x1 : Shape := ⟨4, ![8, 4, 8192, 1]⟩
abbrev S8x4x64x8192 : Shape := ⟨4, ![8, 4, 64, 8192]⟩
abbrev S8x8192x4 : Shape := ⟨3, ![8, 8192, 4]⟩
abbrev S8x8192x4x1 : Shape := ⟨4, ![8, 8192, 4, 1]⟩
abbrev S1x1x1x64 : Shape := ⟨4, ![1, 1, 1, 64]⟩
abbrev S8x8192x256 : Shape := ⟨3, ![8, 8192, 256]⟩
abbrev S8x4x256x256 : Shape := ⟨4, ![8, 4, 256, 256]⟩
abbrev S8x4x256 : Shape := ⟨3, ![8, 4, 256]⟩
abbrev S8x4x256x1 : Shape := ⟨4, ![8, 4, 256, 1]⟩
abbrev S8x4x64x256 : Shape := ⟨4, ![8, 4, 64, 256]⟩
abbrev S8x256x4 : Shape := ⟨3, ![8, 256, 4]⟩
abbrev S8x256x4x1 : Shape := ⟨4, ![8, 256, 4, 1]⟩
abbrev S8x256x256 : Shape := ⟨3, ![8, 256, 256]⟩
abbrev S8x8448x256 : Shape := ⟨3, ![8, 8448, 256]⟩

abbrev nBuf : Space → Nat
  | .hbm => 157
  | .vmem => 0
  | .smem => 0
  | _ => 0

abbrev hbmTy0_0 (i : Nat) : BufTy := match i % 128 with
  | 0 => ⟨S8x8448x4x32, .f32⟩
  | 1 => ⟨S8x8448x4x32, .f32⟩
  | 2 => ⟨S8x8448x4x32, .f32⟩
  | 3 => ⟨S8x8448x4x32, .f32⟩
  | 4 => ⟨S8x8448x4x64, .f32⟩
  | 5 => ⟨S32, .f32⟩
  | 6 => ⟨S32, .f32⟩
  | 7 => ⟨S32, .f32⟩
  | 8 => ⟨S32, .f32⟩
  | 9 => ⟨S64, .f32⟩
  | 10 => ⟨S32, .f32⟩
  | 11 => ⟨S_, .f32⟩
  | 12 => ⟨S_, .f32⟩
  | 13 => ⟨S_, .f32⟩
  | 14 => ⟨S32, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S8x256x4x32, .f32⟩
  | 26 => ⟨S8x8192x4x32, .f32⟩
  | 27 => ⟨S8x256x4x32, .f32⟩
  | 28 => ⟨S8x8192x4x32, .f32⟩
  | 29 => ⟨S8x256x4x32, .f32⟩
  | 30 => ⟨S8x8192x4x32, .f32⟩
  | 31 => ⟨S8x256x4x32, .f32⟩
  | 32 => ⟨S8x8192x4x32, .f32⟩
  | 33 => ⟨S8x256x4x64, .f32⟩
  | 34 => ⟨S8x8192x4x64, .f32⟩
  | 35 => ⟨S8x8448x4x32, .f32⟩
  | 36 => ⟨S8x8448x4x32, .f32⟩
  | 37 => ⟨S8x8448x4x64, .f32⟩
  | 38 => ⟨S8x4x8192x8448, .f32⟩
  | 39 => ⟨S8x4x8192x8448, .f32⟩
  | 40 => ⟨S8x4x8192x8448, .f32⟩
  | 41 => ⟨S_, .f32⟩
  | 42 => ⟨S8x4x8192, .f32⟩
  | 43 => ⟨S_, .f32⟩
  | 44 => ⟨S8x4x8192, .f32⟩
  | 45 => ⟨S8x4x8192, .f32⟩
  | 46 => ⟨S8x4x8192x1, .f32⟩
  | 47 => ⟨S8x4x8192x8448, .f32⟩
  | 48 => ⟨S8x4x8192x8448, .f32⟩
  | 49 => ⟨S8x4x8192x8448, .f32⟩
  | 50 => ⟨S_, .f32⟩
  | 51 => ⟨S8x4x8192, .f32⟩
  | 52 => ⟨S8x4x8192x1, .f32⟩
  | 53 => ⟨S8x4x8192x8448, .f32⟩
  | 54 => ⟨S8x4x8192x8448, .f32⟩
  | 55 => ⟨S8x4x8192x8448, .f32⟩
  | 56 => ⟨S8x4x8192x8448, .f32⟩
  | 57 => ⟨S8x4x8192x8448, .f32⟩
  | 58 => ⟨S_, .f32⟩
  | 59 => ⟨S8x4x8192, .f32⟩
  | 60 => ⟨S_, .f32⟩
  | 61 => ⟨S8x4x8192, .f32⟩
  | 62 => ⟨S8x4x8192, .f32⟩
  | 63 => ⟨S8x4x8192x1, .f32⟩
  | 64 => ⟨S8x4x8192x8448, .f32⟩
  | 65 => ⟨S8x4x8192x8448, .f32⟩
  | 66 => ⟨S8x4x8192x8448, .f32⟩
  | 67 => ⟨S_, .f32⟩
  | 68 => ⟨S8x4x8192, .f32⟩
  | 69 => ⟨S8x4x8192x1, .f32⟩
  | 70 => ⟨S8x4x8192x8448, .f32⟩
  | 71 => ⟨S8x4x8192x8448, .f32⟩
  | 72 => ⟨S8x4x8192x8448, .f32⟩
  | 73 => ⟨S8x4x8192x8448, .f32⟩
  | 74 => ⟨S8x4x8192x8448, .f32⟩
  | 75 => ⟨S8x4x64x8192, .f32⟩
  | 76 => ⟨S8x8192x4x64, .f32⟩
  | 77 => ⟨S8x8192x4x64, .f32⟩
  | 78 => ⟨S_, .f32⟩
  | 79 => ⟨S8x8192x4, .f32⟩
  | 80 => ⟨S8x8192x4x1, .f32⟩
  | 81 => ⟨S_, .f32⟩
  | 82 => ⟨S8x8192x4x1, .f32⟩
  | 83 => ⟨S8x8192x4x1, .f32⟩
  | 84 => ⟨S_, .f32⟩
  | 85 => ⟨S8x8192x4x1, .f32⟩
  | 86 => ⟨S8x8192x4x1, .f32⟩
  | 87 => ⟨S8x8192x4x1, .f32⟩
  | 88 => ⟨S8x8192x4x64, .f32⟩
  | 89 => ⟨S8x8192x4x64, .f32⟩
  | 90 => ⟨S1x1x1x64, .f32⟩
  | 91 => ⟨S8x8192x4x64, .f32⟩
  | 92 => ⟨S8x8192x4x64, .f32⟩
  | 93 => ⟨S_, .f32⟩
  | 94 => ⟨S8x8192x4x64, .f32⟩
  | 95 => ⟨S8x8192x4x64, .f32⟩
  | 96 => ⟨S8x8192x256, .f32⟩
  | 97 => ⟨S8x4x256x256, .f32⟩
  | 98 => ⟨S8x4x256x256, .f32⟩
  | 99 => ⟨S8x4x256x256, .f32⟩
  | 100 => ⟨S_, .f32⟩
  | 101 => ⟨S8x4x256, .f32⟩
  | 102 => ⟨S_, .f32⟩
  | 103 => ⟨S8x4x256, .f32⟩
  | 104 => ⟨S8x4x256, .f32⟩
  | 105 => ⟨S8x4x256x1, .f32⟩
  | 106 => ⟨S8x4x256x256, .f32⟩
  | 107 => ⟨S8x4x256x256, .f32⟩
  | 108 => ⟨S8x4x256x256, .f32⟩
  | 109 => ⟨S_, .f32⟩
  | 110 => ⟨S8x4x256, .f32⟩
  | 111 => ⟨S8x4x256x1, .f32⟩
  | 112 => ⟨S8x4x256x256, .f32⟩
  | 113 => ⟨S8x4x256x256, .f32⟩
  | 114 => ⟨S8x4x256x256, .f32⟩
  | 115 => ⟨S8x4x256x256, .f32⟩
  | 116 => ⟨S8x4x256x256, .f32⟩
  | 117 => ⟨S_, .f32⟩
  | 118 => ⟨S8x4x256, .f32⟩
  | 119 => ⟨S_, .f32⟩
  | 120 => ⟨S8x4x256, .f32⟩
  | 121 => ⟨S8x4x256, .f32⟩
  | 122 => ⟨S8x4x256x1, .f32⟩
  | 123 => ⟨S8x4x256x256, .f32⟩
  | 124 => ⟨S8x4x256x256, .f32⟩
  | 125 => ⟨S8x4x256x256, .f32⟩
  | 126 => ⟨S_, .f32⟩
  | 127 => ⟨S8x4x256, .f32⟩
  | _ => ⟨S8x8448x4x32, .f32⟩

abbrev hbmTy0_1 (i : Nat) : BufTy := match i % 128 with
  | 0 => ⟨S8x4x256x1, .f32⟩
  | 1 => ⟨S8x4x256x256, .f32⟩
  | 2 => ⟨S8x4x256x256, .f32⟩
  | 3 => ⟨S8x4x256x256, .f32⟩
  | 4 => ⟨S8x4x256x256, .f32⟩
  | 5 => ⟨S8x4x256x256, .f32⟩
  | 6 => ⟨S8x4x64x256, .f32⟩
  | 7 => ⟨S8x256x4x64, .f32⟩
  | 8 => ⟨S8x256x4x64, .f32⟩
  | 9 => ⟨S_, .f32⟩
  | 10 => ⟨S8x256x4, .f32⟩
  | 11 => ⟨S8x256x4x1, .f32⟩
  | 12 => ⟨S_, .f32⟩
  | 13 => ⟨S8x256x4x1, .f32⟩
  | 14 => ⟨S8x256x4x1, .f32⟩
  | 15 => ⟨S_, .f32⟩
  | 16 => ⟨S8x256x4x1, .f32⟩
  | 17 => ⟨S8x256x4x1, .f32⟩
  | 18 => ⟨S8x256x4x1, .f32⟩
  | 19 => ⟨S8x256x4x64, .f32⟩
  | 20 => ⟨S8x256x4x64, .f32⟩
  | 21 => ⟨S1x1x1x64, .f32⟩
  | 22 => ⟨S8x256x4x64, .f32⟩
  | 23 => ⟨S8x256x4x64, .f32⟩
  | 24 => ⟨S_, .f32⟩
  | 25 => ⟨S8x256x4x64, .f32⟩
  | 26 => ⟨S8x256x4x64, .f32⟩
  | 27 => ⟨S8x256x256, .f32⟩
  | 28 => ⟨S8x8448x256, .f32⟩
  | _ => ⟨S8x8448x4x32, .f32⟩

abbrev hbmTy (i : Nat) : BufTy := match i / 128 with
  | 0 => hbmTy0_0 i
  | 1 => hbmTy0_1 i
  | _ => ⟨S8x8448x4x32, .f32⟩

abbrev bufTy : (tb : Table) → Fin (tcTables nBuf tb) → BufTy
  | .hbm, ⟨i, _⟩ => hbmTy i
  | _, _ => ⟨S8x8448x4x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_cst_2 : Ref sig .tc := ⟨.hbm, 21, rfl⟩
abbrev main_v8 : Ref sig .tc := ⟨.hbm, 22, rfl⟩
abbrev main_cst_3 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_cst_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_6 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_7 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_9 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_10 : Ref sig .tc := ⟨.hbm, 78, rfl⟩
abbrev main_v57 : Ref sig .tc := ⟨.hbm, 79, rfl⟩
abbrev main_v58 : Ref sig .tc := ⟨.hbm, 80, rfl⟩
abbrev main_cst_11 : Ref sig .tc := ⟨.hbm, 81, rfl⟩
abbrev main_v59 : Ref sig .tc := ⟨.hbm, 82, rfl⟩
abbrev main_v60 : Ref sig .tc := ⟨.hbm, 83, rfl⟩
abbrev main_cst_12 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_cst_13 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_cst_14 : Ref sig .tc := ⟨.hbm, 100, rfl⟩
abbrev main_v75 : Ref sig .tc := ⟨.hbm, 101, rfl⟩
abbrev main_cst_15 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_cst_16 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_cst_17 : Ref sig .tc := ⟨.hbm, 117, rfl⟩
abbrev main_v89 : Ref sig .tc := ⟨.hbm, 118, rfl⟩
abbrev main_cst_18 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_cst_19 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_cst_20 : Ref sig .tc := ⟨.hbm, 137, rfl⟩
abbrev main_v106 : Ref sig .tc := ⟨.hbm, 138, rfl⟩
abbrev main_v107 : Ref sig .tc := ⟨.hbm, 139, rfl⟩
abbrev main_cst_21 : Ref sig .tc := ⟨.hbm, 140, rfl⟩
abbrev main_v108 : Ref sig .tc := ⟨.hbm, 141, rfl⟩
abbrev main_v109 : Ref sig .tc := ⟨.hbm, 142, rfl⟩
abbrev main_cst_22 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_cst_23 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩

abbrev nD : Nat := 1
abbrev τ : Topo := Topo.v7x

variable {F : FTy → Type} [FloatOps F]
-- ==== Proof.Merge.Spec.lean ====
/-
  The layer's last step for ONE TOKEN, as plain formulas over the extended reals: the recurrent branch normalised head by
  head, the four gated branches added up, the projection, the residual and the layer normalisation. Both programs are
  read as this function.
-/
module

public import Idealize.ShloMosaic.Lib.Pointwise

@[expose] public section

noncomputable section

namespace Cert.Proof.Merge

open Idealize.ShloMosaic

/-- The constant both programs add under a root. -/
abbrev eps : EReal := Ideal.ofBits FTy.f32 0x358637BD#32

/-- The residual's factor. -/
abbrev alpha : EReal := Ideal.ofBits FTy.f32 0x3FB504F3#32

/-- The logistic function, as both programs write it. -/
def sg (x : EReal) : EReal := Ideal.div 1 (1 + Ideal.exp (-x))

/-- Lane `k` of the head of 64 lanes that lane `c` lies in. -/
def headLane (c : Fin 256) (k : Fin 64) : Fin 256 := ⟨c.val / 64 * 64 + k.val, by have := c.isLt; have := k.isLt; omega⟩

/-- Root-mean-square normalisation of each head of 64 lanes, with one gain per lane of a head. -/
def normed (o : Fin 256 → EReal) (g : Fin 64 → EReal) (c : Fin 256) : EReal :=
  o c * Ideal.rsqrt (Ideal.div (∑ k : Fin 64, o (headLane c k) * o (headLane c k)) (Ideal.ofBits FTy.f32 0x42800000#32) + eps)
    * g ⟨c.val % 64, Nat.mod_lt _ (by decide)⟩

/-- One branch: its output under its silu gate, projected, under the gate read from the token's own features. -/
def term (h : Fin 1024 → EReal) (y p : Fin 256 → EReal) (wg : Fin 1024 → Fin 1024 → EReal) (wb : Fin 256 → Fin 1024 → EReal)
    (n : Fin 1024) : EReal :=
  sg (∑ k, h k * wg k n) * ∑ k, y k * (p k * sg (p k)) * wb k n

/-- The residual: the scaled input plus the modulated projection of the merged branches. -/
def resid (x gt b : Fin 1024 → EReal) (wo : Fin 1024 → Fin 1024 → EReal) (n : Fin 1024) : EReal :=
  alpha * x n + gt n * ∑ k, b k * wo k n

/-- A token's mean. -/
def mean (z : Fin 1024 → EReal) : EReal := Ideal.div (∑ k, z k) (Ideal.ofBits FTy.f32 0x44800000#32)

/-- Layer normalisation of a token. -/
def lnorm (z lg lb : Fin 1024 → EReal) (n : Fin 1024) : EReal :=
  (z n - mean z) * Ideal.rsqrt (mean (fun k => (z k - mean z) * (z k - mean z)) + eps) * lg n + lb n

/-- Lane `k` of branch `i`'s quarter of the gates' 1024 lanes. -/
def quarter (i : Fin 4) (k : Fin 256) : Fin 1024 := ⟨256 * i.val + k.val, by have := i.isLt; have := k.isLt; omega⟩

/-- The four branches added up, in the programs' order. -/
def merged (h pg : Fin 1024 → EReal) (ya yb yc yd : Fin 256 → EReal) (wg : Fin 4 → Fin 1024 → Fin 1024 → EReal)
    (wb : Fin 4 → Fin 256 → Fin 1024 → EReal) (n : Fin 1024) : EReal :=
  term h ya (fun k => pg (quarter 0 k)) (wg 0) (wb 0) n + term h yb (fun k => pg (quarter 1 k)) (wg 1) (wb 1) n
    + term h yc (fun k => pg (quarter 2 k)) (wg 2) (wb 2) n + term h yd (fun k => pg (quarter 3 k)) (wg 3) (wb 3) n

/-- The whole step for one token. -/
def token (x gt h pg : Fin 1024 → EReal) (ya yb yc yd : Fin 256 → EReal) (wg : Fin 4 → Fin 1024 → Fin 1024 → EReal)
    (wb : Fin 4 → Fin 256 → Fin 1024 → EReal) (wo : Fin 1024 → Fin 1024 → EReal) (lg lb : Fin 1024 → EReal) : Fin 1024 → EReal :=
  lnorm (resid x gt (merged h pg ya yb yc yd wg wb) wo) lg lb

end Cert.Proof.Merge

end
-- ==== Proof.Merge.Block.lean ====
/-
  One block of the kernel: what the body leaves at row `r` and lane `n` of its output block is the step for one token
  (Spec.lean) of row `r` of the input blocks. The kernel sums squares over a head by a product with a block-diagonal matrix
  of ones, the squares cut in a rounded part and the rest: over the reals the rest is zero, where the squares are finite.
-/
module

public import proofs.«01_k».proof.Proof.Gen.KernelIdeal.Frame
public import proofs.«01_k».proof.Proof.Merge.Spec
public import Idealize.ShloMosaic.Lib.Pipeline.Value
public import Idealize.ShloMosaic.Lib.Pointwise

@[expose] public section

noncomputable section

namespace Cert.Proof.Merge

open Idealize.ShloMosaic Cert.KernelIdeal Cert.KernelIdeal.Gen

/-- The quotient by 64, rounded down, as the kernel computes it. -/
def quot64 (w : BitVec 32) : BitVec 32 :=
  Scalar.select
    (IntOp.andi
      (IntOp.cmpi CmpIPredicate.ne
        (IntOp.subi (BitVec.setWidth 32 (IntOp.cmpi CmpIPredicate.sgt w 0#32))
          (BitVec.setWidth 32 (IntOp.cmpi CmpIPredicate.slt w 0#32)))
        (Scalar.subi (Scalar.extui (Scalar.cmpi CmpIPredicate.sgt 64#32 0#32))
          (Scalar.extui (Scalar.cmpi CmpIPredicate.slt 64#32 0#32))))
      (IntOp.cmpi CmpIPredicate.ne (IntOp.remsi ArithUnit.vector w 64#32) 0#32))
    (IntOp.subi (IntOp.divsi ArithUnit.vector w 64#32) 1#32) (IntOp.divsi ArithUnit.vector w 64#32)

/-- On the lanes of a row it is the quotient. -/
theorem quot64_eq : ∀ k < 256, quot64 (BitVec.ofNat 32 k) = BitVec.ofNat 32 (k / 64) := by decide +kernel

/-- The kernel's row heads. -/
theorem pay5_apply (k n : Fin 256) : k0_pay5 (ix2 k n) = quot64 (BitVec.ofNat 32 k.val) := by
  pointwise [k0_pay5, quot64]

/-- The block-diagonal matrix of ones over heads of 64 lanes, at an entry. -/
theorem ones_apply (k n : Fin 256) :
    (FloatOps.sitofp (F := Ideal) FTy.f32 (BitVec.setWidth 32 (IntOp.cmpi CmpIPredicate.eq (quot64 (BitVec.ofNat 32 k.val)) (quot64 (BitVec.ofNat 32 n.val)))) : EReal)
      = if k.val / 64 = n.val / 64 then 1 else 0 := by
  rw [quot64_eq _ k.isLt, quot64_eq _ n.isLt]
  have key : ∀ a < 4, ∀ b < 4, BitVec.setWidth 32 (IntOp.cmpi CmpIPredicate.eq (BitVec.ofNat 32 a) (BitVec.ofNat 32 b)) = if a = b then 1#32 else 0#32 := by decide
  rw [key _ (by omega) _ (by omega)]
  split
  · show (((1#32).toInt : ℝ) : EReal) = 1
    simp
  · show (((0#32).toInt : ℝ) : EReal) = 0
    simp

/-- A sum against that matrix's column `n` is the sum over the head of lane `n`. -/
theorem sum_ones (f : Fin 256 → EReal) (n : Fin 256) :
    (∑ k, f k * (if k.val / 64 = n.val / 64 then (1 : EReal) else 0)) = ∑ k : Fin 64, f (headLane n k) := by
  simp only [mul_ite, mul_one, mul_zero]
  rw [← Finset.sum_filter]
  symm
  refine Finset.sum_bij (fun k _ => headLane n k) ?_ ?_ ?_ ?_
  · intro k _
    have := k.isLt
    simp only [Finset.mem_filter, Finset.mem_univ, true_and, headLane]
    omega
  · intro a _ b _ h
    have h' : (headLane n a).val = (headLane n b).val := congrArg Fin.val h
    simp only [headLane] at h'
    exact Fin.ext (by omega)
  · intro b hb
    simp only [Finset.mem_filter, Finset.mem_univ, true_and] at hb
    refine ⟨⟨b.val % 64, Nat.mod_lt _ (by decide)⟩, Finset.mem_univ _, Fin.ext ?_⟩
    simp only [headLane]
    omega
  · intro _ _; rfl

/-- Over the reals a number and its rounding have no difference. -/
theorem sub_self_of_real {x : EReal} (h : ∃ a : ℝ, x = a) : x - x = 0 := by
  obtain ⟨a, rfl⟩ := h
  rw [← EReal.coe_sub, sub_self, EReal.coe_zero]

/-- Multiplying by the 64th is dividing by 64. -/
theorem mul_64th (x : EReal) : x * Ideal.ofBits FTy.f32 0x3C800000#32 = Ideal.div x (Ideal.ofBits FTy.f32 0x42800000#32) := by
  have h1 : Ideal.ofBits FTy.f32 0x3C800000#32 = ((1 / 64 : ℝ) : EReal) := by
    simp [Ideal.ofBits, Ideal.ieee, -EReal.coe_mul]; norm_num
  have h2 : Ideal.ofBits FTy.f32 0x42800000#32 = ((64 : ℝ) : EReal) := by
    simp [Ideal.ofBits, Ideal.ieee, -EReal.coe_mul]; norm_num
  rw [h1, h2, Ideal.div_coe (by norm_num)]

/-- The normalised branch of a block. -/
theorem pay8_apply (o : FVec Ideal S256x256 .f32) (g : Vec Ideal S1x256 .f32) (G : Fin 64 → EReal)
    (hg : ∀ k : Fin 256, g (ix2 0 k) = G ⟨k.val % 64, Nat.mod_lt _ (by decide)⟩) (r n : Fin 256)
    (ho : ∀ k, ∃ a : ℝ, o (ix2 r k) = a) :
    k0_pay8 o (mulf o o) k0_pay5 (iota .tc S256x256 32 [1] iota_S256x256_d1_w32) 64#32 k0_pay6 k0_pay7 0#32 g (ix2 r n)
      = normed (fun k => o (ix2 r k)) G n := by
  have hz (k : Fin 256) : o (ix2 r k) * o (ix2 r k) - o (ix2 r k) * o (ix2 r k) = 0 := by
    obtain ⟨a, h⟩ := ho k
    exact sub_self_of_real ⟨a * a, by rw [h, EReal.coe_mul]⟩
  have e := fun k : Fin 256 => ones_apply k n
  pointwise [k0_pay8, k0_pay6, k0_pay7, pay5_apply]
  change _ * Ideal.rsqrt ((∑ x, _ * FloatOps.sitofp (F := Ideal) FTy.f32 (BitVec.setWidth 32 (IntOp.cmpi CmpIPredicate.eq (quot64 (BitVec.ofNat 32 (x : Fin 256).val)) (quot64 (BitVec.ofNat 32 n.val)))) + ∑ x, _ * FloatOps.sitofp (F := Ideal) FTy.f32 (BitVec.setWidth 32 (IntOp.cmpi CmpIPredicate.eq (quot64 (BitVec.ofNat 32 (x : Fin 256).val)) (quot64 (BitVec.ofNat 32 n.val))))) * _ + _) * _ = _
  simp only [hz, e, zero_mul, Finset.sum_const_zero, add_zero, sum_ones, hg, mul_64th]
  rfl

/-- The zero offset of three axes. -/
theorem h3 : (![0, 0, 0] : Fin 3 → Nat) = fun _ => 0 := funext fun a => by fin_cases a <;> rfl

/-- The block without the normalised branch: at the value `Y` of that branch. -/
theorem block (x0 : Vec Ideal S1x256x1024 .f32) (x1 : Vec Ideal S1x1x3x1024 .f32) (x2 : Vec Ideal S1x256x1024 .bf16) (x3 : Vec Ideal S1x256x1024 .f32) (x4 x5 x6 x7 x8 : Vec Ideal S1x256x256 .f32) (x9 : Vec Ideal S1x256 .f32) (x10 : Vec Ideal S4x1024x1024 .bf16) (x11 : Vec Ideal S4x256x1024 .bf16) (x12 : Vec Ideal S1024x1024 .bf16) (x13 x14 : Vec Ideal S1x1024 .f32) (r : Fin 256) (n : Fin 1024) :
    out0_15 x0 x1 x2 x3 x4 x5 x6 x7 x8 x9 x10 x11 x12 x13 x14 (ix3 0 r n)
      = token (fun k => x0 (ix3 0 r k)) (fun k => x1 (ix4 0 0 2 k)) (fun k => x2 (ix3 0 r k)) (fun k => x3 (ix3 0 r k))
          (fun k => x4 (ix3 0 r k)) (fun k => x5 (ix3 0 r k)) (fun k => x6 (ix3 0 r k))
          (fun k => k0_pay8 (k0_pay3 x7 x8) (k0_pay4 x7 x8) k0_pay5 (iota .tc S256x256 32 [1] iota_S256x256_d1_w32) 64#32 k0_pay6 k0_pay7 0#32 x9 (ix2 r k))
          (fun i a b => x10 (ix3 i a b)) (fun i a b => x11 (ix3 i a b)) (fun a b => x12 (ix2 a b))
          (fun k => x13 (ix2 0 k)) (fun k => x14 (ix2 0 k)) n := by
  unfold_out out0_15
  rw [View.canon_unit_zero h3]
  have h2 : (![0, 0] : Fin 2 → Nat) = fun _ => 0 := funext fun a => by fin_cases a <;> rfl
  have e7 : View.ld x7 r0_1 = x7 := View.ld_unit_zero h3 _ _
  have e8 : View.ld x8 r0_1 = x8 := View.ld_unit_zero h3 _ _
  have e9 : View.ld x9 r0_2 = x9 := View.ld_unit_zero h2 _ _
  rw [e7, e8, e9]
  generalize hY : k0_pay8 (k0_pay3 x7 x8) (k0_pay4 x7 x8) k0_pay5 (iota .tc S256x256 32 [1] iota_S256x256_d1_w32) 64#32 k0_pay6 k0_pay7 0#32 x9 = Y
  pointwise [k0_pay1, k0_pay2, k0_pay9, k0_pay10, k0_pay11, k0_pay12, k0_pay13, k0_pay14, k0_pay15, k0_pay16, k0_pay17, k0_pay18, k0_pay19, k0_pay20, k0_pay21]
  have q0 (k : Fin 256) : quarter 0 k = ⟨k.val, by omega⟩ := Fin.ext (by simp [quarter])
  simp only [zero_sub, token, lnorm, mean, resid, merged, term, sg, q0]
  rfl

end Cert.Proof.Merge

end
-- ==== Proof.Merge.Array.lean ====
/-
  The value of the merge call as a whole array: which part of which argument each input block of a grid point is, and
  from that what the result array holds after the run.

  The grid is 8 batches by 32 tiles of 256 tokens, point `t` being batch `t / 32` and tile `t % 32` of the image tokens.
  The token windows (0, 2–8) read tile `t % 32 + 1`, since tile 0 holds the 256 context tokens.
-/
module

public import proofs.«01_k».proof.Proof.Gen.KernelIdeal.Value
public import proofs.«01_k».proof.Proof.Merge.Block
public import Idealize.ShloMosaic.Lib.StableHlo.ReadAt
public import Idealize.ShloMosaic.Lib.Pipeline.ValueKit

@[expose] public section

noncomputable section

namespace Cert.Proof.Merge

open Idealize.ShloMosaic Idealize.ShloMosaic.TcCoe Cert.KernelIdeal Cert.KernelIdeal.Gen

variable (m : (ℓ : Loc nD τ sig) → Buf (Elt Ideal) ℓ) (c : Dev nD)

/-! ## The arguments the host code prepares -/

/-- The modulation rows of the image tokens are row 1 of the prepared array: the three thirds of `mod_x`. -/
theorem V11 (b : Fin 8) (r : Fin 3) (k : Fin 1024) :
    V m c main_v11 (ix4 b 1 r k) = m ((c : Thread nD τ).loc main_arg1) (ix2 b ⟨r.val * 1024 + k.val, by omega⟩) := by
  unfold V
  after_reads_at
  exact congrFun (StableHlo.upto_unwritten [main_v0, main_cst, main_v1] rfl (by decide) _) _

/-- The head norm's gain, repeated for the four heads. -/
theorem V15 (k : Fin 256) :
    V m c main_v15 (ix2 0 k) = m ((c : Thread nD τ).loc main_arg10) (ix1 ⟨k.val % 64, by omega⟩) := by
  unfold V
  after_reads_at

theorem V16 (i) : V m c main_v16 i = m ((c : Thread nD τ).loc main_arg3) i := by
  unfold V
  after_reads_at

theorem V17 (i) : V m c main_v17 i = m ((c : Thread nD τ).loc main_arg11) i := by
  unfold V
  after_reads_at

theorem V18 (i) : V m c main_v18 i = m ((c : Thread nD τ).loc main_arg12) i := by
  unfold V
  after_reads_at

theorem V19 (i) : V m c main_v19 i = m ((c : Thread nD τ).loc main_arg13) i := by
  unfold V
  after_reads_at

theorem V20 (k : Fin 1024) : V m c main_v20 (ix2 0 k) = m ((c : Thread nD τ).loc main_arg14) (ix1 k) := by
  unfold V
  after_reads_at

theorem V21 (k : Fin 1024) : V m c main_v21 (ix2 0 k) = m ((c : Thread nD τ).loc main_arg15) (ix1 k) := by
  unfold V
  after_reads_at

/-! ## The input blocks of a point -/

theorem index0 : ∀ t : Fin cfg0.N, win0_0.index t 0 = t.val / 32 ∧ win0_0.index t 1 = t.val % 32 + 1 ∧ win0_0.index t 2 = 0 :=
  (by decide +kernel : ∀ t : Fin grid0.N, _)

theorem blk0 (t : Fin cfg0.N) (r : Fin 256) (k : Fin 1024) (b : Fin 8) (T : Fin 8448) (hb : b.val = t.val / 32)
    (hT : T.val = (t.val % 32 + 1) * 256 + r.val) :
    iblk m c 0 t (ix3 0 r k) = m ((c : Thread nD τ).loc main_arg0) (ix3 b T k) := by
  rw [← V_main_arg0 m c]
  show V m c main_arg0 _ = V m c main_arg0 _
  refine congrArg _ (funext fun a => Fin.ext ?_)
  obtain ⟨h0, h1, h2⟩ := index0 t
  match a with
  | ⟨0, _⟩ => show win0_0.index t 0 * 1 + 1 * 0 = b.val; omega
  | ⟨1, _⟩ => show win0_0.index t 1 * 256 + 1 * r.val = T.val; omega
  | ⟨2, _⟩ => show win0_0.index t 2 * 1024 + 1 * k.val = k.val; omega

theorem index2 : ∀ t : Fin cfg0.N, win0_2.index t 0 = t.val / 32 ∧ win0_2.index t 1 = t.val % 32 + 1 ∧ win0_2.index t 2 = 0 :=
  (by decide +kernel : ∀ t : Fin grid0.N, _)

theorem blk2 (t : Fin cfg0.N) (r : Fin 256) (k : Fin 1024) (b : Fin 8) (T : Fin 8448) (hb : b.val = t.val / 32)
    (hT : T.val = (t.val % 32 + 1) * 256 + r.val) :
    iblk m c 2 t (ix3 0 r k) = m ((c : Thread nD τ).loc main_arg3) (ix3 b T k) := by
  rw [← V16 m c]
  show V m c main_v16 _ = V m c main_v16 _
  refine congrArg _ (funext fun a => Fin.ext ?_)
  obtain ⟨h0, h1, h2⟩ := index2 t
  match a with
  | ⟨0, _⟩ => show win0_2.index t 0 * 1 + 1 * 0 = b.val; omega
  | ⟨1, _⟩ => show win0_2.index t 1 * 256 + 1 * r.val = T.val; omega
  | ⟨2, _⟩ => show win0_2.index t 2 * 1024 + 1 * k.val = k.val; omega

theorem index3 : ∀ t : Fin cfg0.N, win0_3.index t 0 = t.val / 32 ∧ win0_3.index t 1 = t.val % 32 + 1 ∧ win0_3.index t 2 = 0 :=
  (by decide +kernel : ∀ t : Fin grid0.N, _)

theorem blk3 (t : Fin cfg0.N) (r : Fin 256) (k : Fin 1024) (b : Fin 8) (T : Fin 8448) (hb : b.val = t.val / 32)
    (hT : T.val = (t.val % 32 + 1) * 256 + r.val) :
    iblk m c 3 t (ix3 0 r k) = m ((c : Thread nD τ).loc main_arg4) (ix3 b T k) := by
  rw [← V_main_arg4 m c]
  show V m c main_arg4 _ = V m c main_arg4 _
  refine congrArg _ (funext fun a => Fin.ext ?_)
  obtain ⟨h0, h1, h2⟩ := index3 t
  match a with
  | ⟨0, _⟩ => show win0_3.index t 0 * 1 + 1 * 0 = b.val; omega
  | ⟨1, _⟩ => show win0_3.index t 1 * 256 + 1 * r.val = T.val; omega
  | ⟨2, _⟩ => show win0_3.index t 2 * 1024 + 1 * k.val = k.val; omega

theorem index4 : ∀ t : Fin cfg0.N, win0_4.index t 0 = t.val / 32 ∧ win0_4.index t 1 = t.val % 32 + 1 ∧ win0_4.index t 2 = 0 :=
  (by decide +kernel : ∀ t : Fin grid0.N, _)

theorem blk4 (t : Fin cfg0.N) (r : Fin 256) (k : Fin 256) (b : Fin 8) (T : Fin 8448) (hb : b.val = t.val / 32)
    (hT : T.val = (t.val % 32 + 1) * 256 + r.val) :
    iblk m c 4 t (ix3 0 r k) = m ((c : Thread nD τ).loc main_arg5) (ix3 b T k) := by
  rw [← V_main_arg5 m c]
  show V m c main_arg5 _ = V m c main_arg5 _
  refine congrArg _ (funext fun a => Fin.ext ?_)
  obtain ⟨h0, h1, h2⟩ := index4 t
  match a with
  | ⟨0, _⟩ => show win0_4.index t 0 * 1 + 1 * 0 = b.val; omega
  | ⟨1, _⟩ => show win0_4.index t 1 * 256 + 1 * r.val = T.val; omega
  | ⟨2, _⟩ => show win0_4.index t 2 * 256 + 1 * k.val = k.val; omega

theorem index5 : ∀ t : Fin cfg0.N, win0_5.index t 0 = t.val / 32 ∧ win0_5.index t 1 = t.val % 32 + 1 ∧ win0_5.index t 2 = 0 :=
  (by decide +kernel : ∀ t : Fin grid0.N, _)

theorem blk5 (t : Fin cfg0.N) (r : Fin 256) (k : Fin 256) (b : Fin 8) (T : Fin 8448) (hb : b.val = t.val / 32)
    (hT : T.val = (t.val % 32 + 1) * 256 + r.val) :
    iblk m c 5 t (ix3 0 r k) = m ((c : Thread nD τ).loc main_arg6) (ix3 b T k) := by
  rw [← V_main_arg6 m c]
  show V m c main_arg6 _ = V m c main_arg6 _
  refine congrArg _ (funext fun a => Fin.ext ?_)
  obtain ⟨h0, h1, h2⟩ := index5 t
  match a with
  | ⟨0, _⟩ => show win0_5.index t 0 * 1 + 1 * 0 = b.val; omega
  | ⟨1, _⟩ => show win0_5.index t 1 * 256 + 1 * r.val = T.val; omega
  | ⟨2, _⟩ => show win0_5.index t 2 * 256 + 1 * k.val = k.val; omega

theorem index6 : ∀ t : Fin cfg0.N, win0_6.index t 0 = t.val / 32 ∧ win0_6.index t 1 = t.val % 32 + 1 ∧ win0_6.index t 2 = 0 :=
  (by decide +kernel : ∀ t : Fin grid0.N, _)

theorem blk6 (t : Fin cfg0.N) (r : Fin 256) (k : Fin 256) (b : Fin 8) (T : Fin 8448) (hb : b.val = t.val / 32)
    (hT : T.val = (t.val % 32 + 1) * 256 + r.val) :
    iblk m c 6 t (ix3 0 r k) = m ((c : Thread nD τ).loc main_arg7) (ix3 b T k) := by
  rw [← V_main_arg7 m c]
  show V m c main_arg7 _ = V m c main_arg7 _
  refine congrArg _ (funext fun a => Fin.ext ?_)
  obtain ⟨h0, h1, h2⟩ := index6 t
  match a with
  | ⟨0, _⟩ => show win0_6.index t 0 * 1 + 1 * 0 = b.val; omega
  | ⟨1, _⟩ => show win0_6.index t 1 * 256 + 1 * r.val = T.val; omega
  | ⟨2, _⟩ => show win0_6.index t 2 * 256 + 1 * k.val = k.val; omega

theorem index7 : ∀ t : Fin cfg0.N, win0_7.index t 0 = t.val / 32 ∧ win0_7.index t 1 = t.val % 32 + 1 ∧ win0_7.index t 2 = 0 :=
  (by decide +kernel : ∀ t : Fin grid0.N, _)

theorem blk7 (t : Fin cfg0.N) (r : Fin 256) (k : Fin 256) (b : Fin 8) (T : Fin 8448) (hb : b.val = t.val / 32)
    (hT : T.val = (t.val % 32 + 1) * 256 + r.val) :
    iblk m c 7 t (ix3 0 r k) = m ((c : Thread nD τ).loc main_arg8) (ix3 b T k) := by
  rw [← V_main_arg8 m c]
  show V m c main_arg8 _ = V m c main_arg8 _
  refine congrArg _ (funext fun a => Fin.ext ?_)
  obtain ⟨h0, h1, h2⟩ := index7 t
  match a with
  | ⟨0, _⟩ => show win0_7.index t 0 * 1 + 1 * 0 = b.val; omega
  | ⟨1, _⟩ => show win0_7.index t 1 * 256 + 1 * r.val = T.val; omega
  | ⟨2, _⟩ => show win0_7.index t 2 * 256 + 1 * k.val = k.val; omega

theorem index8 : ∀ t : Fin cfg0.N, win0_8.index t 0 = t.val / 32 ∧ win0_8.index t 1 = t.val % 32 + 1 ∧ win0_8.index t 2 = 0 :=
  (by decide +kernel : ∀ t : Fin grid0.N, _)

theorem blk8 (t : Fin cfg0.N) (r : Fin 256) (k : Fin 256) (b : Fin 8) (T : Fin 8448) (hb : b.val = t.val / 32)
    (hT : T.val = (t.val % 32 + 1) * 256 + r.val) :
    iblk m c 8 t (ix3 0 r k) = m ((c : Thread nD τ).loc main_arg9) (ix3 b T k) := by
  rw [← V_main_arg9 m c]
  show V m c main_arg9 _ = V m c main_arg9 _
  refine congrArg _ (funext fun a => Fin.ext ?_)
  obtain ⟨h0, h1, h2⟩ := index8 t
  match a with
  | ⟨0, _⟩ => show win0_8.index t 0 * 1 + 1 * 0 = b.val; omega
  | ⟨1, _⟩ => show win0_8.index t 1 * 256 + 1 * r.val = T.val; omega
  | ⟨2, _⟩ => show win0_8.index t 2 * 256 + 1 * k.val = k.val; omega

theorem index1 : ∀ t : Fin cfg0.N, win0_1.index t 0 = t.val / 32 ∧ win0_1.index t 1 = 1 ∧ win0_1.index t 2 = 0 ∧ win0_1.index t 3 = 0 :=
  (by decide +kernel : ∀ t : Fin grid0.N, _)

theorem blk1 (t : Fin cfg0.N) (r : Fin 3) (k : Fin 1024) (b : Fin 8) (hb : b.val = t.val / 32) :
    iblk m c 1 t (ix4 0 0 r k) = m ((c : Thread nD τ).loc main_arg1) (ix2 b ⟨r.val * 1024 + k.val, by omega⟩) := by
  rw [← V11 m c]
  show V m c main_v11 _ = V m c main_v11 _
  refine congrArg _ (funext fun a => Fin.ext ?_)
  obtain ⟨h0, h1, h2, h3⟩ := index1 t
  match a with
  | ⟨0, _⟩ => show win0_1.index t 0 * 1 + 1 * 0 = b.val; omega
  | ⟨1, _⟩ => show win0_1.index t 1 * 1 + 1 * 0 = 1; omega
  | ⟨2, _⟩ => show win0_1.index t 2 * 3 + 1 * r.val = r.val; omega
  | ⟨3, _⟩ => show win0_1.index t 3 * 1024 + 1 * k.val = k.val; omega

theorem index9 : ∀ t : Fin cfg0.N, win0_9.index t 0 = 0 ∧ win0_9.index t 1 = 0 :=
  (by decide +kernel : ∀ t : Fin grid0.N, _)

theorem blk9 (t : Fin cfg0.N) (i1 : Fin 256) :
    iblk m c 9 t (ix2 0 i1) = m ((c : Thread nD τ).loc main_arg10) (ix1 ⟨i1.val % 64, by omega⟩) := by
  rw [← V15 m c]
  show V m c main_v15 _ = V m c main_v15 _
  refine congrArg _ (funext fun a => Fin.ext ?_)
  obtain ⟨h0, h1⟩ := index9 t
  match a with
  | ⟨0, _⟩ => show win0_9.index t 0 * 1 + 1 * 0 = 0; omega
  | ⟨1, _⟩ => show win0_9.index t 1 * 256 + 1 * i1.val = i1.val; omega

theorem index10 : ∀ t : Fin cfg0.N, win0_10.index t 0 = 0 ∧ win0_10.index t 1 = 0 ∧ win0_10.index t 2 = 0 :=
  (by decide +kernel : ∀ t : Fin grid0.N, _)

theorem blk10 (t : Fin cfg0.N) (i0 : Fin 4) (i1 : Fin 1024) (i2 : Fin 1024) :
    iblk m c 10 t (ix3 i0 i1 i2) = m ((c : Thread nD τ).loc main_arg11) (ix3 i0 i1 i2) := by
  rw [← V17 m c]
  show V m c main_v17 _ = V m c main_v17 _
  refine congrArg _ (funext fun a => Fin.ext ?_)
  obtain ⟨h0, h1, h2⟩ := index10 t
  match a with
  | ⟨0, _⟩ => show win0_10.index t 0 * 4 + 1 * i0.val = i0.val; omega
  | ⟨1, _⟩ => show win0_10.index t 1 * 1024 + 1 * i1.val = i1.val; omega
  | ⟨2, _⟩ => show win0_10.index t 2 * 1024 + 1 * i2.val = i2.val; omega

theorem index11 : ∀ t : Fin cfg0.N, win0_11.index t 0 = 0 ∧ win0_11.index t 1 = 0 ∧ win0_11.index t 2 = 0 :=
  (by decide +kernel : ∀ t : Fin grid0.N, _)

theorem blk11 (t : Fin cfg0.N) (i0 : Fin 4) (i1 : Fin 256) (i2 : Fin 1024) :
    iblk m c 11 t (ix3 i0 i1 i2) = m ((c : Thread nD τ).loc main_arg12) (ix3 i0 i1 i2) := by
  rw [← V18 m c]
  show V m c main_v18 _ = V m c main_v18 _
  refine congrArg _ (funext fun a => Fin.ext ?_)
  obtain ⟨h0, h1, h2⟩ := index11 t
  match a with
  | ⟨0, _⟩ => show win0_11.index t 0 * 4 + 1 * i0.val = i0.val; omega
  | ⟨1, _⟩ => show win0_11.index t 1 * 256 + 1 * i1.val = i1.val; omega
  | ⟨2, _⟩ => show win0_11.index t 2 * 1024 + 1 * i2.val = i2.val; omega

theorem index12 : ∀ t : Fin cfg0.N, win0_12.index t 0 = 0 ∧ win0_12.index t 1 = 0 :=
  (by decide +kernel : ∀ t : Fin grid0.N, _)

theorem blk12 (t : Fin cfg0.N) (i0 : Fin 1024) (i1 : Fin 1024) :
    iblk m c 12 t (ix2 i0 i1) = m ((c : Thread nD τ).loc main_arg13) (ix2 i0 i1) := by
  rw [← V19 m c]
  show V m c main_v19 _ = V m c main_v19 _
  refine congrArg _ (funext fun a => Fin.ext ?_)
  obtain ⟨h0, h1⟩ := index12 t
  match a with
  | ⟨0, _⟩ => show win0_12.index t 0 * 1024 + 1 * i0.val = i0.val; omega
  | ⟨1, _⟩ => show win0_12.index t 1 * 1024 + 1 * i1.val = i1.val; omega

theorem index13 : ∀ t : Fin cfg0.N, win0_13.index t 0 = 0 ∧ win0_13.index t 1 = 0 :=
  (by decide +kernel : ∀ t : Fin grid0.N, _)

theorem blk13 (t : Fin cfg0.N) (i1 : Fin 1024) :
    iblk m c 13 t (ix2 0 i1) = m ((c : Thread nD τ).loc main_arg14) (ix1 i1) := by
  rw [← V20 m c]
  show V m c main_v20 _ = V m c main_v20 _
  refine congrArg _ (funext fun a => Fin.ext ?_)
  obtain ⟨h0, h1⟩ := index13 t
  match a with
  | ⟨0, _⟩ => show win0_13.index t 0 * 1 + 1 * 0 = 0; omega
  | ⟨1, _⟩ => show win0_13.index t 1 * 1024 + 1 * i1.val = i1.val; omega

theorem index14 : ∀ t : Fin cfg0.N, win0_14.index t 0 = 0 ∧ win0_14.index t 1 = 0 :=
  (by decide +kernel : ∀ t : Fin grid0.N, _)

theorem blk14 (t : Fin cfg0.N) (i1 : Fin 1024) :
    iblk m c 14 t (ix2 0 i1) = m ((c : Thread nD τ).loc main_arg15) (ix1 i1) := by
  rw [← V21 m c]
  show V m c main_v21 _ = V m c main_v21 _
  refine congrArg _ (funext fun a => Fin.ext ?_)
  obtain ⟨h0, h1⟩ := index14 t
  match a with
  | ⟨0, _⟩ => show win0_14.index t 0 * 1 + 1 * 0 = 0; omega
  | ⟨1, _⟩ => show win0_14.index t 1 * 1024 + 1 * i1.val = i1.val; omega

/-! ## The result array -/

theorem index15 : ∀ t : Fin cfg0.N, win0_15.index t 0 = t.val / 32 ∧ win0_15.index t 1 = t.val % 32 ∧ win0_15.index t 2 = 0 :=
  (by decide +kernel : ∀ t : Fin grid0.N, _)

/-- Every element of the result lies in a block that some point writes back. -/
theorem covers15 : (cfg0.win 15).Covers := by decide +kernel

/-- The image token `t` among all tokens: the 256 context tokens come first. -/
def tokRow (t : Fin 8192) : Fin 8448 := ⟨256 + t.val, by omega⟩

/-- The value of the result at batch `b`, image token `t`, channel `n`, in terms of the arguments. -/
def value (b : Fin 8) (t : Fin 8192) (n : Fin 1024) : EReal :=
  token (fun k => m ((c : Thread nD τ).loc main_arg0) (ix3 b (tokRow t) k))
    (fun k => m ((c : Thread nD τ).loc main_arg1) (ix2 b ⟨2048 + k.val, by omega⟩))
    (fun k => m ((c : Thread nD τ).loc main_arg3) (ix3 b (tokRow t) k))
    (fun k => m ((c : Thread nD τ).loc main_arg4) (ix3 b (tokRow t) k))
    (fun k => m ((c : Thread nD τ).loc main_arg5) (ix3 b (tokRow t) k))
    (fun k => m ((c : Thread nD τ).loc main_arg6) (ix3 b (tokRow t) k))
    (fun k => m ((c : Thread nD τ).loc main_arg7) (ix3 b (tokRow t) k))
    (normed (fun k => (show EReal from m ((c : Thread nD τ).loc main_arg8) (ix3 b (tokRow t) k))
        + (show EReal from m ((c : Thread nD τ).loc main_arg9) (ix3 b (tokRow t) k)))
      (fun k => m ((c : Thread nD τ).loc main_arg10) (ix1 k)))
    (fun i a e => m ((c : Thread nD τ).loc main_arg11) (ix3 i a e))
    (fun i a e => m ((c : Thread nD τ).loc main_arg12) (ix3 i a e))
    (fun a e => m ((c : Thread nD τ).loc main_arg13) (ix2 a e))
    (fun k => m ((c : Thread nD τ).loc main_arg14) (ix1 k))
    (fun k => m ((c : Thread nD τ).loc main_arg15) (ix1 k)) n

/-- The two state arrays hold real numbers. -/
def RealStates : Prop :=
  (∀ i, ∃ a : ℝ, m ((c : Thread nD τ).loc main_arg8) i = (a : EReal)) ∧ (∀ i, ∃ a : ℝ, m ((c : Thread nD τ).loc main_arg9) i = (a : EReal))

/-- What point `t` leaves in its output block. -/
theorem point (hr : RealStates m c) (t : Fin cfg0.N) (r : Fin 256) (n : Fin 1024) (b : Fin 8) (T : Fin 8192)
    (hb : b.val = t.val / 32) (hT : T.val = t.val % 32 * 256 + r.val) :
    out0_15 (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) (iblk m c 13 t) (iblk m c 14 t) (ix3 0 r n)
      = value m c b T n := by
  have hT' : (tokRow T).val = (t.val % 32 + 1) * 256 + r.val := by simp only [tokRow]; omega
  rw [block]
  have hs : ∀ k, k0_pay3 (iblk m c 7 t) (iblk m c 8 t) (ix2 r k)
      = (show EReal from m ((c : Thread nD τ).loc main_arg8) (ix3 b (tokRow T) k))
        + (show EReal from m ((c : Thread nD τ).loc main_arg9) (ix3 b (tokRow T) k)) := by
    intro k
    rw [← blk7 m c t r k b _ hb hT', ← blk8 m c t r k b _ hb hT']
    pointwise [k0_pay3]
  have hy : (fun k => k0_pay8 (k0_pay3 (iblk m c 7 t) (iblk m c 8 t)) (k0_pay4 (iblk m c 7 t) (iblk m c 8 t)) k0_pay5
        (iota .tc S256x256 32 [1] iota_S256x256_d1_w32) 64#32 k0_pay6 k0_pay7 0#32 (iblk m c 9 t) (ix2 r k))
      = normed (fun k => (show EReal from m ((c : Thread nD τ).loc main_arg8) (ix3 b (tokRow T) k))
          + (show EReal from m ((c : Thread nD τ).loc main_arg9) (ix3 b (tokRow T) k)))
        (fun k => m ((c : Thread nD τ).loc main_arg10) (ix1 k)) := by
    funext k
    refine (pay8_apply _ _ (fun k => m ((c : Thread nD τ).loc main_arg10) (ix1 k)) (fun k => blk9 m c t k) r k ?_).trans ?_
    · intro k
      obtain ⟨a, ha⟩ := hr.1 (ix3 b (tokRow T) k)
      obtain ⟨a', ha'⟩ := hr.2 (ix3 b (tokRow T) k)
      exact ⟨a + a', by rw [hs, ha, ha']; exact (EReal.coe_add _ _).symm⟩
    · simp only [hs]
  rw [hy]
  unfold value
  simp only [blk0 m c t r _ b _ hb hT', blk2 m c t r _ b _ hb hT', blk3 m c t r _ b _ hb hT', blk4 m c t r _ b _ hb hT',
    blk5 m c t r _ b _ hb hT', blk6 m c t r _ b _ hb hT', blk1 m c t _ _ b hb, blk10, blk11, blk12, blk13, blk14]
  rfl

/-- The result array after the run. -/
theorem array (hr : RealStates m c) :
    (dats m 0 c).arrAt 15 cfg0.N = fun i => value m c (i 0) (i 1) (i 2) := by
  refine (dats m 0 c).arrAt_eq_of_covers 15 _ covers15 fun t _ y => ?_
  obtain ⟨h0, h1, h2⟩ := index15 t
  have ht : t.val < 256 := t.isLt
  have e : y = ix3 0 (y 1) (y 2) := by
    funext a
    match a with
    | ⟨0, _⟩ => exact Fin.ext (by have := (y 0).isLt; show (y 0).val = 0; change (y 0).val < 1 at this; omega)
    | ⟨1, _⟩ => rfl
    | ⟨2, _⟩ => rfl
  have q2 : (((cfg0.win 15).blk t).view.emb y) 2 = y 2 := Fin.ext (by
    show win0_15.index t 2 * 1024 + 1 * (y 2).val = (y 2).val; omega)
  show (dats m 0 c).after 15 t y = _
  rw [after0_15]
  refine ((congrArg _ e).trans (point m c hr t (y 1) (y 2) ((((cfg0.win 15).blk t).view.emb y) 0) ((((cfg0.win 15).blk t).view.emb y) 1) ?_ ?_)).trans ?_
  · show win0_15.index t 0 * 1 + 1 * (y 0).val = _
    have : (y 0).val < 1 := (y 0).isLt
    omega
  · show win0_15.index t 1 * 256 + 1 * (y 1).val = _
    omega
  · show value m c _ _ (y 2) = value m c _ _ _
    rw [q2]

end Cert.Proof.Merge

end
-- ==== Proof.Merge.Reference.lean ====
/-
  The reference at an index of its result: one token's step (Spec.lean), the operations of its program read one after another.
-/
module

public import proofs.«01_k».proof.Proof.Gen.ReferenceIdeal.Read
public import proofs.«01_k».proof.Proof.Merge.Spec
public import Idealize.ShloMosaic.Lib.Pointwise

@[expose] public section

noncomputable section

namespace Cert.Proof.Merge

open Idealize.ShloMosaic Cert.ReferenceIdeal Cert.ReferenceIdeal.Gen Cert.ReferenceIdeal.Read

/-- A token of the result, among all tokens: the first 256 are context. -/
def tok (t : Fin 8192) : Fin 8448 := ⟨256 + t.val, by have := t.isLt; omega⟩

variable (x0 x3 x4 : FVec Ideal S8x8448x1024 .f32) (x1 : FVec Ideal S8x3072 .f32) (x5 x6 x7 x8 x9 : FVec Ideal S8x8448x256 .f32)
  (x10 : FVec Ideal S64 .f32) (x11 : FVec Ideal S4x1024x1024 .f32) (x12 : FVec Ideal S4x256x1024 .f32)
  (x13 : FVec Ideal S1024x1024 .f32) (x14 x15 : FVec Ideal S1024 .f32)

/-- The recurrent branch, normalised. -/
theorem ref_normed (b : Fin 8) (t : Fin 8192) (c : Fin 256) :
    val_main_v27 (F := Ideal) x8 x9 x10 (ix3 b t c)
      = normed (fun k => x8 (ix3 b (tok t) k) + x9 (ix3 b (tok t) k)) (fun k => x10 (ix1 k)) c := by
  pointwise [val_main_v12, val_main_v13, val_main_v14, val_main_v15, val_main_v16, val_main_v17, val_main_v18, val_main_v19, val_main_v20, val_main_v21, val_main_v22, val_main_v23, val_main_v24, val_main_v25, val_main_v26, val_main_v27, val_main_v6, val_main_v7, val_main_call0_cst, val_main_call0_cst_0, val_main_call0_v0, val_main_call0_v1, val_main_call0_v2, val_main_call0_v3, val_main_call0_v4, val_main_call0_v5, val_main_cst, val_main_cst_0, val_main_cst_1, val_main_cst_10, val_main_cst_11, val_main_cst_12, val_main_cst_13, val_main_cst_14, val_main_cst_15, val_main_cst_2, val_main_cst_3, val_main_cst_4, val_main_cst_5, val_main_cst_6, val_main_cst_7, val_main_cst_8, val_main_cst_9]
  rfl

/-- The gates. -/
theorem ref_silu (b : Fin 8) (t : Fin 8192) (n : Fin 1024) :
    val_main_v28 (F := Ideal) x4 (ix3 b t n) = x4 (ix3 b (tok t) n) * sg (x4 (ix3 b (tok t) n)) := by
  pointwise [val_main_v2, val_main_v28, val_main_call0_cst, val_main_call0_cst_0, val_main_call0_v0, val_main_call0_v1, val_main_call0_v2, val_main_call0_v3, val_main_call0_v4, val_main_call0_v5, val_main_cst, val_main_cst_0, val_main_cst_1, val_main_cst_10, val_main_cst_11, val_main_cst_12, val_main_cst_13, val_main_cst_14, val_main_cst_15, val_main_cst_2, val_main_cst_3, val_main_cst_4, val_main_cst_5, val_main_cst_6, val_main_cst_7, val_main_cst_8, val_main_cst_9]
  rfl

theorem ref_merged (b : Fin 8) (t : Fin 8192) (n : Fin 1024) :
    val_main_v91 (F := Ideal) x3 x4 x5 x6 x7 x8 x9 x10 x11 x12 (ix3 b t n)
      = merged (fun k => x3 (ix3 b (tok t) k)) (fun k => x4 (ix3 b (tok t) k)) (fun k => x5 (ix3 b (tok t) k)) (fun k => x6 (ix3 b (tok t) k))
          (fun k => x7 (ix3 b (tok t) k)) (normed (fun k => x8 (ix3 b (tok t) k) + x9 (ix3 b (tok t) k)) (fun k => x10 (ix1 k)))
          (fun i a d => x11 (ix3 i a d)) (fun i a d => x12 (ix3 i a d)) n := by
  pointwise [val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_v73, val_main_v74, val_main_v75, val_main_v76, val_main_v77, val_main_v78, val_main_v79, val_main_v80, val_main_v81, val_main_v82, val_main_v83, val_main_v84, val_main_v85, val_main_v86, val_main_v87, val_main_v88, val_main_v89, val_main_v90, val_main_v91, val_main_v1, val_main_v3, val_main_v4, val_main_v5, ref_normed, ref_silu, val_main_call0_cst, val_main_call0_cst_0, val_main_call0_v0, val_main_call0_v1, val_main_call0_v2, val_main_call0_v3, val_main_call0_v4, val_main_call0_v5, val_main_cst, val_main_cst_0, val_main_cst_1, val_main_cst_10, val_main_cst_11, val_main_cst_12, val_main_cst_13, val_main_cst_14, val_main_cst_15, val_main_cst_2, val_main_cst_3, val_main_cst_4, val_main_cst_5, val_main_cst_6, val_main_cst_7, val_main_cst_8, val_main_cst_9]
  have q0 (k : Fin 256) : quarter 0 k = ⟨k.val, by omega⟩ := Fin.ext (by simp [quarter])
  simp only [merged, term, q0]
  rfl

theorem ref_resid (b : Fin 8) (t : Fin 8192) (n : Fin 1024) :
    val_main_v97 (F := Ideal) x0 x1 x3 x4 x5 x6 x7 x8 x9 x10 x11 x12 x13 (ix3 b t n)
      = resid (fun k => x0 (ix3 b (tok t) k)) (fun k => x1 (ix2 b ⟨2048 + k.val, by omega⟩))
          (fun k => val_main_v91 (F := Ideal) x3 x4 x5 x6 x7 x8 x9 x10 x11 x12 (ix3 b t k)) (fun a d => x13 (ix2 a d)) n := by
  pointwise [val_main_v92, val_main_v93, val_main_v94, val_main_v95, val_main_v96, val_main_v97, val_main_v0, val_main_v8, val_main_v9, val_main_v11, val_main_call0_cst, val_main_call0_cst_0, val_main_call0_v0, val_main_call0_v1, val_main_call0_v2, val_main_call0_v3, val_main_call0_v4, val_main_call0_v5, val_main_cst, val_main_cst_0, val_main_cst_1, val_main_cst_10, val_main_cst_11, val_main_cst_12, val_main_cst_13, val_main_cst_14, val_main_cst_15, val_main_cst_2, val_main_cst_3, val_main_cst_4, val_main_cst_5, val_main_cst_6, val_main_cst_7, val_main_cst_8, val_main_cst_9]
  rfl

theorem ref_lnorm (b : Fin 8) (t : Fin 8192) (n : Fin 1024) :
    val_main_v121 (F := Ideal) x0 x1 x3 x4 x5 x6 x7 x8 x9 x10 x11 x12 x13 x14 x15 (ix3 b t n)
      = lnorm (fun k => val_main_v97 (F := Ideal) x0 x1 x3 x4 x5 x6 x7 x8 x9 x10 x11 x12 x13 (ix3 b t k)) (fun k => x14 (ix1 k))
          (fun k => x15 (ix1 k)) n := by
  pointwise [val_main_v98, val_main_v99, val_main_v100, val_main_v101, val_main_v102, val_main_v103, val_main_v104, val_main_v105, val_main_v106, val_main_v107, val_main_v108, val_main_v109, val_main_v110, val_main_v111, val_main_v112, val_main_v113, val_main_v114, val_main_v115, val_main_v116, val_main_v117, val_main_v118, val_main_v119, val_main_v120, val_main_v121, val_main_call0_cst, val_main_call0_cst_0, val_main_call0_v0, val_main_call0_v1, val_main_call0_v2, val_main_call0_v3, val_main_call0_v4, val_main_call0_v5, val_main_cst, val_main_cst_0, val_main_cst_1, val_main_cst_10, val_main_cst_11, val_main_cst_12, val_main_cst_13, val_main_cst_14, val_main_cst_15, val_main_cst_2, val_main_cst_3, val_main_cst_4, val_main_cst_5, val_main_cst_6, val_main_cst_7, val_main_cst_8, val_main_cst_9]
  rfl

/-- The reference's result at an index. -/
theorem ref_apply (b : Fin 8) (t : Fin 8192) (n : Fin 1024) :
    val_main_v121 (F := Ideal) x0 x1 x3 x4 x5 x6 x7 x8 x9 x10 x11 x12 x13 x14 x15 (ix3 b t n)
      = token (fun k => x0 (ix3 b (tok t) k)) (fun k => x1 (ix2 b ⟨2048 + k.val, by omega⟩)) (fun k => x3 (ix3 b (tok t) k))
          (fun k => x4 (ix3 b (tok t) k)) (fun k => x5 (ix3 b (tok t) k)) (fun k => x6 (ix3 b (tok t) k)) (fun k => x7 (ix3 b (tok t) k))
          (normed (fun k => x8 (ix3 b (tok t) k) + x9 (ix3 b (tok t) k)) (fun k => x10 (ix1 k)))
          (fun i a d => x11 (ix3 i a d)) (fun i a d => x12 (ix3 i a d)) (fun a d => x13 (ix2 a d))
          (fun k => x14 (ix1 k)) (fun k => x15 (ix1 k)) n := by
  rw [ref_lnorm]
  simp only [ref_resid, ref_merged]
  rfl

end Cert.Proof.Merge

end
-- ==== Proof.Merge.Claims.lean ====
/-
  The claims about the merge call: the frames, and the equality of its result with the reference's over the reals.
-/
module

public import proofs.«01_k».proof.Defs
public import proofs.«01_k».proof.Proof.Gen.Kernel
public import proofs.«01_k».proof.Proof.Gen.Kernel.Frame
public import proofs.«01_k».proof.Proof.Gen.Pre_finite_states
public import proofs.«01_k».proof.Proof.Merge.Array
public import proofs.«01_k».proof.Proof.Merge.Reference
public import Idealize.ShloMosaic.Lib.ReduceAll
public import Idealize.ShloMosaic.Lib.Quiescent

@[expose] public section

noncomputable section

namespace Cert.Proof.Merge

open Idealize.ShloMosaic Idealize.ShloMosaic.TcCoe Idealize.SL.Sem

/-- A number whose absolute value is below the infinity is a real. -/
theorem real_of_abs_lt (x : EReal)
    (h : FloatOps.cmpf (F := Ideal) (φ := .f32) .olt (FloatOps.hostAbsf (F := Ideal) (φ := .f32) x) (Ideal.ofBits .f32 0x7F800000#32) = 1#1) :
    ∃ a : ℝ, x = (a : EReal) := by
  have hi : Ideal.ofBits .f32 0x7F800000#32 = (⊤ : EReal) := by simp [Ideal.ofBits, Ideal.ieee]
  rw [hi] at h
  induction x with
  | coe a => exact ⟨a, rfl⟩
  | bot => exfalso; revert h; simp [FloatOps.cmpf, FloatOps.hostAbsf, Ideal.cmp]
  | top => exfalso; revert h; simp [FloatOps.cmpf, FloatOps.hostAbsf, Ideal.cmp]

/-- What the precondition says of the two state arrays. -/
theorem realStates (m : (ℓ : Loc Cert.KernelIdeal.nD Cert.KernelIdeal.τ Cert.KernelIdeal.sig) → Buf (Elt Ideal) ℓ)
    (h : Cert.Pre_KernelIdeal_finite_states m) (c : Dev Cert.KernelIdeal.nD) : RealStates m c := by
  have h0 := congrFun (h c) (fun a => a.elim0)
  have h2 := IntOp.andi_eq_one.1 h0
  haveI : Subsingleton Cert.Pre_finite_states.S_.Idx := ⟨fun a b => funext fun i => i.elim0⟩
  exact ⟨fun i => real_of_abs_lt _ (Host.reduce_andi_all _ _ _ _ _ h2.1 i), fun i => real_of_abs_lt _ (Host.reduce_andi_all _ _ _ _ _ h2.2 i)⟩

theorem frame_p : Cert.quiescent_Kernel := fun m ρ _ => Cert.Kernel.Gen.frame m ρ
theorem frame_pi : Cert.quiescent_KernelIdeal := fun m ρ _ => Cert.KernelIdeal.Gen.frame m ρ
theorem frame_pi_pre : Cert.quiescent_KernelIdeal_pre_finite_states := fun m ρ _ => Cert.KernelIdeal.Gen.frame m ρ
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)
theorem frame_ri_pre : Cert.quiescent_ReferenceIdeal_pre_finite_states := fun m ρ _ => frame_ri m ρ trivial

theorem preserves : Cert.preserves_Kernel_KernelIdeal := trivial

/-- With real states the call's result is the reference's, element by element. -/
theorem algebraic : Cert.algebraic_KernelIdeal_ReferenceIdeal_pre_finite_states := by
  intro m ρ m' ρ' hpre hagree
  refine ⟨fun c => fun i => value m c (i 0) (i 1) (i 2), ?_, ?_⟩
  · exact (θ_run Cert.KernelIdeal.defs _ _).mono
      (fun _ h c => ⟨(h c).1.trans (array m c (realStates m hpre c)), (h c).2⟩)
      (Cert.KernelIdeal.Value.run_blocks (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9, e10, e11, e12, e13, e14, e15⟩ := hagree c
    refine (Cert.ReferenceIdeal.Read.val_main_v121_eq m' c).trans ?_
    rw [e0, e1, e3, e4, e5, e6, e7, e8, e9, e10, e11, e12, e13, e14, e15]
    funext i
    exact (congrArg _ (eq_ix3 i)).trans (ref_apply _ _ _ _ _ _ _ _ _ _ _ _ _ _ _ (i 0) (i 1) (i 2))

end Cert.Proof.Merge

end
-- ==== Proof.Mla.Steps.lean ====
/- The steps of the running softmax, each written once over the head and the tiles it reads. -/
module

public import proofs.«01_k».proof.Proof.Gen.Kernel2Ideal

@[expose] public section

noncomputable section

namespace Cert.Mla

open Idealize.ShloMosaic Idealize.ShloMosaic.TcCoe Idealize.SL.Sem
open Cert.Kernel2Ideal Cert.Kernel2Ideal.Gen

variable {F : FTy → Type} [FloatOps F]

/-- A tile of scores: keys along the rows, queries along the columns. -/
abbrev Sc (F : FTy → Type) := FVec F S256x256 .f32
/-- The score tiles computed ahead of use. -/
abbrev Ahead (F : FTy → Type) := Sc F × Sc F × Sc F × Sc F × Sc F

theorem inb6 (h : Fin 4) : ∀ a, (![h.val, 0, 0] : Fin 3 → Nat) a + S1x128x256.size a ≤ S4x128x256.size a := by
  fin_cases h <;> decide
theorem inb7 (h : Fin 4) : ∀ a, (![h.val, 0, 0] : Fin 3 → Nat) a + S1x1x256.size a ≤ S4x1x256.size a := by
  fin_cases h <;> decide
theorem inb8 (h : Fin 4) : ∀ a, (![h.val, 0, 0] : Fin 3 → Nat) a + S1x80x256.size a ≤ S4x80x256.size a := by
  fin_cases h <;> decide

/-- The scores of one tile of keys against the queries of head `h`. -/
def scoreP (arg3 : Memref sig .tc .vmem S1x8448x512 .bf16) (arg6 : Memref sig .tc .vmem S4x128x256 .bf16) (h : Fin 4)
    (off : Fin 3 → Nat) (ho : ∀ a, off a + S1x256x128.size a ≤ S1x8448x512.size a) :
    Prog (TpuEff nD τ sig (Elt F) Λ₀ .tc) (Sc F) :=
  .op (.load arg3 (Rect.unit (s := S1x8448x512) off S1x256x128.size ho).toLoadRect (View.loadsAt_vmem h_S1x256x128)) fun k =>
  .op (.load arg6 (Rect.unit (s := S4x128x256) ![h.val, 0, 0] S1x128x256.size (inb6 h)).toLoadRect (View.loadsAt_vmem h_S1x128x256)) fun q =>
  .ret (matmul dot_S256x128_S128x256_S256x256_1_0_0_1_n_n none (shapeCast S256x128 k shapeCasts_S1x256x128_S256x128)
    (shapeCast S128x256 q shapeCasts_S1x128x256_S128x256) (constant S256x256 .f32 0x00000000#32))

/-- The largest score so far. -/
def newM (s : Sc F) (mo : Vec F S1x1x256 .f32) : FVec F S1x256 .f32 :=
  maximumf (shapeCast S1x256 mo shapeCasts_S1x1x256_S1x256)
    (shapeCast S1x256 (multiReduction .maximumf [0] S256 s 0xFF800000#32 reduces_S256x256_S256 (.inl rfl) rfl) shapeCasts_S256_S1x256)

/-- The accumulator rescaled, plus the tile's contribution. -/
def newA (s : Sc F) (mo : Vec F S1x1x256 .f32) (v : Vec F S1x1x80x256 .bf16) (ao : Vec F S1x80x256 .f32) : FVec F S80x256 .f32 :=
  addf (mulf (broadcastTo S80x256 (exp2 (subf (shapeCast S1x256 mo shapeCasts_S1x1x256_S1x256) (newM s mo))) broadcasts_S1x256_S80x256)
      (shapeCast S80x256 ao shapeCasts_S1x80x256_S80x256))
    (matmul dot_S80x256_S256x256_S80x256_1_0_0_1_n_n none (shapeCast S80x256 v shapeCasts_S1x1x80x256_S80x256)
      (truncf .bf16 (exp2 (subf s (broadcastTo S256x256 (newM s mo) broadcasts_S1x256_S256x256))) bitsLt_bf16_f32)
      (constant S80x256 .f32 0x00000000#32))

/-- One step of the running softmax of head `h`, on the scores `s` and the values at `off`. -/
def flashP {α : Type} (arg4 : Memref sig .tc .vmem S1x33x320x256 .bf16) (arg7 : Memref sig .tc .vmem S4x1x256 .f32)
    (arg8 : Memref sig .tc .vmem S4x80x256 .f32) (h : Fin 4) (off : Fin 4 → Nat)
    (ho : ∀ a, off a + S1x1x80x256.size a ≤ S1x33x320x256.size a) (s : Sc F)
    (k : Prog (TpuEff nD τ sig (Elt F) Λ₀ .tc) α) : Prog (TpuEff nD τ sig (Elt F) Λ₀ .tc) α :=
  .op (.load arg7 (Rect.unit (s := S4x1x256) ![h.val, 0, 0] S1x1x256.size (inb7 h)).toLoadRect (View.loadsAt_vmem h_S1x1x256)) fun mo =>
  .op (.load arg4 (Rect.unit (s := S1x33x320x256) off S1x1x80x256.size ho).toLoadRect (View.loadsAt_vmem h_S1x1x80x256)) fun v =>
  .op (.load arg8 (Rect.unit (s := S4x80x256) ![h.val, 0, 0] S1x80x256.size (inb8 h)).toLoadRect (View.loadsAt_vmem h_S1x80x256)) fun ao =>
  .op (.load arg8 (Rect.unit (s := S4x80x256) ![h.val, 0, 0] S1x80x256.size (inb8 h)).toLoadRect (View.loadsAt_vmem h_S1x80x256)) fun _ =>
  .op (.store arg8 (Rect.unit (s := S4x80x256) ![h.val, 0, 0] S1x80x256.size (inb8 h))
    (shapeCast S1x80x256 (newA s mo v ao) shapeCasts_S80x256_S1x80x256) Finset.univ (View.stores_vmem_bits_univ h_S1x80x256 rfl) (.inl rfl)) fun _ =>
  .op (.load arg7 (Rect.unit (s := S4x1x256) ![h.val, 0, 0] S1x1x256.size (inb7 h)).toLoadRect (View.loadsAt_vmem h_S1x1x256)) fun _ =>
  .op (.store arg7 (Rect.unit (s := S4x1x256) ![h.val, 0, 0] S1x1x256.size (inb7 h))
    (shapeCast S1x1x256 (newM s mo) shapeCasts_S1x256_S1x1x256) Finset.univ (View.stores_vmem_bits_univ h_S1x1x256 rfl) (.inl rfl)) fun _ => k

/-- The four heads on tile `r` of the trip, scores five steps ahead. -/
def tileP {α : Type} (i : grid0.Coords) (arg3 : Memref sig .tc .vmem S1x8448x512 .bf16) (arg4 : Memref sig .tc .vmem S1x33x320x256 .bf16)
    (arg6 : Memref sig .tc .vmem S4x128x256 .bf16) (arg7 : Memref sig .tc .vmem S4x1x256 .f32) (arg8 : Memref sig .tc .vmem S4x80x256 .f32)
    (t : Fin (k0_t1_loop i).trips) (r : Fin 32) (S : Ahead F) (k : Ahead F → Prog (TpuEff nD τ sig (Elt F) Λ₀ .tc) α) :
    Prog (TpuEff nD τ sig (Elt F) Λ₀ .tc) α :=
  (scoreP arg3 arg6 1 (k0_off13 i t (BitVec.ofNat 32 (1 + r.val))) (k0_off13_inb i t r)).bind fun s5 =>
  flashP arg4 arg7 arg8 0 (k0_off14 i t (BitVec.ofNat 32 r.val)) (k0_off14_inb i t r) S.1 <|
  (scoreP arg3 arg6 2 (k0_off15 i t (BitVec.ofNat 32 (1 + r.val))) (k0_off15_inb i t r)).bind fun s6 =>
  flashP arg4 arg7 arg8 1 (k0_off16 i t (BitVec.ofNat 32 r.val)) (k0_off16_inb i t r) S.2.1 <|
  (scoreP arg3 arg6 3 (k0_off17 i t (BitVec.ofNat 32 (1 + r.val))) (k0_off17_inb i t r)).bind fun s7 =>
  flashP arg4 arg7 arg8 2 (k0_off18 i t (BitVec.ofNat 32 r.val)) (k0_off18_inb i t r) S.2.2.1 <|
  (scoreP arg3 arg6 0 (k0_off19 i t (BitVec.ofNat 32 (2 + r.val))) (k0_off19_inb i t r)).bind fun s8 =>
  flashP arg4 arg7 arg8 3 (k0_off20 i t (BitVec.ofNat 32 r.val)) (k0_off20_inb i t r) S.2.2.2.1 <|
  k (S.2.2.2.2, s5, s6, s7, s8)

/-- Tiles `r`, `r+1`, … , `r+n-1` in turn. -/
def tilesP (i : grid0.Coords) (arg3 : Memref sig .tc .vmem S1x8448x512 .bf16) (arg4 : Memref sig .tc .vmem S1x33x320x256 .bf16)
    (arg6 : Memref sig .tc .vmem S4x128x256 .bf16) (arg7 : Memref sig .tc .vmem S4x1x256 .f32) (arg8 : Memref sig .tc .vmem S4x80x256 .f32)
    (t : Fin (k0_t1_loop i).trips) : (n r : Nat) → r + n ≤ 32 → Ahead F → Prog (TpuEff nD τ sig (Elt F) Λ₀ .tc) (Ahead F)
  | 0, _, _, S => .ret S
  | n + 1, r, h, S => tileP i arg3 arg4 arg6 arg7 arg8 t ⟨r, by omega⟩ S fun S' => tilesP i arg3 arg4 arg6 arg7 arg8 t n (r + 1) (by omega) S'

/-- The queries of head `h` as the steps read them: lanes along the rows, queries along the columns. -/
def qT (q : Vec F S1x256x128 .bf16) : FVec F S1x128x256 .bf16 :=
  shapeCast S1x128x256 (truncf .bf16 (transpose S128x256 [1, 0] (extf .f32 (shapeCast S256x128 q shapeCasts_S1x256x128_S256x128)
    bitsLt_bf16_f32) transposes_S256x128_p1_0_S128x256) bitsLt_bf16_f32) shapeCasts_S128x256_S1x128x256

theorem inb2 (h : Fin 4) : ∀ a, (![0, 0, 128 * h.val] : Fin 3 → Nat) a + S1x256x128.size a ≤ S1x256x512.size a := by
  fin_cases h <;> decide

/-- The queries of head `h` transposed into the scratch. -/
def queryP {α : Type} (arg2 : Memref sig .tc .vmem S1x256x512 .bf16) (arg6 : Memref sig .tc .vmem S4x128x256 .bf16) (h : Fin 4)
    (hs : (arg6.access (Rect.unit (s := S4x128x256) ![h.val, 0, 0] S1x128x256.size (inb6 h))).Stores Finset.univ)
    (k : Prog (TpuEff nD τ sig (Elt F) Λ₀ .tc) α) : Prog (TpuEff nD τ sig (Elt F) Λ₀ .tc) α :=
  .op (.load arg2 (Rect.unit (s := S1x256x512) ![0, 0, 128 * h.val] S1x256x128.size (inb2 h)).toLoadRect (View.loadsAt_vmem h_S1x256x128)) fun q =>
  .op (.load arg6 (Rect.unit (s := S4x128x256) ![h.val, 0, 0] S1x128x256.size (inb6 h)).toLoadRect (View.loadsAt_vmem h_S1x128x256)) fun _ =>
  .op (.store arg6 (Rect.unit (s := S4x128x256) ![h.val, 0, 0] S1x128x256.size (inb6 h)) (qT q) Finset.univ hs (.inl rfl)) fun _ => k

/-- The running maxima at a large negative number and the accumulators at zero. -/
def initP {α : Type} (arg7 : Memref sig .tc .vmem S4x1x256 .f32) (arg8 : Memref sig .tc .vmem S4x80x256 .f32)
    (k : Prog (TpuEff nD τ sig (Elt F) Λ₀ .tc) α) : Prog (TpuEff nD τ sig (Elt F) Λ₀ .tc) α :=
  .op (.load arg7 (Rect.unit (s := S4x1x256) ![0, 0, 0] S4x1x256.size inb_S4x1x256_S4x1x256_0_0_0).toLoadRect (View.loadsAt_vmem h_S4x1x256)) fun _ =>
  .op (.store arg7 (Rect.unit (s := S4x1x256) ![0, 0, 0] S4x1x256.size inb_S4x1x256_S4x1x256_0_0_0)
    (shapeCast S4x1x256 (broadcast S4x1x256 (Scalar.ofBits (F := F) .f32 0xF149F2CA#32)) shapeCasts_S4x1x256_S4x1x256)
    Finset.univ (View.stores_vmem_bits_univ h_S4x1x256 rfl) (.inl rfl)) fun _ =>
  .op (.load arg8 (Rect.unit (s := S4x80x256) ![0, 0, 0] S4x80x256.size inb_S4x80x256_S4x80x256_0_0_0).toLoadRect (View.loadsAt_vmem h_S4x80x256)) fun _ =>
  .op (.store arg8 (Rect.unit (s := S4x80x256) ![0, 0, 0] S4x80x256.size inb_S4x80x256_S4x80x256_0_0_0)
    (shapeCast S4x80x256 (broadcast S4x80x256 (Scalar.ofBits (F := F) .f32 0x00000000#32)) shapeCasts_S4x80x256_S4x80x256)
    Finset.univ (View.stores_vmem_bits_univ h_S4x80x256 rfl) (.inl rfl)) fun _ => k

/-- The first tile, which every query sees, and the scores ahead of the loop. -/
def firstP {α : Type} (i : grid0.Coords) (arg3 : Memref sig .tc .vmem S1x8448x512 .bf16) (arg4 : Memref sig .tc .vmem S1x33x320x256 .bf16)
    (arg6 : Memref sig .tc .vmem S4x128x256 .bf16) (arg7 : Memref sig .tc .vmem S4x1x256 .f32) (arg8 : Memref sig .tc .vmem S4x80x256 .f32)
    (k : Ahead F → Prog (TpuEff nD τ sig (Elt F) Λ₀ .tc) α) : Prog (TpuEff nD τ sig (Elt F) Λ₀ .tc) α :=
  (scoreP arg3 arg6 0 (k0_off1 i 0#32) (k0_off1_inb i 0)).bind fun s0 =>
  (scoreP arg3 arg6 1 (k0_off2 i 0#32) (k0_off2_inb i 0)).bind fun s1 =>
  (scoreP arg3 arg6 2 (k0_off3 i 0#32) (k0_off3_inb i 0)).bind fun s2 =>
  (scoreP arg3 arg6 3 (k0_off4 i 0#32) (k0_off4_inb i 0)).bind fun s3 =>
  (scoreP arg3 arg6 0 (k0_off1 i 1#32) (k0_off1_inb i 1)).bind fun _ =>
  (scoreP arg3 arg6 1 (k0_off5 i) (k0_off5_inb i)).bind fun _ =>
  flashP arg4 arg7 arg8 0 k0_off6 k0_off6_inb s0 <|
  (scoreP arg3 arg6 2 (k0_off7 i) (k0_off7_inb i)).bind fun _ =>
  flashP arg4 arg7 arg8 1 k0_off8 k0_off8_inb s1 <|
  (scoreP arg3 arg6 3 (k0_off9 i) (k0_off9_inb i)).bind fun _ =>
  flashP arg4 arg7 arg8 2 k0_off10 k0_off10_inb s2 <|
  (scoreP arg3 arg6 0 (k0_off11 i) (k0_off11_inb i)).bind fun _ =>
  flashP arg4 arg7 arg8 3 k0_off12 k0_off12_inb s3 <|
  (scoreP arg3 arg6 0 (k0_off1 i 1#32) (k0_off1_inb i 1)).bind fun s5 =>
  (scoreP arg3 arg6 1 (k0_off2 i 1#32) (k0_off2_inb i 1)).bind fun s6 =>
  (scoreP arg3 arg6 2 (k0_off3 i 1#32) (k0_off3_inb i 1)).bind fun s7 =>
  (scoreP arg3 arg6 3 (k0_off4 i 1#32) (k0_off4_inb i 1)).bind fun s8 =>
  (scoreP arg3 arg6 0 (k0_off1 i 2#32) (k0_off1_inb i 2)).bind fun s9 =>
  k (s5, s6, s7, s8, s9)

/-- The weighted values of a head divided by the sum of its weights. -/
def quotC (a : FVec F S80x256 .f32) : FVec F S64x256 .f32 :=
  divf (extractStridedSlice S64x256 ![0, 0] a slices_S80x256_o0_0_S64x256)
    (broadcastTo S64x256 (extractStridedSlice S1x256 ![64, 0] a slices_S80x256_o64_0_S1x256) broadcasts_S1x256_S64x256)

/-- The quotients of a head, from its accumulator as it lies in the scratch. -/
def quot (a : Vec F S1x80x256 .f32) : FVec F S64x256 .f32 := quotC (shapeCast S80x256 a shapeCasts_S1x80x256_S80x256)

/-- The four heads side by side, queries along the rows. -/
def outQ (b0 b1 b2 b3 : FVec F S64x256 .f32) : FVec F S1x256x256 .f32 :=
  shapeCast S1x256x256 (transpose S256x256 [1, 0] (concatenate S256x256 0 [⟨S64x256, b0⟩, ⟨S64x256, b1⟩, ⟨S64x256, b2⟩, ⟨S64x256, b3⟩]
    concatenates_S64x256_S64x256_S64x256_S64x256_S256x256_d0) transposes_S256x256_p1_0_S256x256) shapeCasts_S256x256_S1x256x256

/-- The accumulators of a head, read. -/
def readP {α : Type} (arg8 : Memref sig .tc .vmem S4x80x256 .f32) (h : Fin 4) (k : Vec F S1x80x256 .f32 → Prog (TpuEff nD τ sig (Elt F) Λ₀ .tc) α) :
    Prog (TpuEff nD τ sig (Elt F) Λ₀ .tc) α :=
  .op (.load arg8 (Rect.unit (s := S4x80x256) ![h.val, 0, 0] S1x80x256.size (inb8 h)).toLoadRect (View.loadsAt_vmem h_S1x80x256)) k

/-- The result, written. -/
def finishP (arg5 : Memref sig .tc .vmem S1x256x256 .f32) (arg8 : Memref sig .tc .vmem S4x80x256 .f32) :
    Prog (TpuEff nD τ sig (Elt F) Λ₀ .tc) PUnit :=
  readP arg8 0 fun a0 => readP arg8 1 fun a1 => readP arg8 2 fun a2 => readP arg8 3 fun a3 =>
  .op (.load arg5 (Rect.unit (s := S1x256x256) ![0, 0, 0] S1x256x256.size inb_S1x256x256_S1x256x256_0_0_0).toLoadRect (View.loadsAt_vmem h_S1x256x256)) fun _ =>
  .op (.store arg5 (Rect.unit (s := S1x256x256) ![0, 0, 0] S1x256x256.size inb_S1x256x256_S1x256x256_0_0_0) (outQ (quot a0) (quot a1) (quot a2) (quot a3))
    Finset.univ (View.stores_vmem_bits_univ h_S1x256x256 rfl) (.inl rfl)) fun _ => .ret ⟨⟩

end Cert.Mla

end
-- ==== Proof.Mla.Program.lean ====
/- The kernel's body is the steps in a row: the queries transposed, the first tile, the loop of 32 tiles, a loop with no
   trips, the quotients. Both sides unfold to the same operations in the same order. -/
module

public import proofs.«01_k».proof.Proof.Mla.Steps

@[expose] public section

-- the loop's 128 steps are compared one by one
set_option maxRecDepth 65536
set_option maxHeartbeats 0

noncomputable section

namespace Cert.Mla

open Idealize.ShloMosaic Idealize.ShloMosaic.TcCoe Idealize.SL.Sem
open Cert.Kernel2Ideal Cert.Kernel2Ideal.Gen

variable {F : FTy → Type} [FloatOps F]

/-- The store of a head's transposed queries is of whole words. -/
theorem stores6 (arg6 : Memref sig .tc .vmem S4x128x256 .bf16) (harg6 : arg6.IsWhole) (h : Fin 4) :
    (arg6.access (Rect.unit (s := S4x128x256) ![h.val, 0, 0] S1x128x256.size (inb6 h))).Stores Finset.univ := by
  fin_cases h
  · exact View.stores_vmem h_S1x128x256 (harg6.storeExact_slice rfl _ packedbf16_S4x128x256_S1x128x256_0_0_0) (fun _ => rfl)
  · exact View.stores_vmem h_S1x128x256 (harg6.storeExact_slice rfl _ packedbf16_S4x128x256_S1x128x256_1_0_0) (fun _ => rfl)
  · exact View.stores_vmem h_S1x128x256 (harg6.storeExact_slice rfl _ packedbf16_S4x128x256_S1x128x256_2_0_0) (fun _ => rfl)
  · exact View.stores_vmem h_S1x128x256 (harg6.storeExact_slice rfl _ packedbf16_S4x128x256_S1x128x256_3_0_0) (fun _ => rfl)

/-- All that comes before the loops. -/
def prologP (i : grid0.Coords) (arg2 : Memref sig .tc .vmem S1x256x512 .bf16) (arg3 : Memref sig .tc .vmem S1x8448x512 .bf16)
    (arg4 : Memref sig .tc .vmem S1x33x320x256 .bf16)
    (arg6 : Memref sig .tc .vmem S4x128x256 .bf16) (harg6 : arg6.IsWhole) (arg7 : Memref sig .tc .vmem S4x1x256 .f32)
    (arg8 : Memref sig .tc .vmem S4x80x256 .f32)
    (k : Ahead F → Prog (TpuEff nD τ sig (Elt F) Λ₀ .tc) PUnit) : Prog (TpuEff nD τ sig (Elt F) Λ₀ .tc) PUnit :=
  queryP arg2 arg6 0 (stores6 arg6 harg6 0) <| queryP arg2 arg6 1 (stores6 arg6 harg6 1) <|
  queryP arg2 arg6 2 (stores6 arg6 harg6 2) <| queryP arg2 arg6 3 (stores6 arg6 harg6 3) <|
  initP arg7 arg8 <| firstP i arg3 arg4 arg6 arg7 arg8 k

/-- The two loops, followed by `k`; `B` is the region of the second, which has no trips. -/
def loopsP {α : Type} (i : grid0.Coords) (arg3 : Memref sig .tc .vmem S1x8448x512 .bf16) (arg4 : Memref sig .tc .vmem S1x33x320x256 .bf16)
    (arg6 : Memref sig .tc .vmem S4x128x256 .bf16) (arg7 : Memref sig .tc .vmem S4x1x256 .f32) (arg8 : Memref sig .tc .vmem S4x80x256 .f32)
    (B : Fin (k0_t2_loop i).trips → Ahead F → Prog (TpuEff nD τ sig (Elt F) Λ₀ .tc) (Ahead F)) (S : Ahead F)
    (k : Prog (TpuEff nD τ sig (Elt F) Λ₀ .tc) α) : Prog (TpuEff nD τ sig (Elt F) Λ₀ .tc) α :=
  Scf.Loop.for (k0_t1_loop i) (k0_t1_ok i) S (fun t (a, b, c, d, e) => tilesP i arg3 arg4 arg6 arg7 arg8 t 32 0 (by decide) (a, b, c, d, e)) >>= fun S' =>
  Scf.Loop.for (k0_t2_loop i) (k0_t2_ok i) S' B >>= fun _ => k

/-- The loops and the reading of two heads' accumulators, followed by the rest. -/
theorem body_nested (i : grid0.Coords) (arg2 : Memref sig .tc .vmem S1x256x512 .bf16) (harg2 : arg2.IsWhole) (arg3 : Memref sig .tc .vmem S1x8448x512 .bf16) (harg3 : arg3.IsWhole)
    (arg4 : Memref sig .tc .vmem S1x33x320x256 .bf16) (harg4 : arg4.IsWhole) (arg5 : Memref sig .tc .vmem S1x256x256 .f32) (harg5 : arg5.IsWhole)
    (arg6 : Memref sig .tc .vmem S4x128x256 .bf16) (harg6 : arg6.IsWhole) (arg7 : Memref sig .tc .vmem S4x1x256 .f32) (harg7 : arg7.IsWhole)
    (arg8 : Memref sig .tc .vmem S4x80x256 .f32) (harg8 : arg8.IsWhole) :
    ∃ B, cc0_mla_attn (F := F) i arg2 harg2 arg3 harg3 arg4 harg4 arg5 harg5 arg6 harg6 arg7 harg7 arg8 harg8
      = prologP i arg2 arg3 arg4 arg6 harg6 arg7 arg8 fun S =>
        (loopsP i arg3 arg4 arg6 arg7 arg8 B S (readP arg8 0 fun a0 => readP arg8 1 fun a1 =>
          .ret (⟨quot a0, shapeCast S80x256 a1 shapeCasts_S1x80x256_S80x256⟩ : Σ' (_ : FVec F S64x256 .f32), FVec F S80x256 .f32))).bind fun p =>
        readP arg8 2 fun a2 => readP arg8 3 fun a3 =>
        .op (.load arg5 (Rect.unit (s := S1x256x256) ![0, 0, 0] S1x256x256.size inb_S1x256x256_S1x256x256_0_0_0).toLoadRect (View.loadsAt_vmem h_S1x256x256)) fun _ =>
        .op (.store arg5 (Rect.unit (s := S1x256x256) ![0, 0, 0] S1x256x256.size inb_S1x256x256_S1x256x256_0_0_0) (outQ p.1 (quotC p.2) (quot a2) (quot a3))
          Finset.univ (View.stores_vmem_bits_univ h_S1x256x256 rfl) (.inl rfl)) fun _ => .ret ⟨⟩ := by
  refine ⟨?_, ?_⟩
  rotate_left
  · with_unfolding_all rfl

/-- The body is what comes before the loops, the loops, and the quotients. -/
theorem body_eq (i : grid0.Coords) (arg2 : Memref sig .tc .vmem S1x256x512 .bf16) (harg2 : arg2.IsWhole) (arg3 : Memref sig .tc .vmem S1x8448x512 .bf16) (harg3 : arg3.IsWhole)
    (arg4 : Memref sig .tc .vmem S1x33x320x256 .bf16) (harg4 : arg4.IsWhole) (arg5 : Memref sig .tc .vmem S1x256x256 .f32) (harg5 : arg5.IsWhole)
    (arg6 : Memref sig .tc .vmem S4x128x256 .bf16) (harg6 : arg6.IsWhole) (arg7 : Memref sig .tc .vmem S4x1x256 .f32) (harg7 : arg7.IsWhole)
    (arg8 : Memref sig .tc .vmem S4x80x256 .f32) (harg8 : arg8.IsWhole) :
    ∃ B, cc0_mla_attn (F := F) i arg2 harg2 arg3 harg3 arg4 harg4 arg5 harg5 arg6 harg6 arg7 harg7 arg8 harg8
      = prologP i arg2 arg3 arg4 arg6 harg6 arg7 arg8 fun S => loopsP i arg3 arg4 arg6 arg7 arg8 B S (finishP arg5 arg8) := by
  obtain ⟨B, h⟩ := body_nested (F := F) i arg2 harg2 arg3 harg3 arg4 harg4 arg5 harg5 arg6 harg6 arg7 harg7 arg8 harg8
  refine ⟨B, h.trans (congrArg _ (funext fun S => ?_))⟩
  show (Scf.Loop.for _ _ _ _ >>= fun S' => Scf.Loop.for _ _ S' B >>= fun _ => _) >>= _ = _
  rw [bind_assoc]
  unfold loopsP
  congr 1
  funext S'
  rw [bind_assoc]
  rfl

end Cert.Mla

end
-- ==== Proof.Mla.State.lean ====
/- What the steps compute, as functions of the blocks alone: the scores of a tile, the running maxima and accumulators after a step,
   after a tile, after the loop. -/
module

public import proofs.«01_k».proof.Proof.Mla.Program

@[expose] public section

noncomputable section

namespace Cert.Mla

open Idealize.ShloMosaic Idealize.ShloMosaic.TcCoe
open Cert.Kernel2Ideal Cert.Kernel2Ideal.Gen

variable {F : FTy → Type} [FloatOps F]

/-- The heads' slices of the three scratch buffers. -/
abbrev R6 (h : Fin 4) : Rect S4x128x256 := Rect.unit (s := S4x128x256) ![h.val, 0, 0] S1x128x256.size (inb6 h)
abbrev R7 (h : Fin 4) : Rect S4x1x256 := Rect.unit (s := S4x1x256) ![h.val, 0, 0] S1x1x256.size (inb7 h)
abbrev R8 (h : Fin 4) : Rect S4x80x256 := Rect.unit (s := S4x80x256) ![h.val, 0, 0] S1x80x256.size (inb8 h)

/-- The queries of the four heads as the scratch holds them. -/
abbrev Qs (F : FTy → Type) := ∀ h : Fin 4, (R6 h).shape.Idx → Elt F .bf16
/-- The running maxima and the accumulators of the four heads. -/
abbrev St (F : FTy → Type) := (∀ h : Fin 4, (R7 h).shape.Idx → Elt F .f32) × (∀ h : Fin 4, (R8 h).shape.Idx → Elt F .f32)

/-- The scores of the tile of keys at `off` for head `h`. -/
def scoreF (x1 : Vec F S1x8448x512 .bf16) (q : Qs F) (h : Fin 4) (off : Fin 3 → Nat)
    (ho : ∀ a, off a + S1x256x128.size a ≤ S1x8448x512.size a) : Sc F :=
  matmul dot_S256x128_S128x256_S256x256_1_0_0_1_n_n none
    (shapeCast S256x128 (fun j => x1 ((Rect.unit (s := S1x8448x512) off S1x256x128.size ho).toLoadRect.idx j) : Vec F S1x256x128 .bf16) shapeCasts_S1x256x128_S256x128)
    (shapeCast S128x256 (q h : Vec F S1x128x256 .bf16) shapeCasts_S1x128x256_S128x256) (constant S256x256 .f32 0x00000000#32)

/-- The values of a tile. -/
def valF (x2 : Vec F S1x33x320x256 .bf16) (off : Fin 4 → Nat) (ho : ∀ a, off a + S1x1x80x256.size a ≤ S1x33x320x256.size a) :
    Vec F S1x1x80x256 .bf16 :=
  fun j => x2 ((Rect.unit (s := S1x33x320x256) off S1x1x80x256.size ho).toLoadRect.idx j)

/-- One step of head `h` on scores `s` and values `v`. -/
def flashS (h : Fin 4) (s : Sc F) (v : Vec F S1x1x80x256 .bf16) (st : St F) : St F :=
  (Function.update st.1 h (shapeCast S1x1x256 (newM s (st.1 h)) shapeCasts_S1x256_S1x1x256),
   Function.update st.2 h (shapeCast S1x80x256 (newA s (st.1 h) v (st.2 h)) shapeCasts_S80x256_S1x80x256))

/-- Tile `r` of the loop: the four heads on the scores at hand; the next scores. -/
def tileS (i : grid0.Coords) (x1 : Vec F S1x8448x512 .bf16) (x2 : Vec F S1x33x320x256 .bf16) (q : Qs F)
    (t : Fin (k0_t1_loop i).trips) (r : Fin 32) (a : Ahead F × St F) : Ahead F × St F :=
  ((a.1.2.2.2.2, scoreF x1 q 1 (k0_off13 i t (BitVec.ofNat 32 (1 + r.val))) (k0_off13_inb i t r),
    scoreF x1 q 2 (k0_off15 i t (BitVec.ofNat 32 (1 + r.val))) (k0_off15_inb i t r),
    scoreF x1 q 3 (k0_off17 i t (BitVec.ofNat 32 (1 + r.val))) (k0_off17_inb i t r),
    scoreF x1 q 0 (k0_off19 i t (BitVec.ofNat 32 (2 + r.val))) (k0_off19_inb i t r)),
   flashS 3 a.1.2.2.2.1 (valF x2 (k0_off20 i t (BitVec.ofNat 32 r.val)) (k0_off20_inb i t r)) <|
   flashS 2 a.1.2.2.1 (valF x2 (k0_off18 i t (BitVec.ofNat 32 r.val)) (k0_off18_inb i t r)) <|
   flashS 1 a.1.2.1 (valF x2 (k0_off16 i t (BitVec.ofNat 32 r.val)) (k0_off16_inb i t r)) <|
   flashS 0 a.1.1 (valF x2 (k0_off14 i t (BitVec.ofNat 32 r.val)) (k0_off14_inb i t r)) a.2)

/-- `n` tiles from tile `r` on. -/
def tilesS (i : grid0.Coords) (x1 : Vec F S1x8448x512 .bf16) (x2 : Vec F S1x33x320x256 .bf16) (q : Qs F)
    (t : Fin (k0_t1_loop i).trips) : (n r : Nat) → r + n ≤ 32 → Ahead F × St F → Ahead F × St F
  | 0, _, _, a => a
  | n + 1, r, hr, a => tilesS i x1 x2 q t n (r + 1) (by omega) (tileS i x1 x2 q t ⟨r, by omega⟩ a)

/-- `k` trips of the loop. -/
def loopS (i : grid0.Coords) (x1 : Vec F S1x8448x512 .bf16) (x2 : Vec F S1x33x320x256 .bf16) (q : Qs F) : Nat → Ahead F × St F → Ahead F × St F
  | 0, a => a
  | k + 1, a => if h : k < (k0_t1_loop i).trips then tilesS i x1 x2 q ⟨k, h⟩ 32 0 (by decide) (loopS i x1 x2 q k a) else loopS i x1 x2 q k a

/-- The queries of head `h` of the block, transposed. -/
def queriesF (x0 : Vec F S1x256x512 .bf16) : Qs F := fun h =>
  qT (fun j => x0 ((Rect.unit (s := S1x256x512) ![0, 0, 128 * h.val] S1x256x128.size (inb2 h)).toLoadRect.idx j))

/-- The maxima at a large negative number, the accumulators at zero. -/
def initS : St F :=
  (fun h x => shapeCast S4x1x256 (broadcast S4x1x256 (Scalar.ofBits (F := F) .f32 0xF149F2CA#32)) shapeCasts_S4x1x256_S4x1x256 ((R7 h).emb x),
   fun h x => shapeCast S4x80x256 (broadcast S4x80x256 (Scalar.ofBits (F := F) .f32 0x00000000#32)) shapeCasts_S4x80x256_S4x80x256 ((R8 h).emb x))

/-- After the first tile. -/
def firstS (i : grid0.Coords) (x1 : Vec F S1x8448x512 .bf16) (x2 : Vec F S1x33x320x256 .bf16) (q : Qs F) : Ahead F × St F :=
  ((scoreF x1 q 0 (k0_off1 i 1#32) (k0_off1_inb i 1), scoreF x1 q 1 (k0_off2 i 1#32) (k0_off2_inb i 1),
    scoreF x1 q 2 (k0_off3 i 1#32) (k0_off3_inb i 1), scoreF x1 q 3 (k0_off4 i 1#32) (k0_off4_inb i 1),
    scoreF x1 q 0 (k0_off1 i 2#32) (k0_off1_inb i 2)),
   flashS 3 (scoreF x1 q 3 (k0_off4 i 0#32) (k0_off4_inb i 0)) (valF x2 k0_off12 k0_off12_inb) <|
   flashS 2 (scoreF x1 q 2 (k0_off3 i 0#32) (k0_off3_inb i 0)) (valF x2 k0_off10 k0_off10_inb) <|
   flashS 1 (scoreF x1 q 1 (k0_off2 i 0#32) (k0_off2_inb i 0)) (valF x2 k0_off8 k0_off8_inb) <|
   flashS 0 (scoreF x1 q 0 (k0_off1 i 0#32) (k0_off1_inb i 0)) (valF x2 k0_off6 k0_off6_inb) initS)

/-- The accumulators at the end. -/
def lastS (i : grid0.Coords) (x0 : Vec F S1x256x512 .bf16) (x1 : Vec F S1x8448x512 .bf16) (x2 : Vec F S1x33x320x256 .bf16) : St F :=
  (loopS i x1 x2 (queriesF x0) (k0_t1_loop i).trips (firstS i x1 x2 (queriesF x0))).2

/-- The block the kernel writes. -/
def outF (i : grid0.Coords) (x0 : Vec F S1x256x512 .bf16) (x1 : Vec F S1x8448x512 .bf16) (x2 : Vec F S1x33x320x256 .bf16) : FVec F S1x256x256 .f32 :=
  outQ (quot ((lastS i x0 x1 x2).2 0)) (quot ((lastS i x0 x1 x2).2 1)) (quot ((lastS i x0 x1 x2).2 2)) (quot ((lastS i x0 x1 x2).2 3))

end Cert.Mla

end
-- ==== Proof.Mla.Held.lean ====
/- What a core holds while the steps run: the keys and the values whole, and of each scratch buffer the four heads' slices. A load
   of a head gives its slice, a store replaces it and leaves the others. -/
module

public import proofs.«01_k».proof.Proof.Mla.Steps
public import Idealize.ShloMosaic.Lib.Pipeline.FrameBody
public import Idealize.ShloMosaic.Lib.Tactic
public import Idealize.ShloMosaic.Lib.Writes

@[expose] public section

noncomputable section

namespace Cert.Mla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel2Ideal Cert.Kernel2Ideal.Gen

variable {F : FTy → Type} [FloatOps F]

local notation "𝕄" => MT nD τ sig Unit (Elt F) ℕ (UR sig nD τ) ℕ

section Buffers
variable {s : Shape} {e : EltTy} {α : Type} {E : Set ℕ} (c : Dev nD)

/-- A load from a buffer held at known contents. -/
theorem wp_load_owns {Q : α → sProp 𝕄} (m : Memref sig .tc .vmem s e) (r : LoadRect s) (hl : m.view.LoadsAt r) (X : s.Idx → Elt F e)
    (k : (r.shape.Idx → Elt F e) → Prog (TpuEff nD τ sig (Elt F) Λ₀ .tc) α) :
    owns (c : Thread nD τ) m fullShare X
      ⊢ iprop((owns (c : Thread nD τ) m fullShare X -∗ wp frame (wpE (defs₀ (F := F)) Variants.none c none) E (k fun j => X (r.idx j)) Q)
        -∗ wp frame (wpE (defs₀ (F := F)) Variants.none c none) E (.op (.load m r hl) k) Q) := by
  unfold owns
  iintro ⟨%f, %hf, H⟩ K
  subst hf
  iapply (wp_load Variants.none (c : Thread nD τ) none E (m := m) (r := r) (hl := hl) (k := k) (m.view.setOn_subset_set r.set)) $$ H
  iintro H
  iapply K
  iexists f
  isplitr
  · ipureintro; rfl
  iexact H

/-- The four slices of a buffer, at the contents `X`. -/
def heads (m : Memref sig .tc .vmem s e) (R : Fin 4 → Rect s) (X : ∀ h, (R h).shape.Idx → Elt F e) : sProp 𝕄 :=
  iprop(∃ f, ⌜∀ h, m.view.readAt (Elt F) (R h).toLoadRect f = X h⌝ ∗ (m.view.loc (c : Thread nD τ) ↦[m.view.set]{fullShare} f))

theorem heads_intro (m : Memref sig .tc .vmem s e) (R : Fin 4 → Rect s) :
    iprop(∃ d, owns (c : Thread nD τ) m fullShare d) ⊢ iprop(∃ X, heads (F := F) c m R X) := by
  unfold owns heads
  iintro ⟨%d, %f, -, H⟩
  iexists fun h => m.view.readAt (Elt F) (R h).toLoadRect f
  iexists f
  isplitr
  · ipureintro; exact fun _ => rfl
  iexact H

theorem heads_elim (m : Memref sig .tc .vmem s e) (R : Fin 4 → Rect s) (X : ∀ h, (R h).shape.Idx → Elt F e) :
    heads (F := F) c m R X ⊢ iprop(∃ d, owns (c : Thread nD τ) m fullShare d) := by
  unfold owns heads
  iintro ⟨%f, -, H⟩
  iexists m.view.read (Elt F) f
  iexists f
  isplitr
  · ipureintro; rfl
  iexact H

theorem wp_load_head {Q : α → sProp 𝕄} (m : Memref sig .tc .vmem s e) (R : Fin 4 → Rect s) (X : ∀ h, (R h).shape.Idx → Elt F e) (h : Fin 4)
    (hl : m.view.LoadsAt (R h).toLoadRect) (k : ((R h).shape.Idx → Elt F e) → Prog (TpuEff nD τ sig (Elt F) Λ₀ .tc) α) :
    heads (F := F) c m R X
      ⊢ iprop((heads (F := F) c m R X -∗ wp frame (wpE (defs₀ (F := F)) Variants.none c none) E (k (X h)) Q)
        -∗ wp frame (wpE (defs₀ (F := F)) Variants.none c none) E (.op (.load m (R h).toLoadRect hl) k) Q) := by
  unfold heads
  iintro ⟨%f, %hf, H⟩ K
  rw [← hf h]
  iapply (wp_load Variants.none (c : Thread nD τ) none E (m := m) (r := (R h).toLoadRect) (hl := hl) (k := k) (m.view.setOn_subset_set _)) $$ H
  iintro H
  iapply K
  iexists f
  isplitr
  · ipureintro; exact hf
  iexact H

/-- A load whose value is not used. -/
theorem wp_load_any {Q : α → sProp 𝕄} (m : Memref sig .tc .vmem s e) (R : Fin 4 → Rect s) (X : ∀ h, (R h).shape.Idx → Elt F e) (r : LoadRect s)
    (hl : m.view.LoadsAt r) (k : Prog (TpuEff nD τ sig (Elt F) Λ₀ .tc) α) :
    heads (F := F) c m R X
      ⊢ iprop((heads (F := F) c m R X -∗ wp frame (wpE (defs₀ (F := F)) Variants.none c none) E k Q)
        -∗ wp frame (wpE (defs₀ (F := F)) Variants.none c none) E (.op (.load m r hl) fun _ => k) Q) := by
  unfold heads
  iintro ⟨%f, %hf, H⟩ K
  iapply (wp_load Variants.none (c : Thread nD τ) none E (m := m) (r := r) (hl := hl) (k := fun _ => k) (m.view.setOn_subset_set _)) $$ H
  iintro H
  iapply K
  iexists f
  isplitr
  · ipureintro; exact hf
  iexact H

/-- A store through `r`: every place of a slice either lies in `r` and reads what was stored, or does not and reads as before. -/
theorem wp_store_heads {Q : α → sProp 𝕄} (m : Memref sig .tc .vmem s e) (R : Fin 4 → Rect s) (X Y : ∀ h, (R h).shape.Idx → Elt F e) (r : Rect s)
    (w : r.shape.Idx → Elt F e) (hx : (m.access r).Stores Finset.univ) (hm : Finset.univ = Finset.univ ∨ ∀ a, r.stride a = 1)
    (hY : ∀ h x, (∃ z, r.emb z = (R h).emb x ∧ w z = Y h x) ∨ ((R h).emb x ∉ r.set ∧ X h x = Y h x))
    (k : Prog (TpuEff nD τ sig (Elt F) Λ₀ .tc) α) :
    heads (F := F) c m R X
      ⊢ iprop((heads (F := F) c m R Y -∗ wp frame (wpE (defs₀ (F := F)) Variants.none c none) E k Q)
        -∗ wp frame (wpE (defs₀ (F := F)) Variants.none c none) E (.op (.store m r w Finset.univ hx hm) fun _ => k) Q) := by
  unfold heads
  iintro ⟨%f, %hf, H⟩ K
  iapply (wp_store_writes₀ Variants.none (c : Thread nD τ) none E (m := m) (r := r) (w := w) (hx := hx) (hm := hm) (k := fun _ => k)
    (View.set_slice_subset m.view r)) $$ H
  iintro H
  iapply K
  iexists m.view.writes (Elt F) f [⟨r, w⟩]
  isplitr
  · ipureintro
    intro h
    funext x
    show m.view.read (Elt F) (m.view.writes (Elt F) f [⟨r, w⟩]) ((R h).emb x) = Y h x
    rcases hY h x with ⟨z, hz, hw⟩ | ⟨hn, hX⟩
    · rw [View.read_writes_cons_hit m.view f r w [] z _ hz, hw]
    · rw [View.read_writes_cons_miss m.view f ⟨r, w⟩ [] _ hn, ← hX, ← hf h]
      rfl
  iexact H

/-- A store of head `h`: its slice is replaced. -/
theorem wp_store_head {Q : α → sProp 𝕄} (m : Memref sig .tc .vmem s e) (R : Fin 4 → Rect s) (X : ∀ h, (R h).shape.Idx → Elt F e) (h : Fin 4)
    (w : (R h).shape.Idx → Elt F e) (hx : (m.access (R h)).Stores Finset.univ)
    (hm : Finset.univ = Finset.univ ∨ ∀ a, (R h).stride a = 1)
    (hR : ∀ h', h' ≠ h → ∀ x, (R h').emb x ∉ (R h).set)
    (k : Prog (TpuEff nD τ sig (Elt F) Λ₀ .tc) α) :
    heads (F := F) c m R X
      ⊢ iprop((heads (F := F) c m R (Function.update X h w) -∗ wp frame (wpE (defs₀ (F := F)) Variants.none c none) E k Q)
        -∗ wp frame (wpE (defs₀ (F := F)) Variants.none c none) E (.op (.store m (R h) w Finset.univ hx hm) fun _ => k) Q) := by
  refine wp_store_heads c m R X _ (R h) w hx hm (fun h' x => ?_) k
  by_cases hh : h' = h
  · subst hh
    exact .inl ⟨x, rfl, by rw [Function.update_self]⟩
  · exact .inr ⟨hR h' hh x, by rw [Function.update_of_ne hh]⟩

end Buffers

end Cert.Mla

end
-- ==== Proof.Mla.Run.lean ====
/- The steps run: each is taken from what the core holds to what it holds after, the state changing as State.lean says. -/
module

public import proofs.«01_k».proof.Proof.Mla.State
public import proofs.«01_k».proof.Proof.Mla.Held
public import Idealize.ShloMosaic.Lib.Scf

@[expose] public section

noncomputable section

namespace Cert.Mla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel2Ideal Cert.Kernel2Ideal.Gen

variable {F : FTy → Type} [FloatOps F]

local notation "𝕄" => MT nD τ sig Unit (Elt F) ℕ (UR sig nD τ) ℕ

theorem R6_disj (h h' : Fin 4) (hh : h' ≠ h) (x : (R6 h').shape.Idx) : (R6 h').emb x ∉ (R6 h).set := by
  refine Rect.not_mem_set_of_axis _ _ (0 : Fin 3) h.val 1 rfl rfl rfl ?_
  have h0 : (((R6 h').emb x) 0).val = h'.val + 1 * (x 0).val := rfl
  have hx : (x 0).val < 1 := (x 0).isLt
  have := Fin.val_ne_of_ne hh
  omega

theorem R7_disj (h h' : Fin 4) (hh : h' ≠ h) (x : (R7 h').shape.Idx) : (R7 h').emb x ∉ (R7 h).set := by
  refine Rect.not_mem_set_of_axis _ _ (0 : Fin 3) h.val 1 rfl rfl rfl ?_
  have h0 : (((R7 h').emb x) 0).val = h'.val + 1 * (x 0).val := rfl
  have hx : (x 0).val < 1 := (x 0).isLt
  have := Fin.val_ne_of_ne hh
  omega

theorem R8_disj (h h' : Fin 4) (hh : h' ≠ h) (x : (R8 h').shape.Idx) : (R8 h').emb x ∉ (R8 h).set := by
  refine Rect.not_mem_set_of_axis _ _ (0 : Fin 3) h.val 1 rfl rfl rfl ?_
  have h0 : (((R8 h').emb x) 0).val = h'.val + 1 * (x 0).val := rfl
  have hx : (x 0).val < 1 := (x 0).isLt
  have := Fin.val_ne_of_ne hh
  omega

theorem whole7 (y : S4x1x256.Idx) : (Rect.unit (s := S4x1x256) ![0, 0, 0] S4x1x256.size inb_S4x1x256_S4x1x256_0_0_0).emb y = y := by
  refine Rect.emb_eq_of_coords (Rect.unit (s := S4x1x256) ![0, 0, 0] S4x1x256.size inb_S4x1x256_S4x1x256_0_0_0) y y fun a => ?_
  have h0 : (![0, 0, 0] : Fin 3 → Nat) a = 0 := by fin_cases a <;> rfl
  show (y a).val = (![0, 0, 0] : Fin 3 → Nat) a + 1 * (y a).val
  rw [h0]
  omega

theorem whole8 (y : S4x80x256.Idx) : (Rect.unit (s := S4x80x256) ![0, 0, 0] S4x80x256.size inb_S4x80x256_S4x80x256_0_0_0).emb y = y := by
  refine Rect.emb_eq_of_coords (Rect.unit (s := S4x80x256) ![0, 0, 0] S4x80x256.size inb_S4x80x256_S4x80x256_0_0_0) y y fun a => ?_
  have h0 : (![0, 0, 0] : Fin 3 → Nat) a = 0 := by fin_cases a <;> rfl
  show (y a).val = (![0, 0, 0] : Fin 3 → Nat) a + 1 * (y a).val
  rw [h0]
  omega

/-- The second loop runs no trip at any point of the grid. -/
theorem trips2 : ∀ i : grid0.Coords, (k0_t2_loop i).trips = 0 := by decide +kernel

section
variable {α : Type} {E : Set ℕ} (c : Dev nD) (arg3 : Memref sig .tc .vmem S1x8448x512 .bf16) (arg4 : Memref sig .tc .vmem S1x33x320x256 .bf16)
    (arg6 : Memref sig .tc .vmem S4x128x256 .bf16) (arg7 : Memref sig .tc .vmem S4x1x256 .f32) (arg8 : Memref sig .tc .vmem S4x80x256 .f32)
    (x1 : Vec F S1x8448x512 .bf16) (x2 : Vec F S1x33x320x256 .bf16) (q : Qs F)

/-- The keys, the values, the queries, the maxima and the accumulators. -/
def held (st : St F) : sProp 𝕄 :=
  iprop(owns (c : Thread nD τ) arg3 fullShare x1 ∗ owns (c : Thread nD τ) arg4 fullShare x2 ∗ heads (F := F) c arg6 R6 q
    ∗ heads (F := F) c arg7 R7 st.1 ∗ heads (F := F) c arg8 R8 st.2)

theorem wp_score {Q : α → sProp 𝕄} (st : St F) (h : Fin 4) (off : Fin 3 → Nat) (ho : ∀ a, off a + S1x256x128.size a ≤ S1x8448x512.size a)
    (k : Sc F → Prog (TpuEff nD τ sig (Elt F) Λ₀ .tc) α) :
    held c arg3 arg4 arg6 arg7 arg8 x1 x2 q st
      ⊢ iprop((held c arg3 arg4 arg6 arg7 arg8 x1 x2 q st -∗ wp frame (wpE (defs₀ (F := F)) Variants.none c none) E (k (scoreF x1 q h off ho)) Q)
        -∗ wp frame (wpE (defs₀ (F := F)) Variants.none c none) E ((scoreP arg3 arg6 h off ho).bind k) Q) := by
  show _ ⊢ iprop(_ -∗ wp frame _ E (Prog.op _ fun kk => Prog.op _ fun qq => k _) Q)
  unfold held
  iintro ⟨H3, H4, H6, H7, H8⟩ K
  iapply (wp_load_owns c arg3 _ _ x1 _) $$ H3
  iintro H3
  iapply (wp_load_head c arg6 R6 q h _ _) $$ H6
  iintro H6
  iapply K
  iframe

theorem wp_flash {Q : α → sProp 𝕄} (st : St F) (h : Fin 4) (off : Fin 4 → Nat) (ho : ∀ a, off a + S1x1x80x256.size a ≤ S1x33x320x256.size a)
    (s : Sc F) (k : Prog (TpuEff nD τ sig (Elt F) Λ₀ .tc) α) :
    held c arg3 arg4 arg6 arg7 arg8 x1 x2 q st
      ⊢ iprop((held c arg3 arg4 arg6 arg7 arg8 x1 x2 q (flashS h s (valF x2 off ho) st) -∗ wp frame (wpE (defs₀ (F := F)) Variants.none c none) E k Q)
        -∗ wp frame (wpE (defs₀ (F := F)) Variants.none c none) E (flashP arg4 arg7 arg8 h off ho s k) Q) := by
  unfold flashP held
  iintro ⟨H3, H4, H6, H7, H8⟩ K
  iapply (wp_load_head c arg7 R7 st.1 h _ _) $$ H7
  iintro H7
  iapply (wp_load_owns c arg4 _ _ x2 _) $$ H4
  iintro H4
  iapply (wp_load_head c arg8 R8 st.2 h _ _) $$ H8
  iintro H8
  iapply (wp_load_any c arg8 R8 st.2 _ _ _) $$ H8
  iintro H8
  iapply (wp_store_head c arg8 R8 st.2 h _ _ _ (R8_disj h) _) $$ H8
  iintro H8
  iapply (wp_load_any c arg7 R7 st.1 _ _ _) $$ H7
  iintro H7
  iapply (wp_store_head c arg7 R7 st.1 h _ _ _ (R7_disj h) _) $$ H7
  iintro H7
  iapply K
  unfold flashS valF
  iframe
  iexact H8

theorem wp_tile {Q : α → sProp 𝕄} (i : grid0.Coords) (t : Fin (k0_t1_loop i).trips) (r : Fin 32) (a : Ahead F × St F)
    (k : Ahead F → Prog (TpuEff nD τ sig (Elt F) Λ₀ .tc) α) :
    held c arg3 arg4 arg6 arg7 arg8 x1 x2 q a.2
      ⊢ iprop((held c arg3 arg4 arg6 arg7 arg8 x1 x2 q (tileS i x1 x2 q t r a).2
          -∗ wp frame (wpE (defs₀ (F := F)) Variants.none c none) E (k (tileS i x1 x2 q t r a).1) Q)
        -∗ wp frame (wpE (defs₀ (F := F)) Variants.none c none) E (tileP i arg3 arg4 arg6 arg7 arg8 t r a.1 k) Q) := by
  unfold tileP
  iintro H K
  iapply (wp_score c arg3 arg4 arg6 arg7 arg8 x1 x2 q _ 1 _ _ _) $$ H
  iintro H
  iapply (wp_flash c arg3 arg4 arg6 arg7 arg8 x1 x2 q _ 0 _ _ _ _) $$ H
  iintro H
  iapply (wp_score c arg3 arg4 arg6 arg7 arg8 x1 x2 q _ 2 _ _ _) $$ H
  iintro H
  iapply (wp_flash c arg3 arg4 arg6 arg7 arg8 x1 x2 q _ 1 _ _ _ _) $$ H
  iintro H
  iapply (wp_score c arg3 arg4 arg6 arg7 arg8 x1 x2 q _ 3 _ _ _) $$ H
  iintro H
  iapply (wp_flash c arg3 arg4 arg6 arg7 arg8 x1 x2 q _ 2 _ _ _ _) $$ H
  iintro H
  iapply (wp_score c arg3 arg4 arg6 arg7 arg8 x1 x2 q _ 0 _ _ _) $$ H
  iintro H
  iapply (wp_flash c arg3 arg4 arg6 arg7 arg8 x1 x2 q _ 3 _ _ _ _) $$ H
  iintro H
  iapply K
  iexact H

theorem wp_tiles (i : grid0.Coords) (t : Fin (k0_t1_loop i).trips) (n : Nat) : ∀ (r : Nat) (hr : r + n ≤ 32) (a : Ahead F × St F)
    (Q : Ahead F → sProp 𝕄),
    held c arg3 arg4 arg6 arg7 arg8 x1 x2 q a.2
      ⊢ iprop((held c arg3 arg4 arg6 arg7 arg8 x1 x2 q (tilesS i x1 x2 q t n r hr a).2 -∗ Q (tilesS i x1 x2 q t n r hr a).1)
        -∗ wp frame (wpE (defs₀ (F := F)) Variants.none c none) E (tilesP i arg3 arg4 arg6 arg7 arg8 t n r hr a.1) Q) := by
  induction n with
  | zero =>
    intro r hr a Q
    unfold tilesP tilesS
    iintro H K
    rw [wp_ret]
    imodintro
    iapply K
    iexact H
  | succ n ih =>
    intro r hr a Q
    unfold tilesP tilesS
    iintro H K
    iapply (wp_tile c arg3 arg4 arg6 arg7 arg8 x1 x2 q i t _ a _) $$ H
    iintro H
    iapply (ih (r + 1) _ (tileS i x1 x2 q t ⟨r, _⟩ a) Q) $$ H
    iexact K

/-- The loop of the tiles, and the one with no trips. -/
theorem wp_loops {Q : α → sProp 𝕄} (i : grid0.Coords) (B : Fin (k0_t2_loop i).trips → Ahead F → Prog (TpuEff nD τ sig (Elt F) Λ₀ .tc) (Ahead F))
    (a : Ahead F × St F) (k : Prog (TpuEff nD τ sig (Elt F) Λ₀ .tc) α) :
    held c arg3 arg4 arg6 arg7 arg8 x1 x2 q a.2
      ⊢ iprop((held c arg3 arg4 arg6 arg7 arg8 x1 x2 q (loopS i x1 x2 q (k0_t1_loop i).trips a).2
          -∗ wp frame (wpE (defs₀ (F := F)) Variants.none c none) E k Q)
        -∗ wp frame (wpE (defs₀ (F := F)) Variants.none c none) E (loopsP i arg3 arg4 arg6 arg7 arg8 B a.1 k) Q) := by
  unfold loopsP
  iintro H K
  iapply (Scf.wp_for_bind frame (wpE (defs₀ (F := F)) Variants.none c none) E (k0_t1_loop i).lb (k0_t1_loop i).ub (k0_t1_loop i).st (k0_t1_ok i) a.1 _
    (fun n S => iprop(⌜S = (loopS i x1 x2 q n a).1⌝ ∗ held c arg3 arg4 arg6 arg7 arg8 x1 x2 q (loopS i x1 x2 q n a).2)) ?body) $$ [H]
  case body =>
    intro n S
    iintro ⟨%hS, H⟩
    subst hS
    iapply (wp_tiles (E := E) c arg3 arg4 arg6 arg7 arg8 x1 x2 q i n 32 0 _ (loopS i x1 x2 q n.val a) _) $$ H
    iintro H
    have e : loopS i x1 x2 q (n.val + 1) a = tilesS i x1 x2 q n 32 0 (by decide) (loopS i x1 x2 q n.val a) := by
      show (if h : n.val < (k0_t1_loop i).trips then _ else _) = _
      rw [dif_pos n.isLt]
    rw [e]
    isplitr
    · ipureintro; rfl
    iexact H
  · isplitr
    · ipureintro; rfl
    iexact H
  iintro %S ⟨%hS, H⟩
  iapply (Scf.wp_for_bind frame (wpE (defs₀ (F := F)) Variants.none c none) E (k0_t2_loop i).lb (k0_t2_loop i).ub (k0_t2_loop i).st (k0_t2_ok i) S B
    (fun _ _ => held c arg3 arg4 arg6 arg7 arg8 x1 x2 q (loopS i x1 x2 q (k0_t1_loop i).trips a).2)
    (fun n _ => absurd (lt_of_lt_of_eq n.isLt (trips2 i)) (Nat.not_lt_zero _))) $$ [H]
  · iexact H
  iintro %S' H
  iapply K
  iexact H

/-- The queries transposed, the maxima and accumulators set, the first tile. -/
theorem wp_prolog {Q : PUnit → sProp 𝕄} (i : grid0.Coords) (arg2 : Memref sig .tc .vmem S1x256x512 .bf16) (harg6 : arg6.IsWhole)
    (x0 : Vec F S1x256x512 .bf16) (k : Ahead F → Prog (TpuEff nD τ sig (Elt F) Λ₀ .tc) PUnit) :
    iprop(owns (c : Thread nD τ) arg2 fullShare x0 ∗ owns (c : Thread nD τ) arg3 fullShare x1 ∗ owns (c : Thread nD τ) arg4 fullShare x2
        ∗ (∃ d, owns (c : Thread nD τ) arg6 fullShare d) ∗ (∃ d, owns (c : Thread nD τ) arg7 fullShare d) ∗ (∃ d, owns (c : Thread nD τ) arg8 fullShare d))
      ⊢ iprop((owns (c : Thread nD τ) arg2 fullShare x0 -∗ held c arg3 arg4 arg6 arg7 arg8 x1 x2 (queriesF x0) (firstS i x1 x2 (queriesF x0)).2
          -∗ wp frame (wpE (defs₀ (F := F)) Variants.none c none) E (k (firstS i x1 x2 (queriesF x0)).1) Q)
        -∗ wp frame (wpE (defs₀ (F := F)) Variants.none c none) E (prologP i arg2 arg3 arg4 arg6 harg6 arg7 arg8 k) Q) := by
  unfold prologP queryP initP
  iintro ⟨H2, H3, H4, H6, H7, H8⟩ K
  ihave H6 := (heads_intro c arg6 R6) $$ H6
  ihave H7 := (heads_intro c arg7 R7) $$ H7
  ihave H8 := (heads_intro c arg8 R8) $$ H8
  icases H6 with ⟨%X6, H6⟩
  icases H7 with ⟨%X7, H7⟩
  icases H8 with ⟨%X8, H8⟩
  iapply (wp_load_owns c arg2 _ _ x0 _) $$ H2
  iintro H2
  iapply (wp_load_any c arg6 R6 _ _ _ _) $$ H6
  iintro H6
  iapply (wp_store_head c arg6 R6 _ 0 _ _ _ (R6_disj 0) _) $$ H6
  iintro H6
  iapply (wp_load_owns c arg2 _ _ x0 _) $$ H2
  iintro H2
  iapply (wp_load_any c arg6 R6 _ _ _ _) $$ H6
  iintro H6
  iapply (wp_store_head c arg6 R6 _ 1 _ _ _ (R6_disj 1) _) $$ H6
  iintro H6
  iapply (wp_load_owns c arg2 _ _ x0 _) $$ H2
  iintro H2
  iapply (wp_load_any c arg6 R6 _ _ _ _) $$ H6
  iintro H6
  iapply (wp_store_head c arg6 R6 _ 2 _ _ _ (R6_disj 2) _) $$ H6
  iintro H6
  iapply (wp_load_owns c arg2 _ _ x0 _) $$ H2
  iintro H2
  iapply (wp_load_any c arg6 R6 _ _ _ _) $$ H6
  iintro H6
  iapply (wp_store_head c arg6 R6 _ 3 _ _ _ (R6_disj 3) _) $$ H6
  iintro H6
  iapply (wp_load_any c arg7 R7 _ _ _ _) $$ H7
  iintro H7
  iapply (wp_store_heads c arg7 R7 _ (initS (F := F)).1 _ _ _ _ (fun h x => .inl ⟨(R7 h).emb x, whole7 _, rfl⟩) _) $$ H7
  iintro H7
  iapply (wp_load_any c arg8 R8 _ _ _ _) $$ H8
  iintro H8
  iapply (wp_store_heads c arg8 R8 _ (initS (F := F)).2 _ _ _ _ (fun h x => .inl ⟨(R8 h).emb x, whole8 _, rfl⟩) _) $$ H8
  iintro H8
  have e : (Function.update (Function.update (Function.update (Function.update X6 0 (queriesF x0 0)) 1 (queriesF x0 1)) 2 (queriesF x0 2)) 3 (queriesF x0 3))
      = queriesF x0 := by
    funext h
    fin_cases h <;> rfl
  ihave H : held c arg3 arg4 arg6 arg7 arg8 x1 x2 (queriesF x0) initS $$ [H3 H4 H6 H7 H8]
  · unfold held
    rw [← e]
    iframe
    iexact H6
  unfold firstP
  iapply (wp_score c arg3 arg4 arg6 arg7 arg8 x1 x2 _ _ 0 _ _ _) $$ H
  iintro H
  iapply (wp_score c arg3 arg4 arg6 arg7 arg8 x1 x2 _ _ 1 _ _ _) $$ H
  iintro H
  iapply (wp_score c arg3 arg4 arg6 arg7 arg8 x1 x2 _ _ 2 _ _ _) $$ H
  iintro H
  iapply (wp_score c arg3 arg4 arg6 arg7 arg8 x1 x2 _ _ 3 _ _ _) $$ H
  iintro H
  iapply (wp_score c arg3 arg4 arg6 arg7 arg8 x1 x2 _ _ 0 _ _ _) $$ H
  iintro H
  iapply (wp_score c arg3 arg4 arg6 arg7 arg8 x1 x2 _ _ 1 _ _ _) $$ H
  iintro H
  iapply (wp_flash c arg3 arg4 arg6 arg7 arg8 x1 x2 _ _ 0 _ _ _ _) $$ H
  iintro H
  iapply (wp_score c arg3 arg4 arg6 arg7 arg8 x1 x2 _ _ 2 _ _ _) $$ H
  iintro H
  iapply (wp_flash c arg3 arg4 arg6 arg7 arg8 x1 x2 _ _ 1 _ _ _ _) $$ H
  iintro H
  iapply (wp_score c arg3 arg4 arg6 arg7 arg8 x1 x2 _ _ 3 _ _ _) $$ H
  iintro H
  iapply (wp_flash c arg3 arg4 arg6 arg7 arg8 x1 x2 _ _ 2 _ _ _ _) $$ H
  iintro H
  iapply (wp_score c arg3 arg4 arg6 arg7 arg8 x1 x2 _ _ 0 _ _ _) $$ H
  iintro H
  iapply (wp_flash c arg3 arg4 arg6 arg7 arg8 x1 x2 _ _ 3 _ _ _ _) $$ H
  iintro H
  iapply (wp_score c arg3 arg4 arg6 arg7 arg8 x1 x2 _ _ 0 _ _ _) $$ H
  iintro H
  iapply (wp_score c arg3 arg4 arg6 arg7 arg8 x1 x2 _ _ 1 _ _ _) $$ H
  iintro H
  iapply (wp_score c arg3 arg4 arg6 arg7 arg8 x1 x2 _ _ 2 _ _ _) $$ H
  iintro H
  iapply (wp_score c arg3 arg4 arg6 arg7 arg8 x1 x2 _ _ 3 _ _ _) $$ H
  iintro H
  iapply (wp_score c arg3 arg4 arg6 arg7 arg8 x1 x2 _ _ 0 _ _ _) $$ H
  iintro H
  iapply K $$ H2 [H]
  iexact H

/-- The quotients written. -/
theorem wp_finish {Q : PUnit → sProp 𝕄} (arg5 : Memref sig .tc .vmem S1x256x256 .f32) (st : St F) :
    held c arg3 arg4 arg6 arg7 arg8 x1 x2 q st
      ⊢ iprop((∃ d, owns (c : Thread nD τ) arg5 fullShare d)
        -∗ (held c arg3 arg4 arg6 arg7 arg8 x1 x2 q st -∗ (∃ f, arg5.view.loc (c : Thread nD τ) ↦[arg5.view.set]{fullShare}
              arg5.view.writes (Elt F) f [⟨Rect.unit (s := S1x256x256) ![0, 0, 0] S1x256x256.size inb_S1x256x256_S1x256x256_0_0_0,
                outQ (quot (st.2 0)) (quot (st.2 1)) (quot (st.2 2)) (quot (st.2 3))⟩]) -∗ Q ⟨⟩)
        -∗ wp frame (wpE (defs₀ (F := F)) Variants.none c none) E (finishP arg5 arg8) Q) := by
  unfold finishP readP held owns
  iintro ⟨H3, H4, H6, H7, H8⟩ ⟨%d, %f, -, H5⟩ K
  iapply (wp_load_head c arg8 R8 st.2 0 _ _) $$ H8
  iintro H8
  iapply (wp_load_head c arg8 R8 st.2 1 _ _) $$ H8
  iintro H8
  iapply (wp_load_head c arg8 R8 st.2 2 _ _) $$ H8
  iintro H8
  iapply (wp_load_head c arg8 R8 st.2 3 _ _) $$ H8
  iintro H8
  iapply (wp_load Variants.none (c : Thread nD τ) none E (arg5.view.setOn_subset_set _)) $$ H5
  iintro H5
  iapply (wp_store_writes₀ Variants.none (c : Thread nD τ) none E (View.set_slice_subset arg5.view _)) $$ H5
  iintro H5
  rw [wp_ret]
  imodintro
  iapply K $$ [H3 H4 H6 H7 H8] [H5]
  · iframe
  · iexists f
    iexact H5

end

set_option maxHeartbeats 1000000 in
/-- The body run: the inputs are as they were, the output's buffer has the one piece written, the scratch holds something. -/
theorem run_body (c : Dev nD) (i : grid0.Coords) (arg2 : Memref sig .tc .vmem S1x256x512 .bf16) (harg2 : arg2.IsWhole) (arg3 : Memref sig .tc .vmem S1x8448x512 .bf16) (harg3 : arg3.IsWhole)
    (arg4 : Memref sig .tc .vmem S1x33x320x256 .bf16) (harg4 : arg4.IsWhole) (arg5 : Memref sig .tc .vmem S1x256x256 .f32) (harg5 : arg5.IsWhole)
    (arg6 : Memref sig .tc .vmem S4x128x256 .bf16) (harg6 : arg6.IsWhole) (arg7 : Memref sig .tc .vmem S4x1x256 .f32) (harg7 : arg7.IsWhole)
    (arg8 : Memref sig .tc .vmem S4x80x256 .f32) (harg8 : arg8.IsWhole)
    (x0 : Vec F S1x256x512 .bf16) (x1 : Vec F S1x8448x512 .bf16) (x2 : Vec F S1x33x320x256 .bf16) (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2
          ∗ (∃ f, arg5.view.loc (c : Thread nD τ) ↦[arg5.view.set]{fullShare} arg5.view.writes (Elt F) f
              [⟨Rect.unit (s := S1x256x256) ![0, 0, 0] S1x256x256.size inb_S1x256x256_S1x256x256_0_0_0, outF i x0 x1 x2⟩])
          ∗ (∃ d, owns (c : Thread nD τ) arg6 fullShare d) ∗ (∃ d, owns (c : Thread nD τ) arg7 fullShare d) ∗ (∃ d, owns (c : Thread nD τ) arg8 fullShare d)) -∗ K ⟨⟩))
      ⊢ wp frame (wpE (defs₀ (F := F)) Variants.none c none) E (cc0_mla_attn i arg2 harg2 arg3 harg3 arg4 harg4 arg5 harg5 arg6 harg6 arg7 harg7 arg8 harg8) K := by
  obtain ⟨B, hB⟩ := body_eq (F := F) i arg2 harg2 arg3 harg3 arg4 harg4 arg5 harg5 arg6 harg6 arg7 harg7 arg8 harg8
  rw [hB]
  iintro ⟨H2, H3, H4, H5, H6, H7, H8, K⟩
  iapply (wp_prolog c arg3 arg4 arg6 arg7 arg8 x1 x2 i arg2 harg6 x0 _) $$ [H2 H3 H4 H6 H7 H8]
  · iframe
  iintro H2 H
  iapply (wp_loops c arg3 arg4 arg6 arg7 arg8 x1 x2 (queriesF x0) i B (firstS i x1 x2 (queriesF x0)) _) $$ H
  iintro H
  iapply (wp_finish c arg3 arg4 arg6 arg7 arg8 x1 x2 (queriesF x0) arg5 _) $$ H H5
  iintro H H5
  iapply K
  unfold held
  icases H with ⟨H3, H4, H6, H7, H8⟩
  ihave H6 := (heads_elim c arg6 R6 _) $$ H6
  ihave H7 := (heads_elim c arg7 R7 _) $$ H7
  ihave H8 := (heads_elim c arg8 R8 _) $$ H8
  iframe
  iexact H5

end Cert.Mla

end
-- ==== Proof.Mla.Frame.lean ====
/- The frame: the run of the body put at every point of the grid, the pipeline's proof data with the block the body computes, the
   launch; and the result array after the run. -/
module

public import proofs.«01_k».proof.Proof.Mla.Run
public import proofs.«01_k».proof.Proof.Gen.Kernel2Ideal.Launch
public import proofs.«01_k».proof.Proof.Gen.Kernel2Ideal.Points
public import Idealize.ShloMosaic.Lib.Pipeline.FrameBody
public import Idealize.ShloMosaic.Lib.Pipeline.Value
public import Idealize.ShloMosaic.Lib.Claim

@[expose] public section

set_option maxRecDepth 16384

noncomputable section

namespace Cert.Mla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_Kernel2Ideal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩) h

/-! ## The kernel body on any staging memrefs: a subtype the run finds -/

/-- One staging buffer of output window 3, through which its contents are stated (`View.read_writes_of_cover`: the
    choice does not matter). -/
abbrev VO0_3 : View sig .tc .vmem S1x256x256 .f32 := (Memref.whole cc0_stg3_0 : Memref sig .tc .vmem S1x256x256 .f32).view
/-- Each window's current staging memref at point `t`, spelled as the pipeline passes it (`bodyAt0`), and its wholeness. -/
abbrev ms0_0 (t : Fin cfg0.N) : Memref sig .tc .vmem S1x256x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x8448x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x33x320x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256x256 .f32 := win0_3.stage (cfg0.slots t 3)
abbrev hs0_3 (t : Fin cfg0.N) : (ms0_3 t).IsWhole := hstage0_3 ((cfg0.slots t 3).cast nbuf0_3)
/-- The scratch operands: whole scoped buffers of the kernel's own, passed beside the windows. -/
abbrev scM0_0 : Memref sig .tc .vmem S4x128x256 .bf16 := Memref.whole cc0_scratch0
abbrev scM0_1 : Memref sig .tc .vmem S4x1x256 .f32 := Memref.whole cc0_scratch1
abbrev scM0_2 : Memref sig .tc .vmem S4x80x256 .f32 := Memref.whole cc0_scratch2

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

theorem whole5 (y : S1x256x256.Idx) : (Rect.unit (s := S1x256x256) ![0, 0, 0] S1x256x256.size inb_S1x256x256_S1x256x256_0_0_0).emb y = y := by
  refine Rect.emb_eq_of_coords (Rect.unit (s := S1x256x256) ![0, 0, 0] S1x256x256.size inb_S1x256x256_S1x256x256_0_0_0) y y fun a => ?_
  have h0 : (![0, 0, 0] : Fin 3 → Nat) a = 0 := by fin_cases a <;> rfl
  show (y a).val = (![0, 0, 0] : Fin 3 → Nat) a + 1 * (y a).val
  rw [h0]
  omega

/-- A whole block written is read back. -/
theorem read_whole5 (v : View sig .tc .vmem S1x256x256 .f32) (f : v.ty.Contents (Elt F)) (w : Vec F S1x256x256 .f32) (y : S1x256x256.Idx) :
    v.read (Elt F) (v.writes (Elt F) f [⟨Rect.unit (s := S1x256x256) ![0, 0, 0] S1x256x256.size inb_S1x256x256_S1x256x256_0_0_0, w⟩]) y = w y :=
  View.read_writes_cons_hit v f (Rect.unit (s := S1x256x256) ![0, 0, 0] S1x256x256.size inb_S1x256x256_S1x256x256_0_0_0) w [] y y (whole5 y)

/-- What the output's staging buffer holds after the body at point `t`. -/
def outsAt0 (c : Dev nD) (t : Fin cfg0.N) : Vec F S1x256x256 .f32 :=
  outF (grid0.coords t) (iblk m c 0 t) (iblk m c 1 t) (iblk m c 2 t)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  rw [show (dats m 0 c).Φ t.castSucc = Pipeline.ΦA spec0 c from rfl, PhiA0_eq]
  unfold outsAt0
  iintro ⟨⟨⟨HS0, HS1, HS2⟩, Hg⟩, Ho, ⟨%d0, H0⟩, ⟨%d1, H1⟩, ⟨%d2, H2⟩, ⟨%d3, H3⟩⟩
  iapply (run_body c (grid0.coords t) _ (hs0_0 t) _ (hs0_1 t) _ (hs0_2 t) _ (hs0_3 t) _ (Memref.isWhole_whole _) _ (Memref.isWhole_whole _) _ (Memref.isWhole_whole _)
    (iblk m c 0 t) (iblk m c 1 t) (iblk m c 2 t) Set.univ _)
  isplitl [H0]; · iexact H0
  isplitl [H1]; · iexact H1
  isplitl [H2]; · iexact H2
  isplitl [H3]; · iexists _; iexact H3
  isplitl [HS0]; · iexact HS0
  isplitl [HS1]; · iexact HS1
  isplitl [HS2]; · iexact HS2
  iintro ⟨H0, H1, H2, ⟨%e3, H3⟩, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  unfold owns; iexists _; isplitr
  swap; · iexact H3
  ipureintro
  funext y
  exact read_whole5 _ _ _ y

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame: the arguments unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

/-- The run with the result array named and the arguments unchanged. -/
theorem run_blocks : θ_run defs (onTc (τ := τ) (main (F := F))) ⟨m, fun _ => 0, ρ⟩ fun r => ∀ c : Dev nD,
      r.2.mem ((c : Thread nD τ).loc main_v20) = (dats m 0 c).arrAt 3 cfg0.N :=
  (θ_run defs _ _).mono (fun r h c => (h c).1 3) (run_main m ρ)

/-- What point `t` writes back. -/
theorem flushed3 (c : Dev nD) (t : Fin cfg0.N) :
    (dats m 0 c).flushed 3 t = (cfg0.win 3).cut (grid0.coords t) (outsAt0 m c t) := by
  show (cfg0.win 3).cut (grid0.coords t) ((dats m 0 c).after 3 t) = _
  rw [after0_3]

end Cert.Mla

end
-- ==== Proof.Mla.Frames.lean ====
/- The frames of the attention call. The two programs have one text, so the run over any numbers gives both. -/
module

public import proofs.«01_k».proof.Proof.Mla.Frame
public import proofs.«01_k».proof.Proof.Gen.Kernel2
public import proofs.«01_k».proof.Defs

@[expose] public section

set_option maxRecDepth 65536

noncomputable section

namespace Cert.Mla

open Idealize.ShloMosaic Idealize.ShloMosaic.TcCoe Idealize.SL.Sem

variable {F : FTy → Type} [FloatOps F]

/-- The kernel bodies are the same. -/
theorem bodies_same : Cert.Kernel2.defs₀ (F := F) = Cert.Kernel2Ideal.defs₀ (F := F) := by
  refine congrArg Defs.onTc (funext fun l => funext fun a => ?_)
  match l, a with
  | ⟨0, _⟩, (t, s) => with_unfolding_all rfl

theorem pipelines_same : Pipeline.defs (Cert.Kernel2.pcfgs (F := F)) (Cert.Kernel2Ideal.defs₀ (F := F)) = Cert.Kernel2Ideal.defs (F := F) := by
  with_unfolding_all rfl

/-- The programs' bodies with their pipelines are the same. -/
theorem defs_same : Cert.Kernel2.defs (F := F) = Cert.Kernel2Ideal.defs (F := F) :=
  (congrArg (Pipeline.defs Cert.Kernel2.pcfgs) bodies_same).trans pipelines_same

theorem frame_kernel : Cert.quiescent_Kernel2 := by
  intro m g _
  rw [defs_same]
  with_unfolding_all exact frame (F := Bits) m g

theorem frame_ideal : Cert.quiescent_Kernel2Ideal := fun m ρ _ => frame (F := Ideal) m ρ

theorem frame_ideal_pre [Cert.Pre_finite_scores.Facts] : Cert.quiescent_Kernel2Ideal_pre_finite_scores := fun m ρ _ => frame (F := Ideal) m ρ

end Cert.Mla

end
-- ==== Proof.Mla.Sweep.lean ====
/- The sweep of one head: the tiles in order, whatever the order in which the four heads' steps are interleaved and how far ahead the
   scores are computed. At the first block of queries the sweep is of one tile, at the others of all 33. -/
module

public import proofs.«01_k».proof.Proof.Mla.State

@[expose] public section

set_option maxRecDepth 65536

noncomputable section

namespace Cert.Mla

open Idealize.ShloMosaic Idealize.ShloMosaic.TcCoe
open Cert.Kernel2Ideal Cert.Kernel2Ideal.Gen

variable {F : FTy → Type} [FloatOps F]

theorem inbK (h : Fin 4) (n : Nat) : ∀ a, (![0, 256 * min n 32, 128 * h.val] : Fin 3 → Nat) a + S1x256x128.size a ≤ S1x8448x512.size a := by
  have hn : min n 32 ≤ 32 := Nat.min_le_right _ _
  have hh := h.isLt
  intro a
  fin_cases a
  · show 0 + 1 ≤ 1; omega
  · show 256 * min n 32 + 256 ≤ 8448; omega
  · show 128 * h.val + 128 ≤ 512; omega

theorem inbV (h : Fin 4) (n : Nat) : ∀ a, (![0, min n 32, 80 * h.val, 0] : Fin 4 → Nat) a + S1x1x80x256.size a ≤ S1x33x320x256.size a := by
  have hn : min n 32 ≤ 32 := Nat.min_le_right _ _
  have hh := h.isLt
  intro a
  fin_cases a
  · show 0 + 1 ≤ 1; omega
  · show min n 32 + 1 ≤ 33; omega
  · show 80 * h.val + 80 ≤ 320; omega
  · show 0 + 256 ≤ 256; omega

/-- The scores of head `h` against tile `n`. -/
def sc (x1 : Vec F S1x8448x512 .bf16) (q : Qs F) (h : Fin 4) (n : Nat) : Sc F := scoreF x1 q h ![0, 256 * min n 32, 128 * h.val] (inbK h n)
/-- The values of head `h` in tile `n`. -/
def vl (x2 : Vec F S1x33x320x256 .bf16) (h : Fin 4) (n : Nat) : Vec F S1x1x80x256 .bf16 := valF x2 ![0, min n 32, 80 * h.val, 0] (inbV h n)

/-- One step of one head. -/
def stepH (s : Sc F) (v : Vec F S1x1x80x256 .bf16) (a : Vec F S1x1x256 .f32 × Vec F S1x80x256 .f32) : Vec F S1x1x256 .f32 × Vec F S1x80x256 .f32 :=
  (shapeCast S1x1x256 (newM s a.1) shapeCasts_S1x256_S1x1x256, shapeCast S1x80x256 (newA s a.1 v a.2) shapeCasts_S80x256_S1x80x256)

/-- Head `h` after `n` tiles. -/
def hst (x1 : Vec F S1x8448x512 .bf16) (x2 : Vec F S1x33x320x256 .bf16) (q : Qs F) (h : Fin 4) : Nat → Vec F S1x1x256 .f32 × Vec F S1x80x256 .f32
  | 0 => ((initS (F := F)).1 h, (initS (F := F)).2 h)
  | n + 1 => stepH (sc x1 q h n) (vl x2 h n) (hst x1 x2 q h n)

theorem scoreF_eq (x1 : Vec F S1x8448x512 .bf16) (q : Qs F) (h : Fin 4) (n : Nat) (off : Fin 3 → Nat) (ho : ∀ a, off a + S1x256x128.size a ≤ S1x8448x512.size a)
    (e : off = ![0, 256 * min n 32, 128 * h.val]) : scoreF x1 q h off ho = sc x1 q h n := by
  subst e
  rfl

theorem valF_eq (x2 : Vec F S1x33x320x256 .bf16) (h : Fin 4) (n : Nat) (off : Fin 4 → Nat) (ho : ∀ a, off a + S1x1x80x256.size a ≤ S1x33x320x256.size a)
    (e : off = ![0, min n 32, 80 * h.val, 0]) : valF x2 off ho = vl x2 h n := by
  subst e
  rfl

/-- Head `h`'s part of the state. -/
def part (st : St F) (h : Fin 4) : Vec F S1x1x256 .f32 × Vec F S1x80x256 .f32 := (st.1 h, st.2 h)

theorem part_flash_self (h : Fin 4) (s : Sc F) (v : Vec F S1x1x80x256 .bf16) (st : St F) : part (flashS h s v st) h = stepH s v (part st h) := by
  unfold part flashS
  dsimp only
  rw [Function.update_self, Function.update_self]
  rfl

theorem part_flash_ne (h h' : Fin 4) (hh : h' ≠ h) (s : Sc F) (v : Vec F S1x1x80x256 .bf16) (st : St F) : part (flashS h s v st) h' = part st h' := by
  unfold part flashS
  dsimp only
  rw [Function.update_of_ne hh, Function.update_of_ne hh]

/-- Four steps, one a head. -/
theorem part_four (s0 s1 s2 s3 : Sc F) (v0 v1 v2 v3 : Vec F S1x1x80x256 .bf16) (st : St F) (h : Fin 4) :
    part (flashS 3 s3 v3 (flashS 2 s2 v2 (flashS 1 s1 v1 (flashS 0 s0 v0 st)))) h = stepH (![s0, s1, s2, s3] h) (![v0, v1, v2, v3] h) (part st h) := by
  fin_cases h
  · show part _ 0 = _
    rw [part_flash_ne 3 0 (by decide), part_flash_ne 2 0 (by decide), part_flash_ne 1 0 (by decide), part_flash_self]
    rfl
  · show part _ 1 = _
    rw [part_flash_ne 3 1 (by decide), part_flash_ne 2 1 (by decide), part_flash_self, part_flash_ne 0 1 (by decide)]
    rfl
  · show part _ 2 = _
    rw [part_flash_ne 3 2 (by decide), part_flash_self, part_flash_ne 1 2 (by decide), part_flash_ne 0 2 (by decide)]
    rfl
  · show part _ 3 = _
    rw [part_flash_self, part_flash_ne 2 3 (by decide), part_flash_ne 1 3 (by decide), part_flash_ne 0 3 (by decide)]
    rfl

/-! ## Where the steps read -/

theorem off0 : ∀ i : grid0.Coords, k0_off1 i 0#32 = ![0, 0, 0] ∧ k0_off2 i 0#32 = ![0, 0, 128] ∧ k0_off3 i 0#32 = ![0, 0, 256] ∧ k0_off4 i 0#32 = ![0, 0, 384] := by
  decide +kernel

theorem offv0 : k0_off6 = ![0, 0, 0, 0] ∧ k0_off8 = ![0, 0, 80, 0] ∧ k0_off10 = ![0, 0, 160, 0] ∧ k0_off12 = ![0, 0, 240, 0] := by
  decide +kernel

/-- The trips of the loop: none at the first block of queries, one at the others. -/
theorem trips1 (i : grid0.Coords) : (k0_t1_loop i).trips = if (i 1).val = 0 then 0 else 1 := by
  have key : ∀ j : Fin 33, (k0_t1_loop (fun a => match a with | ⟨0, _⟩ => (⟨0, by decide⟩ : Fin 8) | ⟨1, _⟩ => j)).trips = if j.val = 0 then 0 else 1 := by decide +kernel
  exact key (i 1)

theorem second (i : grid0.Coords) (h : 0 < (k0_t1_loop i).trips) : Scalar.cmpi .slt (BitVec.ofNat 32 (i 1).val) 1#32 = 0#1 := by
  have key : ∀ j : Fin 33, j.val ≠ 0 → Scalar.cmpi .slt (BitVec.ofNat 32 j.val) 1#32 = 0#1 := by decide +kernel
  refine key (i 1) fun h0 => ?_
  rw [trips1, if_pos h0] at h
  exact absurd h (Nat.lt_irrefl 0)

theorem trip_zero (i : grid0.Coords) (t : Fin (k0_t1_loop i).trips) : t.val = 0 := by
  have h := t.isLt
  have e := trips1 i
  split at e <;> omega

theorem off1 (i : grid0.Coords) (h : 0 < (k0_t1_loop i).trips) : k0_off1 i 1#32 = ![0, 256, 0] ∧ k0_off2 i 1#32 = ![0, 256, 128] ∧ k0_off3 i 1#32 = ![0, 256, 256]
    ∧ k0_off4 i 1#32 = ![0, 256, 384] ∧ k0_off1 i 2#32 = ![0, 512, 0] := by
  have h1 := second i h
  unfold k0_off1 k0_off2 k0_off3 k0_off4
  dsimp only
  rw [h1]
  decide +kernel

theorem offk (i : grid0.Coords) (t : Fin (k0_t1_loop i).trips) (r : Fin 32) :
    k0_off13 i t (BitVec.ofNat 32 (1 + r.val)) = ![0, 256 * min (r.val + 2) 32, 128] ∧ k0_off15 i t (BitVec.ofNat 32 (1 + r.val)) = ![0, 256 * min (r.val + 2) 32, 256]
    ∧ k0_off17 i t (BitVec.ofNat 32 (1 + r.val)) = ![0, 256 * min (r.val + 2) 32, 384] ∧ k0_off19 i t (BitVec.ofNat 32 (2 + r.val)) = ![0, 256 * min (r.val + 3) 32, 0] := by
  have h1 := second i (Nat.lt_of_le_of_lt (Nat.zero_le _) t.isLt)
  have h2 := trip_zero i t
  unfold k0_off13 k0_off15 k0_off17 k0_off19
  dsimp only
  rw [h1, h2]
  clear h1 h2 t
  revert r
  decide +kernel

theorem offv (i : grid0.Coords) (t : Fin (k0_t1_loop i).trips) (r : Fin 32) :
    k0_off14 i t (BitVec.ofNat 32 r.val) = ![0, min (r.val + 1) 32, 0, 0] ∧ k0_off16 i t (BitVec.ofNat 32 r.val) = ![0, min (r.val + 1) 32, 80, 0]
    ∧ k0_off18 i t (BitVec.ofNat 32 r.val) = ![0, min (r.val + 1) 32, 160, 0] ∧ k0_off20 i t (BitVec.ofNat 32 r.val) = ![0, min (r.val + 1) 32, 240, 0] := by
  have h2 := trip_zero i t
  unfold k0_off14 k0_off16 k0_off18 k0_off20
  dsimp only
  try rw [second i (Nat.lt_of_le_of_lt (Nat.zero_le _) t.isLt)]
  rw [h2]
  clear h2 t
  revert r
  decide +kernel

/-! ## The state as the heads' sweeps -/

variable (i : grid0.Coords) (x1 : Vec F S1x8448x512 .bf16) (x2 : Vec F S1x33x320x256 .bf16) (q : Qs F)

/-- Before tile `n`: the scores at hand are tile `n`'s, and head 0's of the next; each head has swept `n` tiles. -/
def Swept (n : Nat) (a : Ahead F × St F) : Prop :=
  a.1 = (sc x1 q 0 n, sc x1 q 1 n, sc x1 q 2 n, sc x1 q 3 n, sc x1 q 0 (n + 1)) ∧ ∀ h, part a.2 h = hst x1 x2 q h n

theorem first_part (h : Fin 4) : part (firstS i x1 x2 q).2 h = hst x1 x2 q h 1 := by
  obtain ⟨k0, k1, k2, k3⟩ := off0 i
  obtain ⟨v0, v1, v2, v3⟩ := offv0
  unfold firstS
  rw [scoreF_eq x1 q 0 0 _ _ k0, scoreF_eq x1 q 1 0 _ _ k1, scoreF_eq x1 q 2 0 _ _ k2, scoreF_eq x1 q 3 0 _ _ k3,
    valF_eq x2 0 0 _ _ v0, valF_eq x2 1 0 _ _ v1, valF_eq x2 2 0 _ _ v2, valF_eq x2 3 0 _ _ v3]
  dsimp only
  rw [part_four]
  fin_cases h <;> rfl

theorem first_swept (ht : 0 < (k0_t1_loop i).trips) : Swept x1 x2 q 1 (firstS i x1 x2 q) := by
  refine ⟨?_, first_part i x1 x2 q⟩
  obtain ⟨k0, k1, k2, k3, k4⟩ := off1 i ht
  unfold firstS
  dsimp only
  rw [scoreF_eq x1 q 0 1 _ _ k0, scoreF_eq x1 q 1 1 _ _ k1, scoreF_eq x1 q 2 1 _ _ k2, scoreF_eq x1 q 3 1 _ _ k3, scoreF_eq x1 q 0 2 _ _ k4]

theorem tile_swept (t : Fin (k0_t1_loop i).trips) (r : Fin 32) (a : Ahead F × St F) (ha : Swept x1 x2 q (r.val + 1) a) :
    Swept x1 x2 q (r.val + 2) (tileS i x1 x2 q t r a) := by
  obtain ⟨h1, h2⟩ := ha
  obtain ⟨k1, k2, k3, k0⟩ := offk i t r
  obtain ⟨v0, v1, v2, v3⟩ := offv i t r
  unfold tileS
  rw [scoreF_eq x1 q 1 (r.val + 2) _ _ k1, scoreF_eq x1 q 2 (r.val + 2) _ _ k2, scoreF_eq x1 q 3 (r.val + 2) _ _ k3, scoreF_eq x1 q 0 (r.val + 3) _ _ k0,
    valF_eq x2 0 (r.val + 1) _ _ v0, valF_eq x2 1 (r.val + 1) _ _ v1, valF_eq x2 2 (r.val + 1) _ _ v2, valF_eq x2 3 (r.val + 1) _ _ v3, h1]
  refine ⟨rfl, fun h => ?_⟩
  dsimp only
  rw [part_four, h2]
  fin_cases h <;> rfl

theorem tiles_swept (t : Fin (k0_t1_loop i).trips) (n : Nat) : ∀ (r : Nat) (hr : r + n ≤ 32) (a : Ahead F × St F), Swept x1 x2 q (r + 1) a →
    Swept x1 x2 q (r + n + 1) (tilesS i x1 x2 q t n r hr a) := by
  induction n with
  | zero => exact fun r hr a ha => ha
  | succ n ih =>
    intro r hr a ha
    have h := ih (r + 1) (by omega) _ (tile_swept i x1 x2 q t ⟨r, by omega⟩ a ha)
    rw [show r + (n + 1) + 1 = r + 1 + n + 1 from by omega]
    exact h

/-- The accumulators at the end, head by head: a sweep of one tile at the first block of queries, of 33 at the others. -/
theorem last_part (x0 : Vec F S1x256x512 .bf16) (h : Fin 4) :
    (lastS i x0 x1 x2).2 h = (hst x1 x2 (queriesF x0) h (if (i 1).val = 0 then 1 else 33)).2 := by
  have ht := trips1 i
  suffices part (lastS i x0 x1 x2) h = hst x1 x2 (queriesF x0) h (if (i 1).val = 0 then 1 else 33) from congrArg Prod.snd this
  unfold lastS
  by_cases hi : (i 1).val = 0
  · rw [if_pos hi] at ht ⊢
    rw [ht]
    exact first_part i x1 x2 _ h
  · rw [if_neg hi] at ht ⊢
    have h0 : 0 < (k0_t1_loop i).trips := by rw [ht]; exact Nat.one_pos
    rw [ht]
    unfold loopS
    rw [dif_pos h0]
    exact (tiles_swept i x1 x2 _ ⟨0, h0⟩ 32 0 (by decide) _ (first_swept i x1 x2 _ h0)).2 h

end Cert.Mla

end
-- ==== Proof.Mla.Math.lean ====
/- The mathematics of the attention: the softmax-weighted sum of values that may be infinite, and the running softmax that computes it
   with a moving reference point. -/
module

public import Idealize.ShloMosaic.Lib.Pointwise

@[expose] public section

noncomputable section

namespace Cert.Mla

open Idealize.ShloMosaic

/-- The values `v` weighted by the softmax of the scores `x`. -/
def attn {ι : Type} [Fintype ι] (x : ι → ℝ) (v : ι → EReal) : EReal := ∑ i, v i * ((Real.exp (x i) / ∑ j, Real.exp (x j) : ℝ) : EReal)

theorem attn_equiv {ι κ : Type} [Fintype ι] [Fintype κ] (e : ι ≃ κ) (x : κ → ℝ) (v : κ → EReal) :
    attn (fun i => x (e i)) (fun i => v (e i)) = attn x v := by
  unfold attn
  rw [Equiv.sum_comp e (fun j => Real.exp (x j))]
  exact Equiv.sum_comp e (fun j => v j * ((Real.exp (x j) / ∑ j, Real.exp (x j) : ℝ) : EReal))

theorem coe_mul_sum {ι : Type} (s : Finset ι) (f : ι → EReal) (c : ℝ) (hc : 0 ≤ c) : (c : EReal) * ∑ i ∈ s, f i = ∑ i ∈ s, (c : EReal) * f i := by
  classical
  induction s using Finset.induction_on with
  | empty => rw [Finset.sum_empty, Finset.sum_empty, mul_zero]
  | insert a s ha ih =>
    rw [Finset.sum_insert ha, Finset.sum_insert ha, ← ih,
      EReal.left_distrib_of_nonneg_of_ne_top (EReal.coe_nonneg.mpr hc) (EReal.coe_ne_top c)]

theorem coe_sum {ι : Type} (s : Finset ι) (f : ι → ℝ) : ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- A weighted sum with weights `r`, divided by the sum of the weights, is the sum with normalised weights. -/
theorem div_weights {ι : Type} [Fintype ι] [Nonempty ι] (v : ι → EReal) (r : ι → ℝ) (hr : ∀ i, 0 < r i) :
    Ideal.div (∑ i, v i * (r i : EReal)) ((∑ i, r i : ℝ) : EReal) = ∑ i, v i * ((r i / ∑ j, r j : ℝ) : EReal) := by
  have hL : 0 < ∑ i, r i := Finset.sum_pos (fun i _ => hr i) Finset.univ_nonempty
  unfold Ideal.div
  rw [if_neg (by rw [EReal.coe_eq_zero]; exact hL.ne'), ← EReal.coe_inv, mul_comm, coe_mul_sum _ _ _ (inv_nonneg.mpr hL.le)]
  refine Finset.sum_congr rfl fun i _ => ?_
  rw [mul_left_comm, ← EReal.coe_mul, div_eq_inv_mul]

/-- The weights of a softmax do not depend on the reference point. -/
theorem softmax_shift {ι : Type} [Fintype ι] (x : ι → ℝ) (m : ℝ) (i : ι) :
    Real.exp (x i - m) / ∑ j, Real.exp (x j - m) = Real.exp (x i) / ∑ j, Real.exp (x j) := by
  simp only [Real.exp_sub]
  rw [← Finset.sum_div, div_div_div_cancel_right₀ (Real.exp_pos m).ne']

theorem exp2_sub_coe (a b : ℝ) : Ideal.exp2 ((a : EReal) - (b : EReal)) = ((Real.exp (a * Real.log 2 - b * Real.log 2) : ℝ) : EReal) := by
  rw [← EReal.coe_sub, ← sub_mul, Ideal.exp2_coe]
  congr 1
  show (2 : ℝ) ^ (a - b) = _
  rw [Real.rpow_def_of_pos two_pos, mul_comm]

theorem exp_sub_coe (a b : ℝ) : Ideal.exp ((a : EReal) - (b : EReal)) = ((Real.exp (a - b) : ℝ) : EReal) := by
  rw [← EReal.coe_sub]
  rfl

/-- One step: the old sum rescaled to the new reference point, plus the new terms. -/
theorem step_sum {ι κ : Type} (s : Finset ι) [Fintype κ] (y : ι → ℝ) (w : ι → EReal) (x : κ → ℝ) (v : κ → EReal) (m m' : ℝ) :
    Ideal.exp2 ((m : EReal) - (m' : EReal)) * (∑ i ∈ s, w i * ((Real.exp (y i * Real.log 2 - m * Real.log 2) : ℝ) : EReal))
      + ∑ k, v k * Ideal.exp2 ((x k : EReal) - (m' : EReal))
    = (∑ i ∈ s, w i * ((Real.exp (y i * Real.log 2 - m' * Real.log 2) : ℝ) : EReal))
      + ∑ k, v k * ((Real.exp (x k * Real.log 2 - m' * Real.log 2) : ℝ) : EReal) := by
  rw [exp2_sub_coe, coe_mul_sum _ _ _ (Real.exp_pos _).le]
  congr 1
  · refine Finset.sum_congr rfl fun i _ => ?_
    rw [mul_left_comm, ← EReal.coe_mul, ← Real.exp_add]
    congr 3
    ring
  · refine Finset.sum_congr rfl fun k _ => ?_
    rw [exp2_sub_coe]

/-- What the kernel's quotient is: the softmax-weighted sum, of scores in base two. -/
theorem quotient_attn {ι : Type} [Fintype ι] [Nonempty ι] (x : ι → ℝ) (v : ι → EReal) (m : ℝ) :
    Ideal.div (∑ i, v i * ((Real.exp (x i * Real.log 2 - m * Real.log 2) : ℝ) : EReal))
      (∑ i, ((Real.exp (x i * Real.log 2 - m * Real.log 2) : ℝ) : EReal)) = attn (fun i => x i * Real.log 2) v := by
  rw [← coe_sum, div_weights _ _ fun i => Real.exp_pos _]
  unfold attn
  refine Finset.sum_congr rfl fun i _ => ?_
  rw [softmax_shift (fun i => x i * Real.log 2)]

/-- What the reference's weights are. -/
theorem weights_attn {ι : Type} [Fintype ι] [Nonempty ι] (x : ι → ℝ) (v : ι → EReal) (m : ℝ) :
    ∑ i, v i * Ideal.div (Ideal.exp ((x i : EReal) - (m : EReal))) (0 + ∑ j, Ideal.exp ((x j : EReal) - (m : EReal))) = attn x v := by
  have hL : 0 < ∑ j, Real.exp (x j - m) := Finset.sum_pos (fun j _ => Real.exp_pos _) Finset.univ_nonempty
  unfold attn
  refine Finset.sum_congr rfl fun i _ => ?_
  congr 1
  simp only [exp_sub_coe]
  rw [zero_add, ← coe_sum, Ideal.div_coe hL.ne', ← EReal.coe_mul, mul_one_div, softmax_shift]

/-- The largest of real numbers, from a real number on, is real. -/
theorem max_fold_real {ι : Type} (s : Finset ι) (f : ι → EReal) (b : EReal) (m : ℝ) (hb : b ≠ ⊤) (hf : ∀ i, ∃ r : ℝ, f i = r) :
    ∃ r : ℝ, max (m : EReal) (s.fold max b f) = r := by
  have h1 : max (m : EReal) (s.fold max b f) ≠ ⊤ := by
    refine ne_of_lt (max_lt (EReal.coe_lt_top m) ((Finset.fold_max_lt _).mpr ⟨lt_top_iff_ne_top.mpr hb, fun i _ => ?_⟩))
    obtain ⟨r, hr⟩ := hf i
    rw [hr]
    exact EReal.coe_lt_top r
  have h2 : max (m : EReal) (s.fold max b f) ≠ ⊥ := ne_of_gt (lt_of_lt_of_le (EReal.bot_lt_coe m) (le_max_left _ _))
  exact ⟨_, (EReal.coe_toReal h1 h2).symm⟩

/-- The largest of at least one real number is real. -/
theorem fold_real {ι : Type} (s : Finset ι) (f : ι → EReal) (b : EReal) (i : ι) (hi : i ∈ s) (hb : b ≠ ⊤) (hf : ∀ i, ∃ r : ℝ, f i = r) :
    ∃ r : ℝ, s.fold max b f = r := by
  obtain ⟨m, hm⟩ := hf i
  obtain ⟨r, hr⟩ := max_fold_real s f b m hb hf
  refine ⟨r, ?_⟩
  rw [← hr]
  refine (max_eq_right ((Finset.le_fold_max _).mpr (Or.inr ⟨i, hi, ?_⟩))).symm
  rw [hm]

/-- The keys seen by the later queries, in the reference's order: the tiles rotated by one. -/
def rotate : Fin 8448 ≃ Fin 33 × Fin 256 := (finProdFinEquiv (m := 33) (n := 256)).symm.trans (Equiv.prodCongr (Equiv.addRight 1) (Equiv.refl _))

theorem rotate_fst (j : Fin 8448) : (rotate j).1.val = (j.val / 256 + 1) % 33 := by
  show (Fin.divNat (m := 33) (n := 256) j + 1).val = _
  rw [Fin.val_add]
  rfl

theorem rotate_snd (j : Fin 8448) : (rotate j).2.val = j.val % 256 := rfl

theorem rotate_lt (j : Fin 8448) (h : j.val < 8192) : 256 * (rotate j).1.val + (rotate j).2.val = 256 + j.val := by
  rw [rotate_fst, rotate_snd]
  omega

theorem rotate_ge (j : Fin 8448) (h : 8192 ≤ j.val) : 256 * (rotate j).1.val + (rotate j).2.val = j.val - 8192 := by
  have hj := j.isLt
  rw [rotate_fst, rotate_snd]
  omega

end Cert.Mla

end
-- ==== Proof.Mla.Spec.lean ====
/- What the attention call computes, from queries and keys of 4 heads of 96 lanes and values of 4 heads of 64 columns: the 256 context
   tokens come first and attend to each other only; every other token attends to all 8448 tokens. -/
module

public import proofs.«01_k».proof.Proof.Mla.Math

@[expose] public section

noncomputable section

namespace Cert.Mla

open Idealize.ShloMosaic

/-- Token `k` of tile `t`. -/
def keyAt (t : Fin 33) (k : Fin 256) : Fin 8448 := ⟨256 * t.val + k.val, by omega⟩

/-- The queries' and keys' arrays, and the values'. -/
abbrev Heads : Type := (⟨4, ![8, 8448, 4, 96]⟩ : Shape).Idx → EReal
abbrev Values : Type := (⟨4, ![8, 8448, 4, 64]⟩ : Shape).Idx → EReal

/-- All entries are real numbers. -/
def Real4 (q : Heads) : Prop := ∀ i, ∃ a : ℝ, q i = (a : EReal)

theorem Real4.toReal {q : Heads} (hq : Real4 q) (i) : ((q i).toReal : EReal) = q i := by
  obtain ⟨a, ha⟩ := hq i
  rw [ha, EReal.toReal_coe]

/-- The product of token `T`'s query with token `j`'s key in head `h` of batch `b`. -/
def prod (q k : Heads) (b : Fin 8) (h : Fin 4) (T j : Fin 8448) : ℝ := ∑ l : Fin 96, (q (ix4 b T h l)).toReal * (k (ix4 b j h l)).toReal

theorem prod_eq {q k : Heads} (hq : Real4 q) (hk : Real4 k) (b : Fin 8) (h : Fin 4) (T j : Fin 8448) :
    ∑ l : Fin 96, q (ix4 b T h l) * k (ix4 b j h l) = (prod q k b h T j : EReal) := by
  unfold prod
  rw [coe_sum]
  refine Finset.sum_congr rfl fun l _ => ?_
  rw [EReal.coe_mul, hq.toReal, hk.toReal]

/-- The score. -/
def score (q k : Heads) (b : Fin 8) (h : Fin 4) (T j : Fin 8448) : ℝ := prod q k b h T j / Real.sqrt 96

/-- The result at token `T` and column `d` of head `h` of batch `b`. -/
def value (q k : Heads) (v : Values) (b : Fin 8) (T : Fin 8448) (h : Fin 4) (d : Fin 64) : EReal :=
  if T.val < 256 then attn (fun j : Fin 256 => score q k b h T (keyAt 0 j)) (fun j => v (ix4 b (keyAt 0 j) h d))
  else attn (fun j : Fin 33 × Fin 256 => score q k b h T (keyAt j.1 j.2)) (fun j => v (ix4 b (keyAt j.1 j.2) h d))

/-- The result as an array: the columns of the four heads side by side. -/
def result (q k : Heads) (v : Values) : (⟨3, ![8, 8448, 256]⟩ : Shape).Idx → EReal := fun i =>
  value q k v (i 0) (i 1) ⟨(i 2).val / 64, by have : (i 2).val < 256 := (i 2).isLt; omega⟩ ⟨(i 2).val % 64, Nat.mod_lt _ (by decide)⟩

/-! ## The scale -/

theorem ninety_six : Ideal.ofBits .f32 0x42C00000#32 = ((96 : ℝ) : EReal) := by
  simp [Ideal.ofBits, Ideal.ieee, -EReal.coe_mul]
  norm_num

theorem two : Ideal.ofBits .f32 0x40000000#32 = ((2 : ℝ) : EReal) := by
  simp [Ideal.ofBits, Ideal.ieee, -EReal.coe_mul]
  norm_num

theorem one : Ideal.ofBits .f32 0x3F800000#32 = 1 := by
  simp [Ideal.ofBits, Ideal.ieee, -EReal.coe_mul]
  norm_num

theorem sqrt_pos : 0 < Real.sqrt 96 := Real.sqrt_pos.mpr (by norm_num)

theorem sqrt_ninety_six : Ideal.sqrt (Ideal.ofBits .f32 0x42C00000#32) = ((Real.sqrt 96 : ℝ) : EReal) := by
  rw [ninety_six, Ideal.sqrt_coe, if_neg (by norm_num)]

theorem log_two : Ideal.log (Ideal.ofBits .f32 0x40000000#32) = ((Real.log 2 : ℝ) : EReal) := by
  rw [two]
  show (if (2 : ℝ) ≤ 0 then (⊥ : EReal) else ((Real.log 2 : ℝ) : EReal)) = _
  rw [if_neg (by norm_num)]

/-- The reference's scale. -/
theorem scale_ref : Ideal.div (Ideal.ofBits .f32 0x3F800000#32) (Ideal.sqrt (Ideal.ofBits .f32 0x42C00000#32)) = ((1 / Real.sqrt 96 : ℝ) : EReal) := by
  rw [sqrt_ninety_six, one, Ideal.div_coe sqrt_pos.ne', one_mul]

/-- The kernel's scale, for powers of two. -/
theorem scale_ker : Ideal.div 1 (Ideal.sqrt (Ideal.ofBits .f32 0x42C00000#32) * Ideal.log (Ideal.ofBits .f32 0x40000000#32))
    = ((1 / (Real.sqrt 96 * Real.log 2) : ℝ) : EReal) := by
  rw [sqrt_ninety_six, log_two, ← EReal.coe_mul, Ideal.div_coe (mul_ne_zero sqrt_pos.ne' (Real.log_pos one_lt_two).ne'), one_mul]

end Cert.Mla

end
-- ==== Proof.Mla.Block.lean ====
/- One block of queries over the reals, entry by entry: the scores, one step of a head, the sweep of a head as a weighted sum, and the
   result of the block. -/
module

public import proofs.«01_k».proof.Proof.Mla.Sweep
public import proofs.«01_k».proof.Proof.Mla.Spec
public import Idealize.ShloMosaic.Lib.Pointwise

@[expose] public section

set_option maxRecDepth 65536

noncomputable section

namespace Cert.Mla

open Idealize.ShloMosaic Idealize.ShloMosaic.TcCoe
open Cert.Kernel2Ideal Cert.Kernel2Ideal.Gen

/-! ## Entries -/

/-- Lane `l` of head `h`. -/
def lane (h : Fin 4) (l : Fin 128) : Fin 512 := ⟨128 * h.val + l.val, by omega⟩
/-- Row `d` of head `h` in a tile of values. -/
def vrow (h : Fin 4) (d : Fin 80) : Fin 320 := ⟨80 * h.val + d.val, by omega⟩
/-- Column `d` of head `h` in the result. -/
def col (h : Fin 4) (d : Fin 64) : Fin 256 := ⟨64 * h.val + d.val, by omega⟩
/-- Tile number `n`, the last one for what lies beyond it. -/
def tile (n : Nat) : Fin 33 := ⟨min n 32, by omega⟩

theorem tile_val (t : Fin 33) : tile t.val = t := Fin.ext (Nat.min_eq_left (by omega))

theorem query_apply (x0 : Vec Ideal S1x256x512 .bf16) (h : Fin 4) (l : Fin 128) (p : Fin 256) :
    queriesF x0 h (ix3 0 l p) = x0 (ix3 0 p (lane h l)) := by
  pointwise [queriesF, qT]
  rfl

theorem newM_apply (s : Sc Ideal) (mo : Vec Ideal S1x1x256 .f32) (p : Fin 256) :
    newM s mo (ix2 0 p) = max (mo (ix3 0 0 p)) (Finset.fold max (Ideal.ofBits .f32 4286578688#32) (fun x => s (ix2 x p)) Finset.univ) := by
  pointwise [newM]

theorem newA_apply (s : Sc Ideal) (mo : Vec Ideal S1x1x256 .f32) (v : Vec Ideal S1x1x80x256 .bf16) (ao : Vec Ideal S1x80x256 .f32) (d : Fin 80) (p : Fin 256) :
    newA s mo v ao (ix2 d p) = Ideal.exp2 (mo (ix3 0 0 p) - newM s mo (ix2 0 p)) * ao (ix3 0 d p)
      + ∑ x : Fin 256, v (ix4 0 0 d x) * Ideal.exp2 (s (ix2 x p) - newM s mo (ix2 0 p)) := by
  pointwise [newA]
  rfl

theorem product_apply (a : FVec Ideal S1x256x128 .bf16) (b : FVec Ideal S1x128x256 .bf16) (k p : Fin 256) :
    (matmul dot_S256x128_S128x256_S256x256_1_0_0_1_n_n none (shapeCast S256x128 a shapeCasts_S1x256x128_S256x128)
      (shapeCast S128x256 b shapeCasts_S1x128x256_S128x256) (constant S256x256 .f32 0x00000000#32) : Sc Ideal) (ix2 k p)
    = ∑ l : Fin 128, a (ix3 0 k l) * b (ix3 0 l p) := by
  pointwise

theorem key_slice (x1 : Vec Ideal S1x8448x512 .bf16) (h : Fin 4) (n : Nat) (k : Fin 256) (l : Fin 128) :
    x1 ((Rect.unit (s := S1x8448x512) ![0, 256 * min n 32, 128 * h.val] S1x256x128.size (inbK h n)).toLoadRect.idx (ix3 0 k l))
      = x1 (ix3 0 (keyAt (tile n) k) (lane h l)) := by
  congr 1
  funext a
  refine Fin.ext ?_
  fin_cases a
  · rfl
  · show 256 * min n 32 + 1 * k.val = 256 * min n 32 + k.val
    omega
  · show 128 * h.val + 1 * l.val = 128 * h.val + l.val
    omega

theorem score_apply (x0 : Vec Ideal S1x256x512 .bf16) (x1 : Vec Ideal S1x8448x512 .bf16) (h : Fin 4) (n : Nat) (k p : Fin 256) :
    sc x1 (queriesF x0) h n (ix2 k p) = ∑ l : Fin 128, x1 (ix3 0 (keyAt (tile n) k) (lane h l)) * x0 (ix3 0 p (lane h l)) := by
  unfold sc scoreF
  refine (product_apply _ _ k p).trans ?_
  refine Finset.sum_congr rfl fun l _ => ?_
  exact congrArg₂ (· * ·) (key_slice x1 h n k l) (query_apply x0 h l p)

theorem value_apply (x2 : Vec Ideal S1x33x320x256 .bf16) (h : Fin 4) (n : Nat) (d : Fin 80) (k : Fin 256) :
    vl x2 h n (ix4 0 0 d k) = x2 (ix4 0 (tile n) (vrow h d) k) := by
  unfold vl valF
  congr 1
  funext a
  refine Fin.ext ?_
  fin_cases a
  · rfl
  · show min n 32 + 1 * 0 = min n 32
    omega
  · show 80 * h.val + 1 * d.val = 80 * h.val + d.val
    omega
  · show 0 + 1 * k.val = k.val
    omega

theorem quot_apply (a : Vec Ideal S1x80x256 .f32) (d : Fin 64) (p : Fin 256) :
    quot a (ix2 d p) = Ideal.div (a (ix3 0 ⟨d.val, by omega⟩ p)) (a (ix3 0 64 p)) := by
  pointwise [quot, quotC]

theorem outQ_apply (b : Fin 4 → FVec Ideal S64x256 .f32) (p : Fin 256) (h : Fin 4) (d : Fin 64) :
    outQ (b 0) (b 1) (b 2) (b 3) (ix3 0 p (col h d)) = b h (ix2 d p) := by
  pointwise [outQ, col]
  fin_cases h
  · rw [dif_pos (by show 64 * 0 + d.val < 64; omega)]
    congr 2
    exact Fin.ext (by show 64 * 0 + d.val = d.val; omega)
  · rw [dif_neg (by show ¬ 64 * 1 + d.val < 64; omega), dif_pos (by show 64 * 1 + d.val - 64 < 64; omega)]
    congr 2
    exact Fin.ext (by show 64 * 1 + d.val - 64 = d.val; omega)
  · rw [dif_neg (by show ¬ 64 * 2 + d.val < 64; omega), dif_neg (by show ¬ 64 * 2 + d.val - 64 < 64; omega),
      dif_pos (by show 64 * 2 + d.val - 64 - 64 < 64; omega)]
    congr 2
    exact Fin.ext (by show 64 * 2 + d.val - 64 - 64 = d.val; omega)
  · rw [dif_neg (by show ¬ 64 * 3 + d.val < 64; omega), dif_neg (by show ¬ 64 * 3 + d.val - 64 < 64; omega),
      dif_neg (by show ¬ 64 * 3 + d.val - 64 - 64 < 64; omega)]
    congr 2
    exact Fin.ext (by show 64 * 3 + d.val - 64 - 64 - 64 = d.val; omega)

theorem start_real : Ideal.ofBits .f32 4048155338#32 = ((-(13234890 * 2 ^ 76) : ℝ) : EReal) := by
  simp [Ideal.ofBits, Ideal.ieee, -EReal.coe_mul]

theorem start_max : Ideal.ofBits .f32 4286578688#32 ≠ ⊤ := by
  simp [Ideal.ofBits, Ideal.ieee]

theorem init_max (h : Fin 4) (p : Fin 256) : (initS (F := Ideal)).1 h (ix3 0 0 p) = ((-(13234890 * 2 ^ 76) : ℝ) : EReal) := by
  rw [← start_real]
  pointwise [initS]

theorem init_acc (h : Fin 4) (d : Fin 80) (p : Fin 256) : (initS (F := Ideal)).2 h (ix3 0 d p) = 0 := by
  pointwise [initS]

/-- A step at an entry: the maximum and the accumulator. -/
theorem step_max (s : Sc Ideal) (v : Vec Ideal S1x1x80x256 .bf16) (a : Vec Ideal S1x1x256 .f32 × Vec Ideal S1x80x256 .f32) (p : Fin 256) :
    (stepH s v a).1 (ix3 0 0 p) = newM s a.1 (ix2 0 p) := by
  unfold stepH
  pointwise

theorem step_acc (s : Sc Ideal) (v : Vec Ideal S1x1x80x256 .bf16) (a : Vec Ideal S1x1x256 .f32 × Vec Ideal S1x80x256 .f32) (d : Fin 80) (p : Fin 256) :
    (stepH s v a).2 (ix3 0 d p) = newA s a.1 v a.2 (ix2 d p) := by
  unfold stepH
  pointwise

/-! ## The sweep of one head -/

section Sweep

variable (x0 : Vec Ideal S1x256x512 .bf16) (x1 : Vec Ideal S1x8448x512 .bf16) (x2 : Vec Ideal S1x33x320x256 .bf16) (h : Fin 4) (p : Fin 256)
  (y : Fin 33 → Fin 256 → ℝ)
  (hy : ∀ t k, (∑ l : Fin 128, x1 (ix3 0 (keyAt t k) (lane h l)) * x0 (ix3 0 p (lane h l)) : EReal) = (y t k : EReal))

include hy

/-- After `n` tiles the maximum is some real number, and the accumulator the weighted sum of the values seen, relative to it. -/
theorem sweep_value (n : Nat) : ∃ m : ℝ, (hst x1 x2 (queriesF x0) h n).1 (ix3 0 0 p) = (m : EReal) ∧ ∀ d : Fin 80,
    (hst x1 x2 (queriesF x0) h n).2 (ix3 0 d p) = ∑ j ∈ Finset.range n ×ˢ (Finset.univ : Finset (Fin 256)),
      x2 (ix4 0 (tile j.1) (vrow h d) j.2) * ((Real.exp (y (tile j.1) j.2 * Real.log 2 - m * Real.log 2) : ℝ) : EReal) := by
  induction n with
  | zero =>
    refine ⟨_, init_max h p, fun d => ?_⟩
    rw [Finset.range_zero, Finset.empty_product, Finset.sum_empty]
    exact init_acc h d p
  | succ n ih =>
    obtain ⟨m, hm, ha⟩ := ih
    have hs : ∀ k, sc x1 (queriesF x0) h n (ix2 k p) = (y (tile n) k : EReal) := fun k => by rw [score_apply, hy]
    obtain ⟨m', hm'⟩ := max_fold_real Finset.univ (fun x => sc x1 (queriesF x0) h n (ix2 x p)) _ m start_max fun k => ⟨_, hs k⟩
    have hM : newM (sc x1 (queriesF x0) h n) (hst x1 x2 (queriesF x0) h n).1 (ix2 0 p) = (m' : EReal) := by
      rw [newM_apply, hm]
      exact hm'
    refine ⟨m', ?_, fun d => ?_⟩
    · show (stepH _ _ _).1 _ = _
      rw [step_max]
      exact hM
    · show (stepH _ _ _).2 _ = _
      rw [step_acc, newA_apply, hM, hm, ha]
      simp only [hs, value_apply]
      rw [step_sum (Finset.range n ×ˢ (Finset.univ : Finset (Fin 256))) (fun j => y (tile j.1) j.2) (fun j => x2 (ix4 0 (tile j.1) (vrow h d) j.2))
        (fun k => y (tile n) k) (fun k => x2 (ix4 0 (tile n) (vrow h d) k)) m m']
      rw [Finset.sum_product, Finset.sum_product, Finset.sum_range_succ]

variable (h1 : ∀ t k, x2 (ix4 0 t (vrow h 64) k) = 1)

include h1

/-- The quotient of a head after `n ≥ 1` tiles is the attention over their keys. -/
theorem sweep_quot (n : Nat) (hn : 0 < n) (hn' : n ≤ 33) (d : Fin 64) : quot (hst x1 x2 (queriesF x0) h n).2 (ix2 d p)
    = attn (fun j : Fin n × Fin 256 => y (Fin.castLE hn' j.1) j.2 * Real.log 2) (fun j => x2 (ix4 0 (Fin.castLE hn' j.1) (vrow h ⟨d.val, by omega⟩) j.2)) := by
  obtain ⟨m, -, ha⟩ := sweep_value x0 x1 x2 h p y hy n
  have e : ∀ t : Fin n, tile t.val = Fin.castLE hn' t := fun t => tile_val (Fin.castLE hn' t)
  haveI : Nonempty (Fin n × Fin 256) := ⟨(⟨0, hn⟩, 0)⟩
  rw [quot_apply, ha, ha, ← quotient_attn _ _ m]
  simp only [h1, one_mul, Finset.sum_product, Finset.sum_range, e, Fintype.sum_prod_type]

end Sweep

/-- The result of one block: at the first block of queries the attention over the first tile of keys, at the others over all keys. -/
theorem block_value (i : grid0.Coords) (x0 : Vec Ideal S1x256x512 .bf16) (x1 : Vec Ideal S1x8448x512 .bf16) (x2 : Vec Ideal S1x33x320x256 .bf16)
    (h : Fin 4) (p : Fin 256) (d : Fin 64) (y : Fin 33 → Fin 256 → ℝ)
    (hy : ∀ t k, (∑ l : Fin 128, x1 (ix3 0 (keyAt t k) (lane h l)) * x0 (ix3 0 p (lane h l)) : EReal) = (y t k : EReal))
    (h1 : ∀ t k, x2 (ix4 0 t (vrow h 64) k) = 1) :
    outF i x0 x1 x2 (ix3 0 p (col h d)) = if (i 1).val = 0
      then attn (fun k : Fin 256 => y 0 k * Real.log 2) (fun k => x2 (ix4 0 0 (vrow h ⟨d.val, by omega⟩) k))
      else attn (fun j : Fin 33 × Fin 256 => y j.1 j.2 * Real.log 2) (fun j => x2 (ix4 0 j.1 (vrow h ⟨d.val, by omega⟩) j.2)) := by
  unfold outF
  rw [outQ_apply (fun h => quot ((lastS i x0 x1 x2).2 h)) p h d, last_part]
  by_cases hi : (i 1).val = 0
  · rw [if_pos hi, if_pos hi, sweep_quot x0 x1 x2 h p y hy h1 1 (by decide) (by decide) d]
    exact (attn_equiv (Equiv.uniqueProd (Fin 256) (Fin 1)).symm (fun j : Fin 1 × Fin 256 => y (Fin.castLE (by decide) j.1) j.2 * Real.log 2)
      (fun j => x2 (ix4 0 (Fin.castLE (by decide) j.1) (vrow h ⟨d.val, by omega⟩) j.2))).symm
  · rw [if_neg hi, if_neg hi, sweep_quot x0 x1 x2 h p y hy h1 33 (by decide) (by decide) d]
    rfl

end Cert.Mla

end
-- ==== Proof.Mla.Host.lean ====
/- The arrays the host code prepares for the attention call, entry by entry: queries scaled and padded to 128 lanes a head, keys padded,
   values transposed with a row of ones below. -/
module

public import proofs.«01_k».proof.Proof.Mla.Frame
public import proofs.«01_k».proof.Proof.Mla.Block
public import Idealize.ShloMosaic.Lib.StableHlo.ReadAt

@[expose] public section

set_option maxRecDepth 65536

noncomputable section

namespace Cert.Mla

open Idealize.ShloMosaic Idealize.ShloMosaic.TcCoe
open Cert.Kernel2Ideal Cert.Kernel2Ideal.Gen

variable (m : (ℓ : Loc nD τ sig) → Buf (Elt Ideal) ℓ) (c : Dev nD)

theorem lane_div (h : Fin 4) (l : Fin 128) : (lane h l).val / 128 = h.val := by
  show (128 * h.val + l.val) / 128 = h.val
  omega

theorem lane_mod (h : Fin 4) (l : Fin 128) : (lane h l).val % 128 = l.val := by
  show (128 * h.val + l.val) % 128 = l.val
  omega

theorem vrow_div (h : Fin 4) (d : Fin 80) : (vrow h d).val / 80 = h.val := by
  show (80 * h.val + d.val) / 80 = h.val
  omega

theorem vrow_mod (h : Fin 4) (d : Fin 80) : (vrow h d).val % 80 = d.val := by
  show (80 * h.val + d.val) % 80 = d.val
  omega

/-- The queries, keys and values. -/
abbrev argQ : S8x8448x4x96.Idx → EReal := m ((c : Thread nD τ).loc main_arg0)
abbrev argK : S8x8448x4x96.Idx → EReal := m ((c : Thread nD τ).loc main_arg1)
abbrev argV : S8x8448x4x64.Idx → EReal := m ((c : Thread nD τ).loc main_arg2)

/-- The factor of the queries. -/
def qscale : EReal := Ideal.div 1 (Ideal.sqrt (Ideal.ofBits .f32 0x42C00000#32) * Ideal.log (Ideal.ofBits .f32 0x40000000#32))

theorem V16_low (b : Fin 8) (T : Fin 8448) (h : Fin 4) (l : Fin 128) (hl : l.val < 96) :
    @Eq EReal (V m c main_v16 (ix3 b T (lane h l))) (argQ m c (ix4 b T h ⟨l.val, hl⟩) * qscale) := by
  unfold V
  after_reads_at
  rw [dif_pos (by rw [lane_mod]; exact hl)]
  after_reads_at
  unfold qscale
  simp only [lane_div, lane_mod]

theorem V16_high (b : Fin 8) (T : Fin 8448) (h : Fin 4) (l : Fin 128) (hl : ¬ l.val < 96) :
    @Eq EReal (V m c main_v16 (ix3 b T (lane h l))) 0 := by
  unfold V
  after_reads_at
  rw [dif_neg (by rw [lane_mod]; exact hl)]
  after_reads_at

theorem V19_low (b : Fin 8) (T : Fin 8448) (h : Fin 4) (l : Fin 128) (hl : l.val < 96) :
    @Eq EReal (V m c main_v19 (ix3 b T (lane h l))) (argK m c (ix4 b T h ⟨l.val, hl⟩)) := by
  unfold V
  after_reads_at
  rw [dif_pos (by rw [lane_mod]; exact hl)]
  after_reads_at
  simp only [lane_div, lane_mod]

theorem V19_high (b : Fin 8) (T : Fin 8448) (h : Fin 4) (l : Fin 128) (hl : ¬ l.val < 96) :
    @Eq EReal (V m c main_v19 (ix3 b T (lane h l))) 0 := by
  unfold V
  after_reads_at
  rw [dif_neg (by rw [lane_mod]; exact hl)]
  after_reads_at

theorem V7_value (b : Fin 8) (t : Fin 33) (h : Fin 4) (d : Fin 80) (hd : d.val < 64) (k : Fin 256) :
    @Eq EReal (V m c main_v7 (ix4 b t (vrow h d) k)) (argV m c (ix4 b (keyAt t k) h ⟨d.val, hd⟩)) := by
  have hk : (⟨t.val * 256 + k.val, by omega⟩ : Fin 8448) = keyAt t k := Fin.ext (by show t.val * 256 + k.val = 256 * t.val + k.val; omega)
  unfold V
  after_reads_at
  rw [dif_pos (by rw [vrow_mod]; exact hd)]
  after_reads_at
  simp only [vrow_div, vrow_mod, hk]

theorem V7_one (b : Fin 8) (t : Fin 33) (h : Fin 4) (k : Fin 256) :
    @Eq EReal (V m c main_v7 (ix4 b t (vrow h 64) k)) 1 := by
  unfold V
  after_reads_at
  rw [dif_neg (by rw [vrow_mod]; decide), dif_pos (by rw [vrow_mod]; decide)]
  after_reads_at

end Cert.Mla

end
-- ==== Proof.Mla.Scores.lean ====
/- The kernel's scores, from the arrays the host code prepares: the padding contributes nothing, the scale comes out of the sum. -/
module

public import proofs.«01_k».proof.Proof.Mla.Host

@[expose] public section

set_option maxRecDepth 65536

noncomputable section

namespace Cert.Mla

open Idealize.ShloMosaic Idealize.ShloMosaic.TcCoe
open Cert.Kernel2Ideal Cert.Kernel2Ideal.Gen

variable (m : (ℓ : Loc nD τ sig) → Buf (Elt Ideal) ℓ) (c : Dev nD)

/-- A sum over the 128 lanes of a head of which the last 32 are zero. -/
theorem lanes_sum (K Q : Fin 128 → EReal) (x : Fin 96 → EReal) (low : ∀ l : Fin 96, K (Fin.castAdd 32 l) * Q (Fin.castAdd 32 l) = x l)
    (high : ∀ l : Fin 32, K (Fin.natAdd 96 l) * Q (Fin.natAdd 96 l) = 0) : ∑ l : Fin 128, K l * Q l = ∑ l : Fin 96, x l := by
  refine (Fin.sum_univ_add (a := 96) (b := 32) fun l : Fin 128 => K l * Q l).trans ?_
  rw [Finset.sum_congr rfl fun l _ => high l, Finset.sum_congr rfl fun l _ => low l, Finset.sum_const_zero, add_zero]

/-- The score of a scaled query, with the scale in front. -/
theorem scaled_sum (q k : Heads) (hq : Real4 q) (hk : Real4 k) (b : Fin 8) (h : Fin 4) (T j : Fin 8448) (s : ℝ) :
    ∑ l : Fin 96, k (ix4 b j h l) * (q (ix4 b T h l) * (s : EReal)) = ((prod q k b h T j * s : ℝ) : EReal) := by
  unfold prod
  rw [Finset.sum_mul, coe_sum]
  refine Finset.sum_congr rfl fun l _ => ?_
  rw [EReal.coe_mul, EReal.coe_mul, hq.toReal, hk.toReal, mul_left_comm, mul_assoc]

/-- Row `T` of the prepared queries and row `j` of the prepared keys in head `h`. -/
def rowQ (b : Fin 8) (h : Fin 4) (T : Fin 8448) (l : Fin 128) : EReal := V m c main_v16 (ix3 b T (lane h l))
def rowK (b : Fin 8) (h : Fin 4) (j : Fin 8448) (l : Fin 128) : EReal := V m c main_v19 (ix3 b j (lane h l))

/-- A score of the kernel: the padding contributes nothing, the scale comes out. -/
theorem score_prepared (hq : Real4 (argQ m c)) (hk : Real4 (argK m c)) (b : Fin 8) (h : Fin 4) (T j : Fin 8448) :
    ∑ l : Fin 128, rowK m c b h j l * rowQ m c b h T l
      = ((prod (argQ m c) (argK m c) b h T j * (1 / (Real.sqrt 96 * Real.log 2)) : ℝ) : EReal) := by
  rw [lanes_sum (rowK m c b h j) (rowQ m c b h T) (fun l => argK m c (ix4 b j h l) * (argQ m c (ix4 b T h l) * qscale)) ?_ ?_]
  · unfold qscale
    rw [scale_ker]
    exact scaled_sum (argQ m c) (argK m c) hq hk b h T j _
  · intro l
    exact congrArg₂ (· * ·) (V19_low m c b j h (Fin.castAdd 32 l) l.isLt) (V16_low m c b T h (Fin.castAdd 32 l) l.isLt)
  · intro l
    refine (congrArg₂ (· * ·) (V19_high m c b j h (Fin.natAdd 96 l) (by show ¬ 96 + l.val < 96; omega))
      (V16_high m c b T h (Fin.natAdd 96 l) (by show ¬ 96 + l.val < 96; omega))).trans ?_
    exact mul_zero _

theorem score_log (x : ℝ) : x * (1 / (Real.sqrt 96 * Real.log 2)) * Real.log 2 = x / Real.sqrt 96 := by
  have h1 := sqrt_pos.ne'
  have h2 := (Real.log_pos one_lt_two).ne'
  field_simp

end Cert.Mla

end
-- ==== Proof.Mla.Blocks.lean ====
/- Which part of which prepared array each input block of a grid point is: grid point `t` is block `t % 33` of the queries of batch
   `t / 33`, and sees all keys and values of the batch. -/
module

public import proofs.«01_k».proof.Proof.Mla.Frame
public import Idealize.ShloMosaic.Lib.Pointwise

@[expose] public section

set_option maxRecDepth 65536

noncomputable section

namespace Cert.Mla

open Idealize.ShloMosaic Idealize.ShloMosaic.TcCoe
open Cert.Kernel2Ideal Cert.Kernel2Ideal.Gen

variable (m : (ℓ : Loc nD τ sig) → Buf (Elt Ideal) ℓ) (c : Dev nD)

/-! ## The input blocks of a point -/

theorem index0 : ∀ t : Fin cfg0.N, win0_0.index t 0 = t.val / 33 ∧ win0_0.index t 1 = t.val % 33 ∧ win0_0.index t 2 = 0 :=
  (by decide +kernel : ∀ t : Fin grid0.N, _)
theorem index1 : ∀ t : Fin cfg0.N, win0_1.index t 0 = t.val / 33 ∧ win0_1.index t 1 = 0 ∧ win0_1.index t 2 = 0 :=
  (by decide +kernel : ∀ t : Fin grid0.N, _)
theorem index2 : ∀ t : Fin cfg0.N, win0_2.index t 0 = t.val / 33 ∧ win0_2.index t 1 = 0 ∧ win0_2.index t 2 = 0 ∧ win0_2.index t 3 = 0 :=
  (by decide +kernel : ∀ t : Fin grid0.N, _)
theorem index3 : ∀ t : Fin cfg0.N, win0_3.index t 0 = t.val / 33 ∧ win0_3.index t 1 = t.val % 33 ∧ win0_3.index t 2 = 0 :=
  (by decide +kernel : ∀ t : Fin grid0.N, _)
theorem coord1 : ∀ t : Fin cfg0.N, (grid0.coords t 1).val = t.val % 33 :=
  (by decide +kernel : ∀ t : Fin grid0.N, _)

theorem read0 (A : S8x8448x512.Idx → EReal) (t : Fin cfg0.N) (p : Fin 256) (x : Fin 512) (b : Fin 8) (T : Fin 8448) (hb : b.val = t.val / 33) (hT : T.val = 256 * (t.val % 33) + p.val) :
    ((cfg0.win 0).blk t).view.read (Elt Ideal) A (ix3 0 p x) = A (ix3 b T x) := by
  show A _ = A _
  refine congrArg _ (funext fun a => Fin.ext ?_)
  obtain ⟨h0, h1, h2⟩ := index0 t
  match a with
  | ⟨0, _⟩ => show win0_0.index t 0 * 1 + 1 * 0 = b.val; omega
  | ⟨1, _⟩ => show win0_0.index t 1 * 256 + 1 * p.val = T.val; omega
  | ⟨2, _⟩ => show win0_0.index t 2 * 512 + 1 * x.val = x.val; omega

theorem blk0 (t : Fin cfg0.N) (p : Fin 256) (x : Fin 512) (b : Fin 8) (T : Fin 8448) (hb : b.val = t.val / 33) (hT : T.val = 256 * (t.val % 33) + p.val) :
    iblk m c 0 t (ix3 0 p x) = V m c main_v16 (ix3 b T x) := by
  unfold iblk
  exact read0 (V m c main_v16) t p x b T hb hT

theorem read1 (A : S8x8448x512.Idx → EReal) (t : Fin cfg0.N) (j : Fin 8448) (x : Fin 512) (b : Fin 8) (hb : b.val = t.val / 33) :
    ((cfg0.win 1).blk t).view.read (Elt Ideal) A (ix3 0 j x) = A (ix3 b j x) := by
  show A _ = A _
  refine congrArg _ (funext fun a => Fin.ext ?_)
  obtain ⟨h0, h1, h2⟩ := index1 t
  match a with
  | ⟨0, _⟩ => show win0_1.index t 0 * 1 + 1 * 0 = b.val; omega
  | ⟨1, _⟩ => show win0_1.index t 1 * 8448 + 1 * j.val = j.val; omega
  | ⟨2, _⟩ => show win0_1.index t 2 * 512 + 1 * x.val = x.val; omega

theorem blk1 (t : Fin cfg0.N) (j : Fin 8448) (x : Fin 512) (b : Fin 8) (hb : b.val = t.val / 33) :
    iblk m c 1 t (ix3 0 j x) = V m c main_v19 (ix3 b j x) := by
  unfold iblk
  exact read1 (V m c main_v19) t j x b hb

theorem read2 (A : S8x33x320x256.Idx → EReal) (t : Fin cfg0.N) (n : Fin 33) (r : Fin 320) (k : Fin 256) (b : Fin 8) (hb : b.val = t.val / 33) :
    ((cfg0.win 2).blk t).view.read (Elt Ideal) A (ix4 0 n r k) = A (ix4 b n r k) := by
  show A _ = A _
  refine congrArg _ (funext fun a => Fin.ext ?_)
  obtain ⟨h0, h1, h2, h3⟩ := index2 t
  match a with
  | ⟨0, _⟩ => show win0_2.index t 0 * 1 + 1 * 0 = b.val; omega
  | ⟨1, _⟩ => show win0_2.index t 1 * 33 + 1 * n.val = n.val; omega
  | ⟨2, _⟩ => show win0_2.index t 2 * 320 + 1 * r.val = r.val; omega
  | ⟨3, _⟩ => show win0_2.index t 3 * 256 + 1 * k.val = k.val; omega

theorem blk2 (t : Fin cfg0.N) (n : Fin 33) (r : Fin 320) (k : Fin 256) (b : Fin 8) (hb : b.val = t.val / 33) :
    iblk m c 2 t (ix4 0 n r k) = V m c main_v7 (ix4 b n r k) := by
  unfold iblk
  exact read2 (V m c main_v7) t n r k b hb

end Cert.Mla

end
-- ==== Proof.Mla.Covers.lean ====
/- The blocks written back cover the result. -/
module

public import proofs.«01_k».proof.Proof.Mla.Frame
public import Idealize.ShloMosaic.Lib.Pipeline.ValueKit

@[expose] public section

set_option maxRecDepth 65536

noncomputable section

namespace Cert.Mla

open Idealize.ShloMosaic Idealize.ShloMosaic.TcCoe
open Cert.Kernel2Ideal Cert.Kernel2Ideal.Gen

variable (m : (ℓ : Loc nD τ sig) → Buf (Elt Ideal) ℓ) (c : Dev nD)

/-- Every element of the result lies in a block that some point writes back. -/
theorem covers3 : (cfg0.win 3).Covers := by decide +kernel

end Cert.Mla

end
-- ==== Proof.Mla.Array.lean ====
/- The result array of the attention call: grid point `t` is block `t % 33` of the queries of batch `t / 33`, and sees all keys and values
   of the batch. -/
module

public import proofs.«01_k».proof.Proof.Mla.Scores
public import proofs.«01_k».proof.Proof.Mla.Blocks
public import proofs.«01_k».proof.Proof.Mla.Covers
public import Idealize.ShloMosaic.Lib.Pipeline.ValueKit

@[expose] public section

set_option maxRecDepth 65536

noncomputable section

namespace Cert.Mla

open Idealize.ShloMosaic Idealize.ShloMosaic.TcCoe
open Cert.Kernel2Ideal Cert.Kernel2Ideal.Gen

variable (m : (ℓ : Loc nD τ sig) → Buf (Elt Ideal) ℓ) (c : Dev nD)

/-- What a point leaves at query `p` and column `d` of head `h`. -/
theorem point (hq : Real4 (argQ m c)) (hk : Real4 (argK m c)) (t : Fin cfg0.N) (p : Fin 256) (h : Fin 4) (d : Fin 64) (b : Fin 8) (T : Fin 8448)
    (hb : b.val = t.val / 33) (hT : T.val = 256 * (t.val % 33) + p.val) :
    outsAt0 m c t (ix3 0 p (col h d)) = value (argQ m c) (argK m c) (argV m c) b T h d := by
  unfold outsAt0
  refine (block_value (grid0.coords t) (iblk m c 0 t) (iblk m c 1 t) (iblk m c 2 t) h p d
    (fun n k => prod (argQ m c) (argK m c) b h T (keyAt n k) * (1 / (Real.sqrt 96 * Real.log 2))) (fun n k => ?_) (fun n k => ?_)).trans ?_
  · refine (Finset.sum_congr rfl fun l _ => ?_).trans (score_prepared m c hq hk b h T (keyAt n k))
    exact congrArg₂ (· * ·) (blk1 m c t (keyAt n k) (lane h l) b hb) (blk0 m c t p (lane h l) b T hb hT)
  · exact (blk2 m c t n (vrow h 64) k b hb).trans (V7_one m c b n h k)
  · have hv : ∀ (n : Fin 33) (k : Fin 256), @Eq EReal (iblk m c 2 t (ix4 0 n (vrow h ⟨d.val, by omega⟩) k)) (argV m c (ix4 b (keyAt n k) h d)) :=
      fun n k => (blk2 m c t n _ k b hb).trans (V7_value m c b n h ⟨d.val, by omega⟩ d.isLt k)
    unfold value
    have hc := coord1 t
    by_cases hi : (grid0.coords t 1).val = 0
    · rw [if_pos hi, if_pos (by have := p.isLt; omega)]
      exact congrArg₂ attn (funext fun k => score_log _) (funext fun k => hv 0 k)
    · rw [if_neg hi, if_neg (by omega)]
      exact congrArg₂ attn (funext fun k => score_log _) (funext fun k => hv k.1 k.2)

/-! ## The array -/

theorem array (hq : Real4 (argQ m c)) (hk : Real4 (argK m c)) :
    (dats m 0 c).arrAt 3 cfg0.N = result (argQ m c) (argK m c) (argV m c) := by
  refine (dats m 0 c).arrAt_eq_of_covers 3 _ covers3 fun t _ y => ?_
  obtain ⟨h0, h1, h2⟩ := index3 t
  have h0' : (y 0).val < 1 := (y 0).isLt
  have h2' : (y 2).val < 256 := (y 2).isLt
  have e : y = ix3 0 (y 1) (col ⟨(y 2).val / 64, by omega⟩ ⟨(y 2).val % 64, Nat.mod_lt _ (by decide)⟩) := by
    funext a
    match a with
    | ⟨0, _⟩ => exact Fin.ext (by show (y 0).val = 0; omega)
    | ⟨1, _⟩ => rfl
    | ⟨2, _⟩ => exact Fin.ext (by show (y 2).val = 64 * ((y 2).val / 64) + (y 2).val % 64; omega)
  have q2 : ((((cfg0.win 3).blk t).view.emb y) 2).val = (y 2).val := by
    show win0_3.index t 2 * 256 + 1 * (y 2).val = (y 2).val; omega
  show (dats m 0 c).after 3 t y = _
  rw [after0_3]
  refine ((congrArg _ e).trans (point m c hq hk t (y 1) ⟨(y 2).val / 64, by omega⟩ ⟨(y 2).val % 64, Nat.mod_lt _ (by decide)⟩
    ((((cfg0.win 3).blk t).view.emb y) 0) ((((cfg0.win 3).blk t).view.emb y) 1) ?_ ?_)).trans ?_
  · show win0_3.index t 0 * 1 + 1 * (y 0).val = _
    omega
  · show win0_3.index t 1 * 256 + 1 * (y 1).val = _
    omega
  · unfold result
    simp only [q2]

end Cert.Mla

end
-- ==== Proof.Mla.Reference.lean ====
/- The reference at an index of its result, its operations read one after another: the scores, their largest, the weights, the weighted
   sum of the values; for the latent tokens over all keys, for the context tokens over the context. -/
module

public import proofs.«01_k».proof.Proof.Gen.Reference2Ideal.Read
public import proofs.«01_k».proof.Proof.Mla.Spec
public import Idealize.ShloMosaic.Lib.Pointwise

@[expose] public section

noncomputable section

namespace Cert.Mla

open Idealize.ShloMosaic Cert.Reference2Ideal Cert.Reference2Ideal.Gen Cert.Reference2Ideal.Read

variable (q k : FVec Ideal S8x8448x4x96 .f32) (v : FVec Ideal S8x8448x4x64 .f32)

/-- A latent token, among all tokens. -/
def latent (t : Fin 8192) : Fin 8448 := ⟨256 + t.val, by omega⟩
/-- A context token, among all tokens. -/
def context (t : Fin 256) : Fin 8448 := ⟨t.val, by omega⟩
/-- The token of a row of the keys in the reference's order: the latent ones first. -/
def keyOf (j : Fin 8448) : Fin 8448 := keyAt (rotate j).1 (rotate j).2

theorem keyOf_lt (j : Fin 8448) (h : j.val < 8192) : keyOf j = latent ⟨j.val, h⟩ := Fin.ext (rotate_lt j h)

theorem keyOf_ge (j : Fin 8448) (h : ¬ j.val < 8192) : keyOf j = context ⟨j.val - 8192, by omega⟩ := Fin.ext (rotate_ge j (by omega))

/-- The reference's keys and values, latent tokens first. -/
theorem keys_apply (b : Fin 8) (j : Fin 8448) (h : Fin 4) (l : Fin 96) : val_main_v8 (F := Ideal) k (ix4 b j h l) = k (ix4 b (keyOf j) h l) := by
  by_cases hj : j.val < 8192
  · rw [keyOf_lt j hj]
    pointwise [val_main_v8]
    rw [dif_pos hj]
    pointwise [val_main_v3]
    rfl
  · rw [keyOf_ge j hj]
    pointwise [val_main_v8]
    rw [dif_neg hj]
    pointwise [val_main_v2]
    rfl

theorem values_apply (b : Fin 8) (j : Fin 8448) (h : Fin 4) (d : Fin 64) : val_main_v9 (F := Ideal) v (ix4 b j h d) = v (ix4 b (keyOf j) h d) := by
  by_cases hj : j.val < 8192
  · rw [keyOf_lt j hj]
    pointwise [val_main_v9]
    rw [dif_pos hj]
    pointwise [val_main_v5]
    rfl
  · rw [keyOf_ge j hj]
    pointwise [val_main_v9]
    rw [dif_neg hj]
    pointwise [val_main_v4]
    rfl

/-- Two indices of four axes with the same coordinates are the same. -/
theorem ix_ext4 {n0 n1 n2 n3 : Nat} (i j : (⟨4, ![n0, n1, n2, n3]⟩ : Shape).Idx) (h0 : (i 0).val = (j 0).val) (h1 : (i 1).val = (j 1).val)
    (h2 : (i 2).val = (j 2).val) (h3 : (i 3).val = (j 3).val) : i = j := by
  funext a
  match a with
  | ⟨0, _⟩ => exact Fin.ext h0
  | ⟨1, _⟩ => exact Fin.ext h1
  | ⟨2, _⟩ => exact Fin.ext h2
  | ⟨3, _⟩ => exact Fin.ext h3

/-! ## The scores -/

theorem scaled (a : ℝ) : ((a : ℝ) : EReal) * Ideal.div (Ideal.ofBits .f32 0x3F800000#32) (Ideal.sqrt (Ideal.ofBits .f32 0x42C00000#32)) = ((a / Real.sqrt 96 : ℝ) : EReal) := by
  rw [scale_ref, ← EReal.coe_mul, mul_one_div]

theorem score_latent (hq : Real4 q) (hk : Real4 k) (b : Fin 8) (h : Fin 4) (t : Fin 8192) (j : Fin 8448) :
    val_main_v12 (F := Ideal) q k (ix4 b h t j) = (score q k b h (latent t) (keyOf j) : EReal) := by
  have e : val_main_v10 (F := Ideal) q k (ix4 b h t j) = (prod q k b h (latent t) (keyOf j) : EReal) := by
    refine (val_main_v10_apply q k _).trans ((Finset.sum_congr rfl fun l _ => ?_).trans (prod_eq hq hk b h (latent t) (keyOf j)))
    refine congrArg₂ (· * ·) ?_ ?_
    · exact (val_main_v1_apply (F := Ideal) q (lidx_main_v10 (ix4 b h t j) l)).trans
        (congrArg q (ix_ext4 (idx_main_v1 (lidx_main_v10 (ix4 b h t j) l)) (ix4 b (latent t) h l) rfl rfl rfl rfl))
    · exact (congrArg (val_main_v8 (F := Ideal) k) (ix_ext4 (ridx_main_v10 (ix4 b h t j) l) (ix4 b j h l) rfl rfl rfl rfl)).trans (keys_apply k b j h l)
  rw [val_main_v12_apply, e]
  unfold score
  exact scaled _

theorem score_context (hq : Real4 q) (hk : Real4 k) (b : Fin 8) (h : Fin 4) (t j : Fin 256) :
    val_main_v29 (F := Ideal) q k (ix4 b h t j) = (score q k b h (context t) (keyAt 0 j) : EReal) := by
  have e : val_main_v27 (F := Ideal) q k (ix4 b h t j) = (prod q k b h (context t) (keyAt 0 j) : EReal) := by
    refine (val_main_v27_apply q k _).trans ((Finset.sum_congr rfl fun l _ => ?_).trans (prod_eq hq hk b h (context t) (keyAt 0 j)))
    refine congrArg₂ (· * ·) ?_ ?_
    · exact (val_main_v0_apply (F := Ideal) q (lidx_main_v27 (ix4 b h t j) l)).trans
        (congrArg q (ix_ext4 (idx_main_v0 (lidx_main_v27 (ix4 b h t j) l)) (ix4 b (context t) h l) rfl rfl rfl rfl))
    · exact (val_main_v2_apply (F := Ideal) k (ridx_main_v27 (ix4 b h t j) l)).trans
        (congrArg k (ix_ext4 (idx_main_v2 (ridx_main_v27 (ix4 b h t j) l)) (ix4 b (keyAt 0 j) h l) rfl
          (by show j.val = 256 * 0 + j.val; omega) rfl rfl))
  rw [val_main_v29_apply, e]
  unfold score
  exact scaled _

/-- Two indices of three axes with the same coordinates are the same. -/
theorem ix_ext3 {n0 n1 n2 : Nat} (i j : (⟨3, ![n0, n1, n2]⟩ : Shape).Idx) (h0 : (i 0).val = (j 0).val) (h1 : (i 1).val = (j 1).val)
    (h2 : (i 2).val = (j 2).val) : i = j := by
  funext a
  match a with
  | ⟨0, _⟩ => exact Fin.ext h0
  | ⟨1, _⟩ => exact Fin.ext h1
  | ⟨2, _⟩ => exact Fin.ext h2

/-! ## The largest score is a real number -/

theorem least : Ideal.ofBits .f32 0xFF800000#32 = ⊥ := by
  simp [Ideal.ofBits, Ideal.ieee]

theorem none_yet : Ideal.ofBits .f32 0x00000000#32 = 0 := by
  simp [Ideal.ofBits, Ideal.ieee]

/-- The largest of some real numbers is one. -/
theorem reduce_real {s t u : Shape} {axes : List (Fin s.rank)} (x : s.Idx → EReal) (init : u.Idx → EReal) (h : s.ReducesTo axes t) (hu : 0 < u.numel)
    (j : t.Idx) (i : s.Idx) (hi : h.drop i = j) (hinit : init (Shape.Idx.first hu) = ⊥) (hx : ∀ i, ∃ r : ℝ, x i = r) :
    ∃ r : ℝ, max (⊥ : EReal) (Host.reduce (max : EReal → EReal → EReal) x init h hu j) = r := by
  rw [Host.reduce_eq_fold, hinit, max_eq_right bot_le]
  exact fold_real _ x ⊥ i (by simp [hi]) bot_ne_top hx

theorem largest_latent (hq : Real4 q) (hk : Real4 k) (b : Fin 8) (h : Fin 4) (t : Fin 8192) :
    ∃ r : ℝ, val_main_v15 (F := Ideal) q k (ix3 b h t) = (r : EReal) := by
  have hx : ∀ i : S8x4x8192x8448.Idx, ∃ r : ℝ, val_main_v12 (F := Ideal) q k i = (r : EReal) := fun i =>
    ⟨_, (congrArg (val_main_v12 (F := Ideal) q k) (ix_ext4 i (ix4 (i 0) (i 1) (i 2) (i 3)) rfl rfl rfl rfl)).trans
      (score_latent q k hq hk (i 0) (i 1) (i 2) (i 3))⟩
  rw [val_main_v15_apply, val_main_v14_apply]
  unfold val_main_v13
  generalize val_main_v12 (F := Ideal) q k = x at hx
  have hd : reducesTo_S8x4x8192x8448_S8x4x8192_d3.drop (ix4 b h t (0 : Fin 8448)) = ix3 b h t := by
    refine ix_ext3 _ _ ?_ ?_ ?_
    · exact reducesTo_S8x4x8192x8448_S8x4x8192_d3.drop_apply_val_of_eq _ 0 0
    · exact reducesTo_S8x4x8192x8448_S8x4x8192_d3.drop_apply_val_of_eq _ 1 1
    · exact reducesTo_S8x4x8192x8448_S8x4x8192_d3.drop_apply_val_of_eq _ 2 2
  have e := reduce_real x (val_main_cst_1 (F := Ideal)) reducesTo_S8x4x8192x8448_S8x4x8192_d3 h_S_ (ix3 b h t) (ix4 b h t 0) hd least hx
  rw [← least] at e
  exact e

/-! ## The weights of a latent token -/

theorem power_latent (hq : Real4 q) (hk : Real4 k) (b : Fin 8) (h : Fin 4) (t : Fin 8192) (M : ℝ)
    (hM : val_main_v15 (F := Ideal) q k (ix3 b h t) = (M : EReal)) (j : Fin 8448) :
    val_main_v19 (F := Ideal) q k (ix4 b h t j) = Ideal.exp ((score q k b h (latent t) (keyOf j) : EReal) - (M : EReal)) := by
  have e : val_main_v17 (F := Ideal) q k (ix4 b h t j) = (M : EReal) := by
    rw [val_main_v17_apply, val_main_v16_apply, ← hM]
    exact congrArg (val_main_v15 (F := Ideal) q k) (ix_ext3 (idx_main_v16 (idx_main_v17 (ix4 b h t j))) (ix3 b h t) rfl rfl rfl)
  rw [val_main_v19_apply, val_main_v18_apply, e, score_latent q k hq hk]
  rfl

theorem weight_latent (hq : Real4 q) (hk : Real4 k) (b : Fin 8) (h : Fin 4) (t : Fin 8192) (M : ℝ)
    (hM : val_main_v15 (F := Ideal) q k (ix3 b h t) = (M : EReal)) (j : Fin 8448) :
    val_main_v23 (F := Ideal) q k (ix4 b h t j)
      = Ideal.div (Ideal.exp ((score q k b h (latent t) (keyOf j) : EReal) - (M : EReal)))
          (0 + ∑ j : Fin 8448, Ideal.exp ((score q k b h (latent t) (keyOf j) : EReal) - (M : EReal))) := by
  have e : val_main_v22 (F := Ideal) q k (ix4 b h t j)
      = 0 + ∑ j : Fin 8448, Ideal.exp ((score q k b h (latent t) (keyOf j) : EReal) - (M : EReal)) := by
    rw [val_main_v22_apply, val_main_v21_apply, val_main_v20_apply]
    refine congrArg₂ (· + ·) none_yet (Finset.sum_congr rfl fun l _ => ?_)
    exact (congrArg (val_main_v19 (F := Ideal) q k) (ix_ext4 (idx_main_v20 (idx_main_v21 (idx_main_v22 (ix4 b h t j))) l) (ix4 b h t l) rfl rfl rfl rfl)).trans
      (power_latent q k hq hk b h t M hM l)
  rw [val_main_v23_apply, e, power_latent q k hq hk b h t M hM j]
  rfl

theorem mixed_latent (hq : Real4 q) (hk : Real4 k) (b : Fin 8) (h : Fin 4) (t : Fin 8192) (d : Fin 64) :
    val_main_v24 (F := Ideal) q k v (ix4 b h d t)
      = attn (fun j : Fin 8448 => score q k b h (latent t) (keyOf j)) (fun j => v (ix4 b (keyOf j) h d)) := by
  obtain ⟨M, hM⟩ := largest_latent q k hq hk b h t
  refine (val_main_v24_apply q k v _).trans ((Finset.sum_congr rfl fun j _ => ?_).trans
    (weights_attn (fun j : Fin 8448 => score q k b h (latent t) (keyOf j)) (fun j => v (ix4 b (keyOf j) h d)) M))
  refine congrArg₂ (· * ·) ?_ ?_
  · exact (congrArg (val_main_v9 (F := Ideal) v) (ix_ext4 (lidx_main_v24 (ix4 b h d t) j) (ix4 b j h d) rfl rfl rfl rfl)).trans
      (values_apply v b j h d)
  · exact (congrArg (val_main_v23 (F := Ideal) q k) (ix_ext4 (ridx_main_v24 (ix4 b h d t) j) (ix4 b h t j) rfl rfl rfl rfl)).trans
      (weight_latent q k hq hk b h t M hM j)

/-- The heads side by side. -/
theorem columns_latent (b : Fin 8) (t : Fin 8192) (n : Fin 256) :
    val_main_v26 (F := Ideal) q k v (ix3 b t n)
      = val_main_v24 (F := Ideal) q k v (ix4 b ⟨n.val / 64, by omega⟩ ⟨n.val % 64, Nat.mod_lt _ (by decide)⟩ t) := by
  rw [val_main_v26_apply, val_main_v25_apply]
  refine congrArg (val_main_v24 (F := Ideal) q k v) (ix_ext4 (idx_main_v25 (idx_main_v26 (ix3 b t n))) _ ?_ ?_ ?_ ?_)
  · show ((b.val * 8192 + t.val) * 256 + n.val) / 2097152 = b.val
    omega
  · show ((b.val * 8192 + t.val) * 256 + n.val) / 64 % 4 = n.val / 64
    omega
  · show ((b.val * 8192 + t.val) * 256 + n.val) % 64 = n.val % 64
    omega
  · show ((b.val * 8192 + t.val) * 256 + n.val) / 256 % 8192 = t.val
    omega

theorem largest_context (hq : Real4 q) (hk : Real4 k) (b : Fin 8) (h : Fin 4) (t : Fin 256) :
    ∃ r : ℝ, val_main_v32 (F := Ideal) q k (ix3 b h t) = (r : EReal) := by
  have hx : ∀ i : S8x4x256x256.Idx, ∃ r : ℝ, val_main_v29 (F := Ideal) q k i = (r : EReal) := fun i =>
    ⟨_, (congrArg (val_main_v29 (F := Ideal) q k) (ix_ext4 i (ix4 (i 0) (i 1) (i 2) (i 3)) rfl rfl rfl rfl)).trans
      (score_context q k hq hk (i 0) (i 1) (i 2) (i 3))⟩
  rw [val_main_v32_apply, val_main_v31_apply]
  unfold val_main_v30
  generalize val_main_v29 (F := Ideal) q k = x at hx
  have hd : reducesTo_S8x4x256x256_S8x4x256_d3.drop (ix4 b h t (0 : Fin 256)) = ix3 b h t := by
    refine ix_ext3 _ _ ?_ ?_ ?_
    · exact reducesTo_S8x4x256x256_S8x4x256_d3.drop_apply_val_of_eq _ 0 0
    · exact reducesTo_S8x4x256x256_S8x4x256_d3.drop_apply_val_of_eq _ 1 1
    · exact reducesTo_S8x4x256x256_S8x4x256_d3.drop_apply_val_of_eq _ 2 2
  have e := reduce_real x (val_main_cst_4 (F := Ideal)) reducesTo_S8x4x256x256_S8x4x256_d3 h_S_ (ix3 b h t) (ix4 b h t 0) hd least hx
  rw [← least] at e
  exact e

/-! ## The weights of a context token -/

theorem power_context (hq : Real4 q) (hk : Real4 k) (b : Fin 8) (h : Fin 4) (t : Fin 256) (M : ℝ)
    (hM : val_main_v32 (F := Ideal) q k (ix3 b h t) = (M : EReal)) (j : Fin 256) :
    val_main_v36 (F := Ideal) q k (ix4 b h t j) = Ideal.exp ((score q k b h (context t) (keyAt 0 j) : EReal) - (M : EReal)) := by
  have e : val_main_v34 (F := Ideal) q k (ix4 b h t j) = (M : EReal) := by
    rw [val_main_v34_apply, val_main_v33_apply, ← hM]
    exact congrArg (val_main_v32 (F := Ideal) q k) (ix_ext3 (idx_main_v33 (idx_main_v34 (ix4 b h t j))) (ix3 b h t) rfl rfl rfl)
  rw [val_main_v36_apply, val_main_v35_apply, e, score_context q k hq hk]
  rfl

theorem weight_context (hq : Real4 q) (hk : Real4 k) (b : Fin 8) (h : Fin 4) (t : Fin 256) (M : ℝ)
    (hM : val_main_v32 (F := Ideal) q k (ix3 b h t) = (M : EReal)) (j : Fin 256) :
    val_main_v40 (F := Ideal) q k (ix4 b h t j)
      = Ideal.div (Ideal.exp ((score q k b h (context t) (keyAt 0 j) : EReal) - (M : EReal)))
          (0 + ∑ j : Fin 256, Ideal.exp ((score q k b h (context t) (keyAt 0 j) : EReal) - (M : EReal))) := by
  have e : val_main_v39 (F := Ideal) q k (ix4 b h t j)
      = 0 + ∑ j : Fin 256, Ideal.exp ((score q k b h (context t) (keyAt 0 j) : EReal) - (M : EReal)) := by
    rw [val_main_v39_apply, val_main_v38_apply, val_main_v37_apply]
    refine congrArg₂ (· + ·) none_yet (Finset.sum_congr rfl fun l _ => ?_)
    exact (congrArg (val_main_v36 (F := Ideal) q k) (ix_ext4 (idx_main_v37 (idx_main_v38 (idx_main_v39 (ix4 b h t j))) l) (ix4 b h t l) rfl rfl rfl rfl)).trans
      (power_context q k hq hk b h t M hM l)
  rw [val_main_v40_apply, e, power_context q k hq hk b h t M hM j]
  rfl

theorem mixed_context (hq : Real4 q) (hk : Real4 k) (b : Fin 8) (h : Fin 4) (t : Fin 256) (d : Fin 64) :
    val_main_v41 (F := Ideal) q k v (ix4 b h d t)
      = attn (fun j : Fin 256 => score q k b h (context t) (keyAt 0 j)) (fun j => v (ix4 b (keyAt 0 j) h d)) := by
  obtain ⟨M, hM⟩ := largest_context q k hq hk b h t
  refine (val_main_v41_apply q k v _).trans ((Finset.sum_congr rfl fun j _ => ?_).trans
    (weights_attn (fun j : Fin 256 => score q k b h (context t) (keyAt 0 j)) (fun j => v (ix4 b (keyAt 0 j) h d)) M))
  refine congrArg₂ (· * ·) ?_ ?_
  · exact (val_main_v4_apply (F := Ideal) v (lidx_main_v41 (ix4 b h d t) j)).trans
      (congrArg v (ix_ext4 (idx_main_v4 (lidx_main_v41 (ix4 b h d t) j)) (ix4 b (keyAt 0 j) h d) rfl
        (by show j.val = 256 * 0 + j.val; omega) rfl rfl))
  · exact (congrArg (val_main_v40 (F := Ideal) q k) (ix_ext4 (ridx_main_v41 (ix4 b h d t) j) (ix4 b h t j) rfl rfl rfl rfl)).trans
      (weight_context q k hq hk b h t M hM j)

/-- The heads side by side. -/
theorem columns_context (b : Fin 8) (t : Fin 256) (n : Fin 256) :
    val_main_v43 (F := Ideal) q k v (ix3 b t n)
      = val_main_v41 (F := Ideal) q k v (ix4 b ⟨n.val / 64, by omega⟩ ⟨n.val % 64, Nat.mod_lt _ (by decide)⟩ t) := by
  rw [val_main_v43_apply, val_main_v42_apply]
  refine congrArg (val_main_v41 (F := Ideal) q k v) (ix_ext4 (idx_main_v42 (idx_main_v43 (ix3 b t n))) _ ?_ ?_ ?_ ?_)
  · show ((b.val * 256 + t.val) * 256 + n.val) / 65536 = b.val
    omega
  · show ((b.val * 256 + t.val) * 256 + n.val) / 64 % 4 = n.val / 64
    omega
  · show ((b.val * 256 + t.val) * 256 + n.val) % 64 = n.val % 64
    omega
  · show ((b.val * 256 + t.val) * 256 + n.val) / 256 % 256 = t.val
    omega

/-! ## The result -/

theorem reference_apply (hq : Real4 q) (hk : Real4 k) (b : Fin 8) (T : Fin 8448) (n : Fin 256) :
    val_main_v44 (F := Ideal) q k v (ix3 b T n)
      = value q k v b T ⟨n.val / 64, by omega⟩ ⟨n.val % 64, Nat.mod_lt _ (by decide)⟩ := by
  unfold value
  by_cases hT : T.val < 256
  · rw [if_pos hT]
    have hc : context ⟨T.val, hT⟩ = T := rfl
    refine Eq.trans ?_ ((columns_context q k v b ⟨T.val, hT⟩ n).trans (mixed_context q k v hq hk b _ ⟨T.val, hT⟩ _))
    unfold val_main_v44
    generalize val_main_v43 (F := Ideal) q k v = y
    generalize val_main_v26 (F := Ideal) q k v = z
    pointwise
    rw [dif_pos hT]
  · rw [if_neg hT]
    have hc : latent ⟨T.val - 256, by omega⟩ = T := Fin.ext (by show 256 + (T.val - 256) = T.val; omega)
    have e := (columns_latent q k v b ⟨T.val - 256, by omega⟩ n).trans (mixed_latent q k v hq hk b _ ⟨T.val - 256, by omega⟩ _)
    rw [hc] at e
    refine Eq.trans ?_ (e.trans (attn_equiv rotate (fun p : Fin 33 × Fin 256 => score q k b _ T (keyAt p.1 p.2)) (fun p => v (ix4 b (keyAt p.1 p.2) _ _))))
    unfold val_main_v44
    generalize val_main_v43 (F := Ideal) q k v = y
    generalize val_main_v26 (F := Ideal) q k v = z
    pointwise
    rw [dif_neg hT]

/-- The reference computes the attention. -/
theorem reference_result (hq : Real4 q) (hk : Real4 k) : val_main_v44 (F := Ideal) q k v = result q k v := by
  funext i
  exact (congrArg (val_main_v44 (F := Ideal) q k v) (ix_ext3 i (ix3 (i 0) (i 1) (i 2)) rfl rfl rfl)).trans
    (reference_apply q k v hq hk (i 0) (i 1) (i 2))

end Cert.Mla

end
-- ==== Proof.Mla.Claims.lean ====
/- The claims about the attention call: the frames, and the equality of its result with the reference's over the reals. -/
module

public import proofs.«01_k».proof.Defs
public import proofs.«01_k».proof.Proof.Gen.Pre_finite_scores
public import proofs.«01_k».proof.Proof.Gen.Reference2Ideal.Run
public import proofs.«01_k».proof.Proof.Merge.Claims
public import proofs.«01_k».proof.Proof.Mla.Frames
public import proofs.«01_k».proof.Proof.Mla.Array
public import proofs.«01_k».proof.Proof.Mla.Reference

@[expose] public section

noncomputable section

namespace Cert.Mla

open Idealize.ShloMosaic Idealize.ShloMosaic.TcCoe Idealize.SL.Sem

/-- What the precondition says of the queries and keys. -/
theorem real_scores (m : (ℓ : Loc Cert.Kernel2Ideal.nD Cert.Kernel2Ideal.τ Cert.Kernel2Ideal.sig) → Buf (Elt Ideal) ℓ)
    (h : Cert.Pre_Kernel2Ideal_finite_scores m) (c : Dev Cert.Kernel2Ideal.nD) : Real4 (argQ m c) ∧ Real4 (argK m c) := by
  have h0 := congrFun (h c) (fun a => a.elim0)
  have h2 := IntOp.andi_eq_one.1 h0
  haveI : Subsingleton Cert.Pre_finite_scores.S_.Idx := ⟨fun a b => funext fun i => i.elim0⟩
  exact ⟨fun i => Cert.Proof.Merge.real_of_abs_lt _ (Host.reduce_andi_all _ _ _ _ _ h2.1 i),
    fun i => Cert.Proof.Merge.real_of_abs_lt _ (Host.reduce_andi_all _ _ _ _ _ h2.2 i)⟩

theorem frame_reference : Cert.quiescent_Reference2Ideal := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)
theorem frame_reference_pre : Cert.quiescent_Reference2Ideal_pre_finite_scores := fun m ρ _ => frame_reference m ρ trivial

theorem preserves : Cert.preserves_Kernel2_Kernel2Ideal := trivial

/-- With real queries and keys the call's result is the reference's, element by element. -/
theorem algebraic : Cert.algebraic_Kernel2Ideal_Reference2Ideal_pre_finite_scores := by
  intro m ρ m' ρ' hpre hagree
  refine ⟨fun c => result (argQ m c) (argK m c) (argV m c), ?_, ?_⟩
  · refine (θ_run Cert.Kernel2Ideal.defs _ _).mono (fun _ h c => ⟨(h.1 c).trans ?_, h.2 c⟩)
      (θ_run_and (run_blocks (F := Ideal) m ρ) (unchanged (F := Ideal) m ρ))
    exact array m c (real_scores m hpre c).1 (real_scores m hpre c).2
  · refine (θ_run Cert.Reference2Ideal.defs _ _).mono (fun _ h c => ⟨(h c).1.trans ?_, (h c).2⟩)
      (Cert.Reference2Ideal.Value.run (F := Ideal) m' ρ')
    obtain ⟨e0, e1, e2⟩ := hagree c
    refine (Cert.Reference2Ideal.Read.val_main_v44_eq m' c).trans ?_
    rw [e0, e1, e2]
    exact reference_result (argQ m c) (argK m c) (argV m c) (real_scores m hpre c).1 (real_scores m hpre c).2

end Cert.Mla

end
-- ==== Proof.Diff.Steps.lean ====
/- The steps of the running softmax, each written once over the head and the tiles it reads. -/
module

public import proofs.«01_k».proof.Proof.Gen.Kernel3Ideal

@[expose] public section

noncomputable section

namespace Cert.Diff

open Idealize.ShloMosaic Idealize.ShloMosaic.TcCoe Idealize.SL.Sem
open Cert.Kernel3Ideal Cert.Kernel3Ideal.Gen

variable {F : FTy → Type} [FloatOps F]

/-- A tile of scores: keys along the rows, queries along the columns. -/
abbrev Sc (F : FTy → Type) := FVec F S256x256 .f32
/-- The score tiles computed ahead of use. -/
abbrev Ahead (F : FTy → Type) := Sc F × Sc F × Sc F × Sc F × Sc F

theorem inb6 (h : Fin 8) : ∀ a, (![h.val, 0, 0] : Fin 3 → Nat) a + S1x128x256.size a ≤ S8x128x256.size a := by
  fin_cases h <;> decide
theorem inb7 (h : Fin 8) : ∀ a, (![h.val, 0, 0] : Fin 3 → Nat) a + S1x1x256.size a ≤ S8x1x256.size a := by
  fin_cases h <;> decide
theorem inb8 (h : Fin 8) : ∀ a, (![h.val, 0, 0] : Fin 3 → Nat) a + S1x80x256.size a ≤ S8x80x256.size a := by
  fin_cases h <;> decide

/-- The scores of one tile of keys against the queries of head `h`. -/
def scoreP (arg3 : Memref sig .tc .vmem S1x8448x256 .bf16) (arg8 : Memref sig .tc .vmem S8x128x256 .bf16) (h : Fin 8)
    (off : Fin 3 → Nat) (ho : ∀ a, off a + S1x256x128.size a ≤ S1x8448x256.size a) :
    Prog (TpuEff nD τ sig (Elt F) Λ₀ .tc) (Sc F) :=
  .op (.load arg3 (Rect.unit (s := S1x8448x256) off S1x256x128.size ho).toLoadRect (View.loadsAt_vmem h_S1x256x128)) fun k =>
  .op (.load arg8 (Rect.unit (s := S8x128x256) ![h.val, 0, 0] S1x128x256.size (inb6 h)).toLoadRect (View.loadsAt_vmem h_S1x128x256)) fun q =>
  .ret (matmul dot_S256x128_S128x256_S256x256_1_0_0_1_n_n none (shapeCast S256x128 k shapeCasts_S1x256x128_S256x128)
    (shapeCast S128x256 q shapeCasts_S1x128x256_S128x256) (constant S256x256 .f32 0x00000000#32))

/-- The largest score so far. -/
def newM (s : Sc F) (mo : Vec F S1x1x256 .f32) : FVec F S1x256 .f32 :=
  maximumf (shapeCast S1x256 mo shapeCasts_S1x1x256_S1x256)
    (shapeCast S1x256 (multiReduction .maximumf [0] S256 s 0xFF800000#32 reduces_S256x256_S256 (.inl rfl) rfl) shapeCasts_S256_S1x256)

/-- The accumulator rescaled, plus the tile's contribution. -/
def newA (s : Sc F) (mo : Vec F S1x1x256 .f32) (v : Vec F S1x1x80x256 .bf16) (ao : Vec F S1x80x256 .f32) : FVec F S80x256 .f32 :=
  addf (mulf (broadcastTo S80x256 (exp2 (subf (shapeCast S1x256 mo shapeCasts_S1x1x256_S1x256) (newM s mo))) broadcasts_S1x256_S80x256)
      (shapeCast S80x256 ao shapeCasts_S1x80x256_S80x256))
    (matmul dot_S80x256_S256x256_S80x256_1_0_0_1_n_n none (shapeCast S80x256 v shapeCasts_S1x1x80x256_S80x256)
      (truncf .bf16 (exp2 (subf s (broadcastTo S256x256 (newM s mo) broadcasts_S1x256_S256x256))) bitsLt_bf16_f32)
      (constant S80x256 .f32 0x00000000#32))

/-- One step of the running softmax of head `h`, on the scores `s` and the values at `off`. -/
def flashP {α : Type} (arg4 : Memref sig .tc .vmem S1x33x320x256 .bf16) (arg9 : Memref sig .tc .vmem S8x1x256 .f32)
    (arg10 : Memref sig .tc .vmem S8x80x256 .f32) (h : Fin 8) (off : Fin 4 → Nat)
    (ho : ∀ a, off a + S1x1x80x256.size a ≤ S1x33x320x256.size a) (s : Sc F)
    (k : Prog (TpuEff nD τ sig (Elt F) Λ₀ .tc) α) : Prog (TpuEff nD τ sig (Elt F) Λ₀ .tc) α :=
  .op (.load arg9 (Rect.unit (s := S8x1x256) ![h.val, 0, 0] S1x1x256.size (inb7 h)).toLoadRect (View.loadsAt_vmem h_S1x1x256)) fun mo =>
  .op (.load arg4 (Rect.unit (s := S1x33x320x256) off S1x1x80x256.size ho).toLoadRect (View.loadsAt_vmem h_S1x1x80x256)) fun v =>
  .op (.load arg10 (Rect.unit (s := S8x80x256) ![h.val, 0, 0] S1x80x256.size (inb8 h)).toLoadRect (View.loadsAt_vmem h_S1x80x256)) fun ao =>
  .op (.load arg10 (Rect.unit (s := S8x80x256) ![h.val, 0, 0] S1x80x256.size (inb8 h)).toLoadRect (View.loadsAt_vmem h_S1x80x256)) fun _ =>
  .op (.store arg10 (Rect.unit (s := S8x80x256) ![h.val, 0, 0] S1x80x256.size (inb8 h))
    (shapeCast S1x80x256 (newA s mo v ao) shapeCasts_S80x256_S1x80x256) Finset.univ (View.stores_vmem_bits_univ h_S1x80x256 rfl) (.inl rfl)) fun _ =>
  .op (.load arg9 (Rect.unit (s := S8x1x256) ![h.val, 0, 0] S1x1x256.size (inb7 h)).toLoadRect (View.loadsAt_vmem h_S1x1x256)) fun _ =>
  .op (.store arg9 (Rect.unit (s := S8x1x256) ![h.val, 0, 0] S1x1x256.size (inb7 h))
    (shapeCast S1x1x256 (newM s mo) shapeCasts_S1x256_S1x1x256) Finset.univ (View.stores_vmem_bits_univ h_S1x1x256 rfl) (.inl rfl)) fun _ => k

/-- The eight maps on tile `r` of the trip, scores five steps ahead. -/
def tileP {α : Type} (i : grid0.Coords) (arg3 : Memref sig .tc .vmem S1x8448x256 .bf16) (arg4 : Memref sig .tc .vmem S1x33x320x256 .bf16)
    (arg8 : Memref sig .tc .vmem S8x128x256 .bf16) (arg9 : Memref sig .tc .vmem S8x1x256 .f32) (arg10 : Memref sig .tc .vmem S8x80x256 .f32)
    (t : Fin (k0_t1_loop i).trips) (r : Fin 16) (S : Ahead F) (k : Ahead F → Prog (TpuEff nD τ sig (Elt F) Λ₀ .tc) α) :
    Prog (TpuEff nD τ sig (Elt F) Λ₀ .tc) α :=
  (scoreP arg3 arg8 5 (k0_off9 i t (BitVec.ofNat 32 r.val)) (k0_off9_inb i t ⟨r.val, by omega⟩)).bind fun s5 =>
  flashP arg4 arg9 arg10 0 (k0_off10 i t (BitVec.ofNat 32 r.val)) (k0_off10_inb i t r) S.1 <|
  (scoreP arg3 arg8 6 (k0_off9 i t (BitVec.ofNat 32 r.val)) (k0_off9_inb i t ⟨r.val, by omega⟩)).bind fun s6 =>
  flashP arg4 arg9 arg10 1 (k0_off10 i t (BitVec.ofNat 32 r.val)) (k0_off10_inb i t r) S.2.1 <|
  (scoreP arg3 arg8 7 (k0_off9 i t (BitVec.ofNat 32 r.val)) (k0_off9_inb i t ⟨r.val, by omega⟩)).bind fun s7 =>
  flashP arg4 arg9 arg10 2 (k0_off11 i t (BitVec.ofNat 32 r.val)) (k0_off11_inb i t r) S.2.2.1 <|
  (scoreP arg3 arg8 0 (k0_off12 i t (BitVec.ofNat 32 (1 + r.val))) (k0_off12_inb i t r)).bind fun n0 =>
  flashP arg4 arg9 arg10 3 (k0_off11 i t (BitVec.ofNat 32 r.val)) (k0_off11_inb i t r) S.2.2.2.1 <|
  (scoreP arg3 arg8 1 (k0_off12 i t (BitVec.ofNat 32 (1 + r.val))) (k0_off12_inb i t r)).bind fun n1 =>
  flashP arg4 arg9 arg10 4 (k0_off13 i t (BitVec.ofNat 32 r.val)) (k0_off13_inb i t r) S.2.2.2.2 <|
  (scoreP arg3 arg8 2 (k0_off12 i t (BitVec.ofNat 32 (1 + r.val))) (k0_off12_inb i t r)).bind fun n2 =>
  flashP arg4 arg9 arg10 5 (k0_off13 i t (BitVec.ofNat 32 r.val)) (k0_off13_inb i t r) s5 <|
  (scoreP arg3 arg8 3 (k0_off12 i t (BitVec.ofNat 32 (1 + r.val))) (k0_off12_inb i t r)).bind fun n3 =>
  flashP arg4 arg9 arg10 6 (k0_off14 i t (BitVec.ofNat 32 r.val)) (k0_off14_inb i t r) s6 <|
  (scoreP arg3 arg8 4 (k0_off9 i t (BitVec.ofNat 32 (1 + r.val))) (k0_off9_inb i t ⟨1 + r.val, by omega⟩)).bind fun n4 =>
  flashP arg4 arg9 arg10 7 (k0_off14 i t (BitVec.ofNat 32 r.val)) (k0_off14_inb i t r) s7 <|
  k (n0, n1, n2, n3, n4)

/-- Tiles `r`, `r+1`, … , `r+n-1` in turn. -/
def tilesP (i : grid0.Coords) (arg3 : Memref sig .tc .vmem S1x8448x256 .bf16) (arg4 : Memref sig .tc .vmem S1x33x320x256 .bf16)
    (arg8 : Memref sig .tc .vmem S8x128x256 .bf16) (arg9 : Memref sig .tc .vmem S8x1x256 .f32) (arg10 : Memref sig .tc .vmem S8x80x256 .f32)
    (t : Fin (k0_t1_loop i).trips) : (n r : Nat) → r + n ≤ 16 → Ahead F → Prog (TpuEff nD τ sig (Elt F) Λ₀ .tc) (Ahead F)
  | 0, _, _, S => .ret S
  | n + 1, r, h, S => tileP i arg3 arg4 arg8 arg9 arg10 t ⟨r, by omega⟩ S fun S' => tilesP i arg3 arg4 arg8 arg9 arg10 t n (r + 1) (by omega) S'

/-- The lanes of a group of four maps as the steps read them, all but those of map `m` of the group zero: lanes along the rows, queries
    along the columns. -/
def qT (m : Fin 4) (q : Vec F S1x256x128 .bf16) : FVec F S1x128x256 .bf16 :=
  shapeCast S1x128x256 (truncf .bf16 (select
    (andi (cmpi .sge (iota .tc S128x256 32 [0] iota_S128x256_d0_w32) (broadcast S128x256 (BitVec.ofNat 32 (32 * m.val))))
      (cmpi .slt (iota .tc S128x256 32 [0] iota_S128x256_d0_w32) (broadcast S128x256 (BitVec.ofNat 32 (32 * m.val + 32)))))
    (transpose S128x256 [1, 0] (extf .f32 (shapeCast S256x128 q shapeCasts_S1x256x128_S256x128) bitsLt_bf16_f32) transposes_S256x128_p1_0_S128x256)
    (broadcast S128x256 (Scalar.ofBits (F := F) .f32 0x00000000#32))) bitsLt_bf16_f32) shapeCasts_S128x256_S1x128x256

theorem inb2 (g : Fin 2) : ∀ a, (![0, 0, 128 * g.val] : Fin 3 → Nat) a + S1x256x128.size a ≤ S1x256x256.size a := by
  fin_cases g <;> decide

/-- The queries of a map, all other lanes zero, into the scratch. -/
def maskP {α : Type} (arg8 : Memref sig .tc .vmem S8x128x256 .bf16) (h : Fin 8) (m : Fin 4) (q : Vec F S1x256x128 .bf16)
    (hs : (arg8.access (Rect.unit (s := S8x128x256) ![h.val, 0, 0] S1x128x256.size (inb6 h))).Stores Finset.univ)
    (k : Prog (TpuEff nD τ sig (Elt F) Λ₀ .tc) α) : Prog (TpuEff nD τ sig (Elt F) Λ₀ .tc) α :=
  .op (.load arg8 (Rect.unit (s := S8x128x256) ![h.val, 0, 0] S1x128x256.size (inb6 h)).toLoadRect (View.loadsAt_vmem h_S1x128x256)) fun _ =>
  .op (.store arg8 (Rect.unit (s := S8x128x256) ![h.val, 0, 0] S1x128x256.size (inb6 h)) (qT m q) Finset.univ hs (.inl rfl)) fun _ => k

/-- A group of four maps' queries, read. -/
def groupP {α : Type} (arg2 : Memref sig .tc .vmem S1x256x256 .bf16) (g : Fin 2)
    (k : Vec F S1x256x128 .bf16 → Prog (TpuEff nD τ sig (Elt F) Λ₀ .tc) α) : Prog (TpuEff nD τ sig (Elt F) Λ₀ .tc) α :=
  .op (.load arg2 (Rect.unit (s := S1x256x256) ![0, 0, 128 * g.val] S1x256x128.size (inb2 g)).toLoadRect (View.loadsAt_vmem h_S1x256x128)) k

/-- The weight of the second map: the difference of two exponentials, plus a constant. -/
def lamF (l : Vec F S4x128 .f32) : FVec F S1x1 .f32 :=
  addf (subf
    (exp (shapeCast S1x1 (multiReduction .add [1] S1 (mulf (extractStridedSlice S1x128 ![0, 0] (shapeCast S4x128 l shapeCasts_S4x128_S4x128) slices_S4x128_o0_0_S1x128)
      (extractStridedSlice S1x128 ![1, 0] (shapeCast S4x128 l shapeCasts_S4x128_S4x128) slices_S4x128_o1_0_S1x128)) 0x00000000#32 reduces_S1x128_S1 (.inl rfl) rfl) shapeCasts_S1_S1x1))
    (exp (shapeCast S1x1 (multiReduction .add [1] S1 (mulf (extractStridedSlice S1x128 ![2, 0] (shapeCast S4x128 l shapeCasts_S4x128_S4x128) slices_S4x128_o2_0_S1x128)
      (extractStridedSlice S1x128 ![3, 0] (shapeCast S4x128 l shapeCasts_S4x128_S4x128) slices_S4x128_o3_0_S1x128)) 0x00000000#32 reduces_S1x128_S1 (.inl rfl) rfl) shapeCasts_S1_S1x1)))
    (broadcast S1x1 (Scalar.ofBits (F := F) .f32 0x3E4CCCCD#32))

/-- The running maxima at a large negative number and the accumulators at zero. -/
def initP {α : Type} (arg9 : Memref sig .tc .vmem S8x1x256 .f32) (arg10 : Memref sig .tc .vmem S8x80x256 .f32)
    (k : Prog (TpuEff nD τ sig (Elt F) Λ₀ .tc) α) : Prog (TpuEff nD τ sig (Elt F) Λ₀ .tc) α :=
  .op (.load arg9 (Rect.unit (s := S8x1x256) ![0, 0, 0] S8x1x256.size inb_S8x1x256_S8x1x256_0_0_0).toLoadRect (View.loadsAt_vmem h_S8x1x256)) fun _ =>
  .op (.store arg9 (Rect.unit (s := S8x1x256) ![0, 0, 0] S8x1x256.size inb_S8x1x256_S8x1x256_0_0_0)
    (shapeCast S8x1x256 (broadcast S8x1x256 (Scalar.ofBits (F := F) .f32 0xF149F2CA#32)) shapeCasts_S8x1x256_S8x1x256)
    Finset.univ (View.stores_vmem_bits_univ h_S8x1x256 rfl) (.inl rfl)) fun _ =>
  .op (.load arg10 (Rect.unit (s := S8x80x256) ![0, 0, 0] S8x80x256.size inb_S8x80x256_S8x80x256_0_0_0).toLoadRect (View.loadsAt_vmem h_S8x80x256)) fun _ =>
  .op (.store arg10 (Rect.unit (s := S8x80x256) ![0, 0, 0] S8x80x256.size inb_S8x80x256_S8x80x256_0_0_0)
    (shapeCast S8x80x256 (broadcast S8x80x256 (Scalar.ofBits (F := F) .f32 0x00000000#32)) shapeCasts_S8x80x256_S8x80x256)
    Finset.univ (View.stores_vmem_bits_univ h_S8x80x256 rfl) (.inl rfl)) fun _ => k

/-- The first tile, which every query sees, and the scores ahead of the loop. -/
def firstP {α : Type} (i : grid0.Coords) (arg3 : Memref sig .tc .vmem S1x8448x256 .bf16) (arg4 : Memref sig .tc .vmem S1x33x320x256 .bf16)
    (arg8 : Memref sig .tc .vmem S8x128x256 .bf16) (arg9 : Memref sig .tc .vmem S8x1x256 .f32) (arg10 : Memref sig .tc .vmem S8x80x256 .f32)
    (k : Ahead F → Prog (TpuEff nD τ sig (Elt F) Λ₀ .tc) α) : Prog (TpuEff nD τ sig (Elt F) Λ₀ .tc) α :=
  (scoreP arg3 arg8 0 (k0_off1 i 0#32) (k0_off1_inb i 0)).bind fun s0 =>
  (scoreP arg3 arg8 1 (k0_off1 i 0#32) (k0_off1_inb i 0)).bind fun s1 =>
  (scoreP arg3 arg8 2 (k0_off1 i 0#32) (k0_off1_inb i 0)).bind fun s2 =>
  (scoreP arg3 arg8 3 (k0_off1 i 0#32) (k0_off1_inb i 0)).bind fun s3 =>
  (scoreP arg3 arg8 4 (k0_off2 i 0#32) (k0_off2_inb i 0)).bind fun s4 =>
  (scoreP arg3 arg8 5 (k0_off3 i 0#32) (k0_off3_inb i 0)).bind fun s5 =>
  flashP arg4 arg9 arg10 0 k0_off4 k0_off4_inb s0 <|
  (scoreP arg3 arg8 6 (k0_off3 i 0#32) (k0_off3_inb i 0)).bind fun s6 =>
  flashP arg4 arg9 arg10 1 k0_off4 k0_off4_inb s1 <|
  (scoreP arg3 arg8 7 (k0_off3 i 0#32) (k0_off3_inb i 0)).bind fun s7 =>
  flashP arg4 arg9 arg10 2 k0_off5 k0_off5_inb s2 <|
  (scoreP arg3 arg8 0 (k0_off6 i) (k0_off6_inb i)).bind fun _ =>
  flashP arg4 arg9 arg10 3 k0_off5 k0_off5_inb s3 <|
  (scoreP arg3 arg8 1 (k0_off6 i) (k0_off6_inb i)).bind fun _ =>
  flashP arg4 arg9 arg10 4 k0_off7 k0_off7_inb s4 <|
  (scoreP arg3 arg8 2 (k0_off6 i) (k0_off6_inb i)).bind fun _ =>
  flashP arg4 arg9 arg10 5 k0_off7 k0_off7_inb s5 <|
  (scoreP arg3 arg8 3 (k0_off6 i) (k0_off6_inb i)).bind fun _ =>
  flashP arg4 arg9 arg10 6 k0_off8 k0_off8_inb s6 <|
  (scoreP arg3 arg8 4 (k0_off3 i 1#32) (k0_off3_inb i 1)).bind fun _ =>
  flashP arg4 arg9 arg10 7 k0_off8 k0_off8_inb s7 <|
  (scoreP arg3 arg8 0 (k0_off1 i 1#32) (k0_off1_inb i 1)).bind fun n0 =>
  (scoreP arg3 arg8 1 (k0_off1 i 1#32) (k0_off1_inb i 1)).bind fun n1 =>
  (scoreP arg3 arg8 2 (k0_off1 i 1#32) (k0_off1_inb i 1)).bind fun n2 =>
  (scoreP arg3 arg8 3 (k0_off1 i 1#32) (k0_off1_inb i 1)).bind fun n3 =>
  (scoreP arg3 arg8 4 (k0_off2 i 1#32) (k0_off2_inb i 1)).bind fun n4 =>
  k (n0, n1, n2, n3, n4)

/-- The weighted values of a head divided by the sum of its weights. -/
def quotC (a : FVec F S80x256 .f32) : FVec F S64x256 .f32 :=
  divf (extractStridedSlice S64x256 ![0, 0] a slices_S80x256_o0_0_S64x256)
    (broadcastTo S64x256 (extractStridedSlice S1x256 ![64, 0] a slices_S80x256_o64_0_S1x256) broadcasts_S1x256_S64x256)

/-- The quotients of a map, from its accumulator as it lies in the scratch. -/
def quot (a : Vec F S1x80x256 .f32) : FVec F S64x256 .f32 := quotC (shapeCast S80x256 a shapeCasts_S1x80x256_S80x256)

/-- The difference of a head's two maps. -/
def diffF (lam : FVec F S1x1 .f32) (x y : FVec F S64x256 .f32) : FVec F S64x256 .f32 :=
  subf x (mulf (broadcastTo S64x256 lam broadcasts_S1x1_S64x256) y)

/-- Divided by the root of the mean square over the channels. -/
def rmsF (o : FVec F S64x256 .f32) : FVec F S64x256 .f32 :=
  mulf o (broadcastTo S64x256 (rsqrt (addf (divf (shapeCast S1x256 (multiReduction .add [0] S256 (mulf o o) 0x00000000#32 reduces_S64x256_S256 (.inl rfl) rfl)
    shapeCasts_S256_S1x256) (broadcast S1x256 (Scalar.ofBits (F := F) .f32 0x42800000#32))) (broadcast S1x256 (Scalar.ofBits (F := F) .f32 0x358637BD#32))))
    broadcasts_S1x256_S64x256)

/-- Times the gain and the constant. -/
def gainF (o : FVec F S64x256 .f32) (g : Vec F S64x1 .f32) : FVec F S64x256 .f32 :=
  mulf (mulf o (broadcastTo S64x256 (shapeCast S64x1 g shapeCasts_S64x1_S64x1 : FVec F S64x1 .f32) broadcasts_S64x1_S64x256))
    (broadcast S64x256 (Scalar.ofBits (F := F) .f32 0x3F4CCCCD#32))

/-- A head's result from the accumulators of its two maps. -/
def headF (lam : FVec F S1x1 .f32) (a b : Vec F S1x80x256 .f32) (g : Vec F S64x1 .f32) : FVec F S64x256 .f32 :=
  gainF (rmsF (diffF lam (quot a) (quot b))) g

/-- The four heads side by side, queries along the rows. -/
def outQ (b0 b1 b2 b3 : FVec F S64x256 .f32) : FVec F S1x256x256 .f32 :=
  shapeCast S1x256x256 (transpose S256x256 [1, 0] (concatenate S256x256 0 [⟨S64x256, b0⟩, ⟨S64x256, b1⟩, ⟨S64x256, b2⟩, ⟨S64x256, b3⟩]
    concatenates_S64x256_S64x256_S64x256_S64x256_S256x256_d0) transposes_S256x256_p1_0_S256x256) shapeCasts_S256x256_S1x256x256

/-- The accumulators of a head, read. -/
def readP {α : Type} (arg10 : Memref sig .tc .vmem S8x80x256 .f32) (h : Fin 8) (k : Vec F S1x80x256 .f32 → Prog (TpuEff nD τ sig (Elt F) Λ₀ .tc) α) :
    Prog (TpuEff nD τ sig (Elt F) Λ₀ .tc) α :=
  .op (.load arg10 (Rect.unit (s := S8x80x256) ![h.val, 0, 0] S1x80x256.size (inb8 h)).toLoadRect (View.loadsAt_vmem h_S1x80x256)) k

/-- The gain, read. -/
def gainP {α : Type} (arg6 : Memref sig .tc .vmem S64x1 .f32) (k : Vec F S64x1 .f32 → Prog (TpuEff nD τ sig (Elt F) Λ₀ .tc) α) :
    Prog (TpuEff nD τ sig (Elt F) Λ₀ .tc) α :=
  .op (.load arg6 (Rect.unit (s := S64x1) ![0, 0] S64x1.size inb_S64x1_S64x1_0_0).toLoadRect (View.loadsAt_vmem h_S64x1)) k

/-- The result, written. -/
def writeP (arg7 : Memref sig .tc .vmem S1x256x256 .f32) (o : FVec F S1x256x256 .f32) : Prog (TpuEff nD τ sig (Elt F) Λ₀ .tc) PUnit :=
  .op (.load arg7 (Rect.unit (s := S1x256x256) ![0, 0, 0] S1x256x256.size inb_S1x256x256_S1x256x256_0_0_0).toLoadRect (View.loadsAt_vmem h_S1x256x256)) fun _ =>
  .op (.store arg7 (Rect.unit (s := S1x256x256) ![0, 0, 0] S1x256x256.size inb_S1x256x256_S1x256x256_0_0_0) o
    Finset.univ (View.stores_vmem_bits_univ h_S1x256x256 rfl) (.inl rfl)) fun _ => .ret ⟨⟩

/-- The heads' results from the accumulators, written. -/
def finishP (lam : FVec F S1x1 .f32) (arg6 : Memref sig .tc .vmem S64x1 .f32) (arg7 : Memref sig .tc .vmem S1x256x256 .f32)
    (arg10 : Memref sig .tc .vmem S8x80x256 .f32) : Prog (TpuEff nD τ sig (Elt F) Λ₀ .tc) PUnit :=
  readP arg10 0 fun a0 => readP arg10 1 fun a1 => gainP arg6 fun g0 =>
  readP arg10 2 fun a2 => readP arg10 3 fun a3 => gainP arg6 fun g1 =>
  readP arg10 4 fun a4 => readP arg10 5 fun a5 => gainP arg6 fun g2 =>
  readP arg10 6 fun a6 => readP arg10 7 fun a7 => gainP arg6 fun g3 =>
  writeP arg7 (outQ (headF lam a0 a1 g0) (headF lam a2 a3 g1) (headF lam a4 a5 g2) (headF lam a6 a7 g3))

end Cert.Diff

end
-- ==== Proof.Diff.Program.lean ====
/- The kernel's body is the steps in a row: the queries transposed, the first tile, the loop of 16 tiles a trip, a loop with no
   trips, the heads' results. Both sides unfold to the same operations in the same order. -/
module

public import proofs.«01_k».proof.Proof.Diff.Steps

@[expose] public section

-- the loop's 128 steps are compared one by one
set_option maxRecDepth 65536
set_option maxHeartbeats 0

noncomputable section

namespace Cert.Diff

open Idealize.ShloMosaic Idealize.ShloMosaic.TcCoe Idealize.SL.Sem
open Cert.Kernel3Ideal Cert.Kernel3Ideal.Gen

variable {F : FTy → Type} [FloatOps F]

/-- The store of a head's transposed queries is of whole words. -/
theorem stores6 (arg8 : Memref sig .tc .vmem S8x128x256 .bf16) (harg8 : arg8.IsWhole) (h : Fin 8) :
    (arg8.access (Rect.unit (s := S8x128x256) ![h.val, 0, 0] S1x128x256.size (inb6 h))).Stores Finset.univ := by
  fin_cases h
  · exact View.stores_vmem h_S1x128x256 (harg8.storeExact_slice rfl _ packedbf16_S8x128x256_S1x128x256_0_0_0) (fun _ => rfl)
  · exact View.stores_vmem h_S1x128x256 (harg8.storeExact_slice rfl _ packedbf16_S8x128x256_S1x128x256_1_0_0) (fun _ => rfl)
  · exact View.stores_vmem h_S1x128x256 (harg8.storeExact_slice rfl _ packedbf16_S8x128x256_S1x128x256_2_0_0) (fun _ => rfl)
  · exact View.stores_vmem h_S1x128x256 (harg8.storeExact_slice rfl _ packedbf16_S8x128x256_S1x128x256_3_0_0) (fun _ => rfl)
  · exact View.stores_vmem h_S1x128x256 (harg8.storeExact_slice rfl _ packedbf16_S8x128x256_S1x128x256_4_0_0) (fun _ => rfl)
  · exact View.stores_vmem h_S1x128x256 (harg8.storeExact_slice rfl _ packedbf16_S8x128x256_S1x128x256_5_0_0) (fun _ => rfl)
  · exact View.stores_vmem h_S1x128x256 (harg8.storeExact_slice rfl _ packedbf16_S8x128x256_S1x128x256_6_0_0) (fun _ => rfl)
  · exact View.stores_vmem h_S1x128x256 (harg8.storeExact_slice rfl _ packedbf16_S8x128x256_S1x128x256_7_0_0) (fun _ => rfl)

/-- All that comes before the loops. -/
def prologP (i : grid0.Coords) (arg2 : Memref sig .tc .vmem S1x256x256 .bf16) (arg3 : Memref sig .tc .vmem S1x8448x256 .bf16)
    (arg4 : Memref sig .tc .vmem S1x33x320x256 .bf16) (arg5 : Memref sig .tc .vmem S4x128 .f32)
    (arg8 : Memref sig .tc .vmem S8x128x256 .bf16) (harg8 : arg8.IsWhole) (arg9 : Memref sig .tc .vmem S8x1x256 .f32)
    (arg10 : Memref sig .tc .vmem S8x80x256 .f32)
    (k : FVec F S1x1 .f32 → Ahead F → Prog (TpuEff nD τ sig (Elt F) Λ₀ .tc) PUnit) : Prog (TpuEff nD τ sig (Elt F) Λ₀ .tc) PUnit :=
  .op (.load arg5 (Rect.unit (s := S4x128) ![0, 0] S4x128.size inb_S4x128_S4x128_0_0).toLoadRect (View.loadsAt_vmem h_S4x128)) fun l =>
  groupP arg2 0 fun q =>
  maskP arg8 0 0 q (stores6 arg8 harg8 0) <| maskP arg8 1 1 q (stores6 arg8 harg8 1) <|
  maskP arg8 2 2 q (stores6 arg8 harg8 2) <| maskP arg8 3 3 q (stores6 arg8 harg8 3) <|
  groupP arg2 1 fun q =>
  maskP arg8 4 0 q (stores6 arg8 harg8 4) <| maskP arg8 5 1 q (stores6 arg8 harg8 5) <|
  maskP arg8 6 2 q (stores6 arg8 harg8 6) <| maskP arg8 7 3 q (stores6 arg8 harg8 7) <|
  initP arg9 arg10 <| firstP i arg3 arg4 arg8 arg9 arg10 (k (lamF l))

/-- The two loops, followed by `k`; `B` is the region of the second, which has no trips. -/
def loopsP {α : Type} (i : grid0.Coords) (arg3 : Memref sig .tc .vmem S1x8448x256 .bf16) (arg4 : Memref sig .tc .vmem S1x33x320x256 .bf16)
    (arg8 : Memref sig .tc .vmem S8x128x256 .bf16) (arg9 : Memref sig .tc .vmem S8x1x256 .f32) (arg10 : Memref sig .tc .vmem S8x80x256 .f32)
    (B : Fin (k0_t2_loop i).trips → Ahead F → Prog (TpuEff nD τ sig (Elt F) Λ₀ .tc) (Ahead F)) (S : Ahead F)
    (k : Prog (TpuEff nD τ sig (Elt F) Λ₀ .tc) α) : Prog (TpuEff nD τ sig (Elt F) Λ₀ .tc) α :=
  Scf.Loop.for (k0_t1_loop i) (k0_t1_ok i) S (fun t (a, b, c, d, e) => tilesP i arg3 arg4 arg8 arg9 arg10 t 16 0 (by decide) (a, b, c, d, e)) >>= fun S' =>
  Scf.Loop.for (k0_t2_loop i) (k0_t2_ok i) S' B >>= fun _ => k

/-- The loops and the first head's result, followed by the rest. -/
theorem body_nested (i : grid0.Coords) (arg2 : Memref sig .tc .vmem S1x256x256 .bf16) (harg2 : arg2.IsWhole) (arg3 : Memref sig .tc .vmem S1x8448x256 .bf16) (harg3 : arg3.IsWhole)
    (arg4 : Memref sig .tc .vmem S1x33x320x256 .bf16) (harg4 : arg4.IsWhole) (arg5 : Memref sig .tc .vmem S4x128 .f32) (harg5 : arg5.IsWhole)
    (arg6 : Memref sig .tc .vmem S64x1 .f32) (harg6 : arg6.IsWhole) (arg7 : Memref sig .tc .vmem S1x256x256 .f32) (harg7 : arg7.IsWhole)
    (arg8 : Memref sig .tc .vmem S8x128x256 .bf16) (harg8 : arg8.IsWhole) (arg9 : Memref sig .tc .vmem S8x1x256 .f32) (harg9 : arg9.IsWhole)
    (arg10 : Memref sig .tc .vmem S8x80x256 .f32) (harg10 : arg10.IsWhole) :
    ∃ B, cc0_diff_attn (F := F) i arg2 harg2 arg3 harg3 arg4 harg4 arg5 harg5 arg6 harg6 arg7 harg7 arg8 harg8 arg9 harg9 arg10 harg10
      = prologP i arg2 arg3 arg4 arg5 arg8 harg8 arg9 arg10 fun lam S =>
        (loopsP i arg3 arg4 arg8 arg9 arg10 B S (readP arg10 0 fun a0 => readP arg10 1 fun a1 => gainP arg6 fun g0 =>
          .ret (headF lam a0 a1 g0))).bind fun o =>
        readP arg10 2 fun a2 => readP arg10 3 fun a3 => gainP arg6 fun g1 =>
        readP arg10 4 fun a4 => readP arg10 5 fun a5 => gainP arg6 fun g2 =>
        readP arg10 6 fun a6 => readP arg10 7 fun a7 => gainP arg6 fun g3 =>
        writeP arg7 (outQ o (headF lam a2 a3 g1) (headF lam a4 a5 g2) (headF lam a6 a7 g3)) := by
  refine ⟨?_, ?_⟩
  rotate_left
  · with_unfolding_all rfl

/-- The body is what comes before the loops, the loops, and the heads' results. -/
theorem body_eq (i : grid0.Coords) (arg2 : Memref sig .tc .vmem S1x256x256 .bf16) (harg2 : arg2.IsWhole) (arg3 : Memref sig .tc .vmem S1x8448x256 .bf16) (harg3 : arg3.IsWhole)
    (arg4 : Memref sig .tc .vmem S1x33x320x256 .bf16) (harg4 : arg4.IsWhole) (arg5 : Memref sig .tc .vmem S4x128 .f32) (harg5 : arg5.IsWhole)
    (arg6 : Memref sig .tc .vmem S64x1 .f32) (harg6 : arg6.IsWhole) (arg7 : Memref sig .tc .vmem S1x256x256 .f32) (harg7 : arg7.IsWhole)
    (arg8 : Memref sig .tc .vmem S8x128x256 .bf16) (harg8 : arg8.IsWhole) (arg9 : Memref sig .tc .vmem S8x1x256 .f32) (harg9 : arg9.IsWhole)
    (arg10 : Memref sig .tc .vmem S8x80x256 .f32) (harg10 : arg10.IsWhole) :
    ∃ B, cc0_diff_attn (F := F) i arg2 harg2 arg3 harg3 arg4 harg4 arg5 harg5 arg6 harg6 arg7 harg7 arg8 harg8 arg9 harg9 arg10 harg10
      = prologP i arg2 arg3 arg4 arg5 arg8 harg8 arg9 arg10 fun lam S => loopsP i arg3 arg4 arg8 arg9 arg10 B S (finishP lam arg6 arg7 arg10) := by
  obtain ⟨B, h⟩ := body_nested (F := F) i arg2 harg2 arg3 harg3 arg4 harg4 arg5 harg5 arg6 harg6 arg7 harg7 arg8 harg8 arg9 harg9 arg10 harg10
  refine ⟨B, h.trans (congrArg _ (funext fun lam => funext fun S => ?_))⟩
  show (Scf.Loop.for _ _ _ _ >>= fun S' => Scf.Loop.for _ _ S' B >>= fun _ => _) >>= _ = _
  rw [bind_assoc]
  unfold loopsP
  congr 1
  funext S'
  rw [bind_assoc]
  rfl

end Cert.Diff

end
-- ==== Proof.Diff.State.lean ====
/- What the steps compute, as functions of the blocks alone: the scores of a tile, the running maxima and accumulators after a step,
   after a tile, after the loop. -/
module

public import proofs.«01_k».proof.Proof.Diff.Program

@[expose] public section

noncomputable section

namespace Cert.Diff

open Idealize.ShloMosaic Idealize.ShloMosaic.TcCoe
open Cert.Kernel3Ideal Cert.Kernel3Ideal.Gen

variable {F : FTy → Type} [FloatOps F]

/-- The heads' slices of the three scratch buffers. -/
abbrev R6 (h : Fin 8) : Rect S8x128x256 := Rect.unit (s := S8x128x256) ![h.val, 0, 0] S1x128x256.size (inb6 h)
abbrev R7 (h : Fin 8) : Rect S8x1x256 := Rect.unit (s := S8x1x256) ![h.val, 0, 0] S1x1x256.size (inb7 h)
abbrev R8 (h : Fin 8) : Rect S8x80x256 := Rect.unit (s := S8x80x256) ![h.val, 0, 0] S1x80x256.size (inb8 h)

/-- The queries of the eight maps as the scratch holds them. -/
abbrev Qs (F : FTy → Type) := ∀ h : Fin 8, (R6 h).shape.Idx → Elt F .bf16
/-- The running maxima and the accumulators of the eight maps. -/
abbrev St (F : FTy → Type) := (∀ h : Fin 8, (R7 h).shape.Idx → Elt F .f32) × (∀ h : Fin 8, (R8 h).shape.Idx → Elt F .f32)

/-- The scores of the tile of keys at `off` for head `h`. -/
def scoreF (x1 : Vec F S1x8448x256 .bf16) (q : Qs F) (h : Fin 8) (off : Fin 3 → Nat)
    (ho : ∀ a, off a + S1x256x128.size a ≤ S1x8448x256.size a) : Sc F :=
  matmul dot_S256x128_S128x256_S256x256_1_0_0_1_n_n none
    (shapeCast S256x128 (fun j => x1 ((Rect.unit (s := S1x8448x256) off S1x256x128.size ho).toLoadRect.idx j) : Vec F S1x256x128 .bf16) shapeCasts_S1x256x128_S256x128)
    (shapeCast S128x256 (q h : Vec F S1x128x256 .bf16) shapeCasts_S1x128x256_S128x256) (constant S256x256 .f32 0x00000000#32)

/-- The values of a tile. -/
def valF (x2 : Vec F S1x33x320x256 .bf16) (off : Fin 4 → Nat) (ho : ∀ a, off a + S1x1x80x256.size a ≤ S1x33x320x256.size a) :
    Vec F S1x1x80x256 .bf16 :=
  fun j => x2 ((Rect.unit (s := S1x33x320x256) off S1x1x80x256.size ho).toLoadRect.idx j)

/-- One step of head `h` on scores `s` and values `v`. -/
def flashS (h : Fin 8) (s : Sc F) (v : Vec F S1x1x80x256 .bf16) (st : St F) : St F :=
  (Function.update st.1 h (shapeCast S1x1x256 (newM s (st.1 h)) shapeCasts_S1x256_S1x1x256),
   Function.update st.2 h (shapeCast S1x80x256 (newA s (st.1 h) v (st.2 h)) shapeCasts_S80x256_S1x80x256))

/-- Tile `r` of the loop: the eight maps on the scores at hand; the next scores. -/
def tileS (i : grid0.Coords) (x1 : Vec F S1x8448x256 .bf16) (x2 : Vec F S1x33x320x256 .bf16) (q : Qs F)
    (t : Fin (k0_t1_loop i).trips) (r : Fin 16) (a : Ahead F × St F) : Ahead F × St F :=
  ((scoreF x1 q 0 (k0_off12 i t (BitVec.ofNat 32 (1 + r.val))) (k0_off12_inb i t r),
    scoreF x1 q 1 (k0_off12 i t (BitVec.ofNat 32 (1 + r.val))) (k0_off12_inb i t r),
    scoreF x1 q 2 (k0_off12 i t (BitVec.ofNat 32 (1 + r.val))) (k0_off12_inb i t r),
    scoreF x1 q 3 (k0_off12 i t (BitVec.ofNat 32 (1 + r.val))) (k0_off12_inb i t r),
    scoreF x1 q 4 (k0_off9 i t (BitVec.ofNat 32 (1 + r.val))) (k0_off9_inb i t ⟨1 + r.val, by omega⟩)),
   flashS 7 (scoreF x1 q 7 (k0_off9 i t (BitVec.ofNat 32 r.val)) (k0_off9_inb i t ⟨r.val, by omega⟩)) (valF x2 (k0_off14 i t (BitVec.ofNat 32 r.val)) (k0_off14_inb i t r)) <|
   flashS 6 (scoreF x1 q 6 (k0_off9 i t (BitVec.ofNat 32 r.val)) (k0_off9_inb i t ⟨r.val, by omega⟩)) (valF x2 (k0_off14 i t (BitVec.ofNat 32 r.val)) (k0_off14_inb i t r)) <|
   flashS 5 (scoreF x1 q 5 (k0_off9 i t (BitVec.ofNat 32 r.val)) (k0_off9_inb i t ⟨r.val, by omega⟩)) (valF x2 (k0_off13 i t (BitVec.ofNat 32 r.val)) (k0_off13_inb i t r)) <|
   flashS 4 a.1.2.2.2.2 (valF x2 (k0_off13 i t (BitVec.ofNat 32 r.val)) (k0_off13_inb i t r)) <|
   flashS 3 a.1.2.2.2.1 (valF x2 (k0_off11 i t (BitVec.ofNat 32 r.val)) (k0_off11_inb i t r)) <|
   flashS 2 a.1.2.2.1 (valF x2 (k0_off11 i t (BitVec.ofNat 32 r.val)) (k0_off11_inb i t r)) <|
   flashS 1 a.1.2.1 (valF x2 (k0_off10 i t (BitVec.ofNat 32 r.val)) (k0_off10_inb i t r)) <|
   flashS 0 a.1.1 (valF x2 (k0_off10 i t (BitVec.ofNat 32 r.val)) (k0_off10_inb i t r)) a.2)

/-- `n` tiles from tile `r` on. -/
def tilesS (i : grid0.Coords) (x1 : Vec F S1x8448x256 .bf16) (x2 : Vec F S1x33x320x256 .bf16) (q : Qs F)
    (t : Fin (k0_t1_loop i).trips) : (n r : Nat) → r + n ≤ 16 → Ahead F × St F → Ahead F × St F
  | 0, _, _, a => a
  | n + 1, r, hr, a => tilesS i x1 x2 q t n (r + 1) (by omega) (tileS i x1 x2 q t ⟨r, by omega⟩ a)

/-- `k` trips of the loop. -/
def loopS (i : grid0.Coords) (x1 : Vec F S1x8448x256 .bf16) (x2 : Vec F S1x33x320x256 .bf16) (q : Qs F) : Nat → Ahead F × St F → Ahead F × St F
  | 0, a => a
  | k + 1, a => if h : k < (k0_t1_loop i).trips then tilesS i x1 x2 q ⟨k, h⟩ 16 0 (by decide) (loopS i x1 x2 q k a) else loopS i x1 x2 q k a

/-- The queries of map `h` of the block, transposed, the lanes of the group's other maps zero. -/
def queriesF (x0 : Vec F S1x256x256 .bf16) : Qs F := fun h =>
  qT ⟨h.val % 4, Nat.mod_lt _ (by decide)⟩ (fun j => x0 ((Rect.unit (s := S1x256x256) ![0, 0, 128 * (h.val / 4)] S1x256x128.size
    (inb2 ⟨h.val / 4, by omega⟩)).toLoadRect.idx j))

/-- The maxima at a large negative number, the accumulators at zero. -/
def initS : St F :=
  (fun h x => shapeCast S8x1x256 (broadcast S8x1x256 (Scalar.ofBits (F := F) .f32 0xF149F2CA#32)) shapeCasts_S8x1x256_S8x1x256 ((R7 h).emb x),
   fun h x => shapeCast S8x80x256 (broadcast S8x80x256 (Scalar.ofBits (F := F) .f32 0x00000000#32)) shapeCasts_S8x80x256_S8x80x256 ((R8 h).emb x))

/-- After the first tile. -/
def firstS (i : grid0.Coords) (x1 : Vec F S1x8448x256 .bf16) (x2 : Vec F S1x33x320x256 .bf16) (q : Qs F) : Ahead F × St F :=
  ((scoreF x1 q 0 (k0_off1 i 1#32) (k0_off1_inb i 1),
    scoreF x1 q 1 (k0_off1 i 1#32) (k0_off1_inb i 1),
    scoreF x1 q 2 (k0_off1 i 1#32) (k0_off1_inb i 1),
    scoreF x1 q 3 (k0_off1 i 1#32) (k0_off1_inb i 1),
    scoreF x1 q 4 (k0_off2 i 1#32) (k0_off2_inb i 1)),
   flashS 7 (scoreF x1 q 7 (k0_off3 i 0#32) (k0_off3_inb i 0)) (valF x2 k0_off8 k0_off8_inb) <|
   flashS 6 (scoreF x1 q 6 (k0_off3 i 0#32) (k0_off3_inb i 0)) (valF x2 k0_off8 k0_off8_inb) <|
   flashS 5 (scoreF x1 q 5 (k0_off3 i 0#32) (k0_off3_inb i 0)) (valF x2 k0_off7 k0_off7_inb) <|
   flashS 4 (scoreF x1 q 4 (k0_off2 i 0#32) (k0_off2_inb i 0)) (valF x2 k0_off7 k0_off7_inb) <|
   flashS 3 (scoreF x1 q 3 (k0_off1 i 0#32) (k0_off1_inb i 0)) (valF x2 k0_off5 k0_off5_inb) <|
   flashS 2 (scoreF x1 q 2 (k0_off1 i 0#32) (k0_off1_inb i 0)) (valF x2 k0_off5 k0_off5_inb) <|
   flashS 1 (scoreF x1 q 1 (k0_off1 i 0#32) (k0_off1_inb i 0)) (valF x2 k0_off4 k0_off4_inb) <|
   flashS 0 (scoreF x1 q 0 (k0_off1 i 0#32) (k0_off1_inb i 0)) (valF x2 k0_off4 k0_off4_inb) initS)

/-- The accumulators at the end. -/
def lastS (i : grid0.Coords) (x0 : Vec F S1x256x256 .bf16) (x1 : Vec F S1x8448x256 .bf16) (x2 : Vec F S1x33x320x256 .bf16) : St F :=
  (loopS i x1 x2 (queriesF x0) (k0_t1_loop i).trips (firstS i x1 x2 (queriesF x0))).2

/-- The vectors of the second map's weight, and the gain, as they are read. -/
def lamR (x3 : Vec F S4x128 .f32) : Vec F S4x128 .f32 :=
  fun j => x3 ((Rect.unit (s := S4x128) ![0, 0] S4x128.size inb_S4x128_S4x128_0_0).toLoadRect.idx j)
def gainR (x4 : Vec F S64x1 .f32) : Vec F S64x1 .f32 :=
  fun j => x4 ((Rect.unit (s := S64x1) ![0, 0] S64x1.size inb_S64x1_S64x1_0_0).toLoadRect.idx j)

/-- The results of the four heads from the accumulators. -/
def headsF (st : St F) (x3 : Vec F S4x128 .f32) (x4 : Vec F S64x1 .f32) : FVec F S1x256x256 .f32 :=
  outQ (headF (lamF (lamR x3)) (st.2 0) (st.2 1) (gainR x4)) (headF (lamF (lamR x3)) (st.2 2) (st.2 3) (gainR x4))
    (headF (lamF (lamR x3)) (st.2 4) (st.2 5) (gainR x4)) (headF (lamF (lamR x3)) (st.2 6) (st.2 7) (gainR x4))

/-- The block the kernel writes. -/
def outF (i : grid0.Coords) (x0 : Vec F S1x256x256 .bf16) (x1 : Vec F S1x8448x256 .bf16) (x2 : Vec F S1x33x320x256 .bf16)
    (x3 : Vec F S4x128 .f32) (x4 : Vec F S64x1 .f32) : FVec F S1x256x256 .f32 :=
  headsF (lastS i x0 x1 x2) x3 x4

end Cert.Diff

end
-- ==== Proof.Diff.Held.lean ====
/- What a core holds while the steps run: the keys and the values whole, and of each scratch buffer the four heads' slices. A load
   of a head gives its slice, a store replaces it and leaves the others. -/
module

public import proofs.«01_k».proof.Proof.Diff.Steps
public import Idealize.ShloMosaic.Lib.Pipeline.FrameBody
public import Idealize.ShloMosaic.Lib.Tactic
public import Idealize.ShloMosaic.Lib.Writes

@[expose] public section

noncomputable section

namespace Cert.Diff

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel3Ideal Cert.Kernel3Ideal.Gen

variable {F : FTy → Type} [FloatOps F]

local notation "𝕄" => MT nD τ sig Unit (Elt F) ℕ (UR sig nD τ) ℕ

section Buffers
variable {s : Shape} {e : EltTy} {α : Type} {E : Set ℕ} (c : Dev nD)

/-- A load from a buffer held at known contents. -/
theorem wp_load_owns {Q : α → sProp 𝕄} (m : Memref sig .tc .vmem s e) (r : LoadRect s) (hl : m.view.LoadsAt r) (X : s.Idx → Elt F e)
    (k : (r.shape.Idx → Elt F e) → Prog (TpuEff nD τ sig (Elt F) Λ₀ .tc) α) :
    owns (c : Thread nD τ) m fullShare X
      ⊢ iprop((owns (c : Thread nD τ) m fullShare X -∗ wp frame (wpE (defs₀ (F := F)) Variants.none c none) E (k fun j => X (r.idx j)) Q)
        -∗ wp frame (wpE (defs₀ (F := F)) Variants.none c none) E (.op (.load m r hl) k) Q) := by
  unfold owns
  iintro ⟨%f, %hf, H⟩ K
  subst hf
  iapply (wp_load Variants.none (c : Thread nD τ) none E (m := m) (r := r) (hl := hl) (k := k) (m.view.setOn_subset_set r.set)) $$ H
  iintro H
  iapply K
  iexists f
  isplitr
  · ipureintro; rfl
  iexact H

/-- The four slices of a buffer, at the contents `X`. -/
def heads (m : Memref sig .tc .vmem s e) (R : Fin 8 → Rect s) (X : ∀ h, (R h).shape.Idx → Elt F e) : sProp 𝕄 :=
  iprop(∃ f, ⌜∀ h, m.view.readAt (Elt F) (R h).toLoadRect f = X h⌝ ∗ (m.view.loc (c : Thread nD τ) ↦[m.view.set]{fullShare} f))

theorem heads_intro (m : Memref sig .tc .vmem s e) (R : Fin 8 → Rect s) :
    iprop(∃ d, owns (c : Thread nD τ) m fullShare d) ⊢ iprop(∃ X, heads (F := F) c m R X) := by
  unfold owns heads
  iintro ⟨%d, %f, -, H⟩
  iexists fun h => m.view.readAt (Elt F) (R h).toLoadRect f
  iexists f
  isplitr
  · ipureintro; exact fun _ => rfl
  iexact H

theorem heads_elim (m : Memref sig .tc .vmem s e) (R : Fin 8 → Rect s) (X : ∀ h, (R h).shape.Idx → Elt F e) :
    heads (F := F) c m R X ⊢ iprop(∃ d, owns (c : Thread nD τ) m fullShare d) := by
  unfold owns heads
  iintro ⟨%f, -, H⟩
  iexists m.view.read (Elt F) f
  iexists f
  isplitr
  · ipureintro; rfl
  iexact H

theorem wp_load_head {Q : α → sProp 𝕄} (m : Memref sig .tc .vmem s e) (R : Fin 8 → Rect s) (X : ∀ h, (R h).shape.Idx → Elt F e) (h : Fin 8)
    (hl : m.view.LoadsAt (R h).toLoadRect) (k : ((R h).shape.Idx → Elt F e) → Prog (TpuEff nD τ sig (Elt F) Λ₀ .tc) α) :
    heads (F := F) c m R X
      ⊢ iprop((heads (F := F) c m R X -∗ wp frame (wpE (defs₀ (F := F)) Variants.none c none) E (k (X h)) Q)
        -∗ wp frame (wpE (defs₀ (F := F)) Variants.none c none) E (.op (.load m (R h).toLoadRect hl) k) Q) := by
  unfold heads
  iintro ⟨%f, %hf, H⟩ K
  rw [← hf h]
  iapply (wp_load Variants.none (c : Thread nD τ) none E (m := m) (r := (R h).toLoadRect) (hl := hl) (k := k) (m.view.setOn_subset_set _)) $$ H
  iintro H
  iapply K
  iexists f
  isplitr
  · ipureintro; exact hf
  iexact H

/-- A load whose value is not used. -/
theorem wp_load_any {Q : α → sProp 𝕄} (m : Memref sig .tc .vmem s e) (R : Fin 8 → Rect s) (X : ∀ h, (R h).shape.Idx → Elt F e) (r : LoadRect s)
    (hl : m.view.LoadsAt r) (k : Prog (TpuEff nD τ sig (Elt F) Λ₀ .tc) α) :
    heads (F := F) c m R X
      ⊢ iprop((heads (F := F) c m R X -∗ wp frame (wpE (defs₀ (F := F)) Variants.none c none) E k Q)
        -∗ wp frame (wpE (defs₀ (F := F)) Variants.none c none) E (.op (.load m r hl) fun _ => k) Q) := by
  unfold heads
  iintro ⟨%f, %hf, H⟩ K
  iapply (wp_load Variants.none (c : Thread nD τ) none E (m := m) (r := r) (hl := hl) (k := fun _ => k) (m.view.setOn_subset_set _)) $$ H
  iintro H
  iapply K
  iexists f
  isplitr
  · ipureintro; exact hf
  iexact H

/-- A store through `r`: every place of a slice either lies in `r` and reads what was stored, or does not and reads as before. -/
theorem wp_store_heads {Q : α → sProp 𝕄} (m : Memref sig .tc .vmem s e) (R : Fin 8 → Rect s) (X Y : ∀ h, (R h).shape.Idx → Elt F e) (r : Rect s)
    (w : r.shape.Idx → Elt F e) (hx : (m.access r).Stores Finset.univ) (hm : Finset.univ = Finset.univ ∨ ∀ a, r.stride a = 1)
    (hY : ∀ h x, (∃ z, r.emb z = (R h).emb x ∧ w z = Y h x) ∨ ((R h).emb x ∉ r.set ∧ X h x = Y h x))
    (k : Prog (TpuEff nD τ sig (Elt F) Λ₀ .tc) α) :
    heads (F := F) c m R X
      ⊢ iprop((heads (F := F) c m R Y -∗ wp frame (wpE (defs₀ (F := F)) Variants.none c none) E k Q)
        -∗ wp frame (wpE (defs₀ (F := F)) Variants.none c none) E (.op (.store m r w Finset.univ hx hm) fun _ => k) Q) := by
  unfold heads
  iintro ⟨%f, %hf, H⟩ K
  iapply (wp_store_writes₀ Variants.none (c : Thread nD τ) none E (m := m) (r := r) (w := w) (hx := hx) (hm := hm) (k := fun _ => k)
    (View.set_slice_subset m.view r)) $$ H
  iintro H
  iapply K
  iexists m.view.writes (Elt F) f [⟨r, w⟩]
  isplitr
  · ipureintro
    intro h
    funext x
    show m.view.read (Elt F) (m.view.writes (Elt F) f [⟨r, w⟩]) ((R h).emb x) = Y h x
    rcases hY h x with ⟨z, hz, hw⟩ | ⟨hn, hX⟩
    · rw [View.read_writes_cons_hit m.view f r w [] z _ hz, hw]
    · rw [View.read_writes_cons_miss m.view f ⟨r, w⟩ [] _ hn, ← hX, ← hf h]
      rfl
  iexact H

/-- A store of head `h`: its slice is replaced. -/
theorem wp_store_head {Q : α → sProp 𝕄} (m : Memref sig .tc .vmem s e) (R : Fin 8 → Rect s) (X : ∀ h, (R h).shape.Idx → Elt F e) (h : Fin 8)
    (w : (R h).shape.Idx → Elt F e) (hx : (m.access (R h)).Stores Finset.univ)
    (hm : Finset.univ = Finset.univ ∨ ∀ a, (R h).stride a = 1)
    (hR : ∀ h', h' ≠ h → ∀ x, (R h').emb x ∉ (R h).set)
    (k : Prog (TpuEff nD τ sig (Elt F) Λ₀ .tc) α) :
    heads (F := F) c m R X
      ⊢ iprop((heads (F := F) c m R (Function.update X h w) -∗ wp frame (wpE (defs₀ (F := F)) Variants.none c none) E k Q)
        -∗ wp frame (wpE (defs₀ (F := F)) Variants.none c none) E (.op (.store m (R h) w Finset.univ hx hm) fun _ => k) Q) := by
  refine wp_store_heads c m R X _ (R h) w hx hm (fun h' x => ?_) k
  by_cases hh : h' = h
  · subst hh
    exact .inl ⟨x, rfl, by rw [Function.update_self]⟩
  · exact .inr ⟨hR h' hh x, by rw [Function.update_of_ne hh]⟩

end Buffers

end Cert.Diff

end
-- ==== Proof.Diff.Run.lean ====
/- The steps run: each is taken from what the core holds to what it holds after, the state changing as State.lean says. -/
module

public import proofs.«01_k».proof.Proof.Diff.State
public import proofs.«01_k».proof.Proof.Diff.Held
public import Idealize.ShloMosaic.Lib.Scf

@[expose] public section

noncomputable section

namespace Cert.Diff

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel3Ideal Cert.Kernel3Ideal.Gen

variable {F : FTy → Type} [FloatOps F]

local notation "𝕄" => MT nD τ sig Unit (Elt F) ℕ (UR sig nD τ) ℕ

theorem R6_disj (h h' : Fin 8) (hh : h' ≠ h) (x : (R6 h').shape.Idx) : (R6 h').emb x ∉ (R6 h).set := by
  refine Rect.not_mem_set_of_axis _ _ (0 : Fin 3) h.val 1 rfl rfl rfl ?_
  have h0 : (((R6 h').emb x) 0).val = h'.val + 1 * (x 0).val := rfl
  have hx : (x 0).val < 1 := (x 0).isLt
  have := Fin.val_ne_of_ne hh
  omega

theorem R7_disj (h h' : Fin 8) (hh : h' ≠ h) (x : (R7 h').shape.Idx) : (R7 h').emb x ∉ (R7 h).set := by
  refine Rect.not_mem_set_of_axis _ _ (0 : Fin 3) h.val 1 rfl rfl rfl ?_
  have h0 : (((R7 h').emb x) 0).val = h'.val + 1 * (x 0).val := rfl
  have hx : (x 0).val < 1 := (x 0).isLt
  have := Fin.val_ne_of_ne hh
  omega

theorem R8_disj (h h' : Fin 8) (hh : h' ≠ h) (x : (R8 h').shape.Idx) : (R8 h').emb x ∉ (R8 h).set := by
  refine Rect.not_mem_set_of_axis _ _ (0 : Fin 3) h.val 1 rfl rfl rfl ?_
  have h0 : (((R8 h').emb x) 0).val = h'.val + 1 * (x 0).val := rfl
  have hx : (x 0).val < 1 := (x 0).isLt
  have := Fin.val_ne_of_ne hh
  omega

theorem whole7 (y : S8x1x256.Idx) : (Rect.unit (s := S8x1x256) ![0, 0, 0] S8x1x256.size inb_S8x1x256_S8x1x256_0_0_0).emb y = y := by
  refine Rect.emb_eq_of_coords (Rect.unit (s := S8x1x256) ![0, 0, 0] S8x1x256.size inb_S8x1x256_S8x1x256_0_0_0) y y fun a => ?_
  have h0 : (![0, 0, 0] : Fin 3 → Nat) a = 0 := by fin_cases a <;> rfl
  show (y a).val = (![0, 0, 0] : Fin 3 → Nat) a + 1 * (y a).val
  rw [h0]
  omega

theorem whole8 (y : S8x80x256.Idx) : (Rect.unit (s := S8x80x256) ![0, 0, 0] S8x80x256.size inb_S8x80x256_S8x80x256_0_0_0).emb y = y := by
  refine Rect.emb_eq_of_coords (Rect.unit (s := S8x80x256) ![0, 0, 0] S8x80x256.size inb_S8x80x256_S8x80x256_0_0_0) y y fun a => ?_
  have h0 : (![0, 0, 0] : Fin 3 → Nat) a = 0 := by fin_cases a <;> rfl
  show (y a).val = (![0, 0, 0] : Fin 3 → Nat) a + 1 * (y a).val
  rw [h0]
  omega

/-- The second loop runs no trip at any point of the grid. -/
theorem trips2 : ∀ i : grid0.Coords, (k0_t2_loop i).trips = 0 := by decide +kernel

section
variable {α : Type} {E : Set ℕ} (c : Dev nD) (arg3 : Memref sig .tc .vmem S1x8448x256 .bf16) (arg4 : Memref sig .tc .vmem S1x33x320x256 .bf16)
    (arg8 : Memref sig .tc .vmem S8x128x256 .bf16) (arg9 : Memref sig .tc .vmem S8x1x256 .f32) (arg10 : Memref sig .tc .vmem S8x80x256 .f32)
    (x1 : Vec F S1x8448x256 .bf16) (x2 : Vec F S1x33x320x256 .bf16) (q : Qs F)

/-- The keys, the values, the queries, the maxima and the accumulators. -/
def held (st : St F) : sProp 𝕄 :=
  iprop(owns (c : Thread nD τ) arg3 fullShare x1 ∗ owns (c : Thread nD τ) arg4 fullShare x2 ∗ heads (F := F) c arg8 R6 q
    ∗ heads (F := F) c arg9 R7 st.1 ∗ heads (F := F) c arg10 R8 st.2)

theorem wp_score {Q : α → sProp 𝕄} (st : St F) (h : Fin 8) (off : Fin 3 → Nat) (ho : ∀ a, off a + S1x256x128.size a ≤ S1x8448x256.size a)
    (k : Sc F → Prog (TpuEff nD τ sig (Elt F) Λ₀ .tc) α) :
    held c arg3 arg4 arg8 arg9 arg10 x1 x2 q st
      ⊢ iprop((held c arg3 arg4 arg8 arg9 arg10 x1 x2 q st -∗ wp frame (wpE (defs₀ (F := F)) Variants.none c none) E (k (scoreF x1 q h off ho)) Q)
        -∗ wp frame (wpE (defs₀ (F := F)) Variants.none c none) E ((scoreP arg3 arg8 h off ho).bind k) Q) := by
  show _ ⊢ iprop(_ -∗ wp frame _ E (Prog.op _ fun kk => Prog.op _ fun qq => k _) Q)
  unfold held
  iintro ⟨H3, H4, H8, H9, H10⟩ K
  iapply (wp_load_owns c arg3 _ _ x1 _) $$ H3
  iintro H3
  iapply (wp_load_head c arg8 R6 q h _ _) $$ H8
  iintro H8
  iapply K
  iframe

theorem wp_flash {Q : α → sProp 𝕄} (st : St F) (h : Fin 8) (off : Fin 4 → Nat) (ho : ∀ a, off a + S1x1x80x256.size a ≤ S1x33x320x256.size a)
    (s : Sc F) (k : Prog (TpuEff nD τ sig (Elt F) Λ₀ .tc) α) :
    held c arg3 arg4 arg8 arg9 arg10 x1 x2 q st
      ⊢ iprop((held c arg3 arg4 arg8 arg9 arg10 x1 x2 q (flashS h s (valF x2 off ho) st) -∗ wp frame (wpE (defs₀ (F := F)) Variants.none c none) E k Q)
        -∗ wp frame (wpE (defs₀ (F := F)) Variants.none c none) E (flashP arg4 arg9 arg10 h off ho s k) Q) := by
  unfold flashP held
  iintro ⟨H3, H4, H8, H9, H10⟩ K
  iapply (wp_load_head c arg9 R7 st.1 h _ _) $$ H9
  iintro H9
  iapply (wp_load_owns c arg4 _ _ x2 _) $$ H4
  iintro H4
  iapply (wp_load_head c arg10 R8 st.2 h _ _) $$ H10
  iintro H10
  iapply (wp_load_any c arg10 R8 st.2 _ _ _) $$ H10
  iintro H10
  iapply (wp_store_head c arg10 R8 st.2 h _ _ _ (R8_disj h) _) $$ H10
  iintro H10
  iapply (wp_load_any c arg9 R7 st.1 _ _ _) $$ H9
  iintro H9
  iapply (wp_store_head c arg9 R7 st.1 h _ _ _ (R7_disj h) _) $$ H9
  iintro H9
  iapply K
  unfold flashS valF
  iframe
  iexact H10

theorem wp_tile {Q : α → sProp 𝕄} (i : grid0.Coords) (t : Fin (k0_t1_loop i).trips) (r : Fin 16) (a : Ahead F × St F)
    (k : Ahead F → Prog (TpuEff nD τ sig (Elt F) Λ₀ .tc) α) :
    held c arg3 arg4 arg8 arg9 arg10 x1 x2 q a.2
      ⊢ iprop((held c arg3 arg4 arg8 arg9 arg10 x1 x2 q (tileS i x1 x2 q t r a).2
          -∗ wp frame (wpE (defs₀ (F := F)) Variants.none c none) E (k (tileS i x1 x2 q t r a).1) Q)
        -∗ wp frame (wpE (defs₀ (F := F)) Variants.none c none) E (tileP i arg3 arg4 arg8 arg9 arg10 t r a.1 k) Q) := by
  unfold tileP
  iintro H K
  iapply (wp_score c arg3 arg4 arg8 arg9 arg10 x1 x2 q _ 5 _ _ _) $$ H
  iintro H
  iapply (wp_flash c arg3 arg4 arg8 arg9 arg10 x1 x2 q _ 0 _ _ _ _) $$ H
  iintro H
  iapply (wp_score c arg3 arg4 arg8 arg9 arg10 x1 x2 q _ 6 _ _ _) $$ H
  iintro H
  iapply (wp_flash c arg3 arg4 arg8 arg9 arg10 x1 x2 q _ 1 _ _ _ _) $$ H
  iintro H
  iapply (wp_score c arg3 arg4 arg8 arg9 arg10 x1 x2 q _ 7 _ _ _) $$ H
  iintro H
  iapply (wp_flash c arg3 arg4 arg8 arg9 arg10 x1 x2 q _ 2 _ _ _ _) $$ H
  iintro H
  iapply (wp_score c arg3 arg4 arg8 arg9 arg10 x1 x2 q _ 0 _ _ _) $$ H
  iintro H
  iapply (wp_flash c arg3 arg4 arg8 arg9 arg10 x1 x2 q _ 3 _ _ _ _) $$ H
  iintro H
  iapply (wp_score c arg3 arg4 arg8 arg9 arg10 x1 x2 q _ 1 _ _ _) $$ H
  iintro H
  iapply (wp_flash c arg3 arg4 arg8 arg9 arg10 x1 x2 q _ 4 _ _ _ _) $$ H
  iintro H
  iapply (wp_score c arg3 arg4 arg8 arg9 arg10 x1 x2 q _ 2 _ _ _) $$ H
  iintro H
  iapply (wp_flash c arg3 arg4 arg8 arg9 arg10 x1 x2 q _ 5 _ _ _ _) $$ H
  iintro H
  iapply (wp_score c arg3 arg4 arg8 arg9 arg10 x1 x2 q _ 3 _ _ _) $$ H
  iintro H
  iapply (wp_flash c arg3 arg4 arg8 arg9 arg10 x1 x2 q _ 6 _ _ _ _) $$ H
  iintro H
  iapply (wp_score c arg3 arg4 arg8 arg9 arg10 x1 x2 q _ 4 _ _ _) $$ H
  iintro H
  iapply (wp_flash c arg3 arg4 arg8 arg9 arg10 x1 x2 q _ 7 _ _ _ _) $$ H
  iintro H
  iapply K
  iexact H

theorem wp_tiles (i : grid0.Coords) (t : Fin (k0_t1_loop i).trips) (n : Nat) : ∀ (r : Nat) (hr : r + n ≤ 16) (a : Ahead F × St F)
    (Q : Ahead F → sProp 𝕄),
    held c arg3 arg4 arg8 arg9 arg10 x1 x2 q a.2
      ⊢ iprop((held c arg3 arg4 arg8 arg9 arg10 x1 x2 q (tilesS i x1 x2 q t n r hr a).2 -∗ Q (tilesS i x1 x2 q t n r hr a).1)
        -∗ wp frame (wpE (defs₀ (F := F)) Variants.none c none) E (tilesP i arg3 arg4 arg8 arg9 arg10 t n r hr a.1) Q) := by
  induction n with
  | zero =>
    intro r hr a Q
    unfold tilesP tilesS
    iintro H K
    rw [wp_ret]
    imodintro
    iapply K
    iexact H
  | succ n ih =>
    intro r hr a Q
    unfold tilesP tilesS
    iintro H K
    iapply (wp_tile c arg3 arg4 arg8 arg9 arg10 x1 x2 q i t _ a _) $$ H
    iintro H
    iapply (ih (r + 1) _ (tileS i x1 x2 q t ⟨r, _⟩ a) Q) $$ H
    iexact K

/-- The loop of the tiles, and the one with no trips. -/
theorem wp_loops {Q : α → sProp 𝕄} (i : grid0.Coords) (B : Fin (k0_t2_loop i).trips → Ahead F → Prog (TpuEff nD τ sig (Elt F) Λ₀ .tc) (Ahead F))
    (a : Ahead F × St F) (k : Prog (TpuEff nD τ sig (Elt F) Λ₀ .tc) α) :
    held c arg3 arg4 arg8 arg9 arg10 x1 x2 q a.2
      ⊢ iprop((held c arg3 arg4 arg8 arg9 arg10 x1 x2 q (loopS i x1 x2 q (k0_t1_loop i).trips a).2
          -∗ wp frame (wpE (defs₀ (F := F)) Variants.none c none) E k Q)
        -∗ wp frame (wpE (defs₀ (F := F)) Variants.none c none) E (loopsP i arg3 arg4 arg8 arg9 arg10 B a.1 k) Q) := by
  unfold loopsP
  iintro H K
  iapply (Scf.wp_for_bind frame (wpE (defs₀ (F := F)) Variants.none c none) E (k0_t1_loop i).lb (k0_t1_loop i).ub (k0_t1_loop i).st (k0_t1_ok i) a.1 _
    (fun n S => iprop(⌜S = (loopS i x1 x2 q n a).1⌝ ∗ held c arg3 arg4 arg8 arg9 arg10 x1 x2 q (loopS i x1 x2 q n a).2)) ?body) $$ [H]
  case body =>
    intro n S
    iintro ⟨%hS, H⟩
    subst hS
    iapply (wp_tiles (E := E) c arg3 arg4 arg8 arg9 arg10 x1 x2 q i n 16 0 _ (loopS i x1 x2 q n.val a) _) $$ H
    iintro H
    have e : loopS i x1 x2 q (n.val + 1) a = tilesS i x1 x2 q n 16 0 (by decide) (loopS i x1 x2 q n.val a) := by
      show (if h : n.val < (k0_t1_loop i).trips then _ else _) = _
      rw [dif_pos n.isLt]
    rw [e]
    isplitr
    · ipureintro; rfl
    iexact H
  · isplitr
    · ipureintro; rfl
    iexact H
  iintro %S ⟨%hS, H⟩
  iapply (Scf.wp_for_bind frame (wpE (defs₀ (F := F)) Variants.none c none) E (k0_t2_loop i).lb (k0_t2_loop i).ub (k0_t2_loop i).st (k0_t2_ok i) S B
    (fun _ _ => held c arg3 arg4 arg8 arg9 arg10 x1 x2 q (loopS i x1 x2 q (k0_t1_loop i).trips a).2)
    (fun n _ => absurd (lt_of_lt_of_eq n.isLt (trips2 i)) (Nat.not_lt_zero _))) $$ [H]
  · iexact H
  iintro %S' H
  iapply K
  iexact H

/-- The queries transposed, the maxima and accumulators set, the first tile. -/
theorem wp_prolog {Q : PUnit → sProp 𝕄} (i : grid0.Coords) (arg2 : Memref sig .tc .vmem S1x256x256 .bf16) (arg5 : Memref sig .tc .vmem S4x128 .f32)
    (harg8 : arg8.IsWhole) (x0 : Vec F S1x256x256 .bf16) (x3 : Vec F S4x128 .f32)
    (k : FVec F S1x1 .f32 → Ahead F → Prog (TpuEff nD τ sig (Elt F) Λ₀ .tc) PUnit) :
    iprop(owns (c : Thread nD τ) arg2 fullShare x0 ∗ owns (c : Thread nD τ) arg3 fullShare x1 ∗ owns (c : Thread nD τ) arg4 fullShare x2
        ∗ owns (c : Thread nD τ) arg5 fullShare x3
        ∗ (∃ d, owns (c : Thread nD τ) arg8 fullShare d) ∗ (∃ d, owns (c : Thread nD τ) arg9 fullShare d) ∗ (∃ d, owns (c : Thread nD τ) arg10 fullShare d))
      ⊢ iprop((owns (c : Thread nD τ) arg2 fullShare x0 -∗ owns (c : Thread nD τ) arg5 fullShare x3
          -∗ held c arg3 arg4 arg8 arg9 arg10 x1 x2 (queriesF x0) (firstS i x1 x2 (queriesF x0)).2
          -∗ wp frame (wpE (defs₀ (F := F)) Variants.none c none) E (k (lamF (lamR x3)) (firstS i x1 x2 (queriesF x0)).1) Q)
        -∗ wp frame (wpE (defs₀ (F := F)) Variants.none c none) E (prologP i arg2 arg3 arg4 arg5 arg8 harg8 arg9 arg10 k) Q) := by
  unfold prologP groupP maskP initP
  iintro ⟨H2, H3, H4, H5, H8, H9, H10⟩ K
  ihave H8 := (heads_intro c arg8 R6) $$ H8
  ihave H9 := (heads_intro c arg9 R7) $$ H9
  ihave H10 := (heads_intro c arg10 R8) $$ H10
  icases H8 with ⟨%X6, H8⟩
  icases H9 with ⟨%X7, H9⟩
  icases H10 with ⟨%X8, H10⟩
  iapply (wp_load_owns c arg5 _ _ x3 _) $$ H5
  iintro H5
  iapply (wp_load_owns c arg2 _ _ x0 _) $$ H2
  iintro H2
  iapply (wp_load_any c arg8 R6 _ _ _ _) $$ H8
  iintro H8
  iapply (wp_store_head c arg8 R6 _ 0 _ _ _ (R6_disj 0) _) $$ H8
  iintro H8
  iapply (wp_load_any c arg8 R6 _ _ _ _) $$ H8
  iintro H8
  iapply (wp_store_head c arg8 R6 _ 1 _ _ _ (R6_disj 1) _) $$ H8
  iintro H8
  iapply (wp_load_any c arg8 R6 _ _ _ _) $$ H8
  iintro H8
  iapply (wp_store_head c arg8 R6 _ 2 _ _ _ (R6_disj 2) _) $$ H8
  iintro H8
  iapply (wp_load_any c arg8 R6 _ _ _ _) $$ H8
  iintro H8
  iapply (wp_store_head c arg8 R6 _ 3 _ _ _ (R6_disj 3) _) $$ H8
  iintro H8
  iapply (wp_load_owns c arg2 _ _ x0 _) $$ H2
  iintro H2
  iapply (wp_load_any c arg8 R6 _ _ _ _) $$ H8
  iintro H8
  iapply (wp_store_head c arg8 R6 _ 4 _ _ _ (R6_disj 4) _) $$ H8
  iintro H8
  iapply (wp_load_any c arg8 R6 _ _ _ _) $$ H8
  iintro H8
  iapply (wp_store_head c arg8 R6 _ 5 _ _ _ (R6_disj 5) _) $$ H8
  iintro H8
  iapply (wp_load_any c arg8 R6 _ _ _ _) $$ H8
  iintro H8
  iapply (wp_store_head c arg8 R6 _ 6 _ _ _ (R6_disj 6) _) $$ H8
  iintro H8
  iapply (wp_load_any c arg8 R6 _ _ _ _) $$ H8
  iintro H8
  iapply (wp_store_head c arg8 R6 _ 7 _ _ _ (R6_disj 7) _) $$ H8
  iintro H8
  iapply (wp_load_any c arg9 R7 _ _ _ _) $$ H9
  iintro H9
  iapply (wp_store_heads c arg9 R7 _ (initS (F := F)).1 _ _ _ _ (fun h x => .inl ⟨(R7 h).emb x, whole7 _, rfl⟩) _) $$ H9
  iintro H9
  iapply (wp_load_any c arg10 R8 _ _ _ _) $$ H10
  iintro H10
  iapply (wp_store_heads c arg10 R8 _ (initS (F := F)).2 _ _ _ _ (fun h x => .inl ⟨(R8 h).emb x, whole8 _, rfl⟩) _) $$ H10
  iintro H10
  have e : (Function.update (Function.update (Function.update (Function.update (Function.update (Function.update (Function.update (Function.update X6 0 (queriesF x0 0)) 1 (queriesF x0 1)) 2 (queriesF x0 2)) 3 (queriesF x0 3)) 4 (queriesF x0 4)) 5 (queriesF x0 5)) 6 (queriesF x0 6)) 7 (queriesF x0 7))
      = queriesF x0 := by
    funext h
    fin_cases h <;> rfl
  ihave H : held c arg3 arg4 arg8 arg9 arg10 x1 x2 (queriesF x0) initS $$ [H3 H4 H8 H9 H10]
  · unfold held
    rw [← e]
    iframe
    iexact H8
  unfold firstP
  iapply (wp_score c arg3 arg4 arg8 arg9 arg10 x1 x2 _ _ 0 _ _ _) $$ H
  iintro H
  iapply (wp_score c arg3 arg4 arg8 arg9 arg10 x1 x2 _ _ 1 _ _ _) $$ H
  iintro H
  iapply (wp_score c arg3 arg4 arg8 arg9 arg10 x1 x2 _ _ 2 _ _ _) $$ H
  iintro H
  iapply (wp_score c arg3 arg4 arg8 arg9 arg10 x1 x2 _ _ 3 _ _ _) $$ H
  iintro H
  iapply (wp_score c arg3 arg4 arg8 arg9 arg10 x1 x2 _ _ 4 _ _ _) $$ H
  iintro H
  iapply (wp_score c arg3 arg4 arg8 arg9 arg10 x1 x2 _ _ 5 _ _ _) $$ H
  iintro H
  iapply (wp_flash c arg3 arg4 arg8 arg9 arg10 x1 x2 _ _ 0 _ _ _ _) $$ H
  iintro H
  iapply (wp_score c arg3 arg4 arg8 arg9 arg10 x1 x2 _ _ 6 _ _ _) $$ H
  iintro H
  iapply (wp_flash c arg3 arg4 arg8 arg9 arg10 x1 x2 _ _ 1 _ _ _ _) $$ H
  iintro H
  iapply (wp_score c arg3 arg4 arg8 arg9 arg10 x1 x2 _ _ 7 _ _ _) $$ H
  iintro H
  iapply (wp_flash c arg3 arg4 arg8 arg9 arg10 x1 x2 _ _ 2 _ _ _ _) $$ H
  iintro H
  iapply (wp_score c arg3 arg4 arg8 arg9 arg10 x1 x2 _ _ 0 _ _ _) $$ H
  iintro H
  iapply (wp_flash c arg3 arg4 arg8 arg9 arg10 x1 x2 _ _ 3 _ _ _ _) $$ H
  iintro H
  iapply (wp_score c arg3 arg4 arg8 arg9 arg10 x1 x2 _ _ 1 _ _ _) $$ H
  iintro H
  iapply (wp_flash c arg3 arg4 arg8 arg9 arg10 x1 x2 _ _ 4 _ _ _ _) $$ H
  iintro H
  iapply (wp_score c arg3 arg4 arg8 arg9 arg10 x1 x2 _ _ 2 _ _ _) $$ H
  iintro H
  iapply (wp_flash c arg3 arg4 arg8 arg9 arg10 x1 x2 _ _ 5 _ _ _ _) $$ H
  iintro H
  iapply (wp_score c arg3 arg4 arg8 arg9 arg10 x1 x2 _ _ 3 _ _ _) $$ H
  iintro H
  iapply (wp_flash c arg3 arg4 arg8 arg9 arg10 x1 x2 _ _ 6 _ _ _ _) $$ H
  iintro H
  iapply (wp_score c arg3 arg4 arg8 arg9 arg10 x1 x2 _ _ 4 _ _ _) $$ H
  iintro H
  iapply (wp_flash c arg3 arg4 arg8 arg9 arg10 x1 x2 _ _ 7 _ _ _ _) $$ H
  iintro H
  iapply (wp_score c arg3 arg4 arg8 arg9 arg10 x1 x2 _ _ 0 _ _ _) $$ H
  iintro H
  iapply (wp_score c arg3 arg4 arg8 arg9 arg10 x1 x2 _ _ 1 _ _ _) $$ H
  iintro H
  iapply (wp_score c arg3 arg4 arg8 arg9 arg10 x1 x2 _ _ 2 _ _ _) $$ H
  iintro H
  iapply (wp_score c arg3 arg4 arg8 arg9 arg10 x1 x2 _ _ 3 _ _ _) $$ H
  iintro H
  iapply (wp_score c arg3 arg4 arg8 arg9 arg10 x1 x2 _ _ 4 _ _ _) $$ H
  iintro H
  iapply K $$ H2 H5 [H]
  iexact H

/-- The results written. -/
theorem wp_finish {Q : PUnit → sProp 𝕄} (arg6 : Memref sig .tc .vmem S64x1 .f32) (arg7 : Memref sig .tc .vmem S1x256x256 .f32) (x3 : Vec F S4x128 .f32)
    (x4 : Vec F S64x1 .f32) (st : St F) :
    held c arg3 arg4 arg8 arg9 arg10 x1 x2 q st
      ⊢ iprop(owns (c : Thread nD τ) arg6 fullShare x4 -∗ (∃ d, owns (c : Thread nD τ) arg7 fullShare d)
        -∗ (held c arg3 arg4 arg8 arg9 arg10 x1 x2 q st -∗ owns (c : Thread nD τ) arg6 fullShare x4
            -∗ (∃ f, arg7.view.loc (c : Thread nD τ) ↦[arg7.view.set]{fullShare}
              arg7.view.writes (Elt F) f [⟨Rect.unit (s := S1x256x256) ![0, 0, 0] S1x256x256.size inb_S1x256x256_S1x256x256_0_0_0,
                headsF st x3 x4⟩]) -∗ Q ⟨⟩)
        -∗ wp frame (wpE (defs₀ (F := F)) Variants.none c none) E (finishP (lamF (lamR x3)) arg6 arg7 arg10) Q) := by
  unfold finishP readP gainP writeP held
  iintro ⟨H3, H4, H8, H9, H10⟩ H6 H7 K
  iapply (wp_load_head c arg10 R8 st.2 0 _ _) $$ H10
  iintro H10
  iapply (wp_load_head c arg10 R8 st.2 1 _ _) $$ H10
  iintro H10
  iapply (wp_load_owns c arg6 _ _ x4 _) $$ H6
  iintro H6
  iapply (wp_load_head c arg10 R8 st.2 2 _ _) $$ H10
  iintro H10
  iapply (wp_load_head c arg10 R8 st.2 3 _ _) $$ H10
  iintro H10
  iapply (wp_load_owns c arg6 _ _ x4 _) $$ H6
  iintro H6
  iapply (wp_load_head c arg10 R8 st.2 4 _ _) $$ H10
  iintro H10
  iapply (wp_load_head c arg10 R8 st.2 5 _ _) $$ H10
  iintro H10
  iapply (wp_load_owns c arg6 _ _ x4 _) $$ H6
  iintro H6
  iapply (wp_load_head c arg10 R8 st.2 6 _ _) $$ H10
  iintro H10
  iapply (wp_load_head c arg10 R8 st.2 7 _ _) $$ H10
  iintro H10
  iapply (wp_load_owns c arg6 _ _ x4 _) $$ H6
  iintro H6
  unfold owns
  icases H7 with ⟨%d, %f, -, H7⟩
  iapply (wp_load Variants.none (c : Thread nD τ) none E (arg7.view.setOn_subset_set _)) $$ H7
  iintro H7
  iapply (wp_store_writes₀ Variants.none (c : Thread nD τ) none E (View.set_slice_subset arg7.view _)) $$ H7
  iintro H7
  rw [wp_ret]
  imodintro
  iapply K $$ [H3 H4 H8 H9 H10] H6 [H7]
  · iframe
  · iexists f
    iexact H7

end

set_option maxHeartbeats 1000000 in
/-- The body run: the inputs are as they were, the output's buffer has the one piece written, the scratch holds something. -/
theorem run_body (c : Dev nD) (i : grid0.Coords) (arg2 : Memref sig .tc .vmem S1x256x256 .bf16) (harg2 : arg2.IsWhole) (arg3 : Memref sig .tc .vmem S1x8448x256 .bf16) (harg3 : arg3.IsWhole)
    (arg4 : Memref sig .tc .vmem S1x33x320x256 .bf16) (harg4 : arg4.IsWhole) (arg5 : Memref sig .tc .vmem S4x128 .f32) (harg5 : arg5.IsWhole)
    (arg6 : Memref sig .tc .vmem S64x1 .f32) (harg6 : arg6.IsWhole) (arg7 : Memref sig .tc .vmem S1x256x256 .f32) (harg7 : arg7.IsWhole)
    (arg8 : Memref sig .tc .vmem S8x128x256 .bf16) (harg8 : arg8.IsWhole) (arg9 : Memref sig .tc .vmem S8x1x256 .f32) (harg9 : arg9.IsWhole)
    (arg10 : Memref sig .tc .vmem S8x80x256 .f32) (harg10 : arg10.IsWhole)
    (x0 : Vec F S1x256x256 .bf16) (x1 : Vec F S1x8448x256 .bf16) (x2 : Vec F S1x33x320x256 .bf16) (x3 : Vec F S4x128 .f32) (x4 : Vec F S64x1 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ (∃ d, owns (c : Thread nD τ) arg7 fullShare d)
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2
          ∗ owns (c : Thread nD τ) arg5 fullShare x3 ∗ owns (c : Thread nD τ) arg6 fullShare x4
          ∗ (∃ f, arg7.view.loc (c : Thread nD τ) ↦[arg7.view.set]{fullShare} arg7.view.writes (Elt F) f
              [⟨Rect.unit (s := S1x256x256) ![0, 0, 0] S1x256x256.size inb_S1x256x256_S1x256x256_0_0_0, outF i x0 x1 x2 x3 x4⟩])
          ∗ (∃ d, owns (c : Thread nD τ) arg8 fullShare d) ∗ (∃ d, owns (c : Thread nD τ) arg9 fullShare d) ∗ (∃ d, owns (c : Thread nD τ) arg10 fullShare d)) -∗ K ⟨⟩))
      ⊢ wp frame (wpE (defs₀ (F := F)) Variants.none c none) E (cc0_diff_attn i arg2 harg2 arg3 harg3 arg4 harg4 arg5 harg5 arg6 harg6 arg7 harg7 arg8 harg8 arg9 harg9 arg10 harg10) K := by
  obtain ⟨B, hB⟩ := body_eq (F := F) i arg2 harg2 arg3 harg3 arg4 harg4 arg5 harg5 arg6 harg6 arg7 harg7 arg8 harg8 arg9 harg9 arg10 harg10
  rw [hB]
  iintro ⟨H2, H3, H4, H5, H6, H7, H8, H9, H10, K⟩
  iapply (wp_prolog c arg3 arg4 arg8 arg9 arg10 x1 x2 i arg2 arg5 harg8 x0 x3 _) $$ [H2 H3 H4 H5 H8 H9 H10]
  · iframe
  iintro H2 H5 H
  iapply (wp_loops c arg3 arg4 arg8 arg9 arg10 x1 x2 (queriesF x0) i B (firstS i x1 x2 (queriesF x0)) _) $$ H
  iintro H
  iapply (wp_finish c arg3 arg4 arg8 arg9 arg10 x1 x2 (queriesF x0) arg6 arg7 x3 x4 _) $$ H H6 H7
  iintro H H6 H7
  iapply K
  unfold held
  icases H with ⟨H3, H4, H8, H9, H10⟩
  ihave H8 := (heads_elim c arg8 R6 _) $$ H8
  ihave H9 := (heads_elim c arg9 R7 _) $$ H9
  ihave H10 := (heads_elim c arg10 R8 _) $$ H10
  iframe
  iexact H7

end Cert.Diff

end
-- ==== Proof.Diff.Frame.lean ====
/- The frame: the run of the body put at every point of the grid, the pipeline's proof data with the block the body computes, the
   launch; and the result array after the run. -/
module

public import proofs.«01_k».proof.Proof.Diff.Run
public import proofs.«01_k».proof.Proof.Gen.Kernel3Ideal.Launch
public import proofs.«01_k».proof.Proof.Gen.Kernel3Ideal.Points
public import Idealize.ShloMosaic.Lib.Pipeline.FrameBody
public import Idealize.ShloMosaic.Lib.Pipeline.Value
public import Idealize.ShloMosaic.Lib.Claim

@[expose] public section

set_option maxRecDepth 16384

noncomputable section

namespace Cert.Diff

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_Kernel3Ideal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c)⟩) h

/-! ## The kernel body on any staging memrefs: a subtype the run finds -/

/-- Each window's current staging memref at point `t`, and its wholeness. -/
abbrev ms0_0 (t : Fin cfg0.N) : Memref sig .tc .vmem S1x256x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x8448x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x33x320x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S64x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256x256 .f32 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S8x128x256 .bf16 := Memref.whole cc0_scratch0
abbrev scM0_1 : Memref sig .tc .vmem S8x1x256 .f32 := Memref.whole cc0_scratch1
abbrev scM0_2 : Memref sig .tc .vmem S8x80x256 .f32 := Memref.whole cc0_scratch2

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

theorem whole5 (y : S1x256x256.Idx) : (Rect.unit (s := S1x256x256) ![0, 0, 0] S1x256x256.size inb_S1x256x256_S1x256x256_0_0_0).emb y = y := by
  refine Rect.emb_eq_of_coords (Rect.unit (s := S1x256x256) ![0, 0, 0] S1x256x256.size inb_S1x256x256_S1x256x256_0_0_0) y y fun a => ?_
  have h0 : (![0, 0, 0] : Fin 3 → Nat) a = 0 := by fin_cases a <;> rfl
  show (y a).val = (![0, 0, 0] : Fin 3 → Nat) a + 1 * (y a).val
  rw [h0]
  omega

/-- A whole block written is read back. -/
theorem read_whole5 (v : View sig .tc .vmem S1x256x256 .f32) (f : v.ty.Contents (Elt F)) (w : Vec F S1x256x256 .f32) (y : S1x256x256.Idx) :
    v.read (Elt F) (v.writes (Elt F) f [⟨Rect.unit (s := S1x256x256) ![0, 0, 0] S1x256x256.size inb_S1x256x256_S1x256x256_0_0_0, w⟩]) y = w y :=
  View.read_writes_cons_hit v f (Rect.unit (s := S1x256x256) ![0, 0, 0] S1x256x256.size inb_S1x256x256_S1x256x256_0_0_0) w [] y y (whole5 y)

/-- What the output's staging buffer holds after the body at point `t`. -/
def outsAt0 (c : Dev nD) (t : Fin cfg0.N) : Vec F S1x256x256 .f32 :=
  outF (grid0.coords t) (iblk m c 0 t) (iblk m c 1 t) (iblk m c 2 t) (iblk m c 3 t) (iblk m c 4 t)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq]
  unfold outsAt0
  iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
  iapply (run_body c (grid0.coords t) _ (hs0_0 t) _ (hs0_1 t) _ (hs0_2 t) _ (hs0_3 t) _ (hs0_4 t) _ (hs0_5 t) _ (Memref.isWhole_whole _) _ (Memref.isWhole_whole _) _ (Memref.isWhole_whole _)
    (iblk m c 0 t) (iblk m c 1 t) (iblk m c 2 t) (iblk m c 3 t) (iblk m c 4 t) Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  isplitl [HS2]; · iexact HS2
  iintro ⟨H0, H1, H2, H3, H4, ⟨%e5, H5⟩, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro
  funext y
  exact read_whole5 _ _ _ y

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

/-- The frame: the arguments unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

/-- The run with the result array named and the arguments unchanged. -/
theorem run_blocks : θ_run defs (onTc (τ := τ) (main (F := F))) ⟨m, fun _ => 0, ρ⟩ fun r => ∀ c : Dev nD,
      r.2.mem ((c : Thread nD τ).loc main_v33) = (dats m 0 c).arrAt 5 cfg0.N :=
  (θ_run defs _ _).mono (fun r h c => (h c).1 5) (run_main m ρ)

/-- What point `t` writes back. -/
theorem flushed5 (c : Dev nD) (t : Fin cfg0.N) :
    (dats m 0 c).flushed 5 t = (cfg0.win 5).cut (grid0.coords t) (outsAt0 m c t) := by
  show (cfg0.win 5).cut (grid0.coords t) ((dats m 0 c).after 5 t) = _
  rw [after0_5]

end Cert.Diff

end
-- ==== Proof.Diff.Frames.lean ====
/- The frames of the differential attention call. The two programs have one text, so the run over any numbers gives both. -/
module

public import proofs.«01_k».proof.Proof.Diff.Frame
public import proofs.«01_k».proof.Proof.Gen.Kernel3
public import proofs.«01_k».proof.Defs

@[expose] public section

set_option maxRecDepth 65536

noncomputable section

namespace Cert.Diff

open Idealize.ShloMosaic Idealize.ShloMosaic.TcCoe Idealize.SL.Sem

variable {F : FTy → Type} [FloatOps F]

/-- The kernel bodies are the same. -/
theorem bodies_same : Cert.Kernel3.defs₀ (F := F) = Cert.Kernel3Ideal.defs₀ (F := F) := by
  refine congrArg Defs.onTc (funext fun l => funext fun a => ?_)
  match l, a with
  | ⟨0, _⟩, (t, s) => with_unfolding_all rfl

theorem pipelines_same : Pipeline.defs (Cert.Kernel3.pcfgs (F := F)) (Cert.Kernel3Ideal.defs₀ (F := F)) = Cert.Kernel3Ideal.defs (F := F) := by
  with_unfolding_all rfl

/-- The programs' bodies with their pipelines are the same. -/
theorem defs_same : Cert.Kernel3.defs (F := F) = Cert.Kernel3Ideal.defs (F := F) :=
  (congrArg (Pipeline.defs Cert.Kernel3.pcfgs) bodies_same).trans pipelines_same

theorem frame_kernel : Cert.quiescent_Kernel3 := by
  intro m g _
  rw [defs_same]
  with_unfolding_all exact frame (F := Bits) m g

theorem frame_ideal : Cert.quiescent_Kernel3Ideal := fun m ρ _ => frame (F := Ideal) m ρ

theorem frame_ideal_pre [Cert.Pre_finite_values.Facts] : Cert.quiescent_Kernel3Ideal_pre_finite_values := fun m ρ _ => frame (F := Ideal) m ρ

end Cert.Diff

end
-- ==== Proof.Diff.Sweep.lean ====
/- The sweep of one map: the tiles in order, whatever the order in which the eight maps' steps are interleaved and how far ahead the
   scores are computed. At the first block of queries the sweep is of one tile, at the others of all 33. -/
module

public import proofs.«01_k».proof.Proof.Diff.State

@[expose] public section

set_option maxRecDepth 65536

noncomputable section

namespace Cert.Diff

open Idealize.ShloMosaic Idealize.ShloMosaic.TcCoe
open Cert.Kernel3Ideal Cert.Kernel3Ideal.Gen

variable {F : FTy → Type} [FloatOps F]

theorem inbK (h : Fin 8) (n : Nat) : ∀ a, (![0, 256 * min n 32, 128 * (h.val / 4)] : Fin 3 → Nat) a + S1x256x128.size a ≤ S1x8448x256.size a := by
  have hn : min n 32 ≤ 32 := Nat.min_le_right _ _
  have hh := h.isLt
  intro a
  fin_cases a
  · show 0 + 1 ≤ 1; omega
  · show 256 * min n 32 + 256 ≤ 8448; omega
  · show 128 * (h.val / 4) + 128 ≤ 256; omega

theorem inbV (h : Fin 8) (n : Nat) : ∀ a, (![0, min n 32, 80 * (h.val / 2), 0] : Fin 4 → Nat) a + S1x1x80x256.size a ≤ S1x33x320x256.size a := by
  have hn : min n 32 ≤ 32 := Nat.min_le_right _ _
  have hh := h.isLt
  intro a
  fin_cases a
  · show 0 + 1 ≤ 1; omega
  · show min n 32 + 1 ≤ 33; omega
  · show 80 * (h.val / 2) + 80 ≤ 320; omega
  · show 0 + 256 ≤ 256; omega

/-- The scores of map `h` against tile `n`. -/
def sc (x1 : Vec F S1x8448x256 .bf16) (q : Qs F) (h : Fin 8) (n : Nat) : Sc F := scoreF x1 q h ![0, 256 * min n 32, 128 * (h.val / 4)] (inbK h n)
/-- The values of map `h` in tile `n`. -/
def vl (x2 : Vec F S1x33x320x256 .bf16) (h : Fin 8) (n : Nat) : Vec F S1x1x80x256 .bf16 := valF x2 ![0, min n 32, 80 * (h.val / 2), 0] (inbV h n)

/-- One step of one map. -/
def stepH (s : Sc F) (v : Vec F S1x1x80x256 .bf16) (a : Vec F S1x1x256 .f32 × Vec F S1x80x256 .f32) : Vec F S1x1x256 .f32 × Vec F S1x80x256 .f32 :=
  (shapeCast S1x1x256 (newM s a.1) shapeCasts_S1x256_S1x1x256, shapeCast S1x80x256 (newA s a.1 v a.2) shapeCasts_S80x256_S1x80x256)

/-- Map `h` after `n` tiles. -/
def hst (x1 : Vec F S1x8448x256 .bf16) (x2 : Vec F S1x33x320x256 .bf16) (q : Qs F) (h : Fin 8) : Nat → Vec F S1x1x256 .f32 × Vec F S1x80x256 .f32
  | 0 => ((initS (F := F)).1 h, (initS (F := F)).2 h)
  | n + 1 => stepH (sc x1 q h n) (vl x2 h n) (hst x1 x2 q h n)

theorem scoreF_eq (x1 : Vec F S1x8448x256 .bf16) (q : Qs F) (h : Fin 8) (n : Nat) (off : Fin 3 → Nat) (ho : ∀ a, off a + S1x256x128.size a ≤ S1x8448x256.size a)
    (e : off = ![0, 256 * min n 32, 128 * (h.val / 4)]) : scoreF x1 q h off ho = sc x1 q h n := by
  subst e
  rfl

theorem valF_eq (x2 : Vec F S1x33x320x256 .bf16) (h : Fin 8) (n : Nat) (off : Fin 4 → Nat) (ho : ∀ a, off a + S1x1x80x256.size a ≤ S1x33x320x256.size a)
    (e : off = ![0, min n 32, 80 * (h.val / 2), 0]) : valF x2 off ho = vl x2 h n := by
  subst e
  rfl

/-- Map `h`'s part of the state. -/
def part (st : St F) (h : Fin 8) : Vec F S1x1x256 .f32 × Vec F S1x80x256 .f32 := (st.1 h, st.2 h)

theorem part_flash_self (h : Fin 8) (s : Sc F) (v : Vec F S1x1x80x256 .bf16) (st : St F) : part (flashS h s v st) h = stepH s v (part st h) := by
  unfold part flashS
  dsimp only
  rw [Function.update_self, Function.update_self]
  rfl

theorem part_flash_ne (h h' : Fin 8) (hh : h' ≠ h) (s : Sc F) (v : Vec F S1x1x80x256 .bf16) (st : St F) : part (flashS h s v st) h' = part st h' := by
  unfold part flashS
  dsimp only
  rw [Function.update_of_ne hh, Function.update_of_ne hh]

/-- Eight steps, one a map. -/
theorem part_eight (s0 s1 s2 s3 s4 s5 s6 s7 : Sc F) (v0 v1 v2 v3 v4 v5 v6 v7 : Vec F S1x1x80x256 .bf16) (st : St F) (h : Fin 8) :
    part (flashS 7 s7 v7 (flashS 6 s6 v6 (flashS 5 s5 v5 (flashS 4 s4 v4 (flashS 3 s3 v3 (flashS 2 s2 v2 (flashS 1 s1 v1 (flashS 0 s0 v0 st)))))))) h
      = stepH (![s0, s1, s2, s3, s4, s5, s6, s7] h) (![v0, v1, v2, v3, v4, v5, v6, v7] h) (part st h) := by
  fin_cases h
  · show part _ 0 = _
    rw [part_flash_ne 7 0 (by decide), part_flash_ne 6 0 (by decide), part_flash_ne 5 0 (by decide), part_flash_ne 4 0 (by decide), part_flash_ne 3 0 (by decide), part_flash_ne 2 0 (by decide), part_flash_ne 1 0 (by decide), part_flash_self]
    rfl
  · show part _ 1 = _
    rw [part_flash_ne 7 1 (by decide), part_flash_ne 6 1 (by decide), part_flash_ne 5 1 (by decide), part_flash_ne 4 1 (by decide), part_flash_ne 3 1 (by decide), part_flash_ne 2 1 (by decide), part_flash_self, part_flash_ne 0 1 (by decide)]
    rfl
  · show part _ 2 = _
    rw [part_flash_ne 7 2 (by decide), part_flash_ne 6 2 (by decide), part_flash_ne 5 2 (by decide), part_flash_ne 4 2 (by decide), part_flash_ne 3 2 (by decide), part_flash_self, part_flash_ne 1 2 (by decide), part_flash_ne 0 2 (by decide)]
    rfl
  · show part _ 3 = _
    rw [part_flash_ne 7 3 (by decide), part_flash_ne 6 3 (by decide), part_flash_ne 5 3 (by decide), part_flash_ne 4 3 (by decide), part_flash_self, part_flash_ne 2 3 (by decide), part_flash_ne 1 3 (by decide), part_flash_ne 0 3 (by decide)]
    rfl
  · show part _ 4 = _
    rw [part_flash_ne 7 4 (by decide), part_flash_ne 6 4 (by decide), part_flash_ne 5 4 (by decide), part_flash_self, part_flash_ne 3 4 (by decide), part_flash_ne 2 4 (by decide), part_flash_ne 1 4 (by decide), part_flash_ne 0 4 (by decide)]
    rfl
  · show part _ 5 = _
    rw [part_flash_ne 7 5 (by decide), part_flash_ne 6 5 (by decide), part_flash_self, part_flash_ne 4 5 (by decide), part_flash_ne 3 5 (by decide), part_flash_ne 2 5 (by decide), part_flash_ne 1 5 (by decide), part_flash_ne 0 5 (by decide)]
    rfl
  · show part _ 6 = _
    rw [part_flash_ne 7 6 (by decide), part_flash_self, part_flash_ne 5 6 (by decide), part_flash_ne 4 6 (by decide), part_flash_ne 3 6 (by decide), part_flash_ne 2 6 (by decide), part_flash_ne 1 6 (by decide), part_flash_ne 0 6 (by decide)]
    rfl
  · show part _ 7 = _
    rw [part_flash_self, part_flash_ne 6 7 (by decide), part_flash_ne 5 7 (by decide), part_flash_ne 4 7 (by decide), part_flash_ne 3 7 (by decide), part_flash_ne 2 7 (by decide), part_flash_ne 1 7 (by decide), part_flash_ne 0 7 (by decide)]
    rfl

/-! ## Where the steps read -/

theorem off0 : ∀ i : grid0.Coords, k0_off1 i 0#32 = ![0, 0, 0] ∧ k0_off2 i 0#32 = ![0, 0, 128] ∧ k0_off3 i 0#32 = ![0, 0, 128] := by
  decide +kernel

theorem offv0 : k0_off4 = ![0, 0, 0, 0] ∧ k0_off5 = ![0, 0, 80, 0] ∧ k0_off7 = ![0, 0, 160, 0] ∧ k0_off8 = ![0, 0, 240, 0] := by
  decide +kernel

/-- The trips of the loop: none at the first block of queries, two at the others. -/
theorem trips1 (i : grid0.Coords) : (k0_t1_loop i).trips = if (i 1).val = 0 then 0 else 2 := by
  have key : ∀ j : Fin 33, (k0_t1_loop (fun a => match a with | ⟨0, _⟩ => (⟨0, by decide⟩ : Fin 8) | ⟨1, _⟩ => j)).trips = if j.val = 0 then 0 else 2 := by decide +kernel
  exact key (i 1)

theorem second (i : grid0.Coords) (h : 0 < (k0_t1_loop i).trips) : Scalar.cmpi .slt (BitVec.ofNat 32 (i 1).val) 1#32 = 0#1 := by
  have key : ∀ j : Fin 33, j.val ≠ 0 → Scalar.cmpi .slt (BitVec.ofNat 32 j.val) 1#32 = 0#1 := by decide +kernel
  refine key (i 1) fun h0 => ?_
  rw [trips1, if_pos h0] at h
  exact absurd h (Nat.lt_irrefl 0)

theorem trip_two (i : grid0.Coords) (t : Fin (k0_t1_loop i).trips) : t.val = 0 ∨ t.val = 1 := by
  have h := t.isLt
  have e := trips1 i
  split at e <;> omega

theorem off1 (i : grid0.Coords) (h : 0 < (k0_t1_loop i).trips) : k0_off1 i 1#32 = ![0, 256, 0] ∧ k0_off2 i 1#32 = ![0, 256, 128] := by
  have h1 := second i h
  unfold k0_off1 k0_off2
  dsimp only
  rw [h1]
  decide +kernel

theorem offk (i : grid0.Coords) (t : Fin (k0_t1_loop i).trips) (r : Fin 16) :
    k0_off9 i t (BitVec.ofNat 32 r.val) = ![0, 256 * min (16 * t.val + r.val + 1) 32, 128]
    ∧ k0_off12 i t (BitVec.ofNat 32 (1 + r.val)) = ![0, 256 * min (16 * t.val + r.val + 2) 32, 0]
    ∧ k0_off9 i t (BitVec.ofNat 32 (1 + r.val)) = ![0, 256 * min (16 * t.val + r.val + 2) 32, 128] := by
  have h1 := second i (Nat.lt_of_le_of_lt (Nat.zero_le _) t.isLt)
  have h2 := trip_two i t
  unfold k0_off9 k0_off12
  dsimp only
  rw [h1]
  rcases h2 with h2 | h2
  · rw [h2]
    clear h1 h2 t
    revert r
    decide +kernel
  · rw [h2]
    clear h1 h2 t
    revert r
    decide +kernel

theorem offv (i : grid0.Coords) (t : Fin (k0_t1_loop i).trips) (r : Fin 16) :
    k0_off10 i t (BitVec.ofNat 32 r.val) = ![0, min (16 * t.val + r.val + 1) 32, 0, 0] ∧ k0_off11 i t (BitVec.ofNat 32 r.val) = ![0, min (16 * t.val + r.val + 1) 32, 80, 0]
    ∧ k0_off13 i t (BitVec.ofNat 32 r.val) = ![0, min (16 * t.val + r.val + 1) 32, 160, 0] ∧ k0_off14 i t (BitVec.ofNat 32 r.val) = ![0, min (16 * t.val + r.val + 1) 32, 240, 0] := by
  have h2 := trip_two i t
  unfold k0_off10 k0_off11 k0_off13 k0_off14
  dsimp only
  try rw [second i (Nat.lt_of_le_of_lt (Nat.zero_le _) t.isLt)]
  rcases h2 with h2 | h2
  · rw [h2]
    clear h2 t
    revert r
    decide +kernel
  · rw [h2]
    clear h2 t
    revert r
    decide +kernel

/-! ## The state as the maps' sweeps -/

variable (i : grid0.Coords) (x1 : Vec F S1x8448x256 .bf16) (x2 : Vec F S1x33x320x256 .bf16) (q : Qs F)

/-- Before tile `n`: the scores of the first five maps are at hand; each map has swept `n` tiles. -/
def Swept (n : Nat) (a : Ahead F × St F) : Prop :=
  a.1 = (sc x1 q 0 n, sc x1 q 1 n, sc x1 q 2 n, sc x1 q 3 n, sc x1 q 4 n) ∧ ∀ h, part a.2 h = hst x1 x2 q h n

theorem first_part (h : Fin 8) : part (firstS i x1 x2 q).2 h = hst x1 x2 q h 1 := by
  obtain ⟨k0, k1, k2⟩ := off0 i
  obtain ⟨v0, v1, v2, v3⟩ := offv0
  unfold firstS
  rw [scoreF_eq x1 q 0 0 _ _ k0, scoreF_eq x1 q 1 0 _ _ k0, scoreF_eq x1 q 2 0 _ _ k0, scoreF_eq x1 q 3 0 _ _ k0, scoreF_eq x1 q 4 0 _ _ k1, scoreF_eq x1 q 5 0 _ _ k2, scoreF_eq x1 q 6 0 _ _ k2, scoreF_eq x1 q 7 0 _ _ k2,
    valF_eq x2 0 0 _ _ v0, valF_eq x2 2 0 _ _ v1, valF_eq x2 4 0 _ _ v2, valF_eq x2 6 0 _ _ v3]
  dsimp only
  rw [part_eight]
  fin_cases h <;> rfl

theorem first_swept (ht : 0 < (k0_t1_loop i).trips) : Swept x1 x2 q 1 (firstS i x1 x2 q) := by
  refine ⟨?_, first_part i x1 x2 q⟩
  obtain ⟨k0, k1⟩ := off1 i ht
  unfold firstS
  dsimp only
  rw [scoreF_eq x1 q 0 1 _ _ k0, scoreF_eq x1 q 1 1 _ _ k0, scoreF_eq x1 q 2 1 _ _ k0, scoreF_eq x1 q 3 1 _ _ k0, scoreF_eq x1 q 4 1 _ _ k1]

theorem tile_swept (t : Fin (k0_t1_loop i).trips) (r : Fin 16) (a : Ahead F × St F) (ha : Swept x1 x2 q (16 * t.val + r.val + 1) a) :
    Swept x1 x2 q (16 * t.val + r.val + 2) (tileS i x1 x2 q t r a) := by
  obtain ⟨h1, h2⟩ := ha
  obtain ⟨k0, k1, k2⟩ := offk i t r
  obtain ⟨v0, v1, v2, v3⟩ := offv i t r
  unfold tileS
  rw [scoreF_eq x1 q 0 (16 * t.val + r.val + 2) _ _ k1, scoreF_eq x1 q 1 (16 * t.val + r.val + 2) _ _ k1, scoreF_eq x1 q 2 (16 * t.val + r.val + 2) _ _ k1, scoreF_eq x1 q 3 (16 * t.val + r.val + 2) _ _ k1, scoreF_eq x1 q 4 (16 * t.val + r.val + 2) _ _ k2, scoreF_eq x1 q 5 (16 * t.val + r.val + 1) _ _ k0, scoreF_eq x1 q 6 (16 * t.val + r.val + 1) _ _ k0, scoreF_eq x1 q 7 (16 * t.val + r.val + 1) _ _ k0,
    valF_eq x2 0 (16 * t.val + r.val + 1) _ _ v0, valF_eq x2 2 (16 * t.val + r.val + 1) _ _ v1, valF_eq x2 4 (16 * t.val + r.val + 1) _ _ v2, valF_eq x2 6 (16 * t.val + r.val + 1) _ _ v3,  h1]
  refine ⟨rfl, fun h => ?_⟩
  dsimp only
  rw [part_eight, h2]
  fin_cases h <;> rfl

theorem tiles_swept (t : Fin (k0_t1_loop i).trips) (n : Nat) : ∀ (r : Nat) (hr : r + n ≤ 16) (a : Ahead F × St F), Swept x1 x2 q (16 * t.val + r + 1) a →
    Swept x1 x2 q (16 * t.val + r + n + 1) (tilesS i x1 x2 q t n r hr a) := by
  induction n with
  | zero => exact fun r hr a ha => ha
  | succ n ih =>
    intro r hr a ha
    have h := ih (r + 1) (by omega) _ (tile_swept i x1 x2 q t ⟨r, by omega⟩ a ha)
    rw [show 16 * t.val + r + (n + 1) + 1 = 16 * t.val + (r + 1) + n + 1 from by omega]
    exact h

/-- The accumulators at the end, map by map: a sweep of one tile at the first block of queries, of 33 at the others. -/
theorem last_part (x0 : Vec F S1x256x256 .bf16) (h : Fin 8) :
    (lastS i x0 x1 x2).2 h = (hst x1 x2 (queriesF x0) h (if (i 1).val = 0 then 1 else 33)).2 := by
  have ht := trips1 i
  suffices part (lastS i x0 x1 x2) h = hst x1 x2 (queriesF x0) h (if (i 1).val = 0 then 1 else 33) from congrArg Prod.snd this
  unfold lastS
  by_cases hi : (i 1).val = 0
  · rw [if_pos hi] at ht ⊢
    rw [ht]
    exact first_part i x1 x2 _ h
  · rw [if_neg hi] at ht ⊢
    have h0 : 0 < (k0_t1_loop i).trips := by rw [ht]; decide
    have h1 : 1 < (k0_t1_loop i).trips := by rw [ht]; decide
    rw [ht]
    unfold loopS
    rw [dif_pos h1]
    unfold loopS
    rw [dif_pos h0]
    exact (tiles_swept i x1 x2 _ ⟨1, h1⟩ 16 0 (by decide) _ (tiles_swept i x1 x2 _ ⟨0, h0⟩ 16 0 (by decide) _ (first_swept i x1 x2 _ h0))).2 h

end Cert.Diff

end
-- ==== Proof.Diff.Math.lean ====
/- The mathematics of a difference of two attentions with scores that may be infinite: the weights of a row without a largest real score
   are `0 / 0`, and a head's result divided by its root mean square is then zero on both sides. -/
module

public import proofs.«01_k».proof.Proof.Mla.Spec

@[expose] public section

noncomputable section

namespace Cert.Diff

open Idealize.ShloMosaic Cert.Mla

/-- The exponential of a score other than `⊤`, a real number; zero at `⊥`. -/
def expR (x : EReal) : ℝ := (Ideal.exp x).toReal

theorem expR_bot : expR ⊥ = 0 := rfl

theorem expR_coe (a : ℝ) : expR (a : EReal) = Real.exp a := rfl

theorem expR_nonneg (x : EReal) : 0 ≤ expR x := by
  induction x with
  | bot => exact le_refl _
  | top => exact le_refl _
  | coe a => exact (Real.exp_pos a).le

theorem expR_pos (x : EReal) (h1 : x ≠ ⊤) (h2 : x ≠ ⊥) : 0 < expR x := by
  induction x with
  | bot => exact absurd rfl h2
  | top => exact absurd rfl h1
  | coe a => exact Real.exp_pos a

theorem exp_sub_top (x : EReal) : Ideal.exp (x - ⊤) = 0 := by
  rw [sub_eq_add_neg, EReal.neg_top, EReal.add_bot]
  rfl

theorem exp_sub_real (x : EReal) (hx : x ≠ ⊤) (m : ℝ) : Ideal.exp (x - (m : EReal)) = ((expR x * Real.exp (-m) : ℝ) : EReal) := by
  induction x with
  | bot =>
    rw [EReal.bot_sub, expR_bot, zero_mul]
    rfl
  | top => exact absurd rfl hx
  | coe a => rw [exp_sub_coe, expR_coe, ← Real.exp_add, sub_eq_add_neg]

theorem exp2_sub_top (x : EReal) : Ideal.exp2 (x - ⊤) = 0 := by
  rw [sub_eq_add_neg, EReal.neg_top, EReal.add_bot]
  rfl

theorem exp2_sub_real (x : EReal) (hx : x ≠ ⊤) (m : ℝ) :
    Ideal.exp2 (x - (m : EReal)) = ((expR (x * ((Real.log 2 : ℝ) : EReal)) * Real.exp (-(m * Real.log 2)) : ℝ) : EReal) := by
  induction x with
  | bot =>
    rw [EReal.bot_sub, EReal.bot_mul_coe_of_pos (Real.log_pos one_lt_two), expR_bot, zero_mul]
    rfl
  | top => exact absurd rfl hx
  | coe a => rw [exp2_sub_coe, ← EReal.coe_mul, expR_coe, ← Real.exp_add, sub_eq_add_neg]

/-- The largest of numbers other than `⊤`, from a real number on, is real. -/
theorem max_fold_ne_top {ι : Type} (s : Finset ι) (f : ι → EReal) (b : EReal) (m : ℝ) (hb : b ≠ ⊤) (hf : ∀ i, f i ≠ ⊤) :
    ∃ r : ℝ, max (m : EReal) (s.fold max b f) = r := by
  have h1 : max (m : EReal) (s.fold max b f) ≠ ⊤ :=
    ne_of_lt (max_lt (EReal.coe_lt_top m) ((Finset.fold_max_lt _).mpr ⟨lt_top_iff_ne_top.mpr hb, fun i _ => lt_top_iff_ne_top.mpr (hf i)⟩))
  have h2 : max (m : EReal) (s.fold max b f) ≠ ⊥ := ne_of_gt (lt_of_lt_of_le (EReal.bot_lt_coe m) (le_max_left _ _))
  exact ⟨_, (EReal.coe_toReal h1 h2).symm⟩

theorem fold_top {ι : Type} (s : Finset ι) (f : ι → EReal) (b : EReal) (i : ι) (hi : i ∈ s) (hf : f i = ⊤) : s.fold max b f = ⊤ :=
  top_le_iff.mp ((Finset.le_fold_max _).mpr (Or.inr ⟨i, hi, hf.ge⟩))

/-- A row whose scores have no largest real number: one is `⊤`, or all are `⊥`. -/
def Bad {ι : Type} (x : ι → EReal) : Prop := (∃ j, x j = ⊤) ∨ ∀ j, x j = ⊥

/-- The weights of a row of scores. -/
def weightE {ι : Type} [Fintype ι] (x : ι → EReal) (j : ι) : EReal := by
  classical
  exact if Bad x then ⊥ else ((expR (x j) / ∑ i, expR (x i) : ℝ) : EReal)

/-- Real values weighted by a row of scores: `0 / 0` if there is no largest real score. -/
def attnE {ι : Type} [Fintype ι] (x : ι → EReal) (v : ι → EReal) : EReal := by
  classical
  exact if Bad x then ⊥ else (((∑ i, (v i).toReal * expR (x i)) / ∑ i, expR (x i) : ℝ) : EReal)

theorem weightE_bad {ι : Type} [Fintype ι] (x : ι → EReal) (h : Bad x) (j : ι) : weightE x j = ⊥ := if_pos h
theorem weightE_good {ι : Type} [Fintype ι] (x : ι → EReal) (h : ¬ Bad x) (j : ι) : weightE x j = ((expR (x j) / ∑ i, expR (x i) : ℝ) : EReal) := if_neg h
theorem attnE_bad {ι : Type} [Fintype ι] (x : ι → EReal) (v : ι → EReal) (h : Bad x) : attnE x v = ⊥ := if_pos h
theorem attnE_good {ι : Type} [Fintype ι] (x : ι → EReal) (v : ι → EReal) (h : ¬ Bad x) :
    attnE x v = (((∑ i, (v i).toReal * expR (x i)) / ∑ i, expR (x i) : ℝ) : EReal) := if_neg h

theorem bad_equiv {ι κ : Type} (e : ι ≃ κ) (x : κ → EReal) : Bad (fun i => x (e i)) ↔ Bad x := by
  refine or_congr ⟨fun ⟨j, hj⟩ => ⟨e j, hj⟩, fun ⟨j, hj⟩ => ⟨e.symm j, ?_⟩⟩ ⟨fun h j => ?_, fun h j => h (e j)⟩
  · show x (e (e.symm j)) = ⊤
    rw [e.apply_symm_apply, hj]
  · have := h (e.symm j)
    dsimp only at this
    rwa [e.apply_symm_apply] at this

theorem attnE_equiv {ι κ : Type} [Fintype ι] [Fintype κ] (e : ι ≃ κ) (x : κ → EReal) (v : κ → EReal) :
    attnE (fun i => x (e i)) (fun i => v (e i)) = attnE x v := by
  by_cases h : Bad x
  · rw [attnE_bad x v h, attnE_bad _ _ ((bad_equiv e x).mpr h)]
  · rw [attnE_good x v h, attnE_good _ _ fun h' => h ((bad_equiv e x).mp h'), Equiv.sum_comp e (fun j => expR (x j)),
      Equiv.sum_comp e (fun j => (v j).toReal * expR (x j))]

theorem sum_pos_good {ι : Type} [Fintype ι] (x : ι → EReal) (h : ¬ Bad x) : 0 < ∑ i, expR (x i) := by
  obtain ⟨h1, h2⟩ := not_or.mp h
  obtain ⟨j, hj⟩ := not_forall.mp h2
  exact Finset.sum_pos' (fun i _ => expR_nonneg _) ⟨j, Finset.mem_univ _, expR_pos _ (fun e => h1 ⟨j, e⟩) hj⟩

theorem zero_div_zero : Ideal.div 0 0 = ⊥ := by
  unfold Ideal.div
  rw [if_pos rfl, if_neg (lt_irrefl _)]

/-- What the reference's weights are, `M` being the largest score. -/
theorem softmax_weight {ι : Type} [Fintype ι] (x : ι → EReal) (M : EReal) (hle : ∀ j, x j ≤ M) (htop : M = ⊤ → ∃ j, x j = ⊤) (j : ι) :
    Ideal.div (Ideal.exp (x j - M)) (0 + ∑ i, Ideal.exp (x i - M)) = weightE x j := by
  have zero : (∀ i, Ideal.exp (x i - M) = 0) → Ideal.div (Ideal.exp (x j - M)) (0 + ∑ i, Ideal.exp (x i - M)) = ⊥ := fun h => by
    rw [h, Finset.sum_congr rfl fun i _ => h i, Finset.sum_const_zero, zero_add, zero_div_zero]
  induction M with
  | top => rw [weightE_bad x (Or.inl (htop rfl)), zero fun i => exp_sub_top _]
  | bot =>
    have hb : ∀ i, x i = ⊥ := fun i => le_bot_iff.mp (hle i)
    rw [weightE_bad x (Or.inr hb), zero fun i => by rw [hb i, EReal.bot_sub]; rfl]
  | coe m =>
    have hx : ∀ i, x i ≠ ⊤ := fun i e => absurd (e ▸ hle i) (not_le.mpr (EReal.coe_lt_top m))
    by_cases h : Bad x
    · obtain ⟨i, hi⟩ | hb := h
      · exact absurd hi (hx i)
      · rw [weightE_bad x (Or.inr hb), zero fun i => by rw [hb i, EReal.bot_sub]; rfl]
    · have hs := sum_pos_good x h
      rw [weightE_good x h, zero_add, Finset.sum_congr rfl fun i _ => exp_sub_real (x i) (hx i) m, ← coe_sum, exp_sub_real (x j) (hx j) m, ← Finset.sum_mul,
        Ideal.div_coe (mul_pos hs (Real.exp_pos _)).ne', ← EReal.coe_mul, mul_one_div, mul_div_mul_right _ _ (Real.exp_pos _).ne']

/-- What the kernel's quotient is, if no score is `⊤`, at any reference point. -/
theorem quotient_real {ι : Type} [Fintype ι] (x : ι → EReal) (v : ι → EReal) (hx : ∀ j, x j ≠ ⊤) (r : ℝ) (hr : 0 < r) :
    Ideal.div (((∑ i, (v i).toReal * expR (x i)) * r : ℝ) : EReal) (((∑ i, expR (x i)) * r : ℝ) : EReal) = attnE x v := by
  by_cases h : Bad x
  · obtain ⟨i, hi⟩ | hb := h
    · exact absurd hi (hx i)
    · have h0 : ∀ i, expR (x i) = 0 := fun i => by rw [hb i, expR_bot]
      rw [attnE_bad x v (Or.inr hb)]
      simp only [h0, mul_zero, Finset.sum_const_zero, zero_mul, EReal.coe_zero, zero_div_zero]
  · rw [attnE_good x v h, Ideal.div_coe (mul_pos (sum_pos_good x h) hr).ne', ← EReal.coe_mul, mul_one_div, mul_div_mul_right _ _ hr.ne']

/-! ## The root mean square -/

/-- Divided by the root of the mean square over the columns, times the gain and the constant. -/
def normed (g : EReal) (o : Fin 64 → EReal) (d : Fin 64) : EReal :=
  o d * Ideal.rsqrt (Ideal.div (∑ e, o e * o e) (Ideal.ofBits .f32 0x42800000#32) + Ideal.ofBits .f32 0x358637BD#32) * g * Ideal.ofBits .f32 0x3F4CCCCD#32

theorem sixty_four : Ideal.ofBits .f32 0x42800000#32 = ((64 : ℝ) : EReal) := by
  simp [Ideal.ofBits, Ideal.ieee, -EReal.coe_mul]
  norm_num

theorem small_ne_bot : Ideal.ofBits .f32 0x358637BD#32 ≠ ⊥ := by
  simp [Ideal.ofBits, Ideal.ieee, -EReal.coe_mul]

/-- Zero or infinite. -/
def ZeroInf (x : EReal) : Prop := x = 0 ∨ x = ⊤ ∨ x = ⊥

theorem ZeroInf.add {x y : EReal} (hx : ZeroInf x) (hy : ZeroInf y) : ZeroInf (x + y) := by
  obtain rfl | rfl | rfl := hx
  · rwa [zero_add]
  · obtain rfl | rfl | rfl := hy
    · exact Or.inr (Or.inl (add_zero _))
    · exact Or.inr (Or.inl rfl)
    · exact Or.inr (Or.inr (EReal.add_bot _))
  · exact Or.inr (Or.inr (EReal.bot_add _))

theorem ZeroInf.mul (a : ℝ) {u : EReal} (hu : u = ⊤ ∨ u = ⊥) : ZeroInf ((a : EReal) * u) := by
  obtain h | h | h := lt_trichotomy a 0
  · obtain rfl | rfl := hu
    · exact Or.inr (Or.inr (EReal.coe_mul_top_of_neg h))
    · exact Or.inr (Or.inl (EReal.coe_mul_bot_of_neg h))
  · rw [h, EReal.coe_zero, zero_mul]
    exact Or.inl rfl
  · obtain rfl | rfl := hu
    · exact Or.inr (Or.inl (EReal.coe_mul_top_of_pos h))
    · exact Or.inr (Or.inr (EReal.coe_mul_bot_of_pos h))

theorem ZeroInf.sum {ι : Type} (s : Finset ι) (f : ι → EReal) (hf : ∀ i, ZeroInf (f i)) : ZeroInf (∑ i ∈ s, f i) := by
  classical
  induction s using Finset.induction_on with
  | empty => exact Or.inl Finset.sum_empty
  | insert a s ha ih =>
    rw [Finset.sum_insert ha]
    exact (hf a).add ih

theorem ZeroInf.square {x : EReal} (hx : ZeroInf x) : 0 ≤ x * x := by
  obtain rfl | rfl | rfl := hx
  · rw [mul_zero]
  · rw [EReal.top_mul_top]
    exact le_top
  · rw [EReal.bot_mul_bot]
    exact le_top

/-- Columns that are zero or infinite have norm zero. -/
theorem normed_zeroInf (g : EReal) (o : Fin 64 → EReal) (ho : ∀ e, ZeroInf (o e)) (d : Fin 64) : normed g o d = 0 := by
  unfold normed
  have key : o d * Ideal.rsqrt (Ideal.div (∑ e, o e * o e) (Ideal.ofBits .f32 0x42800000#32) + Ideal.ofBits .f32 0x358637BD#32) = 0 := by
    by_cases h : ∀ e, o e = 0
    · rw [h d, zero_mul]
    · obtain ⟨e, he⟩ := not_forall.mp h
      have ht : o e * o e = ⊤ := by
        obtain h0 | h0 | h0 := ho e
        · exact absurd h0 he
        · rw [h0, EReal.top_mul_top]
        · rw [h0, EReal.bot_mul_bot]
      have hs : ∑ e, o e * o e = ⊤ := top_le_iff.mp (ht ▸ Finset.single_le_sum (f := fun e => o e * o e) (fun i _ => (ho i).square) (Finset.mem_univ e))
      rw [hs, sixty_four, Ideal.div_coe (by norm_num), EReal.top_mul_coe_of_pos (by norm_num), EReal.top_add_of_ne_bot small_ne_bot]
      exact mul_zero _
  rw [key, zero_mul, zero_mul]

/-- Of real values, the sum weighted by the difference of two rows of weights and the difference of the weighted sums have the same norm. -/
theorem normed_mix {ι : Type} [Fintype ι] (x y : ι → EReal) (v : Fin 64 → ι → EReal) (hv : ∀ e i, ∃ a : ℝ, v e i = (a : EReal)) (c : ℝ) (g : EReal) (d : Fin 64) :
    normed g (fun e => ∑ i, v e i * (weightE x i - (c : EReal) * weightE y i)) d = normed g (fun e => attnE x (v e) - (c : EReal) * attnE y (v e)) d := by
  have inf : ∀ u : EReal, u = ⊤ ∨ u = ⊥ → (∀ i, weightE x i - (c : EReal) * weightE y i = u) → (∀ e, attnE x (v e) - (c : EReal) * attnE y (v e) = u) →
      normed g (fun e => ∑ i, v e i * (weightE x i - (c : EReal) * weightE y i)) d = normed g (fun e => attnE x (v e) - (c : EReal) * attnE y (v e)) d := by
    intro u hu h1 h2
    rw [normed_zeroInf g _ (fun e => ZeroInf.sum _ _ fun i => ?_), normed_zeroInf g _ (fun e => ?_)]
    · rw [h2]
      exact Or.inr hu
    · obtain ⟨a, ha⟩ := hv e i
      rw [h1, ha]
      exact ZeroInf.mul a hu
  by_cases hx : Bad x
  · refine inf ⊥ (Or.inr rfl) (fun i => ?_) (fun e => ?_)
    · rw [weightE_bad x hx, EReal.bot_sub]
    · rw [attnE_bad x _ hx, EReal.bot_sub]
  · have good : ∀ (s : ι → ℝ) (A : (ι → ℝ) → ℝ), (∀ w, A w = ∑ i, w i * s i) → (∀ i, (c : EReal) * weightE y i = ((c * s i : ℝ) : EReal)) →
        (∀ e, (c : EReal) * attnE y (v e) = ((c * A (fun i => (v e i).toReal) : ℝ) : EReal)) →
        normed g (fun e => ∑ i, v e i * (weightE x i - (c : EReal) * weightE y i)) d = normed g (fun e => attnE x (v e) - (c : EReal) * attnE y (v e)) d := by
      intro s A hA h1 h2
      refine congrArg (fun o => normed g o d) (funext fun e => ?_)
      have hw : ∀ i, v e i * (weightE x i - (c : EReal) * weightE y i) = (((v e i).toReal * (expR (x i) / ∑ i, expR (x i) - c * s i) : ℝ) : EReal) := fun i => by
        obtain ⟨a, ha⟩ := hv e i
        rw [h1, weightE_good x hx, ← EReal.coe_sub, ha, EReal.toReal_coe, EReal.coe_mul]
      rw [h2, attnE_good x _ hx, ← EReal.coe_sub, Finset.sum_congr rfl fun i _ => hw i, ← coe_sum, hA, Finset.sum_div, Finset.mul_sum, ← Finset.sum_sub_distrib]
      congr 1
      refine Finset.sum_congr rfl fun i _ => ?_
      ring
    by_cases hy : Bad y
    · obtain h | h | h := lt_trichotomy c 0
      · refine inf ⊥ (Or.inr rfl) (fun i => ?_) (fun e => ?_)
        · rw [weightE_bad y hy, EReal.coe_mul_bot_of_neg h, sub_eq_add_neg, EReal.neg_top, EReal.add_bot]
        · rw [attnE_bad y _ hy, EReal.coe_mul_bot_of_neg h, sub_eq_add_neg, EReal.neg_top, EReal.add_bot]
      · refine good (fun _ => 0) (fun _ => 0) (fun w => ?_) (fun i => ?_) (fun e => ?_)
        · simp only [mul_zero, Finset.sum_const_zero]
        · rw [h, EReal.coe_zero, zero_mul, mul_zero, EReal.coe_zero]
        · rw [h, EReal.coe_zero, zero_mul, mul_zero, EReal.coe_zero]
      · refine inf ⊤ (Or.inl rfl) (fun i => ?_) (fun e => ?_)
        · rw [weightE_bad y hy, weightE_good x hx, EReal.coe_mul_bot_of_pos h, sub_eq_add_neg, EReal.neg_bot, EReal.coe_add_top]
        · rw [attnE_bad y _ hy, attnE_good x _ hx, EReal.coe_mul_bot_of_pos h, sub_eq_add_neg, EReal.neg_bot, EReal.coe_add_top]
    · refine good (fun i => expR (y i) / ∑ i, expR (y i)) (fun w => (∑ i, w i * expR (y i)) / ∑ i, expR (y i)) (fun w => ?_) (fun i => ?_) (fun e => ?_)
      · rw [Finset.sum_div]
        exact Finset.sum_congr rfl fun i _ => mul_div_assoc _ _ _
      · rw [weightE_good y hy, EReal.coe_mul]
      · rw [attnE_good y _ hy, EReal.coe_mul]

/-- A factor comes out of a sum. -/
theorem sum_mul_coe {ι : Type} (s : Finset ι) (f : ι → EReal) (c : ℝ) (hc : 0 ≤ c) : ∑ i ∈ s, f i * (c : EReal) = (∑ i ∈ s, f i) * (c : EReal) := by
  rw [mul_comm, coe_mul_sum s f c hc]
  exact Finset.sum_congr rfl fun i _ => mul_comm _ _

end Cert.Diff

end
-- ==== Proof.Diff.Spec.lean ====
/- What the differential attention call computes, from two sets of queries and keys of 4 heads of 32 lanes and values of 4 heads of 64
   columns: the first map less a multiple of the second, divided by its root mean square over the 64 columns, times a gain and a constant.
   The 256 context tokens come first and attend to each other only; every other token attends to all 8448 tokens. -/
module

public import proofs.«01_k».proof.Proof.Diff.Math

@[expose] public section

noncomputable section

namespace Cert.Diff

open Idealize.ShloMosaic Cert.Mla

/-- The queries' and keys' arrays, the vectors of the second map's weight, the gain. -/
abbrev Lanes : Type := (⟨4, ![8, 8448, 4, 32]⟩ : Shape).Idx → EReal
abbrev Vec32 : Type := (⟨1, ![32]⟩ : Shape).Idx → EReal
abbrev Gain : Type := (⟨1, ![64]⟩ : Shape).Idx → EReal

/-- All entries are real numbers. -/
def AllReal {s : Shape} (q : s.Idx → EReal) : Prop := ∀ i, ∃ a : ℝ, q i = (a : EReal)

theorem AllReal.toReal {s : Shape} {q : s.Idx → EReal} (hq : AllReal q) (i) : ((q i).toReal : EReal) = q i := by
  obtain ⟨a, ha⟩ := hq i
  rw [ha, EReal.toReal_coe]

/-- The product of token `T`'s query with token `j`'s key in head `h` of batch `b`. -/
def dprod (q k : Lanes) (b : Fin 8) (h : Fin 4) (T j : Fin 8448) : EReal := ∑ l : Fin 32, q (ix4 b T h l) * k (ix4 b j h l)

/-- The score of a map. -/
def dscore (q k : Lanes) (b : Fin 8) (h : Fin 4) (T j : Fin 8448) : EReal := dprod q k b h T j * ((1 / Real.sqrt 32 : ℝ) : EReal)

/-- A map's weighted values at token `T` and column `d` of head `h` of batch `b`. -/
def mapAt (q k : Lanes) (v : Values) (b : Fin 8) (T : Fin 8448) (h : Fin 4) (d : Fin 64) : EReal :=
  if T.val < 256 then attnE (fun j : Fin 256 => dscore q k b h T (keyAt 0 j)) (fun j => v (ix4 b (keyAt 0 j) h d))
  else attnE (fun j : Fin 33 × Fin 256 => dscore q k b h T (keyAt j.1 j.2)) (fun j => v (ix4 b (keyAt j.1 j.2) h d))

/-- The weight of the second map. -/
def dot32 (x y : Vec32) : ℝ := ∑ l : Fin 32, (x (ix1 l)).toReal * (y (ix1 l)).toReal
def lam (lq1 lk1 lq2 lk2 : Vec32) : EReal :=
  Ideal.exp (dot32 lq1 lk1 : EReal) - Ideal.exp (dot32 lq2 lk2 : EReal) + Ideal.ofBits .f32 0x3E4CCCCD#32

theorem dot32_eq {x y : Vec32} (hx : AllReal x) (hy : AllReal y) : ∑ l : Fin 32, x (ix1 l) * y (ix1 l) = (dot32 x y : EReal) := by
  unfold dot32
  rw [coe_sum]
  refine Finset.sum_congr rfl fun l _ => ?_
  rw [EReal.coe_mul, hx.toReal, hy.toReal]

theorem fifth_real : ∃ r : ℝ, Ideal.ofBits .f32 0x3E4CCCCD#32 = (r : EReal) := by
  have h1 : Ideal.ofBits .f32 0x3E4CCCCD#32 ≠ ⊤ := by simp [Ideal.ofBits, Ideal.ieee, -EReal.coe_mul]
  have h2 : Ideal.ofBits .f32 0x3E4CCCCD#32 ≠ ⊥ := by simp [Ideal.ofBits, Ideal.ieee, -EReal.coe_mul]
  exact ⟨_, (EReal.coe_toReal h1 h2).symm⟩

theorem lam_real (lq1 lk1 lq2 lk2 : Vec32) : ∃ r : ℝ, lam lq1 lk1 lq2 lk2 = (r : EReal) := by
  obtain ⟨c, hc⟩ := fifth_real
  refine ⟨Real.exp (dot32 lq1 lk1) - Real.exp (dot32 lq2 lk2) + c, ?_⟩
  unfold lam
  rw [hc, EReal.coe_add, EReal.coe_sub]
  rfl

variable (q1 q2 k1 k2 : Lanes) (v : Values) (lq1 lk1 lq2 lk2 : Vec32) (g : Gain)

/-- The first map less a multiple of the second. -/
def diffAt (b : Fin 8) (T : Fin 8448) (h : Fin 4) (d : Fin 64) : EReal :=
  mapAt q1 k1 v b T h d - lam lq1 lk1 lq2 lk2 * mapAt q2 k2 v b T h d

/-- The result as an array: the columns of the four heads side by side. -/
def dresult : (⟨3, ![8, 8448, 256]⟩ : Shape).Idx → EReal := fun i =>
  normed (g (ix1 ⟨(i 2).val % 64, Nat.mod_lt _ (by decide)⟩))
    (diffAt q1 q2 k1 k2 v lq1 lk1 lq2 lk2 (i 0) (i 1) ⟨(i 2).val / 64, by have : (i 2).val < 256 := (i 2).isLt; omega⟩)
    ⟨(i 2).val % 64, Nat.mod_lt _ (by decide)⟩

/-! ## The scale -/

theorem thirty_two : Ideal.ofBits .f32 0x42000000#32 = ((32 : ℝ) : EReal) := by
  simp [Ideal.ofBits, Ideal.ieee, -EReal.coe_mul]
  norm_num

theorem sqrt_pos32 : 0 < Real.sqrt 32 := Real.sqrt_pos.mpr (by norm_num)

theorem sqrt_thirty_two : Ideal.sqrt (Ideal.ofBits .f32 0x42000000#32) = ((Real.sqrt 32 : ℝ) : EReal) := by
  rw [thirty_two, Ideal.sqrt_coe, if_neg (by norm_num)]

/-- The reference's scale. -/
theorem scale_ref32 : Ideal.div (Ideal.ofBits .f32 0x3F800000#32) (Ideal.sqrt (Ideal.ofBits .f32 0x42000000#32)) = ((1 / Real.sqrt 32 : ℝ) : EReal) := by
  rw [sqrt_thirty_two, one, Ideal.div_coe sqrt_pos32.ne', one_mul]

/-- The kernel's scale, for powers of two. -/
theorem scale_ker32 : Ideal.div 1 (Ideal.sqrt (Ideal.ofBits .f32 0x42000000#32) * Ideal.log (Ideal.ofBits .f32 0x40000000#32))
    = ((1 / (Real.sqrt 32 * Real.log 2) : ℝ) : EReal) := by
  rw [sqrt_thirty_two, log_two, ← EReal.coe_mul, Ideal.div_coe (mul_ne_zero sqrt_pos32.ne' (Real.log_pos one_lt_two).ne'), one_mul]

theorem scaled32 (a : EReal) : a * Ideal.div (Ideal.ofBits .f32 0x3F800000#32) (Ideal.sqrt (Ideal.ofBits .f32 0x42000000#32))
    = a * ((1 / Real.sqrt 32 : ℝ) : EReal) := by
  rw [scale_ref32]

theorem score_log32 (x : EReal) : x * ((1 / (Real.sqrt 32 * Real.log 2) : ℝ) : EReal) * ((Real.log 2 : ℝ) : EReal) = x * ((1 / Real.sqrt 32 : ℝ) : EReal) := by
  have h1 := sqrt_pos32.ne'
  have h2 := (Real.log_pos one_lt_two).ne'
  rw [mul_assoc, ← EReal.coe_mul]
  congr 2
  field_simp

end Cert.Diff

end
-- ==== Proof.Diff.Block.lean ====
/- One block of queries over the reals, entry by entry: the scores, one step of a map, the sweep of a map as a weighted sum, and the
   result of the block. -/
module

public import proofs.«01_k».proof.Proof.Diff.Sweep
public import proofs.«01_k».proof.Proof.Diff.Spec
public import Idealize.ShloMosaic.Lib.Pointwise

@[expose] public section

set_option maxRecDepth 4096

noncomputable section

namespace Cert.Diff

open Idealize.ShloMosaic Idealize.ShloMosaic.TcCoe Cert.Mla
open Cert.Kernel3Ideal Cert.Kernel3Ideal.Gen

/-! ## Entries -/

/-- Map `s` of head `h`. -/
def mp (h : Fin 4) (s : Fin 2) : Fin 8 := ⟨2 * h.val + s.val, by omega⟩
/-- The head of a map. -/
def hd (c : Fin 8) : Fin 4 := ⟨c.val / 2, by omega⟩
/-- Lane `l` of map `c`. -/
def lane (c : Fin 8) (l : Fin 32) : Fin 256 := ⟨32 * c.val + l.val, by omega⟩
/-- Lane `l` of the group of map `c`. -/
def glane (c : Fin 8) (l : Fin 128) : Fin 256 := ⟨128 * (c.val / 4) + l.val, by omega⟩
/-- Row `d` of head `h` in a tile of values. -/
def vrow (h : Fin 4) (d : Fin 80) : Fin 320 := ⟨80 * h.val + d.val, by omega⟩
/-- Column `d` of head `h` in the result. -/
def col (h : Fin 4) (d : Fin 64) : Fin 256 := ⟨64 * h.val + d.val, by omega⟩
/-- Tile number `n`, the last one for what lies beyond it. -/
def tile (n : Nat) : Fin 33 := ⟨min n 32, by omega⟩

theorem tile_val (t : Fin 33) : tile t.val = t := Fin.ext (Nat.min_eq_left (by omega))

theorem mask_apply : ∀ (m : Fin 4) (l : Fin 128), Scalar.andi (Scalar.cmpi .sge (BitVec.ofNat 32 l.val) (BitVec.ofNat 32 (32 * m.val)))
    (Scalar.cmpi .slt (BitVec.ofNat 32 l.val) (BitVec.ofNat 32 (32 * m.val + 32))) = if 32 * m.val ≤ l.val ∧ l.val < 32 * m.val + 32 then 1#1 else 0#1 := by
  decide +kernel

theorem qT_apply (m : Fin 4) (x : Vec Ideal S1x256x128 .bf16) (l : Fin 128) (p : Fin 256) :
    qT m x (ix3 0 l p) = if 32 * m.val ≤ l.val ∧ l.val < 32 * m.val + 32 then x (ix3 0 p l) else 0 := by
  pointwise [qT]
  have e := mask_apply m l
  split
  · rename_i h
    rw [if_pos h] at e
    exact (congrArg (fun z => Scalar.select z (x (ix3 0 p l)) (0 : EReal)) e).trans rfl
  · rename_i h
    rw [if_neg h] at e
    exact (congrArg (fun z => Scalar.select z (x (ix3 0 p l)) (0 : EReal)) e).trans rfl

theorem query_apply (x0 : Vec Ideal S1x256x256 .bf16) (c : Fin 8) (l : Fin 128) (p : Fin 256) :
    queriesF x0 c (ix3 0 l p) = if 32 * (c.val % 4) ≤ l.val ∧ l.val < 32 * (c.val % 4) + 32 then x0 (ix3 0 p (glane c l)) else 0 := by
  unfold queriesF
  refine (qT_apply _ _ l p).trans ?_
  refine if_congr Iff.rfl ?_ rfl
  congr 1
  funext a
  refine Fin.ext ?_
  fin_cases a
  · rfl
  · show 0 + 1 * p.val = p.val
    omega
  · show 128 * (c.val / 4) + 1 * l.val = 128 * (c.val / 4) + l.val
    omega

/-- A sum over the 128 lanes of a group of which only one map's are not zero. -/
theorem group_sum (m : Fin 4) (f : Fin 128 → EReal) (g : Fin 128 → EReal) (x : Fin 32 → EReal)
    (hf : ∀ l : Fin 32, f ⟨32 * m.val + l.val, by omega⟩ * g ⟨32 * m.val + l.val, by omega⟩ = x l) :
    ∑ l : Fin 128, f l * (if 32 * m.val ≤ l.val ∧ l.val < 32 * m.val + 32 then g l else 0) = ∑ l : Fin 32, x l := by
  refine (Finset.sum_of_injOn (fun l : Fin 32 => (⟨32 * m.val + l.val, by omega⟩ : Fin 128)) ?_ ?_ ?_ ?_).symm
  · intro a _ b _ h
    have h' : 32 * m.val + a.val = 32 * m.val + b.val := congrArg Fin.val h
    exact Fin.ext (by omega)
  · intro a _
    exact Finset.mem_coe.mpr (Finset.mem_univ _)
  · intro l _ hl
    rw [if_neg, mul_zero]
    intro h
    exact hl ⟨⟨l.val - 32 * m.val, by omega⟩, Finset.mem_coe.mpr (Finset.mem_univ _), Fin.ext (by show 32 * m.val + (l.val - 32 * m.val) = l.val; omega)⟩
  · intro l _
    dsimp only
    rw [if_pos ⟨by omega, by omega⟩, hf]

theorem newM_apply (s : Sc Ideal) (mo : Vec Ideal S1x1x256 .f32) (p : Fin 256) :
    newM s mo (ix2 0 p) = max (mo (ix3 0 0 p)) (Finset.fold max (Ideal.ofBits .f32 4286578688#32) (fun x => s (ix2 x p)) Finset.univ) := by
  pointwise [newM]

theorem newA_apply (s : Sc Ideal) (mo : Vec Ideal S1x1x256 .f32) (v : Vec Ideal S1x1x80x256 .bf16) (ao : Vec Ideal S1x80x256 .f32) (d : Fin 80) (p : Fin 256) :
    newA s mo v ao (ix2 d p) = Ideal.exp2 (mo (ix3 0 0 p) - newM s mo (ix2 0 p)) * ao (ix3 0 d p)
      + ∑ x : Fin 256, v (ix4 0 0 d x) * Ideal.exp2 (s (ix2 x p) - newM s mo (ix2 0 p)) := by
  pointwise [newA]
  rfl

theorem product_apply (a : FVec Ideal S1x256x128 .bf16) (b : FVec Ideal S1x128x256 .bf16) (k p : Fin 256) :
    (matmul dot_S256x128_S128x256_S256x256_1_0_0_1_n_n none (shapeCast S256x128 a shapeCasts_S1x256x128_S256x128)
      (shapeCast S128x256 b shapeCasts_S1x128x256_S128x256) (constant S256x256 .f32 0x00000000#32) : Sc Ideal) (ix2 k p)
    = ∑ l : Fin 128, a (ix3 0 k l) * b (ix3 0 l p) := by
  pointwise

theorem key_slice (x1 : Vec Ideal S1x8448x256 .bf16) (c : Fin 8) (n : Nat) (k : Fin 256) (l : Fin 128) :
    x1 ((Rect.unit (s := S1x8448x256) ![0, 256 * min n 32, 128 * (c.val / 4)] S1x256x128.size (inbK c n)).toLoadRect.idx (ix3 0 k l))
      = x1 (ix3 0 (keyAt (tile n) k) (glane c l)) := by
  congr 1
  funext a
  refine Fin.ext ?_
  fin_cases a
  · rfl
  · show 256 * min n 32 + 1 * k.val = 256 * min n 32 + k.val
    omega
  · show 128 * (c.val / 4) + 1 * l.val = 128 * (c.val / 4) + l.val
    omega

theorem glane_lane (c : Fin 8) (l : Fin 32) : glane c ⟨32 * (c.val % 4) + l.val, by omega⟩ = lane c l :=
  Fin.ext (by show 128 * (c.val / 4) + (32 * (c.val % 4) + l.val) = 32 * c.val + l.val; omega)

theorem score_apply (x0 : Vec Ideal S1x256x256 .bf16) (x1 : Vec Ideal S1x8448x256 .bf16) (c : Fin 8) (n : Nat) (k p : Fin 256) :
    sc x1 (queriesF x0) c n (ix2 k p) = ∑ l : Fin 32, x1 (ix3 0 (keyAt (tile n) k) (lane c l)) * x0 (ix3 0 p (lane c l)) := by
  unfold sc scoreF
  refine (product_apply _ _ k p).trans ?_
  refine (Finset.sum_congr rfl fun l _ => congrArg₂ (· * ·) (key_slice x1 c n k l) (query_apply x0 c l p)).trans ?_
  refine group_sum ⟨c.val % 4, by omega⟩ (fun l => x1 (ix3 0 (keyAt (tile n) k) (glane c l))) (fun l => x0 (ix3 0 p (glane c l))) _ fun l => ?_
  dsimp only
  rw [glane_lane]

theorem value_apply (x2 : Vec Ideal S1x33x320x256 .bf16) (c : Fin 8) (n : Nat) (d : Fin 80) (k : Fin 256) :
    vl x2 c n (ix4 0 0 d k) = x2 (ix4 0 (tile n) (vrow (hd c) d) k) := by
  unfold vl valF
  congr 1
  funext a
  refine Fin.ext ?_
  fin_cases a
  · rfl
  · show min n 32 + 1 * 0 = min n 32
    omega
  · show 80 * (c.val / 2) + 1 * d.val = 80 * (c.val / 2) + d.val
    omega
  · show 0 + 1 * k.val = k.val
    omega

theorem quot_apply (a : Vec Ideal S1x80x256 .f32) (d : Fin 64) (p : Fin 256) :
    quot a (ix2 d p) = Ideal.div (a (ix3 0 ⟨d.val, by omega⟩ p)) (a (ix3 0 64 p)) := by
  pointwise [quot, quotC]

theorem outQ_apply (b : Fin 4 → FVec Ideal S64x256 .f32) (p : Fin 256) (h : Fin 4) (d : Fin 64) :
    outQ (b 0) (b 1) (b 2) (b 3) (ix3 0 p (col h d)) = b h (ix2 d p) := by
  pointwise [outQ, col]
  fin_cases h
  · rw [dif_pos (by show 64 * 0 + d.val < 64; omega)]
    congr 2
    exact Fin.ext (by show 64 * 0 + d.val = d.val; omega)
  · rw [dif_neg (by show ¬ 64 * 1 + d.val < 64; omega), dif_pos (by show 64 * 1 + d.val - 64 < 64; omega)]
    congr 2
    exact Fin.ext (by show 64 * 1 + d.val - 64 = d.val; omega)
  · rw [dif_neg (by show ¬ 64 * 2 + d.val < 64; omega), dif_neg (by show ¬ 64 * 2 + d.val - 64 < 64; omega),
      dif_pos (by show 64 * 2 + d.val - 64 - 64 < 64; omega)]
    congr 2
    exact Fin.ext (by show 64 * 2 + d.val - 64 - 64 = d.val; omega)
  · rw [dif_neg (by show ¬ 64 * 3 + d.val < 64; omega), dif_neg (by show ¬ 64 * 3 + d.val - 64 < 64; omega),
      dif_neg (by show ¬ 64 * 3 + d.val - 64 - 64 < 64; omega)]
    congr 2
    exact Fin.ext (by show 64 * 3 + d.val - 64 - 64 - 64 = d.val; omega)

theorem start_real : Ideal.ofBits .f32 4048155338#32 = ((-(13234890 * 2 ^ 76) : ℝ) : EReal) := by
  simp [Ideal.ofBits, Ideal.ieee, -EReal.coe_mul]

theorem start_max : Ideal.ofBits .f32 4286578688#32 ≠ ⊤ := by
  simp [Ideal.ofBits, Ideal.ieee]

theorem init_max (h : Fin 8) (p : Fin 256) : (initS (F := Ideal)).1 h (ix3 0 0 p) = ((-(13234890 * 2 ^ 76) : ℝ) : EReal) := by
  rw [← start_real]
  pointwise [initS]

theorem init_acc (h : Fin 8) (d : Fin 80) (p : Fin 256) : (initS (F := Ideal)).2 h (ix3 0 d p) = 0 := by
  pointwise [initS]

/-- A step at an entry: the maximum and the accumulator. -/
theorem step_max (s : Sc Ideal) (v : Vec Ideal S1x1x80x256 .bf16) (a : Vec Ideal S1x1x256 .f32 × Vec Ideal S1x80x256 .f32) (p : Fin 256) :
    (stepH s v a).1 (ix3 0 0 p) = newM s a.1 (ix2 0 p) := by
  unfold stepH
  pointwise

theorem step_acc (s : Sc Ideal) (v : Vec Ideal S1x1x80x256 .bf16) (a : Vec Ideal S1x1x256 .f32 × Vec Ideal S1x80x256 .f32) (d : Fin 80) (p : Fin 256) :
    (stepH s v a).2 (ix3 0 d p) = newA s a.1 v a.2 (ix2 d p) := by
  unfold stepH
  pointwise

/-! ## The sweep of one map -/

section Sweep

theorem log_two_pos : (0 : ℝ) < Real.log 2 := Real.log_pos one_lt_two

theorem mul_log_top : (⊤ : EReal) * ((Real.log 2 : ℝ) : EReal) = ⊤ := EReal.top_mul_coe_of_pos log_two_pos

theorem mul_log_ne_top (x : EReal) (hx : x ≠ ⊤) : x * ((Real.log 2 : ℝ) : EReal) ≠ ⊤ := by
  induction x with
  | bot =>
    rw [EReal.bot_mul_coe_of_pos log_two_pos]
    exact bot_ne_top
  | top => exact absurd rfl hx
  | coe a =>
    rw [← EReal.coe_mul]
    exact EReal.coe_ne_top _

/-- One step from a real maximum to another, no score being `⊤`. -/
theorem step_real {κ : Type} [Fintype κ] (A m m' : ℝ) (v x : κ → EReal) (hv : ∀ k, ∃ a : ℝ, v k = (a : EReal)) (hx : ∀ k, x k ≠ ⊤) :
    Ideal.exp2 ((m : EReal) - (m' : EReal)) * ((A * Real.exp (-(m * Real.log 2)) : ℝ) : EReal) + ∑ k, v k * Ideal.exp2 (x k - (m' : EReal))
      = (((A + ∑ k, (v k).toReal * expR (x k * ((Real.log 2 : ℝ) : EReal))) * Real.exp (-(m' * Real.log 2)) : ℝ) : EReal) := by
  have e : ∀ k, v k * Ideal.exp2 (x k - (m' : EReal))
      = (((v k).toReal * expR (x k * ((Real.log 2 : ℝ) : EReal)) * Real.exp (-(m' * Real.log 2)) : ℝ) : EReal) := fun k => by
    obtain ⟨a, ha⟩ := hv k
    rw [exp2_sub_real (x k) (hx k) m', ha, EReal.toReal_coe, ← EReal.coe_mul, mul_assoc]
  have e' : Real.exp (m * Real.log 2 - m' * Real.log 2) * (A * Real.exp (-(m * Real.log 2))) = A * Real.exp (-(m' * Real.log 2)) := by
    rw [mul_left_comm, ← Real.exp_add]
    congr 2
    ring
  rw [Finset.sum_congr rfl fun k _ => e k, ← coe_sum, exp2_sub_coe, ← EReal.coe_mul, ← EReal.coe_add, e', ← Finset.sum_mul, add_mul]

/-- One step to the maximum `⊤`. -/
theorem step_top {κ : Type} [Fintype κ] (m a : EReal) (v x : κ → EReal) : Ideal.exp2 (m - ⊤) * a + ∑ k, v k * Ideal.exp2 (x k - ⊤) = 0 := by
  simp only [exp2_sub_top, mul_zero, zero_mul, Finset.sum_const_zero, add_zero]

variable (x0 : Vec Ideal S1x256x256 .bf16) (x1 : Vec Ideal S1x8448x256 .bf16) (x2 : Vec Ideal S1x33x320x256 .bf16) (c : Fin 8) (p : Fin 256)
  (y : Fin 33 → Fin 256 → EReal)
  (hy : ∀ t k, (∑ l : Fin 32, x1 (ix3 0 (keyAt t k) (lane c l)) * x0 (ix3 0 p (lane c l)) : EReal) = y t k)

include hy

/-- After `n` tiles: once a score `⊤` was seen, the maximum is `⊤` and the accumulator zero; until then the maximum is some real number and
    the accumulator of a row of real values is their weighted sum, relative to it. -/
theorem sweep_value (n : Nat) :
    ((∃ j ∈ Finset.range n ×ˢ (Finset.univ : Finset (Fin 256)), y (tile j.1) j.2 = ⊤) ∧ (hst x1 x2 (queriesF x0) c n).1 (ix3 0 0 p) = ⊤
      ∧ ∀ d : Fin 80, (hst x1 x2 (queriesF x0) c n).2 (ix3 0 d p) = 0)
    ∨ ((∀ j ∈ Finset.range n ×ˢ (Finset.univ : Finset (Fin 256)), y (tile j.1) j.2 ≠ ⊤) ∧ ∃ m : ℝ, (hst x1 x2 (queriesF x0) c n).1 (ix3 0 0 p) = (m : EReal)
      ∧ ∀ d : Fin 80, (∀ t k, ∃ a : ℝ, x2 (ix4 0 t (vrow (hd c) d) k) = (a : EReal)) → (hst x1 x2 (queriesF x0) c n).2 (ix3 0 d p)
        = (((∑ j ∈ Finset.range n ×ˢ (Finset.univ : Finset (Fin 256)), (x2 (ix4 0 (tile j.1) (vrow (hd c) d) j.2)).toReal
            * expR (y (tile j.1) j.2 * ((Real.log 2 : ℝ) : EReal))) * Real.exp (-(m * Real.log 2)) : ℝ) : EReal)) := by
  induction n with
  | zero =>
    refine Or.inr ⟨fun j hj => by simp at hj, _, init_max c p, fun d _ => ?_⟩
    rw [Finset.range_zero, Finset.empty_product, Finset.sum_empty, zero_mul]
    exact init_acc c d p
  | succ n ih =>
    have hs : ∀ k, sc x1 (queriesF x0) c n (ix2 k p) = y (tile n) k := fun k => by rw [score_apply, hy]
    have hmax : (hst x1 x2 (queriesF x0) c (n + 1)).1 (ix3 0 0 p) = newM (sc x1 (queriesF x0) c n) (hst x1 x2 (queriesF x0) c n).1 (ix2 0 p) := step_max _ _ _ p
    have hacc : ∀ d, (hst x1 x2 (queriesF x0) c (n + 1)).2 (ix3 0 d p)
        = newA (sc x1 (queriesF x0) c n) (hst x1 x2 (queriesF x0) c n).1 (vl x2 c n) (hst x1 x2 (queriesF x0) c n).2 (ix2 d p) := fun d => step_acc _ _ _ d p
    have hacc_top : newM (sc x1 (queriesF x0) c n) (hst x1 x2 (queriesF x0) c n).1 (ix2 0 p) = ⊤ → ∀ d, (hst x1 x2 (queriesF x0) c (n + 1)).2 (ix3 0 d p) = 0 :=
      fun h d => by
        rw [hacc, newA_apply, h]
        exact step_top _ _ _ _
    obtain ⟨⟨j, hj, hj'⟩, hm, -⟩ | ⟨hn, m, hm, ha⟩ := ih
    · have hM : newM (sc x1 (queriesF x0) c n) (hst x1 x2 (queriesF x0) c n).1 (ix2 0 p) = ⊤ := by
        rw [newM_apply, hm]
        exact max_eq_left le_top
      refine Or.inl ⟨⟨j, ?_, hj'⟩, hmax.trans hM, hacc_top hM⟩
      rw [Finset.mem_product, Finset.mem_range] at hj ⊢
      exact ⟨by omega, hj.2⟩
    · by_cases ht : ∃ k, y (tile n) k = ⊤
      · obtain ⟨k, hk⟩ := ht
        have hM : newM (sc x1 (queriesF x0) c n) (hst x1 x2 (queriesF x0) c n).1 (ix2 0 p) = ⊤ := by
          rw [newM_apply, fold_top Finset.univ (fun x => sc x1 (queriesF x0) c n (ix2 x p)) _ k (Finset.mem_univ k) ((hs k).trans hk)]
          exact max_eq_right le_top
        exact Or.inl ⟨⟨(n, k), Finset.mem_product.mpr ⟨Finset.mem_range.mpr (Nat.lt_succ_self n), Finset.mem_univ k⟩, hk⟩, hmax.trans hM, hacc_top hM⟩
      · have ht' : ∀ k, y (tile n) k ≠ ⊤ := fun k e => ht ⟨k, e⟩
        obtain ⟨m', hm'⟩ := max_fold_ne_top Finset.univ (fun x => sc x1 (queriesF x0) c n (ix2 x p)) _ m start_max fun k => by
          rw [hs]
          exact ht' k
        have hM : newM (sc x1 (queriesF x0) c n) (hst x1 x2 (queriesF x0) c n).1 (ix2 0 p) = (m' : EReal) := by
          rw [newM_apply, hm]
          exact hm'
        refine Or.inr ⟨fun j hj => ?_, m', hmax.trans hM, fun d hd' => ?_⟩
        · rw [Finset.mem_product, Finset.mem_range] at hj
          by_cases e : j.1 = n
          · rw [e]
            exact ht' _
          · exact hn j (Finset.mem_product.mpr ⟨Finset.mem_range.mpr (by omega), hj.2⟩)
        · rw [hacc, newA_apply, hM, hm, ha d hd']
          simp only [hs, value_apply]
          rw [step_real _ m m' (fun k => x2 (ix4 0 (tile n) (vrow (hd c) d) k)) (fun k => y (tile n) k) (fun k => hd' _ _) ht']
          rw [Finset.sum_product, Finset.sum_product, Finset.sum_range_succ]

variable (h1 : ∀ t k, x2 (ix4 0 t (vrow (hd c) 64) k) = 1)

include h1

/-- The quotient of a map after `n` tiles is the attention over their keys. -/
theorem sweep_quot (n : Nat) (hn' : n ≤ 33) (d : Fin 64) (hv : ∀ t k, ∃ a : ℝ, x2 (ix4 0 t (vrow (hd c) ⟨d.val, by omega⟩) k) = (a : EReal)) :
    quot (hst x1 x2 (queriesF x0) c n).2 (ix2 d p)
    = attnE (fun j : Fin n × Fin 256 => y (Fin.castLE hn' j.1) j.2 * ((Real.log 2 : ℝ) : EReal)) (fun j => x2 (ix4 0 (Fin.castLE hn' j.1) (vrow (hd c) ⟨d.val, by omega⟩) j.2)) := by
  have e : ∀ t : Fin n, tile t.val = Fin.castLE hn' t := fun t => tile_val (Fin.castLE hn' t)
  rw [quot_apply]
  obtain ⟨⟨j, hj, hj'⟩, -, ha⟩ | ⟨hn, m, -, ha⟩ := sweep_value x0 x1 x2 c p y hy n
  · rw [ha, ha, zero_div_zero]
    have hlt : j.1 < n := Finset.mem_range.mp (Finset.mem_product.mp hj).1
    refine (attnE_bad _ _ (Or.inl ⟨(⟨j.1, hlt⟩, j.2), ?_⟩)).symm
    show y (Fin.castLE hn' ⟨j.1, hlt⟩) j.2 * _ = ⊤
    rw [← e ⟨j.1, hlt⟩, hj', mul_log_top]
  · rw [ha _ hv, ha 64 fun t k => ⟨1, (h1 t k).trans EReal.coe_one.symm⟩]
    refine Eq.trans ?_ (quotient_real (fun j : Fin n × Fin 256 => y (Fin.castLE hn' j.1) j.2 * ((Real.log 2 : ℝ) : EReal))
      (fun j => x2 (ix4 0 (Fin.castLE hn' j.1) (vrow (hd c) ⟨d.val, by omega⟩) j.2)) (fun j => mul_log_ne_top _ ?_) (Real.exp (-(m * Real.log 2))) (Real.exp_pos _))
    · simp only [h1, EReal.toReal_one, one_mul, Finset.sum_product, Finset.sum_range, e, Fintype.sum_prod_type]
    · rw [← e]
      exact hn (j.1.val, j.2) (Finset.mem_product.mpr ⟨Finset.mem_range.mpr j.1.isLt, Finset.mem_univ _⟩)

/-- The result of a map: at the first block of queries the attention over the first tile of keys, at the others over all keys. -/
theorem map_value (i : grid0.Coords) (d : Fin 64) (hv : ∀ t k, ∃ a : ℝ, x2 (ix4 0 t (vrow (hd c) ⟨d.val, by omega⟩) k) = (a : EReal)) :
    quot ((lastS i x0 x1 x2).2 c) (ix2 d p) = if (i 1).val = 0
      then attnE (fun k : Fin 256 => y 0 k * ((Real.log 2 : ℝ) : EReal)) (fun k => x2 (ix4 0 0 (vrow (hd c) ⟨d.val, by omega⟩) k))
      else attnE (fun j : Fin 33 × Fin 256 => y j.1 j.2 * ((Real.log 2 : ℝ) : EReal)) (fun j => x2 (ix4 0 j.1 (vrow (hd c) ⟨d.val, by omega⟩) j.2)) := by
  rw [last_part]
  by_cases hi : (i 1).val = 0
  · rw [if_pos hi, if_pos hi, sweep_quot x0 x1 x2 c p y hy h1 1 (by decide) d hv]
    exact (attnE_equiv (Equiv.uniqueProd (Fin 256) (Fin 1)).symm (fun j : Fin 1 × Fin 256 => y (Fin.castLE (by decide) j.1) j.2 * ((Real.log 2 : ℝ) : EReal))
      (fun j => x2 (ix4 0 (Fin.castLE (by decide) j.1) (vrow (hd c) ⟨d.val, by omega⟩) j.2))).symm
  · rw [if_neg hi, if_neg hi, sweep_quot x0 x1 x2 c p y hy h1 33 (by decide) d hv]
    rfl

end Sweep

/-! ## The heads' results -/

theorem diffF_apply (w : FVec Ideal S1x1 .f32) (x y : FVec Ideal S64x256 .f32) (d : Fin 64) (p : Fin 256) :
    diffF w x y (ix2 d p) = x (ix2 d p) - w (ix2 0 0) * y (ix2 d p) := by
  pointwise [diffF]

theorem rmsF_apply (o : FVec Ideal S64x256 .f32) (d : Fin 64) (p : Fin 256) :
    rmsF o (ix2 d p) = o (ix2 d p) * Ideal.rsqrt (Ideal.div (∑ e : Fin 64, o (ix2 e p) * o (ix2 e p)) (Ideal.ofBits .f32 0x42800000#32)
      + Ideal.ofBits .f32 0x358637BD#32) := by
  pointwise [rmsF]

theorem gainF_apply (o : FVec Ideal S64x256 .f32) (g : Vec Ideal S64x1 .f32) (d : Fin 64) (p : Fin 256) :
    gainF o g (ix2 d p) = o (ix2 d p) * g (ix2 d 0) * Ideal.ofBits .f32 0x3F4CCCCD#32 := by
  pointwise [gainF]

theorem headF_apply (w : FVec Ideal S1x1 .f32) (a b : Vec Ideal S1x80x256 .f32) (g : Vec Ideal S64x1 .f32) (d : Fin 64) (p : Fin 256) :
    headF w a b g (ix2 d p) = normed (g (ix2 d 0)) (fun e => quot a (ix2 e p) - w (ix2 0 0) * quot b (ix2 e p)) d := by
  unfold headF normed
  rw [gainF_apply, rmsF_apply]
  simp only [diffF_apply]

theorem gainR_apply (x4 : Vec Ideal S64x1 .f32) (d : Fin 64) : gainR x4 (ix2 d 0) = x4 (ix2 d 0) := by
  unfold gainR
  congr 1
  funext a
  refine Fin.ext ?_
  fin_cases a
  · show 0 + 1 * d.val = d.val
    omega
  · rfl

theorem lamR_apply (x3 : Vec Ideal S4x128 .f32) (r : Fin 4) (l : Fin 128) : lamR x3 (ix2 r l) = x3 (ix2 r l) := by
  unfold lamR
  congr 1
  funext a
  refine Fin.ext ?_
  fin_cases a
  · show 0 + 1 * r.val = r.val
    omega
  · show 0 + 1 * l.val = l.val
    omega

theorem lamF_apply (l : Vec Ideal S4x128 .f32) :
    lamF l (ix2 0 0) = Ideal.exp (∑ j : Fin 128, l (ix2 0 j) * l (ix2 1 j)) - Ideal.exp (∑ j : Fin 128, l (ix2 2 j) * l (ix2 3 j))
      + Ideal.ofBits .f32 0x3E4CCCCD#32 := by
  pointwise [lamF]

/-- The result of one block. -/
theorem block_apply (i : grid0.Coords) (x0 : Vec Ideal S1x256x256 .bf16) (x1 : Vec Ideal S1x8448x256 .bf16) (x2 : Vec Ideal S1x33x320x256 .bf16)
    (x3 : Vec Ideal S4x128 .f32) (x4 : Vec Ideal S64x1 .f32) (h : Fin 4) (p : Fin 256) (d : Fin 64) :
    outF i x0 x1 x2 x3 x4 (ix3 0 p (col h d)) = normed (x4 (ix2 d 0)) (fun e => quot ((lastS i x0 x1 x2).2 (mp h 0)) (ix2 e p)
      - lamF (lamR x3) (ix2 0 0) * quot ((lastS i x0 x1 x2).2 (mp h 1)) (ix2 e p)) d := by
  unfold outF headsF
  refine (outQ_apply (fun h => headF (lamF (lamR x3)) ((lastS i x0 x1 x2).2 (mp h 0)) ((lastS i x0 x1 x2).2 (mp h 1)) (gainR x4)) p h d).trans ?_
  rw [headF_apply, gainR_apply]

end Cert.Diff

end
-- ==== Proof.Diff.Host.lean ====
/- The arrays the host code prepares for the differential attention call, entry by entry: queries scaled and keys with the two maps of a
   head side by side, values transposed with a row of ones below, the vectors of the second map's weight padded to 128 lanes. -/
module

public import proofs.«01_k».proof.Proof.Diff.Frame
public import proofs.«01_k».proof.Proof.Diff.Block
public import Idealize.ShloMosaic.Lib.StableHlo.ReadAt

@[expose] public section

set_option maxRecDepth 65536

noncomputable section

namespace Cert.Diff

open Idealize.ShloMosaic Idealize.ShloMosaic.TcCoe
open Cert.Mla (keyAt)
open Cert.Kernel3Ideal Cert.Kernel3Ideal.Gen

variable (m : (ℓ : Loc nD τ sig) → Buf (Elt Ideal) ℓ) (c : Dev nD)

theorem lane_head (h : Fin 4) (s : Fin 2) (l : Fin 32) : (lane (mp h s) l).val / 64 = h.val := by
  show (32 * (2 * h.val + s.val) + l.val) / 64 = h.val
  omega

theorem lane_map (h : Fin 4) (s : Fin 2) (l : Fin 32) : (lane (mp h s) l).val / 32 % 2 = s.val := by
  show (32 * (2 * h.val + s.val) + l.val) / 32 % 2 = s.val
  omega

theorem lane_mod (h : Fin 4) (s : Fin 2) (l : Fin 32) : (lane (mp h s) l).val % 32 = l.val := by
  show (32 * (2 * h.val + s.val) + l.val) % 32 = l.val
  omega

theorem vrow_div (h : Fin 4) (d : Fin 80) : (vrow h d).val / 80 = h.val := by
  show (80 * h.val + d.val) / 80 = h.val
  omega

theorem vrow_mod (h : Fin 4) (d : Fin 80) : (vrow h d).val % 80 = d.val := by
  show (80 * h.val + d.val) % 80 = d.val
  omega

/-- The arguments. -/
abbrev argQ1 : S8x8448x4x32.Idx → EReal := m ((c : Thread nD τ).loc main_arg0)
abbrev argQ2 : S8x8448x4x32.Idx → EReal := m ((c : Thread nD τ).loc main_arg1)
abbrev argK1 : S8x8448x4x32.Idx → EReal := m ((c : Thread nD τ).loc main_arg2)
abbrev argK2 : S8x8448x4x32.Idx → EReal := m ((c : Thread nD τ).loc main_arg3)
abbrev argV : S8x8448x4x64.Idx → EReal := m ((c : Thread nD τ).loc main_arg4)
abbrev argLq1 : S32.Idx → EReal := m ((c : Thread nD τ).loc main_arg5)
abbrev argLk1 : S32.Idx → EReal := m ((c : Thread nD τ).loc main_arg6)
abbrev argLq2 : S32.Idx → EReal := m ((c : Thread nD τ).loc main_arg7)
abbrev argLk2 : S32.Idx → EReal := m ((c : Thread nD τ).loc main_arg8)
abbrev argG : S64.Idx → EReal := m ((c : Thread nD τ).loc main_arg9)

/-- The factor of the queries. -/
def qscale : EReal := Ideal.div 1 (Ideal.sqrt (Ideal.ofBits .f32 0x42000000#32) * Ideal.log (Ideal.ofBits .f32 0x40000000#32))

theorem V26_0 (b : Fin 8) (T : Fin 8448) (h : Fin 4) (l : Fin 32) :
    @Eq EReal (V m c main_v26 (ix3 b T (lane (mp h 0) l))) (argQ1 m c (ix4 b T h l) * qscale) := by
  unfold V
  after_reads_at
  rw [dif_pos (by rw [lane_map]; decide)]
  after_reads_at
  unfold qscale
  simp only [lane_head, lane_mod]

theorem V26_1 (b : Fin 8) (T : Fin 8448) (h : Fin 4) (l : Fin 32) :
    @Eq EReal (V m c main_v26 (ix3 b T (lane (mp h 1) l))) (argQ2 m c (ix4 b T h l) * qscale) := by
  unfold V
  after_reads_at
  rw [dif_neg (by rw [lane_map]; decide)]
  after_reads_at
  unfold qscale
  simp only [lane_head, lane_mod]

theorem V31_0 (b : Fin 8) (T : Fin 8448) (h : Fin 4) (l : Fin 32) :
    @Eq EReal (V m c main_v31 (ix3 b T (lane (mp h 0) l))) (argK1 m c (ix4 b T h l)) := by
  unfold V
  after_reads_at
  rw [dif_pos (by rw [lane_map]; decide)]
  after_reads_at
  simp only [lane_head, lane_mod]

theorem V31_1 (b : Fin 8) (T : Fin 8448) (h : Fin 4) (l : Fin 32) :
    @Eq EReal (V m c main_v31 (ix3 b T (lane (mp h 1) l))) (argK2 m c (ix4 b T h l)) := by
  unfold V
  after_reads_at
  rw [dif_neg (by rw [lane_map]; decide)]
  after_reads_at
  simp only [lane_head, lane_mod]

theorem V6_value (b : Fin 8) (t : Fin 33) (h : Fin 4) (d : Fin 80) (hd : d.val < 64) (k : Fin 256) :
    @Eq EReal (V m c main_v6 (ix4 b t (vrow h d) k)) (argV m c (ix4 b (keyAt t k) h ⟨d.val, hd⟩)) := by
  have hk : (⟨t.val * 256 + k.val, by omega⟩ : Fin 8448) = keyAt t k := Fin.ext (by show t.val * 256 + k.val = 256 * t.val + k.val; omega)
  unfold V
  after_reads_at
  rw [dif_pos (by rw [vrow_mod]; exact hd)]
  after_reads_at
  simp only [vrow_div, vrow_mod, hk]

theorem V6_one (b : Fin 8) (t : Fin 33) (h : Fin 4) (k : Fin 256) :
    @Eq EReal (V m c main_v6 (ix4 b t (vrow h 64) k)) 1 := by
  unfold V
  after_reads_at
  rw [dif_neg (by rw [vrow_mod]; decide), dif_pos (by rw [vrow_mod]; decide)]
  after_reads_at

theorem V17_0 (l : Fin 128) (hl : l.val < 32) : @Eq EReal (V m c main_v17 (ix2 0 l)) (argLq1 m c (ix1 ⟨l.val, hl⟩)) := by
  unfold V
  after_reads_at
  rw [dif_pos hl]
  after_reads_at

theorem V17_1 (l : Fin 128) (hl : l.val < 32) : @Eq EReal (V m c main_v17 (ix2 1 l)) (argLk1 m c (ix1 ⟨l.val, hl⟩)) := by
  unfold V
  after_reads_at
  rw [dif_pos hl]
  after_reads_at

theorem V17_2 (l : Fin 128) (hl : l.val < 32) : @Eq EReal (V m c main_v17 (ix2 2 l)) (argLq2 m c (ix1 ⟨l.val, hl⟩)) := by
  unfold V
  after_reads_at
  rw [dif_pos hl]
  after_reads_at

theorem V17_3 (l : Fin 128) (hl : l.val < 32) : @Eq EReal (V m c main_v17 (ix2 3 l)) (argLk2 m c (ix1 ⟨l.val, hl⟩)) := by
  unfold V
  after_reads_at
  rw [dif_pos hl]
  after_reads_at

theorem V17_high (r : Fin 4) (l : Fin 128) (hl : ¬ l.val < 32) : @Eq EReal (V m c main_v17 (ix2 r l)) 0 := by
  unfold V
  after_reads_at
  rw [dif_neg hl]

theorem V32_apply (d : Fin 64) : @Eq EReal (V m c main_v32 (ix2 d 0)) (argG m c (ix1 d)) := by
  unfold V
  after_reads_at

end Cert.Diff

end
-- ==== Proof.Diff.Scores.lean ====
/- The kernel's scores and the weight of the second map, from the arrays the host code prepares. -/
module

public import proofs.«01_k».proof.Proof.Diff.Host

@[expose] public section

set_option maxRecDepth 65536

noncomputable section

namespace Cert.Diff

open Idealize.ShloMosaic Idealize.ShloMosaic.TcCoe
open Cert.Mla (coe_sum Values)
open Cert.Kernel3Ideal Cert.Kernel3Ideal.Gen

variable (m : (ℓ : Loc nD τ sig) → Buf (Elt Ideal) ℓ) (c : Dev nD)

/-- The score of a scaled query, with the scale in front. -/
theorem scaled_sum (q k : Lanes) (b : Fin 8) (h : Fin 4) (T j : Fin 8448) (s : ℝ) (hs : 0 ≤ s) :
    ∑ l : Fin 32, k (ix4 b j h l) * (q (ix4 b T h l) * (s : EReal)) = dprod q k b h T j * (s : EReal) := by
  unfold dprod
  rw [← sum_mul_coe _ _ s hs]
  refine Finset.sum_congr rfl fun l _ => ?_
  rw [mul_left_comm, mul_assoc]

theorem scale_nonneg : 0 ≤ 1 / (Real.sqrt 32 * Real.log 2) := (one_div_pos.mpr (mul_pos sqrt_pos32 (Real.log_pos one_lt_two))).le

/-- Token `T` of the prepared queries and token `j` of the prepared keys in map `x`. -/
def rowQ (b : Fin 8) (x : Fin 8) (T : Fin 8448) (l : Fin 32) : EReal := V m c main_v26 (ix3 b T (lane x l))
def rowK (b : Fin 8) (x : Fin 8) (j : Fin 8448) (l : Fin 32) : EReal := V m c main_v31 (ix3 b j (lane x l))

theorem score_prepared0 (b : Fin 8) (h : Fin 4) (T j : Fin 8448) :
    ∑ l : Fin 32, rowK m c b (mp h 0) j l * rowQ m c b (mp h 0) T l
      = dprod (argQ1 m c) (argK1 m c) b h T j * ((1 / (Real.sqrt 32 * Real.log 2) : ℝ) : EReal) := by
  have e : ∀ l : Fin 32, rowK m c b (mp h 0) j l * rowQ m c b (mp h 0) T l = argK1 m c (ix4 b j h l) * (argQ1 m c (ix4 b T h l) * qscale) :=
    fun l => congrArg₂ (fun x y : EReal => x * y) (V31_0 m c b j h l) (V26_0 m c b T h l)
  rw [Finset.sum_congr rfl fun l _ => e l]
  unfold qscale
  rw [scale_ker32]
  exact scaled_sum (argQ1 m c) (argK1 m c) b h T j _ scale_nonneg

theorem score_prepared1 (b : Fin 8) (h : Fin 4) (T j : Fin 8448) :
    ∑ l : Fin 32, rowK m c b (mp h 1) j l * rowQ m c b (mp h 1) T l
      = dprod (argQ2 m c) (argK2 m c) b h T j * ((1 / (Real.sqrt 32 * Real.log 2) : ℝ) : EReal) := by
  have e : ∀ l : Fin 32, rowK m c b (mp h 1) j l * rowQ m c b (mp h 1) T l = argK2 m c (ix4 b j h l) * (argQ2 m c (ix4 b T h l) * qscale) :=
    fun l => congrArg₂ (fun x y : EReal => x * y) (V31_1 m c b j h l) (V26_1 m c b T h l)
  rw [Finset.sum_congr rfl fun l _ => e l]
  unfold qscale
  rw [scale_ker32]
  exact scaled_sum (argQ2 m c) (argK2 m c) b h T j _ scale_nonneg

/-- A sum over 128 lanes of which the last 96 are zero. -/
theorem padded_sum (x y : Fin 128 → EReal) (a b : Vec32) (hx : ∀ (l : Fin 128) (hl : l.val < 32), x l = a (ix1 ⟨l.val, hl⟩))
    (hy : ∀ (l : Fin 128) (hl : l.val < 32), y l = b (ix1 ⟨l.val, hl⟩)) (h0 : ∀ l : Fin 128, ¬ l.val < 32 → x l = 0) (ha : AllReal a) (hb : AllReal b) :
    ∑ l : Fin 128, x l * y l = (dot32 a b : EReal) := by
  refine (Fin.sum_univ_add (a := 32) (b := 96) fun l : Fin 128 => x l * y l).trans ?_
  rw [Finset.sum_congr rfl fun (l : Fin 96) _ => show x (Fin.natAdd 32 l) * y (Fin.natAdd 32 l) = 0 by
      rw [h0 _ (by show ¬ 32 + l.val < 32; omega), zero_mul],
    Finset.sum_const_zero, add_zero, ← dot32_eq ha hb]
  exact Finset.sum_congr rfl fun l _ => congrArg₂ (· * ·) (hx (Fin.castAdd 96 l) l.isLt) (hy (Fin.castAdd 96 l) l.isLt)

/-- Row `r` of the padded vectors. -/
def rowL (r : Fin 4) (l : Fin 128) : EReal := V m c main_v17 (ix2 r l)

theorem weight_prepared (h1 : AllReal (argLq1 m c)) (h2 : AllReal (argLk1 m c)) (h3 : AllReal (argLq2 m c)) (h4 : AllReal (argLk2 m c)) :
    Ideal.exp (∑ l : Fin 128, rowL m c 0 l * rowL m c 1 l) - Ideal.exp (∑ l : Fin 128, rowL m c 2 l * rowL m c 3 l) + Ideal.ofBits .f32 0x3E4CCCCD#32
      = lam (argLq1 m c) (argLk1 m c) (argLq2 m c) (argLk2 m c) := by
  rw [padded_sum (rowL m c 0) (rowL m c 1) (argLq1 m c) (argLk1 m c) (V17_0 m c) (V17_1 m c) (V17_high m c 0) h1 h2,
    padded_sum (rowL m c 2) (rowL m c 3) (argLq2 m c) (argLk2 m c) (V17_2 m c) (V17_3 m c) (V17_high m c 2) h3 h4]
  rfl

end Cert.Diff

end
-- ==== Proof.Diff.Blocks.lean ====
/- Which part of which prepared array each input block of a grid point is: grid point `t` is block `t % 33` of the queries of batch
   `t / 33`, and sees all keys and values of the batch, the weight's vectors and the gain. -/
module

public import proofs.«01_k».proof.Proof.Diff.Frame
public import Idealize.ShloMosaic.Lib.Pointwise

@[expose] public section

set_option maxRecDepth 65536

noncomputable section

namespace Cert.Diff

open Idealize.ShloMosaic Idealize.ShloMosaic.TcCoe
open Cert.Kernel3Ideal Cert.Kernel3Ideal.Gen

variable (m : (ℓ : Loc nD τ sig) → Buf (Elt Ideal) ℓ) (c : Dev nD)

/-! ## The input blocks of a point -/

theorem index0 : ∀ t : Fin cfg0.N, win0_0.index t 0 = t.val / 33 ∧ win0_0.index t 1 = t.val % 33 ∧ win0_0.index t 2 = 0 :=
  (by decide +kernel : ∀ t : Fin grid0.N, _)
theorem index1 : ∀ t : Fin cfg0.N, win0_1.index t 0 = t.val / 33 ∧ win0_1.index t 1 = 0 ∧ win0_1.index t 2 = 0 :=
  (by decide +kernel : ∀ t : Fin grid0.N, _)
theorem index2 : ∀ t : Fin cfg0.N, win0_2.index t 0 = t.val / 33 ∧ win0_2.index t 1 = 0 ∧ win0_2.index t 2 = 0 ∧ win0_2.index t 3 = 0 :=
  (by decide +kernel : ∀ t : Fin grid0.N, _)
theorem index3 : ∀ t : Fin cfg0.N, win0_3.index t 0 = 0 ∧ win0_3.index t 1 = 0 :=
  (by decide +kernel : ∀ t : Fin grid0.N, _)
theorem index4 : ∀ t : Fin cfg0.N, win0_4.index t 0 = 0 ∧ win0_4.index t 1 = 0 :=
  (by decide +kernel : ∀ t : Fin grid0.N, _)
theorem index5 : ∀ t : Fin cfg0.N, win0_5.index t 0 = t.val / 33 ∧ win0_5.index t 1 = t.val % 33 ∧ win0_5.index t 2 = 0 :=
  (by decide +kernel : ∀ t : Fin grid0.N, _)
theorem coord1 : ∀ t : Fin cfg0.N, (grid0.coords t 1).val = t.val % 33 :=
  (by decide +kernel : ∀ t : Fin grid0.N, _)

theorem read0 (A : S8x8448x256.Idx → EReal) (t : Fin cfg0.N) (p : Fin 256) (x : Fin 256) (b : Fin 8) (T : Fin 8448) (hb : b.val = t.val / 33) (hT : T.val = 256 * (t.val % 33) + p.val) :
    ((cfg0.win 0).blk t).view.read (Elt Ideal) A (ix3 0 p x) = A (ix3 b T x) := by
  show A _ = A _
  refine congrArg _ (funext fun a => Fin.ext ?_)
  obtain ⟨h0, h1, h2⟩ := index0 t
  match a with
  | ⟨0, _⟩ => show win0_0.index t 0 * 1 + 1 * 0 = b.val; omega
  | ⟨1, _⟩ => show win0_0.index t 1 * 256 + 1 * p.val = T.val; omega
  | ⟨2, _⟩ => show win0_0.index t 2 * 256 + 1 * x.val = x.val; omega

theorem blk0 (t : Fin cfg0.N) (p : Fin 256) (x : Fin 256) (b : Fin 8) (T : Fin 8448) (hb : b.val = t.val / 33) (hT : T.val = 256 * (t.val % 33) + p.val) :
    iblk m c 0 t (ix3 0 p x) = V m c main_v26 (ix3 b T x) := by
  unfold iblk
  exact read0 (V m c main_v26) t p x b T hb hT

theorem read1 (A : S8x8448x256.Idx → EReal) (t : Fin cfg0.N) (j : Fin 8448) (x : Fin 256) (b : Fin 8) (hb : b.val = t.val / 33) :
    ((cfg0.win 1).blk t).view.read (Elt Ideal) A (ix3 0 j x) = A (ix3 b j x) := by
  show A _ = A _
  refine congrArg _ (funext fun a => Fin.ext ?_)
  obtain ⟨h0, h1, h2⟩ := index1 t
  match a with
  | ⟨0, _⟩ => show win0_1.index t 0 * 1 + 1 * 0 = b.val; omega
  | ⟨1, _⟩ => show win0_1.index t 1 * 8448 + 1 * j.val = j.val; omega
  | ⟨2, _⟩ => show win0_1.index t 2 * 256 + 1 * x.val = x.val; omega

theorem blk1 (t : Fin cfg0.N) (j : Fin 8448) (x : Fin 256) (b : Fin 8) (hb : b.val = t.val / 33) :
    iblk m c 1 t (ix3 0 j x) = V m c main_v31 (ix3 b j x) := by
  unfold iblk
  exact read1 (V m c main_v31) t j x b hb

theorem read2 (A : S8x33x320x256.Idx → EReal) (t : Fin cfg0.N) (n : Fin 33) (r : Fin 320) (k : Fin 256) (b : Fin 8) (hb : b.val = t.val / 33) :
    ((cfg0.win 2).blk t).view.read (Elt Ideal) A (ix4 0 n r k) = A (ix4 b n r k) := by
  show A _ = A _
  refine congrArg _ (funext fun a => Fin.ext ?_)
  obtain ⟨h0, h1, h2, h3⟩ := index2 t
  match a with
  | ⟨0, _⟩ => show win0_2.index t 0 * 1 + 1 * 0 = b.val; omega
  | ⟨1, _⟩ => show win0_2.index t 1 * 33 + 1 * n.val = n.val; omega
  | ⟨2, _⟩ => show win0_2.index t 2 * 320 + 1 * r.val = r.val; omega
  | ⟨3, _⟩ => show win0_2.index t 3 * 256 + 1 * k.val = k.val; omega

theorem blk2 (t : Fin cfg0.N) (n : Fin 33) (r : Fin 320) (k : Fin 256) (b : Fin 8) (hb : b.val = t.val / 33) :
    iblk m c 2 t (ix4 0 n r k) = V m c main_v6 (ix4 b n r k) := by
  unfold iblk
  exact read2 (V m c main_v6) t n r k b hb

theorem read3 (A : S4x128.Idx → EReal) (t : Fin cfg0.N) (r : Fin 4) (x : Fin 128) :
    ((cfg0.win 3).blk t).view.read (Elt Ideal) A (ix2 r x) = A (ix2 r x) := by
  show A _ = A _
  refine congrArg _ (funext fun a => Fin.ext ?_)
  obtain ⟨h0, h1⟩ := index3 t
  match a with
  | ⟨0, _⟩ => show win0_3.index t 0 * 4 + 1 * r.val = r.val; omega
  | ⟨1, _⟩ => show win0_3.index t 1 * 128 + 1 * x.val = x.val; omega

theorem blk3 (t : Fin cfg0.N) (r : Fin 4) (x : Fin 128) :
    iblk m c 3 t (ix2 r x) = V m c main_v17 (ix2 r x) := by
  unfold iblk
  exact read3 (V m c main_v17) t r x

theorem read4 (A : S64x1.Idx → EReal) (t : Fin cfg0.N) (r : Fin 64) (x : Fin 1) :
    ((cfg0.win 4).blk t).view.read (Elt Ideal) A (ix2 r x) = A (ix2 r x) := by
  show A _ = A _
  refine congrArg _ (funext fun a => Fin.ext ?_)
  obtain ⟨h0, h1⟩ := index4 t
  match a with
  | ⟨0, _⟩ => show win0_4.index t 0 * 64 + 1 * r.val = r.val; omega
  | ⟨1, _⟩ => show win0_4.index t 1 * 1 + 1 * x.val = x.val; omega

theorem blk4 (t : Fin cfg0.N) (r : Fin 64) (x : Fin 1) :
    iblk m c 4 t (ix2 r x) = V m c main_v32 (ix2 r x) := by
  unfold iblk
  exact read4 (V m c main_v32) t r x

end Cert.Diff

end
-- ==== Proof.Diff.Covers.lean ====
/- The blocks written back cover the result. -/
module

public import proofs.«01_k».proof.Proof.Diff.Frame
public import Idealize.ShloMosaic.Lib.Pipeline.ValueKit

@[expose] public section

set_option maxRecDepth 65536

noncomputable section

namespace Cert.Diff

open Idealize.ShloMosaic Idealize.ShloMosaic.TcCoe
open Cert.Kernel3Ideal Cert.Kernel3Ideal.Gen

variable (m : (ℓ : Loc nD τ sig) → Buf (Elt Ideal) ℓ) (c : Dev nD)

/-- Every element of the result lies in a block that some point writes back. -/
theorem covers5 : (cfg0.win 5).Covers := by decide +kernel

end Cert.Diff

end
-- ==== Proof.Diff.Array.lean ====
/- The result array of the differential attention call: grid point `t` is block `t % 33` of the queries of batch `t / 33`, and sees all
   keys and values of the batch. -/
module

public import proofs.«01_k».proof.Proof.Diff.Scores
public import proofs.«01_k».proof.Proof.Diff.Blocks
public import proofs.«01_k».proof.Proof.Diff.Covers
public import Idealize.ShloMosaic.Lib.Pipeline.ValueKit

@[expose] public section

set_option maxRecDepth 65536

noncomputable section

namespace Cert.Diff

open Idealize.ShloMosaic Idealize.ShloMosaic.TcCoe
open Cert.Mla (keyAt)
open Cert.Kernel3Ideal Cert.Kernel3Ideal.Gen

variable (m : (ℓ : Loc nD τ sig) → Buf (Elt Ideal) ℓ) (c : Dev nD)

theorem hd_mp : ∀ (h : Fin 4) (s : Fin 2), hd (mp h s) = h := by decide

/-- Map 0 at a point: query `p` and column `d` of head `h`. -/
theorem map0 (hv : AllReal (argV m c)) (t : Fin cfg0.N) (p : Fin 256) (h : Fin 4) (d : Fin 64) (b : Fin 8) (T : Fin 8448)
    (hb : b.val = t.val / 33) (hT : T.val = 256 * (t.val % 33) + p.val) :
    quot ((lastS (grid0.coords t) (iblk m c 0 t) (iblk m c 1 t) (iblk m c 2 t)).2 (mp h 0)) (ix2 d p)
      = mapAt (argQ1 m c) (argK1 m c) (argV m c) b T h d := by
  refine (map_value (iblk m c 0 t) (iblk m c 1 t) (iblk m c 2 t) (mp h 0) p
    (fun n k => dprod (argQ1 m c) (argK1 m c) b h T (keyAt n k) * ((1 / (Real.sqrt 32 * Real.log 2) : ℝ) : EReal)) (fun n k => ?_) (fun n k => ?_) (grid0.coords t) d (fun n k => ?_)).trans ?_
  · refine (Finset.sum_congr rfl fun l _ => ?_).trans (score_prepared0 m c b h T (keyAt n k))
    exact congrArg₂ (· * ·) (blk1 m c t (keyAt n k) (lane (mp h 0) l) b hb) (blk0 m c t p (lane (mp h 0) l) b T hb hT)
  · rw [hd_mp]
    exact (blk2 m c t n (vrow h 64) k b hb).trans (V6_one m c b n h k)
  · obtain ⟨a, ha⟩ := hv (ix4 b (keyAt n k) h d)
    refine ⟨a, Eq.trans ?_ ha⟩
    rw [hd_mp]
    exact (blk2 m c t n _ k b hb).trans (V6_value m c b n h ⟨d.val, by omega⟩ d.isLt k)
  · have hv : ∀ (n : Fin 33) (k : Fin 256), @Eq EReal (iblk m c 2 t (ix4 0 n (vrow h ⟨d.val, by omega⟩) k)) (argV m c (ix4 b (keyAt n k) h d)) :=
      fun n k => (blk2 m c t n _ k b hb).trans (V6_value m c b n h ⟨d.val, by omega⟩ d.isLt k)
    rw [hd_mp]
    unfold mapAt
    have hc := coord1 t
    by_cases hi : (grid0.coords t 1).val = 0
    · rw [if_pos hi, if_pos (by have := p.isLt; omega)]
      exact congrArg₂ attnE (funext fun k => score_log32 _) (funext fun k => hv 0 k)
    · rw [if_neg hi, if_neg (by omega)]
      exact congrArg₂ attnE (funext fun k => score_log32 _) (funext fun k => hv k.1 k.2)

/-- Map 1 at a point: query `p` and column `d` of head `h`. -/
theorem map1 (hv : AllReal (argV m c)) (t : Fin cfg0.N) (p : Fin 256) (h : Fin 4) (d : Fin 64) (b : Fin 8) (T : Fin 8448)
    (hb : b.val = t.val / 33) (hT : T.val = 256 * (t.val % 33) + p.val) :
    quot ((lastS (grid0.coords t) (iblk m c 0 t) (iblk m c 1 t) (iblk m c 2 t)).2 (mp h 1)) (ix2 d p)
      = mapAt (argQ2 m c) (argK2 m c) (argV m c) b T h d := by
  refine (map_value (iblk m c 0 t) (iblk m c 1 t) (iblk m c 2 t) (mp h 1) p
    (fun n k => dprod (argQ2 m c) (argK2 m c) b h T (keyAt n k) * ((1 / (Real.sqrt 32 * Real.log 2) : ℝ) : EReal)) (fun n k => ?_) (fun n k => ?_) (grid0.coords t) d (fun n k => ?_)).trans ?_
  · refine (Finset.sum_congr rfl fun l _ => ?_).trans (score_prepared1 m c b h T (keyAt n k))
    exact congrArg₂ (· * ·) (blk1 m c t (keyAt n k) (lane (mp h 1) l) b hb) (blk0 m c t p (lane (mp h 1) l) b T hb hT)
  · rw [hd_mp]
    exact (blk2 m c t n (vrow h 64) k b hb).trans (V6_one m c b n h k)
  · obtain ⟨a, ha⟩ := hv (ix4 b (keyAt n k) h d)
    refine ⟨a, Eq.trans ?_ ha⟩
    rw [hd_mp]
    exact (blk2 m c t n _ k b hb).trans (V6_value m c b n h ⟨d.val, by omega⟩ d.isLt k)
  · have hv : ∀ (n : Fin 33) (k : Fin 256), @Eq EReal (iblk m c 2 t (ix4 0 n (vrow h ⟨d.val, by omega⟩) k)) (argV m c (ix4 b (keyAt n k) h d)) :=
      fun n k => (blk2 m c t n _ k b hb).trans (V6_value m c b n h ⟨d.val, by omega⟩ d.isLt k)
    rw [hd_mp]
    unfold mapAt
    have hc := coord1 t
    by_cases hi : (grid0.coords t 1).val = 0
    · rw [if_pos hi, if_pos (by have := p.isLt; omega)]
      exact congrArg₂ attnE (funext fun k => score_log32 _) (funext fun k => hv 0 k)
    · rw [if_neg hi, if_neg (by omega)]
      exact congrArg₂ attnE (funext fun k => score_log32 _) (funext fun k => hv k.1 k.2)

/-- The weight of the second map at a point. -/
theorem weight_point (h1 : AllReal (argLq1 m c)) (h2 : AllReal (argLk1 m c)) (h3 : AllReal (argLq2 m c)) (h4 : AllReal (argLk2 m c))
    (t : Fin cfg0.N) : lamF (lamR (iblk m c 3 t)) (ix2 0 0) = lam (argLq1 m c) (argLk1 m c) (argLq2 m c) (argLk2 m c) := by
  have e : ∀ (r : Fin 4) (l : Fin 128), @Eq EReal (lamR (iblk m c 3 t) (ix2 r l)) (rowL m c r l) :=
    fun r l => (lamR_apply (iblk m c 3 t) r l).trans (blk3 m c t r l)
  refine (lamF_apply (lamR (iblk m c 3 t))).trans (Eq.trans ?_ (weight_prepared m c h1 h2 h3 h4))
  exact congrArg₂ (fun x y => Ideal.exp x - Ideal.exp y + Ideal.ofBits .f32 0x3E4CCCCD#32)
    (Finset.sum_congr rfl fun l _ => congrArg₂ (· * ·) (e 0 l) (e 1 l)) (Finset.sum_congr rfl fun l _ => congrArg₂ (· * ·) (e 2 l) (e 3 l))

/-- What a point leaves at query `p` and column `d` of head `h`. -/
theorem point (hv : AllReal (argV m c))
    (h1 : AllReal (argLq1 m c)) (h2 : AllReal (argLk1 m c)) (h3 : AllReal (argLq2 m c)) (h4 : AllReal (argLk2 m c))
    (t : Fin cfg0.N) (p : Fin 256) (h : Fin 4) (d : Fin 64) (b : Fin 8) (T : Fin 8448)
    (hb : b.val = t.val / 33) (hT : T.val = 256 * (t.val % 33) + p.val) :
    outsAt0 m c t (ix3 0 p (col h d)) = normed (argG m c (ix1 d)) (diffAt (argQ1 m c) (argQ2 m c) (argK1 m c) (argK2 m c) (argV m c) (argLq1 m c) (argLk1 m c) (argLq2 m c) (argLk2 m c) b T h) d := by
  unfold outsAt0
  refine (block_apply (grid0.coords t) (iblk m c 0 t) (iblk m c 1 t) (iblk m c 2 t) (iblk m c 3 t) (iblk m c 4 t) h p d).trans ?_
  refine congrArg₂ (fun x o => normed x o d) ((blk4 m c t d 0).trans (V32_apply m c d)) (funext fun e => ?_)
  unfold diffAt
  rw [map0 m c hv t p h e b T hb hT, map1 m c hv t p h e b T hb hT, weight_point m c h1 h2 h3 h4 t]

/-! ## The array -/

theorem array (hv : AllReal (argV m c))
    (h1 : AllReal (argLq1 m c)) (h2 : AllReal (argLk1 m c)) (h3 : AllReal (argLq2 m c)) (h4 : AllReal (argLk2 m c)) :
    (dats m 0 c).arrAt 5 cfg0.N = dresult (argQ1 m c) (argQ2 m c) (argK1 m c) (argK2 m c) (argV m c) (argLq1 m c) (argLk1 m c) (argLq2 m c) (argLk2 m c) (argG m c) := by
  refine (dats m 0 c).arrAt_eq_of_covers 5 _ covers5 fun t _ y => ?_
  obtain ⟨h0, hh1, hh2⟩ := index5 t
  have h0' : (y 0).val < 1 := (y 0).isLt
  have h2' : (y 2).val < 256 := (y 2).isLt
  have e : y = ix3 0 (y 1) (col ⟨(y 2).val / 64, by omega⟩ ⟨(y 2).val % 64, Nat.mod_lt _ (by decide)⟩) := by
    funext a
    match a with
    | ⟨0, _⟩ => exact Fin.ext (by show (y 0).val = 0; omega)
    | ⟨1, _⟩ => rfl
    | ⟨2, _⟩ => exact Fin.ext (by show (y 2).val = 64 * ((y 2).val / 64) + (y 2).val % 64; omega)
  have q2 : ((((cfg0.win 5).blk t).view.emb y) 2).val = (y 2).val := by
    show win0_5.index t 2 * 256 + 1 * (y 2).val = (y 2).val; omega
  show (dats m 0 c).after 5 t y = _
  rw [after0_5]
  refine ((congrArg _ e).trans (point m c hv h1 h2 h3 h4 t (y 1) ⟨(y 2).val / 64, by omega⟩ ⟨(y 2).val % 64, Nat.mod_lt _ (by decide)⟩
    ((((cfg0.win 5).blk t).view.emb y) 0) ((((cfg0.win 5).blk t).view.emb y) 1) ?_ ?_)).trans ?_
  · show win0_5.index t 0 * 1 + 1 * (y 0).val = _
    omega
  · show win0_5.index t 1 * 256 + 1 * (y 1).val = _
    omega
  · unfold dresult
    simp only [q2]

end Cert.Diff

end
-- ==== Proof.Diff.RefLatent.lean ====
/- The reference's two maps of the latent tokens, entry by entry: scores, their largest, the weights. -/
module

public import proofs.«01_k».proof.Proof.Gen.Reference3Ideal.Read
public import proofs.«01_k».proof.Proof.Mla.Reference
public import proofs.«01_k».proof.Proof.Diff.Spec
public import Idealize.ShloMosaic.Lib.Pointwise

@[expose] public section

noncomputable section

namespace Cert.Diff

open Idealize.ShloMosaic Cert.Mla Cert.Reference3Ideal Cert.Reference3Ideal.Gen Cert.Reference3Ideal.Read

/-- The largest along an axis bounds every entry, and is `⊤` only if an entry is. -/
theorem reduce_max {s t u : Shape} {axes : List (Fin s.rank)} (x : s.Idx → EReal) (init : u.Idx → EReal) (h : s.ReducesTo axes t) (hu : 0 < u.numel)
    (j : t.Idx) (hinit : init (Shape.Idx.first hu) = ⊥) :
    (∀ i, h.drop i = j → x i ≤ max (⊥ : EReal) (Host.reduce (max : EReal → EReal → EReal) x init h hu j))
      ∧ (max (⊥ : EReal) (Host.reduce (max : EReal → EReal → EReal) x init h hu j) = ⊤ → ∃ i, h.drop i = j ∧ x i = ⊤) := by
  rw [Host.reduce_eq_fold, hinit, max_eq_right bot_le]
  refine ⟨fun i hi => (Finset.le_fold_max _).mpr (Or.inr ⟨i, by simp [hi], le_refl _⟩), fun hM => ?_⟩
  by_contra hn
  refine absurd hM (ne_of_lt ((Finset.fold_max_lt _).mpr ⟨bot_lt_top, fun i hi => lt_top_iff_ne_top.mpr fun e => hn ⟨i, ?_, e⟩⟩))
  simpa using hi

theorem keys1_apply (k : FVec Ideal S8x8448x4x32 .f32) (b : Fin 8) (j : Fin 8448) (h : Fin 4) (l : Fin 32) : val_main_v20 (F := Ideal) k (ix4 b j h l) = k (ix4 b (keyOf j) h l) := by
  by_cases hj : j.val < 8192
  · rw [keyOf_lt j hj]
    pointwise [val_main_v20]
    rw [dif_pos hj]
    pointwise [val_main_v15]
    rfl
  · rw [keyOf_ge j hj]
    pointwise [val_main_v20]
    rw [dif_neg hj]
    pointwise [val_main_v14]
    rfl

theorem score_latent1 (q k : FVec Ideal S8x8448x4x32 .f32) (b : Fin 8) (h : Fin 4) (t : Fin 8192) (j : Fin 8448) :
    val_main_v25 (F := Ideal) q k (ix4 b h t j) = dscore q k b h (latent t) (keyOf j) := by
  have e : val_main_v23 (F := Ideal) q k (ix4 b h t j) = dprod q k b h (latent t) (keyOf j) := by
    unfold dprod
    refine (val_main_v23_apply q k _).trans (Finset.sum_congr rfl fun l _ => ?_)
    refine congrArg₂ (· * ·) ?_ ?_
    · exact (val_main_v11_apply (F := Ideal) q (lidx_main_v23 (ix4 b h t j) l)).trans
        (congrArg q (ix_ext4 (idx_main_v11 (lidx_main_v23 (ix4 b h t j) l)) (ix4 b (latent t) h l) rfl rfl rfl rfl))
    · exact (congrArg (val_main_v20 (F := Ideal) k) (ix_ext4 (ridx_main_v23 (ix4 b h t j) l) (ix4 b j h l) rfl rfl rfl rfl)).trans (keys1_apply k b j h l)
  rw [val_main_v25_apply, e]
  unfold dscore
  exact scaled32 _

theorem largest_latent1 (q k : FVec Ideal S8x8448x4x32 .f32) (b : Fin 8) (h : Fin 4) (t : Fin 8192) :
    ∃ M : EReal, val_main_v28 (F := Ideal) q k (ix3 b h t) = M ∧ (∀ j : Fin 8448, dscore q k b h (latent t) (keyOf j) ≤ M) ∧ (M = ⊤ → ∃ j : Fin 8448, dscore q k b h (latent t) (keyOf j) = ⊤) := by
  have hx : ∀ j : Fin 8448, val_main_v25 (F := Ideal) q k (ix4 b h t j) = dscore q k b h (latent t) (keyOf j) := score_latent1 q k b h t
  rw [val_main_v28_apply, val_main_v27_apply]
  unfold val_main_v26
  generalize val_main_v25 (F := Ideal) q k = x at hx
  have hd : ∀ j : Fin 8448, reducesTo_S8x4x8192x8448_S8x4x8192_d3.drop (ix4 b h t j) = ix3 b h t := fun j => by
    refine ix_ext3 _ _ ?_ ?_ ?_
    · exact reducesTo_S8x4x8192x8448_S8x4x8192_d3.drop_apply_val_of_eq _ 0 0
    · exact reducesTo_S8x4x8192x8448_S8x4x8192_d3.drop_apply_val_of_eq _ 1 1
    · exact reducesTo_S8x4x8192x8448_S8x4x8192_d3.drop_apply_val_of_eq _ 2 2
  obtain ⟨e1, e2⟩ := reduce_max x (val_main_cst_4 (F := Ideal)) reducesTo_S8x4x8192x8448_S8x4x8192_d3 h_S_ (ix3 b h t) least
  rw [← least] at e1 e2
  refine ⟨_, rfl, fun j => (hx j).ge.trans (e1 _ (hd j)), fun hM => ?_⟩
  obtain ⟨i, hi, ht⟩ := e2 hM
  refine ⟨i 3, (hx (i 3)).symm.trans ((congrArg x (ix_ext4 (ix4 b h t (i 3)) i ?_ ?_ ?_ rfl)).trans ht)⟩
  · exact (congrArg (fun y => (y 0).val) hi).symm.trans (reducesTo_S8x4x8192x8448_S8x4x8192_d3.drop_apply_val_of_eq i 0 0)
  · exact (congrArg (fun y => (y 1).val) hi).symm.trans (reducesTo_S8x4x8192x8448_S8x4x8192_d3.drop_apply_val_of_eq i 1 1)
  · exact (congrArg (fun y => (y 2).val) hi).symm.trans (reducesTo_S8x4x8192x8448_S8x4x8192_d3.drop_apply_val_of_eq i 2 2)

theorem power_latent1 (q k : FVec Ideal S8x8448x4x32 .f32) (b : Fin 8) (h : Fin 4) (t : Fin 8192) (M : EReal)
    (hM : val_main_v28 (F := Ideal) q k (ix3 b h t) = M) (j : Fin 8448) :
    val_main_v32 (F := Ideal) q k (ix4 b h t j) = Ideal.exp (dscore q k b h (latent t) (keyOf j) - M) := by
  have e : val_main_v30 (F := Ideal) q k (ix4 b h t j) = M := by
    rw [val_main_v30_apply, val_main_v29_apply, ← hM]
    exact congrArg (val_main_v28 (F := Ideal) q k) (ix_ext3 (idx_main_v29 (idx_main_v30 (ix4 b h t j))) (ix3 b h t) rfl rfl rfl)
  rw [val_main_v32_apply, val_main_v31_apply, e, score_latent1 q k]
  rfl

theorem weight_latent1 (q k : FVec Ideal S8x8448x4x32 .f32) (b : Fin 8) (h : Fin 4) (t : Fin 8192) (j : Fin 8448) :
    val_main_v36 (F := Ideal) q k (ix4 b h t j) = weightE (fun j : Fin 8448 => dscore q k b h (latent t) (keyOf j)) j := by
  obtain ⟨M, hM, hle, htop⟩ := largest_latent1 q k b h t
  have e : val_main_v35 (F := Ideal) q k (ix4 b h t j)
      = 0 + ∑ j : Fin 8448, Ideal.exp (dscore q k b h (latent t) (keyOf j) - M) := by
    rw [val_main_v35_apply, val_main_v34_apply, val_main_v33_apply]
    refine congrArg₂ (· + ·) none_yet (Finset.sum_congr rfl fun l _ => ?_)
    exact (congrArg (val_main_v32 (F := Ideal) q k) (ix_ext4 (idx_main_v33 (idx_main_v34 (idx_main_v35 (ix4 b h t j))) l) (ix4 b h t l) rfl rfl rfl rfl)).trans
      (power_latent1 q k b h t M hM l)
  rw [val_main_v36_apply, e, power_latent1 q k b h t M hM j]
  exact softmax_weight (fun j : Fin 8448 => dscore q k b h (latent t) (keyOf j)) M hle htop j

theorem keys2_apply (k : FVec Ideal S8x8448x4x32 .f32) (b : Fin 8) (j : Fin 8448) (h : Fin 4) (l : Fin 32) : val_main_v21 (F := Ideal) k (ix4 b j h l) = k (ix4 b (keyOf j) h l) := by
  by_cases hj : j.val < 8192
  · rw [keyOf_lt j hj]
    pointwise [val_main_v21]
    rw [dif_pos hj]
    pointwise [val_main_v17]
    rfl
  · rw [keyOf_ge j hj]
    pointwise [val_main_v21]
    rw [dif_neg hj]
    pointwise [val_main_v16]
    rfl

theorem score_latent2 (q k : FVec Ideal S8x8448x4x32 .f32) (b : Fin 8) (h : Fin 4) (t : Fin 8192) (j : Fin 8448) :
    val_main_v39 (F := Ideal) q k (ix4 b h t j) = dscore q k b h (latent t) (keyOf j) := by
  have e : val_main_v37 (F := Ideal) q k (ix4 b h t j) = dprod q k b h (latent t) (keyOf j) := by
    unfold dprod
    refine (val_main_v37_apply q k _).trans (Finset.sum_congr rfl fun l _ => ?_)
    refine congrArg₂ (· * ·) ?_ ?_
    · exact (val_main_v13_apply (F := Ideal) q (lidx_main_v37 (ix4 b h t j) l)).trans
        (congrArg q (ix_ext4 (idx_main_v13 (lidx_main_v37 (ix4 b h t j) l)) (ix4 b (latent t) h l) rfl rfl rfl rfl))
    · exact (congrArg (val_main_v21 (F := Ideal) k) (ix_ext4 (ridx_main_v37 (ix4 b h t j) l) (ix4 b j h l) rfl rfl rfl rfl)).trans (keys2_apply k b j h l)
  rw [val_main_v39_apply, e]
  unfold dscore
  exact scaled32 _

theorem largest_latent2 (q k : FVec Ideal S8x8448x4x32 .f32) (b : Fin 8) (h : Fin 4) (t : Fin 8192) :
    ∃ M : EReal, val_main_v42 (F := Ideal) q k (ix3 b h t) = M ∧ (∀ j : Fin 8448, dscore q k b h (latent t) (keyOf j) ≤ M) ∧ (M = ⊤ → ∃ j : Fin 8448, dscore q k b h (latent t) (keyOf j) = ⊤) := by
  have hx : ∀ j : Fin 8448, val_main_v39 (F := Ideal) q k (ix4 b h t j) = dscore q k b h (latent t) (keyOf j) := score_latent2 q k b h t
  rw [val_main_v42_apply, val_main_v41_apply]
  unfold val_main_v40
  generalize val_main_v39 (F := Ideal) q k = x at hx
  have hd : ∀ j : Fin 8448, reducesTo_S8x4x8192x8448_S8x4x8192_d3.drop (ix4 b h t j) = ix3 b h t := fun j => by
    refine ix_ext3 _ _ ?_ ?_ ?_
    · exact reducesTo_S8x4x8192x8448_S8x4x8192_d3.drop_apply_val_of_eq _ 0 0
    · exact reducesTo_S8x4x8192x8448_S8x4x8192_d3.drop_apply_val_of_eq _ 1 1
    · exact reducesTo_S8x4x8192x8448_S8x4x8192_d3.drop_apply_val_of_eq _ 2 2
  obtain ⟨e1, e2⟩ := reduce_max x (val_main_cst_7 (F := Ideal)) reducesTo_S8x4x8192x8448_S8x4x8192_d3 h_S_ (ix3 b h t) least
  rw [← least] at e1 e2
  refine ⟨_, rfl, fun j => (hx j).ge.trans (e1 _ (hd j)), fun hM => ?_⟩
  obtain ⟨i, hi, ht⟩ := e2 hM
  refine ⟨i 3, (hx (i 3)).symm.trans ((congrArg x (ix_ext4 (ix4 b h t (i 3)) i ?_ ?_ ?_ rfl)).trans ht)⟩
  · exact (congrArg (fun y => (y 0).val) hi).symm.trans (reducesTo_S8x4x8192x8448_S8x4x8192_d3.drop_apply_val_of_eq i 0 0)
  · exact (congrArg (fun y => (y 1).val) hi).symm.trans (reducesTo_S8x4x8192x8448_S8x4x8192_d3.drop_apply_val_of_eq i 1 1)
  · exact (congrArg (fun y => (y 2).val) hi).symm.trans (reducesTo_S8x4x8192x8448_S8x4x8192_d3.drop_apply_val_of_eq i 2 2)

theorem power_latent2 (q k : FVec Ideal S8x8448x4x32 .f32) (b : Fin 8) (h : Fin 4) (t : Fin 8192) (M : EReal)
    (hM : val_main_v42 (F := Ideal) q k (ix3 b h t) = M) (j : Fin 8448) :
    val_main_v46 (F := Ideal) q k (ix4 b h t j) = Ideal.exp (dscore q k b h (latent t) (keyOf j) - M) := by
  have e : val_main_v44 (F := Ideal) q k (ix4 b h t j) = M := by
    rw [val_main_v44_apply, val_main_v43_apply, ← hM]
    exact congrArg (val_main_v42 (F := Ideal) q k) (ix_ext3 (idx_main_v43 (idx_main_v44 (ix4 b h t j))) (ix3 b h t) rfl rfl rfl)
  rw [val_main_v46_apply, val_main_v45_apply, e, score_latent2 q k]
  rfl

theorem weight_latent2 (q k : FVec Ideal S8x8448x4x32 .f32) (b : Fin 8) (h : Fin 4) (t : Fin 8192) (j : Fin 8448) :
    val_main_v50 (F := Ideal) q k (ix4 b h t j) = weightE (fun j : Fin 8448 => dscore q k b h (latent t) (keyOf j)) j := by
  obtain ⟨M, hM, hle, htop⟩ := largest_latent2 q k b h t
  have e : val_main_v49 (F := Ideal) q k (ix4 b h t j)
      = 0 + ∑ j : Fin 8448, Ideal.exp (dscore q k b h (latent t) (keyOf j) - M) := by
    rw [val_main_v49_apply, val_main_v48_apply, val_main_v47_apply]
    refine congrArg₂ (· + ·) none_yet (Finset.sum_congr rfl fun l _ => ?_)
    exact (congrArg (val_main_v46 (F := Ideal) q k) (ix_ext4 (idx_main_v47 (idx_main_v48 (idx_main_v49 (ix4 b h t j))) l) (ix4 b h t l) rfl rfl rfl rfl)).trans
      (power_latent2 q k b h t M hM l)
  rw [val_main_v50_apply, e, power_latent2 q k b h t M hM j]
  exact softmax_weight (fun j : Fin 8448 => dscore q k b h (latent t) (keyOf j)) M hle htop j

end Cert.Diff

end
-- ==== Proof.Diff.RefContext.lean ====
/- The reference's two maps of the context tokens, entry by entry: scores, their largest, the weights. -/
module

public import proofs.«01_k».proof.Proof.Gen.Reference3Ideal.Read
public import proofs.«01_k».proof.Proof.Mla.Reference
public import proofs.«01_k».proof.Proof.Diff.RefLatent
public import Idealize.ShloMosaic.Lib.Pointwise

@[expose] public section

noncomputable section

namespace Cert.Diff

open Idealize.ShloMosaic Cert.Mla Cert.Reference3Ideal Cert.Reference3Ideal.Gen Cert.Reference3Ideal.Read

theorem score_context1 (q k : FVec Ideal S8x8448x4x32 .f32) (b : Fin 8) (h : Fin 4) (t : Fin 256) (j : Fin 256) :
    val_main_v74 (F := Ideal) q k (ix4 b h t j) = dscore q k b h (context t) (keyAt 0 j) := by
  have e : val_main_v72 (F := Ideal) q k (ix4 b h t j) = dprod q k b h (context t) (keyAt 0 j) := by
    unfold dprod
    refine (val_main_v72_apply q k _).trans (Finset.sum_congr rfl fun l _ => ?_)
    refine congrArg₂ (· * ·) ?_ ?_
    · exact (val_main_v10_apply (F := Ideal) q (lidx_main_v72 (ix4 b h t j) l)).trans
        (congrArg q (ix_ext4 (idx_main_v10 (lidx_main_v72 (ix4 b h t j) l)) (ix4 b (context t) h l) rfl rfl rfl rfl))
    · exact (val_main_v14_apply (F := Ideal) k (ridx_main_v72 (ix4 b h t j) l)).trans
        (congrArg k (ix_ext4 (idx_main_v14 (ridx_main_v72 (ix4 b h t j) l)) (ix4 b (keyAt 0 j) h l) rfl
          (by show j.val = 256 * 0 + j.val; omega) rfl rfl))
  rw [val_main_v74_apply, e]
  unfold dscore
  exact scaled32 _

theorem largest_context1 (q k : FVec Ideal S8x8448x4x32 .f32) (b : Fin 8) (h : Fin 4) (t : Fin 256) :
    ∃ M : EReal, val_main_v77 (F := Ideal) q k (ix3 b h t) = M ∧ (∀ j : Fin 256, dscore q k b h (context t) (keyAt 0 j) ≤ M) ∧ (M = ⊤ → ∃ j : Fin 256, dscore q k b h (context t) (keyAt 0 j) = ⊤) := by
  have hx : ∀ j : Fin 256, val_main_v74 (F := Ideal) q k (ix4 b h t j) = dscore q k b h (context t) (keyAt 0 j) := score_context1 q k b h t
  rw [val_main_v77_apply, val_main_v76_apply]
  unfold val_main_v75
  generalize val_main_v74 (F := Ideal) q k = x at hx
  have hd : ∀ j : Fin 256, reducesTo_S8x4x256x256_S8x4x256_d3.drop (ix4 b h t j) = ix3 b h t := fun j => by
    refine ix_ext3 _ _ ?_ ?_ ?_
    · exact reducesTo_S8x4x256x256_S8x4x256_d3.drop_apply_val_of_eq _ 0 0
    · exact reducesTo_S8x4x256x256_S8x4x256_d3.drop_apply_val_of_eq _ 1 1
    · exact reducesTo_S8x4x256x256_S8x4x256_d3.drop_apply_val_of_eq _ 2 2
  obtain ⟨e1, e2⟩ := reduce_max x (val_main_cst_14 (F := Ideal)) reducesTo_S8x4x256x256_S8x4x256_d3 h_S_ (ix3 b h t) least
  rw [← least] at e1 e2
  refine ⟨_, rfl, fun j => (hx j).ge.trans (e1 _ (hd j)), fun hM => ?_⟩
  obtain ⟨i, hi, ht⟩ := e2 hM
  refine ⟨i 3, (hx (i 3)).symm.trans ((congrArg x (ix_ext4 (ix4 b h t (i 3)) i ?_ ?_ ?_ rfl)).trans ht)⟩
  · exact (congrArg (fun y => (y 0).val) hi).symm.trans (reducesTo_S8x4x256x256_S8x4x256_d3.drop_apply_val_of_eq i 0 0)
  · exact (congrArg (fun y => (y 1).val) hi).symm.trans (reducesTo_S8x4x256x256_S8x4x256_d3.drop_apply_val_of_eq i 1 1)
  · exact (congrArg (fun y => (y 2).val) hi).symm.trans (reducesTo_S8x4x256x256_S8x4x256_d3.drop_apply_val_of_eq i 2 2)

theorem power_context1 (q k : FVec Ideal S8x8448x4x32 .f32) (b : Fin 8) (h : Fin 4) (t : Fin 256) (M : EReal)
    (hM : val_main_v77 (F := Ideal) q k (ix3 b h t) = M) (j : Fin 256) :
    val_main_v81 (F := Ideal) q k (ix4 b h t j) = Ideal.exp (dscore q k b h (context t) (keyAt 0 j) - M) := by
  have e : val_main_v79 (F := Ideal) q k (ix4 b h t j) = M := by
    rw [val_main_v79_apply, val_main_v78_apply, ← hM]
    exact congrArg (val_main_v77 (F := Ideal) q k) (ix_ext3 (idx_main_v78 (idx_main_v79 (ix4 b h t j))) (ix3 b h t) rfl rfl rfl)
  rw [val_main_v81_apply, val_main_v80_apply, e, score_context1 q k]
  rfl

theorem weight_context1 (q k : FVec Ideal S8x8448x4x32 .f32) (b : Fin 8) (h : Fin 4) (t : Fin 256) (j : Fin 256) :
    val_main_v85 (F := Ideal) q k (ix4 b h t j) = weightE (fun j : Fin 256 => dscore q k b h (context t) (keyAt 0 j)) j := by
  obtain ⟨M, hM, hle, htop⟩ := largest_context1 q k b h t
  have e : val_main_v84 (F := Ideal) q k (ix4 b h t j)
      = 0 + ∑ j : Fin 256, Ideal.exp (dscore q k b h (context t) (keyAt 0 j) - M) := by
    rw [val_main_v84_apply, val_main_v83_apply, val_main_v82_apply]
    refine congrArg₂ (· + ·) none_yet (Finset.sum_congr rfl fun l _ => ?_)
    exact (congrArg (val_main_v81 (F := Ideal) q k) (ix_ext4 (idx_main_v82 (idx_main_v83 (idx_main_v84 (ix4 b h t j))) l) (ix4 b h t l) rfl rfl rfl rfl)).trans
      (power_context1 q k b h t M hM l)
  rw [val_main_v85_apply, e, power_context1 q k b h t M hM j]
  exact softmax_weight (fun j : Fin 256 => dscore q k b h (context t) (keyAt 0 j)) M hle htop j

theorem score_context2 (q k : FVec Ideal S8x8448x4x32 .f32) (b : Fin 8) (h : Fin 4) (t : Fin 256) (j : Fin 256) :
    val_main_v88 (F := Ideal) q k (ix4 b h t j) = dscore q k b h (context t) (keyAt 0 j) := by
  have e : val_main_v86 (F := Ideal) q k (ix4 b h t j) = dprod q k b h (context t) (keyAt 0 j) := by
    unfold dprod
    refine (val_main_v86_apply q k _).trans (Finset.sum_congr rfl fun l _ => ?_)
    refine congrArg₂ (· * ·) ?_ ?_
    · exact (val_main_v12_apply (F := Ideal) q (lidx_main_v86 (ix4 b h t j) l)).trans
        (congrArg q (ix_ext4 (idx_main_v12 (lidx_main_v86 (ix4 b h t j) l)) (ix4 b (context t) h l) rfl rfl rfl rfl))
    · exact (val_main_v16_apply (F := Ideal) k (ridx_main_v86 (ix4 b h t j) l)).trans
        (congrArg k (ix_ext4 (idx_main_v16 (ridx_main_v86 (ix4 b h t j) l)) (ix4 b (keyAt 0 j) h l) rfl
          (by show j.val = 256 * 0 + j.val; omega) rfl rfl))
  rw [val_main_v88_apply, e]
  unfold dscore
  exact scaled32 _

theorem largest_context2 (q k : FVec Ideal S8x8448x4x32 .f32) (b : Fin 8) (h : Fin 4) (t : Fin 256) :
    ∃ M : EReal, val_main_v91 (F := Ideal) q k (ix3 b h t) = M ∧ (∀ j : Fin 256, dscore q k b h (context t) (keyAt 0 j) ≤ M) ∧ (M = ⊤ → ∃ j : Fin 256, dscore q k b h (context t) (keyAt 0 j) = ⊤) := by
  have hx : ∀ j : Fin 256, val_main_v88 (F := Ideal) q k (ix4 b h t j) = dscore q k b h (context t) (keyAt 0 j) := score_context2 q k b h t
  rw [val_main_v91_apply, val_main_v90_apply]
  unfold val_main_v89
  generalize val_main_v88 (F := Ideal) q k = x at hx
  have hd : ∀ j : Fin 256, reducesTo_S8x4x256x256_S8x4x256_d3.drop (ix4 b h t j) = ix3 b h t := fun j => by
    refine ix_ext3 _ _ ?_ ?_ ?_
    · exact reducesTo_S8x4x256x256_S8x4x256_d3.drop_apply_val_of_eq _ 0 0
    · exact reducesTo_S8x4x256x256_S8x4x256_d3.drop_apply_val_of_eq _ 1 1
    · exact reducesTo_S8x4x256x256_S8x4x256_d3.drop_apply_val_of_eq _ 2 2
  obtain ⟨e1, e2⟩ := reduce_max x (val_main_cst_17 (F := Ideal)) reducesTo_S8x4x256x256_S8x4x256_d3 h_S_ (ix3 b h t) least
  rw [← least] at e1 e2
  refine ⟨_, rfl, fun j => (hx j).ge.trans (e1 _ (hd j)), fun hM => ?_⟩
  obtain ⟨i, hi, ht⟩ := e2 hM
  refine ⟨i 3, (hx (i 3)).symm.trans ((congrArg x (ix_ext4 (ix4 b h t (i 3)) i ?_ ?_ ?_ rfl)).trans ht)⟩
  · exact (congrArg (fun y => (y 0).val) hi).symm.trans (reducesTo_S8x4x256x256_S8x4x256_d3.drop_apply_val_of_eq i 0 0)
  · exact (congrArg (fun y => (y 1).val) hi).symm.trans (reducesTo_S8x4x256x256_S8x4x256_d3.drop_apply_val_of_eq i 1 1)
  · exact (congrArg (fun y => (y 2).val) hi).symm.trans (reducesTo_S8x4x256x256_S8x4x256_d3.drop_apply_val_of_eq i 2 2)

theorem power_context2 (q k : FVec Ideal S8x8448x4x32 .f32) (b : Fin 8) (h : Fin 4) (t : Fin 256) (M : EReal)
    (hM : val_main_v91 (F := Ideal) q k (ix3 b h t) = M) (j : Fin 256) :
    val_main_v95 (F := Ideal) q k (ix4 b h t j) = Ideal.exp (dscore q k b h (context t) (keyAt 0 j) - M) := by
  have e : val_main_v93 (F := Ideal) q k (ix4 b h t j) = M := by
    rw [val_main_v93_apply, val_main_v92_apply, ← hM]
    exact congrArg (val_main_v91 (F := Ideal) q k) (ix_ext3 (idx_main_v92 (idx_main_v93 (ix4 b h t j))) (ix3 b h t) rfl rfl rfl)
  rw [val_main_v95_apply, val_main_v94_apply, e, score_context2 q k]
  rfl

theorem weight_context2 (q k : FVec Ideal S8x8448x4x32 .f32) (b : Fin 8) (h : Fin 4) (t : Fin 256) (j : Fin 256) :
    val_main_v99 (F := Ideal) q k (ix4 b h t j) = weightE (fun j : Fin 256 => dscore q k b h (context t) (keyAt 0 j)) j := by
  obtain ⟨M, hM, hle, htop⟩ := largest_context2 q k b h t
  have e : val_main_v98 (F := Ideal) q k (ix4 b h t j)
      = 0 + ∑ j : Fin 256, Ideal.exp (dscore q k b h (context t) (keyAt 0 j) - M) := by
    rw [val_main_v98_apply, val_main_v97_apply, val_main_v96_apply]
    refine congrArg₂ (· + ·) none_yet (Finset.sum_congr rfl fun l _ => ?_)
    exact (congrArg (val_main_v95 (F := Ideal) q k) (ix_ext4 (idx_main_v96 (idx_main_v97 (idx_main_v98 (ix4 b h t j))) l) (ix4 b h t l) rfl rfl rfl rfl)).trans
      (power_context2 q k b h t M hM l)
  rw [val_main_v99_apply, e, power_context2 q k b h t M hM j]
  exact softmax_weight (fun j : Fin 256 => dscore q k b h (context t) (keyAt 0 j)) M hle htop j

end Cert.Diff

end
-- ==== Proof.Diff.Reference.lean ====
/- The reference at an index of its result: the difference of the two maps on the values, the mean square, the gain; for the latent
   tokens over all keys, for the context tokens over the context. -/
module

public import proofs.«01_k».proof.Proof.Diff.RefLatent
public import proofs.«01_k».proof.Proof.Diff.RefContext

@[expose] public section

noncomputable section

namespace Cert.Diff

open Idealize.ShloMosaic Cert.Mla Cert.Reference3Ideal Cert.Reference3Ideal.Gen Cert.Reference3Ideal.Read

/-- Two indices of one axis with the same coordinate are the same. -/
theorem ix_ext1 {n0 : Nat} (i j : (⟨1, ![n0]⟩ : Shape).Idx) (h0 : (i 0).val = (j 0).val) : i = j := by
  funext a
  match a with
  | ⟨0, _⟩ => exact Fin.ext h0

theorem values_apply (v : FVec Ideal S8x8448x4x64 .f32) (b : Fin 8) (j : Fin 8448) (h : Fin 4) (d : Fin 64) :
    val_main_v22 (F := Ideal) v (ix4 b j h d) = v (ix4 b (keyOf j) h d) := by
  by_cases hj : j.val < 8192
  · rw [keyOf_lt j hj]
    pointwise [val_main_v22]
    rw [dif_pos hj]
    pointwise [val_main_v19]
    rfl
  · rw [keyOf_ge j hj]
    pointwise [val_main_v22]
    rw [dif_neg hj]
    pointwise [val_main_v18]
    rfl

/-- A sum over the indices of one axis, by coordinate. -/
theorem entries_sum (f : S32.Idx → EReal) : ∑ i : S32.Idx, f i = ∑ l : Fin 32, f (ix1 l) :=
  Fintype.sum_equiv ⟨fun i => i 0, fun l => ix1 l, fun i => ix_ext1 (ix1 (i 0)) i rfl, fun _ => rfl⟩ _ _
    fun i => congrArg f (ix_ext1 i (ix1 (i 0)) rfl)

/-- The weight of the second map. -/
theorem weight_apply (lq1 lk1 lq2 lk2 : FVec Ideal S32 .f32) (h1 : AllReal lq1) (h2 : AllReal lk1) (h3 : AllReal lq2) (h4 : AllReal lk2) (i : S_.Idx) :
    val_main_v7 (F := Ideal) lq1 lk1 lq2 lk2 i = lam lq1 lk1 lq2 lk2 := by
  have e1 : val_main_v1 (F := Ideal) lq1 lk1 i = (dot32 lq1 lk1 : EReal) := by
    refine (val_main_v1_apply lq1 lk1 i).trans ?_
    refine ((congrArg₂ (· + ·) none_yet ((entries_sum _).trans (Finset.sum_congr rfl fun l _ => ?_))).trans (zero_add _)).trans (dot32_eq h1 h2)
    exact val_main_v0_apply (F := Ideal) lq1 lk1 (ix1 l)
  have e2 : val_main_v4 (F := Ideal) lq2 lk2 i = (dot32 lq2 lk2 : EReal) := by
    refine (val_main_v4_apply lq2 lk2 i).trans ?_
    refine ((congrArg₂ (· + ·) none_yet ((entries_sum _).trans (Finset.sum_congr rfl fun l _ => ?_))).trans (zero_add _)).trans (dot32_eq h3 h4)
    exact val_main_v3_apply (F := Ideal) lq2 lk2 (ix1 l)
  rw [val_main_v7_apply, val_main_v6_apply, val_main_v2_apply, val_main_v5_apply, e1, e2]
  rfl

/-! ## The latent tokens -/

theorem mixed_latent (q1 q2 k1 k2 : FVec Ideal S8x8448x4x32 .f32) (v : FVec Ideal S8x8448x4x64 .f32) (lq1 lk1 lq2 lk2 : FVec Ideal S32 .f32)
    (h1 : AllReal lq1) (h2 : AllReal lk1) (h3 : AllReal lq2) (h4 : AllReal lk2)
    (b : Fin 8) (h : Fin 4) (t : Fin 8192) (d : Fin 64) :
    val_main_v54 (F := Ideal) q1 q2 k1 k2 v lq1 lk1 lq2 lk2 (ix4 b h d t)
      = ∑ j : Fin 8448, v (ix4 b (keyOf j) h d) * (weightE (fun j : Fin 8448 => dscore q1 k1 b h (latent t) (keyOf j)) j - lam lq1 lk1 lq2 lk2 * weightE (fun j : Fin 8448 => dscore q2 k2 b h (latent t) (keyOf j)) j) := by
  refine (val_main_v54_apply q1 q2 k1 k2 v lq1 lk1 lq2 lk2 _).trans (Finset.sum_congr rfl fun j _ => ?_)
  refine congrArg₂ (· * ·) ?_ ?_
  · exact (congrArg (val_main_v22 (F := Ideal) v) (ix_ext4 (lidx_main_v54 (ix4 b h d t) j) (ix4 b j h d) rfl rfl rfl rfl)).trans
      (values_apply v b j h d)
  · rw [← weight_latent1 q1 k1 b h t j, ← weight_latent2 q2 k2 b h t j]
    refine (congrArg (val_main_v53 (F := Ideal) q1 q2 k1 k2 lq1 lk1 lq2 lk2) (ix_ext4 (ridx_main_v54 (ix4 b h d t) j) (ix4 b h t j) rfl rfl rfl rfl)).trans ?_
    rw [val_main_v53_apply, val_main_v52_apply, val_main_v51_apply, weight_apply lq1 lk1 lq2 lk2 h1 h2 h3 h4]
    rfl

theorem rows_latent (q1 q2 k1 k2 : FVec Ideal S8x8448x4x32 .f32) (v : FVec Ideal S8x8448x4x64 .f32) (lq1 lk1 lq2 lk2 : FVec Ideal S32 .f32)
    (hv : AllReal v) (h1 : AllReal lq1) (h2 : AllReal lk1) (h3 : AllReal lq2) (h4 : AllReal lk2)
    (b : Fin 8) (h : Fin 4) (t : Fin 8192) (x : EReal) (d : Fin 64) :
    normed x (fun e => val_main_v54 (F := Ideal) q1 q2 k1 k2 v lq1 lk1 lq2 lk2 (ix4 b h e t)) d
      = normed x (fun e => attnE (fun j : Fin 8448 => dscore q1 k1 b h (latent t) (keyOf j)) (fun j => v (ix4 b (keyOf j) h e))
        - lam lq1 lk1 lq2 lk2 * attnE (fun j : Fin 8448 => dscore q2 k2 b h (latent t) (keyOf j)) (fun j => v (ix4 b (keyOf j) h e))) d := by
  obtain ⟨c, hc⟩ := lam_real lq1 lk1 lq2 lk2
  refine (congrArg (fun o => normed x o d) (funext fun e => mixed_latent q1 q2 k1 k2 v lq1 lk1 lq2 lk2 h1 h2 h3 h4 b h t e)).trans ?_
  rw [hc]
  exact normed_mix (fun j : Fin 8448 => dscore q1 k1 b h (latent t) (keyOf j)) (fun j : Fin 8448 => dscore q2 k2 b h (latent t) (keyOf j)) (fun e j => v (ix4 b (keyOf j) h e)) (fun e j => hv _) c x d

theorem turned_latent (q1 q2 k1 k2 : FVec Ideal S8x8448x4x32 .f32) (v : FVec Ideal S8x8448x4x64 .f32) (lq1 lk1 lq2 lk2 : FVec Ideal S32 .f32) (b : Fin 8) (h : Fin 4) (t : Fin 8192) (d : Fin 64) :
    val_main_v55 (F := Ideal) q1 q2 k1 k2 v lq1 lk1 lq2 lk2 (ix4 b t h d) = val_main_v54 (F := Ideal) q1 q2 k1 k2 v lq1 lk1 lq2 lk2 (ix4 b h d t) := by
  rw [val_main_v55_apply]
  exact congrArg (val_main_v54 (F := Ideal) q1 q2 k1 k2 v lq1 lk1 lq2 lk2) (ix_ext4 (idx_main_v55 (ix4 b t h d)) (ix4 b h d t) rfl rfl rfl rfl)

theorem squares_latent (q1 q2 k1 k2 : FVec Ideal S8x8448x4x32 .f32) (v : FVec Ideal S8x8448x4x64 .f32) (lq1 lk1 lq2 lk2 : FVec Ideal S32 .f32) (b : Fin 8) (h : Fin 4) (t : Fin 8192) :
    val_main_v57 (F := Ideal) q1 q2 k1 k2 v lq1 lk1 lq2 lk2 (ix3 b t h)
      = ∑ e : Fin 64, val_main_v54 (F := Ideal) q1 q2 k1 k2 v lq1 lk1 lq2 lk2 (ix4 b h e t) * val_main_v54 (F := Ideal) q1 q2 k1 k2 v lq1 lk1 lq2 lk2 (ix4 b h e t) := by
  refine (val_main_v57_apply q1 q2 k1 k2 v lq1 lk1 lq2 lk2 _).trans ((congrArg₂ (· + ·) none_yet (Finset.sum_congr rfl fun l _ => ?_)).trans (zero_add _))
  refine (congrArg (val_main_v56 (F := Ideal) q1 q2 k1 k2 v lq1 lk1 lq2 lk2) (ix_ext4 (idx_main_v57 (ix3 b t h) l) (ix4 b t h l) rfl rfl rfl rfl)).trans ?_
  rw [val_main_v56_apply, turned_latent]
  rfl

theorem normed_latent (q1 q2 k1 k2 : FVec Ideal S8x8448x4x32 .f32) (v : FVec Ideal S8x8448x4x64 .f32) (lq1 lk1 lq2 lk2 : FVec Ideal S32 .f32) (g : FVec Ideal S64 .f32) (b : Fin 8) (h : Fin 4) (t : Fin 8192) (d : Fin 64) :
    val_main_v70 (F := Ideal) q1 q2 k1 k2 v lq1 lk1 lq2 lk2 g (ix4 b t h d)
      = normed (g (ix1 d)) (fun e => val_main_v54 (F := Ideal) q1 q2 k1 k2 v lq1 lk1 lq2 lk2 (ix4 b h e t)) d := by
  unfold normed
  rw [← squares_latent, val_main_v70_apply, val_main_v68_apply, val_main_v65_apply, turned_latent, val_main_v64_apply, val_main_v63_apply, val_main_v62_apply, val_main_v60_apply,
    val_main_v58_apply, val_main_v67_apply, val_main_v66_apply,
    ix_ext3 (idx_main_v58 (idx_main_v64 (ix4 b t h d))) (ix3 b t h) rfl rfl rfl,
    ix_ext1 (idx_main_v66 (idx_main_v67 (ix4 b t h d))) (ix1 d) rfl]
  rfl

/-- The heads side by side. -/
theorem columns_latent (q1 q2 k1 k2 : FVec Ideal S8x8448x4x32 .f32) (v : FVec Ideal S8x8448x4x64 .f32) (lq1 lk1 lq2 lk2 : FVec Ideal S32 .f32) (g : FVec Ideal S64 .f32) (b : Fin 8) (t : Fin 8192) (n : Fin 256) :
    val_main_v71 (F := Ideal) q1 q2 k1 k2 v lq1 lk1 lq2 lk2 g (ix3 b t n)
      = val_main_v70 (F := Ideal) q1 q2 k1 k2 v lq1 lk1 lq2 lk2 g (ix4 b t ⟨n.val / 64, by omega⟩ ⟨n.val % 64, Nat.mod_lt _ (by decide)⟩) := by
  rw [val_main_v71_apply]
  refine congrArg (val_main_v70 (F := Ideal) q1 q2 k1 k2 v lq1 lk1 lq2 lk2 g) (ix_ext4 (idx_main_v71 (ix3 b t n)) _ ?_ ?_ ?_ ?_)
  · show ((b.val * 8192 + t.val) * 256 + n.val) / 2097152 = b.val
    omega
  · show ((b.val * 8192 + t.val) * 256 + n.val) / 256 % 8192 = t.val
    omega
  · show ((b.val * 8192 + t.val) * 256 + n.val) / 64 % 4 = n.val / 64
    omega
  · show ((b.val * 8192 + t.val) * 256 + n.val) % 64 = n.val % 64
    omega

/-! ## The context tokens -/

theorem mixed_context (q1 q2 k1 k2 : FVec Ideal S8x8448x4x32 .f32) (v : FVec Ideal S8x8448x4x64 .f32) (lq1 lk1 lq2 lk2 : FVec Ideal S32 .f32)
    (h1 : AllReal lq1) (h2 : AllReal lk1) (h3 : AllReal lq2) (h4 : AllReal lk2)
    (b : Fin 8) (h : Fin 4) (t : Fin 256) (d : Fin 64) :
    val_main_v103 (F := Ideal) q1 q2 k1 k2 v lq1 lk1 lq2 lk2 (ix4 b h d t)
      = ∑ j : Fin 256, v (ix4 b (keyAt 0 j) h d) * (weightE (fun j : Fin 256 => dscore q1 k1 b h (context t) (keyAt 0 j)) j - lam lq1 lk1 lq2 lk2 * weightE (fun j : Fin 256 => dscore q2 k2 b h (context t) (keyAt 0 j)) j) := by
  refine (val_main_v103_apply q1 q2 k1 k2 v lq1 lk1 lq2 lk2 _).trans (Finset.sum_congr rfl fun j _ => ?_)
  refine congrArg₂ (· * ·) ?_ ?_
  · exact (val_main_v18_apply (F := Ideal) v (lidx_main_v103 (ix4 b h d t) j)).trans
      (congrArg v (ix_ext4 (idx_main_v18 (lidx_main_v103 (ix4 b h d t) j)) (ix4 b (keyAt 0 j) h d) rfl
        (by show j.val = 256 * 0 + j.val; omega) rfl rfl))
  · rw [← weight_context1 q1 k1 b h t j, ← weight_context2 q2 k2 b h t j]
    refine (congrArg (val_main_v102 (F := Ideal) q1 q2 k1 k2 lq1 lk1 lq2 lk2) (ix_ext4 (ridx_main_v103 (ix4 b h d t) j) (ix4 b h t j) rfl rfl rfl rfl)).trans ?_
    rw [val_main_v102_apply, val_main_v101_apply, val_main_v100_apply, weight_apply lq1 lk1 lq2 lk2 h1 h2 h3 h4]
    rfl

theorem rows_context (q1 q2 k1 k2 : FVec Ideal S8x8448x4x32 .f32) (v : FVec Ideal S8x8448x4x64 .f32) (lq1 lk1 lq2 lk2 : FVec Ideal S32 .f32)
    (hv : AllReal v) (h1 : AllReal lq1) (h2 : AllReal lk1) (h3 : AllReal lq2) (h4 : AllReal lk2)
    (b : Fin 8) (h : Fin 4) (t : Fin 256) (x : EReal) (d : Fin 64) :
    normed x (fun e => val_main_v103 (F := Ideal) q1 q2 k1 k2 v lq1 lk1 lq2 lk2 (ix4 b h e t)) d
      = normed x (fun e => attnE (fun j : Fin 256 => dscore q1 k1 b h (context t) (keyAt 0 j)) (fun j => v (ix4 b (keyAt 0 j) h e))
        - lam lq1 lk1 lq2 lk2 * attnE (fun j : Fin 256 => dscore q2 k2 b h (context t) (keyAt 0 j)) (fun j => v (ix4 b (keyAt 0 j) h e))) d := by
  obtain ⟨c, hc⟩ := lam_real lq1 lk1 lq2 lk2
  refine (congrArg (fun o => normed x o d) (funext fun e => mixed_context q1 q2 k1 k2 v lq1 lk1 lq2 lk2 h1 h2 h3 h4 b h t e)).trans ?_
  rw [hc]
  exact normed_mix (fun j : Fin 256 => dscore q1 k1 b h (context t) (keyAt 0 j)) (fun j : Fin 256 => dscore q2 k2 b h (context t) (keyAt 0 j)) (fun e j => v (ix4 b (keyAt 0 j) h e)) (fun e j => hv _) c x d

theorem turned_context (q1 q2 k1 k2 : FVec Ideal S8x8448x4x32 .f32) (v : FVec Ideal S8x8448x4x64 .f32) (lq1 lk1 lq2 lk2 : FVec Ideal S32 .f32) (b : Fin 8) (h : Fin 4) (t : Fin 256) (d : Fin 64) :
    val_main_v104 (F := Ideal) q1 q2 k1 k2 v lq1 lk1 lq2 lk2 (ix4 b t h d) = val_main_v103 (F := Ideal) q1 q2 k1 k2 v lq1 lk1 lq2 lk2 (ix4 b h d t) := by
  rw [val_main_v104_apply]
  exact congrArg (val_main_v103 (F := Ideal) q1 q2 k1 k2 v lq1 lk1 lq2 lk2) (ix_ext4 (idx_main_v104 (ix4 b t h d)) (ix4 b h d t) rfl rfl rfl rfl)

theorem squares_context (q1 q2 k1 k2 : FVec Ideal S8x8448x4x32 .f32) (v : FVec Ideal S8x8448x4x64 .f32) (lq1 lk1 lq2 lk2 : FVec Ideal S32 .f32) (b : Fin 8) (h : Fin 4) (t : Fin 256) :
    val_main_v106 (F := Ideal) q1 q2 k1 k2 v lq1 lk1 lq2 lk2 (ix3 b t h)
      = ∑ e : Fin 64, val_main_v103 (F := Ideal) q1 q2 k1 k2 v lq1 lk1 lq2 lk2 (ix4 b h e t) * val_main_v103 (F := Ideal) q1 q2 k1 k2 v lq1 lk1 lq2 lk2 (ix4 b h e t) := by
  refine (val_main_v106_apply q1 q2 k1 k2 v lq1 lk1 lq2 lk2 _).trans ((congrArg₂ (· + ·) none_yet (Finset.sum_congr rfl fun l _ => ?_)).trans (zero_add _))
  refine (congrArg (val_main_v105 (F := Ideal) q1 q2 k1 k2 v lq1 lk1 lq2 lk2) (ix_ext4 (idx_main_v106 (ix3 b t h) l) (ix4 b t h l) rfl rfl rfl rfl)).trans ?_
  rw [val_main_v105_apply, turned_context]
  rfl

theorem normed_context (q1 q2 k1 k2 : FVec Ideal S8x8448x4x32 .f32) (v : FVec Ideal S8x8448x4x64 .f32) (lq1 lk1 lq2 lk2 : FVec Ideal S32 .f32) (g : FVec Ideal S64 .f32) (b : Fin 8) (h : Fin 4) (t : Fin 256) (d : Fin 64) :
    val_main_v119 (F := Ideal) q1 q2 k1 k2 v lq1 lk1 lq2 lk2 g (ix4 b t h d)
      = normed (g (ix1 d)) (fun e => val_main_v103 (F := Ideal) q1 q2 k1 k2 v lq1 lk1 lq2 lk2 (ix4 b h e t)) d := by
  unfold normed
  rw [← squares_context, val_main_v119_apply, val_main_v117_apply, val_main_v114_apply, turned_context, val_main_v113_apply, val_main_v112_apply, val_main_v111_apply, val_main_v109_apply,
    val_main_v107_apply, val_main_v116_apply, val_main_v115_apply,
    ix_ext3 (idx_main_v107 (idx_main_v113 (ix4 b t h d))) (ix3 b t h) rfl rfl rfl,
    ix_ext1 (idx_main_v115 (idx_main_v116 (ix4 b t h d))) (ix1 d) rfl]
  rfl

/-- The heads side by side. -/
theorem columns_context (q1 q2 k1 k2 : FVec Ideal S8x8448x4x32 .f32) (v : FVec Ideal S8x8448x4x64 .f32) (lq1 lk1 lq2 lk2 : FVec Ideal S32 .f32) (g : FVec Ideal S64 .f32) (b : Fin 8) (t : Fin 256) (n : Fin 256) :
    val_main_v120 (F := Ideal) q1 q2 k1 k2 v lq1 lk1 lq2 lk2 g (ix3 b t n)
      = val_main_v119 (F := Ideal) q1 q2 k1 k2 v lq1 lk1 lq2 lk2 g (ix4 b t ⟨n.val / 64, by omega⟩ ⟨n.val % 64, Nat.mod_lt _ (by decide)⟩) := by
  rw [val_main_v120_apply]
  refine congrArg (val_main_v119 (F := Ideal) q1 q2 k1 k2 v lq1 lk1 lq2 lk2 g) (ix_ext4 (idx_main_v120 (ix3 b t n)) _ ?_ ?_ ?_ ?_)
  · show ((b.val * 256 + t.val) * 256 + n.val) / 65536 = b.val
    omega
  · show ((b.val * 256 + t.val) * 256 + n.val) / 256 % 256 = t.val
    omega
  · show ((b.val * 256 + t.val) * 256 + n.val) / 64 % 4 = n.val / 64
    omega
  · show ((b.val * 256 + t.val) * 256 + n.val) % 64 = n.val % 64
    omega

/-! ## The result -/

theorem reference_apply (q1 q2 k1 k2 : FVec Ideal S8x8448x4x32 .f32) (v : FVec Ideal S8x8448x4x64 .f32) (lq1 lk1 lq2 lk2 : FVec Ideal S32 .f32) (g : FVec Ideal S64 .f32)
   (hv : AllReal v)
    (h1 : AllReal lq1) (h2 : AllReal lk1) (h3 : AllReal lq2) (h4 : AllReal lk2)
    (b : Fin 8) (T : Fin 8448) (n : Fin 256) :
    val_main_v121 (F := Ideal) q1 q2 k1 k2 v lq1 lk1 lq2 lk2 g (ix3 b T n)
      = normed (g (ix1 ⟨n.val % 64, Nat.mod_lt _ (by decide)⟩)) (diffAt q1 q2 k1 k2 v lq1 lk1 lq2 lk2 b T ⟨n.val / 64, by omega⟩)
          ⟨n.val % 64, Nat.mod_lt _ (by decide)⟩ := by
  by_cases hT : T.val < 256
  · have hc : context ⟨T.val, hT⟩ = T := rfl
    have e := (columns_context q1 q2 k1 k2 v lq1 lk1 lq2 lk2 g b ⟨T.val, hT⟩ n).trans (normed_context q1 q2 k1 k2 v lq1 lk1 lq2 lk2 g b _ ⟨T.val, hT⟩ _)
    refine Eq.trans ?_ (e.trans ?_)
    · clear e
      unfold val_main_v121
      generalize val_main_v120 (F := Ideal) q1 q2 k1 k2 v lq1 lk1 lq2 lk2 g = y
      generalize val_main_v71 (F := Ideal) q1 q2 k1 k2 v lq1 lk1 lq2 lk2 g = z
      pointwise
      rw [dif_pos hT]
    · refine (rows_context q1 q2 k1 k2 v lq1 lk1 lq2 lk2 hv h1 h2 h3 h4 b _ _ _ _).trans (congrArg (fun o => normed _ o _) (funext fun d => ?_))
      unfold diffAt mapAt
      rw [if_pos hT, if_pos hT, hc]
  · have hc : latent ⟨T.val - 256, by omega⟩ = T := Fin.ext (by show 256 + (T.val - 256) = T.val; omega)
    have e := (columns_latent q1 q2 k1 k2 v lq1 lk1 lq2 lk2 g b ⟨T.val - 256, by omega⟩ n).trans (normed_latent q1 q2 k1 k2 v lq1 lk1 lq2 lk2 g b _ ⟨T.val - 256, by omega⟩ _)
    refine Eq.trans ?_ (e.trans ?_)
    · clear e
      unfold val_main_v121
      generalize val_main_v120 (F := Ideal) q1 q2 k1 k2 v lq1 lk1 lq2 lk2 g = y
      generalize val_main_v71 (F := Ideal) q1 q2 k1 k2 v lq1 lk1 lq2 lk2 g = z
      pointwise
      rw [dif_neg hT]
    · refine (rows_latent q1 q2 k1 k2 v lq1 lk1 lq2 lk2 hv h1 h2 h3 h4 b _ _ _ _).trans (congrArg (fun o => normed _ o _) (funext fun d => ?_))
      unfold diffAt mapAt
      rw [if_neg hT, if_neg hT, hc]
      exact congrArg₂ (fun x y => x - lam lq1 lk1 lq2 lk2 * y)
        (attnE_equiv rotate (fun p : Fin 33 × Fin 256 => dscore q1 k1 b _ T (keyAt p.1 p.2)) (fun p => v (ix4 b (keyAt p.1 p.2) _ d)))
        (attnE_equiv rotate (fun p : Fin 33 × Fin 256 => dscore q2 k2 b _ T (keyAt p.1 p.2)) (fun p => v (ix4 b (keyAt p.1 p.2) _ d)))

/-- The reference computes the differential attention. -/
theorem reference_result (q1 q2 k1 k2 : FVec Ideal S8x8448x4x32 .f32) (v : FVec Ideal S8x8448x4x64 .f32) (lq1 lk1 lq2 lk2 : FVec Ideal S32 .f32) (g : FVec Ideal S64 .f32)
   (hv : AllReal v)
    (h1 : AllReal lq1) (h2 : AllReal lk1) (h3 : AllReal lq2) (h4 : AllReal lk2) :
    val_main_v121 (F := Ideal) q1 q2 k1 k2 v lq1 lk1 lq2 lk2 g = dresult q1 q2 k1 k2 v lq1 lk1 lq2 lk2 g := by
  funext i
  exact (congrArg (val_main_v121 (F := Ideal) q1 q2 k1 k2 v lq1 lk1 lq2 lk2 g) (ix_ext3 i (ix3 (i 0) (i 1) (i 2)) rfl rfl rfl)).trans
    (reference_apply q1 q2 k1 k2 v lq1 lk1 lq2 lk2 g hv h1 h2 h3 h4 (i 0) (i 1) (i 2))

end Cert.Diff

end
-- ==== Proof.Diff.Claims.lean ====
/- The claims about the differential attention call: the frames, and the equality of its result with the reference's over the reals. -/
module

public import proofs.«01_k».proof.Defs
public import proofs.«01_k».proof.Proof.Gen.Pre_finite_values
public import proofs.«01_k».proof.Proof.Gen.Reference3Ideal.Run
public import proofs.«01_k».proof.Proof.Merge.Claims
public import proofs.«01_k».proof.Proof.Diff.Frames
public import proofs.«01_k».proof.Proof.Diff.Array
public import proofs.«01_k».proof.Proof.Diff.Reference

@[expose] public section

noncomputable section

namespace Cert.Diff

open Idealize.ShloMosaic Idealize.ShloMosaic.TcCoe Idealize.SL.Sem

/-- What the precondition says of the values and the weight's vectors. -/
theorem real_maps (m : (ℓ : Loc Cert.Kernel3Ideal.nD Cert.Kernel3Ideal.τ Cert.Kernel3Ideal.sig) → Buf (Elt Ideal) ℓ)
    (h : Cert.Pre_Kernel3Ideal_finite_values m) (c : Dev Cert.Kernel3Ideal.nD) :
    AllReal (argV m c) ∧ AllReal (argLq1 m c) ∧ AllReal (argLk1 m c) ∧ AllReal (argLq2 m c) ∧ AllReal (argLk2 m c) := by
  have h0 := congrFun (h c) (fun a => a.elim0)
  haveI : Subsingleton Cert.Pre_finite_values.S_.Idx := ⟨fun a b => funext fun i => i.elim0⟩
  obtain ⟨h4, a5⟩ := IntOp.andi_eq_one.1 h0
  obtain ⟨h3, a4⟩ := IntOp.andi_eq_one.1 h4
  obtain ⟨h2, a3⟩ := IntOp.andi_eq_one.1 h3
  obtain ⟨a1, a2⟩ := IntOp.andi_eq_one.1 h2
  exact ⟨fun i => Cert.Proof.Merge.real_of_abs_lt _ (Host.reduce_andi_all _ _ _ _ _ a1 i),
    fun i => Cert.Proof.Merge.real_of_abs_lt _ (Host.reduce_andi_all _ _ _ _ _ a2 i),
    fun i => Cert.Proof.Merge.real_of_abs_lt _ (Host.reduce_andi_all _ _ _ _ _ a3 i),
    fun i => Cert.Proof.Merge.real_of_abs_lt _ (Host.reduce_andi_all _ _ _ _ _ a4 i),
    fun i => Cert.Proof.Merge.real_of_abs_lt _ (Host.reduce_andi_all _ _ _ _ _ a5 i)⟩

theorem frame_reference : Cert.quiescent_Reference3Ideal := fun m ρ _ =>
  (θ_run Cert.Reference3Ideal.defs _ _).mono (fun r h => ⟨fun c => (h c).2,
      Idealize.ShloMosaic.sem_eq_zero_of_no_sems (by decide) r.2⟩)
    (Cert.Reference3Ideal.Value.run (F := Ideal) m ρ)
theorem frame_reference_pre : Cert.quiescent_Reference3Ideal_pre_finite_values := fun m ρ _ => frame_reference m ρ trivial

theorem preserves : Cert.preserves_Kernel3_Kernel3Ideal := trivial

/-- With real values and weight vectors the call's result is the reference's, element by element. -/
theorem algebraic : Cert.algebraic_Kernel3Ideal_Reference3Ideal_pre_finite_values := by
  intro m ρ m' ρ' hpre hagree
  refine ⟨fun c => dresult (argQ1 m c) (argQ2 m c) (argK1 m c) (argK2 m c) (argV m c) (argLq1 m c) (argLk1 m c) (argLq2 m c) (argLk2 m c) (argG m c), ?_, ?_⟩
  · refine (θ_run Cert.Kernel3Ideal.defs _ _).mono (fun _ h c => ⟨(h.1 c).trans ?_, h.2 c⟩)
      (θ_run_and (run_blocks (F := Ideal) m ρ) (unchanged (F := Ideal) m ρ))
    obtain ⟨r1, r2, r3, r4, r5⟩ := real_maps m hpre c
    exact array m c r1 r2 r3 r4 r5
  · refine (θ_run Cert.Reference3Ideal.defs _ _).mono (fun _ h c => ⟨(h c).1.trans ?_, (h c).2⟩)
      (Cert.Reference3Ideal.Value.run (F := Ideal) m' ρ')
    obtain ⟨e0, e1, e2, e3, e4, e5, e6, e7, e8, e9⟩ := hagree c
    obtain ⟨r1, r2, r3, r4, r5⟩ := real_maps m hpre c
    refine (Cert.Reference3Ideal.Read.val_main_v121_eq m' c).trans ?_
    rw [e0, e1, e2, e3, e4, e5, e6, e7, e8, e9]
    exact reference_result (argQ1 m c) (argQ2 m c) (argK1 m c) (argK2 m c) (argV m c) (argLq1 m c) (argLk1 m c) (argLq2 m c) (argLk2 m c) (argG m c) r1 r2 r3 r4 r5

end Cert.Diff

end
-- ==== Proof.lean ====
module

public import proofs.«01_k».proof.Defs
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_states
public import proofs.«01_k».proof.Proof.Gen.Kernel2Ideal.Launch
public import proofs.«01_k».proof.Proof.Gen.Kernel2Ideal.Points
public import proofs.«01_k».proof.Proof.Gen.Kernel2
public import proofs.«01_k».proof.Proof.Gen.Kernel2Ideal
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_finite_scores
public import proofs.«01_k».proof.Proof.Gen.Kernel3Ideal.Launch
public import proofs.«01_k».proof.Proof.Gen.Kernel3Ideal.Points
public import proofs.«01_k».proof.Proof.Gen.Kernel3
public import proofs.«01_k».proof.Proof.Gen.Kernel3Ideal
public import proofs.«01_k».proof.Proof.Gen.Reference3Ideal
public import proofs.«01_k».proof.Proof.Gen.Reference3Ideal.Run
public import proofs.«01_k».proof.Proof.Gen.Reference3Ideal.Read
public import proofs.«01_k».proof.Proof.Gen.Pre_finite_values
public import proofs.«01_k».proof.Proof.Merge.Claims
public import proofs.«01_k».proof.Proof.Mla.Claims
public import proofs.«01_k».proof.Proof.Diff.Claims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts,
  Cert.Reference3Ideal.Gen.facts, Cert.Pre_finite_states.Gen.facts, Cert.Pre_finite_scores.Gen.facts, Cert.Pre_finite_values.Gen.facts,
  Merge.frame_p, Merge.frame_pi, Merge.frame_pi_pre, Merge.frame_ri, Merge.frame_ri_pre, Mla.frame_kernel, Mla.frame_ideal,
  Mla.frame_ideal_pre, Mla.frame_reference, Mla.frame_reference_pre, Diff.frame_kernel, Diff.frame_ideal, Diff.frame_ideal_pre,
  Diff.frame_reference, Diff.frame_reference_pre, Merge.preserves, Merge.algebraic, Mla.preserves, Mla.algebraic, Diff.preserves,
  Diff.algebraic⟩

end Cert.Proof

end
